-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Dn1Kernel (m : (ℓ : Loc Cert.Dn1Kernel.nD Cert.Dn1Kernel.τ Cert.Dn1Kernel.sig) → Buf (Elt Bits) ℓ) : Prop :=
  True

def Pre_Dn1KernelIdeal (m : (ℓ : Loc Cert.Dn1KernelIdeal.nD Cert.Dn1KernelIdeal.τ Cert.Dn1KernelIdeal.sig) → Buf (Elt Ideal) ℓ) : Prop :=
  True

def Pre_Dn1ReferenceIdeal (m : (ℓ : Loc Cert.Dn1ReferenceIdeal.nD Cert.Dn1ReferenceIdeal.τ Cert.Dn1ReferenceIdeal.sig) → Buf (Elt Ideal) ℓ) : Prop :=
  True

def Pre_Dn2Kernel (m : (ℓ : Loc Cert.Dn2Kernel.nD Cert.Dn2Kernel.τ Cert.Dn2Kernel.sig) → Buf (Elt Bits) ℓ) : Prop :=
  True

def Pre_Dn2KernelIdeal (m : (ℓ : Loc Cert.Dn2KernelIdeal.nD Cert.Dn2KernelIdeal.τ Cert.Dn2KernelIdeal.sig) → Buf (Elt Ideal) ℓ) : Prop :=
  True

def Pre_Dn2ReferenceIdeal (m : (ℓ : Loc Cert.Dn2ReferenceIdeal.nD Cert.Dn2ReferenceIdeal.τ Cert.Dn2ReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_PnKernel (m : (ℓ : Loc Cert.PnKernel.nD Cert.PnKernel.τ Cert.PnKernel.sig) → Buf (Elt Bits) ℓ) : Prop :=
  True

def Pre_PnKernelIdeal (m : (ℓ : Loc Cert.PnKernelIdeal.nD Cert.PnKernelIdeal.τ Cert.PnKernelIdeal.sig) → Buf (Elt Ideal) ℓ) : Prop :=
  True

def Pre_PnReferenceIdeal (m : (ℓ : Loc Cert.PnReferenceIdeal.nD Cert.PnReferenceIdeal.τ Cert.PnReferenceIdeal.sig) → Buf (Elt Ideal) ℓ) : Prop :=
  True

def Pre_MfKernel (m : (ℓ : Loc Cert.MfKernel.nD Cert.MfKernel.τ Cert.MfKernel.sig) → Buf (Elt Bits) ℓ) : Prop :=
  True

def Pre_MfKernelIdeal (m : (ℓ : Loc Cert.MfKernelIdeal.nD Cert.MfKernelIdeal.τ Cert.MfKernelIdeal.sig) → Buf (Elt Ideal) ℓ) : Prop :=
  True

def Pre_MfReferenceIdeal (m : (ℓ : Loc Cert.MfReferenceIdeal.nD Cert.MfReferenceIdeal.τ Cert.MfReferenceIdeal.sig) → Buf (Elt Ideal) ℓ) : Prop :=
  True

def Pre_AiKernel (m : (ℓ : Loc Cert.AiKernel.nD Cert.AiKernel.τ Cert.AiKernel.sig) → Buf (Elt Bits) ℓ) : Prop :=
  True

def Pre_AiKernelIdeal (m : (ℓ : Loc Cert.AiKernelIdeal.nD Cert.AiKernelIdeal.τ Cert.AiKernelIdeal.sig) → Buf (Elt Ideal) ℓ) : Prop :=
  True

def Pre_AiReferenceIdeal (m : (ℓ : Loc Cert.AiReferenceIdeal.nD Cert.AiReferenceIdeal.τ Cert.AiReferenceIdeal.sig) → Buf (Elt Ideal) ℓ) : Prop :=
  True

def Pre_AoKernel (m : (ℓ : Loc Cert.AoKernel.nD Cert.AoKernel.τ Cert.AoKernel.sig) → Buf (Elt Bits) ℓ) : Prop :=
  True

def Pre_AoKernelIdeal (m : (ℓ : Loc Cert.AoKernelIdeal.nD Cert.AoKernelIdeal.τ Cert.AoKernelIdeal.sig) → Buf (Elt Ideal) ℓ) : Prop :=
  True

def Pre_AoReferenceIdeal (m : (ℓ : Loc Cert.AoReferenceIdeal.nD Cert.AoReferenceIdeal.τ Cert.AoReferenceIdeal.sig) → Buf (Elt Ideal) ℓ) : Prop :=
  True

def Pre_AuKernel (m : (ℓ : Loc Cert.AuKernel.nD Cert.AuKernel.τ Cert.AuKernel.sig) → Buf (Elt Bits) ℓ) : Prop :=
  True

def Pre_AuKernelIdeal (m : (ℓ : Loc Cert.AuKernelIdeal.nD Cert.AuKernelIdeal.τ Cert.AuKernelIdeal.sig) → Buf (Elt Ideal) ℓ) : Prop :=
  True

def Pre_AuReferenceIdeal (m : (ℓ : Loc Cert.AuReferenceIdeal.nD Cert.AuReferenceIdeal.τ Cert.AuReferenceIdeal.sig) → Buf (Elt Ideal) ℓ) : Prop :=
  True

def Pre_AdKernel (m : (ℓ : Loc Cert.AdKernel.nD Cert.AdKernel.τ Cert.AdKernel.sig) → Buf (Elt Bits) ℓ) : Prop :=
  True

def Pre_AdKernelIdeal (m : (ℓ : Loc Cert.AdKernelIdeal.nD Cert.AdKernelIdeal.τ Cert.AdKernelIdeal.sig) → Buf (Elt Ideal) ℓ) : Prop :=
  True

def Pre_AdReferenceIdeal (m : (ℓ : Loc Cert.AdReferenceIdeal.nD Cert.AdReferenceIdeal.τ Cert.AdReferenceIdeal.sig) → Buf (Elt Ideal) ℓ) : Prop :=
  True

def Pre_AsKernel (m : (ℓ : Loc Cert.AsKernel.nD Cert.AsKernel.τ Cert.AsKernel.sig) → Buf (Elt Bits) ℓ) : Prop :=
  True

def Pre_AsKernelIdeal (m : (ℓ : Loc Cert.AsKernelIdeal.nD Cert.AsKernelIdeal.τ Cert.AsKernelIdeal.sig) → Buf (Elt Ideal) ℓ) : Prop :=
  True

def Pre_AsReferenceIdeal (m : (ℓ : Loc Cert.AsReferenceIdeal.nD Cert.AsReferenceIdeal.τ Cert.AsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_Dn1Kernel [hDn1Kernel : Cert.Dn1Kernel.Facts] : Prop :=
  ∀ (m : (ℓ : Loc Cert.Dn1Kernel.nD Cert.Dn1Kernel.τ Cert.Dn1Kernel.sig) → Buf (Elt Bits) ℓ) (g : Dev Cert.Dn1Kernel.nD → PrngReg), Pre_Dn1Kernel m →
    θ_run (Cert.Dn1Kernel.defs (F := Bits)) (onTc (τ := Cert.Dn1Kernel.τ) (Cert.Dn1Kernel.main (F := Bits))) ⟨m, fun _ => 0, g⟩ (fun r => (∀ c : Dev Cert.Dn1Kernel.nD,
      r.2.mem ((c.tc : Thread Cert.Dn1Kernel.nD Cert.Dn1Kernel.τ).loc Cert.Dn1Kernel.main_arg0) = m ((c.tc : Thread Cert.Dn1Kernel.nD Cert.Dn1Kernel.τ).loc Cert.Dn1Kernel.main_arg0)
      ∧ r.2.mem ((c.tc : Thread Cert.Dn1Kernel.nD Cert.Dn1Kernel.τ).loc Cert.Dn1Kernel.main_arg1) = m ((c.tc : Thread Cert.Dn1Kernel.nD Cert.Dn1Kernel.τ).loc Cert.Dn1Kernel.main_arg1))
      ∧ r.2.sem = fun _ => 0)

def quiescent_Dn1KernelIdeal [hDn1KernelIdeal : Cert.Dn1KernelIdeal.Facts] : Prop :=
  ∀ (m : (ℓ : Loc Cert.Dn1KernelIdeal.nD Cert.Dn1KernelIdeal.τ Cert.Dn1KernelIdeal.sig) → Buf (Elt Ideal) ℓ) (g : Dev Cert.Dn1KernelIdeal.nD → PrngReg), Pre_Dn1KernelIdeal m →
    θ_run (Cert.Dn1KernelIdeal.defs (F := Ideal)) (onTc (τ := Cert.Dn1KernelIdeal.τ) (Cert.Dn1KernelIdeal.main (F := Ideal))) ⟨m, fun _ => 0, g⟩ (fun r => (∀ c : Dev Cert.Dn1KernelIdeal.nD,
      r.2.mem ((c.tc : Thread Cert.Dn1KernelIdeal.nD Cert.Dn1KernelIdeal.τ).loc Cert.Dn1KernelIdeal.main_arg0) = m ((c.tc : Thread Cert.Dn1KernelIdeal.nD Cert.Dn1KernelIdeal.τ).loc Cert.Dn1KernelIdeal.main_arg0)
      ∧ r.2.mem ((c.tc : Thread Cert.Dn1KernelIdeal.nD Cert.Dn1KernelIdeal.τ).loc Cert.Dn1KernelIdeal.main_arg1) = m ((c.tc : Thread Cert.Dn1KernelIdeal.nD Cert.Dn1KernelIdeal.τ).loc Cert.Dn1KernelIdeal.main_arg1))
      ∧ r.2.sem = fun _ => 0)

def quiescent_Dn1ReferenceIdeal [hDn1ReferenceIdeal : Cert.Dn1ReferenceIdeal.Facts] : Prop :=
  ∀ (m : (ℓ : Loc Cert.Dn1ReferenceIdeal.nD Cert.Dn1ReferenceIdeal.τ Cert.Dn1ReferenceIdeal.sig) → Buf (Elt Ideal) ℓ) (g : Dev Cert.Dn1ReferenceIdeal.nD → PrngReg), Pre_Dn1ReferenceIdeal m →
    θ_run (Cert.Dn1ReferenceIdeal.defs (F := Ideal)) (onTc (τ := Cert.Dn1ReferenceIdeal.τ) (Cert.Dn1ReferenceIdeal.main (F := Ideal))) ⟨m, fun _ => 0, g⟩ (fun r => (∀ c : Dev Cert.Dn1ReferenceIdeal.nD,
      r.2.mem ((c.tc : Thread Cert.Dn1ReferenceIdeal.nD Cert.Dn1ReferenceIdeal.τ).loc Cert.Dn1ReferenceIdeal.main_arg0) = m ((c.tc : Thread Cert.Dn1ReferenceIdeal.nD Cert.Dn1ReferenceIdeal.τ).loc Cert.Dn1ReferenceIdeal.main_arg0)
      ∧ r.2.mem ((c.tc : Thread Cert.Dn1ReferenceIdeal.nD Cert.Dn1ReferenceIdeal.τ).loc Cert.Dn1ReferenceIdeal.main_arg1) = m ((c.tc : Thread Cert.Dn1ReferenceIdeal.nD Cert.Dn1ReferenceIdeal.τ).loc Cert.Dn1ReferenceIdeal.main_arg1))
      ∧ r.2.sem = fun _ => 0)

def quiescent_Dn2Kernel [hDn2Kernel : Cert.Dn2Kernel.Facts] : Prop :=
  ∀ (m : (ℓ : Loc Cert.Dn2Kernel.nD Cert.Dn2Kernel.τ Cert.Dn2Kernel.sig) → Buf (Elt Bits) ℓ) (g : Dev Cert.Dn2Kernel.nD → PrngReg), Pre_Dn2Kernel m →
    θ_run (Cert.Dn2Kernel.defs (F := Bits)) (onTc (τ := Cert.Dn2Kernel.τ) (Cert.Dn2Kernel.main (F := Bits))) ⟨m, fun _ => 0, g⟩ (fun r => (∀ c : Dev Cert.Dn2Kernel.nD,
      r.2.mem ((c.tc : Thread Cert.Dn2Kernel.nD Cert.Dn2Kernel.τ).loc Cert.Dn2Kernel.main_arg0) = m ((c.tc : Thread Cert.Dn2Kernel.nD Cert.Dn2Kernel.τ).loc Cert.Dn2Kernel.main_arg0)
      ∧ r.2.mem ((c.tc : Thread Cert.Dn2Kernel.nD Cert.Dn2Kernel.τ).loc Cert.Dn2Kernel.main_arg1) = m ((c.tc : Thread Cert.Dn2Kernel.nD Cert.Dn2Kernel.τ).loc Cert.Dn2Kernel.main_arg1))
      ∧ r.2.sem = fun _ => 0)

def quiescent_Dn2KernelIdeal [hDn2KernelIdeal : Cert.Dn2KernelIdeal.Facts] : Prop :=
  ∀ (m : (ℓ : Loc Cert.Dn2KernelIdeal.nD Cert.Dn2KernelIdeal.τ Cert.Dn2KernelIdeal.sig) → Buf (Elt Ideal) ℓ) (g : Dev Cert.Dn2KernelIdeal.nD → PrngReg), Pre_Dn2KernelIdeal m →
    θ_run (Cert.Dn2KernelIdeal.defs (F := Ideal)) (onTc (τ := Cert.Dn2KernelIdeal.τ) (Cert.Dn2KernelIdeal.main (F := Ideal))) ⟨m, fun _ => 0, g⟩ (fun r => (∀ c : Dev Cert.Dn2KernelIdeal.nD,
      r.2.mem ((c.tc : Thread Cert.Dn2KernelIdeal.nD Cert.Dn2KernelIdeal.τ).loc Cert.Dn2KernelIdeal.main_arg0) = m ((c.tc : Thread Cert.Dn2KernelIdeal.nD Cert.Dn2KernelIdeal.τ).loc Cert.Dn2KernelIdeal.main_arg0)
      ∧ r.2.mem ((c.tc : Thread Cert.Dn2KernelIdeal.nD Cert.Dn2KernelIdeal.τ).loc Cert.Dn2KernelIdeal.main_arg1) = m ((c.tc : Thread Cert.Dn2KernelIdeal.nD Cert.Dn2KernelIdeal.τ).loc Cert.Dn2KernelIdeal.main_arg1))
      ∧ r.2.sem = fun _ => 0)

def quiescent_Dn2ReferenceIdeal [hDn2ReferenceIdeal : Cert.Dn2ReferenceIdeal.Facts] : Prop :=
  ∀ (m : (ℓ : Loc Cert.Dn2ReferenceIdeal.nD Cert.Dn2ReferenceIdeal.τ Cert.Dn2ReferenceIdeal.sig) → Buf (Elt Ideal) ℓ) (g : Dev Cert.Dn2ReferenceIdeal.nD → PrngReg), Pre_Dn2ReferenceIdeal m →
    θ_run (Cert.Dn2ReferenceIdeal.defs (F := Ideal)) (onTc (τ := Cert.Dn2ReferenceIdeal.τ) (Cert.Dn2ReferenceIdeal.main (F := Ideal))) ⟨m, fun _ => 0, g⟩ (fun r => (∀ c : Dev Cert.Dn2ReferenceIdeal.nD,
      r.2.mem ((c.tc : Thread Cert.Dn2ReferenceIdeal.nD Cert.Dn2ReferenceIdeal.τ).loc Cert.Dn2ReferenceIdeal.main_arg0) = m ((c.tc : Thread Cert.Dn2ReferenceIdeal.nD Cert.Dn2ReferenceIdeal.τ).loc Cert.Dn2ReferenceIdeal.main_arg0)
      ∧ r.2.mem ((c.tc : Thread Cert.Dn2ReferenceIdeal.nD Cert.Dn2ReferenceIdeal.τ).loc Cert.Dn2ReferenceIdeal.main_arg1) = m ((c.tc : Thread Cert.Dn2ReferenceIdeal.nD Cert.Dn2ReferenceIdeal.τ).loc Cert.Dn2ReferenceIdeal.main_arg1))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2)
      ∧ r.2.mem ((c.tc : Thread Cert.MidKernel.nD Cert.MidKernel.τ).loc Cert.MidKernel.main_arg3) = m ((c.tc : Thread Cert.MidKernel.nD Cert.MidKernel.τ).loc Cert.MidKernel.main_arg3)
      ∧ r.2.mem ((c.tc : Thread Cert.MidKernel.nD Cert.MidKernel.τ).loc Cert.MidKernel.main_arg4) = m ((c.tc : Thread Cert.MidKernel.nD Cert.MidKernel.τ).loc Cert.MidKernel.main_arg4)
      ∧ r.2.mem ((c.tc : Thread Cert.MidKernel.nD Cert.MidKernel.τ).loc Cert.MidKernel.main_arg5) = m ((c.tc : Thread Cert.MidKernel.nD Cert.MidKernel.τ).loc Cert.MidKernel.main_arg5))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5))
      ∧ r.2.sem = fun _ => 0)

def quiescent_PnKernel [hPnKernel : Cert.PnKernel.Facts] : Prop :=
  ∀ (m : (ℓ : Loc Cert.PnKernel.nD Cert.PnKernel.τ Cert.PnKernel.sig) → Buf (Elt Bits) ℓ) (g : Dev Cert.PnKernel.nD → PrngReg), Pre_PnKernel m →
    θ_run (Cert.PnKernel.defs (F := Bits)) (onTc (τ := Cert.PnKernel.τ) (Cert.PnKernel.main (F := Bits))) ⟨m, fun _ => 0, g⟩ (fun r => (∀ c : Dev Cert.PnKernel.nD,
      r.2.mem ((c.tc : Thread Cert.PnKernel.nD Cert.PnKernel.τ).loc Cert.PnKernel.main_arg0) = m ((c.tc : Thread Cert.PnKernel.nD Cert.PnKernel.τ).loc Cert.PnKernel.main_arg0)
      ∧ r.2.mem ((c.tc : Thread Cert.PnKernel.nD Cert.PnKernel.τ).loc Cert.PnKernel.main_arg1) = m ((c.tc : Thread Cert.PnKernel.nD Cert.PnKernel.τ).loc Cert.PnKernel.main_arg1)
      ∧ r.2.mem ((c.tc : Thread Cert.PnKernel.nD Cert.PnKernel.τ).loc Cert.PnKernel.main_arg2) = m ((c.tc : Thread Cert.PnKernel.nD Cert.PnKernel.τ).loc Cert.PnKernel.main_arg2))
      ∧ r.2.sem = fun _ => 0)

def quiescent_PnKernelIdeal [hPnKernelIdeal : Cert.PnKernelIdeal.Facts] : Prop :=
  ∀ (m : (ℓ : Loc Cert.PnKernelIdeal.nD Cert.PnKernelIdeal.τ Cert.PnKernelIdeal.sig) → Buf (Elt Ideal) ℓ) (g : Dev Cert.PnKernelIdeal.nD → PrngReg), Pre_PnKernelIdeal m →
    θ_run (Cert.PnKernelIdeal.defs (F := Ideal)) (onTc (τ := Cert.PnKernelIdeal.τ) (Cert.PnKernelIdeal.main (F := Ideal))) ⟨m, fun _ => 0, g⟩ (fun r => (∀ c : Dev Cert.PnKernelIdeal.nD,
      r.2.mem ((c.tc : Thread Cert.PnKernelIdeal.nD Cert.PnKernelIdeal.τ).loc Cert.PnKernelIdeal.main_arg0) = m ((c.tc : Thread Cert.PnKernelIdeal.nD Cert.PnKernelIdeal.τ).loc Cert.PnKernelIdeal.main_arg0)
      ∧ r.2.mem ((c.tc : Thread Cert.PnKernelIdeal.nD Cert.PnKernelIdeal.τ).loc Cert.PnKernelIdeal.main_arg1) = m ((c.tc : Thread Cert.PnKernelIdeal.nD Cert.PnKernelIdeal.τ).loc Cert.PnKernelIdeal.main_arg1)
      ∧ r.2.mem ((c.tc : Thread Cert.PnKernelIdeal.nD Cert.PnKernelIdeal.τ).loc Cert.PnKernelIdeal.main_arg2) = m ((c.tc : Thread Cert.PnKernelIdeal.nD Cert.PnKernelIdeal.τ).loc Cert.PnKernelIdeal.main_arg2))
      ∧ r.2.sem = fun _ => 0)

def quiescent_PnReferenceIdeal [hPnReferenceIdeal : Cert.PnReferenceIdeal.Facts] : Prop :=
  ∀ (m : (ℓ : Loc Cert.PnReferenceIdeal.nD Cert.PnReferenceIdeal.τ Cert.PnReferenceIdeal.sig) → Buf (Elt Ideal) ℓ) (g : Dev Cert.PnReferenceIdeal.nD → PrngReg), Pre_PnReferenceIdeal m →
    θ_run (Cert.PnReferenceIdeal.defs (F := Ideal)) (onTc (τ := Cert.PnReferenceIdeal.τ) (Cert.PnReferenceIdeal.main (F := Ideal))) ⟨m, fun _ => 0, g⟩ (fun r => (∀ c : Dev Cert.PnReferenceIdeal.nD,
      r.2.mem ((c.tc : Thread Cert.PnReferenceIdeal.nD Cert.PnReferenceIdeal.τ).loc Cert.PnReferenceIdeal.main_arg0) = m ((c.tc : Thread Cert.PnReferenceIdeal.nD Cert.PnReferenceIdeal.τ).loc Cert.PnReferenceIdeal.main_arg0)
      ∧ r.2.mem ((c.tc : Thread Cert.PnReferenceIdeal.nD Cert.PnReferenceIdeal.τ).loc Cert.PnReferenceIdeal.main_arg1) = m ((c.tc : Thread Cert.PnReferenceIdeal.nD Cert.PnReferenceIdeal.τ).loc Cert.PnReferenceIdeal.main_arg1)
      ∧ r.2.mem ((c.tc : Thread Cert.PnReferenceIdeal.nD Cert.PnReferenceIdeal.τ).loc Cert.PnReferenceIdeal.main_arg2) = m ((c.tc : Thread Cert.PnReferenceIdeal.nD Cert.PnReferenceIdeal.τ).loc Cert.PnReferenceIdeal.main_arg2))
      ∧ r.2.sem = fun _ => 0)

def quiescent_MfKernel [hMfKernel : Cert.MfKernel.Facts] : Prop :=
  ∀ (m : (ℓ : Loc Cert.MfKernel.nD Cert.MfKernel.τ Cert.MfKernel.sig) → Buf (Elt Bits) ℓ) (g : Dev Cert.MfKernel.nD → PrngReg), Pre_MfKernel m →
    θ_run (Cert.MfKernel.defs (F := Bits)) (onTc (τ := Cert.MfKernel.τ) (Cert.MfKernel.main (F := Bits))) ⟨m, fun _ => 0, g⟩ (fun r => (∀ c : Dev Cert.MfKernel.nD,
      r.2.mem ((c.tc : Thread Cert.MfKernel.nD Cert.MfKernel.τ).loc Cert.MfKernel.main_arg0) = m ((c.tc : Thread Cert.MfKernel.nD Cert.MfKernel.τ).loc Cert.MfKernel.main_arg0)
      ∧ r.2.mem ((c.tc : Thread Cert.MfKernel.nD Cert.MfKernel.τ).loc Cert.MfKernel.main_arg1) = m ((c.tc : Thread Cert.MfKernel.nD Cert.MfKernel.τ).loc Cert.MfKernel.main_arg1)
      ∧ r.2.mem ((c.tc : Thread Cert.MfKernel.nD Cert.MfKernel.τ).loc Cert.MfKernel.main_arg2) = m ((c.tc : Thread Cert.MfKernel.nD Cert.MfKernel.τ).loc Cert.MfKernel.main_arg2)
      ∧ r.2.mem ((c.tc : Thread Cert.MfKernel.nD Cert.MfKernel.τ).loc Cert.MfKernel.main_arg3) = m ((c.tc : Thread Cert.MfKernel.nD Cert.MfKernel.τ).loc Cert.MfKernel.main_arg3))
      ∧ r.2.sem = fun _ => 0)

def quiescent_MfKernelIdeal [hMfKernelIdeal : Cert.MfKernelIdeal.Facts] : Prop :=
  ∀ (m : (ℓ : Loc Cert.MfKernelIdeal.nD Cert.MfKernelIdeal.τ Cert.MfKernelIdeal.sig) → Buf (Elt Ideal) ℓ) (g : Dev Cert.MfKernelIdeal.nD → PrngReg), Pre_MfKernelIdeal m →
    θ_run (Cert.MfKernelIdeal.defs (F := Ideal)) (onTc (τ := Cert.MfKernelIdeal.τ) (Cert.MfKernelIdeal.main (F := Ideal))) ⟨m, fun _ => 0, g⟩ (fun r => (∀ c : Dev Cert.MfKernelIdeal.nD,
      r.2.mem ((c.tc : Thread Cert.MfKernelIdeal.nD Cert.MfKernelIdeal.τ).loc Cert.MfKernelIdeal.main_arg0) = m ((c.tc : Thread Cert.MfKernelIdeal.nD Cert.MfKernelIdeal.τ).loc Cert.MfKernelIdeal.main_arg0)
      ∧ r.2.mem ((c.tc : Thread Cert.MfKernelIdeal.nD Cert.MfKernelIdeal.τ).loc Cert.MfKernelIdeal.main_arg1) = m ((c.tc : Thread Cert.MfKernelIdeal.nD Cert.MfKernelIdeal.τ).loc Cert.MfKernelIdeal.main_arg1)
      ∧ r.2.mem ((c.tc : Thread Cert.MfKernelIdeal.nD Cert.MfKernelIdeal.τ).loc Cert.MfKernelIdeal.main_arg2) = m ((c.tc : Thread Cert.MfKernelIdeal.nD Cert.MfKernelIdeal.τ).loc Cert.MfKernelIdeal.main_arg2)
      ∧ r.2.mem ((c.tc : Thread Cert.MfKernelIdeal.nD Cert.MfKernelIdeal.τ).loc Cert.MfKernelIdeal.main_arg3) = m ((c.tc : Thread Cert.MfKernelIdeal.nD Cert.MfKernelIdeal.τ).loc Cert.MfKernelIdeal.main_arg3))
      ∧ r.2.sem = fun _ => 0)

def quiescent_MfReferenceIdeal [hMfReferenceIdeal : Cert.MfReferenceIdeal.Facts] : Prop :=
  ∀ (m : (ℓ : Loc Cert.MfReferenceIdeal.nD Cert.MfReferenceIdeal.τ Cert.MfReferenceIdeal.sig) → Buf (Elt Ideal) ℓ) (g : Dev Cert.MfReferenceIdeal.nD → PrngReg), Pre_MfReferenceIdeal m →
    θ_run (Cert.MfReferenceIdeal.defs (F := Ideal)) (onTc (τ := Cert.MfReferenceIdeal.τ) (Cert.MfReferenceIdeal.main (F := Ideal))) ⟨m, fun _ => 0, g⟩ (fun r => (∀ c : Dev Cert.MfReferenceIdeal.nD,
      r.2.mem ((c.tc : Thread Cert.MfReferenceIdeal.nD Cert.MfReferenceIdeal.τ).loc Cert.MfReferenceIdeal.main_arg0) = m ((c.tc : Thread Cert.MfReferenceIdeal.nD Cert.MfReferenceIdeal.τ).loc Cert.MfReferenceIdeal.main_arg0)
      ∧ r.2.mem ((c.tc : Thread Cert.MfReferenceIdeal.nD Cert.MfReferenceIdeal.τ).loc Cert.MfReferenceIdeal.main_arg1) = m ((c.tc : Thread Cert.MfReferenceIdeal.nD Cert.MfReferenceIdeal.τ).loc Cert.MfReferenceIdeal.main_arg1)
      ∧ r.2.mem ((c.tc : Thread Cert.MfReferenceIdeal.nD Cert.MfReferenceIdeal.τ).loc Cert.MfReferenceIdeal.main_arg2) = m ((c.tc : Thread Cert.MfReferenceIdeal.nD Cert.MfReferenceIdeal.τ).loc Cert.MfReferenceIdeal.main_arg2)
      ∧ r.2.mem ((c.tc : Thread Cert.MfReferenceIdeal.nD Cert.MfReferenceIdeal.τ).loc Cert.MfReferenceIdeal.main_arg3) = m ((c.tc : Thread Cert.MfReferenceIdeal.nD Cert.MfReferenceIdeal.τ).loc Cert.MfReferenceIdeal.main_arg3))
      ∧ r.2.sem = fun _ => 0)

def quiescent_AiKernel [hAiKernel : Cert.AiKernel.Facts] : Prop :=
  ∀ (m : (ℓ : Loc Cert.AiKernel.nD Cert.AiKernel.τ Cert.AiKernel.sig) → Buf (Elt Bits) ℓ) (g : Dev Cert.AiKernel.nD → PrngReg), Pre_AiKernel m →
    θ_run (Cert.AiKernel.defs (F := Bits)) (onTc (τ := Cert.AiKernel.τ) (Cert.AiKernel.main (F := Bits))) ⟨m, fun _ => 0, g⟩ (fun r => (∀ c : Dev Cert.AiKernel.nD,
      r.2.mem ((c.tc : Thread Cert.AiKernel.nD Cert.AiKernel.τ).loc Cert.AiKernel.main_arg0) = m ((c.tc : Thread Cert.AiKernel.nD Cert.AiKernel.τ).loc Cert.AiKernel.main_arg0)
      ∧ r.2.mem ((c.tc : Thread Cert.AiKernel.nD Cert.AiKernel.τ).loc Cert.AiKernel.main_arg1) = m ((c.tc : Thread Cert.AiKernel.nD Cert.AiKernel.τ).loc Cert.AiKernel.main_arg1)
      ∧ r.2.mem ((c.tc : Thread Cert.AiKernel.nD Cert.AiKernel.τ).loc Cert.AiKernel.main_arg2) = m ((c.tc : Thread Cert.AiKernel.nD Cert.AiKernel.τ).loc Cert.AiKernel.main_arg2)
      ∧ r.2.mem ((c.tc : Thread Cert.AiKernel.nD Cert.AiKernel.τ).loc Cert.AiKernel.main_arg3) = m ((c.tc : Thread Cert.AiKernel.nD Cert.AiKernel.τ).loc Cert.AiKernel.main_arg3))
      ∧ r.2.sem = fun _ => 0)

def quiescent_AiKernelIdeal [hAiKernelIdeal : Cert.AiKernelIdeal.Facts] : Prop :=
  ∀ (m : (ℓ : Loc Cert.AiKernelIdeal.nD Cert.AiKernelIdeal.τ Cert.AiKernelIdeal.sig) → Buf (Elt Ideal) ℓ) (g : Dev Cert.AiKernelIdeal.nD → PrngReg), Pre_AiKernelIdeal m →
    θ_run (Cert.AiKernelIdeal.defs (F := Ideal)) (onTc (τ := Cert.AiKernelIdeal.τ) (Cert.AiKernelIdeal.main (F := Ideal))) ⟨m, fun _ => 0, g⟩ (fun r => (∀ c : Dev Cert.AiKernelIdeal.nD,
      r.2.mem ((c.tc : Thread Cert.AiKernelIdeal.nD Cert.AiKernelIdeal.τ).loc Cert.AiKernelIdeal.main_arg0) = m ((c.tc : Thread Cert.AiKernelIdeal.nD Cert.AiKernelIdeal.τ).loc Cert.AiKernelIdeal.main_arg0)
      ∧ r.2.mem ((c.tc : Thread Cert.AiKernelIdeal.nD Cert.AiKernelIdeal.τ).loc Cert.AiKernelIdeal.main_arg1) = m ((c.tc : Thread Cert.AiKernelIdeal.nD Cert.AiKernelIdeal.τ).loc Cert.AiKernelIdeal.main_arg1)
      ∧ r.2.mem ((c.tc : Thread Cert.AiKernelIdeal.nD Cert.AiKernelIdeal.τ).loc Cert.AiKernelIdeal.main_arg2) = m ((c.tc : Thread Cert.AiKernelIdeal.nD Cert.AiKernelIdeal.τ).loc Cert.AiKernelIdeal.main_arg2)
      ∧ r.2.mem ((c.tc : Thread Cert.AiKernelIdeal.nD Cert.AiKernelIdeal.τ).loc Cert.AiKernelIdeal.main_arg3) = m ((c.tc : Thread Cert.AiKernelIdeal.nD Cert.AiKernelIdeal.τ).loc Cert.AiKernelIdeal.main_arg3))
      ∧ r.2.sem = fun _ => 0)

def quiescent_AiReferenceIdeal [hAiReferenceIdeal : Cert.AiReferenceIdeal.Facts] : Prop :=
  ∀ (m : (ℓ : Loc Cert.AiReferenceIdeal.nD Cert.AiReferenceIdeal.τ Cert.AiReferenceIdeal.sig) → Buf (Elt Ideal) ℓ) (g : Dev Cert.AiReferenceIdeal.nD → PrngReg), Pre_AiReferenceIdeal m →
    θ_run (Cert.AiReferenceIdeal.defs (F := Ideal)) (onTc (τ := Cert.AiReferenceIdeal.τ) (Cert.AiReferenceIdeal.main (F := Ideal))) ⟨m, fun _ => 0, g⟩ (fun r => (∀ c : Dev Cert.AiReferenceIdeal.nD,
      r.2.mem ((c.tc : Thread Cert.AiReferenceIdeal.nD Cert.AiReferenceIdeal.τ).loc Cert.AiReferenceIdeal.main_arg0) = m ((c.tc : Thread Cert.AiReferenceIdeal.nD Cert.AiReferenceIdeal.τ).loc Cert.AiReferenceIdeal.main_arg0)
      ∧ r.2.mem ((c.tc : Thread Cert.AiReferenceIdeal.nD Cert.AiReferenceIdeal.τ).loc Cert.AiReferenceIdeal.main_arg1) = m ((c.tc : Thread Cert.AiReferenceIdeal.nD Cert.AiReferenceIdeal.τ).loc Cert.AiReferenceIdeal.main_arg1)
      ∧ r.2.mem ((c.tc : Thread Cert.AiReferenceIdeal.nD Cert.AiReferenceIdeal.τ).loc Cert.AiReferenceIdeal.main_arg2) = m ((c.tc : Thread Cert.AiReferenceIdeal.nD Cert.AiReferenceIdeal.τ).loc Cert.AiReferenceIdeal.main_arg2)
      ∧ r.2.mem ((c.tc : Thread Cert.AiReferenceIdeal.nD Cert.AiReferenceIdeal.τ).loc Cert.AiReferenceIdeal.main_arg3) = m ((c.tc : Thread Cert.AiReferenceIdeal.nD Cert.AiReferenceIdeal.τ).loc Cert.AiReferenceIdeal.main_arg3))
      ∧ r.2.sem = fun _ => 0)

def quiescent_AoKernel [hAoKernel : Cert.AoKernel.Facts] : Prop :=
  ∀ (m : (ℓ : Loc Cert.AoKernel.nD Cert.AoKernel.τ Cert.AoKernel.sig) → Buf (Elt Bits) ℓ) (g : Dev Cert.AoKernel.nD → PrngReg), Pre_AoKernel m →
    θ_run (Cert.AoKernel.defs (F := Bits)) (onTc (τ := Cert.AoKernel.τ) (Cert.AoKernel.main (F := Bits))) ⟨m, fun _ => 0, g⟩ (fun r => (∀ c : Dev Cert.AoKernel.nD,
      r.2.mem ((c.tc : Thread Cert.AoKernel.nD Cert.AoKernel.τ).loc Cert.AoKernel.main_arg0) = m ((c.tc : Thread Cert.AoKernel.nD Cert.AoKernel.τ).loc Cert.AoKernel.main_arg0)
      ∧ r.2.mem ((c.tc : Thread Cert.AoKernel.nD Cert.AoKernel.τ).loc Cert.AoKernel.main_arg1) = m ((c.tc : Thread Cert.AoKernel.nD Cert.AoKernel.τ).loc Cert.AoKernel.main_arg1)
      ∧ r.2.mem ((c.tc : Thread Cert.AoKernel.nD Cert.AoKernel.τ).loc Cert.AoKernel.main_arg2) = m ((c.tc : Thread Cert.AoKernel.nD Cert.AoKernel.τ).loc Cert.AoKernel.main_arg2)
      ∧ r.2.mem ((c.tc : Thread Cert.AoKernel.nD Cert.AoKernel.τ).loc Cert.AoKernel.main_arg3) = m ((c.tc : Thread Cert.AoKernel.nD Cert.AoKernel.τ).loc Cert.AoKernel.main_arg3))
      ∧ r.2.sem = fun _ => 0)

def quiescent_AoKernelIdeal [hAoKernelIdeal : Cert.AoKernelIdeal.Facts] : Prop :=
  ∀ (m : (ℓ : Loc Cert.AoKernelIdeal.nD Cert.AoKernelIdeal.τ Cert.AoKernelIdeal.sig) → Buf (Elt Ideal) ℓ) (g : Dev Cert.AoKernelIdeal.nD → PrngReg), Pre_AoKernelIdeal m →
    θ_run (Cert.AoKernelIdeal.defs (F := Ideal)) (onTc (τ := Cert.AoKernelIdeal.τ) (Cert.AoKernelIdeal.main (F := Ideal))) ⟨m, fun _ => 0, g⟩ (fun r => (∀ c : Dev Cert.AoKernelIdeal.nD,
      r.2.mem ((c.tc : Thread Cert.AoKernelIdeal.nD Cert.AoKernelIdeal.τ).loc Cert.AoKernelIdeal.main_arg0) = m ((c.tc : Thread Cert.AoKernelIdeal.nD Cert.AoKernelIdeal.τ).loc Cert.AoKernelIdeal.main_arg0)
      ∧ r.2.mem ((c.tc : Thread Cert.AoKernelIdeal.nD Cert.AoKernelIdeal.τ).loc Cert.AoKernelIdeal.main_arg1) = m ((c.tc : Thread Cert.AoKernelIdeal.nD Cert.AoKernelIdeal.τ).loc Cert.AoKernelIdeal.main_arg1)
      ∧ r.2.mem ((c.tc : Thread Cert.AoKernelIdeal.nD Cert.AoKernelIdeal.τ).loc Cert.AoKernelIdeal.main_arg2) = m ((c.tc : Thread Cert.AoKernelIdeal.nD Cert.AoKernelIdeal.τ).loc Cert.AoKernelIdeal.main_arg2)
      ∧ r.2.mem ((c.tc : Thread Cert.AoKernelIdeal.nD Cert.AoKernelIdeal.τ).loc Cert.AoKernelIdeal.main_arg3) = m ((c.tc : Thread Cert.AoKernelIdeal.nD Cert.AoKernelIdeal.τ).loc Cert.AoKernelIdeal.main_arg3))
      ∧ r.2.sem = fun _ => 0)

def quiescent_AoReferenceIdeal [hAoReferenceIdeal : Cert.AoReferenceIdeal.Facts] : Prop :=
  ∀ (m : (ℓ : Loc Cert.AoReferenceIdeal.nD Cert.AoReferenceIdeal.τ Cert.AoReferenceIdeal.sig) → Buf (Elt Ideal) ℓ) (g : Dev Cert.AoReferenceIdeal.nD → PrngReg), Pre_AoReferenceIdeal m →
    θ_run (Cert.AoReferenceIdeal.defs (F := Ideal)) (onTc (τ := Cert.AoReferenceIdeal.τ) (Cert.AoReferenceIdeal.main (F := Ideal))) ⟨m, fun _ => 0, g⟩ (fun r => (∀ c : Dev Cert.AoReferenceIdeal.nD,
      r.2.mem ((c.tc : Thread Cert.AoReferenceIdeal.nD Cert.AoReferenceIdeal.τ).loc Cert.AoReferenceIdeal.main_arg0) = m ((c.tc : Thread Cert.AoReferenceIdeal.nD Cert.AoReferenceIdeal.τ).loc Cert.AoReferenceIdeal.main_arg0)
      ∧ r.2.mem ((c.tc : Thread Cert.AoReferenceIdeal.nD Cert.AoReferenceIdeal.τ).loc Cert.AoReferenceIdeal.main_arg1) = m ((c.tc : Thread Cert.AoReferenceIdeal.nD Cert.AoReferenceIdeal.τ).loc Cert.AoReferenceIdeal.main_arg1)
      ∧ r.2.mem ((c.tc : Thread Cert.AoReferenceIdeal.nD Cert.AoReferenceIdeal.τ).loc Cert.AoReferenceIdeal.main_arg2) = m ((c.tc : Thread Cert.AoReferenceIdeal.nD Cert.AoReferenceIdeal.τ).loc Cert.AoReferenceIdeal.main_arg2)
      ∧ r.2.mem ((c.tc : Thread Cert.AoReferenceIdeal.nD Cert.AoReferenceIdeal.τ).loc Cert.AoReferenceIdeal.main_arg3) = m ((c.tc : Thread Cert.AoReferenceIdeal.nD Cert.AoReferenceIdeal.τ).loc Cert.AoReferenceIdeal.main_arg3))
      ∧ r.2.sem = fun _ => 0)

def quiescent_AuKernel [hAuKernel : Cert.AuKernel.Facts] : Prop :=
  ∀ (m : (ℓ : Loc Cert.AuKernel.nD Cert.AuKernel.τ Cert.AuKernel.sig) → Buf (Elt Bits) ℓ) (g : Dev Cert.AuKernel.nD → PrngReg), Pre_AuKernel m →
    θ_run (Cert.AuKernel.defs (F := Bits)) (onTc (τ := Cert.AuKernel.τ) (Cert.AuKernel.main (F := Bits))) ⟨m, fun _ => 0, g⟩ (fun r => (∀ c : Dev Cert.AuKernel.nD,
      r.2.mem ((c.tc : Thread Cert.AuKernel.nD Cert.AuKernel.τ).loc Cert.AuKernel.main_arg0) = m ((c.tc : Thread Cert.AuKernel.nD Cert.AuKernel.τ).loc Cert.AuKernel.main_arg0)
      ∧ r.2.mem ((c.tc : Thread Cert.AuKernel.nD Cert.AuKernel.τ).loc Cert.AuKernel.main_arg1) = m ((c.tc : Thread Cert.AuKernel.nD Cert.AuKernel.τ).loc Cert.AuKernel.main_arg1)
      ∧ r.2.mem ((c.tc : Thread Cert.AuKernel.nD Cert.AuKernel.τ).loc Cert.AuKernel.main_arg2) = m ((c.tc : Thread Cert.AuKernel.nD Cert.AuKernel.τ).loc Cert.AuKernel.main_arg2)
      ∧ r.2.mem ((c.tc : Thread Cert.AuKernel.nD Cert.AuKernel.τ).loc Cert.AuKernel.main_arg3) = m ((c.tc : Thread Cert.AuKernel.nD Cert.AuKernel.τ).loc Cert.AuKernel.main_arg3))
      ∧ r.2.sem = fun _ => 0)

def quiescent_AuKernelIdeal [hAuKernelIdeal : Cert.AuKernelIdeal.Facts] : Prop :=
  ∀ (m : (ℓ : Loc Cert.AuKernelIdeal.nD Cert.AuKernelIdeal.τ Cert.AuKernelIdeal.sig) → Buf (Elt Ideal) ℓ) (g : Dev Cert.AuKernelIdeal.nD → PrngReg), Pre_AuKernelIdeal m →
    θ_run (Cert.AuKernelIdeal.defs (F := Ideal)) (onTc (τ := Cert.AuKernelIdeal.τ) (Cert.AuKernelIdeal.main (F := Ideal))) ⟨m, fun _ => 0, g⟩ (fun r => (∀ c : Dev Cert.AuKernelIdeal.nD,
      r.2.mem ((c.tc : Thread Cert.AuKernelIdeal.nD Cert.AuKernelIdeal.τ).loc Cert.AuKernelIdeal.main_arg0) = m ((c.tc : Thread Cert.AuKernelIdeal.nD Cert.AuKernelIdeal.τ).loc Cert.AuKernelIdeal.main_arg0)
      ∧ r.2.mem ((c.tc : Thread Cert.AuKernelIdeal.nD Cert.AuKernelIdeal.τ).loc Cert.AuKernelIdeal.main_arg1) = m ((c.tc : Thread Cert.AuKernelIdeal.nD Cert.AuKernelIdeal.τ).loc Cert.AuKernelIdeal.main_arg1)
      ∧ r.2.mem ((c.tc : Thread Cert.AuKernelIdeal.nD Cert.AuKernelIdeal.τ).loc Cert.AuKernelIdeal.main_arg2) = m ((c.tc : Thread Cert.AuKernelIdeal.nD Cert.AuKernelIdeal.τ).loc Cert.AuKernelIdeal.main_arg2)
      ∧ r.2.mem ((c.tc : Thread Cert.AuKernelIdeal.nD Cert.AuKernelIdeal.τ).loc Cert.AuKernelIdeal.main_arg3) = m ((c.tc : Thread Cert.AuKernelIdeal.nD Cert.AuKernelIdeal.τ).loc Cert.AuKernelIdeal.main_arg3))
      ∧ r.2.sem = fun _ => 0)

def quiescent_AuReferenceIdeal [hAuReferenceIdeal : Cert.AuReferenceIdeal.Facts] : Prop :=
  ∀ (m : (ℓ : Loc Cert.AuReferenceIdeal.nD Cert.AuReferenceIdeal.τ Cert.AuReferenceIdeal.sig) → Buf (Elt Ideal) ℓ) (g : Dev Cert.AuReferenceIdeal.nD → PrngReg), Pre_AuReferenceIdeal m →
    θ_run (Cert.AuReferenceIdeal.defs (F := Ideal)) (onTc (τ := Cert.AuReferenceIdeal.τ) (Cert.AuReferenceIdeal.main (F := Ideal))) ⟨m, fun _ => 0, g⟩ (fun r => (∀ c : Dev Cert.AuReferenceIdeal.nD,
      r.2.mem ((c.tc : Thread Cert.AuReferenceIdeal.nD Cert.AuReferenceIdeal.τ).loc Cert.AuReferenceIdeal.main_arg0) = m ((c.tc : Thread Cert.AuReferenceIdeal.nD Cert.AuReferenceIdeal.τ).loc Cert.AuReferenceIdeal.main_arg0)
      ∧ r.2.mem ((c.tc : Thread Cert.AuReferenceIdeal.nD Cert.AuReferenceIdeal.τ).loc Cert.AuReferenceIdeal.main_arg1) = m ((c.tc : Thread Cert.AuReferenceIdeal.nD Cert.AuReferenceIdeal.τ).loc Cert.AuReferenceIdeal.main_arg1)
      ∧ r.2.mem ((c.tc : Thread Cert.AuReferenceIdeal.nD Cert.AuReferenceIdeal.τ).loc Cert.AuReferenceIdeal.main_arg2) = m ((c.tc : Thread Cert.AuReferenceIdeal.nD Cert.AuReferenceIdeal.τ).loc Cert.AuReferenceIdeal.main_arg2)
      ∧ r.2.mem ((c.tc : Thread Cert.AuReferenceIdeal.nD Cert.AuReferenceIdeal.τ).loc Cert.AuReferenceIdeal.main_arg3) = m ((c.tc : Thread Cert.AuReferenceIdeal.nD Cert.AuReferenceIdeal.τ).loc Cert.AuReferenceIdeal.main_arg3))
      ∧ r.2.sem = fun _ => 0)

def quiescent_AdKernel [hAdKernel : Cert.AdKernel.Facts] : Prop :=
  ∀ (m : (ℓ : Loc Cert.AdKernel.nD Cert.AdKernel.τ Cert.AdKernel.sig) → Buf (Elt Bits) ℓ) (g : Dev Cert.AdKernel.nD → PrngReg), Pre_AdKernel m →
    θ_run (Cert.AdKernel.defs (F := Bits)) (onTc (τ := Cert.AdKernel.τ) (Cert.AdKernel.main (F := Bits))) ⟨m, fun _ => 0, g⟩ (fun r => (∀ c : Dev Cert.AdKernel.nD,
      r.2.mem ((c.tc : Thread Cert.AdKernel.nD Cert.AdKernel.τ).loc Cert.AdKernel.main_arg0) = m ((c.tc : Thread Cert.AdKernel.nD Cert.AdKernel.τ).loc Cert.AdKernel.main_arg0)
      ∧ r.2.mem ((c.tc : Thread Cert.AdKernel.nD Cert.AdKernel.τ).loc Cert.AdKernel.main_arg1) = m ((c.tc : Thread Cert.AdKernel.nD Cert.AdKernel.τ).loc Cert.AdKernel.main_arg1)
      ∧ r.2.mem ((c.tc : Thread Cert.AdKernel.nD Cert.AdKernel.τ).loc Cert.AdKernel.main_arg2) = m ((c.tc : Thread Cert.AdKernel.nD Cert.AdKernel.τ).loc Cert.AdKernel.main_arg2)
      ∧ r.2.mem ((c.tc : Thread Cert.AdKernel.nD Cert.AdKernel.τ).loc Cert.AdKernel.main_arg3) = m ((c.tc : Thread Cert.AdKernel.nD Cert.AdKernel.τ).loc Cert.AdKernel.main_arg3))
      ∧ r.2.sem = fun _ => 0)

def quiescent_AdKernelIdeal [hAdKernelIdeal : Cert.AdKernelIdeal.Facts] : Prop :=
  ∀ (m : (ℓ : Loc Cert.AdKernelIdeal.nD Cert.AdKernelIdeal.τ Cert.AdKernelIdeal.sig) → Buf (Elt Ideal) ℓ) (g : Dev Cert.AdKernelIdeal.nD → PrngReg), Pre_AdKernelIdeal m →
    θ_run (Cert.AdKernelIdeal.defs (F := Ideal)) (onTc (τ := Cert.AdKernelIdeal.τ) (Cert.AdKernelIdeal.main (F := Ideal))) ⟨m, fun _ => 0, g⟩ (fun r => (∀ c : Dev Cert.AdKernelIdeal.nD,
      r.2.mem ((c.tc : Thread Cert.AdKernelIdeal.nD Cert.AdKernelIdeal.τ).loc Cert.AdKernelIdeal.main_arg0) = m ((c.tc : Thread Cert.AdKernelIdeal.nD Cert.AdKernelIdeal.τ).loc Cert.AdKernelIdeal.main_arg0)
      ∧ r.2.mem ((c.tc : Thread Cert.AdKernelIdeal.nD Cert.AdKernelIdeal.τ).loc Cert.AdKernelIdeal.main_arg1) = m ((c.tc : Thread Cert.AdKernelIdeal.nD Cert.AdKernelIdeal.τ).loc Cert.AdKernelIdeal.main_arg1)
      ∧ r.2.mem ((c.tc : Thread Cert.AdKernelIdeal.nD Cert.AdKernelIdeal.τ).loc Cert.AdKernelIdeal.main_arg2) = m ((c.tc : Thread Cert.AdKernelIdeal.nD Cert.AdKernelIdeal.τ).loc Cert.AdKernelIdeal.main_arg2)
      ∧ r.2.mem ((c.tc : Thread Cert.AdKernelIdeal.nD Cert.AdKernelIdeal.τ).loc Cert.AdKernelIdeal.main_arg3) = m ((c.tc : Thread Cert.AdKernelIdeal.nD Cert.AdKernelIdeal.τ).loc Cert.AdKernelIdeal.main_arg3))
      ∧ r.2.sem = fun _ => 0)

def quiescent_AdReferenceIdeal [hAdReferenceIdeal : Cert.AdReferenceIdeal.Facts] : Prop :=
  ∀ (m : (ℓ : Loc Cert.AdReferenceIdeal.nD Cert.AdReferenceIdeal.τ Cert.AdReferenceIdeal.sig) → Buf (Elt Ideal) ℓ) (g : Dev Cert.AdReferenceIdeal.nD → PrngReg), Pre_AdReferenceIdeal m →
    θ_run (Cert.AdReferenceIdeal.defs (F := Ideal)) (onTc (τ := Cert.AdReferenceIdeal.τ) (Cert.AdReferenceIdeal.main (F := Ideal))) ⟨m, fun _ => 0, g⟩ (fun r => (∀ c : Dev Cert.AdReferenceIdeal.nD,
      r.2.mem ((c.tc : Thread Cert.AdReferenceIdeal.nD Cert.AdReferenceIdeal.τ).loc Cert.AdReferenceIdeal.main_arg0) = m ((c.tc : Thread Cert.AdReferenceIdeal.nD Cert.AdReferenceIdeal.τ).loc Cert.AdReferenceIdeal.main_arg0)
      ∧ r.2.mem ((c.tc : Thread Cert.AdReferenceIdeal.nD Cert.AdReferenceIdeal.τ).loc Cert.AdReferenceIdeal.main_arg1) = m ((c.tc : Thread Cert.AdReferenceIdeal.nD Cert.AdReferenceIdeal.τ).loc Cert.AdReferenceIdeal.main_arg1)
      ∧ r.2.mem ((c.tc : Thread Cert.AdReferenceIdeal.nD Cert.AdReferenceIdeal.τ).loc Cert.AdReferenceIdeal.main_arg2) = m ((c.tc : Thread Cert.AdReferenceIdeal.nD Cert.AdReferenceIdeal.τ).loc Cert.AdReferenceIdeal.main_arg2)
      ∧ r.2.mem ((c.tc : Thread Cert.AdReferenceIdeal.nD Cert.AdReferenceIdeal.τ).loc Cert.AdReferenceIdeal.main_arg3) = m ((c.tc : Thread Cert.AdReferenceIdeal.nD Cert.AdReferenceIdeal.τ).loc Cert.AdReferenceIdeal.main_arg3))
      ∧ r.2.sem = fun _ => 0)

def quiescent_AsKernel [hAsKernel : Cert.AsKernel.Facts] : Prop :=
  ∀ (m : (ℓ : Loc Cert.AsKernel.nD Cert.AsKernel.τ Cert.AsKernel.sig) → Buf (Elt Bits) ℓ) (g : Dev Cert.AsKernel.nD → PrngReg), Pre_AsKernel m →
    θ_run (Cert.AsKernel.defs (F := Bits)) (onTc (τ := Cert.AsKernel.τ) (Cert.AsKernel.main (F := Bits))) ⟨m, fun _ => 0, g⟩ (fun r => (∀ c : Dev Cert.AsKernel.nD,
      r.2.mem ((c.tc : Thread Cert.AsKernel.nD Cert.AsKernel.τ).loc Cert.AsKernel.main_arg0) = m ((c.tc : Thread Cert.AsKernel.nD Cert.AsKernel.τ).loc Cert.AsKernel.main_arg0)
      ∧ r.2.mem ((c.tc : Thread Cert.AsKernel.nD Cert.AsKernel.τ).loc Cert.AsKernel.main_arg1) = m ((c.tc : Thread Cert.AsKernel.nD Cert.AsKernel.τ).loc Cert.AsKernel.main_arg1)
      ∧ r.2.mem ((c.tc : Thread Cert.AsKernel.nD Cert.AsKernel.τ).loc Cert.AsKernel.main_arg2) = m ((c.tc : Thread Cert.AsKernel.nD Cert.AsKernel.τ).loc Cert.AsKernel.main_arg2)
      ∧ r.2.mem ((c.tc : Thread Cert.AsKernel.nD Cert.AsKernel.τ).loc Cert.AsKernel.main_arg3) = m ((c.tc : Thread Cert.AsKernel.nD Cert.AsKernel.τ).loc Cert.AsKernel.main_arg3))
      ∧ r.2.sem = fun _ => 0)

def quiescent_AsKernelIdeal [hAsKernelIdeal : Cert.AsKernelIdeal.Facts] : Prop :=
  ∀ (m : (ℓ : Loc Cert.AsKernelIdeal.nD Cert.AsKernelIdeal.τ Cert.AsKernelIdeal.sig) → Buf (Elt Ideal) ℓ) (g : Dev Cert.AsKernelIdeal.nD → PrngReg), Pre_AsKernelIdeal m →
    θ_run (Cert.AsKernelIdeal.defs (F := Ideal)) (onTc (τ := Cert.AsKernelIdeal.τ) (Cert.AsKernelIdeal.main (F := Ideal))) ⟨m, fun _ => 0, g⟩ (fun r => (∀ c : Dev Cert.AsKernelIdeal.nD,
      r.2.mem ((c.tc : Thread Cert.AsKernelIdeal.nD Cert.AsKernelIdeal.τ).loc Cert.AsKernelIdeal.main_arg0) = m ((c.tc : Thread Cert.AsKernelIdeal.nD Cert.AsKernelIdeal.τ).loc Cert.AsKernelIdeal.main_arg0)
      ∧ r.2.mem ((c.tc : Thread Cert.AsKernelIdeal.nD Cert.AsKernelIdeal.τ).loc Cert.AsKernelIdeal.main_arg1) = m ((c.tc : Thread Cert.AsKernelIdeal.nD Cert.AsKernelIdeal.τ).loc Cert.AsKernelIdeal.main_arg1)
      ∧ r.2.mem ((c.tc : Thread Cert.AsKernelIdeal.nD Cert.AsKernelIdeal.τ).loc Cert.AsKernelIdeal.main_arg2) = m ((c.tc : Thread Cert.AsKernelIdeal.nD Cert.AsKernelIdeal.τ).loc Cert.AsKernelIdeal.main_arg2)
      ∧ r.2.mem ((c.tc : Thread Cert.AsKernelIdeal.nD Cert.AsKernelIdeal.τ).loc Cert.AsKernelIdeal.main_arg3) = m ((c.tc : Thread Cert.AsKernelIdeal.nD Cert.AsKernelIdeal.τ).loc Cert.AsKernelIdeal.main_arg3))
      ∧ r.2.sem = fun _ => 0)

def quiescent_AsReferenceIdeal [hAsReferenceIdeal : Cert.AsReferenceIdeal.Facts] : Prop :=
  ∀ (m : (ℓ : Loc Cert.AsReferenceIdeal.nD Cert.AsReferenceIdeal.τ Cert.AsReferenceIdeal.sig) → Buf (Elt Ideal) ℓ) (g : Dev Cert.AsReferenceIdeal.nD → PrngReg), Pre_AsReferenceIdeal m →
    θ_run (Cert.AsReferenceIdeal.defs (F := Ideal)) (onTc (τ := Cert.AsReferenceIdeal.τ) (Cert.AsReferenceIdeal.main (F := Ideal))) ⟨m, fun _ => 0, g⟩ (fun r => (∀ c : Dev Cert.AsReferenceIdeal.nD,
      r.2.mem ((c.tc : Thread Cert.AsReferenceIdeal.nD Cert.AsReferenceIdeal.τ).loc Cert.AsReferenceIdeal.main_arg0) = m ((c.tc : Thread Cert.AsReferenceIdeal.nD Cert.AsReferenceIdeal.τ).loc Cert.AsReferenceIdeal.main_arg0)
      ∧ r.2.mem ((c.tc : Thread Cert.AsReferenceIdeal.nD Cert.AsReferenceIdeal.τ).loc Cert.AsReferenceIdeal.main_arg1) = m ((c.tc : Thread Cert.AsReferenceIdeal.nD Cert.AsReferenceIdeal.τ).loc Cert.AsReferenceIdeal.main_arg1)
      ∧ r.2.mem ((c.tc : Thread Cert.AsReferenceIdeal.nD Cert.AsReferenceIdeal.τ).loc Cert.AsReferenceIdeal.main_arg2) = m ((c.tc : Thread Cert.AsReferenceIdeal.nD Cert.AsReferenceIdeal.τ).loc Cert.AsReferenceIdeal.main_arg2)
      ∧ r.2.mem ((c.tc : Thread Cert.AsReferenceIdeal.nD Cert.AsReferenceIdeal.τ).loc Cert.AsReferenceIdeal.main_arg3) = m ((c.tc : Thread Cert.AsReferenceIdeal.nD Cert.AsReferenceIdeal.τ).loc Cert.AsReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v71)) (v2 : (c : Dev Cert.KernelIdeal.nD) → Buf (Elt Ideal) ((c.tc : Thread Cert.KernelIdeal.nD Cert.KernelIdeal.τ).loc Cert.KernelIdeal.main_v72)) (v3 : (c : Dev Cert.KernelIdeal.nD) → Buf (Elt Ideal) ((c.tc : Thread Cert.KernelIdeal.nD Cert.KernelIdeal.τ).loc Cert.KernelIdeal.main_v73)) (v4 : (c : Dev Cert.KernelIdeal.nD) → Buf (Elt Ideal) ((c.tc : Thread Cert.KernelIdeal.nD Cert.KernelIdeal.τ).loc Cert.KernelIdeal.main_v74)) (v5 : (c : Dev Cert.KernelIdeal.nD) → Buf (Elt Ideal) ((c.tc : Thread Cert.KernelIdeal.nD Cert.KernelIdeal.τ).loc Cert.KernelIdeal.main_v69_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_v73) = v3 c
          ∧ r.2.mem ((c.tc : Thread Cert.KernelIdeal.nD Cert.KernelIdeal.τ).loc Cert.KernelIdeal.main_v74) = v4 c
          ∧ r.2.mem ((c.tc : Thread Cert.KernelIdeal.nD Cert.KernelIdeal.τ).loc Cert.KernelIdeal.main_v69_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_v264) = v1 c
          ∧ r.2.mem ((c.tc : Thread Cert.ReferenceIdeal.nD Cert.ReferenceIdeal.τ).loc Cert.ReferenceIdeal.main_v265) = v2 c
          ∧ r.2.mem ((c.tc : Thread Cert.ReferenceIdeal.nD Cert.ReferenceIdeal.τ).loc Cert.ReferenceIdeal.main_v266) = v3 c
          ∧ r.2.mem ((c.tc : Thread Cert.ReferenceIdeal.nD Cert.ReferenceIdeal.τ).loc Cert.ReferenceIdeal.main_v267) = v4 c
          ∧ r.2.mem ((c.tc : Thread Cert.ReferenceIdeal.nD Cert.ReferenceIdeal.τ).loc Cert.ReferenceIdeal.main_v185) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v16)) (v1 : (c : Dev Cert.FfnKernelIdeal.nD) → Buf (Elt Ideal) ((c.tc : Thread Cert.FfnKernelIdeal.nD Cert.FfnKernelIdeal.τ).loc Cert.FfnKernelIdeal.main_v15)) (v2 : (c : Dev Cert.FfnKernelIdeal.nD) → Buf (Elt Ideal) ((c.tc : Thread Cert.FfnKernelIdeal.nD Cert.FfnKernelIdeal.τ).loc Cert.FfnKernelIdeal.main_v17)) (v3 : (c : Dev Cert.FfnKernelIdeal.nD) → Buf (Elt Ideal) ((c.tc : Thread Cert.FfnKernelIdeal.nD Cert.FfnKernelIdeal.τ).loc Cert.FfnKernelIdeal.main_v18)) (v4 : (c : Dev Cert.FfnKernelIdeal.nD) → Buf (Elt Ideal) ((c.tc : Thread Cert.FfnKernelIdeal.nD Cert.FfnKernelIdeal.τ).loc Cert.FfnKernelIdeal.main_v12)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v16) = v0 c
          ∧ r.2.mem ((c.tc : Thread Cert.FfnKernelIdeal.nD Cert.FfnKernelIdeal.τ).loc Cert.FfnKernelIdeal.main_v15) = v1 c
          ∧ r.2.mem ((c.tc : Thread Cert.FfnKernelIdeal.nD Cert.FfnKernelIdeal.τ).loc Cert.FfnKernelIdeal.main_v17) = v2 c
          ∧ r.2.mem ((c.tc : Thread Cert.FfnKernelIdeal.nD Cert.FfnKernelIdeal.τ).loc Cert.FfnKernelIdeal.main_v18) = v3 c
          ∧ r.2.mem ((c.tc : Thread Cert.FfnKernelIdeal.nD Cert.FfnKernelIdeal.τ).loc Cert.FfnKernelIdeal.main_v12) = v4 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v32) = v0 c
          ∧ r.2.mem ((c.tc : Thread Cert.FfnReferenceIdeal.nD Cert.FfnReferenceIdeal.τ).loc Cert.FfnReferenceIdeal.main_v81) = v1 c
          ∧ r.2.mem ((c.tc : Thread Cert.FfnReferenceIdeal.nD Cert.FfnReferenceIdeal.τ).loc Cert.FfnReferenceIdeal.main_v69) = v2 c
          ∧ r.2.mem ((c.tc : Thread Cert.FfnReferenceIdeal.nD Cert.FfnReferenceIdeal.τ).loc Cert.FfnReferenceIdeal.main_v73) = v3 c
          ∧ r.2.mem ((c.tc : Thread Cert.FfnReferenceIdeal.nD Cert.FfnReferenceIdeal.τ).loc Cert.FfnReferenceIdeal.main_v82) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)) →
    ∃ (v0 : (c : Dev Cert.ProjKernelIdeal.nD) → Buf (Elt Ideal) ((c.tc : Thread Cert.ProjKernelIdeal.nD Cert.ProjKernelIdeal.τ).loc Cert.ProjKernelIdeal.main_v19)) (v1 : (c : Dev Cert.ProjKernelIdeal.nD) → Buf (Elt Ideal) ((c.tc : Thread Cert.ProjKernelIdeal.nD Cert.ProjKernelIdeal.τ).loc Cert.ProjKernelIdeal.main_v20)) (v2 : (c : Dev Cert.ProjKernelIdeal.nD) → Buf (Elt Ideal) ((c.tc : Thread Cert.ProjKernelIdeal.nD Cert.ProjKernelIdeal.τ).loc Cert.ProjKernelIdeal.main_v21)) (v3 : (c : Dev Cert.ProjKernelIdeal.nD) → Buf (Elt Ideal) ((c.tc : Thread Cert.ProjKernelIdeal.nD Cert.ProjKernelIdeal.τ).loc Cert.ProjKernelIdeal.main_v17)) (v4 : (c : Dev Cert.ProjKernelIdeal.nD) → Buf (Elt Ideal) ((c.tc : Thread Cert.ProjKernelIdeal.nD Cert.ProjKernelIdeal.τ).loc Cert.ProjKernelIdeal.main_v18)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v19) = v0 c
          ∧ r.2.mem ((c.tc : Thread Cert.ProjKernelIdeal.nD Cert.ProjKernelIdeal.τ).loc Cert.ProjKernelIdeal.main_v20) = v1 c
          ∧ r.2.mem ((c.tc : Thread Cert.ProjKernelIdeal.nD Cert.ProjKernelIdeal.τ).loc Cert.ProjKernelIdeal.main_v21) = v2 c
          ∧ r.2.mem ((c.tc : Thread Cert.ProjKernelIdeal.nD Cert.ProjKernelIdeal.τ).loc Cert.ProjKernelIdeal.main_v17) = v3 c
          ∧ r.2.mem ((c.tc : Thread Cert.ProjKernelIdeal.nD Cert.ProjKernelIdeal.τ).loc Cert.ProjKernelIdeal.main_v18) = v4 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_v1) = v1 c
          ∧ r.2.mem ((c.tc : Thread Cert.ProjReferenceIdeal.nD Cert.ProjReferenceIdeal.τ).loc Cert.ProjReferenceIdeal.main_v4) = v2 c
          ∧ r.2.mem ((c.tc : Thread Cert.ProjReferenceIdeal.nD Cert.ProjReferenceIdeal.τ).loc Cert.ProjReferenceIdeal.main_v7) = v3 c
          ∧ r.2.mem ((c.tc : Thread Cert.ProjReferenceIdeal.nD Cert.ProjReferenceIdeal.τ).loc Cert.ProjReferenceIdeal.main_v8) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def preserves_Dn1Kernel_Dn1KernelIdeal : Prop :=
  True

def algebraic_Dn1KernelIdeal_Dn1ReferenceIdeal [hDn1KernelIdeal : Cert.Dn1KernelIdeal.Facts] [hDn1ReferenceIdeal : Cert.Dn1ReferenceIdeal.Facts] : Prop :=
  ∀ (m : (ℓ : Loc Cert.Dn1KernelIdeal.nD Cert.Dn1KernelIdeal.τ Cert.Dn1KernelIdeal.sig) → Buf (Elt Ideal) ℓ) (g : Dev Cert.Dn1KernelIdeal.nD → PrngReg)
    (m' : (ℓ : Loc Cert.Dn1ReferenceIdeal.nD Cert.Dn1ReferenceIdeal.τ Cert.Dn1ReferenceIdeal.sig) → Buf (Elt Ideal) ℓ) (g' : Dev Cert.Dn1ReferenceIdeal.nD → PrngReg), Pre_Dn1KernelIdeal m →
    (∀ c : Dev Cert.Dn1KernelIdeal.nD,
      m' ((c.tc : Thread Cert.Dn1ReferenceIdeal.nD Cert.Dn1ReferenceIdeal.τ).loc Cert.Dn1ReferenceIdeal.main_arg0) = m ((c.tc : Thread Cert.Dn1KernelIdeal.nD Cert.Dn1KernelIdeal.τ).loc Cert.Dn1KernelIdeal.main_arg0)
      ∧ m' ((c.tc : Thread Cert.Dn1ReferenceIdeal.nD Cert.Dn1ReferenceIdeal.τ).loc Cert.Dn1ReferenceIdeal.main_arg1) = m ((c.tc : Thread Cert.Dn1KernelIdeal.nD Cert.Dn1KernelIdeal.τ).loc Cert.Dn1KernelIdeal.main_arg1)) →
    ∃ (v0 : (c : Dev Cert.Dn1KernelIdeal.nD) → Buf (Elt Ideal) ((c.tc : Thread Cert.Dn1KernelIdeal.nD Cert.Dn1KernelIdeal.τ).loc Cert.Dn1KernelIdeal.main_v2)),
      θ_run (Cert.Dn1KernelIdeal.defs (F := Ideal)) (onTc (τ := Cert.Dn1KernelIdeal.τ) (Cert.Dn1KernelIdeal.main (F := Ideal))) ⟨m, fun _ => 0, g⟩ (fun r => ∀ c : Dev Cert.Dn1KernelIdeal.nD,
          r.2.mem ((c.tc : Thread Cert.Dn1KernelIdeal.nD Cert.Dn1KernelIdeal.τ).loc Cert.Dn1KernelIdeal.main_v2) = v0 c
          ∧ r.2.mem ((c.tc : Thread Cert.Dn1KernelIdeal.nD Cert.Dn1KernelIdeal.τ).loc Cert.Dn1KernelIdeal.main_arg0) = m ((c.tc : Thread Cert.Dn1KernelIdeal.nD Cert.Dn1KernelIdeal.τ).loc Cert.Dn1KernelIdeal.main_arg0)
          ∧ r.2.mem ((c.tc : Thread Cert.Dn1KernelIdeal.nD Cert.Dn1KernelIdeal.τ).loc Cert.Dn1KernelIdeal.main_arg1) = m ((c.tc : Thread Cert.Dn1KernelIdeal.nD Cert.Dn1KernelIdeal.τ).loc Cert.Dn1KernelIdeal.main_arg1))
      ∧ θ_run (Cert.Dn1ReferenceIdeal.defs (F := Ideal)) (onTc (τ := Cert.Dn1ReferenceIdeal.τ) (Cert.Dn1ReferenceIdeal.main (F := Ideal))) ⟨m', fun _ => 0, g'⟩ (fun r => ∀ c : Dev Cert.Dn1ReferenceIdeal.nD,
          r.2.mem ((c.tc : Thread Cert.Dn1ReferenceIdeal.nD Cert.Dn1ReferenceIdeal.τ).loc Cert.Dn1ReferenceIdeal.main_v2) = v0 c
          ∧ r.2.mem ((c.tc : Thread Cert.Dn1ReferenceIdeal.nD Cert.Dn1ReferenceIdeal.τ).loc Cert.Dn1ReferenceIdeal.main_arg0) = m' ((c.tc : Thread Cert.Dn1ReferenceIdeal.nD Cert.Dn1ReferenceIdeal.τ).loc Cert.Dn1ReferenceIdeal.main_arg0)
          ∧ r.2.mem ((c.tc : Thread Cert.Dn1ReferenceIdeal.nD Cert.Dn1ReferenceIdeal.τ).loc Cert.Dn1ReferenceIdeal.main_arg1) = m' ((c.tc : Thread Cert.Dn1ReferenceIdeal.nD Cert.Dn1ReferenceIdeal.τ).loc Cert.Dn1ReferenceIdeal.main_arg1))

def preserves_Dn2Kernel_Dn2KernelIdeal : Prop :=
  True

def algebraic_Dn2KernelIdeal_Dn2ReferenceIdeal [hDn2KernelIdeal : Cert.Dn2KernelIdeal.Facts] [hDn2ReferenceIdeal : Cert.Dn2ReferenceIdeal.Facts] : Prop :=
  ∀ (m : (ℓ : Loc Cert.Dn2KernelIdeal.nD Cert.Dn2KernelIdeal.τ Cert.Dn2KernelIdeal.sig) → Buf (Elt Ideal) ℓ) (g : Dev Cert.Dn2KernelIdeal.nD → PrngReg)
    (m' : (ℓ : Loc Cert.Dn2ReferenceIdeal.nD Cert.Dn2ReferenceIdeal.τ Cert.Dn2ReferenceIdeal.sig) → Buf (Elt Ideal) ℓ) (g' : Dev Cert.Dn2ReferenceIdeal.nD → PrngReg), Pre_Dn2KernelIdeal m →
    (∀ c : Dev Cert.Dn2KernelIdeal.nD,
      m' ((c.tc : Thread Cert.Dn2ReferenceIdeal.nD Cert.Dn2ReferenceIdeal.τ).loc Cert.Dn2ReferenceIdeal.main_arg0) = m ((c.tc : Thread Cert.Dn2KernelIdeal.nD Cert.Dn2KernelIdeal.τ).loc Cert.Dn2KernelIdeal.main_arg0)
      ∧ m' ((c.tc : Thread Cert.Dn2ReferenceIdeal.nD Cert.Dn2ReferenceIdeal.τ).loc Cert.Dn2ReferenceIdeal.main_arg1) = m ((c.tc : Thread Cert.Dn2KernelIdeal.nD Cert.Dn2KernelIdeal.τ).loc Cert.Dn2KernelIdeal.main_arg1)) →
    ∃ (v0 : (c : Dev Cert.Dn2KernelIdeal.nD) → Buf (Elt Ideal) ((c.tc : Thread Cert.Dn2KernelIdeal.nD Cert.Dn2KernelIdeal.τ).loc Cert.Dn2KernelIdeal.main_v2)),
      θ_run (Cert.Dn2KernelIdeal.defs (F := Ideal)) (onTc (τ := Cert.Dn2KernelIdeal.τ) (Cert.Dn2KernelIdeal.main (F := Ideal))) ⟨m, fun _ => 0, g⟩ (fun r => ∀ c : Dev Cert.Dn2KernelIdeal.nD,
          r.2.mem ((c.tc : Thread Cert.Dn2KernelIdeal.nD Cert.Dn2KernelIdeal.τ).loc Cert.Dn2KernelIdeal.main_v2) = v0 c
          ∧ r.2.mem ((c.tc : Thread Cert.Dn2KernelIdeal.nD Cert.Dn2KernelIdeal.τ).loc Cert.Dn2KernelIdeal.main_arg0) = m ((c.tc : Thread Cert.Dn2KernelIdeal.nD Cert.Dn2KernelIdeal.τ).loc Cert.Dn2KernelIdeal.main_arg0)
          ∧ r.2.mem ((c.tc : Thread Cert.Dn2KernelIdeal.nD Cert.Dn2KernelIdeal.τ).loc Cert.Dn2KernelIdeal.main_arg1) = m ((c.tc : Thread Cert.Dn2KernelIdeal.nD Cert.Dn2KernelIdeal.τ).loc Cert.Dn2KernelIdeal.main_arg1))
      ∧ θ_run (Cert.Dn2ReferenceIdeal.defs (F := Ideal)) (onTc (τ := Cert.Dn2ReferenceIdeal.τ) (Cert.Dn2ReferenceIdeal.main (F := Ideal))) ⟨m', fun _ => 0, g'⟩ (fun r => ∀ c : Dev Cert.Dn2ReferenceIdeal.nD,
          r.2.mem ((c.tc : Thread Cert.Dn2ReferenceIdeal.nD Cert.Dn2ReferenceIdeal.τ).loc Cert.Dn2ReferenceIdeal.main_v2) = v0 c
          ∧ r.2.mem ((c.tc : Thread Cert.Dn2ReferenceIdeal.nD Cert.Dn2ReferenceIdeal.τ).loc Cert.Dn2ReferenceIdeal.main_arg0) = m' ((c.tc : Thread Cert.Dn2ReferenceIdeal.nD Cert.Dn2ReferenceIdeal.τ).loc Cert.Dn2ReferenceIdeal.main_arg0)
          ∧ r.2.mem ((c.tc : Thread Cert.Dn2ReferenceIdeal.nD Cert.Dn2ReferenceIdeal.τ).loc Cert.Dn2ReferenceIdeal.main_arg1) = m' ((c.tc : Thread Cert.Dn2ReferenceIdeal.nD Cert.Dn2ReferenceIdeal.τ).loc Cert.Dn2ReferenceIdeal.main_arg1))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)) (v3 : (c : Dev Cert.LossKernelIdeal.nD) → Buf (Elt Ideal) ((c.tc : Thread Cert.LossKernelIdeal.nD Cert.LossKernelIdeal.τ).loc Cert.LossKernelIdeal.main_v0_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_v0_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v32) = v0 c
          ∧ r.2.mem ((c.tc : Thread Cert.LossReferenceIdeal.nD Cert.LossReferenceIdeal.τ).loc Cert.LossReferenceIdeal.main_v52) = v1 c
          ∧ r.2.mem ((c.tc : Thread Cert.LossReferenceIdeal.nD Cert.LossReferenceIdeal.τ).loc Cert.LossReferenceIdeal.main_v53) = v2 c
          ∧ r.2.mem ((c.tc : Thread Cert.LossReferenceIdeal.nD Cert.LossReferenceIdeal.τ).loc Cert.LossReferenceIdeal.main_v35) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3))

def preserves_MidKernel_MidKernelIdeal : Prop :=
  True

def algebraic_MidKernelIdeal_MidReferenceIdeal [hMidKernelIdeal : Cert.MidKernelIdeal.Facts] [hMidReferenceIdeal : Cert.MidReferenceIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidKernelIdeal m →
    (∀ c : Dev Cert.MidKernelIdeal.nD,
      m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)
      ∧ m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3)
      ∧ m' ((c.tc : Thread Cert.MidReferenceIdeal.nD Cert.MidReferenceIdeal.τ).loc Cert.MidReferenceIdeal.main_arg4) = m ((c.tc : Thread Cert.MidKernelIdeal.nD Cert.MidKernelIdeal.τ).loc Cert.MidKernelIdeal.main_arg4)
      ∧ m' ((c.tc : Thread Cert.MidReferenceIdeal.nD Cert.MidReferenceIdeal.τ).loc Cert.MidReferenceIdeal.main_arg5) = m ((c.tc : Thread Cert.MidKernelIdeal.nD Cert.MidKernelIdeal.τ).loc Cert.MidKernelIdeal.main_arg5)) →
    ∃ (v0 : (c : Dev Cert.MidKernelIdeal.nD) → Buf (Elt Ideal) ((c.tc : Thread Cert.MidKernelIdeal.nD Cert.MidKernelIdeal.τ).loc Cert.MidKernelIdeal.main_v0_0)) (v1 : (c : Dev Cert.MidKernelIdeal.nD) → Buf (Elt Ideal) ((c.tc : Thread Cert.MidKernelIdeal.nD Cert.MidKernelIdeal.τ).loc Cert.MidKernelIdeal.main_v0_1)) (v2 : (c : Dev Cert.MidKernelIdeal.nD) → Buf (Elt Ideal) ((c.tc : Thread Cert.MidKernelIdeal.nD Cert.MidKernelIdeal.τ).loc Cert.MidKernelIdeal.main_v0_2)) (v3 : (c : Dev Cert.MidKernelIdeal.nD) → Buf (Elt Ideal) ((c.tc : Thread Cert.MidKernelIdeal.nD Cert.MidKernelIdeal.τ).loc Cert.MidKernelIdeal.main_v0_3)),
      θ_run (Cert.MidKernelIdeal.defs (F := Ideal)) (onTc (τ := Cert.MidKernelIdeal.τ) (Cert.MidKernelIdeal.main (F := Ideal))) ⟨m, fun _ => 0, g⟩ (fun r => ∀ c : Dev Cert.MidKernelIdeal.nD,
          r.2.mem ((c.tc : Thread Cert.MidKernelIdeal.nD Cert.MidKernelIdeal.τ).loc Cert.MidKernelIdeal.main_v0_0) = v0 c
          ∧ r.2.mem ((c.tc : Thread Cert.MidKernelIdeal.nD Cert.MidKernelIdeal.τ).loc Cert.MidKernelIdeal.main_v0_1) = v1 c
          ∧ r.2.mem ((c.tc : Thread Cert.MidKernelIdeal.nD Cert.MidKernelIdeal.τ).loc Cert.MidKernelIdeal.main_v0_2) = v2 c
          ∧ r.2.mem ((c.tc : Thread Cert.MidKernelIdeal.nD Cert.MidKernelIdeal.τ).loc Cert.MidKernelIdeal.main_v0_3) = v3 c
          ∧ r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
          ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
          ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
          ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
          ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
          ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v34) = v0 c
          ∧ r.2.mem ((c.tc : Thread Cert.MidReferenceIdeal.nD Cert.MidReferenceIdeal.τ).loc Cert.MidReferenceIdeal.main_v69) = v1 c
          ∧ r.2.mem ((c.tc : Thread Cert.MidReferenceIdeal.nD Cert.MidReferenceIdeal.τ).loc Cert.MidReferenceIdeal.main_v17) = v2 c
          ∧ r.2.mem ((c.tc : Thread Cert.MidReferenceIdeal.nD Cert.MidReferenceIdeal.τ).loc Cert.MidReferenceIdeal.main_v52) = v3 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5))

def preserves_PnKernel_PnKernelIdeal : Prop :=
  True

def algebraic_PnKernelIdeal_PnReferenceIdeal [hPnKernelIdeal : Cert.PnKernelIdeal.Facts] [hPnReferenceIdeal : Cert.PnReferenceIdeal.Facts] : Prop :=
  ∀ (m : (ℓ : Loc Cert.PnKernelIdeal.nD Cert.PnKernelIdeal.τ Cert.PnKernelIdeal.sig) → Buf (Elt Ideal) ℓ) (g : Dev Cert.PnKernelIdeal.nD → PrngReg)
    (m' : (ℓ : Loc Cert.PnReferenceIdeal.nD Cert.PnReferenceIdeal.τ Cert.PnReferenceIdeal.sig) → Buf (Elt Ideal) ℓ) (g' : Dev Cert.PnReferenceIdeal.nD → PrngReg), Pre_PnKernelIdeal m →
    (∀ c : Dev Cert.PnKernelIdeal.nD,
      m' ((c.tc : Thread Cert.PnReferenceIdeal.nD Cert.PnReferenceIdeal.τ).loc Cert.PnReferenceIdeal.main_arg0) = m ((c.tc : Thread Cert.PnKernelIdeal.nD Cert.PnKernelIdeal.τ).loc Cert.PnKernelIdeal.main_arg0)
      ∧ m' ((c.tc : Thread Cert.PnReferenceIdeal.nD Cert.PnReferenceIdeal.τ).loc Cert.PnReferenceIdeal.main_arg1) = m ((c.tc : Thread Cert.PnKernelIdeal.nD Cert.PnKernelIdeal.τ).loc Cert.PnKernelIdeal.main_arg1)
      ∧ m' ((c.tc : Thread Cert.PnReferenceIdeal.nD Cert.PnReferenceIdeal.τ).loc Cert.PnReferenceIdeal.main_arg2) = m ((c.tc : Thread Cert.PnKernelIdeal.nD Cert.PnKernelIdeal.τ).loc Cert.PnKernelIdeal.main_arg2)) →
    ∃ (v0 : (c : Dev Cert.PnKernelIdeal.nD) → Buf (Elt Ideal) ((c.tc : Thread Cert.PnKernelIdeal.nD Cert.PnKernelIdeal.τ).loc Cert.PnKernelIdeal.main_v0_0)) (v1 : (c : Dev Cert.PnKernelIdeal.nD) → Buf (Elt Ideal) ((c.tc : Thread Cert.PnKernelIdeal.nD Cert.PnKernelIdeal.τ).loc Cert.PnKernelIdeal.main_v0_1)),
      θ_run (Cert.PnKernelIdeal.defs (F := Ideal)) (onTc (τ := Cert.PnKernelIdeal.τ) (Cert.PnKernelIdeal.main (F := Ideal))) ⟨m, fun _ => 0, g⟩ (fun r => ∀ c : Dev Cert.PnKernelIdeal.nD,
          r.2.mem ((c.tc : Thread Cert.PnKernelIdeal.nD Cert.PnKernelIdeal.τ).loc Cert.PnKernelIdeal.main_v0_0) = v0 c
          ∧ r.2.mem ((c.tc : Thread Cert.PnKernelIdeal.nD Cert.PnKernelIdeal.τ).loc Cert.PnKernelIdeal.main_v0_1) = v1 c
          ∧ r.2.mem ((c.tc : Thread Cert.PnKernelIdeal.nD Cert.PnKernelIdeal.τ).loc Cert.PnKernelIdeal.main_arg0) = m ((c.tc : Thread Cert.PnKernelIdeal.nD Cert.PnKernelIdeal.τ).loc Cert.PnKernelIdeal.main_arg0)
          ∧ r.2.mem ((c.tc : Thread Cert.PnKernelIdeal.nD Cert.PnKernelIdeal.τ).loc Cert.PnKernelIdeal.main_arg1) = m ((c.tc : Thread Cert.PnKernelIdeal.nD Cert.PnKernelIdeal.τ).loc Cert.PnKernelIdeal.main_arg1)
          ∧ r.2.mem ((c.tc : Thread Cert.PnKernelIdeal.nD Cert.PnKernelIdeal.τ).loc Cert.PnKernelIdeal.main_arg2) = m ((c.tc : Thread Cert.PnKernelIdeal.nD Cert.PnKernelIdeal.τ).loc Cert.PnKernelIdeal.main_arg2))
      ∧ θ_run (Cert.PnReferenceIdeal.defs (F := Ideal)) (onTc (τ := Cert.PnReferenceIdeal.τ) (Cert.PnReferenceIdeal.main (F := Ideal))) ⟨m', fun _ => 0, g'⟩ (fun r => ∀ c : Dev Cert.PnReferenceIdeal.nD,
          r.2.mem ((c.tc : Thread Cert.PnReferenceIdeal.nD Cert.PnReferenceIdeal.τ).loc Cert.PnReferenceIdeal.main_v13) = v0 c
          ∧ r.2.mem ((c.tc : Thread Cert.PnReferenceIdeal.nD Cert.PnReferenceIdeal.τ).loc Cert.PnReferenceIdeal.main_v15) = v1 c
          ∧ r.2.mem ((c.tc : Thread Cert.PnReferenceIdeal.nD Cert.PnReferenceIdeal.τ).loc Cert.PnReferenceIdeal.main_arg0) = m' ((c.tc : Thread Cert.PnReferenceIdeal.nD Cert.PnReferenceIdeal.τ).loc Cert.PnReferenceIdeal.main_arg0)
          ∧ r.2.mem ((c.tc : Thread Cert.PnReferenceIdeal.nD Cert.PnReferenceIdeal.τ).loc Cert.PnReferenceIdeal.main_arg1) = m' ((c.tc : Thread Cert.PnReferenceIdeal.nD Cert.PnReferenceIdeal.τ).loc Cert.PnReferenceIdeal.main_arg1)
          ∧ r.2.mem ((c.tc : Thread Cert.PnReferenceIdeal.nD Cert.PnReferenceIdeal.τ).loc Cert.PnReferenceIdeal.main_arg2) = m' ((c.tc : Thread Cert.PnReferenceIdeal.nD Cert.PnReferenceIdeal.τ).loc Cert.PnReferenceIdeal.main_arg2))

def preserves_MfKernel_MfKernelIdeal : Prop :=
  True

def algebraic_MfKernelIdeal_MfReferenceIdeal [hMfKernelIdeal : Cert.MfKernelIdeal.Facts] [hMfReferenceIdeal : Cert.MfReferenceIdeal.Facts] : Prop :=
  ∀ (m : (ℓ : Loc Cert.MfKernelIdeal.nD Cert.MfKernelIdeal.τ Cert.MfKernelIdeal.sig) → Buf (Elt Ideal) ℓ) (g : Dev Cert.MfKernelIdeal.nD → PrngReg)
    (m' : (ℓ : Loc Cert.MfReferenceIdeal.nD Cert.MfReferenceIdeal.τ Cert.MfReferenceIdeal.sig) → Buf (Elt Ideal) ℓ) (g' : Dev Cert.MfReferenceIdeal.nD → PrngReg), Pre_MfKernelIdeal m →
    (∀ c : Dev Cert.MfKernelIdeal.nD,
      m' ((c.tc : Thread Cert.MfReferenceIdeal.nD Cert.MfReferenceIdeal.τ).loc Cert.MfReferenceIdeal.main_arg0) = m ((c.tc : Thread Cert.MfKernelIdeal.nD Cert.MfKernelIdeal.τ).loc Cert.MfKernelIdeal.main_arg0)
      ∧ m' ((c.tc : Thread Cert.MfReferenceIdeal.nD Cert.MfReferenceIdeal.τ).loc Cert.MfReferenceIdeal.main_arg1) = m ((c.tc : Thread Cert.MfKernelIdeal.nD Cert.MfKernelIdeal.τ).loc Cert.MfKernelIdeal.main_arg1)
      ∧ m' ((c.tc : Thread Cert.MfReferenceIdeal.nD Cert.MfReferenceIdeal.τ).loc Cert.MfReferenceIdeal.main_arg2) = m ((c.tc : Thread Cert.MfKernelIdeal.nD Cert.MfKernelIdeal.τ).loc Cert.MfKernelIdeal.main_arg2)
      ∧ m' ((c.tc : Thread Cert.MfReferenceIdeal.nD Cert.MfReferenceIdeal.τ).loc Cert.MfReferenceIdeal.main_arg3) = m ((c.tc : Thread Cert.MfKernelIdeal.nD Cert.MfKernelIdeal.τ).loc Cert.MfKernelIdeal.main_arg3)) →
    ∃ (v0 : (c : Dev Cert.MfKernelIdeal.nD) → Buf (Elt Ideal) ((c.tc : Thread Cert.MfKernelIdeal.nD Cert.MfKernelIdeal.τ).loc Cert.MfKernelIdeal.main_v0_0)) (v1 : (c : Dev Cert.MfKernelIdeal.nD) → Buf (Elt Ideal) ((c.tc : Thread Cert.MfKernelIdeal.nD Cert.MfKernelIdeal.τ).loc Cert.MfKernelIdeal.main_v0_1)),
      θ_run (Cert.MfKernelIdeal.defs (F := Ideal)) (onTc (τ := Cert.MfKernelIdeal.τ) (Cert.MfKernelIdeal.main (F := Ideal))) ⟨m, fun _ => 0, g⟩ (fun r => ∀ c : Dev Cert.MfKernelIdeal.nD,
          r.2.mem ((c.tc : Thread Cert.MfKernelIdeal.nD Cert.MfKernelIdeal.τ).loc Cert.MfKernelIdeal.main_v0_0) = v0 c
          ∧ r.2.mem ((c.tc : Thread Cert.MfKernelIdeal.nD Cert.MfKernelIdeal.τ).loc Cert.MfKernelIdeal.main_v0_1) = v1 c
          ∧ r.2.mem ((c.tc : Thread Cert.MfKernelIdeal.nD Cert.MfKernelIdeal.τ).loc Cert.MfKernelIdeal.main_arg0) = m ((c.tc : Thread Cert.MfKernelIdeal.nD Cert.MfKernelIdeal.τ).loc Cert.MfKernelIdeal.main_arg0)
          ∧ r.2.mem ((c.tc : Thread Cert.MfKernelIdeal.nD Cert.MfKernelIdeal.τ).loc Cert.MfKernelIdeal.main_arg1) = m ((c.tc : Thread Cert.MfKernelIdeal.nD Cert.MfKernelIdeal.τ).loc Cert.MfKernelIdeal.main_arg1)
          ∧ r.2.mem ((c.tc : Thread Cert.MfKernelIdeal.nD Cert.MfKernelIdeal.τ).loc Cert.MfKernelIdeal.main_arg2) = m ((c.tc : Thread Cert.MfKernelIdeal.nD Cert.MfKernelIdeal.τ).loc Cert.MfKernelIdeal.main_arg2)
          ∧ r.2.mem ((c.tc : Thread Cert.MfKernelIdeal.nD Cert.MfKernelIdeal.τ).loc Cert.MfKernelIdeal.main_arg3) = m ((c.tc : Thread Cert.MfKernelIdeal.nD Cert.MfKernelIdeal.τ).loc Cert.MfKernelIdeal.main_arg3))
      ∧ θ_run (Cert.MfReferenceIdeal.defs (F := Ideal)) (onTc (τ := Cert.MfReferenceIdeal.τ) (Cert.MfReferenceIdeal.main (F := Ideal))) ⟨m', fun _ => 0, g'⟩ (fun r => ∀ c : Dev Cert.MfReferenceIdeal.nD,
          r.2.mem ((c.tc : Thread Cert.MfReferenceIdeal.nD Cert.MfReferenceIdeal.τ).loc Cert.MfReferenceIdeal.main_v12) = v0 c
          ∧ r.2.mem ((c.tc : Thread Cert.MfReferenceIdeal.nD Cert.MfReferenceIdeal.τ).loc Cert.MfReferenceIdeal.main_v25) = v1 c
          ∧ r.2.mem ((c.tc : Thread Cert.MfReferenceIdeal.nD Cert.MfReferenceIdeal.τ).loc Cert.MfReferenceIdeal.main_arg0) = m' ((c.tc : Thread Cert.MfReferenceIdeal.nD Cert.MfReferenceIdeal.τ).loc Cert.MfReferenceIdeal.main_arg0)
          ∧ r.2.mem ((c.tc : Thread Cert.MfReferenceIdeal.nD Cert.MfReferenceIdeal.τ).loc Cert.MfReferenceIdeal.main_arg1) = m' ((c.tc : Thread Cert.MfReferenceIdeal.nD Cert.MfReferenceIdeal.τ).loc Cert.MfReferenceIdeal.main_arg1)
          ∧ r.2.mem ((c.tc : Thread Cert.MfReferenceIdeal.nD Cert.MfReferenceIdeal.τ).loc Cert.MfReferenceIdeal.main_arg2) = m' ((c.tc : Thread Cert.MfReferenceIdeal.nD Cert.MfReferenceIdeal.τ).loc Cert.MfReferenceIdeal.main_arg2)
          ∧ r.2.mem ((c.tc : Thread Cert.MfReferenceIdeal.nD Cert.MfReferenceIdeal.τ).loc Cert.MfReferenceIdeal.main_arg3) = m' ((c.tc : Thread Cert.MfReferenceIdeal.nD Cert.MfReferenceIdeal.τ).loc Cert.MfReferenceIdeal.main_arg3))

def preserves_AiKernel_AiKernelIdeal : Prop :=
  True

def algebraic_AiKernelIdeal_AiReferenceIdeal [hAiKernelIdeal : Cert.AiKernelIdeal.Facts] [hAiReferenceIdeal : Cert.AiReferenceIdeal.Facts] : Prop :=
  ∀ (m : (ℓ : Loc Cert.AiKernelIdeal.nD Cert.AiKernelIdeal.τ Cert.AiKernelIdeal.sig) → Buf (Elt Ideal) ℓ) (g : Dev Cert.AiKernelIdeal.nD → PrngReg)
    (m' : (ℓ : Loc Cert.AiReferenceIdeal.nD Cert.AiReferenceIdeal.τ Cert.AiReferenceIdeal.sig) → Buf (Elt Ideal) ℓ) (g' : Dev Cert.AiReferenceIdeal.nD → PrngReg), Pre_AiKernelIdeal m →
    (∀ c : Dev Cert.AiKernelIdeal.nD,
      m' ((c.tc : Thread Cert.AiReferenceIdeal.nD Cert.AiReferenceIdeal.τ).loc Cert.AiReferenceIdeal.main_arg0) = m ((c.tc : Thread Cert.AiKernelIdeal.nD Cert.AiKernelIdeal.τ).loc Cert.AiKernelIdeal.main_arg0)
      ∧ m' ((c.tc : Thread Cert.AiReferenceIdeal.nD Cert.AiReferenceIdeal.τ).loc Cert.AiReferenceIdeal.main_arg1) = m ((c.tc : Thread Cert.AiKernelIdeal.nD Cert.AiKernelIdeal.τ).loc Cert.AiKernelIdeal.main_arg1)
      ∧ m' ((c.tc : Thread Cert.AiReferenceIdeal.nD Cert.AiReferenceIdeal.τ).loc Cert.AiReferenceIdeal.main_arg2) = m ((c.tc : Thread Cert.AiKernelIdeal.nD Cert.AiKernelIdeal.τ).loc Cert.AiKernelIdeal.main_arg2)
      ∧ m' ((c.tc : Thread Cert.AiReferenceIdeal.nD Cert.AiReferenceIdeal.τ).loc Cert.AiReferenceIdeal.main_arg3) = m ((c.tc : Thread Cert.AiKernelIdeal.nD Cert.AiKernelIdeal.τ).loc Cert.AiKernelIdeal.main_arg3)) →
    ∃ (v0 : (c : Dev Cert.AiKernelIdeal.nD) → Buf (Elt Ideal) ((c.tc : Thread Cert.AiKernelIdeal.nD Cert.AiKernelIdeal.τ).loc Cert.AiKernelIdeal.main_v0_0)) (v1 : (c : Dev Cert.AiKernelIdeal.nD) → Buf (Elt Ideal) ((c.tc : Thread Cert.AiKernelIdeal.nD Cert.AiKernelIdeal.τ).loc Cert.AiKernelIdeal.main_v0_1)) (v2 : (c : Dev Cert.AiKernelIdeal.nD) → Buf (Elt Ideal) ((c.tc : Thread Cert.AiKernelIdeal.nD Cert.AiKernelIdeal.τ).loc Cert.AiKernelIdeal.main_v0_2)) (v3 : (c : Dev Cert.AiKernelIdeal.nD) → Buf (Elt Ideal) ((c.tc : Thread Cert.AiKernelIdeal.nD Cert.AiKernelIdeal.τ).loc Cert.AiKernelIdeal.main_v0_3)),
      θ_run (Cert.AiKernelIdeal.defs (F := Ideal)) (onTc (τ := Cert.AiKernelIdeal.τ) (Cert.AiKernelIdeal.main (F := Ideal))) ⟨m, fun _ => 0, g⟩ (fun r => ∀ c : Dev Cert.AiKernelIdeal.nD,
          r.2.mem ((c.tc : Thread Cert.AiKernelIdeal.nD Cert.AiKernelIdeal.τ).loc Cert.AiKernelIdeal.main_v0_0) = v0 c
          ∧ r.2.mem ((c.tc : Thread Cert.AiKernelIdeal.nD Cert.AiKernelIdeal.τ).loc Cert.AiKernelIdeal.main_v0_1) = v1 c
          ∧ r.2.mem ((c.tc : Thread Cert.AiKernelIdeal.nD Cert.AiKernelIdeal.τ).loc Cert.AiKernelIdeal.main_v0_2) = v2 c
          ∧ r.2.mem ((c.tc : Thread Cert.AiKernelIdeal.nD Cert.AiKernelIdeal.τ).loc Cert.AiKernelIdeal.main_v0_3) = v3 c
          ∧ r.2.mem ((c.tc : Thread Cert.AiKernelIdeal.nD Cert.AiKernelIdeal.τ).loc Cert.AiKernelIdeal.main_arg0) = m ((c.tc : Thread Cert.AiKernelIdeal.nD Cert.AiKernelIdeal.τ).loc Cert.AiKernelIdeal.main_arg0)
          ∧ r.2.mem ((c.tc : Thread Cert.AiKernelIdeal.nD Cert.AiKernelIdeal.τ).loc Cert.AiKernelIdeal.main_arg1) = m ((c.tc : Thread Cert.AiKernelIdeal.nD Cert.AiKernelIdeal.τ).loc Cert.AiKernelIdeal.main_arg1)
          ∧ r.2.mem ((c.tc : Thread Cert.AiKernelIdeal.nD Cert.AiKernelIdeal.τ).loc Cert.AiKernelIdeal.main_arg2) = m ((c.tc : Thread Cert.AiKernelIdeal.nD Cert.AiKernelIdeal.τ).loc Cert.AiKernelIdeal.main_arg2)
          ∧ r.2.mem ((c.tc : Thread Cert.AiKernelIdeal.nD Cert.AiKernelIdeal.τ).loc Cert.AiKernelIdeal.main_arg3) = m ((c.tc : Thread Cert.AiKernelIdeal.nD Cert.AiKernelIdeal.τ).loc Cert.AiKernelIdeal.main_arg3))
      ∧ θ_run (Cert.AiReferenceIdeal.defs (F := Ideal)) (onTc (τ := Cert.AiReferenceIdeal.τ) (Cert.AiReferenceIdeal.main (F := Ideal))) ⟨m', fun _ => 0, g'⟩ (fun r => ∀ c : Dev Cert.AiReferenceIdeal.nD,
          r.2.mem ((c.tc : Thread Cert.AiReferenceIdeal.nD Cert.AiReferenceIdeal.τ).loc Cert.AiReferenceIdeal.main_v23) = v0 c
          ∧ r.2.mem ((c.tc : Thread Cert.AiReferenceIdeal.nD Cert.AiReferenceIdeal.τ).loc Cert.AiReferenceIdeal.main_v4) = v1 c
          ∧ r.2.mem ((c.tc : Thread Cert.AiReferenceIdeal.nD Cert.AiReferenceIdeal.τ).loc Cert.AiReferenceIdeal.main_v10) = v2 c
          ∧ r.2.mem ((c.tc : Thread Cert.AiReferenceIdeal.nD Cert.AiReferenceIdeal.τ).loc Cert.AiReferenceIdeal.main_arg1) = v3 c
          ∧ r.2.mem ((c.tc : Thread Cert.AiReferenceIdeal.nD Cert.AiReferenceIdeal.τ).loc Cert.AiReferenceIdeal.main_arg0) = m' ((c.tc : Thread Cert.AiReferenceIdeal.nD Cert.AiReferenceIdeal.τ).loc Cert.AiReferenceIdeal.main_arg0)
          ∧ r.2.mem ((c.tc : Thread Cert.AiReferenceIdeal.nD Cert.AiReferenceIdeal.τ).loc Cert.AiReferenceIdeal.main_arg1) = m' ((c.tc : Thread Cert.AiReferenceIdeal.nD Cert.AiReferenceIdeal.τ).loc Cert.AiReferenceIdeal.main_arg1)
          ∧ r.2.mem ((c.tc : Thread Cert.AiReferenceIdeal.nD Cert.AiReferenceIdeal.τ).loc Cert.AiReferenceIdeal.main_arg2) = m' ((c.tc : Thread Cert.AiReferenceIdeal.nD Cert.AiReferenceIdeal.τ).loc Cert.AiReferenceIdeal.main_arg2)
          ∧ r.2.mem ((c.tc : Thread Cert.AiReferenceIdeal.nD Cert.AiReferenceIdeal.τ).loc Cert.AiReferenceIdeal.main_arg3) = m' ((c.tc : Thread Cert.AiReferenceIdeal.nD Cert.AiReferenceIdeal.τ).loc Cert.AiReferenceIdeal.main_arg3))

def preserves_AoKernel_AoKernelIdeal : Prop :=
  True

def algebraic_AoKernelIdeal_AoReferenceIdeal [hAoKernelIdeal : Cert.AoKernelIdeal.Facts] [hAoReferenceIdeal : Cert.AoReferenceIdeal.Facts] : Prop :=
  ∀ (m : (ℓ : Loc Cert.AoKernelIdeal.nD Cert.AoKernelIdeal.τ Cert.AoKernelIdeal.sig) → Buf (Elt Ideal) ℓ) (g : Dev Cert.AoKernelIdeal.nD → PrngReg)
    (m' : (ℓ : Loc Cert.AoReferenceIdeal.nD Cert.AoReferenceIdeal.τ Cert.AoReferenceIdeal.sig) → Buf (Elt Ideal) ℓ) (g' : Dev Cert.AoReferenceIdeal.nD → PrngReg), Pre_AoKernelIdeal m →
    (∀ c : Dev Cert.AoKernelIdeal.nD,
      m' ((c.tc : Thread Cert.AoReferenceIdeal.nD Cert.AoReferenceIdeal.τ).loc Cert.AoReferenceIdeal.main_arg0) = m ((c.tc : Thread Cert.AoKernelIdeal.nD Cert.AoKernelIdeal.τ).loc Cert.AoKernelIdeal.main_arg0)
      ∧ m' ((c.tc : Thread Cert.AoReferenceIdeal.nD Cert.AoReferenceIdeal.τ).loc Cert.AoReferenceIdeal.main_arg1) = m ((c.tc : Thread Cert.AoKernelIdeal.nD Cert.AoKernelIdeal.τ).loc Cert.AoKernelIdeal.main_arg1)
      ∧ m' ((c.tc : Thread Cert.AoReferenceIdeal.nD Cert.AoReferenceIdeal.τ).loc Cert.AoReferenceIdeal.main_arg2) = m ((c.tc : Thread Cert.AoKernelIdeal.nD Cert.AoKernelIdeal.τ).loc Cert.AoKernelIdeal.main_arg2)
      ∧ m' ((c.tc : Thread Cert.AoReferenceIdeal.nD Cert.AoReferenceIdeal.τ).loc Cert.AoReferenceIdeal.main_arg3) = m ((c.tc : Thread Cert.AoKernelIdeal.nD Cert.AoKernelIdeal.τ).loc Cert.AoKernelIdeal.main_arg3)) →
    ∃ (v0 : (c : Dev Cert.AoKernelIdeal.nD) → Buf (Elt Ideal) ((c.tc : Thread Cert.AoKernelIdeal.nD Cert.AoKernelIdeal.τ).loc Cert.AoKernelIdeal.main_v0_0)) (v1 : (c : Dev Cert.AoKernelIdeal.nD) → Buf (Elt Ideal) ((c.tc : Thread Cert.AoKernelIdeal.nD Cert.AoKernelIdeal.τ).loc Cert.AoKernelIdeal.main_v0_1)) (v2 : (c : Dev Cert.AoKernelIdeal.nD) → Buf (Elt Ideal) ((c.tc : Thread Cert.AoKernelIdeal.nD Cert.AoKernelIdeal.τ).loc Cert.AoKernelIdeal.main_v0_2)) (v3 : (c : Dev Cert.AoKernelIdeal.nD) → Buf (Elt Ideal) ((c.tc : Thread Cert.AoKernelIdeal.nD Cert.AoKernelIdeal.τ).loc Cert.AoKernelIdeal.main_v0_3)),
      θ_run (Cert.AoKernelIdeal.defs (F := Ideal)) (onTc (τ := Cert.AoKernelIdeal.τ) (Cert.AoKernelIdeal.main (F := Ideal))) ⟨m, fun _ => 0, g⟩ (fun r => ∀ c : Dev Cert.AoKernelIdeal.nD,
          r.2.mem ((c.tc : Thread Cert.AoKernelIdeal.nD Cert.AoKernelIdeal.τ).loc Cert.AoKernelIdeal.main_v0_0) = v0 c
          ∧ r.2.mem ((c.tc : Thread Cert.AoKernelIdeal.nD Cert.AoKernelIdeal.τ).loc Cert.AoKernelIdeal.main_v0_1) = v1 c
          ∧ r.2.mem ((c.tc : Thread Cert.AoKernelIdeal.nD Cert.AoKernelIdeal.τ).loc Cert.AoKernelIdeal.main_v0_2) = v2 c
          ∧ r.2.mem ((c.tc : Thread Cert.AoKernelIdeal.nD Cert.AoKernelIdeal.τ).loc Cert.AoKernelIdeal.main_v0_3) = v3 c
          ∧ r.2.mem ((c.tc : Thread Cert.AoKernelIdeal.nD Cert.AoKernelIdeal.τ).loc Cert.AoKernelIdeal.main_arg0) = m ((c.tc : Thread Cert.AoKernelIdeal.nD Cert.AoKernelIdeal.τ).loc Cert.AoKernelIdeal.main_arg0)
          ∧ r.2.mem ((c.tc : Thread Cert.AoKernelIdeal.nD Cert.AoKernelIdeal.τ).loc Cert.AoKernelIdeal.main_arg1) = m ((c.tc : Thread Cert.AoKernelIdeal.nD Cert.AoKernelIdeal.τ).loc Cert.AoKernelIdeal.main_arg1)
          ∧ r.2.mem ((c.tc : Thread Cert.AoKernelIdeal.nD Cert.AoKernelIdeal.τ).loc Cert.AoKernelIdeal.main_arg2) = m ((c.tc : Thread Cert.AoKernelIdeal.nD Cert.AoKernelIdeal.τ).loc Cert.AoKernelIdeal.main_arg2)
          ∧ r.2.mem ((c.tc : Thread Cert.AoKernelIdeal.nD Cert.AoKernelIdeal.τ).loc Cert.AoKernelIdeal.main_arg3) = m ((c.tc : Thread Cert.AoKernelIdeal.nD Cert.AoKernelIdeal.τ).loc Cert.AoKernelIdeal.main_arg3))
      ∧ θ_run (Cert.AoReferenceIdeal.defs (F := Ideal)) (onTc (τ := Cert.AoReferenceIdeal.τ) (Cert.AoReferenceIdeal.main (F := Ideal))) ⟨m', fun _ => 0, g'⟩ (fun r => ∀ c : Dev Cert.AoReferenceIdeal.nD,
          r.2.mem ((c.tc : Thread Cert.AoReferenceIdeal.nD Cert.AoReferenceIdeal.τ).loc Cert.AoReferenceIdeal.main_v23) = v0 c
          ∧ r.2.mem ((c.tc : Thread Cert.AoReferenceIdeal.nD Cert.AoReferenceIdeal.τ).loc Cert.AoReferenceIdeal.main_v4) = v1 c
          ∧ r.2.mem ((c.tc : Thread Cert.AoReferenceIdeal.nD Cert.AoReferenceIdeal.τ).loc Cert.AoReferenceIdeal.main_v10) = v2 c
          ∧ r.2.mem ((c.tc : Thread Cert.AoReferenceIdeal.nD Cert.AoReferenceIdeal.τ).loc Cert.AoReferenceIdeal.main_arg1) = v3 c
          ∧ r.2.mem ((c.tc : Thread Cert.AoReferenceIdeal.nD Cert.AoReferenceIdeal.τ).loc Cert.AoReferenceIdeal.main_arg0) = m' ((c.tc : Thread Cert.AoReferenceIdeal.nD Cert.AoReferenceIdeal.τ).loc Cert.AoReferenceIdeal.main_arg0)
          ∧ r.2.mem ((c.tc : Thread Cert.AoReferenceIdeal.nD Cert.AoReferenceIdeal.τ).loc Cert.AoReferenceIdeal.main_arg1) = m' ((c.tc : Thread Cert.AoReferenceIdeal.nD Cert.AoReferenceIdeal.τ).loc Cert.AoReferenceIdeal.main_arg1)
          ∧ r.2.mem ((c.tc : Thread Cert.AoReferenceIdeal.nD Cert.AoReferenceIdeal.τ).loc Cert.AoReferenceIdeal.main_arg2) = m' ((c.tc : Thread Cert.AoReferenceIdeal.nD Cert.AoReferenceIdeal.τ).loc Cert.AoReferenceIdeal.main_arg2)
          ∧ r.2.mem ((c.tc : Thread Cert.AoReferenceIdeal.nD Cert.AoReferenceIdeal.τ).loc Cert.AoReferenceIdeal.main_arg3) = m' ((c.tc : Thread Cert.AoReferenceIdeal.nD Cert.AoReferenceIdeal.τ).loc Cert.AoReferenceIdeal.main_arg3))

def preserves_AuKernel_AuKernelIdeal : Prop :=
  True

def algebraic_AuKernelIdeal_AuReferenceIdeal [hAuKernelIdeal : Cert.AuKernelIdeal.Facts] [hAuReferenceIdeal : Cert.AuReferenceIdeal.Facts] : Prop :=
  ∀ (m : (ℓ : Loc Cert.AuKernelIdeal.nD Cert.AuKernelIdeal.τ Cert.AuKernelIdeal.sig) → Buf (Elt Ideal) ℓ) (g : Dev Cert.AuKernelIdeal.nD → PrngReg)
    (m' : (ℓ : Loc Cert.AuReferenceIdeal.nD Cert.AuReferenceIdeal.τ Cert.AuReferenceIdeal.sig) → Buf (Elt Ideal) ℓ) (g' : Dev Cert.AuReferenceIdeal.nD → PrngReg), Pre_AuKernelIdeal m →
    (∀ c : Dev Cert.AuKernelIdeal.nD,
      m' ((c.tc : Thread Cert.AuReferenceIdeal.nD Cert.AuReferenceIdeal.τ).loc Cert.AuReferenceIdeal.main_arg0) = m ((c.tc : Thread Cert.AuKernelIdeal.nD Cert.AuKernelIdeal.τ).loc Cert.AuKernelIdeal.main_arg0)
      ∧ m' ((c.tc : Thread Cert.AuReferenceIdeal.nD Cert.AuReferenceIdeal.τ).loc Cert.AuReferenceIdeal.main_arg1) = m ((c.tc : Thread Cert.AuKernelIdeal.nD Cert.AuKernelIdeal.τ).loc Cert.AuKernelIdeal.main_arg1)
      ∧ m' ((c.tc : Thread Cert.AuReferenceIdeal.nD Cert.AuReferenceIdeal.τ).loc Cert.AuReferenceIdeal.main_arg2) = m ((c.tc : Thread Cert.AuKernelIdeal.nD Cert.AuKernelIdeal.τ).loc Cert.AuKernelIdeal.main_arg2)
      ∧ m' ((c.tc : Thread Cert.AuReferenceIdeal.nD Cert.AuReferenceIdeal.τ).loc Cert.AuReferenceIdeal.main_arg3) = m ((c.tc : Thread Cert.AuKernelIdeal.nD Cert.AuKernelIdeal.τ).loc Cert.AuKernelIdeal.main_arg3)) →
    ∃ (v0 : (c : Dev Cert.AuKernelIdeal.nD) → Buf (Elt Ideal) ((c.tc : Thread Cert.AuKernelIdeal.nD Cert.AuKernelIdeal.τ).loc Cert.AuKernelIdeal.main_v0_0)) (v1 : (c : Dev Cert.AuKernelIdeal.nD) → Buf (Elt Ideal) ((c.tc : Thread Cert.AuKernelIdeal.nD Cert.AuKernelIdeal.τ).loc Cert.AuKernelIdeal.main_v0_1)) (v2 : (c : Dev Cert.AuKernelIdeal.nD) → Buf (Elt Ideal) ((c.tc : Thread Cert.AuKernelIdeal.nD Cert.AuKernelIdeal.τ).loc Cert.AuKernelIdeal.main_v0_2)) (v3 : (c : Dev Cert.AuKernelIdeal.nD) → Buf (Elt Ideal) ((c.tc : Thread Cert.AuKernelIdeal.nD Cert.AuKernelIdeal.τ).loc Cert.AuKernelIdeal.main_v0_3)),
      θ_run (Cert.AuKernelIdeal.defs (F := Ideal)) (onTc (τ := Cert.AuKernelIdeal.τ) (Cert.AuKernelIdeal.main (F := Ideal))) ⟨m, fun _ => 0, g⟩ (fun r => ∀ c : Dev Cert.AuKernelIdeal.nD,
          r.2.mem ((c.tc : Thread Cert.AuKernelIdeal.nD Cert.AuKernelIdeal.τ).loc Cert.AuKernelIdeal.main_v0_0) = v0 c
          ∧ r.2.mem ((c.tc : Thread Cert.AuKernelIdeal.nD Cert.AuKernelIdeal.τ).loc Cert.AuKernelIdeal.main_v0_1) = v1 c
          ∧ r.2.mem ((c.tc : Thread Cert.AuKernelIdeal.nD Cert.AuKernelIdeal.τ).loc Cert.AuKernelIdeal.main_v0_2) = v2 c
          ∧ r.2.mem ((c.tc : Thread Cert.AuKernelIdeal.nD Cert.AuKernelIdeal.τ).loc Cert.AuKernelIdeal.main_v0_3) = v3 c
          ∧ r.2.mem ((c.tc : Thread Cert.AuKernelIdeal.nD Cert.AuKernelIdeal.τ).loc Cert.AuKernelIdeal.main_arg0) = m ((c.tc : Thread Cert.AuKernelIdeal.nD Cert.AuKernelIdeal.τ).loc Cert.AuKernelIdeal.main_arg0)
          ∧ r.2.mem ((c.tc : Thread Cert.AuKernelIdeal.nD Cert.AuKernelIdeal.τ).loc Cert.AuKernelIdeal.main_arg1) = m ((c.tc : Thread Cert.AuKernelIdeal.nD Cert.AuKernelIdeal.τ).loc Cert.AuKernelIdeal.main_arg1)
          ∧ r.2.mem ((c.tc : Thread Cert.AuKernelIdeal.nD Cert.AuKernelIdeal.τ).loc Cert.AuKernelIdeal.main_arg2) = m ((c.tc : Thread Cert.AuKernelIdeal.nD Cert.AuKernelIdeal.τ).loc Cert.AuKernelIdeal.main_arg2)
          ∧ r.2.mem ((c.tc : Thread Cert.AuKernelIdeal.nD Cert.AuKernelIdeal.τ).loc Cert.AuKernelIdeal.main_arg3) = m ((c.tc : Thread Cert.AuKernelIdeal.nD Cert.AuKernelIdeal.τ).loc Cert.AuKernelIdeal.main_arg3))
      ∧ θ_run (Cert.AuReferenceIdeal.defs (F := Ideal)) (onTc (τ := Cert.AuReferenceIdeal.τ) (Cert.AuReferenceIdeal.main (F := Ideal))) ⟨m', fun _ => 0, g'⟩ (fun r => ∀ c : Dev Cert.AuReferenceIdeal.nD,
          r.2.mem ((c.tc : Thread Cert.AuReferenceIdeal.nD Cert.AuReferenceIdeal.τ).loc Cert.AuReferenceIdeal.main_v23) = v0 c
          ∧ r.2.mem ((c.tc : Thread Cert.AuReferenceIdeal.nD Cert.AuReferenceIdeal.τ).loc Cert.AuReferenceIdeal.main_v4) = v1 c
          ∧ r.2.mem ((c.tc : Thread Cert.AuReferenceIdeal.nD Cert.AuReferenceIdeal.τ).loc Cert.AuReferenceIdeal.main_v10) = v2 c
          ∧ r.2.mem ((c.tc : Thread Cert.AuReferenceIdeal.nD Cert.AuReferenceIdeal.τ).loc Cert.AuReferenceIdeal.main_arg1) = v3 c
          ∧ r.2.mem ((c.tc : Thread Cert.AuReferenceIdeal.nD Cert.AuReferenceIdeal.τ).loc Cert.AuReferenceIdeal.main_arg0) = m' ((c.tc : Thread Cert.AuReferenceIdeal.nD Cert.AuReferenceIdeal.τ).loc Cert.AuReferenceIdeal.main_arg0)
          ∧ r.2.mem ((c.tc : Thread Cert.AuReferenceIdeal.nD Cert.AuReferenceIdeal.τ).loc Cert.AuReferenceIdeal.main_arg1) = m' ((c.tc : Thread Cert.AuReferenceIdeal.nD Cert.AuReferenceIdeal.τ).loc Cert.AuReferenceIdeal.main_arg1)
          ∧ r.2.mem ((c.tc : Thread Cert.AuReferenceIdeal.nD Cert.AuReferenceIdeal.τ).loc Cert.AuReferenceIdeal.main_arg2) = m' ((c.tc : Thread Cert.AuReferenceIdeal.nD Cert.AuReferenceIdeal.τ).loc Cert.AuReferenceIdeal.main_arg2)
          ∧ r.2.mem ((c.tc : Thread Cert.AuReferenceIdeal.nD Cert.AuReferenceIdeal.τ).loc Cert.AuReferenceIdeal.main_arg3) = m' ((c.tc : Thread Cert.AuReferenceIdeal.nD Cert.AuReferenceIdeal.τ).loc Cert.AuReferenceIdeal.main_arg3))

def preserves_AdKernel_AdKernelIdeal : Prop :=
  True

def algebraic_AdKernelIdeal_AdReferenceIdeal [hAdKernelIdeal : Cert.AdKernelIdeal.Facts] [hAdReferenceIdeal : Cert.AdReferenceIdeal.Facts] : Prop :=
  ∀ (m : (ℓ : Loc Cert.AdKernelIdeal.nD Cert.AdKernelIdeal.τ Cert.AdKernelIdeal.sig) → Buf (Elt Ideal) ℓ) (g : Dev Cert.AdKernelIdeal.nD → PrngReg)
    (m' : (ℓ : Loc Cert.AdReferenceIdeal.nD Cert.AdReferenceIdeal.τ Cert.AdReferenceIdeal.sig) → Buf (Elt Ideal) ℓ) (g' : Dev Cert.AdReferenceIdeal.nD → PrngReg), Pre_AdKernelIdeal m →
    (∀ c : Dev Cert.AdKernelIdeal.nD,
      m' ((c.tc : Thread Cert.AdReferenceIdeal.nD Cert.AdReferenceIdeal.τ).loc Cert.AdReferenceIdeal.main_arg0) = m ((c.tc : Thread Cert.AdKernelIdeal.nD Cert.AdKernelIdeal.τ).loc Cert.AdKernelIdeal.main_arg0)
      ∧ m' ((c.tc : Thread Cert.AdReferenceIdeal.nD Cert.AdReferenceIdeal.τ).loc Cert.AdReferenceIdeal.main_arg1) = m ((c.tc : Thread Cert.AdKernelIdeal.nD Cert.AdKernelIdeal.τ).loc Cert.AdKernelIdeal.main_arg1)
      ∧ m' ((c.tc : Thread Cert.AdReferenceIdeal.nD Cert.AdReferenceIdeal.τ).loc Cert.AdReferenceIdeal.main_arg2) = m ((c.tc : Thread Cert.AdKernelIdeal.nD Cert.AdKernelIdeal.τ).loc Cert.AdKernelIdeal.main_arg2)
      ∧ m' ((c.tc : Thread Cert.AdReferenceIdeal.nD Cert.AdReferenceIdeal.τ).loc Cert.AdReferenceIdeal.main_arg3) = m ((c.tc : Thread Cert.AdKernelIdeal.nD Cert.AdKernelIdeal.τ).loc Cert.AdKernelIdeal.main_arg3)) →
    ∃ (v0 : (c : Dev Cert.AdKernelIdeal.nD) → Buf (Elt Ideal) ((c.tc : Thread Cert.AdKernelIdeal.nD Cert.AdKernelIdeal.τ).loc Cert.AdKernelIdeal.main_v0_0)) (v1 : (c : Dev Cert.AdKernelIdeal.nD) → Buf (Elt Ideal) ((c.tc : Thread Cert.AdKernelIdeal.nD Cert.AdKernelIdeal.τ).loc Cert.AdKernelIdeal.main_v0_1)) (v2 : (c : Dev Cert.AdKernelIdeal.nD) → Buf (Elt Ideal) ((c.tc : Thread Cert.AdKernelIdeal.nD Cert.AdKernelIdeal.τ).loc Cert.AdKernelIdeal.main_v0_2)) (v3 : (c : Dev Cert.AdKernelIdeal.nD) → Buf (Elt Ideal) ((c.tc : Thread Cert.AdKernelIdeal.nD Cert.AdKernelIdeal.τ).loc Cert.AdKernelIdeal.main_v0_3)),
      θ_run (Cert.AdKernelIdeal.defs (F := Ideal)) (onTc (τ := Cert.AdKernelIdeal.τ) (Cert.AdKernelIdeal.main (F := Ideal))) ⟨m, fun _ => 0, g⟩ (fun r => ∀ c : Dev Cert.AdKernelIdeal.nD,
          r.2.mem ((c.tc : Thread Cert.AdKernelIdeal.nD Cert.AdKernelIdeal.τ).loc Cert.AdKernelIdeal.main_v0_0) = v0 c
          ∧ r.2.mem ((c.tc : Thread Cert.AdKernelIdeal.nD Cert.AdKernelIdeal.τ).loc Cert.AdKernelIdeal.main_v0_1) = v1 c
          ∧ r.2.mem ((c.tc : Thread Cert.AdKernelIdeal.nD Cert.AdKernelIdeal.τ).loc Cert.AdKernelIdeal.main_v0_2) = v2 c
          ∧ r.2.mem ((c.tc : Thread Cert.AdKernelIdeal.nD Cert.AdKernelIdeal.τ).loc Cert.AdKernelIdeal.main_v0_3) = v3 c
          ∧ r.2.mem ((c.tc : Thread Cert.AdKernelIdeal.nD Cert.AdKernelIdeal.τ).loc Cert.AdKernelIdeal.main_arg0) = m ((c.tc : Thread Cert.AdKernelIdeal.nD Cert.AdKernelIdeal.τ).loc Cert.AdKernelIdeal.main_arg0)
          ∧ r.2.mem ((c.tc : Thread Cert.AdKernelIdeal.nD Cert.AdKernelIdeal.τ).loc Cert.AdKernelIdeal.main_arg1) = m ((c.tc : Thread Cert.AdKernelIdeal.nD Cert.AdKernelIdeal.τ).loc Cert.AdKernelIdeal.main_arg1)
          ∧ r.2.mem ((c.tc : Thread Cert.AdKernelIdeal.nD Cert.AdKernelIdeal.τ).loc Cert.AdKernelIdeal.main_arg2) = m ((c.tc : Thread Cert.AdKernelIdeal.nD Cert.AdKernelIdeal.τ).loc Cert.AdKernelIdeal.main_arg2)
          ∧ r.2.mem ((c.tc : Thread Cert.AdKernelIdeal.nD Cert.AdKernelIdeal.τ).loc Cert.AdKernelIdeal.main_arg3) = m ((c.tc : Thread Cert.AdKernelIdeal.nD Cert.AdKernelIdeal.τ).loc Cert.AdKernelIdeal.main_arg3))
      ∧ θ_run (Cert.AdReferenceIdeal.defs (F := Ideal)) (onTc (τ := Cert.AdReferenceIdeal.τ) (Cert.AdReferenceIdeal.main (F := Ideal))) ⟨m', fun _ => 0, g'⟩ (fun r => ∀ c : Dev Cert.AdReferenceIdeal.nD,
          r.2.mem ((c.tc : Thread Cert.AdReferenceIdeal.nD Cert.AdReferenceIdeal.τ).loc Cert.AdReferenceIdeal.main_v23) = v0 c
          ∧ r.2.mem ((c.tc : Thread Cert.AdReferenceIdeal.nD Cert.AdReferenceIdeal.τ).loc Cert.AdReferenceIdeal.main_v4) = v1 c
          ∧ r.2.mem ((c.tc : Thread Cert.AdReferenceIdeal.nD Cert.AdReferenceIdeal.τ).loc Cert.AdReferenceIdeal.main_v10) = v2 c
          ∧ r.2.mem ((c.tc : Thread Cert.AdReferenceIdeal.nD Cert.AdReferenceIdeal.τ).loc Cert.AdReferenceIdeal.main_arg1) = v3 c
          ∧ r.2.mem ((c.tc : Thread Cert.AdReferenceIdeal.nD Cert.AdReferenceIdeal.τ).loc Cert.AdReferenceIdeal.main_arg0) = m' ((c.tc : Thread Cert.AdReferenceIdeal.nD Cert.AdReferenceIdeal.τ).loc Cert.AdReferenceIdeal.main_arg0)
          ∧ r.2.mem ((c.tc : Thread Cert.AdReferenceIdeal.nD Cert.AdReferenceIdeal.τ).loc Cert.AdReferenceIdeal.main_arg1) = m' ((c.tc : Thread Cert.AdReferenceIdeal.nD Cert.AdReferenceIdeal.τ).loc Cert.AdReferenceIdeal.main_arg1)
          ∧ r.2.mem ((c.tc : Thread Cert.AdReferenceIdeal.nD Cert.AdReferenceIdeal.τ).loc Cert.AdReferenceIdeal.main_arg2) = m' ((c.tc : Thread Cert.AdReferenceIdeal.nD Cert.AdReferenceIdeal.τ).loc Cert.AdReferenceIdeal.main_arg2)
          ∧ r.2.mem ((c.tc : Thread Cert.AdReferenceIdeal.nD Cert.AdReferenceIdeal.τ).loc Cert.AdReferenceIdeal.main_arg3) = m' ((c.tc : Thread Cert.AdReferenceIdeal.nD Cert.AdReferenceIdeal.τ).loc Cert.AdReferenceIdeal.main_arg3))

def preserves_AsKernel_AsKernelIdeal : Prop :=
  True

def algebraic_AsKernelIdeal_AsReferenceIdeal [hAsKernelIdeal : Cert.AsKernelIdeal.Facts] [hAsReferenceIdeal : Cert.AsReferenceIdeal.Facts] : Prop :=
  ∀ (m : (ℓ : Loc Cert.AsKernelIdeal.nD Cert.AsKernelIdeal.τ Cert.AsKernelIdeal.sig) → Buf (Elt Ideal) ℓ) (g : Dev Cert.AsKernelIdeal.nD → PrngReg)
    (m' : (ℓ : Loc Cert.AsReferenceIdeal.nD Cert.AsReferenceIdeal.τ Cert.AsReferenceIdeal.sig) → Buf (Elt Ideal) ℓ) (g' : Dev Cert.AsReferenceIdeal.nD → PrngReg), Pre_AsKernelIdeal m →
    (∀ c : Dev Cert.AsKernelIdeal.nD,
      m' ((c.tc : Thread Cert.AsReferenceIdeal.nD Cert.AsReferenceIdeal.τ).loc Cert.AsReferenceIdeal.main_arg0) = m ((c.tc : Thread Cert.AsKernelIdeal.nD Cert.AsKernelIdeal.τ).loc Cert.AsKernelIdeal.main_arg0)
      ∧ m' ((c.tc : Thread Cert.AsReferenceIdeal.nD Cert.AsReferenceIdeal.τ).loc Cert.AsReferenceIdeal.main_arg1) = m ((c.tc : Thread Cert.AsKernelIdeal.nD Cert.AsKernelIdeal.τ).loc Cert.AsKernelIdeal.main_arg1)
      ∧ m' ((c.tc : Thread Cert.AsReferenceIdeal.nD Cert.AsReferenceIdeal.τ).loc Cert.AsReferenceIdeal.main_arg2) = m ((c.tc : Thread Cert.AsKernelIdeal.nD Cert.AsKernelIdeal.τ).loc Cert.AsKernelIdeal.main_arg2)
      ∧ m' ((c.tc : Thread Cert.AsReferenceIdeal.nD Cert.AsReferenceIdeal.τ).loc Cert.AsReferenceIdeal.main_arg3) = m ((c.tc : Thread Cert.AsKernelIdeal.nD Cert.AsKernelIdeal.τ).loc Cert.AsKernelIdeal.main_arg3)) →
    ∃ (v0 : (c : Dev Cert.AsKernelIdeal.nD) → Buf (Elt Ideal) ((c.tc : Thread Cert.AsKernelIdeal.nD Cert.AsKernelIdeal.τ).loc Cert.AsKernelIdeal.main_v0_0)) (v1 : (c : Dev Cert.AsKernelIdeal.nD) → Buf (Elt Ideal) ((c.tc : Thread Cert.AsKernelIdeal.nD Cert.AsKernelIdeal.τ).loc Cert.AsKernelIdeal.main_v0_1)) (v2 : (c : Dev Cert.AsKernelIdeal.nD) → Buf (Elt Ideal) ((c.tc : Thread Cert.AsKernelIdeal.nD Cert.AsKernelIdeal.τ).loc Cert.AsKernelIdeal.main_v0_2)) (v3 : (c : Dev Cert.AsKernelIdeal.nD) → Buf (Elt Ideal) ((c.tc : Thread Cert.AsKernelIdeal.nD Cert.AsKernelIdeal.τ).loc Cert.AsKernelIdeal.main_v0_3)),
      θ_run (Cert.AsKernelIdeal.defs (F := Ideal)) (onTc (τ := Cert.AsKernelIdeal.τ) (Cert.AsKernelIdeal.main (F := Ideal))) ⟨m, fun _ => 0, g⟩ (fun r => ∀ c : Dev Cert.AsKernelIdeal.nD,
          r.2.mem ((c.tc : Thread Cert.AsKernelIdeal.nD Cert.AsKernelIdeal.τ).loc Cert.AsKernelIdeal.main_v0_0) = v0 c
          ∧ r.2.mem ((c.tc : Thread Cert.AsKernelIdeal.nD Cert.AsKernelIdeal.τ).loc Cert.AsKernelIdeal.main_v0_1) = v1 c
          ∧ r.2.mem ((c.tc : Thread Cert.AsKernelIdeal.nD Cert.AsKernelIdeal.τ).loc Cert.AsKernelIdeal.main_v0_2) = v2 c
          ∧ r.2.mem ((c.tc : Thread Cert.AsKernelIdeal.nD Cert.AsKernelIdeal.τ).loc Cert.AsKernelIdeal.main_v0_3) = v3 c
          ∧ r.2.mem ((c.tc : Thread Cert.AsKernelIdeal.nD Cert.AsKernelIdeal.τ).loc Cert.AsKernelIdeal.main_arg0) = m ((c.tc : Thread Cert.AsKernelIdeal.nD Cert.AsKernelIdeal.τ).loc Cert.AsKernelIdeal.main_arg0)
          ∧ r.2.mem ((c.tc : Thread Cert.AsKernelIdeal.nD Cert.AsKernelIdeal.τ).loc Cert.AsKernelIdeal.main_arg1) = m ((c.tc : Thread Cert.AsKernelIdeal.nD Cert.AsKernelIdeal.τ).loc Cert.AsKernelIdeal.main_arg1)
          ∧ r.2.mem ((c.tc : Thread Cert.AsKernelIdeal.nD Cert.AsKernelIdeal.τ).loc Cert.AsKernelIdeal.main_arg2) = m ((c.tc : Thread Cert.AsKernelIdeal.nD Cert.AsKernelIdeal.τ).loc Cert.AsKernelIdeal.main_arg2)
          ∧ r.2.mem ((c.tc : Thread Cert.AsKernelIdeal.nD Cert.AsKernelIdeal.τ).loc Cert.AsKernelIdeal.main_arg3) = m ((c.tc : Thread Cert.AsKernelIdeal.nD Cert.AsKernelIdeal.τ).loc Cert.AsKernelIdeal.main_arg3))
      ∧ θ_run (Cert.AsReferenceIdeal.defs (F := Ideal)) (onTc (τ := Cert.AsReferenceIdeal.τ) (Cert.AsReferenceIdeal.main (F := Ideal))) ⟨m', fun _ => 0, g'⟩ (fun r => ∀ c : Dev Cert.AsReferenceIdeal.nD,
          r.2.mem ((c.tc : Thread Cert.AsReferenceIdeal.nD Cert.AsReferenceIdeal.τ).loc Cert.AsReferenceIdeal.main_v23) = v0 c
          ∧ r.2.mem ((c.tc : Thread Cert.AsReferenceIdeal.nD Cert.AsReferenceIdeal.τ).loc Cert.AsReferenceIdeal.main_v4) = v1 c
          ∧ r.2.mem ((c.tc : Thread Cert.AsReferenceIdeal.nD Cert.AsReferenceIdeal.τ).loc Cert.AsReferenceIdeal.main_v10) = v2 c
          ∧ r.2.mem ((c.tc : Thread Cert.AsReferenceIdeal.nD Cert.AsReferenceIdeal.τ).loc Cert.AsReferenceIdeal.main_arg1) = v3 c
          ∧ r.2.mem ((c.tc : Thread Cert.AsReferenceIdeal.nD Cert.AsReferenceIdeal.τ).loc Cert.AsReferenceIdeal.main_arg0) = m' ((c.tc : Thread Cert.AsReferenceIdeal.nD Cert.AsReferenceIdeal.τ).loc Cert.AsReferenceIdeal.main_arg0)
          ∧ r.2.mem ((c.tc : Thread Cert.AsReferenceIdeal.nD Cert.AsReferenceIdeal.τ).loc Cert.AsReferenceIdeal.main_arg1) = m' ((c.tc : Thread Cert.AsReferenceIdeal.nD Cert.AsReferenceIdeal.τ).loc Cert.AsReferenceIdeal.main_arg1)
          ∧ r.2.mem ((c.tc : Thread Cert.AsReferenceIdeal.nD Cert.AsReferenceIdeal.τ).loc Cert.AsReferenceIdeal.main_arg2) = m' ((c.tc : Thread Cert.AsReferenceIdeal.nD Cert.AsReferenceIdeal.τ).loc Cert.AsReferenceIdeal.main_arg2)
          ∧ r.2.mem ((c.tc : Thread Cert.AsReferenceIdeal.nD Cert.AsReferenceIdeal.τ).loc Cert.AsReferenceIdeal.main_arg3) = m' ((c.tc : Thread Cert.AsReferenceIdeal.nD Cert.AsReferenceIdeal.τ).loc Cert.AsReferenceIdeal.main_arg3))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hProjKernel : Cert.ProjKernel.Facts) (hProjKernelIdeal : Cert.ProjKernelIdeal.Facts) (hProjReferenceIdeal : Cert.ProjReferenceIdeal.Facts) (hDn1Kernel : Cert.Dn1Kernel.Facts) (hDn1KernelIdeal : Cert.Dn1KernelIdeal.Facts) (hDn1ReferenceIdeal : Cert.Dn1ReferenceIdeal.Facts) (hDn2Kernel : Cert.Dn2Kernel.Facts) (hDn2KernelIdeal : Cert.Dn2KernelIdeal.Facts) (hDn2ReferenceIdeal : Cert.Dn2ReferenceIdeal.Facts) (hLossKernel : Cert.LossKernel.Facts) (hLossKernelIdeal : Cert.LossKernelIdeal.Facts) (hLossReferenceIdeal : Cert.LossReferenceIdeal.Facts) (hMidKernel : Cert.MidKernel.Facts) (hMidKernelIdeal : Cert.MidKernelIdeal.Facts) (hMidReferenceIdeal : Cert.MidReferenceIdeal.Facts) (hPnKernel : Cert.PnKernel.Facts) (hPnKernelIdeal : Cert.PnKernelIdeal.Facts) (hPnReferenceIdeal : Cert.PnReferenceIdeal.Facts) (hMfKernel : Cert.MfKernel.Facts) (hMfKernelIdeal : Cert.MfKernelIdeal.Facts) (hMfReferenceIdeal : Cert.MfReferenceIdeal.Facts) (hAiKernel : Cert.AiKernel.Facts) (hAiKernelIdeal : Cert.AiKernelIdeal.Facts) (hAiReferenceIdeal : Cert.AiReferenceIdeal.Facts) (hAoKernel : Cert.AoKernel.Facts) (hAoKernelIdeal : Cert.AoKernelIdeal.Facts) (hAoReferenceIdeal : Cert.AoReferenceIdeal.Facts) (hAuKernel : Cert.AuKernel.Facts) (hAuKernelIdeal : Cert.AuKernelIdeal.Facts) (hAuReferenceIdeal : Cert.AuReferenceIdeal.Facts) (hAdKernel : Cert.AdKernel.Facts) (hAdKernelIdeal : Cert.AdKernelIdeal.Facts) (hAdReferenceIdeal : Cert.AdReferenceIdeal.Facts) (hAsKernel : Cert.AsKernel.Facts) (hAsKernelIdeal : Cert.AsKernelIdeal.Facts) (hAsReferenceIdeal : Cert.AsReferenceIdeal.Facts) (hPre_finite : Cert.Pre_finite.Facts) (hPre_ffn_finite : Cert.Pre_ffn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_Dn1Kernel (hDn1Kernel := hDn1Kernel)
    ∧ quiescent_Dn1KernelIdeal (hDn1KernelIdeal := hDn1KernelIdeal)
    ∧ quiescent_Dn1ReferenceIdeal (hDn1ReferenceIdeal := hDn1ReferenceIdeal)
    ∧ quiescent_Dn2Kernel (hDn2Kernel := hDn2Kernel)
    ∧ quiescent_Dn2KernelIdeal (hDn2KernelIdeal := hDn2KernelIdeal)
    ∧ quiescent_Dn2ReferenceIdeal (hDn2ReferenceIdeal := hDn2ReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_MidKernel (hMidKernel := hMidKernel)
    ∧ quiescent_MidKernelIdeal (hMidKernelIdeal := hMidKernelIdeal)
    ∧ quiescent_MidReferenceIdeal (hMidReferenceIdeal := hMidReferenceIdeal)
    ∧ quiescent_PnKernel (hPnKernel := hPnKernel)
    ∧ quiescent_PnKernelIdeal (hPnKernelIdeal := hPnKernelIdeal)
    ∧ quiescent_PnReferenceIdeal (hPnReferenceIdeal := hPnReferenceIdeal)
    ∧ quiescent_MfKernel (hMfKernel := hMfKernel)
    ∧ quiescent_MfKernelIdeal (hMfKernelIdeal := hMfKernelIdeal)
    ∧ quiescent_MfReferenceIdeal (hMfReferenceIdeal := hMfReferenceIdeal)
    ∧ quiescent_AiKernel (hAiKernel := hAiKernel)
    ∧ quiescent_AiKernelIdeal (hAiKernelIdeal := hAiKernelIdeal)
    ∧ quiescent_AiReferenceIdeal (hAiReferenceIdeal := hAiReferenceIdeal)
    ∧ quiescent_AoKernel (hAoKernel := hAoKernel)
    ∧ quiescent_AoKernelIdeal (hAoKernelIdeal := hAoKernelIdeal)
    ∧ quiescent_AoReferenceIdeal (hAoReferenceIdeal := hAoReferenceIdeal)
    ∧ quiescent_AuKernel (hAuKernel := hAuKernel)
    ∧ quiescent_AuKernelIdeal (hAuKernelIdeal := hAuKernelIdeal)
    ∧ quiescent_AuReferenceIdeal (hAuReferenceIdeal := hAuReferenceIdeal)
    ∧ quiescent_AdKernel (hAdKernel := hAdKernel)
    ∧ quiescent_AdKernelIdeal (hAdKernelIdeal := hAdKernelIdeal)
    ∧ quiescent_AdReferenceIdeal (hAdReferenceIdeal := hAdReferenceIdeal)
    ∧ quiescent_AsKernel (hAsKernel := hAsKernel)
    ∧ quiescent_AsKernelIdeal (hAsKernelIdeal := hAsKernelIdeal)
    ∧ quiescent_AsReferenceIdeal (hAsReferenceIdeal := hAsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_ProjKernel_ProjKernelIdeal
    ∧ algebraic_ProjKernelIdeal_ProjReferenceIdeal (hProjKernelIdeal := hProjKernelIdeal) (hProjReferenceIdeal := hProjReferenceIdeal)
    ∧ preserves_Dn1Kernel_Dn1KernelIdeal
    ∧ algebraic_Dn1KernelIdeal_Dn1ReferenceIdeal (hDn1KernelIdeal := hDn1KernelIdeal) (hDn1ReferenceIdeal := hDn1ReferenceIdeal)
    ∧ preserves_Dn2Kernel_Dn2KernelIdeal
    ∧ algebraic_Dn2KernelIdeal_Dn2ReferenceIdeal (hDn2KernelIdeal := hDn2KernelIdeal) (hDn2ReferenceIdeal := hDn2ReferenceIdeal)
    ∧ preserves_LossKernel_LossKernelIdeal
    ∧ algebraic_LossKernelIdeal_LossReferenceIdeal (hLossKernelIdeal := hLossKernelIdeal) (hLossReferenceIdeal := hLossReferenceIdeal)
    ∧ preserves_MidKernel_MidKernelIdeal
    ∧ algebraic_MidKernelIdeal_MidReferenceIdeal (hMidKernelIdeal := hMidKernelIdeal) (hMidReferenceIdeal := hMidReferenceIdeal)
    ∧ preserves_PnKernel_PnKernelIdeal
    ∧ algebraic_PnKernelIdeal_PnReferenceIdeal (hPnKernelIdeal := hPnKernelIdeal) (hPnReferenceIdeal := hPnReferenceIdeal)
    ∧ preserves_MfKernel_MfKernelIdeal
    ∧ algebraic_MfKernelIdeal_MfReferenceIdeal (hMfKernelIdeal := hMfKernelIdeal) (hMfReferenceIdeal := hMfReferenceIdeal)
    ∧ preserves_AiKernel_AiKernelIdeal
    ∧ algebraic_AiKernelIdeal_AiReferenceIdeal (hAiKernelIdeal := hAiKernelIdeal) (hAiReferenceIdeal := hAiReferenceIdeal)
    ∧ preserves_AoKernel_AoKernelIdeal
    ∧ algebraic_AoKernelIdeal_AoReferenceIdeal (hAoKernelIdeal := hAoKernelIdeal) (hAoReferenceIdeal := hAoReferenceIdeal)
    ∧ preserves_AuKernel_AuKernelIdeal
    ∧ algebraic_AuKernelIdeal_AuReferenceIdeal (hAuKernelIdeal := hAuKernelIdeal) (hAuReferenceIdeal := hAuReferenceIdeal)
    ∧ preserves_AdKernel_AdKernelIdeal
    ∧ algebraic_AdKernelIdeal_AdReferenceIdeal (hAdKernelIdeal := hAdKernelIdeal) (hAdReferenceIdeal := hAdReferenceIdeal)
    ∧ preserves_AsKernel_AsKernelIdeal
    ∧ algebraic_AsKernelIdeal_AsReferenceIdeal (hAsKernelIdeal := hAsKernelIdeal) (hAsReferenceIdeal := hAsReferenceIdeal)
-- ==== Pre_ffn_finite.lean ====
abbrev S4112x4096 : Shape := ⟨2, ![4112, 4096]⟩
abbrev S4096x22016 : Shape := ⟨2, ![4096, 22016]⟩
abbrev S3x11008 : Shape := ⟨2, ![3, 11008]⟩
abbrev S1x11008 : Shape := ⟨2, ![1, 11008]⟩
abbrev S11008x4096 : Shape := ⟨2, ![11008, 4096]⟩
abbrev S_ : Shape := ⟨0, ![]⟩
abbrev S4096x11008 : Shape := ⟨2, ![4096, 11008]⟩

class Facts : Prop where
  bcast_S_S4112x4096 : S_.BroadcastsInDim S4112x4096 (![] : Fin 0 → Fin S4112x4096.rank)
  reducesTo_S4112x4096_S_d0_1 : S4112x4096.ReducesTo [0, 1] S_
  h_S_ : 0 < S_.numel
  slices_S4096x22016_S4096x11008_0_11008 : S4096x22016.Slices ![0, 11008] S4096x11008
  bcast_S_S4096x11008 : S_.BroadcastsInDim S4096x11008 (![] : Fin 0 → Fin S4096x11008.rank)
  reducesTo_S4096x11008_S_d0_1 : S4096x11008.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_v14 : IVec S_ 1) (main_v15 : FVec F S4112x4096 .f32) (main_v16 : FVec F S4112x4096 .f32) : IVec S_ 1 :=
  let main_v17 : IVec S4112x4096 1 := cmpf .olt main_v15 main_v16
  let main_c_5 : IVec S_ 1 := constantI S_ 1 1#1
  let main_v18 : IVec S_ 1 := (fun x v => Host.reduce IntOp.andi x v reducesTo_S4112x4096_S_d0_1 h_S_) main_v17 main_c_5
  let main_v19 : IVec S_ 1 := andi main_v14 main_v18
  main_v19

def fn {F : FTy → Type} [FloatOps F] (main_arg0 : FVec F S4112x4096 .f32) (main_arg1 : FVec F S4096x22016 .f32) (main_arg2 : FVec F S3x11008 .f32) (main_arg3 : FVec F S1x11008 .f32) (main_arg4 : FVec F S11008x4096 .f32) (main_arg5 : FVec F S4112x4096 .f32) : IVec S_ 1 :=
  let main_v0 : FVec F S4112x4096 .f32 := Host.absf main_arg0
  let main_cst : FVec F S_ .f32 := constant S_ .f32 0x7F800000#32
  let main_v1 : FVec F S4112x4096 .f32 := broadcastInDim S4112x4096 ![] bcast_S_S4112x4096 main_cst
  let main_v2 : IVec S4112x4096 1 := cmpf .olt main_v0 main_v1
  let main_c : IVec S_ 1 := constantI S_ 1 1#1
  let main_v3 : IVec S_ 1 := (fun x v => Host.reduce IntOp.andi x v reducesTo_S4112x4096_S_d0_1 h_S_) main_v2 main_c
  let main_v4 : FVec F S4096x11008 .f32 := (extractStridedSlice S4096x11008 ![0, 11008] · slices_S4096x22016_S4096x11008_0_11008) main_arg1
  let main_v5 : FVec F S4096x11008 .f32 := Host.absf main_v4
  let main_cst_0 : FVec F S_ .f32 := constant S_ .f32 0x7F800000#32
  let main_v6 : FVec F S4096x11008 .f32 := broadcastInDim S4096x11008 ![] bcast_S_S4096x11008 main_cst_0
  let main_v7 : IVec S4096x11008 1 := cmpf .olt main_v5 main_v6
  let main_c_1 : IVec S_ 1 := constantI S_ 1 1#1
  let main_v8 : IVec S_ 1 := (fun x v => Host.reduce IntOp.andi x v reducesTo_S4096x11008_S_d0_1 h_S_) main_v7 main_c_1
  let main_v9 : IVec S_ 1 := andi main_v3 main_v8
  let main_v10 : FVec F S11008x4096 .f32 := Host.absf main_arg4
  let main_cst_2 : FVec F S_ .f32 := constant S_ .f32 0x7F800000#32
  let main_v11 : FVec F S11008x4096 .f32 := broadcastInDim S11008x4096 ![] bcast_S_S11008x4096 main_cst_2
  let main_v12 : IVec S11008x4096 1 := cmpf .olt main_v10 main_v11
  let main_c_3 : IVec S_ 1 := constantI S_ 1 1#1
  let main_v13 : IVec S_ 1 := (fun x v => Host.reduce IntOp.andi x v reducesTo_S11008x4096_S_d0_1 h_S_) main_v12 main_c_3
  let main_v14 : IVec S_ 1 := andi main_v9 main_v13
  let main_v15 : FVec F S4112x4096 .f32 := Host.absf main_arg5
  let main_cst_4 : FVec F S_ .f32 := constant S_ .f32 0x7F800000#32
  let main_v16 : FVec F S4112x4096 .f32 := broadcastInDim S4112x4096 ![] bcast_S_S4112x4096 main_cst_4
  fn_part1 (F := F) main_v14 main_v15 main_v16
-- ==== Pre_finite.lean ====
abbrev S4112x14336 : Shape := ⟨2, ![4112, 14336]⟩
abbrev S1x2048 : Shape := ⟨2, ![1, 2048]⟩
abbrev S4112x4096 : Shape := ⟨2, ![4112, 4096]⟩
abbrev S_ : Shape := ⟨0, ![]⟩
abbrev S4112x2048 : Shape := ⟨2, ![4112, 2048]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  slices_S4112x4096_S4112x2048_0_0 : S4112x4096.Slices ![0, 0] S4112x2048
  bcast_S_S4112x2048 : S_.BroadcastsInDim S4112x2048 (![] : Fin 0 → Fin S4112x2048.rank)
  reducesTo_S4112x2048_S_d0_1 : S4112x2048.ReducesTo [0, 1] S_

variable [Facts]

def fn {F : FTy → Type} [FloatOps F] (main_arg0 : FVec F S4112x14336 .f32) (main_arg1 : FVec F S1x2048 .f32) (main_arg2 : FVec F S4112x4096 .f32) : IVec S_ 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S4112x2048 .f32 := (extractStridedSlice S4112x2048 ![0, 0] · slices_S4112x4096_S4112x2048_0_0) main_arg2
  let main_v5 : FVec F S4112x2048 .f32 := Host.absf main_v4
  let main_cst_0 : FVec F S_ .f32 := constant S_ .f32 0x7F800000#32
  let main_v6 : FVec F S4112x2048 .f32 := broadcastInDim S4112x2048 ![] bcast_S_S4112x2048 main_cst_0
  let main_v7 : IVec S4112x2048 1 := cmpf .olt main_v5 main_v6
  let main_c_1 : IVec S_ 1 := constantI S_ 1 1#1
  let main_v8 : IVec S_ 1 := (fun x v => Host.reduce IntOp.andi x v reducesTo_S4112x2048_S_d0_1 h_S_) main_v7 main_c_1
  let main_v9 : IVec S_ 1 := andi main_v3 main_v8
  main_v9
-- ==== Kernel.lean ====
abbrev S4112x14336 : Shape := ⟨2, ![4112, 14336]⟩
abbrev S1x2048 : Shape := ⟨2, ![1, 2048]⟩
abbrev S4112x4096 : Shape := ⟨2, ![4112, 4096]⟩
abbrev S_ : Shape := ⟨0, ![]⟩
abbrev S112x14336 : Shape := ⟨2, ![112, 14336]⟩
abbrev S4224x14336 : Shape := ⟨2, ![4224, 14336]⟩
abbrev S112x4096 : Shape := ⟨2, ![112, 4096]⟩
abbrev S4224x4096 : Shape := ⟨2, ![4224, 4096]⟩
abbrev S4224 : Shape := ⟨1, ![4224]⟩
abbrev S128 : Shape := ⟨1, ![128]⟩
abbrev S4224x1 : Shape := ⟨2, ![4224, 1]⟩
abbrev S1x128 : Shape := ⟨2, ![1, 128]⟩
abbrev S4224x128 : Shape := ⟨2, ![4224, 128]⟩
abbrev S8 : Shape := ⟨1, ![8]⟩
abbrev S128x1 : Shape := ⟨2, ![128, 1]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S4224x2048 : Shape := ⟨2, ![4224, 2048]⟩
abbrev S8x33x256x256 : Shape := ⟨4, ![8, 33, 256, 256]⟩
abbrev S128x2048 : Shape := ⟨2, ![128, 2048]⟩
abbrev S8x1x256x256 : Shape := ⟨4, ![8, 1, 256, 256]⟩
abbrev S8x256x256 : Shape := ⟨3, ![8, 256, 256]⟩
abbrev S128x256 : Shape := ⟨2, ![128, 256]⟩
abbrev S1x256x256 : Shape := ⟨3, ![1, 256, 256]⟩
abbrev S256x256 : Shape := ⟨2, ![256, 256]⟩
abbrev S1x1x256x256 : Shape := ⟨4, ![1, 1, 256, 256]⟩
abbrev S1x128x1 : Shape := ⟨3, ![1, 128, 1]⟩
abbrev S1x1x1 : Shape := ⟨3, ![1, 1, 1]⟩
abbrev S1x1 : Shape := ⟨2, ![1, 1]⟩
abbrev S1x256 : Shape := ⟨2, ![1, 256]⟩
abbrev S256 : Shape := ⟨1, ![256]⟩
abbrev S4112x2048 : Shape := ⟨2, ![4112, 2048]⟩

abbrev nBuf : Space → Nat
  | .hbm => 101
  | .vmem => 57
  | .smem => 0
  | _ => 0

abbrev bufTy : (tb : Table) → Fin (tcTables nBuf tb) → BufTy
  | .hbm, ⟨0, _⟩ => ⟨S4112x14336, .f32⟩
  | .hbm, ⟨1, _⟩ => ⟨S1x2048, .f32⟩
  | .hbm, ⟨2, _⟩ => ⟨S4112x4096, .f32⟩
  | .hbm, ⟨3, _⟩ => ⟨S_, .f32⟩
  | .hbm, ⟨4, _⟩ => ⟨S112x14336, .f32⟩
  | .hbm, ⟨5, _⟩ => ⟨S4224x14336, .f32⟩
  | .hbm, ⟨6, _⟩ => ⟨S_, .f32⟩
  | .hbm, ⟨7, _⟩ => ⟨S112x4096, .f32⟩
  | .hbm, ⟨8, _⟩ => ⟨S4224x4096, .f32⟩
  | .hbm, ⟨9, _⟩ => ⟨S4224, .f32⟩
  | .hbm, ⟨10, _⟩ => ⟨S_, .f32⟩
  | .hbm, ⟨11, _⟩ => ⟨S4224, .f32⟩
  | .hbm, ⟨12, _⟩ => ⟨S4224, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S4224x1, .f32⟩
  | .hbm, ⟨22, _⟩ => ⟨S1x128, .f32⟩
  | .hbm, ⟨23, _⟩ => ⟨S4224x128, .f32⟩
  | .hbm, ⟨24, _⟩ => ⟨S4224x128, .f32⟩
  | .hbm, ⟨25, _⟩ => ⟨S4224x128, .f32⟩
  | .hbm, ⟨26, _⟩ => ⟨S4224x128, .f32⟩
  | .hbm, ⟨27, _⟩ => ⟨S4224x128, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S128, .f32⟩
  | .hbm, ⟨40, _⟩ => ⟨S128x1, .f32⟩
  | .hbm, ⟨41, _⟩ => ⟨S1x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S1x128x128, .f32⟩
  | .hbm, ⟨46, _⟩ => ⟨S_, .f32⟩
  | .hbm, ⟨47, _⟩ => ⟨S1x128x128, .f32⟩
  | .hbm, ⟨48, _⟩ => ⟨S1x128x128, .i1⟩
  | .hbm, ⟨49, _⟩ => ⟨S_, .f32⟩
  | .hbm, ⟨50, _⟩ => ⟨S128x128, .f32⟩
  | .hbm, ⟨51, _⟩ => ⟨S128x128, .f32⟩
  | .hbm, ⟨52, _⟩ => ⟨S1x128x128, .f32⟩
  | .hbm, ⟨53, _⟩ => ⟨S8x1x1, .f32⟩
  | .hbm, ⟨54, _⟩ => ⟨S8x128x128, .f32⟩
  | .hbm, ⟨55, _⟩ => ⟨S8x128x128, .f32⟩
  | .hbm, ⟨56, _⟩ => ⟨S8x128x128, .f32⟩
  | .hbm, ⟨57, _⟩ => ⟨S8x128x128, .f32⟩
  | .hbm, ⟨58, _⟩ => ⟨S_, .f32⟩
  | .hbm, ⟨59, _⟩ => ⟨S_, .f32⟩
  | .hbm, ⟨60, _⟩ => ⟨S8x128x128, .i1⟩
  | .hbm, ⟨61, _⟩ => ⟨S8x128x128, .f32⟩
  | .hbm, ⟨62, _⟩ => ⟨S8x128x128, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S8x1, .f32⟩
  | .hbm, ⟨68, _⟩ => ⟨S8x128, .f32⟩
  | .hbm, ⟨69, _⟩ => ⟨S8x128, .f32⟩
  | .hbm, ⟨70, _⟩ => ⟨S8x128, .f32⟩
  | .hbm, ⟨71, _⟩ => ⟨S8x128, .f32⟩
  | .hbm, ⟨72, _⟩ => ⟨S8x128x1, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S8x1, .f32⟩
  | .hbm, ⟨78, _⟩ => ⟨S8x128, .f32⟩
  | .hbm, ⟨79, _⟩ => ⟨S8x128, .f32⟩
  | .hbm, ⟨80, _⟩ => ⟨S8x128, .f32⟩
  | .hbm, ⟨81, _⟩ => ⟨S8x128, .f32⟩
  | .hbm, ⟨82, _⟩ => ⟨S8x128x1, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S8, .f32⟩
  | .hbm, ⟨87, _⟩ => ⟨S8x1x1, .f32⟩
  | .hbm, ⟨88, _⟩ => ⟨S4224x2048, .bf16⟩
  | .hbm, ⟨89, _⟩ => ⟨S4224x2048, .f32⟩
  | .hbm, ⟨90, _⟩ => ⟨S8x33x256x256, .bf16⟩
  | .hbm, ⟨91, _⟩ => ⟨S4224x2048, .bf16⟩
  | .hbm, ⟨92, _⟩ => ⟨S4224x2048, .bf16⟩
  | .hbm, ⟨93, _⟩ => ⟨S4224x2048, .bf16⟩
  | .hbm, ⟨94, _⟩ => ⟨S4224x2048, .bf16⟩
  | .hbm, ⟨95, _⟩ => ⟨S1x2048, .f32⟩
  | .hbm, ⟨96, _⟩ => ⟨S4112x2048, .bf16⟩
  | .hbm, ⟨97, _⟩ => ⟨S4112x2048, .bf16⟩
  | .hbm, ⟨98, _⟩ => ⟨S4112x2048, .bf16⟩
  | .hbm, ⟨99, _⟩ => ⟨S4112x2048, .bf16⟩
  | .hbm, ⟨100, _⟩ => ⟨S4112x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S8x128x128, .f32⟩
  | .local _ .vmem, ⟨13, _⟩ => ⟨S8x128x1, .f32⟩
  | .local _ .vmem, ⟨14, _⟩ => ⟨S8x128x1, .f32⟩
  | .local _ .vmem, ⟨15, _⟩ => ⟨S8x1x1, .f32⟩
  | .local _ .vmem, ⟨16, _⟩ => ⟨S1x2048, .f32⟩
  | .local _ .vmem, ⟨17, _⟩ => ⟨S128x2048, .bf16⟩
  | .local _ .vmem, ⟨18, _⟩ => ⟨S128x2048, .bf16⟩
  | .local _ .vmem, ⟨19, _⟩ => ⟨S128x2048, .f32⟩
  | .local _ .vmem, ⟨20, _⟩ => ⟨S128x2048, .f32⟩
  | .local _ .vmem, ⟨21, _⟩ => ⟨S8x1x256x256, .bf16⟩
  | .local _ .vmem, ⟨22, _⟩ => ⟨S8x1x256x256, .bf16⟩
  | .local _ .vmem, ⟨23, _⟩ => ⟨S8x256x256, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .vmem, ⟨30, _⟩ => ⟨S128x2048, .f32⟩
  | .local _ .vmem, ⟨31, _⟩ => ⟨S128x2048, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S128x128, .f32⟩
  | .local _ .vmem, ⟨36, _⟩ => ⟨S8x128x128, .f32⟩
  | .local _ .vmem, ⟨37, _⟩ => ⟨S8x128x1, .f32⟩
  | .local _ .vmem, ⟨38, _⟩ => ⟨S8x128x1, .f32⟩
  | .local _ .vmem, ⟨39, _⟩ => ⟨S8x1x1, .f32⟩
  | .local _ .vmem, ⟨40, _⟩ => ⟨S1x2048, .f32⟩
  | .local _ .vmem, ⟨41, _⟩ => ⟨S128x2048, .f32⟩
  | .local _ .vmem, ⟨42, _⟩ => ⟨S128x2048, .f32⟩
  | .local _ .vmem, ⟨43, _⟩ => ⟨S128x2048, .f32⟩
  | .local _ .vmem, ⟨44, _⟩ => ⟨S128x2048, .f32⟩
  | .local _ .vmem, ⟨45, _⟩ => ⟨S8x1x256x256, .bf16⟩
  | .local _ .vmem, ⟨46, _⟩ => ⟨S8x1x256x256, .bf16⟩
  | .local _ .vmem, ⟨47, _⟩ => ⟨S128x2048, .bf16⟩
  | .local _ .vmem, ⟨48, _⟩ => ⟨S128x2048, .bf16⟩
  | .local _ .vmem, ⟨49, _⟩ => ⟨S128x2048, .bf16⟩
  | .local _ .vmem, ⟨50, _⟩ => ⟨S128x2048, .bf16⟩
  | .local _ .vmem, ⟨51, _⟩ => ⟨S128x2048, .bf16⟩
  | .local _ .vmem, ⟨52, _⟩ => ⟨S128x2048, .bf16⟩
  | .local _ .vmem, ⟨53, _⟩ => ⟨S128x2048, .bf16⟩
  | .local _ .vmem, ⟨54, _⟩ => ⟨S128x2048, .bf16⟩
  | .local _ .vmem, ⟨55, _⟩ => ⟨S1x2048, .f32⟩
  | .local _ .vmem, ⟨56, _⟩ => ⟨S8x256x256, .f32⟩
  | _, _ => ⟨S4112x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68_0 : Ref sig .tc := ⟨.hbm, 88, rfl⟩
abbrev main_v68_1 : Ref sig .tc := ⟨.hbm, 89, rfl⟩
abbrev main_v68_2 : Ref sig .tc := ⟨.hbm, 90, rfl⟩
abbrev main_v69_0 : Ref sig .tc := ⟨.hbm, 91, rfl⟩
abbrev main_v69_1 : Ref sig .tc := ⟨.hbm, 92, rfl⟩
abbrev main_v69_2 : Ref sig .tc := ⟨.hbm, 93, rfl⟩
abbrev main_v69_3 : Ref sig .tc := ⟨.hbm, 94, rfl⟩
abbrev main_v69_4 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg9_0 : Ref sig .tc := ⟨.vmem, 39, rfl⟩
abbrev cc1_stg10_0 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_stg14_0 : Ref sig .tc := ⟨.vmem, 47, rfl⟩
abbrev cc1_stg14_1 : Ref sig .tc := ⟨.vmem, 48, rfl⟩
abbrev cc1_stg15_0 : Ref sig .tc := ⟨.vmem, 49, rfl⟩
abbrev cc1_stg15_1 : Ref sig .tc := ⟨.vmem, 50, rfl⟩
abbrev cc1_stg16_0 : Ref sig .tc := ⟨.vmem, 51, rfl⟩
abbrev cc1_stg16_1 : Ref sig .tc := ⟨.vmem, 52, rfl⟩
abbrev cc1_stg17_0 : Ref sig .tc := ⟨.vmem, 53, rfl⟩
abbrev cc1_stg17_1 : Ref sig .tc := ⟨.vmem, 54, rfl⟩
abbrev cc1_stg18_0 : Ref sig .tc := ⟨.vmem, 55, rfl⟩
abbrev cc1_scratch0 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem5_1 : DmaSem sig := 34
abbrev cc1_sem6_0 : DmaSem sig := 35
abbrev cc1_sem7_0 : DmaSem sig := 36
abbrev cc1_sem8_0 : DmaSem sig := 37
abbrev cc1_sem9_0 : DmaSem sig := 38
abbrev cc1_sem10_0 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45
abbrev cc1_sem14_0 : DmaSem sig := 46
abbrev cc1_sem14_1 : DmaSem sig := 47
abbrev cc1_sem15_0 : DmaSem sig := 48
abbrev cc1_sem15_1 : DmaSem sig := 49
abbrev cc1_sem16_0 : DmaSem sig := 50
abbrev cc1_sem16_1 : DmaSem sig := 51
abbrev cc1_sem17_0 : DmaSem sig := 52
abbrev cc1_sem17_1 : DmaSem sig := 53
abbrev cc1_sem18_0 : DmaSem sig := 54

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S8x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S8x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x1x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev grid1 : Pipeline.Grid := ⟨2, ![1, 33], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 32 := Scalar.addi c0_i32 arg0
  let c0_i32_0 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let v1 : BitVec 32 := Scalar.addi c1_i32 arg0
  let c0_i32 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c2_i32 : BitVec 32 := 2#32
  let v1 : BitVec 32 := Scalar.addi c2_i32 arg0
  let c0_i32 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c3_i32 : BitVec 32 := 3#32
  let v1 : BitVec 32 := Scalar.addi c3_i32 arg0
  let c0_i32 : BitVec 32 := 0#32
  ![v0.toNat, v1.toNat]

def cc1_transform_4 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![v0.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc1_transform_12 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc1_transform_13 (i : grid1.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc1_transform_15 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc1_transform_16 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc1_transform_17 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 1 → Memref sig .tc .vmem S8x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, false]

abbrev stage1_7 : Fin 1 → Memref sig .tc .vmem S8x128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, false]

abbrev stage1_8 : Fin 1 → Memref sig .tc .vmem S8x128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, false]

abbrev stage1_9 : Fin 1 → Memref sig .tc .vmem S8x1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, false]

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true, false]

abbrev stage1_11 : Fin 2 → Memref sig .tc .vmem S128x2048 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S128x2048 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S8x1x256x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S128x2048 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S128x2048 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S128x2048 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S128x2048 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 1 → Memref sig .tc .vmem S1x2048 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![true, false]
-- ==== ReferenceIdeal.lean ====
abbrev S4112x14336 : Shape := ⟨2, ![4112, 14336]⟩
abbrev S1x2048 : Shape := ⟨2, ![1, 2048]⟩
abbrev S4112x4096 : Shape := ⟨2, ![4112, 4096]⟩
abbrev S4112x2048 : Shape := ⟨2, ![4112, 2048]⟩
abbrev S_ : Shape := ⟨0, ![]⟩
abbrev S112x2048 : Shape := ⟨2, ![112, 2048]⟩
abbrev S4224x2048 : Shape := ⟨2, ![4224, 2048]⟩
abbrev S4224 : Shape := ⟨1, ![4224]⟩
abbrev S4224x1x1 : Shape := ⟨3, ![4224, 1, 1]⟩
abbrev S4224x8x256 : Shape := ⟨3, ![4224, 8, 256]⟩
abbrev S128 : Shape := ⟨1, ![128]⟩
abbrev S4224x1 : Shape := ⟨2, ![4224, 1]⟩
abbrev S1x128 : Shape := ⟨2, ![1, 128]⟩
abbrev S4224x128 : Shape := ⟨2, ![4224, 128]⟩
abbrev S4224x1x128 : Shape := ⟨3, ![4224, 1, 128]⟩
abbrev S4224x8x128 : Shape := ⟨3, ![4224, 8, 128]⟩
abbrev S8 : Shape := ⟨1, ![8]⟩
abbrev S128x1 : Shape := ⟨2, ![128, 1]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S33x128x8x256 : Shape := ⟨4, ![33, 128, 8, 256]⟩
abbrev S33x8x128x256 : Shape := ⟨4, ![33, 8, 128, 256]⟩
abbrev S8x256x256 : Shape := ⟨3, ![8, 256, 256]⟩
abbrev S8x128x1 : Shape := ⟨3, ![8, 128, 1]⟩
abbrev S33x8x128x128 : Shape := ⟨4, ![33, 8, 128, 128]⟩
abbrev S33x8x256x256 : Shape := ⟨4, ![33, 8, 256, 256]⟩
abbrev S1x8x128x256 : Shape := ⟨4, ![1, 8, 128, 256]⟩
abbrev S8x128x256 : Shape := ⟨3, ![8, 128, 256]⟩
abbrev S1x8x128x128 : Shape := ⟨4, ![1, 8, 128, 128]⟩
abbrev S1x8x256x256 : Shape := ⟨4, ![1, 8, 256, 256]⟩
abbrev S4224x8 : Shape := ⟨2, ![4224, 8]⟩
abbrev S4224x8x1 : Shape := ⟨3, ![4224, 8, 1]⟩
abbrev S8x256 : Shape := ⟨2, ![8, 256]⟩
abbrev S1x8x256 : Shape := ⟨3, ![1, 8, 256]⟩
abbrev S8x256x128 : Shape := ⟨3, ![8, 256, 128]⟩

abbrev nBuf : Space → Nat
  | .hbm => 500
  | .vmem => 0
  | .smem => 0
  | _ => 0

abbrev hbmTy0_0 (i : Nat) : BufTy := match i % 128 with
  | 0 => ⟨S4112x14336, .f32⟩
  | 1 => ⟨S1x2048, .f32⟩
  | 2 => ⟨S4112x4096, .f32⟩
  | 3 => ⟨S4112x2048, .f32⟩
  | 4 => ⟨S4112x2048, .f32⟩
  | 5 => ⟨S4112x2048, .f32⟩
  | 6 => ⟨S4112x2048, .f32⟩
  | 7 => ⟨S_, .f32⟩
  | 8 => ⟨S112x2048, .f32⟩
  | 9 => ⟨S4224x2048, .f32⟩
  | 10 => ⟨S_, .f32⟩
  | 11 => ⟨S112x2048, .f32⟩
  | 12 => ⟨S_, .f32⟩
  | 13 => ⟨S112x2048, .f32⟩
  | 14 => ⟨S4224x2048, .f32⟩
  | 15 => ⟨S_, .f32⟩
  | 16 => ⟨S112x2048, .f32⟩
  | 17 => ⟨S_, .f32⟩
  | 18 => ⟨S112x2048, .f32⟩
  | 19 => ⟨S4224x2048, .f32⟩
  | 20 => ⟨S_, .f32⟩
  | 21 => ⟨S112x2048, .f32⟩
  | 22 => ⟨S_, .f32⟩
  | 23 => ⟨S112x2048, .f32⟩
  | 24 => ⟨S4224x2048, .f32⟩
  | 25 => ⟨S_, .f32⟩
  | 26 => ⟨S112x2048, .f32⟩
  | 27 => ⟨S4224, .i32⟩
  | 28 => ⟨S_, .i32⟩
  | 29 => ⟨S4224, .i32⟩
  | 30 => ⟨S4224, .i1⟩
  | 31 => ⟨S4224, .f32⟩
  | 32 => ⟨S4224x1x1, .f32⟩
  | 33 => ⟨S4224, .i32⟩
  | 34 => ⟨S_, .i32⟩
  | 35 => ⟨S4224, .i32⟩
  | 36 => ⟨S4224, .i32⟩
  | 37 => ⟨S4224, .f32⟩
  | 38 => ⟨S4224x8x256, .f32⟩
  | 39 => ⟨S128, .f32⟩
  | 40 => ⟨S128, .f32⟩
  | 41 => ⟨S_, .f32⟩
  | 42 => ⟨S128, .f32⟩
  | 43 => ⟨S128, .f32⟩
  | 44 => ⟨S_, .f32⟩
  | 45 => ⟨S128, .f32⟩
  | 46 => ⟨S128, .f32⟩
  | 47 => ⟨S4224x1, .f32⟩
  | 48 => ⟨S1x128, .f32⟩
  | 49 => ⟨S4224x128, .f32⟩
  | 50 => ⟨S4224x128, .f32⟩
  | 51 => ⟨S4224x128, .f32⟩
  | 52 => ⟨S4224x128, .f32⟩
  | 53 => ⟨S4224x1x128, .f32⟩
  | 54 => ⟨S4224x128, .f32⟩
  | 55 => ⟨S4224x1x128, .f32⟩
  | 56 => ⟨S4224x8x128, .f32⟩
  | 57 => ⟨S4224x8x128, .f32⟩
  | 58 => ⟨S4224x8x128, .f32⟩
  | 59 => ⟨S4224x8x128, .f32⟩
  | 60 => ⟨S4224x8x128, .f32⟩
  | 61 => ⟨S4224x8x128, .f32⟩
  | 62 => ⟨S4224x8x128, .f32⟩
  | 63 => ⟨S4224x8x128, .f32⟩
  | 64 => ⟨S4224x8x128, .f32⟩
  | 65 => ⟨S4224x8x128, .f32⟩
  | 66 => ⟨S4224x8x128, .f32⟩
  | 67 => ⟨S4224x8x128, .f32⟩
  | 68 => ⟨S4224x8x256, .f32⟩
  | 69 => ⟨S_, .f32⟩
  | 70 => ⟨S4224x8x256, .f32⟩
  | 71 => ⟨S4224x8x256, .f32⟩
  | 72 => ⟨S4224x8x256, .f32⟩
  | 73 => ⟨S128, .f32⟩
  | 74 => ⟨S128, .f32⟩
  | 75 => ⟨S_, .f32⟩
  | 76 => ⟨S128, .f32⟩
  | 77 => ⟨S128, .f32⟩
  | 78 => ⟨S_, .f32⟩
  | 79 => ⟨S128, .f32⟩
  | 80 => ⟨S128, .f32⟩
  | 81 => ⟨S4224x1, .f32⟩
  | 82 => ⟨S1x128, .f32⟩
  | 83 => ⟨S4224x128, .f32⟩
  | 84 => ⟨S4224x128, .f32⟩
  | 85 => ⟨S4224x128, .f32⟩
  | 86 => ⟨S4224x128, .f32⟩
  | 87 => ⟨S4224x1x128, .f32⟩
  | 88 => ⟨S4224x128, .f32⟩
  | 89 => ⟨S4224x1x128, .f32⟩
  | 90 => ⟨S4224x8x128, .f32⟩
  | 91 => ⟨S4224x8x128, .f32⟩
  | 92 => ⟨S4224x8x128, .f32⟩
  | 93 => ⟨S4224x8x128, .f32⟩
  | 94 => ⟨S4224x8x128, .f32⟩
  | 95 => ⟨S4224x8x128, .f32⟩
  | 96 => ⟨S4224x8x128, .f32⟩
  | 97 => ⟨S4224x8x128, .f32⟩
  | 98 => ⟨S4224x8x128, .f32⟩
  | 99 => ⟨S4224x8x128, .f32⟩
  | 100 => ⟨S4224x8x128, .f32⟩
  | 101 => ⟨S4224x8x128, .f32⟩
  | 102 => ⟨S4224x8x256, .f32⟩
  | 103 => ⟨S4224x8x256, .f32⟩
  | 104 => ⟨S4224x8x256, .f32⟩
  | 105 => ⟨S4224x8x256, .f32⟩
  | 106 => ⟨S4224x8x256, .f32⟩
  | 107 => ⟨S4224x8x256, .f32⟩
  | 108 => ⟨S8, .f32⟩
  | 109 => ⟨S_, .f32⟩
  | 110 => ⟨S8, .f32⟩
  | 111 => ⟨S8, .f32⟩
  | 112 => ⟨S_, .f32⟩
  | 113 => ⟨S8, .f32⟩
  | 114 => ⟨S8, .f32⟩
  | 115 => ⟨S_, .f32⟩
  | 116 => ⟨S8, .f32⟩
  | 117 => ⟨S8, .f32⟩
  | 118 => ⟨S8, .f32⟩
  | 119 => ⟨S128, .f32⟩
  | 120 => ⟨S128x1, .f32⟩
  | 121 => ⟨S1x128, .f32⟩
  | 122 => ⟨S128x128, .f32⟩
  | 123 => ⟨S128x128, .f32⟩
  | 124 => ⟨S128x128, .f32⟩
  | 125 => ⟨S1x128x128, .f32⟩
  | 126 => ⟨S_, .f32⟩
  | 127 => ⟨S1x128x128, .f32⟩
  | _ => ⟨S4112x14336, .f32⟩

abbrev hbmTy0_1 (i : Nat) : BufTy := match i % 128 with
  | 0 => ⟨S1x128x128, .i1⟩
  | 1 => ⟨S_, .f32⟩
  | 2 => ⟨S128x128, .f32⟩
  | 3 => ⟨S128x128, .f32⟩
  | 4 => ⟨S1x128x128, .f32⟩
  | 5 => ⟨S8x1x1, .f32⟩
  | 6 => ⟨S8x128x128, .f32⟩
  | 7 => ⟨S8x128x128, .f32⟩
  | 8 => ⟨S8x128x128, .f32⟩
  | 9 => ⟨S8x128x128, .f32⟩
  | 10 => ⟨S_, .f32⟩
  | 11 => ⟨S_, .f32⟩
  | 12 => ⟨S8x128x128, .i1⟩
  | 13 => ⟨S8x128x128, .f32⟩
  | 14 => ⟨S8x128x128, .f32⟩
  | 15 => ⟨S1x128, .f32⟩
  | 16 => ⟨S_, .f32⟩
  | 17 => ⟨S1x128, .f32⟩
  | 18 => ⟨S1x128, .f32⟩
  | 19 => ⟨S8x1, .f32⟩
  | 20 => ⟨S8x128, .f32⟩
  | 21 => ⟨S8x128, .f32⟩
  | 22 => ⟨S8x128, .f32⟩
  | 23 => ⟨S8x128, .f32⟩
  | 24 => ⟨S1x128, .f32⟩
  | 25 => ⟨S_, .f32⟩
  | 26 => ⟨S1x128, .f32⟩
  | 27 => ⟨S1x128, .f32⟩
  | 28 => ⟨S8x1, .f32⟩
  | 29 => ⟨S8x128, .f32⟩
  | 30 => ⟨S8x128, .f32⟩
  | 31 => ⟨S8x128, .f32⟩
  | 32 => ⟨S8x128, .f32⟩
  | 33 => ⟨S_, .f32⟩
  | 34 => ⟨S8, .f32⟩
  | 35 => ⟨S8, .f32⟩
  | 36 => ⟨S8, .f32⟩
  | 37 => ⟨S33x128x8x256, .f32⟩
  | 38 => ⟨S33x8x128x256, .f32⟩
  | 39 => ⟨S33x128x8x256, .f32⟩
  | 40 => ⟨S33x8x128x256, .f32⟩
  | 41 => ⟨S33x128x8x256, .f32⟩
  | 42 => ⟨S33x8x128x256, .f32⟩
  | 43 => ⟨S_, .f32⟩
  | 44 => ⟨S8x256x256, .f32⟩
  | 45 => ⟨S8x128x1, .f32⟩
  | 46 => ⟨S8x1x1, .f32⟩
  | 47 => ⟨S8x128x1, .f32⟩
  | 48 => ⟨S_, .f32⟩
  | 49 => ⟨S33x8x128x256, .f32⟩
  | 50 => ⟨S_, .f32⟩
  | 51 => ⟨S33x8x128x128, .f32⟩
  | 52 => ⟨S_, .f32⟩
  | 53 => ⟨S33x8x256x256, .f32⟩
  | 54 => ⟨S_, .f32⟩
  | 55 => ⟨S33x8x128x256, .f32⟩
  | 56 => ⟨S_, .i32⟩
  | 57 => ⟨S33x8x128x256, .f32⟩
  | 58 => ⟨S33x8x128x256, .f32⟩
  | 59 => ⟨S33x8x128x256, .f32⟩
  | 60 => ⟨S8x1x1, .f32⟩
  | 61 => ⟨S8x128x1, .f32⟩
  | 62 => ⟨S8x128x128, .f32⟩
  | 63 => ⟨S8x128x1, .f32⟩
  | 64 => ⟨S_, .i32⟩
  | 65 => ⟨S8x256x256, .f32⟩
  | 66 => ⟨S33x8x128x256, .f32⟩
  | 67 => ⟨S33x8x128x128, .f32⟩
  | 68 => ⟨S33x8x256x256, .f32⟩
  | 69 => ⟨S33x8x128x256, .f32⟩
  | 70 => ⟨S_, .i32⟩
  | 71 => ⟨S_, .i1⟩
  | 72 => ⟨S_, .i32⟩
  | 73 => ⟨S_, .i32⟩
  | 74 => ⟨S_, .i32⟩
  | 75 => ⟨S1x8x128x256, .f32⟩
  | 76 => ⟨S8x128x256, .f32⟩
  | 77 => ⟨S_, .i32⟩
  | 78 => ⟨S_, .i32⟩
  | 79 => ⟨S_, .i32⟩
  | 80 => ⟨S1x8x128x256, .f32⟩
  | 81 => ⟨S8x128x256, .f32⟩
  | 82 => ⟨S_, .i32⟩
  | 83 => ⟨S_, .i32⟩
  | 84 => ⟨S_, .i32⟩
  | 85 => ⟨S1x8x128x256, .f32⟩
  | 86 => ⟨S8x128x256, .f32⟩
  | 87 => ⟨S8x128x128, .f32⟩
  | 88 => ⟨S8x128x128, .f32⟩
  | 89 => ⟨S8x128x256, .f32⟩
  | 90 => ⟨S8x128x256, .f32⟩
  | 91 => ⟨S8x128x256, .f32⟩
  | 92 => ⟨S8x128x256, .f32⟩
  | 93 => ⟨S8x256x256, .f32⟩
  | 94 => ⟨S8x256x256, .f32⟩
  | 95 => ⟨S8x128x256, .f32⟩
  | 96 => ⟨S8x128x256, .f32⟩
  | 97 => ⟨S8x256x256, .f32⟩
  | 98 => ⟨S8x256x256, .f32⟩
  | 99 => ⟨S8x128x256, .f32⟩
  | 100 => ⟨S1x8x128x256, .f32⟩
  | 101 => ⟨S_, .i32⟩
  | 102 => ⟨S_, .i32⟩
  | 103 => ⟨S_, .i32⟩
  | 104 => ⟨S33x8x128x256, .f32⟩
  | 105 => ⟨S1x8x128x128, .f32⟩
  | 106 => ⟨S_, .i32⟩
  | 107 => ⟨S_, .i32⟩
  | 108 => ⟨S_, .i32⟩
  | 109 => ⟨S33x8x128x128, .f32⟩
  | 110 => ⟨S1x8x256x256, .f32⟩
  | 111 => ⟨S_, .i32⟩
  | 112 => ⟨S_, .i32⟩
  | 113 => ⟨S_, .i32⟩
  | 114 => ⟨S33x8x256x256, .f32⟩
  | 115 => ⟨S1x8x128x256, .f32⟩
  | 116 => ⟨S_, .i32⟩
  | 117 => ⟨S_, .i32⟩
  | 118 => ⟨S_, .i32⟩
  | 119 => ⟨S33x8x128x256, .f32⟩
  | 120 => ⟨S_, .i32⟩
  | 121 => ⟨S_, .i32⟩
  | 122 => ⟨S33x128x8x256, .f32⟩
  | 123 => ⟨S4224x8x256, .f32⟩
  | 124 => ⟨S4224x2048, .f32⟩
  | 125 => ⟨S4224x2048, .f32⟩
  | 126 => ⟨S_, .f32⟩
  | 127 => ⟨S4224x2048, .f32⟩
  | _ => ⟨S4112x14336, .f32⟩

abbrev hbmTy0_2 (i : Nat) : BufTy := match i % 128 with
  | 0 => ⟨S4224x2048, .f32⟩
  | 1 => ⟨S_, .f32⟩
  | 2 => ⟨S4224x2048, .f32⟩
  | 3 => ⟨S4224x2048, .f32⟩
  | 4 => ⟨S_, .f32⟩
  | 5 => ⟨S4224x2048, .f32⟩
  | 6 => ⟨S4224x2048, .f32⟩
  | 7 => ⟨S4224x2048, .f32⟩
  | 8 => ⟨S4224x2048, .f32⟩
  | 9 => ⟨S4224x8x256, .f32⟩
  | 10 => ⟨S_, .f32⟩
  | 11 => ⟨S4224x8, .f32⟩
  | 12 => ⟨S4224x8x1, .f32⟩
  | 13 => ⟨S_, .f32⟩
  | 14 => ⟨S4224x8x1, .f32⟩
  | 15 => ⟨S4224x8x1, .f32⟩
  | 16 => ⟨S_, .f32⟩
  | 17 => ⟨S4224x8x1, .f32⟩
  | 18 => ⟨S4224x8x1, .f32⟩
  | 19 => ⟨S4224x8x1, .f32⟩
  | 20 => ⟨S4224x8x1, .f32⟩
  | 21 => ⟨S_, .f32⟩
  | 22 => ⟨S4224x8x1, .f32⟩
  | 23 => ⟨S4224x8x1, .f32⟩
  | 24 => ⟨S4224x8x256, .f32⟩
  | 25 => ⟨S4224x8x256, .f32⟩
  | 26 => ⟨S8x256, .f32⟩
  | 27 => ⟨S1x8x256, .f32⟩
  | 28 => ⟨S4224x8x256, .f32⟩
  | 29 => ⟨S4224x8x256, .f32⟩
  | 30 => ⟨S4224x2048, .f32⟩
  | 31 => ⟨S4224x2048, .f32⟩
  | 32 => ⟨S4112x2048, .f32⟩
  | 33 => ⟨S4112x2048, .f32⟩
  | 34 => ⟨S_, .f32⟩
  | 35 => ⟨S8x256x256, .f32⟩
  | 36 => ⟨S_, .f32⟩
  | 37 => ⟨S4224x2048, .f32⟩
  | 38 => ⟨S4224x2048, .f32⟩
  | 39 => ⟨S4224x2048, .f32⟩
  | 40 => ⟨S4224x8x256, .f32⟩
  | 41 => ⟨S4224x8x256, .f32⟩
  | 42 => ⟨S_, .f32⟩
  | 43 => ⟨S8x256, .f32⟩
  | 44 => ⟨S1x8x256, .f32⟩
  | 45 => ⟨S4224x8x256, .f32⟩
  | 46 => ⟨S4224x8x256, .f32⟩
  | 47 => ⟨S_, .f32⟩
  | 48 => ⟨S8x256, .f32⟩
  | 49 => ⟨S1x2048, .f32⟩
  | 50 => ⟨S4224x8x256, .f32⟩
  | 51 => ⟨S_, .f32⟩
  | 52 => ⟨S4224x8, .f32⟩
  | 53 => ⟨S4224x8x1, .f32⟩
  | 54 => ⟨S4224x8x256, .f32⟩
  | 55 => ⟨S4224x8x256, .f32⟩
  | 56 => ⟨S4224x8x1, .f32⟩
  | 57 => ⟨S_, .f32⟩
  | 58 => ⟨S4224x8x1, .f32⟩
  | 59 => ⟨S4224x8x1, .f32⟩
  | 60 => ⟨S_, .f32⟩
  | 61 => ⟨S4224x8, .f32⟩
  | 62 => ⟨S4224x8x256, .f32⟩
  | 63 => ⟨S4224x8x256, .f32⟩
  | 64 => ⟨S4224x8x256, .f32⟩
  | 65 => ⟨S4224x8x256, .f32⟩
  | 66 => ⟨S4224x8x256, .f32⟩
  | 67 => ⟨S4224x2048, .f32⟩
  | 68 => ⟨S4224x2048, .f32⟩
  | 69 => ⟨S4224x2048, .f32⟩
  | 70 => ⟨S4224x2048, .f32⟩
  | 71 => ⟨S33x128x8x256, .f32⟩
  | 72 => ⟨S33x8x128x256, .f32⟩
  | 73 => ⟨S_, .f32⟩
  | 74 => ⟨S8x256x256, .f32⟩
  | 75 => ⟨S_, .f32⟩
  | 76 => ⟨S33x8x128x256, .f32⟩
  | 77 => ⟨S_, .f32⟩
  | 78 => ⟨S33x8x128x256, .f32⟩
  | 79 => ⟨S_, .f32⟩
  | 80 => ⟨S33x8x128x256, .f32⟩
  | 81 => ⟨S_, .i32⟩
  | 82 => ⟨S33x8x128x256, .f32⟩
  | 83 => ⟨S33x8x128x256, .f32⟩
  | 84 => ⟨S33x8x128x256, .f32⟩
  | 85 => ⟨S33x8x128x256, .f32⟩
  | 86 => ⟨S33x8x128x128, .f32⟩
  | 87 => ⟨S33x8x256x256, .f32⟩
  | 88 => ⟨S33x8x128x256, .f32⟩
  | 89 => ⟨S8x128x128, .f32⟩
  | 90 => ⟨S8x128x1, .f32⟩
  | 91 => ⟨S8x1x1, .f32⟩
  | 92 => ⟨S8x128x1, .f32⟩
  | 93 => ⟨S_, .i32⟩
  | 94 => ⟨S8x256x256, .f32⟩
  | 95 => ⟨S33x8x128x256, .f32⟩
  | 96 => ⟨S33x8x128x256, .f32⟩
  | 97 => ⟨S33x8x128x256, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S1x8x128x256, .f32⟩
  | 108 => ⟨S8x128x256, .f32⟩
  | 109 => ⟨S_, .i32⟩
  | 110 => ⟨S_, .i32⟩
  | 111 => ⟨S_, .i32⟩
  | 112 => ⟨S1x8x128x256, .f32⟩
  | 113 => ⟨S8x128x256, .f32⟩
  | 114 => ⟨S_, .i32⟩
  | 115 => ⟨S_, .i32⟩
  | 116 => ⟨S_, .i32⟩
  | 117 => ⟨S1x8x128x256, .f32⟩
  | 118 => ⟨S8x128x256, .f32⟩
  | 119 => ⟨S_, .i32⟩
  | 120 => ⟨S_, .i32⟩
  | 121 => ⟨S_, .i32⟩
  | 122 => ⟨S1x8x128x256, .f32⟩
  | 123 => ⟨S8x128x256, .f32⟩
  | 124 => ⟨S_, .i32⟩
  | 125 => ⟨S_, .i32⟩
  | 126 => ⟨S_, .i32⟩
  | 127 => ⟨S1x8x128x128, .f32⟩
  | _ => ⟨S4112x14336, .f32⟩

abbrev hbmTy0_3 (i : Nat) : BufTy := match i % 128 with
  | 0 => ⟨S8x128x128, .f32⟩
  | 1 => ⟨S_, .i32⟩
  | 2 => ⟨S_, .i32⟩
  | 3 => ⟨S_, .i32⟩
  | 4 => ⟨S1x8x256x256, .f32⟩
  | 5 => ⟨S8x256x256, .f32⟩
  | 6 => ⟨S_, .i32⟩
  | 7 => ⟨S_, .i32⟩
  | 8 => ⟨S_, .i32⟩
  | 9 => ⟨S1x8x128x256, .f32⟩
  | 10 => ⟨S8x128x256, .f32⟩
  | 11 => ⟨S8x256x128, .f32⟩
  | 12 => ⟨S8x128x256, .f32⟩
  | 13 => ⟨S8x256x128, .f32⟩
  | 14 => ⟨S8x128x256, .f32⟩
  | 15 => ⟨S8x128x256, .f32⟩
  | 16 => ⟨S8x128x256, .f32⟩
  | 17 => ⟨S8x256x256, .f32⟩
  | 18 => ⟨S8x256x256, .f32⟩
  | 19 => ⟨S8x128x256, .f32⟩
  | 20 => ⟨S8x128x256, .f32⟩
  | 21 => ⟨S8x256x256, .f32⟩
  | 22 => ⟨S8x256x256, .f32⟩
  | 23 => ⟨S8x256x256, .f32⟩
  | 24 => ⟨S8x128x256, .f32⟩
  | 25 => ⟨S8x256x128, .f32⟩
  | 26 => ⟨S8x128x256, .f32⟩
  | 27 => ⟨S8x128x256, .f32⟩
  | 28 => ⟨S8x128x128, .f32⟩
  | 29 => ⟨S8x128x128, .f32⟩
  | 30 => ⟨S8x128x256, .f32⟩
  | 31 => ⟨S8x128x256, .f32⟩
  | 32 => ⟨S8x128x256, .f32⟩
  | 33 => ⟨S8x128x256, .f32⟩
  | 34 => ⟨S1x8x128x256, .f32⟩
  | 35 => ⟨S_, .i32⟩
  | 36 => ⟨S_, .i32⟩
  | 37 => ⟨S_, .i32⟩
  | 38 => ⟨S33x8x128x256, .f32⟩
  | 39 => ⟨S1x8x128x256, .f32⟩
  | 40 => ⟨S_, .i32⟩
  | 41 => ⟨S_, .i32⟩
  | 42 => ⟨S_, .i32⟩
  | 43 => ⟨S33x8x128x256, .f32⟩
  | 44 => ⟨S1x8x128x256, .f32⟩
  | 45 => ⟨S_, .i32⟩
  | 46 => ⟨S_, .i32⟩
  | 47 => ⟨S_, .i32⟩
  | 48 => ⟨S33x8x128x256, .f32⟩
  | 49 => ⟨S_, .i32⟩
  | 50 => ⟨S_, .i32⟩
  | 51 => ⟨S33x128x8x256, .f32⟩
  | 52 => ⟨S4224x8x256, .f32⟩
  | 53 => ⟨S33x128x8x256, .f32⟩
  | 54 => ⟨S4224x8x256, .f32⟩
  | 55 => ⟨S33x128x8x256, .f32⟩
  | 56 => ⟨S4224x8x256, .f32⟩
  | 57 => ⟨S4224x8x256, .f32⟩
  | 58 => ⟨S4224x8x256, .f32⟩
  | 59 => ⟨S4224x2048, .f32⟩
  | 60 => ⟨S4224x8x256, .f32⟩
  | 61 => ⟨S4224x8x256, .f32⟩
  | 62 => ⟨S4224x8x128, .f32⟩
  | 63 => ⟨S4224x8x128, .f32⟩
  | 64 => ⟨S4224x8x128, .f32⟩
  | 65 => ⟨S4224x8x128, .f32⟩
  | 66 => ⟨S4224x8x128, .f32⟩
  | 67 => ⟨S4224x8x128, .f32⟩
  | 68 => ⟨S4224x8x128, .f32⟩
  | 69 => ⟨S4224x8x128, .f32⟩
  | 70 => ⟨S4224x8x128, .f32⟩
  | 71 => ⟨S4224x8x128, .f32⟩
  | 72 => ⟨S4224x8x128, .f32⟩
  | 73 => ⟨S4224x8x128, .f32⟩
  | 74 => ⟨S4224x8x128, .f32⟩
  | 75 => ⟨S_, .f32⟩
  | 76 => ⟨S4224x8x256, .f32⟩
  | 77 => ⟨S_, .f32⟩
  | 78 => ⟨S4224x8x256, .f32⟩
  | 79 => ⟨S4224x8x256, .f32⟩
  | 80 => ⟨S4224x2048, .f32⟩
  | 81 => ⟨S_, .f32⟩
  | 82 => ⟨S4224x8x256, .f32⟩
  | 83 => ⟨S4224x8x256, .f32⟩
  | 84 => ⟨S4224x8x128, .f32⟩
  | 85 => ⟨S4224x8x128, .f32⟩
  | 86 => ⟨S4224x8x128, .f32⟩
  | 87 => ⟨S4224x8x128, .f32⟩
  | 88 => ⟨S4224x8x128, .f32⟩
  | 89 => ⟨S4224x8x128, .f32⟩
  | 90 => ⟨S4224x8x128, .f32⟩
  | 91 => ⟨S4224x8x128, .f32⟩
  | 92 => ⟨S4224x8x128, .f32⟩
  | 93 => ⟨S4224x8x128, .f32⟩
  | 94 => ⟨S4224x8x128, .f32⟩
  | 95 => ⟨S4224x8x128, .f32⟩
  | 96 => ⟨S4224x8x128, .f32⟩
  | 97 => ⟨S_, .f32⟩
  | 98 => ⟨S4224x8x256, .f32⟩
  | 99 => ⟨S_, .f32⟩
  | 100 => ⟨S4224x8x256, .f32⟩
  | 101 => ⟨S4224x8x256, .f32⟩
  | 102 => ⟨S4224x2048, .f32⟩
  | 103 => ⟨S112x2048, .f32⟩
  | 104 => ⟨S4112x2048, .f32⟩
  | 105 => ⟨S112x2048, .f32⟩
  | 106 => ⟨S4112x2048, .f32⟩
  | 107 => ⟨S112x2048, .f32⟩
  | 108 => ⟨S4112x2048, .f32⟩
  | 109 => ⟨S112x2048, .f32⟩
  | 110 => ⟨S4112x2048, .f32⟩
  | 111 => ⟨S4112x2048, .bf16⟩
  | 112 => ⟨S4112x2048, .bf16⟩
  | 113 => ⟨S4112x2048, .bf16⟩
  | 114 => ⟨S4112x2048, .bf16⟩
  | 115 => ⟨S4112x2048, .bf16⟩
  | _ => ⟨S4112x14336, .f32⟩

abbrev hbmTy (i : Nat) : BufTy := match i / 128 with
  | 0 => hbmTy0_0 i
  | 1 => hbmTy0_1 i
  | 2 => hbmTy0_2 i
  | 3 => hbmTy0_3 i
  | _ => ⟨S4112x14336, .f32⟩

abbrev bufTy : (tb : Table) → Fin (tcTables nBuf tb) → BufTy
  | .hbm, ⟨i, _⟩ => hbmTy i
  | _, _ => ⟨S4112x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_13 : Ref sig .tc := ⟨.hbm, 109, rfl⟩
abbrev main_v91 : Ref sig .tc := ⟨.hbm, 110, rfl⟩
abbrev main_v92 : Ref sig .tc := ⟨.hbm, 111, rfl⟩
abbrev main_cst_14 : Ref sig .tc := ⟨.hbm, 112, rfl⟩
abbrev main_v93 : Ref sig .tc := ⟨.hbm, 113, rfl⟩
abbrev main_v94 : Ref sig .tc := ⟨.hbm, 114, rfl⟩
abbrev main_cst_15 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_16 : Ref sig .tc := ⟨.hbm, 126, rfl⟩
abbrev main_v105 : Ref sig .tc := ⟨.hbm, 127, rfl⟩
abbrev main_v106 : Ref sig .tc := ⟨.hbm, 128, rfl⟩
abbrev main_cst_17 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_18 : Ref sig .tc := ⟨.hbm, 138, rfl⟩
abbrev main_call0_v0 : Ref sig .tc := ⟨.hbm, 139, rfl⟩
abbrev main_call0_v1 : Ref sig .tc := ⟨.hbm, 140, rfl⟩
abbrev main_call0_v2 : Ref sig .tc := ⟨.hbm, 141, rfl⟩
abbrev main_v115 : Ref sig .tc := ⟨.hbm, 142, rfl⟩
abbrev main_v116 : Ref sig .tc := ⟨.hbm, 143, rfl⟩
abbrev main_cst_19 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_20 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_21 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_22 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_23 : Ref sig .tc := ⟨.hbm, 176, rfl⟩
abbrev main_v145 : Ref sig .tc := ⟨.hbm, 177, rfl⟩
abbrev main_cst_24 : Ref sig .tc := ⟨.hbm, 178, rfl⟩
abbrev main_v146 : Ref sig .tc := ⟨.hbm, 179, rfl⟩
abbrev main_cst_25 : Ref sig .tc := ⟨.hbm, 180, rfl⟩
abbrev main_v147 : Ref sig .tc := ⟨.hbm, 181, rfl⟩
abbrev main_cst_26 : Ref sig .tc := ⟨.hbm, 182, rfl⟩
abbrev main_v148 : Ref sig .tc := ⟨.hbm, 183, rfl⟩
abbrev main_c_27 : Ref sig .tc := ⟨.hbm, 184, rfl⟩
abbrev main_v149_0 : Ref sig .tc := ⟨.hbm, 185, rfl⟩
abbrev main_v149_1 : Ref sig .tc := ⟨.hbm, 186, rfl⟩
abbrev main_v149_2 : Ref sig .tc := ⟨.hbm, 187, rfl⟩
abbrev main_v149_3 : Ref sig .tc := ⟨.hbm, 188, rfl⟩
abbrev main_v149_4 : Ref sig .tc := ⟨.hbm, 189, rfl⟩
abbrev main_v149_5 : Ref sig .tc := ⟨.hbm, 190, rfl⟩
abbrev main_v149_6 : Ref sig .tc := ⟨.hbm, 191, rfl⟩
abbrev main_v149_7 : Ref sig .tc := ⟨.hbm, 192, rfl⟩
abbrev main_v149_8 : Ref sig .tc := ⟨.hbm, 193, rfl⟩
abbrev main_v149_9 : Ref sig .tc := ⟨.hbm, 194, rfl⟩
abbrev main_v149_10 : Ref sig .tc := ⟨.hbm, 195, rfl⟩
abbrev main_v149_11 : Ref sig .tc := ⟨.hbm, 196, rfl⟩
abbrev main_v149_12 : Ref sig .tc := ⟨.hbm, 197, rfl⟩
abbrev main_while0c_c_61 : Ref sig .tc := ⟨.hbm, 198, rfl⟩
abbrev main_while0c_v268 : Ref sig .tc := ⟨.hbm, 199, rfl⟩
abbrev main_while0b_call1_c : Ref sig .tc := ⟨.hbm, 200, rfl⟩
abbrev main_while0b_call1_c_0 : Ref sig .tc := ⟨.hbm, 201, rfl⟩
abbrev main_while0b_call1_c_1 : Ref sig .tc := ⟨.hbm, 202, rfl⟩
abbrev main_while0b_call1_v0 : Ref sig .tc := ⟨.hbm, 203, rfl⟩
abbrev main_while0b_v268 : Ref sig .tc := ⟨.hbm, 204, rfl⟩
abbrev main_while0b_call2_c : Ref sig .tc := ⟨.hbm, 205, rfl⟩
abbrev main_while0b_call2_c_0 : Ref sig .tc := ⟨.hbm, 206, rfl⟩
abbrev main_while0b_call2_c_1 : Ref sig .tc := ⟨.hbm, 207, rfl⟩
abbrev main_while0b_call2_v0 : Ref sig .tc := ⟨.hbm, 208, rfl⟩
abbrev main_while0b_v269 : Ref sig .tc := ⟨.hbm, 209, rfl⟩
abbrev main_while0b_call3_c : Ref sig .tc := ⟨.hbm, 210, rfl⟩
abbrev main_while0b_call3_c_0 : Ref sig .tc := ⟨.hbm, 211, rfl⟩
abbrev main_while0b_call3_c_1 : Ref sig .tc := ⟨.hbm, 212, rfl⟩
abbrev main_while0b_call3_v0 : Ref sig .tc := ⟨.hbm, 213, rfl⟩
abbrev main_while0b_v270 : Ref sig .tc := ⟨.hbm, 214, rfl⟩
abbrev main_while0b_v271 : Ref sig .tc := ⟨.hbm, 215, rfl⟩
abbrev main_while0b_v272 : Ref sig .tc := ⟨.hbm, 216, rfl⟩
abbrev main_while0b_v273 : Ref sig .tc := ⟨.hbm, 217, rfl⟩
abbrev main_while0b_v274 : Ref sig .tc := ⟨.hbm, 218, rfl⟩
abbrev main_while0b_v275 : Ref sig .tc := ⟨.hbm, 219, rfl⟩
abbrev main_while0b_v276 : Ref sig .tc := ⟨.hbm, 220, rfl⟩
abbrev main_while0b_v277 : Ref sig .tc := ⟨.hbm, 221, rfl⟩
abbrev main_while0b_v278 : Ref sig .tc := ⟨.hbm, 222, rfl⟩
abbrev main_while0b_v279 : Ref sig .tc := ⟨.hbm, 223, rfl⟩
abbrev main_while0b_v280 : Ref sig .tc := ⟨.hbm, 224, rfl⟩
abbrev main_while0b_v281 : Ref sig .tc := ⟨.hbm, 225, rfl⟩
abbrev main_while0b_v282 : Ref sig .tc := ⟨.hbm, 226, rfl⟩
abbrev main_while0b_v283 : Ref sig .tc := ⟨.hbm, 227, rfl⟩
abbrev main_while0b_call4_v0 : Ref sig .tc := ⟨.hbm, 228, rfl⟩
abbrev main_while0b_call4_c : Ref sig .tc := ⟨.hbm, 229, rfl⟩
abbrev main_while0b_call4_c_0 : Ref sig .tc := ⟨.hbm, 230, rfl⟩
abbrev main_while0b_call4_c_1 : Ref sig .tc := ⟨.hbm, 231, rfl⟩
abbrev main_while0b_v284 : Ref sig .tc := ⟨.hbm, 232, rfl⟩
abbrev main_while0b_call5_v0 : Ref sig .tc := ⟨.hbm, 233, rfl⟩
abbrev main_while0b_call5_c : Ref sig .tc := ⟨.hbm, 234, rfl⟩
abbrev main_while0b_call5_c_0 : Ref sig .tc := ⟨.hbm, 235, rfl⟩
abbrev main_while0b_call5_c_1 : Ref sig .tc := ⟨.hbm, 236, rfl⟩
abbrev main_while0b_v285 : Ref sig .tc := ⟨.hbm, 237, rfl⟩
abbrev main_while0b_call6_v0 : Ref sig .tc := ⟨.hbm, 238, rfl⟩
abbrev main_while0b_call6_c : Ref sig .tc := ⟨.hbm, 239, rfl⟩
abbrev main_while0b_call6_c_0 : Ref sig .tc := ⟨.hbm, 240, rfl⟩
abbrev main_while0b_call6_c_1 : Ref sig .tc := ⟨.hbm, 241, rfl⟩
abbrev main_while0b_v286 : Ref sig .tc := ⟨.hbm, 242, rfl⟩
abbrev main_while0b_call7_v0 : Ref sig .tc := ⟨.hbm, 243, rfl⟩
abbrev main_while0b_call7_c : Ref sig .tc := ⟨.hbm, 244, rfl⟩
abbrev main_while0b_call7_c_0 : Ref sig .tc := ⟨.hbm, 245, rfl⟩
abbrev main_while0b_call7_c_1 : Ref sig .tc := ⟨.hbm, 246, rfl⟩
abbrev main_while0b_v287 : Ref sig .tc := ⟨.hbm, 247, rfl⟩
abbrev main_while0b_c_61 : Ref sig .tc := ⟨.hbm, 248, rfl⟩
abbrev main_while0b_v288 : Ref sig .tc := ⟨.hbm, 249, rfl⟩
abbrev main_v150 : Ref sig .tc := ⟨.hbm, 250, rfl⟩
abbrev main_v151 : Ref sig .tc := ⟨.hbm, 251, rfl⟩
abbrev main_call8_v0 : Ref sig .tc := ⟨.hbm, 252, rfl⟩
abbrev main_call8_v1 : Ref sig .tc := ⟨.hbm, 253, rfl⟩
abbrev main_call8_cst : Ref sig .tc := ⟨.hbm, 254, rfl⟩
abbrev main_call8_v2 : Ref sig .tc := ⟨.hbm, 255, rfl⟩
abbrev main_call8_v3 : Ref sig .tc := ⟨.hbm, 256, rfl⟩
abbrev main_call8_cst_0 : Ref sig .tc := ⟨.hbm, 257, rfl⟩
abbrev main_call8_v4 : Ref sig .tc := ⟨.hbm, 258, rfl⟩
abbrev main_v152_2 : Ref sig .tc := ⟨.hbm, 259, rfl⟩
abbrev main_call8_cst_1 : Ref sig .tc := ⟨.hbm, 260, rfl⟩
abbrev main_call8_v6 : Ref sig .tc := ⟨.hbm, 261, rfl⟩
abbrev main_call8_v7 : Ref sig .tc := ⟨.hbm, 262, rfl⟩
abbrev main_v152_1 : Ref sig .tc := ⟨.hbm, 263, rfl⟩
abbrev main_v152_0 : Ref sig .tc := ⟨.hbm, 264, rfl⟩
abbrev main_v153 : Ref sig .tc := ⟨.hbm, 265, rfl⟩
abbrev main_cst_28 : Ref sig .tc := ⟨.hbm, 266, rfl⟩
abbrev main_v154 : Ref sig .tc := ⟨.hbm, 267, rfl⟩
abbrev main_v155 : Ref sig .tc := ⟨.hbm, 268, rfl⟩
abbrev main_cst_29 : Ref sig .tc := ⟨.hbm, 269, rfl⟩
abbrev main_v156 : Ref sig .tc := ⟨.hbm, 270, rfl⟩
abbrev main_v157 : Ref sig .tc := ⟨.hbm, 271, rfl⟩
abbrev main_cst_30 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_cst_31 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_v166 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_cst_32 : Ref sig .tc := ⟨.hbm, 290, rfl⟩
abbrev main_v174 : Ref sig .tc := ⟨.hbm, 291, rfl⟩
abbrev main_cst_33 : Ref sig .tc := ⟨.hbm, 292, rfl⟩
abbrev main_v175 : Ref sig .tc := ⟨.hbm, 293, rfl⟩
abbrev main_v176 : Ref sig .tc := ⟨.hbm, 294, rfl⟩
abbrev main_v177 : Ref sig .tc := ⟨.hbm, 295, rfl⟩
abbrev main_v178 : Ref sig .tc := ⟨.hbm, 296, rfl⟩
abbrev main_v179 : Ref sig .tc := ⟨.hbm, 297, rfl⟩
abbrev main_cst_34 : Ref sig .tc := ⟨.hbm, 298, rfl⟩
abbrev main_v180 : Ref sig .tc := ⟨.hbm, 299, rfl⟩
abbrev main_v181 : Ref sig .tc := ⟨.hbm, 300, rfl⟩
abbrev main_v182 : Ref sig .tc := ⟨.hbm, 301, rfl⟩
abbrev main_v183 : Ref sig .tc := ⟨.hbm, 302, rfl⟩
abbrev main_cst_35 : Ref sig .tc := ⟨.hbm, 303, rfl⟩
abbrev main_v184 : Ref sig .tc := ⟨.hbm, 304, rfl⟩
abbrev main_v185 : Ref sig .tc := ⟨.hbm, 305, rfl⟩
abbrev main_v186 : Ref sig .tc := ⟨.hbm, 306, rfl⟩
abbrev main_cst_36 : Ref sig .tc := ⟨.hbm, 307, rfl⟩
abbrev main_v187 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_cst_37 : Ref sig .tc := ⟨.hbm, 313, rfl⟩
abbrev main_v192 : Ref sig .tc := ⟨.hbm, 314, rfl⟩
abbrev main_v193 : Ref sig .tc := ⟨.hbm, 315, rfl⟩
abbrev main_cst_38 : Ref sig .tc := ⟨.hbm, 316, rfl⟩
abbrev main_v194 : Ref sig .tc := ⟨.hbm, 317, rfl⟩
abbrev main_v195 : Ref sig .tc := ⟨.hbm, 318, rfl⟩
abbrev main_v196 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_call9_v0 : Ref sig .tc := ⟨.hbm, 323, rfl⟩
abbrev main_call9_v1 : Ref sig .tc := ⟨.hbm, 324, rfl⟩
abbrev main_call9_v2 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_cst_39 : Ref sig .tc := ⟨.hbm, 329, rfl⟩
abbrev main_v203 : Ref sig .tc := ⟨.hbm, 330, rfl⟩
abbrev main_cst_40 : Ref sig .tc := ⟨.hbm, 331, rfl⟩
abbrev main_v204 : Ref sig .tc := ⟨.hbm, 332, rfl⟩
abbrev main_cst_41 : Ref sig .tc := ⟨.hbm, 333, rfl⟩
abbrev main_v205 : Ref sig .tc := ⟨.hbm, 334, rfl⟩
abbrev main_cst_42 : Ref sig .tc := ⟨.hbm, 335, rfl⟩
abbrev main_v206 : Ref sig .tc := ⟨.hbm, 336, rfl⟩
abbrev main_c_43 : Ref sig .tc := ⟨.hbm, 337, rfl⟩
abbrev main_v207_0 : Ref sig .tc := ⟨.hbm, 338, rfl⟩
abbrev main_v207_1 : Ref sig .tc := ⟨.hbm, 339, rfl⟩
abbrev main_v207_2 : Ref sig .tc := ⟨.hbm, 340, rfl⟩
abbrev main_v207_3 : Ref sig .tc := ⟨.hbm, 341, rfl⟩
abbrev main_v207_4 : Ref sig .tc := ⟨.hbm, 342, rfl⟩
abbrev main_v207_5 : Ref sig .tc := ⟨.hbm, 343, rfl⟩
abbrev main_v207_6 : Ref sig .tc := ⟨.hbm, 344, rfl⟩
abbrev main_v207_7 : Ref sig .tc := ⟨.hbm, 345, rfl⟩
abbrev main_v207_8 : Ref sig .tc := ⟨.hbm, 346, rfl⟩
abbrev main_v207_9 : Ref sig .tc := ⟨.hbm, 347, rfl⟩
abbrev main_v207_10 : Ref sig .tc := ⟨.hbm, 348, rfl⟩
abbrev main_v207_11 : Ref sig .tc := ⟨.hbm, 349, rfl⟩
abbrev main_v207_12 : Ref sig .tc := ⟨.hbm, 350, rfl⟩
abbrev main_v207_13 : Ref sig .tc := ⟨.hbm, 351, rfl⟩
abbrev main_v207_14 : Ref sig .tc := ⟨.hbm, 352, rfl⟩
abbrev main_v207_15 : Ref sig .tc := ⟨.hbm, 353, rfl⟩
abbrev main_while1c_c_64 : Ref sig .tc := ⟨.hbm, 354, rfl⟩
abbrev main_while1c_v268 : Ref sig .tc := ⟨.hbm, 355, rfl⟩
abbrev main_while1b_c_64 : Ref sig .tc := ⟨.hbm, 356, rfl⟩
abbrev main_while1b_v268 : Ref sig .tc := ⟨.hbm, 357, rfl⟩
abbrev main_while1b_c_65 : Ref sig .tc := ⟨.hbm, 358, rfl⟩
abbrev main_while1b_v269 : Ref sig .tc := ⟨.hbm, 359, rfl⟩
abbrev main_while1b_call10_c : Ref sig .tc := ⟨.hbm, 360, rfl⟩
abbrev main_while1b_call10_c_0 : Ref sig .tc := ⟨.hbm, 361, rfl⟩
abbrev main_while1b_call10_c_1 : Ref sig .tc := ⟨.hbm, 362, rfl⟩
abbrev main_while1b_call10_v0 : Ref sig .tc := ⟨.hbm, 363, rfl⟩
abbrev main_while1b_v270 : Ref sig .tc := ⟨.hbm, 364, rfl⟩
abbrev main_while1b_call11_c : Ref sig .tc := ⟨.hbm, 365, rfl⟩
abbrev main_while1b_call11_c_0 : Ref sig .tc := ⟨.hbm, 366, rfl⟩
abbrev main_while1b_call11_c_1 : Ref sig .tc := ⟨.hbm, 367, rfl⟩
abbrev main_while1b_call11_v0 : Ref sig .tc := ⟨.hbm, 368, rfl⟩
abbrev main_while1b_v271 : Ref sig .tc := ⟨.hbm, 369, rfl⟩
abbrev main_while1b_call12_c : Ref sig .tc := ⟨.hbm, 370, rfl⟩
abbrev main_while1b_call12_c_0 : Ref sig .tc := ⟨.hbm, 371, rfl⟩
abbrev main_while1b_call12_c_1 : Ref sig .tc := ⟨.hbm, 372, rfl⟩
abbrev main_while1b_call12_v0 : Ref sig .tc := ⟨.hbm, 373, rfl⟩
abbrev main_while1b_v272 : Ref sig .tc := ⟨.hbm, 374, rfl⟩
abbrev main_while1b_call13_c : Ref sig .tc := ⟨.hbm, 375, rfl⟩
abbrev main_while1b_call13_c_0 : Ref sig .tc := ⟨.hbm, 376, rfl⟩
abbrev main_while1b_call13_c_1 : Ref sig .tc := ⟨.hbm, 377, rfl⟩
abbrev main_while1b_call13_v0 : Ref sig .tc := ⟨.hbm, 378, rfl⟩
abbrev main_while1b_v273 : Ref sig .tc := ⟨.hbm, 379, rfl⟩
abbrev main_while1b_call14_c : Ref sig .tc := ⟨.hbm, 380, rfl⟩
abbrev main_while1b_call14_c_0 : Ref sig .tc := ⟨.hbm, 381, rfl⟩
abbrev main_while1b_call14_c_1 : Ref sig .tc := ⟨.hbm, 382, rfl⟩
abbrev main_while1b_call14_v0 : Ref sig .tc := ⟨.hbm, 383, rfl⟩
abbrev main_while1b_v274 : Ref sig .tc := ⟨.hbm, 384, rfl⟩
abbrev main_while1b_call15_c : Ref sig .tc := ⟨.hbm, 385, rfl⟩
abbrev main_while1b_call15_c_0 : Ref sig .tc := ⟨.hbm, 386, rfl⟩
abbrev main_while1b_call15_c_1 : Ref sig .tc := ⟨.hbm, 387, rfl⟩
abbrev main_while1b_call15_v0 : Ref sig .tc := ⟨.hbm, 388, rfl⟩
abbrev main_while1b_v275 : Ref sig .tc := ⟨.hbm, 389, rfl⟩
abbrev main_while1b_call16_c : Ref sig .tc := ⟨.hbm, 390, rfl⟩
abbrev main_while1b_call16_c_0 : Ref sig .tc := ⟨.hbm, 391, rfl⟩
abbrev main_while1b_call16_c_1 : Ref sig .tc := ⟨.hbm, 392, rfl⟩
abbrev main_while1b_call16_v0 : Ref sig .tc := ⟨.hbm, 393, rfl⟩
abbrev main_while1b_v276 : Ref sig .tc := ⟨.hbm, 394, rfl⟩
abbrev main_while1b_v277 : Ref sig .tc := ⟨.hbm, 395, rfl⟩
abbrev main_while1b_v278 : Ref sig .tc := ⟨.hbm, 396, rfl⟩
abbrev main_while1b_v279 : Ref sig .tc := ⟨.hbm, 397, rfl⟩
abbrev main_while1b_v280 : Ref sig .tc := ⟨.hbm, 398, rfl⟩
abbrev main_while1b_v281 : Ref sig .tc := ⟨.hbm, 399, rfl⟩
abbrev main_while1b_v282 : Ref sig .tc := ⟨.hbm, 400, rfl⟩
abbrev main_while1b_v283 : Ref sig .tc := ⟨.hbm, 401, rfl⟩
abbrev main_while1b_v284 : Ref sig .tc := ⟨.hbm, 402, rfl⟩
abbrev main_while1b_v285 : Ref sig .tc := ⟨.hbm, 403, rfl⟩
abbrev main_while1b_v286 : Ref sig .tc := ⟨.hbm, 404, rfl⟩
abbrev main_while1b_v287 : Ref sig .tc := ⟨.hbm, 405, rfl⟩
abbrev main_while1b_v288 : Ref sig .tc := ⟨.hbm, 406, rfl⟩
abbrev main_while1b_v289 : Ref sig .tc := ⟨.hbm, 407, rfl⟩
abbrev main_while1b_v290 : Ref sig .tc := ⟨.hbm, 408, rfl⟩
abbrev main_while1b_v291 : Ref sig .tc := ⟨.hbm, 409, rfl⟩
abbrev main_while1b_v292 : Ref sig .tc := ⟨.hbm, 410, rfl⟩
abbrev main_while1b_v293 : Ref sig .tc := ⟨.hbm, 411, rfl⟩
abbrev main_while1b_v294 : Ref sig .tc := ⟨.hbm, 412, rfl⟩
abbrev main_while1b_v295 : Ref sig .tc := ⟨.hbm, 413, rfl⟩
abbrev main_while1b_v296 : Ref sig .tc := ⟨.hbm, 414, rfl⟩
abbrev main_while1b_v297 : Ref sig .tc := ⟨.hbm, 415, rfl⟩
abbrev main_while1b_v298 : Ref sig .tc := ⟨.hbm, 416, rfl⟩
abbrev main_while1b_v299 : Ref sig .tc := ⟨.hbm, 417, rfl⟩
abbrev main_while1b_call17_v0 : Ref sig .tc := ⟨.hbm, 418, rfl⟩
abbrev main_while1b_call17_c : Ref sig .tc := ⟨.hbm, 419, rfl⟩
abbrev main_while1b_call17_c_0 : Ref sig .tc := ⟨.hbm, 420, rfl⟩
abbrev main_while1b_call17_c_1 : Ref sig .tc := ⟨.hbm, 421, rfl⟩
abbrev main_while1b_v300 : Ref sig .tc := ⟨.hbm, 422, rfl⟩
abbrev main_while1b_call18_v0 : Ref sig .tc := ⟨.hbm, 423, rfl⟩
abbrev main_while1b_call18_c : Ref sig .tc := ⟨.hbm, 424, rfl⟩
abbrev main_while1b_call18_c_0 : Ref sig .tc := ⟨.hbm, 425, rfl⟩
abbrev main_while1b_call18_c_1 : Ref sig .tc := ⟨.hbm, 426, rfl⟩
abbrev main_while1b_v301 : Ref sig .tc := ⟨.hbm, 427, rfl⟩
abbrev main_while1b_call19_v0 : Ref sig .tc := ⟨.hbm, 428, rfl⟩
abbrev main_while1b_call19_c : Ref sig .tc := ⟨.hbm, 429, rfl⟩
abbrev main_while1b_call19_c_0 : Ref sig .tc := ⟨.hbm, 430, rfl⟩
abbrev main_while1b_call19_c_1 : Ref sig .tc := ⟨.hbm, 431, rfl⟩
abbrev main_while1b_v302 : Ref sig .tc := ⟨.hbm, 432, rfl⟩
abbrev main_while1b_c_66 : Ref sig .tc := ⟨.hbm, 433, rfl⟩
abbrev main_while1b_v303 : Ref sig .tc := ⟨.hbm, 434, rfl⟩
abbrev main_v208 : Ref sig .tc := ⟨.hbm, 435, rfl⟩
abbrev main_v209 : Ref sig .tc := ⟨.hbm, 436, rfl⟩
abbrev main_v210 : Ref sig .tc := ⟨.hbm, 437, rfl⟩
abbrev main_v211 : Ref sig .tc := ⟨.hbm, 438, rfl⟩
abbrev main_v212 : Ref sig .tc := ⟨.hbm, 439, rfl⟩
abbrev main_v213 : Ref sig .tc := ⟨.hbm, 440, rfl⟩
abbrev main_v214 : Ref sig .tc := ⟨.hbm, 441, rfl⟩
abbrev main_v215 : Ref sig .tc := ⟨.hbm, 442, rfl⟩
abbrev main_v216 : Ref sig .tc := ⟨.hbm, 443, rfl⟩
abbrev main_v217 : Ref sig .tc := ⟨.hbm, 444, rfl⟩
abbrev main_v218 : Ref sig .tc := ⟨.hbm, 445, rfl⟩
abbrev main_v219 : Ref sig .tc := ⟨.hbm, 446, rfl⟩
abbrev main_v220 : Ref sig .tc := ⟨.hbm, 447, rfl⟩
abbrev main_v221 : Ref sig .tc := ⟨.hbm, 448, rfl⟩
abbrev main_v222 : Ref sig .tc := ⟨.hbm, 449, rfl⟩
abbrev main_v223 : Ref sig .tc := ⟨.hbm, 450, rfl⟩
abbrev main_v224 : Ref sig .tc := ⟨.hbm, 451, rfl⟩
abbrev main_v225 : Ref sig .tc := ⟨.hbm, 452, rfl⟩
abbrev main_v226 : Ref sig .tc := ⟨.hbm, 453, rfl⟩
abbrev main_v227 : Ref sig .tc := ⟨.hbm, 454, rfl⟩
abbrev main_v228 : Ref sig .tc := ⟨.hbm, 455, rfl⟩
abbrev main_v229 : Ref sig .tc := ⟨.hbm, 456, rfl⟩
abbrev main_v230 : Ref sig .tc := ⟨.hbm, 457, rfl⟩
abbrev main_v231 : Ref sig .tc := ⟨.hbm, 458, rfl⟩
abbrev main_cst_44 : Ref sig .tc := ⟨.hbm, 459, rfl⟩
abbrev main_v232 : Ref sig .tc := ⟨.hbm, 460, rfl⟩
abbrev main_cst_45 : Ref sig .tc := ⟨.hbm, 461, rfl⟩
abbrev main_v233 : Ref sig .tc := ⟨.hbm, 462, rfl⟩
abbrev main_v234 : Ref sig .tc := ⟨.hbm, 463, rfl⟩
abbrev main_v235 : Ref sig .tc := ⟨.hbm, 464, rfl⟩
abbrev main_cst_46 : Ref sig .tc := ⟨.hbm, 465, rfl⟩
abbrev main_v236 : Ref sig .tc := ⟨.hbm, 466, rfl⟩
abbrev main_v237 : Ref sig .tc := ⟨.hbm, 467, rfl⟩
abbrev main_v238 : Ref sig .tc := ⟨.hbm, 468, rfl⟩
abbrev main_v239 : Ref sig .tc := ⟨.hbm, 469, rfl⟩
abbrev main_v240 : Ref sig .tc := ⟨.hbm, 470, rfl⟩
abbrev main_v241 : Ref sig .tc := ⟨.hbm, 471, rfl⟩
abbrev main_v242 : Ref sig .tc := ⟨.hbm, 472, rfl⟩
abbrev main_v243 : Ref sig .tc := ⟨.hbm, 473, rfl⟩
abbrev main_v244 : Ref sig .tc := ⟨.hbm, 474, rfl⟩
abbrev main_v245 : Ref sig .tc := ⟨.hbm, 475, rfl⟩
abbrev main_v246 : Ref sig .tc := ⟨.hbm, 476, rfl⟩
abbrev main_v247 : Ref sig .tc := ⟨.hbm, 477, rfl⟩
abbrev main_v248 : Ref sig .tc := ⟨.hbm, 478, rfl⟩
abbrev main_v249 : Ref sig .tc := ⟨.hbm, 479, rfl⟩
abbrev main_v250 : Ref sig .tc := ⟨.hbm, 480, rfl⟩
abbrev main_cst_47 : Ref sig .tc := ⟨.hbm, 481, rfl⟩
abbrev main_v251 : Ref sig .tc := ⟨.hbm, 482, rfl⟩
abbrev main_cst_48 : Ref sig .tc := ⟨.hbm, 483, rfl⟩
abbrev main_v252 : Ref sig .tc := ⟨.hbm, 484, rfl⟩
abbrev main_v253 : Ref sig .tc := ⟨.hbm, 485, rfl⟩
abbrev main_v254 : Ref sig .tc := ⟨.hbm, 486, rfl⟩
abbrev main_v255 : Ref sig .tc := ⟨.hbm, 487, rfl⟩
abbrev main_v256 : Ref sig .tc := ⟨.hbm, 488, rfl⟩
abbrev main_v257 : Ref sig .tc := ⟨.hbm, 489, rfl⟩
abbrev main_v258 : Ref sig .tc := ⟨.hbm, 490, rfl⟩
abbrev main_v259 : Ref sig .tc := ⟨.hbm, 491, rfl⟩
abbrev main_v260 : Ref sig .tc := ⟨.hbm, 492, rfl⟩
abbrev main_v261 : Ref sig .tc := ⟨.hbm, 493, rfl⟩
abbrev main_v262 : Ref sig .tc := ⟨.hbm, 494, rfl⟩
abbrev main_v263 : Ref sig .tc := ⟨.hbm, 495, rfl⟩
abbrev main_v264 : Ref sig .tc := ⟨.hbm, 496, rfl⟩
abbrev main_v265 : Ref sig .tc := ⟨.hbm, 497, rfl⟩
abbrev main_v266 : Ref sig .tc := ⟨.hbm, 498, rfl⟩
abbrev main_v267 : Ref sig .tc := ⟨.hbm, 499, rfl⟩

abbrev nD : Nat := 1
abbrev τ : Topo := Topo.v7x

variable {F : FTy → Type} [FloatOps F]

abbrev main_while0_count : Scf.Loop 32 := ⟨0#32, 33#32, 1#32⟩

abbrev main_while1_count : Scf.Loop 32 := ⟨0#32, 33#32, 1#32⟩
-- ==== FfnKernel.lean ====
abbrev S4112x4096 : Shape := ⟨2, ![4112, 4096]⟩
abbrev S4096x22016 : Shape := ⟨2, ![4096, 22016]⟩
abbrev S3x11008 : Shape := ⟨2, ![3, 11008]⟩
abbrev S1x11008 : Shape := ⟨2, ![1, 11008]⟩
abbrev S11008x4096 : Shape := ⟨2, ![11008, 4096]⟩
abbrev S_ : Shape := ⟨0, ![]⟩
abbrev S112x4096 : Shape := ⟨2, ![112, 4096]⟩
abbrev S4224x4096 : Shape := ⟨2, ![4224, 4096]⟩
abbrev S4224x22016 : Shape := ⟨2, ![4224, 22016]⟩
abbrev S1408x4096 : Shape := ⟨2, ![1408, 4096]⟩
abbrev S4096x512 : Shape := ⟨2, ![4096, 512]⟩
abbrev S1408x512 : Shape := ⟨2, ![1408, 512]⟩
abbrev S4224x11008 : Shape := ⟨2, ![4224, 11008]⟩
abbrev S128x5504 : Shape := ⟨2, ![128, 5504]⟩
abbrev S16x5504 : Shape := ⟨2, ![16, 5504]⟩
abbrev S3x5504 : Shape := ⟨2, ![3, 5504]⟩
abbrev S1x5504 : Shape := ⟨2, ![1, 5504]⟩
abbrev S144x5504 : Shape := ⟨2, ![144, 5504]⟩
abbrev S384x11008 : Shape := ⟨2, ![384, 11008]⟩
abbrev S11008x512 : Shape := ⟨2, ![11008, 512]⟩
abbrev S384x512 : Shape := ⟨2, ![384, 512]⟩
abbrev S2112x4096 : Shape := ⟨2, ![2112, 4096]⟩
abbrev S256x4096 : Shape := ⟨2, ![256, 4096]⟩
abbrev S2112x256 : Shape := ⟨2, ![2112, 256]⟩
abbrev S4224x256 : Shape := ⟨2, ![4224, 256]⟩
abbrev S4224x2048 : Shape := ⟨2, ![4224, 2048]⟩
abbrev S256x2048 : Shape := ⟨2, ![256, 2048]⟩
abbrev S8x11008 : Shape := ⟨2, ![8, 11008]⟩
abbrev S8x5504 : Shape := ⟨2, ![8, 5504]⟩
abbrev S160x5504 : Shape := ⟨2, ![160, 5504]⟩
abbrev S5504 : Shape := ⟨1, ![5504]⟩
abbrev S4224x1024 : Shape := ⟨2, ![4224, 1024]⟩
abbrev S4224x512 : Shape := ⟨2, ![4224, 512]⟩
abbrev S1024x512 : Shape := ⟨2, ![1024, 512]⟩

abbrev nBuf : Space → Nat
  | .hbm => 29
  | .vmem => 66
  | .smem => 0
  | _ => 0

abbrev bufTy : (tb : Table) → Fin (tcTables nBuf tb) → BufTy
  | .hbm, ⟨0, _⟩ => ⟨S4112x4096, .f32⟩
  | .hbm, ⟨1, _⟩ => ⟨S4096x22016, .f32⟩
  | .hbm, ⟨2, _⟩ => ⟨S3x11008, .f32⟩
  | .hbm, ⟨3, _⟩ => ⟨S1x11008, .f32⟩
  | .hbm, ⟨4, _⟩ => ⟨S11008x4096, .f32⟩
  | .hbm, ⟨5, _⟩ => ⟨S4112x4096, .f32⟩
  | .hbm, ⟨6, _⟩ => ⟨S_, .f32⟩
  | .hbm, ⟨7, _⟩ => ⟨S112x4096, .f32⟩
  | .hbm, ⟨8, _⟩ => ⟨S4224x4096, .f32⟩
  | .hbm, ⟨9, _⟩ => ⟨S4224x4096, .bf16⟩
  | .hbm, ⟨10, _⟩ => ⟨S_, .f32⟩
  | .hbm, ⟨11, _⟩ => ⟨S112x4096, .f32⟩
  | .hbm, ⟨12, _⟩ => ⟨S4224x4096, .f32⟩
  | .hbm, ⟨13, _⟩ => ⟨S4224x4096, .bf16⟩
  | .hbm, ⟨14, _⟩ => ⟨S4096x22016, .bf16⟩
  | .hbm, ⟨15, _⟩ => ⟨S11008x4096, .bf16⟩
  | .hbm, ⟨16, _⟩ => ⟨S4224x22016, .bf16⟩
  | .hbm, ⟨17, _⟩ => ⟨S4224x11008, .bf16⟩
  | .hbm, ⟨18, _⟩ => ⟨S4224x4096, .f32⟩
  | .hbm, ⟨19, _⟩ => ⟨S4224x11008, .bf16⟩
  | .hbm, ⟨20, _⟩ => ⟨S11008x4096, .bf16⟩
  | .hbm, ⟨21, _⟩ => ⟨S4224x11008, .bf16⟩
  | .hbm, ⟨22, _⟩ => ⟨S4224x11008, .bf16⟩
  | .hbm, ⟨23, _⟩ => ⟨S8x11008, .f32⟩
  | .hbm, ⟨24, _⟩ => ⟨S4224x22016, .bf16⟩
  | .hbm, ⟨25, _⟩ => ⟨S4096x22016, .bf16⟩
  | .hbm, ⟨26, _⟩ => ⟨S4112x4096, .f32⟩
  | .hbm, ⟨27, _⟩ => ⟨S3x11008, .f32⟩
  | .hbm, ⟨28, _⟩ => ⟨S1x11008, .f32⟩
  | .local _ .vmem, ⟨0, _⟩ => ⟨S1408x4096, .bf16⟩
  | .local _ .vmem, ⟨1, _⟩ => ⟨S1408x4096, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | .local _ .vmem, ⟨6, _⟩ => ⟨S128x5504, .bf16⟩
  | .local _ .vmem, ⟨7, _⟩ => ⟨S128x5504, .bf16⟩
  | .local _ .vmem, ⟨8, _⟩ => ⟨S16x5504, .bf16⟩
  | .local _ .vmem, ⟨9, _⟩ => ⟨S16x5504, .bf16⟩
  | .local _ .vmem, ⟨10, _⟩ => ⟨S128x5504, .bf16⟩
  | .local _ .vmem, ⟨11, _⟩ => ⟨S128x5504, .bf16⟩
  | .local _ .vmem, ⟨12, _⟩ => ⟨S3x5504, .f32⟩
  | .local _ .vmem, ⟨13, _⟩ => ⟨S3x5504, .f32⟩
  | .local _ .vmem, ⟨14, _⟩ => ⟨S1x5504, .f32⟩
  | .local _ .vmem, ⟨15, _⟩ => ⟨S1x5504, .f32⟩
  | .local _ .vmem, ⟨16, _⟩ => ⟨S128x5504, .bf16⟩
  | .local _ .vmem, ⟨17, _⟩ => ⟨S128x5504, .bf16⟩
  | .local _ .vmem, ⟨18, _⟩ => ⟨S384x11008, .bf16⟩
  | .local _ .vmem, ⟨19, _⟩ => ⟨S384x11008, .bf16⟩
  | .local _ .vmem, ⟨20, _⟩ => ⟨S11008x512, .bf16⟩
  | .local _ .vmem, ⟨21, _⟩ => ⟨S11008x512, .bf16⟩
  | .local _ .vmem, ⟨22, _⟩ => ⟨S384x512, .f32⟩
  | .local _ .vmem, ⟨23, _⟩ => ⟨S384x512, .f32⟩
  | .local _ .vmem, ⟨24, _⟩ => ⟨S2112x4096, .bf16⟩
  | .local _ .vmem, ⟨25, _⟩ => ⟨S2112x4096, .bf16⟩
  | .local _ .vmem, ⟨26, _⟩ => ⟨S256x4096, .bf16⟩
  | .local _ .vmem, ⟨27, _⟩ => ⟨S256x4096, .bf16⟩
  | .local _ .vmem, ⟨28, _⟩ => ⟨S2112x256, .bf16⟩
  | .local _ .vmem, ⟨29, _⟩ => ⟨S2112x256, .bf16⟩
  | .local _ .vmem, ⟨30, _⟩ => ⟨S4224x256, .bf16⟩
  | .local _ .vmem, ⟨31, _⟩ => ⟨S4224x256, .bf16⟩
  | .local _ .vmem, ⟨32, _⟩ => ⟨S4224x2048, .bf16⟩
  | .local _ .vmem, ⟨33, _⟩ => ⟨S4224x2048, .bf16⟩
  | .local _ .vmem, ⟨34, _⟩ => ⟨S256x2048, .bf16⟩
  | .local _ .vmem, ⟨35, _⟩ => ⟨S256x2048, .bf16⟩
  | .local _ .vmem, ⟨36, _⟩ => ⟨S128x5504, .bf16⟩
  | .local _ .vmem, ⟨37, _⟩ => ⟨S128x5504, .bf16⟩
  | .local _ .vmem, ⟨38, _⟩ => ⟨S16x5504, .bf16⟩
  | .local _ .vmem, ⟨39, _⟩ => ⟨S16x5504, .bf16⟩
  | .local _ .vmem, ⟨40, _⟩ => ⟨S16x5504, .bf16⟩
  | .local _ .vmem, ⟨41, _⟩ => ⟨S16x5504, .bf16⟩
  | .local _ .vmem, ⟨42, _⟩ => ⟨S128x5504, .bf16⟩
  | .local _ .vmem, ⟨43, _⟩ => ⟨S128x5504, .bf16⟩
  | .local _ .vmem, ⟨44, _⟩ => ⟨S16x5504, .bf16⟩
  | .local _ .vmem, ⟨45, _⟩ => ⟨S16x5504, .bf16⟩
  | .local _ .vmem, ⟨46, _⟩ => ⟨S128x5504, .bf16⟩
  | .local _ .vmem, ⟨47, _⟩ => ⟨S128x5504, .bf16⟩
  | .local _ .vmem, ⟨48, _⟩ => ⟨S16x5504, .bf16⟩
  | .local _ .vmem, ⟨49, _⟩ => ⟨S16x5504, .bf16⟩
  | .local _ .vmem, ⟨50, _⟩ => ⟨S3x5504, .f32⟩
  | .local _ .vmem, ⟨51, _⟩ => ⟨S3x5504, .f32⟩
  | .local _ .vmem, ⟨52, _⟩ => ⟨S1x5504, .f32⟩
  | .local _ .vmem, ⟨53, _⟩ => ⟨S1x5504, .f32⟩
  | .local _ .vmem, ⟨54, _⟩ => ⟨S128x5504, .bf16⟩
  | .local _ .vmem, ⟨55, _⟩ => ⟨S128x5504, .bf16⟩
  | .local _ .vmem, ⟨56, _⟩ => ⟨S128x5504, .bf16⟩
  | .local _ .vmem, ⟨57, _⟩ => ⟨S128x5504, .bf16⟩
  | .local _ .vmem, ⟨58, _⟩ => ⟨S8x5504, .f32⟩
  | .local _ .vmem, ⟨59, _⟩ => ⟨S8x5504, .f32⟩
  | .local _ .vmem, ⟨60, _⟩ => ⟨S4224x1024, .bf16⟩
  | .local _ .vmem, ⟨61, _⟩ => ⟨S4224x1024, .bf16⟩
  | .local _ .vmem, ⟨62, _⟩ => ⟨S4224x512, .bf16⟩
  | .local _ .vmem, ⟨63, _⟩ => ⟨S4224x512, .bf16⟩
  | .local _ .vmem, ⟨64, _⟩ => ⟨S1024x512, .bf16⟩
  | .local _ .vmem, ⟨65, _⟩ => ⟨S1024x512, .bf16⟩
  | _, _ => ⟨S4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc5_stg4_0 : Ref sig .tc := ⟨.vmem, 44, rfl⟩
abbrev cc5_stg4_1 : Ref sig .tc := ⟨.vmem, 45, rfl⟩
abbrev cc5_stg5_0 : Ref sig .tc := ⟨.vmem, 46, rfl⟩
abbrev cc5_stg5_1 : Ref sig .tc := ⟨.vmem, 47, rfl⟩
abbrev cc5_stg6_0 : Ref sig .tc := ⟨.vmem, 48, rfl⟩
abbrev cc5_stg6_1 : Ref sig .tc := ⟨.vmem, 49, rfl⟩
abbrev cc5_stg7_0 : Ref sig .tc := ⟨.vmem, 50, rfl⟩
abbrev cc5_stg7_1 : Ref sig .tc := ⟨.vmem, 51, rfl⟩
abbrev cc5_stg8_0 : Ref sig .tc := ⟨.vmem, 52, rfl⟩
abbrev cc5_stg8_1 : Ref sig .tc := ⟨.vmem, 53, rfl⟩
abbrev cc5_stg9_0 : Ref sig .tc := ⟨.vmem, 54, rfl⟩
abbrev cc5_stg9_1 : Ref sig .tc := ⟨.vmem, 55, rfl⟩
abbrev cc5_stg10_0 : Ref sig .tc := ⟨.vmem, 56, rfl⟩
abbrev cc5_stg10_1 : Ref sig .tc := ⟨.vmem, 57, rfl⟩
abbrev cc5_stg11_0 : Ref sig .tc := ⟨.vmem, 58, rfl⟩
abbrev cc5_stg11_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem3_1 : DmaSem sig := 43
abbrev cc5_sem4_0 : DmaSem sig := 44
abbrev cc5_sem4_1 : DmaSem sig := 45
abbrev cc5_sem5_0 : DmaSem sig := 46
abbrev cc5_sem5_1 : DmaSem sig := 47
abbrev cc5_sem6_0 : DmaSem sig := 48
abbrev cc5_sem6_1 : DmaSem sig := 49
abbrev cc5_sem7_0 : DmaSem sig := 50
abbrev cc5_sem7_1 : DmaSem sig := 51
abbrev cc5_sem8_0 : DmaSem sig := 52
abbrev cc5_sem8_1 : DmaSem sig := 53
abbrev cc5_sem9_0 : DmaSem sig := 54
abbrev cc5_sem9_1 : DmaSem sig := 55
abbrev cc5_sem10_0 : DmaSem sig := 56
abbrev cc5_sem10_1 : DmaSem sig := 57
abbrev cc5_sem11_0 : DmaSem sig := 58
abbrev cc5_sem11_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65

abbrev nD : Nat := 1
abbrev τ : Topo := Topo.v7x

variable {F : FTy → Type} [FloatOps F]

abbrev grid0 : Pipeline.Grid := ⟨3, ![3, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![2, 33], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x5504 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x5504 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x5504 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S3x5504 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x5504 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S128x5504 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![8, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S384x11008 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S11008x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S384x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 43, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2112x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S256x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2112x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 43, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S4224x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S4224x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S256x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![2, 33], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc5_transform_1 (i : grid5.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc5_transform_2 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c263_i32 : BitVec 32 := 263#32
  let v2 : BitVec 32 := Scalar.minsi v1 c263_i32
  let c0_i32 : BitVec 32 := 0#32
  let v3 : BitVec 32 := Scalar.addi arg0 c0_i32
  let c0_i32_0 : BitVec 32 := 0#32
  ![v2.toNat, v3.toNat]

def cc5_transform_3 (i : grid5.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc5_transform_4 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c263_i32 : BitVec 32 := 263#32
  let v2 : BitVec 32 := Scalar.minsi v1 c263_i32
  let c2_i32 : BitVec 32 := 2#32
  let v3 : BitVec 32 := Scalar.addi arg0 c2_i32
  let c0_i32 : BitVec 32 := 0#32
  ![v2.toNat, v3.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc5_transform_6 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c263_i32 : BitVec 32 := 263#32
  let v2 : BitVec 32 := Scalar.minsi v1 c263_i32
  let c0_i32 : BitVec 32 := 0#32
  let v3 : BitVec 32 := Scalar.addi arg0 c0_i32
  let c0_i32_0 : BitVec 32 := 0#32
  ![v2.toNat, v3.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_9 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc5_transform_10 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc5_transform_11 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S128x5504 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S16x5504 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S16x5504 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S128x5504 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S16x5504 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S128x5504 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S16x5504 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S3x5504 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, false]

abbrev stage5_8 : Fin 2 → Memref sig .tc .vmem S1x5504 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, false]

abbrev stage5_9 : Fin 2 → Memref sig .tc .vmem S128x5504 .bf16 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true, true]

abbrev stage5_10 : Fin 2 → Memref sig .tc .vmem S128x5504 .bf16 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true, true]

abbrev stage5_11 : Fin 2 → Memref sig .tc .vmem S8x5504 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true, false]

abbrev grid6 : Pipeline.Grid := ⟨3, ![4, 43, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S4224x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S4224x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== FfnReferenceIdeal.lean ====
abbrev S4112x4096 : Shape := ⟨2, ![4112, 4096]⟩
abbrev S4096x22016 : Shape := ⟨2, ![4096, 22016]⟩
abbrev S3x11008 : Shape := ⟨2, ![3, 11008]⟩
abbrev S1x11008 : Shape := ⟨2, ![1, 11008]⟩
abbrev S11008x4096 : Shape := ⟨2, ![11008, 4096]⟩
abbrev S4112x22016 : Shape := ⟨2, ![4112, 22016]⟩
abbrev S4112x11008 : Shape := ⟨2, ![4112, 11008]⟩
abbrev S_ : Shape := ⟨0, ![]⟩
abbrev S2x11008 : Shape := ⟨2, ![2, 11008]⟩
abbrev S4114x11008 : Shape := ⟨2, ![4114, 11008]⟩
abbrev S11008 : Shape := ⟨1, ![11008]⟩
abbrev S4096x11008 : Shape := ⟨2, ![4096, 11008]⟩
abbrev S22016x4096 : Shape := ⟨2, ![22016, 4096]⟩

abbrev nBuf : Space → Nat
  | .hbm => 122
  | .vmem => 0
  | .smem => 0
  | _ => 0

abbrev bufTy : (tb : Table) → Fin (tcTables nBuf tb) → BufTy
  | .hbm, ⟨0, _⟩ => ⟨S4112x4096, .f32⟩
  | .hbm, ⟨1, _⟩ => ⟨S4096x22016, .f32⟩
  | .hbm, ⟨2, _⟩ => ⟨S3x11008, .f32⟩
  | .hbm, ⟨3, _⟩ => ⟨S1x11008, .f32⟩
  | .hbm, ⟨4, _⟩ => ⟨S11008x4096, .f32⟩
  | .hbm, ⟨5, _⟩ => ⟨S4112x4096, .f32⟩
  | .hbm, ⟨6, _⟩ => ⟨S4112x22016, .f32⟩
  | .hbm, ⟨7, _⟩ => ⟨S4112x11008, .f32⟩
  | .hbm, ⟨8, _⟩ => ⟨S4112x11008, .f32⟩
  | .hbm, ⟨9, _⟩ => ⟨S_, .f32⟩
  | .hbm, ⟨10, _⟩ => ⟨S2x11008, .f32⟩
  | .hbm, ⟨11, _⟩ => ⟨S4114x11008, .f32⟩
  | .hbm, ⟨12, _⟩ => ⟨S_, .f32⟩
  | .hbm, ⟨13, _⟩ => ⟨S2x11008, .f32⟩
  | .hbm, ⟨14, _⟩ => ⟨S11008, .f32⟩
  | .hbm, ⟨15, _⟩ => ⟨S1x11008, .f32⟩
  | .hbm, ⟨16, _⟩ => ⟨S4112x11008, .f32⟩
  | .hbm, ⟨17, _⟩ => ⟨S1x11008, .f32⟩
  | .hbm, ⟨18, _⟩ => ⟨S11008, .f32⟩
  | .hbm, ⟨19, _⟩ => ⟨S1x11008, .f32⟩
  | .hbm, ⟨20, _⟩ => ⟨S4112x11008, .f32⟩
  | .hbm, ⟨21, _⟩ => ⟨S4112x11008, .f32⟩
  | .hbm, ⟨22, _⟩ => ⟨S4112x11008, .f32⟩
  | .hbm, ⟨23, _⟩ => ⟨S4112x11008, .f32⟩
  | .hbm, ⟨24, _⟩ => ⟨S4112x11008, .f32⟩
  | .hbm, ⟨25, _⟩ => ⟨S1x11008, .f32⟩
  | .hbm, ⟨26, _⟩ => ⟨S11008, .f32⟩
  | .hbm, ⟨27, _⟩ => ⟨S1x11008, .f32⟩
  | .hbm, ⟨28, _⟩ => ⟨S4112x11008, .f32⟩
  | .hbm, ⟨29, _⟩ => ⟨S4112x11008, .f32⟩
  | .hbm, ⟨30, _⟩ => ⟨S4112x11008, .f32⟩
  | .hbm, ⟨31, _⟩ => ⟨S4112x11008, .f32⟩
  | .hbm, ⟨32, _⟩ => ⟨S1x11008, .f32⟩
  | .hbm, ⟨33, _⟩ => ⟨S11008, .f32⟩
  | .hbm, ⟨34, _⟩ => ⟨S1x11008, .f32⟩
  | .hbm, ⟨35, _⟩ => ⟨S4112x11008, .f32⟩
  | .hbm, ⟨36, _⟩ => ⟨S4112x11008, .f32⟩
  | .hbm, ⟨37, _⟩ => ⟨S4112x11008, .f32⟩
  | .hbm, ⟨38, _⟩ => ⟨S4112x11008, .f32⟩
  | .hbm, ⟨39, _⟩ => ⟨S4112x11008, .f32⟩
  | .hbm, ⟨40, _⟩ => ⟨S_, .f32⟩
  | .hbm, ⟨41, _⟩ => ⟨S4112x11008, .f32⟩
  | .hbm, ⟨42, _⟩ => ⟨S4112x11008, .f32⟩
  | .hbm, ⟨43, _⟩ => ⟨S_, .f32⟩
  | .hbm, ⟨44, _⟩ => ⟨S4112x11008, .f32⟩
  | .hbm, ⟨45, _⟩ => ⟨S4112x11008, .f32⟩
  | .hbm, ⟨46, _⟩ => ⟨S_, .f32⟩
  | .hbm, ⟨47, _⟩ => ⟨S4112x11008, .f32⟩
  | .hbm, ⟨48, _⟩ => ⟨S4112x11008, .f32⟩
  | .hbm, ⟨49, _⟩ => ⟨S4112x11008, .f32⟩
  | .hbm, ⟨50, _⟩ => ⟨S4112x11008, .f32⟩
  | .hbm, ⟨51, _⟩ => ⟨S4112x11008, .f32⟩
  | .hbm, ⟨52, _⟩ => ⟨S4112x4096, .f32⟩
  | .hbm, ⟨53, _⟩ => ⟨S4096x11008, .f32⟩
  | .hbm, ⟨54, _⟩ => ⟨S11008x4096, .f32⟩
  | .hbm, ⟨55, _⟩ => ⟨S4112x11008, .f32⟩
  | .hbm, ⟨56, _⟩ => ⟨S4112x11008, .f32⟩
  | .hbm, ⟨57, _⟩ => ⟨S4112x11008, .f32⟩
  | .hbm, ⟨58, _⟩ => ⟨S4112x11008, .f32⟩
  | .hbm, ⟨59, _⟩ => ⟨S4112x11008, .f32⟩
  | .hbm, ⟨60, _⟩ => ⟨S4112x11008, .f32⟩
  | .hbm, ⟨61, _⟩ => ⟨S4112x11008, .f32⟩
  | .hbm, ⟨62, _⟩ => ⟨S4112x11008, .f32⟩
  | .hbm, ⟨63, _⟩ => ⟨S_, .f32⟩
  | .hbm, ⟨64, _⟩ => ⟨S11008, .f32⟩
  | .hbm, ⟨65, _⟩ => ⟨S1x11008, .f32⟩
  | .hbm, ⟨66, _⟩ => ⟨S4112x11008, .f32⟩
  | .hbm, ⟨67, _⟩ => ⟨S4112x11008, .f32⟩
  | .hbm, ⟨68, _⟩ => ⟨S_, .f32⟩
  | .hbm, ⟨69, _⟩ => ⟨S11008, .f32⟩
  | .hbm, ⟨70, _⟩ => ⟨S1x11008, .f32⟩
  | .hbm, ⟨71, _⟩ => ⟨S_, .f32⟩
  | .hbm, ⟨72, _⟩ => ⟨S3x11008, .f32⟩
  | .hbm, ⟨73, _⟩ => ⟨S_, .f32⟩
  | .hbm, ⟨74, _⟩ => ⟨S4114x11008, .f32⟩
  | .hbm, ⟨75, _⟩ => ⟨S4112x11008, .f32⟩
  | .hbm, ⟨76, _⟩ => ⟨S_, .f32⟩
  | .hbm, ⟨77, _⟩ => ⟨S11008, .f32⟩
  | .hbm, ⟨78, _⟩ => ⟨S1x11008, .f32⟩
  | .hbm, ⟨79, _⟩ => ⟨S4112x11008, .f32⟩
  | .hbm, ⟨80, _⟩ => ⟨S4112x11008, .f32⟩
  | .hbm, ⟨81, _⟩ => ⟨S_, .f32⟩
  | .hbm, ⟨82, _⟩ => ⟨S11008, .f32⟩
  | .hbm, ⟨83, _⟩ => ⟨S1x11008, .f32⟩
  | .hbm, ⟨84, _⟩ => ⟨S_, .f32⟩
  | .hbm, ⟨85, _⟩ => ⟨S3x11008, .f32⟩
  | .hbm, ⟨86, _⟩ => ⟨S3x11008, .f32⟩
  | .hbm, ⟨87, _⟩ => ⟨S_, .f32⟩
  | .hbm, ⟨88, _⟩ => ⟨S4114x11008, .f32⟩
  | .hbm, ⟨89, _⟩ => ⟨S4114x11008, .f32⟩
  | .hbm, ⟨90, _⟩ => ⟨S_, .f32⟩
  | .hbm, ⟨91, _⟩ => ⟨S11008, .f32⟩
  | .hbm, ⟨92, _⟩ => ⟨S1x11008, .f32⟩
  | .hbm, ⟨93, _⟩ => ⟨S4112x11008, .f32⟩
  | .hbm, ⟨94, _⟩ => ⟨S_, .f32⟩
  | .hbm, ⟨95, _⟩ => ⟨S11008, .f32⟩
  | .hbm, ⟨96, _⟩ => ⟨S1x11008, .f32⟩
  | .hbm, ⟨97, _⟩ => ⟨S4112x11008, .f32⟩
  | .hbm, ⟨98, _⟩ => ⟨S4112x11008, .f32⟩
  | .hbm, ⟨99, _⟩ => ⟨S_, .f32⟩
  | .hbm, ⟨100, _⟩ => ⟨S11008, .f32⟩
  | .hbm, ⟨101, _⟩ => ⟨S1x11008, .f32⟩
  | .hbm, ⟨102, _⟩ => ⟨S_, .f32⟩
  | .hbm, ⟨103, _⟩ => ⟨S3x11008, .f32⟩
  | .hbm, ⟨104, _⟩ => ⟨S3x11008, .f32⟩
  | .hbm, ⟨105, _⟩ => ⟨S_, .f32⟩
  | .hbm, ⟨106, _⟩ => ⟨S4114x11008, .f32⟩
  | .hbm, ⟨107, _⟩ => ⟨S4114x11008, .f32⟩
  | .hbm, ⟨108, _⟩ => ⟨S_, .f32⟩
  | .hbm, ⟨109, _⟩ => ⟨S11008, .f32⟩
  | .hbm, ⟨110, _⟩ => ⟨S1x11008, .f32⟩
  | .hbm, ⟨111, _⟩ => ⟨S2x11008, .f32⟩
  | .hbm, ⟨112, _⟩ => ⟨S4112x11008, .f32⟩
  | .hbm, ⟨113, _⟩ => ⟨S_, .f32⟩
  | .hbm, ⟨114, _⟩ => ⟨S4112x22016, .f32⟩
  | .hbm, ⟨115, _⟩ => ⟨S_, .f32⟩
  | .hbm, ⟨116, _⟩ => ⟨S4112x22016, .f32⟩
  | .hbm, ⟨117, _⟩ => ⟨S4112x22016, .f32⟩
  | .hbm, ⟨118, _⟩ => ⟨S22016x4096, .f32⟩
  | .hbm, ⟨119, _⟩ => ⟨S4096x22016, .f32⟩
  | .hbm, ⟨120, _⟩ => ⟨S4096x22016, .bf16⟩
  | .hbm, ⟨121, _⟩ => ⟨S11008x4096, .bf16⟩
  | _, _ => ⟨S4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v38 : Ref sig .tc := ⟨.hbm, 61, rfl⟩
abbrev main_v39 : Ref sig .tc := ⟨.hbm, 62, rfl⟩
abbrev main_cst_1 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_2 : Ref sig .tc := ⟨.hbm, 68, rfl⟩
abbrev main_v44 : Ref sig .tc := ⟨.hbm, 69, rfl⟩
abbrev main_v45 : Ref sig .tc := ⟨.hbm, 70, rfl⟩
abbrev main_cst_3 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_v57 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_v71 : Ref sig .tc := ⟨.hbm, 107, rfl⟩
abbrev main_cst_14 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_15 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩

abbrev nD : Nat := 1
abbrev τ : Topo := Topo.v7x

variable {F : FTy → Type} [FloatOps F]
-- ==== ProjKernel.lean ====
abbrev S4112x4096 : Shape := ⟨2, ![4112, 4096]⟩
abbrev S4096x14336 : Shape := ⟨2, ![4096, 14336]⟩
abbrev S4096x4096 : Shape := ⟨2, ![4096, 4096]⟩
abbrev S4112x14336 : Shape := ⟨2, ![4112, 14336]⟩
abbrev S_ : Shape := ⟨0, ![]⟩
abbrev S112x4096 : Shape := ⟨2, ![112, 4096]⟩
abbrev S4224x4096 : Shape := ⟨2, ![4224, 4096]⟩
abbrev S112x14336 : Shape := ⟨2, ![112, 14336]⟩
abbrev S4224x14336 : Shape := ⟨2, ![4224, 14336]⟩
abbrev S704x4096 : Shape := ⟨2, ![704, 4096]⟩
abbrev S4096x1024 : Shape := ⟨2, ![4096, 1024]⟩
abbrev S704x1024 : Shape := ⟨2, ![704, 1024]⟩
abbrev S1024x4096 : Shape := ⟨2, ![1024, 4096]⟩
abbrev S4224x1024 : Shape := ⟨2, ![4224, 1024]⟩
abbrev S1024x1024 : Shape := ⟨2, ![1024, 1024]⟩

abbrev nBuf : Space → Nat
  | .hbm => 32
  | .vmem => 30
  | .smem => 0
  | _ => 0

abbrev bufTy : (tb : Table) → Fin (tcTables nBuf tb) → BufTy
  | .hbm, ⟨0, _⟩ => ⟨S4112x4096, .f32⟩
  | .hbm, ⟨1, _⟩ => ⟨S4096x14336, .f32⟩
  | .hbm, ⟨2, _⟩ => ⟨S4112x4096, .f32⟩
  | .hbm, ⟨3, _⟩ => ⟨S4096x4096, .f32⟩
  | .hbm, ⟨4, _⟩ => ⟨S4112x4096, .f32⟩
  | .hbm, ⟨5, _⟩ => ⟨S4112x14336, .f32⟩
  | .hbm, ⟨6, _⟩ => ⟨S_, .f32⟩
  | .hbm, ⟨7, _⟩ => ⟨S112x4096, .f32⟩
  | .hbm, ⟨8, _⟩ => ⟨S4224x4096, .f32⟩
  | .hbm, ⟨9, _⟩ => ⟨S4224x4096, .bf16⟩
  | .hbm, ⟨10, _⟩ => ⟨S_, .f32⟩
  | .hbm, ⟨11, _⟩ => ⟨S112x4096, .f32⟩
  | .hbm, ⟨12, _⟩ => ⟨S4224x4096, .f32⟩
  | .hbm, ⟨13, _⟩ => ⟨S4224x4096, .bf16⟩
  | .hbm, ⟨14, _⟩ => ⟨S_, .f32⟩
  | .hbm, ⟨15, _⟩ => ⟨S112x4096, .f32⟩
  | .hbm, ⟨16, _⟩ => ⟨S4224x4096, .f32⟩
  | .hbm, ⟨17, _⟩ => ⟨S4224x4096, .bf16⟩
  | .hbm, ⟨18, _⟩ => ⟨S_, .f32⟩
  | .hbm, ⟨19, _⟩ => ⟨S112x14336, .f32⟩
  | .hbm, ⟨20, _⟩ => ⟨S4224x14336, .f32⟩
  | .hbm, ⟨21, _⟩ => ⟨S4224x14336, .bf16⟩
  | .hbm, ⟨22, _⟩ => ⟨S4096x14336, .bf16⟩
  | .hbm, ⟨23, _⟩ => ⟨S4096x4096, .bf16⟩
  | .hbm, ⟨24, _⟩ => ⟨S4224x14336, .f32⟩
  | .hbm, ⟨25, _⟩ => ⟨S4224x4096, .f32⟩
  | .hbm, ⟨26, _⟩ => ⟨S4224x4096, .f32⟩
  | .hbm, ⟨27, _⟩ => ⟨S4096x4096, .bf16⟩
  | .hbm, ⟨28, _⟩ => ⟨S4096x14336, .bf16⟩
  | .hbm, ⟨29, _⟩ => ⟨S4112x14336, .f32⟩
  | .hbm, ⟨30, _⟩ => ⟨S4112x4096, .f32⟩
  | .hbm, ⟨31, _⟩ => ⟨S4112x4096, .f32⟩
  | .local _ .vmem, ⟨0, _⟩ => ⟨S704x4096, .bf16⟩
  | .local _ .vmem, ⟨1, _⟩ => ⟨S704x4096, .bf16⟩
  | .local _ .vmem, ⟨2, _⟩ => ⟨S4096x1024, .bf16⟩
  | .local _ .vmem, ⟨3, _⟩ => ⟨S4096x1024, .bf16⟩
  | .local _ .vmem, ⟨4, _⟩ => ⟨S704x1024, .f32⟩
  | .local _ .vmem, ⟨5, _⟩ => ⟨S704x1024, .f32⟩
  | .local _ .vmem, ⟨6, _⟩ => ⟨S704x4096, .bf16⟩
  | .local _ .vmem, ⟨7, _⟩ => ⟨S704x4096, .bf16⟩
  | .local _ .vmem, ⟨8, _⟩ => ⟨S4096x1024, .bf16⟩
  | .local _ .vmem, ⟨9, _⟩ => ⟨S4096x1024, .bf16⟩
  | .local _ .vmem, ⟨10, _⟩ => ⟨S704x1024, .f32⟩
  | .local _ .vmem, ⟨11, _⟩ => ⟨S704x1024, .f32⟩
  | .local _ .vmem, ⟨12, _⟩ => ⟨S704x4096, .bf16⟩
  | .local _ .vmem, ⟨13, _⟩ => ⟨S704x4096, .bf16⟩
  | .local _ .vmem, ⟨14, _⟩ => ⟨S1024x4096, .bf16⟩
  | .local _ .vmem, ⟨15, _⟩ => ⟨S1024x4096, .bf16⟩
  | .local _ .vmem, ⟨16, _⟩ => ⟨S704x1024, .f32⟩
  | .local _ .vmem, ⟨17, _⟩ => ⟨S704x1024, .f32⟩
  | .local _ .vmem, ⟨18, _⟩ => ⟨S4224x1024, .bf16⟩
  | .local _ .vmem, ⟨19, _⟩ => ⟨S4224x1024, .bf16⟩
  | .local _ .vmem, ⟨20, _⟩ => ⟨S4224x1024, .bf16⟩
  | .local _ .vmem, ⟨21, _⟩ => ⟨S4224x1024, .bf16⟩
  | .local _ .vmem, ⟨22, _⟩ => ⟨S1024x1024, .bf16⟩
  | .local _ .vmem, ⟨23, _⟩ => ⟨S1024x1024, .bf16⟩
  | .local _ .vmem, ⟨24, _⟩ => ⟨S4224x1024, .bf16⟩
  | .local _ .vmem, ⟨25, _⟩ => ⟨S4224x1024, .bf16⟩
  | .local _ .vmem, ⟨26, _⟩ => ⟨S4224x1024, .bf16⟩
  | .local _ .vmem, ⟨27, _⟩ => ⟨S4224x1024, .bf16⟩
  | .local _ .vmem, ⟨28, _⟩ => ⟨S1024x1024, .bf16⟩
  | .local _ .vmem, ⟨29, _⟩ => ⟨S1024x1024, .bf16⟩
  | _, _ => ⟨S4112x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨3, ![6, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![6, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S704x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S704x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![6, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S704x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S704x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4224x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4224x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 14, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4224x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4224x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== ProjReferenceIdeal.lean ====
abbrev S4112x4096 : Shape := ⟨2, ![4112, 4096]⟩
abbrev S4096x14336 : Shape := ⟨2, ![4096, 14336]⟩
abbrev S4096x4096 : Shape := ⟨2, ![4096, 4096]⟩
abbrev S4112x14336 : Shape := ⟨2, ![4112, 14336]⟩
abbrev S14336x4096 : Shape := ⟨2, ![14336, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4112x4096, .f32⟩
  | .hbm, ⟨1, _⟩ => ⟨S4096x14336, .f32⟩
  | .hbm, ⟨2, _⟩ => ⟨S4112x4096, .f32⟩
  | .hbm, ⟨3, _⟩ => ⟨S4096x4096, .f32⟩
  | .hbm, ⟨4, _⟩ => ⟨S4112x4096, .f32⟩
  | .hbm, ⟨5, _⟩ => ⟨S4112x14336, .f32⟩
  | .hbm, ⟨6, _⟩ => ⟨S4112x14336, .f32⟩
  | .hbm, ⟨7, _⟩ => ⟨S4112x4096, .f32⟩
  | .hbm, ⟨8, _⟩ => ⟨S4096x4096, .f32⟩
  | .hbm, ⟨9, _⟩ => ⟨S4096x4096, .f32⟩
  | .hbm, ⟨10, _⟩ => ⟨S4112x4096, .f32⟩
  | .hbm, ⟨11, _⟩ => ⟨S14336x4096, .f32⟩
  | .hbm, ⟨12, _⟩ => ⟨S4096x14336, .f32⟩
  | .hbm, ⟨13, _⟩ => ⟨S4096x4096, .bf16⟩
  | .hbm, ⟨14, _⟩ => ⟨S4096x14336, .bf16⟩
  | _, _ => ⟨S4112x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Dn1Kernel.lean ====
abbrev S4224x14336 : Shape := ⟨2, ![4224, 14336]⟩
abbrev S4096x14336 : Shape := ⟨2, ![4096, 14336]⟩
abbrev S4224x4096 : Shape := ⟨2, ![4224, 4096]⟩
abbrev S704x2048 : Shape := ⟨2, ![704, 2048]⟩
abbrev S2048x2048 : Shape := ⟨2, ![2048, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4224x14336, .f32⟩
  | .hbm, ⟨1, _⟩ => ⟨S4096x14336, .f32⟩
  | .hbm, ⟨2, _⟩ => ⟨S4224x14336, .bf16⟩
  | .hbm, ⟨3, _⟩ => ⟨S4096x14336, .bf16⟩
  | .hbm, ⟨4, _⟩ => ⟨S4224x4096, .f32⟩
  | .local _ .vmem, ⟨0, _⟩ => ⟨S704x2048, .bf16⟩
  | .local _ .vmem, ⟨1, _⟩ => ⟨S704x2048, .bf16⟩
  | .local _ .vmem, ⟨2, _⟩ => ⟨S2048x2048, .bf16⟩
  | .local _ .vmem, ⟨3, _⟩ => ⟨S2048x2048, .bf16⟩
  | .local _ .vmem, ⟨4, _⟩ => ⟨S704x2048, .f32⟩
  | .local _ .vmem, ⟨5, _⟩ => ⟨S704x2048, .f32⟩
  | .local _ .vmem, ⟨6, _⟩ => ⟨S704x2048, .f32⟩
  | _, _ => ⟨S4224x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 7], ![false, false, false]⟩

def k0_cond3 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dn1ReferenceIdeal.lean ====
abbrev S4224x14336 : Shape := ⟨2, ![4224, 14336]⟩
abbrev S4096x14336 : Shape := ⟨2, ![4096, 14336]⟩
abbrev S_ : Shape := ⟨0, ![]⟩
abbrev S4224x4096 : Shape := ⟨2, ![4224, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4224x14336, .f32⟩
  | .hbm, ⟨1, _⟩ => ⟨S4096x14336, .f32⟩
  | .hbm, ⟨2, _⟩ => ⟨S_, .f32⟩
  | .hbm, ⟨3, _⟩ => ⟨S4224x4096, .f32⟩
  | .hbm, ⟨4, _⟩ => ⟨S4224x14336, .f32⟩
  | .hbm, ⟨5, _⟩ => ⟨S4224x4096, .f32⟩
  | _, _ => ⟨S4224x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dn2Kernel.lean ====
abbrev S4224x22016 : Shape := ⟨2, ![4224, 22016]⟩
abbrev S4096x22016 : Shape := ⟨2, ![4096, 22016]⟩
abbrev S4224x4096 : Shape := ⟨2, ![4224, 4096]⟩
abbrev S528x5504 : Shape := ⟨2, ![528, 5504]⟩
abbrev S1024x5504 : Shape := ⟨2, ![1024, 5504]⟩
abbrev S528x1024 : Shape := ⟨2, ![528, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x22016, .f32⟩
  | .hbm, ⟨1, _⟩ => ⟨S4096x22016, .f32⟩
  | .hbm, ⟨2, _⟩ => ⟨S4224x22016, .bf16⟩
  | .hbm, ⟨3, _⟩ => ⟨S4096x22016, .bf16⟩
  | .hbm, ⟨4, _⟩ => ⟨S4224x4096, .f32⟩
  | .local _ .vmem, ⟨0, _⟩ => ⟨S528x5504, .bf16⟩
  | .local _ .vmem, ⟨1, _⟩ => ⟨S528x5504, .bf16⟩
  | .local _ .vmem, ⟨2, _⟩ => ⟨S1024x5504, .bf16⟩
  | .local _ .vmem, ⟨3, _⟩ => ⟨S1024x5504, .bf16⟩
  | .local _ .vmem, ⟨4, _⟩ => ⟨S528x1024, .f32⟩
  | .local _ .vmem, ⟨5, _⟩ => ⟨S528x1024, .f32⟩
  | .local _ .vmem, ⟨6, _⟩ => ⟨S528x1024, .f32⟩
  | _, _ => ⟨S4224x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S528x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S528x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dn2ReferenceIdeal.lean ====
abbrev S4224x22016 : Shape := ⟨2, ![4224, 22016]⟩
abbrev S4096x22016 : Shape := ⟨2, ![4096, 22016]⟩
abbrev S_ : Shape := ⟨0, ![]⟩
abbrev S4224x4096 : Shape := ⟨2, ![4224, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4224x22016, .f32⟩
  | .hbm, ⟨1, _⟩ => ⟨S4096x22016, .f32⟩
  | .hbm, ⟨2, _⟩ => ⟨S_, .f32⟩
  | .hbm, ⟨3, _⟩ => ⟨S4224x4096, .f32⟩
  | .hbm, ⟨4, _⟩ => ⟨S4224x22016, .f32⟩
  | .hbm, ⟨5, _⟩ => ⟨S4224x4096, .f32⟩
  | _, _ => ⟨S4224x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LossKernel.lean ====
abbrev S4224x4096 : Shape := ⟨2, ![4224, 4096]⟩
abbrev S4096x4096 : Shape := ⟨2, ![4096, 4096]⟩
abbrev S1x4096 : Shape := ⟨2, ![1, 4096]⟩
abbrev S1x128 : Shape := ⟨2, ![1, 128]⟩
abbrev S128x4096 : Shape := ⟨2, ![128, 4096]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S4096 : Shape := ⟨1, ![4096]⟩

abbrev nBuf : Space → Nat
  | .hbm => 8
  | .vmem => 13
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .hbm, ⟨2, _⟩ => ⟨S4096x4096, .f32⟩
  | .hbm, ⟨3, _⟩ => ⟨S1x4096, .f32⟩
  | .hbm, ⟨4, _⟩ => ⟨S4224x4096, .f32⟩
  | .hbm, ⟨5, _⟩ => ⟨S4224x4096, .bf16⟩
  | .hbm, ⟨6, _⟩ => ⟨S1x128, .f32⟩
  | .hbm, ⟨7, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .bf16⟩
  | .local _ .vmem, ⟨10, _⟩ => ⟨S128x4096, .bf16⟩
  | .local _ .vmem, ⟨11, _⟩ => ⟨S1x128, .f32⟩
  | .local _ .vmem, ⟨12, _⟩ => ⟨S1x4096, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossReferenceIdeal.lean ====
abbrev S4224x4096 : Shape := ⟨2, ![4224, 4096]⟩
abbrev S4096x4096 : Shape := ⟨2, ![4096, 4096]⟩
abbrev S1x4096 : Shape := ⟨2, ![1, 4096]⟩
abbrev S_ : Shape := ⟨0, ![]⟩
abbrev S4224 : Shape := ⟨1, ![4224]⟩
abbrev S4224x1 : Shape := ⟨2, ![4224, 1]⟩
abbrev S4096 : Shape := ⟨1, ![4096]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .hbm, ⟨2, _⟩ => ⟨S4096x4096, .f32⟩
  | .hbm, ⟨3, _⟩ => ⟨S1x4096, .f32⟩
  | .hbm, ⟨4, _⟩ => ⟨S4224x4096, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x4096, .f32⟩
  | .hbm, ⟨20, _⟩ => ⟨S4224x4096, .f32⟩
  | .hbm, ⟨21, _⟩ => ⟨S4224x4096, .f32⟩
  | .hbm, ⟨22, _⟩ => ⟨S4224x4096, .f32⟩
  | .hbm, ⟨23, _⟩ => ⟨S4224x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4224x4096, .f32⟩
  | .hbm, ⟨50, _⟩ => ⟨S4224x4096, .f32⟩
  | .hbm, ⟨51, _⟩ => ⟨S_, .f32⟩
  | .hbm, ⟨52, _⟩ => ⟨S4096, .f32⟩
  | .hbm, ⟨53, _⟩ => ⟨S1x4096, .f32⟩
  | .hbm, ⟨54, _⟩ => ⟨S4224x4096, .f32⟩
  | .hbm, ⟨55, _⟩ => ⟨S4224x4096, .f32⟩
  | .hbm, ⟨56, _⟩ => ⟨S4224x4096, .f32⟩
  | .hbm, ⟨57, _⟩ => ⟨S_, .f32⟩
  | .hbm, ⟨58, _⟩ => ⟨S4224, .f32⟩
  | .hbm, ⟨59, _⟩ => ⟨S4224x1, .f32⟩
  | .hbm, ⟨60, _⟩ => ⟨S4224x4096, .f32⟩
  | .hbm, ⟨61, _⟩ => ⟨S4224x4096, .f32⟩
  | .hbm, ⟨62, _⟩ => ⟨S4224x1, .f32⟩
  | .hbm, ⟨63, _⟩ => ⟨S_, .f32⟩
  | .hbm, ⟨64, _⟩ => ⟨S4224x1, .f32⟩
  | .hbm, ⟨65, _⟩ => ⟨S4224x1, .f32⟩
  | .hbm, ⟨66, _⟩ => ⟨S_, .f32⟩
  | .hbm, ⟨67, _⟩ => ⟨S4224, .f32⟩
  | .hbm, ⟨68, _⟩ => ⟨S4224x4096, .f32⟩
  | .hbm, ⟨69, _⟩ => ⟨S4224x4096, .f32⟩
  | .hbm, ⟨70, _⟩ => ⟨S4224x4096, .f32⟩
  | .hbm, ⟨71, _⟩ => ⟨S4224x4096, .f32⟩
  | .hbm, ⟨72, _⟩ => ⟨S4224x4096, .f32⟩
  | .hbm, ⟨73, _⟩ => ⟨S4224x4096, .bf16⟩
  | .hbm, ⟨74, _⟩ => ⟨S1x128, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_cst_12 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== MidKernel.lean ====
abbrev S4224x4096 : Shape := ⟨2, ![4224, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 10
  | .vmem => 16
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .hbm, ⟨2, _⟩ => ⟨S4224x4096, .f32⟩
  | .hbm, ⟨3, _⟩ => ⟨S4224x4096, .f32⟩
  | .hbm, ⟨4, _⟩ => ⟨S1x4096, .f32⟩
  | .hbm, ⟨5, _⟩ => ⟨S1x4096, .f32⟩
  | .hbm, ⟨6, _⟩ => ⟨S4224x4096, .f32⟩
  | .hbm, ⟨7, _⟩ => ⟨S4224x4096, .bf16⟩
  | .hbm, ⟨8, _⟩ => ⟨S1x4096, .f32⟩
  | .hbm, ⟨9, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S1x4096, .f32⟩
  | .local _ .vmem, ⟨9, _⟩ => ⟨S1x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .bf16⟩
  | .local _ .vmem, ⟨13, _⟩ => ⟨S128x4096, .bf16⟩
  | .local _ .vmem, ⟨14, _⟩ => ⟨S1x4096, .f32⟩
  | .local _ .vmem, ⟨15, _⟩ => ⟨S1x4096, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MidReferenceIdeal.lean ====
abbrev S4224x4096 : Shape := ⟨2, ![4224, 4096]⟩
abbrev S1x4096 : Shape := ⟨2, ![1, 4096]⟩
abbrev S_ : Shape := ⟨0, ![]⟩
abbrev S4224 : Shape := ⟨1, ![4224]⟩
abbrev S4224x1 : Shape := ⟨2, ![4224, 1]⟩
abbrev S4096 : Shape := ⟨1, ![4096]⟩

abbrev nBuf : Space → Nat
  | .hbm => 92
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .hbm, ⟨2, _⟩ => ⟨S4224x4096, .f32⟩
  | .hbm, ⟨3, _⟩ => ⟨S4224x4096, .f32⟩
  | .hbm, ⟨4, _⟩ => ⟨S1x4096, .f32⟩
  | .hbm, ⟨5, _⟩ => ⟨S1x4096, .f32⟩
  | .hbm, ⟨6, _⟩ => ⟨S4224x4096, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x4096, .f32⟩
  | .hbm, ⟨22, _⟩ => ⟨S4224x4096, .f32⟩
  | .hbm, ⟨23, _⟩ => ⟨S4224x4096, .f32⟩
  | .hbm, ⟨24, _⟩ => ⟨S4224x4096, .f32⟩
  | .hbm, ⟨25, _⟩ => ⟨S4224x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S4224x4096, .f32⟩
  | .hbm, ⟨30, _⟩ => ⟨S4224x4096, .f32⟩
  | .hbm, ⟨31, _⟩ => ⟨S4224x4096, .f32⟩
  | .hbm, ⟨32, _⟩ => ⟨S_, .f32⟩
  | .hbm, ⟨33, _⟩ => ⟨S4224, .f32⟩
  | .hbm, ⟨34, _⟩ => ⟨S4224x1, .f32⟩
  | .hbm, ⟨35, _⟩ => ⟨S4224x4096, .f32⟩
  | .hbm, ⟨36, _⟩ => ⟨S4224x4096, .f32⟩
  | .hbm, ⟨37, _⟩ => ⟨S4224x4096, .f32⟩
  | .hbm, ⟨38, _⟩ => ⟨S4224x1, .f32⟩
  | .hbm, ⟨39, _⟩ => ⟨S_, .f32⟩
  | .hbm, ⟨40, _⟩ => ⟨S4224x1, .f32⟩
  | .hbm, ⟨41, _⟩ => ⟨S4224x1, .f32⟩
  | .hbm, ⟨42, _⟩ => ⟨S_, .f32⟩
  | .hbm, ⟨43, _⟩ => ⟨S4224, .f32⟩
  | .hbm, ⟨44, _⟩ => ⟨S4224x4096, .f32⟩
  | .hbm, ⟨45, _⟩ => ⟨S4224x4096, .f32⟩
  | .hbm, ⟨46, _⟩ => ⟨S4224x4096, .f32⟩
  | .hbm, ⟨47, _⟩ => ⟨S4224x4096, .f32⟩
  | .hbm, ⟨48, _⟩ => ⟨S4224x4096, .f32⟩
  | .hbm, ⟨49, _⟩ => ⟨S4224x4096, .f32⟩
  | .hbm, ⟨50, _⟩ => ⟨S_, .f32⟩
  | .hbm, ⟨51, _⟩ => ⟨S4224, .f32⟩
  | .hbm, ⟨52, _⟩ => ⟨S4224x1, .f32⟩
  | .hbm, ⟨53, _⟩ => ⟨S_, .f32⟩
  | .hbm, ⟨54, _⟩ => ⟨S4224x1, .f32⟩
  | .hbm, ⟨55, _⟩ => ⟨S4224x1, .f32⟩
  | .hbm, ⟨56, _⟩ => ⟨S_, .f32⟩
  | .hbm, ⟨57, _⟩ => ⟨S4224x1, .f32⟩
  | .hbm, ⟨58, _⟩ => ⟨S4224x1, .f32⟩
  | .hbm, ⟨59, _⟩ => ⟨S4224x1, .f32⟩
  | .hbm, ⟨60, _⟩ => ⟨S4224x1, .f32⟩
  | .hbm, ⟨61, _⟩ => ⟨S_, .f32⟩
  | .hbm, ⟨62, _⟩ => ⟨S4224x1, .f32⟩
  | .hbm, ⟨63, _⟩ => ⟨S4224x1, .f32⟩
  | .hbm, ⟨64, _⟩ => ⟨S4224x4096, .f32⟩
  | .hbm, ⟨65, _⟩ => ⟨S4224x4096, .f32⟩
  | .hbm, ⟨66, _⟩ => ⟨S4224x4096, .f32⟩
  | .hbm, ⟨67, _⟩ => ⟨S4224x4096, .f32⟩
  | .hbm, ⟨68, _⟩ => ⟨S4224x4096, .f32⟩
  | .hbm, ⟨69, _⟩ => ⟨S_, .f32⟩
  | .hbm, ⟨70, _⟩ => ⟨S4096, .f32⟩
  | .hbm, ⟨71, _⟩ => ⟨S1x4096, .f32⟩
  | .hbm, ⟨72, _⟩ => ⟨S4224x4096, .f32⟩
  | .hbm, ⟨73, _⟩ => ⟨S4224x4096, .f32⟩
  | .hbm, ⟨74, _⟩ => ⟨S4224x4096, .f32⟩
  | .hbm, ⟨75, _⟩ => ⟨S_, .f32⟩
  | .hbm, ⟨76, _⟩ => ⟨S4224, .f32⟩
  | .hbm, ⟨77, _⟩ => ⟨S4224x1, .f32⟩
  | .hbm, ⟨78, _⟩ => ⟨S4224x4096, .f32⟩
  | .hbm, ⟨79, _⟩ => ⟨S4224x4096, .f32⟩
  | .hbm, ⟨80, _⟩ => ⟨S4224x1, .f32⟩
  | .hbm, ⟨81, _⟩ => ⟨S_, .f32⟩
  | .hbm, ⟨82, _⟩ => ⟨S4224x1, .f32⟩
  | .hbm, ⟨83, _⟩ => ⟨S4224x1, .f32⟩
  | .hbm, ⟨84, _⟩ => ⟨S_, .f32⟩
  | .hbm, ⟨85, _⟩ => ⟨S4224, .f32⟩
  | .hbm, ⟨86, _⟩ => ⟨S4224x4096, .f32⟩
  | .hbm, ⟨87, _⟩ => ⟨S4224x4096, .f32⟩
  | .hbm, ⟨88, _⟩ => ⟨S4224x4096, .f32⟩
  | .hbm, ⟨89, _⟩ => ⟨S4224x4096, .f32⟩
  | .hbm, ⟨90, _⟩ => ⟨S4224x4096, .f32⟩
  | .hbm, ⟨91, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== PnKernel.lean ====
abbrev S4096x4096 : Shape := ⟨2, ![4096, 4096]⟩
abbrev S16x4096 : Shape := ⟨2, ![16, 4096]⟩
abbrev S1x4096 : Shape := ⟨2, ![1, 4096]⟩
abbrev S4224x4096 : Shape := ⟨2, ![4224, 4096]⟩
abbrev S128x4096 : Shape := ⟨2, ![128, 4096]⟩
abbrev S112x4096 : Shape := ⟨2, ![112, 4096]⟩
abbrev S128 : Shape := ⟨1, ![128]⟩
abbrev S128x1 : Shape := ⟨2, ![128, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S16x4096, .f32⟩
  | .hbm, ⟨2, _⟩ => ⟨S1x4096, .f32⟩
  | .hbm, ⟨3, _⟩ => ⟨S4224x4096, .f32⟩
  | .hbm, ⟨4, _⟩ => ⟨S4224x4096, .bf16⟩
  | .local _ .vmem, ⟨0, _⟩ => ⟨S128x4096, .f32⟩
  | .local _ .vmem, ⟨1, _⟩ => ⟨S128x4096, .f32⟩
  | .local _ .vmem, ⟨2, _⟩ => ⟨S16x4096, .f32⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PnReferenceIdeal.lean ====
abbrev S4096x4096 : Shape := ⟨2, ![4096, 4096]⟩
abbrev S16x4096 : Shape := ⟨2, ![16, 4096]⟩
abbrev S1x4096 : Shape := ⟨2, ![1, 4096]⟩
abbrev S4112x4096 : Shape := ⟨2, ![4112, 4096]⟩
abbrev S_ : Shape := ⟨0, ![]⟩
abbrev S4112 : Shape := ⟨1, ![4112]⟩
abbrev S4112x1 : Shape := ⟨2, ![4112, 1]⟩
abbrev S4224x4096 : Shape := ⟨2, ![4224, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16x4096, .f32⟩
  | .hbm, ⟨2, _⟩ => ⟨S1x4096, .f32⟩
  | .hbm, ⟨3, _⟩ => ⟨S4112x4096, .f32⟩
  | .hbm, ⟨4, _⟩ => ⟨S4112x4096, .f32⟩
  | .hbm, ⟨5, _⟩ => ⟨S_, .f32⟩
  | .hbm, ⟨6, _⟩ => ⟨S4112, .f32⟩
  | .hbm, ⟨7, _⟩ => ⟨S4112x1, .f32⟩
  | .hbm, ⟨8, _⟩ => ⟨S_, .f32⟩
  | .hbm, ⟨9, _⟩ => ⟨S4112x1, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S4112x1, .f32⟩
  | .hbm, ⟨15, _⟩ => ⟨S4112x4096, .f32⟩
  | .hbm, ⟨16, _⟩ => ⟨S4112x4096, .f32⟩
  | .hbm, ⟨17, _⟩ => ⟨S4112x4096, .f32⟩
  | .hbm, ⟨18, _⟩ => ⟨S4112x4096, .f32⟩
  | .hbm, ⟨19, _⟩ => ⟨S_, .i32⟩
  | .hbm, ⟨20, _⟩ => ⟨S_, .f32⟩
  | .hbm, ⟨21, _⟩ => ⟨S4224x4096, .f32⟩
  | .hbm, ⟨22, _⟩ => ⟨S_, .i32⟩
  | .hbm, ⟨23, _⟩ => ⟨S_, .f32⟩
  | .hbm, ⟨24, _⟩ => ⟨S4224x4096, .f32⟩
  | .hbm, ⟨25, _⟩ => ⟨S4224x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_v13 : Ref sig .tc := ⟨.hbm, 21, rfl⟩
abbrev main_c_2 : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== MfKernel.lean ====
abbrev S4224x4096 : Shape := ⟨2, ![4224, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .hbm, ⟨2, _⟩ => ⟨S1x4096, .f32⟩
  | .hbm, ⟨3, _⟩ => ⟨S1x4096, .f32⟩
  | .hbm, ⟨4, _⟩ => ⟨S4224x4096, .f32⟩
  | .hbm, ⟨5, _⟩ => ⟨S4224x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MfReferenceIdeal.lean ====
abbrev S4224x4096 : Shape := ⟨2, ![4224, 4096]⟩
abbrev S1x4096 : Shape := ⟨2, ![1, 4096]⟩
abbrev S_ : Shape := ⟨0, ![]⟩
abbrev S4224 : Shape := ⟨1, ![4224]⟩
abbrev S4224x1 : Shape := ⟨2, ![4224, 1]⟩

abbrev nBuf : Space → Nat
  | .hbm => 36
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .hbm, ⟨2, _⟩ => ⟨S1x4096, .f32⟩
  | .hbm, ⟨3, _⟩ => ⟨S1x4096, .f32⟩
  | .hbm, ⟨4, _⟩ => ⟨S4224x4096, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x4096, .f32⟩
  | .hbm, ⟨16, _⟩ => ⟨S4224x4096, .f32⟩
  | .hbm, ⟨17, _⟩ => ⟨S4224x4096, .f32⟩
  | .hbm, ⟨18, _⟩ => ⟨S4224x4096, .f32⟩
  | .hbm, ⟨19, _⟩ => ⟨S4224x4096, .f32⟩
  | .hbm, ⟨20, _⟩ => ⟨S4224x4096, .f32⟩
  | .hbm, ⟨21, _⟩ => ⟨S_, .f32⟩
  | .hbm, ⟨22, _⟩ => ⟨S4224, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S_, .f32⟩
  | .hbm, ⟨28, _⟩ => ⟨S4224x1, .f32⟩
  | .hbm, ⟨29, _⟩ => ⟨S4224x1, .f32⟩
  | .hbm, ⟨30, _⟩ => ⟨S4224x1, .f32⟩
  | .hbm, ⟨31, _⟩ => ⟨S4224x4096, .f32⟩
  | .hbm, ⟨32, _⟩ => ⟨S4224x4096, .f32⟩
  | .hbm, ⟨33, _⟩ => ⟨S4224x4096, .f32⟩
  | .hbm, ⟨34, _⟩ => ⟨S4224x4096, .f32⟩
  | .hbm, ⟨35, _⟩ => ⟨S4224x4096, .bf16⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== AiKernel.lean ====
abbrev S4096x3584 : Shape := ⟨2, ![4096, 3584]⟩
abbrev S128x3584 : Shape := ⟨2, ![128, 3584]⟩

abbrev nBuf : Space → Nat
  | .hbm => 8
  | .vmem => 16
  | .smem => 0
  | _ => 0

abbrev bufTy : (tb : Table) → Fin (tcTables nBuf tb) → BufTy
  | .hbm, ⟨0, _⟩ => ⟨S4096x3584, .f32⟩
  | .hbm, ⟨1, _⟩ => ⟨S4096x3584, .f32⟩
  | .hbm, ⟨2, _⟩ => ⟨S4096x3584, .f32⟩
  | .hbm, ⟨3, _⟩ => ⟨S4096x3584, .f32⟩
  | .hbm, ⟨4, _⟩ => ⟨S4096x3584, .f32⟩
  | .hbm, ⟨5, _⟩ => ⟨S4096x3584, .f32⟩
  | .hbm, ⟨6, _⟩ => ⟨S4096x3584, .f32⟩
  | .hbm, ⟨7, _⟩ => ⟨S4096x3584, .f32⟩
  | .local _ .vmem, ⟨0, _⟩ => ⟨S128x3584, .f32⟩
  | .local _ .vmem, ⟨1, _⟩ => ⟨S128x3584, .f32⟩
  | .local _ .vmem, ⟨2, _⟩ => ⟨S128x3584, .f32⟩
  | .local _ .vmem, ⟨3, _⟩ => ⟨S128x3584, .f32⟩
  | .local _ .vmem, ⟨4, _⟩ => ⟨S128x3584, .f32⟩
  | .local _ .vmem, ⟨5, _⟩ => ⟨S128x3584, .f32⟩
  | .local _ .vmem, ⟨6, _⟩ => ⟨S128x3584, .f32⟩
  | .local _ .vmem, ⟨7, _⟩ => ⟨S128x3584, .f32⟩
  | .local _ .vmem, ⟨8, _⟩ => ⟨S128x3584, .f32⟩
  | .local _ .vmem, ⟨9, _⟩ => ⟨S128x3584, .f32⟩
  | .local _ .vmem, ⟨10, _⟩ => ⟨S128x3584, .f32⟩
  | .local _ .vmem, ⟨11, _⟩ => ⟨S128x3584, .f32⟩
  | .local _ .vmem, ⟨12, _⟩ => ⟨S128x3584, .f32⟩
  | .local _ .vmem, ⟨13, _⟩ => ⟨S128x3584, .f32⟩
  | .local _ .vmem, ⟨14, _⟩ => ⟨S128x3584, .f32⟩
  | .local _ .vmem, ⟨15, _⟩ => ⟨S128x3584, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AiReferenceIdeal.lean ====
abbrev S4096x3584 : Shape := ⟨2, ![4096, 3584]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4096x3584, .f32⟩
  | .hbm, ⟨2, _⟩ => ⟨S4096x3584, .f32⟩
  | .hbm, ⟨3, _⟩ => ⟨S4096x3584, .f32⟩
  | .hbm, ⟨4, _⟩ => ⟨S_, .f32⟩
  | .hbm, ⟨5, _⟩ => ⟨S4096x3584, .f32⟩
  | .hbm, ⟨6, _⟩ => ⟨S4096x3584, .f32⟩
  | .hbm, ⟨7, _⟩ => ⟨S_, .f32⟩
  | .hbm, ⟨8, _⟩ => ⟨S4096x3584, .f32⟩
  | .hbm, ⟨9, _⟩ => ⟨S4096x3584, .f32⟩
  | .hbm, ⟨10, _⟩ => ⟨S4096x3584, .f32⟩
  | .hbm, ⟨11, _⟩ => ⟨S_, .f32⟩
  | .hbm, ⟨12, _⟩ => ⟨S4096x3584, .f32⟩
  | .hbm, ⟨13, _⟩ => ⟨S4096x3584, .f32⟩
  | .hbm, ⟨14, _⟩ => ⟨S4096x3584, .f32⟩
  | .hbm, ⟨15, _⟩ => ⟨S_, .f32⟩
  | .hbm, ⟨16, _⟩ => ⟨S4096x3584, .f32⟩
  | .hbm, ⟨17, _⟩ => ⟨S4096x3584, .f32⟩
  | .hbm, ⟨18, _⟩ => ⟨S4096x3584, .f32⟩
  | .hbm, ⟨19, _⟩ => ⟨S_, .f32⟩
  | .hbm, ⟨20, _⟩ => ⟨S4096x3584, .f32⟩
  | .hbm, ⟨21, _⟩ => ⟨S4096x3584, .f32⟩
  | .hbm, ⟨22, _⟩ => ⟨S_, .f32⟩
  | .hbm, ⟨23, _⟩ => ⟨S4096x3584, .f32⟩
  | .hbm, ⟨24, _⟩ => ⟨S4096x3584, .f32⟩
  | .hbm, ⟨25, _⟩ => ⟨S4096x3584, .f32⟩
  | .hbm, ⟨26, _⟩ => ⟨S_, .f32⟩
  | .hbm, ⟨27, _⟩ => ⟨S4096x3584, .f32⟩
  | .hbm, ⟨28, _⟩ => ⟨S4096x3584, .f32⟩
  | .hbm, ⟨29, _⟩ => ⟨S4096x3584, .f32⟩
  | .hbm, ⟨30, _⟩ => ⟨S_, .f32⟩
  | .hbm, ⟨31, _⟩ => ⟨S4096x3584, .f32⟩
  | .hbm, ⟨32, _⟩ => ⟨S4096x3584, .f32⟩
  | .hbm, ⟨33, _⟩ => ⟨S4096x3584, .f32⟩
  | .hbm, ⟨34, _⟩ => ⟨S_, .f32⟩
  | .hbm, ⟨35, _⟩ => ⟨S4096x3584, .f32⟩
  | .hbm, ⟨36, _⟩ => ⟨S4096x3584, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AoKernel.lean ====
abbrev S1024x4096 : Shape := ⟨2, ![1024, 4096]⟩
abbrev S128x4096 : Shape := ⟨2, ![128, 4096]⟩

abbrev nBuf : Space → Nat
  | .hbm => 8
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AoReferenceIdeal.lean ====
abbrev S1024x4096 : Shape := ⟨2, ![1024, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S_, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S1024x4096, .f32⟩
  | .hbm, ⟨11, _⟩ => ⟨S_, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S_, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S_, .f32⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AuKernel.lean ====
abbrev S4096x5504 : Shape := ⟨2, ![4096, 5504]⟩
abbrev S64x5504 : Shape := ⟨2, ![64, 5504]⟩

abbrev nBuf : Space → Nat
  | .hbm => 8
  | .vmem => 16
  | .smem => 0
  | _ => 0

abbrev bufTy : (tb : Table) → Fin (tcTables nBuf tb) → BufTy
  | .hbm, ⟨0, _⟩ => ⟨S4096x5504, .f32⟩
  | .hbm, ⟨1, _⟩ => ⟨S4096x5504, .f32⟩
  | .hbm, ⟨2, _⟩ => ⟨S4096x5504, .f32⟩
  | .hbm, ⟨3, _⟩ => ⟨S4096x5504, .f32⟩
  | .hbm, ⟨4, _⟩ => ⟨S4096x5504, .f32⟩
  | .hbm, ⟨5, _⟩ => ⟨S4096x5504, .f32⟩
  | .hbm, ⟨6, _⟩ => ⟨S4096x5504, .f32⟩
  | .hbm, ⟨7, _⟩ => ⟨S4096x5504, .f32⟩
  | .local _ .vmem, ⟨0, _⟩ => ⟨S64x5504, .f32⟩
  | .local _ .vmem, ⟨1, _⟩ => ⟨S64x5504, .f32⟩
  | .local _ .vmem, ⟨2, _⟩ => ⟨S64x5504, .f32⟩
  | .local _ .vmem, ⟨3, _⟩ => ⟨S64x5504, .f32⟩
  | .local _ .vmem, ⟨4, _⟩ => ⟨S64x5504, .f32⟩
  | .local _ .vmem, ⟨5, _⟩ => ⟨S64x5504, .f32⟩
  | .local _ .vmem, ⟨6, _⟩ => ⟨S64x5504, .f32⟩
  | .local _ .vmem, ⟨7, _⟩ => ⟨S64x5504, .f32⟩
  | .local _ .vmem, ⟨8, _⟩ => ⟨S64x5504, .f32⟩
  | .local _ .vmem, ⟨9, _⟩ => ⟨S64x5504, .f32⟩
  | .local _ .vmem, ⟨10, _⟩ => ⟨S64x5504, .f32⟩
  | .local _ .vmem, ⟨11, _⟩ => ⟨S64x5504, .f32⟩
  | .local _ .vmem, ⟨12, _⟩ => ⟨S64x5504, .f32⟩
  | .local _ .vmem, ⟨13, _⟩ => ⟨S64x5504, .f32⟩
  | .local _ .vmem, ⟨14, _⟩ => ⟨S64x5504, .f32⟩
  | .local _ .vmem, ⟨15, _⟩ => ⟨S64x5504, .f32⟩
  | _, _ => ⟨S4096x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x5504 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x5504 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x5504 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x5504 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x5504 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x5504 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AuReferenceIdeal.lean ====
abbrev S4096x5504 : Shape := ⟨2, ![4096, 5504]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x5504, .f32⟩
  | .hbm, ⟨1, _⟩ => ⟨S4096x5504, .f32⟩
  | .hbm, ⟨2, _⟩ => ⟨S4096x5504, .f32⟩
  | .hbm, ⟨3, _⟩ => ⟨S4096x5504, .f32⟩
  | .hbm, ⟨4, _⟩ => ⟨S_, .f32⟩
  | .hbm, ⟨5, _⟩ => ⟨S4096x5504, .f32⟩
  | .hbm, ⟨6, _⟩ => ⟨S4096x5504, .f32⟩
  | .hbm, ⟨7, _⟩ => ⟨S_, .f32⟩
  | .hbm, ⟨8, _⟩ => ⟨S4096x5504, .f32⟩
  | .hbm, ⟨9, _⟩ => ⟨S4096x5504, .f32⟩
  | .hbm, ⟨10, _⟩ => ⟨S4096x5504, .f32⟩
  | .hbm, ⟨11, _⟩ => ⟨S_, .f32⟩
  | .hbm, ⟨12, _⟩ => ⟨S4096x5504, .f32⟩
  | .hbm, ⟨13, _⟩ => ⟨S4096x5504, .f32⟩
  | .hbm, ⟨14, _⟩ => ⟨S4096x5504, .f32⟩
  | .hbm, ⟨15, _⟩ => ⟨S_, .f32⟩
  | .hbm, ⟨16, _⟩ => ⟨S4096x5504, .f32⟩
  | .hbm, ⟨17, _⟩ => ⟨S4096x5504, .f32⟩
  | .hbm, ⟨18, _⟩ => ⟨S4096x5504, .f32⟩
  | .hbm, ⟨19, _⟩ => ⟨S_, .f32⟩
  | .hbm, ⟨20, _⟩ => ⟨S4096x5504, .f32⟩
  | .hbm, ⟨21, _⟩ => ⟨S4096x5504, .f32⟩
  | .hbm, ⟨22, _⟩ => ⟨S_, .f32⟩
  | .hbm, ⟨23, _⟩ => ⟨S4096x5504, .f32⟩
  | .hbm, ⟨24, _⟩ => ⟨S4096x5504, .f32⟩
  | .hbm, ⟨25, _⟩ => ⟨S4096x5504, .f32⟩
  | .hbm, ⟨26, _⟩ => ⟨S_, .f32⟩
  | .hbm, ⟨27, _⟩ => ⟨S4096x5504, .f32⟩
  | .hbm, ⟨28, _⟩ => ⟨S4096x5504, .f32⟩
  | .hbm, ⟨29, _⟩ => ⟨S4096x5504, .f32⟩
  | .hbm, ⟨30, _⟩ => ⟨S_, .f32⟩
  | .hbm, ⟨31, _⟩ => ⟨S4096x5504, .f32⟩
  | .hbm, ⟨32, _⟩ => ⟨S4096x5504, .f32⟩
  | .hbm, ⟨33, _⟩ => ⟨S4096x5504, .f32⟩
  | .hbm, ⟨34, _⟩ => ⟨S_, .f32⟩
  | .hbm, ⟨35, _⟩ => ⟨S4096x5504, .f32⟩
  | .hbm, ⟨36, _⟩ => ⟨S4096x5504, .f32⟩
  | _, _ => ⟨S4096x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdKernel.lean ====
abbrev S2752x4096 : Shape := ⟨2, ![2752, 4096]⟩
abbrev S64x4096 : Shape := ⟨2, ![64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S2752x4096, .f32⟩
  | .hbm, ⟨1, _⟩ => ⟨S2752x4096, .f32⟩
  | .hbm, ⟨2, _⟩ => ⟨S2752x4096, .f32⟩
  | .hbm, ⟨3, _⟩ => ⟨S2752x4096, .f32⟩
  | .hbm, ⟨4, _⟩ => ⟨S2752x4096, .f32⟩
  | .hbm, ⟨5, _⟩ => ⟨S2752x4096, .f32⟩
  | .hbm, ⟨6, _⟩ => ⟨S2752x4096, .f32⟩
  | .hbm, ⟨7, _⟩ => ⟨S2752x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S2752x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdReferenceIdeal.lean ====
abbrev S2752x4096 : Shape := ⟨2, ![2752, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2752x4096, .f32⟩
  | .hbm, ⟨1, _⟩ => ⟨S2752x4096, .f32⟩
  | .hbm, ⟨2, _⟩ => ⟨S2752x4096, .f32⟩
  | .hbm, ⟨3, _⟩ => ⟨S2752x4096, .f32⟩
  | .hbm, ⟨4, _⟩ => ⟨S_, .f32⟩
  | .hbm, ⟨5, _⟩ => ⟨S2752x4096, .f32⟩
  | .hbm, ⟨6, _⟩ => ⟨S2752x4096, .f32⟩
  | .hbm, ⟨7, _⟩ => ⟨S_, .f32⟩
  | .hbm, ⟨8, _⟩ => ⟨S2752x4096, .f32⟩
  | .hbm, ⟨9, _⟩ => ⟨S2752x4096, .f32⟩
  | .hbm, ⟨10, _⟩ => ⟨S2752x4096, .f32⟩
  | .hbm, ⟨11, _⟩ => ⟨S_, .f32⟩
  | .hbm, ⟨12, _⟩ => ⟨S2752x4096, .f32⟩
  | .hbm, ⟨13, _⟩ => ⟨S2752x4096, .f32⟩
  | .hbm, ⟨14, _⟩ => ⟨S2752x4096, .f32⟩
  | .hbm, ⟨15, _⟩ => ⟨S_, .f32⟩
  | .hbm, ⟨16, _⟩ => ⟨S2752x4096, .f32⟩
  | .hbm, ⟨17, _⟩ => ⟨S2752x4096, .f32⟩
  | .hbm, ⟨18, _⟩ => ⟨S2752x4096, .f32⟩
  | .hbm, ⟨19, _⟩ => ⟨S_, .f32⟩
  | .hbm, ⟨20, _⟩ => ⟨S2752x4096, .f32⟩
  | .hbm, ⟨21, _⟩ => ⟨S2752x4096, .f32⟩
  | .hbm, ⟨22, _⟩ => ⟨S_, .f32⟩
  | .hbm, ⟨23, _⟩ => ⟨S2752x4096, .f32⟩
  | .hbm, ⟨24, _⟩ => ⟨S2752x4096, .f32⟩
  | .hbm, ⟨25, _⟩ => ⟨S2752x4096, .f32⟩
  | .hbm, ⟨26, _⟩ => ⟨S_, .f32⟩
  | .hbm, ⟨27, _⟩ => ⟨S2752x4096, .f32⟩
  | .hbm, ⟨28, _⟩ => ⟨S2752x4096, .f32⟩
  | .hbm, ⟨29, _⟩ => ⟨S2752x4096, .f32⟩
  | .hbm, ⟨30, _⟩ => ⟨S_, .f32⟩
  | .hbm, ⟨31, _⟩ => ⟨S2752x4096, .f32⟩
  | .hbm, ⟨32, _⟩ => ⟨S2752x4096, .f32⟩
  | .hbm, ⟨33, _⟩ => ⟨S2752x4096, .f32⟩
  | .hbm, ⟨34, _⟩ => ⟨S_, .f32⟩
  | .hbm, ⟨35, _⟩ => ⟨S2752x4096, .f32⟩
  | .hbm, ⟨36, _⟩ => ⟨S2752x4096, .f32⟩
  | _, _ => ⟨S2752x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AsKernel.lean ====
abbrev S448x128 : Shape := ⟨2, ![448, 128]⟩

abbrev nBuf : Space → Nat
  | .hbm => 8
  | .vmem => 8
  | .smem => 0
  | _ => 0

abbrev bufTy : (tb : Table) → Fin (tcTables nBuf tb) → BufTy
  | .hbm, ⟨0, _⟩ => ⟨S448x128, .f32⟩
  | .hbm, ⟨1, _⟩ => ⟨S448x128, .f32⟩
  | .hbm, ⟨2, _⟩ => ⟨S448x128, .f32⟩
  | .hbm, ⟨3, _⟩ => ⟨S448x128, .f32⟩
  | .hbm, ⟨4, _⟩ => ⟨S448x128, .f32⟩
  | .hbm, ⟨5, _⟩ => ⟨S448x128, .f32⟩
  | .hbm, ⟨6, _⟩ => ⟨S448x128, .f32⟩
  | .hbm, ⟨7, _⟩ => ⟨S448x128, .f32⟩
  | .local _ .vmem, ⟨0, _⟩ => ⟨S448x128, .f32⟩
  | .local _ .vmem, ⟨1, _⟩ => ⟨S448x128, .f32⟩
  | .local _ .vmem, ⟨2, _⟩ => ⟨S448x128, .f32⟩
  | .local _ .vmem, ⟨3, _⟩ => ⟨S448x128, .f32⟩
  | .local _ .vmem, ⟨4, _⟩ => ⟨S448x128, .f32⟩
  | .local _ .vmem, ⟨5, _⟩ => ⟨S448x128, .f32⟩
  | .local _ .vmem, ⟨6, _⟩ => ⟨S448x128, .f32⟩
  | .local _ .vmem, ⟨7, _⟩ => ⟨S448x128, .f32⟩
  | _, _ => ⟨S448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S448x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S448x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S448x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S448x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S448x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S448x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S448x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S448x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AsReferenceIdeal.lean ====
abbrev S448x128 : Shape := ⟨2, ![448, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S448x128, .f32⟩
  | .hbm, ⟨1, _⟩ => ⟨S448x128, .f32⟩
  | .hbm, ⟨2, _⟩ => ⟨S448x128, .f32⟩
  | .hbm, ⟨3, _⟩ => ⟨S448x128, .f32⟩
  | .hbm, ⟨4, _⟩ => ⟨S_, .f32⟩
  | .hbm, ⟨5, _⟩ => ⟨S448x128, .f32⟩
  | .hbm, ⟨6, _⟩ => ⟨S448x128, .f32⟩
  | .hbm, ⟨7, _⟩ => ⟨S_, .f32⟩
  | .hbm, ⟨8, _⟩ => ⟨S448x128, .f32⟩
  | .hbm, ⟨9, _⟩ => ⟨S448x128, .f32⟩
  | .hbm, ⟨10, _⟩ => ⟨S448x128, .f32⟩
  | .hbm, ⟨11, _⟩ => ⟨S_, .f32⟩
  | .hbm, ⟨12, _⟩ => ⟨S448x128, .f32⟩
  | .hbm, ⟨13, _⟩ => ⟨S448x128, .f32⟩
  | .hbm, ⟨14, _⟩ => ⟨S448x128, .f32⟩
  | .hbm, ⟨15, _⟩ => ⟨S_, .f32⟩
  | .hbm, ⟨16, _⟩ => ⟨S448x128, .f32⟩
  | .hbm, ⟨17, _⟩ => ⟨S448x128, .f32⟩
  | .hbm, ⟨18, _⟩ => ⟨S448x128, .f32⟩
  | .hbm, ⟨19, _⟩ => ⟨S_, .f32⟩
  | .hbm, ⟨20, _⟩ => ⟨S448x128, .f32⟩
  | .hbm, ⟨21, _⟩ => ⟨S448x128, .f32⟩
  | .hbm, ⟨22, _⟩ => ⟨S_, .f32⟩
  | .hbm, ⟨23, _⟩ => ⟨S448x128, .f32⟩
  | .hbm, ⟨24, _⟩ => ⟨S448x128, .f32⟩
  | .hbm, ⟨25, _⟩ => ⟨S448x128, .f32⟩
  | .hbm, ⟨26, _⟩ => ⟨S_, .f32⟩
  | .hbm, ⟨27, _⟩ => ⟨S448x128, .f32⟩
  | .hbm, ⟨28, _⟩ => ⟨S448x128, .f32⟩
  | .hbm, ⟨29, _⟩ => ⟨S448x128, .f32⟩
  | .hbm, ⟨30, _⟩ => ⟨S_, .f32⟩
  | .hbm, ⟨31, _⟩ => ⟨S448x128, .f32⟩
  | .hbm, ⟨32, _⟩ => ⟨S448x128, .f32⟩
  | .hbm, ⟨33, _⟩ => ⟨S448x128, .f32⟩
  | .hbm, ⟨34, _⟩ => ⟨S_, .f32⟩
  | .hbm, ⟨35, _⟩ => ⟨S448x128, .f32⟩
  | .hbm, ⟨36, _⟩ => ⟨S448x128, .f32⟩
  | _, _ => ⟨S448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Spec.lean ====
/- The retention step's forward and backward pass as formulas over the extended reals: rows, heads and columns are
   natural numbers, a chunk is 128 rows, and row `128 n + a` is row `a` of chunk `n`. -/
module

public import Idealize.ShloMosaic.Lib.Pointwise

@[expose] public section

noncomputable section

namespace Cert.Ret

open Idealize.ShloMosaic

/-- The inputs of the step: the four projections (row, head, column), the cotangent `o` of the output, the rotary
    tables, the decay tables of a chunk and the normalisation weights. -/
structure In where
  q : ℕ → ℕ → ℕ → EReal
  k : ℕ → ℕ → ℕ → EReal
  v : ℕ → ℕ → ℕ → EReal
  g : ℕ → ℕ → ℕ → EReal
  o : ℕ → ℕ → ℕ → EReal
  cs : ℕ → ℕ → EReal
  sn : ℕ → ℕ → EReal
  D : ℕ → ℕ → ℕ → EReal
  qd : ℕ → ℕ → EReal
  kd : ℕ → ℕ → EReal
  cd : ℕ → EReal
  w : ℕ → ℕ → EReal

/-- One sixteenth. -/
def c16 : EReal := Ideal.ofBits .f32 0x3D800000#32
/-- The number of columns of a head, 256. -/
def c256 : EReal := Ideal.ofBits .f32 0x43800000#32
/-- The small number added under the root. -/
def eps : EReal := Ideal.ofBits .f32 0x358637BD#32

namespace In

variable (I : In)

/-- The rotation of the two halves of a head's columns. -/
def rot (x : ℕ → ℕ → ℕ → EReal) (r h e : ℕ) : EReal :=
  if e < 128 then x r h e * I.cs r e - x r h (128 + e) * I.sn r e
  else x r h (e - 128) * I.sn r (e - 128) + x r h e * I.cs r (e - 128)

/-- The transposed rotation. -/
def rotT (x : ℕ → ℕ → ℕ → EReal) (r h e : ℕ) : EReal :=
  if e < 128 then x r h e * I.cs r e + x r h (128 + e) * I.sn r e
  else x r h e * I.cs r (e - 128) - x r h (e - 128) * I.sn r (e - 128)

/-- The rotated and scaled queries. -/
def Q (r h e : ℕ) : EReal := I.rot I.q r h e * c16
/-- The rotated keys. -/
def K (r h e : ℕ) : EReal := I.rot I.k r h e

/-- The decayed scores inside chunk `n`. -/
def P (n h a b : ℕ) : EReal := (∑ d : Fin 256, I.Q (128 * n + a) h d * I.K (128 * n + b) h d) * I.D h a b

/-- The state before chunk `n`. -/
def S : ℕ → ℕ → ℕ → ℕ → EReal
  | 0, _, _, _ => 0
  | n + 1, h, d, e => S n h d e * I.cd h
      + ∑ b : Fin 128, (I.K (128 * n + b) h d * I.kd h b) * I.v (128 * n + b) h e

/-- The retention output at row `a` of chunk `n`. -/
def ry (n h a e : ℕ) : EReal :=
  ∑ b : Fin 128, I.P n h a b * I.v (128 * n + b) h e + (∑ d : Fin 256, I.Q (128 * n + a) h d * I.S n h d e) * I.qd h a

/-- The retention output at a row. -/
def Y (r h e : ℕ) : EReal := I.ry (r / 128) h (r % 128) e

/-- The gate's logistic. -/
def sg (r h e : ℕ) : EReal := Ideal.div 1 (1 + Ideal.exp (0 - I.g r h e))

/-- The reciprocal root mean square of a head's row. -/
def R (r h : ℕ) : EReal := Ideal.rsqrt (Ideal.div (∑ e : Fin 256, I.Y r h e * I.Y r h e) c256 + eps)

/-- The gated, normalised output. -/
def out (r h e : ℕ) : EReal := (I.g r h e * I.sg r h e) * (I.Y r h e * I.R r h * I.w h e)

/-- The cotangent of the normalised output. -/
def dhn (r h e : ℕ) : EReal := I.o r h e * (I.g r h e * I.sg r h e)

/-- The cotangent of the retention output. -/
def dy (r h e : ℕ) : EReal :=
  I.R r h * (I.dhn r h e * I.w h e)
    - I.Y r h e * (I.R r h * I.R r h * I.R r h
        * Ideal.div (∑ j : Fin 256, I.dhn r h j * I.w h j * I.Y r h j) c256)

/-- The row's part of the weights' gradient. -/
def dwc (r h e : ℕ) : EReal := I.dhn r h e * (I.Y r h e * I.R r h)

/-- The weights' gradient after `j` chunks, the last chunk first. -/
def dwA : ℕ → ℕ → ℕ → EReal
  | 0, _, _ => 0
  | j + 1, h, e => dwA j h e + ∑ a : Fin 128, I.dwc (128 * (32 - j) + a) h e

/-- The gate's gradient. -/
def dg (r h e : ℕ) : EReal :=
  I.o r h e * (I.Y r h e * I.R r h * I.w h e) * (I.sg r h e * (1 + I.g r h e * (1 - I.sg r h e)))

/-- The gradient of the decayed scores inside chunk `n`. -/
def dP (n h a b : ℕ) : EReal := (∑ e : Fin 256, I.dy (128 * n + a) h e * I.v (128 * n + b) h e) * I.D h a b

/-- The gradient of the state after `j` chunks, the last chunk first. -/
def T : ℕ → ℕ → ℕ → ℕ → EReal
  | 0, _, _, _ => 0
  | j + 1, h, d, e => T j h d e * I.cd h
      + ∑ a : Fin 128, I.Q (128 * (32 - j) + a) h d * (I.dy (128 * (32 - j) + a) h e * I.qd h a)

/-- The gradients of the rotated queries, the rotated keys and the values at row `a` of chunk `n`. -/
def dQ (n h a d : ℕ) : EReal :=
  ∑ b : Fin 128, I.dP n h a b * I.K (128 * n + b) h d
    + ∑ e : Fin 256, I.dy (128 * n + a) h e * I.qd h a * I.S n h d e
def dK (n h b d : ℕ) : EReal :=
  ∑ a : Fin 128, I.dP n h a b * I.Q (128 * n + a) h d
    + (∑ e : Fin 256, I.v (128 * n + b) h e * I.T (32 - n) h d e) * I.kd h b
def dV (n h b e : ℕ) : EReal :=
  ∑ a : Fin 128, I.P n h a b * I.dy (128 * n + a) h e
    + ∑ d : Fin 256, (I.K (128 * n + b) h d * I.kd h b) * I.T (32 - n) h d e

/-- The gradients of the queries, the keys and the values at a row. -/
def drq (r h e : ℕ) : EReal := I.rotT (fun r h e => I.dQ (r / 128) h (r % 128) e * c16) r h e
def drk (r h e : ℕ) : EReal := I.rotT (fun r h e => I.dK (r / 128) h (r % 128) e) r h e
def drv (r h e : ℕ) : EReal := I.dV (r / 128) h (r % 128) e

end In

end Cert.Ret

end
-- ==== Proof.HeadFwd.lean ====
/- One head of one chunk of the forward body, as functions of the loaded blocks, and their values. -/
module

public import proofs.«01_k».proof.Proof.Spec
public import proofs.«01_k».proof.Proof.Gen.KernelIdeal.Skeleton

@[expose] public section

set_option maxRecDepth 16384

noncomputable section

namespace Cert.KernelIdeal.Ret

open Idealize.ShloMosaic Cert.KernelIdeal Cert.KernelIdeal.Gen Cert.Ret

section generic

variable {F : FTy → Type} [FloatOps F] [Facts]

/-- The retention output of a head. -/
def hRy (cs sn : Vec F S128x128 .f32) (q k v : Vec F S128x256 .f32) (s : Vec F S1x256x256 .f32)
    (D : Vec F S1x128x128 .f32) (qd : Vec F S1x128x1 .f32) : FVec F S128x256 .f32 :=
  k0_pay12 (k0_pay5 cs sn q) (k0_pay7 cs sn k) (k0_pay8 v) (k0_pay10 s) D qd

/-- The state before the chunk, as written out. -/
def hSt (s : Vec F S1x256x256 .f32) : FVec F S1x1x256x256 .bf16 := k0_pay11 (k0_pay10 s)

/-- The state after the chunk. -/
def hNext (cs sn : Vec F S128x128 .f32) (k v : Vec F S128x256 .f32) (s : Vec F S1x256x256 .f32)
    (cd : Vec F S1x1x1 .f32) (kd : Vec F S1x128x1 .f32) : FVec F S1x256x256 .f32 :=
  k0_pay13 (k0_pay6 cs sn k) (k0_pay8 v) (k0_pay9 s) cd kd

/-- The gated, normalised output of a head. -/
def hOut (ry : FVec F S128x256 .f32) (g : Vec F S128x256 .f32) (w : Vec F S1x256 .f32) : FVec F S128x256 .bf16 :=
  k0_pay15 ry (k0_pay14 g) w

end generic

section ideal

variable [Facts]
variable (I : In) (n h : ℕ)

theorem rot_read {cs sn : Vec Ideal S128x128 .f32} {x : Vec Ideal S128x256 .f32} {X : ℕ → ℕ → ℕ → EReal} {I : In} {n h : ℕ}
    (hcs : ∀ a e, cs (ix2 a e) = I.cs (128 * n + a.val) e.val) (hsn : ∀ a e, sn (ix2 a e) = I.sn (128 * n + a.val) e.val)
    (hx : ∀ a e, x (ix2 a e) = X (128 * n + a.val) h e.val) (a : Fin 128) (e : Fin 256) :
    (if h : e.val < 128 then x (ix2 a ⟨e.val, by omega⟩) * cs (ix2 a ⟨e.val, h⟩)
          - x (ix2 a ⟨128 + e.val, by omega⟩) * sn (ix2 a ⟨e.val, h⟩)
        else x (ix2 a ⟨e.val - 128, by omega⟩) * sn (ix2 a ⟨e.val - 128, by omega⟩)
          + x (ix2 a ⟨128 + (e.val - 128), by omega⟩) * cs (ix2 a ⟨e.val - 128, by omega⟩))
      = I.rot X (128 * n + a.val) h e.val := by
  unfold In.rot
  split
  · rw [hx, hx, hcs, hsn]
  · rw [hx, hx, hcs, hsn]
    congr 2
    · simp only []
      congr 1; omega

theorem pay6_spec {cs sn : Vec Ideal S128x128 .f32} {k : Vec Ideal S128x256 .f32}
    (hcs : ∀ a e, cs (ix2 a e) = I.cs (128 * n + a.val) e.val) (hsn : ∀ a e, sn (ix2 a e) = I.sn (128 * n + a.val) e.val)
    (hk : ∀ a e, k (ix2 a e) = I.k (128 * n + a.val) h e.val) (a : Fin 128) (e : Fin 256) :
    k0_pay6 cs sn k (ix2 a e) = I.K (128 * n + a.val) h e.val := by
  pointwise [k0_pay6, k0_pay3, k0_pay4]
  exact rot_read hcs hsn hk a e

theorem pay7_spec {cs sn : Vec Ideal S128x128 .f32} {k : Vec Ideal S128x256 .f32}
    (hcs : ∀ a e, cs (ix2 a e) = I.cs (128 * n + a.val) e.val) (hsn : ∀ a e, sn (ix2 a e) = I.sn (128 * n + a.val) e.val)
    (hk : ∀ a e, k (ix2 a e) = I.k (128 * n + a.val) h e.val) (a : Fin 128) (e : Fin 256) :
    k0_pay7 cs sn k (ix2 a e) = I.K (128 * n + a.val) h e.val :=
  pay6_spec I n h hcs hsn hk a e

theorem pay5_spec {cs sn : Vec Ideal S128x128 .f32} {q : Vec Ideal S128x256 .f32}
    (hcs : ∀ a e, cs (ix2 a e) = I.cs (128 * n + a.val) e.val) (hsn : ∀ a e, sn (ix2 a e) = I.sn (128 * n + a.val) e.val)
    (hq : ∀ a e, q (ix2 a e) = I.q (128 * n + a.val) h e.val) (a : Fin 128) (e : Fin 256) :
    k0_pay5 cs sn q (ix2 a e) = I.Q (128 * n + a.val) h e.val := by
  pointwise [k0_pay5, k0_pay3, k0_pay4]
  exact congrArg (· * c16) (rot_read hcs hsn hq a e)

theorem pay12_apply (q k : FVec Ideal S128x256 .bf16) (v : FVec Ideal S128x256 .bf16) (s : FVec Ideal S256x256 .bf16)
    (D : Vec Ideal S1x128x128 .f32) (qd : Vec Ideal S1x128x1 .f32) (a : Fin 128) (e : Fin 256) :
    k0_pay12 q k v s D qd (ix2 a e)
      = ∑ b : Fin 128, (∑ d : Fin 256, q (ix2 a d) * k (ix2 b d)) * D (ix3 0 a b) * v (ix2 b e)
        + (∑ d : Fin 256, q (ix2 a d) * s (ix2 d e)) * qd (ix3 0 a 0) := by
  pointwise [k0_pay12]

theorem pay13_apply (k : FVec Ideal S128x256 .f32) (v : FVec Ideal S128x256 .bf16) (s : FVec Ideal S256x256 .f32)
    (cd : Vec Ideal S1x1x1 .f32) (kd : Vec Ideal S1x128x1 .f32) (d e : Fin 256) :
    k0_pay13 k v s cd kd (ix3 0 d e)
      = s (ix2 d e) * cd (ix3 0 0 0) + ∑ b : Fin 128, k (ix2 b d) * kd (ix3 0 b 0) * v (ix2 b e) := by
  pointwise [k0_pay13]

theorem hRy_spec {cs sn : Vec Ideal S128x128 .f32} {q k v : Vec Ideal S128x256 .f32} {s : Vec Ideal S1x256x256 .f32}
    {D : Vec Ideal S1x128x128 .f32} {qd : Vec Ideal S1x128x1 .f32}
    (hcs : ∀ a e, cs (ix2 a e) = I.cs (128 * n + a.val) e.val) (hsn : ∀ a e, sn (ix2 a e) = I.sn (128 * n + a.val) e.val)
    (hq : ∀ a e, q (ix2 a e) = I.q (128 * n + a.val) h e.val)
    (hk : ∀ a e, k (ix2 a e) = I.k (128 * n + a.val) h e.val)
    (hv : ∀ a e, v (ix2 a e) = I.v (128 * n + a.val) h e.val)
    (hs : ∀ d e, s (ix3 0 d e) = I.S n h d.val e.val)
    (hD : ∀ a b, D (ix3 0 a b) = I.D h a.val b.val) (hqd : ∀ a, qd (ix3 0 a 0) = I.qd h a.val)
    (a : Fin 128) (e : Fin 256) :
    hRy cs sn q k v s D qd (ix2 a e) = I.ry n h a.val e.val := by
  have h10 : ∀ d e, k0_pay10 s (ix2 d e) = I.S n h d.val e.val := fun d e => by
    pointwise [k0_pay10, k0_pay9]
    exact hs d e
  have h8 : ∀ a e, k0_pay8 v (ix2 a e) = I.v (128 * n + a.val) h e.val := fun a e => by
    pointwise [k0_pay8]
    exact hv a e
  rw [hRy, pay12_apply]
  simp only [pay5_spec I n h hcs hsn hq, pay7_spec I n h hcs hsn hk, h10, h8, hD, hqd]
  rfl

theorem hSt_spec {s : Vec Ideal S1x256x256 .f32} (hs : ∀ d e, s (ix3 0 d e) = I.S n h d.val e.val) (d e : Fin 256) :
    hSt s (ix4 0 0 d e) = I.S n h d.val e.val := by
  pointwise [hSt, k0_pay11, k0_pay10, k0_pay9]
  exact hs d e

theorem hNext_spec {cs sn : Vec Ideal S128x128 .f32} {k v : Vec Ideal S128x256 .f32} {s : Vec Ideal S1x256x256 .f32}
    {cd : Vec Ideal S1x1x1 .f32} {kd : Vec Ideal S1x128x1 .f32}
    (hcs : ∀ a e, cs (ix2 a e) = I.cs (128 * n + a.val) e.val) (hsn : ∀ a e, sn (ix2 a e) = I.sn (128 * n + a.val) e.val)
    (hk : ∀ a e, k (ix2 a e) = I.k (128 * n + a.val) h e.val)
    (hv : ∀ a e, v (ix2 a e) = I.v (128 * n + a.val) h e.val)
    (hs : ∀ d e, s (ix3 0 d e) = I.S n h d.val e.val)
    (hcd : cd (ix3 0 0 0) = I.cd h) (hkd : ∀ a, kd (ix3 0 a 0) = I.kd h a.val) (d e : Fin 256) :
    hNext cs sn k v s cd kd (ix3 0 d e) = I.S (n + 1) h d.val e.val := by
  have h9 : ∀ d e, k0_pay9 s (ix2 d e) = I.S n h d.val e.val := fun d e => by
    pointwise [k0_pay9]
    exact hs d e
  have h8 : ∀ a e, k0_pay8 v (ix2 a e) = I.v (128 * n + a.val) h e.val := fun a e => by
    pointwise [k0_pay8]
    exact hv a e
  rw [hNext, pay13_apply]
  simp only [pay6_spec I n h hcs hsn hk, h9, h8, hcd, hkd]
  rfl

theorem hOut_spec {y : FVec Ideal S128x256 .f32} {g : Vec Ideal S128x256 .f32} {w : Vec Ideal S1x256 .f32}
    (hy : ∀ a e, y (ix2 a e) = I.Y (128 * n + a.val) h e.val)
    (hg : ∀ a e, g (ix2 a e) = I.g (128 * n + a.val) h e.val)
    (hw : ∀ e, w (ix2 0 e) = I.w h e.val) (a : Fin 128) (e : Fin 256) :
    hOut y g w (ix2 a e) = I.out (128 * n + a.val) h e.val := by
  pointwise [hOut, k0_pay15, k0_pay14]
  simp only [hy, hg, hw]
  rfl

end ideal

end Cert.KernelIdeal.Ret

end
-- ==== Proof.HeadBwd.lean ====
/- One head of one chunk of the backward body, as functions of the loaded blocks, and their values. -/
module

public import proofs.«01_k».proof.Proof.HeadFwd

@[expose] public section

set_option maxRecDepth 16384

noncomputable section

namespace Cert.KernelIdeal.Ret

open Idealize.ShloMosaic Cert.KernelIdeal Cert.KernelIdeal.Gen Cert.Ret

section generic

variable {F : FTy → Type} [FloatOps F] [Facts]

/-- The gradient of the retention output. -/
def bDy (g ry o : Vec F S128x256 .f32) (w : Vec F S1x256 .f32) : FVec F S128x256 .f32 :=
  k1_pay17 (k1_pay11 g) (k1_pay12 ry) w o

/-- The gate's gradient. -/
def bDg (g ry o : Vec F S128x256 .f32) (w : Vec F S1x256 .f32) : FVec F S128x256 .bf16 :=
  k1_pay20 (k1_pay11 g) (k1_pay12 ry) w (k1_pay13 o) (k1_pay14 (k1_pay11 g)) (k1_pay19 (k1_pay12 ry))

/-- The weights' gradient with the chunk's part added. -/
def bDw (g ry o : Vec F S128x256 .f32) (dw : Vec F S1x256 .f32) : FVec F S1x256 .f32 :=
  k1_pay21 (k1_pay18 (k1_pay11 g) (k1_pay12 ry) o) dw

/-- The gradient of the decayed scores. -/
def bDP (v g ry o : Vec F S128x256 .f32) (w : Vec F S1x256 .f32) (D : Vec F S1x128x128 .f32) : FVec F S128x128 .bf16 :=
  k1_pay26 (k1_pay10 v) (bDy g ry o w) D

/-- The decayed gradient of the retention output. -/
def bAdy (g ry o : Vec F S128x256 .f32) (w : Vec F S1x256 .f32) (qd : Vec F S1x128x1 .f32) : FVec F S128x256 .bf16 :=
  k1_pay27 (bDy g ry o w) qd

/-- The queries' gradient. -/
def bDq (cs sn : Vec F S128x128 .f32) (k v g ry o : Vec F S128x256 .f32) (w : Vec F S1x256 .f32)
    (D : Vec F S1x128x128 .f32) (qd : Vec F S1x128x1 .f32) (st : Vec F S1x1x256x256 .bf16) : FVec F S128x256 .bf16 :=
  k1_pay34 (k1_pay33 (k1_pay5 cs) (k1_pay6 sn) (k1_pay9 cs sn k) (bDP v g ry o w D) (bAdy g ry o w qd) st)

/-- The keys' gradient. -/
def bDk (cs sn : Vec F S128x128 .f32) (q v g ry o : Vec F S128x256 .f32) (w : Vec F S1x256 .f32)
    (D : Vec F S1x128x128 .f32) (kd : Vec F S1x128x1 .f32) (ds : Vec F S1x256x256 .f32) : FVec F S128x256 .bf16 :=
  k1_pay35 (k1_pay5 cs) (k1_pay6 sn) (k1_pay30 (k1_pay7 cs sn q) (k1_pay10 v) (k1_pay23 kd) (bDP v g ry o w D) ds)

/-- The values' gradient. -/
def bDv (cs sn : Vec F S128x128 .f32) (q k g ry o : Vec F S128x256 .f32) (w : Vec F S1x256 .f32)
    (D : Vec F S1x128x128 .f32) (kd : Vec F S1x128x1 .f32) (ds : Vec F S1x256x256 .f32) : FVec F S128x256 .bf16 :=
  k1_pay36 (k1_pay31 (k1_pay8 cs sn k) (k1_pay23 kd) (k1_pay24 (bDy g ry o w)) (k1_pay25 (k1_pay7 cs sn q) (k1_pay9 cs sn k) D) ds)

/-- The state's gradient before the chunk. -/
def bNext (cs sn : Vec F S128x128 .f32) (q g ry o : Vec F S128x256 .f32) (w : Vec F S1x256 .f32)
    (qd : Vec F S1x128x1 .f32) (ds : Vec F S1x256x256 .f32) (cd : Vec F S1x1x1 .f32) : FVec F S1x256x256 .f32 :=
  k1_pay32 (k1_pay7 cs sn q) (bAdy g ry o w qd) ds cd

end generic

section ideal

variable [Facts]
variable (I : In) (n h : ℕ)

theorem pay8_spec {cs sn : Vec Ideal S128x128 .f32} {k : Vec Ideal S128x256 .f32}
    (hcs : ∀ a e, cs (ix2 a e) = I.cs (128 * n + a.val) e.val) (hsn : ∀ a e, sn (ix2 a e) = I.sn (128 * n + a.val) e.val)
    (hk : ∀ a e, k (ix2 a e) = I.k (128 * n + a.val) h e.val) (a : Fin 128) (e : Fin 256) :
    k1_pay8 cs sn k (ix2 a e) = I.K (128 * n + a.val) h e.val := by
  pointwise [k1_pay8, k1_pay5, k1_pay6]
  exact rot_read hcs hsn hk a e

theorem pay9_spec {cs sn : Vec Ideal S128x128 .f32} {k : Vec Ideal S128x256 .f32}
    (hcs : ∀ a e, cs (ix2 a e) = I.cs (128 * n + a.val) e.val) (hsn : ∀ a e, sn (ix2 a e) = I.sn (128 * n + a.val) e.val)
    (hk : ∀ a e, k (ix2 a e) = I.k (128 * n + a.val) h e.val) (a : Fin 128) (e : Fin 256) :
    k1_pay9 cs sn k (ix2 a e) = I.K (128 * n + a.val) h e.val :=
  pay8_spec I n h hcs hsn hk a e

theorem bpay7_spec {cs sn : Vec Ideal S128x128 .f32} {q : Vec Ideal S128x256 .f32}
    (hcs : ∀ a e, cs (ix2 a e) = I.cs (128 * n + a.val) e.val) (hsn : ∀ a e, sn (ix2 a e) = I.sn (128 * n + a.val) e.val)
    (hq : ∀ a e, q (ix2 a e) = I.q (128 * n + a.val) h e.val) (a : Fin 128) (e : Fin 256) :
    k1_pay7 cs sn q (ix2 a e) = I.Q (128 * n + a.val) h e.val := by
  pointwise [k1_pay7, k1_pay5, k1_pay6]
  exact congrArg (· * c16) (rot_read hcs hsn hq a e)

theorem bpay10_apply (v : Vec Ideal S128x256 .f32) (a : Fin 128) (e : Fin 256) : k1_pay10 v (ix2 a e) = v (ix2 a e) := by
  pointwise [k1_pay10]

theorem bDy_spec {g ry o : Vec Ideal S128x256 .f32} {w : Vec Ideal S1x256 .f32}
    (hg : ∀ a e, g (ix2 a e) = I.g (128 * n + a.val) h e.val)
    (hy : ∀ a e, ry (ix2 a e) = I.Y (128 * n + a.val) h e.val)
    (ho : ∀ a e, o (ix2 a e) = I.o (128 * n + a.val) h e.val)
    (hw : ∀ e, w (ix2 0 e) = I.w h e.val) (a : Fin 128) (e : Fin 256) :
    bDy g ry o w (ix2 a e) = I.dy (128 * n + a.val) h e.val := by
  pointwise [bDy, k1_pay17, k1_pay16, k1_pay15, k1_pay14, k1_pay13, k1_pay12, k1_pay11]
  simp only [hy, hg, hw, ho]
  rfl

theorem bDg_spec {g ry o : Vec Ideal S128x256 .f32} {w : Vec Ideal S1x256 .f32}
    (hg : ∀ a e, g (ix2 a e) = I.g (128 * n + a.val) h e.val)
    (hy : ∀ a e, ry (ix2 a e) = I.Y (128 * n + a.val) h e.val)
    (ho : ∀ a e, o (ix2 a e) = I.o (128 * n + a.val) h e.val)
    (hw : ∀ e, w (ix2 0 e) = I.w h e.val) (a : Fin 128) (e : Fin 256) :
    bDg g ry o w (ix2 a e) = I.dg (128 * n + a.val) h e.val := by
  pointwise [bDg, k1_pay20, k1_pay19, k1_pay14, k1_pay13, k1_pay12, k1_pay11]
  simp only [hy, hg, hw, ho]
  rfl

theorem bDw_spec {g ry o : Vec Ideal S128x256 .f32} {dw : Vec Ideal S1x256 .f32} {j : ℕ} (hn : n = 32 - j)
    (hg : ∀ a e, g (ix2 a e) = I.g (128 * n + a.val) h e.val)
    (hy : ∀ a e, ry (ix2 a e) = I.Y (128 * n + a.val) h e.val)
    (ho : ∀ a e, o (ix2 a e) = I.o (128 * n + a.val) h e.val)
    (hw : ∀ e, dw (ix2 0 e) = I.dwA j h e.val) (e : Fin 256) :
    bDw g ry o dw (ix2 0 e) = I.dwA (j + 1) h e.val := by
  pointwise [bDw, k1_pay21, k1_pay18, k1_pay16, k1_pay15, k1_pay14, k1_pay13, k1_pay12, k1_pay11]
  simp only [hy, hg, hw, ho]
  subst hn
  rfl

theorem bDP_spec {v g ry o : Vec Ideal S128x256 .f32} {w : Vec Ideal S1x256 .f32} {D : Vec Ideal S1x128x128 .f32}
    (hv : ∀ a e, v (ix2 a e) = I.v (128 * n + a.val) h e.val)
    (hg : ∀ a e, g (ix2 a e) = I.g (128 * n + a.val) h e.val)
    (hy : ∀ a e, ry (ix2 a e) = I.Y (128 * n + a.val) h e.val)
    (ho : ∀ a e, o (ix2 a e) = I.o (128 * n + a.val) h e.val)
    (hw : ∀ e, w (ix2 0 e) = I.w h e.val)
    (hD : ∀ a b, D (ix3 0 a b) = I.D h a.val b.val) (a b : Fin 128) :
    bDP v g ry o w D (ix2 a b) = I.dP n h a.val b.val := by
  pointwise [bDP, k1_pay26, k1_pay24, k1_pay22, k1_pay10]
  simp only [bDy_spec I n h hg hy ho hw, hv, hD]
  rfl

theorem bAdy_spec {g ry o : Vec Ideal S128x256 .f32} {w : Vec Ideal S1x256 .f32} {qd : Vec Ideal S1x128x1 .f32}
    (hg : ∀ a e, g (ix2 a e) = I.g (128 * n + a.val) h e.val)
    (hy : ∀ a e, ry (ix2 a e) = I.Y (128 * n + a.val) h e.val)
    (ho : ∀ a e, o (ix2 a e) = I.o (128 * n + a.val) h e.val)
    (hw : ∀ e, w (ix2 0 e) = I.w h e.val) (hqd : ∀ a, qd (ix3 0 a 0) = I.qd h a.val) (a : Fin 128) (e : Fin 256) :
    bAdy g ry o w qd (ix2 a e) = I.dy (128 * n + a.val) h e.val * I.qd h a.val := by
  pointwise [bAdy, k1_pay27]
  rw [bDy_spec I n h hg hy ho hw, hqd]

theorem rotT_read {cs sn : Vec Ideal S128x128 .f32} {x : Fin 128 → Fin 256 → EReal} {X : ℕ → ℕ → ℕ → EReal}
    (hcs : ∀ a e, cs (ix2 a e) = I.cs (128 * n + a.val) e.val) (hsn : ∀ a e, sn (ix2 a e) = I.sn (128 * n + a.val) e.val)
    (hx : ∀ a e, x a e = X (128 * n + a.val) h e.val) (a : Fin 128) (e : Fin 256) :
    (if h : e.val < 128 then x a ⟨e.val, by omega⟩ * cs (ix2 a ⟨e.val, h⟩)
          + x a ⟨128 + e.val, by omega⟩ * sn (ix2 a ⟨e.val, h⟩)
        else x a ⟨128 + (e.val - 128), by omega⟩ * cs (ix2 a ⟨e.val - 128, by omega⟩)
          - x a ⟨e.val - 128, by omega⟩ * sn (ix2 a ⟨e.val - 128, by omega⟩))
      = I.rotT X (128 * n + a.val) h e.val := by
  unfold In.rotT
  split
  · rw [hx, hx, hcs, hsn]
  · rw [hx, hx, hcs, hsn]
    congr 2
    · simp only []
      congr 1; omega

theorem chunk_row (n : ℕ) (a : Fin 128) : (128 * n + a.val) / 128 = n ∧ (128 * n + a.val) % 128 = a.val := by
  omega

theorem bDq_spec {cs sn : Vec Ideal S128x128 .f32} {k v g ry o : Vec Ideal S128x256 .f32} {w : Vec Ideal S1x256 .f32}
    {D : Vec Ideal S1x128x128 .f32} {qd : Vec Ideal S1x128x1 .f32} {st : Vec Ideal S1x1x256x256 .bf16}
    (hcs : ∀ a e, cs (ix2 a e) = I.cs (128 * n + a.val) e.val) (hsn : ∀ a e, sn (ix2 a e) = I.sn (128 * n + a.val) e.val)
    (hk : ∀ a e, k (ix2 a e) = I.k (128 * n + a.val) h e.val)
    (hv : ∀ a e, v (ix2 a e) = I.v (128 * n + a.val) h e.val)
    (hg : ∀ a e, g (ix2 a e) = I.g (128 * n + a.val) h e.val)
    (hy : ∀ a e, ry (ix2 a e) = I.Y (128 * n + a.val) h e.val)
    (ho : ∀ a e, o (ix2 a e) = I.o (128 * n + a.val) h e.val)
    (hw : ∀ e, w (ix2 0 e) = I.w h e.val)
    (hD : ∀ a b, D (ix3 0 a b) = I.D h a.val b.val) (hqd : ∀ a, qd (ix3 0 a 0) = I.qd h a.val)
    (hst : ∀ d e, st (ix4 0 0 d e) = I.S n h d.val e.val) (a : Fin 128) (e : Fin 256) :
    bDq cs sn k v g ry o w D qd st (ix2 a e) = I.drq (128 * n + a.val) h e.val := by
  pointwise [bDq, k1_pay34, k1_pay33, k1_pay5, k1_pay6]
  simp only [pay9_spec I n h hcs hsn hk, bDP_spec I n h hv hg hy ho hw hD, bAdy_spec I n h hg hy ho hw hqd, hst]
  refine rotT_read I n h (x := fun a e => (∑ b : Fin 128, I.dP n h a.val b.val * I.K (128 * n + b.val) h e.val
    + ∑ j : Fin 256, I.dy (128 * n + a.val) h j.val * I.qd h a.val * I.S n h e.val j.val) * c16) hcs hsn (fun a e => ?_) a e
  simp only [chunk_row]
  rfl

theorem bDk_spec {cs sn : Vec Ideal S128x128 .f32} {q v g ry o : Vec Ideal S128x256 .f32} {w : Vec Ideal S1x256 .f32}
    {D : Vec Ideal S1x128x128 .f32} {kd : Vec Ideal S1x128x1 .f32} {ds : Vec Ideal S1x256x256 .f32}
    (hcs : ∀ a e, cs (ix2 a e) = I.cs (128 * n + a.val) e.val) (hsn : ∀ a e, sn (ix2 a e) = I.sn (128 * n + a.val) e.val)
    (hq : ∀ a e, q (ix2 a e) = I.q (128 * n + a.val) h e.val)
    (hv : ∀ a e, v (ix2 a e) = I.v (128 * n + a.val) h e.val)
    (hg : ∀ a e, g (ix2 a e) = I.g (128 * n + a.val) h e.val)
    (hy : ∀ a e, ry (ix2 a e) = I.Y (128 * n + a.val) h e.val)
    (ho : ∀ a e, o (ix2 a e) = I.o (128 * n + a.val) h e.val)
    (hw : ∀ e, w (ix2 0 e) = I.w h e.val)
    (hD : ∀ a b, D (ix3 0 a b) = I.D h a.val b.val) (hkd : ∀ a, kd (ix3 0 a 0) = I.kd h a.val)
    (hds : ∀ d e, ds (ix3 0 d e) = I.T (32 - n) h d.val e.val) (a : Fin 128) (e : Fin 256) :
    bDk cs sn q v g ry o w D kd ds (ix2 a e) = I.drk (128 * n + a.val) h e.val := by
  pointwise [bDk, k1_pay35, k1_pay30, k1_pay29, k1_pay28, k1_pay23, k1_pay10, k1_pay5, k1_pay6]
  simp only [bpay7_spec I n h hcs hsn hq, bDP_spec I n h hv hg hy ho hw hD, hv, hkd, hds]
  refine rotT_read I n h (x := fun b d => ∑ a : Fin 128, I.dP n h a.val b.val * I.Q (128 * n + a.val) h d.val
    + (∑ e : Fin 256, I.v (128 * n + b.val) h e.val * I.T (32 - n) h d.val e.val) * I.kd h b.val) hcs hsn (fun a e => ?_) a e
  simp only [chunk_row]
  rfl

theorem bDv_spec {cs sn : Vec Ideal S128x128 .f32} {q k g ry o : Vec Ideal S128x256 .f32} {w : Vec Ideal S1x256 .f32}
    {D : Vec Ideal S1x128x128 .f32} {kd : Vec Ideal S1x128x1 .f32} {ds : Vec Ideal S1x256x256 .f32}
    (hcs : ∀ a e, cs (ix2 a e) = I.cs (128 * n + a.val) e.val) (hsn : ∀ a e, sn (ix2 a e) = I.sn (128 * n + a.val) e.val)
    (hq : ∀ a e, q (ix2 a e) = I.q (128 * n + a.val) h e.val)
    (hk : ∀ a e, k (ix2 a e) = I.k (128 * n + a.val) h e.val)
    (hg : ∀ a e, g (ix2 a e) = I.g (128 * n + a.val) h e.val)
    (hy : ∀ a e, ry (ix2 a e) = I.Y (128 * n + a.val) h e.val)
    (ho : ∀ a e, o (ix2 a e) = I.o (128 * n + a.val) h e.val)
    (hw : ∀ e, w (ix2 0 e) = I.w h e.val)
    (hD : ∀ a b, D (ix3 0 a b) = I.D h a.val b.val) (hkd : ∀ a, kd (ix3 0 a 0) = I.kd h a.val)
    (hds : ∀ d e, ds (ix3 0 d e) = I.T (32 - n) h d.val e.val) (a : Fin 128) (e : Fin 256) :
    bDv cs sn q k g ry o w D kd ds (ix2 a e) = I.drv (128 * n + a.val) h e.val := by
  pointwise [bDv, k1_pay36, k1_pay31, k1_pay29, k1_pay28, k1_pay25, k1_pay24, k1_pay23, k1_pay22]
  simp only [bpay7_spec I n h hcs hsn hq, pay8_spec I n h hcs hsn hk, pay9_spec I n h hcs hsn hk,
    bDy_spec I n h hg hy ho hw, hD, hkd, hds]
  unfold In.drv
  simp only [chunk_row]
  rfl

theorem bNext_spec {cs sn : Vec Ideal S128x128 .f32} {q g ry o : Vec Ideal S128x256 .f32} {w : Vec Ideal S1x256 .f32}
    {qd : Vec Ideal S1x128x1 .f32} {ds : Vec Ideal S1x256x256 .f32} {cd : Vec Ideal S1x1x1 .f32} {j : ℕ} (hn : n = 32 - j)
    (hcs : ∀ a e, cs (ix2 a e) = I.cs (128 * n + a.val) e.val) (hsn : ∀ a e, sn (ix2 a e) = I.sn (128 * n + a.val) e.val)
    (hq : ∀ a e, q (ix2 a e) = I.q (128 * n + a.val) h e.val)
    (hg : ∀ a e, g (ix2 a e) = I.g (128 * n + a.val) h e.val)
    (hy : ∀ a e, ry (ix2 a e) = I.Y (128 * n + a.val) h e.val)
    (ho : ∀ a e, o (ix2 a e) = I.o (128 * n + a.val) h e.val)
    (hw : ∀ e, w (ix2 0 e) = I.w h e.val) (hqd : ∀ a, qd (ix3 0 a 0) = I.qd h a.val)
    (hcd : cd (ix3 0 0 0) = I.cd h)
    (hds : ∀ d e, ds (ix3 0 d e) = I.T j h d.val e.val) (d e : Fin 256) :
    bNext cs sn q g ry o w qd ds cd (ix3 0 d e) = I.T (j + 1) h d.val e.val := by
  pointwise [bNext, k1_pay32, k1_pay28]
  simp only [bpay7_spec I n h hcs hsn hq, bAdy_spec I n h hg hy ho hw hqd, hds, hcd]
  subst hn
  rfl

end ideal

end Cert.KernelIdeal.Ret

end
-- ==== Proof.Blocks.lean ====
/- The eight heads' blocks of a chunk's buffers: rectangles, what a load through one reads, and buffers written head by head. -/
module

public import proofs.«01_k».proof.Proof.HeadBwd
public import Idealize.ShloMosaic.Lib.Pipeline.ReadBack
public import Idealize.ShloMosaic.Lib.Tactic
public import Idealize.ShloMosaic.Lib.Ring

@[expose] public section

set_option maxRecDepth 16384

noncomputable section

namespace Cert.KernelIdeal.Ret

open Idealize.ShloMosaic Idealize.ShloMosaic.Tactic Cert.KernelIdeal Cert.KernelIdeal.Gen Cert.Ret

/-- Head `j`'s columns of a chunk's rows. -/
abbrev colRect (j : Fin 8) : Rect S128x2048 :=
  Rect.unit ![0, 256 * j.val] S128x256.size (by intro a; fin_cases a <;> (simp [S128x256, S128x2048] <;> omega))
/-- Head `j`'s columns of a row. -/
abbrev rowRect (j : Fin 8) : Rect S1x2048 :=
  Rect.unit ![0, 256 * j.val] S1x256.size (by intro a; fin_cases a <;> (simp [S1x256, S1x2048] <;> omega))
/-- Head `j`'s state. -/
abbrev stRect (j : Fin 8) : Rect S8x256x256 :=
  Rect.unit ![j.val, 0, 0] S1x256x256.size (by intro a; fin_cases a <;> (simp [S1x256x256, S8x256x256] <;> omega))
/-- Head `j`'s state of a chunk. -/
abbrev st4Rect (j : Fin 8) : Rect S8x1x256x256 :=
  Rect.unit ![j.val, 0, 0, 0] S1x1x256x256.size (by intro a; fin_cases a <;> (simp [S1x1x256x256, S8x1x256x256] <;> omega))
/-- Head `j`'s decay table. -/
abbrev dRect (j : Fin 8) : Rect S8x128x128 :=
  Rect.unit ![j.val, 0, 0] S1x128x128.size (by intro a; fin_cases a <;> (simp [S1x128x128, S8x128x128] <;> omega))
/-- Head `j`'s decay column. -/
abbrev cRect (j : Fin 8) : Rect S8x128x1 :=
  Rect.unit ![j.val, 0, 0] S1x128x1.size (by intro a; fin_cases a <;> (simp [S1x128x1, S8x128x1] <;> omega))
/-- Head `j`'s chunk decay. -/
abbrev sRect (j : Fin 8) : Rect S8x1x1 :=
  Rect.unit ![j.val, 0, 0] S1x1x1.size (by intro a; fin_cases a <;> (simp [S1x1x1, S8x1x1] <;> omega))
/-- The whole of a rotary table's block. -/
abbrev tRect : Rect S128x128 := Rect.unit ![0, 0] S128x128.size (by intro a; fin_cases a <;> simp [S128x128])

section generic

variable {F : FTy → Type} [FloatOps F]

/-- A list of one piece per head, the last head first. -/
abbrev pieces8 {s : Shape} {e : EltTy} (R : Fin 8 → Rect s) (H : (j : Fin 8) → (R j).shape.Idx → Elt F e) :
    List (View.Piece (Elt F) s e) :=
  [⟨R ⟨7, by omega⟩, H ⟨7, by omega⟩⟩, ⟨R ⟨6, by omega⟩, H ⟨6, by omega⟩⟩, ⟨R ⟨5, by omega⟩, H ⟨5, by omega⟩⟩,
    ⟨R ⟨4, by omega⟩, H ⟨4, by omega⟩⟩, ⟨R ⟨3, by omega⟩, H ⟨3, by omega⟩⟩, ⟨R ⟨2, by omega⟩, H ⟨2, by omega⟩⟩,
    ⟨R ⟨1, by omega⟩, H ⟨1, by omega⟩⟩, ⟨R ⟨0, by omega⟩, H ⟨0, by omega⟩⟩]

theorem pieces8_of {s : Shape} {e : EltTy} {R : Fin 8 → Rect s} {H : (j : Fin 8) → (R j).shape.Idx → Elt F e}
    {G : s.Idx → Elt F e} (h : ∀ j x, H j x = G ((R j).emb x)) : View.PiecesOf G (pieces8 R H) :=
  ⟨h _, h _, h _, h _, h _, h _, h _, h _, trivial⟩

theorem canon_pieces8 {s : Shape} {e : EltTy} {R : Fin 8 → Rect s} {H : (j : Fin 8) → (R j).shape.Idx → Elt F e}
    {G : s.Idx → Elt F e} (L : List (View.Piece (Elt F) s e)) (h : ∀ j x, H j x = G ((R j).emb x))
    (hc : ∀ y, ∃ p ∈ pieces8 R H, y ∈ p.1.set) : View.canon (pieces8 R H ++ L) = G :=
  funext fun y => View.canon_append_of_piecesOf G L _ (pieces8_of h) y (hc y)

variable {e : EltTy}

theorem cover_col (H : (j : Fin 8) → (colRect j).shape.Idx → Elt F e) (y : S128x2048.Idx) :
    ∃ p ∈ pieces8 colRect H, y ∈ p.1.set :=
  View.cover_of_tiledL (pieces8 colRect H) S128x256.size (by sl_kernel_rfl) y
theorem cover_row (H : (j : Fin 8) → (rowRect j).shape.Idx → Elt F e) (y : S1x2048.Idx) :
    ∃ p ∈ pieces8 rowRect H, y ∈ p.1.set :=
  View.cover_of_tiledL (pieces8 rowRect H) S1x256.size (by sl_kernel_rfl) y
theorem cover_st (H : (j : Fin 8) → (stRect j).shape.Idx → Elt F e) (y : S8x256x256.Idx) :
    ∃ p ∈ pieces8 stRect H, y ∈ p.1.set :=
  View.cover_of_tiledL (pieces8 stRect H) S1x256x256.size (by sl_kernel_rfl) y
theorem cover_st4 (H : (j : Fin 8) → (st4Rect j).shape.Idx → Elt F e) (y : S8x1x256x256.Idx) :
    ∃ p ∈ pieces8 st4Rect H, y ∈ p.1.set :=
  View.cover_of_tiledL (pieces8 st4Rect H) S1x1x256x256.size (by sl_kernel_rfl) y

/-- A buffer written head by head, read off what is written over anything. -/
theorem read_pieces8 {sp : Space} {s : Shape} {v : View sig .tc sp s e} {R : Fin 8 → Rect s} {H : (j : Fin 8) → (R j).shape.Idx → Elt F e}
    {G : s.Idx → Elt F e} {L L' : List (View.Piece (Elt F) s e)} (hL : L = pieces8 R H ++ L') (h : ∀ j x, H j x = G ((R j).emb x))
    (hc : ∀ y, ∃ p ∈ pieces8 R H, y ∈ p.1.set) : v.read (Elt F) (v.writes (Elt F) v.junk L) = G := by
  rw [View.read_writes_junk_eq_canon, hL]; exact canon_pieces8 L' h hc

end generic

section ideal

variable {sp : Space}

theorem load_col {m : Memref sig .tc sp S128x2048 .f32} (hm : m.IsWhole) (x : Vec Ideal S128x2048 .f32) (j : Fin 8)
    (a : Fin 128) (e : Fin 256) :
    View.readAt (Elt Ideal) m.view (colRect j).toLoadRect (hm.unread x) (ix2 a e) = x (ix2 a ⟨256 * j.val + e.val, by omega⟩) := by
  rw [View.readAt_eq_ld, hm.read_unread]
  pointwise []

theorem load_row {m : Memref sig .tc sp S1x2048 .f32} (hm : m.IsWhole) (x : Vec Ideal S1x2048 .f32) (j : Fin 8) (e : Fin 256) :
    View.readAt (Elt Ideal) m.view (rowRect j).toLoadRect (hm.unread x) (ix2 0 e) = x (ix2 0 ⟨256 * j.val + e.val, by omega⟩) := by
  rw [View.readAt_eq_ld, hm.read_unread]
  pointwise []

theorem load_st {m : Memref sig .tc sp S8x256x256 .f32} (hm : m.IsWhole) (x : Vec Ideal S8x256x256 .f32) (j : Fin 8)
    (d e : Fin 256) :
    View.readAt (Elt Ideal) m.view (stRect j).toLoadRect (hm.unread x) (ix3 0 d e) = x (ix3 j d e) := by
  rw [View.readAt_eq_ld, hm.read_unread]
  pointwise []

theorem load_st4 {m : Memref sig .tc sp S8x1x256x256 .bf16} (hm : m.IsWhole) (x : Vec Ideal S8x1x256x256 .bf16) (j : Fin 8)
    (d e : Fin 256) :
    View.readAt (Elt Ideal) m.view (st4Rect j).toLoadRect (hm.unread x) (ix4 0 0 d e) = x (ix4 j 0 d e) := by
  rw [View.readAt_eq_ld, hm.read_unread]
  pointwise []

theorem load_d {m : Memref sig .tc sp S8x128x128 .f32} (hm : m.IsWhole) (x : Vec Ideal S8x128x128 .f32) (j : Fin 8)
    (a b : Fin 128) :
    View.readAt (Elt Ideal) m.view (dRect j).toLoadRect (hm.unread x) (ix3 0 a b) = x (ix3 j a b) := by
  rw [View.readAt_eq_ld, hm.read_unread]
  pointwise []

theorem load_c {m : Memref sig .tc sp S8x128x1 .f32} (hm : m.IsWhole) (x : Vec Ideal S8x128x1 .f32) (j : Fin 8) (a : Fin 128) :
    View.readAt (Elt Ideal) m.view (cRect j).toLoadRect (hm.unread x) (ix3 0 a 0) = x (ix3 j a 0) := by
  rw [View.readAt_eq_ld, hm.read_unread]
  pointwise []

theorem load_s {m : Memref sig .tc sp S8x1x1 .f32} (hm : m.IsWhole) (x : Vec Ideal S8x1x1 .f32) (j : Fin 8) :
    View.readAt (Elt Ideal) m.view (sRect j).toLoadRect (hm.unread x) (ix3 0 0 0) = x (ix3 j 0 0) := by
  rw [View.readAt_eq_ld, hm.read_unread]
  pointwise []

theorem load_t {m : Memref sig .tc sp S128x128 .f32} (hm : m.IsWhole) (x : Vec Ideal S128x128 .f32) (a b : Fin 128) :
    View.readAt (Elt Ideal) m.view tRect.toLoadRect (hm.unread x) (ix2 a b) = x (ix2 a b) := by
  rw [View.readAt_eq_ld, hm.read_unread]
  pointwise []

theorem colRect_emb (j : Fin 8) (a : Fin 128) (e : Fin 256) :
    (colRect j).emb (ix2 a e) = (ix2 a ⟨256 * j.val + e.val, by omega⟩ : S128x2048.Idx) := by
  show (colRect j).toLoadRect.idx (ix2 a e) = _
  pointwise []

theorem rowRect_emb (j : Fin 8) (e : Fin 256) :
    (rowRect j).emb (ix2 0 e) = (ix2 0 ⟨256 * j.val + e.val, by omega⟩ : S1x2048.Idx) := by
  show (rowRect j).toLoadRect.idx (ix2 0 e) = _
  pointwise []

theorem stRect_emb (j : Fin 8) (d e : Fin 256) : (stRect j).emb (ix3 0 d e) = (ix3 j d e : S8x256x256.Idx) := by
  show (stRect j).toLoadRect.idx (ix3 0 d e) = _
  pointwise []

theorem st4Rect_emb (j : Fin 8) (d e : Fin 256) : (st4Rect j).emb (ix4 0 0 d e) = (ix4 j 0 d e : S8x1x256x256.Idx) := by
  show (st4Rect j).toLoadRect.idx (ix4 0 0 d e) = _
  pointwise []

end ideal

end Cert.KernelIdeal.Ret

end
-- ==== Proof.FwdStage.lean ====
/- What the runs of the `ret_fwd` body share: its condition in closed form, the staging memrefs of its windows at a point, the scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's one condition -/

/-- The condition of the body's `if`: the chunk counter is zero. -/
abbrev cond0 (i : grid0.Coords) : Prop :=
  (Scalar.cmpi .ne (Scalar.extui (Scalar.cmpi .eq (BitVec.ofNat 32 (i 1).val) 0#32)) 0#32) = 1#1

/-- It holds at the grid's first point only. -/
theorem hcond0 : ∀ t : Fin cfg0.N, cond0 (grid0.coords t) ↔ t.val % 33 = 0 :=
  (fun t => by
    have ht : t.val < 33 := Nat.lt_of_lt_of_eq t.isLt N_0
    have e0 : (grid0.coords t 0).val = t.val / 33 % 1 := Pipeline.Grid.coords_val t 0 (by decide) rfl
    have e1 : (grid0.coords t 1).val = t.val / 1 % 33 := Pipeline.Grid.coords_val t 1 (by decide) rfl
    simp only [cond0, e0, e1]
    word_cmp
   : ∀ t : Fin grid0.N, cond0 (grid0.coords t) ↔ t.val % 33 = 0)

/-! ## The staging memrefs at a point -/

abbrev ms0_0 (t : Fin cfg0.N) : Memref sig .tc .vmem S128x2048 .f32 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S8x128x128 .f32 := win0_6.stage (cfg0.slots t 6)
theorem hs0_6 (t : Fin cfg0.N) : (ms0_6 t).IsWhole := hstage0_6 ((cfg0.slots t 6).cast nbuf0_6)
abbrev ms0_7 (t : Fin cfg0.N) : Memref sig .tc .vmem S8x128x1 .f32 := win0_7.stage (cfg0.slots t 7)
theorem hs0_7 (t : Fin cfg0.N) : (ms0_7 t).IsWhole := hstage0_7 ((cfg0.slots t 7).cast nbuf0_7)
abbrev ms0_8 (t : Fin cfg0.N) : Memref sig .tc .vmem S8x128x1 .f32 := win0_8.stage (cfg0.slots t 8)
theorem hs0_8 (t : Fin cfg0.N) : (ms0_8 t).IsWhole := hstage0_8 ((cfg0.slots t 8).cast nbuf0_8)
abbrev ms0_9 (t : Fin cfg0.N) : Memref sig .tc .vmem S8x1x1 .f32 := win0_9.stage (cfg0.slots t 9)
theorem hs0_9 (t : Fin cfg0.N) : (ms0_9 t).IsWhole := hstage0_9 ((cfg0.slots t 9).cast nbuf0_9)
abbrev ms0_10 (t : Fin cfg0.N) : Memref sig .tc .vmem S1x2048 .f32 := win0_10.stage (cfg0.slots t 10)
theorem hs0_10 (t : Fin cfg0.N) : (ms0_10 t).IsWhole := hstage0_10 ((cfg0.slots t 10).cast nbuf0_10)
abbrev ms0_11 (t : Fin cfg0.N) : Memref sig .tc .vmem S128x2048 .bf16 := win0_11.stage (cfg0.slots t 11)
theorem hs0_11 (t : Fin cfg0.N) : (ms0_11 t).IsWhole := hstage0_11 ((cfg0.slots t 11).cast nbuf0_11)
abbrev ms0_12 (t : Fin cfg0.N) : Memref sig .tc .vmem S128x2048 .f32 := win0_12.stage (cfg0.slots t 12)
theorem hs0_12 (t : Fin cfg0.N) : (ms0_12 t).IsWhole := hstage0_12 ((cfg0.slots t 12).cast nbuf0_12)
abbrev ms0_13 (t : Fin cfg0.N) : Memref sig .tc .vmem S8x1x256x256 .bf16 := win0_13.stage (cfg0.slots t 13)
theorem hs0_13 (t : Fin cfg0.N) : (ms0_13 t).IsWhole := hstage0_13 ((cfg0.slots t 13).cast nbuf0_13)
/-- The scratch operand, a whole buffer of the kernel's own: the state the kernel carries from chunk to chunk. -/
abbrev sc0 : Memref sig .tc .vmem S8x256x256 .f32 := Memref.whole cc0_scratch0

/-- The part of a region's invariant that is not its windows, the scratch named as a memref. -/
theorem PhiA0_eq (c : Dev nD) :
    (Pipeline.ΦA spec0 c : sProp 𝕄)
      = iprop(iprop((∃ d, owns (c : Thread nD τ) sc0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [sc0, owns_whole]; try rfl

end Cert.KernelIdeal.Ret

end
-- ==== Proof.FwdRunA.lean ====
/- The run of the `ret_fwd` body at the first chunk. -/
module

public import proofs.«01_k».proof.Proof.FwdStage

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1400000 in
/-- The first chunk: on whole staging memrefs, the inputs at their contents, the body runs to its end with
    the inputs as they were and each output, and the scratch, with a list of pieces written; the pieces are part of the statement's witness. -/
noncomputable def run0_A (c : Dev nD) (i : grid0.Coords)
    (arg2 : Memref sig .tc .vmem S128x2048 .f32) (harg2 : arg2.IsWhole)
    (arg3 : Memref sig .tc .vmem S128x2048 .f32) (harg3 : arg3.IsWhole)
    (arg4 : Memref sig .tc .vmem S128x2048 .f32) (harg4 : arg4.IsWhole)
    (arg5 : Memref sig .tc .vmem S128x2048 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S8x128x128 .f32) (harg8 : arg8.IsWhole)
    (arg9 : Memref sig .tc .vmem S8x128x1 .f32) (harg9 : arg9.IsWhole)
    (arg10 : Memref sig .tc .vmem S8x128x1 .f32) (harg10 : arg10.IsWhole)
    (arg11 : Memref sig .tc .vmem S8x1x1 .f32) (harg11 : arg11.IsWhole)
    (arg12 : Memref sig .tc .vmem S1x2048 .f32) (harg12 : arg12.IsWhole)
    (arg13 : Memref sig .tc .vmem S128x2048 .bf16) (harg13 : arg13.IsWhole)
    (arg14 : Memref sig .tc .vmem S128x2048 .f32) (harg14 : arg14.IsWhole)
    (arg15 : Memref sig .tc .vmem S8x1x256x256 .bf16) (harg15 : arg15.IsWhole)
    (arg16 : Memref sig .tc .vmem S8x256x256 .f32) (harg16 : arg16.IsWhole)
    (hc : cond0 i)
    (x0 : Vec F S128x2048 .f32) (x1 : Vec F S128x2048 .f32) (x2 : Vec F S128x2048 .f32) (x3 : Vec F S128x2048 .f32) (x4 : Vec F S128x128 .f32) (x5 : Vec F S128x128 .f32) (x6 : Vec F S8x128x128 .f32) (x7 : Vec F S8x128x1 .f32) (x8 : Vec F S8x128x1 .f32) (x9 : Vec F S8x1x1 .f32) (x10 : Vec F S1x2048 .f32) :
    Σ' (L11 : List (View.Piece (Elt F) S128x2048 .bf16)), Σ' (L12 : List (View.Piece (Elt F) S128x2048 .f32)), Σ' (L13 : List (View.Piece (Elt F) S8x1x256x256 .bf16)), { LS : List (View.Piece (Elt F) S8x256x256 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ (∃ d, owns (c : Thread nD τ) arg13 fullShare d)
          ∗ (∃ d, owns (c : Thread nD τ) arg14 fullShare d)
          ∗ (∃ d, owns (c : Thread nD τ) arg15 fullShare d)
          ∗ (∃ d, owns (c : Thread nD τ) arg16 fullShare d)
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ (∃ f, arg13.view.loc (c : Thread nD τ) ↦[arg13.view.set]{fullShare} arg13.view.writes (Elt F) f L11)
          ∗ (∃ f, arg14.view.loc (c : Thread nD τ) ↦[arg14.view.set]{fullShare} arg14.view.writes (Elt F) f L12)
          ∗ (∃ f, arg15.view.loc (c : Thread nD τ) ↦[arg15.view.set]{fullShare} arg15.view.writes (Elt F) f L13)
          ∗ (∃ f, arg16.view.loc (c : Thread nD τ) ↦[arg16.view.set]{fullShare} arg16.view.writes (Elt F) f LS)) -∗ K ⟨⟩))
          ⊢ wp frame (wpE (defs₀ (F := F)) Variants.none c none) E (cc0_ret_fwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_ret_fwd_eq_skeleton]; unfold cc0_ret_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    iexists _; iexact HS

end Cert.KernelIdeal.Ret

end
-- ==== Proof.FwdRunB.lean ====
/- The run of the `ret_fwd` body at a later chunk. -/
module

public import proofs.«01_k».proof.Proof.FwdRunA

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1400000 in
/-- A later chunk: on whole staging memrefs, the inputs at their contents, the scratch at what the chunk before left, the body runs to its end with
    the inputs as they were and each output, and the scratch, with a list of pieces written; the pieces are part of the statement's witness. -/
noncomputable def run0_B (c : Dev nD) (i : grid0.Coords)
    (arg2 : Memref sig .tc .vmem S128x2048 .f32) (harg2 : arg2.IsWhole)
    (arg3 : Memref sig .tc .vmem S128x2048 .f32) (harg3 : arg3.IsWhole)
    (arg4 : Memref sig .tc .vmem S128x2048 .f32) (harg4 : arg4.IsWhole)
    (arg5 : Memref sig .tc .vmem S128x2048 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S8x128x128 .f32) (harg8 : arg8.IsWhole)
    (arg9 : Memref sig .tc .vmem S8x128x1 .f32) (harg9 : arg9.IsWhole)
    (arg10 : Memref sig .tc .vmem S8x128x1 .f32) (harg10 : arg10.IsWhole)
    (arg11 : Memref sig .tc .vmem S8x1x1 .f32) (harg11 : arg11.IsWhole)
    (arg12 : Memref sig .tc .vmem S1x2048 .f32) (harg12 : arg12.IsWhole)
    (arg13 : Memref sig .tc .vmem S128x2048 .bf16) (harg13 : arg13.IsWhole)
    (arg14 : Memref sig .tc .vmem S128x2048 .f32) (harg14 : arg14.IsWhole)
    (arg15 : Memref sig .tc .vmem S8x1x256x256 .bf16) (harg15 : arg15.IsWhole)
    (arg16 : Memref sig .tc .vmem S8x256x256 .f32) (harg16 : arg16.IsWhole)
    (hc : ¬cond0 i)
    (x0 : Vec F S128x2048 .f32) (x1 : Vec F S128x2048 .f32) (x2 : Vec F S128x2048 .f32) (x3 : Vec F S128x2048 .f32) (x4 : Vec F S128x128 .f32) (x5 : Vec F S128x128 .f32) (x6 : Vec F S8x128x128 .f32) (x7 : Vec F S8x128x1 .f32) (x8 : Vec F S8x128x1 .f32) (x9 : Vec F S8x1x1 .f32) (x10 : Vec F S1x2048 .f32) (xs : Vec F S8x256x256 .f32) :
    Σ' (L11 : List (View.Piece (Elt F) S128x2048 .bf16)), Σ' (L12 : List (View.Piece (Elt F) S128x2048 .f32)), Σ' (L13 : List (View.Piece (Elt F) S8x1x256x256 .bf16)), { LS : List (View.Piece (Elt F) S8x256x256 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ (∃ d, owns (c : Thread nD τ) arg13 fullShare d)
          ∗ (∃ d, owns (c : Thread nD τ) arg14 fullShare d)
          ∗ (∃ d, owns (c : Thread nD τ) arg15 fullShare d)
          ∗ owns (c : Thread nD τ) arg16 fullShare xs
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ (∃ f, arg13.view.loc (c : Thread nD τ) ↦[arg13.view.set]{fullShare} arg13.view.writes (Elt F) f L11)
          ∗ (∃ f, arg14.view.loc (c : Thread nD τ) ↦[arg14.view.set]{fullShare} arg14.view.writes (Elt F) f L12)
          ∗ (∃ f, arg15.view.loc (c : Thread nD τ) ↦[arg15.view.set]{fullShare} arg15.view.writes (Elt F) f L13)
          ∗ (∃ f, arg16.view.loc (c : Thread nD τ) ↦[arg16.view.set]{fullShare} arg16.view.writes (Elt F) f LS)) -∗ K ⟨⟩))
          ⊢ wp frame (wpE (defs₀ (F := F)) Variants.none c none) E (cc0_ret_fwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_ret_fwd_eq_skeleton]; unfold cc0_ret_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    iexists _; iexact HS

end Cert.KernelIdeal.Ret

end
-- ==== Proof.FwdData.lean ====
/- The `ret_fwd` region: what its body leaves at each point, its proof data, and the body obligation, over any contents the region is entered with. -/
module

public import proofs.«01_k».proof.Proof.FwdRunB

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The runs at a point -/

/-- The run at the first point. -/
abbrev at0A (c : Dev nD) (t : Fin cfg0.N) (h0 : t.val % 33 = 0) :=
  run0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) sc0 (Memref.isWhole_whole _) ((hcond0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)

theorem cover0_A_11 (c : Dev nD) (t : Fin cfg0.N) (h0 : t.val % 33 = 0) (y : S128x2048.Idx) :
    ∃ pc ∈ (at0A V c t h0).1, y ∈ pc.1.set :=
  View.cover_of_tiledL (at0A V c t h0).1 S128x256.size (by sl_kernel_rfl) y
theorem cover0_A_12 (c : Dev nD) (t : Fin cfg0.N) (h0 : t.val % 33 = 0) (y : S128x2048.Idx) :
    ∃ pc ∈ (at0A V c t h0).2.1, y ∈ pc.1.set :=
  View.cover_of_tiledL (at0A V c t h0).2.1 S128x256.size (by sl_kernel_rfl) y
theorem cover0_A_13 (c : Dev nD) (t : Fin cfg0.N) (h0 : t.val % 33 = 0) (y : S8x1x256x256.Idx) :
    ∃ pc ∈ (at0A V c t h0).2.2.1, y ∈ pc.1.set :=
  View.cover_of_tiledL (at0A V c t h0).2.2.1 S1x1x256x256.size (by sl_kernel_rfl) y
theorem scover0_A (c : Dev nD) (t : Fin cfg0.N) (h0 : t.val % 33 = 0) (y : S8x256x256.Idx) :
    ∃ pc ∈ (at0A V c t h0).2.2.2.1, y ∈ pc.1.set :=
  View.cover_of_wholeMem (at0A V c t h0).2.2.2.1 (by sl_whole_mem) y

/-- The run at a later point, over what the point before left. -/
abbrev at0B (c : Dev nD) (t : Fin cfg0.N) (h0 : ¬t.val % 33 = 0) (xs : Vec F S8x256x256 .f32) :=
  run0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) sc0 (Memref.isWhole_whole _) (fun h => h0 ((hcond0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) xs

theorem cover0_B_11 (c : Dev nD) (t : Fin cfg0.N) (h0 : ¬t.val % 33 = 0) (xs : Vec F S8x256x256 .f32) (y : S128x2048.Idx) :
    ∃ pc ∈ (at0B V c t h0 xs).1, y ∈ pc.1.set :=
  View.cover_of_tiledL (at0B V c t h0 xs).1 S128x256.size (by sl_kernel_rfl) y
theorem cover0_B_12 (c : Dev nD) (t : Fin cfg0.N) (h0 : ¬t.val % 33 = 0) (xs : Vec F S8x256x256 .f32) (y : S128x2048.Idx) :
    ∃ pc ∈ (at0B V c t h0 xs).2.1, y ∈ pc.1.set :=
  View.cover_of_tiledL (at0B V c t h0 xs).2.1 S128x256.size (by sl_kernel_rfl) y
theorem cover0_B_13 (c : Dev nD) (t : Fin cfg0.N) (h0 : ¬t.val % 33 = 0) (xs : Vec F S8x256x256 .f32) (y : S8x1x256x256.Idx) :
    ∃ pc ∈ (at0B V c t h0 xs).2.2.1, y ∈ pc.1.set :=
  View.cover_of_tiledL (at0B V c t h0 xs).2.2.1 S1x1x256x256.size (by sl_kernel_rfl) y
theorem scover0_B (c : Dev nD) (t : Fin cfg0.N) (h0 : ¬t.val % 33 = 0) (xs : Vec F S8x256x256 .f32) (y : S8x256x256.Idx) :
    ∃ pc ∈ (at0B V c t h0 xs).2.2.2.1, y ∈ pc.1.set :=
  View.cover_of_tiledL (at0B V c t h0 xs).2.2.2.1 S1x256x256.size (by sl_kernel_rfl) y

/-! ## What the outputs and the scratch hold after a point -/

/-- The contents after a point: the outputs' staging buffers, and the carried state. -/
structure Left0 (F : FTy → Type) where
  o11 : Vec F S128x2048 .bf16
  o12 : Vec F S128x2048 .f32
  o13 : Vec F S8x1x256x256 .bf16
  st : Vec F S8x256x256 .f32

/-- One staging buffer of output 11, as a view. -/
abbrev VO0_11 : View sig .tc .vmem S128x2048 .bf16 := (Memref.whole cc0_stg11_0 : Memref sig .tc .vmem S128x2048 .bf16).view
/-- One staging buffer of output 12, as a view. -/
abbrev VO0_12 : View sig .tc .vmem S128x2048 .f32 := (Memref.whole cc0_stg12_0 : Memref sig .tc .vmem S128x2048 .f32).view
/-- One staging buffer of output 13, as a view. -/
abbrev VO0_13 : View sig .tc .vmem S8x1x256x256 .bf16 := (Memref.whole cc0_stg13_0 : Memref sig .tc .vmem S8x1x256x256 .bf16).view

/-- What the run at the first point leaves: its pieces over anything. -/
def left0A (c : Dev nD) (t : Fin cfg0.N) (h0 : t.val % 33 = 0) : Left0 F where
  o11 := VO0_11.read (Elt F) (VO0_11.writes (Elt F) VO0_11.junk (at0A V c t h0).1)
  o12 := VO0_12.read (Elt F) (VO0_12.writes (Elt F) VO0_12.junk (at0A V c t h0).2.1)
  o13 := VO0_13.read (Elt F) (VO0_13.writes (Elt F) VO0_13.junk (at0A V c t h0).2.2.1)
  st := sc0.view.read (Elt F) (sc0.view.writes (Elt F) sc0.view.junk (at0A V c t h0).2.2.2.1)

/-- What the run at a later point leaves: its pieces over anything. -/
def left0B (c : Dev nD) (t : Fin cfg0.N) (h0 : ¬t.val % 33 = 0) (p : Left0 F) : Left0 F where
  o11 := VO0_11.read (Elt F) (VO0_11.writes (Elt F) VO0_11.junk (at0B V c t h0 p.st).1)
  o12 := VO0_12.read (Elt F) (VO0_12.writes (Elt F) VO0_12.junk (at0B V c t h0 p.st).2.1)
  o13 := VO0_13.read (Elt F) (VO0_13.writes (Elt F) VO0_13.junk (at0B V c t h0 p.st).2.2.1)
  st := sc0.view.read (Elt F) (sc0.view.writes (Elt F) sc0.view.junk (at0B V c t h0 p.st).2.2.2.1)

/-- The contents after every point, in turn. -/
def left0 (c : Dev nD) : (n : ℕ) → n < cfg0.N → Left0 F
  | 0, hn => left0A V c ⟨0, hn⟩ (Nat.zero_mod _)
  | n + 1, hn =>
    if h0 : (n + 1) % 33 = 0 then left0A V c ⟨n + 1, hn⟩ h0
    else left0B V c ⟨n + 1, hn⟩ h0 (left0 c n (Nat.lt_of_succ_lt hn))

theorem left0_A (c : Dev nD) (t : Fin cfg0.N) (h0 : t.val % 33 = 0) : left0 V c t.val t.isLt = left0A V c t h0 := by
  obtain ⟨n, hn⟩ := t
  cases n with
  | zero => exact rfl
  | succ n => exact (dif_pos h0).trans rfl

theorem left0_B (c : Dev nD) (t : Fin cfg0.N) (h0 : ¬t.val % 33 = 0) :
    left0 V c t.val t.isLt = left0B V c t h0 (left0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The rest of the region's own buffers, at anything. -/
abbrev rest0 (c : Dev nD) : sProp 𝕄 :=
  Pipeline.scopedRestBut (Ix := Unit) (Name := ℕ) (U := UR sig nD τ) (Lvl := ℕ) (Val := Elt F) spec0 c [cc0_scratch0]

/-- The invariant before position `n`: the carried state at what the point before left (at anything before the first). -/
def Phi0 (c : Dev nD) : (n : ℕ) → n ≤ cfg0.N → sProp 𝕄
  | 0, _ => Pipeline.ΦA spec0 c
  | n + 1, hn => iprop(iprop(owns (c : Thread nD τ) sc0 fullShare (left0 V c n hn).st ∗ rest0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) sc0 fullShare (left0 V c n hn).st ∗ rest0 c) ∗ (∃ r, prngReg c r)) := rfl
theorem Phi0_pos (c : Dev nD) (n : ℕ) (h : n ≤ cfg0.N) (hz : n ≠ 0) :
    Phi0 V c n h = iprop(iprop(owns (c : Thread nD τ) sc0 fullShare (left0 V c (n - 1) (by omega)).st ∗ rest0 c) ∗ (∃ r, prngReg c r)) := by
  cases n with
  | zero => exact absurd rfl hz
  | succ n => rfl

/-! ## The pipeline's proof data -/

/-- The arrays as the region finds them; after a point the inputs' buffers at their blocks and the outputs' at what is left. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => (left0 V c t.val t.isLt).o11
    | ⟨12, _⟩ => (left0 V c t.val t.isLt).o12
    | ⟨13, _⟩ => (left0 V c t.val t.isLt).o13
    | ⟨_ + 14, h⟩ => absurd h (Nat.not_lt.2 (Nat.le_add_left _ _))
  Φ t := Phi0 V c t.val (Nat.le_of_lt_succ t.isLt)
  q w := Pipeline.shareOf spec0 w
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; exact Pipeline.Dat.Φ_castSucc (Phi0 V c) t
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = (left0 V c t.val t.isLt).o11 := by dsimp only [dat0]
theorem after0_12 (c : Dev nD) (t : Fin cfg0.N) : (dat0 V c).after 12 t = (left0 V c t.val t.isLt).o12 := by dsimp only [dat0]
theorem after0_13 (c : Dev nD) (t : Fin cfg0.N) : (dat0 V c).after 13 t = (left0 V c t.val t.isLt).o13 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t))

set_option maxHeartbeats 16000000 in
/-- The body at any point: the run of the point's case, its pieces covering every output and the carried state. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).owesAt () t.succ = (dat0 V c).owesAt () t.castSucc from rfl,
    after0_0, after0_1, after0_2, after0_3, after0_4, after0_5, after0_6, after0_7, after0_8, after0_9, after0_10, after0_11, after0_12, after0_13]
  rw [show (dat0 V c).Φ t.succ = Phi0 V c (t.val + 1) t.isLt from rfl, Phi0_succ]
  have hN : t.val < 33 := lt_of_lt_of_eq t.isLt (show cfg0.N = 33 from N_0)
  by_cases h0 : t.val % 33 = 0
  · have hz : t.val = 0 := by omega
    rw [Phi0_castSucc V c t, Phi0_zero V c _ _ hz, PhiA0_eq, left0_A V c t h0]
    unfold left0A; (try dsimp only)
    iintro ⟨⟨⟨HS, Hu⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((at0A V c t h0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS]; · iexact HS
    iintro ⟨H0, H1, H2, H3, H4, H5, H6, H7, H8, H9, H10, ⟨%e11, H11⟩, ⟨%e12, H12⟩, ⟨%e13, H13⟩, ⟨%es, HS⟩⟩
    isplitl [HS Hu Hg]
    · isplitl [HS Hu]
      · isplitl [HS]
        · unfold owns; iexists _; isplitr
          swap; · iexact HS
          ipureintro; exact View.read_writes_of_cover _ _ _ _ _ (scover0_A V c t h0)
        iexact Hu
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_A_11 V c t h0)
    isplitl [H12]
    · unfold owns; iexists _; isplitr
      swap; · iexact H12
      ipureintro; exact View.read_writes_of_cover _ _ _ _ _ (cover0_A_12 V c t h0)
    unfold owns; iexists _; isplitr
    swap; · iexact H13
    ipureintro; exact View.read_writes_of_cover _ _ _ _ _ (cover0_A_13 V c t h0)
  · have hz : t.val ≠ 0 := fun h => h0 (by rw [h])
    rw [Phi0_castSucc V c t, Phi0_pos V c _ _ hz, left0_B V c t h0]
    unfold left0B; (try dsimp only)
    iintro ⟨⟨⟨HS, Hu⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((at0B V c t h0 _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS]; · iexact HS
    iintro ⟨H0, H1, H2, H3, H4, H5, H6, H7, H8, H9, H10, ⟨%e11, H11⟩, ⟨%e12, H12⟩, ⟨%e13, H13⟩, ⟨%es, HS⟩⟩
    isplitl [HS Hu Hg]
    · isplitl [HS Hu]
      · isplitl [HS]
        · unfold owns; iexists _; isplitr
          swap; · iexact HS
          ipureintro; exact View.read_writes_of_cover _ _ _ _ _ (scover0_B V c t h0 _)
        iexact Hu
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_B_11 V c t h0 _)
    isplitl [H12]
    · unfold owns; iexists _; isplitr
      swap; · iexact H12
      ipureintro; exact View.read_writes_of_cover _ _ _ _ _ (cover0_B_12 V c t h0 _)
    unfold owns; iexists _; isplitr
    swap; · iexact H13
    ipureintro; exact View.read_writes_of_cover _ _ _ _ _ (cover0_B_13 V c t h0 _)

theorem row0 (t : Fin cfg0.N) :
    defs₀ (F := F) .tc cfg0.body (cfg0.bodyArgs t (cfg0.slots t)) = bodyAt0 t := by
  unfold defs₀; rw [Defs.onTc_tc]

/-- The body obligation at every point. -/
theorem body_obligation0 (c : Dev nD) : BodyObligation (dat0 (F := F) V c) (defs₀ (F := F)) Variants.none () Set.univ := fun t => by
  rw [bigSep_W0, bigSep_W0, row0]
  exact triple_restated (sound_body0 V c t) rfl .rfl fun _ => .rfl

/-- What the launch hands the region is the invariant before the first point, -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- and after the last point it gives that back. -/
theorem hout0 (c : Dev nD) : (dat0 V c).Φ (Fin.last cfg0.N) ⊢ Pipeline.ΦA spec0 c := by
  have hN : cfg0.N = 33 := N_0
  rw [show (dat0 V c).Φ (Fin.last cfg0.N) = Phi0 V c cfg0.N le_rfl from rfl, Phi0_pos V c _ _ (by omega), PhiA0_eq]
  iintro ⟨⟨HS, Hu⟩, Hg⟩
  isplitl [HS Hu]
  · isplitl [HS]; · iexists _; iexact HS
    iexact Hu
  iexact Hg

end Cert.KernelIdeal.Ret

end
-- ==== Proof.FwdPieces.lean ====
/- The forward body's written pieces, head by head. -/
module

public import proofs.«01_k».proof.Proof.Blocks
public import proofs.«01_k».proof.Proof.FwdData

@[expose] public section

set_option maxRecDepth 16384

noncomputable section

namespace Cert.KernelIdeal.Ret

open Idealize.ShloMosaic Idealize.ShloMosaic.TcCoe Idealize.ShloMosaic.Tactic
open Cert.KernelIdeal Cert.KernelIdeal.Gen Cert.Ret

variable {F : FTy → Type} [FloatOps F]
variable (V : (c : Dev nD) → (b : Ref sig .tc) → Buf (Elt F) ((c : Thread nD τ).loc b))
variable (c : Dev nD) (t : Fin cfg0.N)

/-! ## The loads of a point -/

def fq (j : Fin 8) : Vec F S128x256 .f32 := View.readAt (Elt F) (ms0_0 t).view (colRect j).toLoadRect ((hs0_0 t).unread (iblk0 V c 0 t))
def fk (j : Fin 8) : Vec F S128x256 .f32 := View.readAt (Elt F) (ms0_1 t).view (colRect j).toLoadRect ((hs0_1 t).unread (iblk0 V c 1 t))
def fv (j : Fin 8) : Vec F S128x256 .f32 := View.readAt (Elt F) (ms0_2 t).view (colRect j).toLoadRect ((hs0_2 t).unread (iblk0 V c 2 t))
def fg (j : Fin 8) : Vec F S128x256 .f32 := View.readAt (Elt F) (ms0_3 t).view (colRect j).toLoadRect ((hs0_3 t).unread (iblk0 V c 3 t))
def fcs : Vec F S128x128 .f32 := View.readAt (Elt F) (ms0_4 t).view tRect.toLoadRect ((hs0_4 t).unread (iblk0 V c 4 t))
def fsn : Vec F S128x128 .f32 := View.readAt (Elt F) (ms0_5 t).view tRect.toLoadRect ((hs0_5 t).unread (iblk0 V c 5 t))
def fD (j : Fin 8) : Vec F S1x128x128 .f32 := View.readAt (Elt F) (ms0_6 t).view (dRect j).toLoadRect ((hs0_6 t).unread (iblk0 V c 6 t))
def fqd (j : Fin 8) : Vec F S1x128x1 .f32 := View.readAt (Elt F) (ms0_7 t).view (cRect j).toLoadRect ((hs0_7 t).unread (iblk0 V c 7 t))
def fkd (j : Fin 8) : Vec F S1x128x1 .f32 := View.readAt (Elt F) (ms0_8 t).view (cRect j).toLoadRect ((hs0_8 t).unread (iblk0 V c 8 t))
def fcd (j : Fin 8) : Vec F S1x1x1 .f32 := View.readAt (Elt F) (ms0_9 t).view (sRect j).toLoadRect ((hs0_9 t).unread (iblk0 V c 9 t))
def fw (j : Fin 8) : Vec F S1x256 .f32 := View.readAt (Elt F) (ms0_10 t).view (rowRect j).toLoadRect ((hs0_10 t).unread (iblk0 V c 10 t))

/-- The state a later point finds. -/
def fs (xs : Vec F S8x256x256 .f32) (j : Fin 8) : Vec F S1x256x256 .f32 :=
  View.readAt (Elt F) sc0.view (stRect j).toLoadRect ((Memref.isWhole_whole _ : sc0.IsWhole).unread xs)

/-! ## A head's outputs over its state -/

def fRy (s : Fin 8 → Vec F S1x256x256 .f32) (j : Fin 8) : FVec F S128x256 .f32 :=
  hRy (fcs V c t) (fsn V c t) (fq V c t j) (fk V c t j) (fv V c t j) (s j) (fD V c t j) (fqd V c t j)
def fOut (s : Fin 8 → Vec F S1x256x256 .f32) (j : Fin 8) : FVec F S128x256 .bf16 :=
  hOut (fRy V c t s j) (fg V c t j) (fw V c t j)
def fSt (s : Fin 8 → Vec F S1x256x256 .f32) (j : Fin 8) : FVec F S1x1x256x256 .bf16 := hSt (s j)
def fNext (s : Vec F S1x256x256 .f32) (j : Fin 8) : FVec F S1x256x256 .f32 :=
  hNext (fcs V c t) (fsn V c t) (fk V c t j) (fv V c t j) s (fcd V c t j) (fkd V c t j)

/-! ## A later point -/

theorem pieces0B_11 (h0 : ¬t.val % 33 = 0) (xs : Vec F S8x256x256 .f32) :
    (at0B V c t h0 xs).1 = pieces8 colRect (fOut V c t (fs xs)) := by sl_kernel_rfl
theorem pieces0B_12 (h0 : ¬t.val % 33 = 0) (xs : Vec F S8x256x256 .f32) :
    (at0B V c t h0 xs).2.1 = pieces8 colRect (fRy V c t (fs xs)) := by sl_kernel_rfl
theorem pieces0B_13 (h0 : ¬t.val % 33 = 0) (xs : Vec F S8x256x256 .f32) :
    (at0B V c t h0 xs).2.2.1 = pieces8 st4Rect (fSt (fs xs)) := by sl_kernel_rfl
theorem pieces0B_st (h0 : ¬t.val % 33 = 0) (xs : Vec F S8x256x256 .f32) :
    (at0B V c t h0 xs).2.2.2.1 = pieces8 stRect (fun j => fNext V c t (fs xs j) j) := by sl_kernel_rfl

/-! ## The first point -/

/-- The state's pieces at the first point: the fill, then a piece per head, each over the state it loads. -/
def fL : (j : ℕ) → j ≤ 8 → List (View.Piece (Elt F) S8x256x256 .f32)
  | 0, _ => [⟨Rect.unit ![0, 0, 0] S8x256x256.size (by intro a; fin_cases a <;> simp [S8x256x256]), k0_pay2⟩]
  | j + 1, h => ⟨stRect ⟨j, h⟩, fNext V c t (sc0.view.readCov (fL j (Nat.le_of_succ_le h)) (stRect ⟨j, h⟩).toLoadRect) ⟨j, h⟩⟩
      :: fL j (Nat.le_of_succ_le h)

/-- The state the first point's head loads. -/
def fz (j : Fin 8) : Vec F S1x256x256 .f32 :=
  sc0.view.readCov (fL V c t j.val (Nat.le_of_lt j.isLt)) (stRect j).toLoadRect

theorem pieces0A_11 (h0 : t.val % 33 = 0) :
    (at0A V c t h0).1 = pieces8 colRect (fOut V c t (fz V c t)) := by sl_kernel_rfl
theorem pieces0A_12 (h0 : t.val % 33 = 0) :
    (at0A V c t h0).2.1 = pieces8 colRect (fRy V c t (fz V c t)) := by sl_kernel_rfl
theorem pieces0A_13 (h0 : t.val % 33 = 0) :
    (at0A V c t h0).2.2.1 = pieces8 st4Rect (fSt (fz V c t)) := by sl_kernel_rfl
theorem pieces0A_st (h0 : t.val % 33 = 0) :
    (at0A V c t h0).2.2.2.1 = pieces8 stRect (fun j => fNext V c t (fz V c t j) j) ++ fL V c t 0 (Nat.zero_le _) := by
  sl_kernel_rfl

end Cert.KernelIdeal.Ret

end
-- ==== Proof.FwdLeft.lean ====
/- What the forward region's points leave, in the step's formulas. -/
module

public import proofs.«01_k».proof.Proof.FwdPieces

@[expose] public section

set_option maxRecDepth 16384

noncomputable section

namespace Cert.KernelIdeal.Ret

open Idealize.ShloMosaic Idealize.ShloMosaic.TcCoe Idealize.ShloMosaic.Tactic
open Cert.KernelIdeal Cert.KernelIdeal.Gen Cert.Ret

variable (V : (c : Dev nD) → (b : Ref sig .tc) → Buf (Elt Ideal) ((c : Thread nD τ).loc b))
variable (c : Dev nD) (I : In)

/-- The forward region's input blocks are the step's inputs. -/
structure FMatch : Prop where
  q : ∀ (t : Fin cfg0.N) (a : Fin 128) (j : Fin 8) (e : Fin 256),
    (iblk0 V c 0 t : Vec Ideal S128x2048 .f32) (ix2 a ⟨256 * j.val + e.val, by omega⟩) = I.q (128 * t.val + a.val) j.val e.val
  k : ∀ (t : Fin cfg0.N) (a : Fin 128) (j : Fin 8) (e : Fin 256),
    (iblk0 V c 1 t : Vec Ideal S128x2048 .f32) (ix2 a ⟨256 * j.val + e.val, by omega⟩) = I.k (128 * t.val + a.val) j.val e.val
  v : ∀ (t : Fin cfg0.N) (a : Fin 128) (j : Fin 8) (e : Fin 256),
    (iblk0 V c 2 t : Vec Ideal S128x2048 .f32) (ix2 a ⟨256 * j.val + e.val, by omega⟩) = I.v (128 * t.val + a.val) j.val e.val
  g : ∀ (t : Fin cfg0.N) (a : Fin 128) (j : Fin 8) (e : Fin 256),
    (iblk0 V c 3 t : Vec Ideal S128x2048 .f32) (ix2 a ⟨256 * j.val + e.val, by omega⟩) = I.g (128 * t.val + a.val) j.val e.val
  cs : ∀ (t : Fin cfg0.N) (a b : Fin 128), (iblk0 V c 4 t : Vec Ideal S128x128 .f32) (ix2 a b) = I.cs (128 * t.val + a.val) b.val
  sn : ∀ (t : Fin cfg0.N) (a b : Fin 128), (iblk0 V c 5 t : Vec Ideal S128x128 .f32) (ix2 a b) = I.sn (128 * t.val + a.val) b.val
  D : ∀ (t : Fin cfg0.N) (j : Fin 8) (a b : Fin 128), (iblk0 V c 6 t : Vec Ideal S8x128x128 .f32) (ix3 j a b) = I.D j.val a.val b.val
  qd : ∀ (t : Fin cfg0.N) (j : Fin 8) (a : Fin 128), (iblk0 V c 7 t : Vec Ideal S8x128x1 .f32) (ix3 j a 0) = I.qd j.val a.val
  kd : ∀ (t : Fin cfg0.N) (j : Fin 8) (a : Fin 128), (iblk0 V c 8 t : Vec Ideal S8x128x1 .f32) (ix3 j a 0) = I.kd j.val a.val
  cd : ∀ (t : Fin cfg0.N) (j : Fin 8), (iblk0 V c 9 t : Vec Ideal S8x1x1 .f32) (ix3 j 0 0) = I.cd j.val
  w : ∀ (t : Fin cfg0.N) (j : Fin 8) (e : Fin 256),
    (iblk0 V c 10 t : Vec Ideal S1x2048 .f32) (ix2 0 ⟨256 * j.val + e.val, by omega⟩) = I.w j.val e.val

/-- The state before chunk `n`, as an array. -/
def gS (n : ℕ) : Vec Ideal S8x256x256 .f32 := fun y => I.S n (y 0).val (y 1).val (y 2).val
/-- The same, as a chunk's written block. -/
def gS4 (n : ℕ) : Vec Ideal S8x1x256x256 .bf16 := fun y => I.S n (y 0).val (y 2).val (y 3).val
/-- The retention output of chunk `n`. -/
def gRy (n : ℕ) : Vec Ideal S128x2048 .f32 := fun y => I.ry n ((y 1).val / 256) (y 0).val ((y 1).val % 256)
/-- The gated output of chunk `n`. -/
def gOut (n : ℕ) : Vec Ideal S128x2048 .bf16 := fun y => I.out (128 * n + (y 0).val) ((y 1).val / 256) ((y 1).val % 256)

variable {V c I}

theorem fRy_spec (M : FMatch V c I) (t : Fin cfg0.N) {s : Fin 8 → Vec Ideal S1x256x256 .f32}
    (hs : ∀ j d e, s j (ix3 0 d e) = I.S t.val j.val d.val e.val) (j : Fin 8) (a : Fin 128) (e : Fin 256) :
    fRy V c t s j (ix2 a e) = I.ry t.val j.val a.val e.val :=
  hRy_spec I t.val j.val
    (fun a e => (load_t _ _ a e).trans (M.cs t a e)) (fun a e => (load_t _ _ a e).trans (M.sn t a e))
    (fun a e => (load_col _ _ j a e).trans (M.q t a j e)) (fun a e => (load_col _ _ j a e).trans (M.k t a j e))
    (fun a e => (load_col _ _ j a e).trans (M.v t a j e)) (hs j)
    (fun a b => (load_d _ _ j a b).trans (M.D t j a b)) (fun a => (load_c _ _ j a).trans (M.qd t j a)) a e

theorem fNext_spec (M : FMatch V c I) (t : Fin cfg0.N) {s : Vec Ideal S1x256x256 .f32} (j : Fin 8)
    (hs : ∀ d e, s (ix3 0 d e) = I.S t.val j.val d.val e.val) (d e : Fin 256) :
    fNext V c t s j (ix3 0 d e) = I.S (t.val + 1) j.val d.val e.val :=
  hNext_spec I t.val j.val
    (fun a e => (load_t _ _ a e).trans (M.cs t a e)) (fun a e => (load_t _ _ a e).trans (M.sn t a e))
    (fun a e => (load_col _ _ j a e).trans (M.k t a j e))
    (fun a e => (load_col _ _ j a e).trans (M.v t a j e)) hs
    ((load_s _ _ j).trans (M.cd t j)) (fun a => (load_c _ _ j a).trans (M.kd t j a)) d e

theorem fOut_spec (M : FMatch V c I) (t : Fin cfg0.N) {s : Fin 8 → Vec Ideal S1x256x256 .f32}
    (hs : ∀ j d e, s j (ix3 0 d e) = I.S t.val j.val d.val e.val) (j : Fin 8) (a : Fin 128) (e : Fin 256) :
    fOut V c t s j (ix2 a e) = I.out (128 * t.val + a.val) j.val e.val :=
  hOut_spec I t.val j.val
    (fun a e => (fRy_spec M t hs j a e).trans (by unfold In.Y; simp only [chunk_row]))
    (fun a e => (load_col _ _ j a e).trans (M.g t a j e)) (fun e => (load_row _ _ j e).trans (M.w t j e)) a e

theorem gRy_emb (n : ℕ) (j : Fin 8) (a : Fin 128) (e : Fin 256) :
    gRy I n ((colRect j).emb (ix2 a e)) = I.ry n j.val a.val e.val := by
  rw [colRect_emb]
  show I.ry n ((256 * j.val + e.val) / 256) a.val ((256 * j.val + e.val) % 256) = _
  rw [show (256 * j.val + e.val) / 256 = j.val by omega, show (256 * j.val + e.val) % 256 = e.val by omega]

theorem gOut_emb (n : ℕ) (j : Fin 8) (a : Fin 128) (e : Fin 256) :
    gOut I n ((colRect j).emb (ix2 a e)) = I.out (128 * n + a.val) j.val e.val := by
  rw [colRect_emb]
  show I.out (128 * n + a.val) ((256 * j.val + e.val) / 256) ((256 * j.val + e.val) % 256) = _
  rw [show (256 * j.val + e.val) / 256 = j.val by omega, show (256 * j.val + e.val) % 256 = e.val by omega]

theorem gS_emb (n : ℕ) (j : Fin 8) (d e : Fin 256) : gS I n ((stRect j).emb (ix3 0 d e)) = I.S n j.val d.val e.val := by
  rw [stRect_emb]; rfl

theorem gS4_emb (n : ℕ) (j : Fin 8) (d e : Fin 256) : gS4 I n ((st4Rect j).emb (ix4 0 0 d e)) = I.S n j.val d.val e.val := by
  rw [st4Rect_emb]; rfl

/-- A function of a head's block that agrees on every row and column with one more. -/
theorem col_ext {α : Type} {f : S128x256.Idx → α} {g : S128x256.Idx → α} (h : ∀ a e, f (ix2 a e) = g (ix2 a e)) (x : S128x256.Idx) :
    f x = g x := by
  rw [eq_ix2 x]; exact h _ _
theorem st_ext {α : Type} {f : S1x256x256.Idx → α} {g : S1x256x256.Idx → α} (h : ∀ d e, f (ix3 0 d e) = g (ix3 0 d e)) (x : S1x256x256.Idx) :
    f x = g x := by
  rw [eq_ix3 x]
  have h0 : x 0 = (0 : Fin 1) := Subsingleton.elim (α := Fin 1) _ _
  rw [h0]; exact h _ _
theorem st4_ext {α : Type} {f : S1x1x256x256.Idx → α} {g : S1x1x256x256.Idx → α} (h : ∀ d e, f (ix4 0 0 d e) = g (ix4 0 0 d e))
    (x : S1x1x256x256.Idx) : f x = g x := by
  rw [eq_ix4 x]
  have h0 : x 0 = (0 : Fin 1) := Subsingleton.elim (α := Fin 1) _ _
  have h1 : x 1 = (0 : Fin 1) := Subsingleton.elim (α := Fin 1) _ _
  rw [h0, h1]; exact h _ _

/-! ## The first point's state is zero -/

theorem st_not_mem {i j : Fin 8} (h : i ≠ j) (x : (stRect j).shape.Idx) : (stRect j).emb x ∉ (stRect i).set := by
  intro hm
  obtain ⟨x', hx'⟩ := (stRect i).exists_idx_of_mem hm
  have h1 := congrArg (fun y : S8x256x256.Idx => (y 0).val) hx'
  have e1 : ∀ (k : Fin 8) (x : S1x256x256.Idx), (((stRect k).emb x : S8x256x256.Idx) 0).val = k.val := fun k x => by
    rw [st_ext (f := fun x => (((stRect k).emb x : S8x256x256.Idx) 0).val) (g := fun _ => k.val)
      (fun d e => by show (((stRect k).emb (ix3 0 d e) : S8x256x256.Idx) 0).val = _; rw [stRect_emb]; rfl) x]
  have h2 := (e1 i x').symm.trans (h1.trans (e1 j x))
  exact h (Fin.ext h2)

theorem fill_pay2 (y : S8x256x256.Idx) : (k0_pay2 : FVec Ideal S8x256x256 .f32) y = 0 := by
  pointwise [k0_pay2]

theorem canon_fL (t : Fin cfg0.N) (j : Fin 8) (x : (stRect j).shape.Idx) :
    ∀ (i : ℕ) (h : i ≤ 8), i ≤ j.val → View.canon (fL V c t i h) ((stRect j).emb x) = 0
  | 0, _, _ => by
    have hz := View.canon_cons_unit_lit (Val := Elt Ideal) (e := .f32) (S := S8x256x256) (off := ![0, 0, 0])
      (by intro a; fin_cases a <;> simp [S8x256x256]) (k0_pay2 : FVec Ideal S8x256x256 .f32) [] (by intro a; fin_cases a <;> rfl)
    exact (congrFun hz _).trans (fill_pay2 _)
  | i + 1, h, hi => by
    unfold fL
    rw [View.canon_cons_of_not_mem]
    · exact canon_fL t j x i _ (by omega)
    · exact st_not_mem (fun e => by have := congrArg Fin.val e; simp only [] at this; omega) x

theorem fz_spec (t : Fin cfg0.N) (j : Fin 8) (x : S1x256x256.Idx) : fz V c t j x = 0 := by
  unfold fz
  rw [View.readCov_eq_canon']
  exact canon_fL t j x j.val _ le_rfl

/-! ## After every point -/

/-- What a point leaves over a state. -/
theorem left0_of (M : FMatch V c I) (t : Fin cfg0.N) {s : Fin 8 → Vec Ideal S1x256x256 .f32}
    (hs : ∀ j d e, s j (ix3 0 d e) = I.S t.val j.val d.val e.val) :
    (∀ j x, fOut V c t s j x = gOut I t.val ((colRect j).emb x))
      ∧ (∀ j x, fRy V c t s j x = gRy I t.val ((colRect j).emb x))
      ∧ (∀ j x, fSt s j x = gS4 I t.val ((st4Rect j).emb x))
      ∧ (∀ j x, fNext V c t (s j) j x = gS I (t.val + 1) ((stRect j).emb x)) := by
  refine ⟨fun j x => ?_, fun j x => ?_, fun j x => ?_, fun j x => ?_⟩
  · exact col_ext (g := fun x => gOut I t.val ((colRect j).emb x)) (fun a e => (fOut_spec M t hs j a e).trans (gOut_emb _ j a e).symm) x
  · exact col_ext (g := fun x => gRy I t.val ((colRect j).emb x)) (fun a e => (fRy_spec M t hs j a e).trans (gRy_emb _ j a e).symm) x
  · exact st4_ext (g := fun x => gS4 I t.val ((st4Rect j).emb x)) (fun d e => (hSt_spec I t.val j.val (hs j) d e).trans (gS4_emb _ j d e).symm) x
  · exact st_ext (g := fun x => gS I (t.val + 1) ((stRect j).emb x)) (fun d e => (fNext_spec M t j (hs j) d e).trans (gS_emb _ j d e).symm) x

theorem left0A_11 (t : Fin cfg0.N) (h0 : t.val % 33 = 0) {G : Vec Ideal S128x2048 .bf16} (h : ∀ j x, (fOut V c t (fz V c t)) j x = G ((colRect j).emb x)) :
    (left0A V c t h0).o11 = G := by
  have e1 : (left0A V c t h0).o11 = VO0_11.read (Elt Ideal) (VO0_11.writes (Elt Ideal) VO0_11.junk
      (pieces8 colRect (fOut V c t (fz V c t)) ++ [])) := by sl_kernel_rfl
  exact e1.trans (read_pieces8 rfl h (cover_col _))
theorem left0A_12 (t : Fin cfg0.N) (h0 : t.val % 33 = 0) {G : Vec Ideal S128x2048 .f32} (h : ∀ j x, (fRy V c t (fz V c t)) j x = G ((colRect j).emb x)) :
    (left0A V c t h0).o12 = G := by
  have e1 : (left0A V c t h0).o12 = VO0_12.read (Elt Ideal) (VO0_12.writes (Elt Ideal) VO0_12.junk
      (pieces8 colRect (fRy V c t (fz V c t)) ++ [])) := by sl_kernel_rfl
  exact e1.trans (read_pieces8 rfl h (cover_col _))
theorem left0A_13 (t : Fin cfg0.N) (h0 : t.val % 33 = 0) {G : Vec Ideal S8x1x256x256 .bf16} (h : ∀ j x, (fSt (fz V c t)) j x = G ((st4Rect j).emb x)) :
    (left0A V c t h0).o13 = G := by
  have e1 : (left0A V c t h0).o13 = VO0_13.read (Elt Ideal) (VO0_13.writes (Elt Ideal) VO0_13.junk
      (pieces8 st4Rect (fSt (fz V c t)) ++ [])) := by sl_kernel_rfl
  exact e1.trans (read_pieces8 rfl h (cover_st4 _))
theorem left0A_st (t : Fin cfg0.N) (h0 : t.val % 33 = 0) {G : Vec Ideal S8x256x256 .f32} (h : ∀ j x, (fun j => fNext V c t (fz V c t j) j) j x = G ((stRect j).emb x)) :
    (left0A V c t h0).st = G := by
  have e1 : (left0A V c t h0).st = sc0.view.read (Elt Ideal) (sc0.view.writes (Elt Ideal) sc0.view.junk
      (pieces8 stRect (fun j => fNext V c t (fz V c t j) j) ++ (fL V c t 0 (Nat.zero_le _)))) := by sl_kernel_rfl
  exact e1.trans (read_pieces8 rfl h (cover_st _))
theorem left0B_11 (t : Fin cfg0.N) (h0 : ¬t.val % 33 = 0) (p : Left0 Ideal) {G : Vec Ideal S128x2048 .bf16} (h : ∀ j x, (fOut V c t (fs p.st)) j x = G ((colRect j).emb x)) :
    (left0B V c t h0 p).o11 = G := by
  have e1 : (left0B V c t h0 p).o11 = VO0_11.read (Elt Ideal) (VO0_11.writes (Elt Ideal) VO0_11.junk
      (pieces8 colRect (fOut V c t (fs p.st)) ++ [])) := by sl_kernel_rfl
  exact e1.trans (read_pieces8 rfl h (cover_col _))
theorem left0B_12 (t : Fin cfg0.N) (h0 : ¬t.val % 33 = 0) (p : Left0 Ideal) {G : Vec Ideal S128x2048 .f32} (h : ∀ j x, (fRy V c t (fs p.st)) j x = G ((colRect j).emb x)) :
    (left0B V c t h0 p).o12 = G := by
  have e1 : (left0B V c t h0 p).o12 = VO0_12.read (Elt Ideal) (VO0_12.writes (Elt Ideal) VO0_12.junk
      (pieces8 colRect (fRy V c t (fs p.st)) ++ [])) := by sl_kernel_rfl
  exact e1.trans (read_pieces8 rfl h (cover_col _))
theorem left0B_13 (t : Fin cfg0.N) (h0 : ¬t.val % 33 = 0) (p : Left0 Ideal) {G : Vec Ideal S8x1x256x256 .bf16} (h : ∀ j x, (fSt (fs p.st)) j x = G ((st4Rect j).emb x)) :
    (left0B V c t h0 p).o13 = G := by
  have e1 : (left0B V c t h0 p).o13 = VO0_13.read (Elt Ideal) (VO0_13.writes (Elt Ideal) VO0_13.junk
      (pieces8 st4Rect (fSt (fs p.st)) ++ [])) := by sl_kernel_rfl
  exact e1.trans (read_pieces8 rfl h (cover_st4 _))
theorem left0B_st (t : Fin cfg0.N) (h0 : ¬t.val % 33 = 0) (p : Left0 Ideal) {G : Vec Ideal S8x256x256 .f32} (h : ∀ j x, (fun j => fNext V c t (fs p.st j) j) j x = G ((stRect j).emb x)) :
    (left0B V c t h0 p).st = G := by
  have e1 : (left0B V c t h0 p).st = sc0.view.read (Elt Ideal) (sc0.view.writes (Elt Ideal) sc0.view.junk
      (pieces8 stRect (fun j => fNext V c t (fs p.st j) j) ++ [])) := by sl_kernel_rfl
  exact e1.trans (read_pieces8 rfl h (cover_st _))

/-- What every point leaves. -/
theorem left0_spec (M : FMatch V c I) : ∀ (n : ℕ) (hn : n < cfg0.N),
    (left0 V c n hn).o11 = gOut I n ∧ (left0 V c n hn).o12 = gRy I n ∧ (left0 V c n hn).o13 = gS4 I n
      ∧ (left0 V c n hn).st = gS I (n + 1) := by
  have hN : cfg0.N = 33 := N_0
  have key0 : ∀ (t : Fin cfg0.N) (h0 : t.val % 33 = 0), t.val = 0 → (left0A V c t h0).o11 = gOut I t.val ∧ (left0A V c t h0).o12 = gRy I t.val
      ∧ (left0A V c t h0).o13 = gS4 I t.val ∧ (left0A V c t h0).st = gS I (t.val + 1) := by
    intro t h0 hz
    obtain ⟨h11, h12, h13, hst⟩ := left0_of M t (s := fz V c t) (fun j d e => by rw [hz]; exact fz_spec t j _)
    exact ⟨left0A_11 t h0 h11, left0A_12 t h0 h12, left0A_13 t h0 h13, left0A_st t h0 hst⟩
  intro n
  induction n with
  | zero =>
    intro hn
    exact key0 ⟨0, hn⟩ (Nat.zero_mod _) rfl
  | succ n ih =>
    intro hn
    have h0 : ¬ (⟨n + 1, hn⟩ : Fin cfg0.N).val % 33 = 0 := by
      have : n + 1 < 33 := hN ▸ hn
      show ¬ (n + 1) % 33 = 0
      omega
    obtain ⟨-, -, -, ihs⟩ := ih (Nat.lt_of_succ_lt hn)
    have e := left0_B V c ⟨n + 1, hn⟩ h0
    have e' : left0 V c (n + 1) hn = left0B V c ⟨n + 1, hn⟩ h0 (left0 V c n (Nat.lt_of_succ_lt hn)) := e
    rw [e']
    have hs : ∀ (j : Fin 8) (d e : Fin 256), fs (left0 V c n (Nat.lt_of_succ_lt hn)).st j (ix3 0 d e) = I.S (n + 1) j.val d.val e.val := by
      intro j d e
      refine (load_st _ _ j d e).trans ?_
      rw [ihs]; rfl
    obtain ⟨h11, h12, h13, hst⟩ := left0_of M ⟨n + 1, hn⟩ (s := fs (left0 V c n (Nat.lt_of_succ_lt hn)).st) hs
    exact ⟨left0B_11 _ h0 _ h11, left0B_12 _ h0 _ h12, left0B_13 _ h0 _ h13, left0B_st _ h0 _ hst⟩

end Cert.KernelIdeal.Ret

end
-- ==== Proof.BwdStage.lean ====
/- What the runs of the `ret_bwd` body share: its condition in closed form, the staging memrefs of its windows at a point, the scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's one condition -/

/-- The condition of the body's `if`: the chunk counter is zero. -/
abbrev cond1 (i : grid1.Coords) : Prop :=
  (Scalar.cmpi .ne (Scalar.extui (Scalar.cmpi .eq (BitVec.ofNat 32 (i 1).val) 0#32)) 0#32) = 1#1

/-- It holds at the grid's first point only. -/
theorem hcond1 : ∀ t : Fin cfg1.N, cond1 (grid1.coords t) ↔ t.val % 33 = 0 :=
  (fun t => by
    have ht : t.val < 33 := Nat.lt_of_lt_of_eq t.isLt N_1
    have e0 : (grid1.coords t 0).val = t.val / 33 % 1 := Pipeline.Grid.coords_val t 0 (by decide) rfl
    have e1 : (grid1.coords t 1).val = t.val / 1 % 33 := Pipeline.Grid.coords_val t 1 (by decide) rfl
    simp only [cond1, e0, e1]
    word_cmp
   : ∀ t : Fin grid1.N, cond1 (grid1.coords t) ↔ t.val % 33 = 0)

/-! ## The staging memrefs at a point -/

abbrev ms1_0 (t : Fin cfg1.N) : Memref sig .tc .vmem S128x2048 .f32 := win1_0.stage (cfg1.slots t 0)
theorem hs1_0 (t : Fin cfg1.N) : (ms1_0 t).IsWhole := hstage1_0 ((cfg1.slots t 0).cast nbuf1_0)
abbrev ms1_1 (t : Fin cfg1.N) : Memref sig .tc .vmem S128x2048 .f32 := win1_1.stage (cfg1.slots t 1)
theorem hs1_1 (t : Fin cfg1.N) : (ms1_1 t).IsWhole := hstage1_1 ((cfg1.slots t 1).cast nbuf1_1)
abbrev ms1_2 (t : Fin cfg1.N) : Memref sig .tc .vmem S128x2048 .f32 := win1_2.stage (cfg1.slots t 2)
theorem hs1_2 (t : Fin cfg1.N) : (ms1_2 t).IsWhole := hstage1_2 ((cfg1.slots t 2).cast nbuf1_2)
abbrev ms1_3 (t : Fin cfg1.N) : Memref sig .tc .vmem S128x2048 .f32 := win1_3.stage (cfg1.slots t 3)
theorem hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
theorem hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
theorem hs1_5 (t : Fin cfg1.N) : (ms1_5 t).IsWhole := hstage1_5 ((cfg1.slots t 5).cast nbuf1_5)
abbrev ms1_6 (t : Fin cfg1.N) : Memref sig .tc .vmem S8x128x128 .f32 := win1_6.stage (cfg1.slots t 6)
theorem hs1_6 (t : Fin cfg1.N) : (ms1_6 t).IsWhole := hstage1_6 ((cfg1.slots t 6).cast nbuf1_6)
abbrev ms1_7 (t : Fin cfg1.N) : Memref sig .tc .vmem S8x128x1 .f32 := win1_7.stage (cfg1.slots t 7)
theorem hs1_7 (t : Fin cfg1.N) : (ms1_7 t).IsWhole := hstage1_7 ((cfg1.slots t 7).cast nbuf1_7)
abbrev ms1_8 (t : Fin cfg1.N) : Memref sig .tc .vmem S8x128x1 .f32 := win1_8.stage (cfg1.slots t 8)
theorem hs1_8 (t : Fin cfg1.N) : (ms1_8 t).IsWhole := hstage1_8 ((cfg1.slots t 8).cast nbuf1_8)
abbrev ms1_9 (t : Fin cfg1.N) : Memref sig .tc .vmem S8x1x1 .f32 := win1_9.stage (cfg1.slots t 9)
theorem hs1_9 (t : Fin cfg1.N) : (ms1_9 t).IsWhole := hstage1_9 ((cfg1.slots t 9).cast nbuf1_9)
abbrev ms1_10 (t : Fin cfg1.N) : Memref sig .tc .vmem S1x2048 .f32 := win1_10.stage (cfg1.slots t 10)
theorem hs1_10 (t : Fin cfg1.N) : (ms1_10 t).IsWhole := hstage1_10 ((cfg1.slots t 10).cast nbuf1_10)
abbrev ms1_11 (t : Fin cfg1.N) : Memref sig .tc .vmem S128x2048 .f32 := win1_11.stage (cfg1.slots t 11)
theorem hs1_11 (t : Fin cfg1.N) : (ms1_11 t).IsWhole := hstage1_11 ((cfg1.slots t 11).cast nbuf1_11)
abbrev ms1_12 (t : Fin cfg1.N) : Memref sig .tc .vmem S128x2048 .f32 := win1_12.stage (cfg1.slots t 12)
theorem hs1_12 (t : Fin cfg1.N) : (ms1_12 t).IsWhole := hstage1_12 ((cfg1.slots t 12).cast nbuf1_12)
abbrev ms1_13 (t : Fin cfg1.N) : Memref sig .tc .vmem S8x1x256x256 .bf16 := win1_13.stage (cfg1.slots t 13)
theorem hs1_13 (t : Fin cfg1.N) : (ms1_13 t).IsWhole := hstage1_13 ((cfg1.slots t 13).cast nbuf1_13)
abbrev ms1_14 (t : Fin cfg1.N) : Memref sig .tc .vmem S128x2048 .bf16 := win1_14.stage (cfg1.slots t 14)
theorem hs1_14 (t : Fin cfg1.N) : (ms1_14 t).IsWhole := hstage1_14 ((cfg1.slots t 14).cast nbuf1_14)
abbrev ms1_15 (t : Fin cfg1.N) : Memref sig .tc .vmem S128x2048 .bf16 := win1_15.stage (cfg1.slots t 15)
theorem hs1_15 (t : Fin cfg1.N) : (ms1_15 t).IsWhole := hstage1_15 ((cfg1.slots t 15).cast nbuf1_15)
abbrev ms1_16 (t : Fin cfg1.N) : Memref sig .tc .vmem S128x2048 .bf16 := win1_16.stage (cfg1.slots t 16)
theorem hs1_16 (t : Fin cfg1.N) : (ms1_16 t).IsWhole := hstage1_16 ((cfg1.slots t 16).cast nbuf1_16)
abbrev ms1_17 (t : Fin cfg1.N) : Memref sig .tc .vmem S128x2048 .bf16 := win1_17.stage (cfg1.slots t 17)
theorem hs1_17 (t : Fin cfg1.N) : (ms1_17 t).IsWhole := hstage1_17 ((cfg1.slots t 17).cast nbuf1_17)
abbrev ms1_18 (t : Fin cfg1.N) : Memref sig .tc .vmem S1x2048 .f32 := win1_18.stage (cfg1.slots t 18)
theorem hs1_18 (t : Fin cfg1.N) : (ms1_18 t).IsWhole := hstage1_18 ((cfg1.slots t 18).cast nbuf1_18)
/-- The scratch operand, a whole buffer of the kernel's own: the state the kernel carries from chunk to chunk. -/
abbrev sc1 : Memref sig .tc .vmem S8x256x256 .f32 := Memref.whole cc1_scratch0

/-- The part of a region's invariant that is not its windows, the scratch named as a memref. -/
theorem PhiA1_eq (c : Dev nD) :
    (Pipeline.ΦA spec1 c : sProp 𝕄)
      = iprop(iprop((∃ d, owns (c : Thread nD τ) sc1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [sc1, owns_whole]; try rfl

end Cert.KernelIdeal.Ret

end
-- ==== Proof.BwdRunA.lean ====
/- The run of the `ret_bwd` body at the first chunk. -/
module

public import proofs.«01_k».proof.Proof.BwdStage

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1400000 in
/-- The first chunk: on whole staging memrefs, the inputs at their contents, the body runs to its end with
    the inputs as they were and each output, and the scratch, with a list of pieces written; the pieces are part of the statement's witness. -/
noncomputable def run1_A (c : Dev nD) (i : grid1.Coords)
    (arg2 : Memref sig .tc .vmem S128x2048 .f32) (harg2 : arg2.IsWhole)
    (arg3 : Memref sig .tc .vmem S128x2048 .f32) (harg3 : arg3.IsWhole)
    (arg4 : Memref sig .tc .vmem S128x2048 .f32) (harg4 : arg4.IsWhole)
    (arg5 : Memref sig .tc .vmem S128x2048 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S8x128x128 .f32) (harg8 : arg8.IsWhole)
    (arg9 : Memref sig .tc .vmem S8x128x1 .f32) (harg9 : arg9.IsWhole)
    (arg10 : Memref sig .tc .vmem S8x128x1 .f32) (harg10 : arg10.IsWhole)
    (arg11 : Memref sig .tc .vmem S8x1x1 .f32) (harg11 : arg11.IsWhole)
    (arg12 : Memref sig .tc .vmem S1x2048 .f32) (harg12 : arg12.IsWhole)
    (arg13 : Memref sig .tc .vmem S128x2048 .f32) (harg13 : arg13.IsWhole)
    (arg14 : Memref sig .tc .vmem S128x2048 .f32) (harg14 : arg14.IsWhole)
    (arg15 : Memref sig .tc .vmem S8x1x256x256 .bf16) (harg15 : arg15.IsWhole)
    (arg16 : Memref sig .tc .vmem S128x2048 .bf16) (harg16 : arg16.IsWhole)
    (arg17 : Memref sig .tc .vmem S128x2048 .bf16) (harg17 : arg17.IsWhole)
    (arg18 : Memref sig .tc .vmem S128x2048 .bf16) (harg18 : arg18.IsWhole)
    (arg19 : Memref sig .tc .vmem S128x2048 .bf16) (harg19 : arg19.IsWhole)
    (arg20 : Memref sig .tc .vmem S1x2048 .f32) (harg20 : arg20.IsWhole)
    (arg21 : Memref sig .tc .vmem S8x256x256 .f32) (harg21 : arg21.IsWhole)
    (hc : cond1 i)
    (x0 : Vec F S128x2048 .f32) (x1 : Vec F S128x2048 .f32) (x2 : Vec F S128x2048 .f32) (x3 : Vec F S128x2048 .f32) (x4 : Vec F S128x128 .f32) (x5 : Vec F S128x128 .f32) (x6 : Vec F S8x128x128 .f32) (x7 : Vec F S8x128x1 .f32) (x8 : Vec F S8x128x1 .f32) (x9 : Vec F S8x1x1 .f32) (x10 : Vec F S1x2048 .f32) (x11 : Vec F S128x2048 .f32) (x12 : Vec F S128x2048 .f32) (x13 : Vec F S8x1x256x256 .bf16) :
    Σ' (L14 : List (View.Piece (Elt F) S128x2048 .bf16)), Σ' (L15 : List (View.Piece (Elt F) S128x2048 .bf16)), Σ' (L16 : List (View.Piece (Elt F) S128x2048 .bf16)), Σ' (L17 : List (View.Piece (Elt F) S128x2048 .bf16)), Σ' (L18 : List (View.Piece (Elt F) S1x2048 .f32)), { LS : List (View.Piece (Elt F) S8x256x256 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ (∃ d, owns (c : Thread nD τ) arg16 fullShare d)
          ∗ (∃ d, owns (c : Thread nD τ) arg17 fullShare d)
          ∗ (∃ d, owns (c : Thread nD τ) arg18 fullShare d)
          ∗ (∃ d, owns (c : Thread nD τ) arg19 fullShare d)
          ∗ (∃ d, owns (c : Thread nD τ) arg20 fullShare d)
          ∗ (∃ d, owns (c : Thread nD τ) arg21 fullShare d)
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ (∃ f, arg16.view.loc (c : Thread nD τ) ↦[arg16.view.set]{fullShare} arg16.view.writes (Elt F) f L14)
          ∗ (∃ f, arg17.view.loc (c : Thread nD τ) ↦[arg17.view.set]{fullShare} arg17.view.writes (Elt F) f L15)
          ∗ (∃ f, arg18.view.loc (c : Thread nD τ) ↦[arg18.view.set]{fullShare} arg18.view.writes (Elt F) f L16)
          ∗ (∃ f, arg19.view.loc (c : Thread nD τ) ↦[arg19.view.set]{fullShare} arg19.view.writes (Elt F) f L17)
          ∗ (∃ f, arg20.view.loc (c : Thread nD τ) ↦[arg20.view.set]{fullShare} arg20.view.writes (Elt F) f L18)
          ∗ (∃ f, arg21.view.loc (c : Thread nD τ) ↦[arg21.view.set]{fullShare} arg21.view.writes (Elt F) f LS)) -∗ K ⟨⟩))
          ⊢ wp frame (wpE (defs₀ (F := F)) Variants.none c none) E (cc1_ret_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact HS

end Cert.KernelIdeal.Ret

end
-- ==== Proof.BwdRunB.lean ====
/- The run of the `ret_bwd` body at a later chunk. -/
module

public import proofs.«01_k».proof.Proof.BwdRunA

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1400000 in
/-- A later chunk: on whole staging memrefs, the inputs at their contents, the scratch at what the chunk before left and the accumulated output at its running contents, the body runs to its end with
    the inputs as they were and each output, and the scratch, with a list of pieces written; the pieces are part of the statement's witness. -/
noncomputable def run1_B (c : Dev nD) (i : grid1.Coords)
    (arg2 : Memref sig .tc .vmem S128x2048 .f32) (harg2 : arg2.IsWhole)
    (arg3 : Memref sig .tc .vmem S128x2048 .f32) (harg3 : arg3.IsWhole)
    (arg4 : Memref sig .tc .vmem S128x2048 .f32) (harg4 : arg4.IsWhole)
    (arg5 : Memref sig .tc .vmem S128x2048 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S8x128x128 .f32) (harg8 : arg8.IsWhole)
    (arg9 : Memref sig .tc .vmem S8x128x1 .f32) (harg9 : arg9.IsWhole)
    (arg10 : Memref sig .tc .vmem S8x128x1 .f32) (harg10 : arg10.IsWhole)
    (arg11 : Memref sig .tc .vmem S8x1x1 .f32) (harg11 : arg11.IsWhole)
    (arg12 : Memref sig .tc .vmem S1x2048 .f32) (harg12 : arg12.IsWhole)
    (arg13 : Memref sig .tc .vmem S128x2048 .f32) (harg13 : arg13.IsWhole)
    (arg14 : Memref sig .tc .vmem S128x2048 .f32) (harg14 : arg14.IsWhole)
    (arg15 : Memref sig .tc .vmem S8x1x256x256 .bf16) (harg15 : arg15.IsWhole)
    (arg16 : Memref sig .tc .vmem S128x2048 .bf16) (harg16 : arg16.IsWhole)
    (arg17 : Memref sig .tc .vmem S128x2048 .bf16) (harg17 : arg17.IsWhole)
    (arg18 : Memref sig .tc .vmem S128x2048 .bf16) (harg18 : arg18.IsWhole)
    (arg19 : Memref sig .tc .vmem S128x2048 .bf16) (harg19 : arg19.IsWhole)
    (arg20 : Memref sig .tc .vmem S1x2048 .f32) (harg20 : arg20.IsWhole)
    (arg21 : Memref sig .tc .vmem S8x256x256 .f32) (harg21 : arg21.IsWhole)
    (hc : ¬cond1 i)
    (x0 : Vec F S128x2048 .f32) (x1 : Vec F S128x2048 .f32) (x2 : Vec F S128x2048 .f32) (x3 : Vec F S128x2048 .f32) (x4 : Vec F S128x128 .f32) (x5 : Vec F S128x128 .f32) (x6 : Vec F S8x128x128 .f32) (x7 : Vec F S8x128x1 .f32) (x8 : Vec F S8x128x1 .f32) (x9 : Vec F S8x1x1 .f32) (x10 : Vec F S1x2048 .f32) (x11 : Vec F S128x2048 .f32) (x12 : Vec F S128x2048 .f32) (x13 : Vec F S8x1x256x256 .bf16) (xo : Vec F S1x2048 .f32) (xs : Vec F S8x256x256 .f32) :
    Σ' (L14 : List (View.Piece (Elt F) S128x2048 .bf16)), Σ' (L15 : List (View.Piece (Elt F) S128x2048 .bf16)), Σ' (L16 : List (View.Piece (Elt F) S128x2048 .bf16)), Σ' (L17 : List (View.Piece (Elt F) S128x2048 .bf16)), Σ' (L18 : List (View.Piece (Elt F) S1x2048 .f32)), { LS : List (View.Piece (Elt F) S8x256x256 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ (∃ d, owns (c : Thread nD τ) arg16 fullShare d)
          ∗ (∃ d, owns (c : Thread nD τ) arg17 fullShare d)
          ∗ (∃ d, owns (c : Thread nD τ) arg18 fullShare d)
          ∗ (∃ d, owns (c : Thread nD τ) arg19 fullShare d)
          ∗ owns (c : Thread nD τ) arg20 fullShare xo
          ∗ owns (c : Thread nD τ) arg21 fullShare xs
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare x8
          ∗ owns (c : Thread nD τ) arg11 fullShare x9
          ∗ owns (c : Thread nD τ) arg12 fullShare x10
          ∗ owns (c : Thread nD τ) arg13 fullShare x11
          ∗ owns (c : Thread nD τ) arg14 fullShare x12
          ∗ owns (c : Thread nD τ) arg15 fullShare x13
          ∗ (∃ f, arg16.view.loc (c : Thread nD τ) ↦[arg16.view.set]{fullShare} arg16.view.writes (Elt F) f L14)
          ∗ (∃ f, arg17.view.loc (c : Thread nD τ) ↦[arg17.view.set]{fullShare} arg17.view.writes (Elt F) f L15)
          ∗ (∃ f, arg18.view.loc (c : Thread nD τ) ↦[arg18.view.set]{fullShare} arg18.view.writes (Elt F) f L16)
          ∗ (∃ f, arg19.view.loc (c : Thread nD τ) ↦[arg19.view.set]{fullShare} arg19.view.writes (Elt F) f L17)
          ∗ (∃ f, arg20.view.loc (c : Thread nD τ) ↦[arg20.view.set]{fullShare} arg20.view.writes (Elt F) f L18)
          ∗ (∃ f, arg21.view.loc (c : Thread nD τ) ↦[arg21.view.set]{fullShare} arg21.view.writes (Elt F) f LS)) -∗ K ⟨⟩))
          ⊢ wp frame (wpE (defs₀ (F := F)) Variants.none c none) E (cc1_ret_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%f18, %hf18, H18⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg20.eq_unread hf18; obtain rfl := harg21.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact HS

end Cert.KernelIdeal.Ret

end
-- ==== Proof.BwdData.lean ====
/- The `ret_bwd` region: what its body leaves at each point, its proof data, and the body obligation, over any contents the region is entered with. -/
module

public import proofs.«01_k».proof.Proof.BwdRunB

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-! ## The runs at a point -/

/-- The run at the first point. -/
abbrev at1A (c : Dev nD) (t : Fin cfg1.N) (h0 : t.val % 33 = 0) :=
  run1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) sc1 (Memref.isWhole_whole _) ((hcond1 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)

theorem cover1_A_14 (c : Dev nD) (t : Fin cfg1.N) (h0 : t.val % 33 = 0) (y : S128x2048.Idx) :
    ∃ pc ∈ (at1A V c t h0).1, y ∈ pc.1.set :=
  View.cover_of_tiledL (at1A V c t h0).1 S128x256.size (by sl_kernel_rfl) y
theorem cover1_A_15 (c : Dev nD) (t : Fin cfg1.N) (h0 : t.val % 33 = 0) (y : S128x2048.Idx) :
    ∃ pc ∈ (at1A V c t h0).2.1, y ∈ pc.1.set :=
  View.cover_of_tiledL (at1A V c t h0).2.1 S128x256.size (by sl_kernel_rfl) y
theorem cover1_A_16 (c : Dev nD) (t : Fin cfg1.N) (h0 : t.val % 33 = 0) (y : S128x2048.Idx) :
    ∃ pc ∈ (at1A V c t h0).2.2.1, y ∈ pc.1.set :=
  View.cover_of_tiledL (at1A V c t h0).2.2.1 S128x256.size (by sl_kernel_rfl) y
theorem cover1_A_17 (c : Dev nD) (t : Fin cfg1.N) (h0 : t.val % 33 = 0) (y : S128x2048.Idx) :
    ∃ pc ∈ (at1A V c t h0).2.2.2.1, y ∈ pc.1.set :=
  View.cover_of_tiledL (at1A V c t h0).2.2.2.1 S128x256.size (by sl_kernel_rfl) y
theorem cover1_A_18 (c : Dev nD) (t : Fin cfg1.N) (h0 : t.val % 33 = 0) (y : S1x2048.Idx) :
    ∃ pc ∈ (at1A V c t h0).2.2.2.2.1, y ∈ pc.1.set :=
  View.cover_of_tiledBy (at1A V c t h0).2.2.2.2.1 ![1, 256] (by sl_kernel_rfl) y
theorem scover1_A (c : Dev nD) (t : Fin cfg1.N) (h0 : t.val % 33 = 0) (y : S8x256x256.Idx) :
    ∃ pc ∈ (at1A V c t h0).2.2.2.2.2.1, y ∈ pc.1.set :=
  View.cover_of_wholeMem (at1A V c t h0).2.2.2.2.2.1 (by sl_whole_mem) y

/-- The run at a later point, over what the point before left. -/
abbrev at1B (c : Dev nD) (t : Fin cfg1.N) (h0 : ¬t.val % 33 = 0) (xo : Vec F S1x2048 .f32) (xs : Vec F S8x256x256 .f32) :=
  run1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) sc1 (Memref.isWhole_whole _) (fun h => h0 ((hcond1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) xo xs

theorem cover1_B_14 (c : Dev nD) (t : Fin cfg1.N) (h0 : ¬t.val % 33 = 0) (xo : Vec F S1x2048 .f32) (xs : Vec F S8x256x256 .f32) (y : S128x2048.Idx) :
    ∃ pc ∈ (at1B V c t h0 xo xs).1, y ∈ pc.1.set :=
  View.cover_of_tiledL (at1B V c t h0 xo xs).1 S128x256.size (by sl_kernel_rfl) y
theorem cover1_B_15 (c : Dev nD) (t : Fin cfg1.N) (h0 : ¬t.val % 33 = 0) (xo : Vec F S1x2048 .f32) (xs : Vec F S8x256x256 .f32) (y : S128x2048.Idx) :
    ∃ pc ∈ (at1B V c t h0 xo xs).2.1, y ∈ pc.1.set :=
  View.cover_of_tiledL (at1B V c t h0 xo xs).2.1 S128x256.size (by sl_kernel_rfl) y
theorem cover1_B_16 (c : Dev nD) (t : Fin cfg1.N) (h0 : ¬t.val % 33 = 0) (xo : Vec F S1x2048 .f32) (xs : Vec F S8x256x256 .f32) (y : S128x2048.Idx) :
    ∃ pc ∈ (at1B V c t h0 xo xs).2.2.1, y ∈ pc.1.set :=
  View.cover_of_tiledL (at1B V c t h0 xo xs).2.2.1 S128x256.size (by sl_kernel_rfl) y
theorem cover1_B_17 (c : Dev nD) (t : Fin cfg1.N) (h0 : ¬t.val % 33 = 0) (xo : Vec F S1x2048 .f32) (xs : Vec F S8x256x256 .f32) (y : S128x2048.Idx) :
    ∃ pc ∈ (at1B V c t h0 xo xs).2.2.2.1, y ∈ pc.1.set :=
  View.cover_of_tiledL (at1B V c t h0 xo xs).2.2.2.1 S128x256.size (by sl_kernel_rfl) y
theorem cover1_B_18 (c : Dev nD) (t : Fin cfg1.N) (h0 : ¬t.val % 33 = 0) (xo : Vec F S1x2048 .f32) (xs : Vec F S8x256x256 .f32) (y : S1x2048.Idx) :
    ∃ pc ∈ (at1B V c t h0 xo xs).2.2.2.2.1, y ∈ pc.1.set :=
  View.cover_of_tiledL (at1B V c t h0 xo xs).2.2.2.2.1 S1x256.size (by sl_kernel_rfl) y
theorem scover1_B (c : Dev nD) (t : Fin cfg1.N) (h0 : ¬t.val % 33 = 0) (xo : Vec F S1x2048 .f32) (xs : Vec F S8x256x256 .f32) (y : S8x256x256.Idx) :
    ∃ pc ∈ (at1B V c t h0 xo xs).2.2.2.2.2.1, y ∈ pc.1.set :=
  View.cover_of_tiledL (at1B V c t h0 xo xs).2.2.2.2.2.1 S1x256x256.size (by sl_kernel_rfl) y

/-! ## What the outputs and the scratch hold after a point -/

/-- The contents after a point: the outputs' staging buffers, and the carried state. -/
structure Left1 (F : FTy → Type) where
  o14 : Vec F S128x2048 .bf16
  o15 : Vec F S128x2048 .bf16
  o16 : Vec F S128x2048 .bf16
  o17 : Vec F S128x2048 .bf16
  o18 : Vec F S1x2048 .f32
  st : Vec F S8x256x256 .f32

/-- One staging buffer of output 14, as a view. -/
abbrev VO1_14 : View sig .tc .vmem S128x2048 .bf16 := (Memref.whole cc1_stg14_0 : Memref sig .tc .vmem S128x2048 .bf16).view
/-- One staging buffer of output 15, as a view. -/
abbrev VO1_15 : View sig .tc .vmem S128x2048 .bf16 := (Memref.whole cc1_stg15_0 : Memref sig .tc .vmem S128x2048 .bf16).view
/-- One staging buffer of output 16, as a view. -/
abbrev VO1_16 : View sig .tc .vmem S128x2048 .bf16 := (Memref.whole cc1_stg16_0 : Memref sig .tc .vmem S128x2048 .bf16).view
/-- One staging buffer of output 17, as a view. -/
abbrev VO1_17 : View sig .tc .vmem S128x2048 .bf16 := (Memref.whole cc1_stg17_0 : Memref sig .tc .vmem S128x2048 .bf16).view
/-- One staging buffer of output 18, as a view. -/
abbrev VO1_18 : View sig .tc .vmem S1x2048 .f32 := (Memref.whole cc1_stg18_0 : Memref sig .tc .vmem S1x2048 .f32).view

/-- What the run at the first point leaves: its pieces over anything. -/
def left1A (c : Dev nD) (t : Fin cfg1.N) (h0 : t.val % 33 = 0) : Left1 F where
  o14 := VO1_14.read (Elt F) (VO1_14.writes (Elt F) VO1_14.junk (at1A V c t h0).1)
  o15 := VO1_15.read (Elt F) (VO1_15.writes (Elt F) VO1_15.junk (at1A V c t h0).2.1)
  o16 := VO1_16.read (Elt F) (VO1_16.writes (Elt F) VO1_16.junk (at1A V c t h0).2.2.1)
  o17 := VO1_17.read (Elt F) (VO1_17.writes (Elt F) VO1_17.junk (at1A V c t h0).2.2.2.1)
  o18 := VO1_18.read (Elt F) (VO1_18.writes (Elt F) VO1_18.junk (at1A V c t h0).2.2.2.2.1)
  st := sc1.view.read (Elt F) (sc1.view.writes (Elt F) sc1.view.junk (at1A V c t h0).2.2.2.2.2.1)

/-- What the run at a later point leaves: its pieces over anything. -/
def left1B (c : Dev nD) (t : Fin cfg1.N) (h0 : ¬t.val % 33 = 0) (p : Left1 F) : Left1 F where
  o14 := VO1_14.read (Elt F) (VO1_14.writes (Elt F) VO1_14.junk (at1B V c t h0 p.o18 p.st).1)
  o15 := VO1_15.read (Elt F) (VO1_15.writes (Elt F) VO1_15.junk (at1B V c t h0 p.o18 p.st).2.1)
  o16 := VO1_16.read (Elt F) (VO1_16.writes (Elt F) VO1_16.junk (at1B V c t h0 p.o18 p.st).2.2.1)
  o17 := VO1_17.read (Elt F) (VO1_17.writes (Elt F) VO1_17.junk (at1B V c t h0 p.o18 p.st).2.2.2.1)
  o18 := VO1_18.read (Elt F) (VO1_18.writes (Elt F) VO1_18.junk (at1B V c t h0 p.o18 p.st).2.2.2.2.1)
  st := sc1.view.read (Elt F) (sc1.view.writes (Elt F) sc1.view.junk (at1B V c t h0 p.o18 p.st).2.2.2.2.2.1)

/-- The contents after every point, in turn. -/
def left1 (c : Dev nD) : (n : ℕ) → n < cfg1.N → Left1 F
  | 0, hn => left1A V c ⟨0, hn⟩ (Nat.zero_mod _)
  | n + 1, hn =>
    if h0 : (n + 1) % 33 = 0 then left1A V c ⟨n + 1, hn⟩ h0
    else left1B V c ⟨n + 1, hn⟩ h0 (left1 c n (Nat.lt_of_succ_lt hn))

theorem left1_A (c : Dev nD) (t : Fin cfg1.N) (h0 : t.val % 33 = 0) : left1 V c t.val t.isLt = left1A V c t h0 := by
  obtain ⟨n, hn⟩ := t
  cases n with
  | zero => exact rfl
  | succ n => exact (dif_pos h0).trans rfl

theorem left1_B (c : Dev nD) (t : Fin cfg1.N) (h0 : ¬t.val % 33 = 0) :
    left1 V c t.val t.isLt = left1B V c t h0 (left1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The rest of the region's own buffers, at anything. -/
abbrev rest1 (c : Dev nD) : sProp 𝕄 :=
  Pipeline.scopedRestBut (Ix := Unit) (Name := ℕ) (U := UR sig nD τ) (Lvl := ℕ) (Val := Elt F) spec1 c [cc1_scratch0]

/-- The invariant before position `n`: the carried state at what the point before left (at anything before the first). -/
def Phi1 (c : Dev nD) : (n : ℕ) → n ≤ cfg1.N → sProp 𝕄
  | 0, _ => Pipeline.ΦA spec1 c
  | n + 1, hn => iprop(iprop(owns (c : Thread nD τ) sc1 fullShare (left1 V c n hn).st ∗ rest1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) sc1 fullShare (left1 V c n hn).st ∗ rest1 c) ∗ (∃ r, prngReg c r)) := rfl
theorem Phi1_pos (c : Dev nD) (n : ℕ) (h : n ≤ cfg1.N) (hz : n ≠ 0) :
    Phi1 V c n h = iprop(iprop(owns (c : Thread nD τ) sc1 fullShare (left1 V c (n - 1) (by omega)).st ∗ rest1 c) ∗ (∃ r, prngReg c r)) := by
  cases n with
  | zero => exact absurd rfl hz
  | succ n => rfl

/-! ## The pipeline's proof data -/

/-- The arrays as the region finds them; after a point the inputs' buffers at their blocks and the outputs' at what is left. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => (left1 V c t.val t.isLt).o14
    | ⟨15, _⟩ => (left1 V c t.val t.isLt).o15
    | ⟨16, _⟩ => (left1 V c t.val t.isLt).o16
    | ⟨17, _⟩ => (left1 V c t.val t.isLt).o17
    | ⟨18, _⟩ => (left1 V c t.val t.isLt).o18
    | ⟨_ + 19, h⟩ => absurd h (Nat.not_lt.2 (Nat.le_add_left _ _))
  Φ t := Phi1 V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = (left1 V c t.val t.isLt).o14 := by dsimp only [dat1]
theorem after1_15 (c : Dev nD) (t : Fin cfg1.N) : (dat1 V c).after 15 t = (left1 V c t.val t.isLt).o15 := by dsimp only [dat1]
theorem after1_16 (c : Dev nD) (t : Fin cfg1.N) : (dat1 V c).after 16 t = (left1 V c t.val t.isLt).o16 := by dsimp only [dat1]
theorem after1_17 (c : Dev nD) (t : Fin cfg1.N) : (dat1 V c).after 17 t = (left1 V c t.val t.isLt).o17 := by dsimp only [dat1]
theorem after1_18 (c : Dev nD) (t : Fin cfg1.N) : (dat1 V c).after 18 t = (left1 V c t.val t.isLt).o18 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
/-- The accumulated output's buffer is not written back between points: it holds what the point before left. -/
theorem before1_18 (c : Dev nD) (t : Fin cfg1.N) (h0 : ¬t.val % 33 = 0) (d) :
    (dat1 V c).before 18 t d = (left1 V c (t.val - 1) (Nat.lt_of_le_of_lt (Nat.sub_le _ _) t.isLt)).o18 := by
  have hN : t.val < 33 := lt_of_lt_of_eq t.isLt (show cfg1.N = 33 from N_1)
  rw [Dat.before_out_kept _ 18 rfl t (by omega) (Bool.eq_false_iff.mpr fun h => by have := (flush1_18 _).mp h; dsimp only at this; omega)
    (fun _ => rfl) (fun _ _ => rfl)]
  dsimp only [dat1]

/-! ## The body at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t))

set_option maxHeartbeats 16000000 in
/-- The body at any point: the run of the point's case, its pieces covering every output and the carried state. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18]
  rw [show (dat1 V c).Φ t.succ = Phi1 V c (t.val + 1) t.isLt from rfl, Phi1_succ]
  have hN : t.val < 33 := lt_of_lt_of_eq t.isLt (show cfg1.N = 33 from N_1)
  by_cases h0 : t.val % 33 = 0
  · have hz : t.val = 0 := by omega
    rw [Phi1_castSucc V c t, Phi1_zero V c _ _ hz, PhiA1_eq, left1_A V c t h0]
    unfold left1A; (try dsimp only)
    iintro ⟨⟨⟨HS, Hu⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((at1A V c t h0).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [HS]; · iexact HS
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%es, HS⟩⟩
    isplitl [HS Hu Hg]
    · isplitl [HS Hu]
      · isplitl [HS]
        · unfold owns; iexists _; isplitr
          swap; · iexact HS
          ipureintro; exact View.read_writes_of_cover _ _ _ _ _ (scover1_A V c t h0)
        iexact Hu
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (cover1_A_14 V c t h0)
    isplitl [H15]
    · unfold owns; iexists _; isplitr
      swap; · iexact H15
      ipureintro; exact View.read_writes_of_cover _ _ _ _ _ (cover1_A_15 V c t h0)
    isplitl [H16]
    · unfold owns; iexists _; isplitr
      swap; · iexact H16
      ipureintro; exact View.read_writes_of_cover _ _ _ _ _ (cover1_A_16 V c t h0)
    isplitl [H17]
    · unfold owns; iexists _; isplitr
      swap; · iexact H17
      ipureintro; exact View.read_writes_of_cover _ _ _ _ _ (cover1_A_17 V c t h0)
    unfold owns; iexists _; isplitr
    swap; · iexact H18
    ipureintro; exact View.read_writes_of_cover _ _ _ _ _ (cover1_A_18 V c t h0)
  · have hz : t.val ≠ 0 := fun h => h0 (by rw [h])
    rw [Phi1_castSucc V c t, Phi1_pos V c _ _ hz, left1_B V c t h0]
    simp only [before1_18 V c t h0]
    unfold left1B; (try dsimp only)
    iintro ⟨⟨⟨HS, Hu⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((at1B V c t h0 _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexact H18
    isplitl [HS]; · iexact HS
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%es, HS⟩⟩
    isplitl [HS Hu Hg]
    · isplitl [HS Hu]
      · isplitl [HS]
        · unfold owns; iexists _; isplitr
          swap; · iexact HS
          ipureintro; exact View.read_writes_of_cover _ _ _ _ _ (scover1_B V c t h0 _ _)
        iexact Hu
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (cover1_B_14 V c t h0 _ _)
    isplitl [H15]
    · unfold owns; iexists _; isplitr
      swap; · iexact H15
      ipureintro; exact View.read_writes_of_cover _ _ _ _ _ (cover1_B_15 V c t h0 _ _)
    isplitl [H16]
    · unfold owns; iexists _; isplitr
      swap; · iexact H16
      ipureintro; exact View.read_writes_of_cover _ _ _ _ _ (cover1_B_16 V c t h0 _ _)
    isplitl [H17]
    · unfold owns; iexists _; isplitr
      swap; · iexact H17
      ipureintro; exact View.read_writes_of_cover _ _ _ _ _ (cover1_B_17 V c t h0 _ _)
    unfold owns; iexists _; isplitr
    swap; · iexact H18
    ipureintro; exact View.read_writes_of_cover _ _ _ _ _ (cover1_B_18 V c t h0 _ _)

theorem row1 (t : Fin cfg1.N) :
    defs₀ (F := F) .tc cfg1.body (cfg1.bodyArgs t (cfg1.slots t)) = bodyAt1 t := by
  unfold defs₀; rw [Defs.onTc_tc]

/-- The body obligation at every point. -/
theorem body_obligation1 (c : Dev nD) : BodyObligation (dat1 (F := F) V c) (defs₀ (F := F)) Variants.none () Set.univ := fun t => by
  rw [bigSep_W1, bigSep_W1, row1]
  exact triple_restated (sound_body1 V c t) rfl .rfl fun _ => .rfl

/-- What the launch hands the region is the invariant before the first point, -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- and after the last point it gives that back. -/
theorem hout1 (c : Dev nD) : (dat1 V c).Φ (Fin.last cfg1.N) ⊢ Pipeline.ΦA spec1 c := by
  have hN : cfg1.N = 33 := N_1
  rw [show (dat1 V c).Φ (Fin.last cfg1.N) = Phi1 V c cfg1.N le_rfl from rfl, Phi1_pos V c _ _ (by omega), PhiA1_eq]
  iintro ⟨⟨HS, Hu⟩, Hg⟩
  isplitl [HS Hu]
  · isplitl [HS]; · iexists _; iexact HS
    iexact Hu
  iexact Hg

end Cert.KernelIdeal.Ret

end
-- ==== Proof.BwdPieces.lean ====
/- The backward body's written pieces, head by head. -/
module

public import proofs.«01_k».proof.Proof.Blocks
public import proofs.«01_k».proof.Proof.BwdData

@[expose] public section

set_option maxRecDepth 16384

noncomputable section

namespace Cert.KernelIdeal.Ret

open Idealize.ShloMosaic Idealize.ShloMosaic.TcCoe Idealize.ShloMosaic.Tactic
open Cert.KernelIdeal Cert.KernelIdeal.Gen Cert.Ret

variable {F : FTy → Type} [FloatOps F]
variable (V : (c : Dev nD) → (b : Ref sig .tc) → Buf (Elt F) ((c : Thread nD τ).loc b))
variable (c : Dev nD) (t : Fin cfg1.N)

/-! ## The loads of a point -/

def bq (j : Fin 8) : Vec F S128x256 .f32 := View.readAt (Elt F) (ms1_0 t).view (colRect j).toLoadRect ((hs1_0 t).unread (iblk1 V c 0 t))
def bk (j : Fin 8) : Vec F S128x256 .f32 := View.readAt (Elt F) (ms1_1 t).view (colRect j).toLoadRect ((hs1_1 t).unread (iblk1 V c 1 t))
def bv (j : Fin 8) : Vec F S128x256 .f32 := View.readAt (Elt F) (ms1_2 t).view (colRect j).toLoadRect ((hs1_2 t).unread (iblk1 V c 2 t))
def bg (j : Fin 8) : Vec F S128x256 .f32 := View.readAt (Elt F) (ms1_3 t).view (colRect j).toLoadRect ((hs1_3 t).unread (iblk1 V c 3 t))
def bcs : Vec F S128x128 .f32 := View.readAt (Elt F) (ms1_4 t).view tRect.toLoadRect ((hs1_4 t).unread (iblk1 V c 4 t))
def bsn : Vec F S128x128 .f32 := View.readAt (Elt F) (ms1_5 t).view tRect.toLoadRect ((hs1_5 t).unread (iblk1 V c 5 t))
def bD (j : Fin 8) : Vec F S1x128x128 .f32 := View.readAt (Elt F) (ms1_6 t).view (dRect j).toLoadRect ((hs1_6 t).unread (iblk1 V c 6 t))
def bqd (j : Fin 8) : Vec F S1x128x1 .f32 := View.readAt (Elt F) (ms1_7 t).view (cRect j).toLoadRect ((hs1_7 t).unread (iblk1 V c 7 t))
def bkd (j : Fin 8) : Vec F S1x128x1 .f32 := View.readAt (Elt F) (ms1_8 t).view (cRect j).toLoadRect ((hs1_8 t).unread (iblk1 V c 8 t))
def bcd (j : Fin 8) : Vec F S1x1x1 .f32 := View.readAt (Elt F) (ms1_9 t).view (sRect j).toLoadRect ((hs1_9 t).unread (iblk1 V c 9 t))
def bw (j : Fin 8) : Vec F S1x256 .f32 := View.readAt (Elt F) (ms1_10 t).view (rowRect j).toLoadRect ((hs1_10 t).unread (iblk1 V c 10 t))
def bo (j : Fin 8) : Vec F S128x256 .f32 := View.readAt (Elt F) (ms1_11 t).view (colRect j).toLoadRect ((hs1_11 t).unread (iblk1 V c 11 t))
def bry (j : Fin 8) : Vec F S128x256 .f32 := View.readAt (Elt F) (ms1_12 t).view (colRect j).toLoadRect ((hs1_12 t).unread (iblk1 V c 12 t))
def bS (j : Fin 8) : Vec F S1x1x256x256 .bf16 := View.readAt (Elt F) (ms1_13 t).view (st4Rect j).toLoadRect ((hs1_13 t).unread (iblk1 V c 13 t))

/-- The state's gradient and the weights' gradient a later point finds. -/
def bs (xs : Vec F S8x256x256 .f32) (j : Fin 8) : Vec F S1x256x256 .f32 :=
  View.readAt (Elt F) sc1.view (stRect j).toLoadRect ((Memref.isWhole_whole _ : sc1.IsWhole).unread xs)
def bx (xo : Vec F S1x2048 .f32) (j : Fin 8) : Vec F S1x256 .f32 :=
  View.readAt (Elt F) (ms1_18 t).view (rowRect j).toLoadRect ((hs1_18 t).unread xo)

/-! ## A head's outputs -/

def pDq (j : Fin 8) : FVec F S128x256 .bf16 :=
  bDq (bcs V c t) (bsn V c t) (bk V c t j) (bv V c t j) (bg V c t j) (bry V c t j) (bo V c t j) (bw V c t j) (bD V c t j)
    (bqd V c t j) (bS V c t j)
def pDk (s : Fin 8 → Vec F S1x256x256 .f32) (j : Fin 8) : FVec F S128x256 .bf16 :=
  bDk (bcs V c t) (bsn V c t) (bq V c t j) (bv V c t j) (bg V c t j) (bry V c t j) (bo V c t j) (bw V c t j) (bD V c t j)
    (bkd V c t j) (s j)
def pDv (s : Fin 8 → Vec F S1x256x256 .f32) (j : Fin 8) : FVec F S128x256 .bf16 :=
  bDv (bcs V c t) (bsn V c t) (bq V c t j) (bk V c t j) (bg V c t j) (bry V c t j) (bo V c t j) (bw V c t j) (bD V c t j)
    (bkd V c t j) (s j)
def pDg (j : Fin 8) : FVec F S128x256 .bf16 := bDg (bg V c t j) (bry V c t j) (bo V c t j) (bw V c t j)
def pDw (x : Vec F S1x256 .f32) (j : Fin 8) : FVec F S1x256 .f32 := bDw (bg V c t j) (bry V c t j) (bo V c t j) x
def pNext (s : Vec F S1x256x256 .f32) (j : Fin 8) : FVec F S1x256x256 .f32 :=
  bNext (bcs V c t) (bsn V c t) (bq V c t j) (bg V c t j) (bry V c t j) (bo V c t j) (bw V c t j) (bqd V c t j) s (bcd V c t j)

/-! ## The first point -/

/-- The state's pieces at the first point: the fill, then a piece per head, each over the state it loads. -/
def bL : (j : ℕ) → j ≤ 8 → List (View.Piece (Elt F) S8x256x256 .f32)
  | 0, _ => [⟨Rect.unit ![0, 0, 0] S8x256x256.size (by intro a; fin_cases a <;> simp [S8x256x256]), k1_pay3⟩]
  | j + 1, h => ⟨stRect ⟨j, h⟩, pNext V c t (sc1.view.readCov (bL j (Nat.le_of_succ_le h)) (stRect ⟨j, h⟩).toLoadRect) ⟨j, h⟩⟩
      :: bL j (Nat.le_of_succ_le h)

/-- The state's gradient the first point's head loads. -/
def bz (j : Fin 8) : Vec F S1x256x256 .f32 :=
  sc1.view.readCov (bL V c t j.val (Nat.le_of_lt j.isLt)) (stRect j).toLoadRect

/-- The weights' gradient's pieces at the first point. -/
def wL : (j : ℕ) → j ≤ 8 → List (View.Piece (Elt F) S1x2048 .f32)
  | 0, _ => [⟨Rect.unit ![0, 0] S1x2048.size (by intro a; fin_cases a <;> simp [S1x2048]), k1_pay4⟩]
  | j + 1, h => ⟨rowRect ⟨j, h⟩, pDw V c t ((ms1_18 t).view.readCov (wL j (Nat.le_of_succ_le h)) (rowRect ⟨j, h⟩).toLoadRect) ⟨j, h⟩⟩
      :: wL j (Nat.le_of_succ_le h)

/-- The weights' gradient the first point's head loads. -/
def wz (j : Fin 8) : Vec F S1x256 .f32 :=
  (ms1_18 t).view.readCov (wL V c t j.val (Nat.le_of_lt j.isLt)) (rowRect j).toLoadRect

theorem pieces1A_14 (h0 : t.val % 33 = 0) :
    (at1A V c t h0).1 = pieces8 colRect (pDq V c t) := by sl_kernel_rfl
theorem pieces1A_15 (h0 : t.val % 33 = 0) :
    (at1A V c t h0).2.1 = pieces8 colRect (pDk V c t (bz V c t)) := by sl_kernel_rfl
theorem pieces1A_16 (h0 : t.val % 33 = 0) :
    (at1A V c t h0).2.2.1 = pieces8 colRect (pDv V c t (bz V c t)) := by sl_kernel_rfl
theorem pieces1A_17 (h0 : t.val % 33 = 0) :
    (at1A V c t h0).2.2.2.1 = pieces8 colRect (pDg V c t) := by sl_kernel_rfl
theorem pieces1A_18 (h0 : t.val % 33 = 0) :
    (at1A V c t h0).2.2.2.2.1 = pieces8 rowRect (fun j => pDw V c t (wz V c t j) j) ++ wL V c t 0 (Nat.zero_le _) := by sl_kernel_rfl
theorem pieces1A_st (h0 : t.val % 33 = 0) :
    (at1A V c t h0).2.2.2.2.2.1 = pieces8 stRect (fun j => pNext V c t ((bz V c t) j) j) ++ bL V c t 0 (Nat.zero_le _) := by sl_kernel_rfl
theorem pieces1B_14 (h0 : ¬t.val % 33 = 0) (xo : Vec F S1x2048 .f32) (xs : Vec F S8x256x256 .f32) :
    (at1B V c t h0 xo xs).1 = pieces8 colRect (pDq V c t) := by sl_kernel_rfl
theorem pieces1B_15 (h0 : ¬t.val % 33 = 0) (xo : Vec F S1x2048 .f32) (xs : Vec F S8x256x256 .f32) :
    (at1B V c t h0 xo xs).2.1 = pieces8 colRect (pDk V c t (bs xs)) := by sl_kernel_rfl
theorem pieces1B_16 (h0 : ¬t.val % 33 = 0) (xo : Vec F S1x2048 .f32) (xs : Vec F S8x256x256 .f32) :
    (at1B V c t h0 xo xs).2.2.1 = pieces8 colRect (pDv V c t (bs xs)) := by sl_kernel_rfl
theorem pieces1B_17 (h0 : ¬t.val % 33 = 0) (xo : Vec F S1x2048 .f32) (xs : Vec F S8x256x256 .f32) :
    (at1B V c t h0 xo xs).2.2.2.1 = pieces8 colRect (pDg V c t) := by sl_kernel_rfl
theorem pieces1B_18 (h0 : ¬t.val % 33 = 0) (xo : Vec F S1x2048 .f32) (xs : Vec F S8x256x256 .f32) :
    (at1B V c t h0 xo xs).2.2.2.2.1 = pieces8 rowRect (fun j => pDw V c t (bx t xo j) j) := by sl_kernel_rfl
theorem pieces1B_st (h0 : ¬t.val % 33 = 0) (xo : Vec F S1x2048 .f32) (xs : Vec F S8x256x256 .f32) :
    (at1B V c t h0 xo xs).2.2.2.2.2.1 = pieces8 stRect (fun j => pNext V c t ((bs xs) j) j) := by sl_kernel_rfl

end Cert.KernelIdeal.Ret

end
-- ==== Proof.BwdLeft.lean ====
/- What the backward region's points leave, in the step's formulas. -/
module

public import proofs.«01_k».proof.Proof.FwdLeft
public import proofs.«01_k».proof.Proof.BwdPieces

@[expose] public section

set_option maxRecDepth 16384

noncomputable section

namespace Cert.KernelIdeal.Ret

open Idealize.ShloMosaic Idealize.ShloMosaic.TcCoe Idealize.ShloMosaic.Tactic
open Cert.KernelIdeal Cert.KernelIdeal.Gen Cert.Ret

variable (V : (c : Dev nD) → (b : Ref sig .tc) → Buf (Elt Ideal) ((c : Thread nD τ).loc b))
variable (c : Dev nD) (I : In)

/-- The backward region's input blocks are the step's inputs, the last chunk first. -/
structure BMatch : Prop where
  q : ∀ (t : Fin cfg1.N) (a : Fin 128) (j : Fin 8) (e : Fin 256),
    (iblk1 V c 0 t : Vec Ideal S128x2048 .f32) (ix2 a ⟨256 * j.val + e.val, by omega⟩)
      = I.q (128 * (32 - t.val) + a.val) j.val e.val
  k : ∀ (t : Fin cfg1.N) (a : Fin 128) (j : Fin 8) (e : Fin 256),
    (iblk1 V c 1 t : Vec Ideal S128x2048 .f32) (ix2 a ⟨256 * j.val + e.val, by omega⟩)
      = I.k (128 * (32 - t.val) + a.val) j.val e.val
  v : ∀ (t : Fin cfg1.N) (a : Fin 128) (j : Fin 8) (e : Fin 256),
    (iblk1 V c 2 t : Vec Ideal S128x2048 .f32) (ix2 a ⟨256 * j.val + e.val, by omega⟩)
      = I.v (128 * (32 - t.val) + a.val) j.val e.val
  g : ∀ (t : Fin cfg1.N) (a : Fin 128) (j : Fin 8) (e : Fin 256),
    (iblk1 V c 3 t : Vec Ideal S128x2048 .f32) (ix2 a ⟨256 * j.val + e.val, by omega⟩)
      = I.g (128 * (32 - t.val) + a.val) j.val e.val
  o : ∀ (t : Fin cfg1.N) (a : Fin 128) (j : Fin 8) (e : Fin 256),
    (iblk1 V c 11 t : Vec Ideal S128x2048 .f32) (ix2 a ⟨256 * j.val + e.val, by omega⟩)
      = I.o (128 * (32 - t.val) + a.val) j.val e.val
  Y : ∀ (t : Fin cfg1.N) (a : Fin 128) (j : Fin 8) (e : Fin 256),
    (iblk1 V c 12 t : Vec Ideal S128x2048 .f32) (ix2 a ⟨256 * j.val + e.val, by omega⟩)
      = I.Y (128 * (32 - t.val) + a.val) j.val e.val
  cs : ∀ (t : Fin cfg1.N) (a b : Fin 128),
    (iblk1 V c 4 t : Vec Ideal S128x128 .f32) (ix2 a b) = I.cs (128 * (32 - t.val) + a.val) b.val
  sn : ∀ (t : Fin cfg1.N) (a b : Fin 128),
    (iblk1 V c 5 t : Vec Ideal S128x128 .f32) (ix2 a b) = I.sn (128 * (32 - t.val) + a.val) b.val
  D : ∀ (t : Fin cfg1.N) (j : Fin 8) (a b : Fin 128), (iblk1 V c 6 t : Vec Ideal S8x128x128 .f32) (ix3 j a b) = I.D j.val a.val b.val
  qd : ∀ (t : Fin cfg1.N) (j : Fin 8) (a : Fin 128), (iblk1 V c 7 t : Vec Ideal S8x128x1 .f32) (ix3 j a 0) = I.qd j.val a.val
  kd : ∀ (t : Fin cfg1.N) (j : Fin 8) (a : Fin 128), (iblk1 V c 8 t : Vec Ideal S8x128x1 .f32) (ix3 j a 0) = I.kd j.val a.val
  cd : ∀ (t : Fin cfg1.N) (j : Fin 8), (iblk1 V c 9 t : Vec Ideal S8x1x1 .f32) (ix3 j 0 0) = I.cd j.val
  w : ∀ (t : Fin cfg1.N) (j : Fin 8) (e : Fin 256),
    (iblk1 V c 10 t : Vec Ideal S1x2048 .f32) (ix2 0 ⟨256 * j.val + e.val, by omega⟩) = I.w j.val e.val
  S : ∀ (t : Fin cfg1.N) (j : Fin 8) (d e : Fin 256),
    (iblk1 V c 13 t : Vec Ideal S8x1x256x256 .bf16) (ix4 j 0 d e) = I.S (32 - t.val) j.val d.val e.val

/-- The state's gradient after `j` chunks, as an array. -/
def gT (j : ℕ) : Vec Ideal S8x256x256 .f32 := fun y => I.T j (y 0).val (y 1).val (y 2).val
/-- The weights' gradient after `j` chunks. -/
def gDw (j : ℕ) : Vec Ideal S1x2048 .f32 := fun y => I.dwA j ((y 1).val / 256) ((y 1).val % 256)
/-- A chunk's rows of a gradient. -/
def gRow (X : ℕ → ℕ → ℕ → EReal) (n : ℕ) : Vec Ideal S128x2048 .bf16 :=
  fun y => X (128 * n + (y 0).val) ((y 1).val / 256) ((y 1).val % 256)

variable {V c I}

theorem pDq_spec (M : BMatch V c I) (t : Fin cfg1.N) (j : Fin 8) (a : Fin 128) (e : Fin 256) :
    pDq V c t j (ix2 a e) = I.drq (128 * (32 - t.val) + a.val) j.val e.val :=
  bDq_spec I (32 - t.val) j.val (fun a e => (load_t _ _ a e).trans (M.cs t a e)) (fun a e => (load_t _ _ a e).trans (M.sn t a e))
    (fun a e => (load_col _ _ j a e).trans (M.k t a j e)) (fun a e => (load_col _ _ j a e).trans (M.v t a j e))
    (fun a e => (load_col _ _ j a e).trans (M.g t a j e)) (fun a e => (load_col _ _ j a e).trans (M.Y t a j e))
    (fun a e => (load_col _ _ j a e).trans (M.o t a j e)) (fun e => (load_row _ _ j e).trans (M.w t j e))
    (fun a b => (load_d _ _ j a b).trans (M.D t j a b)) (fun a => (load_c _ _ j a).trans (M.qd t j a)) (fun d e => (load_st4 _ _ j d e).trans (M.S t j d e)) a e
theorem pDk_spec (M : BMatch V c I) (t : Fin cfg1.N) {s : Fin 8 → Vec Ideal S1x256x256 .f32}
    (hs : ∀ j d e, s j (ix3 0 d e) = I.T t.val j.val d.val e.val) (j : Fin 8) (a : Fin 128) (e : Fin 256) :
    pDk V c t s j (ix2 a e) = I.drk (128 * (32 - t.val) + a.val) j.val e.val :=
  bDk_spec I (32 - t.val) j.val (fun a e => (load_t _ _ a e).trans (M.cs t a e)) (fun a e => (load_t _ _ a e).trans (M.sn t a e))
    (fun a e => (load_col _ _ j a e).trans (M.q t a j e)) (fun a e => (load_col _ _ j a e).trans (M.v t a j e))
    (fun a e => (load_col _ _ j a e).trans (M.g t a j e)) (fun a e => (load_col _ _ j a e).trans (M.Y t a j e))
    (fun a e => (load_col _ _ j a e).trans (M.o t a j e)) (fun e => (load_row _ _ j e).trans (M.w t j e))
    (fun a b => (load_d _ _ j a b).trans (M.D t j a b)) (fun a => (load_c _ _ j a).trans (M.kd t j a))
    (fun d e => (hs j d e).trans (by rw [show 32 - (32 - t.val) = t.val by have := t.isLt; have hN : cfg1.N = 33 := N_1; omega])) a e
theorem pDv_spec (M : BMatch V c I) (t : Fin cfg1.N) {s : Fin 8 → Vec Ideal S1x256x256 .f32}
    (hs : ∀ j d e, s j (ix3 0 d e) = I.T t.val j.val d.val e.val) (j : Fin 8) (a : Fin 128) (e : Fin 256) :
    pDv V c t s j (ix2 a e) = I.drv (128 * (32 - t.val) + a.val) j.val e.val :=
  bDv_spec I (32 - t.val) j.val (fun a e => (load_t _ _ a e).trans (M.cs t a e)) (fun a e => (load_t _ _ a e).trans (M.sn t a e))
    (fun a e => (load_col _ _ j a e).trans (M.q t a j e)) (fun a e => (load_col _ _ j a e).trans (M.k t a j e))
    (fun a e => (load_col _ _ j a e).trans (M.g t a j e)) (fun a e => (load_col _ _ j a e).trans (M.Y t a j e))
    (fun a e => (load_col _ _ j a e).trans (M.o t a j e)) (fun e => (load_row _ _ j e).trans (M.w t j e))
    (fun a b => (load_d _ _ j a b).trans (M.D t j a b)) (fun a => (load_c _ _ j a).trans (M.kd t j a))
    (fun d e => (hs j d e).trans (by rw [show 32 - (32 - t.val) = t.val by have := t.isLt; have hN : cfg1.N = 33 := N_1; omega])) a e
theorem pDg_spec (M : BMatch V c I) (t : Fin cfg1.N) (j : Fin 8) (a : Fin 128) (e : Fin 256) :
    pDg V c t j (ix2 a e) = I.dg (128 * (32 - t.val) + a.val) j.val e.val :=
  bDg_spec I (32 - t.val) j.val
    (fun a e => (load_col _ _ j a e).trans (M.g t a j e)) (fun a e => (load_col _ _ j a e).trans (M.Y t a j e))
    (fun a e => (load_col _ _ j a e).trans (M.o t a j e)) (fun e => (load_row _ _ j e).trans (M.w t j e)) a e
theorem pDw_spec (M : BMatch V c I) (t : Fin cfg1.N) {x : Vec Ideal S1x256 .f32} (j : Fin 8)
    (hx : ∀ e, x (ix2 0 e) = I.dwA t.val j.val e.val) (e : Fin 256) :
    pDw V c t x j (ix2 0 e) = I.dwA (t.val + 1) j.val e.val :=
  bDw_spec I (32 - t.val) j.val rfl
    (fun a e => (load_col _ _ j a e).trans (M.g t a j e)) (fun a e => (load_col _ _ j a e).trans (M.Y t a j e))
    (fun a e => (load_col _ _ j a e).trans (M.o t a j e)) hx e
theorem pNext_spec (M : BMatch V c I) (t : Fin cfg1.N) {s : Vec Ideal S1x256x256 .f32} (j : Fin 8)
    (hs : ∀ d e, s (ix3 0 d e) = I.T t.val j.val d.val e.val) (d e : Fin 256) :
    pNext V c t s j (ix3 0 d e) = I.T (t.val + 1) j.val d.val e.val :=
  bNext_spec I (32 - t.val) j.val rfl (fun a e => (load_t _ _ a e).trans (M.cs t a e)) (fun a e => (load_t _ _ a e).trans (M.sn t a e))
    (fun a e => (load_col _ _ j a e).trans (M.q t a j e)) (fun a e => (load_col _ _ j a e).trans (M.g t a j e)) (fun a e => (load_col _ _ j a e).trans (M.Y t a j e))
    (fun a e => (load_col _ _ j a e).trans (M.o t a j e)) (fun e => (load_row _ _ j e).trans (M.w t j e))
    (fun a => (load_c _ _ j a).trans (M.qd t j a)) ((load_s _ _ j).trans (M.cd t j)) hs d e

theorem gRow_emb (X : ℕ → ℕ → ℕ → EReal) (n : ℕ) (j : Fin 8) (a : Fin 128) (e : Fin 256) :
    gRow X n ((colRect j).emb (ix2 a e)) = X (128 * n + a.val) j.val e.val := by
  rw [colRect_emb]
  show X (128 * n + a.val) ((256 * j.val + e.val) / 256) ((256 * j.val + e.val) % 256) = _
  rw [show (256 * j.val + e.val) / 256 = j.val by omega, show (256 * j.val + e.val) % 256 = e.val by omega]

theorem gDw_emb (n : ℕ) (j : Fin 8) (e : Fin 256) :
    gDw I n ((rowRect j).emb (ix2 0 e)) = I.dwA n j.val e.val := by
  rw [rowRect_emb]
  show I.dwA n ((256 * j.val + e.val) / 256) ((256 * j.val + e.val) % 256) = _
  rw [show (256 * j.val + e.val) / 256 = j.val by omega, show (256 * j.val + e.val) % 256 = e.val by omega]

theorem gT_emb (n : ℕ) (j : Fin 8) (d e : Fin 256) : gT I n ((stRect j).emb (ix3 0 d e)) = I.T n j.val d.val e.val := by
  rw [stRect_emb]; rfl

theorem row_ext {α : Type} {f : S1x256.Idx → α} {g : S1x256.Idx → α} (h : ∀ e, f (ix2 0 e) = g (ix2 0 e)) (x : S1x256.Idx) :
    f x = g x := by
  rw [eq_ix2 x]
  have h0 : x 0 = (0 : Fin 1) := Subsingleton.elim (α := Fin 1) _ _
  rw [h0]; exact h _

/-! ## The first point's state and weights' gradient are zero -/

theorem row_not_mem {i j : Fin 8} (h : i ≠ j) (x : (rowRect j).shape.Idx) : (rowRect j).emb x ∉ (rowRect i).set := by
  intro hm
  obtain ⟨x', hx'⟩ := (rowRect i).exists_idx_of_mem hm
  have h1 := congrArg (fun y : S1x2048.Idx => (y 1).val / 256) hx'
  have e1 : ∀ (k : Fin 8) (x : S1x256.Idx), (((rowRect k).emb x : S1x2048.Idx) 1).val / 256 = k.val := fun k x => by
    rw [row_ext (f := fun x => (((rowRect k).emb x : S1x2048.Idx) 1).val / 256) (g := fun _ => k.val)
      (fun e => by
        show (((rowRect k).emb (ix2 0 e) : S1x2048.Idx) 1).val / 256 = _; rw [rowRect_emb]
        show (256 * k.val + e.val) / 256 = k.val; omega) x]
  have h2 := (e1 i x').symm.trans (h1.trans (e1 j x))
  exact h (Fin.ext h2)

theorem fill_bpay3 (y : S8x256x256.Idx) : (k1_pay3 : FVec Ideal S8x256x256 .f32) y = 0 := by
  pointwise [k1_pay3]
theorem fill_bpay4 (y : S1x2048.Idx) : (k1_pay4 : FVec Ideal S1x2048 .f32) y = 0 := by
  pointwise [k1_pay4]

theorem canon_bL (t : Fin cfg1.N) (j : Fin 8) (x : (stRect j).shape.Idx) :
    ∀ (i : ℕ) (h : i ≤ 8), i ≤ j.val → View.canon (bL V c t i h) ((stRect j).emb x) = 0
  | 0, _, _ => by
    have hz := View.canon_cons_unit_lit (Val := Elt Ideal) (e := .f32) (S := S8x256x256) (off := ![0, 0, 0])
      (by intro a; fin_cases a <;> simp [S8x256x256]) (k1_pay3 : FVec Ideal S8x256x256 .f32) [] (by intro a; fin_cases a <;> rfl)
    exact (congrFun hz _).trans (fill_bpay3 _)
  | i + 1, h, hi => by
    unfold bL
    rw [View.canon_cons_of_not_mem]
    · exact canon_bL t j x i _ (by omega)
    · exact st_not_mem (fun e => by have := congrArg Fin.val e; simp only [] at this; omega) x

theorem bz_spec (t : Fin cfg1.N) (j : Fin 8) (x : S1x256x256.Idx) : bz V c t j x = 0 := by
  unfold bz
  rw [View.readCov_eq_canon']
  exact canon_bL t j x j.val _ le_rfl

theorem canon_wL (t : Fin cfg1.N) (j : Fin 8) (x : (rowRect j).shape.Idx) :
    ∀ (i : ℕ) (h : i ≤ 8), i ≤ j.val → View.canon (wL V c t i h) ((rowRect j).emb x) = 0
  | 0, _, _ => by
    have hz := View.canon_cons_unit_lit (Val := Elt Ideal) (e := .f32) (S := S1x2048) (off := ![0, 0])
      (by intro a; fin_cases a <;> simp [S1x2048]) (k1_pay4 : FVec Ideal S1x2048 .f32) [] (by intro a; fin_cases a <;> rfl)
    exact (congrFun hz _).trans (fill_bpay4 _)
  | i + 1, h, hi => by
    unfold wL
    rw [View.canon_cons_of_not_mem]
    · exact canon_wL t j x i _ (by omega)
    · exact row_not_mem (fun e => by have := congrArg Fin.val e; simp only [] at this; omega) x

theorem wz_spec (t : Fin cfg1.N) (j : Fin 8) (x : S1x256.Idx) : wz V c t j x = 0 := by
  unfold wz
  rw [View.readCov_eq_canon']
  exact canon_wL t j x j.val _ le_rfl

/-! ## After every point -/

theorem left1A_14 (t : Fin cfg1.N) (h0 : t.val % 33 = 0) {G : Vec Ideal S128x2048 .bf16} (h : ∀ j x, (pDq V c t) j x = G ((colRect j).emb x)) :
    (left1A V c t h0).o14 = G := by
  have e1 : (left1A V c t h0).o14 = VO1_14.read (Elt Ideal) (VO1_14.writes (Elt Ideal) VO1_14.junk
      (pieces8 colRect (pDq V c t) ++ [])) := by sl_kernel_rfl
  exact e1.trans (read_pieces8 rfl h (cover_col _))
theorem left1A_15 (t : Fin cfg1.N) (h0 : t.val % 33 = 0) {G : Vec Ideal S128x2048 .bf16} (h : ∀ j x, (pDk V c t (bz V c t)) j x = G ((colRect j).emb x)) :
    (left1A V c t h0).o15 = G := by
  have e1 : (left1A V c t h0).o15 = VO1_15.read (Elt Ideal) (VO1_15.writes (Elt Ideal) VO1_15.junk
      (pieces8 colRect (pDk V c t (bz V c t)) ++ [])) := by sl_kernel_rfl
  exact e1.trans (read_pieces8 rfl h (cover_col _))
theorem left1A_16 (t : Fin cfg1.N) (h0 : t.val % 33 = 0) {G : Vec Ideal S128x2048 .bf16} (h : ∀ j x, (pDv V c t (bz V c t)) j x = G ((colRect j).emb x)) :
    (left1A V c t h0).o16 = G := by
  have e1 : (left1A V c t h0).o16 = VO1_16.read (Elt Ideal) (VO1_16.writes (Elt Ideal) VO1_16.junk
      (pieces8 colRect (pDv V c t (bz V c t)) ++ [])) := by sl_kernel_rfl
  exact e1.trans (read_pieces8 rfl h (cover_col _))
theorem left1A_17 (t : Fin cfg1.N) (h0 : t.val % 33 = 0) {G : Vec Ideal S128x2048 .bf16} (h : ∀ j x, (pDg V c t) j x = G ((colRect j).emb x)) :
    (left1A V c t h0).o17 = G := by
  have e1 : (left1A V c t h0).o17 = VO1_17.read (Elt Ideal) (VO1_17.writes (Elt Ideal) VO1_17.junk
      (pieces8 colRect (pDg V c t) ++ [])) := by sl_kernel_rfl
  exact e1.trans (read_pieces8 rfl h (cover_col _))
theorem left1A_18 (t : Fin cfg1.N) (h0 : t.val % 33 = 0) {G : Vec Ideal S1x2048 .f32} (h : ∀ j x, (fun j => pDw V c t (wz V c t j) j) j x = G ((rowRect j).emb x)) :
    (left1A V c t h0).o18 = G := by
  have e1 : (left1A V c t h0).o18 = VO1_18.read (Elt Ideal) (VO1_18.writes (Elt Ideal) VO1_18.junk
      (pieces8 rowRect (fun j => pDw V c t (wz V c t j) j) ++ (wL V c t 0 (Nat.zero_le _)))) := by sl_kernel_rfl
  exact e1.trans (read_pieces8 rfl h (cover_row _))
theorem left1A_st (t : Fin cfg1.N) (h0 : t.val % 33 = 0) {G : Vec Ideal S8x256x256 .f32} (h : ∀ j x, (fun j => pNext V c t (bz V c t j) j) j x = G ((stRect j).emb x)) :
    (left1A V c t h0).st = G := by
  have e1 : (left1A V c t h0).st = sc1.view.read (Elt Ideal) (sc1.view.writes (Elt Ideal) sc1.view.junk
      (pieces8 stRect (fun j => pNext V c t (bz V c t j) j) ++ (bL V c t 0 (Nat.zero_le _)))) := by sl_kernel_rfl
  exact e1.trans (read_pieces8 rfl h (cover_st _))
theorem left1B_14 (t : Fin cfg1.N) (h0 : ¬t.val % 33 = 0) (p : Left1 Ideal) {G : Vec Ideal S128x2048 .bf16} (h : ∀ j x, (pDq V c t) j x = G ((colRect j).emb x)) :
    (left1B V c t h0 p).o14 = G := by
  have e1 : (left1B V c t h0 p).o14 = VO1_14.read (Elt Ideal) (VO1_14.writes (Elt Ideal) VO1_14.junk
      (pieces8 colRect (pDq V c t) ++ [])) := by sl_kernel_rfl
  exact e1.trans (read_pieces8 rfl h (cover_col _))
theorem left1B_15 (t : Fin cfg1.N) (h0 : ¬t.val % 33 = 0) (p : Left1 Ideal) {G : Vec Ideal S128x2048 .bf16} (h : ∀ j x, (pDk V c t (bs p.st)) j x = G ((colRect j).emb x)) :
    (left1B V c t h0 p).o15 = G := by
  have e1 : (left1B V c t h0 p).o15 = VO1_15.read (Elt Ideal) (VO1_15.writes (Elt Ideal) VO1_15.junk
      (pieces8 colRect (pDk V c t (bs p.st)) ++ [])) := by sl_kernel_rfl
  exact e1.trans (read_pieces8 rfl h (cover_col _))
theorem left1B_16 (t : Fin cfg1.N) (h0 : ¬t.val % 33 = 0) (p : Left1 Ideal) {G : Vec Ideal S128x2048 .bf16} (h : ∀ j x, (pDv V c t (bs p.st)) j x = G ((colRect j).emb x)) :
    (left1B V c t h0 p).o16 = G := by
  have e1 : (left1B V c t h0 p).o16 = VO1_16.read (Elt Ideal) (VO1_16.writes (Elt Ideal) VO1_16.junk
      (pieces8 colRect (pDv V c t (bs p.st)) ++ [])) := by sl_kernel_rfl
  exact e1.trans (read_pieces8 rfl h (cover_col _))
theorem left1B_17 (t : Fin cfg1.N) (h0 : ¬t.val % 33 = 0) (p : Left1 Ideal) {G : Vec Ideal S128x2048 .bf16} (h : ∀ j x, (pDg V c t) j x = G ((colRect j).emb x)) :
    (left1B V c t h0 p).o17 = G := by
  have e1 : (left1B V c t h0 p).o17 = VO1_17.read (Elt Ideal) (VO1_17.writes (Elt Ideal) VO1_17.junk
      (pieces8 colRect (pDg V c t) ++ [])) := by sl_kernel_rfl
  exact e1.trans (read_pieces8 rfl h (cover_col _))
theorem left1B_18 (t : Fin cfg1.N) (h0 : ¬t.val % 33 = 0) (p : Left1 Ideal) {G : Vec Ideal S1x2048 .f32} (h : ∀ j x, (fun j => pDw V c t (bx t p.o18 j) j) j x = G ((rowRect j).emb x)) :
    (left1B V c t h0 p).o18 = G := by
  have e1 : (left1B V c t h0 p).o18 = VO1_18.read (Elt Ideal) (VO1_18.writes (Elt Ideal) VO1_18.junk
      (pieces8 rowRect (fun j => pDw V c t (bx t p.o18 j) j) ++ [])) := by sl_kernel_rfl
  exact e1.trans (read_pieces8 rfl h (cover_row _))
theorem left1B_st (t : Fin cfg1.N) (h0 : ¬t.val % 33 = 0) (p : Left1 Ideal) {G : Vec Ideal S8x256x256 .f32} (h : ∀ j x, (fun j => pNext V c t (bs p.st j) j) j x = G ((stRect j).emb x)) :
    (left1B V c t h0 p).st = G := by
  have e1 : (left1B V c t h0 p).st = sc1.view.read (Elt Ideal) (sc1.view.writes (Elt Ideal) sc1.view.junk
      (pieces8 stRect (fun j => pNext V c t (bs p.st j) j) ++ [])) := by sl_kernel_rfl
  exact e1.trans (read_pieces8 rfl h (cover_st _))

/-- What a point leaves over a state and a weights' gradient. -/
theorem left1_of (M : BMatch V c I) (t : Fin cfg1.N) {s : Fin 8 → Vec Ideal S1x256x256 .f32} {x : Fin 8 → Vec Ideal S1x256 .f32}
    (hs : ∀ j d e, s j (ix3 0 d e) = I.T t.val j.val d.val e.val) (hx : ∀ j e, x j (ix2 0 e) = I.dwA t.val j.val e.val) :
    (∀ j y, pDq V c t j y = gRow I.drq (32 - t.val) ((colRect j).emb y))
      ∧ (∀ j y, pDk V c t s j y = gRow I.drk (32 - t.val) ((colRect j).emb y))
      ∧ (∀ j y, pDv V c t s j y = gRow I.drv (32 - t.val) ((colRect j).emb y))
      ∧ (∀ j y, pDg V c t j y = gRow I.dg (32 - t.val) ((colRect j).emb y))
      ∧ (∀ j y, pDw V c t (x j) j y = gDw I (t.val + 1) ((rowRect j).emb y))
      ∧ (∀ j y, pNext V c t (s j) j y = gT I (t.val + 1) ((stRect j).emb y)) := by
  refine ⟨fun j y => ?_, fun j y => ?_, fun j y => ?_, fun j y => ?_, fun j y => ?_, fun j y => ?_⟩
  · exact col_ext (g := fun y => gRow I.drq (32 - t.val) ((colRect j).emb y)) (fun a e => (pDq_spec M t j a e).trans (gRow_emb _ _ j a e).symm) y
  · exact col_ext (g := fun y => gRow I.drk (32 - t.val) ((colRect j).emb y)) (fun a e => (pDk_spec M t hs j a e).trans (gRow_emb _ _ j a e).symm) y
  · exact col_ext (g := fun y => gRow I.drv (32 - t.val) ((colRect j).emb y)) (fun a e => (pDv_spec M t hs j a e).trans (gRow_emb _ _ j a e).symm) y
  · exact col_ext (g := fun y => gRow I.dg (32 - t.val) ((colRect j).emb y)) (fun a e => (pDg_spec M t j a e).trans (gRow_emb _ _ j a e).symm) y
  · exact row_ext (g := fun y => gDw I (t.val + 1) ((rowRect j).emb y)) (fun e => (pDw_spec M t j (hx j) e).trans (gDw_emb _ j e).symm) y
  · exact st_ext (g := fun y => gT I (t.val + 1) ((stRect j).emb y)) (fun d e => (pNext_spec M t j (hs j) d e).trans (gT_emb _ j d e).symm) y

/-- What every point leaves. -/
theorem left1_spec (M : BMatch V c I) : ∀ (n : ℕ) (hn : n < cfg1.N),
    (left1 V c n hn).o14 = gRow I.drq (32 - n) ∧ (left1 V c n hn).o15 = gRow I.drk (32 - n)
      ∧ (left1 V c n hn).o16 = gRow I.drv (32 - n) ∧ (left1 V c n hn).o17 = gRow I.dg (32 - n)
      ∧ (left1 V c n hn).o18 = gDw I (n + 1) ∧ (left1 V c n hn).st = gT I (n + 1) := by
  have hN : cfg1.N = 33 := N_1
  have key0 : ∀ (t : Fin cfg1.N) (h0 : t.val % 33 = 0), t.val = 0 →
      (left1A V c t h0).o14 = gRow I.drq (32 - t.val) ∧ (left1A V c t h0).o15 = gRow I.drk (32 - t.val)
      ∧ (left1A V c t h0).o16 = gRow I.drv (32 - t.val) ∧ (left1A V c t h0).o17 = gRow I.dg (32 - t.val)
      ∧ (left1A V c t h0).o18 = gDw I (t.val + 1) ∧ (left1A V c t h0).st = gT I (t.val + 1) := by
    intro t h0 hz
    obtain ⟨h14, h15, h16, h17, h18, hst⟩ := left1_of M t (s := bz V c t) (x := wz V c t)
      (fun j d e => by rw [hz]; exact bz_spec t j _) (fun j e => by rw [hz]; exact wz_spec t j _)
    exact ⟨left1A_14 t h0 h14, left1A_15 t h0 h15, left1A_16 t h0 h16, left1A_17 t h0 h17, left1A_18 t h0 h18, left1A_st t h0 hst⟩
  intro n
  induction n with
  | zero =>
    intro hn
    exact key0 ⟨0, hn⟩ (Nat.zero_mod _) rfl
  | succ n ih =>
    intro hn
    have h0 : ¬ (⟨n + 1, hn⟩ : Fin cfg1.N).val % 33 = 0 := by
      have : n + 1 < 33 := hN ▸ hn
      show ¬ (n + 1) % 33 = 0
      omega
    obtain ⟨-, -, -, -, ihx, ihs⟩ := ih (Nat.lt_of_succ_lt hn)
    have e := left1_B V c ⟨n + 1, hn⟩ h0
    have e' : left1 V c (n + 1) hn = left1B V c ⟨n + 1, hn⟩ h0 (left1 V c n (Nat.lt_of_succ_lt hn)) := e
    rw [e']
    obtain ⟨h14, h15, h16, h17, h18, hst⟩ := left1_of M ⟨n + 1, hn⟩ (s := bs (left1 V c n (Nat.lt_of_succ_lt hn)).st)
      (x := bx ⟨n + 1, hn⟩ (left1 V c n (Nat.lt_of_succ_lt hn)).o18)
      (fun j d e => (load_st _ _ j d e).trans (by rw [ihs]; rfl))
      (fun j e => (load_row _ _ j e).trans (by
        rw [ihx]
        show I.dwA (n + 1) ((256 * j.val + e.val) / 256) ((256 * j.val + e.val) % 256) = _
        rw [show (256 * j.val + e.val) / 256 = j.val by omega, show (256 * j.val + e.val) % 256 = e.val by omega]))
    exact ⟨left1B_14 _ h0 _ h14, left1B_15 _ h0 _ h15, left1B_16 _ h0 _ h16, left1B_17 _ h0 _ h17, left1B_18 _ h0 _ h18, left1B_st _ h0 _ hst⟩

end Cert.KernelIdeal.Ret

end
-- ==== Proof.RetLaunch.lean ====
/- The two-region program launched: the contents of its buffers between its segments, and its frame. -/
module

public import proofs.«01_k».proof.Proof.FwdData
public import proofs.«01_k».proof.Proof.BwdData
public import proofs.«01_k».proof.Proof.Gen.KernelIdeal.Regions
public import Idealize.ShloMosaic.Lib.Claim
public import Idealize.ShloMosaic.Lib.Pipeline.FrameSuffix

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the segments -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- What the forward region is entered with, at the TensorCore's references. -/
abbrev VF : (c : Dev nD) → (b : Ref sig .tc) → Buf (Elt F) ((c : Thread nD τ).loc b) := fun c b => W3 m c b
/-- After the forward region: its arrays at what its pipeline leaves, the rest as before. -/
def W4 (c : Dev nD) : Valuation τ sig (Elt F) :=
  Pipeline.withArrays spec0 c (W3 m c) fun w => (dat0 (VF m) c).arrAt w cfg0.N
/-- What the backward region is entered with. -/
abbrev VB : (c : Dev nD) → (b : Ref sig .tc) → Buf (Elt F) ((c : Thread nD τ).loc b) := fun c b => W4 m c b
/-- After the backward region. -/
def W5 (c : Dev nD) : Valuation τ sig (Elt F) :=
  Pipeline.withArrays spec1 c (W4 m c) fun w => (dat1 (VB m) c).arrAt w cfg1.N
abbrev VE : (c : Dev nD) → (b : Ref sig .tc) → Buf (Elt F) ((c : Thread nD τ).loc b) := fun c b => W5 m c b
abbrev W6 : Dev nD → Valuation τ sig (Elt F) := fun c => StableHlo.after hostOps2 (W5 m c)

theorem W4_arr (c : Dev nD) (w : Fin cfg0.W) :
    W4 m c (Proc.devRef .tc (Pipeline.arrRef spec0 w)) = (dat0 (VF m) c).arrAt w cfg0.N := by
  unfold W4; exact (dat0 (VF m) c).withArrays_arrAt launch₀0.sharedIn _ (A_eq0 (VF m) c) w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- A buffer that is none of the region's outputs is as before it. -/
theorem W4_of (c : Dev nD) (r : Ref sig .tc) (h : ∀ w : Fin cfg0.W, Pipeline.arrRef spec0 w = r → (cfg0.win w).isOut = false) :
    W4 m c (Proc.devRef .tc r) = W3 m c (Proc.devRef .tc r) := by
  by_cases hw : ∃ w : Fin cfg0.W, Pipeline.arrRef spec0 w = r
  · obtain ⟨w, rfl⟩ := hw
    exact (W4_arr m c w).trans (((dat0 (VF m) c).arrAt_in w (h w rfl) _).trans (A_eq0 (VF m) c w))
  · exact W4_of_ne m c r fun w e => hw ⟨w, e⟩
theorem hF0 (c : Dev nD) (w : Fin cfg0.W) : (dat0 (VF m) c).arrAt w cfg0.N = VB m c (Pipeline.arrRef spec0 w) :=
  (W4_arr m c w).symm
theorem hrest0 (c : Dev nD) : ∀ b, b ∉ Finset.univ.image (Pipeline.arrRef spec0) → VB m c b = VF m c b :=
  fun b hb => W4_of_ne m c b fun w e => hb (Finset.mem_image.mpr ⟨w, Finset.mem_univ _, e⟩)

theorem W5_arr (c : Dev nD) (w : Fin cfg1.W) :
    W5 m c (Proc.devRef .tc (Pipeline.arrRef spec1 w)) = (dat1 (VB m) c).arrAt w cfg1.N := by
  unfold W5; exact (dat1 (VB m) c).withArrays_arrAt launch₀1.sharedIn _ (A_eq1 (VB m) c) w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- A buffer that is none of the region's outputs is as before it. -/
theorem W5_of (c : Dev nD) (r : Ref sig .tc) (h : ∀ w : Fin cfg1.W, Pipeline.arrRef spec1 w = r → (cfg1.win w).isOut = false) :
    W5 m c (Proc.devRef .tc r) = W4 m c (Proc.devRef .tc r) := by
  by_cases hw : ∃ w : Fin cfg1.W, Pipeline.arrRef spec1 w = r
  · obtain ⟨w, rfl⟩ := hw
    exact (W5_arr m c w).trans (((dat1 (VB m) c).arrAt_in w (h w rfl) _).trans (A_eq1 (VB m) c w))
  · exact W5_of_ne m c r fun w e => hw ⟨w, e⟩
theorem hF1 (c : Dev nD) (w : Fin cfg1.W) : (dat1 (VB m) c).arrAt w cfg1.N = VE m c (Pipeline.arrRef spec1 w) :=
  (W5_arr m c w).symm
theorem hrest1 (c : Dev nD) : ∀ b, b ∉ Finset.univ.image (Pipeline.arrRef spec1) → VE m c b = VB m c b :=
  fun b hb => W5_of_ne m c b fun w e => hb (Finset.mem_image.mpr ⟨w, Finset.mem_univ _, e⟩)

/-- No host stretch and no region writes an argument. -/
theorem W6_arg (c : Dev nD) (r : Ref sig .tc) (h2 : r ∉ hostOps2_W)
    (h1 : ∀ w : Fin cfg1.W, Pipeline.arrRef spec1 w = r → (cfg1.win w).isOut = false)
    (h0 : ∀ w : Fin cfg0.W, Pipeline.arrRef spec0 w = r → (cfg0.win w).isOut = false)
    (ha : r ∉ hostOps0_2_W) (hb : r ∉ hostOps0_1_W) (hc : r ∉ hostOps0_W) :
    W6 m c (Proc.devRef .tc r) = m ((c : Thread nD τ).loc r) :=
  (StableHlo.after_of_writes_sub hostOps2 _ hostOps2_writes h2).trans <| (W5_of m c r h1).trans <| (W4_of m c r h0).trans <|
    (V3_of m c r ha).trans <| (V2_of m c r hb).trans <| (V1_of m c r hc).trans rfl

/-! ## The segments -/

def pdats : (p : Fin 2) → (c : Dev nD) → Dat τ (Elt F) Unit ℕ (UR sig nD τ) ℕ (Pipeline.pin (pcfgs (F := F)) adm p) c
  | ⟨0, _⟩ => fun c => dat0 (VF m) c
  | ⟨1, _⟩ => fun c => dat1 (VB m) c
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The forward region over the buffers' contents before and after it. -/
def reg0 : Pipeline.RegionSeg (pcfgs (F := F)) adm (pdats m) () defs₀ Variants.none L lv 0 where
  win := launch₀0.win
  block_pos := launch₀0.block_pos
  stage_whole := launch₀0.stage_whole
  K := PEmpty
  osem k := k.elim
  ho := Pipeline.OwnSemFacts.none _
  hbody c := (body_obligation0 (VF m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VF m c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (VF m c) (A_eq0 (VF m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VF m) c)
    unfold Pipeline.ΦA
    iintro ⟨Hp, -, Hr⟩
    isplitl [Hr]; · iexact Hr
    iexact Hp
  hout c := by
    rw [Pipeline.ownSems0_none]
    refine BIBase.Entails.trans (hout0 (VF m) c) ?_
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (VF m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward region over the buffers' contents before and after it. -/
def reg1 : Pipeline.RegionSeg (pcfgs (F := F)) adm (pdats m) () defs₀ Variants.none L lv 1 where
  win := launch₀1.win
  block_pos := launch₀1.block_pos
  stage_whole := launch₀1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (VB m c) (A_eq1 (VB m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VB m) c)
    unfold Pipeline.ΦA
    iintro ⟨Hp, -, Hr⟩
    isplitl [Hr]; · iexact Hr
    iexact Hp
  hout c := by
    rw [Pipeline.ownSems0_none]
    refine BIBase.Entails.trans (hout1 (VB m) c) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (VB m c) (VE m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's segments in order. -/
abbrev parts : List (Pipeline.Seg (pcfgs (F := F)) adm (pdats m) () defs₀ Variants.none L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .host (hseg hostOps2 hostOps2_sub hostOps2_fresh (W5 m)) ]
theorem main_run (c : Dev nD) : main (F := F) c = Pipeline.Seg.run (parts m) := (main_chain c).trans (by chain_rfl)

/-- The last state without what the core owes. -/
abbrev Tₙ (c : Dev nD) : sProp 𝕄 := iprop(StableHlo.held (c : Thread nD τ) (Pipeline.ucRefs τ sig) (W6 m c) ∗ ∃ r, prngReg c r)

set_option backward.isDefEq.respectTransparency.types false in
/-- Every execution ends, with every unscoped buffer at the last contents and every semaphore counter at zero. -/
theorem ends : θ_run defs (onTc (τ := τ) (main (F := F))) ⟨m, fun _ => 0, ρ⟩ (fun r => (∀ c : Dev nD,
      ∀ b ∈ Pipeline.ucRefs τ sig, r.2.mem (((c : Thread nD τ)).1, b) = W6 m c b) ∧ r.2.sem = fun _ => 0) :=
  Pipeline.θ_run_regions_kit_sems (pcfgs (F := F)) adm (pdats m) () cellOf_inj emb₁ defs₀ Variants.none L lv m ρ main (parts m)
    (fun c Q => by rw [main_run m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h hz => ⟨h, funext fun g => hz g (.inr (regions_no_unscoped g.2))⟩)

theorem W6_arg0 (c : Dev nD) : W6 m c (Proc.devRef .tc main_arg0) = m ((c : Thread nD τ).loc main_arg0) :=
  W6_arg m c main_arg0 (by decide) (by decide) (by decide) (by decide) (by decide) (by decide)
theorem W6_arg1 (c : Dev nD) : W6 m c (Proc.devRef .tc main_arg1) = m ((c : Thread nD τ).loc main_arg1) :=
  W6_arg m c main_arg1 (by decide) (by decide) (by decide) (by decide) (by decide) (by decide)
theorem W6_arg2 (c : Dev nD) : W6 m c (Proc.devRef .tc main_arg2) = m ((c : Thread nD τ).loc main_arg2) :=
  W6_arg m c main_arg2 (by decide) (by decide) (by decide) (by decide) (by decide) (by decide)

/-- Every execution ends, the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_uc main_arg0 (by decide))).trans (W6_arg0 m c), (h.1 c _ (mem_uc main_arg1 (by decide))).trans (W6_arg1 m c),
      (h.1 c _ (mem_uc main_arg2 (by decide))).trans (W6_arg2 m c)⟩, h.2⟩) (ends m ρ)

end Cert.KernelIdeal.Ret

end
-- ==== Proof.KArr.lean ====
/- The regions' input blocks read off their arrays, and the arrays the regions leave. -/
module

public import proofs.«01_k».proof.Proof.BwdLeft
public import proofs.«01_k».proof.Proof.RetLaunch
public import Idealize.ShloMosaic.Lib.Pipeline.Value

@[expose] public section

set_option maxRecDepth 16384

noncomputable section

namespace Cert.KernelIdeal.Ret

open Idealize.ShloMosaic Idealize.ShloMosaic.TcCoe Idealize.ShloMosaic.Tactic
open Cert.KernelIdeal Cert.KernelIdeal.Gen Cert.Ret

variable (V : (c : Dev nD) → (b : Ref sig .tc) → Buf (Elt Ideal) ((c : Thread nD τ).loc b))
variable (c : Dev nD)

/-! ## The input blocks -/

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem blk0_0 (t : Fin cfg0.N) (a : Fin 128) (b : Fin 2048) :
    (iblk0 V c 0 t : Vec Ideal S128x2048 .f32) (ix2 a b)
      = (V c main_v1 : Vec Ideal S4224x14336 .f32) (ix2 ⟨t.val * 128 + a.val, by have := t.isLt; have hN : cfg0.N = 33 := N_0; omega⟩ ⟨0 * 2048 + b.val, by have := t.isLt; have hN : cfg0.N = 33 := N_0; omega⟩) := by
  have h := idx0_0 t
  refine congrArg (V c main_v1) ?_
  funext i
  apply Fin.ext
  match i with
  | ⟨0, _⟩ => show win0_0.index t (0 : Fin 2) * 128 + 1 * a.val = t.val * 128 + a.val; rw [h.1]; omega
  | ⟨1, _⟩ => show win0_0.index t (1 : Fin 2) * 2048 + 1 * b.val = 0 * 2048 + b.val; rw [h.2]; omega

theorem idx0_1 : ∀ t : Fin cfg0.N, win0_1.index t (0 : Fin 2) = t.val ∧ win0_1.index t (1 : Fin 2) = 1 :=
  (by decide +kernel : ∀ t : Fin grid0.N, win0_1.index t (0 : Fin 2) = t.val ∧ win0_1.index t (1 : Fin 2) = 1)
theorem blk0_1 (t : Fin cfg0.N) (a : Fin 128) (b : Fin 2048) :
    (iblk0 V c 1 t : Vec Ideal S128x2048 .f32) (ix2 a b)
      = (V c main_v1 : Vec Ideal S4224x14336 .f32) (ix2 ⟨t.val * 128 + a.val, by have := t.isLt; have hN : cfg0.N = 33 := N_0; omega⟩ ⟨1 * 2048 + b.val, by have := t.isLt; have hN : cfg0.N = 33 := N_0; omega⟩) := by
  have h := idx0_1 t
  refine congrArg (V c main_v1) ?_
  funext i
  apply Fin.ext
  match i with
  | ⟨0, _⟩ => show win0_1.index t (0 : Fin 2) * 128 + 1 * a.val = t.val * 128 + a.val; rw [h.1]; omega
  | ⟨1, _⟩ => show win0_1.index t (1 : Fin 2) * 2048 + 1 * b.val = 1 * 2048 + b.val; rw [h.2]; omega

theorem idx0_2 : ∀ t : Fin cfg0.N, win0_2.index t (0 : Fin 2) = t.val ∧ win0_2.index t (1 : Fin 2) = 2 :=
  (by decide +kernel : ∀ t : Fin grid0.N, win0_2.index t (0 : Fin 2) = t.val ∧ win0_2.index t (1 : Fin 2) = 2)
theorem blk0_2 (t : Fin cfg0.N) (a : Fin 128) (b : Fin 2048) :
    (iblk0 V c 2 t : Vec Ideal S128x2048 .f32) (ix2 a b)
      = (V c main_v1 : Vec Ideal S4224x14336 .f32) (ix2 ⟨t.val * 128 + a.val, by have := t.isLt; have hN : cfg0.N = 33 := N_0; omega⟩ ⟨2 * 2048 + b.val, by have := t.isLt; have hN : cfg0.N = 33 := N_0; omega⟩) := by
  have h := idx0_2 t
  refine congrArg (V c main_v1) ?_
  funext i
  apply Fin.ext
  match i with
  | ⟨0, _⟩ => show win0_2.index t (0 : Fin 2) * 128 + 1 * a.val = t.val * 128 + a.val; rw [h.1]; omega
  | ⟨1, _⟩ => show win0_2.index t (1 : Fin 2) * 2048 + 1 * b.val = 2 * 2048 + b.val; rw [h.2]; omega

theorem idx0_3 : ∀ t : Fin cfg0.N, win0_3.index t (0 : Fin 2) = t.val ∧ win0_3.index t (1 : Fin 2) = 3 :=
  (by decide +kernel : ∀ t : Fin grid0.N, win0_3.index t (0 : Fin 2) = t.val ∧ win0_3.index t (1 : Fin 2) = 3)
theorem blk0_3 (t : Fin cfg0.N) (a : Fin 128) (b : Fin 2048) :
    (iblk0 V c 3 t : Vec Ideal S128x2048 .f32) (ix2 a b)
      = (V c main_v1 : Vec Ideal S4224x14336 .f32) (ix2 ⟨t.val * 128 + a.val, by have := t.isLt; have hN : cfg0.N = 33 := N_0; omega⟩ ⟨3 * 2048 + b.val, by have := t.isLt; have hN : cfg0.N = 33 := N_0; omega⟩) := by
  have h := idx0_3 t
  refine congrArg (V c main_v1) ?_
  funext i
  apply Fin.ext
  match i with
  | ⟨0, _⟩ => show win0_3.index t (0 : Fin 2) * 128 + 1 * a.val = t.val * 128 + a.val; rw [h.1]; omega
  | ⟨1, _⟩ => show win0_3.index t (1 : Fin 2) * 2048 + 1 * b.val = 3 * 2048 + b.val; rw [h.2]; omega

theorem idx0_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem blk0_4 (t : Fin cfg0.N) (a : Fin 128) (b : Fin 128) :
    (iblk0 V c 4 t : Vec Ideal S128x128 .f32) (ix2 a b)
      = (V c main_v18 : Vec Ideal S4224x128 .f32) (ix2 ⟨t.val * 128 + a.val, by have := t.isLt; have hN : cfg0.N = 33 := N_0; omega⟩ ⟨0 * 128 + b.val, by have := t.isLt; have hN : cfg0.N = 33 := N_0; omega⟩) := by
  have h := idx0_4 t
  refine congrArg (V c main_v18) ?_
  funext i
  apply Fin.ext
  match i with
  | ⟨0, _⟩ => show win0_4.index t (0 : Fin 2) * 128 + 1 * a.val = t.val * 128 + a.val; rw [h.1]; omega
  | ⟨1, _⟩ => show win0_4.index t (1 : Fin 2) * 128 + 1 * b.val = 0 * 128 + b.val; rw [h.2]; omega

theorem idx0_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem blk0_5 (t : Fin cfg0.N) (a : Fin 128) (b : Fin 128) :
    (iblk0 V c 5 t : Vec Ideal S128x128 .f32) (ix2 a b)
      = (V c main_v19 : Vec Ideal S4224x128 .f32) (ix2 ⟨t.val * 128 + a.val, by have := t.isLt; have hN : cfg0.N = 33 := N_0; omega⟩ ⟨0 * 128 + b.val, by have := t.isLt; have hN : cfg0.N = 33 := N_0; omega⟩) := by
  have h := idx0_5 t
  refine congrArg (V c main_v19) ?_
  funext i
  apply Fin.ext
  match i with
  | ⟨0, _⟩ => show win0_5.index t (0 : Fin 2) * 128 + 1 * a.val = t.val * 128 + a.val; rw [h.1]; omega
  | ⟨1, _⟩ => show win0_5.index t (1 : Fin 2) * 128 + 1 * b.val = 0 * 128 + b.val; rw [h.2]; omega

theorem idx0_6 : ∀ t : Fin cfg0.N, win0_6.index t (0 : Fin 3) = 0 ∧ win0_6.index t (1 : Fin 3) = 0 ∧ win0_6.index t (2 : Fin 3) = 0 :=
  (by decide +kernel : ∀ t : Fin grid0.N, win0_6.index t (0 : Fin 3) = 0 ∧ win0_6.index t (1 : Fin 3) = 0 ∧ win0_6.index t (2 : Fin 3) = 0)
theorem blk0_6 (t : Fin cfg0.N) (a : Fin 8) (b : Fin 128) (d : Fin 128) :
    (iblk0 V c 6 t : Vec Ideal S8x128x128 .f32) (ix3 a b d)
      = (V c main_v45 : Vec Ideal S8x128x128 .f32) (ix3 ⟨0 * 8 + a.val, by have := t.isLt; have hN : cfg0.N = 33 := N_0; omega⟩ ⟨0 * 128 + b.val, by have := t.isLt; have hN : cfg0.N = 33 := N_0; omega⟩ ⟨0 * 128 + d.val, by have := t.isLt; have hN : cfg0.N = 33 := N_0; omega⟩) := by
  have h := idx0_6 t
  refine congrArg (V c main_v45) ?_
  funext i
  apply Fin.ext
  match i with
  | ⟨0, _⟩ => show win0_6.index t (0 : Fin 3) * 8 + 1 * a.val = 0 * 8 + a.val; rw [h.1]; omega
  | ⟨1, _⟩ => show win0_6.index t (1 : Fin 3) * 128 + 1 * b.val = 0 * 128 + b.val; rw [h.2.1]; omega
  | ⟨2, _⟩ => show win0_6.index t (2 : Fin 3) * 128 + 1 * d.val = 0 * 128 + d.val; rw [h.2.2]; omega

theorem idx0_7 : ∀ t : Fin cfg0.N, win0_7.index t (0 : Fin 3) = 0 ∧ win0_7.index t (1 : Fin 3) = 0 ∧ win0_7.index t (2 : Fin 3) = 0 :=
  (by decide +kernel : ∀ t : Fin grid0.N, win0_7.index t (0 : Fin 3) = 0 ∧ win0_7.index t (1 : Fin 3) = 0 ∧ win0_7.index t (2 : Fin 3) = 0)
theorem blk0_7 (t : Fin cfg0.N) (a : Fin 8) (b : Fin 128) (d : Fin 1) :
    (iblk0 V c 7 t : Vec Ideal S8x128x1 .f32) (ix3 a b d)
      = (V c main_v54 : Vec Ideal S8x128x1 .f32) (ix3 ⟨0 * 8 + a.val, by have := t.isLt; have hN : cfg0.N = 33 := N_0; omega⟩ ⟨0 * 128 + b.val, by have := t.isLt; have hN : cfg0.N = 33 := N_0; omega⟩ ⟨0 * 1 + d.val, by have := t.isLt; have hN : cfg0.N = 33 := N_0; omega⟩) := by
  have h := idx0_7 t
  refine congrArg (V c main_v54) ?_
  funext i
  apply Fin.ext
  match i with
  | ⟨0, _⟩ => show win0_7.index t (0 : Fin 3) * 8 + 1 * a.val = 0 * 8 + a.val; rw [h.1]; omega
  | ⟨1, _⟩ => show win0_7.index t (1 : Fin 3) * 128 + 1 * b.val = 0 * 128 + b.val; rw [h.2.1]; omega
  | ⟨2, _⟩ => show win0_7.index t (2 : Fin 3) * 1 + 1 * d.val = 0 * 1 + d.val; rw [h.2.2]; omega

theorem idx0_8 : ∀ t : Fin cfg0.N, win0_8.index t (0 : Fin 3) = 0 ∧ win0_8.index t (1 : Fin 3) = 0 ∧ win0_8.index t (2 : Fin 3) = 0 :=
  (by decide +kernel : ∀ t : Fin grid0.N, win0_8.index t (0 : Fin 3) = 0 ∧ win0_8.index t (1 : Fin 3) = 0 ∧ win0_8.index t (2 : Fin 3) = 0)
theorem blk0_8 (t : Fin cfg0.N) (a : Fin 8) (b : Fin 128) (d : Fin 1) :
    (iblk0 V c 8 t : Vec Ideal S8x128x1 .f32) (ix3 a b d)
      = (V c main_v63 : Vec Ideal S8x128x1 .f32) (ix3 ⟨0 * 8 + a.val, by have := t.isLt; have hN : cfg0.N = 33 := N_0; omega⟩ ⟨0 * 128 + b.val, by have := t.isLt; have hN : cfg0.N = 33 := N_0; omega⟩ ⟨0 * 1 + d.val, by have := t.isLt; have hN : cfg0.N = 33 := N_0; omega⟩) := by
  have h := idx0_8 t
  refine congrArg (V c main_v63) ?_
  funext i
  apply Fin.ext
  match i with
  | ⟨0, _⟩ => show win0_8.index t (0 : Fin 3) * 8 + 1 * a.val = 0 * 8 + a.val; rw [h.1]; omega
  | ⟨1, _⟩ => show win0_8.index t (1 : Fin 3) * 128 + 1 * b.val = 0 * 128 + b.val; rw [h.2.1]; omega
  | ⟨2, _⟩ => show win0_8.index t (2 : Fin 3) * 1 + 1 * d.val = 0 * 1 + d.val; rw [h.2.2]; omega

theorem idx0_9 : ∀ t : Fin cfg0.N, win0_9.index t (0 : Fin 3) = 0 ∧ win0_9.index t (1 : Fin 3) = 0 ∧ win0_9.index t (2 : Fin 3) = 0 :=
  (by decide +kernel : ∀ t : Fin grid0.N, win0_9.index t (0 : Fin 3) = 0 ∧ win0_9.index t (1 : Fin 3) = 0 ∧ win0_9.index t (2 : Fin 3) = 0)
theorem blk0_9 (t : Fin cfg0.N) (a : Fin 8) (b : Fin 1) (d : Fin 1) :
    (iblk0 V c 9 t : Vec Ideal S8x1x1 .f32) (ix3 a b d)
      = (V c main_v67 : Vec Ideal S8x1x1 .f32) (ix3 ⟨0 * 8 + a.val, by have := t.isLt; have hN : cfg0.N = 33 := N_0; omega⟩ ⟨0 * 1 + b.val, by have := t.isLt; have hN : cfg0.N = 33 := N_0; omega⟩ ⟨0 * 1 + d.val, by have := t.isLt; have hN : cfg0.N = 33 := N_0; omega⟩) := by
  have h := idx0_9 t
  refine congrArg (V c main_v67) ?_
  funext i
  apply Fin.ext
  match i with
  | ⟨0, _⟩ => show win0_9.index t (0 : Fin 3) * 8 + 1 * a.val = 0 * 8 + a.val; rw [h.1]; omega
  | ⟨1, _⟩ => show win0_9.index t (1 : Fin 3) * 1 + 1 * b.val = 0 * 1 + b.val; rw [h.2.1]; omega
  | ⟨2, _⟩ => show win0_9.index t (2 : Fin 3) * 1 + 1 * d.val = 0 * 1 + d.val; rw [h.2.2]; omega

theorem idx0_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem blk0_10 (t : Fin cfg0.N) (a : Fin 1) (b : Fin 2048) :
    (iblk0 V c 10 t : Vec Ideal S1x2048 .f32) (ix2 a b)
      = (V c main_arg1 : Vec Ideal S1x2048 .f32) (ix2 ⟨0 * 1 + a.val, by have := t.isLt; have hN : cfg0.N = 33 := N_0; omega⟩ ⟨0 * 2048 + b.val, by have := t.isLt; have hN : cfg0.N = 33 := N_0; omega⟩) := by
  have h := idx0_10 t
  refine congrArg (V c main_arg1) ?_
  funext i
  apply Fin.ext
  match i with
  | ⟨0, _⟩ => show win0_10.index t (0 : Fin 2) * 1 + 1 * a.val = 0 * 1 + a.val; rw [h.1]; omega
  | ⟨1, _⟩ => show win0_10.index t (1 : Fin 2) * 2048 + 1 * b.val = 0 * 2048 + b.val; rw [h.2]; omega

theorem idx1_0 : ∀ t : Fin cfg1.N, win1_0.index t (0 : Fin 2) = (32 - t.val) ∧ win1_0.index t (1 : Fin 2) = 0 :=
  (by decide +kernel : ∀ t : Fin grid1.N, win1_0.index t (0 : Fin 2) = (32 - t.val) ∧ win1_0.index t (1 : Fin 2) = 0)
theorem blk1_0 (t : Fin cfg1.N) (a : Fin 128) (b : Fin 2048) :
    (iblk1 V c 0 t : Vec Ideal S128x2048 .f32) (ix2 a b)
      = (V c main_v1 : Vec Ideal S4224x14336 .f32) (ix2 ⟨(32 - t.val) * 128 + a.val, by have := t.isLt; have hN : cfg1.N = 33 := N_1; omega⟩ ⟨0 * 2048 + b.val, by have := t.isLt; have hN : cfg1.N = 33 := N_1; omega⟩) := by
  have h := idx1_0 t
  refine congrArg (V c main_v1) ?_
  funext i
  apply Fin.ext
  match i with
  | ⟨0, _⟩ => show win1_0.index t (0 : Fin 2) * 128 + 1 * a.val = (32 - t.val) * 128 + a.val; rw [h.1]; omega
  | ⟨1, _⟩ => show win1_0.index t (1 : Fin 2) * 2048 + 1 * b.val = 0 * 2048 + b.val; rw [h.2]; omega

theorem idx1_1 : ∀ t : Fin cfg1.N, win1_1.index t (0 : Fin 2) = (32 - t.val) ∧ win1_1.index t (1 : Fin 2) = 1 :=
  (by decide +kernel : ∀ t : Fin grid1.N, win1_1.index t (0 : Fin 2) = (32 - t.val) ∧ win1_1.index t (1 : Fin 2) = 1)
theorem blk1_1 (t : Fin cfg1.N) (a : Fin 128) (b : Fin 2048) :
    (iblk1 V c 1 t : Vec Ideal S128x2048 .f32) (ix2 a b)
      = (V c main_v1 : Vec Ideal S4224x14336 .f32) (ix2 ⟨(32 - t.val) * 128 + a.val, by have := t.isLt; have hN : cfg1.N = 33 := N_1; omega⟩ ⟨1 * 2048 + b.val, by have := t.isLt; have hN : cfg1.N = 33 := N_1; omega⟩) := by
  have h := idx1_1 t
  refine congrArg (V c main_v1) ?_
  funext i
  apply Fin.ext
  match i with
  | ⟨0, _⟩ => show win1_1.index t (0 : Fin 2) * 128 + 1 * a.val = (32 - t.val) * 128 + a.val; rw [h.1]; omega
  | ⟨1, _⟩ => show win1_1.index t (1 : Fin 2) * 2048 + 1 * b.val = 1 * 2048 + b.val; rw [h.2]; omega

theorem idx1_2 : ∀ t : Fin cfg1.N, win1_2.index t (0 : Fin 2) = (32 - t.val) ∧ win1_2.index t (1 : Fin 2) = 2 :=
  (by decide +kernel : ∀ t : Fin grid1.N, win1_2.index t (0 : Fin 2) = (32 - t.val) ∧ win1_2.index t (1 : Fin 2) = 2)
theorem blk1_2 (t : Fin cfg1.N) (a : Fin 128) (b : Fin 2048) :
    (iblk1 V c 2 t : Vec Ideal S128x2048 .f32) (ix2 a b)
      = (V c main_v1 : Vec Ideal S4224x14336 .f32) (ix2 ⟨(32 - t.val) * 128 + a.val, by have := t.isLt; have hN : cfg1.N = 33 := N_1; omega⟩ ⟨2 * 2048 + b.val, by have := t.isLt; have hN : cfg1.N = 33 := N_1; omega⟩) := by
  have h := idx1_2 t
  refine congrArg (V c main_v1) ?_
  funext i
  apply Fin.ext
  match i with
  | ⟨0, _⟩ => show win1_2.index t (0 : Fin 2) * 128 + 1 * a.val = (32 - t.val) * 128 + a.val; rw [h.1]; omega
  | ⟨1, _⟩ => show win1_2.index t (1 : Fin 2) * 2048 + 1 * b.val = 2 * 2048 + b.val; rw [h.2]; omega

theorem idx1_3 : ∀ t : Fin cfg1.N, win1_3.index t (0 : Fin 2) = (32 - t.val) ∧ win1_3.index t (1 : Fin 2) = 3 :=
  (by decide +kernel : ∀ t : Fin grid1.N, win1_3.index t (0 : Fin 2) = (32 - t.val) ∧ win1_3.index t (1 : Fin 2) = 3)
theorem blk1_3 (t : Fin cfg1.N) (a : Fin 128) (b : Fin 2048) :
    (iblk1 V c 3 t : Vec Ideal S128x2048 .f32) (ix2 a b)
      = (V c main_v1 : Vec Ideal S4224x14336 .f32) (ix2 ⟨(32 - t.val) * 128 + a.val, by have := t.isLt; have hN : cfg1.N = 33 := N_1; omega⟩ ⟨3 * 2048 + b.val, by have := t.isLt; have hN : cfg1.N = 33 := N_1; omega⟩) := by
  have h := idx1_3 t
  refine congrArg (V c main_v1) ?_
  funext i
  apply Fin.ext
  match i with
  | ⟨0, _⟩ => show win1_3.index t (0 : Fin 2) * 128 + 1 * a.val = (32 - t.val) * 128 + a.val; rw [h.1]; omega
  | ⟨1, _⟩ => show win1_3.index t (1 : Fin 2) * 2048 + 1 * b.val = 3 * 2048 + b.val; rw [h.2]; omega

theorem idx1_4 : ∀ t : Fin cfg1.N, win1_4.index t (0 : Fin 2) = (32 - t.val) ∧ win1_4.index t (1 : Fin 2) = 0 :=
  (by decide +kernel : ∀ t : Fin grid1.N, win1_4.index t (0 : Fin 2) = (32 - t.val) ∧ win1_4.index t (1 : Fin 2) = 0)
theorem blk1_4 (t : Fin cfg1.N) (a : Fin 128) (b : Fin 128) :
    (iblk1 V c 4 t : Vec Ideal S128x128 .f32) (ix2 a b)
      = (V c main_v18 : Vec Ideal S4224x128 .f32) (ix2 ⟨(32 - t.val) * 128 + a.val, by have := t.isLt; have hN : cfg1.N = 33 := N_1; omega⟩ ⟨0 * 128 + b.val, by have := t.isLt; have hN : cfg1.N = 33 := N_1; omega⟩) := by
  have h := idx1_4 t
  refine congrArg (V c main_v18) ?_
  funext i
  apply Fin.ext
  match i with
  | ⟨0, _⟩ => show win1_4.index t (0 : Fin 2) * 128 + 1 * a.val = (32 - t.val) * 128 + a.val; rw [h.1]; omega
  | ⟨1, _⟩ => show win1_4.index t (1 : Fin 2) * 128 + 1 * b.val = 0 * 128 + b.val; rw [h.2]; omega

theorem idx1_5 : ∀ t : Fin cfg1.N, win1_5.index t (0 : Fin 2) = (32 - t.val) ∧ win1_5.index t (1 : Fin 2) = 0 :=
  (by decide +kernel : ∀ t : Fin grid1.N, win1_5.index t (0 : Fin 2) = (32 - t.val) ∧ win1_5.index t (1 : Fin 2) = 0)
theorem blk1_5 (t : Fin cfg1.N) (a : Fin 128) (b : Fin 128) :
    (iblk1 V c 5 t : Vec Ideal S128x128 .f32) (ix2 a b)
      = (V c main_v19 : Vec Ideal S4224x128 .f32) (ix2 ⟨(32 - t.val) * 128 + a.val, by have := t.isLt; have hN : cfg1.N = 33 := N_1; omega⟩ ⟨0 * 128 + b.val, by have := t.isLt; have hN : cfg1.N = 33 := N_1; omega⟩) := by
  have h := idx1_5 t
  refine congrArg (V c main_v19) ?_
  funext i
  apply Fin.ext
  match i with
  | ⟨0, _⟩ => show win1_5.index t (0 : Fin 2) * 128 + 1 * a.val = (32 - t.val) * 128 + a.val; rw [h.1]; omega
  | ⟨1, _⟩ => show win1_5.index t (1 : Fin 2) * 128 + 1 * b.val = 0 * 128 + b.val; rw [h.2]; omega

theorem idx1_6 : ∀ t : Fin cfg1.N, win1_6.index t (0 : Fin 3) = 0 ∧ win1_6.index t (1 : Fin 3) = 0 ∧ win1_6.index t (2 : Fin 3) = 0 :=
  (by decide +kernel : ∀ t : Fin grid1.N, win1_6.index t (0 : Fin 3) = 0 ∧ win1_6.index t (1 : Fin 3) = 0 ∧ win1_6.index t (2 : Fin 3) = 0)
theorem blk1_6 (t : Fin cfg1.N) (a : Fin 8) (b : Fin 128) (d : Fin 128) :
    (iblk1 V c 6 t : Vec Ideal S8x128x128 .f32) (ix3 a b d)
      = (V c main_v45 : Vec Ideal S8x128x128 .f32) (ix3 ⟨0 * 8 + a.val, by have := t.isLt; have hN : cfg1.N = 33 := N_1; omega⟩ ⟨0 * 128 + b.val, by have := t.isLt; have hN : cfg1.N = 33 := N_1; omega⟩ ⟨0 * 128 + d.val, by have := t.isLt; have hN : cfg1.N = 33 := N_1; omega⟩) := by
  have h := idx1_6 t
  refine congrArg (V c main_v45) ?_
  funext i
  apply Fin.ext
  match i with
  | ⟨0, _⟩ => show win1_6.index t (0 : Fin 3) * 8 + 1 * a.val = 0 * 8 + a.val; rw [h.1]; omega
  | ⟨1, _⟩ => show win1_6.index t (1 : Fin 3) * 128 + 1 * b.val = 0 * 128 + b.val; rw [h.2.1]; omega
  | ⟨2, _⟩ => show win1_6.index t (2 : Fin 3) * 128 + 1 * d.val = 0 * 128 + d.val; rw [h.2.2]; omega

theorem idx1_7 : ∀ t : Fin cfg1.N, win1_7.index t (0 : Fin 3) = 0 ∧ win1_7.index t (1 : Fin 3) = 0 ∧ win1_7.index t (2 : Fin 3) = 0 :=
  (by decide +kernel : ∀ t : Fin grid1.N, win1_7.index t (0 : Fin 3) = 0 ∧ win1_7.index t (1 : Fin 3) = 0 ∧ win1_7.index t (2 : Fin 3) = 0)
theorem blk1_7 (t : Fin cfg1.N) (a : Fin 8) (b : Fin 128) (d : Fin 1) :
    (iblk1 V c 7 t : Vec Ideal S8x128x1 .f32) (ix3 a b d)
      = (V c main_v54 : Vec Ideal S8x128x1 .f32) (ix3 ⟨0 * 8 + a.val, by have := t.isLt; have hN : cfg1.N = 33 := N_1; omega⟩ ⟨0 * 128 + b.val, by have := t.isLt; have hN : cfg1.N = 33 := N_1; omega⟩ ⟨0 * 1 + d.val, by have := t.isLt; have hN : cfg1.N = 33 := N_1; omega⟩) := by
  have h := idx1_7 t
  refine congrArg (V c main_v54) ?_
  funext i
  apply Fin.ext
  match i with
  | ⟨0, _⟩ => show win1_7.index t (0 : Fin 3) * 8 + 1 * a.val = 0 * 8 + a.val; rw [h.1]; omega
  | ⟨1, _⟩ => show win1_7.index t (1 : Fin 3) * 128 + 1 * b.val = 0 * 128 + b.val; rw [h.2.1]; omega
  | ⟨2, _⟩ => show win1_7.index t (2 : Fin 3) * 1 + 1 * d.val = 0 * 1 + d.val; rw [h.2.2]; omega

theorem idx1_8 : ∀ t : Fin cfg1.N, win1_8.index t (0 : Fin 3) = 0 ∧ win1_8.index t (1 : Fin 3) = 0 ∧ win1_8.index t (2 : Fin 3) = 0 :=
  (by decide +kernel : ∀ t : Fin grid1.N, win1_8.index t (0 : Fin 3) = 0 ∧ win1_8.index t (1 : Fin 3) = 0 ∧ win1_8.index t (2 : Fin 3) = 0)
theorem blk1_8 (t : Fin cfg1.N) (a : Fin 8) (b : Fin 128) (d : Fin 1) :
    (iblk1 V c 8 t : Vec Ideal S8x128x1 .f32) (ix3 a b d)
      = (V c main_v63 : Vec Ideal S8x128x1 .f32) (ix3 ⟨0 * 8 + a.val, by have := t.isLt; have hN : cfg1.N = 33 := N_1; omega⟩ ⟨0 * 128 + b.val, by have := t.isLt; have hN : cfg1.N = 33 := N_1; omega⟩ ⟨0 * 1 + d.val, by have := t.isLt; have hN : cfg1.N = 33 := N_1; omega⟩) := by
  have h := idx1_8 t
  refine congrArg (V c main_v63) ?_
  funext i
  apply Fin.ext
  match i with
  | ⟨0, _⟩ => show win1_8.index t (0 : Fin 3) * 8 + 1 * a.val = 0 * 8 + a.val; rw [h.1]; omega
  | ⟨1, _⟩ => show win1_8.index t (1 : Fin 3) * 128 + 1 * b.val = 0 * 128 + b.val; rw [h.2.1]; omega
  | ⟨2, _⟩ => show win1_8.index t (2 : Fin 3) * 1 + 1 * d.val = 0 * 1 + d.val; rw [h.2.2]; omega

theorem idx1_9 : ∀ t : Fin cfg1.N, win1_9.index t (0 : Fin 3) = 0 ∧ win1_9.index t (1 : Fin 3) = 0 ∧ win1_9.index t (2 : Fin 3) = 0 :=
  (by decide +kernel : ∀ t : Fin grid1.N, win1_9.index t (0 : Fin 3) = 0 ∧ win1_9.index t (1 : Fin 3) = 0 ∧ win1_9.index t (2 : Fin 3) = 0)
theorem blk1_9 (t : Fin cfg1.N) (a : Fin 8) (b : Fin 1) (d : Fin 1) :
    (iblk1 V c 9 t : Vec Ideal S8x1x1 .f32) (ix3 a b d)
      = (V c main_v67 : Vec Ideal S8x1x1 .f32) (ix3 ⟨0 * 8 + a.val, by have := t.isLt; have hN : cfg1.N = 33 := N_1; omega⟩ ⟨0 * 1 + b.val, by have := t.isLt; have hN : cfg1.N = 33 := N_1; omega⟩ ⟨0 * 1 + d.val, by have := t.isLt; have hN : cfg1.N = 33 := N_1; omega⟩) := by
  have h := idx1_9 t
  refine congrArg (V c main_v67) ?_
  funext i
  apply Fin.ext
  match i with
  | ⟨0, _⟩ => show win1_9.index t (0 : Fin 3) * 8 + 1 * a.val = 0 * 8 + a.val; rw [h.1]; omega
  | ⟨1, _⟩ => show win1_9.index t (1 : Fin 3) * 1 + 1 * b.val = 0 * 1 + b.val; rw [h.2.1]; omega
  | ⟨2, _⟩ => show win1_9.index t (2 : Fin 3) * 1 + 1 * d.val = 0 * 1 + d.val; rw [h.2.2]; omega

theorem idx1_10 : ∀ t : Fin cfg1.N, win1_10.index t (0 : Fin 2) = 0 ∧ win1_10.index t (1 : Fin 2) = 0 :=
  (by decide +kernel : ∀ t : Fin grid1.N, win1_10.index t (0 : Fin 2) = 0 ∧ win1_10.index t (1 : Fin 2) = 0)
theorem blk1_10 (t : Fin cfg1.N) (a : Fin 1) (b : Fin 2048) :
    (iblk1 V c 10 t : Vec Ideal S1x2048 .f32) (ix2 a b)
      = (V c main_arg1 : Vec Ideal S1x2048 .f32) (ix2 ⟨0 * 1 + a.val, by have := t.isLt; have hN : cfg1.N = 33 := N_1; omega⟩ ⟨0 * 2048 + b.val, by have := t.isLt; have hN : cfg1.N = 33 := N_1; omega⟩) := by
  have h := idx1_10 t
  refine congrArg (V c main_arg1) ?_
  funext i
  apply Fin.ext
  match i with
  | ⟨0, _⟩ => show win1_10.index t (0 : Fin 2) * 1 + 1 * a.val = 0 * 1 + a.val; rw [h.1]; omega
  | ⟨1, _⟩ => show win1_10.index t (1 : Fin 2) * 2048 + 1 * b.val = 0 * 2048 + b.val; rw [h.2]; omega

theorem idx1_11 : ∀ t : Fin cfg1.N, win1_11.index t (0 : Fin 2) = (32 - t.val) ∧ win1_11.index t (1 : Fin 2) = 0 :=
  (by decide +kernel : ∀ t : Fin grid1.N, win1_11.index t (0 : Fin 2) = (32 - t.val) ∧ win1_11.index t (1 : Fin 2) = 0)
theorem blk1_11 (t : Fin cfg1.N) (a : Fin 128) (b : Fin 2048) :
    (iblk1 V c 11 t : Vec Ideal S128x2048 .f32) (ix2 a b)
      = (V c main_v3 : Vec Ideal S4224x4096 .f32) (ix2 ⟨(32 - t.val) * 128 + a.val, by have := t.isLt; have hN : cfg1.N = 33 := N_1; omega⟩ ⟨0 * 2048 + b.val, by have := t.isLt; have hN : cfg1.N = 33 := N_1; omega⟩) := by
  have h := idx1_11 t
  refine congrArg (V c main_v3) ?_
  funext i
  apply Fin.ext
  match i with
  | ⟨0, _⟩ => show win1_11.index t (0 : Fin 2) * 128 + 1 * a.val = (32 - t.val) * 128 + a.val; rw [h.1]; omega
  | ⟨1, _⟩ => show win1_11.index t (1 : Fin 2) * 2048 + 1 * b.val = 0 * 2048 + b.val; rw [h.2]; omega

theorem idx1_12 : ∀ t : Fin cfg1.N, win1_12.index t (0 : Fin 2) = (32 - t.val) ∧ win1_12.index t (1 : Fin 2) = 0 :=
  (by decide +kernel : ∀ t : Fin grid1.N, win1_12.index t (0 : Fin 2) = (32 - t.val) ∧ win1_12.index t (1 : Fin 2) = 0)
theorem blk1_12 (t : Fin cfg1.N) (a : Fin 128) (b : Fin 2048) :
    (iblk1 V c 12 t : Vec Ideal S128x2048 .f32) (ix2 a b)
      = (V c main_v68_1 : Vec Ideal S4224x2048 .f32) (ix2 ⟨(32 - t.val) * 128 + a.val, by have := t.isLt; have hN : cfg1.N = 33 := N_1; omega⟩ ⟨0 * 2048 + b.val, by have := t.isLt; have hN : cfg1.N = 33 := N_1; omega⟩) := by
  have h := idx1_12 t
  refine congrArg (V c main_v68_1) ?_
  funext i
  apply Fin.ext
  match i with
  | ⟨0, _⟩ => show win1_12.index t (0 : Fin 2) * 128 + 1 * a.val = (32 - t.val) * 128 + a.val; rw [h.1]; omega
  | ⟨1, _⟩ => show win1_12.index t (1 : Fin 2) * 2048 + 1 * b.val = 0 * 2048 + b.val; rw [h.2]; omega

theorem idx1_13 : ∀ t : Fin cfg1.N, win1_13.index t (0 : Fin 4) = 0 ∧ win1_13.index t (1 : Fin 4) = (32 - t.val) ∧ win1_13.index t (2 : Fin 4) = 0 ∧ win1_13.index t (3 : Fin 4) = 0 :=
  (by decide +kernel : ∀ t : Fin grid1.N, win1_13.index t (0 : Fin 4) = 0 ∧ win1_13.index t (1 : Fin 4) = (32 - t.val) ∧ win1_13.index t (2 : Fin 4) = 0 ∧ win1_13.index t (3 : Fin 4) = 0)
theorem blk1_13 (t : Fin cfg1.N) (a : Fin 8) (b : Fin 1) (d : Fin 256) (e : Fin 256) :
    (iblk1 V c 13 t : Vec Ideal S8x1x256x256 .bf16) (ix4 a b d e)
      = (V c main_v68_2 : Vec Ideal S8x33x256x256 .bf16) (ix4 ⟨0 * 8 + a.val, by have := t.isLt; have hN : cfg1.N = 33 := N_1; omega⟩ ⟨(32 - t.val) * 1 + b.val, by have := t.isLt; have hN : cfg1.N = 33 := N_1; omega⟩ ⟨0 * 256 + d.val, by have := t.isLt; have hN : cfg1.N = 33 := N_1; omega⟩ ⟨0 * 256 + e.val, by have := t.isLt; have hN : cfg1.N = 33 := N_1; omega⟩) := by
  have h := idx1_13 t
  refine congrArg (V c main_v68_2) ?_
  funext i
  apply Fin.ext
  match i with
  | ⟨0, _⟩ => show win1_13.index t (0 : Fin 4) * 8 + 1 * a.val = 0 * 8 + a.val; rw [h.1]; omega
  | ⟨1, _⟩ => show win1_13.index t (1 : Fin 4) * 1 + 1 * b.val = (32 - t.val) * 1 + b.val; rw [h.2.1]; omega
  | ⟨2, _⟩ => show win1_13.index t (2 : Fin 4) * 256 + 1 * d.val = 0 * 256 + d.val; rw [h.2.2.1]; omega
  | ⟨3, _⟩ => show win1_13.index t (3 : Fin 4) * 256 + 1 * e.val = 0 * 256 + e.val; rw [h.2.2.2]; omega

/-! ## What the regions leave in their output arrays -/

variable (I : In)

/-- A row-by-row array of the step. -/
def rowsOf (X : ℕ → ℕ → ℕ → EReal) : S4224x2048.Idx → EReal := fun y => X (y 0).val ((y 1).val / 256) ((y 1).val % 256)
/-- The states before every chunk. -/
def statesOf (X : ℕ → ℕ → ℕ → ℕ → EReal) : Vec Ideal S8x33x256x256 .bf16 := fun y => X (y 1).val (y 0).val (y 2).val (y 3).val

theorem idx0_11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem mem0_11 (t : Fin cfg0.N) (i : S4224x2048.Idx) :
    i ∈ ((cfg0.win 11).blk t).view.set ↔ ∀ a : Fin 2, win0_11.index t a * S128x2048.size a ≤ (i a).val ∧ (i a).val < win0_11.index t a * S128x2048.size a + S128x2048.size a := by
  show i ∈ ((View.whole main_v68_0).slice (win0_11.rect t)).set ↔ _
  rw [View.set_slice_whole, Rect.mem_set_unit]
  exact Iff.rfl
theorem cover0_11 (i : S4224x2048.Idx) :
    ∃ t : Fin cfg0.N, (cfg0.win 11).flush t = true ∧ i ∈ ((cfg0.win 11).blk t).view.set := by
  have hN : cfg0.N = 33 := N_0
  have h0 : (i 0).val < 4224 := (i 0).isLt; have h1 : (i 1).val < 2048 := (i 1).isLt
  have hlt : (i 0).val / 128 < cfg0.N := by omega
  refine ⟨⟨(i 0).val / 128, hlt⟩, flush0_11 _, ?_⟩
  rw [mem0_11]
  have h := idx0_11 ⟨(i 0).val / 128, hlt⟩
  try dsimp only at h
  intro a
  match a with
  | ⟨0, _⟩ => show win0_11.index _ (0 : Fin 2) * 128 ≤ (i 0).val ∧ (i 0).val < win0_11.index _ (0 : Fin 2) * 128 + 128; rw [h.1]; omega
  | ⟨1, _⟩ => show win0_11.index _ (1 : Fin 2) * 2048 ≤ (i 1).val ∧ (i 1).val < win0_11.index _ (1 : Fin 2) * 2048 + 2048; rw [h.2]; omega
theorem arr0_11 (M : FMatch V c I) : (dat0 V c).arrAt 11 cfg0.N = (rowsOf I.out : Vec Ideal S4224x2048 .bf16) :=
  (dat0 V c).arrAt_eq_of_cover 11 _ (fun t hf => by
    have hN : cfg0.N = 33 := N_0
    have ht := t.isLt
    have e1 : (left0 V c t.val t.isLt).o11 = gOut I t.val := (left0_spec M t.val t.isLt).1
    have e2 : (dat0 V c).flushed 11 t = (cfg0.win 11).cut (grid0.coords t) ((left0 V c t.val t.isLt).o11) := by
      show (cfg0.win 11).cut (grid0.coords t) ((dat0 V c).after 11 t) = _
      rw [after0_11]
    rw [e2, e1]
    have h := idx0_11 t
    funext y
    have hy0 : (y 0).val < 128 := (y 0).isLt
    have hy1 : (y 1).val < 2048 := (y 1).isLt
    have b0 : (((cfg0.win 11).blk t).view.emb y 0).val = t.val * 128 + 1 * (y 0).val := by
      show win0_11.index t (0 : Fin 2) * 128 + 1 * (y 0).val = _; rw [h.1]
    have b1 : (((cfg0.win 11).blk t).view.emb y 1).val = 0 * 2048 + 1 * (y 1).val := by
      show win0_11.index t (1 : Fin 2) * 2048 + 1 * (y 1).val = _; rw [h.2]
    show I.out (128 * t.val + (y 0).val) ((y 1).val / 256) ((y 1).val % 256) = I.out (((cfg0.win 11).blk t).view.emb y 0).val ((((cfg0.win 11).blk t).view.emb y 1).val / 256) ((((cfg0.win 11).blk t).view.emb y 1).val % 256)
    rw [b0, b1]
    congr 1 <;> first | omega | (congr 1 <;> omega))
    (cover0_11)

theorem idx0_12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem mem0_12 (t : Fin cfg0.N) (i : S4224x2048.Idx) :
    i ∈ ((cfg0.win 12).blk t).view.set ↔ ∀ a : Fin 2, win0_12.index t a * S128x2048.size a ≤ (i a).val ∧ (i a).val < win0_12.index t a * S128x2048.size a + S128x2048.size a := by
  show i ∈ ((View.whole main_v68_1).slice (win0_12.rect t)).set ↔ _
  rw [View.set_slice_whole, Rect.mem_set_unit]
  exact Iff.rfl
theorem cover0_12 (i : S4224x2048.Idx) :
    ∃ t : Fin cfg0.N, (cfg0.win 12).flush t = true ∧ i ∈ ((cfg0.win 12).blk t).view.set := by
  have hN : cfg0.N = 33 := N_0
  have h0 : (i 0).val < 4224 := (i 0).isLt; have h1 : (i 1).val < 2048 := (i 1).isLt
  have hlt : (i 0).val / 128 < cfg0.N := by omega
  refine ⟨⟨(i 0).val / 128, hlt⟩, flush0_12 _, ?_⟩
  rw [mem0_12]
  have h := idx0_12 ⟨(i 0).val / 128, hlt⟩
  try dsimp only at h
  intro a
  match a with
  | ⟨0, _⟩ => show win0_12.index _ (0 : Fin 2) * 128 ≤ (i 0).val ∧ (i 0).val < win0_12.index _ (0 : Fin 2) * 128 + 128; rw [h.1]; omega
  | ⟨1, _⟩ => show win0_12.index _ (1 : Fin 2) * 2048 ≤ (i 1).val ∧ (i 1).val < win0_12.index _ (1 : Fin 2) * 2048 + 2048; rw [h.2]; omega
theorem arr0_12 (M : FMatch V c I) : (dat0 V c).arrAt 12 cfg0.N = (rowsOf I.Y : Vec Ideal S4224x2048 .f32) :=
  (dat0 V c).arrAt_eq_of_cover 12 _ (fun t hf => by
    have hN : cfg0.N = 33 := N_0
    have ht := t.isLt
    have e1 : (left0 V c t.val t.isLt).o12 = gRy I t.val := (left0_spec M t.val t.isLt).2.1
    have e2 : (dat0 V c).flushed 12 t = (cfg0.win 12).cut (grid0.coords t) ((left0 V c t.val t.isLt).o12) := by
      show (cfg0.win 12).cut (grid0.coords t) ((dat0 V c).after 12 t) = _
      rw [after0_12]
    rw [e2, e1]
    have h := idx0_12 t
    funext y
    have hy0 : (y 0).val < 128 := (y 0).isLt
    have hy1 : (y 1).val < 2048 := (y 1).isLt
    have b0 : (((cfg0.win 12).blk t).view.emb y 0).val = t.val * 128 + 1 * (y 0).val := by
      show win0_12.index t (0 : Fin 2) * 128 + 1 * (y 0).val = _; rw [h.1]
    have b1 : (((cfg0.win 12).blk t).view.emb y 1).val = 0 * 2048 + 1 * (y 1).val := by
      show win0_12.index t (1 : Fin 2) * 2048 + 1 * (y 1).val = _; rw [h.2]
    show I.ry t.val ((y 1).val / 256) (y 0).val ((y 1).val % 256) = I.Y (((cfg0.win 12).blk t).view.emb y 0).val ((((cfg0.win 12).blk t).view.emb y 1).val / 256) ((((cfg0.win 12).blk t).view.emb y 1).val % 256)
    rw [b0, b1]
    unfold In.Y
    rw [show (t.val * 128 + 1 * (y 0).val) / 128 = t.val by omega, show (t.val * 128 + 1 * (y 0).val) % 128 = (y 0).val by omega,
      show 0 * 2048 + 1 * (y 1).val = (y 1).val by omega])
    (cover0_12)

theorem idx0_13 : ∀ t : Fin cfg0.N, win0_13.index t (0 : Fin 4) = 0 ∧ win0_13.index t (1 : Fin 4) = t.val ∧ win0_13.index t (2 : Fin 4) = 0 ∧ win0_13.index t (3 : Fin 4) = 0 :=
  (by decide +kernel : ∀ t : Fin grid0.N, win0_13.index t (0 : Fin 4) = 0 ∧ win0_13.index t (1 : Fin 4) = t.val ∧ win0_13.index t (2 : Fin 4) = 0 ∧ win0_13.index t (3 : Fin 4) = 0)
theorem mem0_13 (t : Fin cfg0.N) (i : S8x33x256x256.Idx) :
    i ∈ ((cfg0.win 13).blk t).view.set ↔ ∀ a : Fin 4, win0_13.index t a * S8x1x256x256.size a ≤ (i a).val ∧ (i a).val < win0_13.index t a * S8x1x256x256.size a + S8x1x256x256.size a := by
  show i ∈ ((View.whole main_v68_2).slice (win0_13.rect t)).set ↔ _
  rw [View.set_slice_whole, Rect.mem_set_unit]
  exact Iff.rfl
theorem cover0_13 (i : S8x33x256x256.Idx) :
    ∃ t : Fin cfg0.N, (cfg0.win 13).flush t = true ∧ i ∈ ((cfg0.win 13).blk t).view.set := by
  have hN : cfg0.N = 33 := N_0
  have h0 : (i 0).val < 8 := (i 0).isLt; have h1 : (i 1).val < 33 := (i 1).isLt; have h2 : (i 2).val < 256 := (i 2).isLt; have h3 : (i 3).val < 256 := (i 3).isLt
  have hlt : (i 1).val < cfg0.N := by omega
  refine ⟨⟨(i 1).val, hlt⟩, flush0_13 _, ?_⟩
  rw [mem0_13]
  have h := idx0_13 ⟨(i 1).val, hlt⟩
  try dsimp only at h
  intro a
  match a with
  | ⟨0, _⟩ => show win0_13.index _ (0 : Fin 4) * 8 ≤ (i 0).val ∧ (i 0).val < win0_13.index _ (0 : Fin 4) * 8 + 8; rw [h.1]; omega
  | ⟨1, _⟩ => show win0_13.index _ (1 : Fin 4) * 1 ≤ (i 1).val ∧ (i 1).val < win0_13.index _ (1 : Fin 4) * 1 + 1; rw [h.2.1]; omega
  | ⟨2, _⟩ => show win0_13.index _ (2 : Fin 4) * 256 ≤ (i 2).val ∧ (i 2).val < win0_13.index _ (2 : Fin 4) * 256 + 256; rw [h.2.2.1]; omega
  | ⟨3, _⟩ => show win0_13.index _ (3 : Fin 4) * 256 ≤ (i 3).val ∧ (i 3).val < win0_13.index _ (3 : Fin 4) * 256 + 256; rw [h.2.2.2]; omega
theorem arr0_13 (M : FMatch V c I) : (dat0 V c).arrAt 13 cfg0.N = (statesOf I.S : Vec Ideal S8x33x256x256 .bf16) :=
  (dat0 V c).arrAt_eq_of_cover 13 _ (fun t hf => by
    have hN : cfg0.N = 33 := N_0
    have ht := t.isLt
    have e1 : (left0 V c t.val t.isLt).o13 = gS4 I t.val := (left0_spec M t.val t.isLt).2.2.1
    have e2 : (dat0 V c).flushed 13 t = (cfg0.win 13).cut (grid0.coords t) ((left0 V c t.val t.isLt).o13) := by
      show (cfg0.win 13).cut (grid0.coords t) ((dat0 V c).after 13 t) = _
      rw [after0_13]
    rw [e2, e1]
    have h := idx0_13 t
    funext y
    have hy1 : (y 1).val < 1 := (y 1).isLt
    have b0 : (((cfg0.win 13).blk t).view.emb y 0).val = 0 * 8 + 1 * (y 0).val := by
      show win0_13.index t (0 : Fin 4) * 8 + 1 * (y 0).val = _; rw [h.1]
    have b1 : (((cfg0.win 13).blk t).view.emb y 1).val = t.val * 1 + 1 * (y 1).val := by
      show win0_13.index t (1 : Fin 4) * 1 + 1 * (y 1).val = _; rw [h.2.1]
    have b2 : (((cfg0.win 13).blk t).view.emb y 2).val = 0 * 256 + 1 * (y 2).val := by
      show win0_13.index t (2 : Fin 4) * 256 + 1 * (y 2).val = _; rw [h.2.2.1]
    have b3 : (((cfg0.win 13).blk t).view.emb y 3).val = 0 * 256 + 1 * (y 3).val := by
      show win0_13.index t (3 : Fin 4) * 256 + 1 * (y 3).val = _; rw [h.2.2.2]
    show I.S t.val (y 0).val (y 2).val (y 3).val = I.S (((cfg0.win 13).blk t).view.emb y 1).val (((cfg0.win 13).blk t).view.emb y 0).val (((cfg0.win 13).blk t).view.emb y 2).val (((cfg0.win 13).blk t).view.emb y 3).val
    rw [b0, b1, b2, b3]
    rw [show t.val * 1 + 1 * (y 1).val = t.val by omega]
    simp only [Nat.zero_mul, Nat.zero_add, Nat.one_mul])
    (cover0_13)

theorem idx1_14 : ∀ t : Fin cfg1.N, win1_14.index t (0 : Fin 2) = (32 - t.val) ∧ win1_14.index t (1 : Fin 2) = 0 :=
  (by decide +kernel : ∀ t : Fin grid1.N, win1_14.index t (0 : Fin 2) = (32 - t.val) ∧ win1_14.index t (1 : Fin 2) = 0)
theorem mem1_14 (t : Fin cfg1.N) (i : S4224x2048.Idx) :
    i ∈ ((cfg1.win 14).blk t).view.set ↔ ∀ a : Fin 2, win1_14.index t a * S128x2048.size a ≤ (i a).val ∧ (i a).val < win1_14.index t a * S128x2048.size a + S128x2048.size a := by
  show i ∈ ((View.whole main_v69_0).slice (win1_14.rect t)).set ↔ _
  rw [View.set_slice_whole, Rect.mem_set_unit]
  exact Iff.rfl
theorem cover1_14 (i : S4224x2048.Idx) :
    ∃ t : Fin cfg1.N, (cfg1.win 14).flush t = true ∧ i ∈ ((cfg1.win 14).blk t).view.set := by
  have hN : cfg1.N = 33 := N_1
  have h0 : (i 0).val < 4224 := (i 0).isLt; have h1 : (i 1).val < 2048 := (i 1).isLt
  have hlt : 32 - (i 0).val / 128 < cfg1.N := by omega
  refine ⟨⟨32 - (i 0).val / 128, hlt⟩, flush1_14 _, ?_⟩
  rw [mem1_14]
  have h := idx1_14 ⟨32 - (i 0).val / 128, hlt⟩
  try dsimp only at h
  intro a
  match a with
  | ⟨0, _⟩ => show win1_14.index _ (0 : Fin 2) * 128 ≤ (i 0).val ∧ (i 0).val < win1_14.index _ (0 : Fin 2) * 128 + 128; rw [h.1]; omega
  | ⟨1, _⟩ => show win1_14.index _ (1 : Fin 2) * 2048 ≤ (i 1).val ∧ (i 1).val < win1_14.index _ (1 : Fin 2) * 2048 + 2048; rw [h.2]; omega
theorem arr1_14 (M : BMatch V c I) : (dat1 V c).arrAt 14 cfg1.N = (rowsOf I.drq : Vec Ideal S4224x2048 .bf16) :=
  (dat1 V c).arrAt_eq_of_cover 14 _ (fun t hf => by
    have hN : cfg1.N = 33 := N_1
    have ht := t.isLt
    have e1 : (left1 V c t.val t.isLt).o14 = gRow I.drq (32 - t.val) := (left1_spec M t.val t.isLt).1
    have e2 : (dat1 V c).flushed 14 t = (cfg1.win 14).cut (grid1.coords t) ((left1 V c t.val t.isLt).o14) := by
      show (cfg1.win 14).cut (grid1.coords t) ((dat1 V c).after 14 t) = _
      rw [after1_14]
    rw [e2, e1]
    have h := idx1_14 t
    funext y
    have hy0 : (y 0).val < 128 := (y 0).isLt
    have hy1 : (y 1).val < 2048 := (y 1).isLt
    have b0 : (((cfg1.win 14).blk t).view.emb y 0).val = (32 - t.val) * 128 + 1 * (y 0).val := by
      show win1_14.index t (0 : Fin 2) * 128 + 1 * (y 0).val = _; rw [h.1]
    have b1 : (((cfg1.win 14).blk t).view.emb y 1).val = 0 * 2048 + 1 * (y 1).val := by
      show win1_14.index t (1 : Fin 2) * 2048 + 1 * (y 1).val = _; rw [h.2]
    show I.drq (128 * (32 - t.val) + (y 0).val) ((y 1).val / 256) ((y 1).val % 256) = I.drq (((cfg1.win 14).blk t).view.emb y 0).val ((((cfg1.win 14).blk t).view.emb y 1).val / 256) ((((cfg1.win 14).blk t).view.emb y 1).val % 256)
    rw [b0, b1]
    congr 1 <;> first | omega | (congr 1 <;> omega))
    (cover1_14)

theorem idx1_15 : ∀ t : Fin cfg1.N, win1_15.index t (0 : Fin 2) = (32 - t.val) ∧ win1_15.index t (1 : Fin 2) = 0 :=
  (by decide +kernel : ∀ t : Fin grid1.N, win1_15.index t (0 : Fin 2) = (32 - t.val) ∧ win1_15.index t (1 : Fin 2) = 0)
theorem mem1_15 (t : Fin cfg1.N) (i : S4224x2048.Idx) :
    i ∈ ((cfg1.win 15).blk t).view.set ↔ ∀ a : Fin 2, win1_15.index t a * S128x2048.size a ≤ (i a).val ∧ (i a).val < win1_15.index t a * S128x2048.size a + S128x2048.size a := by
  show i ∈ ((View.whole main_v69_1).slice (win1_15.rect t)).set ↔ _
  rw [View.set_slice_whole, Rect.mem_set_unit]
  exact Iff.rfl
theorem cover1_15 (i : S4224x2048.Idx) :
    ∃ t : Fin cfg1.N, (cfg1.win 15).flush t = true ∧ i ∈ ((cfg1.win 15).blk t).view.set := by
  have hN : cfg1.N = 33 := N_1
  have h0 : (i 0).val < 4224 := (i 0).isLt; have h1 : (i 1).val < 2048 := (i 1).isLt
  have hlt : 32 - (i 0).val / 128 < cfg1.N := by omega
  refine ⟨⟨32 - (i 0).val / 128, hlt⟩, flush1_15 _, ?_⟩
  rw [mem1_15]
  have h := idx1_15 ⟨32 - (i 0).val / 128, hlt⟩
  try dsimp only at h
  intro a
  match a with
  | ⟨0, _⟩ => show win1_15.index _ (0 : Fin 2) * 128 ≤ (i 0).val ∧ (i 0).val < win1_15.index _ (0 : Fin 2) * 128 + 128; rw [h.1]; omega
  | ⟨1, _⟩ => show win1_15.index _ (1 : Fin 2) * 2048 ≤ (i 1).val ∧ (i 1).val < win1_15.index _ (1 : Fin 2) * 2048 + 2048; rw [h.2]; omega
theorem arr1_15 (M : BMatch V c I) : (dat1 V c).arrAt 15 cfg1.N = (rowsOf I.drk : Vec Ideal S4224x2048 .bf16) :=
  (dat1 V c).arrAt_eq_of_cover 15 _ (fun t hf => by
    have hN : cfg1.N = 33 := N_1
    have ht := t.isLt
    have e1 : (left1 V c t.val t.isLt).o15 = gRow I.drk (32 - t.val) := (left1_spec M t.val t.isLt).2.1
    have e2 : (dat1 V c).flushed 15 t = (cfg1.win 15).cut (grid1.coords t) ((left1 V c t.val t.isLt).o15) := by
      show (cfg1.win 15).cut (grid1.coords t) ((dat1 V c).after 15 t) = _
      rw [after1_15]
    rw [e2, e1]
    have h := idx1_15 t
    funext y
    have hy0 : (y 0).val < 128 := (y 0).isLt
    have hy1 : (y 1).val < 2048 := (y 1).isLt
    have b0 : (((cfg1.win 15).blk t).view.emb y 0).val = (32 - t.val) * 128 + 1 * (y 0).val := by
      show win1_15.index t (0 : Fin 2) * 128 + 1 * (y 0).val = _; rw [h.1]
    have b1 : (((cfg1.win 15).blk t).view.emb y 1).val = 0 * 2048 + 1 * (y 1).val := by
      show win1_15.index t (1 : Fin 2) * 2048 + 1 * (y 1).val = _; rw [h.2]
    show I.drk (128 * (32 - t.val) + (y 0).val) ((y 1).val / 256) ((y 1).val % 256) = I.drk (((cfg1.win 15).blk t).view.emb y 0).val ((((cfg1.win 15).blk t).view.emb y 1).val / 256) ((((cfg1.win 15).blk t).view.emb y 1).val % 256)
    rw [b0, b1]
    congr 1 <;> first | omega | (congr 1 <;> omega))
    (cover1_15)

theorem idx1_16 : ∀ t : Fin cfg1.N, win1_16.index t (0 : Fin 2) = (32 - t.val) ∧ win1_16.index t (1 : Fin 2) = 0 :=
  (by decide +kernel : ∀ t : Fin grid1.N, win1_16.index t (0 : Fin 2) = (32 - t.val) ∧ win1_16.index t (1 : Fin 2) = 0)
theorem mem1_16 (t : Fin cfg1.N) (i : S4224x2048.Idx) :
    i ∈ ((cfg1.win 16).blk t).view.set ↔ ∀ a : Fin 2, win1_16.index t a * S128x2048.size a ≤ (i a).val ∧ (i a).val < win1_16.index t a * S128x2048.size a + S128x2048.size a := by
  show i ∈ ((View.whole main_v69_2).slice (win1_16.rect t)).set ↔ _
  rw [View.set_slice_whole, Rect.mem_set_unit]
  exact Iff.rfl
theorem cover1_16 (i : S4224x2048.Idx) :
    ∃ t : Fin cfg1.N, (cfg1.win 16).flush t = true ∧ i ∈ ((cfg1.win 16).blk t).view.set := by
  have hN : cfg1.N = 33 := N_1
  have h0 : (i 0).val < 4224 := (i 0).isLt; have h1 : (i 1).val < 2048 := (i 1).isLt
  have hlt : 32 - (i 0).val / 128 < cfg1.N := by omega
  refine ⟨⟨32 - (i 0).val / 128, hlt⟩, flush1_16 _, ?_⟩
  rw [mem1_16]
  have h := idx1_16 ⟨32 - (i 0).val / 128, hlt⟩
  try dsimp only at h
  intro a
  match a with
  | ⟨0, _⟩ => show win1_16.index _ (0 : Fin 2) * 128 ≤ (i 0).val ∧ (i 0).val < win1_16.index _ (0 : Fin 2) * 128 + 128; rw [h.1]; omega
  | ⟨1, _⟩ => show win1_16.index _ (1 : Fin 2) * 2048 ≤ (i 1).val ∧ (i 1).val < win1_16.index _ (1 : Fin 2) * 2048 + 2048; rw [h.2]; omega
theorem arr1_16 (M : BMatch V c I) : (dat1 V c).arrAt 16 cfg1.N = (rowsOf I.drv : Vec Ideal S4224x2048 .bf16) :=
  (dat1 V c).arrAt_eq_of_cover 16 _ (fun t hf => by
    have hN : cfg1.N = 33 := N_1
    have ht := t.isLt
    have e1 : (left1 V c t.val t.isLt).o16 = gRow I.drv (32 - t.val) := (left1_spec M t.val t.isLt).2.2.1
    have e2 : (dat1 V c).flushed 16 t = (cfg1.win 16).cut (grid1.coords t) ((left1 V c t.val t.isLt).o16) := by
      show (cfg1.win 16).cut (grid1.coords t) ((dat1 V c).after 16 t) = _
      rw [after1_16]
    rw [e2, e1]
    have h := idx1_16 t
    funext y
    have hy0 : (y 0).val < 128 := (y 0).isLt
    have hy1 : (y 1).val < 2048 := (y 1).isLt
    have b0 : (((cfg1.win 16).blk t).view.emb y 0).val = (32 - t.val) * 128 + 1 * (y 0).val := by
      show win1_16.index t (0 : Fin 2) * 128 + 1 * (y 0).val = _; rw [h.1]
    have b1 : (((cfg1.win 16).blk t).view.emb y 1).val = 0 * 2048 + 1 * (y 1).val := by
      show win1_16.index t (1 : Fin 2) * 2048 + 1 * (y 1).val = _; rw [h.2]
    show I.drv (128 * (32 - t.val) + (y 0).val) ((y 1).val / 256) ((y 1).val % 256) = I.drv (((cfg1.win 16).blk t).view.emb y 0).val ((((cfg1.win 16).blk t).view.emb y 1).val / 256) ((((cfg1.win 16).blk t).view.emb y 1).val % 256)
    rw [b0, b1]
    congr 1 <;> first | omega | (congr 1 <;> omega))
    (cover1_16)

theorem idx1_17 : ∀ t : Fin cfg1.N, win1_17.index t (0 : Fin 2) = (32 - t.val) ∧ win1_17.index t (1 : Fin 2) = 0 :=
  (by decide +kernel : ∀ t : Fin grid1.N, win1_17.index t (0 : Fin 2) = (32 - t.val) ∧ win1_17.index t (1 : Fin 2) = 0)
theorem mem1_17 (t : Fin cfg1.N) (i : S4224x2048.Idx) :
    i ∈ ((cfg1.win 17).blk t).view.set ↔ ∀ a : Fin 2, win1_17.index t a * S128x2048.size a ≤ (i a).val ∧ (i a).val < win1_17.index t a * S128x2048.size a + S128x2048.size a := by
  show i ∈ ((View.whole main_v69_3).slice (win1_17.rect t)).set ↔ _
  rw [View.set_slice_whole, Rect.mem_set_unit]
  exact Iff.rfl
theorem cover1_17 (i : S4224x2048.Idx) :
    ∃ t : Fin cfg1.N, (cfg1.win 17).flush t = true ∧ i ∈ ((cfg1.win 17).blk t).view.set := by
  have hN : cfg1.N = 33 := N_1
  have h0 : (i 0).val < 4224 := (i 0).isLt; have h1 : (i 1).val < 2048 := (i 1).isLt
  have hlt : 32 - (i 0).val / 128 < cfg1.N := by omega
  refine ⟨⟨32 - (i 0).val / 128, hlt⟩, flush1_17 _, ?_⟩
  rw [mem1_17]
  have h := idx1_17 ⟨32 - (i 0).val / 128, hlt⟩
  try dsimp only at h
  intro a
  match a with
  | ⟨0, _⟩ => show win1_17.index _ (0 : Fin 2) * 128 ≤ (i 0).val ∧ (i 0).val < win1_17.index _ (0 : Fin 2) * 128 + 128; rw [h.1]; omega
  | ⟨1, _⟩ => show win1_17.index _ (1 : Fin 2) * 2048 ≤ (i 1).val ∧ (i 1).val < win1_17.index _ (1 : Fin 2) * 2048 + 2048; rw [h.2]; omega
theorem arr1_17 (M : BMatch V c I) : (dat1 V c).arrAt 17 cfg1.N = (rowsOf I.dg : Vec Ideal S4224x2048 .bf16) :=
  (dat1 V c).arrAt_eq_of_cover 17 _ (fun t hf => by
    have hN : cfg1.N = 33 := N_1
    have ht := t.isLt
    have e1 : (left1 V c t.val t.isLt).o17 = gRow I.dg (32 - t.val) := (left1_spec M t.val t.isLt).2.2.2.1
    have e2 : (dat1 V c).flushed 17 t = (cfg1.win 17).cut (grid1.coords t) ((left1 V c t.val t.isLt).o17) := by
      show (cfg1.win 17).cut (grid1.coords t) ((dat1 V c).after 17 t) = _
      rw [after1_17]
    rw [e2, e1]
    have h := idx1_17 t
    funext y
    have hy0 : (y 0).val < 128 := (y 0).isLt
    have hy1 : (y 1).val < 2048 := (y 1).isLt
    have b0 : (((cfg1.win 17).blk t).view.emb y 0).val = (32 - t.val) * 128 + 1 * (y 0).val := by
      show win1_17.index t (0 : Fin 2) * 128 + 1 * (y 0).val = _; rw [h.1]
    have b1 : (((cfg1.win 17).blk t).view.emb y 1).val = 0 * 2048 + 1 * (y 1).val := by
      show win1_17.index t (1 : Fin 2) * 2048 + 1 * (y 1).val = _; rw [h.2]
    show I.dg (128 * (32 - t.val) + (y 0).val) ((y 1).val / 256) ((y 1).val % 256) = I.dg (((cfg1.win 17).blk t).view.emb y 0).val ((((cfg1.win 17).blk t).view.emb y 1).val / 256) ((((cfg1.win 17).blk t).view.emb y 1).val % 256)
    rw [b0, b1]
    congr 1 <;> first | omega | (congr 1 <;> omega))
    (cover1_17)

theorem idx1_18 : ∀ t : Fin cfg1.N, win1_18.index t (0 : Fin 2) = 0 ∧ win1_18.index t (1 : Fin 2) = 0 :=
  (by decide +kernel : ∀ t : Fin grid1.N, win1_18.index t (0 : Fin 2) = 0 ∧ win1_18.index t (1 : Fin 2) = 0)
theorem mem1_18 (t : Fin cfg1.N) (i : S1x2048.Idx) :
    i ∈ ((cfg1.win 18).blk t).view.set ↔ ∀ a : Fin 2, win1_18.index t a * S1x2048.size a ≤ (i a).val ∧ (i a).val < win1_18.index t a * S1x2048.size a + S1x2048.size a := by
  show i ∈ ((View.whole main_v69_4).slice (win1_18.rect t)).set ↔ _
  rw [View.set_slice_whole, Rect.mem_set_unit]
  exact Iff.rfl
theorem cover1_18 (i : S1x2048.Idx) :
    ∃ t : Fin cfg1.N, (cfg1.win 18).flush t = true ∧ i ∈ ((cfg1.win 18).blk t).view.set := by
  have hN : cfg1.N = 33 := N_1
  have h0 : (i 0).val < 1 := (i 0).isLt; have h1 : (i 1).val < 2048 := (i 1).isLt
  have hlt : 32 < cfg1.N := by omega
  refine ⟨⟨32, hlt⟩, (flush1_18 _).2 (by first | rfl | decide), ?_⟩
  rw [mem1_18]
  have h := idx1_18 ⟨32, hlt⟩
  try dsimp only at h
  intro a
  match a with
  | ⟨0, _⟩ => show win1_18.index _ (0 : Fin 2) * 1 ≤ (i 0).val ∧ (i 0).val < win1_18.index _ (0 : Fin 2) * 1 + 1; rw [h.1]; omega
  | ⟨1, _⟩ => show win1_18.index _ (1 : Fin 2) * 2048 ≤ (i 1).val ∧ (i 1).val < win1_18.index _ (1 : Fin 2) * 2048 + 2048; rw [h.2]; omega
theorem arr1_18 (M : BMatch V c I) : (dat1 V c).arrAt 18 cfg1.N = (gDw I 33 : Vec Ideal S1x2048 .f32) :=
  (dat1 V c).arrAt_eq_of_cover 18 _ (fun t hf => by
    have hN : cfg1.N = 33 := N_1
    have ht := t.isLt
    have e1 : (left1 V c t.val t.isLt).o18 = gDw I (t.val + 1) := (left1_spec M t.val t.isLt).2.2.2.2.1
    have e2 : (dat1 V c).flushed 18 t = (cfg1.win 18).cut (grid1.coords t) ((left1 V c t.val t.isLt).o18) := by
      show (cfg1.win 18).cut (grid1.coords t) ((dat1 V c).after 18 t) = _
      rw [after1_18]
    rw [e2, e1]
    have h := idx1_18 t
    funext y
    have b1 : (((cfg1.win 18).blk t).view.emb y 1).val = 0 * 2048 + 1 * (y 1).val := by
      show win1_18.index t (1 : Fin 2) * 2048 + 1 * (y 1).val = _; rw [h.2]
    have ht' : t.val = 32 := by have hfl := (flush1_18 t).1 hf; have h33 : t.val < 33 := lt_of_lt_of_eq t.isLt N_1; omega
    show I.dwA (t.val + 1) ((y 1).val / 256) ((y 1).val % 256) = I.dwA 33 ((((cfg1.win 18).blk t).view.emb y 1).val / 256) ((((cfg1.win 18).blk t).view.emb y 1).val % 256)
    rw [b1, ht', show 0 * 2048 + 1 * (y 1).val = (y 1).val by omega])
    (cover1_18)

end Cert.KernelIdeal.Ret

end
-- ==== Proof.Inputs.lean ====
/- The step's inputs, read off the arguments: the projections' columns, the weights, the cotangent, and the tables. -/
module

public import proofs.«01_k».proof.Proof.Spec
public import Idealize.ShloMosaic.Lib.Pointwise

@[expose] public section

noncomputable section

namespace Cert.Ret

open Idealize.ShloMosaic

/-- An element of a matrix, and zero outside it. -/
def get2 {n k : ℕ} (x : (⟨2, ![n, k]⟩ : Shape).Idx → EReal) (i j : ℕ) : EReal :=
  if h : i < n ∧ j < k then x (ix2 ⟨i, h.1⟩ ⟨j, h.2⟩) else 0

theorem get2_of {n k : ℕ} (x : (⟨2, ![n, k]⟩ : Shape).Idx → EReal) {i j : ℕ} (hi : i < n) (hj : j < k) :
    get2 x i j = x (ix2 ⟨i, hi⟩ ⟨j, hj⟩) := dif_pos ⟨hi, hj⟩

/-- A matrix with 112 rows of zeros put above it. -/
def pad2 {n k : ℕ} (x : (⟨2, ![n, k]⟩ : Shape).Idx → EReal) (r j : ℕ) : EReal := if r < 112 then 0 else get2 x (r - 112) j

/-- An integer as a number. -/
def iv (i : ℕ) : EReal := FloatOps.sitofp (F := Ideal) FTy.f32 (BitVec.ofNat 32 i)
/-- A row's position. -/
def pos (r : ℕ) : EReal := FloatOps.sitofp (F := Ideal) FTy.f32 (IntOp.subi (BitVec.ofNat 32 r) 112#32)
/-- A rotary frequency. -/
def freq (b : ℕ) : EReal := Ideal.pow (Ideal.ofBits FTy.f32 0x461C4000#32) (Ideal.div (-iv b) (Ideal.ofBits FTy.f32 0x43000000#32))
/-- The logarithm of a head's decay. -/
def lg (j : ℕ) : EReal := Ideal.log (1 - Ideal.pow (Ideal.ofBits FTy.f32 0x40000000#32) (Ideal.ofBits FTy.f32 0xC0A00000#32 - iv j))

/-- The step's inputs. -/
def inp (p : (⟨2, ![4112, 14336]⟩ : Shape).Idx → EReal) (w : (⟨2, ![1, 2048]⟩ : Shape).Idx → EReal)
    (dm : (⟨2, ![4112, 4096]⟩ : Shape).Idx → EReal) : In where
  q r h e := pad2 p r (256 * h + e)
  k r h e := pad2 p r (2048 + (256 * h + e))
  v r h e := pad2 p r (4096 + (256 * h + e))
  g r h e := pad2 p r (6144 + (256 * h + e))
  o r h e := pad2 dm r (256 * h + e)
  cs r b := Ideal.cos (pos r * freq b)
  sn r b := Ideal.sin (pos r * freq b)
  D h a b := if 0 ≤ iv a - iv b then Ideal.exp (max (iv a - iv b) 0 * lg h) else 0
  qd h a := Ideal.exp ((iv a + 1) * lg h)
  kd h a := Ideal.exp ((Ideal.ofBits FTy.f32 0x42FE0000#32 - iv a) * lg h)
  cd h := Ideal.exp (Ideal.ofBits FTy.f32 0x43000000#32 * lg h)
  w h e := get2 w 0 (256 * h + e)

/-- A position counted in numbers is the position counted in integers. -/
theorem pos_eq {r : ℕ} (h : r < 4224) : iv r - Ideal.ofBits FTy.f32 0x42E00000#32 = pos r := by
  have e : Ideal.ofBits FTy.f32 0x42E00000#32 = ((112 : ℝ) : EReal) := by
    simp [Ideal.ofBits, Ideal.ieee, -EReal.coe_mul]; norm_num
  have e1 : (BitVec.ofNat 32 r).toInt = (r : ℤ) := by
    simp only [BitVec.toInt, BitVec.toNat_ofNat]; omega
  have e2 : (IntOp.subi (BitVec.ofNat 32 r) 112#32).toInt = (r : ℤ) - 112 := by
    show (BitVec.ofNat 32 r - 112#32).toInt = _
    simp only [BitVec.toInt, BitVec.toNat_sub, BitVec.toNat_ofNat]; omega
  rw [e]
  show (((BitVec.ofNat 32 r).toInt : ℝ) : EReal) - _ = (((IntOp.subi (BitVec.ofNat 32 r) 112#32).toInt : ℝ) : EReal)
  rw [e1, e2]
  norm_cast

end Cert.Ret

end
-- ==== Proof.KVal.lean ====
/- The kernel's results, in the step's formulas of its arguments. -/
module

public import proofs.«01_k».proof.Proof.KArr
public import proofs.«01_k».proof.Proof.Inputs
public import Idealize.ShloMosaic.Lib.StableHlo.ReadAt
public import Idealize.ShloMosaic.Lib.Pointwise

@[expose] public section

set_option maxRecDepth 100000

noncomputable section

namespace Cert.KernelIdeal.Ret

open Idealize.ShloMosaic Idealize.ShloMosaic.TcCoe Idealize.ShloMosaic.Tactic
open Idealize.ShloMosaic.StableHlo
open Cert.KernelIdeal Cert.KernelIdeal.Gen Cert.Ret

variable (m : (ℓ : Loc nD τ sig) → Buf (Elt Ideal) ℓ) (c : Dev nD)

/-- The step's inputs, off the kernel's arguments. -/
abbrev inK : In := inp (m (c, Proc.devRef .tc main_arg0) : Vec Ideal S4112x14336 .f32)
  (m (c, Proc.devRef .tc main_arg1) : Vec Ideal S1x2048 .f32) (m (c, Proc.devRef .tc main_arg2) : Vec Ideal S4112x4096 .f32)

/-! ## The arrays the regions start from -/

theorem v1_at (r : Fin 4224) (b : Fin 14336) : (W3 m c (Proc.devRef .tc main_v1) : Vec Ideal S4224x14336 .f32) (ix2 r b)
    = pad2 (m (c, Proc.devRef .tc main_arg0) : Vec Ideal S4112x14336 .f32) r.val b.val := by
  unfold pad2
  by_cases h : r.val < 112
  · rw [if_pos h]; after_reads_at; rw [dif_pos h]
  · rw [if_neg h, get2_of _ (by omega) b.isLt]; after_reads_at; rw [dif_neg h]
theorem v3_at (r : Fin 4224) (b : Fin 4096) : (W3 m c (Proc.devRef .tc main_v3) : Vec Ideal S4224x4096 .f32) (ix2 r b)
    = pad2 (m (c, Proc.devRef .tc main_arg2) : Vec Ideal S4112x4096 .f32) r.val b.val := by
  unfold pad2
  by_cases h : r.val < 112
  · rw [if_pos h]; after_reads_at; rw [dif_pos h]
  · rw [if_neg h, get2_of _ (by omega) b.isLt]; after_reads_at; rw [dif_neg h]
theorem v18_at (r : Fin 4224) (b : Fin 128) : (W3 m c (Proc.devRef .tc main_v18) : Vec Ideal S4224x128 .f32) (ix2 r b)
    = (inK m c).cs r.val b.val := by
  show _ = Ideal.cos (pos r.val * freq b.val)
  rw [← pos_eq r.isLt]
  unfold freq iv
  after_reads_at
theorem v19_at (r : Fin 4224) (b : Fin 128) : (W3 m c (Proc.devRef .tc main_v19) : Vec Ideal S4224x128 .f32) (ix2 r b)
    = (inK m c).sn r.val b.val := by
  show _ = Ideal.sin (pos r.val * freq b.val)
  rw [← pos_eq r.isLt]
  unfold freq iv
  after_reads_at
theorem v45_at (j : Fin 8) (a b : Fin 128) : (W3 m c (Proc.devRef .tc main_v45) : Vec Ideal S8x128x128 .f32) (ix3 j a b)
    = (inK m c).D j.val a.val b.val := by
  show _ = if 0 ≤ iv a.val - iv b.val then Ideal.exp (max (iv a.val - iv b.val) 0 * lg j.val) else 0
  unfold lg iv
  after_reads_at
  congr 1
  exact Ideal.ofBits_zero_f32
theorem v54_at (j : Fin 8) (a : Fin 128) : (W3 m c (Proc.devRef .tc main_v54) : Vec Ideal S8x128x1 .f32) (ix3 j a 0)
    = (inK m c).qd j.val a.val := by
  show _ = Ideal.exp ((iv a.val + 1) * lg j.val)
  unfold lg iv
  after_reads_at
theorem v63_at (j : Fin 8) (a : Fin 128) : (W3 m c (Proc.devRef .tc main_v63) : Vec Ideal S8x128x1 .f32) (ix3 j a 0)
    = (inK m c).kd j.val a.val := by
  show _ = Ideal.exp ((Ideal.ofBits FTy.f32 0x42FE0000#32 - iv a.val) * lg j.val)
  unfold lg iv
  after_reads_at
theorem v67_at (j : Fin 8) : (W3 m c (Proc.devRef .tc main_v67) : Vec Ideal S8x1x1 .f32) (ix3 j 0 0)
    = (inK m c).cd j.val := by
  show _ = Ideal.exp (Ideal.ofBits FTy.f32 0x43000000#32 * lg j.val)
  unfold lg iv
  after_reads_at
theorem arg1_at (b : Fin 2048) : (W3 m c (Proc.devRef .tc main_arg1) : Vec Ideal S1x2048 .f32) (ix2 0 b)
    = get2 (m (c, Proc.devRef .tc main_arg1) : Vec Ideal S1x2048 .f32) 0 b.val := by
  rw [get2_of _ (by omega) b.isLt]
  after_reads_at

/-! ## The regions' inputs are the step's -/

theorem fmatch : FMatch (VF m) c (inK m c) where
  q t a j e := ((blk0_0 (VF m) c t a _).trans (v1_at m c _ _)).trans (by
    show pad2 _ (t.val * 128 + a.val) (0 * 2048 + (256 * j.val + e.val)) = pad2 _ (128 * t.val + a.val) (256 * j.val + e.val)
    congr 1 <;> omega)
  k t a j e := ((blk0_1 (VF m) c t a _).trans (v1_at m c _ _)).trans (by
    show pad2 _ (t.val * 128 + a.val) (1 * 2048 + (256 * j.val + e.val)) = pad2 _ (128 * t.val + a.val) (2048 + (256 * j.val + e.val))
    congr 1 <;> omega)
  v t a j e := ((blk0_2 (VF m) c t a _).trans (v1_at m c _ _)).trans (by
    show pad2 _ (t.val * 128 + a.val) (2 * 2048 + (256 * j.val + e.val)) = pad2 _ (128 * t.val + a.val) (4096 + (256 * j.val + e.val))
    congr 1 <;> omega)
  g t a j e := ((blk0_3 (VF m) c t a _).trans (v1_at m c _ _)).trans (by
    show pad2 _ (t.val * 128 + a.val) (3 * 2048 + (256 * j.val + e.val)) = pad2 _ (128 * t.val + a.val) (6144 + (256 * j.val + e.val))
    congr 1 <;> omega)
  cs t a b := ((blk0_4 (VF m) c t a b).trans (v18_at m c _ _)).trans (by
    show (inK m c).cs (t.val * 128 + a.val) (0 * 128 + b.val) = _
    congr 1 <;> omega)
  sn t a b := ((blk0_5 (VF m) c t a b).trans (v19_at m c _ _)).trans (by
    show (inK m c).sn (t.val * 128 + a.val) (0 * 128 + b.val) = _
    congr 1 <;> omega)
  D t j a b := ((blk0_6 (VF m) c t j a b).trans (v45_at m c _ _ _)).trans (by
    show (inK m c).D (0 * 8 + j.val) (0 * 128 + a.val) (0 * 128 + b.val) = _
    simp only [Nat.zero_mul, Nat.zero_add])
  qd t j a := ((blk0_7 (VF m) c t j a 0).trans (v54_at m c _ _)).trans (by
    show (inK m c).qd (0 * 8 + j.val) (0 * 128 + a.val) = _
    simp only [Nat.zero_mul, Nat.zero_add])
  kd t j a := ((blk0_8 (VF m) c t j a 0).trans (v63_at m c _ _)).trans (by
    show (inK m c).kd (0 * 8 + j.val) (0 * 128 + a.val) = _
    simp only [Nat.zero_mul, Nat.zero_add])
  cd t j := ((blk0_9 (VF m) c t j 0 0).trans (v67_at m c _)).trans (by
    show (inK m c).cd (0 * 8 + j.val) = _
    simp only [Nat.zero_mul, Nat.zero_add])
  w t j e := ((blk0_10 (VF m) c t 0 _).trans (arg1_at m c _)).trans (by
    show get2 _ 0 (0 * 2048 + (256 * j.val + e.val)) = get2 _ 0 (256 * j.val + e.val)
    simp only [Nat.zero_mul, Nat.zero_add])

/-- A buffer the forward region does not write. -/
theorem keep4 (r : Ref sig .tc) (h : ∀ w : Fin cfg0.W, Pipeline.arrRef spec0 w = r → (cfg0.win w).isOut = false) :
    VB m c r = VF m c r := W4_of m c r h

theorem bmatch : BMatch (VB m) c (inK m c) where
  q t a j e := ((blk1_0 (VB m) c t a _).trans ((congrFun (keep4 m c main_v1 (by decide +kernel)) _).trans (v1_at m c _ _))).trans (by
    show pad2 _ ((32 - t.val) * 128 + a.val) (0 * 2048 + (256 * j.val + e.val)) = pad2 _ (128 * (32 - t.val) + a.val) (256 * j.val + e.val)
    congr 1 <;> omega)
  k t a j e := ((blk1_1 (VB m) c t a _).trans ((congrFun (keep4 m c main_v1 (by decide +kernel)) _).trans (v1_at m c _ _))).trans (by
    show pad2 _ ((32 - t.val) * 128 + a.val) (1 * 2048 + (256 * j.val + e.val)) = pad2 _ (128 * (32 - t.val) + a.val) (2048 + (256 * j.val + e.val))
    congr 1 <;> omega)
  v t a j e := ((blk1_2 (VB m) c t a _).trans ((congrFun (keep4 m c main_v1 (by decide +kernel)) _).trans (v1_at m c _ _))).trans (by
    show pad2 _ ((32 - t.val) * 128 + a.val) (2 * 2048 + (256 * j.val + e.val)) = pad2 _ (128 * (32 - t.val) + a.val) (4096 + (256 * j.val + e.val))
    congr 1 <;> omega)
  g t a j e := ((blk1_3 (VB m) c t a _).trans ((congrFun (keep4 m c main_v1 (by decide +kernel)) _).trans (v1_at m c _ _))).trans (by
    show pad2 _ ((32 - t.val) * 128 + a.val) (3 * 2048 + (256 * j.val + e.val)) = pad2 _ (128 * (32 - t.val) + a.val) (6144 + (256 * j.val + e.val))
    congr 1 <;> omega)
  o t a j e := ((blk1_11 (VB m) c t a _).trans ((congrFun (keep4 m c main_v3 (by decide +kernel)) _).trans (v3_at m c _ _))).trans (by
    show pad2 _ ((32 - t.val) * 128 + a.val) (0 * 2048 + (256 * j.val + e.val)) = pad2 _ (128 * (32 - t.val) + a.val) (256 * j.val + e.val)
    congr 1 <;> omega)
  Y t a j e := ((blk1_12 (VB m) c t a _).trans (congrFun ((W4_arr m c 12).trans (arr0_12 (VF m) c (inK m c) (fmatch m c))) _)).trans (by
    show (inK m c).Y ((32 - t.val) * 128 + a.val) ((0 * 2048 + (256 * j.val + e.val)) / 256) ((0 * 2048 + (256 * j.val + e.val)) % 256) = _
    rw [show (32 - t.val) * 128 + a.val = 128 * (32 - t.val) + a.val by omega, show (0 * 2048 + (256 * j.val + e.val)) / 256 = j.val by omega,
      show (0 * 2048 + (256 * j.val + e.val)) % 256 = e.val by omega])
  cs t a b := ((blk1_4 (VB m) c t a b).trans ((congrFun (keep4 m c main_v18 (by decide +kernel)) _).trans (v18_at m c _ _))).trans (by
    show (inK m c).cs ((32 - t.val) * 128 + a.val) (0 * 128 + b.val) = _
    congr 1 <;> omega)
  sn t a b := ((blk1_5 (VB m) c t a b).trans ((congrFun (keep4 m c main_v19 (by decide +kernel)) _).trans (v19_at m c _ _))).trans (by
    show (inK m c).sn ((32 - t.val) * 128 + a.val) (0 * 128 + b.val) = _
    congr 1 <;> omega)
  D t j a b := ((blk1_6 (VB m) c t j a b).trans ((congrFun (keep4 m c main_v45 (by decide +kernel)) _).trans (v45_at m c _ _ _))).trans (by
    show (inK m c).D (0 * 8 + j.val) (0 * 128 + a.val) (0 * 128 + b.val) = _
    simp only [Nat.zero_mul, Nat.zero_add])
  qd t j a := ((blk1_7 (VB m) c t j a 0).trans ((congrFun (keep4 m c main_v54 (by decide +kernel)) _).trans (v54_at m c _ _))).trans (by
    show (inK m c).qd (0 * 8 + j.val) (0 * 128 + a.val) = _
    simp only [Nat.zero_mul, Nat.zero_add])
  kd t j a := ((blk1_8 (VB m) c t j a 0).trans ((congrFun (keep4 m c main_v63 (by decide +kernel)) _).trans (v63_at m c _ _))).trans (by
    show (inK m c).kd (0 * 8 + j.val) (0 * 128 + a.val) = _
    simp only [Nat.zero_mul, Nat.zero_add])
  cd t j := ((blk1_9 (VB m) c t j 0 0).trans ((congrFun (keep4 m c main_v67 (by decide +kernel)) _).trans (v67_at m c _))).trans (by
    show (inK m c).cd (0 * 8 + j.val) = _
    simp only [Nat.zero_mul, Nat.zero_add])
  w t j e := ((blk1_10 (VB m) c t 0 _).trans ((congrFun (keep4 m c main_arg1 (by decide +kernel)) _).trans (arg1_at m c _))).trans (by
    show get2 _ 0 (0 * 2048 + (256 * j.val + e.val)) = get2 _ 0 (256 * j.val + e.val)
    simp only [Nat.zero_mul, Nat.zero_add])
  S t j d e := ((blk1_13 (VB m) c t j 0 d e).trans (congrFun ((W4_arr m c 13).trans (arr0_13 (VF m) c (inK m c) (fmatch m c))) _)).trans (by
    show (inK m c).S ((32 - t.val) * 1 + 0) (0 * 8 + j.val) (0 * 256 + d.val) (0 * 256 + e.val) = _
    simp only [Nat.zero_mul, Nat.zero_add, Nat.mul_one, Nat.add_zero])

/-! ## The results -/

theorem k70 (r : Fin 4112) (b : Fin 2048) : (W6 m c (Proc.devRef .tc main_v70) : Vec Ideal S4112x2048 .bf16) (ix2 r b)
    = (inK m c).out (112 + r.val) (b.val / 256) (b.val % 256) := by
  have e1 := (W5_of m c main_v68_0 (by decide +kernel)).trans ((W4_arr m c 11).trans (arr0_11 (VF m) c (inK m c) (fmatch m c)))
  have e2 : (W6 m c (Proc.devRef .tc main_v70) : Vec Ideal S4112x2048 .bf16) (ix2 r b)
      = (W5 m c (Proc.devRef .tc main_v68_0) : Vec Ideal S4224x2048 .bf16) (ix2 ⟨112 + r.val, by omega⟩ b) := by after_reads_at
  exact e2.trans (congrFun e1 _)
theorem k71 (r : Fin 4112) (b : Fin 2048) : (W6 m c (Proc.devRef .tc main_v71) : Vec Ideal S4112x2048 .bf16) (ix2 r b)
    = (inK m c).drq (112 + r.val) (b.val / 256) (b.val % 256) := by
  have e1 := (W5_arr m c 14).trans (arr1_14 (VB m) c (inK m c) (bmatch m c))
  have e2 : (W6 m c (Proc.devRef .tc main_v71) : Vec Ideal S4112x2048 .bf16) (ix2 r b)
      = (W5 m c (Proc.devRef .tc main_v69_0) : Vec Ideal S4224x2048 .bf16) (ix2 ⟨112 + r.val, by omega⟩ b) := by after_reads_at
  exact e2.trans (congrFun e1 _)
theorem k72 (r : Fin 4112) (b : Fin 2048) : (W6 m c (Proc.devRef .tc main_v72) : Vec Ideal S4112x2048 .bf16) (ix2 r b)
    = (inK m c).drk (112 + r.val) (b.val / 256) (b.val % 256) := by
  have e1 := (W5_arr m c 15).trans (arr1_15 (VB m) c (inK m c) (bmatch m c))
  have e2 : (W6 m c (Proc.devRef .tc main_v72) : Vec Ideal S4112x2048 .bf16) (ix2 r b)
      = (W5 m c (Proc.devRef .tc main_v69_1) : Vec Ideal S4224x2048 .bf16) (ix2 ⟨112 + r.val, by omega⟩ b) := by after_reads_at
  exact e2.trans (congrFun e1 _)
theorem k73 (r : Fin 4112) (b : Fin 2048) : (W6 m c (Proc.devRef .tc main_v73) : Vec Ideal S4112x2048 .bf16) (ix2 r b)
    = (inK m c).drv (112 + r.val) (b.val / 256) (b.val % 256) := by
  have e1 := (W5_arr m c 16).trans (arr1_16 (VB m) c (inK m c) (bmatch m c))
  have e2 : (W6 m c (Proc.devRef .tc main_v73) : Vec Ideal S4112x2048 .bf16) (ix2 r b)
      = (W5 m c (Proc.devRef .tc main_v69_2) : Vec Ideal S4224x2048 .bf16) (ix2 ⟨112 + r.val, by omega⟩ b) := by after_reads_at
  exact e2.trans (congrFun e1 _)
theorem k74 (r : Fin 4112) (b : Fin 2048) : (W6 m c (Proc.devRef .tc main_v74) : Vec Ideal S4112x2048 .bf16) (ix2 r b)
    = (inK m c).dg (112 + r.val) (b.val / 256) (b.val % 256) := by
  have e1 := (W5_arr m c 17).trans (arr1_17 (VB m) c (inK m c) (bmatch m c))
  have e2 : (W6 m c (Proc.devRef .tc main_v74) : Vec Ideal S4112x2048 .bf16) (ix2 r b)
      = (W5 m c (Proc.devRef .tc main_v69_3) : Vec Ideal S4224x2048 .bf16) (ix2 ⟨112 + r.val, by omega⟩ b) := by after_reads_at
  exact e2.trans (congrFun e1 _)
theorem k69_4 (b : Fin 2048) : (W6 m c (Proc.devRef .tc main_v69_4) : Vec Ideal S1x2048 .f32) (ix2 0 b)
    = (inK m c).dwA 33 (b.val / 256) (b.val % 256) := by
  have e1 := (W5_arr m c 18).trans (arr1_18 (VB m) c (inK m c) (bmatch m c))
  have e2 : (W6 m c (Proc.devRef .tc main_v69_4) : Vec Ideal S1x2048 .f32) (ix2 0 b)
      = (W5 m c (Proc.devRef .tc main_v69_4) : Vec Ideal S1x2048 .f32) (ix2 0 b) := by after_reads_simp
  exact e2.trans (congrFun e1 _)

end Cert.KernelIdeal.Ret

end
-- ==== Proof.RefOpsC.lean ====
/- The reference: the operations of its loops. -/
module

public import Idealize.ShloMosaic.Lib.Pipeline.Kit
public import Idealize.ShloMosaic.Lib.Pipeline.Regions
public import Idealize.ShloMosaic.Lib.StableHlo.RunLoop
public import proofs.«01_k».proof.Proof.Gen.ReferenceIdeal

@[expose] public section

set_option maxRecDepth 100000

noncomputable section

namespace Cert.ReferenceIdeal.Ret

open Idealize.ShloMosaic Idealize.ShloMosaic.TcCoe Idealize.ShloMosaic.Tactic
open Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

/-! The operations of the two loops. -/

/-- 5 of the operations, in order. -/
abbrev while0Ops0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v149_0 : StableHlo.TRef sig ⟨S33x8x128x256, .f32⟩) ![(.of main_v149_7 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x8x128x256, .f32⟩) (fun x i => Host.dynamicSlice S1x8x128x256 x (fun k => (i k (Shape.Idx.first h_S_)).toInt) sliceFits_S33x8x128x256_S1x8x128x256),
    StableHlo.TRef.reshape (.of main_while0b_call1_v0 : StableHlo.TRef sig ⟨S1x8x128x256, .f32⟩) (.of main_while0b_v268 : StableHlo.TRef sig ⟨S8x128x256, .f32⟩) (rfl : (.f32 : EltTy) = .f32) shapeCasts_S1x8x128x256_S8x128x256 ]
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem while0Ops0_fresh : (while0Ops0 : List (HloOp τ sig (Elt F))).Forall fun op => op.fresh = ∅ :=
  StableHlo.forall_fresh_of_map rfl
/-- What they write, in order. -/
abbrev while0Ops0_W : List (Ref sig .tc) := [main_while0b_call1_c, main_while0b_call1_c_0, main_while0b_call1_c_1, main_while0b_call1_v0, main_while0b_v268]
theorem while0Ops0_writes : (while0Ops0 : List (HloOp τ sig (Elt F))).Forall fun op => op.writes ⊆ (while0Ops0_W.map (Proc.devRef (τ := τ) .tc)).toFinset :=
  StableHlo.forall_writes_sub_of_map rfl

/-- 5 of the operations, in order. -/
abbrev while0Ops0_1 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v149_1 : StableHlo.TRef sig ⟨S33x8x128x256, .f32⟩) ![(.of main_v149_7 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x8x128x256, .f32⟩) (fun x i => Host.dynamicSlice S1x8x128x256 x (fun k => (i k (Shape.Idx.first h_S_)).toInt) sliceFits_S33x8x128x256_S1x8x128x256),
    StableHlo.TRef.reshape (.of main_while0b_call2_v0 : StableHlo.TRef sig ⟨S1x8x128x256, .f32⟩) (.of main_while0b_v269 : StableHlo.TRef sig ⟨S8x128x256, .f32⟩) (rfl : (.f32 : EltTy) = .f32) shapeCasts_S1x8x128x256_S8x128x256 ]
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem while0Ops0_1_fresh : (while0Ops0_1 : List (HloOp τ sig (Elt F))).Forall fun op => op.fresh = ∅ :=
  StableHlo.forall_fresh_of_map rfl
/-- What they write, in order. -/
abbrev while0Ops0_1_W : List (Ref sig .tc) := [main_while0b_call2_c, main_while0b_call2_c_0, main_while0b_call2_c_1, main_while0b_call2_v0, main_while0b_v269]
theorem while0Ops0_1_writes : (while0Ops0_1 : List (HloOp τ sig (Elt F))).Forall fun op => op.writes ⊆ (while0Ops0_1_W.map (Proc.devRef (τ := τ) .tc)).toFinset :=
  StableHlo.forall_writes_sub_of_map rfl

/-- 5 of the operations, in order. -/
abbrev while0Ops0_2 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v149_2 : StableHlo.TRef sig ⟨S33x8x128x256, .f32⟩) ![(.of main_v149_7 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x8x128x256, .f32⟩) (fun x i => Host.dynamicSlice S1x8x128x256 x (fun k => (i k (Shape.Idx.first h_S_)).toInt) sliceFits_S33x8x128x256_S1x8x128x256),
    StableHlo.TRef.reshape (.of main_while0b_call3_v0 : StableHlo.TRef sig ⟨S1x8x128x256, .f32⟩) (.of main_while0b_v270 : StableHlo.TRef sig ⟨S8x128x256, .f32⟩) (rfl : (.f32 : EltTy) = .f32) shapeCasts_S1x8x128x256_S8x128x256 ]
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem while0Ops0_2_fresh : (while0Ops0_2 : List (HloOp τ sig (Elt F))).Forall fun op => op.fresh = ∅ :=
  StableHlo.forall_fresh_of_map rfl
/-- What they write, in order. -/
abbrev while0Ops0_2_W : List (Ref sig .tc) := [main_while0b_call3_c, main_while0b_call3_c_0, main_while0b_call3_c_1, main_while0b_call3_v0, main_while0b_v270]
theorem while0Ops0_2_writes : (while0Ops0_2 : List (HloOp τ sig (Elt F))).Forall fun op => op.writes ⊆ (while0Ops0_2_W.map (Proc.devRef (τ := τ) .tc)).toFinset :=
  StableHlo.forall_writes_sub_of_map rfl

/-- 13 of the operations, in order. -/
abbrev while0Ops0_3 : List (HloOp τ sig (Elt F)) :=
  [ StableHlo.binary main_while0b_v268 main_while0b_v269 main_while0b_v271 ((fun l r => Host.dotGeneral dot_S8x128x256_S8x128x256_S8x128x128_2_2_1_1_0_0 none l r) : (⟨S8x128x256, .f32⟩ : BufTy).Contents (Elt F) → (⟨S8x128x256, .f32⟩ : BufTy).Contents (Elt F) → (⟨S8x128x128, .f32⟩ : BufTy).Contents (Elt F)),
    StableHlo.binary main_while0b_v271 main_v149_5 main_while0b_v272 (mulf : (⟨S8x128x128, .f32⟩ : BufTy).Contents (Elt F) → (⟨S8x128x128, .f32⟩ : BufTy).Contents (Elt F) → (⟨S8x128x128, .f32⟩ : BufTy).Contents (Elt F)),
    StableHlo.binary main_while0b_v272 main_while0b_v270 main_while0b_v273 ((fun l r => Host.dotGeneral dot_S8x128x128_S8x128x256_S8x128x256_2_1_1_2_0_0 none l r) : (⟨S8x128x128, .f32⟩ : BufTy).Contents (Elt F) → (⟨S8x128x256, .f32⟩ : BufTy).Contents (Elt F) → (⟨S8x128x256, .f32⟩ : BufTy).Contents (Elt F)),
    StableHlo.binary main_while0b_v268 main_v149_8 main_while0b_v274 ((fun l r => Host.dotGeneral dot_S8x128x256_S8x256x256_S8x128x256_2_1_1_2_0_0 none l r) : (⟨S8x128x256, .f32⟩ : BufTy).Contents (Elt F) → (⟨S8x256x256, .f32⟩ : BufTy).Contents (Elt F) → (⟨S8x128x256, .f32⟩ : BufTy).Contents (Elt F)),
    StableHlo.unary main_v149_6 main_while0b_v275 (broadcastInDim S8x128x256 ![0, 1, 2] bcast_S8x128x1_S8x128x256_0_1_2 : (⟨S8x128x1, .f32⟩ : BufTy).Contents (Elt F) → (⟨S8x128x256, .f32⟩ : BufTy).Contents (Elt F)),
    StableHlo.binary main_while0b_v274 main_while0b_v275 main_while0b_v276 (mulf : (⟨S8x128x256, .f32⟩ : BufTy).Contents (Elt F) → (⟨S8x128x256, .f32⟩ : BufTy).Contents (Elt F) → (⟨S8x128x256, .f32⟩ : BufTy).Contents (Elt F)),
    StableHlo.unary main_v149_3 main_while0b_v277 (broadcastInDim S8x256x256 ![0, 1, 2] bcast_S8x1x1_S8x256x256_0_1_2 : (⟨S8x1x1, .f32⟩ : BufTy).Contents (Elt F) → (⟨S8x256x256, .f32⟩ : BufTy).Contents (Elt F)),
    StableHlo.binary main_v149_8 main_while0b_v277 main_while0b_v278 (mulf : (⟨S8x256x256, .f32⟩ : BufTy).Contents (Elt F) → (⟨S8x256x256, .f32⟩ : BufTy).Contents (Elt F) → (⟨S8x256x256, .f32⟩ : BufTy).Contents (Elt F)),
    StableHlo.unary main_v149_4 main_while0b_v279 (broadcastInDim S8x128x256 ![0, 1, 2] bcast_S8x128x1_S8x128x256_0_1_2 : (⟨S8x128x1, .f32⟩ : BufTy).Contents (Elt F) → (⟨S8x128x256, .f32⟩ : BufTy).Contents (Elt F)),
    StableHlo.binary main_while0b_v269 main_while0b_v279 main_while0b_v280 (mulf : (⟨S8x128x256, .f32⟩ : BufTy).Contents (Elt F) → (⟨S8x128x256, .f32⟩ : BufTy).Contents (Elt F) → (⟨S8x128x256, .f32⟩ : BufTy).Contents (Elt F)),
    StableHlo.binary main_while0b_v280 main_while0b_v270 main_while0b_v281 ((fun l r => Host.dotGeneral dot_S8x128x256_S8x128x256_S8x256x256_1_1_2_2_0_0 none l r) : (⟨S8x128x256, .f32⟩ : BufTy).Contents (Elt F) → (⟨S8x128x256, .f32⟩ : BufTy).Contents (Elt F) → (⟨S8x256x256, .f32⟩ : BufTy).Contents (Elt F)),
    StableHlo.binary main_while0b_v278 main_while0b_v281 main_while0b_v282 (addf : (⟨S8x256x256, .f32⟩ : BufTy).Contents (Elt F) → (⟨S8x256x256, .f32⟩ : BufTy).Contents (Elt F) → (⟨S8x256x256, .f32⟩ : BufTy).Contents (Elt F)),
    StableHlo.binary main_while0b_v273 main_while0b_v276 main_while0b_v283 (addf : (⟨S8x128x256, .f32⟩ : BufTy).Contents (Elt F) → (⟨S8x128x256, .f32⟩ : BufTy).Contents (Elt F) → (⟨S8x128x256, .f32⟩ : BufTy).Contents (Elt F)) ]
theorem while0Ops0_3_sub : (while0Ops0_3 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub ..⟩
theorem while0Ops0_3_fresh : (while0Ops0_3 : List (HloOp τ sig (Elt F))).Forall fun op => op.fresh = ∅ :=
  StableHlo.forall_fresh_of_map rfl
/-- What they write, in order. -/
abbrev while0Ops0_3_W : List (Ref sig .tc) := [main_while0b_v271, main_while0b_v272, main_while0b_v273, main_while0b_v274, main_while0b_v275, main_while0b_v276, main_while0b_v277, main_while0b_v278, main_while0b_v279, main_while0b_v280, main_while0b_v281, main_while0b_v282, main_while0b_v283]
theorem while0Ops0_3_writes : (while0Ops0_3 : List (HloOp τ sig (Elt F))).Forall fun op => op.writes ⊆ (while0Ops0_3_W.map (Proc.devRef (τ := τ) .tc)).toFinset :=
  StableHlo.forall_writes_sub_of_map rfl

/-- 5 of the operations, in order. -/
abbrev while0Ops0_4 : List (HloOp τ sig (Elt F)) :=
  [ StableHlo.TRef.unary (.of main_while0b_v283 : StableHlo.TRef sig ⟨S8x128x256, .f32⟩) (.of main_while0b_call4_v0 : StableHlo.TRef sig ⟨S1x8x128x256, .f32⟩) (broadcastInDim S1x8x128x256 ![1, 2, 3] bcast_S8x128x256_S1x8x128x256_1_2_3),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.binaryIndexed (.of main_v149_9 : StableHlo.TRef sig ⟨S33x8x128x256, .f32⟩) (.of main_while0b_call4_v0 : StableHlo.TRef sig ⟨S1x8x128x256, .f32⟩) ![(.of main_v149_7 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_v284 : StableHlo.TRef sig ⟨S33x8x128x256, .f32⟩) (fun x u i => Host.dynamicUpdateSlice x u (fun k => (i k (Shape.Idx.first h_S_)).toInt) updateFits_S33x8x128x256_S1x8x128x256) ]
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem while0Ops0_4_fresh : (while0Ops0_4 : List (HloOp τ sig (Elt F))).Forall fun op => op.fresh = ∅ :=
  StableHlo.forall_fresh_of_map rfl
/-- What they write, in order. -/
abbrev while0Ops0_4_W : List (Ref sig .tc) := [main_while0b_call4_v0, main_while0b_call4_c, main_while0b_call4_c_0, main_while0b_call4_c_1, main_while0b_v284]
theorem while0Ops0_4_writes : (while0Ops0_4 : List (HloOp τ sig (Elt F))).Forall fun op => op.writes ⊆ (while0Ops0_4_W.map (Proc.devRef (τ := τ) .tc)).toFinset :=
  StableHlo.forall_writes_sub_of_map rfl

/-- 5 of the operations, in order. -/
abbrev while0Ops0_5 : List (HloOp τ sig (Elt F)) :=
  [ StableHlo.TRef.unary (.of main_while0b_v272 : StableHlo.TRef sig ⟨S8x128x128, .f32⟩) (.of main_while0b_call5_v0 : StableHlo.TRef sig ⟨S1x8x128x128, .f32⟩) (broadcastInDim S1x8x128x128 ![1, 2, 3] bcast_S8x128x128_S1x8x128x128_1_2_3),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.binaryIndexed (.of main_v149_10 : StableHlo.TRef sig ⟨S33x8x128x128, .f32⟩) (.of main_while0b_call5_v0 : StableHlo.TRef sig ⟨S1x8x128x128, .f32⟩) ![(.of main_v149_7 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_v285 : StableHlo.TRef sig ⟨S33x8x128x128, .f32⟩) (fun x u i => Host.dynamicUpdateSlice x u (fun k => (i k (Shape.Idx.first h_S_)).toInt) updateFits_S33x8x128x128_S1x8x128x128) ]
theorem while0Ops0_5_sub : (while0Ops0_5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem while0Ops0_5_fresh : (while0Ops0_5 : List (HloOp τ sig (Elt F))).Forall fun op => op.fresh = ∅ :=
  StableHlo.forall_fresh_of_map rfl
/-- What they write, in order. -/
abbrev while0Ops0_5_W : List (Ref sig .tc) := [main_while0b_call5_v0, main_while0b_call5_c, main_while0b_call5_c_0, main_while0b_call5_c_1, main_while0b_v285]
theorem while0Ops0_5_writes : (while0Ops0_5 : List (HloOp τ sig (Elt F))).Forall fun op => op.writes ⊆ (while0Ops0_5_W.map (Proc.devRef (τ := τ) .tc)).toFinset :=
  StableHlo.forall_writes_sub_of_map rfl

/-- 5 of the operations, in order. -/
abbrev while0Ops0_6 : List (HloOp τ sig (Elt F)) :=
  [ StableHlo.TRef.unary (.of main_v149_8 : StableHlo.TRef sig ⟨S8x256x256, .f32⟩) (.of main_while0b_call6_v0 : StableHlo.TRef sig ⟨S1x8x256x256, .f32⟩) (broadcastInDim S1x8x256x256 ![1, 2, 3] bcast_S8x256x256_S1x8x256x256_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v149_11 : StableHlo.TRef sig ⟨S33x8x256x256, .f32⟩) (.of main_while0b_call6_v0 : StableHlo.TRef sig ⟨S1x8x256x256, .f32⟩) ![(.of main_v149_7 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v286 : StableHlo.TRef sig ⟨S33x8x256x256, .f32⟩) (fun x u i => Host.dynamicUpdateSlice x u (fun k => (i k (Shape.Idx.first h_S_)).toInt) updateFits_S33x8x256x256_S1x8x256x256) ]
theorem while0Ops0_6_sub : (while0Ops0_6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem while0Ops0_6_fresh : (while0Ops0_6 : List (HloOp τ sig (Elt F))).Forall fun op => op.fresh = ∅ :=
  StableHlo.forall_fresh_of_map rfl
/-- What they write, in order. -/
abbrev while0Ops0_6_W : List (Ref sig .tc) := [main_while0b_call6_v0, main_while0b_call6_c, main_while0b_call6_c_0, main_while0b_call6_c_1, main_while0b_v286]
theorem while0Ops0_6_writes : (while0Ops0_6 : List (HloOp τ sig (Elt F))).Forall fun op => op.writes ⊆ (while0Ops0_6_W.map (Proc.devRef (τ := τ) .tc)).toFinset :=
  StableHlo.forall_writes_sub_of_map rfl

/-- 5 of the operations, in order. -/
abbrev while0Ops0_7 : List (HloOp τ sig (Elt F)) :=
  [ StableHlo.TRef.unary (.of main_while0b_v280 : StableHlo.TRef sig ⟨S8x128x256, .f32⟩) (.of main_while0b_call7_v0 : StableHlo.TRef sig ⟨S1x8x128x256, .f32⟩) (broadcastInDim S1x8x128x256 ![1, 2, 3] bcast_S8x128x256_S1x8x128x256_1_2_3),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.binaryIndexed (.of main_v149_12 : StableHlo.TRef sig ⟨S33x8x128x256, .f32⟩) (.of main_while0b_call7_v0 : StableHlo.TRef sig ⟨S1x8x128x256, .f32⟩) ![(.of main_v149_7 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v287 : StableHlo.TRef sig ⟨S33x8x128x256, .f32⟩) (fun x u i => Host.dynamicUpdateSlice x u (fun k => (i k (Shape.Idx.first h_S_)).toInt) updateFits_S33x8x128x256_S1x8x128x256) ]
theorem while0Ops0_7_sub : (while0Ops0_7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem while0Ops0_7_fresh : (while0Ops0_7 : List (HloOp τ sig (Elt F))).Forall fun op => op.fresh = ∅ :=
  StableHlo.forall_fresh_of_map rfl
/-- What they write, in order. -/
abbrev while0Ops0_7_W : List (Ref sig .tc) := [main_while0b_call7_v0, main_while0b_call7_c, main_while0b_call7_c_0, main_while0b_call7_c_1, main_while0b_v287]
theorem while0Ops0_7_writes : (while0Ops0_7 : List (HloOp τ sig (Elt F))).Forall fun op => op.writes ⊆ (while0Ops0_7_W.map (Proc.devRef (τ := τ) .tc)).toFinset :=
  StableHlo.forall_writes_sub_of_map rfl

/-- 8 of the operations, in order. -/
abbrev while0Ops0_8 : List (HloOp τ sig (Elt F)) :=
  [ StableHlo.nullary main_while0b_c_61 (constantI S_ 32 1#32),
    StableHlo.binary main_v149_7 main_while0b_c_61 main_while0b_v288 (addi : (⟨S_, .i32⟩ : BufTy).Contents (Elt F) → (⟨S_, .i32⟩ : BufTy).Contents (Elt F) → (⟨S_, .i32⟩ : BufTy).Contents (Elt F)),
    StableHlo.unary main_while0b_v288 main_v149_7 id,
    StableHlo.unary main_while0b_v282 main_v149_8 id,
    StableHlo.unary main_while0b_v284 main_v149_9 id,
    StableHlo.unary main_while0b_v285 main_v149_10 id,
    StableHlo.unary main_while0b_v286 main_v149_11 id,
    StableHlo.unary main_while0b_v287 main_v149_12 id ]
theorem while0Ops0_8_sub : (while0Ops0_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
theorem while0Ops0_8_fresh : (while0Ops0_8 : List (HloOp τ sig (Elt F))).Forall fun op => op.fresh = ∅ :=
  StableHlo.forall_fresh_of_map rfl
/-- What they write, in order. -/
abbrev while0Ops0_8_W : List (Ref sig .tc) := [main_while0b_c_61, main_while0b_v288, main_v149_7, main_v149_8, main_v149_9, main_v149_10, main_v149_11, main_v149_12]
theorem while0Ops0_8_writes : (while0Ops0_8 : List (HloOp τ sig (Elt F))).Forall fun op => op.writes ⊆ (while0Ops0_8_W.map (Proc.devRef (τ := τ) .tc)).toFinset :=
  StableHlo.forall_writes_sub_of_map rfl

/-- 4 of the operations, in order. -/
abbrev while1Ops0 : List (HloOp τ sig (Elt F)) :=
  [ StableHlo.nullary main_while1b_c_64 (constantI S_ 32 33#32),
    StableHlo.binary main_while1b_c_64 main_v207_11 main_while1b_v268 (subi : (⟨S_, .i32⟩ : BufTy).Contents (Elt F) → (⟨S_, .i32⟩ : BufTy).Contents (Elt F) → (⟨S_, .i32⟩ : BufTy).Contents (Elt F)),
    StableHlo.nullary main_while1b_c_65 (constantI S_ 32 1#32),
    StableHlo.binary main_while1b_v268 main_while1b_c_65 main_while1b_v269 (subi : (⟨S_, .i32⟩ : BufTy).Contents (Elt F) → (⟨S_, .i32⟩ : BufTy).Contents (Elt F) → (⟨S_, .i32⟩ : BufTy).Contents (Elt F)) ]
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem while1Ops0_fresh : (while1Ops0 : List (HloOp τ sig (Elt F))).Forall fun op => op.fresh = ∅ :=
  StableHlo.forall_fresh_of_map rfl
/-- What they write, in order. -/
abbrev while1Ops0_W : List (Ref sig .tc) := [main_while1b_c_64, main_while1b_v268, main_while1b_c_65, main_while1b_v269]
theorem while1Ops0_writes : (while1Ops0 : List (HloOp τ sig (Elt F))).Forall fun op => op.writes ⊆ (while1Ops0_W.map (Proc.devRef (τ := τ) .tc)).toFinset :=
  StableHlo.forall_writes_sub_of_map rfl

/-- 5 of the operations, in order. -/
abbrev while1Ops0_1 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.unaryIndexed (.of main_v207_0 : StableHlo.TRef sig ⟨S33x8x128x256, .f32⟩) ![(.of main_while1b_v269 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩)] (.of main_while1b_call10_v0 : StableHlo.TRef sig ⟨S1x8x128x256, .f32⟩) (fun x i => Host.dynamicSlice S1x8x128x256 x (fun k => (i k (Shape.Idx.first h_S_)).toInt) sliceFits_S33x8x128x256_S1x8x128x256),
    StableHlo.TRef.reshape (.of main_while1b_call10_v0 : StableHlo.TRef sig ⟨S1x8x128x256, .f32⟩) (.of main_while1b_v270 : StableHlo.TRef sig ⟨S8x128x256, .f32⟩) (rfl : (.f32 : EltTy) = .f32) shapeCasts_S1x8x128x256_S8x128x256 ]
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem while1Ops0_1_fresh : (while1Ops0_1 : List (HloOp τ sig (Elt F))).Forall fun op => op.fresh = ∅ :=
  StableHlo.forall_fresh_of_map rfl
/-- What they write, in order. -/
abbrev while1Ops0_1_W : List (Ref sig .tc) := [main_while1b_call10_c, main_while1b_call10_c_0, main_while1b_call10_c_1, main_while1b_call10_v0, main_while1b_v270]
theorem while1Ops0_1_writes : (while1Ops0_1 : List (HloOp τ sig (Elt F))).Forall fun op => op.writes ⊆ (while1Ops0_1_W.map (Proc.devRef (τ := τ) .tc)).toFinset :=
  StableHlo.forall_writes_sub_of_map rfl

/-- 5 of the operations, in order. -/
abbrev while1Ops0_2 : List (HloOp τ sig (Elt F)) :=
  [ StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.unaryIndexed (.of main_v207_1 : StableHlo.TRef sig ⟨S33x8x128x256, .f32⟩) ![(.of main_while1b_v269 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_call11_v0 : StableHlo.TRef sig ⟨S1x8x128x256, .f32⟩) (fun x i => Host.dynamicSlice S1x8x128x256 x (fun k => (i k (Shape.Idx.first h_S_)).toInt) sliceFits_S33x8x128x256_S1x8x128x256),
    StableHlo.TRef.reshape (.of main_while1b_call11_v0 : StableHlo.TRef sig ⟨S1x8x128x256, .f32⟩) (.of main_while1b_v271 : StableHlo.TRef sig ⟨S8x128x256, .f32⟩) (rfl : (.f32 : EltTy) = .f32) shapeCasts_S1x8x128x256_S8x128x256 ]
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem while1Ops0_2_fresh : (while1Ops0_2 : List (HloOp τ sig (Elt F))).Forall fun op => op.fresh = ∅ :=
  StableHlo.forall_fresh_of_map rfl
/-- What they write, in order. -/
abbrev while1Ops0_2_W : List (Ref sig .tc) := [main_while1b_call11_c, main_while1b_call11_c_0, main_while1b_call11_c_1, main_while1b_call11_v0, main_while1b_v271]
theorem while1Ops0_2_writes : (while1Ops0_2 : List (HloOp τ sig (Elt F))).Forall fun op => op.writes ⊆ (while1Ops0_2_W.map (Proc.devRef (τ := τ) .tc)).toFinset :=
  StableHlo.forall_writes_sub_of_map rfl

/-- 5 of the operations, in order. -/
abbrev while1Ops0_3 : List (HloOp τ sig (Elt F)) :=
  [ StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.unaryIndexed (.of main_v207_2 : StableHlo.TRef sig ⟨S33x8x128x256, .f32⟩) ![(.of main_while1b_v269 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩)] (.of main_while1b_call12_v0 : StableHlo.TRef sig ⟨S1x8x128x256, .f32⟩) (fun x i => Host.dynamicSlice S1x8x128x256 x (fun k => (i k (Shape.Idx.first h_S_)).toInt) sliceFits_S33x8x128x256_S1x8x128x256),
    StableHlo.TRef.reshape (.of main_while1b_call12_v0 : StableHlo.TRef sig ⟨S1x8x128x256, .f32⟩) (.of main_while1b_v272 : StableHlo.TRef sig ⟨S8x128x256, .f32⟩) (rfl : (.f32 : EltTy) = .f32) shapeCasts_S1x8x128x256_S8x128x256 ]
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem while1Ops0_3_fresh : (while1Ops0_3 : List (HloOp τ sig (Elt F))).Forall fun op => op.fresh = ∅ :=
  StableHlo.forall_fresh_of_map rfl
/-- What they write, in order. -/
abbrev while1Ops0_3_W : List (Ref sig .tc) := [main_while1b_call12_c, main_while1b_call12_c_0, main_while1b_call12_c_1, main_while1b_call12_v0, main_while1b_v272]
theorem while1Ops0_3_writes : (while1Ops0_3 : List (HloOp τ sig (Elt F))).Forall fun op => op.writes ⊆ (while1Ops0_3_W.map (Proc.devRef (τ := τ) .tc)).toFinset :=
  StableHlo.forall_writes_sub_of_map rfl

/-- 5 of the operations, in order. -/
abbrev while1Ops0_4 : List (HloOp τ sig (Elt F)) :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.unaryIndexed (.of main_v207_3 : StableHlo.TRef sig ⟨S33x8x128x256, .f32⟩) ![(.of main_while1b_v269 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩)] (.of main_while1b_call13_v0 : StableHlo.TRef sig ⟨S1x8x128x256, .f32⟩) (fun x i => Host.dynamicSlice S1x8x128x256 x (fun k => (i k (Shape.Idx.first h_S_)).toInt) sliceFits_S33x8x128x256_S1x8x128x256),
    StableHlo.TRef.reshape (.of main_while1b_call13_v0 : StableHlo.TRef sig ⟨S1x8x128x256, .f32⟩) (.of main_while1b_v273 : StableHlo.TRef sig ⟨S8x128x256, .f32⟩) (rfl : (.f32 : EltTy) = .f32) shapeCasts_S1x8x128x256_S8x128x256 ]
theorem while1Ops0_4_sub : (while1Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem while1Ops0_4_fresh : (while1Ops0_4 : List (HloOp τ sig (Elt F))).Forall fun op => op.fresh = ∅ :=
  StableHlo.forall_fresh_of_map rfl
/-- What they write, in order. -/
abbrev while1Ops0_4_W : List (Ref sig .tc) := [main_while1b_call13_c, main_while1b_call13_c_0, main_while1b_call13_c_1, main_while1b_call13_v0, main_while1b_v273]
theorem while1Ops0_4_writes : (while1Ops0_4 : List (HloOp τ sig (Elt F))).Forall fun op => op.writes ⊆ (while1Ops0_4_W.map (Proc.devRef (τ := τ) .tc)).toFinset :=
  StableHlo.forall_writes_sub_of_map rfl

/-- 5 of the operations, in order. -/
abbrev while1Ops0_5 : List (HloOp τ sig (Elt F)) :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.unaryIndexed (.of main_v207_4 : StableHlo.TRef sig ⟨S33x8x128x128, .f32⟩) ![(.of main_while1b_v269 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩)] (.of main_while1b_call14_v0 : StableHlo.TRef sig ⟨S1x8x128x128, .f32⟩) (fun x i => Host.dynamicSlice S1x8x128x128 x (fun k => (i k (Shape.Idx.first h_S_)).toInt) sliceFits_S33x8x128x128_S1x8x128x128),
    StableHlo.TRef.reshape (.of main_while1b_call14_v0 : StableHlo.TRef sig ⟨S1x8x128x128, .f32⟩) (.of main_while1b_v274 : StableHlo.TRef sig ⟨S8x128x128, .f32⟩) (rfl : (.f32 : EltTy) = .f32) shapeCasts_S1x8x128x128_S8x128x128 ]
theorem while1Ops0_5_sub : (while1Ops0_5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem while1Ops0_5_fresh : (while1Ops0_5 : List (HloOp τ sig (Elt F))).Forall fun op => op.fresh = ∅ :=
  StableHlo.forall_fresh_of_map rfl
/-- What they write, in order. -/
abbrev while1Ops0_5_W : List (Ref sig .tc) := [main_while1b_call14_c, main_while1b_call14_c_0, main_while1b_call14_c_1, main_while1b_call14_v0, main_while1b_v274]
theorem while1Ops0_5_writes : (while1Ops0_5 : List (HloOp τ sig (Elt F))).Forall fun op => op.writes ⊆ (while1Ops0_5_W.map (Proc.devRef (τ := τ) .tc)).toFinset :=
  StableHlo.forall_writes_sub_of_map rfl

/-- 5 of the operations, in order. -/
abbrev while1Ops0_6 : List (HloOp τ sig (Elt F)) :=
  [ StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.unaryIndexed (.of main_v207_5 : StableHlo.TRef sig ⟨S33x8x256x256, .f32⟩) ![(.of main_while1b_v269 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩)] (.of main_while1b_call15_v0 : StableHlo.TRef sig ⟨S1x8x256x256, .f32⟩) (fun x i => Host.dynamicSlice S1x8x256x256 x (fun k => (i k (Shape.Idx.first h_S_)).toInt) sliceFits_S33x8x256x256_S1x8x256x256),
    StableHlo.TRef.reshape (.of main_while1b_call15_v0 : StableHlo.TRef sig ⟨S1x8x256x256, .f32⟩) (.of main_while1b_v275 : StableHlo.TRef sig ⟨S8x256x256, .f32⟩) (rfl : (.f32 : EltTy) = .f32) shapeCasts_S1x8x256x256_S8x256x256 ]
theorem while1Ops0_6_sub : (while1Ops0_6 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem while1Ops0_6_fresh : (while1Ops0_6 : List (HloOp τ sig (Elt F))).Forall fun op => op.fresh = ∅ :=
  StableHlo.forall_fresh_of_map rfl
/-- What they write, in order. -/
abbrev while1Ops0_6_W : List (Ref sig .tc) := [main_while1b_call15_c, main_while1b_call15_c_0, main_while1b_call15_c_1, main_while1b_call15_v0, main_while1b_v275]
theorem while1Ops0_6_writes : (while1Ops0_6 : List (HloOp τ sig (Elt F))).Forall fun op => op.writes ⊆ (while1Ops0_6_W.map (Proc.devRef (τ := τ) .tc)).toFinset :=
  StableHlo.forall_writes_sub_of_map rfl

/-- 5 of the operations, in order. -/
abbrev while1Ops0_7 : List (HloOp τ sig (Elt F)) :=
  [ StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.unaryIndexed (.of main_v207_6 : StableHlo.TRef sig ⟨S33x8x128x256, .f32⟩) ![(.of main_while1b_v269 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩)] (.of main_while1b_call16_v0 : StableHlo.TRef sig ⟨S1x8x128x256, .f32⟩) (fun x i => Host.dynamicSlice S1x8x128x256 x (fun k => (i k (Shape.Idx.first h_S_)).toInt) sliceFits_S33x8x128x256_S1x8x128x256),
    StableHlo.TRef.reshape (.of main_while1b_call16_v0 : StableHlo.TRef sig ⟨S1x8x128x256, .f32⟩) (.of main_while1b_v276 : StableHlo.TRef sig ⟨S8x128x256, .f32⟩) (rfl : (.f32 : EltTy) = .f32) shapeCasts_S1x8x128x256_S8x128x256 ]
theorem while1Ops0_7_sub : (while1Ops0_7 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem while1Ops0_7_fresh : (while1Ops0_7 : List (HloOp τ sig (Elt F))).Forall fun op => op.fresh = ∅ :=
  StableHlo.forall_fresh_of_map rfl
/-- What they write, in order. -/
abbrev while1Ops0_7_W : List (Ref sig .tc) := [main_while1b_call16_c, main_while1b_call16_c_0, main_while1b_call16_c_1, main_while1b_call16_v0, main_while1b_v276]
theorem while1Ops0_7_writes : (while1Ops0_7 : List (HloOp τ sig (Elt F))).Forall fun op => op.writes ⊆ (while1Ops0_7_W.map (Proc.devRef (τ := τ) .tc)).toFinset :=
  StableHlo.forall_writes_sub_of_map rfl

/-- 23 of the operations, in order. -/
abbrev while1Ops0_8 : List (HloOp τ sig (Elt F)) :=
  [ StableHlo.binary main_v207_12 main_while1b_v276 main_while1b_v277 ((fun l r => Host.dotGeneral dot_S8x256x256_S8x128x256_S8x256x128_1_2_2_1_0_0 none l r) : (⟨S8x256x256, .f32⟩ : BufTy).Contents (Elt F) → (⟨S8x128x256, .f32⟩ : BufTy).Contents (Elt F) → (⟨S8x256x128, .f32⟩ : BufTy).Contents (Elt F)),
    StableHlo.unary main_while1b_v277 main_while1b_v278 ((transpose S8x128x256 [0, 2, 1] · transposes_S8x256x128_S8x128x256_0_2_1) : (⟨S8x256x128, .f32⟩ : BufTy).Contents (Elt F) → (⟨S8x128x256, .f32⟩ : BufTy).Contents (Elt F)),
    StableHlo.binary main_v207_12 main_while1b_v273 main_while1b_v279 ((fun l r => Host.dotGeneral dot_S8x256x256_S8x128x256_S8x256x128_2_2_1_1_0_0 none l r) : (⟨S8x256x256, .f32⟩ : BufTy).Contents (Elt F) → (⟨S8x128x256, .f32⟩ : BufTy).Contents (Elt F) → (⟨S8x256x128, .f32⟩ : BufTy).Contents (Elt F)),
    StableHlo.unary main_while1b_v279 main_while1b_v280 ((transpose S8x128x256 [0, 2, 1] · transposes_S8x256x128_S8x128x256_0_2_1) : (⟨S8x256x128, .f32⟩ : BufTy).Contents (Elt F) → (⟨S8x128x256, .f32⟩ : BufTy).Contents (Elt F)),
    StableHlo.unary main_v207_10 main_while1b_v281 (broadcastInDim S8x128x256 ![0, 1, 2] bcast_S8x128x1_S8x128x256_0_1_2 : (⟨S8x128x1, .f32⟩ : BufTy).Contents (Elt F) → (⟨S8x128x256, .f32⟩ : BufTy).Contents (Elt F)),
    StableHlo.binary main_while1b_v280 main_while1b_v281 main_while1b_v282 (mulf : (⟨S8x128x256, .f32⟩ : BufTy).Contents (Elt F) → (⟨S8x128x256, .f32⟩ : BufTy).Contents (Elt F) → (⟨S8x128x256, .f32⟩ : BufTy).Contents (Elt F)),
    StableHlo.unary main_v207_9 main_while1b_v283 (broadcastInDim S8x256x256 ![0, 1, 2] bcast_S8x1x1_S8x256x256_0_1_2 : (⟨S8x1x1, .f32⟩ : BufTy).Contents (Elt F) → (⟨S8x256x256, .f32⟩ : BufTy).Contents (Elt F)),
    StableHlo.binary main_v207_12 main_while1b_v283 main_while1b_v284 (mulf : (⟨S8x256x256, .f32⟩ : BufTy).Contents (Elt F) → (⟨S8x256x256, .f32⟩ : BufTy).Contents (Elt F) → (⟨S8x256x256, .f32⟩ : BufTy).Contents (Elt F)),
    StableHlo.unary main_v207_8 main_while1b_v285 (broadcastInDim S8x128x256 ![0, 1, 2] bcast_S8x128x1_S8x128x256_0_1_2 : (⟨S8x128x1, .f32⟩ : BufTy).Contents (Elt F) → (⟨S8x128x256, .f32⟩ : BufTy).Contents (Elt F)),
    StableHlo.binary main_while1b_v270 main_while1b_v285 main_while1b_v286 (mulf : (⟨S8x128x256, .f32⟩ : BufTy).Contents (Elt F) → (⟨S8x128x256, .f32⟩ : BufTy).Contents (Elt F) → (⟨S8x128x256, .f32⟩ : BufTy).Contents (Elt F)),
    StableHlo.binary main_while1b_v286 main_while1b_v272 main_while1b_v287 ((fun l r => Host.dotGeneral dot_S8x128x256_S8x128x256_S8x256x256_1_1_2_2_0_0 none l r) : (⟨S8x128x256, .f32⟩ : BufTy).Contents (Elt F) → (⟨S8x128x256, .f32⟩ : BufTy).Contents (Elt F) → (⟨S8x256x256, .f32⟩ : BufTy).Contents (Elt F)),
    StableHlo.unary main_while1b_v287 main_while1b_v288 ((transpose S8x256x256 [0, 2, 1] · transposes_S8x256x256_S8x256x256_0_2_1) : (⟨S8x256x256, .f32⟩ : BufTy).Contents (Elt F) → (⟨S8x256x256, .f32⟩ : BufTy).Contents (Elt F)),
    StableHlo.binary main_while1b_v284 main_while1b_v288 main_while1b_v289 (addf : (⟨S8x256x256, .f32⟩ : BufTy).Contents (Elt F) → (⟨S8x256x256, .f32⟩ : BufTy).Contents (Elt F) → (⟨S8x256x256, .f32⟩ : BufTy).Contents (Elt F)),
    StableHlo.binary main_while1b_v286 main_while1b_v275 main_while1b_v290 ((fun l r => Host.dotGeneral dot_S8x128x256_S8x256x256_S8x128x256_2_2_1_1_0_0 none l r) : (⟨S8x128x256, .f32⟩ : BufTy).Contents (Elt F) → (⟨S8x256x256, .f32⟩ : BufTy).Contents (Elt F) → (⟨S8x128x256, .f32⟩ : BufTy).Contents (Elt F)),
    StableHlo.binary main_while1b_v270 main_while1b_v274 main_while1b_v291 ((fun l r => Host.dotGeneral dot_S8x128x256_S8x128x128_S8x256x128_1_1_2_2_0_0 none l r) : (⟨S8x128x256, .f32⟩ : BufTy).Contents (Elt F) → (⟨S8x128x128, .f32⟩ : BufTy).Contents (Elt F) → (⟨S8x256x128, .f32⟩ : BufTy).Contents (Elt F)),
    StableHlo.unary main_while1b_v291 main_while1b_v292 ((transpose S8x128x256 [0, 2, 1] · transposes_S8x256x128_S8x128x256_0_2_1) : (⟨S8x256x128, .f32⟩ : BufTy).Contents (Elt F) → (⟨S8x128x256, .f32⟩ : BufTy).Contents (Elt F)),
    StableHlo.binary main_while1b_v278 main_while1b_v292 main_while1b_v293 (addf : (⟨S8x128x256, .f32⟩ : BufTy).Contents (Elt F) → (⟨S8x128x256, .f32⟩ : BufTy).Contents (Elt F) → (⟨S8x128x256, .f32⟩ : BufTy).Contents (Elt F)),
    StableHlo.binary main_while1b_v270 main_while1b_v273 main_while1b_v294 ((fun l r => Host.dotGeneral dot_S8x128x256_S8x128x256_S8x128x128_2_2_1_1_0_0 none l r) : (⟨S8x128x256, .f32⟩ : BufTy).Contents (Elt F) → (⟨S8x128x256, .f32⟩ : BufTy).Contents (Elt F) → (⟨S8x128x128, .f32⟩ : BufTy).Contents (Elt F)),
    StableHlo.binary main_while1b_v294 main_v207_7 main_while1b_v295 (mulf : (⟨S8x128x128, .f32⟩ : BufTy).Contents (Elt F) → (⟨S8x128x128, .f32⟩ : BufTy).Contents (Elt F) → (⟨S8x128x128, .f32⟩ : BufTy).Contents (Elt F)),
    StableHlo.binary main_while1b_v295 main_while1b_v272 main_while1b_v296 ((fun l r => Host.dotGeneral dot_S8x128x128_S8x128x256_S8x128x256_1_1_2_2_0_0 none l r) : (⟨S8x128x128, .f32⟩ : BufTy).Contents (Elt F) → (⟨S8x128x256, .f32⟩ : BufTy).Contents (Elt F) → (⟨S8x128x256, .f32⟩ : BufTy).Contents (Elt F)),
    StableHlo.binary main_while1b_v282 main_while1b_v296 main_while1b_v297 (addf : (⟨S8x128x256, .f32⟩ : BufTy).Contents (Elt F) → (⟨S8x128x256, .f32⟩ : BufTy).Contents (Elt F) → (⟨S8x128x256, .f32⟩ : BufTy).Contents (Elt F)),
    StableHlo.binary main_while1b_v295 main_while1b_v271 main_while1b_v298 ((fun l r => Host.dotGeneral dot_S8x128x128_S8x128x256_S8x128x256_2_1_1_2_0_0 none l r) : (⟨S8x128x128, .f32⟩ : BufTy).Contents (Elt F) → (⟨S8x128x256, .f32⟩ : BufTy).Contents (Elt F) → (⟨S8x128x256, .f32⟩ : BufTy).Contents (Elt F)),
    StableHlo.binary main_while1b_v290 main_while1b_v298 main_while1b_v299 (addf : (⟨S8x128x256, .f32⟩ : BufTy).Contents (Elt F) → (⟨S8x128x256, .f32⟩ : BufTy).Contents (Elt F) → (⟨S8x128x256, .f32⟩ : BufTy).Contents (Elt F)) ]
theorem while1Ops0_8_sub : (while1Ops0_8 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
theorem while1Ops0_8_fresh : (while1Ops0_8 : List (HloOp τ sig (Elt F))).Forall fun op => op.fresh = ∅ :=
  StableHlo.forall_fresh_of_map rfl
/-- What they write, in order. -/
abbrev while1Ops0_8_W : List (Ref sig .tc) := [main_while1b_v277, main_while1b_v278, main_while1b_v279, main_while1b_v280, main_while1b_v281, main_while1b_v282, main_while1b_v283, main_while1b_v284, main_while1b_v285, main_while1b_v286, main_while1b_v287, main_while1b_v288, main_while1b_v289, main_while1b_v290, main_while1b_v291, main_while1b_v292, main_while1b_v293, main_while1b_v294, main_while1b_v295, main_while1b_v296, main_while1b_v297, main_while1b_v298, main_while1b_v299]
theorem while1Ops0_8_writes : (while1Ops0_8 : List (HloOp τ sig (Elt F))).Forall fun op => op.writes ⊆ (while1Ops0_8_W.map (Proc.devRef (τ := τ) .tc)).toFinset :=
  StableHlo.forall_writes_sub_of_map rfl

/-- 5 of the operations, in order. -/
abbrev while1Ops0_9 : List (HloOp τ sig (Elt F)) :=
  [ StableHlo.TRef.unary (.of main_while1b_v299 : StableHlo.TRef sig ⟨S8x128x256, .f32⟩) (.of main_while1b_call17_v0 : StableHlo.TRef sig ⟨S1x8x128x256, .f32⟩) (broadcastInDim S1x8x128x256 ![1, 2, 3] bcast_S8x128x256_S1x8x128x256_1_2_3),
    StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.binaryIndexed (.of main_v207_13 : StableHlo.TRef sig ⟨S33x8x128x256, .f32⟩) (.of main_while1b_call17_v0 : StableHlo.TRef sig ⟨S1x8x128x256, .f32⟩) ![(.of main_while1b_v269 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩)] (.of main_while1b_v300 : StableHlo.TRef sig ⟨S33x8x128x256, .f32⟩) (fun x u i => Host.dynamicUpdateSlice x u (fun k => (i k (Shape.Idx.first h_S_)).toInt) updateFits_S33x8x128x256_S1x8x128x256) ]
theorem while1Ops0_9_sub : (while1Ops0_9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem while1Ops0_9_fresh : (while1Ops0_9 : List (HloOp τ sig (Elt F))).Forall fun op => op.fresh = ∅ :=
  StableHlo.forall_fresh_of_map rfl
/-- What they write, in order. -/
abbrev while1Ops0_9_W : List (Ref sig .tc) := [main_while1b_call17_v0, main_while1b_call17_c, main_while1b_call17_c_0, main_while1b_call17_c_1, main_while1b_v300]
theorem while1Ops0_9_writes : (while1Ops0_9 : List (HloOp τ sig (Elt F))).Forall fun op => op.writes ⊆ (while1Ops0_9_W.map (Proc.devRef (τ := τ) .tc)).toFinset :=
  StableHlo.forall_writes_sub_of_map rfl

/-- 5 of the operations, in order. -/
abbrev while1Ops0_10 : List (HloOp τ sig (Elt F)) :=
  [ StableHlo.TRef.unary (.of main_while1b_v297 : StableHlo.TRef sig ⟨S8x128x256, .f32⟩) (.of main_while1b_call18_v0 : StableHlo.TRef sig ⟨S1x8x128x256, .f32⟩) (broadcastInDim S1x8x128x256 ![1, 2, 3] bcast_S8x128x256_S1x8x128x256_1_2_3),
    StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.binaryIndexed (.of main_v207_14 : StableHlo.TRef sig ⟨S33x8x128x256, .f32⟩) (.of main_while1b_call18_v0 : StableHlo.TRef sig ⟨S1x8x128x256, .f32⟩) ![(.of main_while1b_v269 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩)] (.of main_while1b_v301 : StableHlo.TRef sig ⟨S33x8x128x256, .f32⟩) (fun x u i => Host.dynamicUpdateSlice x u (fun k => (i k (Shape.Idx.first h_S_)).toInt) updateFits_S33x8x128x256_S1x8x128x256) ]
theorem while1Ops0_10_sub : (while1Ops0_10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem while1Ops0_10_fresh : (while1Ops0_10 : List (HloOp τ sig (Elt F))).Forall fun op => op.fresh = ∅ :=
  StableHlo.forall_fresh_of_map rfl
/-- What they write, in order. -/
abbrev while1Ops0_10_W : List (Ref sig .tc) := [main_while1b_call18_v0, main_while1b_call18_c, main_while1b_call18_c_0, main_while1b_call18_c_1, main_while1b_v301]
theorem while1Ops0_10_writes : (while1Ops0_10 : List (HloOp τ sig (Elt F))).Forall fun op => op.writes ⊆ (while1Ops0_10_W.map (Proc.devRef (τ := τ) .tc)).toFinset :=
  StableHlo.forall_writes_sub_of_map rfl

/-- 5 of the operations, in order. -/
abbrev while1Ops0_11 : List (HloOp τ sig (Elt F)) :=
  [ StableHlo.TRef.unary (.of main_while1b_v293 : StableHlo.TRef sig ⟨S8x128x256, .f32⟩) (.of main_while1b_call19_v0 : StableHlo.TRef sig ⟨S1x8x128x256, .f32⟩) (broadcastInDim S1x8x128x256 ![1, 2, 3] bcast_S8x128x256_S1x8x128x256_1_2_3),
    StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.binaryIndexed (.of main_v207_15 : StableHlo.TRef sig ⟨S33x8x128x256, .f32⟩) (.of main_while1b_call19_v0 : StableHlo.TRef sig ⟨S1x8x128x256, .f32⟩) ![(.of main_while1b_v269 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩)] (.of main_while1b_v302 : StableHlo.TRef sig ⟨S33x8x128x256, .f32⟩) (fun x u i => Host.dynamicUpdateSlice x u (fun k => (i k (Shape.Idx.first h_S_)).toInt) updateFits_S33x8x128x256_S1x8x128x256) ]
theorem while1Ops0_11_sub : (while1Ops0_11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem while1Ops0_11_fresh : (while1Ops0_11 : List (HloOp τ sig (Elt F))).Forall fun op => op.fresh = ∅ :=
  StableHlo.forall_fresh_of_map rfl
/-- What they write, in order. -/
abbrev while1Ops0_11_W : List (Ref sig .tc) := [main_while1b_call19_v0, main_while1b_call19_c, main_while1b_call19_c_0, main_while1b_call19_c_1, main_while1b_v302]
theorem while1Ops0_11_writes : (while1Ops0_11 : List (HloOp τ sig (Elt F))).Forall fun op => op.writes ⊆ (while1Ops0_11_W.map (Proc.devRef (τ := τ) .tc)).toFinset :=
  StableHlo.forall_writes_sub_of_map rfl

/-- 7 of the operations, in order. -/
abbrev while1Ops0_12 : List (HloOp τ sig (Elt F)) :=
  [ StableHlo.nullary main_while1b_c_66 (constantI S_ 32 1#32),
    StableHlo.binary main_v207_11 main_while1b_c_66 main_while1b_v303 (addi : (⟨S_, .i32⟩ : BufTy).Contents (Elt F) → (⟨S_, .i32⟩ : BufTy).Contents (Elt F) → (⟨S_, .i32⟩ : BufTy).Contents (Elt F)),
    StableHlo.unary main_while1b_v303 main_v207_11 id,
    StableHlo.unary main_while1b_v289 main_v207_12 id,
    StableHlo.unary main_while1b_v300 main_v207_13 id,
    StableHlo.unary main_while1b_v301 main_v207_14 id,
    StableHlo.unary main_while1b_v302 main_v207_15 id ]
theorem while1Ops0_12_sub : (while1Ops0_12 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
theorem while1Ops0_12_fresh : (while1Ops0_12 : List (HloOp τ sig (Elt F))).Forall fun op => op.fresh = ∅ :=
  StableHlo.forall_fresh_of_map rfl
/-- What they write, in order. -/
abbrev while1Ops0_12_W : List (Ref sig .tc) := [main_while1b_c_66, main_while1b_v303, main_v207_11, main_v207_12, main_v207_13, main_v207_14, main_v207_15]
theorem while1Ops0_12_writes : (while1Ops0_12 : List (HloOp τ sig (Elt F))).Forall fun op => op.writes ⊆ (while1Ops0_12_W.map (Proc.devRef (τ := τ) .tc)).toFinset :=
  StableHlo.forall_writes_sub_of_map rfl

theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, StableHlo.chain_seq_cons, Pipeline.chain_cons, Pipeline.chain_cons, Pipeline.chain_cons, Pipeline.chain_cons, StableHlo.chain_seq_cons]
  chain_rfl

theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8,
    StableHlo.seq while1Ops0_9,
    StableHlo.seq while1Ops0_10,
    StableHlo.seq while1Ops0_11,
    StableHlo.seq while1Ops0_12 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, StableHlo.chain_seq_cons]
  chain_rfl

end Cert.ReferenceIdeal.Ret

end
-- ==== Proof.RefOpsA.lean ====
/- The reference: its operations ahead of the first loop. -/
module

public import Idealize.ShloMosaic.Lib.Pipeline.Kit
public import Idealize.ShloMosaic.Lib.Pipeline.Regions
public import Idealize.ShloMosaic.Lib.StableHlo.RunLoop
public import proofs.«01_k».proof.Proof.Gen.ReferenceIdeal

@[expose] public section

set_option maxRecDepth 100000

noncomputable section

namespace Cert.ReferenceIdeal.Ret

open Idealize.ShloMosaic Idealize.ShloMosaic.TcCoe Idealize.ShloMosaic.Tactic
open Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

/-! The operations ahead of the first loop, and how they follow one another. -/

/-- 60 of the operations, in order. -/
abbrev main_part0_ops0 : List (HloOp τ sig (Elt F)) :=
  ( StableHlo.unary main_arg0 main_v0 ((extractStridedSlice S4112x2048 ![0, 0] · slices_S4112x14336_S4112x2048_0_0) : (⟨S4112x14336, .f32⟩ : BufTy).Contents (Elt F) → (⟨S4112x2048, .f32⟩ : BufTy).Contents (Elt F))
  :: StableHlo.unary main_arg0 main_v1 ((extractStridedSlice S4112x2048 ![0, 2048] · slices_S4112x14336_S4112x2048_0_2048) : (⟨S4112x14336, .f32⟩ : BufTy).Contents (Elt F) → (⟨S4112x2048, .f32⟩ : BufTy).Contents (Elt F))
  :: StableHlo.unary main_arg0 main_v2 ((extractStridedSlice S4112x2048 ![0, 4096] · slices_S4112x14336_S4112x2048_0_4096) : (⟨S4112x14336, .f32⟩ : BufTy).Contents (Elt F) → (⟨S4112x2048, .f32⟩ : BufTy).Contents (Elt F))
  :: StableHlo.unary main_arg0 main_v3 ((extractStridedSlice S4112x2048 ![0, 6144] · slices_S4112x14336_S4112x2048_0_6144) : (⟨S4112x14336, .f32⟩ : BufTy).Contents (Elt F) → (⟨S4112x2048, .f32⟩ : BufTy).Contents (Elt F))
  :: StableHlo.nullary main_cst (constant S_ .f32 0x00000000#32)
  :: StableHlo.unary main_cst main_v4 (broadcastInDim S112x2048 ![] bcast_S_S112x2048 : (⟨S_, .f32⟩ : BufTy).Contents (Elt F) → (⟨S112x2048, .f32⟩ : BufTy).Contents (Elt F))
  :: StableHlo.binary main_v4 main_v0 main_v5 ((fun a b => concatenate S4224x2048 0 [⟨S112x2048, a⟩, ⟨S4112x2048, b⟩] concatenates_S112x2048_S4112x2048_S4224x2048_d0) : (⟨S112x2048, .f32⟩ : BufTy).Contents (Elt F) → (⟨S4112x2048, .f32⟩ : BufTy).Contents (Elt F) → (⟨S4224x2048, .f32⟩ : BufTy).Contents (Elt F))
  :: StableHlo.nullary main_cst_0 (constant S_ .f32 0x00000000#32)
  :: StableHlo.unary main_cst_0 main_v6 (broadcastInDim S112x2048 ![] bcast_S_S112x2048 : (⟨S_, .f32⟩ : BufTy).Contents (Elt F) → (⟨S112x2048, .f32⟩ : BufTy).Contents (Elt F))
  :: StableHlo.nullary main_cst_1 (constant S_ .f32 0x00000000#32)
  :: StableHlo.unary main_cst_1 main_v7 (broadcastInDim S112x2048 ![] bcast_S_S112x2048 : (⟨S_, .f32⟩ : BufTy).Contents (Elt F) → (⟨S112x2048, .f32⟩ : BufTy).Contents (Elt F))
  :: StableHlo.binary main_v7 main_v1 main_v8 ((fun a b => concatenate S4224x2048 0 [⟨S112x2048, a⟩, ⟨S4112x2048, b⟩] concatenates_S112x2048_S4112x2048_S4224x2048_d0) : (⟨S112x2048, .f32⟩ : BufTy).Contents (Elt F) → (⟨S4112x2048, .f32⟩ : BufTy).Contents (Elt F) → (⟨S4224x2048, .f32⟩ : BufTy).Contents (Elt F))
  :: StableHlo.nullary main_cst_2 (constant S_ .f32 0x00000000#32)
  :: StableHlo.unary main_cst_2 main_v9 (broadcastInDim S112x2048 ![] bcast_S_S112x2048 : (⟨S_, .f32⟩ : BufTy).Contents (Elt F) → (⟨S112x2048, .f32⟩ : BufTy).Contents (Elt F))
  :: StableHlo.nullary main_cst_3 (constant S_ .f32 0x00000000#32)
  :: StableHlo.unary main_cst_3 main_v10 (broadcastInDim S112x2048 ![] bcast_S_S112x2048 : (⟨S_, .f32⟩ : BufTy).Contents (Elt F) → (⟨S112x2048, .f32⟩ : BufTy).Contents (Elt F))
  :: StableHlo.binary main_v10 main_v2 main_v11 ((fun a b => concatenate S4224x2048 0 [⟨S112x2048, a⟩, ⟨S4112x2048, b⟩] concatenates_S112x2048_S4112x2048_S4224x2048_d0) : (⟨S112x2048, .f32⟩ : BufTy).Contents (Elt F) → (⟨S4112x2048, .f32⟩ : BufTy).Contents (Elt F) → (⟨S4224x2048, .f32⟩ : BufTy).Contents (Elt F))
  :: StableHlo.nullary main_cst_4 (constant S_ .f32 0x00000000#32)
  :: StableHlo.unary main_cst_4 main_v12 (broadcastInDim S112x2048 ![] bcast_S_S112x2048 : (⟨S_, .f32⟩ : BufTy).Contents (Elt F) → (⟨S112x2048, .f32⟩ : BufTy).Contents (Elt F))
  :: StableHlo.nullary main_cst_5 (constant S_ .f32 0x00000000#32)
  :: StableHlo.unary main_cst_5 main_v13 (broadcastInDim S112x2048 ![] bcast_S_S112x2048 : (⟨S_, .f32⟩ : BufTy).Contents (Elt F) → (⟨S112x2048, .f32⟩ : BufTy).Contents (Elt F))
  :: StableHlo.binary main_v13 main_v3 main_v14 ((fun a b => concatenate S4224x2048 0 [⟨S112x2048, a⟩, ⟨S4112x2048, b⟩] concatenates_S112x2048_S4112x2048_S4224x2048_d0) : (⟨S112x2048, .f32⟩ : BufTy).Contents (Elt F) → (⟨S4112x2048, .f32⟩ : BufTy).Contents (Elt F) → (⟨S4224x2048, .f32⟩ : BufTy).Contents (Elt F))
  :: StableHlo.nullary main_cst_6 (constant S_ .f32 0x00000000#32)
  :: StableHlo.unary main_cst_6 main_v15 (broadcastInDim S112x2048 ![] bcast_S_S112x2048 : (⟨S_, .f32⟩ : BufTy).Contents (Elt F) → (⟨S112x2048, .f32⟩ : BufTy).Contents (Elt F))
  :: StableHlo.nullary main_v16 (iotaInDim S4224 32 0)
  :: StableHlo.nullary main_c (constantI S_ 32 112#32)
  :: StableHlo.unary main_c main_v17 (broadcastInDim S4224 ![] bcast_S_S4224 : (⟨S_, .i32⟩ : BufTy).Contents (Elt F) → (⟨S4224, .i32⟩ : BufTy).Contents (Elt F))
  :: StableHlo.binary main_v16 main_v17 main_v18 (cmpi .sge : (⟨S4224, .i32⟩ : BufTy).Contents (Elt F) → (⟨S4224, .i32⟩ : BufTy).Contents (Elt F) → (⟨S4224, .i1⟩ : BufTy).Contents (Elt F))
  :: StableHlo.unary main_v18 main_v19 (uitofp .f32 : (⟨S4224, .i1⟩ : BufTy).Contents (Elt F) → (⟨S4224, .f32⟩ : BufTy).Contents (Elt F))
  :: StableHlo.unary main_v19 main_v20 (broadcastInDim S4224x1x1 ![0] bcast_S4224_S4224x1x1_0 : (⟨S4224, .f32⟩ : BufTy).Contents (Elt F) → (⟨S4224x1x1, .f32⟩ : BufTy).Contents (Elt F))
  :: StableHlo.nullary main_v21 (iotaInDim S4224 32 0)
  :: StableHlo.nullary main_c_7 (constantI S_ 32 112#32)
  :: StableHlo.unary main_c_7 main_v22 (broadcastInDim S4224 ![] bcast_S_S4224 : (⟨S_, .i32⟩ : BufTy).Contents (Elt F) → (⟨S4224, .i32⟩ : BufTy).Contents (Elt F))
  :: StableHlo.binary main_v21 main_v22 main_v23 (subi : (⟨S4224, .i32⟩ : BufTy).Contents (Elt F) → (⟨S4224, .i32⟩ : BufTy).Contents (Elt F) → (⟨S4224, .i32⟩ : BufTy).Contents (Elt F))
  :: StableHlo.unary main_v23 main_v24 (sitofp .f32 : (⟨S4224, .i32⟩ : BufTy).Contents (Elt F) → (⟨S4224, .f32⟩ : BufTy).Contents (Elt F))
  :: StableHlo.reshape main_v5 main_v25 (rfl : (.f32 : EltTy) = .f32) shapeCasts_S4224x2048_S4224x8x256
  :: StableHlo.nullary main_v26 (sitofp .f32 (iotaInDim S128 32 0))
  :: StableHlo.unary main_v26 main_v27 (Host.negf : (⟨S128, .f32⟩ : BufTy).Contents (Elt F) → (⟨S128, .f32⟩ : BufTy).Contents (Elt F))
  :: StableHlo.nullary main_cst_8 (constant S_ .f32 0x43000000#32)
  :: StableHlo.unary main_cst_8 main_v28 (broadcastInDim S128 ![] bcast_S_S128 : (⟨S_, .f32⟩ : BufTy).Contents (Elt F) → (⟨S128, .f32⟩ : BufTy).Contents (Elt F))
  :: StableHlo.binary main_v27 main_v28 main_v29 (Host.divf : (⟨S128, .f32⟩ : BufTy).Contents (Elt F) → (⟨S128, .f32⟩ : BufTy).Contents (Elt F) → (⟨S128, .f32⟩ : BufTy).Contents (Elt F))
  :: StableHlo.nullary main_cst_9 (constant S_ .f32 0x461C4000#32)
  :: StableHlo.unary main_cst_9 main_v30 (broadcastInDim S128 ![] bcast_S_S128 : (⟨S_, .f32⟩ : BufTy).Contents (Elt F) → (⟨S128, .f32⟩ : BufTy).Contents (Elt F))
  :: StableHlo.binary main_v30 main_v29 main_v31 (Host.powf : (⟨S128, .f32⟩ : BufTy).Contents (Elt F) → (⟨S128, .f32⟩ : BufTy).Contents (Elt F) → (⟨S128, .f32⟩ : BufTy).Contents (Elt F))
  :: StableHlo.unary main_v24 main_v32 (broadcastInDim S4224x1 ![0] bcast_S4224_S4224x1_0 : (⟨S4224, .f32⟩ : BufTy).Contents (Elt F) → (⟨S4224x1, .f32⟩ : BufTy).Contents (Elt F))
  :: StableHlo.unary main_v31 main_v33 (broadcastInDim S1x128 ![1] bcast_S128_S1x128_1 : (⟨S128, .f32⟩ : BufTy).Contents (Elt F) → (⟨S1x128, .f32⟩ : BufTy).Contents (Elt F))
  :: StableHlo.unary main_v32 main_v34 (broadcastInDim S4224x128 ![0, 1] bcast_S4224x1_S4224x128_0_1 : (⟨S4224x1, .f32⟩ : BufTy).Contents (Elt F) → (⟨S4224x128, .f32⟩ : BufTy).Contents (Elt F))
  :: StableHlo.unary main_v33 main_v35 (broadcastInDim S4224x128 ![0, 1] bcast_S1x128_S4224x128_0_1 : (⟨S1x128, .f32⟩ : BufTy).Contents (Elt F) → (⟨S4224x128, .f32⟩ : BufTy).Contents (Elt F))
  :: StableHlo.binary main_v34 main_v35 main_v36 (mulf : (⟨S4224x128, .f32⟩ : BufTy).Contents (Elt F) → (⟨S4224x128, .f32⟩ : BufTy).Contents (Elt F) → (⟨S4224x128, .f32⟩ : BufTy).Contents (Elt F))
  :: StableHlo.unary main_v36 main_v37 (Host.cos : (⟨S4224x128, .f32⟩ : BufTy).Contents (Elt F) → (⟨S4224x128, .f32⟩ : BufTy).Contents (Elt F))
  :: StableHlo.unary main_v37 main_v38 (broadcastInDim S4224x1x128 ![0, 2] bcast_S4224x128_S4224x1x128_0_2 : (⟨S4224x128, .f32⟩ : BufTy).Contents (Elt F) → (⟨S4224x1x128, .f32⟩ : BufTy).Contents (Elt F))
  :: StableHlo.unary main_v36 main_v39 (Host.sin : (⟨S4224x128, .f32⟩ : BufTy).Contents (Elt F) → (⟨S4224x128, .f32⟩ : BufTy).Contents (Elt F))
  :: StableHlo.unary main_v39 main_v40 (broadcastInDim S4224x1x128 ![0, 2] bcast_S4224x128_S4224x1x128_0_2 : (⟨S4224x128, .f32⟩ : BufTy).Contents (Elt F) → (⟨S4224x1x128, .f32⟩ : BufTy).Contents (Elt F))
  :: StableHlo.unary main_v25 main_v41 ((extractStridedSlice S4224x8x128 ![0, 0, 0] · slices_S4224x8x256_S4224x8x128_0_0_0) : (⟨S4224x8x256, .f32⟩ : BufTy).Contents (Elt F) → (⟨S4224x8x128, .f32⟩ : BufTy).Contents (Elt F))
  :: StableHlo.unary main_v25 main_v42 ((extractStridedSlice S4224x8x128 ![0, 0, 128] · slices_S4224x8x256_S4224x8x128_0_0_128) : (⟨S4224x8x256, .f32⟩ : BufTy).Contents (Elt F) → (⟨S4224x8x128, .f32⟩ : BufTy).Contents (Elt F))
  :: StableHlo.unary main_v38 main_v43 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v41 main_v43 main_v44 (mulf : (⟨S4224x8x128, .f32⟩ : BufTy).Contents (Elt F) → (⟨S4224x8x128, .f32⟩ : BufTy).Contents (Elt F) → (⟨S4224x8x128, .f32⟩ : BufTy).Contents (Elt F))
  :: StableHlo.unary main_v40 main_v45 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v42 main_v45 main_v46 (mulf : (⟨S4224x8x128, .f32⟩ : BufTy).Contents (Elt F) → (⟨S4224x8x128, .f32⟩ : BufTy).Contents (Elt F) → (⟨S4224x8x128, .f32⟩ : BufTy).Contents (Elt F))
  :: StableHlo.binary main_v44 main_v46 main_v47 (subf : (⟨S4224x8x128, .f32⟩ : BufTy).Contents (Elt F) → (⟨S4224x8x128, .f32⟩ : BufTy).Contents (Elt F) → (⟨S4224x8x128, .f32⟩ : BufTy).Contents (Elt F))
  :: [] )
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.nullary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub ..⟩
theorem main_part0_ops0_fresh : (main_part0_ops0 : List (HloOp τ sig (Elt F))).Forall fun op => op.fresh = ∅ :=
  StableHlo.forall_fresh_of_map rfl
/-- What they write, in order. -/
abbrev main_part0_ops0_W : List (Ref sig .tc) := [main_v0, main_v1, main_v2, main_v3, main_cst, main_v4, main_v5, main_cst_0, main_v6, main_cst_1, main_v7, main_v8, main_cst_2, main_v9, main_cst_3, main_v10, main_v11, main_cst_4, main_v12, main_cst_5, main_v13, main_v14, main_cst_6, main_v15, main_v16, main_c, main_v17, main_v18, main_v19, main_v20, main_v21, main_c_7, main_v22, main_v23, main_v24, main_v25, main_v26, main_v27, main_cst_8, main_v28, main_v29, main_cst_9, main_v30, main_v31, main_v32, main_v33, main_v34, main_v35, main_v36, main_v37, main_v38, main_v39, main_v40, main_v41, main_v42, main_v43, main_v44, main_v45, main_v46, main_v47]
theorem main_part0_ops0_writes : (main_part0_ops0 : List (HloOp τ sig (Elt F))).Forall fun op => op.writes ⊆ (main_part0_ops0_W.map (Proc.devRef (τ := τ) .tc)).toFinset :=
  StableHlo.forall_writes_sub_of_map rfl

/-- 60 of the operations, in order. -/
abbrev main_part1_ops0 : List (HloOp τ sig (Elt F)) :=
  ( StableHlo.unary main_v40 main_v48 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v41 main_v48 main_v49 (mulf : (⟨S4224x8x128, .f32⟩ : BufTy).Contents (Elt F) → (⟨S4224x8x128, .f32⟩ : BufTy).Contents (Elt F) → (⟨S4224x8x128, .f32⟩ : BufTy).Contents (Elt F))
  :: StableHlo.unary main_v38 main_v50 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v42 main_v50 main_v51 (mulf : (⟨S4224x8x128, .f32⟩ : BufTy).Contents (Elt F) → (⟨S4224x8x128, .f32⟩ : BufTy).Contents (Elt F) → (⟨S4224x8x128, .f32⟩ : BufTy).Contents (Elt F))
  :: StableHlo.binary main_v49 main_v51 main_v52 (addf : (⟨S4224x8x128, .f32⟩ : BufTy).Contents (Elt F) → (⟨S4224x8x128, .f32⟩ : BufTy).Contents (Elt F) → (⟨S4224x8x128, .f32⟩ : BufTy).Contents (Elt F))
  :: StableHlo.binary main_v47 main_v52 main_v53 ((fun a b => concatenate S4224x8x256 2 [⟨S4224x8x128, a⟩, ⟨S4224x8x128, b⟩] concatenates_S4224x8x128_S4224x8x128_S4224x8x256_d2) : (⟨S4224x8x128, .f32⟩ : BufTy).Contents (Elt F) → (⟨S4224x8x128, .f32⟩ : BufTy).Contents (Elt F) → (⟨S4224x8x256, .f32⟩ : BufTy).Contents (Elt F))
  :: StableHlo.nullary main_cst_10 (constant S_ .f32 0x3D800000#32)
  :: StableHlo.unary main_cst_10 main_v54 (broadcastInDim S4224x8x256 ![] bcast_S_S4224x8x256 : (⟨S_, .f32⟩ : BufTy).Contents (Elt F) → (⟨S4224x8x256, .f32⟩ : BufTy).Contents (Elt F))
  :: StableHlo.binary main_v53 main_v54 main_v55 (mulf : (⟨S4224x8x256, .f32⟩ : BufTy).Contents (Elt F) → (⟨S4224x8x256, .f32⟩ : BufTy).Contents (Elt F) → (⟨S4224x8x256, .f32⟩ : BufTy).Contents (Elt F))
  :: StableHlo.reshape main_v8 main_v56 (rfl : (.f32 : EltTy) = .f32) shapeCasts_S4224x2048_S4224x8x256
  :: StableHlo.nullary main_v57 (sitofp .f32 (iotaInDim S128 32 0))
  :: StableHlo.unary main_v57 main_v58 (Host.negf : (⟨S128, .f32⟩ : BufTy).Contents (Elt F) → (⟨S128, .f32⟩ : BufTy).Contents (Elt F))
  :: StableHlo.nullary main_cst_11 (constant S_ .f32 0x43000000#32)
  :: StableHlo.unary main_cst_11 main_v59 (broadcastInDim S128 ![] bcast_S_S128 : (⟨S_, .f32⟩ : BufTy).Contents (Elt F) → (⟨S128, .f32⟩ : BufTy).Contents (Elt F))
  :: StableHlo.binary main_v58 main_v59 main_v60 (Host.divf : (⟨S128, .f32⟩ : BufTy).Contents (Elt F) → (⟨S128, .f32⟩ : BufTy).Contents (Elt F) → (⟨S128, .f32⟩ : BufTy).Contents (Elt F))
  :: StableHlo.nullary main_cst_12 (constant S_ .f32 0x461C4000#32)
  :: StableHlo.unary main_cst_12 main_v61 (broadcastInDim S128 ![] bcast_S_S128 : (⟨S_, .f32⟩ : BufTy).Contents (Elt F) → (⟨S128, .f32⟩ : BufTy).Contents (Elt F))
  :: StableHlo.binary main_v61 main_v60 main_v62 (Host.powf : (⟨S128, .f32⟩ : BufTy).Contents (Elt F) → (⟨S128, .f32⟩ : BufTy).Contents (Elt F) → (⟨S128, .f32⟩ : BufTy).Contents (Elt F))
  :: StableHlo.unary main_v24 main_v63 (broadcastInDim S4224x1 ![0] bcast_S4224_S4224x1_0 : (⟨S4224, .f32⟩ : BufTy).Contents (Elt F) → (⟨S4224x1, .f32⟩ : BufTy).Contents (Elt F))
  :: StableHlo.unary main_v62 main_v64 (broadcastInDim S1x128 ![1] bcast_S128_S1x128_1 : (⟨S128, .f32⟩ : BufTy).Contents (Elt F) → (⟨S1x128, .f32⟩ : BufTy).Contents (Elt F))
  :: StableHlo.unary main_v63 main_v65 (broadcastInDim S4224x128 ![0, 1] bcast_S4224x1_S4224x128_0_1 : (⟨S4224x1, .f32⟩ : BufTy).Contents (Elt F) → (⟨S4224x128, .f32⟩ : BufTy).Contents (Elt F))
  :: StableHlo.unary main_v64 main_v66 (broadcastInDim S4224x128 ![0, 1] bcast_S1x128_S4224x128_0_1 : (⟨S1x128, .f32⟩ : BufTy).Contents (Elt F) → (⟨S4224x128, .f32⟩ : BufTy).Contents (Elt F))
  :: StableHlo.binary main_v65 main_v66 main_v67 (mulf : (⟨S4224x128, .f32⟩ : BufTy).Contents (Elt F) → (⟨S4224x128, .f32⟩ : BufTy).Contents (Elt F) → (⟨S4224x128, .f32⟩ : BufTy).Contents (Elt F))
  :: StableHlo.unary main_v67 main_v68 (Host.cos : (⟨S4224x128, .f32⟩ : BufTy).Contents (Elt F) → (⟨S4224x128, .f32⟩ : BufTy).Contents (Elt F))
  :: StableHlo.unary main_v68 main_v69 (broadcastInDim S4224x1x128 ![0, 2] bcast_S4224x128_S4224x1x128_0_2 : (⟨S4224x128, .f32⟩ : BufTy).Contents (Elt F) → (⟨S4224x1x128, .f32⟩ : BufTy).Contents (Elt F))
  :: StableHlo.unary main_v67 main_v70 (Host.sin : (⟨S4224x128, .f32⟩ : BufTy).Contents (Elt F) → (⟨S4224x128, .f32⟩ : BufTy).Contents (Elt F))
  :: StableHlo.unary main_v70 main_v71 (broadcastInDim S4224x1x128 ![0, 2] bcast_S4224x128_S4224x1x128_0_2 : (⟨S4224x128, .f32⟩ : BufTy).Contents (Elt F) → (⟨S4224x1x128, .f32⟩ : BufTy).Contents (Elt F))
  :: StableHlo.unary main_v56 main_v72 ((extractStridedSlice S4224x8x128 ![0, 0, 0] · slices_S4224x8x256_S4224x8x128_0_0_0) : (⟨S4224x8x256, .f32⟩ : BufTy).Contents (Elt F) → (⟨S4224x8x128, .f32⟩ : BufTy).Contents (Elt F))
  :: StableHlo.unary main_v56 main_v73 ((extractStridedSlice S4224x8x128 ![0, 0, 128] · slices_S4224x8x256_S4224x8x128_0_0_128) : (⟨S4224x8x256, .f32⟩ : BufTy).Contents (Elt F) → (⟨S4224x8x128, .f32⟩ : BufTy).Contents (Elt F))
  :: StableHlo.unary main_v69 main_v74 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v72 main_v74 main_v75 (mulf : (⟨S4224x8x128, .f32⟩ : BufTy).Contents (Elt F) → (⟨S4224x8x128, .f32⟩ : BufTy).Contents (Elt F) → (⟨S4224x8x128, .f32⟩ : BufTy).Contents (Elt F))
  :: StableHlo.unary main_v71 main_v76 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v73 main_v76 main_v77 (mulf : (⟨S4224x8x128, .f32⟩ : BufTy).Contents (Elt F) → (⟨S4224x8x128, .f32⟩ : BufTy).Contents (Elt F) → (⟨S4224x8x128, .f32⟩ : BufTy).Contents (Elt F))
  :: StableHlo.binary main_v75 main_v77 main_v78 (subf : (⟨S4224x8x128, .f32⟩ : BufTy).Contents (Elt F) → (⟨S4224x8x128, .f32⟩ : BufTy).Contents (Elt F) → (⟨S4224x8x128, .f32⟩ : BufTy).Contents (Elt F))
  :: StableHlo.unary main_v71 main_v79 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v72 main_v79 main_v80 (mulf : (⟨S4224x8x128, .f32⟩ : BufTy).Contents (Elt F) → (⟨S4224x8x128, .f32⟩ : BufTy).Contents (Elt F) → (⟨S4224x8x128, .f32⟩ : BufTy).Contents (Elt F))
  :: StableHlo.unary main_v69 main_v81 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v73 main_v81 main_v82 (mulf : (⟨S4224x8x128, .f32⟩ : BufTy).Contents (Elt F) → (⟨S4224x8x128, .f32⟩ : BufTy).Contents (Elt F) → (⟨S4224x8x128, .f32⟩ : BufTy).Contents (Elt F))
  :: StableHlo.binary main_v80 main_v82 main_v83 (addf : (⟨S4224x8x128, .f32⟩ : BufTy).Contents (Elt F) → (⟨S4224x8x128, .f32⟩ : BufTy).Contents (Elt F) → (⟨S4224x8x128, .f32⟩ : BufTy).Contents (Elt F))
  :: StableHlo.binary main_v78 main_v83 main_v84 ((fun a b => concatenate S4224x8x256 2 [⟨S4224x8x128, a⟩, ⟨S4224x8x128, b⟩] concatenates_S4224x8x128_S4224x8x128_S4224x8x256_d2) : (⟨S4224x8x128, .f32⟩ : BufTy).Contents (Elt F) → (⟨S4224x8x128, .f32⟩ : BufTy).Contents (Elt F) → (⟨S4224x8x256, .f32⟩ : BufTy).Contents (Elt F))
  :: StableHlo.unary main_v20 main_v85 (broadcastInDim S4224x8x256 ![0, 1, 2] bcast_S4224x1x1_S4224x8x256_0_1_2 : (⟨S4224x1x1, .f32⟩ : BufTy).Contents (Elt F) → (⟨S4224x8x256, .f32⟩ : BufTy).Contents (Elt F))
  :: StableHlo.binary main_v84 main_v85 main_v86 (mulf : (⟨S4224x8x256, .f32⟩ : BufTy).Contents (Elt F) → (⟨S4224x8x256, .f32⟩ : BufTy).Contents (Elt F) → (⟨S4224x8x256, .f32⟩ : BufTy).Contents (Elt F))
  :: StableHlo.reshape main_v11 main_v87 (rfl : (.f32 : EltTy) = .f32) shapeCasts_S4224x2048_S4224x8x256
  :: StableHlo.unary main_v20 main_v88 (broadcastInDim S4224x8x256 ![0, 1, 2] bcast_S4224x1x1_S4224x8x256_0_1_2 : (⟨S4224x1x1, .f32⟩ : BufTy).Contents (Elt F) → (⟨S4224x8x256, .f32⟩ : BufTy).Contents (Elt F))
  :: StableHlo.binary main_v87 main_v88 main_v89 (mulf : (⟨S4224x8x256, .f32⟩ : BufTy).Contents (Elt F) → (⟨S4224x8x256, .f32⟩ : BufTy).Contents (Elt F) → (⟨S4224x8x256, .f32⟩ : BufTy).Contents (Elt F))
  :: StableHlo.nullary main_v90 (sitofp .f32 (iotaInDim S8 32 0))
  :: StableHlo.nullary main_cst_13 (constant S_ .f32 0xC0A00000#32)
  :: StableHlo.unary main_cst_13 main_v91 (broadcastInDim S8 ![] bcast_S_S8 : (⟨S_, .f32⟩ : BufTy).Contents (Elt F) → (⟨S8, .f32⟩ : BufTy).Contents (Elt F))
  :: StableHlo.binary main_v91 main_v90 main_v92 (subf : (⟨S8, .f32⟩ : BufTy).Contents (Elt F) → (⟨S8, .f32⟩ : BufTy).Contents (Elt F) → (⟨S8, .f32⟩ : BufTy).Contents (Elt F))
  :: StableHlo.nullary main_cst_14 (constant S_ .f32 0x40000000#32)
  :: StableHlo.unary main_cst_14 main_v93 (broadcastInDim S8 ![] bcast_S_S8 : (⟨S_, .f32⟩ : BufTy).Contents (Elt F) → (⟨S8, .f32⟩ : BufTy).Contents (Elt F))
  :: StableHlo.binary main_v93 main_v92 main_v94 (Host.powf : (⟨S8, .f32⟩ : BufTy).Contents (Elt F) → (⟨S8, .f32⟩ : BufTy).Contents (Elt F) → (⟨S8, .f32⟩ : BufTy).Contents (Elt F))
  :: StableHlo.nullary main_cst_15 (constant S_ .f32 0x3F800000#32)
  :: StableHlo.unary main_cst_15 main_v95 (broadcastInDim S8 ![] bcast_S_S8 : (⟨S_, .f32⟩ : BufTy).Contents (Elt F) → (⟨S8, .f32⟩ : BufTy).Contents (Elt F))
  :: StableHlo.binary main_v95 main_v94 main_v96 (subf : (⟨S8, .f32⟩ : BufTy).Contents (Elt F) → (⟨S8, .f32⟩ : BufTy).Contents (Elt F) → (⟨S8, .f32⟩ : BufTy).Contents (Elt F))
  :: StableHlo.unary main_v96 main_v97 (Host.log : (⟨S8, .f32⟩ : BufTy).Contents (Elt F) → (⟨S8, .f32⟩ : BufTy).Contents (Elt F))
  :: StableHlo.nullary main_v98 (sitofp .f32 (iotaInDim S128 32 0))
  :: StableHlo.unary main_v98 main_v99 (broadcastInDim S128x1 ![0] bcast_S128_S128x1_0 : (⟨S128, .f32⟩ : BufTy).Contents (Elt F) → (⟨S128x1, .f32⟩ : BufTy).Contents (Elt F))
  :: StableHlo.unary main_v98 main_v100 (broadcastInDim S1x128 ![1] bcast_S128_S1x128_1 : (⟨S128, .f32⟩ : BufTy).Contents (Elt F) → (⟨S1x128, .f32⟩ : BufTy).Contents (Elt F))
  :: StableHlo.unary main_v99 main_v101 (broadcastInDim S128x128 ![0, 1] bcast_S128x1_S128x128_0_1 : (⟨S128x1, .f32⟩ : BufTy).Contents (Elt F) → (⟨S128x128, .f32⟩ : BufTy).Contents (Elt F))
  :: [] )
theorem main_part1_ops0_sub : (main_part1_ops0 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.reshape_bufs_sub .., StableHlo.unary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub ..⟩
theorem main_part1_ops0_fresh : (main_part1_ops0 : List (HloOp τ sig (Elt F))).Forall fun op => op.fresh = ∅ :=
  StableHlo.forall_fresh_of_map rfl
/-- What they write, in order. -/
abbrev main_part1_ops0_W : List (Ref sig .tc) := [main_v48, main_v49, main_v50, main_v51, main_v52, main_v53, main_cst_10, main_v54, main_v55, main_v56, main_v57, main_v58, main_cst_11, main_v59, main_v60, main_cst_12, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_cst_13, main_v91, main_v92, main_cst_14, main_v93, main_v94, main_cst_15, main_v95, main_v96, main_v97, main_v98, main_v99, main_v100, main_v101]
theorem main_part1_ops0_writes : (main_part1_ops0 : List (HloOp τ sig (Elt F))).Forall fun op => op.writes ⊆ (main_part1_ops0_W.map (Proc.devRef (τ := τ) .tc)).toFinset :=
  StableHlo.forall_writes_sub_of_map rfl

/-- 16 of the operations, in order. -/
abbrev main_part2_ops0 : List (HloOp τ sig (Elt F)) :=
  [ StableHlo.unary main_v100 main_v102 (broadcastInDim S128x128 ![0, 1] bcast_S1x128_S128x128_0_1 : (⟨S1x128, .f32⟩ : BufTy).Contents (Elt F) → (⟨S128x128, .f32⟩ : BufTy).Contents (Elt F)),
    StableHlo.binary main_v101 main_v102 main_v103 (subf : (⟨S128x128, .f32⟩ : BufTy).Contents (Elt F) → (⟨S128x128, .f32⟩ : BufTy).Contents (Elt F) → (⟨S128x128, .f32⟩ : BufTy).Contents (Elt F)),
    StableHlo.unary main_v103 main_v104 (broadcastInDim S1x128x128 ![1, 2] bcast_S128x128_S1x128x128_1_2 : (⟨S128x128, .f32⟩ : BufTy).Contents (Elt F) → (⟨S1x128x128, .f32⟩ : BufTy).Contents (Elt F)),
    StableHlo.nullary main_cst_16 (constant S_ .f32 0x00000000#32),
    StableHlo.unary main_cst_16 main_v105 (broadcastInDim S1x128x128 ![] bcast_S_S1x128x128 : (⟨S_, .f32⟩ : BufTy).Contents (Elt F) → (⟨S1x128x128, .f32⟩ : BufTy).Contents (Elt F)),
    StableHlo.binary main_v104 main_v105 main_v106 (cmpf .oge : (⟨S1x128x128, .f32⟩ : BufTy).Contents (Elt F) → (⟨S1x128x128, .f32⟩ : BufTy).Contents (Elt F) → (⟨S1x128x128, .i1⟩ : BufTy).Contents (Elt F)),
    StableHlo.nullary main_cst_17 (constant S_ .f32 0x00000000#32),
    StableHlo.unary main_cst_17 main_v107 (broadcastInDim S128x128 ![] bcast_S_S128x128 : (⟨S_, .f32⟩ : BufTy).Contents (Elt F) → (⟨S128x128, .f32⟩ : BufTy).Contents (Elt F)),
    StableHlo.binary main_v103 main_v107 main_v108 (maximumf : (⟨S128x128, .f32⟩ : BufTy).Contents (Elt F) → (⟨S128x128, .f32⟩ : BufTy).Contents (Elt F) → (⟨S128x128, .f32⟩ : BufTy).Contents (Elt F)),
    StableHlo.unary main_v108 main_v109 (broadcastInDim S1x128x128 ![1, 2] bcast_S128x128_S1x128x128_1_2 : (⟨S128x128, .f32⟩ : BufTy).Contents (Elt F) → (⟨S1x128x128, .f32⟩ : BufTy).Contents (Elt F)),
    StableHlo.unary main_v97 main_v110 (broadcastInDim S8x1x1 ![0] bcast_S8_S8x1x1_0 : (⟨S8, .f32⟩ : BufTy).Contents (Elt F) → (⟨S8x1x1, .f32⟩ : BufTy).Contents (Elt F)),
    StableHlo.unary main_v109 main_v111 (broadcastInDim S8x128x128 ![0, 1, 2] bcast_S1x128x128_S8x128x128_0_1_2 : (⟨S1x128x128, .f32⟩ : BufTy).Contents (Elt F) → (⟨S8x128x128, .f32⟩ : BufTy).Contents (Elt F)),
    StableHlo.unary main_v110 main_v112 (broadcastInDim S8x128x128 ![0, 1, 2] bcast_S8x1x1_S8x128x128_0_1_2 : (⟨S8x1x1, .f32⟩ : BufTy).Contents (Elt F) → (⟨S8x128x128, .f32⟩ : BufTy).Contents (Elt F)),
    StableHlo.binary main_v111 main_v112 main_v113 (mulf : (⟨S8x128x128, .f32⟩ : BufTy).Contents (Elt F) → (⟨S8x128x128, .f32⟩ : BufTy).Contents (Elt F) → (⟨S8x128x128, .f32⟩ : BufTy).Contents (Elt F)),
    StableHlo.unary main_v113 main_v114 (Host.exp : (⟨S8x128x128, .f32⟩ : BufTy).Contents (Elt F) → (⟨S8x128x128, .f32⟩ : BufTy).Contents (Elt F)),
    StableHlo.nullary main_cst_18 (constant S_ .f32 0x00000000#32) ]
theorem main_part2_ops0_sub : (main_part2_ops0 : List (HloOp τ sig (Elt F))).Forall fun op => op.bufs ⊆ StableHlo.tcRefs τ sig :=
  ⟨StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub ..⟩
theorem main_part2_ops0_fresh : (main_part2_ops0 : List (HloOp τ sig (Elt F))).Forall fun op => op.fresh = ∅ :=
  StableHlo.forall_fresh_of_map rfl
/-- What they write, in order. -/
abbrev main_part2_ops0_W : List (Ref sig .tc) := [main_v102, main_v103, main_v104, main_cst_16, main_v105, main_v106, main_cst_17, main_v107, main_v108, main_v109, main_v110, main_v111, main_v112, main_v113, main_v114, main_cst_18]
theorem main_part2_ops0_writes : (main_part2_ops0 : List (HloOp τ sig (Elt F))).Forall fun op => op.writes ⊆ (main_part2_ops0_W.map (Proc.devRef (τ := τ) .tc)).toFinset :=
  StableHlo.forall_writes_sub_of_map rfl

/-- 4 of the operations, in order. -/
abbrev main_part2_ops1 : List (HloOp τ sig (Elt F)) :=
  [ StableHlo.TRef.unary (.of main_cst_18 : StableHlo.TRef sig ⟨S_, .f32⟩) (.of main_call0_v0 : StableHlo.TRef sig ⟨S_, .f32⟩) id,
    StableHlo.TRef.unary (.of main_v106 : StableHlo.TRef sig ⟨S1x128x128, .i1⟩) (.of main_call0_v1 : StableHlo.TRef sig ⟨S8x128x128, .i1⟩) (broadcastInDim S8x128x128 ![0, 1, 2] bcast_S1x128x128_S8x128x128_0_1_2),
    StableHlo.TRef.unary (.of main_call0_v0 : StableHlo.TRef sig ⟨S_, .f32⟩) (.of main_call0_v2 : StableHlo.TRef sig ⟨S8x128x128, .f32⟩) (broadcastInDim S8x128x128 ![] bcast_S_S8x128x128),
    StableHlo.TRef.ternary (.of main_call0_v1 : StableHlo.TRef sig ⟨S8x128x128, .i1⟩) (.of main_v114 : StableHlo.TRef sig ⟨S8x128x128, .f32⟩) (.of main_call0_v2 : StableHlo.TRef sig ⟨S8x128x128, .f32⟩) (.of main_v115 : StableHlo.TRef sig ⟨S8x128x128, .f32⟩) select ]
theorem main_part2_ops1_sub : (main_part2_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part2_ops1_fresh : (main_part2_ops1 : List (HloOp τ sig (Elt F))).Forall fun op => op.fresh = ∅ :=
  StableHlo.forall_fresh_of_map rfl
/-- What they write, in order. -/
abbrev main_part2_ops1_W : List (Ref sig .tc) := [main_call0_v0, main_call0_v1, main_call0_v2, main_v115]
theorem main_part2_ops1_writes : (main_part2_ops1 : List (HloOp τ sig (Elt F))).Forall fun op => op.writes ⊆ (main_part2_ops1_W.map (Proc.devRef (τ := τ) .tc)).toFinset :=
  StableHlo.forall_writes_sub_of_map rfl

/-- 43 of the operations, in order. -/
abbrev main_part2_ops2 : List (HloOp τ sig (Elt F)) :=
  ( StableHlo.unary main_v98 main_v116 (broadcastInDim S1x128 ![1] bcast_S128_S1x128_1 : (⟨S128, .f32⟩ : BufTy).Contents (Elt F) → (⟨S1x128, .f32⟩ : BufTy).Contents (Elt F))
  :: StableHlo.nullary main_cst_19 (constant S_ .f32 0x3F800000#32)
  :: StableHlo.unary main_cst_19 main_v117 (broadcastInDim S1x128 ![] bcast_S_S1x128 : (⟨S_, .f32⟩ : BufTy).Contents (Elt F) → (⟨S1x128, .f32⟩ : BufTy).Contents (Elt F))
  :: StableHlo.binary main_v116 main_v117 main_v118 (addf : (⟨S1x128, .f32⟩ : BufTy).Contents (Elt F) → (⟨S1x128, .f32⟩ : BufTy).Contents (Elt F) → (⟨S1x128, .f32⟩ : BufTy).Contents (Elt F))
  :: StableHlo.unary main_v97 main_v119 (broadcastInDim S8x1 ![0] bcast_S8_S8x1_0 : (⟨S8, .f32⟩ : BufTy).Contents (Elt F) → (⟨S8x1, .f32⟩ : BufTy).Contents (Elt F))
  :: StableHlo.unary main_v118 main_v120 (broadcastInDim S8x128 ![0, 1] bcast_S1x128_S8x128_0_1 : (⟨S1x128, .f32⟩ : BufTy).Contents (Elt F) → (⟨S8x128, .f32⟩ : BufTy).Contents (Elt F))
  :: StableHlo.unary main_v119 main_v121 (broadcastInDim S8x128 ![0, 1] bcast_S8x1_S8x128_0_1 : (⟨S8x1, .f32⟩ : BufTy).Contents (Elt F) → (⟨S8x128, .f32⟩ : BufTy).Contents (Elt F))
  :: StableHlo.binary main_v120 main_v121 main_v122 (mulf : (⟨S8x128, .f32⟩ : BufTy).Contents (Elt F) → (⟨S8x128, .f32⟩ : BufTy).Contents (Elt F) → (⟨S8x128, .f32⟩ : BufTy).Contents (Elt F))
  :: StableHlo.unary main_v122 main_v123 (Host.exp : (⟨S8x128, .f32⟩ : BufTy).Contents (Elt F) → (⟨S8x128, .f32⟩ : BufTy).Contents (Elt F))
  :: StableHlo.unary main_v98 main_v124 (broadcastInDim S1x128 ![1] bcast_S128_S1x128_1 : (⟨S128, .f32⟩ : BufTy).Contents (Elt F) → (⟨S1x128, .f32⟩ : BufTy).Contents (Elt F))
  :: StableHlo.nullary main_cst_20 (constant S_ .f32 0x42FE0000#32)
  :: StableHlo.unary main_cst_20 main_v125 (broadcastInDim S1x128 ![] bcast_S_S1x128 : (⟨S_, .f32⟩ : BufTy).Contents (Elt F) → (⟨S1x128, .f32⟩ : BufTy).Contents (Elt F))
  :: StableHlo.binary main_v125 main_v124 main_v126 (subf : (⟨S1x128, .f32⟩ : BufTy).Contents (Elt F) → (⟨S1x128, .f32⟩ : BufTy).Contents (Elt F) → (⟨S1x128, .f32⟩ : BufTy).Contents (Elt F))
  :: StableHlo.unary main_v97 main_v127 (broadcastInDim S8x1 ![0] bcast_S8_S8x1_0 : (⟨S8, .f32⟩ : BufTy).Contents (Elt F) → (⟨S8x1, .f32⟩ : BufTy).Contents (Elt F))
  :: StableHlo.unary main_v126 main_v128 (broadcastInDim S8x128 ![0, 1] bcast_S1x128_S8x128_0_1 : (⟨S1x128, .f32⟩ : BufTy).Contents (Elt F) → (⟨S8x128, .f32⟩ : BufTy).Contents (Elt F))
  :: StableHlo.unary main_v127 main_v129 (broadcastInDim S8x128 ![0, 1] bcast_S8x1_S8x128_0_1 : (⟨S8x1, .f32⟩ : BufTy).Contents (Elt F) → (⟨S8x128, .f32⟩ : BufTy).Contents (Elt F))
  :: StableHlo.binary main_v128 main_v129 main_v130 (mulf : (⟨S8x128, .f32⟩ : BufTy).Contents (Elt F) → (⟨S8x128, .f32⟩ : BufTy).Contents (Elt F) → (⟨S8x128, .f32⟩ : BufTy).Contents (Elt F))
  :: StableHlo.unary main_v130 main_v131 (Host.exp : (⟨S8x128, .f32⟩ : BufTy).Contents (Elt F) → (⟨S8x128, .f32⟩ : BufTy).Contents (Elt F))
  :: StableHlo.nullary main_cst_21 (constant S_ .f32 0x43000000#32)
  :: StableHlo.unary main_cst_21 main_v132 (broadcastInDim S8 ![] bcast_S_S8 : (⟨S_, .f32⟩ : BufTy).Contents (Elt F) → (⟨S8, .f32⟩ : BufTy).Contents (Elt F))
  :: StableHlo.binary main_v132 main_v97 main_v133 (mulf : (⟨S8, .f32⟩ : BufTy).Contents (Elt F) → (⟨S8, .f32⟩ : BufTy).Contents (Elt F) → (⟨S8, .f32⟩ : BufTy).Contents (Elt F))
  :: StableHlo.unary main_v133 main_v134 (Host.exp : (⟨S8, .f32⟩ : BufTy).Contents (Elt F) → (⟨S8, .f32⟩ : BufTy).Contents (Elt F))
  :: StableHlo.reshape main_v55 main_v135 (rfl : (.f32 : EltTy) = .f32) shapeCasts_S4224x8x256_S33x128x8x256
  :: StableHlo.unary main_v135 main_v136 ((transpose S33x8x128x256 [0, 2, 1, 3] · transposes_S33x128x8x256_S33x8x128x256_0_2_1_3) : (⟨S33x128x8x256, .f32⟩ : BufTy).Contents (Elt F) → (⟨S33x8x128x256, .f32⟩ : BufTy).Contents (Elt F))
  :: StableHlo.reshape main_v86 main_v137 (rfl : (.f32 : EltTy) = .f32) shapeCasts_S4224x8x256_S33x128x8x256
  :: StableHlo.unary main_v137 main_v138 ((transpose S33x8x128x256 [0, 2, 1, 3] · transposes_S33x128x8x256_S33x8x128x256_0_2_1_3) : (⟨S33x128x8x256, .f32⟩ : BufTy).Contents (Elt F) → (⟨S33x8x128x256, .f32⟩ : BufTy).Contents (Elt F))
  :: StableHlo.reshape main_v89 main_v139 (rfl : (.f32 : EltTy) = .f32) shapeCasts_S4224x8x256_S33x128x8x256
  :: StableHlo.unary main_v139 main_v140 ((transpose S33x8x128x256 [0, 2, 1, 3] · transposes_S33x128x8x256_S33x8x128x256_0_2_1_3) : (⟨S33x128x8x256, .f32⟩ : BufTy).Contents (Elt F) → (⟨S33x8x128x256, .f32⟩ : BufTy).Contents (Elt F))
  :: StableHlo.nullary main_cst_22 (constant S_ .f32 0x00000000#32)
  :: StableHlo.unary main_cst_22 main_v141 (broadcastInDim S8x256x256 ![] bcast_S_S8x256x256 : (⟨S_, .f32⟩ : BufTy).Contents (Elt F) → (⟨S8x256x256, .f32⟩ : BufTy).Contents (Elt F))
  :: StableHlo.unary main_v123 main_v142 (broadcastInDim S8x128x1 ![0, 1] bcast_S8x128_S8x128x1_0_1 : (⟨S8x128, .f32⟩ : BufTy).Contents (Elt F) → (⟨S8x128x1, .f32⟩ : BufTy).Contents (Elt F))
  :: StableHlo.unary main_v134 main_v143 (broadcastInDim S8x1x1 ![0] bcast_S8_S8x1x1_0 : (⟨S8, .f32⟩ : BufTy).Contents (Elt F) → (⟨S8x1x1, .f32⟩ : BufTy).Contents (Elt F))
  :: StableHlo.unary main_v131 main_v144 (broadcastInDim S8x128x1 ![0, 1] bcast_S8x128_S8x128x1_0_1 : (⟨S8x128, .f32⟩ : BufTy).Contents (Elt F) → (⟨S8x128x1, .f32⟩ : BufTy).Contents (Elt F))
  :: StableHlo.nullary main_cst_23 (constant S_ .f32 0x00000000#32)
  :: StableHlo.unary main_cst_23 main_v145 (broadcastInDim S33x8x128x256 ![] bcast_S_S33x8x128x256 : (⟨S_, .f32⟩ : BufTy).Contents (Elt F) → (⟨S33x8x128x256, .f32⟩ : BufTy).Contents (Elt F))
  :: StableHlo.nullary main_cst_24 (constant S_ .f32 0x00000000#32)
  :: StableHlo.unary main_cst_24 main_v146 (broadcastInDim S33x8x128x128 ![] bcast_S_S33x8x128x128 : (⟨S_, .f32⟩ : BufTy).Contents (Elt F) → (⟨S33x8x128x128, .f32⟩ : BufTy).Contents (Elt F))
  :: StableHlo.nullary main_cst_25 (constant S_ .f32 0x00000000#32)
  :: StableHlo.unary main_cst_25 main_v147 (broadcastInDim S33x8x256x256 ![] bcast_S_S33x8x256x256 : (⟨S_, .f32⟩ : BufTy).Contents (Elt F) → (⟨S33x8x256x256, .f32⟩ : BufTy).Contents (Elt F))
  :: StableHlo.nullary main_cst_26 (constant S_ .f32 0x00000000#32)
  :: StableHlo.unary main_cst_26 main_v148 (broadcastInDim S33x8x128x256 ![] bcast_S_S33x8x128x256 : (⟨S_, .f32⟩ : BufTy).Contents (Elt F) → (⟨S33x8x128x256, .f32⟩ : BufTy).Contents (Elt F))
  :: StableHlo.nullary main_c_27 (constantI S_ 32 0#32)
  :: StableHlo.unary main_v136 main_v149_0 id
  :: [] )
theorem main_part2_ops2_sub : (main_part2_ops2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub ..⟩
theorem main_part2_ops2_fresh : (main_part2_ops2 : List (HloOp τ sig (Elt F))).Forall fun op => op.fresh = ∅ :=
  StableHlo.forall_fresh_of_map rfl
/-- What they write, in order. -/
abbrev main_part2_ops2_W : List (Ref sig .tc) := [main_v116, main_cst_19, main_v117, main_v118, main_v119, main_v120, main_v121, main_v122, main_v123, main_v124, main_cst_20, main_v125, main_v126, main_v127, main_v128, main_v129, main_v130, main_v131, main_cst_21, main_v132, main_v133, main_v134, main_v135, main_v136, main_v137, main_v138, main_v139, main_v140, main_cst_22, main_v141, main_v142, main_v143, main_v144, main_cst_23, main_v145, main_cst_24, main_v146, main_cst_25, main_v147, main_cst_26, main_v148, main_c_27, main_v149_0]
theorem main_part2_ops2_writes : (main_part2_ops2 : List (HloOp τ sig (Elt F))).Forall fun op => op.writes ⊆ (main_part2_ops2_W.map (Proc.devRef (τ := τ) .tc)).toFinset :=
  StableHlo.forall_writes_sub_of_map rfl

/-- 12 of the operations, in order. -/
abbrev main_part3_ops0 : List (HloOp τ sig (Elt F)) :=
  [ StableHlo.unary main_v138 main_v149_1 id,
    StableHlo.unary main_v140 main_v149_2 id,
    StableHlo.unary main_v143 main_v149_3 id,
    StableHlo.unary main_v144 main_v149_4 id,
    StableHlo.unary main_v115 main_v149_5 id,
    StableHlo.unary main_v142 main_v149_6 id,
    StableHlo.unary main_c_27 main_v149_7 id,
    StableHlo.unary main_v141 main_v149_8 id,
    StableHlo.unary main_v145 main_v149_9 id,
    StableHlo.unary main_v146 main_v149_10 id,
    StableHlo.unary main_v147 main_v149_11 id,
    StableHlo.unary main_v148 main_v149_12 id ]
theorem main_part3_ops0_sub : (main_part3_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem main_part3_ops0_fresh : (main_part3_ops0 : List (HloOp τ sig (Elt F))).Forall fun op => op.fresh = ∅ :=
  StableHlo.forall_fresh_of_map rfl
/-- What they write, in order. -/
abbrev main_part3_ops0_W : List (Ref sig .tc) := [main_v149_1, main_v149_2, main_v149_3, main_v149_4, main_v149_5, main_v149_6, main_v149_7, main_v149_8, main_v149_9, main_v149_10, main_v149_11, main_v149_12]
theorem main_part3_ops0_writes : (main_part3_ops0 : List (HloOp τ sig (Elt F))).Forall fun op => op.writes ⊆ (main_part3_ops0_W.map (Proc.devRef (τ := τ) .tc)).toFinset :=
  StableHlo.forall_writes_sub_of_map rfl

theorem main_part0_chain (c : Dev nD) : main_part0 (F := F) c = (Pipeline.chainK
  [  ]
  (StableHlo.seq main_part0_ops0) : Prog (TpuEff nD τ sig (Elt F) (HostLoop.Sig (Pipeline.Sig Λ₀ (Fin 0) fun p => (pcfgs (F := F) p).Adm) 2) .tc) PUnit) := by
  chain_rfl

theorem main_part1_chain (c : Dev nD) : main_part1 (F := F) c = (Pipeline.chainK
  [  ]
  (StableHlo.seq main_part1_ops0) : Prog (TpuEff nD τ sig (Elt F) (HostLoop.Sig (Pipeline.Sig Λ₀ (Fin 0) fun p => (pcfgs (F := F) p).Adm) 2) .tc) PUnit) := by
  chain_rfl

theorem main_part2_chain (c : Dev nD) : main_part2 (F := F) c = (Pipeline.chainK
  [ StableHlo.seq main_part2_ops0,
    StableHlo.seq main_part2_ops1 ]
  (StableHlo.seq main_part2_ops2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

end Cert.ReferenceIdeal.Ret

end
-- ==== Proof.RefOpsB.lean ====
/- The reference: its operations after the first loop. -/
module

public import Idealize.ShloMosaic.Lib.Pipeline.Kit
public import Idealize.ShloMosaic.Lib.Pipeline.Regions
public import Idealize.ShloMosaic.Lib.StableHlo.RunLoop
public import proofs.«01_k».proof.Proof.Gen.ReferenceIdeal

@[expose] public section

set_option maxRecDepth 100000

noncomputable section

namespace Cert.ReferenceIdeal.Ret

open Idealize.ShloMosaic Idealize.ShloMosaic.TcCoe Idealize.ShloMosaic.Tactic
open Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

/-! The operations after the first loop. -/

/-- 2 of the operations, in order. -/
abbrev main_part3_ops1 : List (HloOp τ sig (Elt F)) :=
  [ StableHlo.unary main_v149_9 main_v150 ((transpose S33x128x8x256 [0, 2, 1, 3] · transposes_S33x8x128x256_S33x128x8x256_0_2_1_3) : (⟨S33x8x128x256, .f32⟩ : BufTy).Contents (Elt F) → (⟨S33x128x8x256, .f32⟩ : BufTy).Contents (Elt F)),
    StableHlo.reshape main_v150 main_v151 (rfl : (.f32 : EltTy) = .f32) shapeCasts_S33x128x8x256_S4224x8x256 ]
theorem main_part3_ops1_sub : (main_part3_ops1 : List (HloOp τ sig (Elt F))).Forall fun op => op.bufs ⊆ StableHlo.tcRefs τ sig :=
  ⟨StableHlo.unary_bufs_sub .., StableHlo.reshape_bufs_sub ..⟩
theorem main_part3_ops1_fresh : (main_part3_ops1 : List (HloOp τ sig (Elt F))).Forall fun op => op.fresh = ∅ :=
  StableHlo.forall_fresh_of_map rfl
/-- What they write, in order. -/
abbrev main_part3_ops1_W : List (Ref sig .tc) := [main_v150, main_v151]
theorem main_part3_ops1_writes : (main_part3_ops1 : List (HloOp τ sig (Elt F))).Forall fun op => op.writes ⊆ (main_part3_ops1_W.map (Proc.devRef (τ := τ) .tc)).toFinset :=
  StableHlo.forall_writes_sub_of_map rfl

/-- 13 of the operations, in order. -/
abbrev main_part3_ops2 : List (HloOp τ sig (Elt F)) :=
  [ StableHlo.TRef.unary (.of main_v14 : StableHlo.TRef sig ⟨S4224x2048, .f32⟩) (.of main_call8_v0 : StableHlo.TRef sig ⟨S4224x2048, .f32⟩) Host.negf,
    StableHlo.TRef.unary (.of main_call8_v0 : StableHlo.TRef sig ⟨S4224x2048, .f32⟩) (.of main_call8_v1 : StableHlo.TRef sig ⟨S4224x2048, .f32⟩) Host.exp,
    StableHlo.TRef.nullary (.of main_call8_cst : StableHlo.TRef sig ⟨S_, .f32⟩) (constant S_ .f32 0x3F800000#32),
    StableHlo.TRef.unary (.of main_call8_cst : StableHlo.TRef sig ⟨S_, .f32⟩) (.of main_call8_v2 : StableHlo.TRef sig ⟨S4224x2048, .f32⟩) (broadcastInDim S4224x2048 ![] bcast_S_S4224x2048),
    StableHlo.TRef.binary (.of main_call8_v2 : StableHlo.TRef sig ⟨S4224x2048, .f32⟩) (.of main_call8_v1 : StableHlo.TRef sig ⟨S4224x2048, .f32⟩) (.of main_call8_v3 : StableHlo.TRef sig ⟨S4224x2048, .f32⟩) addf,
    StableHlo.TRef.nullary (.of main_call8_cst_0 : StableHlo.TRef sig ⟨S_, .f32⟩) (constant S_ .f32 0x3F800000#32),
    StableHlo.TRef.unary (.of main_call8_cst_0 : StableHlo.TRef sig ⟨S_, .f32⟩) (.of main_call8_v4 : StableHlo.TRef sig ⟨S4224x2048, .f32⟩) (broadcastInDim S4224x2048 ![] bcast_S_S4224x2048),
    StableHlo.TRef.binary (.of main_call8_v4 : StableHlo.TRef sig ⟨S4224x2048, .f32⟩) (.of main_call8_v3 : StableHlo.TRef sig ⟨S4224x2048, .f32⟩) (.of main_v152_2 : StableHlo.TRef sig ⟨S4224x2048, .f32⟩) Host.divf,
    StableHlo.TRef.nullary (.of main_call8_cst_1 : StableHlo.TRef sig ⟨S_, .f32⟩) (constant S_ .f32 0x3F800000#32),
    StableHlo.TRef.unary (.of main_call8_cst_1 : StableHlo.TRef sig ⟨S_, .f32⟩) (.of main_call8_v6 : StableHlo.TRef sig ⟨S4224x2048, .f32⟩) (broadcastInDim S4224x2048 ![] bcast_S_S4224x2048),
    StableHlo.TRef.binary (.of main_call8_v6 : StableHlo.TRef sig ⟨S4224x2048, .f32⟩) (.of main_v152_2 : StableHlo.TRef sig ⟨S4224x2048, .f32⟩) (.of main_call8_v7 : StableHlo.TRef sig ⟨S4224x2048, .f32⟩) subf,
    StableHlo.TRef.binary (.of main_v152_2 : StableHlo.TRef sig ⟨S4224x2048, .f32⟩) (.of main_call8_v7 : StableHlo.TRef sig ⟨S4224x2048, .f32⟩) (.of main_v152_1 : StableHlo.TRef sig ⟨S4224x2048, .f32⟩) mulf,
    StableHlo.TRef.binary (.of main_v14 : StableHlo.TRef sig ⟨S4224x2048, .f32⟩) (.of main_v152_2 : StableHlo.TRef sig ⟨S4224x2048, .f32⟩) (.of main_v152_0 : StableHlo.TRef sig ⟨S4224x2048, .f32⟩) mulf ]
theorem main_part3_ops2_sub : (main_part3_ops2 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
theorem main_part3_ops2_fresh : (main_part3_ops2 : List (HloOp τ sig (Elt F))).Forall fun op => op.fresh = ∅ :=
  StableHlo.forall_fresh_of_map rfl
/-- What they write, in order. -/
abbrev main_part3_ops2_W : List (Ref sig .tc) := [main_call8_v0, main_call8_v1, main_call8_cst, main_call8_v2, main_call8_v3, main_call8_cst_0, main_call8_v4, main_v152_2, main_call8_cst_1, main_call8_v6, main_call8_v7, main_v152_1, main_v152_0]
theorem main_part3_ops2_writes : (main_part3_ops2 : List (HloOp τ sig (Elt F))).Forall fun op => op.writes ⊆ (main_part3_ops2_W.map (Proc.devRef (τ := τ) .tc)).toFinset :=
  StableHlo.forall_writes_sub_of_map rfl

/-- 44 of the operations, in order. -/
abbrev main_part3_ops3 : List (HloOp τ sig (Elt F)) :=
  ( StableHlo.binary main_v151 main_v151 main_v153 (mulf : (⟨S4224x8x256, .f32⟩ : BufTy).Contents (Elt F) → (⟨S4224x8x256, .f32⟩ : BufTy).Contents (Elt F) → (⟨S4224x8x256, .f32⟩ : BufTy).Contents (Elt F))
  :: StableHlo.nullary main_cst_28 (constant S_ .f32 0x00000000#32)
  :: StableHlo.binary main_v153 main_cst_28 main_v154 ((fun x v => Host.reduceAdd x v reducesTo_S4224x8x256_S4224x8_d2 h_S_) : (⟨S4224x8x256, .f32⟩ : BufTy).Contents (Elt F) → (⟨S_, .f32⟩ : BufTy).Contents (Elt F) → (⟨S4224x8, .f32⟩ : BufTy).Contents (Elt F))
  :: StableHlo.unary main_v154 main_v155 (broadcastInDim S4224x8x1 ![0, 1] bcast_S4224x8_S4224x8x1_0_1 : (⟨S4224x8, .f32⟩ : BufTy).Contents (Elt F) → (⟨S4224x8x1, .f32⟩ : BufTy).Contents (Elt F))
  :: StableHlo.nullary main_cst_29 (constant S_ .f32 0x43800000#32)
  :: StableHlo.unary main_cst_29 main_v156 (broadcastInDim S4224x8x1 ![] bcast_S_S4224x8x1 : (⟨S_, .f32⟩ : BufTy).Contents (Elt F) → (⟨S4224x8x1, .f32⟩ : BufTy).Contents (Elt F))
  :: StableHlo.binary main_v155 main_v156 main_v157 (Host.divf : (⟨S4224x8x1, .f32⟩ : BufTy).Contents (Elt F) → (⟨S4224x8x1, .f32⟩ : BufTy).Contents (Elt F) → (⟨S4224x8x1, .f32⟩ : BufTy).Contents (Elt F))
  :: StableHlo.nullary main_cst_30 (constant S_ .f32 0x358637BD#32)
  :: StableHlo.unary main_cst_30 main_v158 (broadcastInDim S4224x8x1 ![] bcast_S_S4224x8x1 : (⟨S_, .f32⟩ : BufTy).Contents (Elt F) → (⟨S4224x8x1, .f32⟩ : BufTy).Contents (Elt F))
  :: StableHlo.binary main_v157 main_v158 main_v159 (addf : (⟨S4224x8x1, .f32⟩ : BufTy).Contents (Elt F) → (⟨S4224x8x1, .f32⟩ : BufTy).Contents (Elt F) → (⟨S4224x8x1, .f32⟩ : BufTy).Contents (Elt F))
  :: StableHlo.unary main_v159 main_v160 (Host.rsqrt : (⟨S4224x8x1, .f32⟩ : BufTy).Contents (Elt F) → (⟨S4224x8x1, .f32⟩ : BufTy).Contents (Elt F))
  :: StableHlo.binary main_v160 main_v159 main_v161 (Host.divf : (⟨S4224x8x1, .f32⟩ : BufTy).Contents (Elt F) → (⟨S4224x8x1, .f32⟩ : BufTy).Contents (Elt F) → (⟨S4224x8x1, .f32⟩ : BufTy).Contents (Elt F))
  :: StableHlo.nullary main_cst_31 (constant S_ .f32 0xBF000000#32)
  :: StableHlo.unary main_cst_31 main_v162 (broadcastInDim S4224x8x1 ![] bcast_S_S4224x8x1 : (⟨S_, .f32⟩ : BufTy).Contents (Elt F) → (⟨S4224x8x1, .f32⟩ : BufTy).Contents (Elt F))
  :: StableHlo.binary main_v162 main_v161 main_v163 (mulf : (⟨S4224x8x1, .f32⟩ : BufTy).Contents (Elt F) → (⟨S4224x8x1, .f32⟩ : BufTy).Contents (Elt F) → (⟨S4224x8x1, .f32⟩ : BufTy).Contents (Elt F))
  :: StableHlo.unary main_v160 main_v164 (broadcastInDim S4224x8x256 ![0, 1, 2] bcast_S4224x8x1_S4224x8x256_0_1_2 : (⟨S4224x8x1, .f32⟩ : BufTy).Contents (Elt F) → (⟨S4224x8x256, .f32⟩ : BufTy).Contents (Elt F))
  :: StableHlo.binary main_v151 main_v164 main_v165 (mulf : (⟨S4224x8x256, .f32⟩ : BufTy).Contents (Elt F) → (⟨S4224x8x256, .f32⟩ : BufTy).Contents (Elt F) → (⟨S4224x8x256, .f32⟩ : BufTy).Contents (Elt F))
  :: StableHlo.reshape main_arg1 main_v166 (rfl : (.f32 : EltTy) = .f32) shapeCasts_S1x2048_S8x256
  :: StableHlo.unary main_v166 main_v167 (broadcastInDim S1x8x256 ![1, 2] bcast_S8x256_S1x8x256_1_2 : (⟨S8x256, .f32⟩ : BufTy).Contents (Elt F) → (⟨S1x8x256, .f32⟩ : BufTy).Contents (Elt F))
  :: StableHlo.unary main_v167 main_v168 (broadcastInDim S4224x8x256 ![0, 1, 2] bcast_S1x8x256_S4224x8x256_0_1_2 : (⟨S1x8x256, .f32⟩ : BufTy).Contents (Elt F) → (⟨S4224x8x256, .f32⟩ : BufTy).Contents (Elt F))
  :: StableHlo.binary main_v165 main_v168 main_v169 (mulf : (⟨S4224x8x256, .f32⟩ : BufTy).Contents (Elt F) → (⟨S4224x8x256, .f32⟩ : BufTy).Contents (Elt F) → (⟨S4224x8x256, .f32⟩ : BufTy).Contents (Elt F))
  :: StableHlo.reshape main_v169 main_v170 (rfl : (.f32 : EltTy) = .f32) shapeCasts_S4224x8x256_S4224x2048
  :: StableHlo.binary main_v152_0 main_v170 main_v171 (mulf : (⟨S4224x2048, .f32⟩ : BufTy).Contents (Elt F) → (⟨S4224x2048, .f32⟩ : BufTy).Contents (Elt F) → (⟨S4224x2048, .f32⟩ : BufTy).Contents (Elt F))
  :: StableHlo.unary main_v171 main_v172 ((extractStridedSlice S4112x2048 ![112, 0] · slices_S4224x2048_S4112x2048_112_0) : (⟨S4224x2048, .f32⟩ : BufTy).Contents (Elt F) → (⟨S4112x2048, .f32⟩ : BufTy).Contents (Elt F))
  :: StableHlo.unary main_arg2 main_v173 ((extractStridedSlice S4112x2048 ![0, 0] · slices_S4112x4096_S4112x2048_0_0) : (⟨S4112x4096, .f32⟩ : BufTy).Contents (Elt F) → (⟨S4112x2048, .f32⟩ : BufTy).Contents (Elt F))
  :: StableHlo.nullary main_cst_32 (constant S_ .f32 0x00000000#32)
  :: StableHlo.unary main_cst_32 main_v174 (broadcastInDim S8x256x256 ![] bcast_S_S8x256x256 : (⟨S_, .f32⟩ : BufTy).Contents (Elt F) → (⟨S8x256x256, .f32⟩ : BufTy).Contents (Elt F))
  :: StableHlo.nullary main_cst_33 (constant S_ .f32 0x00000000#32)
  :: StableHlo.binary main_v173 main_cst_33 main_v175 ((fun x v => pad S4224x2048 ![112, 0] ![0, 0] ![0, 0] x v pads_S4112x2048_S4224x2048_11200_000 h_S_) : (⟨S4112x2048, .f32⟩ : BufTy).Contents (Elt F) → (⟨S_, .f32⟩ : BufTy).Contents (Elt F) → (⟨S4224x2048, .f32⟩ : BufTy).Contents (Elt F))
  :: StableHlo.binary main_v152_0 main_v175 main_v176 (mulf : (⟨S4224x2048, .f32⟩ : BufTy).Contents (Elt F) → (⟨S4224x2048, .f32⟩ : BufTy).Contents (Elt F) → (⟨S4224x2048, .f32⟩ : BufTy).Contents (Elt F))
  :: StableHlo.binary main_v175 main_v170 main_v177 (mulf : (⟨S4224x2048, .f32⟩ : BufTy).Contents (Elt F) → (⟨S4224x2048, .f32⟩ : BufTy).Contents (Elt F) → (⟨S4224x2048, .f32⟩ : BufTy).Contents (Elt F))
  :: StableHlo.reshape main_v176 main_v178 (rfl : (.f32 : EltTy) = .f32) shapeCasts_S4224x2048_S4224x8x256
  :: StableHlo.binary main_v165 main_v178 main_v179 (mulf : (⟨S4224x8x256, .f32⟩ : BufTy).Contents (Elt F) → (⟨S4224x8x256, .f32⟩ : BufTy).Contents (Elt F) → (⟨S4224x8x256, .f32⟩ : BufTy).Contents (Elt F))
  :: StableHlo.nullary main_cst_34 (constant S_ .f32 0x00000000#32)
  :: StableHlo.binary main_v179 main_cst_34 main_v180 ((fun x v => Host.reduceAdd x v reducesTo_S4224x8x256_S8x256_d0 h_S_) : (⟨S4224x8x256, .f32⟩ : BufTy).Contents (Elt F) → (⟨S_, .f32⟩ : BufTy).Contents (Elt F) → (⟨S8x256, .f32⟩ : BufTy).Contents (Elt F))
  :: StableHlo.reshape main_v180 main_v181 (rfl : (.f32 : EltTy) = .f32) shapeCasts_S8x256_S1x8x256
  :: StableHlo.unary main_v167 main_v182 (broadcastInDim S4224x8x256 ![0, 1, 2] bcast_S1x8x256_S4224x8x256_0_1_2 : (⟨S1x8x256, .f32⟩ : BufTy).Contents (Elt F) → (⟨S4224x8x256, .f32⟩ : BufTy).Contents (Elt F))
  :: StableHlo.binary main_v178 main_v182 main_v183 (mulf : (⟨S4224x8x256, .f32⟩ : BufTy).Contents (Elt F) → (⟨S4224x8x256, .f32⟩ : BufTy).Contents (Elt F) → (⟨S4224x8x256, .f32⟩ : BufTy).Contents (Elt F))
  :: StableHlo.nullary main_cst_35 (constant S_ .f32 0x00000000#32)
  :: StableHlo.binary main_v181 main_cst_35 main_v184 ((fun x v => Host.reduceAdd x v reducesTo_S1x8x256_S8x256_d0 h_S_) : (⟨S1x8x256, .f32⟩ : BufTy).Contents (Elt F) → (⟨S_, .f32⟩ : BufTy).Contents (Elt F) → (⟨S8x256, .f32⟩ : BufTy).Contents (Elt F))
  :: StableHlo.reshape main_v184 main_v185 (rfl : (.f32 : EltTy) = .f32) shapeCasts_S8x256_S1x2048
  :: StableHlo.binary main_v151 main_v183 main_v186 (mulf : (⟨S4224x8x256, .f32⟩ : BufTy).Contents (Elt F) → (⟨S4224x8x256, .f32⟩ : BufTy).Contents (Elt F) → (⟨S4224x8x256, .f32⟩ : BufTy).Contents (Elt F))
  :: StableHlo.nullary main_cst_36 (constant S_ .f32 0x00000000#32)
  :: StableHlo.binary main_v186 main_cst_36 main_v187 ((fun x v => Host.reduceAdd x v reducesTo_S4224x8x256_S4224x8_d2 h_S_) : (⟨S4224x8x256, .f32⟩ : BufTy).Contents (Elt F) → (⟨S_, .f32⟩ : BufTy).Contents (Elt F) → (⟨S4224x8, .f32⟩ : BufTy).Contents (Elt F))
  :: [] )
theorem main_part3_ops3_sub : (main_part3_ops3 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.reshape_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.nullary_bufs_sub .., StableHlo.unary_bufs_sub .., StableHlo.nullary_bufs_sub .., StableHlo.binary_bufs_sub .., StableHlo.binary_bufs_sub .., StableHlo.binary_bufs_sub .., StableHlo.reshape_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.reshape_bufs_sub .., StableHlo.binary_bufs_sub .., StableHlo.nullary_bufs_sub .., StableHlo.binary_bufs_sub ..⟩
theorem main_part3_ops3_fresh : (main_part3_ops3 : List (HloOp τ sig (Elt F))).Forall fun op => op.fresh = ∅ :=
  StableHlo.forall_fresh_of_map rfl
/-- What they write, in order. -/
abbrev main_part3_ops3_W : List (Ref sig .tc) := [main_v153, main_cst_28, main_v154, main_v155, main_cst_29, main_v156, main_v157, main_cst_30, main_v158, main_v159, main_v160, main_v161, main_cst_31, main_v162, main_v163, main_v164, main_v165, main_v166, main_v167, main_v168, main_v169, main_v170, main_v171, main_v172, main_v173, main_cst_32, main_v174, main_cst_33, main_v175, main_v176, main_v177, main_v178, main_v179, main_cst_34, main_v180, main_v181, main_v182, main_v183, main_cst_35, main_v184, main_v185, main_v186, main_cst_36, main_v187]
theorem main_part3_ops3_writes : (main_part3_ops3 : List (HloOp τ sig (Elt F))).Forall fun op => op.writes ⊆ (main_part3_ops3_W.map (Proc.devRef (τ := τ) .tc)).toFinset :=
  StableHlo.forall_writes_sub_of_map rfl

/-- 14 of the operations, in order. -/
abbrev main_part4_ops0 : List (HloOp τ sig (Elt F)) :=
  [ StableHlo.reshape main_v187 main_v188 (rfl : (.f32 : EltTy) = .f32) shapeCasts_S4224x8_S4224x8x1,
    StableHlo.unary main_v160 main_v189 (broadcastInDim S4224x8x256 ![0, 1, 2] bcast_S4224x8x1_S4224x8x256_0_1_2 : (⟨S4224x8x1, .f32⟩ : BufTy).Contents (Elt F) → (⟨S4224x8x256, .f32⟩ : BufTy).Contents (Elt F)),
    StableHlo.binary main_v183 main_v189 main_v190 (mulf : (⟨S4224x8x256, .f32⟩ : BufTy).Contents (Elt F) → (⟨S4224x8x256, .f32⟩ : BufTy).Contents (Elt F) → (⟨S4224x8x256, .f32⟩ : BufTy).Contents (Elt F)),
    StableHlo.binary main_v188 main_v163 main_v191 (mulf : (⟨S4224x8x1, .f32⟩ : BufTy).Contents (Elt F) → (⟨S4224x8x1, .f32⟩ : BufTy).Contents (Elt F) → (⟨S4224x8x1, .f32⟩ : BufTy).Contents (Elt F)),
    StableHlo.nullary main_cst_37 (constant S_ .f32 0x43800000#32),
    StableHlo.unary main_cst_37 main_v192 (broadcastInDim S4224x8x1 ![] bcast_S_S4224x8x1 : (⟨S_, .f32⟩ : BufTy).Contents (Elt F) → (⟨S4224x8x1, .f32⟩ : BufTy).Contents (Elt F)),
    StableHlo.binary main_v191 main_v192 main_v193 (Host.divf : (⟨S4224x8x1, .f32⟩ : BufTy).Contents (Elt F) → (⟨S4224x8x1, .f32⟩ : BufTy).Contents (Elt F) → (⟨S4224x8x1, .f32⟩ : BufTy).Contents (Elt F)),
    StableHlo.nullary main_cst_38 (constant S_ .f32 0x00000000#32),
    StableHlo.binary main_v193 main_cst_38 main_v194 ((fun x v => Host.reduceAdd x v reducesTo_S4224x8x1_S4224x8_d2 h_S_) : (⟨S4224x8x1, .f32⟩ : BufTy).Contents (Elt F) → (⟨S_, .f32⟩ : BufTy).Contents (Elt F) → (⟨S4224x8, .f32⟩ : BufTy).Contents (Elt F)),
    StableHlo.unary main_v194 main_v195 (broadcastInDim S4224x8x256 ![0, 1] bcast_S4224x8_S4224x8x256_0_1 : (⟨S4224x8, .f32⟩ : BufTy).Contents (Elt F) → (⟨S4224x8x256, .f32⟩ : BufTy).Contents (Elt F)),
    StableHlo.binary main_v151 main_v195 main_v196 (mulf : (⟨S4224x8x256, .f32⟩ : BufTy).Contents (Elt F) → (⟨S4224x8x256, .f32⟩ : BufTy).Contents (Elt F) → (⟨S4224x8x256, .f32⟩ : BufTy).Contents (Elt F)),
    StableHlo.binary main_v190 main_v196 main_v197 (addf : (⟨S4224x8x256, .f32⟩ : BufTy).Contents (Elt F) → (⟨S4224x8x256, .f32⟩ : BufTy).Contents (Elt F) → (⟨S4224x8x256, .f32⟩ : BufTy).Contents (Elt F)),
    StableHlo.binary main_v195 main_v151 main_v198 (mulf : (⟨S4224x8x256, .f32⟩ : BufTy).Contents (Elt F) → (⟨S4224x8x256, .f32⟩ : BufTy).Contents (Elt F) → (⟨S4224x8x256, .f32⟩ : BufTy).Contents (Elt F)),
    StableHlo.binary main_v197 main_v198 main_v199 (addf : (⟨S4224x8x256, .f32⟩ : BufTy).Contents (Elt F) → (⟨S4224x8x256, .f32⟩ : BufTy).Contents (Elt F) → (⟨S4224x8x256, .f32⟩ : BufTy).Contents (Elt F)) ]
theorem main_part4_ops0_sub : (main_part4_ops0 : List (HloOp τ sig (Elt F))).Forall fun op => op.bufs ⊆ StableHlo.tcRefs τ sig :=
  ⟨StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.binary_bufs_sub .., StableHlo.binary_bufs_sub ..⟩
theorem main_part4_ops0_fresh : (main_part4_ops0 : List (HloOp τ sig (Elt F))).Forall fun op => op.fresh = ∅ :=
  StableHlo.forall_fresh_of_map rfl
/-- What they write, in order. -/
abbrev main_part4_ops0_W : List (Ref sig .tc) := [main_v188, main_v189, main_v190, main_v191, main_cst_37, main_v192, main_v193, main_cst_38, main_v194, main_v195, main_v196, main_v197, main_v198, main_v199]
theorem main_part4_ops0_writes : (main_part4_ops0 : List (HloOp τ sig (Elt F))).Forall fun op => op.writes ⊆ (main_part4_ops0_W.map (Proc.devRef (τ := τ) .tc)).toFinset :=
  StableHlo.forall_writes_sub_of_map rfl

/-- 4 of the operations, in order. -/
abbrev main_part4_ops1 : List (HloOp τ sig (Elt F)) :=
  [ StableHlo.TRef.binary (.of main_v14 : StableHlo.TRef sig ⟨S4224x2048, .f32⟩) (.of main_v177 : StableHlo.TRef sig ⟨S4224x2048, .f32⟩) (.of main_call9_v0 : StableHlo.TRef sig ⟨S4224x2048, .f32⟩) mulf,
    StableHlo.TRef.binary (.of main_v177 : StableHlo.TRef sig ⟨S4224x2048, .f32⟩) (.of main_v152_2 : StableHlo.TRef sig ⟨S4224x2048, .f32⟩) (.of main_call9_v1 : StableHlo.TRef sig ⟨S4224x2048, .f32⟩) mulf,
    StableHlo.TRef.binary (.of main_call9_v0 : StableHlo.TRef sig ⟨S4224x2048, .f32⟩) (.of main_v152_1 : StableHlo.TRef sig ⟨S4224x2048, .f32⟩) (.of main_call9_v2 : StableHlo.TRef sig ⟨S4224x2048, .f32⟩) mulf,
    StableHlo.TRef.binary (.of main_call9_v1 : StableHlo.TRef sig ⟨S4224x2048, .f32⟩) (.of main_call9_v2 : StableHlo.TRef sig ⟨S4224x2048, .f32⟩) (.of main_v200 : StableHlo.TRef sig ⟨S4224x2048, .f32⟩) addf ]
theorem main_part4_ops1_sub : (main_part4_ops1 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub ..⟩
theorem main_part4_ops1_fresh : (main_part4_ops1 : List (HloOp τ sig (Elt F))).Forall fun op => op.fresh = ∅ :=
  StableHlo.forall_fresh_of_map rfl
/-- What they write, in order. -/
abbrev main_part4_ops1_W : List (Ref sig .tc) := [main_call9_v0, main_call9_v1, main_call9_v2, main_v200]
theorem main_part4_ops1_writes : (main_part4_ops1 : List (HloOp τ sig (Elt F))).Forall fun op => op.writes ⊆ (main_part4_ops1_W.map (Proc.devRef (τ := τ) .tc)).toFinset :=
  StableHlo.forall_writes_sub_of_map rfl

/-- 27 of the operations, in order. -/
abbrev main_part4_ops2 : List (HloOp τ sig (Elt F)) :=
  [ StableHlo.reshape main_v199 main_v201 (rfl : (.f32 : EltTy) = .f32) shapeCasts_S4224x8x256_S33x128x8x256,
    StableHlo.unary main_v201 main_v202 ((transpose S33x8x128x256 [0, 2, 1, 3] · transposes_S33x128x8x256_S33x8x128x256_0_2_1_3) : (⟨S33x128x8x256, .f32⟩ : BufTy).Contents (Elt F) → (⟨S33x8x128x256, .f32⟩ : BufTy).Contents (Elt F)),
    StableHlo.nullary main_cst_39 (constant S_ .f32 0x00000000#32),
    StableHlo.unary main_cst_39 main_v203 (broadcastInDim S8x256x256 ![] bcast_S_S8x256x256 : (⟨S_, .f32⟩ : BufTy).Contents (Elt F) → (⟨S8x256x256, .f32⟩ : BufTy).Contents (Elt F)),
    StableHlo.nullary main_cst_40 (constant S_ .f32 0x00000000#32),
    StableHlo.unary main_cst_40 main_v204 (broadcastInDim S33x8x128x256 ![] bcast_S_S33x8x128x256 : (⟨S_, .f32⟩ : BufTy).Contents (Elt F) → (⟨S33x8x128x256, .f32⟩ : BufTy).Contents (Elt F)),
    StableHlo.nullary main_cst_41 (constant S_ .f32 0x00000000#32),
    StableHlo.unary main_cst_41 main_v205 (broadcastInDim S33x8x128x256 ![] bcast_S_S33x8x128x256 : (⟨S_, .f32⟩ : BufTy).Contents (Elt F) → (⟨S33x8x128x256, .f32⟩ : BufTy).Contents (Elt F)),
    StableHlo.nullary main_cst_42 (constant S_ .f32 0x00000000#32),
    StableHlo.unary main_cst_42 main_v206 (broadcastInDim S33x8x128x256 ![] bcast_S_S33x8x128x256 : (⟨S_, .f32⟩ : BufTy).Contents (Elt F) → (⟨S33x8x128x256, .f32⟩ : BufTy).Contents (Elt F)),
    StableHlo.nullary main_c_43 (constantI S_ 32 0#32),
    StableHlo.unary main_v202 main_v207_0 id,
    StableHlo.unary main_v138 main_v207_1 id,
    StableHlo.unary main_v136 main_v207_2 id,
    StableHlo.unary main_v140 main_v207_3 id,
    StableHlo.unary main_v149_10 main_v207_4 id,
    StableHlo.unary main_v149_11 main_v207_5 id,
    StableHlo.unary main_v149_12 main_v207_6 id,
    StableHlo.unary main_v115 main_v207_7 id,
    StableHlo.unary main_v142 main_v207_8 id,
    StableHlo.unary main_v143 main_v207_9 id,
    StableHlo.unary main_v144 main_v207_10 id,
    StableHlo.unary main_c_43 main_v207_11 id,
    StableHlo.unary main_v203 main_v207_12 id,
    StableHlo.unary main_v204 main_v207_13 id,
    StableHlo.unary main_v205 main_v207_14 id,
    StableHlo.unary main_v206 main_v207_15 id ]
theorem main_part4_ops2_sub : (main_part4_ops2 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem main_part4_ops2_fresh : (main_part4_ops2 : List (HloOp τ sig (Elt F))).Forall fun op => op.fresh = ∅ :=
  StableHlo.forall_fresh_of_map rfl
/-- What they write, in order. -/
abbrev main_part4_ops2_W : List (Ref sig .tc) := [main_v201, main_v202, main_cst_39, main_v203, main_cst_40, main_v204, main_cst_41, main_v205, main_cst_42, main_v206, main_c_43, main_v207_0, main_v207_1, main_v207_2, main_v207_3, main_v207_4, main_v207_5, main_v207_6, main_v207_7, main_v207_8, main_v207_9, main_v207_10, main_v207_11, main_v207_12, main_v207_13, main_v207_14, main_v207_15]
theorem main_part4_ops2_writes : (main_part4_ops2 : List (HloOp τ sig (Elt F))).Forall fun op => op.writes ⊆ (main_part4_ops2_W.map (Proc.devRef (τ := τ) .tc)).toFinset :=
  StableHlo.forall_writes_sub_of_map rfl

/-- 17 of the operations, in order. -/
abbrev main_part4_ops3 : List (HloOp τ sig (Elt F)) :=
  [ StableHlo.unary main_v207_15 main_v208 ((transpose S33x128x8x256 [0, 2, 1, 3] · transposes_S33x8x128x256_S33x128x8x256_0_2_1_3) : (⟨S33x8x128x256, .f32⟩ : BufTy).Contents (Elt F) → (⟨S33x128x8x256, .f32⟩ : BufTy).Contents (Elt F)),
    StableHlo.reshape main_v208 main_v209 (rfl : (.f32 : EltTy) = .f32) shapeCasts_S33x128x8x256_S4224x8x256,
    StableHlo.unary main_v207_14 main_v210 ((transpose S33x128x8x256 [0, 2, 1, 3] · transposes_S33x8x128x256_S33x128x8x256_0_2_1_3) : (⟨S33x8x128x256, .f32⟩ : BufTy).Contents (Elt F) → (⟨S33x128x8x256, .f32⟩ : BufTy).Contents (Elt F)),
    StableHlo.reshape main_v210 main_v211 (rfl : (.f32 : EltTy) = .f32) shapeCasts_S33x128x8x256_S4224x8x256,
    StableHlo.unary main_v207_13 main_v212 ((transpose S33x128x8x256 [0, 2, 1, 3] · transposes_S33x8x128x256_S33x128x8x256_0_2_1_3) : (⟨S33x8x128x256, .f32⟩ : BufTy).Contents (Elt F) → (⟨S33x128x8x256, .f32⟩ : BufTy).Contents (Elt F)),
    StableHlo.reshape main_v212 main_v213 (rfl : (.f32 : EltTy) = .f32) shapeCasts_S33x128x8x256_S4224x8x256,
    StableHlo.unary main_v20 main_v214 (broadcastInDim S4224x8x256 ![0, 1, 2] bcast_S4224x1x1_S4224x8x256_0_1_2 : (⟨S4224x1x1, .f32⟩ : BufTy).Contents (Elt F) → (⟨S4224x8x256, .f32⟩ : BufTy).Contents (Elt F)),
    StableHlo.binary main_v209 main_v214 main_v215 (mulf : (⟨S4224x8x256, .f32⟩ : BufTy).Contents (Elt F) → (⟨S4224x8x256, .f32⟩ : BufTy).Contents (Elt F) → (⟨S4224x8x256, .f32⟩ : BufTy).Contents (Elt F)),
    StableHlo.reshape main_v215 main_v216 (rfl : (.f32 : EltTy) = .f32) shapeCasts_S4224x8x256_S4224x2048,
    StableHlo.unary main_v20 main_v217 (broadcastInDim S4224x8x256 ![0, 1, 2] bcast_S4224x1x1_S4224x8x256_0_1_2 : (⟨S4224x1x1, .f32⟩ : BufTy).Contents (Elt F) → (⟨S4224x8x256, .f32⟩ : BufTy).Contents (Elt F)),
    StableHlo.binary main_v211 main_v217 main_v218 (mulf : (⟨S4224x8x256, .f32⟩ : BufTy).Contents (Elt F) → (⟨S4224x8x256, .f32⟩ : BufTy).Contents (Elt F) → (⟨S4224x8x256, .f32⟩ : BufTy).Contents (Elt F)),
    StableHlo.unary main_v218 main_v219 ((extractStridedSlice S4224x8x128 ![0, 0, 0] · slices_S4224x8x256_S4224x8x128_0_0_0) : (⟨S4224x8x256, .f32⟩ : BufTy).Contents (Elt F) → (⟨S4224x8x128, .f32⟩ : BufTy).Contents (Elt F)),
    StableHlo.unary main_v218 main_v220 ((extractStridedSlice S4224x8x128 ![0, 0, 128] · slices_S4224x8x256_S4224x8x128_0_0_128) : (⟨S4224x8x256, .f32⟩ : BufTy).Contents (Elt F) → (⟨S4224x8x128, .f32⟩ : BufTy).Contents (Elt F)),
    StableHlo.unary main_v69 main_v221 (broadcastInDim S4224x8x128 ![0, 1, 2] bcast_S4224x1x128_S4224x8x128_0_1_2 : (⟨S4224x1x128, .f32⟩ : BufTy).Contents (Elt F) → (⟨S4224x8x128, .f32⟩ : BufTy).Contents (Elt F)),
    StableHlo.binary main_v220 main_v221 main_v222 (mulf : (⟨S4224x8x128, .f32⟩ : BufTy).Contents (Elt F) → (⟨S4224x8x128, .f32⟩ : BufTy).Contents (Elt F) → (⟨S4224x8x128, .f32⟩ : BufTy).Contents (Elt F)),
    StableHlo.unary main_v71 main_v223 (broadcastInDim S4224x8x128 ![0, 1, 2] bcast_S4224x1x128_S4224x8x128_0_1_2 : (⟨S4224x1x128, .f32⟩ : BufTy).Contents (Elt F) → (⟨S4224x8x128, .f32⟩ : BufTy).Contents (Elt F)),
    StableHlo.binary main_v220 main_v223 main_v224 (mulf : (⟨S4224x8x128, .f32⟩ : BufTy).Contents (Elt F) → (⟨S4224x8x128, .f32⟩ : BufTy).Contents (Elt F) → (⟨S4224x8x128, .f32⟩ : BufTy).Contents (Elt F)) ]
theorem main_part4_ops3_sub : (main_part4_ops3 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.reshape_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub ..⟩
theorem main_part4_ops3_fresh : (main_part4_ops3 : List (HloOp τ sig (Elt F))).Forall fun op => op.fresh = ∅ :=
  StableHlo.forall_fresh_of_map rfl
/-- What they write, in order. -/
abbrev main_part4_ops3_W : List (Ref sig .tc) := [main_v208, main_v209, main_v210, main_v211, main_v212, main_v213, main_v214, main_v215, main_v216, main_v217, main_v218, main_v219, main_v220, main_v221, main_v222, main_v223, main_v224]
theorem main_part4_ops3_writes : (main_part4_ops3 : List (HloOp τ sig (Elt F))).Forall fun op => op.writes ⊆ (main_part4_ops3_W.map (Proc.devRef (τ := τ) .tc)).toFinset :=
  StableHlo.forall_writes_sub_of_map rfl

/-- 48 of the operations, in order. -/
abbrev main_part5_ops0 : List (HloOp τ sig (Elt F)) :=
  ( StableHlo.unary main_v219 main_v225 (Host.negf : (⟨S4224x8x128, .f32⟩ : BufTy).Contents (Elt F) → (⟨S4224x8x128, .f32⟩ : BufTy).Contents (Elt F))
  :: StableHlo.unary main_v71 main_v226 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v225 main_v226 main_v227 (mulf : (⟨S4224x8x128, .f32⟩ : BufTy).Contents (Elt F) → (⟨S4224x8x128, .f32⟩ : BufTy).Contents (Elt F) → (⟨S4224x8x128, .f32⟩ : BufTy).Contents (Elt F))
  :: StableHlo.binary main_v222 main_v227 main_v228 (addf : (⟨S4224x8x128, .f32⟩ : BufTy).Contents (Elt F) → (⟨S4224x8x128, .f32⟩ : BufTy).Contents (Elt F) → (⟨S4224x8x128, .f32⟩ : BufTy).Contents (Elt F))
  :: StableHlo.unary main_v69 main_v229 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v219 main_v229 main_v230 (mulf : (⟨S4224x8x128, .f32⟩ : BufTy).Contents (Elt F) → (⟨S4224x8x128, .f32⟩ : BufTy).Contents (Elt F) → (⟨S4224x8x128, .f32⟩ : BufTy).Contents (Elt F))
  :: StableHlo.binary main_v224 main_v230 main_v231 (addf : (⟨S4224x8x128, .f32⟩ : BufTy).Contents (Elt F) → (⟨S4224x8x128, .f32⟩ : BufTy).Contents (Elt F) → (⟨S4224x8x128, .f32⟩ : BufTy).Contents (Elt F))
  :: StableHlo.nullary main_cst_44 (constant S_ .f32 0x00000000#32)
  :: StableHlo.binary main_v228 main_cst_44 main_v232 ((fun x v => pad S4224x8x256 ![0, 0, 128] ![0, 0, 0] ![0, 0, 0] x v pads_S4224x8x128_S4224x8x256_000_000_12800 h_S_) : (⟨S4224x8x128, .f32⟩ : BufTy).Contents (Elt F) → (⟨S_, .f32⟩ : BufTy).Contents (Elt F) → (⟨S4224x8x256, .f32⟩ : BufTy).Contents (Elt F))
  :: StableHlo.nullary main_cst_45 (constant S_ .f32 0x00000000#32)
  :: StableHlo.binary main_v231 main_cst_45 main_v233 ((fun x v => pad S4224x8x256 ![0, 0, 0] ![0, 0, 128] ![0, 0, 0] x v pads_S4224x8x128_S4224x8x256_000_000_01280 h_S_) : (⟨S4224x8x128, .f32⟩ : BufTy).Contents (Elt F) → (⟨S_, .f32⟩ : BufTy).Contents (Elt F) → (⟨S4224x8x256, .f32⟩ : BufTy).Contents (Elt F))
  :: StableHlo.binary main_v232 main_v233 main_v234 (addf : (⟨S4224x8x256, .f32⟩ : BufTy).Contents (Elt F) → (⟨S4224x8x256, .f32⟩ : BufTy).Contents (Elt F) → (⟨S4224x8x256, .f32⟩ : BufTy).Contents (Elt F))
  :: StableHlo.reshape main_v234 main_v235 (rfl : (.f32 : EltTy) = .f32) shapeCasts_S4224x8x256_S4224x2048
  :: StableHlo.nullary main_cst_46 (constant S_ .f32 0x3D800000#32)
  :: StableHlo.unary main_cst_46 main_v236 (broadcastInDim S4224x8x256 ![] bcast_S_S4224x8x256 : (⟨S_, .f32⟩ : BufTy).Contents (Elt F) → (⟨S4224x8x256, .f32⟩ : BufTy).Contents (Elt F))
  :: StableHlo.binary main_v213 main_v236 main_v237 (mulf : (⟨S4224x8x256, .f32⟩ : BufTy).Contents (Elt F) → (⟨S4224x8x256, .f32⟩ : BufTy).Contents (Elt F) → (⟨S4224x8x256, .f32⟩ : BufTy).Contents (Elt F))
  :: StableHlo.unary main_v237 main_v238 ((extractStridedSlice S4224x8x128 ![0, 0, 0] · slices_S4224x8x256_S4224x8x128_0_0_0) : (⟨S4224x8x256, .f32⟩ : BufTy).Contents (Elt F) → (⟨S4224x8x128, .f32⟩ : BufTy).Contents (Elt F))
  :: StableHlo.unary main_v237 main_v239 ((extractStridedSlice S4224x8x128 ![0, 0, 128] · slices_S4224x8x256_S4224x8x128_0_0_128) : (⟨S4224x8x256, .f32⟩ : BufTy).Contents (Elt F) → (⟨S4224x8x128, .f32⟩ : BufTy).Contents (Elt F))
  :: StableHlo.unary main_v38 main_v240 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v239 main_v240 main_v241 (mulf : (⟨S4224x8x128, .f32⟩ : BufTy).Contents (Elt F) → (⟨S4224x8x128, .f32⟩ : BufTy).Contents (Elt F) → (⟨S4224x8x128, .f32⟩ : BufTy).Contents (Elt F))
  :: StableHlo.unary main_v40 main_v242 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v239 main_v242 main_v243 (mulf : (⟨S4224x8x128, .f32⟩ : BufTy).Contents (Elt F) → (⟨S4224x8x128, .f32⟩ : BufTy).Contents (Elt F) → (⟨S4224x8x128, .f32⟩ : BufTy).Contents (Elt F))
  :: StableHlo.unary main_v238 main_v244 (Host.negf : (⟨S4224x8x128, .f32⟩ : BufTy).Contents (Elt F) → (⟨S4224x8x128, .f32⟩ : BufTy).Contents (Elt F))
  :: StableHlo.unary main_v40 main_v245 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v244 main_v245 main_v246 (mulf : (⟨S4224x8x128, .f32⟩ : BufTy).Contents (Elt F) → (⟨S4224x8x128, .f32⟩ : BufTy).Contents (Elt F) → (⟨S4224x8x128, .f32⟩ : BufTy).Contents (Elt F))
  :: StableHlo.binary main_v241 main_v246 main_v247 (addf : (⟨S4224x8x128, .f32⟩ : BufTy).Contents (Elt F) → (⟨S4224x8x128, .f32⟩ : BufTy).Contents (Elt F) → (⟨S4224x8x128, .f32⟩ : BufTy).Contents (Elt F))
  :: StableHlo.unary main_v38 main_v248 (broadcastInDim S4224x8x128 ![0, 1, 2] bcast_S4224x1x128_S4224x8x128_0_1_2 : (⟨S4224x1x128, .f32⟩ : BufTy).Contents (Elt F) → (⟨S4224x8x128, .f32⟩ : BufTy).Contents (Elt F))
  :: StableHlo.binary main_v238 main_v248 main_v249 (mulf : (⟨S4224x8x128, .f32⟩ : BufTy).Contents (Elt F) → (⟨S4224x8x128, .f32⟩ : BufTy).Contents (Elt F) → (⟨S4224x8x128, .f32⟩ : BufTy).Contents (Elt F))
  :: StableHlo.binary main_v243 main_v249 main_v250 (addf : (⟨S4224x8x128, .f32⟩ : BufTy).Contents (Elt F) → (⟨S4224x8x128, .f32⟩ : BufTy).Contents (Elt F) → (⟨S4224x8x128, .f32⟩ : BufTy).Contents (Elt F))
  :: StableHlo.nullary main_cst_47 (constant S_ .f32 0x00000000#32)
  :: StableHlo.binary main_v247 main_cst_47 main_v251 ((fun x v => pad S4224x8x256 ![0, 0, 128] ![0, 0, 0] ![0, 0, 0] x v pads_S4224x8x128_S4224x8x256_000_000_12800 h_S_) : (⟨S4224x8x128, .f32⟩ : BufTy).Contents (Elt F) → (⟨S_, .f32⟩ : BufTy).Contents (Elt F) → (⟨S4224x8x256, .f32⟩ : BufTy).Contents (Elt F))
  :: StableHlo.nullary main_cst_48 (constant S_ .f32 0x00000000#32)
  :: StableHlo.binary main_v250 main_cst_48 main_v252 ((fun x v => pad S4224x8x256 ![0, 0, 0] ![0, 0, 128] ![0, 0, 0] x v pads_S4224x8x128_S4224x8x256_000_000_01280 h_S_) : (⟨S4224x8x128, .f32⟩ : BufTy).Contents (Elt F) → (⟨S_, .f32⟩ : BufTy).Contents (Elt F) → (⟨S4224x8x256, .f32⟩ : BufTy).Contents (Elt F))
  :: StableHlo.binary main_v251 main_v252 main_v253 (addf : (⟨S4224x8x256, .f32⟩ : BufTy).Contents (Elt F) → (⟨S4224x8x256, .f32⟩ : BufTy).Contents (Elt F) → (⟨S4224x8x256, .f32⟩ : BufTy).Contents (Elt F))
  :: StableHlo.reshape main_v253 main_v254 (rfl : (.f32 : EltTy) = .f32) shapeCasts_S4224x8x256_S4224x2048
  :: StableHlo.unary main_v200 main_v255 ((extractStridedSlice S112x2048 ![0, 0] · slices_S4224x2048_S112x2048_0_0) : (⟨S4224x2048, .f32⟩ : BufTy).Contents (Elt F) → (⟨S112x2048, .f32⟩ : BufTy).Contents (Elt F))
  :: StableHlo.unary main_v200 main_v256 ((extractStridedSlice S4112x2048 ![112, 0] · slices_S4224x2048_S4112x2048_112_0) : (⟨S4224x2048, .f32⟩ : BufTy).Contents (Elt F) → (⟨S4112x2048, .f32⟩ : BufTy).Contents (Elt F))
  :: StableHlo.unary main_v216 main_v257 ((extractStridedSlice S112x2048 ![0, 0] · slices_S4224x2048_S112x2048_0_0) : (⟨S4224x2048, .f32⟩ : BufTy).Contents (Elt F) → (⟨S112x2048, .f32⟩ : BufTy).Contents (Elt F))
  :: StableHlo.unary main_v216 main_v258 ((extractStridedSlice S4112x2048 ![112, 0] · slices_S4224x2048_S4112x2048_112_0) : (⟨S4224x2048, .f32⟩ : BufTy).Contents (Elt F) → (⟨S4112x2048, .f32⟩ : BufTy).Contents (Elt F))
  :: StableHlo.unary main_v235 main_v259 ((extractStridedSlice S112x2048 ![0, 0] · slices_S4224x2048_S112x2048_0_0) : (⟨S4224x2048, .f32⟩ : BufTy).Contents (Elt F) → (⟨S112x2048, .f32⟩ : BufTy).Contents (Elt F))
  :: StableHlo.unary main_v235 main_v260 ((extractStridedSlice S4112x2048 ![112, 0] · slices_S4224x2048_S4112x2048_112_0) : (⟨S4224x2048, .f32⟩ : BufTy).Contents (Elt F) → (⟨S4112x2048, .f32⟩ : BufTy).Contents (Elt F))
  :: StableHlo.unary main_v254 main_v261 ((extractStridedSlice S112x2048 ![0, 0] · slices_S4224x2048_S112x2048_0_0) : (⟨S4224x2048, .f32⟩ : BufTy).Contents (Elt F) → (⟨S112x2048, .f32⟩ : BufTy).Contents (Elt F))
  :: StableHlo.unary main_v254 main_v262 ((extractStridedSlice S4112x2048 ![112, 0] · slices_S4224x2048_S4112x2048_112_0) : (⟨S4224x2048, .f32⟩ : BufTy).Contents (Elt F) → (⟨S4112x2048, .f32⟩ : BufTy).Contents (Elt F))
  :: StableHlo.unary main_v172 main_v263 ((truncf .bf16 · bitsLt_bf16_f32) : (⟨S4112x2048, .f32⟩ : BufTy).Contents (Elt F) → (⟨S4112x2048, .bf16⟩ : BufTy).Contents (Elt F))
  :: StableHlo.unary main_v262 main_v264 ((truncf .bf16 · bitsLt_bf16_f32) : (⟨S4112x2048, .f32⟩ : BufTy).Contents (Elt F) → (⟨S4112x2048, .bf16⟩ : BufTy).Contents (Elt F))
  :: StableHlo.unary main_v260 main_v265 ((truncf .bf16 · bitsLt_bf16_f32) : (⟨S4112x2048, .f32⟩ : BufTy).Contents (Elt F) → (⟨S4112x2048, .bf16⟩ : BufTy).Contents (Elt F))
  :: StableHlo.unary main_v258 main_v266 ((truncf .bf16 · bitsLt_bf16_f32) : (⟨S4112x2048, .f32⟩ : BufTy).Contents (Elt F) → (⟨S4112x2048, .bf16⟩ : BufTy).Contents (Elt F))
  :: StableHlo.unary main_v256 main_v267 ((truncf .bf16 · bitsLt_bf16_f32) : (⟨S4112x2048, .f32⟩ : BufTy).Contents (Elt F) → (⟨S4112x2048, .bf16⟩ : BufTy).Contents (Elt F))
  :: [] )
theorem main_part5_ops0_sub : (main_part5_ops0 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem main_part5_ops0_fresh : (main_part5_ops0 : List (HloOp τ sig (Elt F))).Forall fun op => op.fresh = ∅ :=
  StableHlo.forall_fresh_of_map rfl
/-- What they write, in order. -/
abbrev main_part5_ops0_W : List (Ref sig .tc) := [main_v225, main_v226, main_v227, main_v228, main_v229, main_v230, main_v231, main_cst_44, main_v232, main_cst_45, main_v233, main_v234, main_v235, main_cst_46, main_v236, main_v237, main_v238, main_v239, main_v240, main_v241, main_v242, main_v243, main_v244, main_v245, main_v246, main_v247, main_v248, main_v249, main_v250, main_cst_47, main_v251, main_cst_48, main_v252, main_v253, main_v254, main_v255, main_v256, main_v257, main_v258, main_v259, main_v260, main_v261, main_v262, main_v263, main_v264, main_v265, main_v266, main_v267]
theorem main_part5_ops0_writes : (main_part5_ops0 : List (HloOp τ sig (Elt F))).Forall fun op => op.writes ⊆ (main_part5_ops0_W.map (Proc.devRef (τ := τ) .tc)).toFinset :=
  StableHlo.forall_writes_sub_of_map rfl

theorem main_part5_chain (c : Dev nD) : main_part5 (F := F) c = (Pipeline.chain
  [ StableHlo.seq main_part5_ops0 ] : Prog (TpuEff nD τ sig (Elt F) (HostLoop.Sig (Pipeline.Sig Λ₀ (Fin 0) fun p => (pcfgs (F := F) p).Adm) 2) .tc) PUnit) := by
  rewrite [StableHlo.chain_seq_cons]
  chain_rfl

end Cert.ReferenceIdeal.Ret

end
-- ==== Proof.RefOpsD.lean ====
/- The reference: its program as a chain of operations and loops. -/
module

public import proofs.«01_k».proof.Proof.RefOpsA
public import proofs.«01_k».proof.Proof.RefOpsB

@[expose] public section

set_option maxRecDepth 100000

noncomputable section

namespace Cert.ReferenceIdeal.Ret

open Idealize.ShloMosaic Idealize.ShloMosaic.TcCoe Idealize.ShloMosaic.Tactic
open Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

/-! The whole program as a chain. -/

theorem main_part3_chain (c : Dev nD) : main_part3 (F := F) c = (Pipeline.chainK
  [ StableHlo.seq main_part3_ops0,
    HostLoop.enter 0,
    StableHlo.seq main_part3_ops1,
    StableHlo.seq main_part3_ops2 ]
  (StableHlo.seq main_part3_ops3) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

theorem main_part4_chain (c : Dev nD) : main_part4 (F := F) c = (Pipeline.chainK
  [ StableHlo.seq main_part4_ops0,
    StableHlo.seq main_part4_ops1,
    StableHlo.seq main_part4_ops2,
    HostLoop.enter 1 ]
  (StableHlo.seq main_part4_ops3) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

theorem main_chain_windows (c : Dev nD) : main (F := F) c = (Pipeline.chain
  [ StableHlo.seq main_part0_ops0,
    StableHlo.seq main_part1_ops0,
    StableHlo.seq main_part2_ops0,
    StableHlo.seq main_part2_ops1,
    StableHlo.seq main_part2_ops2,
    StableHlo.seq main_part3_ops0,
    HostLoop.enter 0,
    StableHlo.seq main_part3_ops1,
    StableHlo.seq main_part3_ops2,
    StableHlo.seq main_part3_ops3,
    StableHlo.seq main_part4_ops0,
    StableHlo.seq main_part4_ops1,
    StableHlo.seq main_part4_ops2,
    HostLoop.enter 1,
    StableHlo.seq main_part4_ops3,
    StableHlo.seq main_part5_ops0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c >>= fun _ => main_part4 (F := F) c >>= fun _ => main_part5 (F := F) c) = _
  rewrite [main_part5_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

end Cert.ReferenceIdeal.Ret

end
-- ==== Proof.RefRun.lean ====
/- The reference launched: both of its loops counted, its contents between them, and its frame. -/
module

public import Idealize.ShloMosaic.Lib.Claim
public import Idealize.ShloMosaic.Lib.StableHlo.RunRead
public import Idealize.ShloMosaic.Lib.Scf.ExitTest
public import Idealize.ShloMosaic.Lib.Scf.Counter
public import proofs.«01_k».proof.Proof.RefOpsC
public import proofs.«01_k».proof.Proof.RefOpsD

@[expose] public section

set_option maxRecDepth 100000

noncomputable section

namespace Cert.ReferenceIdeal.Ret

open Idealize.ShloMosaic Idealize.ShloMosaic.TcCoe Idealize.ShloMosaic.Tactic
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs unscopedBufs_held sub_ucRefs)
open Cert.ReferenceIdeal Cert.ReferenceIdeal.Gen

variable {F : FTy → Type} [FloatOps F]

/-! ## The stretches -/

/-- The condition of the first loop, and of the second. -/
abbrev cond0 : List (HloOp τ sig (Elt F)) :=
  [ StableHlo.nullary main_while0c_c_61 (constantI S_ 32 33#32),
    StableHlo.binary main_v149_7 main_while0c_c_61 main_while0c_v268 (cmpi .slt) ]
abbrev cond1 : List (HloOp τ sig (Elt F)) :=
  [ StableHlo.nullary main_while1c_c_64 (constantI S_ 32 33#32),
    StableHlo.binary main_v207_11 main_while1c_c_64 main_while1c_v268 (cmpi .slt) ]
abbrev preI : List (List (HloOp τ sig (Elt F))) := [main_part0_ops0, main_part1_ops0, main_part2_ops0, main_part2_ops1, main_part2_ops2, main_part3_ops0]
abbrev midI : List (List (HloOp τ sig (Elt F))) := [main_part3_ops1, main_part3_ops2, main_part3_ops3, main_part4_ops0, main_part4_ops1, main_part4_ops2]
abbrev postI : List (List (HloOp τ sig (Elt F))) := [main_part4_ops3, main_part5_ops0]
abbrev body0 : List (List (HloOp τ sig (Elt F))) := [while0Ops0, while0Ops0_1, while0Ops0_2, while0Ops0_3, while0Ops0_4, while0Ops0_5, while0Ops0_6, while0Ops0_7, while0Ops0_8]
abbrev body1 : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12]

theorem hpre : Plain (preI (F := F)) := (.cons main_part0_ops0_sub (hf := List.forall_iff_forall_mem.mp main_part0_ops0_fresh) (.cons main_part1_ops0_sub (hf := List.forall_iff_forall_mem.mp main_part1_ops0_fresh) (.cons main_part2_ops0_sub (hf := List.forall_iff_forall_mem.mp main_part2_ops0_fresh) (.cons main_part2_ops1_sub (hf := List.forall_iff_forall_mem.mp main_part2_ops1_fresh) (.cons main_part2_ops2_sub (hf := List.forall_iff_forall_mem.mp main_part2_ops2_fresh) (.cons main_part3_ops0_sub (hf := List.forall_iff_forall_mem.mp main_part3_ops0_fresh) .nil))))))
theorem hmid : Plain (midI (F := F)) := (.cons main_part3_ops1_sub (hf := List.forall_iff_forall_mem.mp main_part3_ops1_fresh) (.cons main_part3_ops2_sub (hf := List.forall_iff_forall_mem.mp main_part3_ops2_fresh) (.cons main_part3_ops3_sub (hf := List.forall_iff_forall_mem.mp main_part3_ops3_fresh) (.cons main_part4_ops0_sub (hf := List.forall_iff_forall_mem.mp main_part4_ops0_fresh) (.cons main_part4_ops1_sub (hf := List.forall_iff_forall_mem.mp main_part4_ops1_fresh) (.cons main_part4_ops2_sub (hf := List.forall_iff_forall_mem.mp main_part4_ops2_fresh) .nil))))))
theorem hpost : Plain (postI (F := F)) := (.cons main_part4_ops3_sub (hf := List.forall_iff_forall_mem.mp main_part4_ops3_fresh) (.cons main_part5_ops0_sub (hf := List.forall_iff_forall_mem.mp main_part5_ops0_fresh) .nil))
theorem hbody0 : Plain (body0 (F := F)) := (.cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) .nil)))))))))
theorem hbody1 : Plain (body1 (F := F)) := (.cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.cons while1Ops0_9_sub (hf := List.forall_iff_forall_mem.mp while1Ops0_9_fresh) (.cons while1Ops0_10_sub (hf := List.forall_iff_forall_mem.mp while1Ops0_10_fresh) (.cons while1Ops0_11_sub (hf := List.forall_iff_forall_mem.mp while1Ops0_11_fresh) (.cons while1Ops0_12_sub (hf := List.forall_iff_forall_mem.mp while1Ops0_12_fresh) .nil)))))))))))))

abbrev cond0_W : List (Ref sig .tc) := [main_while0c_c_61, main_while0c_v268]
abbrev cond1_W : List (Ref sig .tc) := [main_while1c_c_64, main_while1c_v268]
theorem cond0_writes : (cond0 : List (HloOp τ sig (Elt F))).Forall fun op => op.writes ⊆ (cond0_W.map (Proc.devRef (τ := τ) .tc)).toFinset :=
  StableHlo.forall_writes_sub_of_map rfl
theorem cond1_writes : (cond1 : List (HloOp τ sig (Elt F))).Forall fun op => op.writes ⊆ (cond1_W.map (Proc.devRef (τ := τ) .tc)).toFinset :=
  StableHlo.forall_writes_sub_of_map rfl

/-! ## The trip counters -/

set_option maxRecDepth 100000 in
theorem ctr0_step (X : Valuation τ sig (Elt F)) :
    after while0Ops0_8 X (Proc.devRef .tc main_v149_7) = addi (X (Proc.devRef .tc main_v149_7)) (constantI S_ 32 1#32) := by
  after_results
  rfl

/-- Ahead of the `k`-th condition the counter is `k`. -/
theorem ctr0 (W : Dev nD → Valuation τ sig (Elt F)) (h : ∀ c, W c (Proc.devRef .tc main_v149_7) = fun _ => (0#32 : BitVec 32)) (c : Dev nD) :
    ∀ k, atTrip cond0 body0 W k c (Proc.devRef .tc main_v149_7) = fun _ => Scf.iv 0#32 1#32 k
  | 0 => by rw [show atTrip cond0 body0 W 0 c = W c from rfl, h, Scf.iv_zero]
  | k + 1 => by
    rw [show atTrip cond0 body0 W (k + 1) c = afterL body0 (after cond0 (atTrip cond0 body0 W k c)) from rfl]
    simp only [afterL_cons, afterL_nil]
    rw [ctr0_step]
    rw [after_of_writes_sub while0Ops0_7 _ while0Ops0_7_writes (by decide +kernel)]
    rw [after_of_writes_sub while0Ops0_6 _ while0Ops0_6_writes (by decide +kernel)]
    rw [after_of_writes_sub while0Ops0_5 _ while0Ops0_5_writes (by decide +kernel)]
    rw [after_of_writes_sub while0Ops0_4 _ while0Ops0_4_writes (by decide +kernel)]
    rw [after_of_writes_sub while0Ops0_3 _ while0Ops0_3_writes (by decide +kernel)]
    rw [after_of_writes_sub while0Ops0_2 _ while0Ops0_2_writes (by decide +kernel)]
    rw [after_of_writes_sub while0Ops0_1 _ while0Ops0_1_writes (by decide +kernel)]
    rw [after_of_writes_sub while0Ops0 _ while0Ops0_writes (by decide +kernel)]
    rw [after_of_writes_sub cond0 _ cond0_writes (by decide +kernel), ctr0 W h c k, Scf.iv_succ]
    rfl

set_option backward.isDefEq.respectTransparency.types false in
/-- The condition holds ahead of the first 33 trips and fails after them. -/
theorem spec0 (W : Dev nD → Valuation τ sig (Elt F)) (h : ∀ c, W c (Proc.devRef .tc main_v149_7) = fun _ => (0#32 : BitVec 32)) :
    CondSpec (pcfgs (F := F)) defs₀ loops (main_while0_cond (F := F)) cond0 body0 W 33 := by
  intro k hk c bd
  have hctr := ctr0 W h c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 W k c) main_v149_7 HostLoop.idx0)
        (HloOp.result _ (atTrip cond0 body0 W k c) main_while0c_c_61 HostLoop.idx0) = 1#1) (k < 33)
    rw [nullary_result_ne _ _ _ _ (by decide), nullary_result, hctr]
    exact Scf.cmpi_slt_iv_ub_iff (lb := 0#32) (ub := 33#32) (st := 1#32) (by decide) (show k ≤ Scf.trips 0#32 33#32 1#32 from hk)
  isplitl [Hb]; · iexact Hb
  rw [after_cons, after_cons, after_nil]; iexact Hh

set_option maxRecDepth 100000 in
theorem ctr1_step (X : Valuation τ sig (Elt F)) :
    after while1Ops0_12 X (Proc.devRef .tc main_v207_11) = addi (X (Proc.devRef .tc main_v207_11)) (constantI S_ 32 1#32) := by
  after_results
  rfl

/-- Ahead of the `k`-th condition the counter is `k`. -/
theorem ctr1 (W : Dev nD → Valuation τ sig (Elt F)) (h : ∀ c, W c (Proc.devRef .tc main_v207_11) = fun _ => (0#32 : BitVec 32)) (c : Dev nD) :
    ∀ k, atTrip cond1 body1 W k c (Proc.devRef .tc main_v207_11) = fun _ => Scf.iv 0#32 1#32 k
  | 0 => by rw [show atTrip cond1 body1 W 0 c = W c from rfl, h, Scf.iv_zero]
  | k + 1 => by
    rw [show atTrip cond1 body1 W (k + 1) c = afterL body1 (after cond1 (atTrip cond1 body1 W k c)) from rfl]
    simp only [afterL_cons, afterL_nil]
    rw [ctr1_step]
    rw [after_of_writes_sub while1Ops0_11 _ while1Ops0_11_writes (by decide +kernel)]
    rw [after_of_writes_sub while1Ops0_10 _ while1Ops0_10_writes (by decide +kernel)]
    rw [after_of_writes_sub while1Ops0_9 _ while1Ops0_9_writes (by decide +kernel)]
    rw [after_of_writes_sub while1Ops0_8 _ while1Ops0_8_writes (by decide +kernel)]
    rw [after_of_writes_sub while1Ops0_7 _ while1Ops0_7_writes (by decide +kernel)]
    rw [after_of_writes_sub while1Ops0_6 _ while1Ops0_6_writes (by decide +kernel)]
    rw [after_of_writes_sub while1Ops0_5 _ while1Ops0_5_writes (by decide +kernel)]
    rw [after_of_writes_sub while1Ops0_4 _ while1Ops0_4_writes (by decide +kernel)]
    rw [after_of_writes_sub while1Ops0_3 _ while1Ops0_3_writes (by decide +kernel)]
    rw [after_of_writes_sub while1Ops0_2 _ while1Ops0_2_writes (by decide +kernel)]
    rw [after_of_writes_sub while1Ops0_1 _ while1Ops0_1_writes (by decide +kernel)]
    rw [after_of_writes_sub while1Ops0 _ while1Ops0_writes (by decide +kernel)]
    rw [after_of_writes_sub cond1 _ cond1_writes (by decide +kernel), ctr1 W h c k, Scf.iv_succ]
    rfl

set_option backward.isDefEq.respectTransparency.types false in
/-- The condition holds ahead of the first 33 trips and fails after them. -/
theorem spec1 (W : Dev nD → Valuation τ sig (Elt F)) (h : ∀ c, W c (Proc.devRef .tc main_v207_11) = fun _ => (0#32 : BitVec 32)) :
    CondSpec (pcfgs (F := F)) defs₀ loops (main_while1_cond (F := F)) cond1 body1 W 33 := by
  intro k hk c bd
  have hctr := ctr1 W h c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 W k c) main_v207_11 HostLoop.idx0)
        (HloOp.result _ (atTrip cond1 body1 W k c) main_while1c_c_64 HostLoop.idx0) = 1#1) (k < 33)
    rw [nullary_result_ne _ _ _ _ (by decide), nullary_result, hctr]
    exact Scf.cmpi_slt_iv_ub_iff (lb := 0#32) (ub := 33#32) (st := 1#32) (by decide) (show k ≤ Scf.trips 0#32 33#32 1#32 from hk)
  isplitl [Hb]; · iexact Hb
  rw [after_cons, after_cons, after_nil]; iexact Hh

/-! ## The contents between the stretches and the loops -/

variable (m : (ℓ : Loc nD τ sig) → Buf (Elt F) ℓ) (ρ : Dev nD → PrngReg)

/-- The buffers where the first loop is entered and left, where the second is, and at the end. -/
abbrev E0 (c : Dev nD) : Valuation τ sig (Elt F) := afterL preI (launchContents m c)
abbrev E1 (c : Dev nD) : Valuation τ sig (Elt F) := after cond0 (atTrip cond0 body0 (E0 m) 33 c)
abbrev E2 (c : Dev nD) : Valuation τ sig (Elt F) := afterL midI (E1 m c)
abbrev E3 (c : Dev nD) : Valuation τ sig (Elt F) := after cond1 (atTrip cond1 body1 (E2 m) 33 c)
abbrev E4 (c : Dev nD) : Valuation τ sig (Elt F) := afterL postI (E3 m c)

theorem entry0 (c : Dev nD) : E0 m c (Proc.devRef .tc main_v149_7) = fun _ => (0#32 : BitVec 32) := by
  simp only [E0, afterL_cons, afterL_nil]
  after_reads_simp
  rfl
theorem entry1 (c : Dev nD) : E2 m c (Proc.devRef .tc main_v207_11) = fun _ => (0#32 : BitVec 32) := by
  simp only [E2, afterL_cons, afterL_nil]
  generalize E1 m c = V
  after_reads_simp
  rfl

/-! ## The run -/

local notation "𝕄" => MT nD τ sig Unit (Elt F) ℕ (Option PUnit) ℕ

abbrev adm₀ : (p : Fin 0) → (pcfgs (F := F) p).Adm := fun p => p.elim0
abbrev tk₀ : Fin 0 → Ticket (Ix := Unit) (Name := ℕ) (U := Option PUnit) (Lvl := ℕ) (nD := nD) (τ := τ) (pcfgs (F := F)) adm₀ := fun j => j.elim0
abbrev L₀ : GSem nD τ sig → Finset Unit := fun _ => ∅
abbrev lv₀ : GSem nD τ sig → Unit → ℕ := fun _ _ => 0
theorem inj₀ : Function.Injective (Pipeline.cellOf (nD := nD) (τ := τ) (Pipeline.pin (pcfgs (F := F)) adm₀)) := fun k => k.1.elim0
abbrev Rw₀ (c : Dev nD) : sProp 𝕄 := iprop(∃ W, owes (c : Thread nD τ) (0 : CellTallies nD τ sig Unit) W)

/-- The condition's specification with the rest of the core's state beside it. -/
theorem specRest {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (pcfgs (F := F)) defs₀ Variants.none loops Rw₀ cond condOps bodyI W₀ n := fun k hk c bd => by
  have hc := hcond k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Rw₀ c)
        ⊢ iprop(⌜v = 1#1 ↔ k < n⌝ ∗ boundary (c : Thread nD τ) ∗ held (c : Thread nD τ) (ucRefs τ sig) (after condOps (atTrip condOps bodyI W₀ k c)) ∗ Rw₀ c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

/-- The program's segments. -/
def parts : List (CSeg (pcfgs (F := F)) adm₀ defs₀ Variants.none L₀ lv₀ loops tk₀) :=
  segsOf _ _ _ _ _ _ _ _ Rw₀ preI hpre (launchContents m)
    ++ loopSeg _ _ _ _ _ _ _ _ 0 main_while0_cond main_while0_body rfl cond0 body0 hbody0 (by rw [while0_body_chain]; rfl) 33 (E0 m) Rw₀ (specRest (spec0 (E0 m) (entry0 m)))
      :: (segsOf _ _ _ _ _ _ _ _ Rw₀ midI hmid (E1 m)
        ++ loopSeg _ _ _ _ _ _ _ _ 1 main_while1_cond main_while1_body rfl cond1 body1 hbody1 (by rw [while1_body_chain]; rfl) 33 (E2 m) Rw₀ (specRest (spec1 (E2 m) (entry1 m)))
          :: segsOf _ _ _ _ _ _ _ _ Rw₀ postI hpost (E3 m))

theorem parts_prog : (parts m).map CSeg.prog
    = (preI.map fun ops => (seq ops : Prog _ PUnit)) ++ HostLoop.enter 0 :: ((midI.map fun ops => (seq ops : Prog _ PUnit))
      ++ HostLoop.enter 1 :: postI.map fun ops => (seq ops : Prog _ PUnit)) := by
  unfold parts
  rw [List.map_append, List.map_cons, List.map_append, List.map_cons, segsOf_prog, segsOf_prog, segsOf_prog]
  rfl

theorem parts_chain : CSeg.Chains (fun c => iprop(held (c : Thread nD τ) (ucRefs τ sig) (launchContents m c) ∗ Rw₀ c)) (parts m)
    (fun c => iprop(iprop(held (c : Thread nD τ) (ucRefs τ sig) (E4 m c)) ∗ ∃ W, owes (c : Thread nD τ) (0 : CellTallies nD τ sig Unit) W)) := by
  unfold parts
  exact CSeg.Chains.append (segsOf_chains _ _ _ _ _ _ _ _ Rw₀ preI hpre _)
    ⟨fun _ => .rfl, CSeg.Chains.append (segsOf_chains _ _ _ _ _ _ _ _ Rw₀ midI hmid _) ⟨fun _ => .rfl, segsOf_chains _ _ _ _ _ _ _ _ Rw₀ postI hpost _⟩⟩

/-- Every execution ends, with every buffer at the last contents and every semaphore counter at zero. -/
theorem ends : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = E4 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm₀ inj₀ defs₀ Variants.none L₀ lv₀ loops tk₀ m ρ main (parts m)
    (fun c Q => by
      rw [main_chain_windows c]
      show wp _ _ _ (Pipeline.chain ((parts m).map CSeg.prog)) Q ⊢ _
      rw [parts_prog]
      exact BIBase.Entails.rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw₀ c))
    (Tₙ := fun c => iprop(held (c : Thread nD τ) (ucRefs τ sig) (E4 m c)))
    (hch := parts_chain m)
    (hinit := by
      refine Pipeline.initEach L₀ lv₀ fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = E4 m c b)
    (hfin := fun c s' => by
      unfold held
      iintro ⟨Hh, HSI⟩
      ihave Hr := (pointsTo_read_all (ucRefs τ sig) (fun b => ((c : Dev nD), b)) (fun b => E4 m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), sem_eq_zero hs fun c sm hsm => by
      cases sm with
      | reg i => exact i.elim0
      | dma i => exact i.elim0⟩)

theorem E4_main_arg0 (c : Dev nD) : E4 m c (Proc.devRef .tc main_arg0) = m (c, Proc.devRef .tc main_arg0) := by
  have h0 : E0 m c (Proc.devRef .tc main_arg0) = m (c, Proc.devRef .tc main_arg0) := by
    simp only [E0, afterL_cons, afterL_nil]
    rw [after_of_writes_sub main_part3_ops0 _ main_part3_ops0_writes (by decide +kernel), after_of_writes_sub main_part2_ops2 _ main_part2_ops2_writes (by decide +kernel), after_of_writes_sub main_part2_ops1 _ main_part2_ops1_writes (by decide +kernel), after_of_writes_sub main_part2_ops0 _ main_part2_ops0_writes (by decide +kernel), after_of_writes_sub main_part1_ops0 _ main_part1_ops0_writes (by decide +kernel), after_of_writes_sub main_part0_ops0 _ main_part0_ops0_writes (by decide +kernel)]
  have h1 : ∀ k, atTrip cond0 body0 (E0 m) k c (Proc.devRef .tc main_arg0) = m (c, Proc.devRef .tc main_arg0) := by
    intro k
    induction k with
    | zero => exact h0
    | succ k ih =>
      rw [show atTrip cond0 body0 (E0 m) (k + 1) c = afterL body0 (after cond0 (atTrip cond0 body0 (E0 m) k c)) from rfl]
      simp only [afterL_cons, afterL_nil]
      rw [after_of_writes_sub while0Ops0_8 _ while0Ops0_8_writes (by decide +kernel), after_of_writes_sub while0Ops0_7 _ while0Ops0_7_writes (by decide +kernel), after_of_writes_sub while0Ops0_6 _ while0Ops0_6_writes (by decide +kernel), after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), after_of_writes_sub cond0 _ cond0_writes (by decide +kernel), ih]
  have h2 : E2 m c (Proc.devRef .tc main_arg0) = m (c, Proc.devRef .tc main_arg0) := by
    simp only [E2, afterL_cons, afterL_nil]
    rw [after_of_writes_sub main_part4_ops2 _ main_part4_ops2_writes (by decide +kernel), after_of_writes_sub main_part4_ops1 _ main_part4_ops1_writes (by decide +kernel), after_of_writes_sub main_part4_ops0 _ main_part4_ops0_writes (by decide +kernel), after_of_writes_sub main_part3_ops3 _ main_part3_ops3_writes (by decide +kernel), after_of_writes_sub main_part3_ops2 _ main_part3_ops2_writes (by decide +kernel), after_of_writes_sub main_part3_ops1 _ main_part3_ops1_writes (by decide +kernel)]
    exact (after_of_writes_sub cond0 _ cond0_writes (by decide +kernel)).trans (h1 33)
  have h3 : ∀ k, atTrip cond1 body1 (E2 m) k c (Proc.devRef .tc main_arg0) = m (c, Proc.devRef .tc main_arg0) := by
    intro k
    induction k with
    | zero => exact h2
    | succ k ih =>
      rw [show atTrip cond1 body1 (E2 m) (k + 1) c = afterL body1 (after cond1 (atTrip cond1 body1 (E2 m) k c)) from rfl]
      simp only [afterL_cons, afterL_nil]
      rw [after_of_writes_sub while1Ops0_12 _ while1Ops0_12_writes (by decide +kernel), after_of_writes_sub while1Ops0_11 _ while1Ops0_11_writes (by decide +kernel), after_of_writes_sub while1Ops0_10 _ while1Ops0_10_writes (by decide +kernel), after_of_writes_sub while1Ops0_9 _ while1Ops0_9_writes (by decide +kernel), after_of_writes_sub while1Ops0_8 _ while1Ops0_8_writes (by decide +kernel), after_of_writes_sub while1Ops0_7 _ while1Ops0_7_writes (by decide +kernel), after_of_writes_sub while1Ops0_6 _ while1Ops0_6_writes (by decide +kernel), after_of_writes_sub while1Ops0_5 _ while1Ops0_5_writes (by decide +kernel), after_of_writes_sub while1Ops0_4 _ while1Ops0_4_writes (by decide +kernel), after_of_writes_sub while1Ops0_3 _ while1Ops0_3_writes (by decide +kernel), after_of_writes_sub while1Ops0_2 _ while1Ops0_2_writes (by decide +kernel), after_of_writes_sub while1Ops0_1 _ while1Ops0_1_writes (by decide +kernel), after_of_writes_sub while1Ops0 _ while1Ops0_writes (by decide +kernel), after_of_writes_sub cond1 _ cond1_writes (by decide +kernel), ih]
  simp only [E4, afterL_cons, afterL_nil]
  rw [after_of_writes_sub main_part5_ops0 _ main_part5_ops0_writes (by decide +kernel), after_of_writes_sub main_part4_ops3 _ main_part4_ops3_writes (by decide +kernel)]
  exact (after_of_writes_sub cond1 _ cond1_writes (by decide +kernel)).trans (h3 33)
theorem E4_main_arg1 (c : Dev nD) : E4 m c (Proc.devRef .tc main_arg1) = m (c, Proc.devRef .tc main_arg1) := by
  have h0 : E0 m c (Proc.devRef .tc main_arg1) = m (c, Proc.devRef .tc main_arg1) := by
    simp only [E0, afterL_cons, afterL_nil]
    rw [after_of_writes_sub main_part3_ops0 _ main_part3_ops0_writes (by decide +kernel), after_of_writes_sub main_part2_ops2 _ main_part2_ops2_writes (by decide +kernel), after_of_writes_sub main_part2_ops1 _ main_part2_ops1_writes (by decide +kernel), after_of_writes_sub main_part2_ops0 _ main_part2_ops0_writes (by decide +kernel), after_of_writes_sub main_part1_ops0 _ main_part1_ops0_writes (by decide +kernel), after_of_writes_sub main_part0_ops0 _ main_part0_ops0_writes (by decide +kernel)]
  have h1 : ∀ k, atTrip cond0 body0 (E0 m) k c (Proc.devRef .tc main_arg1) = m (c, Proc.devRef .tc main_arg1) := by
    intro k
    induction k with
    | zero => exact h0
    | succ k ih =>
      rw [show atTrip cond0 body0 (E0 m) (k + 1) c = afterL body0 (after cond0 (atTrip cond0 body0 (E0 m) k c)) from rfl]
      simp only [afterL_cons, afterL_nil]
      rw [after_of_writes_sub while0Ops0_8 _ while0Ops0_8_writes (by decide +kernel), after_of_writes_sub while0Ops0_7 _ while0Ops0_7_writes (by decide +kernel), after_of_writes_sub while0Ops0_6 _ while0Ops0_6_writes (by decide +kernel), after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), after_of_writes_sub cond0 _ cond0_writes (by decide +kernel), ih]
  have h2 : E2 m c (Proc.devRef .tc main_arg1) = m (c, Proc.devRef .tc main_arg1) := by
    simp only [E2, afterL_cons, afterL_nil]
    rw [after_of_writes_sub main_part4_ops2 _ main_part4_ops2_writes (by decide +kernel), after_of_writes_sub main_part4_ops1 _ main_part4_ops1_writes (by decide +kernel), after_of_writes_sub main_part4_ops0 _ main_part4_ops0_writes (by decide +kernel), after_of_writes_sub main_part3_ops3 _ main_part3_ops3_writes (by decide +kernel), after_of_writes_sub main_part3_ops2 _ main_part3_ops2_writes (by decide +kernel), after_of_writes_sub main_part3_ops1 _ main_part3_ops1_writes (by decide +kernel)]
    exact (after_of_writes_sub cond0 _ cond0_writes (by decide +kernel)).trans (h1 33)
  have h3 : ∀ k, atTrip cond1 body1 (E2 m) k c (Proc.devRef .tc main_arg1) = m (c, Proc.devRef .tc main_arg1) := by
    intro k
    induction k with
    | zero => exact h2
    | succ k ih =>
      rw [show atTrip cond1 body1 (E2 m) (k + 1) c = afterL body1 (after cond1 (atTrip cond1 body1 (E2 m) k c)) from rfl]
      simp only [afterL_cons, afterL_nil]
      rw [after_of_writes_sub while1Ops0_12 _ while1Ops0_12_writes (by decide +kernel), after_of_writes_sub while1Ops0_11 _ while1Ops0_11_writes (by decide +kernel), after_of_writes_sub while1Ops0_10 _ while1Ops0_10_writes (by decide +kernel), after_of_writes_sub while1Ops0_9 _ while1Ops0_9_writes (by decide +kernel), after_of_writes_sub while1Ops0_8 _ while1Ops0_8_writes (by decide +kernel), after_of_writes_sub while1Ops0_7 _ while1Ops0_7_writes (by decide +kernel), after_of_writes_sub while1Ops0_6 _ while1Ops0_6_writes (by decide +kernel), after_of_writes_sub while1Ops0_5 _ while1Ops0_5_writes (by decide +kernel), after_of_writes_sub while1Ops0_4 _ while1Ops0_4_writes (by decide +kernel), after_of_writes_sub while1Ops0_3 _ while1Ops0_3_writes (by decide +kernel), after_of_writes_sub while1Ops0_2 _ while1Ops0_2_writes (by decide +kernel), after_of_writes_sub while1Ops0_1 _ while1Ops0_1_writes (by decide +kernel), after_of_writes_sub while1Ops0 _ while1Ops0_writes (by decide +kernel), after_of_writes_sub cond1 _ cond1_writes (by decide +kernel), ih]
  simp only [E4, afterL_cons, afterL_nil]
  rw [after_of_writes_sub main_part5_ops0 _ main_part5_ops0_writes (by decide +kernel), after_of_writes_sub main_part4_ops3 _ main_part4_ops3_writes (by decide +kernel)]
  exact (after_of_writes_sub cond1 _ cond1_writes (by decide +kernel)).trans (h3 33)
theorem E4_main_arg2 (c : Dev nD) : E4 m c (Proc.devRef .tc main_arg2) = m (c, Proc.devRef .tc main_arg2) := by
  have h0 : E0 m c (Proc.devRef .tc main_arg2) = m (c, Proc.devRef .tc main_arg2) := by
    simp only [E0, afterL_cons, afterL_nil]
    rw [after_of_writes_sub main_part3_ops0 _ main_part3_ops0_writes (by decide +kernel), after_of_writes_sub main_part2_ops2 _ main_part2_ops2_writes (by decide +kernel), after_of_writes_sub main_part2_ops1 _ main_part2_ops1_writes (by decide +kernel), after_of_writes_sub main_part2_ops0 _ main_part2_ops0_writes (by decide +kernel), after_of_writes_sub main_part1_ops0 _ main_part1_ops0_writes (by decide +kernel), after_of_writes_sub main_part0_ops0 _ main_part0_ops0_writes (by decide +kernel)]
  have h1 : ∀ k, atTrip cond0 body0 (E0 m) k c (Proc.devRef .tc main_arg2) = m (c, Proc.devRef .tc main_arg2) := by
    intro k
    induction k with
    | zero => exact h0
    | succ k ih =>
      rw [show atTrip cond0 body0 (E0 m) (k + 1) c = afterL body0 (after cond0 (atTrip cond0 body0 (E0 m) k c)) from rfl]
      simp only [afterL_cons, afterL_nil]
      rw [after_of_writes_sub while0Ops0_8 _ while0Ops0_8_writes (by decide +kernel), after_of_writes_sub while0Ops0_7 _ while0Ops0_7_writes (by decide +kernel), after_of_writes_sub while0Ops0_6 _ while0Ops0_6_writes (by decide +kernel), after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), after_of_writes_sub cond0 _ cond0_writes (by decide +kernel), ih]
  have h2 : E2 m c (Proc.devRef .tc main_arg2) = m (c, Proc.devRef .tc main_arg2) := by
    simp only [E2, afterL_cons, afterL_nil]
    rw [after_of_writes_sub main_part4_ops2 _ main_part4_ops2_writes (by decide +kernel), after_of_writes_sub main_part4_ops1 _ main_part4_ops1_writes (by decide +kernel), after_of_writes_sub main_part4_ops0 _ main_part4_ops0_writes (by decide +kernel), after_of_writes_sub main_part3_ops3 _ main_part3_ops3_writes (by decide +kernel), after_of_writes_sub main_part3_ops2 _ main_part3_ops2_writes (by decide +kernel), after_of_writes_sub main_part3_ops1 _ main_part3_ops1_writes (by decide +kernel)]
    exact (after_of_writes_sub cond0 _ cond0_writes (by decide +kernel)).trans (h1 33)
  have h3 : ∀ k, atTrip cond1 body1 (E2 m) k c (Proc.devRef .tc main_arg2) = m (c, Proc.devRef .tc main_arg2) := by
    intro k
    induction k with
    | zero => exact h2
    | succ k ih =>
      rw [show atTrip cond1 body1 (E2 m) (k + 1) c = afterL body1 (after cond1 (atTrip cond1 body1 (E2 m) k c)) from rfl]
      simp only [afterL_cons, afterL_nil]
      rw [after_of_writes_sub while1Ops0_12 _ while1Ops0_12_writes (by decide +kernel), after_of_writes_sub while1Ops0_11 _ while1Ops0_11_writes (by decide +kernel), after_of_writes_sub while1Ops0_10 _ while1Ops0_10_writes (by decide +kernel), after_of_writes_sub while1Ops0_9 _ while1Ops0_9_writes (by decide +kernel), after_of_writes_sub while1Ops0_8 _ while1Ops0_8_writes (by decide +kernel), after_of_writes_sub while1Ops0_7 _ while1Ops0_7_writes (by decide +kernel), after_of_writes_sub while1Ops0_6 _ while1Ops0_6_writes (by decide +kernel), after_of_writes_sub while1Ops0_5 _ while1Ops0_5_writes (by decide +kernel), after_of_writes_sub while1Ops0_4 _ while1Ops0_4_writes (by decide +kernel), after_of_writes_sub while1Ops0_3 _ while1Ops0_3_writes (by decide +kernel), after_of_writes_sub while1Ops0_2 _ while1Ops0_2_writes (by decide +kernel), after_of_writes_sub while1Ops0_1 _ while1Ops0_1_writes (by decide +kernel), after_of_writes_sub while1Ops0 _ while1Ops0_writes (by decide +kernel), after_of_writes_sub cond1 _ cond1_writes (by decide +kernel), ih]
  simp only [E4, afterL_cons, afterL_nil]
  rw [after_of_writes_sub main_part5_ops0 _ main_part5_ops0_writes (by decide +kernel), after_of_writes_sub main_part4_ops3 _ main_part4_ops3_writes (by decide +kernel)]
  exact (after_of_writes_sub cond1 _ cond1_writes (by decide +kernel)).trans (h3 33)

/-- Every execution ends, the arguments as they were and every semaphore counter at zero. -/
theorem frame : θ_run (defs (F := F)) (onTc (τ := τ) (main (F := F))) ⟨m, fun _ => 0, ρ⟩
    (fun r => (∀ c : Dev nD, r.2.mem (((c : Dev nD) : Thread nD τ).loc main_arg0) = m (((c : Dev nD) : Thread nD τ).loc main_arg0)
        ∧ r.2.mem (((c : Dev nD) : Thread nD τ).loc main_arg1) = m (((c : Dev nD) : Thread nD τ).loc main_arg1)
        ∧ r.2.mem (((c : Dev nD) : Thread nD τ).loc main_arg2) = m (((c : Dev nD) : Thread nD τ).loc main_arg2))
      ∧ r.2.sem = fun _ => 0) :=
  (θ_run defs _ _).mono (fun _ h => ⟨fun c => ⟨(h.1 c main_arg0 rfl).trans (E4_main_arg0 m c), (h.1 c main_arg1 rfl).trans (E4_main_arg1 m c),
    (h.1 c main_arg2 rfl).trans (E4_main_arg2 m c)⟩, h.2⟩) (ends m ρ)

end Cert.ReferenceIdeal.Ret

end
-- ==== Proof.RPre.lean ====
/- What the reference holds ahead of its first loop, in the step's formulas of its arguments. -/
module

public import proofs.«01_k».proof.Proof.RefRun
public import proofs.«01_k».proof.Proof.Inputs
public import Idealize.ShloMosaic.Lib.StableHlo.ReadAt
public import Idealize.ShloMosaic.Lib.Pointwise

@[expose] public section

set_option maxRecDepth 100000

noncomputable section

namespace Cert.ReferenceIdeal.Ret

open Idealize.ShloMosaic Idealize.ShloMosaic.TcCoe Idealize.ShloMosaic.Tactic
open Idealize.ShloMosaic.StableHlo
open Cert.ReferenceIdeal Cert.ReferenceIdeal.Gen Cert.Ret

variable (m : (ℓ : Loc nD τ sig) → Buf (Elt Ideal) ℓ) (c : Dev nD)

/-- The step's inputs, off the reference's arguments. -/
abbrev inR : In := inp (m (c, Proc.devRef .tc main_arg0) : Vec Ideal S4112x14336 .f32)
  (m (c, Proc.devRef .tc main_arg1) : Vec Ideal S1x2048 .f32) (m (c, Proc.devRef .tc main_arg2) : Vec Ideal S4112x4096 .f32)

/-- The contents ahead of the first loop, as one list of operations run. -/
theorem E0_eq : E0 (F := Ideal) m c = after (preI (F := Ideal)).flatten (launchContents m c) := afterL_eq_after_flatten _ _

/-- What the list writes, in order. -/
abbrev preW : List (Ref sig .tc) := main_part0_ops0_W ++ main_part1_ops0_W ++ main_part2_ops0_W ++ main_part2_ops1_W ++ main_part2_ops2_W ++ main_part3_ops0_W
theorem preW_eq : (preI (F := Ideal)).flatten.map HloOp.writes = preW.map fun w => {Proc.devRef (τ := τ) .tc w} := rfl
/-- The contents after the first `n` operations. -/
abbrev U0 (n : ℕ) : Valuation τ sig (Elt Ideal) := upto (preI (F := Ideal)).flatten (launchContents m c) n
/-- The list cut in two. -/
theorem E0_cut (n : ℕ) : E0 (F := Ideal) m c = after ((preI (F := Ideal)).flatten.drop n) (U0 m c n) := by
  rw [E0_eq]
  exact (congrArg (fun l => after l (launchContents m c)) (List.take_append_drop n _).symm).trans (after_append _ _ _)
/-- A buffer that is not written after the cut. -/
theorem U0_eq (n : ℕ) {r : Ref sig .tc} (h : r ∉ preW.drop n) : U0 m c n (Proc.devRef .tc r) = E0 (F := Ideal) m c (Proc.devRef .tc r) := by
  rw [E0_cut m c n]
  exact (after_unwritten (preW.drop n) (by rw [List.map_drop, List.map_drop, preW_eq]) h _).symm

/-! ## The padded projections -/

theorem v5_at (r : Fin 4224) (b : Fin 2048) : (E0 m c (Proc.devRef .tc main_v5) : Vec Ideal S4224x2048 .f32) (ix2 r b)
    = pad2 (m (c, Proc.devRef .tc main_arg0) : Vec Ideal S4112x14336 .f32) r.val b.val := by
  rw [E0_eq]
  unfold pad2
  by_cases h : r.val < 112
  · rw [if_pos h]; after_reads_at; rw [dif_pos h]
  · rw [if_neg h, get2_of _ (by omega) (by omega)]; after_reads_at; rw [dif_neg h]
theorem v8_at (r : Fin 4224) (b : Fin 2048) : (E0 m c (Proc.devRef .tc main_v8) : Vec Ideal S4224x2048 .f32) (ix2 r b)
    = pad2 (m (c, Proc.devRef .tc main_arg0) : Vec Ideal S4112x14336 .f32) r.val (2048 + b.val) := by
  rw [E0_eq]
  unfold pad2
  by_cases h : r.val < 112
  · rw [if_pos h]; after_reads_at; rw [dif_pos h]
  · rw [if_neg h, get2_of _ (by omega) (by omega)]; after_reads_at; rw [dif_neg h]
theorem v11_at (r : Fin 4224) (b : Fin 2048) : (E0 m c (Proc.devRef .tc main_v11) : Vec Ideal S4224x2048 .f32) (ix2 r b)
    = pad2 (m (c, Proc.devRef .tc main_arg0) : Vec Ideal S4112x14336 .f32) r.val (4096 + b.val) := by
  rw [E0_eq]
  unfold pad2
  by_cases h : r.val < 112
  · rw [if_pos h]; after_reads_at; rw [dif_pos h]
  · rw [if_neg h, get2_of _ (by omega) (by omega)]; after_reads_at; rw [dif_neg h]
theorem v14_at (r : Fin 4224) (b : Fin 2048) : (E0 m c (Proc.devRef .tc main_v14) : Vec Ideal S4224x2048 .f32) (ix2 r b)
    = pad2 (m (c, Proc.devRef .tc main_arg0) : Vec Ideal S4112x14336 .f32) r.val (6144 + b.val) := by
  rw [E0_eq]
  unfold pad2
  by_cases h : r.val < 112
  · rw [if_pos h]; after_reads_at; rw [dif_pos h]
  · rw [if_neg h, get2_of _ (by omega) (by omega)]; after_reads_at; rw [dif_neg h]

/-! ## The tables -/

theorem v37_at (r : Fin 4224) (b : Fin 128) : (E0 m c (Proc.devRef .tc main_v37) : Vec Ideal S4224x128 .f32) (ix2 r b) = (inR m c).cs r.val b.val := by
  show _ = Ideal.cos (pos r.val * freq b.val)
  rw [E0_eq]
  unfold pos freq iv
  after_reads_at
theorem v39_at (r : Fin 4224) (b : Fin 128) : (E0 m c (Proc.devRef .tc main_v39) : Vec Ideal S4224x128 .f32) (ix2 r b) = (inR m c).sn r.val b.val := by
  show _ = Ideal.sin (pos r.val * freq b.val)
  rw [E0_eq]
  unfold pos freq iv
  after_reads_at
theorem v68_at (r : Fin 4224) (b : Fin 128) : (E0 m c (Proc.devRef .tc main_v68) : Vec Ideal S4224x128 .f32) (ix2 r b) = (inR m c).cs r.val b.val := by
  show _ = Ideal.cos (pos r.val * freq b.val)
  rw [E0_eq]
  unfold pos freq iv
  after_reads_at
theorem v70_at (r : Fin 4224) (b : Fin 128) : (E0 m c (Proc.devRef .tc main_v70) : Vec Ideal S4224x128 .f32) (ix2 r b) = (inR m c).sn r.val b.val := by
  show _ = Ideal.sin (pos r.val * freq b.val)
  rw [E0_eq]
  unfold pos freq iv
  after_reads_at
theorem v38_at (r : Fin 4224) (b : Fin 128) : (E0 m c (Proc.devRef .tc main_v38) : Vec Ideal S4224x1x128 .f32) (ix3 r 0 b) = (inR m c).cs r.val b.val := by
  have e : (E0 m c (Proc.devRef .tc main_v38) : Vec Ideal S4224x1x128 .f32) (ix3 r 0 b) = (E0 m c (Proc.devRef .tc main_v37) : Vec Ideal S4224x128 .f32) (ix2 r b) := by
    rw [E0_eq]
    after_reads_at
  exact e.trans (v37_at m c r b)
theorem v40_at (r : Fin 4224) (b : Fin 128) : (E0 m c (Proc.devRef .tc main_v40) : Vec Ideal S4224x1x128 .f32) (ix3 r 0 b) = (inR m c).sn r.val b.val := by
  have e : (E0 m c (Proc.devRef .tc main_v40) : Vec Ideal S4224x1x128 .f32) (ix3 r 0 b) = (E0 m c (Proc.devRef .tc main_v39) : Vec Ideal S4224x128 .f32) (ix2 r b) := by
    rw [E0_eq]
    after_reads_at
  exact e.trans (v39_at m c r b)
theorem v69_at (r : Fin 4224) (b : Fin 128) : (E0 m c (Proc.devRef .tc main_v69) : Vec Ideal S4224x1x128 .f32) (ix3 r 0 b) = (inR m c).cs r.val b.val := by
  have e : (E0 m c (Proc.devRef .tc main_v69) : Vec Ideal S4224x1x128 .f32) (ix3 r 0 b) = (E0 m c (Proc.devRef .tc main_v68) : Vec Ideal S4224x128 .f32) (ix2 r b) := by
    rw [E0_eq]
    after_reads_at
  exact e.trans (v68_at m c r b)
theorem v71_at (r : Fin 4224) (b : Fin 128) : (E0 m c (Proc.devRef .tc main_v71) : Vec Ideal S4224x1x128 .f32) (ix3 r 0 b) = (inR m c).sn r.val b.val := by
  have e : (E0 m c (Proc.devRef .tc main_v71) : Vec Ideal S4224x1x128 .f32) (ix3 r 0 b) = (E0 m c (Proc.devRef .tc main_v70) : Vec Ideal S4224x128 .f32) (ix2 r b) := by
    rw [E0_eq]
    after_reads_at
  exact e.trans (v70_at m c r b)
/-- The mask of the padding rows. -/
theorem v20_at (r : Fin 4224) : (E0 m c (Proc.devRef .tc main_v20) : Vec Ideal S4224x1x1 .f32) (ix3 r 0 0) = if r.val < 112 then (0 : EReal) else 1 := by
  have e : (E0 m c (Proc.devRef .tc main_v20) : Vec Ideal S4224x1x1 .f32) (ix3 r 0 0) = (FloatOps.uitofp (F := Ideal) FTy.f32 (IntOp.cmpi .sge (BitVec.ofNat 32 r.val) 112#32) : EReal) := by
    rw [E0_eq]
    after_reads_at
  have e1 : (BitVec.ofNat 32 r.val).toInt = (r.val : ℤ) := by
    have h := r.isLt
    simp only [BitVec.toInt, BitVec.toNat_ofNat]; omega
  have e2 : IntOp.cmpi .sge (BitVec.ofNat 32 r.val) 112#32 = if r.val < 112 then 0#1 else 1#1 := by
    have h := r.isLt
    show BitVec.ofBool (decide ((112#32 : BitVec 32).toInt ≤ (BitVec.ofNat 32 r.val).toInt)) = _
    rw [e1, show (112#32 : BitVec 32).toInt = 112 from rfl]
    by_cases hr : r.val < 112
    · rw [if_pos hr, decide_eq_false (by omega)]; rfl
    · rw [if_neg hr, decide_eq_true (by omega)]; rfl
  rw [e, e2]
  show (((if r.val < 112 then 0#1 else 1#1 : BitVec 1).toNat : ℝ) : EReal) = _
  split <;> simp
theorem v115_at (j : Fin 8) (a b : Fin 128) : (E0 m c (Proc.devRef .tc main_v115) : Vec Ideal S8x128x128 .f32) (ix3 j a b) = (inR m c).D j.val a.val b.val := by
  show _ = if 0 ≤ iv a.val - iv b.val then Ideal.exp (max (iv a.val - iv b.val) 0 * lg j.val) else 0
  rw [E0_eq]
  unfold lg iv
  after_reads_at
  congr 1
  exact Ideal.ofBits_zero_f32
theorem v142_at (j : Fin 8) (a : Fin 128) : (E0 m c (Proc.devRef .tc main_v142) : Vec Ideal S8x128x1 .f32) (ix3 j a 0) = (inR m c).qd j.val a.val := by
  show _ = Ideal.exp ((iv a.val + 1) * lg j.val)
  rw [E0_eq]
  unfold lg iv
  after_reads_at
theorem v144_at (j : Fin 8) (a : Fin 128) : (E0 m c (Proc.devRef .tc main_v144) : Vec Ideal S8x128x1 .f32) (ix3 j a 0) = (inR m c).kd j.val a.val := by
  show _ = Ideal.exp ((Ideal.ofBits FTy.f32 0x42FE0000#32 - iv a.val) * lg j.val)
  rw [E0_eq]
  unfold lg iv
  after_reads_at
theorem v143_at (j : Fin 8) : (E0 m c (Proc.devRef .tc main_v143) : Vec Ideal S8x1x1 .f32) (ix3 j 0 0) = (inR m c).cd j.val := by
  show _ = Ideal.exp (Ideal.ofBits FTy.f32 0x43000000#32 * lg j.val)
  rw [E0_eq]
  unfold lg iv
  after_reads_at

/-- A row's position. -/
theorem v24_at (r : Fin 4224) : (E0 m c (Proc.devRef .tc main_v24) : Vec Ideal S4224 .f32) (ix1 r) = pos r.val := by
  rw [E0_eq]
  unfold pos
  after_reads_at

/-! ## The rotations -/

theorem v47_at (r : Fin 4224) (j : Fin 8) (e : Fin 128) : (E0 m c (Proc.devRef .tc main_v47) : Vec Ideal S4224x8x128 .f32) (ix3 r j e)
    = (inR m c).q r.val j.val e.val * (inR m c).cs r.val e.val
      - (inR m c).q r.val j.val (128 + e.val) * (inR m c).sn r.val e.val := by
  have e1 := U0_eq m c 35 (r := main_v5) (by decide +kernel)
  have e2 := fun i => congrFun (U0_eq m c 35 (r := main_v24) (by decide +kernel)) i
  have e3 : ∀ i : Fin 4224, (E0 m c (Proc.devRef .tc main_v24) : Vec Ideal S4224 .f32) (ix1 i) = pos i.val := v24_at m c
  show _ = pad2 _ r.val (256 * j.val + e.val) * Ideal.cos (pos r.val * freq e.val)
      - pad2 _ r.val (256 * j.val + (128 + e.val)) * Ideal.sin (pos r.val * freq e.val)
  rw [Nat.mul_comm 256 j.val, E0_cut m c 35]
  generalize U0 m c 35 = U at *
  unfold freq iv
  after_reads_at
  rw [e1, e2, e3, v5_at, v5_at]
theorem v52_at (r : Fin 4224) (j : Fin 8) (e : Fin 128) : (E0 m c (Proc.devRef .tc main_v52) : Vec Ideal S4224x8x128 .f32) (ix3 r j e)
    = (inR m c).q r.val j.val e.val * (inR m c).sn r.val e.val
      + (inR m c).q r.val j.val (128 + e.val) * (inR m c).cs r.val e.val := by
  have e1 := U0_eq m c 35 (r := main_v5) (by decide +kernel)
  have e2 := fun i => congrFun (U0_eq m c 35 (r := main_v24) (by decide +kernel)) i
  have e3 : ∀ i : Fin 4224, (E0 m c (Proc.devRef .tc main_v24) : Vec Ideal S4224 .f32) (ix1 i) = pos i.val := v24_at m c
  show _ = pad2 _ r.val (256 * j.val + e.val) * Ideal.sin (pos r.val * freq e.val)
      + pad2 _ r.val (256 * j.val + (128 + e.val)) * Ideal.cos (pos r.val * freq e.val)
  rw [Nat.mul_comm 256 j.val, E0_cut m c 35]
  generalize U0 m c 35 = U at *
  unfold freq iv
  after_reads_at
  rw [e1, e2, e3, v5_at, v5_at]
theorem v78_at (r : Fin 4224) (j : Fin 8) (e : Fin 128) : (E0 m c (Proc.devRef .tc main_v78) : Vec Ideal S4224x8x128 .f32) (ix3 r j e)
    = (inR m c).k r.val j.val e.val * (inR m c).cs r.val e.val
      - (inR m c).k r.val j.val (128 + e.val) * (inR m c).sn r.val e.val := by
  have e1 := U0_eq m c 69 (r := main_v8) (by decide +kernel)
  have e2 := fun i => congrFun (U0_eq m c 69 (r := main_v24) (by decide +kernel)) i
  have e3 : ∀ i : Fin 4224, (E0 m c (Proc.devRef .tc main_v24) : Vec Ideal S4224 .f32) (ix1 i) = pos i.val := v24_at m c
  show _ = pad2 _ r.val (2048 + (256 * j.val + e.val)) * Ideal.cos (pos r.val * freq e.val)
      - pad2 _ r.val (2048 + (256 * j.val + (128 + e.val))) * Ideal.sin (pos r.val * freq e.val)
  rw [Nat.mul_comm 256 j.val, E0_cut m c 69]
  generalize U0 m c 69 = U at *
  unfold freq iv
  after_reads_at
  rw [e1, e2, e3, v8_at, v8_at]
theorem v83_at (r : Fin 4224) (j : Fin 8) (e : Fin 128) : (E0 m c (Proc.devRef .tc main_v83) : Vec Ideal S4224x8x128 .f32) (ix3 r j e)
    = (inR m c).k r.val j.val e.val * (inR m c).sn r.val e.val
      + (inR m c).k r.val j.val (128 + e.val) * (inR m c).cs r.val e.val := by
  have e1 := U0_eq m c 69 (r := main_v8) (by decide +kernel)
  have e2 := fun i => congrFun (U0_eq m c 69 (r := main_v24) (by decide +kernel)) i
  have e3 : ∀ i : Fin 4224, (E0 m c (Proc.devRef .tc main_v24) : Vec Ideal S4224 .f32) (ix1 i) = pos i.val := v24_at m c
  show _ = pad2 _ r.val (2048 + (256 * j.val + e.val)) * Ideal.sin (pos r.val * freq e.val)
      + pad2 _ r.val (2048 + (256 * j.val + (128 + e.val))) * Ideal.cos (pos r.val * freq e.val)
  rw [Nat.mul_comm 256 j.val, E0_cut m c 69]
  generalize U0 m c 69 = U at *
  unfold freq iv
  after_reads_at
  rw [e1, e2, e3, v8_at, v8_at]
theorem v53_at (r : Fin 4224) (j : Fin 8) (d : Fin 256) : (E0 m c (Proc.devRef .tc main_v53) : Vec Ideal S4224x8x256 .f32) (ix3 r j d)
    = (inR m c).rot (inR m c).q r.val j.val d.val := by
  have e1 := U0_eq m c 65 (r := main_v47) (by decide +kernel)
  have e2 := U0_eq m c 65 (r := main_v52) (by decide +kernel)
  rw [E0_cut m c 65]
  generalize U0 m c 65 = U at *
  after_reads_at
  unfold In.rot
  by_cases hd : d.val < 128
  · rw [dif_pos hd, if_pos hd]
    exact (congrFun e1 _).trans (v47_at m c r j ⟨d.val, hd⟩)
  · rw [dif_neg hd, if_neg hd]
    refine (congrFun e2 _).trans ((v52_at m c r j ⟨d.val - 128, by omega⟩).trans ?_)
    show _ + (inR m c).q r.val j.val (128 + (d.val - 128)) * _ = _
    rw [show 128 + (d.val - 128) = d.val by omega]
theorem v84_at (r : Fin 4224) (j : Fin 8) (d : Fin 256) : (E0 m c (Proc.devRef .tc main_v84) : Vec Ideal S4224x8x256 .f32) (ix3 r j d)
    = (inR m c).rot (inR m c).k r.val j.val d.val := by
  have e1 := U0_eq m c 99 (r := main_v78) (by decide +kernel)
  have e2 := U0_eq m c 99 (r := main_v83) (by decide +kernel)
  rw [E0_cut m c 99]
  generalize U0 m c 99 = U at *
  after_reads_at
  unfold In.rot
  by_cases hd : d.val < 128
  · rw [dif_pos hd, if_pos hd]
    exact (congrFun e1 _).trans (v78_at m c r j ⟨d.val, hd⟩)
  · rw [dif_neg hd, if_neg hd]
    refine (congrFun e2 _).trans ((v83_at m c r j ⟨d.val - 128, by omega⟩).trans ?_)
    show _ + (inR m c).k r.val j.val (128 + (d.val - 128)) * _ = _
    rw [show 128 + (d.val - 128) = d.val by omega]

/-! ## The chunks -/

/-- A padding row's rotated keys are zero. -/
theorem K_pad {r : ℕ} (h : r < 112) (j d : ℕ) : (inR m c).K r j d = 0 := by
  have e : ∀ x, (inR m c).k r j x = 0 := fun x => if_pos h
  unfold In.K In.rot
  split <;> rw [e, e] <;> simp
/-- A padding row's values are zero. -/
theorem v_pad {r : ℕ} (h : r < 112) (j d : ℕ) : (inR m c).v r j d = 0 := if_pos h

theorem v136_at (n : Fin 33) (j : Fin 8) (a : Fin 128) (d : Fin 256) : (E0 m c (Proc.devRef .tc main_v136) : Vec Ideal S33x8x128x256 .f32) (ix4 n j a d)
    = (inR m c).Q (128 * n.val + a.val) j.val d.val := by
  have e0 := U0_eq m c 66 (r := main_v53) (by decide +kernel)
  rw [E0_cut m c 66]
  generalize U0 m c 66 = U at *
  after_reads_at
  rw [e0]
  rw [v53_at, Nat.mul_comm 128]
  rfl
theorem v138_at (n : Fin 33) (j : Fin 8) (a : Fin 128) (d : Fin 256) : (E0 m c (Proc.devRef .tc main_v138) : Vec Ideal S33x8x128x256 .f32) (ix4 n j a d)
    = (inR m c).K (128 * n.val + a.val) j.val d.val := by
  have e0 := U0_eq m c 100 (r := main_v84) (by decide +kernel)
  have e1 := U0_eq m c 100 (r := main_v20) (by decide +kernel)
  rw [E0_cut m c 100]
  generalize U0 m c 100 = U at *
  after_reads_at
  rw [e0, e1]
  rw [v84_at, v20_at, Nat.mul_comm 128]
  by_cases hr : n.val * 128 + a.val < 112
  · rw [if_pos hr, K_pad m c hr]; exact mul_zero _
  · rw [if_neg hr]; exact mul_one _
theorem v140_at (n : Fin 33) (j : Fin 8) (a : Fin 128) (d : Fin 256) : (E0 m c (Proc.devRef .tc main_v140) : Vec Ideal S33x8x128x256 .f32) (ix4 n j a d)
    = (inR m c).v (128 * n.val + a.val) j.val d.val := by
  have e0 := U0_eq m c 100 (r := main_v11) (by decide +kernel)
  have e1 := U0_eq m c 100 (r := main_v20) (by decide +kernel)
  refine Eq.trans (b := (pad2 (m (c, Proc.devRef .tc main_arg0) : Vec Ideal S4112x14336 .f32) (n.val * 128 + a.val) (4096 + (j.val * 256 + d.val))
    * (if n.val * 128 + a.val < 112 then 0 else 1) : EReal)) ?_ ?_
  · rw [E0_cut m c 100]
    generalize U0 m c 100 = U at *
    after_reads_at
    exact congrArg₂ (fun x y : EReal => x * y) ((congrFun e0 _).trans (v11_at m c _ _)) ((congrFun e1 _).trans (v20_at m c _))
  rw [Nat.mul_comm n.val, Nat.mul_comm j.val]
  by_cases hr : 128 * n.val + a.val < 112
  · rw [if_pos hr]; exact (mul_zero _).trans (if_pos hr).symm
  · rw [if_neg hr]; exact mul_one _

/-! ## The loop's variables at its start -/

theorem v149_0_eq : E0 (F := Ideal) m c (Proc.devRef .tc main_v149_0) = E0 (F := Ideal) m c (Proc.devRef .tc main_v136) := by
  have e1 := U0_eq m c 182 (r := main_v136) (by decide +kernel)
  refine Eq.trans ?_ e1
  rw [E0_cut m c 182]
  generalize U0 m c 182 = U
  after_reads_simp
  rfl
theorem v149_1_eq : E0 (F := Ideal) m c (Proc.devRef .tc main_v149_1) = E0 (F := Ideal) m c (Proc.devRef .tc main_v138) := by
  have e1 := U0_eq m c 182 (r := main_v138) (by decide +kernel)
  refine Eq.trans ?_ e1
  rw [E0_cut m c 182]
  generalize U0 m c 182 = U
  after_reads_simp
  rfl
theorem v149_2_eq : E0 (F := Ideal) m c (Proc.devRef .tc main_v149_2) = E0 (F := Ideal) m c (Proc.devRef .tc main_v140) := by
  have e1 := U0_eq m c 182 (r := main_v140) (by decide +kernel)
  refine Eq.trans ?_ e1
  rw [E0_cut m c 182]
  generalize U0 m c 182 = U
  after_reads_simp
  rfl
theorem v149_3_eq : E0 (F := Ideal) m c (Proc.devRef .tc main_v149_3) = E0 (F := Ideal) m c (Proc.devRef .tc main_v143) := by
  have e1 := U0_eq m c 182 (r := main_v143) (by decide +kernel)
  refine Eq.trans ?_ e1
  rw [E0_cut m c 182]
  generalize U0 m c 182 = U
  after_reads_simp
  rfl
theorem v149_4_eq : E0 (F := Ideal) m c (Proc.devRef .tc main_v149_4) = E0 (F := Ideal) m c (Proc.devRef .tc main_v144) := by
  have e1 := U0_eq m c 182 (r := main_v144) (by decide +kernel)
  refine Eq.trans ?_ e1
  rw [E0_cut m c 182]
  generalize U0 m c 182 = U
  after_reads_simp
  rfl
theorem v149_5_eq : E0 (F := Ideal) m c (Proc.devRef .tc main_v149_5) = E0 (F := Ideal) m c (Proc.devRef .tc main_v115) := by
  have e1 := U0_eq m c 182 (r := main_v115) (by decide +kernel)
  refine Eq.trans ?_ e1
  rw [E0_cut m c 182]
  generalize U0 m c 182 = U
  after_reads_simp
  rfl
theorem v149_6_eq : E0 (F := Ideal) m c (Proc.devRef .tc main_v149_6) = E0 (F := Ideal) m c (Proc.devRef .tc main_v142) := by
  have e1 := U0_eq m c 182 (r := main_v142) (by decide +kernel)
  refine Eq.trans ?_ e1
  rw [E0_cut m c 182]
  generalize U0 m c 182 = U
  after_reads_simp
  rfl
theorem v149_8_at (j : Fin 8) (d e : Fin 256) : (E0 m c (Proc.devRef .tc main_v149_8) : Vec Ideal S8x256x256 .f32) (ix3 j d e) = (0 : EReal) := by
  have h : (E0 m c (Proc.devRef .tc main_v149_8) : Vec Ideal S8x256x256 .f32) (ix3 j d e) = (Ideal.ofBits FTy.f32 0x00000000#32 : EReal) := by
    rw [E0_eq]
    after_reads_at
    try (simp only [id]; pointwise)
  exact h.trans Ideal.ofBits_zero_f32

end Cert.ReferenceIdeal.Ret

end
-- ==== Proof.Cut.lean ====
/- A list of host operations cut in two: what is read after the cut, and what no longer changes. -/
module

public import proofs.«01_k».proof.Proof.RefRun
public import Idealize.ShloMosaic.Lib.StableHlo.RunRead
public import Idealize.ShloMosaic.Lib.Pointwise

@[expose] public section

noncomputable section

namespace Cert.ReferenceIdeal.Ret

open Idealize.ShloMosaic Idealize.ShloMosaic.TcCoe
open Idealize.ShloMosaic.StableHlo
open Cert.ReferenceIdeal Cert.ReferenceIdeal.Gen

variable {L : List (HloOp τ sig (Elt Ideal))}

/-- A list run is its tail run from where its head ends. -/
theorem cut_run (L : List (HloOp τ sig (Elt Ideal))) (V : Valuation τ sig (Elt Ideal)) (n : ℕ) :
    after L V = after (L.drop n) (upto L V n) :=
  (congrArg (fun l => after l V) (List.take_append_drop n L).symm).trans (after_append _ _ _)

/-- A buffer not written after the cut holds at the cut what it holds at the end. -/
theorem cut_keep (W : List (Ref sig .tc)) (hW : L.map HloOp.writes = W.map fun w => {Proc.devRef (τ := τ) .tc w})
    (V : Valuation τ sig (Elt Ideal)) (n : ℕ) {r : Ref sig .tc} (h : r ∉ W.drop n) :
    upto L V n (Proc.devRef .tc r) = after L V (Proc.devRef .tc r) := by
  rw [cut_run L V n]
  exact (after_unwritten (W.drop n) (by rw [List.map_drop, List.map_drop, hW]) h _).symm

/-- A buffer not written ahead of the cut holds there what it held at the start. -/
theorem cut_old (W : List (Ref sig .tc)) (hW : L.map HloOp.writes = W.map fun w => {Proc.devRef (τ := τ) .tc w})
    (V : Valuation τ sig (Elt Ideal)) (n : ℕ) {r : Ref sig .tc} (h : r ∉ W.take n) :
    upto L V n (Proc.devRef .tc r) = V (Proc.devRef .tc r) :=
  upto_unwritten (W.take n) (by rw [List.map_take, List.map_take, hW]) h V

/-- The start of chunk `k`, in the arrays of chunks. -/
def at4 (k : ℕ) : Fin 4 → ℤ := fun i => if i = 0 then (k : ℤ) else 0

end Cert.ReferenceIdeal.Ret

end
-- ==== Proof.Chunks.lean ====
/- Reading one chunk of an array of chunks, and putting one in. -/
module

public import proofs.«01_k».proof.Proof.Cut
public import proofs.«01_k».proof.Proof.Inputs
public import Idealize.ShloMosaic.Lib.StableHlo.ReadAt
public import Idealize.ShloMosaic.Lib.Pointwise

@[expose] public section

set_option maxRecDepth 100000

noncomputable section

namespace Cert.ReferenceIdeal.Ret

open Idealize.ShloMosaic Idealize.ShloMosaic.TcCoe Idealize.ShloMosaic.Tactic
open Idealize.ShloMosaic.StableHlo
open Cert.ReferenceIdeal Cert.ReferenceIdeal.Gen Cert.Ret

theorem start_eq {s : Fin 4 → ℤ} {k : ℕ} (h0 : s 0 = k) (h1 : s 1 = 0) (h2 : s 2 = 0) (h3 : s 3 = 0) : s = at4 k := by
  funext i
  fin_cases i
  · exact h0
  · exact h1
  · exact h2
  · exact h3
theorem toInt_k {k : ℕ} (h : k < 34) : (BitVec.ofNat 32 k).toInt = (k : ℤ) := by
  simp only [BitVec.toInt, BitVec.toNat_ofNat]; omega

/-! ## Chunks of 128 by 256 -/

theorem clamp0_128_256 {k : ℕ} (hk : k < 33) (h : S1x8x128x256.rank = S33x8x128x256.rank) : Host.clampedStart S33x8x128x256 S1x8x128x256 h (at4 k) 0 = k :=
  Host.clampedStart_of_le h (at4 k) 0 k rfl (by show k + 1 ≤ 33; omega)
theorem clamp1_128_256 (k : ℕ) (h : S1x8x128x256.rank = S33x8x128x256.rank) : Host.clampedStart S33x8x128x256 S1x8x128x256 h (at4 k) 1 = 0 :=
  Host.clampedStart_of_le h (at4 k) 1 0 rfl (by show 0 + 8 ≤ 8; omega)
theorem clamp2_128_256 (k : ℕ) (h : S1x8x128x256.rank = S33x8x128x256.rank) : Host.clampedStart S33x8x128x256 S1x8x128x256 h (at4 k) 2 = 0 :=
  Host.clampedStart_of_le h (at4 k) 2 0 rfl (by show 0 + 128 ≤ 128; omega)
theorem clamp3_128_256 (k : ℕ) (h : S1x8x128x256.rank = S33x8x128x256.rank) : Host.clampedStart S33x8x128x256 S1x8x128x256 h (at4 k) 3 = 0 :=
  Host.clampedStart_of_le h (at4 k) 3 0 rfl (by show 0 + 256 ≤ 256; omega)
/-- Chunk `k` of an array of chunks. -/
theorem chunk_128_256 (x : S33x8x128x256.Idx → EReal) {k : ℕ} (hk : k < 33) (j : Fin 8) (a : Fin 128) (d : Fin 256) :
    shapeCast S8x128x256 (Host.dynamicSlice S1x8x128x256 x (at4 k) sliceFits_S33x8x128x256_S1x8x128x256) shapeCasts_S1x8x128x256_S8x128x256 (ix3 j a d)
      = x (ix4 ⟨k, hk⟩ j a d) := by
  pointwise
  simp only [clamp0_128_256 hk, clamp1_128_256 k, clamp2_128_256 k, clamp3_128_256 k, Nat.zero_add, Nat.add_zero]
/-- An array of chunks after chunk `k` is put in. -/
theorem put_128_256 (x : S33x8x128x256.Idx → EReal) (u : S1x8x128x256.Idx → EReal) {k : ℕ} (hk : k < 33) (n : Fin 33) (j : Fin 8) (a : Fin 128) (d : Fin 256) :
    Host.dynamicUpdateSlice x u (at4 k) updateFits_S33x8x128x256_S1x8x128x256 (ix4 n j a d)
      = if n.val = k then u (ix4 0 j a d) else x (ix4 n j a d) := by
  pointwise
  simp only [clamp0_128_256 hk, clamp1_128_256 k, clamp2_128_256 k, clamp3_128_256 k, Nat.zero_le, and_true, Nat.sub_zero]
  by_cases h : n.val = k
  · rw [dif_pos (by omega), if_pos h]
    congr 2
    exact Fin.ext (by show n.val - k = 0; omega)
  · rw [dif_neg (by omega), if_neg h]

/-! ## Chunks of 128 by 128 -/

theorem clamp0_128_128 {k : ℕ} (hk : k < 33) (h : S1x8x128x128.rank = S33x8x128x128.rank) : Host.clampedStart S33x8x128x128 S1x8x128x128 h (at4 k) 0 = k :=
  Host.clampedStart_of_le h (at4 k) 0 k rfl (by show k + 1 ≤ 33; omega)
theorem clamp1_128_128 (k : ℕ) (h : S1x8x128x128.rank = S33x8x128x128.rank) : Host.clampedStart S33x8x128x128 S1x8x128x128 h (at4 k) 1 = 0 :=
  Host.clampedStart_of_le h (at4 k) 1 0 rfl (by show 0 + 8 ≤ 8; omega)
theorem clamp2_128_128 (k : ℕ) (h : S1x8x128x128.rank = S33x8x128x128.rank) : Host.clampedStart S33x8x128x128 S1x8x128x128 h (at4 k) 2 = 0 :=
  Host.clampedStart_of_le h (at4 k) 2 0 rfl (by show 0 + 128 ≤ 128; omega)
theorem clamp3_128_128 (k : ℕ) (h : S1x8x128x128.rank = S33x8x128x128.rank) : Host.clampedStart S33x8x128x128 S1x8x128x128 h (at4 k) 3 = 0 :=
  Host.clampedStart_of_le h (at4 k) 3 0 rfl (by show 0 + 128 ≤ 128; omega)
/-- Chunk `k` of an array of chunks. -/
theorem chunk_128_128 (x : S33x8x128x128.Idx → EReal) {k : ℕ} (hk : k < 33) (j : Fin 8) (a : Fin 128) (d : Fin 128) :
    shapeCast S8x128x128 (Host.dynamicSlice S1x8x128x128 x (at4 k) sliceFits_S33x8x128x128_S1x8x128x128) shapeCasts_S1x8x128x128_S8x128x128 (ix3 j a d)
      = x (ix4 ⟨k, hk⟩ j a d) := by
  pointwise
  simp only [clamp0_128_128 hk, clamp1_128_128 k, clamp2_128_128 k, clamp3_128_128 k, Nat.zero_add, Nat.add_zero]
/-- An array of chunks after chunk `k` is put in. -/
theorem put_128_128 (x : S33x8x128x128.Idx → EReal) (u : S1x8x128x128.Idx → EReal) {k : ℕ} (hk : k < 33) (n : Fin 33) (j : Fin 8) (a : Fin 128) (d : Fin 128) :
    Host.dynamicUpdateSlice x u (at4 k) updateFits_S33x8x128x128_S1x8x128x128 (ix4 n j a d)
      = if n.val = k then u (ix4 0 j a d) else x (ix4 n j a d) := by
  pointwise
  simp only [clamp0_128_128 hk, clamp1_128_128 k, clamp2_128_128 k, clamp3_128_128 k, Nat.zero_le, and_true, Nat.sub_zero]
  by_cases h : n.val = k
  · rw [dif_pos (by omega), if_pos h]
    congr 2
    exact Fin.ext (by show n.val - k = 0; omega)
  · rw [dif_neg (by omega), if_neg h]

/-! ## Chunks of 256 by 256 -/

theorem clamp0_256_256 {k : ℕ} (hk : k < 33) (h : S1x8x256x256.rank = S33x8x256x256.rank) : Host.clampedStart S33x8x256x256 S1x8x256x256 h (at4 k) 0 = k :=
  Host.clampedStart_of_le h (at4 k) 0 k rfl (by show k + 1 ≤ 33; omega)
theorem clamp1_256_256 (k : ℕ) (h : S1x8x256x256.rank = S33x8x256x256.rank) : Host.clampedStart S33x8x256x256 S1x8x256x256 h (at4 k) 1 = 0 :=
  Host.clampedStart_of_le h (at4 k) 1 0 rfl (by show 0 + 8 ≤ 8; omega)
theorem clamp2_256_256 (k : ℕ) (h : S1x8x256x256.rank = S33x8x256x256.rank) : Host.clampedStart S33x8x256x256 S1x8x256x256 h (at4 k) 2 = 0 :=
  Host.clampedStart_of_le h (at4 k) 2 0 rfl (by show 0 + 256 ≤ 256; omega)
theorem clamp3_256_256 (k : ℕ) (h : S1x8x256x256.rank = S33x8x256x256.rank) : Host.clampedStart S33x8x256x256 S1x8x256x256 h (at4 k) 3 = 0 :=
  Host.clampedStart_of_le h (at4 k) 3 0 rfl (by show 0 + 256 ≤ 256; omega)
/-- Chunk `k` of an array of chunks. -/
theorem chunk_256_256 (x : S33x8x256x256.Idx → EReal) {k : ℕ} (hk : k < 33) (j : Fin 8) (a : Fin 256) (d : Fin 256) :
    shapeCast S8x256x256 (Host.dynamicSlice S1x8x256x256 x (at4 k) sliceFits_S33x8x256x256_S1x8x256x256) shapeCasts_S1x8x256x256_S8x256x256 (ix3 j a d)
      = x (ix4 ⟨k, hk⟩ j a d) := by
  pointwise
  simp only [clamp0_256_256 hk, clamp1_256_256 k, clamp2_256_256 k, clamp3_256_256 k, Nat.zero_add, Nat.add_zero]
/-- An array of chunks after chunk `k` is put in. -/
theorem put_256_256 (x : S33x8x256x256.Idx → EReal) (u : S1x8x256x256.Idx → EReal) {k : ℕ} (hk : k < 33) (n : Fin 33) (j : Fin 8) (a : Fin 256) (d : Fin 256) :
    Host.dynamicUpdateSlice x u (at4 k) updateFits_S33x8x256x256_S1x8x256x256 (ix4 n j a d)
      = if n.val = k then u (ix4 0 j a d) else x (ix4 n j a d) := by
  pointwise
  simp only [clamp0_256_256 hk, clamp1_256_256 k, clamp2_256_256 k, clamp3_256_256 k, Nat.zero_le, and_true, Nat.sub_zero]
  by_cases h : n.val = k
  · rw [dif_pos (by omega), if_pos h]
    congr 2
    exact Fin.ext (by show n.val - k = 0; omega)
  · rw [dif_neg (by omega), if_neg h]

end Cert.ReferenceIdeal.Ret

end
-- ==== Proof.RLoop0.lean ====
/- One trip of the reference's first loop: the chunk it reads, what it computes, and where it puts it. -/
module

public import proofs.«01_k».proof.Proof.Chunks
public import Idealize.ShloMosaic.Lib.StableHlo.ReadAt
public import Idealize.ShloMosaic.Lib.Pointwise

@[expose] public section

set_option maxRecDepth 100000

noncomputable section

namespace Cert.ReferenceIdeal.Ret

open Idealize.ShloMosaic Idealize.ShloMosaic.TcCoe Idealize.ShloMosaic.Tactic
open Idealize.ShloMosaic.StableHlo
open Cert.ReferenceIdeal Cert.ReferenceIdeal.Gen Cert.Ret

variable (X : Valuation τ sig (Elt Ideal))

/-- What a trip writes, in order. -/
abbrev W0L : List (Ref sig .tc) := while0Ops0_W ++ while0Ops0_1_W ++ while0Ops0_2_W ++ while0Ops0_3_W ++ while0Ops0_4_W ++ while0Ops0_5_W ++ while0Ops0_6_W ++ while0Ops0_7_W ++ while0Ops0_8_W
theorem W0L_eq : (body0 (F := Ideal)).flatten.map HloOp.writes = W0L.map fun w => {Proc.devRef (τ := τ) .tc w} := rfl

theorem while0b_v268_eq {k : ℕ} (hk : k < 33) (hc : X (Proc.devRef .tc main_v149_7) = fun _ => BitVec.ofNat 32 k) :
    after (body0 (F := Ideal)).flatten X (Proc.devRef .tc main_while0b_v268)
      = shapeCast S8x128x256 (Host.dynamicSlice S1x8x128x256 (X (Proc.devRef .tc main_v149_0)) (at4 k) sliceFits_S33x8x128x256_S1x8x128x256) shapeCasts_S1x8x128x256_S8x128x256 := by
  have e1 := cut_old W0L W0L_eq X 3 (r := main_v149_0) (by decide +kernel)
  have e2 := cut_old W0L W0L_eq X 3 (r := main_v149_7) (by decide +kernel)
  rw [hc] at e2
  have c0 : upto (body0 (F := Ideal)).flatten X 3 (Proc.devRef .tc main_while0b_call1_c) = fun _ => (0#32 : BitVec 32) := by after_reads_simp; rfl
  have c1 : upto (body0 (F := Ideal)).flatten X 3 (Proc.devRef .tc main_while0b_call1_c_0) = fun _ => (0#32 : BitVec 32) := by after_reads_simp; rfl
  have c2 : upto (body0 (F := Ideal)).flatten X 3 (Proc.devRef .tc main_while0b_call1_c_1) = fun _ => (0#32 : BitVec 32) := by after_reads_simp; rfl
  rw [← e1, cut_run _ X 3]
  generalize upto (body0 (F := Ideal)).flatten X 3 = U at *
  after_reads_simp
  refine congrArg (fun s => shapeCast S8x128x256 (Host.dynamicSlice S1x8x128x256 (U (Proc.devRef .tc main_v149_0)) s sliceFits_S33x8x128x256_S1x8x128x256) shapeCasts_S1x8x128x256_S8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem while0b_v269_eq {k : ℕ} (hk : k < 33) (hc : X (Proc.devRef .tc main_v149_7) = fun _ => BitVec.ofNat 32 k) :
    after (body0 (F := Ideal)).flatten X (Proc.devRef .tc main_while0b_v269)
      = shapeCast S8x128x256 (Host.dynamicSlice S1x8x128x256 (X (Proc.devRef .tc main_v149_1)) (at4 k) sliceFits_S33x8x128x256_S1x8x128x256) shapeCasts_S1x8x128x256_S8x128x256 := by
  have e1 := cut_old W0L W0L_eq X 8 (r := main_v149_1) (by decide +kernel)
  have e2 := cut_old W0L W0L_eq X 8 (r := main_v149_7) (by decide +kernel)
  rw [hc] at e2
  have c0 : upto (body0 (F := Ideal)).flatten X 8 (Proc.devRef .tc main_while0b_call2_c) = fun _ => (0#32 : BitVec 32) := by after_reads_simp; rfl
  have c1 : upto (body0 (F := Ideal)).flatten X 8 (Proc.devRef .tc main_while0b_call2_c_0) = fun _ => (0#32 : BitVec 32) := by after_reads_simp; rfl
  have c2 : upto (body0 (F := Ideal)).flatten X 8 (Proc.devRef .tc main_while0b_call2_c_1) = fun _ => (0#32 : BitVec 32) := by after_reads_simp; rfl
  rw [← e1, cut_run _ X 8]
  generalize upto (body0 (F := Ideal)).flatten X 8 = U at *
  after_reads_simp
  refine congrArg (fun s => shapeCast S8x128x256 (Host.dynamicSlice S1x8x128x256 (U (Proc.devRef .tc main_v149_1)) s sliceFits_S33x8x128x256_S1x8x128x256) shapeCasts_S1x8x128x256_S8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem while0b_v270_eq {k : ℕ} (hk : k < 33) (hc : X (Proc.devRef .tc main_v149_7) = fun _ => BitVec.ofNat 32 k) :
    after (body0 (F := Ideal)).flatten X (Proc.devRef .tc main_while0b_v270)
      = shapeCast S8x128x256 (Host.dynamicSlice S1x8x128x256 (X (Proc.devRef .tc main_v149_2)) (at4 k) sliceFits_S33x8x128x256_S1x8x128x256) shapeCasts_S1x8x128x256_S8x128x256 := by
  have e1 := cut_old W0L W0L_eq X 13 (r := main_v149_2) (by decide +kernel)
  have e2 := cut_old W0L W0L_eq X 13 (r := main_v149_7) (by decide +kernel)
  rw [hc] at e2
  have c0 : upto (body0 (F := Ideal)).flatten X 13 (Proc.devRef .tc main_while0b_call3_c) = fun _ => (0#32 : BitVec 32) := by after_reads_simp; rfl
  have c1 : upto (body0 (F := Ideal)).flatten X 13 (Proc.devRef .tc main_while0b_call3_c_0) = fun _ => (0#32 : BitVec 32) := by after_reads_simp; rfl
  have c2 : upto (body0 (F := Ideal)).flatten X 13 (Proc.devRef .tc main_while0b_call3_c_1) = fun _ => (0#32 : BitVec 32) := by after_reads_simp; rfl
  rw [← e1, cut_run _ X 13]
  generalize upto (body0 (F := Ideal)).flatten X 13 = U at *
  after_reads_simp
  refine congrArg (fun s => shapeCast S8x128x256 (Host.dynamicSlice S1x8x128x256 (U (Proc.devRef .tc main_v149_2)) s sliceFits_S33x8x128x256_S1x8x128x256) shapeCasts_S1x8x128x256_S8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem v149_9_eq {k : ℕ} (hk : k < 33) (hc : X (Proc.devRef .tc main_v149_7) = fun _ => BitVec.ofNat 32 k) :
    after (body0 (F := Ideal)).flatten X (Proc.devRef .tc main_v149_9)
      = Host.dynamicUpdateSlice (X (Proc.devRef .tc main_v149_9)) (after (body0 (F := Ideal)).flatten X (Proc.devRef .tc main_while0b_call4_v0)) (at4 k) updateFits_S33x8x128x256_S1x8x128x256 := by
  have e0 := cut_keep W0L W0L_eq X 32 (r := main_while0b_call4_v0) (by decide +kernel)
  have e1 := cut_old W0L W0L_eq X 32 (r := main_v149_9) (by decide +kernel)
  have e2 := cut_old W0L W0L_eq X 32 (r := main_v149_7) (by decide +kernel)
  rw [hc] at e2
  have c0 : upto (body0 (F := Ideal)).flatten X 32 (Proc.devRef .tc main_while0b_call4_c) = fun _ => (0#32 : BitVec 32) := by after_reads_simp; rfl
  have c1 : upto (body0 (F := Ideal)).flatten X 32 (Proc.devRef .tc main_while0b_call4_c_0) = fun _ => (0#32 : BitVec 32) := by after_reads_simp; rfl
  have c2 : upto (body0 (F := Ideal)).flatten X 32 (Proc.devRef .tc main_while0b_call4_c_1) = fun _ => (0#32 : BitVec 32) := by after_reads_simp; rfl
  rw [← e0, ← e1, cut_run _ X 32]
  generalize upto (body0 (F := Ideal)).flatten X 32 = U at *
  after_reads_simp
  refine congrArg (fun s => Host.dynamicUpdateSlice (U (Proc.devRef .tc main_v149_9)) (U (Proc.devRef .tc main_while0b_call4_v0)) s updateFits_S33x8x128x256_S1x8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem v149_10_eq {k : ℕ} (hk : k < 33) (hc : X (Proc.devRef .tc main_v149_7) = fun _ => BitVec.ofNat 32 k) :
    after (body0 (F := Ideal)).flatten X (Proc.devRef .tc main_v149_10)
      = Host.dynamicUpdateSlice (X (Proc.devRef .tc main_v149_10)) (after (body0 (F := Ideal)).flatten X (Proc.devRef .tc main_while0b_call5_v0)) (at4 k) updateFits_S33x8x128x128_S1x8x128x128 := by
  have e0 := cut_keep W0L W0L_eq X 37 (r := main_while0b_call5_v0) (by decide +kernel)
  have e1 := cut_old W0L W0L_eq X 37 (r := main_v149_10) (by decide +kernel)
  have e2 := cut_old W0L W0L_eq X 37 (r := main_v149_7) (by decide +kernel)
  rw [hc] at e2
  have c0 : upto (body0 (F := Ideal)).flatten X 37 (Proc.devRef .tc main_while0b_call5_c) = fun _ => (0#32 : BitVec 32) := by after_reads_simp; rfl
  have c1 : upto (body0 (F := Ideal)).flatten X 37 (Proc.devRef .tc main_while0b_call5_c_0) = fun _ => (0#32 : BitVec 32) := by after_reads_simp; rfl
  have c2 : upto (body0 (F := Ideal)).flatten X 37 (Proc.devRef .tc main_while0b_call5_c_1) = fun _ => (0#32 : BitVec 32) := by after_reads_simp; rfl
  rw [← e0, ← e1, cut_run _ X 37]
  generalize upto (body0 (F := Ideal)).flatten X 37 = U at *
  after_reads_simp
  refine congrArg (fun s => Host.dynamicUpdateSlice (U (Proc.devRef .tc main_v149_10)) (U (Proc.devRef .tc main_while0b_call5_v0)) s updateFits_S33x8x128x128_S1x8x128x128) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem v149_11_eq {k : ℕ} (hk : k < 33) (hc : X (Proc.devRef .tc main_v149_7) = fun _ => BitVec.ofNat 32 k) :
    after (body0 (F := Ideal)).flatten X (Proc.devRef .tc main_v149_11)
      = Host.dynamicUpdateSlice (X (Proc.devRef .tc main_v149_11)) (after (body0 (F := Ideal)).flatten X (Proc.devRef .tc main_while0b_call6_v0)) (at4 k) updateFits_S33x8x256x256_S1x8x256x256 := by
  have e0 := cut_keep W0L W0L_eq X 42 (r := main_while0b_call6_v0) (by decide +kernel)
  have e1 := cut_old W0L W0L_eq X 42 (r := main_v149_11) (by decide +kernel)
  have e2 := cut_old W0L W0L_eq X 42 (r := main_v149_7) (by decide +kernel)
  rw [hc] at e2
  have c0 : upto (body0 (F := Ideal)).flatten X 42 (Proc.devRef .tc main_while0b_call6_c) = fun _ => (0#32 : BitVec 32) := by after_reads_simp; rfl
  have c1 : upto (body0 (F := Ideal)).flatten X 42 (Proc.devRef .tc main_while0b_call6_c_0) = fun _ => (0#32 : BitVec 32) := by after_reads_simp; rfl
  have c2 : upto (body0 (F := Ideal)).flatten X 42 (Proc.devRef .tc main_while0b_call6_c_1) = fun _ => (0#32 : BitVec 32) := by after_reads_simp; rfl
  rw [← e0, ← e1, cut_run _ X 42]
  generalize upto (body0 (F := Ideal)).flatten X 42 = U at *
  after_reads_simp
  refine congrArg (fun s => Host.dynamicUpdateSlice (U (Proc.devRef .tc main_v149_11)) (U (Proc.devRef .tc main_while0b_call6_v0)) s updateFits_S33x8x256x256_S1x8x256x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem v149_12_eq {k : ℕ} (hk : k < 33) (hc : X (Proc.devRef .tc main_v149_7) = fun _ => BitVec.ofNat 32 k) :
    after (body0 (F := Ideal)).flatten X (Proc.devRef .tc main_v149_12)
      = Host.dynamicUpdateSlice (X (Proc.devRef .tc main_v149_12)) (after (body0 (F := Ideal)).flatten X (Proc.devRef .tc main_while0b_call7_v0)) (at4 k) updateFits_S33x8x128x256_S1x8x128x256 := by
  have e0 := cut_keep W0L W0L_eq X 47 (r := main_while0b_call7_v0) (by decide +kernel)
  have e1 := cut_old W0L W0L_eq X 47 (r := main_v149_12) (by decide +kernel)
  have e2 := cut_old W0L W0L_eq X 47 (r := main_v149_7) (by decide +kernel)
  rw [hc] at e2
  have c0 : upto (body0 (F := Ideal)).flatten X 47 (Proc.devRef .tc main_while0b_call7_c) = fun _ => (0#32 : BitVec 32) := by after_reads_simp; rfl
  have c1 : upto (body0 (F := Ideal)).flatten X 47 (Proc.devRef .tc main_while0b_call7_c_0) = fun _ => (0#32 : BitVec 32) := by after_reads_simp; rfl
  have c2 : upto (body0 (F := Ideal)).flatten X 47 (Proc.devRef .tc main_while0b_call7_c_1) = fun _ => (0#32 : BitVec 32) := by after_reads_simp; rfl
  rw [← e0, ← e1, cut_run _ X 47]
  generalize upto (body0 (F := Ideal)).flatten X 47 = U at *
  after_reads_simp
  refine congrArg (fun s => Host.dynamicUpdateSlice (U (Proc.devRef .tc main_v149_12)) (U (Proc.devRef .tc main_while0b_call7_v0)) s updateFits_S33x8x128x256_S1x8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))

/-- What the loop's variables hold ahead of trip `k`. -/
structure Inv0 (I : In) (k : ℕ) (X : Valuation τ sig (Elt Ideal)) : Prop where
  q : ∀ (n : Fin 33) (j : Fin 8) (a : Fin 128) (d : Fin 256), (X (Proc.devRef .tc main_v149_0) : Vec Ideal S33x8x128x256 .f32) (ix4 n j a d) = I.Q (128 * n.val + a.val) j.val d.val
  key : ∀ (n : Fin 33) (j : Fin 8) (a : Fin 128) (d : Fin 256), (X (Proc.devRef .tc main_v149_1) : Vec Ideal S33x8x128x256 .f32) (ix4 n j a d) = I.K (128 * n.val + a.val) j.val d.val
  v : ∀ (n : Fin 33) (j : Fin 8) (a : Fin 128) (d : Fin 256), (X (Proc.devRef .tc main_v149_2) : Vec Ideal S33x8x128x256 .f32) (ix4 n j a d) = I.v (128 * n.val + a.val) j.val d.val
  cd : ∀ (j : Fin 8), (X (Proc.devRef .tc main_v149_3) : Vec Ideal S8x1x1 .f32) (ix3 j 0 0) = I.cd j.val
  kd : ∀ (j : Fin 8) (a : Fin 128), (X (Proc.devRef .tc main_v149_4) : Vec Ideal S8x128x1 .f32) (ix3 j a 0) = I.kd j.val a.val
  D : ∀ (j : Fin 8) (a b : Fin 128), (X (Proc.devRef .tc main_v149_5) : Vec Ideal S8x128x128 .f32) (ix3 j a b) = I.D j.val a.val b.val
  qd : ∀ (j : Fin 8) (a : Fin 128), (X (Proc.devRef .tc main_v149_6) : Vec Ideal S8x128x1 .f32) (ix3 j a 0) = I.qd j.val a.val
  ctr : X (Proc.devRef .tc main_v149_7) = fun _ => BitVec.ofNat 32 k
  S : ∀ (j : Fin 8) (d e : Fin 256), (X (Proc.devRef .tc main_v149_8) : Vec Ideal S8x256x256 .f32) (ix3 j d e) = I.S k j.val d.val e.val
  y : ∀ (n : Fin 33) (j : Fin 8) (a : Fin 128) (e : Fin 256), n.val < k → (X (Proc.devRef .tc main_v149_9) : Vec Ideal S33x8x128x256 .f32) (ix4 n j a e) = I.ry n.val j.val a.val e.val
  P : ∀ (n : Fin 33) (j : Fin 8) (a b : Fin 128), n.val < k → (X (Proc.devRef .tc main_v149_10) : Vec Ideal S33x8x128x128 .f32) (ix4 n j a b) = I.P n.val j.val a.val b.val
  st : ∀ (n : Fin 33) (j : Fin 8) (d e : Fin 256), n.val < k → (X (Proc.devRef .tc main_v149_11) : Vec Ideal S33x8x256x256 .f32) (ix4 n j d e) = I.S n.val j.val d.val e.val
  kk : ∀ (n : Fin 33) (j : Fin 8) (a : Fin 128) (d : Fin 256), n.val < k → (X (Proc.devRef .tc main_v149_12) : Vec Ideal S33x8x128x256 .f32) (ix4 n j a d) = I.K (128 * n.val + a.val) j.val d.val * I.kd j.val a.val

variable {X} {I : In} {k : ℕ}

/-- The chunk's queries, keys and values. -/
theorem q_at (H : Inv0 I k X) (hk : k < 33) (j : Fin 8) (a : Fin 128) (d : Fin 256) : (after (body0 (F := Ideal)).flatten X (Proc.devRef .tc main_while0b_v268) : Vec Ideal S8x128x256 .f32) (ix3 j a d) = I.Q (128 * k + a.val) j.val d.val := by
  rw [while0b_v268_eq X hk H.ctr]
  exact (chunk_128_256 _ hk j a d).trans (H.q ⟨k, hk⟩ j a d)
theorem k_at (H : Inv0 I k X) (hk : k < 33) (j : Fin 8) (a : Fin 128) (d : Fin 256) : (after (body0 (F := Ideal)).flatten X (Proc.devRef .tc main_while0b_v269) : Vec Ideal S8x128x256 .f32) (ix3 j a d) = I.K (128 * k + a.val) j.val d.val := by
  rw [while0b_v269_eq X hk H.ctr]
  exact (chunk_128_256 _ hk j a d).trans (H.key ⟨k, hk⟩ j a d)
theorem v_at (H : Inv0 I k X) (hk : k < 33) (j : Fin 8) (a : Fin 128) (d : Fin 256) : (after (body0 (F := Ideal)).flatten X (Proc.devRef .tc main_while0b_v270) : Vec Ideal S8x128x256 .f32) (ix3 j a d) = I.v (128 * k + a.val) j.val d.val := by
  rw [while0b_v270_eq X hk H.ctr]
  exact (chunk_128_256 _ hk j a d).trans (H.v ⟨k, hk⟩ j a d)

/-! ## What the trip computes -/

theorem y_new (H : Inv0 I k X) (hk : k < 33) (j : Fin 8) (a : Fin 128) (e : Fin 256) : (after (body0 (F := Ideal)).flatten X (Proc.devRef .tc main_while0b_call4_v0) : Vec Ideal S1x8x128x256 .f32) (ix4 0 j a e) = I.ry k j.val a.val e.val := by
  have fq : ∀ (j : Fin 8) (a : Fin 128) (d : Fin 256), (upto (body0 (F := Ideal)).flatten X 15 (Proc.devRef .tc main_while0b_v268) : Vec Ideal S8x128x256 .f32) (ix3 j a d) = I.Q (128 * k + a.val) j.val d.val := fun j a d =>
    (congrFun (cut_keep W0L W0L_eq X 15 (r := main_while0b_v268) (by decide +kernel)) _).trans (q_at H hk j a d)
  have fk : ∀ (j : Fin 8) (a : Fin 128) (d : Fin 256), (upto (body0 (F := Ideal)).flatten X 15 (Proc.devRef .tc main_while0b_v269) : Vec Ideal S8x128x256 .f32) (ix3 j a d) = I.K (128 * k + a.val) j.val d.val := fun j a d =>
    (congrFun (cut_keep W0L W0L_eq X 15 (r := main_while0b_v269) (by decide +kernel)) _).trans (k_at H hk j a d)
  have fv : ∀ (j : Fin 8) (a : Fin 128) (d : Fin 256), (upto (body0 (F := Ideal)).flatten X 15 (Proc.devRef .tc main_while0b_v270) : Vec Ideal S8x128x256 .f32) (ix3 j a d) = I.v (128 * k + a.val) j.val d.val := fun j a d =>
    (congrFun (cut_keep W0L W0L_eq X 15 (r := main_while0b_v270) (by decide +kernel)) _).trans (v_at H hk j a d)
  have fD : ∀ (j : Fin 8) (a : Fin 128) (b : Fin 128), (upto (body0 (F := Ideal)).flatten X 15 (Proc.devRef .tc main_v149_5) : Vec Ideal S8x128x128 .f32) (ix3 j a b) = I.D j.val a.val b.val := fun j a b =>
    (congrFun (cut_old W0L W0L_eq X 15 (r := main_v149_5) (by decide +kernel)) _).trans (H.D j a b)
  have fqd : ∀ (j : Fin 8) (a : Fin 128), (upto (body0 (F := Ideal)).flatten X 15 (Proc.devRef .tc main_v149_6) : Vec Ideal S8x128x1 .f32) (ix3 j a 0) = I.qd j.val a.val := fun j a =>
    (congrFun (cut_old W0L W0L_eq X 15 (r := main_v149_6) (by decide +kernel)) _).trans (H.qd j a)
  have fS : ∀ (j : Fin 8) (d : Fin 256) (e : Fin 256), (upto (body0 (F := Ideal)).flatten X 15 (Proc.devRef .tc main_v149_8) : Vec Ideal S8x256x256 .f32) (ix3 j d e) = I.S k j.val d.val e.val := fun j d e =>
    (congrFun (cut_old W0L W0L_eq X 15 (r := main_v149_8) (by decide +kernel)) _).trans (H.S j d e)
  rw [cut_run _ X 15]
  generalize upto (body0 (F := Ideal)).flatten X 15 = U at *
  after_reads_at
  simp only [fq, fk, fv, fD, fqd, fS]
  rfl
theorem P_new (H : Inv0 I k X) (hk : k < 33) (j : Fin 8) (a b : Fin 128) : (after (body0 (F := Ideal)).flatten X (Proc.devRef .tc main_while0b_call5_v0) : Vec Ideal S1x8x128x128 .f32) (ix4 0 j a b) = I.P k j.val a.val b.val := by
  have fq : ∀ (j : Fin 8) (a : Fin 128) (d : Fin 256), (upto (body0 (F := Ideal)).flatten X 15 (Proc.devRef .tc main_while0b_v268) : Vec Ideal S8x128x256 .f32) (ix3 j a d) = I.Q (128 * k + a.val) j.val d.val := fun j a d =>
    (congrFun (cut_keep W0L W0L_eq X 15 (r := main_while0b_v268) (by decide +kernel)) _).trans (q_at H hk j a d)
  have fk : ∀ (j : Fin 8) (a : Fin 128) (d : Fin 256), (upto (body0 (F := Ideal)).flatten X 15 (Proc.devRef .tc main_while0b_v269) : Vec Ideal S8x128x256 .f32) (ix3 j a d) = I.K (128 * k + a.val) j.val d.val := fun j a d =>
    (congrFun (cut_keep W0L W0L_eq X 15 (r := main_while0b_v269) (by decide +kernel)) _).trans (k_at H hk j a d)
  have fD : ∀ (j : Fin 8) (a : Fin 128) (b : Fin 128), (upto (body0 (F := Ideal)).flatten X 15 (Proc.devRef .tc main_v149_5) : Vec Ideal S8x128x128 .f32) (ix3 j a b) = I.D j.val a.val b.val := fun j a b =>
    (congrFun (cut_old W0L W0L_eq X 15 (r := main_v149_5) (by decide +kernel)) _).trans (H.D j a b)
  rw [cut_run _ X 15]
  generalize upto (body0 (F := Ideal)).flatten X 15 = U at *
  after_reads_at
  simp only [fq, fk, fD]
  rfl
theorem st_new (H : Inv0 I k X) (hk : k < 33) (j : Fin 8) (d e : Fin 256) : (after (body0 (F := Ideal)).flatten X (Proc.devRef .tc main_while0b_call6_v0) : Vec Ideal S1x8x256x256 .f32) (ix4 0 j d e) = I.S k j.val d.val e.val := by
  have fS : ∀ (j : Fin 8) (d : Fin 256) (e : Fin 256), (upto (body0 (F := Ideal)).flatten X 15 (Proc.devRef .tc main_v149_8) : Vec Ideal S8x256x256 .f32) (ix3 j d e) = I.S k j.val d.val e.val := fun j d e =>
    (congrFun (cut_old W0L W0L_eq X 15 (r := main_v149_8) (by decide +kernel)) _).trans (H.S j d e)
  rw [cut_run _ X 15]
  generalize upto (body0 (F := Ideal)).flatten X 15 = U at *
  after_reads_at
  simp only [fS]
theorem kk_new (H : Inv0 I k X) (hk : k < 33) (j : Fin 8) (a : Fin 128) (d : Fin 256) : (after (body0 (F := Ideal)).flatten X (Proc.devRef .tc main_while0b_call7_v0) : Vec Ideal S1x8x128x256 .f32) (ix4 0 j a d) = I.K (128 * k + a.val) j.val d.val * I.kd j.val a.val := by
  have fk : ∀ (j : Fin 8) (a : Fin 128) (d : Fin 256), (upto (body0 (F := Ideal)).flatten X 15 (Proc.devRef .tc main_while0b_v269) : Vec Ideal S8x128x256 .f32) (ix3 j a d) = I.K (128 * k + a.val) j.val d.val := fun j a d =>
    (congrFun (cut_keep W0L W0L_eq X 15 (r := main_while0b_v269) (by decide +kernel)) _).trans (k_at H hk j a d)
  have fkd : ∀ (j : Fin 8) (a : Fin 128), (upto (body0 (F := Ideal)).flatten X 15 (Proc.devRef .tc main_v149_4) : Vec Ideal S8x128x1 .f32) (ix3 j a 0) = I.kd j.val a.val := fun j a =>
    (congrFun (cut_old W0L W0L_eq X 15 (r := main_v149_4) (by decide +kernel)) _).trans (H.kd j a)
  rw [cut_run _ X 15]
  generalize upto (body0 (F := Ideal)).flatten X 15 = U at *
  after_reads_at
  simp only [fk, fkd]
theorem S_new (H : Inv0 I k X) (hk : k < 33) (j : Fin 8) (d e : Fin 256) : (after (body0 (F := Ideal)).flatten X (Proc.devRef .tc main_v149_8) : Vec Ideal S8x256x256 .f32) (ix3 j d e) = I.S (k + 1) j.val d.val e.val := by
  have fk : ∀ (j : Fin 8) (a : Fin 128) (d : Fin 256), (upto (body0 (F := Ideal)).flatten X 15 (Proc.devRef .tc main_while0b_v269) : Vec Ideal S8x128x256 .f32) (ix3 j a d) = I.K (128 * k + a.val) j.val d.val := fun j a d =>
    (congrFun (cut_keep W0L W0L_eq X 15 (r := main_while0b_v269) (by decide +kernel)) _).trans (k_at H hk j a d)
  have fv : ∀ (j : Fin 8) (a : Fin 128) (d : Fin 256), (upto (body0 (F := Ideal)).flatten X 15 (Proc.devRef .tc main_while0b_v270) : Vec Ideal S8x128x256 .f32) (ix3 j a d) = I.v (128 * k + a.val) j.val d.val := fun j a d =>
    (congrFun (cut_keep W0L W0L_eq X 15 (r := main_while0b_v270) (by decide +kernel)) _).trans (v_at H hk j a d)
  have fcd : ∀ (j : Fin 8), (upto (body0 (F := Ideal)).flatten X 15 (Proc.devRef .tc main_v149_3) : Vec Ideal S8x1x1 .f32) (ix3 j 0 0) = I.cd j.val := fun j =>
    (congrFun (cut_old W0L W0L_eq X 15 (r := main_v149_3) (by decide +kernel)) _).trans (H.cd j)
  have fkd : ∀ (j : Fin 8) (a : Fin 128), (upto (body0 (F := Ideal)).flatten X 15 (Proc.devRef .tc main_v149_4) : Vec Ideal S8x128x1 .f32) (ix3 j a 0) = I.kd j.val a.val := fun j a =>
    (congrFun (cut_old W0L W0L_eq X 15 (r := main_v149_4) (by decide +kernel)) _).trans (H.kd j a)
  have fS : ∀ (j : Fin 8) (d : Fin 256) (e : Fin 256), (upto (body0 (F := Ideal)).flatten X 15 (Proc.devRef .tc main_v149_8) : Vec Ideal S8x256x256 .f32) (ix3 j d e) = I.S k j.val d.val e.val := fun j d e =>
    (congrFun (cut_old W0L W0L_eq X 15 (r := main_v149_8) (by decide +kernel)) _).trans (H.S j d e)
  rw [cut_run _ X 15]
  generalize upto (body0 (F := Ideal)).flatten X 15 = U at *
  after_reads_at
  simp only [id]
  pointwise
  simp only [fk, fv, fcd, fkd, fS]
  rfl

/-! ## The trip -/

/-- The condition changes none of the loop's variables. -/
theorem Inv0.cond (H : Inv0 I k X) : Inv0 I k (after cond0 X) where
  q := by rw [after_of_writes_sub cond0 _ cond0_writes (by decide +kernel)]; exact H.q
  key := by rw [after_of_writes_sub cond0 _ cond0_writes (by decide +kernel)]; exact H.key
  v := by rw [after_of_writes_sub cond0 _ cond0_writes (by decide +kernel)]; exact H.v
  cd := by rw [after_of_writes_sub cond0 _ cond0_writes (by decide +kernel)]; exact H.cd
  kd := by rw [after_of_writes_sub cond0 _ cond0_writes (by decide +kernel)]; exact H.kd
  D := by rw [after_of_writes_sub cond0 _ cond0_writes (by decide +kernel)]; exact H.D
  qd := by rw [after_of_writes_sub cond0 _ cond0_writes (by decide +kernel)]; exact H.qd
  ctr := by rw [after_of_writes_sub cond0 _ cond0_writes (by decide +kernel)]; exact H.ctr
  S := by rw [after_of_writes_sub cond0 _ cond0_writes (by decide +kernel)]; exact H.S
  y := by rw [after_of_writes_sub cond0 _ cond0_writes (by decide +kernel)]; exact H.y
  P := by rw [after_of_writes_sub cond0 _ cond0_writes (by decide +kernel)]; exact H.P
  st := by rw [after_of_writes_sub cond0 _ cond0_writes (by decide +kernel)]; exact H.st
  kk := by rw [after_of_writes_sub cond0 _ cond0_writes (by decide +kernel)]; exact H.kk

/-- One trip. -/
theorem Inv0.step (H : Inv0 I k X) (hk : k < 33) : Inv0 I (k + 1) (after (body0 (F := Ideal)).flatten X) where
  q := by rw [after_unwritten W0L W0L_eq (by decide +kernel)]; exact H.q
  key := by rw [after_unwritten W0L W0L_eq (by decide +kernel)]; exact H.key
  v := by rw [after_unwritten W0L W0L_eq (by decide +kernel)]; exact H.v
  cd := by rw [after_unwritten W0L W0L_eq (by decide +kernel)]; exact H.cd
  kd := by rw [after_unwritten W0L W0L_eq (by decide +kernel)]; exact H.kd
  D := by rw [after_unwritten W0L W0L_eq (by decide +kernel)]; exact H.D
  qd := by rw [after_unwritten W0L W0L_eq (by decide +kernel)]; exact H.qd
  ctr := by
    have e : after (body0 (F := Ideal)).flatten X (Proc.devRef .tc main_v149_7) = addi (X (Proc.devRef .tc main_v149_7)) (constantI S_ 32 1#32) := by
      after_reads_simp
      rfl
    rw [e, H.ctr]
    funext i
    show BitVec.ofNat 32 k + BitVec.ofNat 32 1 = BitVec.ofNat 32 (k + 1)
    exact (BitVec.ofNat_add _ _).symm
  S := S_new H hk
  y n j a e hn := by
    rw [v149_9_eq X hk H.ctr]
    refine (put_128_256 _ _ hk n j a e).trans ?_
    by_cases h : n.val = k
    · rw [if_pos h, h]; exact y_new H hk j a e
    · rw [if_neg h]; exact H.y n j a e (by omega)
  P n j a b hn := by
    rw [v149_10_eq X hk H.ctr]
    refine (put_128_128 _ _ hk n j a b).trans ?_
    by_cases h : n.val = k
    · rw [if_pos h, h]; exact P_new H hk j a b
    · rw [if_neg h]; exact H.P n j a b (by omega)
  st n j d e hn := by
    rw [v149_11_eq X hk H.ctr]
    refine (put_256_256 _ _ hk n j d e).trans ?_
    by_cases h : n.val = k
    · rw [if_pos h, h]; exact st_new H hk j d e
    · rw [if_neg h]; exact H.st n j d e (by omega)
  kk n j a d hn := by
    rw [v149_12_eq X hk H.ctr]
    refine (put_128_256 _ _ hk n j a d).trans ?_
    by_cases h : n.val = k
    · rw [if_pos h, h]; exact kk_new H hk j a d
    · rw [if_neg h]; exact H.kk n j a d (by omega)

end Cert.ReferenceIdeal.Ret

end
-- ==== Proof.RRun0.lean ====
/- The reference's first loop: what its variables hold when it ends. -/
module

public import proofs.«01_k».proof.Proof.RPre
public import proofs.«01_k».proof.Proof.RLoop0
public import Idealize.ShloMosaic.Lib.StableHlo.ReadAt
public import Idealize.ShloMosaic.Lib.Pointwise

@[expose] public section

set_option maxRecDepth 100000

noncomputable section

namespace Cert.ReferenceIdeal.Ret

open Idealize.ShloMosaic Idealize.ShloMosaic.TcCoe Idealize.ShloMosaic.Tactic
open Idealize.ShloMosaic.StableHlo
open Cert.ReferenceIdeal Cert.ReferenceIdeal.Gen Cert.Ret

variable (m : (ℓ : Loc nD τ sig) → Buf (Elt Ideal) ℓ) (c : Dev nD)

/-- A list that does not write a buffer. -/
theorem trip_keep0 {r : Ref sig .tc} (h : r ∉ W0L) (h' : r ∉ cond0_W) (V : Dev nD → Valuation τ sig (Elt Ideal)) (k : ℕ) :
    atTrip cond0 body0 V k c (Proc.devRef .tc r) = V c (Proc.devRef .tc r) := by
  induction k with
  | zero => rfl
  | succ k ih =>
    show afterL body0 (after cond0 (atTrip cond0 body0 V k c)) (Proc.devRef .tc r) = _
    rw [afterL_eq_after_flatten, after_unwritten W0L W0L_eq h, after_of_writes_sub cond0 _ cond0_writes h', ih]
/-- A buffer the loop does not write. -/
theorem E1_keep {r : Ref sig .tc} (h : r ∉ W0L) (h' : r ∉ cond0_W) :
    E1 (F := Ideal) m c (Proc.devRef .tc r) = E0 (F := Ideal) m c (Proc.devRef .tc r) := by
  show after cond0 (atTrip cond0 body0 (E0 m) 33 c) (Proc.devRef .tc r) = _
  rw [after_of_writes_sub cond0 _ cond0_writes h', trip_keep0 c h h']
theorem v149_7_zero : E0 (F := Ideal) m c (Proc.devRef .tc main_v149_7) = fun _ => BitVec.ofNat 32 0 :=
  ctr0 _ (entry0 m) c 0
/-- The variables at the loop's start. -/
theorem start0 : Inv0 (inR m c) 0 (E0 (F := Ideal) m c) where
  q n j a d := by rw [v149_0_eq]; exact v136_at m c n j a d
  key n j a d := by rw [v149_1_eq]; exact v138_at m c n j a d
  v n j a d := by rw [v149_2_eq]; exact v140_at m c n j a d
  cd j := by rw [v149_3_eq]; exact v143_at m c j
  kd j a := by rw [v149_4_eq]; exact v144_at m c j a
  D j a b := by rw [v149_5_eq]; exact v115_at m c j a b
  qd j a := by rw [v149_6_eq]; exact v142_at m c j a
  ctr := v149_7_zero m c
  S j d e := v149_8_at m c j d e
  y _ _ _ _ h := absurd h (Nat.not_lt_zero _)
  P _ _ _ _ h := absurd h (Nat.not_lt_zero _)
  st _ _ _ _ h := absurd h (Nat.not_lt_zero _)
  kk _ _ _ _ h := absurd h (Nat.not_lt_zero _)
/-- The variables ahead of a trip. -/
theorem trip0 (k : ℕ) (hk : k ≤ 33) : Inv0 (inR m c) k (atTrip cond0 body0 (E0 (F := Ideal) m) k c) := by
  induction k with
  | zero => exact start0 m c
  | succ k ih =>
    show Inv0 _ _ (afterL body0 (after cond0 (atTrip cond0 body0 (E0 (F := Ideal) m) k c)))
    rw [afterL_eq_after_flatten]
    exact (ih (by omega)).cond.step (by omega)
/-- The variables at the loop's end. -/
theorem end0 : Inv0 (inR m c) 33 (E1 (F := Ideal) m c) := (trip0 m c 33 le_rfl).cond

end Cert.ReferenceIdeal.Ret

end
-- ==== Proof.RMid.lean ====
/- The reference between its two loops: the normalised and gated output, and the cotangents that enter the second
   loop. -/
module

public import proofs.«01_k».proof.Proof.RRun0
public import Idealize.ShloMosaic.Lib.StableHlo.ReadAt
public import Idealize.ShloMosaic.Lib.Pointwise

@[expose] public section

set_option maxRecDepth 100000

noncomputable section

namespace Cert.ReferenceIdeal.Ret

open Idealize.ShloMosaic Idealize.ShloMosaic.TcCoe Idealize.ShloMosaic.Tactic
open Idealize.ShloMosaic.StableHlo
open Cert.ReferenceIdeal Cert.ReferenceIdeal.Gen Cert.Ret

variable (m : (ℓ : Loc nD τ sig) → Buf (Elt Ideal) ℓ) (c : Dev nD)

/-- What the operations between the loops write, in order. -/
abbrev midW : List (Ref sig .tc) := main_part3_ops1_W ++ main_part3_ops2_W ++ main_part3_ops3_W ++ main_part4_ops0_W ++ main_part4_ops1_W ++ main_part4_ops2_W
theorem midW_eq : (midI (F := Ideal)).flatten.map HloOp.writes = midW.map fun w => {Proc.devRef (τ := τ) .tc w} := rfl
theorem E2_eq : E2 (F := Ideal) m c = after (midI (F := Ideal)).flatten (E1 (F := Ideal) m c) := afterL_eq_after_flatten _ _
/-- The contents after the first `n` operations. -/
abbrev M2 (n : ℕ) : Valuation τ sig (Elt Ideal) := upto (midI (F := Ideal)).flatten (E1 (F := Ideal) m c) n
theorem E2_cut (n : ℕ) : E2 (F := Ideal) m c = after ((midI (F := Ideal)).flatten.drop n) (M2 m c n) := by
  rw [E2_eq]
  exact cut_run _ _ n
theorem M2_eq (n : ℕ) {r : Ref sig .tc} (h : r ∉ midW.drop n) : M2 m c n (Proc.devRef .tc r) = E2 (F := Ideal) m c (Proc.devRef .tc r) := by
  rw [E2_eq]
  exact cut_keep midW midW_eq _ n h
/-- A buffer that neither the loop nor the operations after it write. -/
theorem E2_keep {r : Ref sig .tc} (h : r ∉ midW) (h0 : r ∉ W0L) (h1 : r ∉ cond0_W) :
    E2 (F := Ideal) m c (Proc.devRef .tc r) = E0 (F := Ideal) m c (Proc.devRef .tc r) := by
  rw [E2_eq, after_unwritten midW midW_eq h, E1_keep m c h0 h1]
/-- A loop variable that the operations after it do not write. -/
theorem E2_loop {r : Ref sig .tc} (h : r ∉ midW) :
    E2 (F := Ideal) m c (Proc.devRef .tc r) = E1 (F := Ideal) m c (Proc.devRef .tc r) := by
  rw [E2_eq, after_unwritten midW midW_eq h]

/-- A column counted by head. -/
theorem rc (f : ℕ → ℕ → EReal) (j : Fin 8) (e : Fin 256) : f ((j.val * 256 + e.val) / 256) ((j.val * 256 + e.val) % 256) = f j.val e.val := by
  rw [show (j.val * 256 + e.val) / 256 = j.val by omega, show (j.val * 256 + e.val) % 256 = e.val by omega]

/-! ## The inputs -/

theorem E0_main_arg1 : E0 (F := Ideal) m c (Proc.devRef .tc main_arg1) = m (c, Proc.devRef .tc main_arg1) := by
  rw [E0_eq, after_unwritten preW preW_eq (by decide +kernel)]
theorem E0_main_arg2 : E0 (F := Ideal) m c (Proc.devRef .tc main_arg2) = m (c, Proc.devRef .tc main_arg2) := by
  rw [E0_eq, after_unwritten preW preW_eq (by decide +kernel)]
theorem g2_at (r : Fin 4224) (b : Fin 2048) : (E2 m c (Proc.devRef .tc main_v14) : Vec Ideal S4224x2048 .f32) (ix2 r b) = (inR m c).g r.val (b.val / 256) (b.val % 256) := by
  rw [E2_keep m c (by decide +kernel) (by decide +kernel) (by decide +kernel)]
  show _ = pad2 (m (c, Proc.devRef .tc main_arg0) : Vec Ideal S4112x14336 .f32) r.val (6144 + (256 * (b.val / 256) + b.val % 256))
  rw [Nat.div_add_mod]
  exact v14_at m c r b
theorem w2_at (j : Fin 8) (e : Fin 256) : (E2 m c (Proc.devRef .tc main_v167) : Vec Ideal S1x8x256 .f32) (ix3 0 j e) = (inR m c).w j.val e.val := by
  have e1 : E1 (F := Ideal) m c (Proc.devRef .tc main_arg1) = m (c, Proc.devRef .tc main_arg1) :=
    (E1_keep m c (by decide +kernel) (by decide +kernel)).trans (E0_main_arg1 m c)
  show _ = get2 (m (c, Proc.devRef .tc main_arg1) : Vec Ideal S1x2048 .f32) 0 (256 * j.val + e.val)
  rw [Nat.mul_comm 256, get2_of _ (by omega) (by omega), ← e1, E2_eq]
  generalize E1 (F := Ideal) m c = U at *
  after_reads_at
theorem o2_at (r : Fin 4224) (b : Fin 2048) : (E2 m c (Proc.devRef .tc main_v175) : Vec Ideal S4224x2048 .f32) (ix2 r b) = (inR m c).o r.val (b.val / 256) (b.val % 256) := by
  have e1 : E1 (F := Ideal) m c (Proc.devRef .tc main_arg2) = m (c, Proc.devRef .tc main_arg2) :=
    (E1_keep m c (by decide +kernel) (by decide +kernel)).trans (E0_main_arg2 m c)
  show _ = pad2 (m (c, Proc.devRef .tc main_arg2) : Vec Ideal S4112x4096 .f32) r.val (256 * (b.val / 256) + b.val % 256)
  rw [Nat.div_add_mod, ← e1, E2_eq]
  generalize E1 (F := Ideal) m c = U at *
  unfold pad2
  by_cases h : r.val < 112
  · rw [if_pos h]; after_reads_at; exact dif_neg (by omega)
  · rw [if_neg h, get2_of _ (by omega) (by omega)]; after_reads_at; exact dif_pos (by omega)
/-- The retention output. -/
theorem Y_at (r : Fin 4224) (j : Fin 8) (e : Fin 256) : (E2 m c (Proc.devRef .tc main_v151) : Vec Ideal S4224x8x256 .f32) (ix3 r j e) = (inR m c).Y r.val j.val e.val := by
  have h := (end0 m c).y ⟨r.val / 128, by omega⟩ j ⟨r.val % 128, by omega⟩ e (by show r.val / 128 < 33; omega)
  refine Eq.trans ?_ h
  rw [E2_eq]
  generalize E1 (F := Ideal) m c = U at *
  after_reads_at

/-! ## The rest, each from what comes ahead of it -/

/-- The gate. -/
theorem sg_at (r : Fin 4224) (b : Fin 2048) : (E2 m c (Proc.devRef .tc main_v152_2) : Vec Ideal S4224x2048 .f32) (ix2 r b) = (inR m c).sg r.val (b.val / 256) (b.val % 256) := by
  have fg : ∀ (r : Fin 4224) (b : Fin 2048), (M2 m c 2 (Proc.devRef .tc main_v14) : Vec Ideal S4224x2048 .f32) (ix2 r b) = (inR m c).g r.val (b.val / 256) (b.val % 256) := fun r b =>
    (congrFun (M2_eq m c 2 (r := main_v14) (by decide +kernel)) _).trans (g2_at m c r b)
  rw [E2_cut m c 2]
  generalize M2 m c 2 = U at *
  after_reads_at
  simp only [fg]
  unfold In.sg
  rw [zero_sub]
theorem sd_at (r : Fin 4224) (b : Fin 2048) : (E2 m c (Proc.devRef .tc main_v152_1) : Vec Ideal S4224x2048 .f32) (ix2 r b) = (inR m c).sg r.val (b.val / 256) (b.val % 256) * (1 - (inR m c).sg r.val (b.val / 256) (b.val % 256)) := by
  have fsg : ∀ (r : Fin 4224) (b : Fin 2048), (M2 m c 10 (Proc.devRef .tc main_v152_2) : Vec Ideal S4224x2048 .f32) (ix2 r b) = (inR m c).sg r.val (b.val / 256) (b.val % 256) := fun r b =>
    (congrFun (M2_eq m c 10 (r := main_v152_2) (by decide +kernel)) _).trans (sg_at m c r b)
  rw [E2_cut m c 10]
  generalize M2 m c 10 = U at *
  after_reads_at
  simp only [fsg]
theorem gs_at (r : Fin 4224) (b : Fin 2048) : (E2 m c (Proc.devRef .tc main_v152_0) : Vec Ideal S4224x2048 .f32) (ix2 r b) = (inR m c).g r.val (b.val / 256) (b.val % 256) * (inR m c).sg r.val (b.val / 256) (b.val % 256) := by
  have fg : ∀ (r : Fin 4224) (b : Fin 2048), (M2 m c 10 (Proc.devRef .tc main_v14) : Vec Ideal S4224x2048 .f32) (ix2 r b) = (inR m c).g r.val (b.val / 256) (b.val % 256) := fun r b =>
    (congrFun (M2_eq m c 10 (r := main_v14) (by decide +kernel)) _).trans (g2_at m c r b)
  have fsg : ∀ (r : Fin 4224) (b : Fin 2048), (M2 m c 10 (Proc.devRef .tc main_v152_2) : Vec Ideal S4224x2048 .f32) (ix2 r b) = (inR m c).sg r.val (b.val / 256) (b.val % 256) := fun r b =>
    (congrFun (M2_eq m c 10 (r := main_v152_2) (by decide +kernel)) _).trans (sg_at m c r b)
  rw [E2_cut m c 10]
  generalize M2 m c 10 = U at *
  after_reads_at
  simp only [fg, fsg]
/-- The mean square. -/
theorem u_at (r : Fin 4224) (j : Fin 8) : (E2 m c (Proc.devRef .tc main_v159) : Vec Ideal S4224x8x1 .f32) (ix3 r j 0) = (Ideal.div (∑ e : Fin 256, (inR m c).Y r.val j.val e.val * (inR m c).Y r.val j.val e.val) c256 + eps : EReal) := by
  have fY : ∀ (r : Fin 4224) (j : Fin 8) (e : Fin 256), (M2 m c 15 (Proc.devRef .tc main_v151) : Vec Ideal S4224x8x256 .f32) (ix3 r j e) = (inR m c).Y r.val j.val e.val := fun r j e =>
    (congrFun (M2_eq m c 15 (r := main_v151) (by decide +kernel)) _).trans (Y_at m c r j e)
  rw [E2_cut m c 15]
  generalize M2 m c 15 = U at *
  after_reads_at
  simp only [fY]
  rfl
theorem R_at (r : Fin 4224) (j : Fin 8) : (E2 m c (Proc.devRef .tc main_v160) : Vec Ideal S4224x8x1 .f32) (ix3 r j 0) = (inR m c).R r.val j.val := by
  have fY : ∀ (r : Fin 4224) (j : Fin 8) (e : Fin 256), (M2 m c 15 (Proc.devRef .tc main_v151) : Vec Ideal S4224x8x256 .f32) (ix3 r j e) = (inR m c).Y r.val j.val e.val := fun r j e =>
    (congrFun (M2_eq m c 15 (r := main_v151) (by decide +kernel)) _).trans (Y_at m c r j e)
  rw [E2_cut m c 15]
  generalize M2 m c 15 = U at *
  after_reads_at
  simp only [fY]
  rfl
theorem t_at (r : Fin 4224) (j : Fin 8) : (E2 m c (Proc.devRef .tc main_v163) : Vec Ideal S4224x8x1 .f32) (ix3 r j 0) = (Ideal.ofBits FTy.f32 0xBF000000#32 * Ideal.div ((inR m c).R r.val j.val) (Ideal.div (∑ e : Fin 256, (inR m c).Y r.val j.val e.val * (inR m c).Y r.val j.val e.val) c256 + eps) : EReal) := by
  have fR : ∀ (r : Fin 4224) (j : Fin 8), (M2 m c 26 (Proc.devRef .tc main_v160) : Vec Ideal S4224x8x1 .f32) (ix3 r j 0) = (inR m c).R r.val j.val := fun r j =>
    (congrFun (M2_eq m c 26 (r := main_v160) (by decide +kernel)) _).trans (R_at m c r j)
  have fu : ∀ (r : Fin 4224) (j : Fin 8), (M2 m c 26 (Proc.devRef .tc main_v159) : Vec Ideal S4224x8x1 .f32) (ix3 r j 0) = (Ideal.div (∑ e : Fin 256, (inR m c).Y r.val j.val e.val * (inR m c).Y r.val j.val e.val) c256 + eps : EReal) := fun r j =>
    (congrFun (M2_eq m c 26 (r := main_v159) (by decide +kernel)) _).trans (u_at m c r j)
  rw [E2_cut m c 26]
  generalize M2 m c 26 = U at *
  after_reads_at
  simp only [fR, fu]
theorem yr_at (r : Fin 4224) (j : Fin 8) (e : Fin 256) : (E2 m c (Proc.devRef .tc main_v165) : Vec Ideal S4224x8x256 .f32) (ix3 r j e) = (inR m c).Y r.val j.val e.val * (inR m c).R r.val j.val := by
  have fY : ∀ (r : Fin 4224) (j : Fin 8) (e : Fin 256), (M2 m c 30 (Proc.devRef .tc main_v151) : Vec Ideal S4224x8x256 .f32) (ix3 r j e) = (inR m c).Y r.val j.val e.val := fun r j e =>
    (congrFun (M2_eq m c 30 (r := main_v151) (by decide +kernel)) _).trans (Y_at m c r j e)
  have fR : ∀ (r : Fin 4224) (j : Fin 8), (M2 m c 30 (Proc.devRef .tc main_v160) : Vec Ideal S4224x8x1 .f32) (ix3 r j 0) = (inR m c).R r.val j.val := fun r j =>
    (congrFun (M2_eq m c 30 (r := main_v160) (by decide +kernel)) _).trans (R_at m c r j)
  rw [E2_cut m c 30]
  generalize M2 m c 30 = U at *
  after_reads_at
  simp only [fY, fR]
theorem yw_at (r : Fin 4224) (b : Fin 2048) : (E2 m c (Proc.devRef .tc main_v170) : Vec Ideal S4224x2048 .f32) (ix2 r b) = (inR m c).Y r.val (b.val / 256) (b.val % 256) * (inR m c).R r.val (b.val / 256) * (inR m c).w (b.val / 256) (b.val % 256) := by
  have fyr : ∀ (r : Fin 4224) (j : Fin 8) (e : Fin 256), (M2 m c 34 (Proc.devRef .tc main_v165) : Vec Ideal S4224x8x256 .f32) (ix3 r j e) = (inR m c).Y r.val j.val e.val * (inR m c).R r.val j.val := fun r j e =>
    (congrFun (M2_eq m c 34 (r := main_v165) (by decide +kernel)) _).trans (yr_at m c r j e)
  have fw : ∀ (j : Fin 8) (e : Fin 256), (M2 m c 34 (Proc.devRef .tc main_v167) : Vec Ideal S1x8x256 .f32) (ix3 0 j e) = (inR m c).w j.val e.val := fun j e =>
    (congrFun (M2_eq m c 34 (r := main_v167) (by decide +kernel)) _).trans (w2_at m c j e)
  rw [E2_cut m c 34]
  generalize M2 m c 34 = U at *
  after_reads_at
  simp only [fyr, fw]
/-- The output. -/
theorem out_at (r : Fin 4112) (b : Fin 2048) : (E2 m c (Proc.devRef .tc main_v172) : Vec Ideal S4112x2048 .f32) (ix2 r b) = (inR m c).out (112 + r.val) (b.val / 256) (b.val % 256) := by
  have fgs : ∀ (r : Fin 4224) (b : Fin 2048), (M2 m c 37 (Proc.devRef .tc main_v152_0) : Vec Ideal S4224x2048 .f32) (ix2 r b) = (inR m c).g r.val (b.val / 256) (b.val % 256) * (inR m c).sg r.val (b.val / 256) (b.val % 256) := fun r b =>
    (congrFun (M2_eq m c 37 (r := main_v152_0) (by decide +kernel)) _).trans (gs_at m c r b)
  have fyw : ∀ (r : Fin 4224) (b : Fin 2048), (M2 m c 37 (Proc.devRef .tc main_v170) : Vec Ideal S4224x2048 .f32) (ix2 r b) = (inR m c).Y r.val (b.val / 256) (b.val % 256) * (inR m c).R r.val (b.val / 256) * (inR m c).w (b.val / 256) (b.val % 256) := fun r b =>
    (congrFun (M2_eq m c 37 (r := main_v170) (by decide +kernel)) _).trans (yw_at m c r b)
  rw [E2_cut m c 37]
  generalize M2 m c 37 = U at *
  after_reads_at
  simp only [fgs, fyw]
  rfl
theorem dhn_at (r : Fin 4224) (j : Fin 8) (e : Fin 256) : (E2 m c (Proc.devRef .tc main_v178) : Vec Ideal S4224x8x256 .f32) (ix3 r j e) = (inR m c).dhn r.val j.val e.val := by
  have fgs : ∀ (r : Fin 4224) (b : Fin 2048), (M2 m c 44 (Proc.devRef .tc main_v152_0) : Vec Ideal S4224x2048 .f32) (ix2 r b) = (inR m c).g r.val (b.val / 256) (b.val % 256) * (inR m c).sg r.val (b.val / 256) (b.val % 256) := fun r b =>
    (congrFun (M2_eq m c 44 (r := main_v152_0) (by decide +kernel)) _).trans (gs_at m c r b)
  have fo : ∀ (r : Fin 4224) (b : Fin 2048), (M2 m c 44 (Proc.devRef .tc main_v175) : Vec Ideal S4224x2048 .f32) (ix2 r b) = (inR m c).o r.val (b.val / 256) (b.val % 256) := fun r b =>
    (congrFun (M2_eq m c 44 (r := main_v175) (by decide +kernel)) _).trans (o2_at m c r b)
  rw [E2_cut m c 44]
  generalize M2 m c 44 = U at *
  after_reads_at
  simp only [fgs, fo]
  refine (rc (fun h k => (inR m c).g r.val h k * (inR m c).sg r.val h k * (inR m c).o r.val h k) j e).trans ?_
  exact mul_comm _ _
theorem oy_at (r : Fin 4224) (b : Fin 2048) : (E2 m c (Proc.devRef .tc main_v177) : Vec Ideal S4224x2048 .f32) (ix2 r b) = (inR m c).o r.val (b.val / 256) (b.val % 256) * ((inR m c).Y r.val (b.val / 256) (b.val % 256) * (inR m c).R r.val (b.val / 256) * (inR m c).w (b.val / 256) (b.val % 256)) := by
  have fo : ∀ (r : Fin 4224) (b : Fin 2048), (M2 m c 44 (Proc.devRef .tc main_v175) : Vec Ideal S4224x2048 .f32) (ix2 r b) = (inR m c).o r.val (b.val / 256) (b.val % 256) := fun r b =>
    (congrFun (M2_eq m c 44 (r := main_v175) (by decide +kernel)) _).trans (o2_at m c r b)
  have fyw : ∀ (r : Fin 4224) (b : Fin 2048), (M2 m c 44 (Proc.devRef .tc main_v170) : Vec Ideal S4224x2048 .f32) (ix2 r b) = (inR m c).Y r.val (b.val / 256) (b.val % 256) * (inR m c).R r.val (b.val / 256) * (inR m c).w (b.val / 256) (b.val % 256) := fun r b =>
    (congrFun (M2_eq m c 44 (r := main_v170) (by decide +kernel)) _).trans (yw_at m c r b)
  rw [E2_cut m c 44]
  generalize M2 m c 44 = U at *
  after_reads_at
  simp only [fo, fyw]
theorem dw_at (b : Fin 2048) : (E2 m c (Proc.devRef .tc main_v185) : Vec Ideal S1x2048 .f32) (ix2 0 b) = (∑ r : Fin 4224, (inR m c).Y r.val (b.val / 256) (b.val % 256) * (inR m c).R r.val (b.val / 256) * (inR m c).dhn r.val (b.val / 256) (b.val % 256) : EReal) := by
  have fyr : ∀ (r : Fin 4224) (j : Fin 8) (e : Fin 256), (M2 m c 47 (Proc.devRef .tc main_v165) : Vec Ideal S4224x8x256 .f32) (ix3 r j e) = (inR m c).Y r.val j.val e.val * (inR m c).R r.val j.val := fun r j e =>
    (congrFun (M2_eq m c 47 (r := main_v165) (by decide +kernel)) _).trans (yr_at m c r j e)
  have fdhn : ∀ (r : Fin 4224) (j : Fin 8) (e : Fin 256), (M2 m c 47 (Proc.devRef .tc main_v178) : Vec Ideal S4224x8x256 .f32) (ix3 r j e) = (inR m c).dhn r.val j.val e.val := fun r j e =>
    (congrFun (M2_eq m c 47 (r := main_v178) (by decide +kernel)) _).trans (dhn_at m c r j e)
  rw [E2_cut m c 47]
  generalize M2 m c 47 = U at *
  after_reads_at
  simp only [fyr, fdhn]
  exact Fin.sum_univ_one _
theorem dw3_at (r : Fin 4224) (j : Fin 8) (e : Fin 256) : (E2 m c (Proc.devRef .tc main_v183) : Vec Ideal S4224x8x256 .f32) (ix3 r j e) = (inR m c).dhn r.val j.val e.val * (inR m c).w j.val e.val := by
  have fdhn : ∀ (r : Fin 4224) (j : Fin 8) (e : Fin 256), (M2 m c 51 (Proc.devRef .tc main_v178) : Vec Ideal S4224x8x256 .f32) (ix3 r j e) = (inR m c).dhn r.val j.val e.val := fun r j e =>
    (congrFun (M2_eq m c 51 (r := main_v178) (by decide +kernel)) _).trans (dhn_at m c r j e)
  have fw : ∀ (j : Fin 8) (e : Fin 256), (M2 m c 51 (Proc.devRef .tc main_v167) : Vec Ideal S1x8x256 .f32) (ix3 0 j e) = (inR m c).w j.val e.val := fun j e =>
    (congrFun (M2_eq m c 51 (r := main_v167) (by decide +kernel)) _).trans (w2_at m c j e)
  rw [E2_cut m c 51]
  generalize M2 m c 51 = U at *
  after_reads_at
  simp only [fdhn, fw]
theorem sy_at (r : Fin 4224) (j : Fin 8) : (E2 m c (Proc.devRef .tc main_v188) : Vec Ideal S4224x8x1 .f32) (ix3 r j 0) = (∑ e : Fin 256, (inR m c).Y r.val j.val e.val * ((inR m c).dhn r.val j.val e.val * (inR m c).w j.val e.val) : EReal) := by
  have fY : ∀ (r : Fin 4224) (j : Fin 8) (e : Fin 256), (M2 m c 56 (Proc.devRef .tc main_v151) : Vec Ideal S4224x8x256 .f32) (ix3 r j e) = (inR m c).Y r.val j.val e.val := fun r j e =>
    (congrFun (M2_eq m c 56 (r := main_v151) (by decide +kernel)) _).trans (Y_at m c r j e)
  have fdw3 : ∀ (r : Fin 4224) (j : Fin 8) (e : Fin 256), (M2 m c 56 (Proc.devRef .tc main_v183) : Vec Ideal S4224x8x256 .f32) (ix3 r j e) = (inR m c).dhn r.val j.val e.val * (inR m c).w j.val e.val := fun r j e =>
    (congrFun (M2_eq m c 56 (r := main_v183) (by decide +kernel)) _).trans (dw3_at m c r j e)
  rw [E2_cut m c 56]
  generalize M2 m c 56 = U at *
  after_reads_at
  simp only [fY, fdw3]
theorem dr_at (r : Fin 4224) (j : Fin 8) (e : Fin 256) : (E2 m c (Proc.devRef .tc main_v190) : Vec Ideal S4224x8x256 .f32) (ix3 r j e) = (inR m c).dhn r.val j.val e.val * (inR m c).w j.val e.val * (inR m c).R r.val j.val := by
  have fdw3 : ∀ (r : Fin 4224) (j : Fin 8) (e : Fin 256), (M2 m c 60 (Proc.devRef .tc main_v183) : Vec Ideal S4224x8x256 .f32) (ix3 r j e) = (inR m c).dhn r.val j.val e.val * (inR m c).w j.val e.val := fun r j e =>
    (congrFun (M2_eq m c 60 (r := main_v183) (by decide +kernel)) _).trans (dw3_at m c r j e)
  have fR : ∀ (r : Fin 4224) (j : Fin 8), (M2 m c 60 (Proc.devRef .tc main_v160) : Vec Ideal S4224x8x1 .f32) (ix3 r j 0) = (inR m c).R r.val j.val := fun r j =>
    (congrFun (M2_eq m c 60 (r := main_v160) (by decide +kernel)) _).trans (R_at m c r j)
  rw [E2_cut m c 60]
  generalize M2 m c 60 = U at *
  after_reads_at
  simp only [fdw3, fR]
theorem z_at (r : Fin 4224) (j : Fin 8) (e : Fin 256) : (E2 m c (Proc.devRef .tc main_v195) : Vec Ideal S4224x8x256 .f32) (ix3 r j e) = (Ideal.div ((∑ x : Fin 256, (inR m c).Y r.val j.val x.val * ((inR m c).dhn r.val j.val x.val * (inR m c).w j.val x.val)) * (Ideal.ofBits FTy.f32 0xBF000000#32 * Ideal.div ((inR m c).R r.val j.val) (Ideal.div (∑ e : Fin 256, (inR m c).Y r.val j.val e.val * (inR m c).Y r.val j.val e.val) c256 + eps))) c256 : EReal) := by
  have fsy : ∀ (r : Fin 4224) (j : Fin 8), (M2 m c 62 (Proc.devRef .tc main_v188) : Vec Ideal S4224x8x1 .f32) (ix3 r j 0) = (∑ e : Fin 256, (inR m c).Y r.val j.val e.val * ((inR m c).dhn r.val j.val e.val * (inR m c).w j.val e.val) : EReal) := fun r j =>
    (congrFun (M2_eq m c 62 (r := main_v188) (by decide +kernel)) _).trans (sy_at m c r j)
  have ft : ∀ (r : Fin 4224) (j : Fin 8), (M2 m c 62 (Proc.devRef .tc main_v163) : Vec Ideal S4224x8x1 .f32) (ix3 r j 0) = (Ideal.ofBits FTy.f32 0xBF000000#32 * Ideal.div ((inR m c).R r.val j.val) (Ideal.div (∑ e : Fin 256, (inR m c).Y r.val j.val e.val * (inR m c).Y r.val j.val e.val) c256 + eps) : EReal) := fun r j =>
    (congrFun (M2_eq m c 62 (r := main_v163) (by decide +kernel)) _).trans (t_at m c r j)
  rw [E2_cut m c 62]
  generalize M2 m c 62 = U at *
  after_reads_at
  rw [Fin.sum_univ_one]
  simp only [fsy, ft]
  rfl
theorem dyr_at (r : Fin 4224) (j : Fin 8) (e : Fin 256) : (E2 m c (Proc.devRef .tc main_v199) : Vec Ideal S4224x8x256 .f32) (ix3 r j e) = (inR m c).dhn r.val j.val e.val * (inR m c).w j.val e.val * (inR m c).R r.val j.val + (inR m c).Y r.val j.val e.val * (Ideal.div ((∑ x : Fin 256, (inR m c).Y r.val j.val x.val * ((inR m c).dhn r.val j.val x.val * (inR m c).w j.val x.val)) * (Ideal.ofBits FTy.f32 0xBF000000#32 * Ideal.div ((inR m c).R r.val j.val) (Ideal.div (∑ e : Fin 256, (inR m c).Y r.val j.val e.val * (inR m c).Y r.val j.val e.val) c256 + eps))) c256 : EReal) + (Ideal.div ((∑ x : Fin 256, (inR m c).Y r.val j.val x.val * ((inR m c).dhn r.val j.val x.val * (inR m c).w j.val x.val)) * (Ideal.ofBits FTy.f32 0xBF000000#32 * Ideal.div ((inR m c).R r.val j.val) (Ideal.div (∑ e : Fin 256, (inR m c).Y r.val j.val e.val * (inR m c).Y r.val j.val e.val) c256 + eps))) c256 : EReal) * (inR m c).Y r.val j.val e.val := by
  have fdr : ∀ (r : Fin 4224) (j : Fin 8) (e : Fin 256), (M2 m c 69 (Proc.devRef .tc main_v190) : Vec Ideal S4224x8x256 .f32) (ix3 r j e) = (inR m c).dhn r.val j.val e.val * (inR m c).w j.val e.val * (inR m c).R r.val j.val := fun r j e =>
    (congrFun (M2_eq m c 69 (r := main_v190) (by decide +kernel)) _).trans (dr_at m c r j e)
  have fY : ∀ (r : Fin 4224) (j : Fin 8) (e : Fin 256), (M2 m c 69 (Proc.devRef .tc main_v151) : Vec Ideal S4224x8x256 .f32) (ix3 r j e) = (inR m c).Y r.val j.val e.val := fun r j e =>
    (congrFun (M2_eq m c 69 (r := main_v151) (by decide +kernel)) _).trans (Y_at m c r j e)
  have fz : ∀ (r : Fin 4224) (j : Fin 8) (e : Fin 256), (M2 m c 69 (Proc.devRef .tc main_v195) : Vec Ideal S4224x8x256 .f32) (ix3 r j e) = (Ideal.div ((∑ x : Fin 256, (inR m c).Y r.val j.val x.val * ((inR m c).dhn r.val j.val x.val * (inR m c).w j.val x.val)) * (Ideal.ofBits FTy.f32 0xBF000000#32 * Ideal.div ((inR m c).R r.val j.val) (Ideal.div (∑ e : Fin 256, (inR m c).Y r.val j.val e.val * (inR m c).Y r.val j.val e.val) c256 + eps))) c256 : EReal) := fun r j e =>
    (congrFun (M2_eq m c 69 (r := main_v195) (by decide +kernel)) _).trans (z_at m c r j e)
  rw [E2_cut m c 69]
  generalize M2 m c 69 = U at *
  after_reads_at
  simp only [fdr, fY, fz]
theorem dgr_at (r : Fin 4224) (b : Fin 2048) : (E2 m c (Proc.devRef .tc main_v200) : Vec Ideal S4224x2048 .f32) (ix2 r b) = (inR m c).o r.val (b.val / 256) (b.val % 256) * ((inR m c).Y r.val (b.val / 256) (b.val % 256) * (inR m c).R r.val (b.val / 256) * (inR m c).w (b.val / 256) (b.val % 256)) * (inR m c).sg r.val (b.val / 256) (b.val % 256) + (inR m c).g r.val (b.val / 256) (b.val % 256) * ((inR m c).o r.val (b.val / 256) (b.val % 256) * ((inR m c).Y r.val (b.val / 256) (b.val % 256) * (inR m c).R r.val (b.val / 256) * (inR m c).w (b.val / 256) (b.val % 256))) * ((inR m c).sg r.val (b.val / 256) (b.val % 256) * (1 - (inR m c).sg r.val (b.val / 256) (b.val % 256))) := by
  have fg : ∀ (r : Fin 4224) (b : Fin 2048), (M2 m c 73 (Proc.devRef .tc main_v14) : Vec Ideal S4224x2048 .f32) (ix2 r b) = (inR m c).g r.val (b.val / 256) (b.val % 256) := fun r b =>
    (congrFun (M2_eq m c 73 (r := main_v14) (by decide +kernel)) _).trans (g2_at m c r b)
  have foy : ∀ (r : Fin 4224) (b : Fin 2048), (M2 m c 73 (Proc.devRef .tc main_v177) : Vec Ideal S4224x2048 .f32) (ix2 r b) = (inR m c).o r.val (b.val / 256) (b.val % 256) * ((inR m c).Y r.val (b.val / 256) (b.val % 256) * (inR m c).R r.val (b.val / 256) * (inR m c).w (b.val / 256) (b.val % 256)) := fun r b =>
    (congrFun (M2_eq m c 73 (r := main_v177) (by decide +kernel)) _).trans (oy_at m c r b)
  have fsg : ∀ (r : Fin 4224) (b : Fin 2048), (M2 m c 73 (Proc.devRef .tc main_v152_2) : Vec Ideal S4224x2048 .f32) (ix2 r b) = (inR m c).sg r.val (b.val / 256) (b.val % 256) := fun r b =>
    (congrFun (M2_eq m c 73 (r := main_v152_2) (by decide +kernel)) _).trans (sg_at m c r b)
  have fsd : ∀ (r : Fin 4224) (b : Fin 2048), (M2 m c 73 (Proc.devRef .tc main_v152_1) : Vec Ideal S4224x2048 .f32) (ix2 r b) = (inR m c).sg r.val (b.val / 256) (b.val % 256) * (1 - (inR m c).sg r.val (b.val / 256) (b.val % 256)) := fun r b =>
    (congrFun (M2_eq m c 73 (r := main_v152_1) (by decide +kernel)) _).trans (sd_at m c r b)
  rw [E2_cut m c 73]
  generalize M2 m c 73 = U at *
  after_reads_at
  simp only [fg, foy, fsg, fsd]

end Cert.ReferenceIdeal.Ret

end
-- ==== Proof.RLoop1.lean ====
/- One trip of the reference's second loop, which goes through the chunks backwards: the chunk it reads, what it
   computes, and where it puts it. -/
module

public import proofs.«01_k».proof.Proof.Chunks
public import Idealize.ShloMosaic.Lib.StableHlo.ReadAt
public import Idealize.ShloMosaic.Lib.Pointwise

@[expose] public section

set_option maxRecDepth 100000

noncomputable section

namespace Cert.ReferenceIdeal.Ret

open Idealize.ShloMosaic Idealize.ShloMosaic.TcCoe Idealize.ShloMosaic.Tactic
open Idealize.ShloMosaic.StableHlo
open Cert.ReferenceIdeal Cert.ReferenceIdeal.Gen Cert.Ret

variable (X : Valuation τ sig (Elt Ideal))

/-- What a trip writes, in order. -/
abbrev W1L : List (Ref sig .tc) := while1Ops0_W ++ while1Ops0_1_W ++ while1Ops0_2_W ++ while1Ops0_3_W ++ while1Ops0_4_W ++ while1Ops0_5_W ++ while1Ops0_6_W ++ while1Ops0_7_W ++ while1Ops0_8_W ++ while1Ops0_9_W ++ while1Ops0_10_W ++ while1Ops0_11_W ++ while1Ops0_12_W
theorem W1L_eq : (body1 (F := Ideal)).flatten.map HloOp.writes = W1L.map fun w => {Proc.devRef (τ := τ) .tc w} := rfl

/-- The chunk of a trip. -/
theorem while1b_v269_eq {k : ℕ} (hk : k < 33) (hc : X (Proc.devRef .tc main_v207_11) = fun _ => BitVec.ofNat 32 (32 - k)) :
    after (body1 (F := Ideal)).flatten X (Proc.devRef .tc main_while1b_v269) = fun _ => BitVec.ofNat 32 k := by
  have e : after (body1 (F := Ideal)).flatten X (Proc.devRef .tc main_while1b_v269)
      = subi (subi (constantI S_ 32 33#32) (X (Proc.devRef .tc main_v207_11))) (constantI S_ 32 1#32) := by
    after_reads_simp
  rw [e, hc]
  funext i
  show BitVec.ofNat 32 33 - BitVec.ofNat 32 (32 - k) - BitVec.ofNat 32 1 = BitVec.ofNat 32 k
  apply BitVec.eq_of_toNat_eq
  simp only [BitVec.toNat_sub, BitVec.toNat_ofNat]
  omega

theorem while1b_v270_eq {k : ℕ} (hk : k < 33) (hc : X (Proc.devRef .tc main_v207_11) = fun _ => BitVec.ofNat 32 (32 - k)) :
    after (body1 (F := Ideal)).flatten X (Proc.devRef .tc main_while1b_v270)
      = shapeCast S8x128x256 (Host.dynamicSlice S1x8x128x256 (X (Proc.devRef .tc main_v207_0)) (at4 k) sliceFits_S33x8x128x256_S1x8x128x256) shapeCasts_S1x8x128x256_S8x128x256 := by
  have e1 := cut_old W1L W1L_eq X 7 (r := main_v207_0) (by decide +kernel)
  have e2 := cut_keep W1L W1L_eq X 7 (r := main_while1b_v269) (by decide +kernel)
  rw [while1b_v269_eq X hk hc] at e2
  have c0 : upto (body1 (F := Ideal)).flatten X 7 (Proc.devRef .tc main_while1b_call10_c) = fun _ => (0#32 : BitVec 32) := by after_reads_simp; rfl
  have c1 : upto (body1 (F := Ideal)).flatten X 7 (Proc.devRef .tc main_while1b_call10_c_0) = fun _ => (0#32 : BitVec 32) := by after_reads_simp; rfl
  have c2 : upto (body1 (F := Ideal)).flatten X 7 (Proc.devRef .tc main_while1b_call10_c_1) = fun _ => (0#32 : BitVec 32) := by after_reads_simp; rfl
  rw [← e1, cut_run _ X 7]
  generalize upto (body1 (F := Ideal)).flatten X 7 = U at *
  after_reads_simp
  refine congrArg (fun s => shapeCast S8x128x256 (Host.dynamicSlice S1x8x128x256 (U (Proc.devRef .tc main_v207_0)) s sliceFits_S33x8x128x256_S1x8x128x256) shapeCasts_S1x8x128x256_S8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem while1b_v271_eq {k : ℕ} (hk : k < 33) (hc : X (Proc.devRef .tc main_v207_11) = fun _ => BitVec.ofNat 32 (32 - k)) :
    after (body1 (F := Ideal)).flatten X (Proc.devRef .tc main_while1b_v271)
      = shapeCast S8x128x256 (Host.dynamicSlice S1x8x128x256 (X (Proc.devRef .tc main_v207_1)) (at4 k) sliceFits_S33x8x128x256_S1x8x128x256) shapeCasts_S1x8x128x256_S8x128x256 := by
  have e1 := cut_old W1L W1L_eq X 12 (r := main_v207_1) (by decide +kernel)
  have e2 := cut_keep W1L W1L_eq X 12 (r := main_while1b_v269) (by decide +kernel)
  rw [while1b_v269_eq X hk hc] at e2
  have c0 : upto (body1 (F := Ideal)).flatten X 12 (Proc.devRef .tc main_while1b_call11_c) = fun _ => (0#32 : BitVec 32) := by after_reads_simp; rfl
  have c1 : upto (body1 (F := Ideal)).flatten X 12 (Proc.devRef .tc main_while1b_call11_c_0) = fun _ => (0#32 : BitVec 32) := by after_reads_simp; rfl
  have c2 : upto (body1 (F := Ideal)).flatten X 12 (Proc.devRef .tc main_while1b_call11_c_1) = fun _ => (0#32 : BitVec 32) := by after_reads_simp; rfl
  rw [← e1, cut_run _ X 12]
  generalize upto (body1 (F := Ideal)).flatten X 12 = U at *
  after_reads_simp
  refine congrArg (fun s => shapeCast S8x128x256 (Host.dynamicSlice S1x8x128x256 (U (Proc.devRef .tc main_v207_1)) s sliceFits_S33x8x128x256_S1x8x128x256) shapeCasts_S1x8x128x256_S8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem while1b_v272_eq {k : ℕ} (hk : k < 33) (hc : X (Proc.devRef .tc main_v207_11) = fun _ => BitVec.ofNat 32 (32 - k)) :
    after (body1 (F := Ideal)).flatten X (Proc.devRef .tc main_while1b_v272)
      = shapeCast S8x128x256 (Host.dynamicSlice S1x8x128x256 (X (Proc.devRef .tc main_v207_2)) (at4 k) sliceFits_S33x8x128x256_S1x8x128x256) shapeCasts_S1x8x128x256_S8x128x256 := by
  have e1 := cut_old W1L W1L_eq X 17 (r := main_v207_2) (by decide +kernel)
  have e2 := cut_keep W1L W1L_eq X 17 (r := main_while1b_v269) (by decide +kernel)
  rw [while1b_v269_eq X hk hc] at e2
  have c0 : upto (body1 (F := Ideal)).flatten X 17 (Proc.devRef .tc main_while1b_call12_c) = fun _ => (0#32 : BitVec 32) := by after_reads_simp; rfl
  have c1 : upto (body1 (F := Ideal)).flatten X 17 (Proc.devRef .tc main_while1b_call12_c_0) = fun _ => (0#32 : BitVec 32) := by after_reads_simp; rfl
  have c2 : upto (body1 (F := Ideal)).flatten X 17 (Proc.devRef .tc main_while1b_call12_c_1) = fun _ => (0#32 : BitVec 32) := by after_reads_simp; rfl
  rw [← e1, cut_run _ X 17]
  generalize upto (body1 (F := Ideal)).flatten X 17 = U at *
  after_reads_simp
  refine congrArg (fun s => shapeCast S8x128x256 (Host.dynamicSlice S1x8x128x256 (U (Proc.devRef .tc main_v207_2)) s sliceFits_S33x8x128x256_S1x8x128x256) shapeCasts_S1x8x128x256_S8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem while1b_v273_eq {k : ℕ} (hk : k < 33) (hc : X (Proc.devRef .tc main_v207_11) = fun _ => BitVec.ofNat 32 (32 - k)) :
    after (body1 (F := Ideal)).flatten X (Proc.devRef .tc main_while1b_v273)
      = shapeCast S8x128x256 (Host.dynamicSlice S1x8x128x256 (X (Proc.devRef .tc main_v207_3)) (at4 k) sliceFits_S33x8x128x256_S1x8x128x256) shapeCasts_S1x8x128x256_S8x128x256 := by
  have e1 := cut_old W1L W1L_eq X 22 (r := main_v207_3) (by decide +kernel)
  have e2 := cut_keep W1L W1L_eq X 22 (r := main_while1b_v269) (by decide +kernel)
  rw [while1b_v269_eq X hk hc] at e2
  have c0 : upto (body1 (F := Ideal)).flatten X 22 (Proc.devRef .tc main_while1b_call13_c) = fun _ => (0#32 : BitVec 32) := by after_reads_simp; rfl
  have c1 : upto (body1 (F := Ideal)).flatten X 22 (Proc.devRef .tc main_while1b_call13_c_0) = fun _ => (0#32 : BitVec 32) := by after_reads_simp; rfl
  have c2 : upto (body1 (F := Ideal)).flatten X 22 (Proc.devRef .tc main_while1b_call13_c_1) = fun _ => (0#32 : BitVec 32) := by after_reads_simp; rfl
  rw [← e1, cut_run _ X 22]
  generalize upto (body1 (F := Ideal)).flatten X 22 = U at *
  after_reads_simp
  refine congrArg (fun s => shapeCast S8x128x256 (Host.dynamicSlice S1x8x128x256 (U (Proc.devRef .tc main_v207_3)) s sliceFits_S33x8x128x256_S1x8x128x256) shapeCasts_S1x8x128x256_S8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem while1b_v274_eq {k : ℕ} (hk : k < 33) (hc : X (Proc.devRef .tc main_v207_11) = fun _ => BitVec.ofNat 32 (32 - k)) :
    after (body1 (F := Ideal)).flatten X (Proc.devRef .tc main_while1b_v274)
      = shapeCast S8x128x128 (Host.dynamicSlice S1x8x128x128 (X (Proc.devRef .tc main_v207_4)) (at4 k) sliceFits_S33x8x128x128_S1x8x128x128) shapeCasts_S1x8x128x128_S8x128x128 := by
  have e1 := cut_old W1L W1L_eq X 27 (r := main_v207_4) (by decide +kernel)
  have e2 := cut_keep W1L W1L_eq X 27 (r := main_while1b_v269) (by decide +kernel)
  rw [while1b_v269_eq X hk hc] at e2
  have c0 : upto (body1 (F := Ideal)).flatten X 27 (Proc.devRef .tc main_while1b_call14_c) = fun _ => (0#32 : BitVec 32) := by after_reads_simp; rfl
  have c1 : upto (body1 (F := Ideal)).flatten X 27 (Proc.devRef .tc main_while1b_call14_c_0) = fun _ => (0#32 : BitVec 32) := by after_reads_simp; rfl
  have c2 : upto (body1 (F := Ideal)).flatten X 27 (Proc.devRef .tc main_while1b_call14_c_1) = fun _ => (0#32 : BitVec 32) := by after_reads_simp; rfl
  rw [← e1, cut_run _ X 27]
  generalize upto (body1 (F := Ideal)).flatten X 27 = U at *
  after_reads_simp
  refine congrArg (fun s => shapeCast S8x128x128 (Host.dynamicSlice S1x8x128x128 (U (Proc.devRef .tc main_v207_4)) s sliceFits_S33x8x128x128_S1x8x128x128) shapeCasts_S1x8x128x128_S8x128x128) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem while1b_v275_eq {k : ℕ} (hk : k < 33) (hc : X (Proc.devRef .tc main_v207_11) = fun _ => BitVec.ofNat 32 (32 - k)) :
    after (body1 (F := Ideal)).flatten X (Proc.devRef .tc main_while1b_v275)
      = shapeCast S8x256x256 (Host.dynamicSlice S1x8x256x256 (X (Proc.devRef .tc main_v207_5)) (at4 k) sliceFits_S33x8x256x256_S1x8x256x256) shapeCasts_S1x8x256x256_S8x256x256 := by
  have e1 := cut_old W1L W1L_eq X 32 (r := main_v207_5) (by decide +kernel)
  have e2 := cut_keep W1L W1L_eq X 32 (r := main_while1b_v269) (by decide +kernel)
  rw [while1b_v269_eq X hk hc] at e2
  have c0 : upto (body1 (F := Ideal)).flatten X 32 (Proc.devRef .tc main_while1b_call15_c) = fun _ => (0#32 : BitVec 32) := by after_reads_simp; rfl
  have c1 : upto (body1 (F := Ideal)).flatten X 32 (Proc.devRef .tc main_while1b_call15_c_0) = fun _ => (0#32 : BitVec 32) := by after_reads_simp; rfl
  have c2 : upto (body1 (F := Ideal)).flatten X 32 (Proc.devRef .tc main_while1b_call15_c_1) = fun _ => (0#32 : BitVec 32) := by after_reads_simp; rfl
  rw [← e1, cut_run _ X 32]
  generalize upto (body1 (F := Ideal)).flatten X 32 = U at *
  after_reads_simp
  refine congrArg (fun s => shapeCast S8x256x256 (Host.dynamicSlice S1x8x256x256 (U (Proc.devRef .tc main_v207_5)) s sliceFits_S33x8x256x256_S1x8x256x256) shapeCasts_S1x8x256x256_S8x256x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem while1b_v276_eq {k : ℕ} (hk : k < 33) (hc : X (Proc.devRef .tc main_v207_11) = fun _ => BitVec.ofNat 32 (32 - k)) :
    after (body1 (F := Ideal)).flatten X (Proc.devRef .tc main_while1b_v276)
      = shapeCast S8x128x256 (Host.dynamicSlice S1x8x128x256 (X (Proc.devRef .tc main_v207_6)) (at4 k) sliceFits_S33x8x128x256_S1x8x128x256) shapeCasts_S1x8x128x256_S8x128x256 := by
  have e1 := cut_old W1L W1L_eq X 37 (r := main_v207_6) (by decide +kernel)
  have e2 := cut_keep W1L W1L_eq X 37 (r := main_while1b_v269) (by decide +kernel)
  rw [while1b_v269_eq X hk hc] at e2
  have c0 : upto (body1 (F := Ideal)).flatten X 37 (Proc.devRef .tc main_while1b_call16_c) = fun _ => (0#32 : BitVec 32) := by after_reads_simp; rfl
  have c1 : upto (body1 (F := Ideal)).flatten X 37 (Proc.devRef .tc main_while1b_call16_c_0) = fun _ => (0#32 : BitVec 32) := by after_reads_simp; rfl
  have c2 : upto (body1 (F := Ideal)).flatten X 37 (Proc.devRef .tc main_while1b_call16_c_1) = fun _ => (0#32 : BitVec 32) := by after_reads_simp; rfl
  rw [← e1, cut_run _ X 37]
  generalize upto (body1 (F := Ideal)).flatten X 37 = U at *
  after_reads_simp
  refine congrArg (fun s => shapeCast S8x128x256 (Host.dynamicSlice S1x8x128x256 (U (Proc.devRef .tc main_v207_6)) s sliceFits_S33x8x128x256_S1x8x128x256) shapeCasts_S1x8x128x256_S8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem v207_13_eq {k : ℕ} (hk : k < 33) (hc : X (Proc.devRef .tc main_v207_11) = fun _ => BitVec.ofNat 32 (32 - k)) :
    after (body1 (F := Ideal)).flatten X (Proc.devRef .tc main_v207_13)
      = Host.dynamicUpdateSlice (X (Proc.devRef .tc main_v207_13)) (after (body1 (F := Ideal)).flatten X (Proc.devRef .tc main_while1b_call17_v0)) (at4 k) updateFits_S33x8x128x256_S1x8x128x256 := by
  have e0 := cut_keep W1L W1L_eq X 66 (r := main_while1b_call17_v0) (by decide +kernel)
  have e1 := cut_old W1L W1L_eq X 66 (r := main_v207_13) (by decide +kernel)
  have e2 := cut_keep W1L W1L_eq X 66 (r := main_while1b_v269) (by decide +kernel)
  rw [while1b_v269_eq X hk hc] at e2
  have c0 : upto (body1 (F := Ideal)).flatten X 66 (Proc.devRef .tc main_while1b_call17_c) = fun _ => (0#32 : BitVec 32) := by after_reads_simp; rfl
  have c1 : upto (body1 (F := Ideal)).flatten X 66 (Proc.devRef .tc main_while1b_call17_c_0) = fun _ => (0#32 : BitVec 32) := by after_reads_simp; rfl
  have c2 : upto (body1 (F := Ideal)).flatten X 66 (Proc.devRef .tc main_while1b_call17_c_1) = fun _ => (0#32 : BitVec 32) := by after_reads_simp; rfl
  rw [← e0, ← e1, cut_run _ X 66]
  generalize upto (body1 (F := Ideal)).flatten X 66 = U at *
  after_reads_simp
  refine congrArg (fun s => Host.dynamicUpdateSlice (U (Proc.devRef .tc main_v207_13)) (U (Proc.devRef .tc main_while1b_call17_v0)) s updateFits_S33x8x128x256_S1x8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem v207_14_eq {k : ℕ} (hk : k < 33) (hc : X (Proc.devRef .tc main_v207_11) = fun _ => BitVec.ofNat 32 (32 - k)) :
    after (body1 (F := Ideal)).flatten X (Proc.devRef .tc main_v207_14)
      = Host.dynamicUpdateSlice (X (Proc.devRef .tc main_v207_14)) (after (body1 (F := Ideal)).flatten X (Proc.devRef .tc main_while1b_call18_v0)) (at4 k) updateFits_S33x8x128x256_S1x8x128x256 := by
  have e0 := cut_keep W1L W1L_eq X 71 (r := main_while1b_call18_v0) (by decide +kernel)
  have e1 := cut_old W1L W1L_eq X 71 (r := main_v207_14) (by decide +kernel)
  have e2 := cut_keep W1L W1L_eq X 71 (r := main_while1b_v269) (by decide +kernel)
  rw [while1b_v269_eq X hk hc] at e2
  have c0 : upto (body1 (F := Ideal)).flatten X 71 (Proc.devRef .tc main_while1b_call18_c) = fun _ => (0#32 : BitVec 32) := by after_reads_simp; rfl
  have c1 : upto (body1 (F := Ideal)).flatten X 71 (Proc.devRef .tc main_while1b_call18_c_0) = fun _ => (0#32 : BitVec 32) := by after_reads_simp; rfl
  have c2 : upto (body1 (F := Ideal)).flatten X 71 (Proc.devRef .tc main_while1b_call18_c_1) = fun _ => (0#32 : BitVec 32) := by after_reads_simp; rfl
  rw [← e0, ← e1, cut_run _ X 71]
  generalize upto (body1 (F := Ideal)).flatten X 71 = U at *
  after_reads_simp
  refine congrArg (fun s => Host.dynamicUpdateSlice (U (Proc.devRef .tc main_v207_14)) (U (Proc.devRef .tc main_while1b_call18_v0)) s updateFits_S33x8x128x256_S1x8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))
theorem v207_15_eq {k : ℕ} (hk : k < 33) (hc : X (Proc.devRef .tc main_v207_11) = fun _ => BitVec.ofNat 32 (32 - k)) :
    after (body1 (F := Ideal)).flatten X (Proc.devRef .tc main_v207_15)
      = Host.dynamicUpdateSlice (X (Proc.devRef .tc main_v207_15)) (after (body1 (F := Ideal)).flatten X (Proc.devRef .tc main_while1b_call19_v0)) (at4 k) updateFits_S33x8x128x256_S1x8x128x256 := by
  have e0 := cut_keep W1L W1L_eq X 76 (r := main_while1b_call19_v0) (by decide +kernel)
  have e1 := cut_old W1L W1L_eq X 76 (r := main_v207_15) (by decide +kernel)
  have e2 := cut_keep W1L W1L_eq X 76 (r := main_while1b_v269) (by decide +kernel)
  rw [while1b_v269_eq X hk hc] at e2
  have c0 : upto (body1 (F := Ideal)).flatten X 76 (Proc.devRef .tc main_while1b_call19_c) = fun _ => (0#32 : BitVec 32) := by after_reads_simp; rfl
  have c1 : upto (body1 (F := Ideal)).flatten X 76 (Proc.devRef .tc main_while1b_call19_c_0) = fun _ => (0#32 : BitVec 32) := by after_reads_simp; rfl
  have c2 : upto (body1 (F := Ideal)).flatten X 76 (Proc.devRef .tc main_while1b_call19_c_1) = fun _ => (0#32 : BitVec 32) := by after_reads_simp; rfl
  rw [← e0, ← e1, cut_run _ X 76]
  generalize upto (body1 (F := Ideal)).flatten X 76 = U at *
  after_reads_simp
  refine congrArg (fun s => Host.dynamicUpdateSlice (U (Proc.devRef .tc main_v207_15)) (U (Proc.devRef .tc main_while1b_call19_v0)) s updateFits_S33x8x128x256_S1x8x128x256) (start_eq ?_ ?_ ?_ ?_)
  · exact (congrArg BitVec.toInt (congrFun e2 (Shape.Idx.first h_S_))).trans (toInt_k (by omega))
  · exact congrArg BitVec.toInt (congrFun c0 (Shape.Idx.first h_S_))
  · exact congrArg BitVec.toInt (congrFun c1 (Shape.Idx.first h_S_))
  · exact congrArg BitVec.toInt (congrFun c2 (Shape.Idx.first h_S_))

/-- What the loop's variables hold ahead of trip `i`. -/
structure Inv1 (I : In) (i : ℕ) (X : Valuation τ sig (Elt Ideal)) : Prop where
  dy : ∀ (n : Fin 33) (j : Fin 8) (a : Fin 128) (d : Fin 256), (X (Proc.devRef .tc main_v207_0) : Vec Ideal S33x8x128x256 .f32) (ix4 n j a d) = I.dy (128 * n.val + a.val) j.val d.val
  key : ∀ (n : Fin 33) (j : Fin 8) (a : Fin 128) (d : Fin 256), (X (Proc.devRef .tc main_v207_1) : Vec Ideal S33x8x128x256 .f32) (ix4 n j a d) = I.K (128 * n.val + a.val) j.val d.val
  q : ∀ (n : Fin 33) (j : Fin 8) (a : Fin 128) (d : Fin 256), (X (Proc.devRef .tc main_v207_2) : Vec Ideal S33x8x128x256 .f32) (ix4 n j a d) = I.Q (128 * n.val + a.val) j.val d.val
  v : ∀ (n : Fin 33) (j : Fin 8) (a : Fin 128) (d : Fin 256), (X (Proc.devRef .tc main_v207_3) : Vec Ideal S33x8x128x256 .f32) (ix4 n j a d) = I.v (128 * n.val + a.val) j.val d.val
  P : ∀ (n : Fin 33) (j : Fin 8) (a b : Fin 128), (X (Proc.devRef .tc main_v207_4) : Vec Ideal S33x8x128x128 .f32) (ix4 n j a b) = I.P n.val j.val a.val b.val
  st : ∀ (n : Fin 33) (j : Fin 8) (d e : Fin 256), (X (Proc.devRef .tc main_v207_5) : Vec Ideal S33x8x256x256 .f32) (ix4 n j d e) = I.S n.val j.val d.val e.val
  kk : ∀ (n : Fin 33) (j : Fin 8) (a : Fin 128) (d : Fin 256), (X (Proc.devRef .tc main_v207_6) : Vec Ideal S33x8x128x256 .f32) (ix4 n j a d) = I.K (128 * n.val + a.val) j.val d.val * I.kd j.val a.val
  D : ∀ (j : Fin 8) (a b : Fin 128), (X (Proc.devRef .tc main_v207_7) : Vec Ideal S8x128x128 .f32) (ix3 j a b) = I.D j.val a.val b.val
  qd : ∀ (j : Fin 8) (a : Fin 128), (X (Proc.devRef .tc main_v207_8) : Vec Ideal S8x128x1 .f32) (ix3 j a 0) = I.qd j.val a.val
  cd : ∀ (j : Fin 8), (X (Proc.devRef .tc main_v207_9) : Vec Ideal S8x1x1 .f32) (ix3 j 0 0) = I.cd j.val
  kd : ∀ (j : Fin 8) (a : Fin 128), (X (Proc.devRef .tc main_v207_10) : Vec Ideal S8x128x1 .f32) (ix3 j a 0) = I.kd j.val a.val
  ctr : X (Proc.devRef .tc main_v207_11) = fun _ => BitVec.ofNat 32 i
  T : ∀ (j : Fin 8) (d e : Fin 256), (X (Proc.devRef .tc main_v207_12) : Vec Ideal S8x256x256 .f32) (ix3 j d e) = I.T i j.val d.val e.val
  dQ : ∀ (n : Fin 33) (j : Fin 8) (a : Fin 128) (d : Fin 256), 33 ≤ n.val + i → (X (Proc.devRef .tc main_v207_13) : Vec Ideal S33x8x128x256 .f32) (ix4 n j a d) = I.dQ n.val j.val a.val d.val
  dK : ∀ (n : Fin 33) (j : Fin 8) (a : Fin 128) (d : Fin 256), 33 ≤ n.val + i → (X (Proc.devRef .tc main_v207_14) : Vec Ideal S33x8x128x256 .f32) (ix4 n j a d) = I.dK n.val j.val a.val d.val
  dV : ∀ (n : Fin 33) (j : Fin 8) (a : Fin 128) (d : Fin 256), 33 ≤ n.val + i → (X (Proc.devRef .tc main_v207_15) : Vec Ideal S33x8x128x256 .f32) (ix4 n j a d) = I.dV n.val j.val a.val d.val

variable {X} {I : In} {k : ℕ}

/-! ## The chunk that is read -/

theorem dy_in (H : Inv1 I (32 - k) X) (hk : k < 33) (j : Fin 8) (a : Fin 128) (d : Fin 256) : (after (body1 (F := Ideal)).flatten X (Proc.devRef .tc main_while1b_v270) : Vec Ideal S8x128x256 .f32) (ix3 j a d) = I.dy (128 * k + a.val) j.val d.val := by
  rw [while1b_v270_eq X hk H.ctr]
  exact (chunk_128_256 _ hk j a d).trans (H.dy ⟨k, hk⟩ j a d)
theorem key_in (H : Inv1 I (32 - k) X) (hk : k < 33) (j : Fin 8) (a : Fin 128) (d : Fin 256) : (after (body1 (F := Ideal)).flatten X (Proc.devRef .tc main_while1b_v271) : Vec Ideal S8x128x256 .f32) (ix3 j a d) = I.K (128 * k + a.val) j.val d.val := by
  rw [while1b_v271_eq X hk H.ctr]
  exact (chunk_128_256 _ hk j a d).trans (H.key ⟨k, hk⟩ j a d)
theorem q_in (H : Inv1 I (32 - k) X) (hk : k < 33) (j : Fin 8) (a : Fin 128) (d : Fin 256) : (after (body1 (F := Ideal)).flatten X (Proc.devRef .tc main_while1b_v272) : Vec Ideal S8x128x256 .f32) (ix3 j a d) = I.Q (128 * k + a.val) j.val d.val := by
  rw [while1b_v272_eq X hk H.ctr]
  exact (chunk_128_256 _ hk j a d).trans (H.q ⟨k, hk⟩ j a d)
theorem v_in (H : Inv1 I (32 - k) X) (hk : k < 33) (j : Fin 8) (a : Fin 128) (d : Fin 256) : (after (body1 (F := Ideal)).flatten X (Proc.devRef .tc main_while1b_v273) : Vec Ideal S8x128x256 .f32) (ix3 j a d) = I.v (128 * k + a.val) j.val d.val := by
  rw [while1b_v273_eq X hk H.ctr]
  exact (chunk_128_256 _ hk j a d).trans (H.v ⟨k, hk⟩ j a d)
theorem P_in (H : Inv1 I (32 - k) X) (hk : k < 33) (j : Fin 8) (a : Fin 128) (b : Fin 128) : (after (body1 (F := Ideal)).flatten X (Proc.devRef .tc main_while1b_v274) : Vec Ideal S8x128x128 .f32) (ix3 j a b) = I.P k j.val a.val b.val := by
  rw [while1b_v274_eq X hk H.ctr]
  exact (chunk_128_128 _ hk j a b).trans (H.P ⟨k, hk⟩ j a b)
theorem st_in (H : Inv1 I (32 - k) X) (hk : k < 33) (j : Fin 8) (d : Fin 256) (e : Fin 256) : (after (body1 (F := Ideal)).flatten X (Proc.devRef .tc main_while1b_v275) : Vec Ideal S8x256x256 .f32) (ix3 j d e) = I.S k j.val d.val e.val := by
  rw [while1b_v275_eq X hk H.ctr]
  exact (chunk_256_256 _ hk j d e).trans (H.st ⟨k, hk⟩ j d e)
theorem kk_in (H : Inv1 I (32 - k) X) (hk : k < 33) (j : Fin 8) (a : Fin 128) (d : Fin 256) : (after (body1 (F := Ideal)).flatten X (Proc.devRef .tc main_while1b_v276) : Vec Ideal S8x128x256 .f32) (ix3 j a d) = I.K (128 * k + a.val) j.val d.val * I.kd j.val a.val := by
  rw [while1b_v276_eq X hk H.ctr]
  exact (chunk_128_256 _ hk j a d).trans (H.kk ⟨k, hk⟩ j a d)

/-! ## What the trip computes -/

theorem dQ_new (H : Inv1 I (32 - k) X) (hk : k < 33) (j : Fin 8) (a : Fin 128) (d : Fin 256) : (after (body1 (F := Ideal)).flatten X (Proc.devRef .tc main_while1b_call17_v0) : Vec Ideal S1x8x128x256 .f32) (ix4 0 j a d) = I.dQ k j.val a.val d.val := by
  have e0 : 32 - k = 32 - k := by omega
  have fdy : ∀ (j : Fin 8) (a : Fin 128) (d : Fin 256), (upto (body1 (F := Ideal)).flatten X 39 (Proc.devRef .tc main_while1b_v270) : Vec Ideal S8x128x256 .f32) (ix3 j a d) = I.dy (128 * k + a.val) j.val d.val := fun j a d =>
    (congrFun (cut_keep W1L W1L_eq X 39 (r := main_while1b_v270) (by decide +kernel)) _).trans (dy_in H hk j a d)
  have fv : ∀ (j : Fin 8) (a : Fin 128) (d : Fin 256), (upto (body1 (F := Ideal)).flatten X 39 (Proc.devRef .tc main_while1b_v273) : Vec Ideal S8x128x256 .f32) (ix3 j a d) = I.v (128 * k + a.val) j.val d.val := fun j a d =>
    (congrFun (cut_keep W1L W1L_eq X 39 (r := main_while1b_v273) (by decide +kernel)) _).trans (v_in H hk j a d)
  have fD : ∀ (j : Fin 8) (a : Fin 128) (b : Fin 128), (upto (body1 (F := Ideal)).flatten X 39 (Proc.devRef .tc main_v207_7) : Vec Ideal S8x128x128 .f32) (ix3 j a b) = I.D j.val a.val b.val := fun j a b =>
    (congrFun (cut_old W1L W1L_eq X 39 (r := main_v207_7) (by decide +kernel)) _).trans (H.D j a b)
  have fkey : ∀ (j : Fin 8) (a : Fin 128) (d : Fin 256), (upto (body1 (F := Ideal)).flatten X 39 (Proc.devRef .tc main_while1b_v271) : Vec Ideal S8x128x256 .f32) (ix3 j a d) = I.K (128 * k + a.val) j.val d.val := fun j a d =>
    (congrFun (cut_keep W1L W1L_eq X 39 (r := main_while1b_v271) (by decide +kernel)) _).trans (key_in H hk j a d)
  have fqd : ∀ (j : Fin 8) (a : Fin 128), (upto (body1 (F := Ideal)).flatten X 39 (Proc.devRef .tc main_v207_8) : Vec Ideal S8x128x1 .f32) (ix3 j a 0) = I.qd j.val a.val := fun j a =>
    (congrFun (cut_old W1L W1L_eq X 39 (r := main_v207_8) (by decide +kernel)) _).trans (H.qd j a)
  have fst : ∀ (j : Fin 8) (d : Fin 256) (e : Fin 256), (upto (body1 (F := Ideal)).flatten X 39 (Proc.devRef .tc main_while1b_v275) : Vec Ideal S8x256x256 .f32) (ix3 j d e) = I.S k j.val d.val e.val := fun j d e =>
    (congrFun (cut_keep W1L W1L_eq X 39 (r := main_while1b_v275) (by decide +kernel)) _).trans (st_in H hk j d e)
  rw [cut_run _ X 39]
  generalize upto (body1 (F := Ideal)).flatten X 39 = U at *
  after_reads_at
  simp only [fdy, fv, fD, fkey, fqd, fst]
  exact add_comm _ _
theorem dK_new (H : Inv1 I (32 - k) X) (hk : k < 33) (j : Fin 8) (a : Fin 128) (d : Fin 256) : (after (body1 (F := Ideal)).flatten X (Proc.devRef .tc main_while1b_call18_v0) : Vec Ideal S1x8x128x256 .f32) (ix4 0 j a d) = I.dK k j.val a.val d.val := by
  have e0 : 32 - k = 32 - k := by omega
  have fdy : ∀ (j : Fin 8) (a : Fin 128) (d : Fin 256), (upto (body1 (F := Ideal)).flatten X 39 (Proc.devRef .tc main_while1b_v270) : Vec Ideal S8x128x256 .f32) (ix3 j a d) = I.dy (128 * k + a.val) j.val d.val := fun j a d =>
    (congrFun (cut_keep W1L W1L_eq X 39 (r := main_while1b_v270) (by decide +kernel)) _).trans (dy_in H hk j a d)
  have fv : ∀ (j : Fin 8) (a : Fin 128) (d : Fin 256), (upto (body1 (F := Ideal)).flatten X 39 (Proc.devRef .tc main_while1b_v273) : Vec Ideal S8x128x256 .f32) (ix3 j a d) = I.v (128 * k + a.val) j.val d.val := fun j a d =>
    (congrFun (cut_keep W1L W1L_eq X 39 (r := main_while1b_v273) (by decide +kernel)) _).trans (v_in H hk j a d)
  have fD : ∀ (j : Fin 8) (a : Fin 128) (b : Fin 128), (upto (body1 (F := Ideal)).flatten X 39 (Proc.devRef .tc main_v207_7) : Vec Ideal S8x128x128 .f32) (ix3 j a b) = I.D j.val a.val b.val := fun j a b =>
    (congrFun (cut_old W1L W1L_eq X 39 (r := main_v207_7) (by decide +kernel)) _).trans (H.D j a b)
  have fq : ∀ (j : Fin 8) (a : Fin 128) (d : Fin 256), (upto (body1 (F := Ideal)).flatten X 39 (Proc.devRef .tc main_while1b_v272) : Vec Ideal S8x128x256 .f32) (ix3 j a d) = I.Q (128 * k + a.val) j.val d.val := fun j a d =>
    (congrFun (cut_keep W1L W1L_eq X 39 (r := main_while1b_v272) (by decide +kernel)) _).trans (q_in H hk j a d)
  have fT : ∀ (j : Fin 8) (d : Fin 256) (e : Fin 256), (upto (body1 (F := Ideal)).flatten X 39 (Proc.devRef .tc main_v207_12) : Vec Ideal S8x256x256 .f32) (ix3 j d e) = I.T (32 - k) j.val d.val e.val := fun j d e =>
    (congrFun (cut_old W1L W1L_eq X 39 (r := main_v207_12) (by decide +kernel)) _).trans (H.T j d e)
  have fkd : ∀ (j : Fin 8) (a : Fin 128), (upto (body1 (F := Ideal)).flatten X 39 (Proc.devRef .tc main_v207_10) : Vec Ideal S8x128x1 .f32) (ix3 j a 0) = I.kd j.val a.val := fun j a =>
    (congrFun (cut_old W1L W1L_eq X 39 (r := main_v207_10) (by decide +kernel)) _).trans (H.kd j a)
  rw [cut_run _ X 39]
  generalize upto (body1 (F := Ideal)).flatten X 39 = U at *
  after_reads_at
  simp only [fdy, fv, fD, fq, fT, fkd]
  unfold In.dK
  rw [e0, add_comm]
  refine congrArg₂ (· + ·) rfl (congrArg (· * I.kd j.val a.val) (Finset.sum_congr rfl fun x _ => mul_comm _ _))
theorem dV_new (H : Inv1 I (32 - k) X) (hk : k < 33) (j : Fin 8) (a : Fin 128) (d : Fin 256) : (after (body1 (F := Ideal)).flatten X (Proc.devRef .tc main_while1b_call19_v0) : Vec Ideal S1x8x128x256 .f32) (ix4 0 j a d) = I.dV k j.val a.val d.val := by
  have e0 : 32 - k = 32 - k := by omega
  have fdy : ∀ (j : Fin 8) (a : Fin 128) (d : Fin 256), (upto (body1 (F := Ideal)).flatten X 39 (Proc.devRef .tc main_while1b_v270) : Vec Ideal S8x128x256 .f32) (ix3 j a d) = I.dy (128 * k + a.val) j.val d.val := fun j a d =>
    (congrFun (cut_keep W1L W1L_eq X 39 (r := main_while1b_v270) (by decide +kernel)) _).trans (dy_in H hk j a d)
  have fP : ∀ (j : Fin 8) (a : Fin 128) (b : Fin 128), (upto (body1 (F := Ideal)).flatten X 39 (Proc.devRef .tc main_while1b_v274) : Vec Ideal S8x128x128 .f32) (ix3 j a b) = I.P k j.val a.val b.val := fun j a b =>
    (congrFun (cut_keep W1L W1L_eq X 39 (r := main_while1b_v274) (by decide +kernel)) _).trans (P_in H hk j a b)
  have fT : ∀ (j : Fin 8) (d : Fin 256) (e : Fin 256), (upto (body1 (F := Ideal)).flatten X 39 (Proc.devRef .tc main_v207_12) : Vec Ideal S8x256x256 .f32) (ix3 j d e) = I.T (32 - k) j.val d.val e.val := fun j d e =>
    (congrFun (cut_old W1L W1L_eq X 39 (r := main_v207_12) (by decide +kernel)) _).trans (H.T j d e)
  have fkk : ∀ (j : Fin 8) (a : Fin 128) (d : Fin 256), (upto (body1 (F := Ideal)).flatten X 39 (Proc.devRef .tc main_while1b_v276) : Vec Ideal S8x128x256 .f32) (ix3 j a d) = I.K (128 * k + a.val) j.val d.val * I.kd j.val a.val := fun j a d =>
    (congrFun (cut_keep W1L W1L_eq X 39 (r := main_while1b_v276) (by decide +kernel)) _).trans (kk_in H hk j a d)
  rw [cut_run _ X 39]
  generalize upto (body1 (F := Ideal)).flatten X 39 = U at *
  after_reads_at
  simp only [fdy, fP, fT, fkk]
  unfold In.dV
  rw [e0, add_comm]
  exact congrArg₂ (· + ·) (Finset.sum_congr rfl fun x _ => mul_comm _ _) (Finset.sum_congr rfl fun x _ => mul_comm _ _)
theorem T_new (H : Inv1 I (32 - k) X) (hk : k < 33) (j : Fin 8) (d e : Fin 256) : (after (body1 (F := Ideal)).flatten X (Proc.devRef .tc main_v207_12) : Vec Ideal S8x256x256 .f32) (ix3 j d e) = I.T (32 - k + 1) j.val d.val e.val := by
  have e0 : 32 - (32 - k) = k := by omega
  have fdy : ∀ (j : Fin 8) (a : Fin 128) (d : Fin 256), (upto (body1 (F := Ideal)).flatten X 39 (Proc.devRef .tc main_while1b_v270) : Vec Ideal S8x128x256 .f32) (ix3 j a d) = I.dy (128 * k + a.val) j.val d.val := fun j a d =>
    (congrFun (cut_keep W1L W1L_eq X 39 (r := main_while1b_v270) (by decide +kernel)) _).trans (dy_in H hk j a d)
  have fq : ∀ (j : Fin 8) (a : Fin 128) (d : Fin 256), (upto (body1 (F := Ideal)).flatten X 39 (Proc.devRef .tc main_while1b_v272) : Vec Ideal S8x128x256 .f32) (ix3 j a d) = I.Q (128 * k + a.val) j.val d.val := fun j a d =>
    (congrFun (cut_keep W1L W1L_eq X 39 (r := main_while1b_v272) (by decide +kernel)) _).trans (q_in H hk j a d)
  have fT : ∀ (j : Fin 8) (d : Fin 256) (e : Fin 256), (upto (body1 (F := Ideal)).flatten X 39 (Proc.devRef .tc main_v207_12) : Vec Ideal S8x256x256 .f32) (ix3 j d e) = I.T (32 - k) j.val d.val e.val := fun j d e =>
    (congrFun (cut_old W1L W1L_eq X 39 (r := main_v207_12) (by decide +kernel)) _).trans (H.T j d e)
  have fqd : ∀ (j : Fin 8) (a : Fin 128), (upto (body1 (F := Ideal)).flatten X 39 (Proc.devRef .tc main_v207_8) : Vec Ideal S8x128x1 .f32) (ix3 j a 0) = I.qd j.val a.val := fun j a =>
    (congrFun (cut_old W1L W1L_eq X 39 (r := main_v207_8) (by decide +kernel)) _).trans (H.qd j a)
  have fcd : ∀ (j : Fin 8), (upto (body1 (F := Ideal)).flatten X 39 (Proc.devRef .tc main_v207_9) : Vec Ideal S8x1x1 .f32) (ix3 j 0 0) = I.cd j.val := fun j =>
    (congrFun (cut_old W1L W1L_eq X 39 (r := main_v207_9) (by decide +kernel)) _).trans (H.cd j)
  rw [cut_run _ X 39]
  generalize upto (body1 (F := Ideal)).flatten X 39 = U at *
  after_reads_at
  simp only [id]
  pointwise
  simp only [fdy, fq, fT, fqd, fcd]
  rw [In.T, e0]
  exact congrArg₂ (· + ·) rfl (Finset.sum_congr rfl fun x _ => mul_comm _ _)

/-! ## The trip -/

/-- The condition changes none of the loop's variables. -/
theorem Inv1.cond {i : ℕ} (H : Inv1 I i X) : Inv1 I i (after cond1 X) where
  dy := by rw [after_of_writes_sub cond1 _ cond1_writes (by decide +kernel)]; exact H.dy
  key := by rw [after_of_writes_sub cond1 _ cond1_writes (by decide +kernel)]; exact H.key
  q := by rw [after_of_writes_sub cond1 _ cond1_writes (by decide +kernel)]; exact H.q
  v := by rw [after_of_writes_sub cond1 _ cond1_writes (by decide +kernel)]; exact H.v
  P := by rw [after_of_writes_sub cond1 _ cond1_writes (by decide +kernel)]; exact H.P
  st := by rw [after_of_writes_sub cond1 _ cond1_writes (by decide +kernel)]; exact H.st
  kk := by rw [after_of_writes_sub cond1 _ cond1_writes (by decide +kernel)]; exact H.kk
  D := by rw [after_of_writes_sub cond1 _ cond1_writes (by decide +kernel)]; exact H.D
  qd := by rw [after_of_writes_sub cond1 _ cond1_writes (by decide +kernel)]; exact H.qd
  cd := by rw [after_of_writes_sub cond1 _ cond1_writes (by decide +kernel)]; exact H.cd
  kd := by rw [after_of_writes_sub cond1 _ cond1_writes (by decide +kernel)]; exact H.kd
  ctr := by rw [after_of_writes_sub cond1 _ cond1_writes (by decide +kernel)]; exact H.ctr
  T := by rw [after_of_writes_sub cond1 _ cond1_writes (by decide +kernel)]; exact H.T
  dQ := by rw [after_of_writes_sub cond1 _ cond1_writes (by decide +kernel)]; exact H.dQ
  dK := by rw [after_of_writes_sub cond1 _ cond1_writes (by decide +kernel)]; exact H.dK
  dV := by rw [after_of_writes_sub cond1 _ cond1_writes (by decide +kernel)]; exact H.dV

/-- One trip. -/
theorem Inv1.step (H : Inv1 I (32 - k) X) (hk : k < 33) : Inv1 I (32 - k + 1) (after (body1 (F := Ideal)).flatten X) where
  dy := by rw [after_unwritten W1L W1L_eq (by decide +kernel)]; exact H.dy
  key := by rw [after_unwritten W1L W1L_eq (by decide +kernel)]; exact H.key
  q := by rw [after_unwritten W1L W1L_eq (by decide +kernel)]; exact H.q
  v := by rw [after_unwritten W1L W1L_eq (by decide +kernel)]; exact H.v
  P := by rw [after_unwritten W1L W1L_eq (by decide +kernel)]; exact H.P
  st := by rw [after_unwritten W1L W1L_eq (by decide +kernel)]; exact H.st
  kk := by rw [after_unwritten W1L W1L_eq (by decide +kernel)]; exact H.kk
  D := by rw [after_unwritten W1L W1L_eq (by decide +kernel)]; exact H.D
  qd := by rw [after_unwritten W1L W1L_eq (by decide +kernel)]; exact H.qd
  cd := by rw [after_unwritten W1L W1L_eq (by decide +kernel)]; exact H.cd
  kd := by rw [after_unwritten W1L W1L_eq (by decide +kernel)]; exact H.kd
  ctr := by
    have e : after (body1 (F := Ideal)).flatten X (Proc.devRef .tc main_v207_11) = addi (X (Proc.devRef .tc main_v207_11)) (constantI S_ 32 1#32) := by
      after_reads_simp
      rfl
    rw [e, H.ctr]
    funext i
    show BitVec.ofNat 32 (32 - k) + BitVec.ofNat 32 1 = BitVec.ofNat 32 (32 - k + 1)
    exact (BitVec.ofNat_add _ _).symm
  T := T_new H hk
  dQ n j a d hn := by
    rw [v207_13_eq X hk H.ctr]
    refine (put_128_256 _ _ hk n j a d).trans ?_
    by_cases h : n.val = k
    · rw [if_pos h, h]; exact dQ_new H hk j a d
    · rw [if_neg h]; exact H.dQ n j a d (by omega)
  dK n j a d hn := by
    rw [v207_14_eq X hk H.ctr]
    refine (put_128_256 _ _ hk n j a d).trans ?_
    by_cases h : n.val = k
    · rw [if_pos h, h]; exact dK_new H hk j a d
    · rw [if_neg h]; exact H.dK n j a d (by omega)
  dV n j a d hn := by
    rw [v207_15_eq X hk H.ctr]
    refine (put_128_256 _ _ hk n j a d).trans ?_
    by_cases h : n.val = k
    · rw [if_pos h, h]; exact dV_new H hk j a d
    · rw [if_neg h]; exact H.dV n j a d (by omega)

end Cert.ReferenceIdeal.Ret

end
-- ==== Proof.Rms.lean ====
/- The derivative of the normalisation and of the gate: the two forms of each agree over the extended reals. -/
module

public import proofs.«01_k».proof.Proof.Spec

@[expose] public section

noncomputable section

namespace Cert.Ret

open Idealize.ShloMosaic

theorem c256_eq : c256 = ((256 : ℝ) : EReal) := by
  simp [c256, Ideal.ofBits, Ideal.ieee, -EReal.coe_mul]; norm_num
theorem half_eq : Ideal.ofBits FTy.f32 0xBF000000#32 = ((-(1 / 2) : ℝ) : EReal) := by
  simp [Ideal.ofBits, Ideal.ieee, -EReal.coe_mul, -EReal.coe_neg]; norm_num
theorem eps_pos : ∃ x : ℝ, 0 < x ∧ eps = (x : EReal) := by
  refine ⟨_, ?_, by simp [eps, Ideal.ofBits, Ideal.ieee, -EReal.coe_mul]; rfl⟩
  positivity
theorem div_c256 (x : EReal) : Ideal.div x c256 = x * ((256⁻¹ : ℝ) : EReal) := by
  have h : c256 ≠ 0 := by rw [c256_eq]; exact EReal.coe_ne_zero.mpr (by norm_num)
  rw [Ideal.div, if_neg h, c256_eq, EReal.coe_inv]

theorem sq_nonneg' (y : EReal) : 0 ≤ y * y := by
  rcases le_total 0 y with h | h
  · exact mul_nonneg h h
  · rw [← neg_mul_neg]
    have : 0 ≤ -y := by rw [EReal.le_neg]; simpa using h
    exact mul_nonneg this this

/-- The mean square is infinite or a positive number. -/
theorem ms_cases (Y : Fin 256 → EReal) : Ideal.div (∑ e, Y e * Y e) c256 + eps = ⊤
    ∨ ∃ x : ℝ, 0 < x ∧ Ideal.div (∑ e, Y e * Y e) c256 + eps = (x : EReal) ∧ ∀ e, Y e ≠ ⊤ ∧ Y e ≠ ⊥ := by
  obtain ⟨ε, hε, he⟩ := eps_pos
  have h0 : 0 ≤ ∑ e, Y e * Y e := Finset.sum_nonneg fun e _ => sq_nonneg' (Y e)
  have hle : ∀ e, Y e * Y e ≤ ∑ e, Y e * Y e := fun e =>
    Finset.single_le_sum (f := fun e => Y e * Y e) (fun e _ => sq_nonneg' (Y e)) (Finset.mem_univ e)
  rw [div_c256, he]
  generalize (∑ e, Y e * Y e) = s at *
  induction s with
  | bot => exact absurd h0 (by simp)
  | top =>
    left
    rw [EReal.top_mul_coe_of_pos (by norm_num)]
    exact EReal.top_add_coe ε
  | coe t =>
    right
    have ht : 0 ≤ t := EReal.coe_nonneg.mp h0
    refine ⟨t * 256⁻¹ + ε, by positivity, by push_cast; rfl, fun e => ⟨fun h => ?_, fun h => ?_⟩⟩
    · have := hle e
      rw [h, EReal.top_mul_top] at this
      exact absurd this (by simp)
    · have := hle e
      rw [h, EReal.bot_mul_bot] at this
      exact absurd this (by simp)

theorem rsqrt_pos {x : ℝ} (h : 0 < x) : Ideal.rsqrt (x : EReal) = (((Real.sqrt x)⁻¹ : ℝ) : EReal) := by
  show (if x < 0 then (⊥ : EReal) else if x = 0 then ⊤ else ((Real.sqrt x)⁻¹ : ℝ)) = _
  rw [if_neg (by linarith), if_neg (by linarith)]

/-- A product with a negative half, taken twice. -/
theorem twice (t : EReal) {k : ℝ} (hk : 0 ≤ k) : t * ((-(1 / 2) * k : ℝ) : EReal) + t * ((-(1 / 2) * k : ℝ) : EReal) = -(t * (k : EReal)) := by
  rcases hk.eq_or_lt with rfl | hk
  · simp
  induction t with
  | bot =>
    rw [EReal.bot_mul_coe_of_neg (by linarith), EReal.bot_mul_coe_of_pos hk]
    rfl
  | top =>
    rw [EReal.top_mul_coe_of_neg (by linarith), EReal.top_mul_coe_of_pos hk]
    rfl
  | coe t =>
    norm_cast
    ring

/-- The normalisation's derivative. -/
theorem rms (Y : Fin 256 → EReal) (x y s u r : EReal) (hu : u = Ideal.div (∑ e, Y e * Y e) c256 + eps) (hr : r = Ideal.rsqrt u) :
    x * r + y * Ideal.div (s * (Ideal.ofBits FTy.f32 0xBF000000#32 * Ideal.div r u)) c256
        + Ideal.div (s * (Ideal.ofBits FTy.f32 0xBF000000#32 * Ideal.div r u)) c256 * y
      = r * x - y * (r * r * r * Ideal.div s c256) := by
  rw [mul_comm (Ideal.div (s * _) c256) y, add_assoc, mul_comm x r, sub_eq_add_neg]
  congr 1
  rw [div_c256, div_c256, half_eq]
  rcases ms_cases Y with h | ⟨z, hz, h, -⟩
  · rw [h] at hu
    subst hu
    have h0 : r = 0 := hr
    subst h0
    have h1 : Ideal.div 0 ⊤ = 0 := by simp [Ideal.div]
    rw [h1]
    simp
  · rw [h] at hu
    subst hu
    rw [rsqrt_pos hz] at hr
    subst hr
    have hz' : (z : EReal) ≠ 0 := EReal.coe_ne_zero.mpr (by linarith)
    have hq : Real.sqrt z * Real.sqrt z = z := Real.mul_self_sqrt hz.le
    have hp : 0 < Real.sqrt z := Real.sqrt_pos.mpr hz
    have h1 : Ideal.div (((Real.sqrt z)⁻¹ : ℝ) : EReal) (z : EReal) = (((Real.sqrt z)⁻¹ * (Real.sqrt z)⁻¹ * (Real.sqrt z)⁻¹ : ℝ) : EReal) := by
      rw [Ideal.div, if_neg hz', ← EReal.coe_inv, ← EReal.coe_mul]
      congr 1
      rw [mul_assoc, show (Real.sqrt z)⁻¹ * (Real.sqrt z)⁻¹ = z⁻¹ by rw [← mul_inv, hq]]
    have hρ0 : 0 ≤ (Real.sqrt z)⁻¹ := inv_nonneg.mpr hp.le
    rw [h1]
    generalize (Real.sqrt z)⁻¹ = ρ at *
    have hρ : 0 ≤ ρ * ρ * ρ * 256⁻¹ := by positivity
    rw [show s * (((-(1 / 2) : ℝ) : EReal) * ((ρ * ρ * ρ : ℝ) : EReal)) * ((256⁻¹ : ℝ) : EReal) = s * ((-(1 / 2) * (ρ * ρ * ρ * 256⁻¹) : ℝ) : EReal) by
      rw [mul_assoc, ← EReal.coe_mul, ← EReal.coe_mul]; congr 2; ring]
    rw [show (ρ : EReal) * ρ * ρ * (s * ((256⁻¹ : ℝ) : EReal)) = s * ((ρ * ρ * ρ * 256⁻¹ : ℝ) : EReal) by
      push_cast; ac_rfl]
    rw [← mul_assoc y s, ← mul_assoc y s]
    exact twice (y * s) hρ

/-- The normalised output is a number. -/
theorem yr_real (Y : Fin 256 → EReal) (e : Fin 256) : ∃ x : ℝ, Y e * Ideal.rsqrt (Ideal.div (∑ e, Y e * Y e) c256 + eps) = (x : EReal) := by
  rcases ms_cases Y with h | ⟨z, hz, h, hY⟩
  · rw [h]
    exact ⟨0, by show Y e * 0 = _; simp⟩
  · rw [h, rsqrt_pos hz]
    obtain ⟨h1, h2⟩ := hY e
    lift Y e to ℝ using ⟨h1, h2⟩ with y
    exact ⟨y * (Real.sqrt z)⁻¹, by push_cast; rfl⟩

/-- The gate's derivative. -/
theorem gate (a : ℝ) (g : EReal) :
    (a : EReal) * Ideal.div 1 (1 + Ideal.exp (0 - g)) + g * a * (Ideal.div 1 (1 + Ideal.exp (0 - g)) * (1 - Ideal.div 1 (1 + Ideal.exp (0 - g))))
      = a * (Ideal.div 1 (1 + Ideal.exp (0 - g)) * (1 + g * (1 - Ideal.div 1 (1 + Ideal.exp (0 - g))))) := by
  have h11 : (1 : EReal) - 1 = 0 := by
    show ((1 : ℝ) : EReal) - ((1 : ℝ) : EReal) = 0
    rw [← EReal.coe_sub, sub_self]
    rfl
  induction g with
  | bot =>
    have h : Ideal.div 1 (1 + Ideal.exp (0 - ⊥)) = 0 := by
      rw [show (0 : EReal) - ⊥ = ⊤ by rw [zero_sub, EReal.neg_bot]]
      show Ideal.div 1 (1 + ⊤) = 0
      rw [show (1 : EReal) + ⊤ = ⊤ from EReal.coe_add_top 1]
      simp [Ideal.div]
    rw [h]
    simp
  | top =>
    have h : Ideal.div 1 (1 + Ideal.exp (0 - ⊤)) = 1 := by
      rw [show (0 : EReal) - ⊤ = ⊥ by rw [zero_sub, EReal.neg_top]]
      show Ideal.div 1 (1 + 0) = 1
      simp [Ideal.div]
    rw [h, h11]
    simp
  | coe g =>
    obtain ⟨σ, h⟩ : ∃ σ : ℝ, Ideal.div 1 (1 + Ideal.exp (0 - (g : EReal))) = (σ : EReal) := by
      have h0 : (0 : EReal) - (g : EReal) = ((-g : ℝ) : EReal) := by rw [zero_sub]; rfl
      have h1 : (1 : EReal) + Ideal.exp ((-g : ℝ) : EReal) = ((1 + Real.exp (-g) : ℝ) : EReal) := by
        show (1 : EReal) + ((Real.exp (-g) : ℝ) : EReal) = _
        push_cast
        rfl
      have h2 : ((1 + Real.exp (-g) : ℝ) : EReal) ≠ 0 := EReal.coe_ne_zero.mpr (by have := Real.exp_pos (-g); linarith)
      refine ⟨1 * (1 + Real.exp (-g))⁻¹, ?_⟩
      rw [h0, h1, Ideal.div, if_neg h2, ← EReal.coe_inv, EReal.coe_mul]
      rfl
    rw [h, show (1 : EReal) = ((1 : ℝ) : EReal) from rfl]
    norm_cast
    ring

end Cert.Ret

end
-- ==== Proof.RRun1.lean ====
/- The reference's second loop: what its variables hold when it starts and when it ends. -/
module

public import proofs.«01_k».proof.Proof.RMid
public import proofs.«01_k».proof.Proof.RLoop1
public import proofs.«01_k».proof.Proof.Rms
public import Idealize.ShloMosaic.Lib.StableHlo.ReadAt
public import Idealize.ShloMosaic.Lib.Pointwise

@[expose] public section

set_option maxRecDepth 100000

noncomputable section

namespace Cert.ReferenceIdeal.Ret

open Idealize.ShloMosaic Idealize.ShloMosaic.TcCoe Idealize.ShloMosaic.Tactic
open Idealize.ShloMosaic.StableHlo
open Cert.ReferenceIdeal Cert.ReferenceIdeal.Gen Cert.Ret

variable (m : (ℓ : Loc nD τ sig) → Buf (Elt Ideal) ℓ) (c : Dev nD)

/-- The cotangent of the retention output. -/
theorem dy2_at (r : Fin 4224) (j : Fin 8) (e : Fin 256) : (E2 m c (Proc.devRef .tc main_v199) : Vec Ideal S4224x8x256 .f32) (ix3 r j e) = (inR m c).dy r.val j.val e.val := by
  refine (dyr_at m c r j e).trans ?_
  refine Eq.trans ?_ (rms (fun e => (inR m c).Y r.val j.val e.val) _ _ (∑ x : Fin 256, (inR m c).dhn r.val j.val x.val * (inR m c).w j.val x.val * (inR m c).Y r.val j.val x.val) _ _ rfl rfl)
  rw [show (∑ x : Fin 256, (inR m c).Y r.val j.val x.val * ((inR m c).dhn r.val j.val x.val * (inR m c).w j.val x.val))
    = ∑ x : Fin 256, (inR m c).dhn r.val j.val x.val * (inR m c).w j.val x.val * (inR m c).Y r.val j.val x.val from
      Finset.sum_congr rfl fun x _ => mul_comm _ _]
theorem dyc_at (n : Fin 33) (j : Fin 8) (a : Fin 128) (e : Fin 256) : (E2 m c (Proc.devRef .tc main_v207_0) : Vec Ideal S33x8x128x256 .f32) (ix4 n j a e) = (inR m c).dy (128 * n.val + a.val) j.val e.val := by
  have f : ∀ (r : Fin 4224) (j : Fin 8) (e : Fin 256), (M2 m c 77 (Proc.devRef .tc main_v199) : Vec Ideal S4224x8x256 .f32) (ix3 r j e) = (inR m c).dy r.val j.val e.val := fun r j e =>
    (congrFun (M2_eq m c 77 (r := main_v199) (by decide +kernel)) _).trans (dy2_at m c r j e)
  rw [E2_cut m c 77, Nat.mul_comm]
  generalize M2 m c 77 = U at *
  after_reads_at
  simp only [id]
  pointwise
  rw [f]

theorem v207_1_eq : E2 (F := Ideal) m c (Proc.devRef .tc main_v207_1) = E0 (F := Ideal) m c (Proc.devRef .tc main_v138) := by
  have e1 := M2_eq m c 87 (r := main_v138) (by decide +kernel)
  refine Eq.trans ?_ (e1.trans (E2_keep m c (by decide +kernel) (by decide +kernel) (by decide +kernel)))
  rw [E2_cut m c 87]
  generalize M2 m c 87 = U at *
  after_reads_simp
  rfl
theorem v207_2_eq : E2 (F := Ideal) m c (Proc.devRef .tc main_v207_2) = E0 (F := Ideal) m c (Proc.devRef .tc main_v136) := by
  have e1 := M2_eq m c 87 (r := main_v136) (by decide +kernel)
  refine Eq.trans ?_ (e1.trans (E2_keep m c (by decide +kernel) (by decide +kernel) (by decide +kernel)))
  rw [E2_cut m c 87]
  generalize M2 m c 87 = U at *
  after_reads_simp
  rfl
theorem v207_3_eq : E2 (F := Ideal) m c (Proc.devRef .tc main_v207_3) = E0 (F := Ideal) m c (Proc.devRef .tc main_v140) := by
  have e1 := M2_eq m c 87 (r := main_v140) (by decide +kernel)
  refine Eq.trans ?_ (e1.trans (E2_keep m c (by decide +kernel) (by decide +kernel) (by decide +kernel)))
  rw [E2_cut m c 87]
  generalize M2 m c 87 = U at *
  after_reads_simp
  rfl
theorem v207_4_eq : E2 (F := Ideal) m c (Proc.devRef .tc main_v207_4) = E1 (F := Ideal) m c (Proc.devRef .tc main_v149_10) := by
  have e1 := M2_eq m c 87 (r := main_v149_10) (by decide +kernel)
  refine Eq.trans ?_ (e1.trans (E2_loop m c (by decide +kernel)))
  rw [E2_cut m c 87]
  generalize M2 m c 87 = U at *
  after_reads_simp
  rfl
theorem v207_5_eq : E2 (F := Ideal) m c (Proc.devRef .tc main_v207_5) = E1 (F := Ideal) m c (Proc.devRef .tc main_v149_11) := by
  have e1 := M2_eq m c 87 (r := main_v149_11) (by decide +kernel)
  refine Eq.trans ?_ (e1.trans (E2_loop m c (by decide +kernel)))
  rw [E2_cut m c 87]
  generalize M2 m c 87 = U at *
  after_reads_simp
  rfl
theorem v207_6_eq : E2 (F := Ideal) m c (Proc.devRef .tc main_v207_6) = E1 (F := Ideal) m c (Proc.devRef .tc main_v149_12) := by
  have e1 := M2_eq m c 87 (r := main_v149_12) (by decide +kernel)
  refine Eq.trans ?_ (e1.trans (E2_loop m c (by decide +kernel)))
  rw [E2_cut m c 87]
  generalize M2 m c 87 = U at *
  after_reads_simp
  rfl
theorem v207_7_eq : E2 (F := Ideal) m c (Proc.devRef .tc main_v207_7) = E0 (F := Ideal) m c (Proc.devRef .tc main_v115) := by
  have e1 := M2_eq m c 87 (r := main_v115) (by decide +kernel)
  refine Eq.trans ?_ (e1.trans (E2_keep m c (by decide +kernel) (by decide +kernel) (by decide +kernel)))
  rw [E2_cut m c 87]
  generalize M2 m c 87 = U at *
  after_reads_simp
  rfl
theorem v207_8_eq : E2 (F := Ideal) m c (Proc.devRef .tc main_v207_8) = E0 (F := Ideal) m c (Proc.devRef .tc main_v142) := by
  have e1 := M2_eq m c 87 (r := main_v142) (by decide +kernel)
  refine Eq.trans ?_ (e1.trans (E2_keep m c (by decide +kernel) (by decide +kernel) (by decide +kernel)))
  rw [E2_cut m c 87]
  generalize M2 m c 87 = U at *
  after_reads_simp
  rfl
theorem v207_9_eq : E2 (F := Ideal) m c (Proc.devRef .tc main_v207_9) = E0 (F := Ideal) m c (Proc.devRef .tc main_v143) := by
  have e1 := M2_eq m c 87 (r := main_v143) (by decide +kernel)
  refine Eq.trans ?_ (e1.trans (E2_keep m c (by decide +kernel) (by decide +kernel) (by decide +kernel)))
  rw [E2_cut m c 87]
  generalize M2 m c 87 = U at *
  after_reads_simp
  rfl
theorem v207_10_eq : E2 (F := Ideal) m c (Proc.devRef .tc main_v207_10) = E0 (F := Ideal) m c (Proc.devRef .tc main_v144) := by
  have e1 := M2_eq m c 87 (r := main_v144) (by decide +kernel)
  refine Eq.trans ?_ (e1.trans (E2_keep m c (by decide +kernel) (by decide +kernel) (by decide +kernel)))
  rw [E2_cut m c 87]
  generalize M2 m c 87 = U at *
  after_reads_simp
  rfl
theorem v207_11_zero : E2 (F := Ideal) m c (Proc.devRef .tc main_v207_11) = fun _ => BitVec.ofNat 32 0 := entry1 m c
theorem v207_12_zero (j : Fin 8) (d e : Fin 256) : (E2 m c (Proc.devRef .tc main_v207_12) : Vec Ideal S8x256x256 .f32) (ix3 j d e) = (0 : EReal) := by
  have h : (E2 m c (Proc.devRef .tc main_v207_12) : Vec Ideal S8x256x256 .f32) (ix3 j d e) = (Ideal.ofBits FTy.f32 0x00000000#32 : EReal) := by
    rw [E2_cut m c 79]
    generalize M2 m c 79 = U at *
    after_reads_at
    exact Ideal.ofBits_zero_f32
  rw [h, Ideal.ofBits_zero_f32]
/-- The variables at the loop's start. -/
theorem start1 : Inv1 (inR m c) 0 (E2 (F := Ideal) m c) where
  dy := dyc_at m c
  key n j a d := by rw [v207_1_eq]; exact v138_at m c n j a d
  q n j a d := by rw [v207_2_eq]; exact v136_at m c n j a d
  v n j a d := by rw [v207_3_eq]; exact v140_at m c n j a d
  P n j a b := by rw [v207_4_eq]; exact (end0 m c).P n j a b n.isLt
  st n j d e := by rw [v207_5_eq]; exact (end0 m c).st n j d e n.isLt
  kk n j a d := by rw [v207_6_eq]; exact (end0 m c).kk n j a d n.isLt
  D j a b := by rw [v207_7_eq]; exact v115_at m c j a b
  qd j a := by rw [v207_8_eq]; exact v142_at m c j a
  cd j := by rw [v207_9_eq]; exact v143_at m c j
  kd j a := by rw [v207_10_eq]; exact v144_at m c j a
  ctr := v207_11_zero m c
  T := v207_12_zero m c
  dQ n _ _ _ h := absurd n.isLt (by omega)
  dK n _ _ _ h := absurd n.isLt (by omega)
  dV n _ _ _ h := absurd n.isLt (by omega)
/-- The variables ahead of a trip. -/
theorem trip1 (i : ℕ) (hi : i ≤ 33) : Inv1 (inR m c) i (atTrip cond1 body1 (E2 (F := Ideal) m) i c) := by
  induction i with
  | zero => exact start1 m c
  | succ i ih =>
    show Inv1 _ _ (afterL body1 (after cond1 (atTrip cond1 body1 (E2 (F := Ideal) m) i c)))
    rw [afterL_eq_after_flatten]
    obtain ⟨k, hk, rfl⟩ : ∃ k, k < 33 ∧ i = 32 - k := ⟨32 - i, by omega, by omega⟩
    exact (ih (by omega)).cond.step hk
/-- The variables at the loop's end. -/
theorem end1 : Inv1 (inR m c) 33 (E3 (F := Ideal) m c) := (trip1 m c 33 le_rfl).cond
/-- A buffer that the loops do not write. -/
theorem trip_keep1 {r : Ref sig .tc} (h : r ∉ W1L) (h' : r ∉ cond1_W) (V : Dev nD → Valuation τ sig (Elt Ideal)) (k : ℕ) :
    atTrip cond1 body1 V k c (Proc.devRef .tc r) = V c (Proc.devRef .tc r) := by
  induction k with
  | zero => rfl
  | succ k ih =>
    show afterL body1 (after cond1 (atTrip cond1 body1 V k c)) (Proc.devRef .tc r) = _
    rw [afterL_eq_after_flatten, after_unwritten W1L W1L_eq h, after_of_writes_sub cond1 _ cond1_writes h', ih]
theorem E3_keep {r : Ref sig .tc} (h : r ∉ W1L) (h' : r ∉ cond1_W) :
    E3 (F := Ideal) m c (Proc.devRef .tc r) = E2 (F := Ideal) m c (Proc.devRef .tc r) := by
  show after cond1 (atTrip cond1 body1 (E2 m) 33 c) (Proc.devRef .tc r) = _
  rw [after_of_writes_sub cond1 _ cond1_writes h', trip_keep1 c h h']

end Cert.ReferenceIdeal.Ret

end
-- ==== Proof.RPost.lean ====
/- The reference's results. -/
module

public import proofs.«01_k».proof.Proof.RRun1
public import Idealize.ShloMosaic.Lib.StableHlo.ReadAt
public import Idealize.ShloMosaic.Lib.Pointwise

@[expose] public section

set_option maxRecDepth 100000

noncomputable section

namespace Cert.ReferenceIdeal.Ret

open Idealize.ShloMosaic Idealize.ShloMosaic.TcCoe Idealize.ShloMosaic.Tactic
open Idealize.ShloMosaic.StableHlo
open Cert.ReferenceIdeal Cert.ReferenceIdeal.Gen Cert.Ret

variable (m : (ℓ : Loc nD τ sig) → Buf (Elt Ideal) ℓ) (c : Dev nD)

/-- What the operations after the loops write, in order. -/
abbrev postW : List (Ref sig .tc) := main_part4_ops3_W ++ main_part5_ops0_W
theorem postW_eq : (postI (F := Ideal)).flatten.map HloOp.writes = postW.map fun w => {Proc.devRef (τ := τ) .tc w} := rfl
theorem E4_eq : E4 (F := Ideal) m c = after (postI (F := Ideal)).flatten (E3 (F := Ideal) m c) := afterL_eq_after_flatten _ _
/-- The contents after the first `n` operations. -/
abbrev M4 (n : ℕ) : Valuation τ sig (Elt Ideal) := upto (postI (F := Ideal)).flatten (E3 (F := Ideal) m c) n
theorem E4_cut (n : ℕ) : E4 (F := Ideal) m c = after ((postI (F := Ideal)).flatten.drop n) (M4 m c n) := by
  rw [E4_eq]
  exact cut_run _ _ n
theorem M4_eq (n : ℕ) {r : Ref sig .tc} (h : r ∉ postW.drop n) : M4 m c n (Proc.devRef .tc r) = E4 (F := Ideal) m c (Proc.devRef .tc r) := by
  rw [E4_eq]
  exact cut_keep postW postW_eq _ n h
/-- A buffer that neither the second loop nor the operations after it write. -/
theorem E4_keep {r : Ref sig .tc} (h : r ∉ postW) (h0 : r ∉ W1L) (h1 : r ∉ cond1_W) :
    E4 (F := Ideal) m c (Proc.devRef .tc r) = E2 (F := Ideal) m c (Proc.devRef .tc r) := by
  rw [E4_eq, after_unwritten postW postW_eq h, E3_keep m c h0 h1]

/-! ## What enters -/

theorem dv_rows (r : Fin 4224) (j : Fin 8) (e : Fin 256) : (E4 m c (Proc.devRef .tc main_v209) : Vec Ideal S4224x8x256 .f32) (ix3 r j e) = (inR m c).dV (r.val / 128) j.val (r.val % 128) e.val := by
  have h := (end1 m c).dV ⟨r.val / 128, by omega⟩ j ⟨r.val % 128, by omega⟩ e (by show 33 ≤ r.val / 128 + 33; omega)
  refine Eq.trans ?_ h
  rw [E4_eq]
  generalize E3 (F := Ideal) m c = U at *
  after_reads_at
theorem dk_rows (r : Fin 4224) (j : Fin 8) (e : Fin 256) : (E4 m c (Proc.devRef .tc main_v211) : Vec Ideal S4224x8x256 .f32) (ix3 r j e) = (inR m c).dK (r.val / 128) j.val (r.val % 128) e.val := by
  have h := (end1 m c).dK ⟨r.val / 128, by omega⟩ j ⟨r.val % 128, by omega⟩ e (by show 33 ≤ r.val / 128 + 33; omega)
  refine Eq.trans ?_ h
  rw [E4_eq]
  generalize E3 (F := Ideal) m c = U at *
  after_reads_at
theorem dq_rows (r : Fin 4224) (j : Fin 8) (e : Fin 256) : (E4 m c (Proc.devRef .tc main_v213) : Vec Ideal S4224x8x256 .f32) (ix3 r j e) = (inR m c).dQ (r.val / 128) j.val (r.val % 128) e.val := by
  have h := (end1 m c).dQ ⟨r.val / 128, by omega⟩ j ⟨r.val % 128, by omega⟩ e (by show 33 ≤ r.val / 128 + 33; omega)
  refine Eq.trans ?_ h
  rw [E4_eq]
  generalize E3 (F := Ideal) m c = U at *
  after_reads_at
theorem mask_end (r : Fin 4224) : (E4 m c (Proc.devRef .tc main_v20) : Vec Ideal S4224x1x1 .f32) (ix3 r 0 0) = if r.val < 112 then (0 : EReal) else 1 :=
  (congrFun ((E4_keep m c (by decide +kernel) (by decide +kernel) (by decide +kernel)).trans (E2_keep m c (by decide +kernel) (by decide +kernel) (by decide +kernel))) _).trans (v20_at m c r)
theorem csk_end (r : Fin 4224) (b : Fin 128) : (E4 m c (Proc.devRef .tc main_v69) : Vec Ideal S4224x1x128 .f32) (ix3 r 0 b) = (inR m c).cs r.val b.val :=
  (congrFun ((E4_keep m c (by decide +kernel) (by decide +kernel) (by decide +kernel)).trans (E2_keep m c (by decide +kernel) (by decide +kernel) (by decide +kernel))) _).trans (v69_at m c r b)
theorem snk_end (r : Fin 4224) (b : Fin 128) : (E4 m c (Proc.devRef .tc main_v71) : Vec Ideal S4224x1x128 .f32) (ix3 r 0 b) = (inR m c).sn r.val b.val :=
  (congrFun ((E4_keep m c (by decide +kernel) (by decide +kernel) (by decide +kernel)).trans (E2_keep m c (by decide +kernel) (by decide +kernel) (by decide +kernel))) _).trans (v71_at m c r b)
theorem csq_end (r : Fin 4224) (b : Fin 128) : (E4 m c (Proc.devRef .tc main_v38) : Vec Ideal S4224x1x128 .f32) (ix3 r 0 b) = (inR m c).cs r.val b.val :=
  (congrFun ((E4_keep m c (by decide +kernel) (by decide +kernel) (by decide +kernel)).trans (E2_keep m c (by decide +kernel) (by decide +kernel) (by decide +kernel))) _).trans (v38_at m c r b)
theorem snq_end (r : Fin 4224) (b : Fin 128) : (E4 m c (Proc.devRef .tc main_v40) : Vec Ideal S4224x1x128 .f32) (ix3 r 0 b) = (inR m c).sn r.val b.val :=
  (congrFun ((E4_keep m c (by decide +kernel) (by decide +kernel) (by decide +kernel)).trans (E2_keep m c (by decide +kernel) (by decide +kernel) (by decide +kernel))) _).trans (v40_at m c r b)

/-! ## The results -/

/-- The gradient of the values. -/
theorem r266 (r : Fin 4112) (b : Fin 2048) : (E4 m c (Proc.devRef .tc main_v266) : Vec Ideal S4112x2048 .bf16) (ix2 r b) = (inR m c).drv (112 + r.val) (b.val / 256) (b.val % 256) := by
  have fdv : ∀ (r : Fin 4224) (j : Fin 8) (e : Fin 256), (M4 m c 6 (Proc.devRef .tc main_v209) : Vec Ideal S4224x8x256 .f32) (ix3 r j e) = (inR m c).dV (r.val / 128) j.val (r.val % 128) e.val := fun r j e =>
    (congrFun (M4_eq m c 6 (r := main_v209) (by decide +kernel)) _).trans (dv_rows m c r j e)
  have fmask : ∀ (r : Fin 4224), (M4 m c 6 (Proc.devRef .tc main_v20) : Vec Ideal S4224x1x1 .f32) (ix3 r 0 0) = if r.val < 112 then (0 : EReal) else 1 := fun r =>
    (congrFun (M4_eq m c 6 (r := main_v20) (by decide +kernel)) _).trans (mask_end m c r)
  rw [E4_cut m c 6]
  generalize M4 m c 6 = U at *
  after_reads_at
  simp only [fdv, fmask]
  rw [if_neg (by omega), mul_one]
  rfl
theorem mk_at (r : Fin 4224) (h : 112 ≤ r.val) (j : Fin 8) (e : Fin 256) : (E4 m c (Proc.devRef .tc main_v218) : Vec Ideal S4224x8x256 .f32) (ix3 r j e) = (inR m c).dK (r.val / 128) j.val (r.val % 128) e.val := by
  have fdk : ∀ (r : Fin 4224) (j : Fin 8) (e : Fin 256), (M4 m c 9 (Proc.devRef .tc main_v211) : Vec Ideal S4224x8x256 .f32) (ix3 r j e) = (inR m c).dK (r.val / 128) j.val (r.val % 128) e.val := fun r j e =>
    (congrFun (M4_eq m c 9 (r := main_v211) (by decide +kernel)) _).trans (dk_rows m c r j e)
  have fmask : ∀ (r : Fin 4224), (M4 m c 9 (Proc.devRef .tc main_v20) : Vec Ideal S4224x1x1 .f32) (ix3 r 0 0) = if r.val < 112 then (0 : EReal) else 1 := fun r =>
    (congrFun (M4_eq m c 9 (r := main_v20) (by decide +kernel)) _).trans (mask_end m c r)
  rw [E4_cut m c 9]
  generalize M4 m c 9 = U at *
  after_reads_at
  simp only [fdk, fmask]
  rw [if_neg (by omega), mul_one]
theorem rk_at (r : Fin 4224) (h : 112 ≤ r.val) (j : Fin 8) (e : Fin 256) : (E4 m c (Proc.devRef .tc main_v234) : Vec Ideal S4224x8x256 .f32) (ix3 r j e) = (inR m c).rotT (fun r h e => (inR m c).dK (r / 128) h (r % 128) e) r.val j.val e.val := by
  have fmk : ∀ (r : Fin 4224) (h : 112 ≤ r.val) (j : Fin 8) (e : Fin 256), (M4 m c 11 (Proc.devRef .tc main_v218) : Vec Ideal S4224x8x256 .f32) (ix3 r j e) = (inR m c).dK (r.val / 128) j.val (r.val % 128) e.val := fun r h j e =>
    (congrFun (M4_eq m c 11 (r := main_v218) (by decide +kernel)) _).trans (mk_at m c r h j e)
  have fcsk : ∀ (r : Fin 4224) (b : Fin 128), (M4 m c 11 (Proc.devRef .tc main_v69) : Vec Ideal S4224x1x128 .f32) (ix3 r 0 b) = (inR m c).cs r.val b.val := fun r b =>
    (congrFun (M4_eq m c 11 (r := main_v69) (by decide +kernel)) _).trans (csk_end m c r b)
  have fsnk : ∀ (r : Fin 4224) (b : Fin 128), (M4 m c 11 (Proc.devRef .tc main_v71) : Vec Ideal S4224x1x128 .f32) (ix3 r 0 b) = (inR m c).sn r.val b.val := fun r b =>
    (congrFun (M4_eq m c 11 (r := main_v71) (by decide +kernel)) _).trans (snk_end m c r b)
  rw [E4_cut m c 11]
  generalize M4 m c 11 = U at *
  unfold In.rotT
  by_cases he : e.val < 128
  · rw [if_pos he]
    after_reads_at
    simp only [fmk r h, fcsk, fsnk]
    rw [dif_neg (by omega), dif_pos he, zero_add, add_comm]
  · rw [if_neg he]
    after_reads_at
    simp only [fmk r h, fcsk, fsnk]
    rw [dif_pos (by omega), dif_neg he, add_zero, neg_mul, ← sub_eq_add_neg, show 128 + (e.val - 128) = e.val by omega]
/-- The gradient of the keys. -/
theorem r265 (r : Fin 4112) (b : Fin 2048) : (E4 m c (Proc.devRef .tc main_v265) : Vec Ideal S4112x2048 .bf16) (ix2 r b) = (inR m c).drk (112 + r.val) (b.val / 256) (b.val % 256) := by
  have frk : ∀ (r : Fin 4224) (h : 112 ≤ r.val) (j : Fin 8) (e : Fin 256), (M4 m c 29 (Proc.devRef .tc main_v234) : Vec Ideal S4224x8x256 .f32) (ix3 r j e) = (inR m c).rotT (fun r h e => (inR m c).dK (r / 128) h (r % 128) e) r.val j.val e.val := fun r h j e =>
    (congrFun (M4_eq m c 29 (r := main_v234) (by decide +kernel)) _).trans (rk_at m c r h j e)
  rw [E4_cut m c 29]
  generalize M4 m c 29 = U at *
  after_reads_at
  exact frk ⟨112 + r.val, by omega⟩ (by show 112 ≤ 112 + r.val; omega) ⟨b.val / 256, by omega⟩ ⟨b.val % 256, by omega⟩
theorem mq_at (r : Fin 4224) (j : Fin 8) (e : Fin 256) : (E4 m c (Proc.devRef .tc main_v237) : Vec Ideal S4224x8x256 .f32) (ix3 r j e) = (inR m c).dQ (r.val / 128) j.val (r.val % 128) e.val * c16 := by
  have fdq : ∀ (r : Fin 4224) (j : Fin 8) (e : Fin 256), (M4 m c 30 (Proc.devRef .tc main_v213) : Vec Ideal S4224x8x256 .f32) (ix3 r j e) = (inR m c).dQ (r.val / 128) j.val (r.val % 128) e.val := fun r j e =>
    (congrFun (M4_eq m c 30 (r := main_v213) (by decide +kernel)) _).trans (dq_rows m c r j e)
  rw [E4_cut m c 30]
  generalize M4 m c 30 = U at *
  after_reads_at
  simp only [fdq]
  rfl
theorem rq_at (r : Fin 4224) (j : Fin 8) (e : Fin 256) : (E4 m c (Proc.devRef .tc main_v253) : Vec Ideal S4224x8x256 .f32) (ix3 r j e) = (inR m c).rotT (fun r h e => (inR m c).dQ (r / 128) h (r % 128) e * c16) r.val j.val e.val := by
  have fmq : ∀ (r : Fin 4224) (j : Fin 8) (e : Fin 256), (M4 m c 33 (Proc.devRef .tc main_v237) : Vec Ideal S4224x8x256 .f32) (ix3 r j e) = (inR m c).dQ (r.val / 128) j.val (r.val % 128) e.val * c16 := fun r j e =>
    (congrFun (M4_eq m c 33 (r := main_v237) (by decide +kernel)) _).trans (mq_at m c r j e)
  have fcsq : ∀ (r : Fin 4224) (b : Fin 128), (M4 m c 33 (Proc.devRef .tc main_v38) : Vec Ideal S4224x1x128 .f32) (ix3 r 0 b) = (inR m c).cs r.val b.val := fun r b =>
    (congrFun (M4_eq m c 33 (r := main_v38) (by decide +kernel)) _).trans (csq_end m c r b)
  have fsnq : ∀ (r : Fin 4224) (b : Fin 128), (M4 m c 33 (Proc.devRef .tc main_v40) : Vec Ideal S4224x1x128 .f32) (ix3 r 0 b) = (inR m c).sn r.val b.val := fun r b =>
    (congrFun (M4_eq m c 33 (r := main_v40) (by decide +kernel)) _).trans (snq_end m c r b)
  rw [E4_cut m c 33]
  generalize M4 m c 33 = U at *
  unfold In.rotT
  by_cases he : e.val < 128
  · rw [if_pos he]
    after_reads_at
    simp only [fmq, fcsq, fsnq]
    rw [dif_neg (by omega), dif_pos he, zero_add, add_comm]
  · rw [if_neg he]
    after_reads_at
    simp only [fmq, fcsq, fsnq]
    rw [dif_pos (by omega), dif_neg he, add_zero, neg_mul, ← sub_eq_add_neg, show 128 + (e.val - 128) = e.val by omega]
/-- The gradient of the queries. -/
theorem r264 (r : Fin 4112) (b : Fin 2048) : (E4 m c (Proc.devRef .tc main_v264) : Vec Ideal S4112x2048 .bf16) (ix2 r b) = (inR m c).drq (112 + r.val) (b.val / 256) (b.val % 256) := by
  have frq : ∀ (r : Fin 4224) (j : Fin 8) (e : Fin 256), (M4 m c 51 (Proc.devRef .tc main_v253) : Vec Ideal S4224x8x256 .f32) (ix3 r j e) = (inR m c).rotT (fun r h e => (inR m c).dQ (r / 128) h (r % 128) e * c16) r.val j.val e.val := fun r j e =>
    (congrFun (M4_eq m c 51 (r := main_v253) (by decide +kernel)) _).trans (rq_at m c r j e)
  rw [E4_cut m c 51]
  generalize M4 m c 51 = U at *
  after_reads_at
  exact frq ⟨112 + r.val, by omega⟩ ⟨b.val / 256, by omega⟩ ⟨b.val % 256, by omega⟩
theorem out_end (r : Fin 4112) (b : Fin 2048) : (E4 m c (Proc.devRef .tc main_v172) : Vec Ideal S4112x2048 .f32) (ix2 r b) = (inR m c).out (112 + r.val) (b.val / 256) (b.val % 256) :=
  (congrFun (E4_keep m c (by decide +kernel) (by decide +kernel) (by decide +kernel)) _).trans (out_at m c r b)
/-- The output. -/
theorem r263 (r : Fin 4112) (b : Fin 2048) : (E4 m c (Proc.devRef .tc main_v263) : Vec Ideal S4112x2048 .bf16) (ix2 r b) = (inR m c).out (112 + r.val) (b.val / 256) (b.val % 256) := by
  have fout : ∀ (r : Fin 4112) (b : Fin 2048), (M4 m c 52 (Proc.devRef .tc main_v172) : Vec Ideal S4112x2048 .f32) (ix2 r b) = (inR m c).out (112 + r.val) (b.val / 256) (b.val % 256) := fun r b =>
    (congrFun (M4_eq m c 52 (r := main_v172) (by decide +kernel)) _).trans (out_end m c r b)
  rw [E4_cut m c 52]
  generalize M4 m c 52 = U at *
  after_reads_at
  exact fout r b
/-- The gate's gradient, where the cotangent and the weights are numbers. -/
theorem dg_real (I : In) (r : ℕ) (j : ℕ) (e : Fin 256) (ho : ∃ x : ℝ, I.o r j e.val = (x : EReal)) (hw : ∃ x : ℝ, I.w j e.val = (x : EReal)) :
    I.o r j e.val * (I.Y r j e.val * I.R r j * I.w j e.val) * I.sg r j e.val
      + I.g r j e.val * (I.o r j e.val * (I.Y r j e.val * I.R r j * I.w j e.val)) * (I.sg r j e.val * (1 - I.sg r j e.val)) = I.dg r j e.val := by
  obtain ⟨x, hx⟩ := ho
  obtain ⟨w, hw⟩ := hw
  obtain ⟨y, hy⟩ := yr_real (fun e => I.Y r j e.val) e
  have e1 : I.o r j e.val * (I.Y r j e.val * I.R r j * I.w j e.val) = ((x * (y * w) : ℝ) : EReal) := by
    have hy' : I.Y r j e.val * I.R r j = (y : EReal) := hy
    rw [hx, hw, hy']
    push_cast
    rfl
  unfold In.dg In.sg
  rw [e1]
  exact gate _ _
theorem r267 (r : Fin 4112) (b : Fin 2048) (ho : ∀ e : Fin 256, ∃ x : ℝ, (inR m c).o (112 + r.val) (b.val / 256) e.val = (x : EReal))
    (hw : ∀ e : Fin 256, ∃ x : ℝ, (inR m c).w (b.val / 256) e.val = (x : EReal)) : (E4 m c (Proc.devRef .tc main_v267) : Vec Ideal S4112x2048 .bf16) (ix2 r b) = (inR m c).dg (112 + r.val) (b.val / 256) (b.val % 256) := by
  have f : (M4 m c 53 (Proc.devRef .tc main_v200) : Vec Ideal S4224x2048 .f32) (ix2 ⟨112 + r.val, by omega⟩ b) = (inR m c).dg (112 + r.val) (b.val / 256) (b.val % 256) := by
    refine (congrFun ((M4_eq m c 53 (r := main_v200) (by decide +kernel)).trans (E4_keep m c (by decide +kernel) (by decide +kernel) (by decide +kernel))) _).trans ?_
    refine (dgr_at m c _ b).trans ?_
    exact dg_real (inR m c) (112 + r.val) (b.val / 256) ⟨b.val % 256, by omega⟩ (ho _) (hw _)
  rw [E4_cut m c 53]
  generalize M4 m c 53 = U at *
  after_reads_at
  exact f
/-- The weights' gradient, added up chunk by chunk from the last. -/
theorem dwA_sum (I : In) (h e : ℕ) (n : ℕ) (hn : n ≤ 33) :
    I.dwA n h e = ∑ k ∈ Finset.range n, ∑ a : Fin 128, I.dwc (128 * (32 - k) + a.val) h e := by
  induction n with
  | zero => rfl
  | succ n ih => rw [In.dwA, ih (by omega), Finset.sum_range_succ]
theorem dwA_rows (I : In) (h e : ℕ) : I.dwA 33 h e = ∑ r : Fin 4224, I.dwc r.val h e := by
  rw [dwA_sum I h e 33 le_rfl, ← Finset.sum_range_reflect]
  rw [Finset.sum_congr rfl (g := fun k => ∑ a : Fin 128, I.dwc (128 * k + a.val) h e) fun k hk => by
    have := Finset.mem_range.mp hk
    rw [show 32 - (33 - 1 - k) = k by omega]]
  rw [Finset.sum_range, ← Fintype.sum_prod_type', ← (finProdFinEquiv (m := 33) (n := 128)).sum_comp]
  refine Finset.sum_congr rfl fun x _ => ?_
  rw [finProdFinEquiv_apply_val, add_comm]
theorem r185 (b : Fin 2048) : (E4 m c (Proc.devRef .tc main_v185) : Vec Ideal S1x2048 .f32) (ix2 0 b) = (inR m c).dwA 33 (b.val / 256) (b.val % 256) := by
  have e : (∑ r : Fin 4224, (inR m c).Y r.val (b.val / 256) (b.val % 256) * (inR m c).R r.val (b.val / 256) * (inR m c).dhn r.val (b.val / 256) (b.val % 256) : EReal)
      = (inR m c).dwA 33 (b.val / 256) (b.val % 256) := by
    rw [dwA_rows]
    exact Finset.sum_congr rfl fun x _ => mul_comm _ _
  exact (congrFun (E4_keep m c (by decide +kernel) (by decide +kernel) (by decide +kernel)) _).trans ((dw_at m c b).trans e)

end Cert.ReferenceIdeal.Ret

end
-- ==== Proof.Finite.lean ====
/- What the precondition says: the weights and the output's cotangent are numbers. -/
module

public import proofs.«01_k».proof.Pre_finite
public import proofs.«01_k».proof.Proof.Inputs
public import Idealize.ShloMosaic.Lib.ReduceAll

@[expose] public section

noncomputable section

namespace Cert.Ret

open Idealize.ShloMosaic
open Cert.Pre_finite

theorem top_bits : Ideal.ofBits FTy.f32 0x7F800000#32 = ⊤ := by simp [Ideal.ofBits, Ideal.ieee]

/-- A number whose absolute value is below infinity. -/
theorem real_of_lt {x : EReal} (h : Ideal.cmp .olt (max x (-x)) (Ideal.ofBits FTy.f32 0x7F800000#32) = 1#1) : ∃ y : ℝ, x = (y : EReal) := by
  rw [top_bits] at h
  have h1 : max x (-x) < ⊤ := by
    by_contra hn
    have : Ideal.cmp .olt (max x (-x)) ⊤ = 0#1 := by simp [Ideal.cmp, hn]
    rw [this] at h
    exact absurd h (by decide)
  induction x with
  | bot => exact absurd h1 (by simp)
  | top => exact absurd h1 (by simp)
  | coe y => exact ⟨y, rfl⟩

variable [Facts] {a0 : FVec Ideal S4112x14336 .f32} {a1 : FVec Ideal S1x2048 .f32} {a2 : FVec Ideal S4112x4096 .f32}

/-- The weights are numbers. -/
theorem w_real (h : Cert.Pre_finite.fn (F := Ideal) a0 a1 a2 = fun _ => 1#1) (i : S1x2048.Idx) : ∃ y : ℝ, a1 i = (y : EReal) := by
  have h0 := (IntOp.andi_eq_one.1 (congrFun h (Shape.Idx.first Facts.h_S_))).1
  have := Host.reduce_andi_eq_one _ _ _ _ _ h0 i (by funext k; exact k.elim0)
  exact real_of_lt this

/-- The cotangent of the output is made of numbers. -/
theorem o_real (h : Cert.Pre_finite.fn (F := Ideal) a0 a1 a2 = fun _ => 1#1) (r : Fin 4112) (b : Fin 2048) :
    ∃ y : ℝ, a2 (ix2 r ⟨b.val, by omega⟩) = (y : EReal) := by
  have h0 := (IntOp.andi_eq_one.1 (congrFun h (Shape.Idx.first Facts.h_S_))).2
  have h1 := Host.reduce_andi_eq_one _ _ _ _ _ h0 (ix2 r b) (by funext k; exact k.elim0)
  have e : extractStridedSlice S4112x2048 ![0, 0] a2 Facts.slices_S4112x4096_S4112x2048_0_0 (ix2 r b) = a2 (ix2 r ⟨b.val, by omega⟩) := by
    pointwise
  obtain ⟨y, hy⟩ := real_of_lt h1
  exact ⟨y, e.symm.trans hy⟩

/-- The inputs of the step that the gate's gradient needs to be numbers. -/
theorem inp_w_real (h : Cert.Pre_finite.fn (F := Ideal) a0 a1 a2 = fun _ => 1#1) {j : ℕ} (hj : j < 8) (e : Fin 256) :
    ∃ y : ℝ, (inp a0 a1 a2).w j e.val = (y : EReal) := by
  have e1 : (inp a0 a1 a2).w j e.val = a1 (ix2 ⟨0, by omega⟩ ⟨256 * j + e.val, by omega⟩) := get2_of a1 (by omega) (by omega)
  obtain ⟨y, hy⟩ := w_real h (ix2 ⟨0, by omega⟩ ⟨256 * j + e.val, by omega⟩)
  exact ⟨y, e1.trans hy⟩
theorem inp_o_real (h : Cert.Pre_finite.fn (F := Ideal) a0 a1 a2 = fun _ => 1#1) (r : Fin 4112) {j : ℕ} (hj : j < 8) (e : Fin 256) :
    ∃ y : ℝ, (inp a0 a1 a2).o (112 + r.val) j e.val = (y : EReal) := by
  have e1 : (inp a0 a1 a2).o (112 + r.val) j e.val = a2 (ix2 r ⟨256 * j + e.val, by omega⟩) := by
    show pad2 a2 (112 + r.val) (256 * j + e.val) = _
    unfold pad2
    rw [if_neg (by omega), get2_of a2 (by omega) (by omega)]
    congr 2
    exact Fin.ext (by show 112 + r.val - 112 = r.val; omega)
  obtain ⟨y, hy⟩ := o_real h r ⟨256 * j + e.val, by omega⟩
  exact ⟨y, e1.trans hy⟩

end Cert.Ret

end
-- ==== Proof.FfnEnds.lean ====
/- The feed-forward program launched: every execution ends with the buffers at the last contents. -/
module

public import proofs.«01_k».proof.Proof.Gen.FfnKernelIdeal.Frame

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnKernelIdeal Cert.FfnKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with every unscoped buffer at the last contents and every semaphore counter at zero. -/
theorem ends : θ_run defs (onTc (τ := τ) (main (F := F))) ⟨m, fun _ => 0, ρ⟩ (fun r => (∀ c : Dev nD,
      ∀ b ∈ Pipeline.ucRefs τ sig, r.2.mem (((c : Thread nD τ)).1, b) = W10 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W10 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

end Cert.Ffn

end
-- ==== Proof.FfnSpec.lean ====
/- Matrices over the extended reals as functions of two natural numbers. -/
module

public import proofs.«01_k».proof.Proof.Inputs

@[expose] public section

noncomputable section

namespace Cert.Ffn

open Idealize.ShloMosaic
open Cert.Ret (get2 get2_of pad2)

/-- The matrix of a function of row and column. -/
def mat {n k : ℕ} (f : ℕ → ℕ → EReal) : (⟨2, ![n, k]⟩ : Shape).Idx → EReal := fun i => f (i 0).val (i 1).val

theorem mat_get2 {n k : ℕ} (x : (⟨2, ![n, k]⟩ : Shape).Idx → EReal) : x = mat (get2 x) := by
  funext i
  have h0 : (i 0).val < n := (i 0).isLt
  have h1 : (i 1).val < k := (i 1).isLt
  show x i = get2 x (i 0).val (i 1).val
  rw [get2_of x h0 h1]
  congr 1
  funext a
  match a with
  | ⟨0, _⟩ => rfl
  | ⟨1, _⟩ => rfl

/-- The product of two matrices over `K` columns of the first. -/
def mul (K : ℕ) (f g : ℕ → ℕ → EReal) (i j : ℕ) : EReal := ∑ k : Fin K, f i k.val * g k.val j
theorem mul_block {K i j i' j' p q : ℕ} {f g F G : ℕ → ℕ → EReal} (hi : p = i') (hj : q = j') (hf : ∀ k, F i k = f p k)
    (hg : ∀ k, G k j = g k q) : mul K F G i j = mul K f g i' j' := by
  subst hi hj
  exact Finset.sum_congr rfl fun k _ => by rw [hf, hg]
/-- A matrix turned over. -/
def tr (f : ℕ → ℕ → EReal) (i j : ℕ) : EReal := f j i

/-- The row `d` before row `i`, zero before the first. -/
def lag (f : ℕ → ℕ → EReal) (d i j : ℕ) : EReal := if d ≤ i then f (i - d) j else 0
/-- The convolution of three taps down the rows. -/
def conv (gu w b : ℕ → ℕ → EReal) (i j : ℕ) : EReal := b 0 j + w 0 j * lag gu 2 i j + w 1 j * lag gu 1 i j + w 2 j * gu i j
/-- The logistic function. -/
def sg (x : EReal) : EReal := Ideal.div 1 (1 + Ideal.exp (0 - x))
/-- The gated half: the convolution times its logistic, times the other half. -/
def act (gu w b : ℕ → ℕ → EReal) (i j : ℕ) : EReal := conv gu w b i j * sg (conv gu w b i j) * gu i (11008 + j)
/-- The gradient of the convolution's result. -/
def dconv (gu da w b : ℕ → ℕ → EReal) (i j : ℕ) : EReal :=
  da i j * gu i (11008 + j) * (sg (conv gu w b i j) * (1 + conv gu w b i j * (1 - sg (conv gu w b i j))))
/-- The gradient of the other half. -/
def dup (gu da w b : ℕ → ℕ → EReal) (i j : ℕ) : EReal := da i j * (conv gu w b i j * sg (conv gu w b i j))
/-- Zero past the last row. -/
def cap (f : ℕ → ℕ → EReal) (i j : ℕ) : EReal := if i < 4224 then f i j else 0
/-- The gradient of the convolved half: the taps up the rows. -/
def dgate (gu da w b : ℕ → ℕ → EReal) (i j : ℕ) : EReal :=
  w 2 j * dconv gu da w b i j + w 1 j * cap (dconv gu da w b) (i + 1) j + w 0 j * cap (dconv gu da w b) (i + 2) j
/-- What row `i` adds to row `s` of the sums down the rows: the three taps' gradients and the bias's. -/
def term (gu da w b : ℕ → ℕ → EReal) (s i j : ℕ) : EReal :=
  if s = 0 then dconv gu da w b i j * lag gu 2 i j else if s = 1 then dconv gu da w b i j * lag gu 1 i j else
    if s = 2 then dconv gu da w b i j * gu i j else if s = 3 then dconv gu da w b i j else 0

end Cert.Ffn

end
-- ==== Proof.FfnProd.lean ====
/- What each product call of the feed-forward block leaves in its result array: the whole product of its two operands. -/
module

public import proofs.«01_k».proof.Proof.FfnSpec
public import proofs.«01_k».proof.Proof.Gen.FfnKernelIdeal.Frame
public import Idealize.ShloMosaic.Lib.Pointwise
public import Idealize.ShloMosaic.Lib.Pipeline.Value

@[expose] public section

set_option maxRecDepth 16384

noncomputable section

namespace Cert.Ffn

open Idealize.ShloMosaic Idealize.ShloMosaic.TcCoe Idealize.ShloMosaic.Tactic Idealize.ShloMosaic.Pipeline
open Cert.FfnKernelIdeal Cert.FfnKernelIdeal.Gen

variable (V : (c : Dev nD) → (b : Ref sig .tc) → Buf (Elt Ideal) ((c : Thread nD τ).loc b))
variable (c : Dev nD)

theorem pay0 (x : Vec Ideal S1408x4096 .bf16) (y : Vec Ideal S4096x512 .bf16) (f g : ℕ → ℕ → EReal) (hx : x = mat f) (hy : y = mat g) :
    out0_2 x y = (mat (mul 4096 f g) : Vec Ideal S1408x512 .bf16) := by
  subst hx hy
  unfold out0_2 r0_0 r0_1 r0_2
  rw [View.canon_unit_zero (by decide), View.ld_unit_zero (by decide), View.ld_unit_zero (by decide)]
  funext i
  unfold k0_pay1
  pointwise
  rfl

theorem idx0_0 : ∀ t : Fin cfg0.N, win0_0.index t (0 : Fin 2) = t.val / 43 ∧ win0_0.index t (1 : Fin 2) = 0 :=
  (by decide +kernel : ∀ t : Fin grid0.N, win0_0.index t (0 : Fin 2) = t.val / 43 ∧ win0_0.index t (1 : Fin 2) = 0)
theorem blk0_0 (t : Fin cfg0.N) {f : ℕ → ℕ → EReal} (h : V c main_v2 = (mat f : Vec Ideal S4224x4096 .bf16)) :
    (iblk0 V c 0 t : Vec Ideal S1408x4096 .bf16) = mat fun a b => f (t.val / 43 * 1408 + a) (0 * 4096 + b) := by
  have e := idx0_0 t
  funext y
  refine (congrFun h _).trans ?_
  show f (win0_0.index t (0 : Fin 2) * 1408 + 1 * (y 0).val) (win0_0.index t (1 : Fin 2) * 4096 + 1 * (y 1).val) = f _ _
  rw [e.1, e.2, one_mul, one_mul]

theorem idx0_1 : ∀ t : Fin cfg0.N, win0_1.index t (0 : Fin 2) = 0 ∧ win0_1.index t (1 : Fin 2) = t.val % 43 :=
  (by decide +kernel : ∀ t : Fin grid0.N, win0_1.index t (0 : Fin 2) = 0 ∧ win0_1.index t (1 : Fin 2) = t.val % 43)
theorem blk0_1 (t : Fin cfg0.N) {f : ℕ → ℕ → EReal} (h : V c main_v6 = (mat f : Vec Ideal S4096x22016 .bf16)) :
    (iblk0 V c 1 t : Vec Ideal S4096x512 .bf16) = mat fun a b => f (0 * 4096 + a) (t.val % 43 * 512 + b) := by
  have e := idx0_1 t
  funext y
  refine (congrFun h _).trans ?_
  show f (win0_1.index t (0 : Fin 2) * 4096 + 1 * (y 0).val) (win0_1.index t (1 : Fin 2) * 512 + 1 * (y 1).val) = f _ _
  rw [e.1, e.2, one_mul, one_mul]

theorem idx0_2 : ∀ t : Fin cfg0.N, win0_2.index t (0 : Fin 2) = t.val / 43 ∧ win0_2.index t (1 : Fin 2) = t.val % 43 :=
  (by decide +kernel : ∀ t : Fin grid0.N, win0_2.index t (0 : Fin 2) = t.val / 43 ∧ win0_2.index t (1 : Fin 2) = t.val % 43)
theorem mem0_2 (t : Fin cfg0.N) (i : S4224x22016.Idx) :
    i ∈ ((cfg0.win 2).blk t).view.set ↔ ∀ a : Fin 2, win0_2.index t a * S1408x512.size a ≤ (i a).val ∧ (i a).val < win0_2.index t a * S1408x512.size a + S1408x512.size a := by
  show i ∈ ((View.whole main_v8).slice (win0_2.rect t)).set ↔ _
  rw [View.set_slice_whole, Rect.mem_set_unit]
  exact Iff.rfl
theorem cover0_2' (i : S4224x22016.Idx) : ∃ t : Fin cfg0.N, (cfg0.win 2).flush t = true ∧ i ∈ ((cfg0.win 2).blk t).view.set := by
  have hN : cfg0.N = 129 := N_0
  have h0 : (i 0).val < 4224 := (i 0).isLt; have h1 : (i 1).val < 22016 := (i 1).isLt
  have hlt : (i 0).val / 1408 * 43 + (i 1).val / 512 < cfg0.N := by omega
  refine ⟨⟨(i 0).val / 1408 * 43 + (i 1).val / 512, hlt⟩, flush0_2 _, ?_⟩
  rw [mem0_2]
  have h := idx0_2 ⟨(i 0).val / 1408 * 43 + (i 1).val / 512, hlt⟩
  dsimp only at h
  intro a
  match a with
  | ⟨0, _⟩ => show win0_2.index _ (0 : Fin 2) * 1408 ≤ (i 0).val ∧ (i 0).val < win0_2.index _ (0 : Fin 2) * 1408 + 1408; rw [h.1]; omega
  | ⟨1, _⟩ => show win0_2.index _ (1 : Fin 2) * 512 ≤ (i 1).val ∧ (i 1).val < win0_2.index _ (1 : Fin 2) * 512 + 512; rw [h.2]; omega
theorem arr0 {f g : ℕ → ℕ → EReal} (hf : V c main_v2 = (mat f : Vec Ideal S4224x4096 .bf16)) (hg : V c main_v6 = (mat g : Vec Ideal S4096x22016 .bf16)) :
    (dat0 V c).arrAt 2 cfg0.N = (mat (mul 4096 f g) : Vec Ideal S4224x22016 .bf16) :=
  (dat0 V c).arrAt_eq_of_cover 2 _ (fun t _ => by
    have e2 : (dat0 V c).flushed 2 t = (cfg0.win 2).cut (grid0.coords t) (out0_2 (iblk0 V c 0 t) (iblk0 V c 1 t)) := by
      show (cfg0.win 2).cut (grid0.coords t) ((dat0 V c).after 2 t) = _
      rw [after0_2]
    rw [e2, pay0 _ _ _ _ (blk0_0 V c t hf) (blk0_1 V c t hg)]
    have h := idx0_2 t
    funext y
    have b0 : (((cfg0.win 2).blk t).view.emb y 0).val = (t.val / 43) * 1408 + (y 0).val := by
      show win0_2.index t (0 : Fin 2) * 1408 + 1 * (y 0).val = _; rw [h.1, one_mul]
    have b1 : (((cfg0.win 2).blk t).view.emb y 1).val = (t.val % 43) * 512 + (y 1).val := by
      show win0_2.index t (1 : Fin 2) * 512 + 1 * (y 1).val = _; rw [h.2, one_mul]
    refine mul_block b0.symm b1.symm (fun k => ?_) (fun k => ?_)
    · simp only [tr, zero_mul, zero_add]
    · simp only [tr, zero_mul, zero_add])
    cover0_2'

theorem pay2 (x : Vec Ideal S384x11008 .bf16) (y : Vec Ideal S11008x512 .bf16) (f g : ℕ → ℕ → EReal) (hx : x = mat f) (hy : y = mat g) :
    out2_2 x y = (mat (mul 11008 f g) : Vec Ideal S384x512 .f32) := by
  subst hx hy
  unfold out2_2 r2_0 r2_1 r2_2
  rw [View.canon_unit_zero (by decide), View.ld_unit_zero (by decide), View.ld_unit_zero (by decide)]
  funext i
  unfold k2_pay1
  pointwise
  rfl

theorem idx2_0 : ∀ t : Fin cfg2.N, win2_0.index t (0 : Fin 2) = t.val % 11 ∧ win2_0.index t (1 : Fin 2) = 0 :=
  (by decide +kernel : ∀ t : Fin grid2.N, win2_0.index t (0 : Fin 2) = t.val % 11 ∧ win2_0.index t (1 : Fin 2) = 0)
theorem blk2_0 (t : Fin cfg2.N) {f : ℕ → ℕ → EReal} (h : V c main_v9 = (mat f : Vec Ideal S4224x11008 .bf16)) :
    (iblk2 V c 0 t : Vec Ideal S384x11008 .bf16) = mat fun a b => f (t.val % 11 * 384 + a) (0 * 11008 + b) := by
  have e := idx2_0 t
  funext y
  refine (congrFun h _).trans ?_
  show f (win2_0.index t (0 : Fin 2) * 384 + 1 * (y 0).val) (win2_0.index t (1 : Fin 2) * 11008 + 1 * (y 1).val) = f _ _
  rw [e.1, e.2, one_mul, one_mul]

theorem idx2_1 : ∀ t : Fin cfg2.N, win2_1.index t (0 : Fin 2) = 0 ∧ win2_1.index t (1 : Fin 2) = t.val / 11 :=
  (by decide +kernel : ∀ t : Fin grid2.N, win2_1.index t (0 : Fin 2) = 0 ∧ win2_1.index t (1 : Fin 2) = t.val / 11)
theorem blk2_1 (t : Fin cfg2.N) {f : ℕ → ℕ → EReal} (h : V c main_v7 = (mat f : Vec Ideal S11008x4096 .bf16)) :
    (iblk2 V c 1 t : Vec Ideal S11008x512 .bf16) = mat fun a b => f (0 * 11008 + a) (t.val / 11 * 512 + b) := by
  have e := idx2_1 t
  funext y
  refine (congrFun h _).trans ?_
  show f (win2_1.index t (0 : Fin 2) * 11008 + 1 * (y 0).val) (win2_1.index t (1 : Fin 2) * 512 + 1 * (y 1).val) = f _ _
  rw [e.1, e.2, one_mul, one_mul]

theorem idx2_2 : ∀ t : Fin cfg2.N, win2_2.index t (0 : Fin 2) = t.val % 11 ∧ win2_2.index t (1 : Fin 2) = t.val / 11 :=
  (by decide +kernel : ∀ t : Fin grid2.N, win2_2.index t (0 : Fin 2) = t.val % 11 ∧ win2_2.index t (1 : Fin 2) = t.val / 11)
theorem mem2_2 (t : Fin cfg2.N) (i : S4224x4096.Idx) :
    i ∈ ((cfg2.win 2).blk t).view.set ↔ ∀ a : Fin 2, win2_2.index t a * S384x512.size a ≤ (i a).val ∧ (i a).val < win2_2.index t a * S384x512.size a + S384x512.size a := by
  show i ∈ ((View.whole main_v10).slice (win2_2.rect t)).set ↔ _
  rw [View.set_slice_whole, Rect.mem_set_unit]
  exact Iff.rfl
theorem cover2_2' (i : S4224x4096.Idx) : ∃ t : Fin cfg2.N, (cfg2.win 2).flush t = true ∧ i ∈ ((cfg2.win 2).blk t).view.set := by
  have hN : cfg2.N = 88 := N_2
  have h0 : (i 0).val < 4224 := (i 0).isLt; have h1 : (i 1).val < 4096 := (i 1).isLt
  have hlt : (i 1).val / 512 * 11 + (i 0).val / 384 < cfg2.N := by omega
  refine ⟨⟨(i 1).val / 512 * 11 + (i 0).val / 384, hlt⟩, flush2_2 _, ?_⟩
  rw [mem2_2]
  have h := idx2_2 ⟨(i 1).val / 512 * 11 + (i 0).val / 384, hlt⟩
  dsimp only at h
  intro a
  match a with
  | ⟨0, _⟩ => show win2_2.index _ (0 : Fin 2) * 384 ≤ (i 0).val ∧ (i 0).val < win2_2.index _ (0 : Fin 2) * 384 + 384; rw [h.1]; omega
  | ⟨1, _⟩ => show win2_2.index _ (1 : Fin 2) * 512 ≤ (i 1).val ∧ (i 1).val < win2_2.index _ (1 : Fin 2) * 512 + 512; rw [h.2]; omega
theorem arr2 {f g : ℕ → ℕ → EReal} (hf : V c main_v9 = (mat f : Vec Ideal S4224x11008 .bf16)) (hg : V c main_v7 = (mat g : Vec Ideal S11008x4096 .bf16)) :
    (dat2 V c).arrAt 2 cfg2.N = (mat (mul 11008 f g) : Vec Ideal S4224x4096 .f32) :=
  (dat2 V c).arrAt_eq_of_cover 2 _ (fun t _ => by
    have e2 : (dat2 V c).flushed 2 t = (cfg2.win 2).cut (grid2.coords t) (out2_2 (iblk2 V c 0 t) (iblk2 V c 1 t)) := by
      show (cfg2.win 2).cut (grid2.coords t) ((dat2 V c).after 2 t) = _
      rw [after2_2]
    rw [e2, pay2 _ _ _ _ (blk2_0 V c t hf) (blk2_1 V c t hg)]
    have h := idx2_2 t
    funext y
    have b0 : (((cfg2.win 2).blk t).view.emb y 0).val = (t.val % 11) * 384 + (y 0).val := by
      show win2_2.index t (0 : Fin 2) * 384 + 1 * (y 0).val = _; rw [h.1, one_mul]
    have b1 : (((cfg2.win 2).blk t).view.emb y 1).val = (t.val / 11) * 512 + (y 1).val := by
      show win2_2.index t (1 : Fin 2) * 512 + 1 * (y 1).val = _; rw [h.2, one_mul]
    refine mul_block b0.symm b1.symm (fun k => ?_) (fun k => ?_)
    · simp only [tr, zero_mul, zero_add]
    · simp only [tr, zero_mul, zero_add])
    cover2_2'

theorem pay3 (x : Vec Ideal S2112x4096 .bf16) (y : Vec Ideal S256x4096 .bf16) (f g : ℕ → ℕ → EReal) (hx : x = mat f) (hy : y = mat g) :
    out3_2 x y = (mat (mul 4096 f (tr g)) : Vec Ideal S2112x256 .bf16) := by
  subst hx hy
  unfold out3_2 r3_0 r3_1 r3_2
  rw [View.canon_unit_zero (by decide), View.ld_unit_zero (by decide), View.ld_unit_zero (by decide)]
  funext i
  unfold k3_pay1
  pointwise
  rfl

theorem idx3_0 : ∀ t : Fin cfg3.N, win3_0.index t (0 : Fin 2) = t.val / 43 ∧ win3_0.index t (1 : Fin 2) = 0 :=
  (by decide +kernel : ∀ t : Fin grid3.N, win3_0.index t (0 : Fin 2) = t.val / 43 ∧ win3_0.index t (1 : Fin 2) = 0)
theorem blk3_0 (t : Fin cfg3.N) {f : ℕ → ℕ → EReal} (h : V c main_v5 = (mat f : Vec Ideal S4224x4096 .bf16)) :
    (iblk3 V c 0 t : Vec Ideal S2112x4096 .bf16) = mat fun a b => f (t.val / 43 * 2112 + a) (0 * 4096 + b) := by
  have e := idx3_0 t
  funext y
  refine (congrFun h _).trans ?_
  show f (win3_0.index t (0 : Fin 2) * 2112 + 1 * (y 0).val) (win3_0.index t (1 : Fin 2) * 4096 + 1 * (y 1).val) = f _ _
  rw [e.1, e.2, one_mul, one_mul]

theorem idx3_1 : ∀ t : Fin cfg3.N, win3_1.index t (0 : Fin 2) = t.val % 43 ∧ win3_1.index t (1 : Fin 2) = 0 :=
  (by decide +kernel : ∀ t : Fin grid3.N, win3_1.index t (0 : Fin 2) = t.val % 43 ∧ win3_1.index t (1 : Fin 2) = 0)
theorem blk3_1 (t : Fin cfg3.N) {f : ℕ → ℕ → EReal} (h : V c main_v7 = (mat f : Vec Ideal S11008x4096 .bf16)) :
    (iblk3 V c 1 t : Vec Ideal S256x4096 .bf16) = mat fun a b => f (t.val % 43 * 256 + a) (0 * 4096 + b) := by
  have e := idx3_1 t
  funext y
  refine (congrFun h _).trans ?_
  show f (win3_1.index t (0 : Fin 2) * 256 + 1 * (y 0).val) (win3_1.index t (1 : Fin 2) * 4096 + 1 * (y 1).val) = f _ _
  rw [e.1, e.2, one_mul, one_mul]

theorem idx3_2 : ∀ t : Fin cfg3.N, win3_2.index t (0 : Fin 2) = t.val / 43 ∧ win3_2.index t (1 : Fin 2) = t.val % 43 :=
  (by decide +kernel : ∀ t : Fin grid3.N, win3_2.index t (0 : Fin 2) = t.val / 43 ∧ win3_2.index t (1 : Fin 2) = t.val % 43)
theorem mem3_2 (t : Fin cfg3.N) (i : S4224x11008.Idx) :
    i ∈ ((cfg3.win 2).blk t).view.set ↔ ∀ a : Fin 2, win3_2.index t a * S2112x256.size a ≤ (i a).val ∧ (i a).val < win3_2.index t a * S2112x256.size a + S2112x256.size a := by
  show i ∈ ((View.whole main_v11).slice (win3_2.rect t)).set ↔ _
  rw [View.set_slice_whole, Rect.mem_set_unit]
  exact Iff.rfl
theorem cover3_2' (i : S4224x11008.Idx) : ∃ t : Fin cfg3.N, (cfg3.win 2).flush t = true ∧ i ∈ ((cfg3.win 2).blk t).view.set := by
  have hN : cfg3.N = 86 := N_3
  have h0 : (i 0).val < 4224 := (i 0).isLt; have h1 : (i 1).val < 11008 := (i 1).isLt
  have hlt : (i 0).val / 2112 * 43 + (i 1).val / 256 < cfg3.N := by omega
  refine ⟨⟨(i 0).val / 2112 * 43 + (i 1).val / 256, hlt⟩, flush3_2 _, ?_⟩
  rw [mem3_2]
  have h := idx3_2 ⟨(i 0).val / 2112 * 43 + (i 1).val / 256, hlt⟩
  dsimp only at h
  intro a
  match a with
  | ⟨0, _⟩ => show win3_2.index _ (0 : Fin 2) * 2112 ≤ (i 0).val ∧ (i 0).val < win3_2.index _ (0 : Fin 2) * 2112 + 2112; rw [h.1]; omega
  | ⟨1, _⟩ => show win3_2.index _ (1 : Fin 2) * 256 ≤ (i 1).val ∧ (i 1).val < win3_2.index _ (1 : Fin 2) * 256 + 256; rw [h.2]; omega
theorem arr3 {f g : ℕ → ℕ → EReal} (hf : V c main_v5 = (mat f : Vec Ideal S4224x4096 .bf16)) (hg : V c main_v7 = (mat g : Vec Ideal S11008x4096 .bf16)) :
    (dat3 V c).arrAt 2 cfg3.N = (mat (mul 4096 f (tr g)) : Vec Ideal S4224x11008 .bf16) :=
  (dat3 V c).arrAt_eq_of_cover 2 _ (fun t _ => by
    have e2 : (dat3 V c).flushed 2 t = (cfg3.win 2).cut (grid3.coords t) (out3_2 (iblk3 V c 0 t) (iblk3 V c 1 t)) := by
      show (cfg3.win 2).cut (grid3.coords t) ((dat3 V c).after 2 t) = _
      rw [after3_2]
    rw [e2, pay3 _ _ _ _ (blk3_0 V c t hf) (blk3_1 V c t hg)]
    have h := idx3_2 t
    funext y
    have b0 : (((cfg3.win 2).blk t).view.emb y 0).val = (t.val / 43) * 2112 + (y 0).val := by
      show win3_2.index t (0 : Fin 2) * 2112 + 1 * (y 0).val = _; rw [h.1, one_mul]
    have b1 : (((cfg3.win 2).blk t).view.emb y 1).val = (t.val % 43) * 256 + (y 1).val := by
      show win3_2.index t (1 : Fin 2) * 256 + 1 * (y 1).val = _; rw [h.2, one_mul]
    refine mul_block b0.symm b1.symm (fun k => ?_) (fun k => ?_)
    · simp only [tr, zero_mul, zero_add]
    · simp only [tr, zero_mul, zero_add])
    cover3_2'

theorem pay4 (x : Vec Ideal S4224x256 .bf16) (y : Vec Ideal S4224x2048 .bf16) (f g : ℕ → ℕ → EReal) (hx : x = mat f) (hy : y = mat g) :
    out4_2 x y = (mat (mul 4224 (tr f) g) : Vec Ideal S256x2048 .bf16) := by
  subst hx hy
  unfold out4_2 r4_0 r4_1 r4_2
  rw [View.canon_unit_zero (by decide), View.ld_unit_zero (by decide), View.ld_unit_zero (by decide)]
  funext i
  unfold k4_pay1
  pointwise
  rfl

theorem idx4_0 : ∀ t : Fin cfg4.N, win4_0.index t (0 : Fin 2) = 0 ∧ win4_0.index t (1 : Fin 2) = t.val % 43 :=
  (by decide +kernel : ∀ t : Fin grid4.N, win4_0.index t (0 : Fin 2) = 0 ∧ win4_0.index t (1 : Fin 2) = t.val % 43)
theorem blk4_0 (t : Fin cfg4.N) {f : ℕ → ℕ → EReal} (h : V c main_v9 = (mat f : Vec Ideal S4224x11008 .bf16)) :
    (iblk4 V c 0 t : Vec Ideal S4224x256 .bf16) = mat fun a b => f (0 * 4224 + a) (t.val % 43 * 256 + b) := by
  have e := idx4_0 t
  funext y
  refine (congrFun h _).trans ?_
  show f (win4_0.index t (0 : Fin 2) * 4224 + 1 * (y 0).val) (win4_0.index t (1 : Fin 2) * 256 + 1 * (y 1).val) = f _ _
  rw [e.1, e.2, one_mul, one_mul]

theorem idx4_1 : ∀ t : Fin cfg4.N, win4_1.index t (0 : Fin 2) = 0 ∧ win4_1.index t (1 : Fin 2) = t.val / 43 :=
  (by decide +kernel : ∀ t : Fin grid4.N, win4_1.index t (0 : Fin 2) = 0 ∧ win4_1.index t (1 : Fin 2) = t.val / 43)
theorem blk4_1 (t : Fin cfg4.N) {f : ℕ → ℕ → EReal} (h : V c main_v5 = (mat f : Vec Ideal S4224x4096 .bf16)) :
    (iblk4 V c 1 t : Vec Ideal S4224x2048 .bf16) = mat fun a b => f (0 * 4224 + a) (t.val / 43 * 2048 + b) := by
  have e := idx4_1 t
  funext y
  refine (congrFun h _).trans ?_
  show f (win4_1.index t (0 : Fin 2) * 4224 + 1 * (y 0).val) (win4_1.index t (1 : Fin 2) * 2048 + 1 * (y 1).val) = f _ _
  rw [e.1, e.2, one_mul, one_mul]

theorem idx4_2 : ∀ t : Fin cfg4.N, win4_2.index t (0 : Fin 2) = t.val % 43 ∧ win4_2.index t (1 : Fin 2) = t.val / 43 :=
  (by decide +kernel : ∀ t : Fin grid4.N, win4_2.index t (0 : Fin 2) = t.val % 43 ∧ win4_2.index t (1 : Fin 2) = t.val / 43)
theorem mem4_2 (t : Fin cfg4.N) (i : S11008x4096.Idx) :
    i ∈ ((cfg4.win 2).blk t).view.set ↔ ∀ a : Fin 2, win4_2.index t a * S256x2048.size a ≤ (i a).val ∧ (i a).val < win4_2.index t a * S256x2048.size a + S256x2048.size a := by
  show i ∈ ((View.whole main_v12).slice (win4_2.rect t)).set ↔ _
  rw [View.set_slice_whole, Rect.mem_set_unit]
  exact Iff.rfl
theorem cover4_2' (i : S11008x4096.Idx) : ∃ t : Fin cfg4.N, (cfg4.win 2).flush t = true ∧ i ∈ ((cfg4.win 2).blk t).view.set := by
  have hN : cfg4.N = 86 := N_4
  have h0 : (i 0).val < 11008 := (i 0).isLt; have h1 : (i 1).val < 4096 := (i 1).isLt
  have hlt : (i 1).val / 2048 * 43 + (i 0).val / 256 < cfg4.N := by omega
  refine ⟨⟨(i 1).val / 2048 * 43 + (i 0).val / 256, hlt⟩, flush4_2 _, ?_⟩
  rw [mem4_2]
  have h := idx4_2 ⟨(i 1).val / 2048 * 43 + (i 0).val / 256, hlt⟩
  dsimp only at h
  intro a
  match a with
  | ⟨0, _⟩ => show win4_2.index _ (0 : Fin 2) * 256 ≤ (i 0).val ∧ (i 0).val < win4_2.index _ (0 : Fin 2) * 256 + 256; rw [h.1]; omega
  | ⟨1, _⟩ => show win4_2.index _ (1 : Fin 2) * 2048 ≤ (i 1).val ∧ (i 1).val < win4_2.index _ (1 : Fin 2) * 2048 + 2048; rw [h.2]; omega
theorem arr4 {f g : ℕ → ℕ → EReal} (hf : V c main_v9 = (mat f : Vec Ideal S4224x11008 .bf16)) (hg : V c main_v5 = (mat g : Vec Ideal S4224x4096 .bf16)) :
    (dat4 V c).arrAt 2 cfg4.N = (mat (mul 4224 (tr f) g) : Vec Ideal S11008x4096 .bf16) :=
  (dat4 V c).arrAt_eq_of_cover 2 _ (fun t _ => by
    have e2 : (dat4 V c).flushed 2 t = (cfg4.win 2).cut (grid4.coords t) (out4_2 (iblk4 V c 0 t) (iblk4 V c 1 t)) := by
      show (cfg4.win 2).cut (grid4.coords t) ((dat4 V c).after 2 t) = _
      rw [after4_2]
    rw [e2, pay4 _ _ _ _ (blk4_0 V c t hf) (blk4_1 V c t hg)]
    have h := idx4_2 t
    funext y
    have b0 : (((cfg4.win 2).blk t).view.emb y 0).val = (t.val % 43) * 256 + (y 0).val := by
      show win4_2.index t (0 : Fin 2) * 256 + 1 * (y 0).val = _; rw [h.1, one_mul]
    have b1 : (((cfg4.win 2).blk t).view.emb y 1).val = (t.val / 43) * 2048 + (y 1).val := by
      show win4_2.index t (1 : Fin 2) * 2048 + 1 * (y 1).val = _; rw [h.2, one_mul]
    refine mul_block b0.symm b1.symm (fun k => ?_) (fun k => ?_)
    · simp only [tr, zero_mul, zero_add]
    · simp only [tr, zero_mul, zero_add])
    cover4_2'

theorem pay6 (x : Vec Ideal S4224x1024 .bf16) (y : Vec Ideal S4224x512 .bf16) (f g : ℕ → ℕ → EReal) (hx : x = mat f) (hy : y = mat g) :
    out6_2 x y = (mat (mul 4224 (tr f) g) : Vec Ideal S1024x512 .bf16) := by
  subst hx hy
  unfold out6_2 r6_0 r6_1 r6_2
  rw [View.canon_unit_zero (by decide), View.ld_unit_zero (by decide), View.ld_unit_zero (by decide)]
  funext i
  unfold k6_pay1
  pointwise
  rfl

theorem idx6_0 : ∀ t : Fin cfg6.N, win6_0.index t (0 : Fin 2) = 0 ∧ win6_0.index t (1 : Fin 2) = t.val / 43 :=
  (by decide +kernel : ∀ t : Fin grid6.N, win6_0.index t (0 : Fin 2) = 0 ∧ win6_0.index t (1 : Fin 2) = t.val / 43)
theorem blk6_0 (t : Fin cfg6.N) {f : ℕ → ℕ → EReal} (h : V c main_v2 = (mat f : Vec Ideal S4224x4096 .bf16)) :
    (iblk6 V c 0 t : Vec Ideal S4224x1024 .bf16) = mat fun a b => f (0 * 4224 + a) (t.val / 43 * 1024 + b) := by
  have e := idx6_0 t
  funext y
  refine (congrFun h _).trans ?_
  show f (win6_0.index t (0 : Fin 2) * 4224 + 1 * (y 0).val) (win6_0.index t (1 : Fin 2) * 1024 + 1 * (y 1).val) = f _ _
  rw [e.1, e.2, one_mul, one_mul]

theorem idx6_1 : ∀ t : Fin cfg6.N, win6_1.index t (0 : Fin 2) = 0 ∧ win6_1.index t (1 : Fin 2) = t.val % 43 :=
  (by decide +kernel : ∀ t : Fin grid6.N, win6_1.index t (0 : Fin 2) = 0 ∧ win6_1.index t (1 : Fin 2) = t.val % 43)
theorem blk6_1 (t : Fin cfg6.N) {f : ℕ → ℕ → EReal} (h : V c main_v14 = (mat f : Vec Ideal S4224x22016 .bf16)) :
    (iblk6 V c 1 t : Vec Ideal S4224x512 .bf16) = mat fun a b => f (0 * 4224 + a) (t.val % 43 * 512 + b) := by
  have e := idx6_1 t
  funext y
  refine (congrFun h _).trans ?_
  show f (win6_1.index t (0 : Fin 2) * 4224 + 1 * (y 0).val) (win6_1.index t (1 : Fin 2) * 512 + 1 * (y 1).val) = f _ _
  rw [e.1, e.2, one_mul, one_mul]

theorem idx6_2 : ∀ t : Fin cfg6.N, win6_2.index t (0 : Fin 2) = t.val / 43 ∧ win6_2.index t (1 : Fin 2) = t.val % 43 :=
  (by decide +kernel : ∀ t : Fin grid6.N, win6_2.index t (0 : Fin 2) = t.val / 43 ∧ win6_2.index t (1 : Fin 2) = t.val % 43)
theorem mem6_2 (t : Fin cfg6.N) (i : S4096x22016.Idx) :
    i ∈ ((cfg6.win 2).blk t).view.set ↔ ∀ a : Fin 2, win6_2.index t a * S1024x512.size a ≤ (i a).val ∧ (i a).val < win6_2.index t a * S1024x512.size a + S1024x512.size a := by
  show i ∈ ((View.whole main_v15).slice (win6_2.rect t)).set ↔ _
  rw [View.set_slice_whole, Rect.mem_set_unit]
  exact Iff.rfl
theorem cover6_2' (i : S4096x22016.Idx) : ∃ t : Fin cfg6.N, (cfg6.win 2).flush t = true ∧ i ∈ ((cfg6.win 2).blk t).view.set := by
  have hN : cfg6.N = 172 := N_6
  have h0 : (i 0).val < 4096 := (i 0).isLt; have h1 : (i 1).val < 22016 := (i 1).isLt
  have hlt : (i 0).val / 1024 * 43 + (i 1).val / 512 < cfg6.N := by omega
  refine ⟨⟨(i 0).val / 1024 * 43 + (i 1).val / 512, hlt⟩, flush6_2 _, ?_⟩
  rw [mem6_2]
  have h := idx6_2 ⟨(i 0).val / 1024 * 43 + (i 1).val / 512, hlt⟩
  dsimp only at h
  intro a
  match a with
  | ⟨0, _⟩ => show win6_2.index _ (0 : Fin 2) * 1024 ≤ (i 0).val ∧ (i 0).val < win6_2.index _ (0 : Fin 2) * 1024 + 1024; rw [h.1]; omega
  | ⟨1, _⟩ => show win6_2.index _ (1 : Fin 2) * 512 ≤ (i 1).val ∧ (i 1).val < win6_2.index _ (1 : Fin 2) * 512 + 512; rw [h.2]; omega
theorem arr6 {f g : ℕ → ℕ → EReal} (hf : V c main_v2 = (mat f : Vec Ideal S4224x4096 .bf16)) (hg : V c main_v14 = (mat g : Vec Ideal S4224x22016 .bf16)) :
    (dat6 V c).arrAt 2 cfg6.N = (mat (mul 4224 (tr f) g) : Vec Ideal S4096x22016 .bf16) :=
  (dat6 V c).arrAt_eq_of_cover 2 _ (fun t _ => by
    have e2 : (dat6 V c).flushed 2 t = (cfg6.win 2).cut (grid6.coords t) (out6_2 (iblk6 V c 0 t) (iblk6 V c 1 t)) := by
      show (cfg6.win 2).cut (grid6.coords t) ((dat6 V c).after 2 t) = _
      rw [after6_2]
    rw [e2, pay6 _ _ _ _ (blk6_0 V c t hf) (blk6_1 V c t hg)]
    have h := idx6_2 t
    funext y
    have b0 : (((cfg6.win 2).blk t).view.emb y 0).val = (t.val / 43) * 1024 + (y 0).val := by
      show win6_2.index t (0 : Fin 2) * 1024 + 1 * (y 0).val = _; rw [h.1, one_mul]
    have b1 : (((cfg6.win 2).blk t).view.emb y 1).val = (t.val % 43) * 512 + (y 1).val := by
      show win6_2.index t (1 : Fin 2) * 512 + 1 * (y 1).val = _; rw [h.2, one_mul]
    refine mul_block b0.symm b1.symm (fun k => ?_) (fun k => ?_)
    · simp only [tr, zero_mul, zero_add]
    · simp only [tr, zero_mul, zero_add])
    cover6_2'

end Cert.Ffn

end
-- ==== Proof.FfnFwd.lean ====
/- What the forward call of the gate leaves: the gated product of the convolved half and the other half, at every row. -/
module

public import proofs.«01_k».proof.Proof.FfnSpec
public import proofs.«01_k».proof.Proof.Gen.FfnKernelIdeal.Frame
public import Idealize.ShloMosaic.Lib.Pointwise
public import Idealize.ShloMosaic.Lib.Pipeline.Value

@[expose] public section

set_option maxRecDepth 16384

noncomputable section

namespace Cert.Ffn

open Idealize.ShloMosaic Idealize.ShloMosaic.TcCoe Idealize.ShloMosaic.Tactic Idealize.ShloMosaic.Pipeline
open Cert.FfnKernelIdeal Cert.FfnKernelIdeal.Gen

/-- The signal that is one but at the first chunk. -/
theorem after_first (n : ℕ) (hn : n < 33) : (((((Scalar.extui (Scalar.cmpi CmpIPredicate.sgt (BitVec.ofNat 32 n) 0#32) : BitVec 32).toInt : ℝ)) : EReal)) = if n = 0 then 0 else 1 := by
  have h : ∀ n : Fin 33, (Scalar.extui (Scalar.cmpi CmpIPredicate.sgt (BitVec.ofNat 32 n.val) 0#32) : BitVec 32).toInt = if n.val = 0 then 0 else 1 := by decide
  rw [h ⟨n, hn⟩]
  dsimp only
  split <;> simp

/-- A row that the block before it or the block itself holds, read off the whole array. -/
theorem lag_read (gu : ℕ → ℕ → EReal) (n o d r j p : ℕ) (hn : n < 33) (hr : r < 128) (hd : 1 ≤ d) (hd' : d ≤ 2) (hp : p = (16 + r + 144 - d) % 144) (φ : EReal)
    (hφ : φ = if n = 0 then 0 else 1) :
    (if p < 16 then gu ((8 * n - 1) * 16 + p) (o + j) * φ else gu (n * 128 + (p - 16)) (o + j)) = lag gu d (n * 128 + r) (o + j) := by
  subst hφ hp
  unfold lag
  have e : (16 + r + 144 - d) % 144 = 16 + r - d := by omega
  rw [e]
  by_cases h1 : 16 + r - d < 16
  · rw [if_pos h1]
    by_cases h2 : n = 0
    · rw [if_pos h2, mul_zero, if_neg (by omega)]
    · rw [if_neg h2, mul_one, if_pos (by omega)]
      congr 1; omega
  · rw [if_neg h1, if_pos (by omega)]
    congr 1; omega

theorem pay1 (q : grid1.Coords) (x0 : Vec Ideal S128x5504 .bf16) (x1 : Vec Ideal S16x5504 .bf16) (x2 : Vec Ideal S128x5504 .bf16)
    (x3 : Vec Ideal S3x5504 .f32) (x4 : Vec Ideal S1x5504 .f32) (gu w b : ℕ → ℕ → EReal) (n o : ℕ) (hq : (q 1).val = n) (hn : n < 33)
    (h0 : x0 = mat fun r j => gu (n * 128 + r) (o + j)) (h1 : x1 = mat fun r j => gu ((8 * n - 1) * 16 + r) (o + j))
    (h2 : x2 = mat fun r j => gu (n * 128 + r) (11008 + (o + j))) (h3 : x3 = mat fun r j => w r (o + j)) (h4 : x4 = mat fun r j => b r (o + j)) :
    out1_5 q x0 x1 x2 x3 x4 = (mat fun r j => act gu w b (n * 128 + r) (o + j) : Vec Ideal S128x5504 .bf16) := by
  subst h0 h1 h2 h3 h4
  unfold out1_5 r1_0 r1_1 r1_2 r1_3
  rw [View.canon_unit_zero (by decide), View.ld_unit_zero (by decide), View.ld_unit_zero (by decide), View.ld_unit_zero (by decide), View.ld_unit_zero (by decide), View.ld_unit_zero (by decide)]
  funext i
  obtain ⟨r, j, rfl⟩ : ∃ r j, i = ix2 r j := ⟨i 0, i 1, by funext a; match a with | ⟨0, _⟩ => rfl | ⟨1, _⟩ => rfl⟩
  unfold k1_pay1 k1_pay2 k1_pay3
  pointwise
  rw [hq]
  have k2 := lag_read gu n o 2 r.val j.val _ hn r.isLt (by norm_num) le_rfl rfl _ (after_first n hn)
  have k1 := lag_read gu n o 1 r.val j.val _ hn r.isLt le_rfl (by norm_num) rfl _ (after_first n hn)
  have m2 : (if h_1 : (16 + r.val + 144 - 2) % 144 < 16 then mat (fun r j => gu ((8 * n - 1) * 16 + r) (o + j)) (ix2 (⟨_, h_1⟩ : Fin 16) j) *
      ((((Scalar.extui (Scalar.cmpi CmpIPredicate.sgt (BitVec.ofNat 32 n) 0#32) : BitVec 32).toInt : ℝ)) : EReal) else
      mat (fun r j => gu (n * 128 + r) (o + j)) (ix2 (⟨(16 + r.val + 144 - 2) % 144 - 16, by omega⟩ : Fin 128) j)) = lag gu 2 (n * 128 + r.val) (o + j.val) := k2
  have m1 : (if h_1 : (16 + r.val + 144 - 1) % 144 < 16 then mat (fun r j => gu ((8 * n - 1) * 16 + r) (o + j)) (ix2 (⟨_, h_1⟩ : Fin 16) j) *
      ((((Scalar.extui (Scalar.cmpi CmpIPredicate.sgt (BitVec.ofNat 32 n) 0#32) : BitVec 32).toInt : ℝ)) : EReal) else
      mat (fun r j => gu (n * 128 + r) (o + j)) (ix2 (⟨(16 + r.val + 144 - 1) % 144 - 16, by omega⟩ : Fin 128) j)) = lag gu 1 (n * 128 + r.val) (o + j.val) := k1
  rw [m2, m1]
  rfl

end Cert.Ffn

end
-- ==== Proof.FfnGate.lean ====
/- The array that the forward call of the gate leaves. -/
module

public import proofs.«01_k».proof.Proof.FfnFwd

@[expose] public section

set_option maxRecDepth 16384

noncomputable section

namespace Cert.Ffn

open Idealize.ShloMosaic Idealize.ShloMosaic.TcCoe Idealize.ShloMosaic.Tactic Idealize.ShloMosaic.Pipeline
open Cert.FfnKernelIdeal Cert.FfnKernelIdeal.Gen

variable (V : (c : Dev nD) → (b : Ref sig .tc) → Buf (Elt Ideal) ((c : Thread nD τ).loc b))
variable (c : Dev nD)

theorem idx1_0 : ∀ t : Fin cfg1.N, win1_0.index t (0 : Fin 2) = t.val % 33 ∧ win1_0.index t (1 : Fin 2) = t.val / 33 :=
  (by decide +kernel : ∀ t : Fin grid1.N, win1_0.index t (0 : Fin 2) = t.val % 33 ∧ win1_0.index t (1 : Fin 2) = t.val / 33)
theorem blk1_0 (t : Fin cfg1.N) {f : ℕ → ℕ → EReal} (h : V c main_v8 = (mat f : Vec Ideal S4224x22016 .bf16)) :
    (iblk1 V c 0 t : Vec Ideal S128x5504 .bf16) = mat fun a b => f ((t.val % 33) * 128 + a) (t.val / 33 * 5504 + b) := by
  have e := idx1_0 t
  funext y
  refine (congrFun h _).trans ?_
  show f (win1_0.index t (0 : Fin 2) * 128 + 1 * (y 0).val) (win1_0.index t (1 : Fin 2) * 5504 + 1 * (y 1).val) = f _ _
  rw [e.1, e.2]
  congr 1 <;> omega

theorem idx1_1 : ∀ t : Fin cfg1.N, win1_1.index t (0 : Fin 2) = 8 * (t.val % 33) - 1 ∧ win1_1.index t (1 : Fin 2) = t.val / 33 :=
  (by decide +kernel : ∀ t : Fin grid1.N, win1_1.index t (0 : Fin 2) = 8 * (t.val % 33) - 1 ∧ win1_1.index t (1 : Fin 2) = t.val / 33)
theorem blk1_1 (t : Fin cfg1.N) {f : ℕ → ℕ → EReal} (h : V c main_v8 = (mat f : Vec Ideal S4224x22016 .bf16)) :
    (iblk1 V c 1 t : Vec Ideal S16x5504 .bf16) = mat fun a b => f ((8 * (t.val % 33) - 1) * 16 + a) (t.val / 33 * 5504 + b) := by
  have e := idx1_1 t
  funext y
  refine (congrFun h _).trans ?_
  show f (win1_1.index t (0 : Fin 2) * 16 + 1 * (y 0).val) (win1_1.index t (1 : Fin 2) * 5504 + 1 * (y 1).val) = f _ _
  rw [e.1, e.2]
  congr 1 <;> omega

theorem idx1_2 : ∀ t : Fin cfg1.N, win1_2.index t (0 : Fin 2) = t.val % 33 ∧ win1_2.index t (1 : Fin 2) = t.val / 33 + 2 :=
  (by decide +kernel : ∀ t : Fin grid1.N, win1_2.index t (0 : Fin 2) = t.val % 33 ∧ win1_2.index t (1 : Fin 2) = t.val / 33 + 2)
theorem blk1_2 (t : Fin cfg1.N) {f : ℕ → ℕ → EReal} (h : V c main_v8 = (mat f : Vec Ideal S4224x22016 .bf16)) :
    (iblk1 V c 2 t : Vec Ideal S128x5504 .bf16) = mat fun a b => f ((t.val % 33) * 128 + a) (11008 + (t.val / 33 * 5504 + b)) := by
  have e := idx1_2 t
  funext y
  refine (congrFun h _).trans ?_
  show f (win1_2.index t (0 : Fin 2) * 128 + 1 * (y 0).val) (win1_2.index t (1 : Fin 2) * 5504 + 1 * (y 1).val) = f _ _
  rw [e.1, e.2]
  congr 1 <;> omega

theorem idx1_3 : ∀ t : Fin cfg1.N, win1_3.index t (0 : Fin 2) = 0 ∧ win1_3.index t (1 : Fin 2) = t.val / 33 :=
  (by decide +kernel : ∀ t : Fin grid1.N, win1_3.index t (0 : Fin 2) = 0 ∧ win1_3.index t (1 : Fin 2) = t.val / 33)
theorem blk1_3 (t : Fin cfg1.N) {f : ℕ → ℕ → EReal} (h : V c main_arg2 = (mat f : Vec Ideal S3x11008 .f32)) :
    (iblk1 V c 3 t : Vec Ideal S3x5504 .f32) = mat fun a b => f (a) (t.val / 33 * 5504 + b) := by
  have e := idx1_3 t
  funext y
  refine (congrFun h _).trans ?_
  show f (win1_3.index t (0 : Fin 2) * 3 + 1 * (y 0).val) (win1_3.index t (1 : Fin 2) * 5504 + 1 * (y 1).val) = f _ _
  rw [e.1, e.2]
  congr 1 <;> omega

theorem idx1_4 : ∀ t : Fin cfg1.N, win1_4.index t (0 : Fin 2) = 0 ∧ win1_4.index t (1 : Fin 2) = t.val / 33 :=
  (by decide +kernel : ∀ t : Fin grid1.N, win1_4.index t (0 : Fin 2) = 0 ∧ win1_4.index t (1 : Fin 2) = t.val / 33)
theorem blk1_4 (t : Fin cfg1.N) {f : ℕ → ℕ → EReal} (h : V c main_arg3 = (mat f : Vec Ideal S1x11008 .f32)) :
    (iblk1 V c 4 t : Vec Ideal S1x5504 .f32) = mat fun a b => f (a) (t.val / 33 * 5504 + b) := by
  have e := idx1_4 t
  funext y
  refine (congrFun h _).trans ?_
  show f (win1_4.index t (0 : Fin 2) * 1 + 1 * (y 0).val) (win1_4.index t (1 : Fin 2) * 5504 + 1 * (y 1).val) = f _ _
  rw [e.1, e.2]
  congr 1 <;> omega

theorem idx1_5 : ∀ t : Fin cfg1.N, win1_5.index t (0 : Fin 2) = t.val % 33 ∧ win1_5.index t (1 : Fin 2) = t.val / 33 :=
  (by decide +kernel : ∀ t : Fin grid1.N, win1_5.index t (0 : Fin 2) = t.val % 33 ∧ win1_5.index t (1 : Fin 2) = t.val / 33)
theorem mem1_5 (t : Fin cfg1.N) (i : S4224x11008.Idx) :
    i ∈ ((cfg1.win 5).blk t).view.set ↔ ∀ a : Fin 2, win1_5.index t a * S128x5504.size a ≤ (i a).val ∧ (i a).val < win1_5.index t a * S128x5504.size a + S128x5504.size a := by
  show i ∈ ((View.whole main_v9).slice (win1_5.rect t)).set ↔ _
  rw [View.set_slice_whole, Rect.mem_set_unit]
  exact Iff.rfl
theorem covers1_5 (i : S4224x11008.Idx) : ∃ t : Fin cfg1.N, (cfg1.win 5).flush t = true ∧ i ∈ ((cfg1.win 5).blk t).view.set := by
  have hN : cfg1.N = 66 := N_1
  have h0 : (i 0).val < 4224 := (i 0).isLt; have h1 : (i 1).val < 11008 := (i 1).isLt
  have hlt : (i 1).val / 5504 * 33 + (i 0).val / 128 < cfg1.N := by omega
  refine ⟨⟨(i 1).val / 5504 * 33 + (i 0).val / 128, hlt⟩, flush1_5 _, ?_⟩
  rw [mem1_5]
  have h := idx1_5 ⟨(i 1).val / 5504 * 33 + (i 0).val / 128, hlt⟩
  dsimp only at h
  intro a
  match a with
  | ⟨0, _⟩ => show win1_5.index _ (0 : Fin 2) * 128 ≤ (i 0).val ∧ (i 0).val < win1_5.index _ (0 : Fin 2) * 128 + 128; rw [h.1]; omega
  | ⟨1, _⟩ => show win1_5.index _ (1 : Fin 2) * 5504 ≤ (i 1).val ∧ (i 1).val < win1_5.index _ (1 : Fin 2) * 5504 + 5504; rw [h.2]; omega
theorem chunk1 : ∀ t : Fin cfg1.N, (grid1.coords t 1).val = t.val % 33 := (by decide +kernel : ∀ t : Fin grid1.N, (grid1.coords t 1).val = t.val % 33)
theorem arr1 {gu w b : ℕ → ℕ → EReal} (hg : V c main_v8 = (mat gu : Vec Ideal S4224x22016 .bf16)) (hw : V c main_arg2 = (mat w : Vec Ideal S3x11008 .f32))
    (hb : V c main_arg3 = (mat b : Vec Ideal S1x11008 .f32)) :
    (dat1 V c).arrAt 5 cfg1.N = (mat (act gu w b) : Vec Ideal S4224x11008 .bf16) :=
  (dat1 V c).arrAt_eq_of_cover 5 _ (fun t _ => by
    have e2 : (dat1 V c).flushed 5 t = (cfg1.win 5).cut (grid1.coords t) (out1_5 (grid1.coords t) (iblk1 V c 0 t) (iblk1 V c 1 t) (iblk1 V c 2 t) (iblk1 V c 3 t) (iblk1 V c 4 t)) := by
      show (cfg1.win 5).cut (grid1.coords t) ((dat1 V c).after 5 t) = _
      rw [after1_5]
    rw [e2, pay1 (grid1.coords t) _ _ _ _ _ gu w b (t.val % 33) (t.val / 33 * 5504) (chunk1 t) (by omega) (blk1_0 V c t hg) (blk1_1 V c t hg) (blk1_2 V c t hg) (blk1_3 V c t hw) (blk1_4 V c t hb)]
    have h := idx1_5 t
    funext y
    show act gu w b (t.val % 33 * 128 + (y 0).val) (t.val / 33 * 5504 + (y 1).val) = act gu w b (win1_5.index t (0 : Fin 2) * 128 + 1 * (y 0).val) (win1_5.index t (1 : Fin 2) * 5504 + 1 * (y 1).val)
    rw [h.1, h.2, one_mul, one_mul])
    covers1_5

end Cert.Ffn

end
-- ==== Proof.FfnBody.lean ====
/- What the body of the backward call of the gate computes at one chunk, from the blocks it reads. -/
module

public import proofs.«01_k».proof.Proof.FfnFwd

@[expose] public section

set_option maxRecDepth 16384

noncomputable section

namespace Cert.Ffn

open Idealize.ShloMosaic Idealize.ShloMosaic.TcCoe Idealize.ShloMosaic.Tactic Idealize.ShloMosaic.Pipeline
open Cert.FfnKernelIdeal Cert.FfnKernelIdeal.Gen

/-- The signal that is one but at the last chunk. -/
theorem before_last (n : ℕ) (hn : n < 33) : (((((Scalar.extui (Scalar.cmpi CmpIPredicate.slt (BitVec.ofNat 32 n) 32#32) : BitVec 32).toInt : ℝ)) : EReal)) = if n < 32 then 1 else 0 := by
  have h : ∀ n : Fin 33, (Scalar.extui (Scalar.cmpi CmpIPredicate.slt (BitVec.ofNat 32 n.val) 32#32) : BitVec 32).toInt = if n.val < 32 then 1 else 0 := by decide
  rw [h ⟨n, hn⟩]
  dsimp only
  split <;> simp

/-- A block of `m` rows from row `i`, column `o`. -/
abbrev blk {m k : ℕ} (f : ℕ → ℕ → EReal) (i o : ℕ) : (⟨2, ![m, k]⟩ : Shape).Idx → EReal := mat fun r j => f (i + r) (o + j)

theorem three (A : FVec Ideal S16x5504 .f32) (B : FVec Ideal S128x5504 .f32) (C : FVec Ideal S16x5504 .f32) (p : Fin 160) (j : Fin 5504) :
    concatenate S160x5504 0 [⟨S16x5504, A⟩, ⟨S128x5504, B⟩, ⟨S16x5504, C⟩] concatenates_S16x5504_S128x5504_S16x5504_S160x5504_d0 (ix2 p j) =
      if h : p.val < 16 then A (ix2 ⟨p.val, h⟩ j) else if h' : p.val < 144 then B (ix2 ⟨p.val - 16, by omega⟩ j) else C (ix2 ⟨p.val - 144, by omega⟩ j) := by
  pointwise
  by_cases h : p.val < 16
  · rw [dif_pos h, dif_pos h]
  · rw [dif_neg h, dif_neg h]
    by_cases h' : p.val < 144
    · rw [dif_pos (by omega), dif_pos h']
    · rw [dif_neg (by omega), dif_neg h']
      congr 3

section
variable (q : grid5.Coords) (gu da w b : ℕ → ℕ → EReal) (n o : ℕ) (hq : (q 1).val = n) (hn : n < 33)

abbrev next (n : ℕ) : ℕ := min (8 * (n + 1)) 263 * 16
abbrev Ext : FVec Ideal S160x5504 .f32 := k5_pay6 q (blk gu (n * 128) o) (blk gu ((8 * n - 1) * 16) o) (blk gu (next n) o)
abbrev Pre : FVec Ideal S160x5504 .f32 := k5_pay9 q (blk gu (n * 128) o) (blk gu ((8 * n - 1) * 16) o) (blk gu (next n) o) (blk w 0 o) (blk b 0 o)
abbrev Tap : FVec Ideal S160x5504 .f32 := k5_pay10 (blk w 0 o)

include hq hn in
theorem ext (p : Fin 160) (j : Fin 5504) (hp : p.val < 144 ∨ n < 32) :
    Ext q gu n o (ix2 p j) = if 16 ≤ n * 128 + p.val then gu (n * 128 + p.val - 16) (o + j.val) else 0 := by
  unfold Ext k5_pay6 k5_pay4
  refine (three _ _ _ p j).trans ?_
  pointwise
  rw [hq, after_first n hn]
  split
  · rename_i h
    show gu ((8 * n - 1) * 16 + p.val) (o + j.val) * _ = _
    by_cases h0 : n = 0
    · rw [if_pos h0, mul_zero, if_neg (by omega)]
    · rw [if_neg h0, mul_one, if_pos (by omega)]; congr 1; omega
  · split
    · rename_i h h'
      show gu (n * 128 + (p.val - 16)) (o + j.val) = _
      rw [if_pos (by omega)]; congr 1; omega
    · rename_i h h'
      have hp := hp.resolve_left h'
      show gu (min (8 * (n + 1)) 263 * 16 + (p.val - 144)) (o + j.val) = _
      rw [if_pos (by omega)]; congr 1; omega

include hq hn in
theorem lag5 (r : Fin 144) (d : ℕ) (j : Fin 5504) (hr : r.val < 128 ∨ n < 32) (hd : d ≤ 2) (h : (16 + r.val + 160 - d) % 160 < 160) :
    Ext q gu n o (ix2 ⟨(16 + r.val + 160 - d) % 160, h⟩ j) = lag gu d (n * 128 + r.val) (o + j.val) := by
  rw [ext q gu n o hq hn _ j (by dsimp only; omega)]
  dsimp only
  unfold lag
  by_cases h' : d ≤ n * 128 + r.val
  · rw [if_pos (by omega), if_pos h']; congr 1; omega
  · rw [if_neg (by omega), if_neg h']

include hq hn in
theorem conv5 (r : Fin 144) (j : Fin 5504) (hp : r.val < 128 ∨ n < 32) :
    k5_pay11 (Ext q gu n o) (Pre q gu w b n o) (Tap w o) (ix2 r j) = conv gu w b (n * 128 + r.val) (o + j.val) := by
  unfold k5_pay11 Pre Tap k5_pay9 k5_pay10 k5_pay7 k5_pay8
  pointwise
  have h2 := lag5 q gu n o hq hn r 2 j hp le_rfl (by omega)
  have h1 := lag5 q gu n o hq hn r 1 j hp (by norm_num) (by omega)
  have h0 : Ext q gu n o (ix2 ⟨16 + r.val, by omega⟩ j) = gu (n * 128 + r.val) (o + j.val) := by
    rw [ext q gu n o hq hn _ j (by dsimp only; omega)]
    dsimp only
    rw [if_pos (by omega)]; congr 1; omega
  unfold Ext at h2 h1
  rw [h2, h1, h0]
  simp only [mat, zero_add]
  rfl

theorem sg5 (x y z : FVec Ideal S160x5504 .f32) (i : S144x5504.Idx) : k5_pay12 x y z i = sg (k5_pay11 x y z i) := by
  unfold k5_pay12
  pointwise
  rfl

include hq hn in
theorem dc5 (r : Fin 144) (j : Fin 5504) :
    k5_pay13 (k5_pay3 q) (k5_pay5 (blk da (n * 128) o)) (Ext q gu n o) (Pre q gu w b n o) (Tap w o) (blk gu (n * 128) (11008 + o)) (blk gu (next n) (11008 + o)) (blk da (next n) o) (ix2 r j)
      = cap (dconv gu da w b) (n * 128 + r.val) (o + j.val) := by
  unfold k5_pay13 k5_pay3 k5_pay5
  pointwise
  rw [hq, before_last n hn, sg5]
  have hC : (r.val < 128 ∨ n < 32) → k5_pay11 (Ext q gu n o) (Pre q gu w b n o) (Tap w o) (ix2 r j) = conv gu w b (n * 128 + r.val) (o + j.val) :=
    fun h => conv5 q gu w b n o hq hn r j h
  generalize k5_pay11 (Ext q gu n o) (Pre q gu w b n o) (Tap w o) (ix2 r j) = C at hC ⊢
  by_cases hr : r.val < 128
  · have hcap : cap (dconv gu da w b) (n * 128 + r.val) (o + j.val) = dconv gu da w b (n * 128 + r.val) (o + j.val) := if_pos (by omega)
    rw [dif_pos hr, dif_pos hr, hcap, hC (.inl hr)]
    show da (n * 128 + r.val) (o + j.val) * gu (n * 128 + r.val) (11008 + o + j.val) * _ = _
    rw [add_assoc]
    rfl
  · rw [dif_neg hr, dif_neg hr]
    show da (next n + (r.val - 128)) (o + j.val) * (if n < 32 then 1 else 0) * gu (next n + (r.val - 128)) (11008 + o + j.val) * _ = _
    by_cases h : n < 32
    · have hcap : cap (dconv gu da w b) (n * 128 + r.val) (o + j.val) = dconv gu da w b (n * 128 + r.val) (o + j.val) := if_pos (by omega)
      have e : next n + (r.val - 128) = n * 128 + r.val := by unfold next; omega
      rw [hcap, hC (.inr h), if_pos h, e, mul_one, add_assoc]
      rfl
    · have hcap : cap (dconv gu da w b) (n * 128 + r.val) (o + j.val) = 0 := if_neg (by omega)
      rw [hcap, if_neg h, mul_zero, zero_mul, zero_mul]

include hq hn in
theorem du5 (r : Fin 128) (j : Fin 5504) :
    k5_pay14 (k5_pay5 (blk da (n * 128) o)) (Ext q gu n o) (Pre q gu w b n o) (Tap w o) (ix2 r j)
      = dup gu da w b (n * 128 + r.val) (o + j.val) := by
  unfold k5_pay14 k5_pay5
  pointwise
  rw [sg5, conv5 q gu w b n o hq hn _ j (.inl r.isLt)]
  rfl

abbrev Dc : FVec Ideal S144x5504 .f32 := k5_pay13 (k5_pay3 q) (k5_pay5 (blk da (n * 128) o)) (Ext q gu n o) (Pre q gu w b n o) (Tap w o) (blk gu (n * 128) (11008 + o)) (blk gu (next n) (11008 + o)) (blk da (next n) o)

include hq hn in
theorem dg5 (r : Fin 128) (j : Fin 5504) :
    k5_pay17 (Dc q gu da w b n o) (k5_pay15 (k5_pay3 q) (k5_pay5 (blk da (n * 128) o)) (Ext q gu n o) (blk w 0 o) (Pre q gu w b n o) (Tap w o) (blk gu (n * 128) (11008 + o)) (blk gu (next n) (11008 + o)) (blk da (next n) o)) (k5_pay16 (blk w 0 o)) (ix2 r j)
      = dgate gu da w b (n * 128 + r.val) (o + j.val) := by
  unfold Dc k5_pay17 k5_pay15 k5_pay16
  pointwise
  rw [dc5 q gu da w b n o hq hn, dc5 q gu da w b n o hq hn, dc5 q gu da w b n o hq hn]
  have e1 : n * 128 + (r.val + 144 - 143) % 144 = n * 128 + r.val + 1 := by omega
  have e2 : n * 128 + (r.val + 144 - 142) % 144 = n * 128 + r.val + 2 := by omega
  have e0 : cap (dconv gu da w b) (n * 128 + r.val) (o + j.val) = dconv gu da w b (n * 128 + r.val) (o + j.val) := if_pos (by omega)
  dsimp only
  rw [e1, e2, e0]
  simp only [mat, zero_add]
  rfl

include hq hn in
theorem st5 (s : Fin 8) (j : Fin 5504) :
    k5_pay19 (k5_pay4 (blk gu (n * 128) o)) (k5_pay7 q (blk gu (n * 128) o) (blk gu ((8 * n - 1) * 16) o) (blk gu (next n) o))
      (k5_pay8 q (blk gu (n * 128) o) (blk gu ((8 * n - 1) * 16) o) (blk gu (next n) o)) (Dc q gu da w b n o) (ix2 s j)
      = ∑ r : Fin 128, term gu da w b s.val (n * 128 + r.val) (o + j.val) := by
  have hd (x : Fin 128) (h : x.val < 144) : Dc q gu da w b n o (ix2 ⟨x.val, h⟩ j) = dconv gu da w b (n * 128 + x.val) (o + j.val) :=
    (dc5 q gu da w b n o hq hn _ j).trans (if_pos (by dsimp only; omega))
  generalize Dc q gu da w b n o = D at hd ⊢
  unfold k5_pay19 k5_pay4 k5_pay7 k5_pay8
  pointwise
  have h2 (x : Fin 128) := lag5 q gu n o hq hn ⟨x.val, by omega⟩ 2 j (.inl x.isLt) le_rfl (by omega)
  have h1 (x : Fin 128) := lag5 q gu n o hq hn ⟨x.val, by omega⟩ 1 j (.inl x.isLt) (by norm_num) (by omega)
  unfold Ext at h2 h1
  simp only [hd, h2, h1]
  have hs := s.isLt
  unfold term
  have hc (k : ℕ) (hk : k < 8) (x y : EReal) : Scalar.select (IntOp.cmpi CmpIPredicate.eq (BitVec.ofNat 32 s.val) (BitVec.ofNat 32 k)) x y = if s.val = k then x else y := by
    have : ∀ s k : Fin 8, (IntOp.cmpi CmpIPredicate.eq (BitVec.ofNat 32 s.val) (BitVec.ofNat 32 k.val)) = if s.val = k.val then 1#1 else 0#1 := by decide
    rw [this s ⟨k, hk⟩]
    dsimp only
    by_cases h : s.val = k
    · rw [if_pos h, if_pos h]; rfl
    · rw [if_neg h, if_neg h]; rfl
  rw [hc 0 (by norm_num), hc 1 (by norm_num), hc 2 (by norm_num), hc 3 (by norm_num)]
  split_ifs
  all_goals first | rfl | simp
end

end Cert.Ffn

end
-- ==== Proof.FfnBwd.lean ====
/- What the body of the backward call of the gate leaves at every point of its grid, and the three arrays the call leaves. -/
module

public import proofs.«01_k».proof.Proof.FfnBody

@[expose] public section

set_option maxRecDepth 16384

noncomputable section

namespace Cert.Ffn

open Idealize.ShloMosaic Idealize.ShloMosaic.TcCoe Idealize.ShloMosaic.Tactic Idealize.ShloMosaic.Pipeline
open Cert.FfnKernelIdeal Cert.FfnKernelIdeal.Gen

variable (V : (c : Dev nD) → (b : Ref sig .tc) → Buf (Elt Ideal) ((c : Thread nD τ).loc b))
variable (c : Dev nD)

theorem idx5_0 : ∀ t : Fin cfg5.N, win5_0.index t (0 : Fin 2) = t.val % 33 ∧ win5_0.index t (1 : Fin 2) = t.val / 33 :=
  (by decide +kernel : ∀ t : Fin grid5.N, win5_0.index t (0 : Fin 2) = t.val % 33 ∧ win5_0.index t (1 : Fin 2) = t.val / 33)
theorem blk5_0 (t : Fin cfg5.N) {f : ℕ → ℕ → EReal} (h : V c main_v8 = (mat f : Vec Ideal S4224x22016 .bf16)) :
    (iblk5 V c 0 t : Vec Ideal S128x5504 .bf16) = mat fun a b => f ((t.val % 33) * 128 + a) (t.val / 33 * 5504 + b) := by
  have e := idx5_0 t
  funext y
  refine (congrFun h _).trans ?_
  show f (win5_0.index t (0 : Fin 2) * 128 + 1 * (y 0).val) (win5_0.index t (1 : Fin 2) * 5504 + 1 * (y 1).val) = f _ _
  rw [e.1, e.2]
  congr 1 <;> omega

theorem idx5_1 : ∀ t : Fin cfg5.N, win5_1.index t (0 : Fin 2) = 8 * (t.val % 33) - 1 ∧ win5_1.index t (1 : Fin 2) = t.val / 33 :=
  (by decide +kernel : ∀ t : Fin grid5.N, win5_1.index t (0 : Fin 2) = 8 * (t.val % 33) - 1 ∧ win5_1.index t (1 : Fin 2) = t.val / 33)
theorem blk5_1 (t : Fin cfg5.N) {f : ℕ → ℕ → EReal} (h : V c main_v8 = (mat f : Vec Ideal S4224x22016 .bf16)) :
    (iblk5 V c 1 t : Vec Ideal S16x5504 .bf16) = mat fun a b => f ((8 * (t.val % 33) - 1) * 16 + a) (t.val / 33 * 5504 + b) := by
  have e := idx5_1 t
  funext y
  refine (congrFun h _).trans ?_
  show f (win5_1.index t (0 : Fin 2) * 16 + 1 * (y 0).val) (win5_1.index t (1 : Fin 2) * 5504 + 1 * (y 1).val) = f _ _
  rw [e.1, e.2]
  congr 1 <;> omega

theorem idx5_2 : ∀ t : Fin cfg5.N, win5_2.index t (0 : Fin 2) = min (8 * (t.val % 33 + 1)) 263 ∧ win5_2.index t (1 : Fin 2) = t.val / 33 :=
  (by decide +kernel : ∀ t : Fin grid5.N, win5_2.index t (0 : Fin 2) = min (8 * (t.val % 33 + 1)) 263 ∧ win5_2.index t (1 : Fin 2) = t.val / 33)
theorem blk5_2 (t : Fin cfg5.N) {f : ℕ → ℕ → EReal} (h : V c main_v8 = (mat f : Vec Ideal S4224x22016 .bf16)) :
    (iblk5 V c 2 t : Vec Ideal S16x5504 .bf16) = mat fun a b => f (next (t.val % 33) + a) (t.val / 33 * 5504 + b) := by
  have e := idx5_2 t
  funext y
  refine (congrFun h _).trans ?_
  show f (win5_2.index t (0 : Fin 2) * 16 + 1 * (y 0).val) (win5_2.index t (1 : Fin 2) * 5504 + 1 * (y 1).val) = f _ _
  rw [e.1, e.2]
  unfold next
  congr 1 <;> omega

theorem idx5_3 : ∀ t : Fin cfg5.N, win5_3.index t (0 : Fin 2) = t.val % 33 ∧ win5_3.index t (1 : Fin 2) = t.val / 33 + 2 :=
  (by decide +kernel : ∀ t : Fin grid5.N, win5_3.index t (0 : Fin 2) = t.val % 33 ∧ win5_3.index t (1 : Fin 2) = t.val / 33 + 2)
theorem blk5_3 (t : Fin cfg5.N) {f : ℕ → ℕ → EReal} (h : V c main_v8 = (mat f : Vec Ideal S4224x22016 .bf16)) :
    (iblk5 V c 3 t : Vec Ideal S128x5504 .bf16) = mat fun a b => f ((t.val % 33) * 128 + a) (11008 + t.val / 33 * 5504 + b) := by
  have e := idx5_3 t
  funext y
  refine (congrFun h _).trans ?_
  show f (win5_3.index t (0 : Fin 2) * 128 + 1 * (y 0).val) (win5_3.index t (1 : Fin 2) * 5504 + 1 * (y 1).val) = f _ _
  rw [e.1, e.2]
  congr 1 <;> omega

theorem idx5_4 : ∀ t : Fin cfg5.N, win5_4.index t (0 : Fin 2) = min (8 * (t.val % 33 + 1)) 263 ∧ win5_4.index t (1 : Fin 2) = t.val / 33 + 2 :=
  (by decide +kernel : ∀ t : Fin grid5.N, win5_4.index t (0 : Fin 2) = min (8 * (t.val % 33 + 1)) 263 ∧ win5_4.index t (1 : Fin 2) = t.val / 33 + 2)
theorem blk5_4 (t : Fin cfg5.N) {f : ℕ → ℕ → EReal} (h : V c main_v8 = (mat f : Vec Ideal S4224x22016 .bf16)) :
    (iblk5 V c 4 t : Vec Ideal S16x5504 .bf16) = mat fun a b => f (next (t.val % 33) + a) (11008 + t.val / 33 * 5504 + b) := by
  have e := idx5_4 t
  funext y
  refine (congrFun h _).trans ?_
  show f (win5_4.index t (0 : Fin 2) * 16 + 1 * (y 0).val) (win5_4.index t (1 : Fin 2) * 5504 + 1 * (y 1).val) = f _ _
  rw [e.1, e.2]
  unfold next
  congr 1 <;> omega

theorem idx5_5 : ∀ t : Fin cfg5.N, win5_5.index t (0 : Fin 2) = t.val % 33 ∧ win5_5.index t (1 : Fin 2) = t.val / 33 :=
  (by decide +kernel : ∀ t : Fin grid5.N, win5_5.index t (0 : Fin 2) = t.val % 33 ∧ win5_5.index t (1 : Fin 2) = t.val / 33)
theorem blk5_5 (t : Fin cfg5.N) {f : ℕ → ℕ → EReal} (h : V c main_v11 = (mat f : Vec Ideal S4224x11008 .bf16)) :
    (iblk5 V c 5 t : Vec Ideal S128x5504 .bf16) = mat fun a b => f ((t.val % 33) * 128 + a) (t.val / 33 * 5504 + b) := by
  have e := idx5_5 t
  funext y
  refine (congrFun h _).trans ?_
  show f (win5_5.index t (0 : Fin 2) * 128 + 1 * (y 0).val) (win5_5.index t (1 : Fin 2) * 5504 + 1 * (y 1).val) = f _ _
  rw [e.1, e.2]
  congr 1 <;> omega

theorem idx5_6 : ∀ t : Fin cfg5.N, win5_6.index t (0 : Fin 2) = min (8 * (t.val % 33 + 1)) 263 ∧ win5_6.index t (1 : Fin 2) = t.val / 33 :=
  (by decide +kernel : ∀ t : Fin grid5.N, win5_6.index t (0 : Fin 2) = min (8 * (t.val % 33 + 1)) 263 ∧ win5_6.index t (1 : Fin 2) = t.val / 33)
theorem blk5_6 (t : Fin cfg5.N) {f : ℕ → ℕ → EReal} (h : V c main_v11 = (mat f : Vec Ideal S4224x11008 .bf16)) :
    (iblk5 V c 6 t : Vec Ideal S16x5504 .bf16) = mat fun a b => f (next (t.val % 33) + a) (t.val / 33 * 5504 + b) := by
  have e := idx5_6 t
  funext y
  refine (congrFun h _).trans ?_
  show f (win5_6.index t (0 : Fin 2) * 16 + 1 * (y 0).val) (win5_6.index t (1 : Fin 2) * 5504 + 1 * (y 1).val) = f _ _
  rw [e.1, e.2]
  unfold next
  congr 1 <;> omega

theorem idx5_7 : ∀ t : Fin cfg5.N, win5_7.index t (0 : Fin 2) = 0 ∧ win5_7.index t (1 : Fin 2) = t.val / 33 :=
  (by decide +kernel : ∀ t : Fin grid5.N, win5_7.index t (0 : Fin 2) = 0 ∧ win5_7.index t (1 : Fin 2) = t.val / 33)
theorem blk5_7 (t : Fin cfg5.N) {f : ℕ → ℕ → EReal} (h : V c main_arg2 = (mat f : Vec Ideal S3x11008 .f32)) :
    (iblk5 V c 7 t : Vec Ideal S3x5504 .f32) = mat fun a b => f (0 + a) (t.val / 33 * 5504 + b) := by
  have e := idx5_7 t
  funext y
  refine (congrFun h _).trans ?_
  show f (win5_7.index t (0 : Fin 2) * 3 + 1 * (y 0).val) (win5_7.index t (1 : Fin 2) * 5504 + 1 * (y 1).val) = f _ _
  rw [e.1, e.2]
  congr 1 <;> omega

theorem idx5_8 : ∀ t : Fin cfg5.N, win5_8.index t (0 : Fin 2) = 0 ∧ win5_8.index t (1 : Fin 2) = t.val / 33 :=
  (by decide +kernel : ∀ t : Fin grid5.N, win5_8.index t (0 : Fin 2) = 0 ∧ win5_8.index t (1 : Fin 2) = t.val / 33)
theorem blk5_8 (t : Fin cfg5.N) {f : ℕ → ℕ → EReal} (h : V c main_arg3 = (mat f : Vec Ideal S1x11008 .f32)) :
    (iblk5 V c 8 t : Vec Ideal S1x5504 .f32) = mat fun a b => f (0 + a) (t.val / 33 * 5504 + b) := by
  have e := idx5_8 t
  funext y
  refine (congrFun h _).trans ?_
  show f (win5_8.index t (0 : Fin 2) * 1 + 1 * (y 0).val) (win5_8.index t (1 : Fin 2) * 5504 + 1 * (y 1).val) = f _ _
  rw [e.1, e.2]
  congr 1 <;> omega
theorem zz : (![0, 0] : Fin 2 → ℕ) = fun _ => 0 := by decide
theorem foundA_9 (i : grid5.Coords) (arg2 : Memref sig .tc .vmem S128x5504 .bf16) (harg2 : arg2.IsWhole) (arg3 : Memref sig .tc .vmem S16x5504 .bf16) (harg3 : arg3.IsWhole) (arg4 : Memref sig .tc .vmem S16x5504 .bf16) (harg4 : arg4.IsWhole) (arg5 : Memref sig .tc .vmem S128x5504 .bf16) (harg5 : arg5.IsWhole) (arg6 : Memref sig .tc .vmem S16x5504 .bf16) (harg6 : arg6.IsWhole) (arg7 : Memref sig .tc .vmem S128x5504 .bf16) (harg7 : arg7.IsWhole) (arg8 : Memref sig .tc .vmem S16x5504 .bf16) (harg8 : arg8.IsWhole) (arg9 : Memref sig .tc .vmem S3x5504 .f32) (harg9 : arg9.IsWhole) (arg10 : Memref sig .tc .vmem S1x5504 .f32) (harg10 : arg10.IsWhole) (arg11 : Memref sig .tc .vmem S128x5504 .bf16) (harg11 : arg11.IsWhole) (arg12 : Memref sig .tc .vmem S128x5504 .bf16) (harg12 : arg12.IsWhole) (arg13 : Memref sig .tc .vmem S8x5504 .f32) (harg13 : arg13.IsWhole) (hc : cond5_0 i) (x0 : Vec Ideal S128x5504 .bf16) (x1 : Vec Ideal S16x5504 .bf16) (x2 : Vec Ideal S16x5504 .bf16) (x3 : Vec Ideal S128x5504 .bf16) (x4 : Vec Ideal S16x5504 .bf16) (x5 : Vec Ideal S128x5504 .bf16) (x6 : Vec Ideal S16x5504 .bf16) (x7 : Vec Ideal S3x5504 .f32) (x8 : Vec Ideal S1x5504 .f32) :
    out5_A_9 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 = k5_pay17 (k5_pay13 (k5_pay3 i) (k5_pay5 x5) (k5_pay6 i x0 x1 x2) (k5_pay9 i x0 x1 x2 x7 x8) (k5_pay10 x7) x3 x4 x6) (k5_pay15 (k5_pay3 i) (k5_pay5 x5) (k5_pay6 i x0 x1 x2) x7 (k5_pay9 i x0 x1 x2 x7 x8) (k5_pay10 x7) x3 x4 x6) (k5_pay16 x7) := by
  unfold out5_A_9
  rw [View.read_writes_eq_canon _ _ _ (cover5_A_9 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8)]
  unfold kernelRun5_A
  dsimp only
  sl_unfold_words
  rw [View.canon_unit_zero zz]
  simp only [View.readAt_eq_ld, harg2.read_unread, harg3.read_unread, harg4.read_unread, harg5.read_unread, harg6.read_unread, harg7.read_unread, harg8.read_unread, harg9.read_unread, harg10.read_unread, View.ld_unit_zero (S := S128x5504) zz, View.ld_unit_zero (S := S16x5504) zz, View.ld_unit_zero (S := S3x5504) zz, View.ld_unit_zero (S := S1x5504) zz, View.ld_unit_zero (S := S8x5504) zz]
theorem foundA_10 (i : grid5.Coords) (arg2 : Memref sig .tc .vmem S128x5504 .bf16) (harg2 : arg2.IsWhole) (arg3 : Memref sig .tc .vmem S16x5504 .bf16) (harg3 : arg3.IsWhole) (arg4 : Memref sig .tc .vmem S16x5504 .bf16) (harg4 : arg4.IsWhole) (arg5 : Memref sig .tc .vmem S128x5504 .bf16) (harg5 : arg5.IsWhole) (arg6 : Memref sig .tc .vmem S16x5504 .bf16) (harg6 : arg6.IsWhole) (arg7 : Memref sig .tc .vmem S128x5504 .bf16) (harg7 : arg7.IsWhole) (arg8 : Memref sig .tc .vmem S16x5504 .bf16) (harg8 : arg8.IsWhole) (arg9 : Memref sig .tc .vmem S3x5504 .f32) (harg9 : arg9.IsWhole) (arg10 : Memref sig .tc .vmem S1x5504 .f32) (harg10 : arg10.IsWhole) (arg11 : Memref sig .tc .vmem S128x5504 .bf16) (harg11 : arg11.IsWhole) (arg12 : Memref sig .tc .vmem S128x5504 .bf16) (harg12 : arg12.IsWhole) (arg13 : Memref sig .tc .vmem S8x5504 .f32) (harg13 : arg13.IsWhole) (hc : cond5_0 i) (x0 : Vec Ideal S128x5504 .bf16) (x1 : Vec Ideal S16x5504 .bf16) (x2 : Vec Ideal S16x5504 .bf16) (x3 : Vec Ideal S128x5504 .bf16) (x4 : Vec Ideal S16x5504 .bf16) (x5 : Vec Ideal S128x5504 .bf16) (x6 : Vec Ideal S16x5504 .bf16) (x7 : Vec Ideal S3x5504 .f32) (x8 : Vec Ideal S1x5504 .f32) :
    out5_A_10 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 = k5_pay14 (k5_pay5 x5) (k5_pay6 i x0 x1 x2) (k5_pay9 i x0 x1 x2 x7 x8) (k5_pay10 x7) := by
  unfold out5_A_10
  rw [View.read_writes_eq_canon _ _ _ (cover5_A_10 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8)]
  unfold kernelRun5_A
  dsimp only
  sl_unfold_words
  rw [View.canon_unit_zero zz]
  simp only [View.readAt_eq_ld, harg2.read_unread, harg3.read_unread, harg4.read_unread, harg5.read_unread, harg6.read_unread, harg7.read_unread, harg8.read_unread, harg9.read_unread, harg10.read_unread, View.ld_unit_zero (S := S128x5504) zz, View.ld_unit_zero (S := S16x5504) zz, View.ld_unit_zero (S := S3x5504) zz, View.ld_unit_zero (S := S1x5504) zz, View.ld_unit_zero (S := S8x5504) zz]
theorem foundA_11 (i : grid5.Coords) (arg2 : Memref sig .tc .vmem S128x5504 .bf16) (harg2 : arg2.IsWhole) (arg3 : Memref sig .tc .vmem S16x5504 .bf16) (harg3 : arg3.IsWhole) (arg4 : Memref sig .tc .vmem S16x5504 .bf16) (harg4 : arg4.IsWhole) (arg5 : Memref sig .tc .vmem S128x5504 .bf16) (harg5 : arg5.IsWhole) (arg6 : Memref sig .tc .vmem S16x5504 .bf16) (harg6 : arg6.IsWhole) (arg7 : Memref sig .tc .vmem S128x5504 .bf16) (harg7 : arg7.IsWhole) (arg8 : Memref sig .tc .vmem S16x5504 .bf16) (harg8 : arg8.IsWhole) (arg9 : Memref sig .tc .vmem S3x5504 .f32) (harg9 : arg9.IsWhole) (arg10 : Memref sig .tc .vmem S1x5504 .f32) (harg10 : arg10.IsWhole) (arg11 : Memref sig .tc .vmem S128x5504 .bf16) (harg11 : arg11.IsWhole) (arg12 : Memref sig .tc .vmem S128x5504 .bf16) (harg12 : arg12.IsWhole) (arg13 : Memref sig .tc .vmem S8x5504 .f32) (harg13 : arg13.IsWhole) (hc : cond5_0 i) (x0 : Vec Ideal S128x5504 .bf16) (x1 : Vec Ideal S16x5504 .bf16) (x2 : Vec Ideal S16x5504 .bf16) (x3 : Vec Ideal S128x5504 .bf16) (x4 : Vec Ideal S16x5504 .bf16) (x5 : Vec Ideal S128x5504 .bf16) (x6 : Vec Ideal S16x5504 .bf16) (x7 : Vec Ideal S3x5504 .f32) (x8 : Vec Ideal S1x5504 .f32) :
    out5_A_11 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 = k5_pay1 (k5_pay18 k5_pay2) (k5_pay19 (k5_pay4 x0) (k5_pay7 i x0 x1 x2) (k5_pay8 i x0 x1 x2) (k5_pay13 (k5_pay3 i) (k5_pay5 x5) (k5_pay6 i x0 x1 x2) (k5_pay9 i x0 x1 x2 x7 x8) (k5_pay10 x7) x3 x4 x6)) := by
  unfold out5_A_11
  rw [View.read_writes_eq_canon _ _ _ (cover5_A_11 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8)]
  unfold kernelRun5_A
  dsimp only
  sl_unfold_words
  rw [View.canon_cons_unit_zero (S := S8x5504) zz]
  simp only [View.readAt_eq_ld, harg2.read_unread, harg3.read_unread, harg4.read_unread, harg5.read_unread, harg6.read_unread, harg7.read_unread, harg8.read_unread, harg9.read_unread, harg10.read_unread, View.readCov_unit_zero (S := S8x5504) _ zz, View.ld_unit_zero (S := S128x5504) zz, View.ld_unit_zero (S := S16x5504) zz, View.ld_unit_zero (S := S3x5504) zz, View.ld_unit_zero (S := S1x5504) zz, View.ld_unit_zero (S := S8x5504) zz]
theorem foundB_9 (i : grid5.Coords) (arg2 : Memref sig .tc .vmem S128x5504 .bf16) (harg2 : arg2.IsWhole) (arg3 : Memref sig .tc .vmem S16x5504 .bf16) (harg3 : arg3.IsWhole) (arg4 : Memref sig .tc .vmem S16x5504 .bf16) (harg4 : arg4.IsWhole) (arg5 : Memref sig .tc .vmem S128x5504 .bf16) (harg5 : arg5.IsWhole) (arg6 : Memref sig .tc .vmem S16x5504 .bf16) (harg6 : arg6.IsWhole) (arg7 : Memref sig .tc .vmem S128x5504 .bf16) (harg7 : arg7.IsWhole) (arg8 : Memref sig .tc .vmem S16x5504 .bf16) (harg8 : arg8.IsWhole) (arg9 : Memref sig .tc .vmem S3x5504 .f32) (harg9 : arg9.IsWhole) (arg10 : Memref sig .tc .vmem S1x5504 .f32) (harg10 : arg10.IsWhole) (arg11 : Memref sig .tc .vmem S128x5504 .bf16) (harg11 : arg11.IsWhole) (arg12 : Memref sig .tc .vmem S128x5504 .bf16) (harg12 : arg12.IsWhole) (arg13 : Memref sig .tc .vmem S8x5504 .f32) (harg13 : arg13.IsWhole) (hc : ¬cond5_0 i) (x0 : Vec Ideal S128x5504 .bf16) (x1 : Vec Ideal S16x5504 .bf16) (x2 : Vec Ideal S16x5504 .bf16) (x3 : Vec Ideal S128x5504 .bf16) (x4 : Vec Ideal S16x5504 .bf16) (x5 : Vec Ideal S128x5504 .bf16) (x6 : Vec Ideal S16x5504 .bf16) (x7 : Vec Ideal S3x5504 .f32) (x8 : Vec Ideal S1x5504 .f32) (xo : Vec Ideal S8x5504 .f32) :
    out5_B_9 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo = k5_pay17 (k5_pay13 (k5_pay3 i) (k5_pay5 x5) (k5_pay6 i x0 x1 x2) (k5_pay9 i x0 x1 x2 x7 x8) (k5_pay10 x7) x3 x4 x6) (k5_pay15 (k5_pay3 i) (k5_pay5 x5) (k5_pay6 i x0 x1 x2) x7 (k5_pay9 i x0 x1 x2 x7 x8) (k5_pay10 x7) x3 x4 x6) (k5_pay16 x7) := by
  unfold out5_B_9
  rw [View.read_writes_eq_canon _ _ _ (cover5_B_9 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo)]
  unfold kernelRun5_B
  dsimp only
  sl_unfold_words
  rw [View.canon_unit_zero zz]
  simp only [View.readAt_eq_ld, harg2.read_unread, harg3.read_unread, harg4.read_unread, harg5.read_unread, harg6.read_unread, harg7.read_unread, harg8.read_unread, harg9.read_unread, harg10.read_unread, View.ld_unit_zero (S := S128x5504) zz, View.ld_unit_zero (S := S16x5504) zz, View.ld_unit_zero (S := S3x5504) zz, View.ld_unit_zero (S := S1x5504) zz, View.ld_unit_zero (S := S8x5504) zz]
theorem foundB_10 (i : grid5.Coords) (arg2 : Memref sig .tc .vmem S128x5504 .bf16) (harg2 : arg2.IsWhole) (arg3 : Memref sig .tc .vmem S16x5504 .bf16) (harg3 : arg3.IsWhole) (arg4 : Memref sig .tc .vmem S16x5504 .bf16) (harg4 : arg4.IsWhole) (arg5 : Memref sig .tc .vmem S128x5504 .bf16) (harg5 : arg5.IsWhole) (arg6 : Memref sig .tc .vmem S16x5504 .bf16) (harg6 : arg6.IsWhole) (arg7 : Memref sig .tc .vmem S128x5504 .bf16) (harg7 : arg7.IsWhole) (arg8 : Memref sig .tc .vmem S16x5504 .bf16) (harg8 : arg8.IsWhole) (arg9 : Memref sig .tc .vmem S3x5504 .f32) (harg9 : arg9.IsWhole) (arg10 : Memref sig .tc .vmem S1x5504 .f32) (harg10 : arg10.IsWhole) (arg11 : Memref sig .tc .vmem S128x5504 .bf16) (harg11 : arg11.IsWhole) (arg12 : Memref sig .tc .vmem S128x5504 .bf16) (harg12 : arg12.IsWhole) (arg13 : Memref sig .tc .vmem S8x5504 .f32) (harg13 : arg13.IsWhole) (hc : ¬cond5_0 i) (x0 : Vec Ideal S128x5504 .bf16) (x1 : Vec Ideal S16x5504 .bf16) (x2 : Vec Ideal S16x5504 .bf16) (x3 : Vec Ideal S128x5504 .bf16) (x4 : Vec Ideal S16x5504 .bf16) (x5 : Vec Ideal S128x5504 .bf16) (x6 : Vec Ideal S16x5504 .bf16) (x7 : Vec Ideal S3x5504 .f32) (x8 : Vec Ideal S1x5504 .f32) (xo : Vec Ideal S8x5504 .f32) :
    out5_B_10 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo = k5_pay14 (k5_pay5 x5) (k5_pay6 i x0 x1 x2) (k5_pay9 i x0 x1 x2 x7 x8) (k5_pay10 x7) := by
  unfold out5_B_10
  rw [View.read_writes_eq_canon _ _ _ (cover5_B_10 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo)]
  unfold kernelRun5_B
  dsimp only
  sl_unfold_words
  rw [View.canon_unit_zero zz]
  simp only [View.readAt_eq_ld, harg2.read_unread, harg3.read_unread, harg4.read_unread, harg5.read_unread, harg6.read_unread, harg7.read_unread, harg8.read_unread, harg9.read_unread, harg10.read_unread, View.ld_unit_zero (S := S128x5504) zz, View.ld_unit_zero (S := S16x5504) zz, View.ld_unit_zero (S := S3x5504) zz, View.ld_unit_zero (S := S1x5504) zz, View.ld_unit_zero (S := S8x5504) zz]
theorem foundB_11 (i : grid5.Coords) (arg2 : Memref sig .tc .vmem S128x5504 .bf16) (harg2 : arg2.IsWhole) (arg3 : Memref sig .tc .vmem S16x5504 .bf16) (harg3 : arg3.IsWhole) (arg4 : Memref sig .tc .vmem S16x5504 .bf16) (harg4 : arg4.IsWhole) (arg5 : Memref sig .tc .vmem S128x5504 .bf16) (harg5 : arg5.IsWhole) (arg6 : Memref sig .tc .vmem S16x5504 .bf16) (harg6 : arg6.IsWhole) (arg7 : Memref sig .tc .vmem S128x5504 .bf16) (harg7 : arg7.IsWhole) (arg8 : Memref sig .tc .vmem S16x5504 .bf16) (harg8 : arg8.IsWhole) (arg9 : Memref sig .tc .vmem S3x5504 .f32) (harg9 : arg9.IsWhole) (arg10 : Memref sig .tc .vmem S1x5504 .f32) (harg10 : arg10.IsWhole) (arg11 : Memref sig .tc .vmem S128x5504 .bf16) (harg11 : arg11.IsWhole) (arg12 : Memref sig .tc .vmem S128x5504 .bf16) (harg12 : arg12.IsWhole) (arg13 : Memref sig .tc .vmem S8x5504 .f32) (harg13 : arg13.IsWhole) (hc : ¬cond5_0 i) (x0 : Vec Ideal S128x5504 .bf16) (x1 : Vec Ideal S16x5504 .bf16) (x2 : Vec Ideal S16x5504 .bf16) (x3 : Vec Ideal S128x5504 .bf16) (x4 : Vec Ideal S16x5504 .bf16) (x5 : Vec Ideal S128x5504 .bf16) (x6 : Vec Ideal S16x5504 .bf16) (x7 : Vec Ideal S3x5504 .f32) (x8 : Vec Ideal S1x5504 .f32) (xo : Vec Ideal S8x5504 .f32) :
    out5_B_11 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo = k5_pay1 (k5_pay18 xo) (k5_pay19 (k5_pay4 x0) (k5_pay7 i x0 x1 x2) (k5_pay8 i x0 x1 x2) (k5_pay13 (k5_pay3 i) (k5_pay5 x5) (k5_pay6 i x0 x1 x2) (k5_pay9 i x0 x1 x2 x7 x8) (k5_pay10 x7) x3 x4 x6)) := by
  unfold out5_B_11
  rw [View.read_writes_eq_canon _ _ _ (cover5_B_11 c i arg2 harg2 arg3 harg3 arg4 harg4 arg5 harg5 arg6 harg6 arg7 harg7 arg8 harg8 arg9 harg9 arg10 harg10 arg11 harg11 arg12 harg12 arg13 harg13 hc x0 x1 x2 x3 x4 x5 x6 x7 x8 xo)]
  unfold kernelRun5_B
  dsimp only
  sl_unfold_words
  rw [View.canon_unit_zero zz]
  simp only [View.readAt_eq_ld, harg2.read_unread, harg13.read_unread, harg3.read_unread, harg4.read_unread, harg5.read_unread, harg6.read_unread, harg7.read_unread, harg8.read_unread, harg9.read_unread, harg10.read_unread, View.ld_unit_zero (S := S128x5504) zz, View.ld_unit_zero (S := S16x5504) zz, View.ld_unit_zero (S := S3x5504) zz, View.ld_unit_zero (S := S1x5504) zz, View.ld_unit_zero (S := S8x5504) zz]

theorem chunk5 : ∀ t : Fin cfg5.N, (grid5.coords t 1).val = t.val % 33 := (by decide +kernel : ∀ t : Fin grid5.N, (grid5.coords t 1).val = t.val % 33)
theorem split2 {m n : ℕ} (i : (⟨2, ![m, n]⟩ : Shape).Idx) : ∃ r j, i = ix2 r j := ⟨i 0, i 1, by funext a; match a with | ⟨0, _⟩ => rfl | ⟨1, _⟩ => rfl⟩

section
variable {gu da w b : ℕ → ℕ → EReal} (hg : V c main_v8 = (mat gu : Vec Ideal S4224x22016 .bf16)) (hd : V c main_v11 = (mat da : Vec Ideal S4224x11008 .bf16))
  (hw : V c main_arg2 = (mat w : Vec Ideal S3x11008 .f32)) (hb : V c main_arg3 = (mat b : Vec Ideal S1x11008 .f32))
include hg hd hw hb

theorem outs9 (t : Fin cfg5.N) : (outsAt5 V c t.val t.isLt).1 = (mat fun r j => dgate gu da w b (t.val % 33 * 128 + r) (t.val / 33 * 5504 + j) : Vec Ideal S128x5504 .bf16) := by
  by_cases h : t.val % 33 = 0
  · rw [outsAt5_A V c t h]
    dsimp only
    rw [foundA_9 c]
    rw [blk5_0 V c t hg, blk5_1 V c t hg, blk5_2 V c t hg, blk5_3 V c t hg, blk5_4 V c t hg, blk5_5 V c t hd, blk5_6 V c t hd, blk5_7 V c t hw, blk5_8 V c t hb]
    funext i
    obtain ⟨r, j, rfl⟩ := split2 i
    exact dg5 (grid5.coords t) gu da w b (t.val % 33) (t.val / 33 * 5504) (chunk5 t) (by omega) r j
  · rw [outsAt5_B V c t h]
    dsimp only
    rw [foundB_9 c]
    rw [blk5_0 V c t hg, blk5_1 V c t hg, blk5_2 V c t hg, blk5_3 V c t hg, blk5_4 V c t hg, blk5_5 V c t hd, blk5_6 V c t hd, blk5_7 V c t hw, blk5_8 V c t hb]
    funext i
    obtain ⟨r, j, rfl⟩ := split2 i
    exact dg5 (grid5.coords t) gu da w b (t.val % 33) (t.val / 33 * 5504) (chunk5 t) (by omega) r j

theorem outs10 (t : Fin cfg5.N) : (outsAt5 V c t.val t.isLt).2.1 = (mat fun r j => dup gu da w b (t.val % 33 * 128 + r) (t.val / 33 * 5504 + j) : Vec Ideal S128x5504 .bf16) := by
  by_cases h : t.val % 33 = 0
  · rw [outsAt5_A V c t h]
    dsimp only
    rw [foundA_10 c]
    rw [blk5_0 V c t hg, blk5_1 V c t hg, blk5_2 V c t hg, blk5_5 V c t hd, blk5_7 V c t hw, blk5_8 V c t hb]
    funext i
    obtain ⟨r, j, rfl⟩ := split2 i
    exact du5 (grid5.coords t) gu da w b (t.val % 33) (t.val / 33 * 5504) (chunk5 t) (by omega) r j
  · rw [outsAt5_B V c t h]
    dsimp only
    rw [foundB_10 c]
    rw [blk5_0 V c t hg, blk5_1 V c t hg, blk5_2 V c t hg, blk5_5 V c t hd, blk5_7 V c t hw, blk5_8 V c t hb]
    funext i
    obtain ⟨r, j, rfl⟩ := split2 i
    exact du5 (grid5.coords t) gu da w b (t.val % 33) (t.val / 33 * 5504) (chunk5 t) (by omega) r j

theorem outs11 : ∀ (n : ℕ) (hn : n < cfg5.N), (outsAt5 V c n hn).2.2 =
    (mat fun s j => ∑ i ∈ Finset.range ((n % 33 + 1) * 128), term gu da w b s i (n / 33 * 5504 + j) : Vec Ideal S8x5504 .f32) := by
  intro n
  induction n using Nat.strong_induction_on with
  | _ n ih =>
    intro hn
    have key (s : Fin 8) (j : Fin 5504) := st5 (grid5.coords ⟨n, hn⟩) gu da w b (n % 33) (n / 33 * 5504) (chunk5 ⟨n, hn⟩) (by omega) s j
    by_cases h : n % 33 = 0
    · rw [outsAt5_A V c ⟨n, hn⟩ h]
      dsimp only
      rw [foundA_11 c]
      rw [blk5_0 V c ⟨n, hn⟩ hg, blk5_1 V c ⟨n, hn⟩ hg, blk5_2 V c ⟨n, hn⟩ hg, blk5_3 V c ⟨n, hn⟩ hg, blk5_4 V c ⟨n, hn⟩ hg, blk5_5 V c ⟨n, hn⟩ hd, blk5_6 V c ⟨n, hn⟩ hd, blk5_7 V c ⟨n, hn⟩ hw, blk5_8 V c ⟨n, hn⟩ hb]
      funext i
      obtain ⟨s, j, rfl⟩ := split2 i
      unfold k5_pay1 k5_pay18 k5_pay2
      pointwise
      refine (key s j).trans ?_
      show _ = ∑ i ∈ Finset.range ((n % 33 + 1) * 128), term gu da w b s.val i (n / 33 * 5504 + j.val)
      rw [h, Finset.sum_range]
      refine Finset.sum_congr (by norm_num) fun r _ => ?_
      rw [zero_mul, zero_add]
    · rw [outsAt5_B V c ⟨n, hn⟩ h]
      dsimp only
      rw [foundB_11 c, ih (n - 1) (by omega)]
      rw [blk5_0 V c ⟨n, hn⟩ hg, blk5_1 V c ⟨n, hn⟩ hg, blk5_2 V c ⟨n, hn⟩ hg, blk5_3 V c ⟨n, hn⟩ hg, blk5_4 V c ⟨n, hn⟩ hg, blk5_5 V c ⟨n, hn⟩ hd, blk5_6 V c ⟨n, hn⟩ hd, blk5_7 V c ⟨n, hn⟩ hw, blk5_8 V c ⟨n, hn⟩ hb]
      funext i
      obtain ⟨s, j, rfl⟩ := split2 i
      unfold k5_pay1 k5_pay18
      pointwise
      refine (congrArg _ (key s j)).trans ?_
      show (∑ i ∈ Finset.range (((n - 1) % 33 + 1) * 128), term gu da w b s.val i ((n - 1) / 33 * 5504 + j.val)) + _ = ∑ i ∈ Finset.range ((n % 33 + 1) * 128), term gu da w b s.val i (n / 33 * 5504 + j.val)
      have e1 : ((n - 1) % 33 + 1) * 128 = n % 33 * 128 := by omega
      have e2 : (n - 1) / 33 = n / 33 := by omega
      have e3 : (n % 33 + 1) * 128 = n % 33 * 128 + 128 := by omega
      rw [e1, e2, e3, Finset.sum_range_add, Finset.sum_range (n := 128)]

omit hg hd hw hb in
theorem idx5_9 : ∀ t : Fin cfg5.N, win5_9.index t (0 : Fin 2) = t.val % 33 ∧ win5_9.index t (1 : Fin 2) = t.val / 33 :=
  (by decide +kernel : ∀ t : Fin grid5.N, win5_9.index t (0 : Fin 2) = t.val % 33 ∧ win5_9.index t (1 : Fin 2) = t.val / 33)
omit hg hd hw hb in
theorem mem5_9 (t : Fin cfg5.N) (i : S4224x11008.Idx) :
    i ∈ ((cfg5.win 9).blk t).view.set ↔ ∀ a : Fin 2, win5_9.index t a * S128x5504.size a ≤ (i a).val ∧ (i a).val < win5_9.index t a * S128x5504.size a + S128x5504.size a := by
  show i ∈ ((View.whole main_v13_0).slice (win5_9.rect t)).set ↔ _
  rw [View.set_slice_whole, Rect.mem_set_unit]
  exact Iff.rfl
omit hg hd hw hb in
theorem covers5_9 (i : S4224x11008.Idx) : ∃ t : Fin cfg5.N, (cfg5.win 9).flush t = true ∧ i ∈ ((cfg5.win 9).blk t).view.set := by
  have hN : cfg5.N = 66 := N_5
  have h0 : (i 0).val < 4224 := (i 0).isLt; have h1 : (i 1).val < 11008 := (i 1).isLt
  have hlt : (i 1).val / 5504 * 33 + (i 0).val / 128 < cfg5.N := by omega
  refine ⟨⟨(i 1).val / 5504 * 33 + (i 0).val / 128, hlt⟩, flush5_9 _, ?_⟩
  rw [mem5_9]
  have h := idx5_9 ⟨(i 1).val / 5504 * 33 + (i 0).val / 128, hlt⟩
  dsimp only at h
  intro a
  match a with
  | ⟨0, _⟩ => show win5_9.index _ (0 : Fin 2) * 128 ≤ (i 0).val ∧ (i 0).val < win5_9.index _ (0 : Fin 2) * 128 + 128; rw [h.1]; omega
  | ⟨1, _⟩ => show win5_9.index _ (1 : Fin 2) * 5504 ≤ (i 1).val ∧ (i 1).val < win5_9.index _ (1 : Fin 2) * 5504 + 5504; rw [h.2]; omega
theorem arr5_9 : (dat5 V c).arrAt 9 cfg5.N = (mat (dgate gu da w b) : Vec Ideal S4224x11008 .bf16) :=
  (dat5 V c).arrAt_eq_of_cover 9 _ (fun t _ => by
    have e2 : (dat5 V c).flushed 9 t = (cfg5.win 9).cut (grid5.coords t) (outsAt5 V c t.val t.isLt).1 := by
      show (cfg5.win 9).cut (grid5.coords t) ((dat5 V c).after 9 t) = _
      rw [after5_9]
    rw [e2, outs9 V c hg hd hw hb t]
    have h := idx5_9 t
    funext y
    show dgate gu da w b (t.val % 33 * 128 + (y 0).val) (t.val / 33 * 5504 + (y 1).val) = dgate gu da w b (win5_9.index t (0 : Fin 2) * 128 + 1 * (y 0).val) (win5_9.index t (1 : Fin 2) * 5504 + 1 * (y 1).val)
    rw [h.1, h.2, one_mul, one_mul])
    covers5_9

omit hg hd hw hb in
theorem idx5_10 : ∀ t : Fin cfg5.N, win5_10.index t (0 : Fin 2) = t.val % 33 ∧ win5_10.index t (1 : Fin 2) = t.val / 33 :=
  (by decide +kernel : ∀ t : Fin grid5.N, win5_10.index t (0 : Fin 2) = t.val % 33 ∧ win5_10.index t (1 : Fin 2) = t.val / 33)
omit hg hd hw hb in
theorem mem5_10 (t : Fin cfg5.N) (i : S4224x11008.Idx) :
    i ∈ ((cfg5.win 10).blk t).view.set ↔ ∀ a : Fin 2, win5_10.index t a * S128x5504.size a ≤ (i a).val ∧ (i a).val < win5_10.index t a * S128x5504.size a + S128x5504.size a := by
  show i ∈ ((View.whole main_v13_1).slice (win5_10.rect t)).set ↔ _
  rw [View.set_slice_whole, Rect.mem_set_unit]
  exact Iff.rfl
omit hg hd hw hb in
theorem covers5_10 (i : S4224x11008.Idx) : ∃ t : Fin cfg5.N, (cfg5.win 10).flush t = true ∧ i ∈ ((cfg5.win 10).blk t).view.set := by
  have hN : cfg5.N = 66 := N_5
  have h0 : (i 0).val < 4224 := (i 0).isLt; have h1 : (i 1).val < 11008 := (i 1).isLt
  have hlt : (i 1).val / 5504 * 33 + (i 0).val / 128 < cfg5.N := by omega
  refine ⟨⟨(i 1).val / 5504 * 33 + (i 0).val / 128, hlt⟩, flush5_10 _, ?_⟩
  rw [mem5_10]
  have h := idx5_10 ⟨(i 1).val / 5504 * 33 + (i 0).val / 128, hlt⟩
  dsimp only at h
  intro a
  match a with
  | ⟨0, _⟩ => show win5_10.index _ (0 : Fin 2) * 128 ≤ (i 0).val ∧ (i 0).val < win5_10.index _ (0 : Fin 2) * 128 + 128; rw [h.1]; omega
  | ⟨1, _⟩ => show win5_10.index _ (1 : Fin 2) * 5504 ≤ (i 1).val ∧ (i 1).val < win5_10.index _ (1 : Fin 2) * 5504 + 5504; rw [h.2]; omega
theorem arr5_10 : (dat5 V c).arrAt 10 cfg5.N = (mat (dup gu da w b) : Vec Ideal S4224x11008 .bf16) :=
  (dat5 V c).arrAt_eq_of_cover 10 _ (fun t _ => by
    have e2 : (dat5 V c).flushed 10 t = (cfg5.win 10).cut (grid5.coords t) (outsAt5 V c t.val t.isLt).2.1 := by
      show (cfg5.win 10).cut (grid5.coords t) ((dat5 V c).after 10 t) = _
      rw [after5_10]
    rw [e2, outs10 V c hg hd hw hb t]
    have h := idx5_10 t
    funext y
    show dup gu da w b (t.val % 33 * 128 + (y 0).val) (t.val / 33 * 5504 + (y 1).val) = dup gu da w b (win5_10.index t (0 : Fin 2) * 128 + 1 * (y 0).val) (win5_10.index t (1 : Fin 2) * 5504 + 1 * (y 1).val)
    rw [h.1, h.2, one_mul, one_mul])
    covers5_10

omit hg hd hw hb in
theorem idx5_11 : ∀ t : Fin cfg5.N, win5_11.index t (0 : Fin 2) = 0 ∧ win5_11.index t (1 : Fin 2) = t.val / 33 :=
  (by decide +kernel : ∀ t : Fin grid5.N, win5_11.index t (0 : Fin 2) = 0 ∧ win5_11.index t (1 : Fin 2) = t.val / 33)
omit hg hd hw hb in
theorem mem5_11 (t : Fin cfg5.N) (i : S8x11008.Idx) :
    i ∈ ((cfg5.win 11).blk t).view.set ↔ ∀ a : Fin 2, win5_11.index t a * S8x5504.size a ≤ (i a).val ∧ (i a).val < win5_11.index t a * S8x5504.size a + S8x5504.size a := by
  show i ∈ ((View.whole main_v13_2).slice (win5_11.rect t)).set ↔ _
  rw [View.set_slice_whole, Rect.mem_set_unit]
  exact Iff.rfl
omit hg hd hw hb in
theorem covers5_11 (i : S8x11008.Idx) : ∃ t : Fin cfg5.N, (cfg5.win 11).flush t = true ∧ i ∈ ((cfg5.win 11).blk t).view.set := by
  have hN : cfg5.N = 66 := N_5
  have h0 : (i 0).val < 8 := (i 0).isLt; have h1 : (i 1).val < 11008 := (i 1).isLt
  have hlt : (i 1).val / 5504 * 33 + 32 < cfg5.N := by omega
  refine ⟨⟨(i 1).val / 5504 * 33 + 32, hlt⟩, (flush5_11 _).mpr (by dsimp only; omega), ?_⟩
  rw [mem5_11]
  have h := idx5_11 ⟨(i 1).val / 5504 * 33 + 32, hlt⟩
  dsimp only at h
  intro a
  match a with
  | ⟨0, _⟩ => show win5_11.index _ (0 : Fin 2) * 8 ≤ (i 0).val ∧ (i 0).val < win5_11.index _ (0 : Fin 2) * 8 + 8; rw [h.1]; omega
  | ⟨1, _⟩ => show win5_11.index _ (1 : Fin 2) * 5504 ≤ (i 1).val ∧ (i 1).val < win5_11.index _ (1 : Fin 2) * 5504 + 5504; rw [h.2]; omega
theorem arr5_11 : (dat5 V c).arrAt 11 cfg5.N = (mat fun s j => ∑ i ∈ Finset.range 4224, term gu da w b s i j : Vec Ideal S8x11008 .f32) :=
  (dat5 V c).arrAt_eq_of_cover 11 _ (fun t hf => by
    have e2 : (dat5 V c).flushed 11 t = (cfg5.win 11).cut (grid5.coords t) (outsAt5 V c t.val t.isLt).2.2 := by
      show (cfg5.win 11).cut (grid5.coords t) ((dat5 V c).after 11 t) = _
      rw [after5_11]
    have hl := (flush5_11 t).mp hf
    rw [e2, outs11 V c hg hd hw hb t.val t.isLt, hl]
    have h := idx5_11 t
    funext y
    show (∑ i ∈ Finset.range 4224, term gu da w b (y 0).val i (t.val / 33 * 5504 + (y 1).val)) = ∑ i ∈ Finset.range 4224, term gu da w b (win5_11.index t (0 : Fin 2) * 8 + 1 * (y 0).val) i (win5_11.index t (1 : Fin 2) * 5504 + 1 * (y 1).val)
    rw [h.1, h.2, one_mul, one_mul, zero_mul, zero_add])
    covers5_11
end

end Cert.Ffn

end
-- ==== Proof.FfnRun.lean ====
/- What the seven calls of the feed-forward half leave, one after the other: every array in the formulas of the arguments. -/
module

public import proofs.«01_k».proof.Proof.FfnProd
public import proofs.«01_k».proof.Proof.FfnGate
public import proofs.«01_k».proof.Proof.FfnBwd
public import Idealize.ShloMosaic.Lib.StableHlo.ReadAt
public import Idealize.ShloMosaic.Lib.Pointwise

@[expose] public section

set_option maxRecDepth 100000

noncomputable section

namespace Cert.Ffn

open Idealize.ShloMosaic Idealize.ShloMosaic.TcCoe Idealize.ShloMosaic.Tactic
open Idealize.ShloMosaic.StableHlo
open Cert.FfnKernelIdeal Cert.FfnKernelIdeal.Gen
open Cert.Ret (get2 get2_of pad2)

variable (m : (ℓ : Loc nD τ sig) → Buf (Elt Ideal) ℓ) (ρ : Dev nD → PrngReg) (c : Dev nD)

/-- The normed rows under 112 rows of zeros. -/
def kN : ℕ → ℕ → EReal := pad2 (m (c, Proc.devRef .tc main_arg0) : Vec Ideal S4112x4096 .f32)
/-- The output's cotangent under 112 rows of zeros. -/
def kD : ℕ → ℕ → EReal := pad2 (m (c, Proc.devRef .tc main_arg5) : Vec Ideal S4112x4096 .f32)
/-- The weights of the first product. -/
def kU : ℕ → ℕ → EReal := get2 (m (c, Proc.devRef .tc main_arg1) : Vec Ideal S4096x22016 .f32)
/-- The taps. -/
def kw : ℕ → ℕ → EReal := get2 (m (c, Proc.devRef .tc main_arg2) : Vec Ideal S3x11008 .f32)
/-- The bias. -/
def kb : ℕ → ℕ → EReal := get2 (m (c, Proc.devRef .tc main_arg3) : Vec Ideal S1x11008 .f32)
/-- The weights of the second product. -/
def kV : ℕ → ℕ → EReal := get2 (m (c, Proc.devRef .tc main_arg4) : Vec Ideal S11008x4096 .f32)

/-- The first product. -/
def kG : ℕ → ℕ → EReal := mul 4096 (kN m c) (kU m c)
/-- The gated half. -/
def kA : ℕ → ℕ → EReal := act (kG m c) (kw m c) (kb m c)
/-- The gated half's cotangent. -/
def kE : ℕ → ℕ → EReal := mul 4096 (kD m c) (tr (kV m c))
/-- The first product's cotangent: the convolved half's columns, then the other half's. -/
def kH (i j : ℕ) : EReal :=
  if j < 11008 then dgate (kG m c) (kE m c) (kw m c) (kb m c) i j else dup (kG m c) (kE m c) (kw m c) (kb m c) i (j - 11008)

/-! ## Before the first call -/

theorem w1_v2 : (W1 m ρ c (Proc.devRef .tc main_v2) : Vec Ideal S4224x4096 .bf16) = mat (kN m c) := by
  funext i
  obtain ⟨r, b, rfl⟩ : ∃ (r : Fin 4224) (b : Fin 4096), i = ix2 r b := ⟨i 0, i 1, by funext k; fin_cases k <;> rfl⟩
  show _ = pad2 (m (c, Proc.devRef .tc main_arg0) : Vec Ideal S4112x4096 .f32) r.val b.val
  unfold pad2
  by_cases h : r.val < 112
  · rw [if_pos h]; after_reads_at; rw [dif_pos h]; try after_reads_at
  · rw [if_neg h, get2_of _ (by omega) b.isLt]; after_reads_at; rw [dif_neg h]; try after_reads_at
theorem w1_v5 : (W1 m ρ c (Proc.devRef .tc main_v5) : Vec Ideal S4224x4096 .bf16) = mat (kD m c) := by
  funext i
  obtain ⟨r, b, rfl⟩ : ∃ (r : Fin 4224) (b : Fin 4096), i = ix2 r b := ⟨i 0, i 1, by funext k; fin_cases k <;> rfl⟩
  show _ = pad2 (m (c, Proc.devRef .tc main_arg5) : Vec Ideal S4112x4096 .f32) r.val b.val
  unfold pad2
  by_cases h : r.val < 112
  · rw [if_pos h]; after_reads_at; rw [dif_pos h]; try after_reads_at
  · rw [if_neg h, get2_of _ (by omega) b.isLt]; after_reads_at; rw [dif_neg h]; try after_reads_at
theorem w1_v6 : (W1 m ρ c (Proc.devRef .tc main_v6) : Vec Ideal S4096x22016 .bf16) = mat (kU m c) := by
  refine Eq.trans ?_ (mat_get2 _)
  funext i
  obtain ⟨r, b, rfl⟩ : ∃ (r : Fin 4096) (b : Fin 22016), i = ix2 r b := ⟨i 0, i 1, by funext k; fin_cases k <;> rfl⟩
  after_reads_at
theorem w1_v7 : (W1 m ρ c (Proc.devRef .tc main_v7) : Vec Ideal S11008x4096 .bf16) = mat (kV m c) := by
  refine Eq.trans ?_ (mat_get2 _)
  funext i
  obtain ⟨r, b, rfl⟩ : ∃ (r : Fin 11008) (b : Fin 4096), i = ix2 r b := ⟨i 0, i 1, by funext k; fin_cases k <;> rfl⟩
  after_reads_at
theorem w1_w : (W1 m ρ c (Proc.devRef .tc main_arg2) : Vec Ideal S3x11008 .f32) = mat (kw m c) :=
  (W1_of m ρ c main_arg2 (by decide +kernel)).trans (mat_get2 _)
theorem w1_b : (W1 m ρ c (Proc.devRef .tc main_arg3) : Vec Ideal S1x11008 .f32) = mat (kb m c) :=
  (W1_of m ρ c main_arg3 (by decide +kernel)).trans (mat_get2 _)

/-! ## The calls, in their order -/
theorem w2_v8 : (W2 m ρ c (Proc.devRef .tc main_v8) : Vec Ideal S4224x22016 .bf16) = mat (kG m c) :=
  (W2_arr m ρ c 2).trans (arr0 (V1 m ρ) c
    (w1_v2 m ρ c)
    (w1_v6 m ρ c))
theorem w3_v9 : (W3 m ρ c (Proc.devRef .tc main_v9) : Vec Ideal S4224x11008 .bf16) = mat (kA m c) :=
  (W3_arr m ρ c 5).trans (arr1 (V2 m ρ) c
    (w2_v8 m ρ c)
    ((W2_of m ρ c main_arg2 (by decide +kernel)).trans (w1_w m ρ c))
    ((W2_of m ρ c main_arg3 (by decide +kernel)).trans (w1_b m ρ c)))
theorem w4_v10 : (W4 m ρ c (Proc.devRef .tc main_v10) : Vec Ideal S4224x4096 .f32) = mat (mul 11008 (kA m c) (kV m c)) :=
  (W4_arr m ρ c 2).trans (arr2 (V3 m ρ) c
    (w3_v9 m ρ c)
    ((W3_of m ρ c main_v7 (by decide +kernel)).trans ((W2_of m ρ c main_v7 (by decide +kernel)).trans (w1_v7 m ρ c))))
theorem w5_v11 : (W5 m ρ c (Proc.devRef .tc main_v11) : Vec Ideal S4224x11008 .bf16) = mat (kE m c) :=
  (W5_arr m ρ c 2).trans (arr3 (V4 m ρ) c
    ((W4_of m ρ c main_v5 (by decide +kernel)).trans ((W3_of m ρ c main_v5 (by decide +kernel)).trans ((W2_of m ρ c main_v5 (by decide +kernel)).trans (w1_v5 m ρ c))))
    ((W4_of m ρ c main_v7 (by decide +kernel)).trans ((W3_of m ρ c main_v7 (by decide +kernel)).trans ((W2_of m ρ c main_v7 (by decide +kernel)).trans (w1_v7 m ρ c)))))
theorem w6_v12 : (W6 m ρ c (Proc.devRef .tc main_v12) : Vec Ideal S11008x4096 .bf16) = mat (mul 4224 (tr (kA m c)) (kD m c)) :=
  (W6_arr m ρ c 2).trans (arr4 (V5 m ρ) c
    ((W5_of m ρ c main_v9 (by decide +kernel)).trans ((W4_of m ρ c main_v9 (by decide +kernel)).trans (w3_v9 m ρ c)))
    ((W5_of m ρ c main_v5 (by decide +kernel)).trans ((W4_of m ρ c main_v5 (by decide +kernel)).trans ((W3_of m ρ c main_v5 (by decide +kernel)).trans ((W2_of m ρ c main_v5 (by decide +kernel)).trans (w1_v5 m ρ c))))))
theorem w7_v13_0 : (W7 m ρ c (Proc.devRef .tc main_v13_0) : Vec Ideal S4224x11008 .bf16) = mat (dgate (kG m c) (kE m c) (kw m c) (kb m c)) :=
  (W7_arr m ρ c 9).trans (arr5_9 (V6 m ρ) c
    ((W6_of m ρ c main_v8 (by decide +kernel)).trans ((W5_of m ρ c main_v8 (by decide +kernel)).trans ((W4_of m ρ c main_v8 (by decide +kernel)).trans ((W3_of m ρ c main_v8 (by decide +kernel)).trans (w2_v8 m ρ c)))))
    ((W6_of m ρ c main_v11 (by decide +kernel)).trans (w5_v11 m ρ c))
    ((W6_of m ρ c main_arg2 (by decide +kernel)).trans ((W5_of m ρ c main_arg2 (by decide +kernel)).trans ((W4_of m ρ c main_arg2 (by decide +kernel)).trans ((W3_of m ρ c main_arg2 (by decide +kernel)).trans ((W2_of m ρ c main_arg2 (by decide +kernel)).trans (w1_w m ρ c))))))
    ((W6_of m ρ c main_arg3 (by decide +kernel)).trans ((W5_of m ρ c main_arg3 (by decide +kernel)).trans ((W4_of m ρ c main_arg3 (by decide +kernel)).trans ((W3_of m ρ c main_arg3 (by decide +kernel)).trans ((W2_of m ρ c main_arg3 (by decide +kernel)).trans (w1_b m ρ c)))))))
theorem w7_v13_1 : (W7 m ρ c (Proc.devRef .tc main_v13_1) : Vec Ideal S4224x11008 .bf16) = mat (dup (kG m c) (kE m c) (kw m c) (kb m c)) :=
  (W7_arr m ρ c 10).trans (arr5_10 (V6 m ρ) c
    ((W6_of m ρ c main_v8 (by decide +kernel)).trans ((W5_of m ρ c main_v8 (by decide +kernel)).trans ((W4_of m ρ c main_v8 (by decide +kernel)).trans ((W3_of m ρ c main_v8 (by decide +kernel)).trans (w2_v8 m ρ c)))))
    ((W6_of m ρ c main_v11 (by decide +kernel)).trans (w5_v11 m ρ c))
    ((W6_of m ρ c main_arg2 (by decide +kernel)).trans ((W5_of m ρ c main_arg2 (by decide +kernel)).trans ((W4_of m ρ c main_arg2 (by decide +kernel)).trans ((W3_of m ρ c main_arg2 (by decide +kernel)).trans ((W2_of m ρ c main_arg2 (by decide +kernel)).trans (w1_w m ρ c))))))
    ((W6_of m ρ c main_arg3 (by decide +kernel)).trans ((W5_of m ρ c main_arg3 (by decide +kernel)).trans ((W4_of m ρ c main_arg3 (by decide +kernel)).trans ((W3_of m ρ c main_arg3 (by decide +kernel)).trans ((W2_of m ρ c main_arg3 (by decide +kernel)).trans (w1_b m ρ c)))))))
theorem w7_v13_2 : (W7 m ρ c (Proc.devRef .tc main_v13_2) : Vec Ideal S8x11008 .f32) = mat (fun s j => ∑ i ∈ Finset.range 4224, term (kG m c) (kE m c) (kw m c) (kb m c) s i j) :=
  (W7_arr m ρ c 11).trans (arr5_11 (V6 m ρ) c
    ((W6_of m ρ c main_v8 (by decide +kernel)).trans ((W5_of m ρ c main_v8 (by decide +kernel)).trans ((W4_of m ρ c main_v8 (by decide +kernel)).trans ((W3_of m ρ c main_v8 (by decide +kernel)).trans (w2_v8 m ρ c)))))
    ((W6_of m ρ c main_v11 (by decide +kernel)).trans (w5_v11 m ρ c))
    ((W6_of m ρ c main_arg2 (by decide +kernel)).trans ((W5_of m ρ c main_arg2 (by decide +kernel)).trans ((W4_of m ρ c main_arg2 (by decide +kernel)).trans ((W3_of m ρ c main_arg2 (by decide +kernel)).trans ((W2_of m ρ c main_arg2 (by decide +kernel)).trans (w1_w m ρ c))))))
    ((W6_of m ρ c main_arg3 (by decide +kernel)).trans ((W5_of m ρ c main_arg3 (by decide +kernel)).trans ((W4_of m ρ c main_arg3 (by decide +kernel)).trans ((W3_of m ρ c main_arg3 (by decide +kernel)).trans ((W2_of m ρ c main_arg3 (by decide +kernel)).trans (w1_b m ρ c)))))))
theorem w8_v14 : (W8 m ρ c (Proc.devRef .tc main_v14) : Vec Ideal S4224x22016 .bf16) = mat (kH m c) := by
  funext i
  obtain ⟨r, b, rfl⟩ : ∃ (r : Fin 4224) (b : Fin 22016), i = ix2 r b := ⟨i 0, i 1, by funext k; fin_cases k <;> rfl⟩
  show _ = kH m c r.val b.val
  unfold kH
  by_cases h : b.val < 11008
  · rw [if_pos h]
    have e : (W8 m ρ c (Proc.devRef .tc main_v14) : Vec Ideal S4224x22016 .bf16) (ix2 r b)
        = (W7 m ρ c (Proc.devRef .tc main_v13_0) : Vec Ideal S4224x11008 .bf16) (ix2 r ⟨b.val, h⟩) := by
      after_reads_at; rw [dif_pos h]; try after_reads_at
    exact e.trans (congrFun (w7_v13_0 m ρ c) _)
  · rw [if_neg h]
    have e : (W8 m ρ c (Proc.devRef .tc main_v14) : Vec Ideal S4224x22016 .bf16) (ix2 r b)
        = (W7 m ρ c (Proc.devRef .tc main_v13_1) : Vec Ideal S4224x11008 .bf16) (ix2 r ⟨b.val - 11008, by omega⟩) := by
      after_reads_at; rw [dif_neg h]; try after_reads_at
    exact e.trans (congrFun (w7_v13_1 m ρ c) _)
theorem w9_v15 : (W9 m ρ c (Proc.devRef .tc main_v15) : Vec Ideal S4096x22016 .bf16) = mat (mul 4224 (tr (kN m c)) (kH m c)) :=
  (W9_arr m ρ c 2).trans (arr6 (V8 m ρ) c
    ((W8_of m ρ c main_v2 (by decide +kernel)).trans ((W7_of m ρ c main_v2 (by decide +kernel)).trans ((W6_of m ρ c main_v2 (by decide +kernel)).trans ((W5_of m ρ c main_v2 (by decide +kernel)).trans ((W4_of m ρ c main_v2 (by decide +kernel)).trans ((W3_of m ρ c main_v2 (by decide +kernel)).trans ((W2_of m ρ c main_v2 (by decide +kernel)).trans (w1_v2 m ρ c))))))))
    (w8_v14 m ρ c))

/-! ## The results -/

theorem k_f (r : Fin 4112) (b : Fin 4096) : (W10 m ρ c (Proc.devRef .tc main_v16) : Vec Ideal S4112x4096 .f32) (ix2 r b)
    = mul 11008 (kA m c) (kV m c) (112 + r.val) b.val := by
  have e : (W10 m ρ c (Proc.devRef .tc main_v16) : Vec Ideal S4112x4096 .f32) (ix2 r b)
      = (W9 m ρ c (Proc.devRef .tc main_v10) : Vec Ideal S4224x4096 .f32) (ix2 ⟨112 + r.val, by omega⟩ b) := by after_reads_at
  exact e.trans (congrFun ((W9_of m ρ c main_v10 (by decide +kernel)).trans ((W8_of m ρ c main_v10 (by decide +kernel)).trans ((W7_of m ρ c main_v10 (by decide +kernel)).trans ((W6_of m ρ c main_v10 (by decide +kernel)).trans ((W5_of m ρ c main_v10 (by decide +kernel)).trans (w4_v10 m ρ c)))))) _)
theorem k_up : (W10 m ρ c (Proc.devRef .tc main_v15) : Vec Ideal S4096x22016 .bf16) = mat (mul 4224 (tr (kN m c)) (kH m c)) :=
  ((W10_of m ρ c main_v15 (by decide +kernel)).trans (w9_v15 m ρ c))
theorem k_down : (W10 m ρ c (Proc.devRef .tc main_v12) : Vec Ideal S11008x4096 .bf16) = mat (mul 4224 (tr (kA m c)) (kD m c)) :=
  ((W10_of m ρ c main_v12 (by decide +kernel)).trans ((W9_of m ρ c main_v12 (by decide +kernel)).trans ((W8_of m ρ c main_v12 (by decide +kernel)).trans ((W7_of m ρ c main_v12 (by decide +kernel)).trans (w6_v12 m ρ c)))))
theorem k_taps (s : Fin 3) (b : Fin 11008) : (W10 m ρ c (Proc.devRef .tc main_v17) : Vec Ideal S3x11008 .f32) (ix2 s b)
    = ∑ i ∈ Finset.range 4224, term (kG m c) (kE m c) (kw m c) (kb m c) s.val i b.val := by
  have e : (W10 m ρ c (Proc.devRef .tc main_v17) : Vec Ideal S3x11008 .f32) (ix2 s b)
      = (W9 m ρ c (Proc.devRef .tc main_v13_2) : Vec Ideal S8x11008 .f32) (ix2 ⟨s.val, by omega⟩ b) := by after_reads_at
  exact e.trans (congrFun ((W9_of m ρ c main_v13_2 (by decide +kernel)).trans ((W8_of m ρ c main_v13_2 (by decide +kernel)).trans (w7_v13_2 m ρ c))) _)
theorem k_bias (s : Fin 1) (b : Fin 11008) : (W10 m ρ c (Proc.devRef .tc main_v18) : Vec Ideal S1x11008 .f32) (ix2 s b)
    = ∑ i ∈ Finset.range 4224, term (kG m c) (kE m c) (kw m c) (kb m c) 3 i b.val := by
  obtain rfl : s = 0 := Subsingleton.elim _ _
  have e : (W10 m ρ c (Proc.devRef .tc main_v18) : Vec Ideal S1x11008 .f32) (ix2 0 b)
      = (W9 m ρ c (Proc.devRef .tc main_v13_2) : Vec Ideal S8x11008 .f32) (ix2 3 b) := by after_reads_at
  exact e.trans (congrFun ((W9_of m ρ c main_v13_2 (by decide +kernel)).trans ((W8_of m ρ c main_v13_2 (by decide +kernel)).trans (w7_v13_2 m ρ c))) _)

end Cert.Ffn

end
-- ==== Proof.FfnRef.lean ====
/- The reference's arrays, in the formulas of the kernel's: row `r` of the reference is row `112 + r` of the kernel. -/
module

public import proofs.«01_k».proof.Proof.FfnSpec
public import proofs.«01_k».proof.Proof.Rms
public import proofs.«01_k».proof.Proof.Gen.FfnReferenceIdeal.Read
public import Idealize.ShloMosaic.Lib.Pointwise

@[expose] public section

set_option maxRecDepth 100000

noncomputable section

namespace Cert.Ffn

open Idealize.ShloMosaic Idealize.ShloMosaic.TcCoe Idealize.ShloMosaic.Tactic
open Cert.FfnReferenceIdeal Cert.FfnReferenceIdeal.Gen Cert.FfnReferenceIdeal.Read
open Cert.Ret (get2 get2_of pad2)

variable (x0 : (⟨S4112x4096, .f32⟩ : BufTy).Contents (Elt Ideal))
variable (x1 : (⟨S4096x22016, .f32⟩ : BufTy).Contents (Elt Ideal))
variable (x2 : (⟨S3x11008, .f32⟩ : BufTy).Contents (Elt Ideal))
variable (x3 : (⟨S1x11008, .f32⟩ : BufTy).Contents (Elt Ideal))
variable (x4 : (⟨S11008x4096, .f32⟩ : BufTy).Contents (Elt Ideal))
variable (x5 : (⟨S4112x4096, .f32⟩ : BufTy).Contents (Elt Ideal))

theorem pad2_low {n k : ℕ} (x : (⟨2, ![n, k]⟩ : Shape).Idx → EReal) {r : ℕ} (h : r < 112) (j : ℕ) : pad2 x r j = 0 := if_pos h
theorem pad2_high {n k : ℕ} (x : (⟨2, ![n, k]⟩ : Shape).Idx → EReal) (r j : ℕ) : pad2 x (112 + r) j = get2 x r j := by
  unfold pad2
  rw [if_neg (by omega), Nat.add_sub_cancel_left]
theorem one_bits : Ideal.ofBits FTy.f32 0x3F800000#32 = 1 := by
  simp [Ideal.ofBits, Ideal.ieee]
  rw [← EReal.coe_mul]
  norm_num
theorem zero_bits : Ideal.ofBits FTy.f32 0x00000000#32 = 0 := by simp [Ideal.ofBits, Ideal.ieee]

/-- The first product. -/
def rG : ℕ → ℕ → EReal := mul 4096 (pad2 (x0 : Vec Ideal S4112x4096 .f32)) (get2 (x1 : Vec Ideal S4096x22016 .f32))
/-- The gated half's cotangent. -/
def rE : ℕ → ℕ → EReal := mul 4096 (pad2 (x5 : Vec Ideal S4112x4096 .f32)) (tr (get2 (x4 : Vec Ideal S11008x4096 .f32)))
/-- The taps. -/
def rw' : ℕ → ℕ → EReal := get2 (x2 : Vec Ideal S3x11008 .f32)
/-- The bias. -/
def rb : ℕ → ℕ → EReal := get2 (x3 : Vec Ideal S1x11008 .f32)
/-- The convolution. -/
def rC : ℕ → ℕ → EReal := conv (rG x0 x1) (rw' x2) (rb x3)
/-- The gated half. -/
def rA : ℕ → ℕ → EReal := act (rG x0 x1) (rw' x2) (rb x3)
/-- The convolution's cotangent. -/
def rD : ℕ → ℕ → EReal := dconv (rG x0 x1) (rE x4 x5) (rw' x2) (rb x3)

theorem rG_low {r : ℕ} (h : r < 112) (j : ℕ) : rG x0 x1 r j = 0 := by
  show (∑ k : Fin 4096, pad2 (x0 : Vec Ideal S4112x4096 .f32) r k.val * get2 (x1 : Vec Ideal S4096x22016 .f32) k.val j) = 0
  exact Finset.sum_eq_zero fun k _ => by rw [pad2_low _ h]; exact zero_mul _
theorem rE_low {r : ℕ} (h : r < 112) (j : ℕ) : rE x4 x5 r j = 0 := by
  show (∑ k : Fin 4096, pad2 (x5 : Vec Ideal S4112x4096 .f32) r k.val * get2 (x4 : Vec Ideal S11008x4096 .f32) j k.val) = 0
  exact Finset.sum_eq_zero fun k _ => by rw [pad2_low _ h]; exact zero_mul _
theorem rD_low {r : ℕ} (h : r < 112) (j : ℕ) : rD x0 x1 x2 x3 x4 x5 r j = 0 := by
  unfold rD dconv
  rw [rE_low x4 x5 h, zero_mul, zero_mul]

theorem v0 : val_main_v0 (F := Ideal) x0 x1 = mat fun r b => rG x0 x1 (112 + r) b := by
  funext i
  rw [val_main_v0_apply]
  show _ = ∑ k : Fin 4096, pad2 (x0 : Vec Ideal S4112x4096 .f32) (112 + (i 0).val) k.val * get2 (x1 : Vec Ideal S4096x22016 .f32) k.val (i 1).val
  refine Finset.sum_congr rfl fun k _ => ?_
  rw [pad2_high]
  exact congrArg₂ (· * ·) (congrFun (mat_get2 x0) _) (congrFun (mat_get2 x1) _)
theorem v1 : val_main_v1 (F := Ideal) x0 x1 = mat fun r b => rG x0 x1 (112 + r) b := by
  funext i
  rw [val_main_v1_apply, v0]
  rfl
theorem v2 : val_main_v2 (F := Ideal) x0 x1 = mat fun r b => rG x0 x1 (112 + r) (11008 + b) := by
  funext i
  rw [val_main_v2_apply, v0]
  rfl
theorem cat2 (y : Vec Ideal S2x11008 .f32) (x : Vec Ideal S4112x11008 .f32) (s : Fin 4114) (b : Fin 11008) :
    concatenate S4114x11008 0 [⟨S2x11008, y⟩, ⟨S4112x11008, x⟩] concatenates_S2x11008_S4112x11008_S4114x11008_d0 (ix2 s b)
      = if h : s.val < 2 then y (ix2 ⟨s.val, h⟩ b) else x (ix2 ⟨s.val - 2, by omega⟩ b) := by
  pointwise
theorem v4 : val_main_v4 (F := Ideal) x0 x1 = mat fun s b => rG x0 x1 (110 + s) b := by
  funext i
  obtain ⟨s, b, rfl⟩ : ∃ (s : Fin 4114) (b : Fin 11008), i = ix2 s b := ⟨i 0, i 1, by funext k; fin_cases k <;> rfl⟩
  unfold val_main_v4
  rw [cat2, v1]
  show _ = rG x0 x1 (110 + s.val) b.val
  split_ifs with h
  · rw [val_main_v3_apply, val_main_cst_apply, rG_low _ _ (by omega)]
    exact zero_bits
  · show rG x0 x1 (112 + (s.val - 2)) b.val = _
    rw [show 112 + (s.val - 2) = 110 + s.val by omega]
theorem v8 : val_main_v8 (F := Ideal) x0 x1 = mat fun r b => rG x0 x1 (110 + r) b := by
  funext i
  rw [val_main_v8_apply, v4]
  rfl
theorem v16 : val_main_v16 (F := Ideal) x0 x1 = mat fun r b => rG x0 x1 (111 + r) b := by
  funext i
  rw [val_main_v16_apply, v4]
  show rG x0 x1 (110 + (1 + (i 0).val)) (i 1).val = rG x0 x1 (111 + (i 0).val) (i 1).val
  rw [show 110 + (1 + (i 0).val) = 111 + (i 0).val by omega]
theorem v23 : val_main_v23 (F := Ideal) x0 x1 = mat fun r b => rG x0 x1 (112 + r) b := by
  funext i
  rw [val_main_v23_apply, v4]
  show rG x0 x1 (110 + (2 + (i 0).val)) (i 1).val = rG x0 x1 (112 + (i 0).val) (i 1).val
  rw [show 110 + (2 + (i 0).val) = 112 + (i 0).val by omega]
theorem v12 : val_main_v12 (F := Ideal) x2 = mat fun r b => rw' x2 0 b := by
  funext i
  have hb : (i 1).val < 11008 := (i 1).isLt
  rw [val_main_v12_apply, val_main_v11_apply, val_main_v10_apply, val_main_v9_apply]
  refine (congrFun (mat_get2 x2) _).trans ?_
  show get2 _ 0 ((i 1).val % 11008) = get2 _ 0 (i 1).val
  rw [Nat.mod_eq_of_lt hb]
theorem v20 : val_main_v20 (F := Ideal) x2 = mat fun r b => rw' x2 1 b := by
  funext i
  have hb : (i 1).val < 11008 := (i 1).isLt
  rw [val_main_v20_apply, val_main_v19_apply, val_main_v18_apply, val_main_v17_apply]
  refine (congrFun (mat_get2 x2) _).trans ?_
  show get2 _ 1 ((i 1).val % 11008) = get2 _ 1 (i 1).val
  rw [Nat.mod_eq_of_lt hb]
theorem v27 : val_main_v27 (F := Ideal) x2 = mat fun r b => rw' x2 2 b := by
  funext i
  have hb : (i 1).val < 11008 := (i 1).isLt
  rw [val_main_v27_apply, val_main_v26_apply, val_main_v25_apply, val_main_v24_apply]
  refine (congrFun (mat_get2 x2) _).trans ?_
  show get2 _ 2 ((i 1).val % 11008) = get2 _ 2 (i 1).val
  rw [Nat.mod_eq_of_lt hb]
theorem v42 : val_main_v42 (F := Ideal) x2 = mat fun r b => rw' x2 2 b := by
  funext i
  have hb : (i 1).val < 11008 := (i 1).isLt
  rw [val_main_v42_apply, val_main_v26_apply, val_main_v25_apply, val_main_v24_apply]
  refine (congrFun (mat_get2 x2) _).trans ?_
  show get2 _ 2 ((i 1).val % 11008) = get2 _ 2 (i 1).val
  rw [Nat.mod_eq_of_lt hb]
theorem v51 : val_main_v51 (F := Ideal) x2 = mat fun r b => rw' x2 1 b := by
  funext i
  have hb : (i 1).val < 11008 := (i 1).isLt
  rw [val_main_v51_apply, val_main_v19_apply, val_main_v18_apply, val_main_v17_apply]
  refine (congrFun (mat_get2 x2) _).trans ?_
  show get2 _ 1 ((i 1).val % 11008) = get2 _ 1 (i 1).val
  rw [Nat.mod_eq_of_lt hb]
theorem v64 : val_main_v64 (F := Ideal) x2 = mat fun r b => rw' x2 0 b := by
  funext i
  have hb : (i 1).val < 11008 := (i 1).isLt
  rw [val_main_v64_apply, val_main_v11_apply, val_main_v10_apply, val_main_v9_apply]
  refine (congrFun (mat_get2 x2) _).trans ?_
  show get2 _ 0 ((i 1).val % 11008) = get2 _ 0 (i 1).val
  rw [Nat.mod_eq_of_lt hb]
theorem v14 : val_main_v14 (F := Ideal) x3 = mat fun r b => rb x3 0 b := by
  funext i
  have hb : (i 1).val < 11008 := (i 1).isLt
  rw [val_main_v14_apply, val_main_v7_apply, val_main_v6_apply]
  refine (congrFun (mat_get2 x3) _).trans ?_
  show get2 _ 0 ((i 1).val % 11008) = get2 _ 0 (i 1).val
  rw [Nat.mod_eq_of_lt hb]
theorem v29 : val_main_v29 (F := Ideal) x0 x1 x2 x3 = mat fun r b => rC x0 x1 x2 x3 (112 + r) b := by
  funext i
  rw [val_main_v29_apply, val_main_v22_apply, val_main_v15_apply, val_main_v13_apply, val_main_v21_apply, val_main_v28_apply,
    v8, v16, v23, v12, v20, v27, v14]
  show rb x3 0 (i 1).val + rG x0 x1 (110 + (i 0).val) (i 1).val * rw' x2 0 (i 1).val + rG x0 x1 (111 + (i 0).val) (i 1).val * rw' x2 1 (i 1).val
      + rG x0 x1 (112 + (i 0).val) (i 1).val * rw' x2 2 (i 1).val = rC x0 x1 x2 x3 (112 + (i 0).val) (i 1).val
  unfold rC conv lag
  rw [if_pos (by omega), if_pos (by omega), show 112 + (i 0).val - 2 = 110 + (i 0).val by omega, show 112 + (i 0).val - 1 = 111 + (i 0).val by omega,
    mul_comm (rG x0 x1 (110 + (i 0).val) (i 1).val), mul_comm (rG x0 x1 (111 + (i 0).val) (i 1).val), mul_comm (rG x0 x1 (112 + (i 0).val) (i 1).val)]
theorem v30_2 : val_main_v30_2 (F := Ideal) x0 x1 x2 x3 = mat fun r b => sg (rC x0 x1 x2 x3 (112 + r) b) := by
  funext i
  rw [val_main_v30_2_apply, val_main_call0_v4_apply, val_main_call0_cst_0_apply, val_main_call0_v3_apply, val_main_call0_v2_apply,
    val_main_call0_cst_apply, val_main_call0_v1_apply, val_main_call0_v0_apply, v29]
  show Ideal.div (Ideal.ofBits FTy.f32 0x3F800000#32) (Ideal.ofBits FTy.f32 0x3F800000#32 + Ideal.exp (-rC x0 x1 x2 x3 (112 + (i 0).val) (i 1).val)) = _
  rw [one_bits, ← zero_sub]
  rfl
theorem v30_1 : val_main_v30_1 (F := Ideal) x0 x1 x2 x3
    = mat fun r b => sg (rC x0 x1 x2 x3 (112 + r) b) * (1 - sg (rC x0 x1 x2 x3 (112 + r) b)) := by
  funext i
  rw [val_main_v30_1_apply, val_main_call0_v7_apply, val_main_call0_v6_apply, val_main_call0_cst_1_apply, v30_2]
  show sg (rC x0 x1 x2 x3 (112 + (i 0).val) (i 1).val) * (Ideal.ofBits FTy.f32 0x3F800000#32 - sg (rC x0 x1 x2 x3 (112 + (i 0).val) (i 1).val)) = _
  rw [one_bits]
  rfl
theorem v30_0 : val_main_v30_0 (F := Ideal) x0 x1 x2 x3
    = mat fun r b => rC x0 x1 x2 x3 (112 + r) b * sg (rC x0 x1 x2 x3 (112 + r) b) := by
  funext i
  rw [val_main_v30_0_apply, v30_2, v29]
  rfl
theorem v31 : val_main_v31 (F := Ideal) x0 x1 x2 x3 = mat fun r b => rA x0 x1 x2 x3 (112 + r) b := by
  funext i
  rw [val_main_v31_apply, v30_0, v2]
  rfl
/-- The result. -/
theorem r_f : val_main_v32 (F := Ideal) x0 x1 x2 x3 x4 = mat fun r b => mul 11008 (rA x0 x1 x2 x3) (get2 (x4 : Vec Ideal S11008x4096 .f32)) (112 + r) b := by
  funext i
  rw [val_main_v32_apply, v31]
  show _ = ∑ k : Fin 11008, rA x0 x1 x2 x3 (112 + (i 0).val) k.val * get2 (x4 : Vec Ideal S11008x4096 .f32) k.val (i 1).val
  refine Finset.sum_congr rfl fun k _ => ?_
  exact congrArg₂ (· * ·) rfl (congrFun (mat_get2 x4) _)
theorem v35 : val_main_v35 (F := Ideal) x4 x5 = mat fun r b => rE x4 x5 (112 + r) b := by
  funext i
  rw [val_main_v35_apply]
  show _ = ∑ k : Fin 4096, pad2 (x5 : Vec Ideal S4112x4096 .f32) (112 + (i 0).val) k.val * get2 (x4 : Vec Ideal S11008x4096 .f32) (i 1).val k.val
  refine Finset.sum_congr rfl fun k _ => ?_
  rw [pad2_high]
  exact congrArg₂ (· * ·) (congrFun (mat_get2 x5) _) (congrFun (mat_get2 x4) _)

/-- A sum down the kernel's rows is the sum down the reference's when the first 112 add nothing. -/
theorem sum_rows {f : ℕ → EReal} (h : ∀ i, i < 112 → f i = 0) : ∑ i : Fin 4224, f i.val = ∑ r : Fin 4112, f (112 + r.val) := by
  rw [Fin.sum_univ_eq_sum_range f 4224, Fin.sum_univ_eq_sum_range (fun r => f (112 + r)) 4112, show 4224 = 112 + 4112 from rfl,
    Finset.sum_range_add, Finset.sum_eq_zero (fun i hi => h i (Finset.mem_range.1 hi)), zero_add]

/-- The gradient of the second product's weights. -/
theorem r_down : val_main_v82 (F := Ideal) x0 x1 x2 x3 x5 = mat (mul 4224 (tr (rA x0 x1 x2 x3)) (pad2 (x5 : Vec Ideal S4112x4096 .f32))) := by
  funext i
  rw [val_main_v82_apply, val_main_v34_apply]
  refine (val_main_v33_apply x0 x1 x2 x3 x5 _).trans ?_
  rw [v31]
  refine Eq.trans ?_ (sum_rows (f := fun k => rA x0 x1 x2 x3 k (i 0).val * pad2 (x5 : Vec Ideal S4112x4096 .f32) k (i 1).val) fun k hk => by
    rw [pad2_low _ hk]; exact mul_zero _).symm
  refine Finset.sum_congr rfl fun k _ => ?_
  rw [pad2_high, mul_comm]
  exact congrArg₂ (· * ·) rfl (congrFun (mat_get2 x5) _)

theorem pad_2 (y : Vec Ideal S4112x11008 .f32) (z : Vec Ideal S_ .f32) (s : Fin 4114) (b : Fin 11008) :
    pad S4114x11008 ![2, 0] ![0, 0] ![0, 0] y z pads_S4112x11008_S4114x11008_200_000 h_S_ (ix2 s b)
      = if h : 2 ≤ s.val ∧ s.val - 2 < 4112 then y (ix2 ⟨s.val - 2, h.2⟩ b) else z (Shape.Idx.first h_S_) := by
  pointwise
theorem pad_1 (y : Vec Ideal S4112x11008 .f32) (z : Vec Ideal S_ .f32) (s : Fin 4114) (b : Fin 11008) :
    pad S4114x11008 ![1, 0] ![1, 0] ![0, 0] y z pads_S4112x11008_S4114x11008_110_000 h_S_ (ix2 s b)
      = if h : 1 ≤ s.val ∧ s.val - 1 < 4112 then y (ix2 ⟨s.val - 1, h.2⟩ b) else z (Shape.Idx.first h_S_) := by
  pointwise
theorem pad_0 (y : Vec Ideal S4112x11008 .f32) (z : Vec Ideal S_ .f32) (s : Fin 4114) (b : Fin 11008) :
    pad S4114x11008 ![0, 0] ![2, 0] ![0, 0] y z pads_S4112x11008_S4114x11008_020_000 h_S_ (ix2 s b)
      = if h : s.val < 4112 then y (ix2 ⟨s.val, h⟩ b) else z (Shape.Idx.first h_S_) := by
  pointwise
theorem padt_2 (y : Vec Ideal S1x11008 .f32) (z : Vec Ideal S_ .f32) (s : Fin 3) (b : Fin 11008) :
    pad S3x11008 ![2, 0] ![0, 0] ![0, 0] y z pads_S1x11008_S3x11008_200_000 h_S_ (ix2 s b)
      = if h : 2 ≤ s.val ∧ s.val - 2 < 1 then y (ix2 ⟨s.val - 2, h.2⟩ b) else z (Shape.Idx.first h_S_) := by
  pointwise
theorem padt_1 (y : Vec Ideal S1x11008 .f32) (z : Vec Ideal S_ .f32) (s : Fin 3) (b : Fin 11008) :
    pad S3x11008 ![1, 0] ![1, 0] ![0, 0] y z pads_S1x11008_S3x11008_110_000 h_S_ (ix2 s b)
      = if h : 1 ≤ s.val ∧ s.val - 1 < 1 then y (ix2 ⟨s.val - 1, h.2⟩ b) else z (Shape.Idx.first h_S_) := by
  pointwise
theorem padt_0 (y : Vec Ideal S1x11008 .f32) (z : Vec Ideal S_ .f32) (s : Fin 3) (b : Fin 11008) :
    pad S3x11008 ![0, 0] ![2, 0] ![0, 0] y z pads_S1x11008_S3x11008_020_000 h_S_ (ix2 s b)
      = if h : s.val < 1 then y (ix2 ⟨s.val, h⟩ b) else z (Shape.Idx.first h_S_) := by
  pointwise
theorem padc_1 (y : Vec Ideal S4112x11008 .f32) (z : Vec Ideal S_ .f32) (s : Fin 4112) (b : Fin 22016) :
    pad S4112x22016 ![0, 11008] ![0, 0] ![0, 0] y z pads_S4112x11008_S4112x22016_000_1100800 h_S_ (ix2 s b)
      = if h : 11008 ≤ b.val ∧ b.val - 11008 < 11008 then y (ix2 s ⟨b.val - 11008, h.2⟩) else z (Shape.Idx.first h_S_) := by
  pointwise
theorem padc_0 (y : Vec Ideal S4112x11008 .f32) (z : Vec Ideal S_ .f32) (s : Fin 4112) (b : Fin 22016) :
    pad S4112x22016 ![0, 0] ![0, 11008] ![0, 0] y z pads_S4112x11008_S4112x22016_000_0110080 h_S_ (ix2 s b)
      = if h : b.val < 11008 then y (ix2 s ⟨b.val, h⟩) else z (Shape.Idx.first h_S_) := by
  pointwise
/-! ## The gradients of the gate -/

theorem v36 : val_main_v36 (F := Ideal) x0 x1 x2 x3 x4 x5 = mat fun r b => dup (rG x0 x1) (rE x4 x5) (rw' x2) (rb x3) (112 + r) b := by
  funext i
  rw [val_main_v36_apply, v30_0, v35]
  exact mul_comm _ _
theorem v37 : val_main_v37 (F := Ideal) x0 x1 x4 x5 = mat fun r b => rE x4 x5 (112 + r) b * rG x0 x1 (112 + r) (11008 + b) := by
  funext i
  rw [val_main_v37_apply, v35, v2]
  rfl

variable (hr : ∀ r b : ℕ, ∃ a : ℝ, rE x4 x5 r b * rG x0 x1 r (11008 + b) = (a : EReal))
include hr

theorem v38 : val_main_v38 (F := Ideal) x0 x1 x2 x3 x4 x5 = mat fun r b => rD x0 x1 x2 x3 x4 x5 (112 + r) b := by
  funext i
  rw [val_main_v38_apply, val_main_call1_v1_apply, val_main_call1_v2_apply, val_main_call1_v0_apply, v37, v30_2, v30_1, v29]
  obtain ⟨a, ha⟩ := hr (112 + (i 0).val) (i 1).val
  show rE x4 x5 (112 + (i 0).val) (i 1).val * rG x0 x1 (112 + (i 0).val) (11008 + (i 1).val) * sg (rC x0 x1 x2 x3 (112 + (i 0).val) (i 1).val)
      + rC x0 x1 x2 x3 (112 + (i 0).val) (i 1).val * (rE x4 x5 (112 + (i 0).val) (i 1).val * rG x0 x1 (112 + (i 0).val) (11008 + (i 1).val))
        * (sg (rC x0 x1 x2 x3 (112 + (i 0).val) (i 1).val) * (1 - sg (rC x0 x1 x2 x3 (112 + (i 0).val) (i 1).val)))
    = rE x4 x5 (112 + (i 0).val) (i 1).val * rG x0 x1 (112 + (i 0).val) (11008 + (i 1).val)
        * (sg (rC x0 x1 x2 x3 (112 + (i 0).val) (i 1).val) * (1 + rC x0 x1 x2 x3 (112 + (i 0).val) (i 1).val * (1 - sg (rC x0 x1 x2 x3 (112 + (i 0).val) (i 1).val))))
  rw [ha]
  exact Cert.Ret.gate a _
theorem v43 : val_main_v43 (F := Ideal) x0 x1 x2 x3 x4 x5 = mat fun r b => rw' x2 2 b * rD x0 x1 x2 x3 x4 x5 (112 + r) b := by
  funext i
  rw [val_main_v43_apply, v38 x0 x1 x2 x3 x4 x5 hr, v42]
  exact mul_comm _ _
theorem v52 : val_main_v52 (F := Ideal) x0 x1 x2 x3 x4 x5 = mat fun r b => rw' x2 1 b * rD x0 x1 x2 x3 x4 x5 (112 + r) b := by
  funext i
  rw [val_main_v52_apply, v38 x0 x1 x2 x3 x4 x5 hr, v51]
  exact mul_comm _ _
theorem v65 : val_main_v65 (F := Ideal) x0 x1 x2 x3 x4 x5 = mat fun r b => rw' x2 0 b * rD x0 x1 x2 x3 x4 x5 (112 + r) b := by
  funext i
  rw [val_main_v65_apply, v38 x0 x1 x2 x3 x4 x5 hr, v64]
  exact mul_comm _ _
theorem v39 : val_main_v39 (F := Ideal) x0 x1 x2 x3 x4 x5 = mat fun r b => rD x0 x1 x2 x3 x4 x5 (112 + r) b * rG x0 x1 (112 + r) b := by
  funext i
  rw [val_main_v39_apply, v38 x0 x1 x2 x3 x4 x5 hr, v23]
  exact mul_comm _ _
theorem v48 : val_main_v48 (F := Ideal) x0 x1 x2 x3 x4 x5 = mat fun r b => rD x0 x1 x2 x3 x4 x5 (112 + r) b * rG x0 x1 (111 + r) b := by
  funext i
  rw [val_main_v48_apply, v38 x0 x1 x2 x3 x4 x5 hr, v16]
  exact mul_comm _ _
theorem v61 : val_main_v61 (F := Ideal) x0 x1 x2 x3 x4 x5 = mat fun r b => rD x0 x1 x2 x3 x4 x5 (112 + r) b * rG x0 x1 (110 + r) b := by
  funext i
  rw [val_main_v61_apply, v38 x0 x1 x2 x3 x4 x5 hr, v8]
  exact mul_comm _ _
theorem v47 (s : Fin 4114) (b : Fin 11008) : val_main_v47 (F := Ideal) x0 x1 x2 x3 x4 x5 (ix2 s b)
    = if 2 ≤ s.val ∧ s.val - 2 < 4112 then rw' x2 2 b.val * rD x0 x1 x2 x3 x4 x5 (112 + (s.val - 2)) b.val else 0 := by
  unfold val_main_v47
  rw [pad_2, v43 x0 x1 x2 x3 x4 x5 hr]
  split_ifs with h
  · rfl
  · rw [val_main_cst_4_apply]; exact zero_bits
theorem v57 (s : Fin 4114) (b : Fin 11008) : val_main_v57 (F := Ideal) x0 x1 x2 x3 x4 x5 (ix2 s b)
    = if 1 ≤ s.val ∧ s.val - 1 < 4112 then rw' x2 1 b.val * rD x0 x1 x2 x3 x4 x5 (112 + (s.val - 1)) b.val else 0 := by
  unfold val_main_v57
  rw [pad_1, v52 x0 x1 x2 x3 x4 x5 hr]
  split_ifs with h
  · rfl
  · rw [val_main_cst_8_apply]; exact zero_bits
theorem v70 (s : Fin 4114) (b : Fin 11008) : val_main_v70 (F := Ideal) x0 x1 x2 x3 x4 x5 (ix2 s b)
    = if s.val < 4112 then rw' x2 0 b.val * rD x0 x1 x2 x3 x4 x5 (112 + (s.val)) b.val else 0 := by
  unfold val_main_v70
  rw [pad_0, v65 x0 x1 x2 x3 x4 x5 hr]
  split_ifs with h
  · rfl
  · rw [val_main_cst_13_apply]; exact zero_bits
theorem v75 : val_main_v75 (F := Ideal) x0 x1 x2 x3 x4 x5 = mat fun r b => dgate (rG x0 x1) (rE x4 x5) (rw' x2) (rb x3) (112 + r) b := by
  funext i
  obtain ⟨r, b, rfl⟩ : ∃ (r : Fin 4112) (b : Fin 11008), i = ix2 r b := ⟨i 0, i 1, by funext k; fin_cases k <;> rfl⟩
  have e : idx_main_v75 (ix2 r b) = ix2 ⟨2 + r.val, by omega⟩ b := by funext k; fin_cases k <;> rfl
  rw [val_main_v75_apply, e, val_main_v71_apply, val_main_v58_apply, v47 x0 x1 x2 x3 x4 x5 hr, v57 x0 x1 x2 x3 x4 x5 hr, v70 x0 x1 x2 x3 x4 x5 hr]
  show (if 2 ≤ 2 + r.val ∧ 2 + r.val - 2 < 4112 then rw' x2 2 b.val * rD x0 x1 x2 x3 x4 x5 (112 + (2 + r.val - 2)) b.val else 0)
      + (if 1 ≤ 2 + r.val ∧ 2 + r.val - 1 < 4112 then rw' x2 1 b.val * rD x0 x1 x2 x3 x4 x5 (112 + (2 + r.val - 1)) b.val else 0)
      + (if 2 + r.val < 4112 then rw' x2 0 b.val * rD x0 x1 x2 x3 x4 x5 (112 + (2 + r.val)) b.val else 0)
    = rw' x2 2 b.val * rD x0 x1 x2 x3 x4 x5 (112 + r.val) b.val + rw' x2 1 b.val * cap (rD x0 x1 x2 x3 x4 x5) (112 + r.val + 1) b.val
      + rw' x2 0 b.val * cap (rD x0 x1 x2 x3 x4 x5) (112 + r.val + 2) b.val
  unfold cap
  rw [if_pos ⟨by omega, by omega⟩, show 112 + (2 + r.val - 2) = 112 + r.val by omega, show 112 + (2 + r.val - 1) = 112 + r.val + 1 by omega,
    show 112 + (2 + r.val) = 112 + r.val + 2 by omega]
  congr 1
  · congr 1
    by_cases h : r.val + 1 < 4112
    · rw [if_pos ⟨by omega, by omega⟩, if_pos (by omega)]
    · rw [if_neg (by omega), if_neg (by omega), mul_zero]
  · by_cases h : r.val + 2 < 4112
    · rw [if_pos (by omega), if_pos (by omega)]
    · rw [if_neg (by omega), if_neg (by omega), mul_zero]
/-- The first product's cotangent: the convolved half's columns, then the other half's. -/
def rH (i j : ℕ) : EReal :=
  if j < 11008 then dgate (rG x0 x1) (rE x4 x5) (rw' x2) (rb x3) i j else dup (rG x0 x1) (rE x4 x5) (rw' x2) (rb x3) i (j - 11008)
theorem v78 : val_main_v78 (F := Ideal) x0 x1 x2 x3 x4 x5 = mat fun r b => rH x0 x1 x2 x3 x4 x5 (112 + r) b := by
  funext i
  obtain ⟨r, b, rfl⟩ : ∃ (r : Fin 4112) (b : Fin 22016), i = ix2 r b := ⟨i 0, i 1, by funext k; fin_cases k <;> rfl⟩
  rw [val_main_v78_apply]
  unfold val_main_v76 val_main_v77
  rw [padc_1, padc_0, v36, v75 x0 x1 x2 x3 x4 x5 hr, val_main_cst_15_apply, val_main_cst_16_apply]
  show (if h : 11008 ≤ b.val ∧ b.val - 11008 < 11008 then dup (rG x0 x1) (rE x4 x5) (rw' x2) (rb x3) (112 + r.val) (b.val - 11008) else Ideal.ofBits FTy.f32 0x00000000#32)
      + (if h : b.val < 11008 then dgate (rG x0 x1) (rE x4 x5) (rw' x2) (rb x3) (112 + r.val) b.val else Ideal.ofBits FTy.f32 0x00000000#32)
    = rH x0 x1 x2 x3 x4 x5 (112 + r.val) b.val
  unfold rH
  rw [zero_bits]
  by_cases h : b.val < 11008
  · rw [dif_neg (by omega), dif_pos h, if_pos h, zero_add]
  · rw [dif_pos ⟨by omega, by omega⟩, dif_neg h, if_neg h, add_zero]
/-- The gradient of the first product's weights. -/
theorem r_up : val_main_v81 (F := Ideal) x0 x1 x2 x3 x4 x5 = mat (mul 4224 (tr (pad2 (x0 : Vec Ideal S4112x4096 .f32))) (rH x0 x1 x2 x3 x4 x5)) := by
  funext i
  rw [val_main_v81_apply, val_main_v80_apply]
  refine (val_main_v79_apply x0 x1 x2 x3 x4 x5 _).trans ?_
  rw [v78 x0 x1 x2 x3 x4 x5 hr]
  refine Eq.trans ?_ (sum_rows (f := fun k => pad2 (x0 : Vec Ideal S4112x4096 .f32) k (i 0).val * rH x0 x1 x2 x3 x4 x5 k (i 1).val) fun k hk => by
    rw [pad2_low _ hk]; exact zero_mul _).symm
  refine Finset.sum_congr rfl fun k _ => ?_
  rw [pad2_high, mul_comm]
  exact congrArg₂ (· * ·) (congrFun (mat_get2 x0) _) rfl

/-! ## The gradients of the taps and of the bias -/

/-- What a row adds to the sums, the reference's rows and the kernel's. -/
theorem sum_term (s b : ℕ) : ∑ r : Fin 4112, term (rG x0 x1) (rE x4 x5) (rw' x2) (rb x3) s (112 + r.val) b
    = ∑ i ∈ Finset.range 4224, term (rG x0 x1) (rE x4 x5) (rw' x2) (rb x3) s i b := by
  rw [← Fin.sum_univ_eq_sum_range (fun i => term (rG x0 x1) (rE x4 x5) (rw' x2) (rb x3) s i b) 4224]
  refine (sum_rows (f := fun i => term (rG x0 x1) (rE x4 x5) (rw' x2) (rb x3) s i b) fun i hi => ?_).symm
  have h0 := rD_low x0 x1 x2 x3 x4 x5 hi b
  unfold rD at h0
  show term _ _ _ _ s i b = 0
  unfold term
  rw [h0, zero_mul, zero_mul, zero_mul]
  split_ifs <;> rfl
section
omit hr
theorem term_0 (i b : ℕ) : term (rG x0 x1) (rE x4 x5) (rw' x2) (rb x3) 0 i b = rD x0 x1 x2 x3 x4 x5 i b * lag (rG x0 x1) 2 i b := by
  unfold term
  rw [if_pos rfl]; rfl
theorem term_1 (i b : ℕ) : term (rG x0 x1) (rE x4 x5) (rw' x2) (rb x3) 1 i b = rD x0 x1 x2 x3 x4 x5 i b * lag (rG x0 x1) 1 i b := by
  unfold term
  rw [if_neg (by decide), if_pos rfl]; rfl
theorem term_2 (i b : ℕ) : term (rG x0 x1) (rE x4 x5) (rw' x2) (rb x3) 2 i b = rD x0 x1 x2 x3 x4 x5 i b * rG x0 x1 i b := by
  unfold term
  rw [if_neg (by decide), if_neg (by decide), if_pos rfl]; rfl
theorem term_3 (i b : ℕ) : term (rG x0 x1) (rE x4 x5) (rw' x2) (rb x3) 3 i b = rD x0 x1 x2 x3 x4 x5 i b := by
  unfold term
  rw [if_neg (by decide), if_neg (by decide), if_neg (by decide), if_pos rfl]; rfl
end
theorem v45 (i : S1x11008.Idx) : val_main_v45 (F := Ideal) x0 x1 x2 x3 x4 x5 i
    = ∑ i' ∈ Finset.range 4224, term (rG x0 x1) (rE x4 x5) (rw' x2) (rb x3) 2 i' (i 1).val := by
  have hb : (i 1).val < 11008 := (i 1).isLt
  rw [val_main_v45_apply, val_main_v44_apply, val_main_cst_2_apply, Fin.sum_univ_one, val_main_v41_apply, val_main_v40_apply, val_main_cst_1_apply,
    v39 x0 x1 x2 x3 x4 x5 hr, ← sum_term x0 x1 x2 x3 x4 x5 hr]
  show Ideal.ofBits FTy.f32 0x00000000#32 + (Ideal.ofBits FTy.f32 0x00000000#32 + ∑ r : Fin 4112, _) = _
  rw [zero_bits, zero_add, zero_add]
  refine Finset.sum_congr rfl fun r _ => ?_
  rw [term_2]
  show rD x0 x1 x2 x3 x4 x5 (112 + r.val) (0 * 11008 + (i 1).val) * rG x0 x1 (112 + r.val) (0 * 11008 + (i 1).val) = rD x0 x1 x2 x3 x4 x5 (112 + r.val) (i 1).val * rG x0 x1 (112 + r.val) (i 1).val
  rw [Nat.zero_mul, Nat.zero_add]
theorem v54 (i : S1x11008.Idx) : val_main_v54 (F := Ideal) x0 x1 x2 x3 x4 x5 i
    = ∑ i' ∈ Finset.range 4224, term (rG x0 x1) (rE x4 x5) (rw' x2) (rb x3) 1 i' (i 1).val := by
  have hb : (i 1).val < 11008 := (i 1).isLt
  rw [val_main_v54_apply, val_main_v53_apply, val_main_cst_6_apply, Fin.sum_univ_one, val_main_v50_apply, val_main_v49_apply, val_main_cst_5_apply,
    v48 x0 x1 x2 x3 x4 x5 hr, ← sum_term x0 x1 x2 x3 x4 x5 hr]
  show Ideal.ofBits FTy.f32 0x00000000#32 + (Ideal.ofBits FTy.f32 0x00000000#32 + ∑ r : Fin 4112, _) = _
  rw [zero_bits, zero_add, zero_add]
  refine Finset.sum_congr rfl fun r _ => ?_
  rw [term_1]
  show rD x0 x1 x2 x3 x4 x5 (112 + r.val) (0 * 11008 + (i 1).val) * rG x0 x1 (111 + r.val) (0 * 11008 + (i 1).val) = rD x0 x1 x2 x3 x4 x5 (112 + r.val) (i 1).val * lag (rG x0 x1) 1 (112 + r.val) (i 1).val
  rw [Nat.zero_mul, Nat.zero_add]
  unfold lag
  rw [if_pos (by omega), show 112 + r.val - 1 = 111 + r.val by omega]
theorem v67 (i : S1x11008.Idx) : val_main_v67 (F := Ideal) x0 x1 x2 x3 x4 x5 i
    = ∑ i' ∈ Finset.range 4224, term (rG x0 x1) (rE x4 x5) (rw' x2) (rb x3) 0 i' (i 1).val := by
  have hb : (i 1).val < 11008 := (i 1).isLt
  rw [val_main_v67_apply, val_main_v66_apply, val_main_cst_11_apply, Fin.sum_univ_one, val_main_v63_apply, val_main_v62_apply, val_main_cst_10_apply,
    v61 x0 x1 x2 x3 x4 x5 hr, ← sum_term x0 x1 x2 x3 x4 x5 hr]
  show Ideal.ofBits FTy.f32 0x00000000#32 + (Ideal.ofBits FTy.f32 0x00000000#32 + ∑ r : Fin 4112, _) = _
  rw [zero_bits, zero_add, zero_add]
  refine Finset.sum_congr rfl fun r _ => ?_
  rw [term_0]
  show rD x0 x1 x2 x3 x4 x5 (112 + r.val) (0 * 11008 + (i 1).val) * rG x0 x1 (110 + r.val) (0 * 11008 + (i 1).val) = rD x0 x1 x2 x3 x4 x5 (112 + r.val) (i 1).val * lag (rG x0 x1) 2 (112 + r.val) (i 1).val
  rw [Nat.zero_mul, Nat.zero_add]
  unfold lag
  rw [if_pos (by omega), show 112 + r.val - 2 = 110 + r.val by omega]
theorem v73 (i : S1x11008.Idx) : val_main_v73 (F := Ideal) x0 x1 x2 x3 x4 x5 i
    = ∑ i' ∈ Finset.range 4224, term (rG x0 x1) (rE x4 x5) (rw' x2) (rb x3) 3 i' (i 1).val := by
  have hb : (i 1).val < 11008 := (i 1).isLt
  rw [val_main_v73_apply, val_main_v72_apply, val_main_cst_14_apply, Fin.sum_univ_one, val_main_v60_apply, val_main_v59_apply, val_main_cst_9_apply,
    v38 x0 x1 x2 x3 x4 x5 hr, ← sum_term x0 x1 x2 x3 x4 x5 hr]
  show Ideal.ofBits FTy.f32 0x00000000#32 + (Ideal.ofBits FTy.f32 0x00000000#32 + ∑ r : Fin 4112, _) = _
  rw [zero_bits, zero_add, zero_add]
  refine Finset.sum_congr rfl fun r _ => ?_
  rw [term_3]
  show rD x0 x1 x2 x3 x4 x5 (112 + r.val) (0 * 11008 + (i 1).val) = rD x0 x1 x2 x3 x4 x5 (112 + r.val) (i 1).val
  rw [Nat.zero_mul, Nat.zero_add]
/-- The gradient of the taps. -/
theorem r_taps (s : Fin 3) (b : Fin 11008) : val_main_v69 (F := Ideal) x0 x1 x2 x3 x4 x5 (ix2 s b)
    = ∑ i ∈ Finset.range 4224, term (rG x0 x1) (rE x4 x5) (rw' x2) (rb x3) s.val i b.val := by
  rw [val_main_v69_apply, val_main_v56_apply]
  unfold val_main_v46 val_main_v55 val_main_v68
  rw [padt_2, padt_1, padt_0, val_main_cst_3_apply, val_main_cst_7_apply, val_main_cst_12_apply]
  simp only [v45 x0 x1 x2 x3 x4 x5 hr, v54 x0 x1 x2 x3 x4 x5 hr, v67 x0 x1 x2 x3 x4 x5 hr]
  have z : (FloatOps.ofBits (F := Ideal) .f32 0x00000000#32 : EReal) = 0 := zero_bits
  have ad : ∀ x y : EReal, (FloatOps.addf (F := Ideal) (φ := .f32) x y : EReal) = x + y := fun _ _ => rfl
  rw [ad, ad, z]
  fin_cases s
  · rw [dif_neg (by decide), dif_neg (by decide), dif_pos (by decide), zero_add, zero_add]; rfl
  · rw [dif_neg (by decide), dif_pos (by decide), dif_neg (by decide), zero_add, add_zero]; rfl
  · rw [dif_pos (by decide), dif_neg (by decide), dif_neg (by decide), add_zero, add_zero]; rfl

end Cert.Ffn

end
-- ==== Proof.FfnFinite.lean ====
/- What the precondition of the feed-forward half says, and what follows: the gated half's cotangent times the other half is a number. -/
module

public import proofs.«01_k».proof.Pre_ffn_finite
public import proofs.«01_k».proof.Proof.Finite
public import proofs.«01_k».proof.Proof.FfnRef

@[expose] public section

noncomputable section

namespace Cert.Ffn

open Idealize.ShloMosaic
open Cert.Pre_ffn_finite
open Cert.Ret (get2 get2_of pad2 real_of_lt)

/-- An extended real that is a number. -/
def Num (x : EReal) : Prop := ∃ a : ℝ, x = (a : EReal)

theorem Num.zero : Num 0 := ⟨0, rfl⟩
theorem Num.mul {x y : EReal} : Num x → Num y → Num (x * y) := fun ⟨a, ha⟩ ⟨b, hb⟩ => ⟨a * b, by rw [ha, hb, EReal.coe_mul]⟩
theorem Num.sum {K : ℕ} {f : Fin K → EReal} (h : ∀ k, Num (f k)) : Num (∑ k, f k) := by
  refine Finset.sum_induction f Num (fun x y => ?_) Num.zero fun k _ => h k
  rintro ⟨a, rfl⟩ ⟨b, rfl⟩
  exact ⟨a + b, by rw [EReal.coe_add]⟩
theorem num_get2 {n k : ℕ} {x : (⟨2, ![n, k]⟩ : Shape).Idx → EReal} (h : ∀ i, Num (x i)) (i j : ℕ) : Num (get2 x i j) := by
  unfold get2
  split_ifs
  · exact h _
  · exact Num.zero
theorem num_pad2 {n k : ℕ} {x : (⟨2, ![n, k]⟩ : Shape).Idx → EReal} (h : ∀ i, Num (x i)) (i j : ℕ) : Num (pad2 x i j) := by
  unfold pad2
  split_ifs
  · exact Num.zero
  · exact num_get2 h _ _

variable [Facts] {a0 : FVec Ideal S4112x4096 .f32} {a1 : FVec Ideal S4096x22016 .f32} {a2 : FVec Ideal S3x11008 .f32} {a3 : FVec Ideal S1x11008 .f32}
  {a4 : FVec Ideal S11008x4096 .f32} {a5 : FVec Ideal S4112x4096 .f32}
variable (h : Cert.Pre_ffn_finite.fn (F := Ideal) a0 a1 a2 a3 a4 a5 = fun _ => 1#1)
include h

theorem num0 (i : S4112x4096.Idx) : Num (a0 i) := by
  have h0 := (IntOp.andi_eq_one.1 (IntOp.andi_eq_one.1 (IntOp.andi_eq_one.1 (congrFun h (Shape.Idx.first Facts.h_S_))).1).1).1
  exact real_of_lt (Host.reduce_andi_eq_one _ _ _ _ _ h0 i (by funext k; exact k.elim0))
theorem num1 (r : Fin 4096) (b : Fin 11008) : Num (a1 (ix2 r ⟨11008 + b.val, by omega⟩)) := by
  have h0 := (IntOp.andi_eq_one.1 (IntOp.andi_eq_one.1 (IntOp.andi_eq_one.1 (congrFun h (Shape.Idx.first Facts.h_S_))).1).1).2
  have h1 := Host.reduce_andi_eq_one _ _ _ _ _ h0 (ix2 r b) (by funext k; exact k.elim0)
  have e : extractStridedSlice S4096x11008 ![0, 11008] a1 Facts.slices_S4096x22016_S4096x11008_0_11008 (ix2 r b) = a1 (ix2 r ⟨11008 + b.val, by omega⟩) := by
    pointwise
  obtain ⟨y, hy⟩ := real_of_lt h1
  exact ⟨y, e.symm.trans hy⟩
theorem num4 (i : S11008x4096.Idx) : Num (a4 i) := by
  have h0 := (IntOp.andi_eq_one.1 (IntOp.andi_eq_one.1 (congrFun h (Shape.Idx.first Facts.h_S_))).1).2
  exact real_of_lt (Host.reduce_andi_eq_one _ _ _ _ _ h0 i (by funext k; exact k.elim0))
theorem num5 (i : S4112x4096.Idx) : Num (a5 i) := by
  have h0 := (IntOp.andi_eq_one.1 (congrFun h (Shape.Idx.first Facts.h_S_))).2
  exact real_of_lt (Host.reduce_andi_eq_one _ _ _ _ _ h0 i (by funext k; exact k.elim0))

/-- The gated half's cotangent times the other half. -/
theorem num_gate (r b : ℕ) : Num (rE a4 a5 r b * rG a0 a1 r (11008 + b)) := by
  refine Num.mul ?_ ?_
  · exact Num.sum fun k => (num_pad2 (num5 h) r k.val).mul (num_get2 (num4 h) b k.val)
  · refine Num.sum fun k => (num_pad2 (num0 h) r k.val).mul ?_
    by_cases hb : b < 11008
    · have e : get2 (a1 : Vec Ideal S4096x22016 .f32) k.val (11008 + b) = a1 (ix2 ⟨k.val, k.isLt⟩ ⟨11008 + b, by omega⟩) := get2_of a1 k.isLt (by omega)
      rw [e]
      exact num1 h ⟨k.val, k.isLt⟩ ⟨b, hb⟩
    · have e : get2 (a1 : Vec Ideal S4096x22016 .f32) k.val (11008 + b) = 0 := dif_neg (by omega)
      rw [e]
      exact Num.zero

end Cert.Ffn

end
-- ==== Proof.FfnSame.lean ====
/- The feed-forward program and its reference: how they run, and that they end with the same results. -/
module

public import proofs.«01_k».proof.Defs
public import proofs.«01_k».proof.Proof.Gen.FfnKernel
public import proofs.«01_k».proof.Proof.Gen.Pre_ffn_finite
public import proofs.«01_k».proof.Proof.FfnEnds
public import proofs.«01_k».proof.Proof.FfnRun
public import proofs.«01_k».proof.Proof.FfnRef
public import proofs.«01_k».proof.Proof.FfnFinite
public import Idealize.ShloMosaic.Lib.Quiescent

@[expose] public section

noncomputable section

namespace Cert.Ffn

open Idealize.ShloMosaic Idealize.SL.Sem Idealize.ShloMosaic.Tactic

/-- The idealized program's frame, its text run over the bit-level floats. -/
def bitsFrame : Prop :=
  ∀ (m : (ℓ : Loc Cert.FfnKernelIdeal.nD Cert.FfnKernelIdeal.τ Cert.FfnKernelIdeal.sig) → Buf (Elt Bits) ℓ) (g : Dev Cert.FfnKernelIdeal.nD → PrngReg), True →
    θ_run (Cert.FfnKernelIdeal.defs (F := Bits)) (onTc (τ := Cert.FfnKernelIdeal.τ) (Cert.FfnKernelIdeal.main (F := Bits))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

/-- The two programs have the same text. -/
theorem same_text : bitsFrame = Cert.quiescent_FfnKernel := by sl_kernel_rfl

theorem frame_kernel : Cert.quiescent_FfnKernel :=
  same_text.mp fun m ρ _ => Cert.FfnKernelIdeal.Gen.frame (F := Bits) m ρ
theorem frame_kernelIdeal : Cert.quiescent_FfnKernelIdeal := fun m ρ _ => Cert.FfnKernelIdeal.Gen.frame m ρ
theorem frame_kernelIdeal_finite : Cert.quiescent_FfnKernelIdeal_pre_ffn_finite := fun m ρ _ => Cert.FfnKernelIdeal.Gen.frame m ρ

/-- The reference keeps its arguments; it declares no semaphore. -/
theorem frame_reference : Cert.quiescent_FfnReferenceIdeal := fun m ρ _ =>
  (θ_run Cert.FfnReferenceIdeal.defs _ _).mono (fun r e => ⟨fun c => (e c).2.2.2.2.2, sem_eq_zero_of_no_sems (by decide) r.2⟩) (Cert.FfnReferenceIdeal.Value.run m ρ)
theorem frame_reference_finite : Cert.quiescent_FfnReferenceIdeal_pre_ffn_finite := fun m ρ _ => frame_reference m ρ trivial

/-! ## The results are the same -/

section Agree

variable (m : (ℓ : Loc Cert.FfnKernelIdeal.nD Cert.FfnKernelIdeal.τ Cert.FfnKernelIdeal.sig) → Buf (Elt Ideal) ℓ) (ρ : Dev Cert.FfnKernelIdeal.nD → PrngReg)
  (m' : (ℓ : Loc Cert.FfnReferenceIdeal.nD Cert.FfnReferenceIdeal.τ Cert.FfnReferenceIdeal.sig) → Buf (Elt Ideal) ℓ) (c : Dev Cert.FfnKernelIdeal.nD)

/-- The two programs' arguments on a device agree. -/
def Same : Prop :=
  m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
  ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
  ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
  ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
  ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
  ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)

variable {m m' c}

theorem same_f (h : Same m m' c) :
    (Cert.FfnReferenceIdeal.Value.res_main_v32 (F := Ideal) m' c : Vec Ideal Cert.FfnKernelIdeal.S4112x4096 .f32)
      = (Cert.FfnKernelIdeal.Gen.W10 m ρ c (Proc.devRef .tc Cert.FfnKernelIdeal.main_v16) : Vec Ideal Cert.FfnKernelIdeal.S4112x4096 .f32) := by
  obtain ⟨h0, h1, h2, h3, h4, h5⟩ := h
  refine (Cert.FfnReferenceIdeal.Read.val_main_v32_eq m' c).trans ?_
  rw [h0, h1, h2, h3, h4]
  refine (r_f (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).trans ?_
  funext i
  obtain ⟨r, b, rfl⟩ : ∃ (r : Fin 4112) (b : Fin 4096), i = ix2 r b := ⟨i 0, i 1, by funext k; fin_cases k <;> rfl⟩
  exact (k_f m ρ c r b).symm
theorem same_up (h : Same m m' c) (hp : Cert.Pre_FfnKernelIdeal_ffn_finite m) :
    (Cert.FfnReferenceIdeal.Value.res_main_v81 (F := Ideal) m' c : Vec Ideal Cert.FfnKernelIdeal.S4096x22016 .bf16)
      = (Cert.FfnKernelIdeal.Gen.W10 m ρ c (Proc.devRef .tc Cert.FfnKernelIdeal.main_v15) : Vec Ideal Cert.FfnKernelIdeal.S4096x22016 .bf16) := by
  obtain ⟨h0, h1, h2, h3, h4, h5⟩ := h
  refine (Cert.FfnReferenceIdeal.Read.val_main_v81_eq m' c).trans ?_
  rw [h0, h1, h2, h3, h4, h5]
  exact (r_up (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) fun r b => num_gate (hp c) r b).trans (k_up m ρ c).symm
theorem same_taps (h : Same m m' c) (hp : Cert.Pre_FfnKernelIdeal_ffn_finite m) :
    (Cert.FfnReferenceIdeal.Value.res_main_v69 (F := Ideal) m' c : Vec Ideal Cert.FfnKernelIdeal.S3x11008 .f32)
      = (Cert.FfnKernelIdeal.Gen.W10 m ρ c (Proc.devRef .tc Cert.FfnKernelIdeal.main_v17) : Vec Ideal Cert.FfnKernelIdeal.S3x11008 .f32) := by
  obtain ⟨h0, h1, h2, h3, h4, h5⟩ := h
  refine (Cert.FfnReferenceIdeal.Read.val_main_v69_eq m' c).trans ?_
  rw [h0, h1, h2, h3, h4, h5]
  funext i
  obtain ⟨s, b, rfl⟩ : ∃ (s : Fin 3) (b : Fin 11008), i = ix2 s b := ⟨i 0, i 1, by funext k; fin_cases k <;> rfl⟩
  exact (r_taps (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (fun r b => num_gate (hp c) r b) s b).trans (k_taps m ρ c s b).symm
theorem same_bias (h : Same m m' c) (hp : Cert.Pre_FfnKernelIdeal_ffn_finite m) :
    (Cert.FfnReferenceIdeal.Value.res_main_v73 (F := Ideal) m' c : Vec Ideal Cert.FfnKernelIdeal.S1x11008 .f32)
      = (Cert.FfnKernelIdeal.Gen.W10 m ρ c (Proc.devRef .tc Cert.FfnKernelIdeal.main_v18) : Vec Ideal Cert.FfnKernelIdeal.S1x11008 .f32) := by
  obtain ⟨h0, h1, h2, h3, h4, h5⟩ := h
  refine (Cert.FfnReferenceIdeal.Read.val_main_v73_eq m' c).trans ?_
  rw [h0, h1, h2, h3, h4, h5]
  funext i
  obtain ⟨s, b, rfl⟩ : ∃ (s : Fin 1) (b : Fin 11008), i = ix2 s b := ⟨i 0, i 1, by funext k; fin_cases k <;> rfl⟩
  exact (v73 (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (fun r b => num_gate (hp c) r b) (ix2 s b)).trans (k_bias m ρ c s b).symm
theorem same_down (h : Same m m' c) :
    (Cert.FfnReferenceIdeal.Value.res_main_v82 (F := Ideal) m' c : Vec Ideal Cert.FfnKernelIdeal.S11008x4096 .bf16)
      = (Cert.FfnKernelIdeal.Gen.W10 m ρ c (Proc.devRef .tc Cert.FfnKernelIdeal.main_v12) : Vec Ideal Cert.FfnKernelIdeal.S11008x4096 .bf16) := by
  obtain ⟨h0, h1, h2, h3, h4, h5⟩ := h
  refine (Cert.FfnReferenceIdeal.Read.val_main_v82_eq m' c).trans ?_
  rw [h0, h1, h2, h3, h5]
  exact (r_down (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg5))).trans (k_down m ρ c).symm

end Agree

/-- Run on the same arguments, the two programs end with the same results. -/
theorem same_results : Cert.algebraic_FfnKernelIdeal_FfnReferenceIdeal_pre_ffn_finite := fun m g m' g' hp h =>
  ⟨fun c => Cert.FfnKernelIdeal.Gen.W10 m g c (Proc.devRef .tc Cert.FfnKernelIdeal.main_v16),
    fun c => Cert.FfnKernelIdeal.Gen.W10 m g c (Proc.devRef .tc Cert.FfnKernelIdeal.main_v15),
    fun c => Cert.FfnKernelIdeal.Gen.W10 m g c (Proc.devRef .tc Cert.FfnKernelIdeal.main_v17),
    fun c => Cert.FfnKernelIdeal.Gen.W10 m g c (Proc.devRef .tc Cert.FfnKernelIdeal.main_v18),
    fun c => Cert.FfnKernelIdeal.Gen.W10 m g c (Proc.devRef .tc Cert.FfnKernelIdeal.main_v12),
    (θ_run Cert.FfnKernelIdeal.defs _ _).mono (fun _ e c =>
      ⟨e.1 c _ (Cert.FfnKernelIdeal.Gen.mem_uc Cert.FfnKernelIdeal.main_v16 (by decide)),
        e.1 c _ (Cert.FfnKernelIdeal.Gen.mem_uc Cert.FfnKernelIdeal.main_v15 (by decide)),
        e.1 c _ (Cert.FfnKernelIdeal.Gen.mem_uc Cert.FfnKernelIdeal.main_v17 (by decide)),
        e.1 c _ (Cert.FfnKernelIdeal.Gen.mem_uc Cert.FfnKernelIdeal.main_v18 (by decide)),
        e.1 c _ (Cert.FfnKernelIdeal.Gen.mem_uc Cert.FfnKernelIdeal.main_v12 (by decide)),
        (e.1 c _ (Cert.FfnKernelIdeal.Gen.mem_uc Cert.FfnKernelIdeal.main_arg0 (by decide))).trans (Cert.FfnKernelIdeal.Gen.W10_main_arg0 m g c),
        (e.1 c _ (Cert.FfnKernelIdeal.Gen.mem_uc Cert.FfnKernelIdeal.main_arg1 (by decide))).trans (Cert.FfnKernelIdeal.Gen.W10_main_arg1 m g c),
        (e.1 c _ (Cert.FfnKernelIdeal.Gen.mem_uc Cert.FfnKernelIdeal.main_arg2 (by decide))).trans (Cert.FfnKernelIdeal.Gen.W10_main_arg2 m g c),
        (e.1 c _ (Cert.FfnKernelIdeal.Gen.mem_uc Cert.FfnKernelIdeal.main_arg3 (by decide))).trans (Cert.FfnKernelIdeal.Gen.W10_main_arg3 m g c),
        (e.1 c _ (Cert.FfnKernelIdeal.Gen.mem_uc Cert.FfnKernelIdeal.main_arg4 (by decide))).trans (Cert.FfnKernelIdeal.Gen.W10_main_arg4 m g c),
        (e.1 c _ (Cert.FfnKernelIdeal.Gen.mem_uc Cert.FfnKernelIdeal.main_arg5 (by decide))).trans (Cert.FfnKernelIdeal.Gen.W10_main_arg5 m g c)⟩)
      (ends m g),
    (θ_run Cert.FfnReferenceIdeal.defs _ _).mono (fun _ e c =>
      ⟨(e c).1.trans (same_f g (h c)), (e c).2.1.trans (same_up g (h c) hp), (e c).2.2.1.trans (same_taps g (h c) hp),
        (e c).2.2.2.1.trans (same_bias g (h c) hp), (e c).2.2.2.2.1.trans (same_down g (h c)), (e c).2.2.2.2.2⟩)
      (Cert.FfnReferenceIdeal.Value.run m' g')⟩

end Cert.Ffn

end
-- ==== Proof.ProjEnds.lean ====
/- The program of the projections launched: every execution ends with the buffers at the last contents. -/
module

public import proofs.«01_k».proof.Proof.Gen.ProjKernelIdeal.Frame

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjKernelIdeal Cert.ProjKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with every unscoped buffer at the last contents and every semaphore counter at zero. -/
theorem ends : θ_run defs (onTc (τ := τ) (main (F := F))) ⟨m, fun _ => 0, ρ⟩ (fun r => (∀ c : Dev nD,
      ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Cert.Proj

end
-- ==== Proof.ProjProd.lean ====
/- What each product call around the projections leaves in its result array: the whole product of its two operands. -/
module

public import proofs.«01_k».proof.Proof.FfnSpec
public import proofs.«01_k».proof.Proof.Gen.ProjKernelIdeal.Frame
public import Idealize.ShloMosaic.Lib.Pointwise
public import Idealize.ShloMosaic.Lib.Pipeline.Value

@[expose] public section

set_option maxRecDepth 16384

noncomputable section

namespace Cert.Proj

open Idealize.ShloMosaic Idealize.ShloMosaic.TcCoe Idealize.ShloMosaic.Tactic Idealize.ShloMosaic.Pipeline
open Cert.Ffn (mat mul mul_block tr)
open Cert.ProjKernelIdeal Cert.ProjKernelIdeal.Gen

variable (V : (c : Dev nD) → (b : Ref sig .tc) → Buf (Elt Ideal) ((c : Thread nD τ).loc b))
variable (c : Dev nD)

theorem pay0 (x : Vec Ideal S704x4096 .bf16) (y : Vec Ideal S4096x1024 .bf16) (f g : ℕ → ℕ → EReal) (hx : x = mat f) (hy : y = mat g) :
    out0_2 x y = (mat (mul 4096 f g) : Vec Ideal S704x1024 .f32) := by
  subst hx hy
  unfold out0_2 r0_0 r0_1 r0_2
  rw [View.canon_unit_zero (by decide), View.ld_unit_zero (by decide), View.ld_unit_zero (by decide)]
  funext i
  unfold k0_pay1
  pointwise
  rfl

theorem idx0_0 : ∀ t : Fin cfg0.N, win0_0.index t (0 : Fin 2) = t.val / 14 ∧ win0_0.index t (1 : Fin 2) = 0 :=
  (by decide +kernel : ∀ t : Fin grid0.N, win0_0.index t (0 : Fin 2) = t.val / 14 ∧ win0_0.index t (1 : Fin 2) = 0)
theorem blk0_0 (t : Fin cfg0.N) {f : ℕ → ℕ → EReal} (h : V c main_v2 = (mat f : Vec Ideal S4224x4096 .bf16)) :
    (iblk0 V c 0 t : Vec Ideal S704x4096 .bf16) = mat fun a b => f (t.val / 14 * 704 + a) (0 * 4096 + b) := by
  have e := idx0_0 t
  funext y
  refine (congrFun h _).trans ?_
  show f (win0_0.index t (0 : Fin 2) * 704 + 1 * (y 0).val) (win0_0.index t (1 : Fin 2) * 4096 + 1 * (y 1).val) = f _ _
  rw [e.1, e.2, one_mul, one_mul]

theorem idx0_1 : ∀ t : Fin cfg0.N, win0_1.index t (0 : Fin 2) = 0 ∧ win0_1.index t (1 : Fin 2) = t.val % 14 :=
  (by decide +kernel : ∀ t : Fin grid0.N, win0_1.index t (0 : Fin 2) = 0 ∧ win0_1.index t (1 : Fin 2) = t.val % 14)
theorem blk0_1 (t : Fin cfg0.N) {f : ℕ → ℕ → EReal} (h : V c main_v12 = (mat f : Vec Ideal S4096x14336 .bf16)) :
    (iblk0 V c 1 t : Vec Ideal S4096x1024 .bf16) = mat fun a b => f (0 * 4096 + a) (t.val % 14 * 1024 + b) := by
  have e := idx0_1 t
  funext y
  refine (congrFun h _).trans ?_
  show f (win0_1.index t (0 : Fin 2) * 4096 + 1 * (y 0).val) (win0_1.index t (1 : Fin 2) * 1024 + 1 * (y 1).val) = f _ _
  rw [e.1, e.2, one_mul, one_mul]

theorem idx0_2 : ∀ t : Fin cfg0.N, win0_2.index t (0 : Fin 2) = t.val / 14 ∧ win0_2.index t (1 : Fin 2) = t.val % 14 :=
  (by decide +kernel : ∀ t : Fin grid0.N, win0_2.index t (0 : Fin 2) = t.val / 14 ∧ win0_2.index t (1 : Fin 2) = t.val % 14)
theorem mem0_2 (t : Fin cfg0.N) (i : S4224x14336.Idx) :
    i ∈ ((cfg0.win 2).blk t).view.set ↔ ∀ a : Fin 2, win0_2.index t a * S704x1024.size a ≤ (i a).val ∧ (i a).val < win0_2.index t a * S704x1024.size a + S704x1024.size a := by
  show i ∈ ((View.whole main_v14).slice (win0_2.rect t)).set ↔ _
  rw [View.set_slice_whole, Rect.mem_set_unit]
  exact Iff.rfl
theorem cover0_2' (i : S4224x14336.Idx) : ∃ t : Fin cfg0.N, (cfg0.win 2).flush t = true ∧ i ∈ ((cfg0.win 2).blk t).view.set := by
  have hN : cfg0.N = 84 := N_0
  have h0 : (i 0).val < 4224 := (i 0).isLt; have h1 : (i 1).val < 14336 := (i 1).isLt
  have hlt : (i 0).val / 704 * 14 + (i 1).val / 1024 < cfg0.N := by omega
  refine ⟨⟨(i 0).val / 704 * 14 + (i 1).val / 1024, hlt⟩, flush0_2 _, ?_⟩
  rw [mem0_2]
  have h := idx0_2 ⟨(i 0).val / 704 * 14 + (i 1).val / 1024, hlt⟩
  dsimp only at h
  intro a
  match a with
  | ⟨0, _⟩ => show win0_2.index _ (0 : Fin 2) * 704 ≤ (i 0).val ∧ (i 0).val < win0_2.index _ (0 : Fin 2) * 704 + 704; rw [h.1]; omega
  | ⟨1, _⟩ => show win0_2.index _ (1 : Fin 2) * 1024 ≤ (i 1).val ∧ (i 1).val < win0_2.index _ (1 : Fin 2) * 1024 + 1024; rw [h.2]; omega
theorem arr0 {f g : ℕ → ℕ → EReal} (hf : V c main_v2 = (mat f : Vec Ideal S4224x4096 .bf16)) (hg : V c main_v12 = (mat g : Vec Ideal S4096x14336 .bf16)) :
    (dat0 V c).arrAt 2 cfg0.N = (mat (mul 4096 f g) : Vec Ideal S4224x14336 .f32) :=
  (dat0 V c).arrAt_eq_of_cover 2 _ (fun t _ => by
    have e2 : (dat0 V c).flushed 2 t = (cfg0.win 2).cut (grid0.coords t) (out0_2 (iblk0 V c 0 t) (iblk0 V c 1 t)) := by
      show (cfg0.win 2).cut (grid0.coords t) ((dat0 V c).after 2 t) = _
      rw [after0_2]
    rw [e2, pay0 _ _ _ _ (blk0_0 V c t hf) (blk0_1 V c t hg)]
    have h := idx0_2 t
    funext y
    have b0 : (((cfg0.win 2).blk t).view.emb y 0).val = (t.val / 14) * 704 + (y 0).val := by
      show win0_2.index t (0 : Fin 2) * 704 + 1 * (y 0).val = _; rw [h.1, one_mul]
    have b1 : (((cfg0.win 2).blk t).view.emb y 1).val = (t.val % 14) * 1024 + (y 1).val := by
      show win0_2.index t (1 : Fin 2) * 1024 + 1 * (y 1).val = _; rw [h.2, one_mul]
    refine mul_block b0.symm b1.symm (fun k => ?_) (fun k => ?_)
    · simp only [tr, zero_mul, zero_add]
    · simp only [tr, zero_mul, zero_add])
    cover0_2'

theorem pay1 (x : Vec Ideal S704x4096 .bf16) (y : Vec Ideal S4096x1024 .bf16) (f g : ℕ → ℕ → EReal) (hx : x = mat f) (hy : y = mat g) :
    out1_2 x y = (mat (mul 4096 f g) : Vec Ideal S704x1024 .f32) := by
  subst hx hy
  unfold out1_2 r1_0 r1_1 r1_2
  rw [View.canon_unit_zero (by decide), View.ld_unit_zero (by decide), View.ld_unit_zero (by decide)]
  funext i
  unfold k1_pay1
  pointwise
  rfl

theorem idx1_0 : ∀ t : Fin cfg1.N, win1_0.index t (0 : Fin 2) = t.val / 4 ∧ win1_0.index t (1 : Fin 2) = 0 :=
  (by decide +kernel : ∀ t : Fin grid1.N, win1_0.index t (0 : Fin 2) = t.val / 4 ∧ win1_0.index t (1 : Fin 2) = 0)
theorem blk1_0 (t : Fin cfg1.N) {f : ℕ → ℕ → EReal} (h : V c main_v5 = (mat f : Vec Ideal S4224x4096 .bf16)) :
    (iblk1 V c 0 t : Vec Ideal S704x4096 .bf16) = mat fun a b => f (t.val / 4 * 704 + a) (0 * 4096 + b) := by
  have e := idx1_0 t
  funext y
  refine (congrFun h _).trans ?_
  show f (win1_0.index t (0 : Fin 2) * 704 + 1 * (y 0).val) (win1_0.index t (1 : Fin 2) * 4096 + 1 * (y 1).val) = f _ _
  rw [e.1, e.2, one_mul, one_mul]

theorem idx1_1 : ∀ t : Fin cfg1.N, win1_1.index t (0 : Fin 2) = 0 ∧ win1_1.index t (1 : Fin 2) = t.val % 4 :=
  (by decide +kernel : ∀ t : Fin grid1.N, win1_1.index t (0 : Fin 2) = 0 ∧ win1_1.index t (1 : Fin 2) = t.val % 4)
theorem blk1_1 (t : Fin cfg1.N) {f : ℕ → ℕ → EReal} (h : V c main_v13 = (mat f : Vec Ideal S4096x4096 .bf16)) :
    (iblk1 V c 1 t : Vec Ideal S4096x1024 .bf16) = mat fun a b => f (0 * 4096 + a) (t.val % 4 * 1024 + b) := by
  have e := idx1_1 t
  funext y
  refine (congrFun h _).trans ?_
  show f (win1_1.index t (0 : Fin 2) * 4096 + 1 * (y 0).val) (win1_1.index t (1 : Fin 2) * 1024 + 1 * (y 1).val) = f _ _
  rw [e.1, e.2, one_mul, one_mul]

theorem idx1_2 : ∀ t : Fin cfg1.N, win1_2.index t (0 : Fin 2) = t.val / 4 ∧ win1_2.index t (1 : Fin 2) = t.val % 4 :=
  (by decide +kernel : ∀ t : Fin grid1.N, win1_2.index t (0 : Fin 2) = t.val / 4 ∧ win1_2.index t (1 : Fin 2) = t.val % 4)
theorem mem1_2 (t : Fin cfg1.N) (i : S4224x4096.Idx) :
    i ∈ ((cfg1.win 2).blk t).view.set ↔ ∀ a : Fin 2, win1_2.index t a * S704x1024.size a ≤ (i a).val ∧ (i a).val < win1_2.index t a * S704x1024.size a + S704x1024.size a := by
  show i ∈ ((View.whole main_v15).slice (win1_2.rect t)).set ↔ _
  rw [View.set_slice_whole, Rect.mem_set_unit]
  exact Iff.rfl
theorem cover1_2' (i : S4224x4096.Idx) : ∃ t : Fin cfg1.N, (cfg1.win 2).flush t = true ∧ i ∈ ((cfg1.win 2).blk t).view.set := by
  have hN : cfg1.N = 24 := N_1
  have h0 : (i 0).val < 4224 := (i 0).isLt; have h1 : (i 1).val < 4096 := (i 1).isLt
  have hlt : (i 0).val / 704 * 4 + (i 1).val / 1024 < cfg1.N := by omega
  refine ⟨⟨(i 0).val / 704 * 4 + (i 1).val / 1024, hlt⟩, flush1_2 _, ?_⟩
  rw [mem1_2]
  have h := idx1_2 ⟨(i 0).val / 704 * 4 + (i 1).val / 1024, hlt⟩
  dsimp only at h
  intro a
  match a with
  | ⟨0, _⟩ => show win1_2.index _ (0 : Fin 2) * 704 ≤ (i 0).val ∧ (i 0).val < win1_2.index _ (0 : Fin 2) * 704 + 704; rw [h.1]; omega
  | ⟨1, _⟩ => show win1_2.index _ (1 : Fin 2) * 1024 ≤ (i 1).val ∧ (i 1).val < win1_2.index _ (1 : Fin 2) * 1024 + 1024; rw [h.2]; omega
theorem arr1 {f g : ℕ → ℕ → EReal} (hf : V c main_v5 = (mat f : Vec Ideal S4224x4096 .bf16)) (hg : V c main_v13 = (mat g : Vec Ideal S4096x4096 .bf16)) :
    (dat1 V c).arrAt 2 cfg1.N = (mat (mul 4096 f g) : Vec Ideal S4224x4096 .f32) :=
  (dat1 V c).arrAt_eq_of_cover 2 _ (fun t _ => by
    have e2 : (dat1 V c).flushed 2 t = (cfg1.win 2).cut (grid1.coords t) (out1_2 (iblk1 V c 0 t) (iblk1 V c 1 t)) := by
      show (cfg1.win 2).cut (grid1.coords t) ((dat1 V c).after 2 t) = _
      rw [after1_2]
    rw [e2, pay1 _ _ _ _ (blk1_0 V c t hf) (blk1_1 V c t hg)]
    have h := idx1_2 t
    funext y
    have b0 : (((cfg1.win 2).blk t).view.emb y 0).val = (t.val / 4) * 704 + (y 0).val := by
      show win1_2.index t (0 : Fin 2) * 704 + 1 * (y 0).val = _; rw [h.1, one_mul]
    have b1 : (((cfg1.win 2).blk t).view.emb y 1).val = (t.val % 4) * 1024 + (y 1).val := by
      show win1_2.index t (1 : Fin 2) * 1024 + 1 * (y 1).val = _; rw [h.2, one_mul]
    refine mul_block b0.symm b1.symm (fun k => ?_) (fun k => ?_)
    · simp only [tr, zero_mul, zero_add]
    · simp only [tr, zero_mul, zero_add])
    cover1_2'

theorem pay2 (x : Vec Ideal S704x4096 .bf16) (y : Vec Ideal S1024x4096 .bf16) (f g : ℕ → ℕ → EReal) (hx : x = mat f) (hy : y = mat g) :
    out2_2 x y = (mat (mul 4096 f (tr g)) : Vec Ideal S704x1024 .f32) := by
  subst hx hy
  unfold out2_2 r2_0 r2_1 r2_2
  rw [View.canon_unit_zero (by decide), View.ld_unit_zero (by decide), View.ld_unit_zero (by decide)]
  funext i
  unfold k2_pay1
  pointwise
  rfl

theorem idx2_0 : ∀ t : Fin cfg2.N, win2_0.index t (0 : Fin 2) = t.val / 4 ∧ win2_0.index t (1 : Fin 2) = 0 :=
  (by decide +kernel : ∀ t : Fin grid2.N, win2_0.index t (0 : Fin 2) = t.val / 4 ∧ win2_0.index t (1 : Fin 2) = 0)
theorem blk2_0 (t : Fin cfg2.N) {f : ℕ → ℕ → EReal} (h : V c main_v8 = (mat f : Vec Ideal S4224x4096 .bf16)) :
    (iblk2 V c 0 t : Vec Ideal S704x4096 .bf16) = mat fun a b => f (t.val / 4 * 704 + a) (0 * 4096 + b) := by
  have e := idx2_0 t
  funext y
  refine (congrFun h _).trans ?_
  show f (win2_0.index t (0 : Fin 2) * 704 + 1 * (y 0).val) (win2_0.index t (1 : Fin 2) * 4096 + 1 * (y 1).val) = f _ _
  rw [e.1, e.2, one_mul, one_mul]

theorem idx2_1 : ∀ t : Fin cfg2.N, win2_1.index t (0 : Fin 2) = t.val % 4 ∧ win2_1.index t (1 : Fin 2) = 0 :=
  (by decide +kernel : ∀ t : Fin grid2.N, win2_1.index t (0 : Fin 2) = t.val % 4 ∧ win2_1.index t (1 : Fin 2) = 0)
theorem blk2_1 (t : Fin cfg2.N) {f : ℕ → ℕ → EReal} (h : V c main_v13 = (mat f : Vec Ideal S4096x4096 .bf16)) :
    (iblk2 V c 1 t : Vec Ideal S1024x4096 .bf16) = mat fun a b => f (t.val % 4 * 1024 + a) (0 * 4096 + b) := by
  have e := idx2_1 t
  funext y
  refine (congrFun h _).trans ?_
  show f (win2_1.index t (0 : Fin 2) * 1024 + 1 * (y 0).val) (win2_1.index t (1 : Fin 2) * 4096 + 1 * (y 1).val) = f _ _
  rw [e.1, e.2, one_mul, one_mul]

theorem idx2_2 : ∀ t : Fin cfg2.N, win2_2.index t (0 : Fin 2) = t.val / 4 ∧ win2_2.index t (1 : Fin 2) = t.val % 4 :=
  (by decide +kernel : ∀ t : Fin grid2.N, win2_2.index t (0 : Fin 2) = t.val / 4 ∧ win2_2.index t (1 : Fin 2) = t.val % 4)
theorem mem2_2 (t : Fin cfg2.N) (i : S4224x4096.Idx) :
    i ∈ ((cfg2.win 2).blk t).view.set ↔ ∀ a : Fin 2, win2_2.index t a * S704x1024.size a ≤ (i a).val ∧ (i a).val < win2_2.index t a * S704x1024.size a + S704x1024.size a := by
  show i ∈ ((View.whole main_v16).slice (win2_2.rect t)).set ↔ _
  rw [View.set_slice_whole, Rect.mem_set_unit]
  exact Iff.rfl
theorem cover2_2' (i : S4224x4096.Idx) : ∃ t : Fin cfg2.N, (cfg2.win 2).flush t = true ∧ i ∈ ((cfg2.win 2).blk t).view.set := by
  have hN : cfg2.N = 24 := N_2
  have h0 : (i 0).val < 4224 := (i 0).isLt; have h1 : (i 1).val < 4096 := (i 1).isLt
  have hlt : (i 0).val / 704 * 4 + (i 1).val / 1024 < cfg2.N := by omega
  refine ⟨⟨(i 0).val / 704 * 4 + (i 1).val / 1024, hlt⟩, flush2_2 _, ?_⟩
  rw [mem2_2]
  have h := idx2_2 ⟨(i 0).val / 704 * 4 + (i 1).val / 1024, hlt⟩
  dsimp only at h
  intro a
  match a with
  | ⟨0, _⟩ => show win2_2.index _ (0 : Fin 2) * 704 ≤ (i 0).val ∧ (i 0).val < win2_2.index _ (0 : Fin 2) * 704 + 704; rw [h.1]; omega
  | ⟨1, _⟩ => show win2_2.index _ (1 : Fin 2) * 1024 ≤ (i 1).val ∧ (i 1).val < win2_2.index _ (1 : Fin 2) * 1024 + 1024; rw [h.2]; omega
theorem arr2 {f g : ℕ → ℕ → EReal} (hf : V c main_v8 = (mat f : Vec Ideal S4224x4096 .bf16)) (hg : V c main_v13 = (mat g : Vec Ideal S4096x4096 .bf16)) :
    (dat2 V c).arrAt 2 cfg2.N = (mat (mul 4096 f (tr g)) : Vec Ideal S4224x4096 .f32) :=
  (dat2 V c).arrAt_eq_of_cover 2 _ (fun t _ => by
    have e2 : (dat2 V c).flushed 2 t = (cfg2.win 2).cut (grid2.coords t) (out2_2 (iblk2 V c 0 t) (iblk2 V c 1 t)) := by
      show (cfg2.win 2).cut (grid2.coords t) ((dat2 V c).after 2 t) = _
      rw [after2_2]
    rw [e2, pay2 _ _ _ _ (blk2_0 V c t hf) (blk2_1 V c t hg)]
    have h := idx2_2 t
    funext y
    have b0 : (((cfg2.win 2).blk t).view.emb y 0).val = (t.val / 4) * 704 + (y 0).val := by
      show win2_2.index t (0 : Fin 2) * 704 + 1 * (y 0).val = _; rw [h.1, one_mul]
    have b1 : (((cfg2.win 2).blk t).view.emb y 1).val = (t.val % 4) * 1024 + (y 1).val := by
      show win2_2.index t (1 : Fin 2) * 1024 + 1 * (y 1).val = _; rw [h.2, one_mul]
    refine mul_block b0.symm b1.symm (fun k => ?_) (fun k => ?_)
    · simp only [tr, zero_mul, zero_add]
    · simp only [tr, zero_mul, zero_add])
    cover2_2'

theorem pay3 (x : Vec Ideal S4224x1024 .bf16) (y : Vec Ideal S4224x1024 .bf16) (f g : ℕ → ℕ → EReal) (hx : x = mat f) (hy : y = mat g) :
    out3_2 x y = (mat (mul 4224 (tr f) g) : Vec Ideal S1024x1024 .bf16) := by
  subst hx hy
  unfold out3_2 r3_0 r3_1
  rw [View.canon_unit_zero (by decide), View.ld_unit_zero (by decide), View.ld_unit_zero (by decide)]
  funext i
  unfold k3_pay1
  pointwise
  rfl

theorem idx3_0 : ∀ t : Fin cfg3.N, win3_0.index t (0 : Fin 2) = 0 ∧ win3_0.index t (1 : Fin 2) = t.val / 4 :=
  (by decide +kernel : ∀ t : Fin grid3.N, win3_0.index t (0 : Fin 2) = 0 ∧ win3_0.index t (1 : Fin 2) = t.val / 4)
theorem blk3_0 (t : Fin cfg3.N) {f : ℕ → ℕ → EReal} (h : V c main_v5 = (mat f : Vec Ideal S4224x4096 .bf16)) :
    (iblk3 V c 0 t : Vec Ideal S4224x1024 .bf16) = mat fun a b => f (0 * 4224 + a) (t.val / 4 * 1024 + b) := by
  have e := idx3_0 t
  funext y
  refine (congrFun h _).trans ?_
  show f (win3_0.index t (0 : Fin 2) * 4224 + 1 * (y 0).val) (win3_0.index t (1 : Fin 2) * 1024 + 1 * (y 1).val) = f _ _
  rw [e.1, e.2, one_mul, one_mul]

theorem idx3_1 : ∀ t : Fin cfg3.N, win3_1.index t (0 : Fin 2) = 0 ∧ win3_1.index t (1 : Fin 2) = t.val % 4 :=
  (by decide +kernel : ∀ t : Fin grid3.N, win3_1.index t (0 : Fin 2) = 0 ∧ win3_1.index t (1 : Fin 2) = t.val % 4)
theorem blk3_1 (t : Fin cfg3.N) {f : ℕ → ℕ → EReal} (h : V c main_v8 = (mat f : Vec Ideal S4224x4096 .bf16)) :
    (iblk3 V c 1 t : Vec Ideal S4224x1024 .bf16) = mat fun a b => f (0 * 4224 + a) (t.val % 4 * 1024 + b) := by
  have e := idx3_1 t
  funext y
  refine (congrFun h _).trans ?_
  show f (win3_1.index t (0 : Fin 2) * 4224 + 1 * (y 0).val) (win3_1.index t (1 : Fin 2) * 1024 + 1 * (y 1).val) = f _ _
  rw [e.1, e.2, one_mul, one_mul]

theorem idx3_2 : ∀ t : Fin cfg3.N, win3_2.index t (0 : Fin 2) = t.val / 4 ∧ win3_2.index t (1 : Fin 2) = t.val % 4 :=
  (by decide +kernel : ∀ t : Fin grid3.N, win3_2.index t (0 : Fin 2) = t.val / 4 ∧ win3_2.index t (1 : Fin 2) = t.val % 4)
theorem mem3_2 (t : Fin cfg3.N) (i : S4096x4096.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v17).slice (win3_2.rect t)).set ↔ _
  rw [View.set_slice_whole, Rect.mem_set_unit]
  exact Iff.rfl
theorem cover3_2' (i : S4096x4096.Idx) : ∃ t : Fin cfg3.N, (cfg3.win 2).flush t = true ∧ i ∈ ((cfg3.win 2).blk t).view.set := by
  have hN : cfg3.N = 16 := N_3
  have h0 : (i 0).val < 4096 := (i 0).isLt; have h1 : (i 1).val < 4096 := (i 1).isLt
  have hlt : (i 0).val / 1024 * 4 + (i 1).val / 1024 < cfg3.N := by omega
  refine ⟨⟨(i 0).val / 1024 * 4 + (i 1).val / 1024, hlt⟩, flush3_2 _, ?_⟩
  rw [mem3_2]
  have h := idx3_2 ⟨(i 0).val / 1024 * 4 + (i 1).val / 1024, hlt⟩
  dsimp only at h
  intro a
  match a with
  | ⟨0, _⟩ => show win3_2.index _ (0 : Fin 2) * 1024 ≤ (i 0).val ∧ (i 0).val < win3_2.index _ (0 : Fin 2) * 1024 + 1024; rw [h.1]; omega
  | ⟨1, _⟩ => show win3_2.index _ (1 : Fin 2) * 1024 ≤ (i 1).val ∧ (i 1).val < win3_2.index _ (1 : Fin 2) * 1024 + 1024; rw [h.2]; omega
theorem arr3 {f g : ℕ → ℕ → EReal} (hf : V c main_v5 = (mat f : Vec Ideal S4224x4096 .bf16)) (hg : V c main_v8 = (mat g : Vec Ideal S4224x4096 .bf16)) :
    (dat3 V c).arrAt 2 cfg3.N = (mat (mul 4224 (tr f) g) : Vec Ideal S4096x4096 .bf16) :=
  (dat3 V c).arrAt_eq_of_cover 2 _ (fun t _ => by
    have e2 : (dat3 V c).flushed 2 t = (cfg3.win 2).cut (grid3.coords t) (out3_2 (iblk3 V c 0 t) (iblk3 V c 1 t)) := by
      show (cfg3.win 2).cut (grid3.coords t) ((dat3 V c).after 2 t) = _
      rw [after3_2]
    rw [e2, pay3 _ _ _ _ (blk3_0 V c t hf) (blk3_1 V c t hg)]
    have h := idx3_2 t
    funext y
    have b0 : (((cfg3.win 2).blk t).view.emb y 0).val = (t.val / 4) * 1024 + (y 0).val := by
      show win3_2.index t (0 : Fin 2) * 1024 + 1 * (y 0).val = _; rw [h.1, one_mul]
    have b1 : (((cfg3.win 2).blk t).view.emb y 1).val = (t.val % 4) * 1024 + (y 1).val := by
      show win3_2.index t (1 : Fin 2) * 1024 + 1 * (y 1).val = _; rw [h.2, one_mul]
    refine mul_block b0.symm b1.symm (fun k => ?_) (fun k => ?_)
    · simp only [tr, zero_mul, zero_add]
    · simp only [tr, zero_mul, zero_add])
    cover3_2'

theorem pay4 (x : Vec Ideal S4224x1024 .bf16) (y : Vec Ideal S4224x1024 .bf16) (f g : ℕ → ℕ → EReal) (hx : x = mat f) (hy : y = mat g) :
    out4_2 x y = (mat (mul 4224 (tr f) g) : Vec Ideal S1024x1024 .bf16) := by
  subst hx hy
  unfold out4_2 r4_0 r4_1
  rw [View.canon_unit_zero (by decide), View.ld_unit_zero (by decide), View.ld_unit_zero (by decide)]
  funext i
  unfold k4_pay1
  pointwise
  rfl

theorem idx4_0 : ∀ t : Fin cfg4.N, win4_0.index t (0 : Fin 2) = 0 ∧ win4_0.index t (1 : Fin 2) = t.val / 14 :=
  (by decide +kernel : ∀ t : Fin grid4.N, win4_0.index t (0 : Fin 2) = 0 ∧ win4_0.index t (1 : Fin 2) = t.val / 14)
theorem blk4_0 (t : Fin cfg4.N) {f : ℕ → ℕ → EReal} (h : V c main_v2 = (mat f : Vec Ideal S4224x4096 .bf16)) :
    (iblk4 V c 0 t : Vec Ideal S4224x1024 .bf16) = mat fun a b => f (0 * 4224 + a) (t.val / 14 * 1024 + b) := by
  have e := idx4_0 t
  funext y
  refine (congrFun h _).trans ?_
  show f (win4_0.index t (0 : Fin 2) * 4224 + 1 * (y 0).val) (win4_0.index t (1 : Fin 2) * 1024 + 1 * (y 1).val) = f _ _
  rw [e.1, e.2, one_mul, one_mul]

theorem idx4_1 : ∀ t : Fin cfg4.N, win4_1.index t (0 : Fin 2) = 0 ∧ win4_1.index t (1 : Fin 2) = t.val % 14 :=
  (by decide +kernel : ∀ t : Fin grid4.N, win4_1.index t (0 : Fin 2) = 0 ∧ win4_1.index t (1 : Fin 2) = t.val % 14)
theorem blk4_1 (t : Fin cfg4.N) {f : ℕ → ℕ → EReal} (h : V c main_v11 = (mat f : Vec Ideal S4224x14336 .bf16)) :
    (iblk4 V c 1 t : Vec Ideal S4224x1024 .bf16) = mat fun a b => f (0 * 4224 + a) (t.val % 14 * 1024 + b) := by
  have e := idx4_1 t
  funext y
  refine (congrFun h _).trans ?_
  show f (win4_1.index t (0 : Fin 2) * 4224 + 1 * (y 0).val) (win4_1.index t (1 : Fin 2) * 1024 + 1 * (y 1).val) = f _ _
  rw [e.1, e.2, one_mul, one_mul]

theorem idx4_2 : ∀ t : Fin cfg4.N, win4_2.index t (0 : Fin 2) = t.val / 14 ∧ win4_2.index t (1 : Fin 2) = t.val % 14 :=
  (by decide +kernel : ∀ t : Fin grid4.N, win4_2.index t (0 : Fin 2) = t.val / 14 ∧ win4_2.index t (1 : Fin 2) = t.val % 14)
theorem mem4_2 (t : Fin cfg4.N) (i : S4096x14336.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v18).slice (win4_2.rect t)).set ↔ _
  rw [View.set_slice_whole, Rect.mem_set_unit]
  exact Iff.rfl
theorem cover4_2' (i : S4096x14336.Idx) : ∃ t : Fin cfg4.N, (cfg4.win 2).flush t = true ∧ i ∈ ((cfg4.win 2).blk t).view.set := by
  have hN : cfg4.N = 56 := N_4
  have h0 : (i 0).val < 4096 := (i 0).isLt; have h1 : (i 1).val < 14336 := (i 1).isLt
  have hlt : (i 0).val / 1024 * 14 + (i 1).val / 1024 < cfg4.N := by omega
  refine ⟨⟨(i 0).val / 1024 * 14 + (i 1).val / 1024, hlt⟩, flush4_2 _, ?_⟩
  rw [mem4_2]
  have h := idx4_2 ⟨(i 0).val / 1024 * 14 + (i 1).val / 1024, hlt⟩
  dsimp only at h
  intro a
  match a with
  | ⟨0, _⟩ => show win4_2.index _ (0 : Fin 2) * 1024 ≤ (i 0).val ∧ (i 0).val < win4_2.index _ (0 : Fin 2) * 1024 + 1024; rw [h.1]; omega
  | ⟨1, _⟩ => show win4_2.index _ (1 : Fin 2) * 1024 ≤ (i 1).val ∧ (i 1).val < win4_2.index _ (1 : Fin 2) * 1024 + 1024; rw [h.2]; omega
theorem arr4 {f g : ℕ → ℕ → EReal} (hf : V c main_v2 = (mat f : Vec Ideal S4224x4096 .bf16)) (hg : V c main_v11 = (mat g : Vec Ideal S4224x14336 .bf16)) :
    (dat4 V c).arrAt 2 cfg4.N = (mat (mul 4224 (tr f) g) : Vec Ideal S4096x14336 .bf16) :=
  (dat4 V c).arrAt_eq_of_cover 2 _ (fun t _ => by
    have e2 : (dat4 V c).flushed 2 t = (cfg4.win 2).cut (grid4.coords t) (out4_2 (iblk4 V c 0 t) (iblk4 V c 1 t)) := by
      show (cfg4.win 2).cut (grid4.coords t) ((dat4 V c).after 2 t) = _
      rw [after4_2]
    rw [e2, pay4 _ _ _ _ (blk4_0 V c t hf) (blk4_1 V c t hg)]
    have h := idx4_2 t
    funext y
    have b0 : (((cfg4.win 2).blk t).view.emb y 0).val = (t.val / 14) * 1024 + (y 0).val := by
      show win4_2.index t (0 : Fin 2) * 1024 + 1 * (y 0).val = _; rw [h.1, one_mul]
    have b1 : (((cfg4.win 2).blk t).view.emb y 1).val = (t.val % 14) * 1024 + (y 1).val := by
      show win4_2.index t (1 : Fin 2) * 1024 + 1 * (y 1).val = _; rw [h.2, one_mul]
    refine mul_block b0.symm b1.symm (fun k => ?_) (fun k => ?_)
    · simp only [tr, zero_mul, zero_add]
    · simp only [tr, zero_mul, zero_add])
    cover4_2'

end Cert.Proj

end
-- ==== Proof.ProjRun.lean ====
/- What the five calls around the projections leave, one after the other: every array in the formulas of the arguments. -/
module

public import proofs.«01_k».proof.Proof.ProjProd
public import Idealize.ShloMosaic.Lib.StableHlo.ReadAt
public import Idealize.ShloMosaic.Lib.Pointwise

@[expose] public section

set_option maxRecDepth 100000

noncomputable section

namespace Cert.Proj

open Idealize.ShloMosaic Idealize.ShloMosaic.TcCoe Idealize.ShloMosaic.Tactic
open Idealize.ShloMosaic.StableHlo
open Cert.ProjKernelIdeal Cert.ProjKernelIdeal.Gen
open Cert.Ret (get2 get2_of pad2)
open Cert.Ffn (mat mat_get2 mul tr)

variable (m : (ℓ : Loc nD τ sig) → Buf (Elt Ideal) ℓ) (ρ : Dev nD → PrngReg) (c : Dev nD)

/-- The normed rows under 112 rows of zeros. -/
def kN : ℕ → ℕ → EReal := pad2 (m (c, Proc.devRef .tc main_arg0) : Vec Ideal S4112x4096 .f32)
/-- The mixed rows under 112 rows of zeros. -/
def kM : ℕ → ℕ → EReal := pad2 (m (c, Proc.devRef .tc main_arg2) : Vec Ideal S4112x4096 .f32)
/-- The cotangent of the second product under 112 rows of zeros. -/
def kA : ℕ → ℕ → EReal := pad2 (m (c, Proc.devRef .tc main_arg4) : Vec Ideal S4112x4096 .f32)
/-- The cotangent of the first product under 112 rows of zeros. -/
def kP : ℕ → ℕ → EReal := pad2 (m (c, Proc.devRef .tc main_arg5) : Vec Ideal S4112x14336 .f32)
/-- The weights of the first product. -/
def kI : ℕ → ℕ → EReal := get2 (m (c, Proc.devRef .tc main_arg1) : Vec Ideal S4096x14336 .f32)
/-- The weights of the second product. -/
def kO : ℕ → ℕ → EReal := get2 (m (c, Proc.devRef .tc main_arg3) : Vec Ideal S4096x4096 .f32)

/-! ## Before the first call -/

theorem w1_v2 : (W1 m ρ c (Proc.devRef .tc main_v2) : Vec Ideal S4224x4096 .bf16) = mat (kN m c) := by
  funext i
  obtain ⟨r, b, rfl⟩ : ∃ (r : Fin 4224) (b : Fin 4096), i = ix2 r b := ⟨i 0, i 1, by funext k; fin_cases k <;> rfl⟩
  show _ = pad2 (m (c, Proc.devRef .tc main_arg0) : Vec Ideal S4112x4096 .f32) r.val b.val
  unfold pad2
  by_cases h : r.val < 112
  · rw [if_pos h]; after_reads_at; rw [dif_pos h]; try after_reads_at
  · rw [if_neg h, get2_of _ (by omega) b.isLt]; after_reads_at; rw [dif_neg h]; try after_reads_at
theorem w1_v5 : (W1 m ρ c (Proc.devRef .tc main_v5) : Vec Ideal S4224x4096 .bf16) = mat (kM m c) := by
  funext i
  obtain ⟨r, b, rfl⟩ : ∃ (r : Fin 4224) (b : Fin 4096), i = ix2 r b := ⟨i 0, i 1, by funext k; fin_cases k <;> rfl⟩
  show _ = pad2 (m (c, Proc.devRef .tc main_arg2) : Vec Ideal S4112x4096 .f32) r.val b.val
  unfold pad2
  by_cases h : r.val < 112
  · rw [if_pos h]; after_reads_at; rw [dif_pos h]; try after_reads_at
  · rw [if_neg h, get2_of _ (by omega) b.isLt]; after_reads_at; rw [dif_neg h]; try after_reads_at
theorem w1_v8 : (W1 m ρ c (Proc.devRef .tc main_v8) : Vec Ideal S4224x4096 .bf16) = mat (kA m c) := by
  funext i
  obtain ⟨r, b, rfl⟩ : ∃ (r : Fin 4224) (b : Fin 4096), i = ix2 r b := ⟨i 0, i 1, by funext k; fin_cases k <;> rfl⟩
  show _ = pad2 (m (c, Proc.devRef .tc main_arg4) : Vec Ideal S4112x4096 .f32) r.val b.val
  unfold pad2
  by_cases h : r.val < 112
  · rw [if_pos h]; after_reads_at; rw [dif_pos h]; try after_reads_at
  · rw [if_neg h, get2_of _ (by omega) b.isLt]; after_reads_at; rw [dif_neg h]; try after_reads_at
theorem w1_v11 : (W1 m ρ c (Proc.devRef .tc main_v11) : Vec Ideal S4224x14336 .bf16) = mat (kP m c) := by
  funext i
  obtain ⟨r, b, rfl⟩ : ∃ (r : Fin 4224) (b : Fin 14336), i = ix2 r b := ⟨i 0, i 1, by funext k; fin_cases k <;> rfl⟩
  show _ = pad2 (m (c, Proc.devRef .tc main_arg5) : Vec Ideal S4112x14336 .f32) r.val b.val
  unfold pad2
  by_cases h : r.val < 112
  · rw [if_pos h]; after_reads_at; rw [dif_pos h]; try after_reads_at
  · rw [if_neg h, get2_of _ (by omega) b.isLt]; after_reads_at; rw [dif_neg h]; try after_reads_at
theorem w1_v12 : (W1 m ρ c (Proc.devRef .tc main_v12) : Vec Ideal S4096x14336 .bf16) = mat (kI m c) := by
  refine Eq.trans ?_ (mat_get2 _)
  funext i
  obtain ⟨r, b, rfl⟩ : ∃ (r : Fin 4096) (b : Fin 14336), i = ix2 r b := ⟨i 0, i 1, by funext k; fin_cases k <;> rfl⟩
  after_reads_at
theorem w1_v13 : (W1 m ρ c (Proc.devRef .tc main_v13) : Vec Ideal S4096x4096 .bf16) = mat (kO m c) := by
  refine Eq.trans ?_ (mat_get2 _)
  funext i
  obtain ⟨r, b, rfl⟩ : ∃ (r : Fin 4096) (b : Fin 4096), i = ix2 r b := ⟨i 0, i 1, by funext k; fin_cases k <;> rfl⟩
  after_reads_at

/-! ## The calls, in their order -/

theorem w2_v14 : (W2 m ρ c (Proc.devRef .tc main_v14) : Vec Ideal S4224x14336 .f32) = mat (mul 4096 (kN m c) (kI m c)) :=
  (W2_arr m ρ c 2).trans (arr0 (V1 m ρ) c
    (w1_v2 m ρ c)
    (w1_v12 m ρ c))
theorem w3_v15 : (W3 m ρ c (Proc.devRef .tc main_v15) : Vec Ideal S4224x4096 .f32) = mat (mul 4096 (kM m c) (kO m c)) :=
  (W3_arr m ρ c 2).trans (arr1 (V2 m ρ) c
    ((W2_of m ρ c main_v5 (by decide +kernel)).trans (w1_v5 m ρ c))
    ((W2_of m ρ c main_v13 (by decide +kernel)).trans (w1_v13 m ρ c)))
theorem w4_v16 : (W4 m ρ c (Proc.devRef .tc main_v16) : Vec Ideal S4224x4096 .f32) = mat (mul 4096 (kA m c) (tr (kO m c))) :=
  (W4_arr m ρ c 2).trans (arr2 (V3 m ρ) c
    ((W3_of m ρ c main_v8 (by decide +kernel)).trans ((W2_of m ρ c main_v8 (by decide +kernel)).trans (w1_v8 m ρ c)))
    ((W3_of m ρ c main_v13 (by decide +kernel)).trans ((W2_of m ρ c main_v13 (by decide +kernel)).trans (w1_v13 m ρ c))))
theorem w5_v17 : (W5 m ρ c (Proc.devRef .tc main_v17) : Vec Ideal S4096x4096 .bf16) = mat (mul 4224 (tr (kM m c)) (kA m c)) :=
  (W5_arr m ρ c 2).trans (arr3 (V4 m ρ) c
    ((W4_of m ρ c main_v5 (by decide +kernel)).trans ((W3_of m ρ c main_v5 (by decide +kernel)).trans ((W2_of m ρ c main_v5 (by decide +kernel)).trans (w1_v5 m ρ c))))
    ((W4_of m ρ c main_v8 (by decide +kernel)).trans ((W3_of m ρ c main_v8 (by decide +kernel)).trans ((W2_of m ρ c main_v8 (by decide +kernel)).trans (w1_v8 m ρ c)))))
theorem w6_v18 : (W6 m ρ c (Proc.devRef .tc main_v18) : Vec Ideal S4096x14336 .bf16) = mat (mul 4224 (tr (kN m c)) (kP m c)) :=
  (W6_arr m ρ c 2).trans (arr4 (V5 m ρ) c
    ((W5_of m ρ c main_v2 (by decide +kernel)).trans ((W4_of m ρ c main_v2 (by decide +kernel)).trans ((W3_of m ρ c main_v2 (by decide +kernel)).trans ((W2_of m ρ c main_v2 (by decide +kernel)).trans (w1_v2 m ρ c)))))
    ((W5_of m ρ c main_v11 (by decide +kernel)).trans ((W4_of m ρ c main_v11 (by decide +kernel)).trans ((W3_of m ρ c main_v11 (by decide +kernel)).trans ((W2_of m ρ c main_v11 (by decide +kernel)).trans (w1_v11 m ρ c))))))

/-! ## The results -/

theorem k_v19 : (W7 m ρ c (Proc.devRef .tc main_v19) : Vec Ideal S4112x14336 .f32) = mat fun i j => mul 4096 (kN m c) (kI m c) (112 + i) j := by
  funext i
  obtain ⟨r, b, rfl⟩ : ∃ (r : Fin 4112) (b : Fin 14336), i = ix2 r b := ⟨i 0, i 1, by funext k; fin_cases k <;> rfl⟩
  have e : (W7 m ρ c (Proc.devRef .tc main_v19) : Vec Ideal S4112x14336 .f32) (ix2 r b)
      = (W6 m ρ c (Proc.devRef .tc main_v14) : Vec Ideal S4224x14336 .f32) (ix2 ⟨112 + r.val, by omega⟩ b) := by after_reads_at
  exact e.trans (congrFun ((W6_of m ρ c main_v14 (by decide +kernel)).trans ((W5_of m ρ c main_v14 (by decide +kernel)).trans ((W4_of m ρ c main_v14 (by decide +kernel)).trans ((W3_of m ρ c main_v14 (by decide +kernel)).trans (w2_v14 m ρ c))))) _)
theorem k_v20 : (W7 m ρ c (Proc.devRef .tc main_v20) : Vec Ideal S4112x4096 .f32) = mat fun i j => mul 4096 (kM m c) (kO m c) (112 + i) j := by
  funext i
  obtain ⟨r, b, rfl⟩ : ∃ (r : Fin 4112) (b : Fin 4096), i = ix2 r b := ⟨i 0, i 1, by funext k; fin_cases k <;> rfl⟩
  have e : (W7 m ρ c (Proc.devRef .tc main_v20) : Vec Ideal S4112x4096 .f32) (ix2 r b)
      = (W6 m ρ c (Proc.devRef .tc main_v15) : Vec Ideal S4224x4096 .f32) (ix2 ⟨112 + r.val, by omega⟩ b) := by after_reads_at
  exact e.trans (congrFun ((W6_of m ρ c main_v15 (by decide +kernel)).trans ((W5_of m ρ c main_v15 (by decide +kernel)).trans ((W4_of m ρ c main_v15 (by decide +kernel)).trans (w3_v15 m ρ c)))) _)
theorem k_v21 : (W7 m ρ c (Proc.devRef .tc main_v21) : Vec Ideal S4112x4096 .f32) = mat fun i j => mul 4096 (kA m c) (tr (kO m c)) (112 + i) j := by
  funext i
  obtain ⟨r, b, rfl⟩ : ∃ (r : Fin 4112) (b : Fin 4096), i = ix2 r b := ⟨i 0, i 1, by funext k; fin_cases k <;> rfl⟩
  have e : (W7 m ρ c (Proc.devRef .tc main_v21) : Vec Ideal S4112x4096 .f32) (ix2 r b)
      = (W6 m ρ c (Proc.devRef .tc main_v16) : Vec Ideal S4224x4096 .f32) (ix2 ⟨112 + r.val, by omega⟩ b) := by after_reads_at
  exact e.trans (congrFun ((W6_of m ρ c main_v16 (by decide +kernel)).trans ((W5_of m ρ c main_v16 (by decide +kernel)).trans (w4_v16 m ρ c))) _)
theorem k_v17 : (W7 m ρ c (Proc.devRef .tc main_v17) : Vec Ideal S4096x4096 .bf16) = mat (mul 4224 (tr (kM m c)) (kA m c)) :=
  ((W7_of m ρ c main_v17 (by decide +kernel)).trans ((W6_of m ρ c main_v17 (by decide +kernel)).trans (w5_v17 m ρ c)))
theorem k_v18 : (W7 m ρ c (Proc.devRef .tc main_v18) : Vec Ideal S4096x14336 .bf16) = mat (mul 4224 (tr (kN m c)) (kP m c)) :=
  ((W7_of m ρ c main_v18 (by decide +kernel)).trans (w6_v18 m ρ c))

end Cert.Proj

end
-- ==== Proof.ProjRef.lean ====
/- The reference's products around the projections, in the formulas of the kernel's. -/
module

public import proofs.«01_k».proof.Proof.FfnRef
public import proofs.«01_k».proof.Proof.Gen.ProjReferenceIdeal.Read

@[expose] public section

noncomputable section

namespace Cert.Proj

open Idealize.ShloMosaic Idealize.ShloMosaic.TcCoe Idealize.ShloMosaic.Tactic
open Cert.ProjReferenceIdeal Cert.ProjReferenceIdeal.Gen Cert.ProjReferenceIdeal.Read
open Cert.Ret (get2 get2_of pad2)
open Cert.Ffn (mat mat_get2 mul tr pad2_low pad2_high sum_rows)

variable (x0 : (⟨S4112x4096, .f32⟩ : BufTy).Contents (Elt Ideal))
variable (x1 : (⟨S4096x14336, .f32⟩ : BufTy).Contents (Elt Ideal))
variable (x2 : (⟨S4112x4096, .f32⟩ : BufTy).Contents (Elt Ideal))
variable (x3 : (⟨S4096x4096, .f32⟩ : BufTy).Contents (Elt Ideal))
variable (x4 : (⟨S4112x4096, .f32⟩ : BufTy).Contents (Elt Ideal))
variable (x5 : (⟨S4112x14336, .f32⟩ : BufTy).Contents (Elt Ideal))

theorem r_v0 : val_main_v0 (F := Ideal) x0 x1 = mat fun r b => mul 4096 (pad2 (x0 : Vec Ideal S4112x4096 .f32)) (get2 (x1 : Vec Ideal S4096x14336 .f32)) (112 + r) b := by
  funext i
  rw [val_main_v0_apply]
  show _ = ∑ k : Fin 4096, pad2 (x0 : Vec Ideal S4112x4096 .f32) (112 + (i 0).val) k.val * get2 (x1 : Vec Ideal S4096x14336 .f32) k.val (i 1).val
  refine Finset.sum_congr rfl fun k _ => ?_
  rw [pad2_high]
  exact congrArg₂ (· * ·) (congrFun (mat_get2 x0) _) (congrFun (mat_get2 x1) _)
theorem r_v1 : val_main_v1 (F := Ideal) x2 x3 = mat fun r b => mul 4096 (pad2 (x2 : Vec Ideal S4112x4096 .f32)) (get2 (x3 : Vec Ideal S4096x4096 .f32)) (112 + r) b := by
  funext i
  rw [val_main_v1_apply]
  show _ = ∑ k : Fin 4096, pad2 (x2 : Vec Ideal S4112x4096 .f32) (112 + (i 0).val) k.val * get2 (x3 : Vec Ideal S4096x4096 .f32) k.val (i 1).val
  refine Finset.sum_congr rfl fun k _ => ?_
  rw [pad2_high]
  exact congrArg₂ (· * ·) (congrFun (mat_get2 x2) _) (congrFun (mat_get2 x3) _)
theorem r_v4 : val_main_v4 (F := Ideal) x3 x4 = mat fun r b => mul 4096 (pad2 (x4 : Vec Ideal S4112x4096 .f32)) (tr (get2 (x3 : Vec Ideal S4096x4096 .f32))) (112 + r) b := by
  funext i
  rw [val_main_v4_apply]
  show _ = ∑ k : Fin 4096, pad2 (x4 : Vec Ideal S4112x4096 .f32) (112 + (i 0).val) k.val * get2 (x3 : Vec Ideal S4096x4096 .f32) (i 1).val k.val
  refine Finset.sum_congr rfl fun k _ => ?_
  rw [pad2_high]
  exact congrArg₂ (· * ·) (congrFun (mat_get2 x4) _) (congrFun (mat_get2 x3) _)
theorem r_v7 : val_main_v7 (F := Ideal) x2 x4 = mat (mul 4224 (tr (pad2 (x2 : Vec Ideal S4112x4096 .f32))) (pad2 (x4 : Vec Ideal S4112x4096 .f32))) := by
  funext i
  rw [val_main_v7_apply, val_main_v3_apply]
  refine (val_main_v2_apply x2 x4 _).trans ?_
  refine Eq.trans ?_ (sum_rows (f := fun k => pad2 (x2 : Vec Ideal S4112x4096 .f32) k (i 0).val * pad2 (x4 : Vec Ideal S4112x4096 .f32) k (i 1).val) fun k hk => by
    rw [pad2_low _ hk]; exact zero_mul _).symm
  refine Finset.sum_congr rfl fun k _ => ?_
  rw [pad2_high, pad2_high, mul_comm]
  exact congrArg₂ (· * ·) (congrFun (mat_get2 x2) _) (congrFun (mat_get2 x4) _)
theorem r_v8 : val_main_v8 (F := Ideal) x0 x5 = mat (mul 4224 (tr (pad2 (x0 : Vec Ideal S4112x4096 .f32))) (pad2 (x5 : Vec Ideal S4112x14336 .f32))) := by
  funext i
  rw [val_main_v8_apply, val_main_v6_apply]
  refine (val_main_v5_apply x0 x5 _).trans ?_
  refine Eq.trans ?_ (sum_rows (f := fun k => pad2 (x0 : Vec Ideal S4112x4096 .f32) k (i 0).val * pad2 (x5 : Vec Ideal S4112x14336 .f32) k (i 1).val) fun k hk => by
    rw [pad2_low _ hk]; exact zero_mul _).symm
  refine Finset.sum_congr rfl fun k _ => ?_
  rw [pad2_high, pad2_high, mul_comm]
  exact congrArg₂ (· * ·) (congrFun (mat_get2 x0) _) (congrFun (mat_get2 x5) _)

end Cert.Proj

end
-- ==== Proof.ProjSame.lean ====
/- The program of the projections and its reference: how they run, and that they end with the same results. -/
module

public import proofs.«01_k».proof.Defs
public import proofs.«01_k».proof.Proof.Gen.ProjKernel
public import proofs.«01_k».proof.Proof.ProjEnds
public import proofs.«01_k».proof.Proof.ProjRun
public import proofs.«01_k».proof.Proof.ProjRef
public import proofs.«01_k».proof.Proof.Gen.ProjReferenceIdeal.Run
public import Idealize.ShloMosaic.Lib.Quiescent

@[expose] public section

noncomputable section

namespace Cert.Proj

open Idealize.ShloMosaic Idealize.SL.Sem Idealize.ShloMosaic.Tactic

/-- The idealized program's frame, its text run over the bit-level floats. -/
def bitsFrame : Prop :=
  ∀ (m : (ℓ : Loc Cert.ProjKernelIdeal.nD Cert.ProjKernelIdeal.τ Cert.ProjKernelIdeal.sig) → Buf (Elt Bits) ℓ) (g : Dev Cert.ProjKernelIdeal.nD → PrngReg), True →
    θ_run (Cert.ProjKernelIdeal.defs (F := Bits)) (onTc (τ := Cert.ProjKernelIdeal.τ) (Cert.ProjKernelIdeal.main (F := Bits))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ r.2.sem = fun _ => 0)

/-- The two programs have the same text. -/
theorem same_text : bitsFrame = Cert.quiescent_ProjKernel := by sl_kernel_rfl

theorem frame_kernel : Cert.quiescent_ProjKernel :=
  same_text.mp fun m ρ _ => Cert.ProjKernelIdeal.Gen.frame (F := Bits) m ρ
theorem frame_kernelIdeal : Cert.quiescent_ProjKernelIdeal := fun m ρ _ => Cert.ProjKernelIdeal.Gen.frame m ρ

/-- The reference keeps its arguments; it declares no semaphore. -/
theorem frame_reference : Cert.quiescent_ProjReferenceIdeal := fun m ρ _ =>
  (θ_run Cert.ProjReferenceIdeal.defs _ _).mono (fun r e => ⟨fun c => (e c).2.2.2.2.2, sem_eq_zero_of_no_sems (by decide) r.2⟩) (Cert.ProjReferenceIdeal.Value.run m ρ)

/-- Run on the same arguments, the two programs end with the same results. -/
theorem same_results : Cert.algebraic_ProjKernelIdeal_ProjReferenceIdeal := fun m g m' g' _ h =>
  ⟨
    fun c => Cert.ProjKernelIdeal.Gen.W7 m g c (Proc.devRef .tc Cert.ProjKernelIdeal.main_v19),
    fun c => Cert.ProjKernelIdeal.Gen.W7 m g c (Proc.devRef .tc Cert.ProjKernelIdeal.main_v20),
    fun c => Cert.ProjKernelIdeal.Gen.W7 m g c (Proc.devRef .tc Cert.ProjKernelIdeal.main_v21),
    fun c => Cert.ProjKernelIdeal.Gen.W7 m g c (Proc.devRef .tc Cert.ProjKernelIdeal.main_v17),
    fun c => Cert.ProjKernelIdeal.Gen.W7 m g c (Proc.devRef .tc Cert.ProjKernelIdeal.main_v18),
    (θ_run Cert.ProjKernelIdeal.defs _ _).mono (fun _ e c =>
      ⟨e.1 c _ (Cert.ProjKernelIdeal.Gen.mem_uc Cert.ProjKernelIdeal.main_v19 (by decide)),
        e.1 c _ (Cert.ProjKernelIdeal.Gen.mem_uc Cert.ProjKernelIdeal.main_v20 (by decide)),
        e.1 c _ (Cert.ProjKernelIdeal.Gen.mem_uc Cert.ProjKernelIdeal.main_v21 (by decide)),
        e.1 c _ (Cert.ProjKernelIdeal.Gen.mem_uc Cert.ProjKernelIdeal.main_v17 (by decide)),
        e.1 c _ (Cert.ProjKernelIdeal.Gen.mem_uc Cert.ProjKernelIdeal.main_v18 (by decide)),
        (e.1 c _ (Cert.ProjKernelIdeal.Gen.mem_uc Cert.ProjKernelIdeal.main_arg0 (by decide))).trans (Cert.ProjKernelIdeal.Gen.W7_main_arg0 m g c),
        (e.1 c _ (Cert.ProjKernelIdeal.Gen.mem_uc Cert.ProjKernelIdeal.main_arg1 (by decide))).trans (Cert.ProjKernelIdeal.Gen.W7_main_arg1 m g c),
        (e.1 c _ (Cert.ProjKernelIdeal.Gen.mem_uc Cert.ProjKernelIdeal.main_arg2 (by decide))).trans (Cert.ProjKernelIdeal.Gen.W7_main_arg2 m g c),
        (e.1 c _ (Cert.ProjKernelIdeal.Gen.mem_uc Cert.ProjKernelIdeal.main_arg3 (by decide))).trans (Cert.ProjKernelIdeal.Gen.W7_main_arg3 m g c),
        (e.1 c _ (Cert.ProjKernelIdeal.Gen.mem_uc Cert.ProjKernelIdeal.main_arg4 (by decide))).trans (Cert.ProjKernelIdeal.Gen.W7_main_arg4 m g c),
        (e.1 c _ (Cert.ProjKernelIdeal.Gen.mem_uc Cert.ProjKernelIdeal.main_arg5 (by decide))).trans (Cert.ProjKernelIdeal.Gen.W7_main_arg5 m g c)⟩)
      (ends m g),
    (θ_run Cert.ProjReferenceIdeal.defs _ _).mono (fun _ e c => by
      obtain ⟨e0, e1, e2, e3, e4, e5⟩ := e c
      obtain ⟨h0, h1, h2, h3, h4, h5⟩ := h c
      rw [h0, h1] at e0
      rw [h2, h3] at e1
      rw [h3, h4] at e2
      rw [h2, h4] at e3
      rw [h0, h5] at e4
      exact ⟨e0.trans ((r_v0 (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1))).trans (k_v19 m g c).symm),
        e1.trans ((r_v1 (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3))).trans (k_v20 m g c).symm),
        e2.trans ((r_v4 (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4))).trans (k_v21 m g c).symm),
        e3.trans ((r_v7 (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg4))).trans (k_v17 m g c).symm),
        e4.trans ((r_v8 (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg5))).trans (k_v18 m g c).symm),
        e5⟩)
      (Cert.ProjReferenceIdeal.Value.run m' g')⟩

end Cert.Proj

end
-- ==== Proof.Dn1Acc.lean ====
/- A product accumulated over 7 blocks of columns leaves the whole product in its result array. -/
module

public import proofs.«01_k».proof.Proof.FfnSpec
public import proofs.«01_k».proof.Proof.Gen.Dn1KernelIdeal.Value
public import Idealize.ShloMosaic.Lib.Pointwise
public import Idealize.ShloMosaic.Lib.StableHlo.ReadAt
public import Idealize.ShloMosaic.Lib.Tactic

@[expose] public section

set_option maxRecDepth 16384

noncomputable section

namespace Cert.Dn1

open Idealize.ShloMosaic Idealize.ShloMosaic.TcCoe Idealize.ShloMosaic.Tactic Idealize.ShloMosaic.Pipeline
open Cert.Dn1KernelIdeal Cert.Dn1KernelIdeal.Gen
open Cert.Ret (get2)
open Cert.Ffn (mat mat_get2 mul tr)

/-! ## What a point leaves -/

section Pieces

variable {F : FTy → Type} [FloatOps F]

theorem origin : (![0, 0] : Fin 2 → Nat) = fun _ => 0 := funext fun a => by fin_cases a <;> rfl

/-- The first block of columns: its product. -/
theorem sout0_A_0_eq (c : Dev nD) (i : grid0.Coords) (a3 : Memref sig .tc .vmem S704x2048 .bf16) (h3 : a3.IsWhole) (a4 : Memref sig .tc .vmem S2048x2048 .bf16) (h4 : a4.IsWhole) (a5 : Memref sig .tc .vmem S704x2048 .f32) (h5 : a5.IsWhole) (a6 : Memref sig .tc .vmem S704x2048 .f32) (h6 : a6.IsWhole) (hc0 : cond0_0 i) (hc1 : ¬cond0_1 i) (hc2 : ¬cond0_2 i)
    (x : Vec F S704x2048 .bf16) (y : Vec F S2048x2048 .bf16) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  try sl_unfold_words
  rw [View.canon_unit_zero origin]
  try rw [View.readCov_unit_zero (S := S704x2048) _ origin]
  try unfold k0_pay2
  try unfold k0_pay3
  simp only [View.readAt_eq_ld, h3.read_unread, h4.read_unread, h6.read_unread, View.ld_unit_zero (S := S704x2048) origin, View.ld_unit_zero (S := S2048x2048) origin, View.ld_unit_zero (S := S704x2048) origin, shapeCast_self]
/-- A later block of columns: its product on top of what was there. -/
theorem sout0_B_0_eq (c : Dev nD) (i : grid0.Coords) (a3 : Memref sig .tc .vmem S704x2048 .bf16) (h3 : a3.IsWhole) (a4 : Memref sig .tc .vmem S2048x2048 .bf16) (h4 : a4.IsWhole) (a5 : Memref sig .tc .vmem S704x2048 .f32) (h5 : a5.IsWhole) (a6 : Memref sig .tc .vmem S704x2048 .f32) (h6 : a6.IsWhole) (hc0 : ¬cond0_0 i) (hc1 : cond0_1 i) (hc2 : ¬cond0_2 i)
    (x : Vec F S704x2048 .bf16) (y : Vec F S2048x2048 .bf16) (z : Vec F S704x2048 .f32) : sout0_B_0 c i a3 h3 a4 h4 a5 h5 a6 h6 hc0 hc1 hc2 x y z = addf z (k0_pay1 x y) := by
  unfold sout0_B_0
  rw [View.read_writes_eq_canon _ _ _ (scover0_B_0 c i a3 h3 a4 h4 a5 h5 a6 h6 hc0 hc1 hc2 x y z)]
  unfold kernelRun0_B
  dsimp only
  try sl_unfold_words
  rw [View.canon_unit_zero origin]
  try rw [View.readCov_unit_zero (S := S704x2048) _ origin]
  try unfold k0_pay2
  try unfold k0_pay3
  simp only [View.readAt_eq_ld, h3.read_unread, h4.read_unread, h6.read_unread, View.ld_unit_zero (S := S704x2048) origin, View.ld_unit_zero (S := S2048x2048) origin, View.ld_unit_zero (S := S704x2048) origin, shapeCast_self]
/-- The last block of columns leaves the same in the accumulator. -/
theorem sout0_C_0_eq (c : Dev nD) (i : grid0.Coords) (a3 : Memref sig .tc .vmem S704x2048 .bf16) (h3 : a3.IsWhole) (a4 : Memref sig .tc .vmem S2048x2048 .bf16) (h4 : a4.IsWhole) (a5 : Memref sig .tc .vmem S704x2048 .f32) (h5 : a5.IsWhole) (a6 : Memref sig .tc .vmem S704x2048 .f32) (h6 : a6.IsWhole) (hc0 : ¬cond0_0 i) (hc1 : cond0_1 i) (hc2 : cond0_2 i)
    (x : Vec F S704x2048 .bf16) (y : Vec F S2048x2048 .bf16) (z : Vec F S704x2048 .f32) : sout0_C_0 c i a3 h3 a4 h4 a5 h5 a6 h6 hc0 hc1 hc2 x y z = addf z (k0_pay1 x y) := by
  unfold sout0_C_0
  rw [View.read_writes_eq_canon _ _ _ (scover0_C_0 c i a3 h3 a4 h4 a5 h5 a6 h6 hc0 hc1 hc2 x y z)]
  unfold kernelRun0_C
  dsimp only
  try sl_unfold_words
  rw [View.canon_unit_zero origin]
  try rw [View.readCov_unit_zero (S := S704x2048) _ origin]
  try unfold k0_pay2
  try unfold k0_pay3
  simp only [View.readAt_eq_ld, h3.read_unread, h4.read_unread, h6.read_unread, View.ld_unit_zero (S := S704x2048) origin, View.ld_unit_zero (S := S2048x2048) origin, View.ld_unit_zero (S := S704x2048) origin, shapeCast_self]
/-- The last block of columns copies the accumulator to the result. -/
theorem out0_C_2_eq (c : Dev nD) (i : grid0.Coords) (a3 : Memref sig .tc .vmem S704x2048 .bf16) (h3 : a3.IsWhole) (a4 : Memref sig .tc .vmem S2048x2048 .bf16) (h4 : a4.IsWhole) (a5 : Memref sig .tc .vmem S704x2048 .f32) (h5 : a5.IsWhole) (a6 : Memref sig .tc .vmem S704x2048 .f32) (h6 : a6.IsWhole) (hc0 : ¬cond0_0 i) (hc1 : cond0_1 i) (hc2 : cond0_2 i)
    (x : Vec F S704x2048 .bf16) (y : Vec F S2048x2048 .bf16) (z : Vec F S704x2048 .f32) : out0_C_2 c i a3 h3 a4 h4 a5 h5 a6 h6 hc0 hc1 hc2 x y z = addf z (k0_pay1 x y) := by
  unfold out0_C_2
  rw [View.read_writes_eq_canon _ _ _ (cover0_C_2 c i a3 h3 a4 h4 a5 h5 a6 h6 hc0 hc1 hc2 x y z)]
  unfold kernelRun0_C
  dsimp only
  try sl_unfold_words
  rw [View.canon_unit_zero origin]
  try rw [View.readCov_unit_zero (S := S704x2048) _ origin]
  try unfold k0_pay2
  try unfold k0_pay3
  simp only [View.readAt_eq_ld, h3.read_unread, h4.read_unread, h6.read_unread, View.ld_unit_zero (S := S704x2048) origin, View.ld_unit_zero (S := S2048x2048) origin, View.ld_unit_zero (S := S704x2048) origin, shapeCast_self]

end Pieces

variable (m : (ℓ : Loc nD τ sig) → Buf (Elt Ideal) ℓ) (c : Dev nD)

theorem pay (x : Vec Ideal S704x2048 .bf16) (y : Vec Ideal S2048x2048 .bf16) (f g : ℕ → ℕ → EReal) (hx : x = mat f) (hy : y = mat g) :
    k0_pay1 x y = (mat (mul 2048 f (tr g)) : Vec Ideal S704x2048 .f32) := by
  subst hx hy
  funext i
  unfold k0_pay1
  pointwise
  rfl

/-! ## The blocks -/

/-- The cotangent. -/
def ct : ℕ → ℕ → EReal := get2 (m (c, Proc.devRef .tc main_arg0) : Vec Ideal S4224x14336 .f32)
/-- The weights. -/
def wt : ℕ → ℕ → EReal := get2 (m (c, Proc.devRef .tc main_arg1) : Vec Ideal S4096x14336 .f32)

theorem entry_0 : (V m c main_v0 : Vec Ideal S4224x14336 .bf16) = mat (ct m c) := by
  refine Eq.trans ?_ (mat_get2 _)
  funext i
  obtain ⟨r, b, rfl⟩ : ∃ (r : Fin 4224) (b : Fin 14336), i = ix2 r b := ⟨i 0, i 1, by funext k; fin_cases k <;> rfl⟩
  after_reads_at
theorem entry_1 : (V m c main_v1 : Vec Ideal S4096x14336 .bf16) = mat (wt m c) := by
  refine Eq.trans ?_ (mat_get2 _)
  funext i
  obtain ⟨r, b, rfl⟩ : ∃ (r : Fin 4096) (b : Fin 14336), i = ix2 r b := ⟨i 0, i 1, by funext k; fin_cases k <;> rfl⟩
  after_reads_at
theorem idx_0 : ∀ t : Fin cfg0.N, win0_0.index t (0 : Fin 2) = t.val / 14 ∧ win0_0.index t (1 : Fin 2) = t.val % 7 :=
  (by decide +kernel : ∀ t : Fin grid0.N, win0_0.index t (0 : Fin 2) = t.val / 14 ∧ win0_0.index t (1 : Fin 2) = t.val % 7)
theorem idx_1 : ∀ t : Fin cfg0.N, win0_1.index t (0 : Fin 2) = t.val / 7 % 2 ∧ win0_1.index t (1 : Fin 2) = t.val % 7 :=
  (by decide +kernel : ∀ t : Fin grid0.N, win0_1.index t (0 : Fin 2) = t.val / 7 % 2 ∧ win0_1.index t (1 : Fin 2) = t.val % 7)
theorem idx_2 : ∀ t : Fin cfg0.N, win0_2.index t (0 : Fin 2) = t.val / 14 ∧ win0_2.index t (1 : Fin 2) = t.val / 7 % 2 :=
  (by decide +kernel : ∀ t : Fin grid0.N, win0_2.index t (0 : Fin 2) = t.val / 14 ∧ win0_2.index t (1 : Fin 2) = t.val / 7 % 2)
theorem blk_0 (t : Fin cfg0.N) : (iblk m c 0 t : Vec Ideal S704x2048 .bf16) = mat fun a b => ct m c (t.val / 14 * 704 + a) (t.val % 7 * 2048 + b) := by
  have e := idx_0 t
  funext y
  refine (congrFun (entry_0 m c) _).trans ?_
  show ct m c (win0_0.index t (0 : Fin 2) * 704 + 1 * (y 0).val) (win0_0.index t (1 : Fin 2) * 2048 + 1 * (y 1).val) = ct m c _ _
  rw [e.1, e.2, one_mul, one_mul]
theorem blk_1 (t : Fin cfg0.N) : (iblk m c 1 t : Vec Ideal S2048x2048 .bf16) = mat fun a b => wt m c (t.val / 7 % 2 * 2048 + a) (t.val % 7 * 2048 + b) := by
  have e := idx_1 t
  funext y
  refine (congrFun (entry_1 m c) _).trans ?_
  show wt m c (win0_1.index t (0 : Fin 2) * 2048 + 1 * (y 0).val) (win0_1.index t (1 : Fin 2) * 2048 + 1 * (y 1).val) = wt m c _ _
  rw [e.1, e.2, one_mul, one_mul]

/-! ## The accumulator -/

/-- One block of columns more. -/
theorem mul_more (q i j : ℕ) (f g : ℕ → ℕ → EReal) :
    mul (q * 2048) f g i j + ∑ k : Fin 2048, f i (q * 2048 + k.val) * g (q * 2048 + k.val) j = mul ((q + 1) * 2048) f g i j := by
  unfold mul
  rw [Fin.sum_univ_eq_sum_range (fun k => f i k * g k j) (q * 2048), Fin.sum_univ_eq_sum_range (fun k => f i (q * 2048 + k) * g (q * 2048 + k) j) 2048,
    Fin.sum_univ_eq_sum_range (fun k => f i k * g k j) ((q + 1) * 2048), Nat.succ_mul, Finset.sum_range_add]

/-- No columns at all. -/
theorem mul_none (f g : ℕ → ℕ → EReal) (i j : ℕ) : mul 0 f g i j = 0 := Fin.sum_univ_zero _

/-- The product over the first `q` blocks of columns, at point `t`'s block of the result. -/
def upto (t q : ℕ) : Vec Ideal S704x2048 .f32 :=
  mat fun a b => mul (q * 2048) (ct m c) (tr (wt m c)) (t / 14 * 704 + a) (t / 7 % 2 * 2048 + b)

theorem step (t : Fin cfg0.N) : addf (upto m c t.val (t.val % 7)) (k0_pay1 (iblk m c 0 t) (iblk m c 1 t)) = upto m c t.val (t.val % 7 + 1) := by
  rw [pay _ _ _ _ (blk_0 m c t) (blk_1 m c t)]
  funext y
  exact mul_more (t.val % 7) _ _ (ct m c) (tr (wt m c))

theorem first (t : Fin cfg0.N) (h : t.val % 7 = 0) : k0_pay1 (iblk m c 0 t) (iblk m c 1 t) = upto m c t.val (t.val % 7 + 1) := by
  refine Eq.trans ?_ (step m c t)
  funext y
  have e : upto m c t.val (t.val % 7) y = 0 := by
    unfold upto
    rw [h, Nat.zero_mul]
    exact mul_none (ct m c) (tr (wt m c)) (t.val / 14 * 704 + (y 0).val) (t.val / 7 % 2 * 2048 + (y 1).val)
  show _ = upto m c t.val (t.val % 7) y + _
  rw [e]
  exact (zero_add _).symm

theorem at_A (t : Fin cfg0.N) (h0 : t.val % 7 = 0) (h1 : ¬1 ≤ t.val % 7) (h2 : ¬t.val % 7 = 6) :
    (outsAt0 m c t.val t.isLt).2 = k0_pay1 (iblk m c 0 t) (iblk m c 1 t) := by
  rw [outsAt0_A m c t h0 h1 h2]
  dsimp only
  rw [sout0_A_0_eq]

theorem at_B (t : Fin cfg0.N) (h0 : ¬t.val % 7 = 0) (h1 : 1 ≤ t.val % 7) (h2 : ¬t.val % 7 = 6) :
    (outsAt0 m c t.val t.isLt).2 = addf (outsAt0 m c (t.val - 1) (Nat.lt_of_le_of_lt (Nat.sub_le _ _) t.isLt)).2 (k0_pay1 (iblk m c 0 t) (iblk m c 1 t)) := by
  rw [outsAt0_B m c t h0 h1 h2]
  dsimp only
  rw [sout0_B_0_eq]

theorem at_C (t : Fin cfg0.N) (h0 : ¬t.val % 7 = 0) (h1 : 1 ≤ t.val % 7) (h2 : t.val % 7 = 6) :
    (outsAt0 m c t.val t.isLt).2 = addf (outsAt0 m c (t.val - 1) (Nat.lt_of_le_of_lt (Nat.sub_le _ _) t.isLt)).2 (k0_pay1 (iblk m c 0 t) (iblk m c 1 t)) := by
  rw [outsAt0_C m c t h0 h1 h2]
  dsimp only
  rw [sout0_C_0_eq]

theorem at_C_out (t : Fin cfg0.N) (h0 : ¬t.val % 7 = 0) (h1 : 1 ≤ t.val % 7) (h2 : t.val % 7 = 6) :
    (outsAt0 m c t.val t.isLt).1 = addf (outsAt0 m c (t.val - 1) (Nat.lt_of_le_of_lt (Nat.sub_le _ _) t.isLt)).2 (k0_pay1 (iblk m c 0 t) (iblk m c 1 t)) := by
  rw [outsAt0_C m c t h0 h1 h2]
  dsimp only
  rw [out0_C_2_eq]

/-- The point before a later one of the same block of the result. -/
theorem upto_before (n : ℕ) (h0 : ¬n % 7 = 0) : upto m c (n - 1) ((n - 1) % 7 + 1) = upto m c n (n % 7) := by
  unfold upto
  rw [show (n - 1) % 7 + 1 = n % 7 by omega, show (n - 1) / 14 = n / 14 by omega, show (n - 1) / 7 = n / 7 by omega]

/-- After point `n` the accumulator holds the product over the blocks of columns up to its own. -/
theorem acc (n : ℕ) : ∀ (h : n < cfg0.N), (outsAt0 m c n h).2 = upto m c n (n % 7 + 1) := by
  induction n using Nat.strong_induction_on with
  | _ n ih =>
    intro h
    by_cases h0 : n % 7 = 0
    · exact (at_A m c ⟨n, h⟩ h0 (by dsimp only; omega) (by dsimp only; omega)).trans (first m c ⟨n, h⟩ h0)
    · have ip := (ih (n - 1) (by omega) (Nat.lt_of_le_of_lt (Nat.sub_le _ _) h)).trans (upto_before m c n h0)
      have e : (outsAt0 m c n h).2 = addf (outsAt0 m c (n - 1) (Nat.lt_of_le_of_lt (Nat.sub_le _ _) h)).2 (k0_pay1 (iblk m c 0 ⟨n, h⟩) (iblk m c 1 ⟨n, h⟩)) := by
        by_cases h2 : n % 7 = 6
        · exact at_C m c ⟨n, h⟩ h0 (by dsimp only; omega) h2
        · exact at_B m c ⟨n, h⟩ h0 (by dsimp only; omega) h2
      rw [e, ip]
      exact step m c ⟨n, h⟩

/-- A point that writes its block back writes what the accumulator holds: the product over all the columns. -/
theorem left (t : Fin cfg0.N) (h2 : t.val % 7 = 6) : (outsAt0 m c t.val t.isLt).1
    = (mat fun a b => mul 14336 (ct m c) (tr (wt m c)) (t.val / 14 * 704 + a) (t.val / 7 % 2 * 2048 + b) : Vec Ideal S704x2048 .f32) := by
  have e := (at_C_out m c t (by omega) (by omega) h2).trans (at_C m c t (by omega) (by omega) h2).symm
  rw [e, acc m c t.val t.isLt, h2]
  unfold upto
  rw [show (6 + 1) * 2048 = 14336 from rfl]

/-- The result array: the product of the cotangent and the weights turned over. -/
theorem out : Cert.Dn1KernelIdeal.Value.G2 m c = (mat (mul 14336 (ct m c) (tr (wt m c))) : Vec Ideal S4224x4096 .f32) := by
  refine (Cert.Dn1KernelIdeal.Value.final2 m c).symm.trans ?_
  refine (dats m 0 c).arrAt_eq_of_cover 2 _ (fun t hf => ?_) (fun i => (Cert.Dn1KernelIdeal.Value.covered_iff2 i).2 (by
    have h0 : (i 0).val < 4224 := (i 0).isLt; have h1 : (i 1).val < 4096 := (i 1).isLt; omega))
  have h2 : t.val % 7 = 6 := (flush0_2 t).mp hf
  have e2 : (dats m 0 c).flushed 2 t = (cfg0.win 2).cut (grid0.coords t) (mat fun a b => mul 14336 (ct m c) (tr (wt m c)) (t.val / 14 * 704 + a) (t.val / 7 % 2 * 2048 + b) : Vec Ideal S704x2048 .f32) := by
    rw [Cert.Dn1KernelIdeal.Value.flushed2, left m c t h2]
  rw [e2]
  have h := idx_2 t
  funext y
  have b0 : (((cfg0.win 2).blk t).view.emb y 0).val = (t.val / 14) * 704 + (y 0).val := by
    show win0_2.index t (0 : Fin 2) * 704 + 1 * (y 0).val = _; rw [h.1, one_mul]
  have b1 : (((cfg0.win 2).blk t).view.emb y 1).val = (t.val / 7 % 2) * 2048 + (y 1).val := by
    show win0_2.index t (1 : Fin 2) * 2048 + 1 * (y 1).val = _; rw [h.2, one_mul]
  have e := (congrArg₂ (mul 14336 (ct m c) (tr (wt m c))) b0 b1).symm
  generalize mul 14336 (ct m c) (tr (wt m c)) = p at e ⊢
  exact e

end Cert.Dn1

end
-- ==== Proof.Dn1Same.lean ====
/- A product accumulated over 7 blocks of columns and its reference: how they run, and that they end with the same result. -/
module

public import proofs.«01_k».proof.Defs
public import proofs.«01_k».proof.Proof.Gen.Dn1Kernel
public import proofs.«01_k».proof.Proof.Dn1Acc
public import proofs.«01_k».proof.Proof.Gen.Dn1ReferenceIdeal.Run
public import proofs.«01_k».proof.Proof.Gen.Dn1ReferenceIdeal.Read
public import Idealize.ShloMosaic.Lib.Quiescent

@[expose] public section

noncomputable section

namespace Cert.Dn1

open Idealize.ShloMosaic Idealize.SL.Sem Idealize.ShloMosaic.Tactic
open Cert.Ffn (mat mat_get2 mul tr)
open Cert.Ret (get2)

/-- The idealized program's frame, its text run over the bit-level floats. -/
def bitsFrame : Prop :=
  ∀ (m : (ℓ : Loc Cert.Dn1KernelIdeal.nD Cert.Dn1KernelIdeal.τ Cert.Dn1KernelIdeal.sig) → Buf (Elt Bits) ℓ) (g : Dev Cert.Dn1KernelIdeal.nD → PrngReg), True →
    θ_run (Cert.Dn1KernelIdeal.defs (F := Bits)) (onTc (τ := Cert.Dn1KernelIdeal.τ) (Cert.Dn1KernelIdeal.main (F := Bits))) ⟨m, fun _ => 0, g⟩ (fun r => (∀ c : Dev Cert.Dn1KernelIdeal.nD,
      r.2.mem ((c.tc : Thread Cert.Dn1KernelIdeal.nD Cert.Dn1KernelIdeal.τ).loc Cert.Dn1KernelIdeal.main_arg0) = m ((c.tc : Thread Cert.Dn1KernelIdeal.nD Cert.Dn1KernelIdeal.τ).loc Cert.Dn1KernelIdeal.main_arg0)
      ∧ r.2.mem ((c.tc : Thread Cert.Dn1KernelIdeal.nD Cert.Dn1KernelIdeal.τ).loc Cert.Dn1KernelIdeal.main_arg1) = m ((c.tc : Thread Cert.Dn1KernelIdeal.nD Cert.Dn1KernelIdeal.τ).loc Cert.Dn1KernelIdeal.main_arg1))
      ∧ r.2.sem = fun _ => 0)

/-- The two programs have the same text. -/
theorem same_text : bitsFrame = Cert.quiescent_Dn1Kernel := by sl_kernel_rfl

theorem frame_kernel : Cert.quiescent_Dn1Kernel :=
  same_text.mp fun m ρ _ => Cert.Dn1KernelIdeal.Gen.frame (F := Bits) m ρ
theorem frame_kernelIdeal : Cert.quiescent_Dn1KernelIdeal := fun m ρ _ => Cert.Dn1KernelIdeal.Gen.frame m ρ

/-- The reference keeps its arguments; it declares no semaphore. -/
theorem frame_reference : Cert.quiescent_Dn1ReferenceIdeal := fun m ρ _ =>
  (θ_run Cert.Dn1ReferenceIdeal.defs _ _).mono (fun r e => ⟨fun c => (e c).2, sem_eq_zero_of_no_sems (by decide) r.2⟩) (Cert.Dn1ReferenceIdeal.Value.run m ρ)

/-- The reference's product. -/
theorem r_out (x0 : (⟨Cert.Dn1ReferenceIdeal.S4224x14336, .f32⟩ : BufTy).Contents (Elt Ideal)) (x1 : (⟨Cert.Dn1ReferenceIdeal.S4096x14336, .f32⟩ : BufTy).Contents (Elt Ideal)) :
    Cert.Dn1ReferenceIdeal.Read.val_main_v2 (F := Ideal) x0 x1
      = mat (mul 14336 (get2 (x0 : Vec Ideal Cert.Dn1ReferenceIdeal.S4224x14336 .f32)) (tr (get2 (x1 : Vec Ideal Cert.Dn1ReferenceIdeal.S4096x14336 .f32)))) := by
  funext i
  rw [Cert.Dn1ReferenceIdeal.Read.val_main_v2_apply]
  show _ = ∑ k : Fin 14336, get2 (x0 : Vec Ideal Cert.Dn1ReferenceIdeal.S4224x14336 .f32) (i 0).val k.val * get2 (x1 : Vec Ideal Cert.Dn1ReferenceIdeal.S4096x14336 .f32) (i 1).val k.val
  exact Finset.sum_congr rfl fun k _ => congrArg₂ (· * ·) (congrFun (mat_get2 x0) _) (congrFun (mat_get2 x1) _)

/-- Run on the same arguments, the two programs end with the same result. -/
theorem same_results : Cert.algebraic_Dn1KernelIdeal_Dn1ReferenceIdeal := fun m g m' g' _ h =>
  ⟨fun c => Cert.Dn1KernelIdeal.Value.G2 m c, Cert.Dn1KernelIdeal.Value.run m g,
    (θ_run Cert.Dn1ReferenceIdeal.defs _ _).mono (fun _ e c => by
      obtain ⟨e0, e1⟩ := e c
      obtain ⟨h0, h1⟩ := h c
      rw [h0, h1] at e0
      exact ⟨e0.trans ((r_out (m ((c.tc : Thread Cert.Dn1KernelIdeal.nD Cert.Dn1KernelIdeal.τ).loc Cert.Dn1KernelIdeal.main_arg0)) (m ((c.tc : Thread Cert.Dn1KernelIdeal.nD Cert.Dn1KernelIdeal.τ).loc Cert.Dn1KernelIdeal.main_arg1))).trans (out m c).symm), e1⟩)
      (Cert.Dn1ReferenceIdeal.Value.run m' g')⟩

end Cert.Dn1

end
-- ==== Proof.Dn2Acc.lean ====
/- A product accumulated over 4 blocks of columns leaves the whole product in its result array. -/
module

public import proofs.«01_k».proof.Proof.FfnSpec
public import proofs.«01_k».proof.Proof.Gen.Dn2KernelIdeal.Value
public import Idealize.ShloMosaic.Lib.Pointwise
public import Idealize.ShloMosaic.Lib.StableHlo.ReadAt
public import Idealize.ShloMosaic.Lib.Tactic

@[expose] public section

set_option maxRecDepth 16384

noncomputable section

namespace Cert.Dn2

open Idealize.ShloMosaic Idealize.ShloMosaic.TcCoe Idealize.ShloMosaic.Tactic Idealize.ShloMosaic.Pipeline
open Cert.Dn2KernelIdeal Cert.Dn2KernelIdeal.Gen
open Cert.Ret (get2)
open Cert.Ffn (mat mat_get2 mul tr)

/-! ## What a point leaves -/

section Pieces

variable {F : FTy → Type} [FloatOps F]

theorem origin : (![0, 0] : Fin 2 → Nat) = fun _ => 0 := funext fun a => by fin_cases a <;> rfl

/-- The first block of columns: its product. -/
theorem sout0_A_0_eq (c : Dev nD) (i : grid0.Coords) (a3 : Memref sig .tc .vmem S528x5504 .bf16) (h3 : a3.IsWhole) (a4 : Memref sig .tc .vmem S1024x5504 .bf16) (h4 : a4.IsWhole) (a5 : Memref sig .tc .vmem S528x1024 .f32) (h5 : a5.IsWhole) (a6 : Memref sig .tc .vmem S528x1024 .f32) (h6 : a6.IsWhole) (hc0 : cond0_0 i) (hc1 : ¬cond0_1 i) (hc2 : ¬cond0_2 i)
    (x : Vec F S528x5504 .bf16) (y : Vec F S1024x5504 .bf16) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  try sl_unfold_words
  rw [View.canon_unit_zero origin]
  try rw [View.readCov_unit_zero (S := S528x1024) _ origin]
  try unfold k0_pay2
  try unfold k0_pay3
  simp only [View.readAt_eq_ld, h3.read_unread, h4.read_unread, h6.read_unread, View.ld_unit_zero (S := S528x5504) origin, View.ld_unit_zero (S := S1024x5504) origin, View.ld_unit_zero (S := S528x1024) origin, shapeCast_self]
/-- A later block of columns: its product on top of what was there. -/
theorem sout0_B_0_eq (c : Dev nD) (i : grid0.Coords) (a3 : Memref sig .tc .vmem S528x5504 .bf16) (h3 : a3.IsWhole) (a4 : Memref sig .tc .vmem S1024x5504 .bf16) (h4 : a4.IsWhole) (a5 : Memref sig .tc .vmem S528x1024 .f32) (h5 : a5.IsWhole) (a6 : Memref sig .tc .vmem S528x1024 .f32) (h6 : a6.IsWhole) (hc0 : ¬cond0_0 i) (hc1 : cond0_1 i) (hc2 : ¬cond0_2 i)
    (x : Vec F S528x5504 .bf16) (y : Vec F S1024x5504 .bf16) (z : Vec F S528x1024 .f32) : sout0_B_0 c i a3 h3 a4 h4 a5 h5 a6 h6 hc0 hc1 hc2 x y z = addf z (k0_pay1 x y) := by
  unfold sout0_B_0
  rw [View.read_writes_eq_canon _ _ _ (scover0_B_0 c i a3 h3 a4 h4 a5 h5 a6 h6 hc0 hc1 hc2 x y z)]
  unfold kernelRun0_B
  dsimp only
  try sl_unfold_words
  rw [View.canon_unit_zero origin]
  try rw [View.readCov_unit_zero (S := S528x1024) _ origin]
  try unfold k0_pay2
  try unfold k0_pay3
  simp only [View.readAt_eq_ld, h3.read_unread, h4.read_unread, h6.read_unread, View.ld_unit_zero (S := S528x5504) origin, View.ld_unit_zero (S := S1024x5504) origin, View.ld_unit_zero (S := S528x1024) origin, shapeCast_self]
/-- The last block of columns leaves the same in the accumulator. -/
theorem sout0_C_0_eq (c : Dev nD) (i : grid0.Coords) (a3 : Memref sig .tc .vmem S528x5504 .bf16) (h3 : a3.IsWhole) (a4 : Memref sig .tc .vmem S1024x5504 .bf16) (h4 : a4.IsWhole) (a5 : Memref sig .tc .vmem S528x1024 .f32) (h5 : a5.IsWhole) (a6 : Memref sig .tc .vmem S528x1024 .f32) (h6 : a6.IsWhole) (hc0 : ¬cond0_0 i) (hc1 : cond0_1 i) (hc2 : cond0_2 i)
    (x : Vec F S528x5504 .bf16) (y : Vec F S1024x5504 .bf16) (z : Vec F S528x1024 .f32) : sout0_C_0 c i a3 h3 a4 h4 a5 h5 a6 h6 hc0 hc1 hc2 x y z = addf z (k0_pay1 x y) := by
  unfold sout0_C_0
  rw [View.read_writes_eq_canon _ _ _ (scover0_C_0 c i a3 h3 a4 h4 a5 h5 a6 h6 hc0 hc1 hc2 x y z)]
  unfold kernelRun0_C
  dsimp only
  try sl_unfold_words
  rw [View.canon_unit_zero origin]
  try rw [View.readCov_unit_zero (S := S528x1024) _ origin]
  try unfold k0_pay2
  try unfold k0_pay3
  simp only [View.readAt_eq_ld, h3.read_unread, h4.read_unread, h6.read_unread, View.ld_unit_zero (S := S528x5504) origin, View.ld_unit_zero (S := S1024x5504) origin, View.ld_unit_zero (S := S528x1024) origin, shapeCast_self]
/-- The last block of columns copies the accumulator to the result. -/
theorem out0_C_2_eq (c : Dev nD) (i : grid0.Coords) (a3 : Memref sig .tc .vmem S528x5504 .bf16) (h3 : a3.IsWhole) (a4 : Memref sig .tc .vmem S1024x5504 .bf16) (h4 : a4.IsWhole) (a5 : Memref sig .tc .vmem S528x1024 .f32) (h5 : a5.IsWhole) (a6 : Memref sig .tc .vmem S528x1024 .f32) (h6 : a6.IsWhole) (hc0 : ¬cond0_0 i) (hc1 : cond0_1 i) (hc2 : cond0_2 i)
    (x : Vec F S528x5504 .bf16) (y : Vec F S1024x5504 .bf16) (z : Vec F S528x1024 .f32) : out0_C_2 c i a3 h3 a4 h4 a5 h5 a6 h6 hc0 hc1 hc2 x y z = addf z (k0_pay1 x y) := by
  unfold out0_C_2
  rw [View.read_writes_eq_canon _ _ _ (cover0_C_2 c i a3 h3 a4 h4 a5 h5 a6 h6 hc0 hc1 hc2 x y z)]
  unfold kernelRun0_C
  dsimp only
  try sl_unfold_words
  rw [View.canon_unit_zero origin]
  try rw [View.readCov_unit_zero (S := S528x1024) _ origin]
  try unfold k0_pay2
  try unfold k0_pay3
  simp only [View.readAt_eq_ld, h3.read_unread, h4.read_unread, h6.read_unread, View.ld_unit_zero (S := S528x5504) origin, View.ld_unit_zero (S := S1024x5504) origin, View.ld_unit_zero (S := S528x1024) origin, shapeCast_self]

end Pieces

variable (m : (ℓ : Loc nD τ sig) → Buf (Elt Ideal) ℓ) (c : Dev nD)

theorem pay (x : Vec Ideal S528x5504 .bf16) (y : Vec Ideal S1024x5504 .bf16) (f g : ℕ → ℕ → EReal) (hx : x = mat f) (hy : y = mat g) :
    k0_pay1 x y = (mat (mul 5504 f (tr g)) : Vec Ideal S528x1024 .f32) := by
  subst hx hy
  funext i
  unfold k0_pay1
  pointwise
  rfl

/-! ## The blocks -/

/-- The cotangent. -/
def ct : ℕ → ℕ → EReal := get2 (m (c, Proc.devRef .tc main_arg0) : Vec Ideal S4224x22016 .f32)
/-- The weights. -/
def wt : ℕ → ℕ → EReal := get2 (m (c, Proc.devRef .tc main_arg1) : Vec Ideal S4096x22016 .f32)

theorem entry_0 : (V m c main_v0 : Vec Ideal S4224x22016 .bf16) = mat (ct m c) := by
  refine Eq.trans ?_ (mat_get2 _)
  funext i
  obtain ⟨r, b, rfl⟩ : ∃ (r : Fin 4224) (b : Fin 22016), i = ix2 r b := ⟨i 0, i 1, by funext k; fin_cases k <;> rfl⟩
  after_reads_at
theorem entry_1 : (V m c main_v1 : Vec Ideal S4096x22016 .bf16) = mat (wt m c) := by
  refine Eq.trans ?_ (mat_get2 _)
  funext i
  obtain ⟨r, b, rfl⟩ : ∃ (r : Fin 4096) (b : Fin 22016), i = ix2 r b := ⟨i 0, i 1, by funext k; fin_cases k <;> rfl⟩
  after_reads_at
theorem idx_0 : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem idx_1 : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
theorem idx_2 : ∀ t : Fin cfg0.N, win0_2.index t (0 : Fin 2) = t.val / 16 ∧ win0_2.index t (1 : Fin 2) = t.val / 4 % 4 :=
  (by decide +kernel : ∀ t : Fin grid0.N, win0_2.index t (0 : Fin 2) = t.val / 16 ∧ win0_2.index t (1 : Fin 2) = t.val / 4 % 4)
theorem blk_0 (t : Fin cfg0.N) : (iblk m c 0 t : Vec Ideal S528x5504 .bf16) = mat fun a b => ct m c (t.val / 16 * 528 + a) (t.val % 4 * 5504 + b) := by
  have e := idx_0 t
  funext y
  refine (congrFun (entry_0 m c) _).trans ?_
  show ct m c (win0_0.index t (0 : Fin 2) * 528 + 1 * (y 0).val) (win0_0.index t (1 : Fin 2) * 5504 + 1 * (y 1).val) = ct m c _ _
  rw [e.1, e.2, one_mul, one_mul]
theorem blk_1 (t : Fin cfg0.N) : (iblk m c 1 t : Vec Ideal S1024x5504 .bf16) = mat fun a b => wt m c (t.val / 4 % 4 * 1024 + a) (t.val % 4 * 5504 + b) := by
  have e := idx_1 t
  funext y
  refine (congrFun (entry_1 m c) _).trans ?_
  show wt m c (win0_1.index t (0 : Fin 2) * 1024 + 1 * (y 0).val) (win0_1.index t (1 : Fin 2) * 5504 + 1 * (y 1).val) = wt m c _ _
  rw [e.1, e.2, one_mul, one_mul]

/-! ## The accumulator -/

/-- One block of columns more. -/
theorem mul_more (q i j : ℕ) (f g : ℕ → ℕ → EReal) :
    mul (q * 5504) f g i j + ∑ k : Fin 5504, f i (q * 5504 + k.val) * g (q * 5504 + k.val) j = mul ((q + 1) * 5504) f g i j := by
  unfold mul
  rw [Fin.sum_univ_eq_sum_range (fun k => f i k * g k j) (q * 5504), Fin.sum_univ_eq_sum_range (fun k => f i (q * 5504 + k) * g (q * 5504 + k) j) 5504,
    Fin.sum_univ_eq_sum_range (fun k => f i k * g k j) ((q + 1) * 5504), Nat.succ_mul, Finset.sum_range_add]

/-- No columns at all. -/
theorem mul_none (f g : ℕ → ℕ → EReal) (i j : ℕ) : mul 0 f g i j = 0 := Fin.sum_univ_zero _

/-- The product over the first `q` blocks of columns, at point `t`'s block of the result. -/
def upto (t q : ℕ) : Vec Ideal S528x1024 .f32 :=
  mat fun a b => mul (q * 5504) (ct m c) (tr (wt m c)) (t / 16 * 528 + a) (t / 4 % 4 * 1024 + b)

theorem step (t : Fin cfg0.N) : addf (upto m c t.val (t.val % 4)) (k0_pay1 (iblk m c 0 t) (iblk m c 1 t)) = upto m c t.val (t.val % 4 + 1) := by
  rw [pay _ _ _ _ (blk_0 m c t) (blk_1 m c t)]
  funext y
  exact mul_more (t.val % 4) _ _ (ct m c) (tr (wt m c))

theorem first (t : Fin cfg0.N) (h : t.val % 4 = 0) : k0_pay1 (iblk m c 0 t) (iblk m c 1 t) = upto m c t.val (t.val % 4 + 1) := by
  refine Eq.trans ?_ (step m c t)
  funext y
  have e : upto m c t.val (t.val % 4) y = 0 := by
    unfold upto
    rw [h, Nat.zero_mul]
    exact mul_none (ct m c) (tr (wt m c)) (t.val / 16 * 528 + (y 0).val) (t.val / 4 % 4 * 1024 + (y 1).val)
  show _ = upto m c t.val (t.val % 4) y + _
  rw [e]
  exact (zero_add _).symm

theorem at_A (t : Fin cfg0.N) (h0 : t.val % 4 = 0) (h1 : ¬1 ≤ t.val % 4) (h2 : ¬t.val % 4 = 3) :
    (outsAt0 m c t.val t.isLt).2 = k0_pay1 (iblk m c 0 t) (iblk m c 1 t) := by
  rw [outsAt0_A m c t h0 h1 h2]
  dsimp only
  rw [sout0_A_0_eq]

theorem at_B (t : Fin cfg0.N) (h0 : ¬t.val % 4 = 0) (h1 : 1 ≤ t.val % 4) (h2 : ¬t.val % 4 = 3) :
    (outsAt0 m c t.val t.isLt).2 = addf (outsAt0 m c (t.val - 1) (Nat.lt_of_le_of_lt (Nat.sub_le _ _) t.isLt)).2 (k0_pay1 (iblk m c 0 t) (iblk m c 1 t)) := by
  rw [outsAt0_B m c t h0 h1 h2]
  dsimp only
  rw [sout0_B_0_eq]

theorem at_C (t : Fin cfg0.N) (h0 : ¬t.val % 4 = 0) (h1 : 1 ≤ t.val % 4) (h2 : t.val % 4 = 3) :
    (outsAt0 m c t.val t.isLt).2 = addf (outsAt0 m c (t.val - 1) (Nat.lt_of_le_of_lt (Nat.sub_le _ _) t.isLt)).2 (k0_pay1 (iblk m c 0 t) (iblk m c 1 t)) := by
  rw [outsAt0_C m c t h0 h1 h2]
  dsimp only
  rw [sout0_C_0_eq]

theorem at_C_out (t : Fin cfg0.N) (h0 : ¬t.val % 4 = 0) (h1 : 1 ≤ t.val % 4) (h2 : t.val % 4 = 3) :
    (outsAt0 m c t.val t.isLt).1 = addf (outsAt0 m c (t.val - 1) (Nat.lt_of_le_of_lt (Nat.sub_le _ _) t.isLt)).2 (k0_pay1 (iblk m c 0 t) (iblk m c 1 t)) := by
  rw [outsAt0_C m c t h0 h1 h2]
  dsimp only
  rw [out0_C_2_eq]

/-- The point before a later one of the same block of the result. -/
theorem upto_before (n : ℕ) (h0 : ¬n % 4 = 0) : upto m c (n - 1) ((n - 1) % 4 + 1) = upto m c n (n % 4) := by
  unfold upto
  rw [show (n - 1) % 4 + 1 = n % 4 by omega, show (n - 1) / 16 = n / 16 by omega, show (n - 1) / 4 = n / 4 by omega]

/-- After point `n` the accumulator holds the product over the blocks of columns up to its own. -/
theorem acc (n : ℕ) : ∀ (h : n < cfg0.N), (outsAt0 m c n h).2 = upto m c n (n % 4 + 1) := by
  induction n using Nat.strong_induction_on with
  | _ n ih =>
    intro h
    by_cases h0 : n % 4 = 0
    · exact (at_A m c ⟨n, h⟩ h0 (by dsimp only; omega) (by dsimp only; omega)).trans (first m c ⟨n, h⟩ h0)
    · have ip := (ih (n - 1) (by omega) (Nat.lt_of_le_of_lt (Nat.sub_le _ _) h)).trans (upto_before m c n h0)
      have e : (outsAt0 m c n h).2 = addf (outsAt0 m c (n - 1) (Nat.lt_of_le_of_lt (Nat.sub_le _ _) h)).2 (k0_pay1 (iblk m c 0 ⟨n, h⟩) (iblk m c 1 ⟨n, h⟩)) := by
        by_cases h2 : n % 4 = 3
        · exact at_C m c ⟨n, h⟩ h0 (by dsimp only; omega) h2
        · exact at_B m c ⟨n, h⟩ h0 (by dsimp only; omega) h2
      rw [e, ip]
      exact step m c ⟨n, h⟩

/-- A point that writes its block back writes what the accumulator holds: the product over all the columns. -/
theorem left (t : Fin cfg0.N) (h2 : t.val % 4 = 3) : (outsAt0 m c t.val t.isLt).1
    = (mat fun a b => mul 22016 (ct m c) (tr (wt m c)) (t.val / 16 * 528 + a) (t.val / 4 % 4 * 1024 + b) : Vec Ideal S528x1024 .f32) := by
  have e := (at_C_out m c t (by omega) (by omega) h2).trans (at_C m c t (by omega) (by omega) h2).symm
  rw [e, acc m c t.val t.isLt, h2]
  unfold upto
  rw [show (3 + 1) * 5504 = 22016 from rfl]

/-- The result array: the product of the cotangent and the weights turned over. -/
theorem out : Cert.Dn2KernelIdeal.Value.G2 m c = (mat (mul 22016 (ct m c) (tr (wt m c))) : Vec Ideal S4224x4096 .f32) := by
  refine (Cert.Dn2KernelIdeal.Value.final2 m c).symm.trans ?_
  refine (dats m 0 c).arrAt_eq_of_cover 2 _ (fun t hf => ?_) (fun i => (Cert.Dn2KernelIdeal.Value.covered_iff2 i).2 (by
    have h0 : (i 0).val < 4224 := (i 0).isLt; have h1 : (i 1).val < 4096 := (i 1).isLt; omega))
  have h2 : t.val % 4 = 3 := (flush0_2 t).mp hf
  have e2 : (dats m 0 c).flushed 2 t = (cfg0.win 2).cut (grid0.coords t) (mat fun a b => mul 22016 (ct m c) (tr (wt m c)) (t.val / 16 * 528 + a) (t.val / 4 % 4 * 1024 + b) : Vec Ideal S528x1024 .f32) := by
    rw [Cert.Dn2KernelIdeal.Value.flushed2, left m c t h2]
  rw [e2]
  have h := idx_2 t
  funext y
  have b0 : (((cfg0.win 2).blk t).view.emb y 0).val = (t.val / 16) * 528 + (y 0).val := by
    show win0_2.index t (0 : Fin 2) * 528 + 1 * (y 0).val = _; rw [h.1, one_mul]
  have b1 : (((cfg0.win 2).blk t).view.emb y 1).val = (t.val / 4 % 4) * 1024 + (y 1).val := by
    show win0_2.index t (1 : Fin 2) * 1024 + 1 * (y 1).val = _; rw [h.2, one_mul]
  have e := (congrArg₂ (mul 22016 (ct m c) (tr (wt m c))) b0 b1).symm
  generalize mul 22016 (ct m c) (tr (wt m c)) = p at e ⊢
  exact e

end Cert.Dn2

end
-- ==== Proof.Dn2Same.lean ====
/- A product accumulated over 4 blocks of columns and its reference: how they run, and that they end with the same result. -/
module

public import proofs.«01_k».proof.Defs
public import proofs.«01_k».proof.Proof.Gen.Dn2Kernel
public import proofs.«01_k».proof.Proof.Dn2Acc
public import proofs.«01_k».proof.Proof.Gen.Dn2ReferenceIdeal.Run
public import proofs.«01_k».proof.Proof.Gen.Dn2ReferenceIdeal.Read
public import Idealize.ShloMosaic.Lib.Quiescent

@[expose] public section

noncomputable section

namespace Cert.Dn2

open Idealize.ShloMosaic Idealize.SL.Sem Idealize.ShloMosaic.Tactic
open Cert.Ffn (mat mat_get2 mul tr)
open Cert.Ret (get2)

/-- The idealized program's frame, its text run over the bit-level floats. -/
def bitsFrame : Prop :=
  ∀ (m : (ℓ : Loc Cert.Dn2KernelIdeal.nD Cert.Dn2KernelIdeal.τ Cert.Dn2KernelIdeal.sig) → Buf (Elt Bits) ℓ) (g : Dev Cert.Dn2KernelIdeal.nD → PrngReg), True →
    θ_run (Cert.Dn2KernelIdeal.defs (F := Bits)) (onTc (τ := Cert.Dn2KernelIdeal.τ) (Cert.Dn2KernelIdeal.main (F := Bits))) ⟨m, fun _ => 0, g⟩ (fun r => (∀ c : Dev Cert.Dn2KernelIdeal.nD,
      r.2.mem ((c.tc : Thread Cert.Dn2KernelIdeal.nD Cert.Dn2KernelIdeal.τ).loc Cert.Dn2KernelIdeal.main_arg0) = m ((c.tc : Thread Cert.Dn2KernelIdeal.nD Cert.Dn2KernelIdeal.τ).loc Cert.Dn2KernelIdeal.main_arg0)
      ∧ r.2.mem ((c.tc : Thread Cert.Dn2KernelIdeal.nD Cert.Dn2KernelIdeal.τ).loc Cert.Dn2KernelIdeal.main_arg1) = m ((c.tc : Thread Cert.Dn2KernelIdeal.nD Cert.Dn2KernelIdeal.τ).loc Cert.Dn2KernelIdeal.main_arg1))
      ∧ r.2.sem = fun _ => 0)

/-- The two programs have the same text. -/
theorem same_text : bitsFrame = Cert.quiescent_Dn2Kernel := by sl_kernel_rfl

theorem frame_kernel : Cert.quiescent_Dn2Kernel :=
  same_text.mp fun m ρ _ => Cert.Dn2KernelIdeal.Gen.frame (F := Bits) m ρ
theorem frame_kernelIdeal : Cert.quiescent_Dn2KernelIdeal := fun m ρ _ => Cert.Dn2KernelIdeal.Gen.frame m ρ

/-- The reference keeps its arguments; it declares no semaphore. -/
theorem frame_reference : Cert.quiescent_Dn2ReferenceIdeal := fun m ρ _ =>
  (θ_run Cert.Dn2ReferenceIdeal.defs _ _).mono (fun r e => ⟨fun c => (e c).2, sem_eq_zero_of_no_sems (by decide) r.2⟩) (Cert.Dn2ReferenceIdeal.Value.run m ρ)

/-- The reference's product. -/
theorem r_out (x0 : (⟨Cert.Dn2ReferenceIdeal.S4224x22016, .f32⟩ : BufTy).Contents (Elt Ideal)) (x1 : (⟨Cert.Dn2ReferenceIdeal.S4096x22016, .f32⟩ : BufTy).Contents (Elt Ideal)) :
    Cert.Dn2ReferenceIdeal.Read.val_main_v2 (F := Ideal) x0 x1
      = mat (mul 22016 (get2 (x0 : Vec Ideal Cert.Dn2ReferenceIdeal.S4224x22016 .f32)) (tr (get2 (x1 : Vec Ideal Cert.Dn2ReferenceIdeal.S4096x22016 .f32)))) := by
  funext i
  rw [Cert.Dn2ReferenceIdeal.Read.val_main_v2_apply]
  show _ = ∑ k : Fin 22016, get2 (x0 : Vec Ideal Cert.Dn2ReferenceIdeal.S4224x22016 .f32) (i 0).val k.val * get2 (x1 : Vec Ideal Cert.Dn2ReferenceIdeal.S4096x22016 .f32) (i 1).val k.val
  exact Finset.sum_congr rfl fun k _ => congrArg₂ (· * ·) (congrFun (mat_get2 x0) _) (congrFun (mat_get2 x1) _)

/-- Run on the same arguments, the two programs end with the same result. -/
theorem same_results : Cert.algebraic_Dn2KernelIdeal_Dn2ReferenceIdeal := fun m g m' g' _ h =>
  ⟨fun c => Cert.Dn2KernelIdeal.Value.G2 m c, Cert.Dn2KernelIdeal.Value.run m g,
    (θ_run Cert.Dn2ReferenceIdeal.defs _ _).mono (fun _ e c => by
      obtain ⟨e0, e1⟩ := e c
      obtain ⟨h0, h1⟩ := h c
      rw [h0, h1] at e0
      exact ⟨e0.trans ((r_out (m ((c.tc : Thread Cert.Dn2KernelIdeal.nD Cert.Dn2KernelIdeal.τ).loc Cert.Dn2KernelIdeal.main_arg0)) (m ((c.tc : Thread Cert.Dn2KernelIdeal.nD Cert.Dn2KernelIdeal.τ).loc Cert.Dn2KernelIdeal.main_arg1))).trans (out m c).symm), e1⟩)
      (Cert.Dn2ReferenceIdeal.Value.run m' g')⟩

end Cert.Dn2

end
-- ==== Proof.Norm.lean ====
/- The derivative of the normalisation of a row of 4096: the two forms of it agree over the extended reals. -/
module

public import proofs.«01_k».proof.Proof.FfnSpec
public import proofs.«01_k».proof.Proof.Rms

@[expose] public section

noncomputable section

namespace Cert.Norm

open Idealize.ShloMosaic
open Cert.Ret (eps eps_pos half_eq sq_nonneg' rsqrt_pos twice)

/-- The number of columns, 4096. -/
def c4096 : EReal := Ideal.ofBits .f32 0x45800000#32
/-- The mean square of a row, and the small number. -/
def ms (X : ℕ → EReal) : EReal := Ideal.div (∑ e : Fin 4096, X e.val * X e.val) c4096 + eps
/-- Its reciprocal root. -/
def rs (X : ℕ → EReal) : EReal := Ideal.rsqrt (ms X)
/-- The gradient of a normalised row `X`, weighted by `W`, from the cotangent `G`. -/
def dx (X G W : ℕ → EReal) (b : ℕ) : EReal :=
  rs X * (G b * W b) - X b * (rs X * rs X * rs X * Ideal.div (∑ e : Fin 4096, G e.val * W e.val * X e.val) c4096)
/-- What the row adds to the gradient of the weights. -/
def dw (X G : ℕ → EReal) (b : ℕ) : EReal := G b * (X b * rs X)

theorem c4096_eq : c4096 = ((4096 : ℝ) : EReal) := by
  simp [c4096, Ideal.ofBits, Ideal.ieee, -EReal.coe_mul]; norm_num
theorem div_c4096 (x : EReal) : Ideal.div x c4096 = x * ((4096⁻¹ : ℝ) : EReal) := by
  have h : c4096 ≠ 0 := by rw [c4096_eq]; exact EReal.coe_ne_zero.mpr (by norm_num)
  rw [Ideal.div, if_neg h, c4096_eq, EReal.coe_inv]

/-- The mean square is infinite or a positive number. -/
theorem ms_cases (X : ℕ → EReal) : ms X = ⊤ ∨ ∃ x : ℝ, 0 < x ∧ ms X = (x : EReal) := by
  obtain ⟨ε, hε, he⟩ := eps_pos
  have h0 : 0 ≤ ∑ e : Fin 4096, X e.val * X e.val := Finset.sum_nonneg fun e _ => sq_nonneg' (X e.val)
  unfold ms
  rw [div_c4096, he]
  generalize (∑ e : Fin 4096, X e.val * X e.val) = s at *
  induction s with
  | bot => exact absurd h0 (by simp)
  | top =>
    left
    rw [EReal.top_mul_coe_of_pos (by norm_num)]
    exact EReal.top_add_coe ε
  | coe t =>
    right
    have ht : 0 ≤ t := EReal.coe_nonneg.mp h0
    exact ⟨t * 4096⁻¹ + ε, by positivity, by push_cast; rfl⟩

/-- The derivative with the root's written out, and with the cube of the reciprocal root. -/
theorem two_forms (X : ℕ → EReal) (x y s : EReal) :
    x * rs X + y * Ideal.div (s * (Ideal.ofBits FTy.f32 0xBF000000#32 * Ideal.div (rs X) (ms X))) c4096
        + Ideal.div (s * (Ideal.ofBits FTy.f32 0xBF000000#32 * Ideal.div (rs X) (ms X))) c4096 * y
      = rs X * x - y * (rs X * rs X * rs X * Ideal.div s c4096) := by
  rw [mul_comm (Ideal.div (s * _) c4096) y, add_assoc, mul_comm x, sub_eq_add_neg]
  congr 1
  rw [div_c4096, div_c4096, half_eq]
  unfold rs
  rcases ms_cases X with h | ⟨z, hz, h⟩
  · rw [h]
    have h0 : Ideal.rsqrt ⊤ = 0 := rfl
    have h1 : Ideal.div 0 ⊤ = 0 := by simp [Ideal.div]
    rw [h0, h1]
    simp
  · rw [h, rsqrt_pos hz]
    have hz' : (z : EReal) ≠ 0 := EReal.coe_ne_zero.mpr (by linarith)
    have hq : Real.sqrt z * Real.sqrt z = z := Real.mul_self_sqrt hz.le
    have hp : 0 < Real.sqrt z := Real.sqrt_pos.mpr hz
    have h1 : Ideal.div (((Real.sqrt z)⁻¹ : ℝ) : EReal) (z : EReal) = (((Real.sqrt z)⁻¹ * (Real.sqrt z)⁻¹ * (Real.sqrt z)⁻¹ : ℝ) : EReal) := by
      rw [Ideal.div, if_neg hz', ← EReal.coe_inv, ← EReal.coe_mul]
      congr 1
      rw [mul_assoc, show (Real.sqrt z)⁻¹ * (Real.sqrt z)⁻¹ = z⁻¹ by rw [← mul_inv, hq]]
    have hρ0 : 0 ≤ (Real.sqrt z)⁻¹ := inv_nonneg.mpr hp.le
    rw [h1]
    generalize (Real.sqrt z)⁻¹ = ρ at *
    have hρ : 0 ≤ ρ * ρ * ρ * 4096⁻¹ := by positivity
    rw [show s * (((-(1 / 2) : ℝ) : EReal) * ((ρ * ρ * ρ : ℝ) : EReal)) * ((4096⁻¹ : ℝ) : EReal) = s * ((-(1 / 2) * (ρ * ρ * ρ * 4096⁻¹) : ℝ) : EReal) by
      rw [mul_assoc, ← EReal.coe_mul, ← EReal.coe_mul]; congr 2; ring]
    rw [show (ρ : EReal) * ρ * ρ * (s * ((4096⁻¹ : ℝ) : EReal)) = s * ((ρ * ρ * ρ * 4096⁻¹ : ℝ) : EReal) by
      push_cast; ac_rfl]
    rw [← mul_assoc y s, ← mul_assoc y s]
    exact twice (y * s) hρ

/-- The derivative with the root's written out. -/
theorem dx_eq (X G W : ℕ → EReal) (b : ℕ) :
    G b * W b * rs X + X b * Ideal.div ((∑ e : Fin 4096, X e.val * (G e.val * W e.val)) * (Ideal.ofBits FTy.f32 0xBF000000#32 * Ideal.div (rs X) (ms X))) c4096
        + Ideal.div ((∑ e : Fin 4096, X e.val * (G e.val * W e.val)) * (Ideal.ofBits FTy.f32 0xBF000000#32 * Ideal.div (rs X) (ms X))) c4096 * X b
      = dx X G W b := by
  rw [two_forms]
  unfold dx
  rw [Finset.sum_congr rfl fun (e : Fin 4096) _ => mul_comm (X e.val) (G e.val * W e.val)]

/-- The same added to something. -/
theorem add_dx_eq (X G W : ℕ → EReal) (b : ℕ) (d : EReal) :
    d + G b * W b * rs X + X b * Ideal.div ((∑ e : Fin 4096, X e.val * (G e.val * W e.val)) * (Ideal.ofBits FTy.f32 0xBF000000#32 * Ideal.div (rs X) (ms X))) c4096
        + Ideal.div ((∑ e : Fin 4096, X e.val * (G e.val * W e.val)) * (Ideal.ofBits FTy.f32 0xBF000000#32 * Ideal.div (rs X) (ms X))) c4096 * X b
      = d + dx X G W b := by
  rw [← dx_eq, add_assoc, add_assoc, add_assoc]

end Cert.Norm

end
-- ==== Proof.LossSpec.lean ====
/- The loss and its gradients as formulas of the hidden rows `h`, the rows `f` to be normalised, the target rows `t` and the weights `w`. -/
module

public import proofs.«01_k».proof.Proof.Norm

@[expose] public section

set_option maxRecDepth 16384

noncomputable section

namespace Cert.Loss

open Idealize.ShloMosaic
open Cert.Norm
open Cert.Ret (sq_nonneg')

/-- One half. -/
def c05 : EReal := Ideal.ofBits .f32 0x3F000000#32
/-- One part of 4096. -/
def c1_4096 : EReal := Ideal.ofBits .f32 0x39800000#32

theorem c05_eq : c05 = ((1 / 2 : ℝ) : EReal) := by
  simp [c05, Ideal.ofBits, Ideal.ieee, -EReal.coe_mul]; norm_num
theorem one_eq : Ideal.ofBits FTy.f32 0x3F800000#32 = ((1 : ℝ) : EReal) := by
  simp [Ideal.ofBits, Ideal.ieee, -EReal.coe_mul]; norm_num
theorem two_eq : Ideal.ofBits FTy.f32 0x40000000#32 = ((2 : ℝ) : EReal) := by
  simp [Ideal.ofBits, Ideal.ieee, -EReal.coe_mul]; norm_num
theorem c1_4096_eq : c1_4096 = ((4096⁻¹ : ℝ) : EReal) := by
  simp [c1_4096, Ideal.ofBits, Ideal.ieee, -EReal.coe_mul]; norm_num
theorem c05_nonneg : 0 ≤ c05 := by rw [c05_eq]; exact EReal.coe_nonneg.mpr (by norm_num)

/-- The slope of half a mean of squares: half of one, over 4096, of twice the error. -/
theorem slope (x : EReal) : Ideal.div (c05 * Ideal.ofBits FTy.f32 0x3F800000#32) c4096 * (Ideal.ofBits FTy.f32 0x40000000#32 * x) = x * c1_4096 := by
  rw [div_c4096, c05_eq, one_eq, two_eq, c1_4096_eq, ← mul_assoc, ← EReal.coe_mul, ← EReal.coe_mul, ← EReal.coe_mul, mul_comm]
  congr 2
  norm_num

/-- Half a sum of things that aren't negative is the sum of their halves. -/
theorem half_sum {ι : Type} (s : Finset ι) (v : ι → EReal) (hv : ∀ i, 0 ≤ v i) : c05 * ∑ i ∈ s, v i = ∑ i ∈ s, c05 * v i := by
  classical
  induction s using Finset.induction_on with
  | empty => simp
  | insert a s ha ih => rw [Finset.sum_insert ha, Finset.sum_insert ha, EReal.left_distrib_of_nonneg (hv a) (Finset.sum_nonneg fun i _ => hv i), ih]

variable (h f t w : ℕ → ℕ → EReal)

/-- The error of a row: a row `i` of the hidden rows has the target row `i - 128`. -/
def er (i j : ℕ) : EReal := h i j + f i j * rs (f i) * w 0 j - t (i - 128) j
/-- The gradient of the hidden rows: the first 128 rows have no target. -/
def gd (i j : ℕ) : EReal := if i < 128 then 0 else er h f t w i j * c1_4096
/-- The mean of a row's squared errors. -/
def ml (i : ℕ) : EReal := Ideal.div (∑ e : Fin 4096, er h f t w i e.val * er h f t w i e.val) c4096
/-- What a row adds to the loss. -/
def tl (i _j : ℕ) : EReal := if i < 128 then 0 else c05 * ml h f t w i
/-- The gradient of the rows to be normalised. -/
def df (i j : ℕ) : EReal := dx (f i) (gd h f t w i) (w 0) j
/-- What a row adds to the gradient of the weights. -/
def tw (i j : ℕ) : EReal := dw (f i) (gd h f t w i) j

theorem ml_nonneg (i : ℕ) : 0 ≤ ml h f t w i := by
  unfold ml
  rw [div_c4096]
  exact mul_nonneg (Finset.sum_nonneg fun e _ => sq_nonneg' _) (EReal.coe_nonneg.mpr (by norm_num))
theorem gd_first {i : ℕ} (hi : i < 128) : gd h f t w i = fun _ => 0 := funext fun j => if_pos hi
theorem df_first {i : ℕ} (hi : i < 128) (j : ℕ) : df h f t w i j = 0 := by
  unfold df dx
  rw [gd_first h f t w hi, div_c4096]
  simp
theorem tw_first {i : ℕ} (hi : i < 128) (j : ℕ) : tw h f t w i j = 0 := by
  unfold tw dw
  rw [gd_first h f t w hi]
  exact zero_mul _
theorem tl_first {i : ℕ} (hi : i < 128) (j : ℕ) : tl h f t w i j = 0 := if_pos hi

/-- The loss as half of a sum over the target rows, and as a sum over all rows. -/
theorem loss_eq (j : ℕ) : c05 * ∑ e : Fin 4096, ml h f t w (128 + e.val) = ∑ i ∈ Finset.range (33 * 128), tl h f t w i j := by
  rw [show 33 * 128 = 128 + 4096 from rfl, Finset.sum_range_add, Finset.sum_eq_zero (s := Finset.range 128) fun i hi => tl_first h f t w (Finset.mem_range.mp hi) j,
    zero_add, half_sum _ _ fun e => ml_nonneg h f t w _, Finset.sum_range]
  refine Finset.sum_congr rfl fun e _ => ?_
  exact (if_neg (by omega)).symm

end Cert.Loss

end
-- ==== Proof.LossPay.lean ====
/- What a point of the loss's backward call leaves in its four results. -/
module

public import proofs.«01_k».proof.Proof.LossSpec
public import proofs.«01_k».proof.Proof.Gen.LossKernelIdeal.Value
public import Idealize.ShloMosaic.Lib.Pointwise
public import Idealize.ShloMosaic.Lib.StableHlo.ReadAt
public import Idealize.ShloMosaic.Lib.Tactic

@[expose] public section

set_option maxRecDepth 16384

noncomputable section

namespace Cert.Loss

open Idealize.ShloMosaic Idealize.ShloMosaic.TcCoe Idealize.ShloMosaic.Tactic Idealize.ShloMosaic.Pipeline
open Cert.LossKernelIdeal Cert.LossKernelIdeal.Gen

variable {F : FTy → Type} [FloatOps F]

theorem origin : (![0, 0] : Fin 2 → Nat) = fun _ => 0 := funext fun a => by fin_cases a <;> rfl

/-- Zeros: the first point has no target. -/
theorem outA_4 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S1x4096 .f32) (h4 : a4.IsWhole) (a5 : Memref sig .tc .vmem S128x4096 .f32) (h5 : a5.IsWhole) (a6 : Memref sig .tc .vmem S128x4096 .bf16) (h6 : a6.IsWhole) (a7 : Memref sig .tc .vmem S1x128 .f32) (h7 : a7.IsWhole) (a8 : Memref sig .tc .vmem S1x4096 .f32) (h8 : a8.IsWhole) (hc0 : cond0_0 i) (hc1 : ¬cond0_1 i)
    (x0 x1 x2 : Vec F S128x4096 .f32) (x3 : Vec F S1x4096 .f32) : out0_A_4 c i a1 h1 a2 h2 a3 h3 a4 h4 a5 h5 a6 h6 a7 h7 a8 h8 hc0 hc1 x0 x1 x2 x3 = k0_pay1 := by
  unfold out0_A_4
  rw [View.read_writes_eq_canon _ _ _ (cover0_A_4 c i a1 h1 a2 h2 a3 h3 a4 h4 a5 h5 a6 h6 a7 h7 a8 h8 hc0 hc1 x0 x1 x2 x3)]
  unfold kernelRun0_A
  dsimp only
  try sl_unfold_words
  rw [View.canon_unit_zero origin]

/-- Zeros: the first point has no target. -/
theorem outA_5 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S1x4096 .f32) (h4 : a4.IsWhole) (a5 : Memref sig .tc .vmem S128x4096 .f32) (h5 : a5.IsWhole) (a6 : Memref sig .tc .vmem S128x4096 .bf16) (h6 : a6.IsWhole) (a7 : Memref sig .tc .vmem S1x128 .f32) (h7 : a7.IsWhole) (a8 : Memref sig .tc .vmem S1x4096 .f32) (h8 : a8.IsWhole) (hc0 : cond0_0 i) (hc1 : ¬cond0_1 i)
    (x0 x1 x2 : Vec F S128x4096 .f32) (x3 : Vec F S1x4096 .f32) : out0_A_5 c i a1 h1 a2 h2 a3 h3 a4 h4 a5 h5 a6 h6 a7 h7 a8 h8 hc0 hc1 x0 x1 x2 x3 = k0_pay2 := by
  unfold out0_A_5
  rw [View.read_writes_eq_canon _ _ _ (cover0_A_5 c i a1 h1 a2 h2 a3 h3 a4 h4 a5 h5 a6 h6 a7 h7 a8 h8 hc0 hc1 x0 x1 x2 x3)]
  unfold kernelRun0_A
  dsimp only
  try sl_unfold_words
  rw [View.canon_unit_zero origin]

/-- Zeros: the first point has no target. -/
theorem outA_6 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S1x4096 .f32) (h4 : a4.IsWhole) (a5 : Memref sig .tc .vmem S128x4096 .f32) (h5 : a5.IsWhole) (a6 : Memref sig .tc .vmem S128x4096 .bf16) (h6 : a6.IsWhole) (a7 : Memref sig .tc .vmem S1x128 .f32) (h7 : a7.IsWhole) (a8 : Memref sig .tc .vmem S1x4096 .f32) (h8 : a8.IsWhole) (hc0 : cond0_0 i) (hc1 : ¬cond0_1 i)
    (x0 x1 x2 : Vec F S128x4096 .f32) (x3 : Vec F S1x4096 .f32) : out0_A_6 c i a1 h1 a2 h2 a3 h3 a4 h4 a5 h5 a6 h6 a7 h7 a8 h8 hc0 hc1 x0 x1 x2 x3 = k0_pay3 := by
  unfold out0_A_6
  rw [View.read_writes_eq_canon _ _ _ (cover0_A_6 c i a1 h1 a2 h2 a3 h3 a4 h4 a5 h5 a6 h6 a7 h7 a8 h8 hc0 hc1 x0 x1 x2 x3)]
  unfold kernelRun0_A
  dsimp only
  try sl_unfold_words
  rw [View.canon_unit_zero origin]

/-- Zeros: the first point has no target. -/
theorem outA_7 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S1x4096 .f32) (h4 : a4.IsWhole) (a5 : Memref sig .tc .vmem S128x4096 .f32) (h5 : a5.IsWhole) (a6 : Memref sig .tc .vmem S128x4096 .bf16) (h6 : a6.IsWhole) (a7 : Memref sig .tc .vmem S1x128 .f32) (h7 : a7.IsWhole) (a8 : Memref sig .tc .vmem S1x4096 .f32) (h8 : a8.IsWhole) (hc0 : cond0_0 i) (hc1 : ¬cond0_1 i)
    (x0 x1 x2 : Vec F S128x4096 .f32) (x3 : Vec F S1x4096 .f32) : out0_A_7 c i a1 h1 a2 h2 a3 h3 a4 h4 a5 h5 a6 h6 a7 h7 a8 h8 hc0 hc1 x0 x1 x2 x3 = k0_pay4 := by
  unfold out0_A_7
  rw [View.read_writes_eq_canon _ _ _ (cover0_A_7 c i a1 h1 a2 h2 a3 h3 a4 h4 a5 h5 a6 h6 a7 h7 a8 h8 hc0 hc1 x0 x1 x2 x3)]
  unfold kernelRun0_A
  dsimp only
  try sl_unfold_words
  rw [View.canon_unit_zero origin]

/-- The gradient of the hidden rows. -/
theorem outB_4 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S1x4096 .f32) (h4 : a4.IsWhole) (a5 : Memref sig .tc .vmem S128x4096 .f32) (h5 : a5.IsWhole) (a6 : Memref sig .tc .vmem S128x4096 .bf16) (h6 : a6.IsWhole) (a7 : Memref sig .tc .vmem S1x128 .f32) (h7 : a7.IsWhole) (a8 : Memref sig .tc .vmem S1x4096 .f32) (h8 : a8.IsWhole) (hc0 : ¬cond0_0 i) (hc1 : cond0_1 i)
    (x0 x1 x2 : Vec F S128x4096 .f32) (x3 : Vec F S1x4096 .f32) (y : Vec F S1x128 .f32) (z : Vec F S1x4096 .f32) : out0_B_4 c i a1 h1 a2 h2 a3 h3 a4 h4 a5 h5 a6 h6 a7 h7 a8 h8 hc0 hc1 x0 x1 x2 x3 y z = k0_pay10 x1 x3 x0 x2 := by
  unfold out0_B_4
  rw [View.read_writes_eq_canon _ _ _ (cover0_B_4 c i a1 h1 a2 h2 a3 h3 a4 h4 a5 h5 a6 h6 a7 h7 a8 h8 hc0 hc1 x0 x1 x2 x3 y z)]
  unfold kernelRun0_B
  dsimp only
  try sl_unfold_words
  rw [View.canon_unit_zero origin]
  simp only [View.readAt_eq_ld, h1.read_unread, h2.read_unread, h3.read_unread, h4.read_unread, h7.read_unread, h8.read_unread, View.ld_unit_zero (S := S128x4096) origin, View.ld_unit_zero (S := S1x4096) origin, View.ld_unit_zero (S := S1x128) origin, shapeCast_self]

/-- The gradient of the rows to be normalised. -/
theorem outB_5 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S1x4096 .f32) (h4 : a4.IsWhole) (a5 : Memref sig .tc .vmem S128x4096 .f32) (h5 : a5.IsWhole) (a6 : Memref sig .tc .vmem S128x4096 .bf16) (h6 : a6.IsWhole) (a7 : Memref sig .tc .vmem S1x128 .f32) (h7 : a7.IsWhole) (a8 : Memref sig .tc .vmem S1x4096 .f32) (h8 : a8.IsWhole) (hc0 : ¬cond0_0 i) (hc1 : cond0_1 i)
    (x0 x1 x2 : Vec F S128x4096 .f32) (x3 : Vec F S1x4096 .f32) (y : Vec F S1x128 .f32) (z : Vec F S1x4096 .f32) : out0_B_5 c i a1 h1 a2 h2 a3 h3 a4 h4 a5 h5 a6 h6 a7 h7 a8 h8 hc0 hc1 x0 x1 x2 x3 y z = k0_pay6 x1 x3 (k0_pay10 x1 x3 x0 x2) := by
  unfold out0_B_5
  rw [View.read_writes_eq_canon _ _ _ (cover0_B_5 c i a1 h1 a2 h2 a3 h3 a4 h4 a5 h5 a6 h6 a7 h7 a8 h8 hc0 hc1 x0 x1 x2 x3 y z)]
  unfold kernelRun0_B
  dsimp only
  try sl_unfold_words
  rw [View.canon_unit_zero origin]
  simp only [View.readAt_eq_ld, h1.read_unread, h2.read_unread, h3.read_unread, h4.read_unread, h7.read_unread, h8.read_unread, View.ld_unit_zero (S := S128x4096) origin, View.ld_unit_zero (S := S1x4096) origin, View.ld_unit_zero (S := S1x128) origin, shapeCast_self]

/-- The rows' losses on top of what was there. -/
theorem outB_6 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S1x4096 .f32) (h4 : a4.IsWhole) (a5 : Memref sig .tc .vmem S128x4096 .f32) (h5 : a5.IsWhole) (a6 : Memref sig .tc .vmem S128x4096 .bf16) (h6 : a6.IsWhole) (a7 : Memref sig .tc .vmem S1x128 .f32) (h7 : a7.IsWhole) (a8 : Memref sig .tc .vmem S1x4096 .f32) (h8 : a8.IsWhole) (hc0 : ¬cond0_0 i) (hc1 : cond0_1 i)
    (x0 x1 x2 : Vec F S128x4096 .f32) (x3 : Vec F S1x4096 .f32) (y : Vec F S1x128 .f32) (z : Vec F S1x4096 .f32) : out0_B_6 c i a1 h1 a2 h2 a3 h3 a4 h4 a5 h5 a6 h6 a7 h7 a8 h8 hc0 hc1 x0 x1 x2 x3 y z = k0_pay9 x1 x3 x0 x2 y := by
  unfold out0_B_6
  rw [View.read_writes_eq_canon _ _ _ (cover0_B_6 c i a1 h1 a2 h2 a3 h3 a4 h4 a5 h5 a6 h6 a7 h7 a8 h8 hc0 hc1 x0 x1 x2 x3 y z)]
  unfold kernelRun0_B
  dsimp only
  try sl_unfold_words
  rw [View.canon_unit_zero origin]
  simp only [View.readAt_eq_ld, h1.read_unread, h2.read_unread, h3.read_unread, h4.read_unread, h7.read_unread, h8.read_unread, View.ld_unit_zero (S := S128x4096) origin, View.ld_unit_zero (S := S1x4096) origin, View.ld_unit_zero (S := S1x128) origin, shapeCast_self]

/-- The rows' sum for the weights on top of what was there. -/
theorem outB_7 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S1x4096 .f32) (h4 : a4.IsWhole) (a5 : Memref sig .tc .vmem S128x4096 .f32) (h5 : a5.IsWhole) (a6 : Memref sig .tc .vmem S128x4096 .bf16) (h6 : a6.IsWhole) (a7 : Memref sig .tc .vmem S1x128 .f32) (h7 : a7.IsWhole) (a8 : Memref sig .tc .vmem S1x4096 .f32) (h8 : a8.IsWhole) (hc0 : ¬cond0_0 i) (hc1 : cond0_1 i)
    (x0 x1 x2 : Vec F S128x4096 .f32) (x3 : Vec F S1x4096 .f32) (y : Vec F S1x128 .f32) (z : Vec F S1x4096 .f32) : out0_B_7 c i a1 h1 a2 h2 a3 h3 a4 h4 a5 h5 a6 h6 a7 h7 a8 h8 hc0 hc1 x0 x1 x2 x3 y z = k0_pay7 x1 (k0_pay10 x1 x3 x0 x2) z := by
  unfold out0_B_7
  rw [View.read_writes_eq_canon _ _ _ (cover0_B_7 c i a1 h1 a2 h2 a3 h3 a4 h4 a5 h5 a6 h6 a7 h7 a8 h8 hc0 hc1 x0 x1 x2 x3 y z)]
  unfold kernelRun0_B
  dsimp only
  try sl_unfold_words
  rw [View.canon_unit_zero origin]
  simp only [View.readAt_eq_ld, h1.read_unread, h2.read_unread, h3.read_unread, h4.read_unread, h7.read_unread, h8.read_unread, View.ld_unit_zero (S := S128x4096) origin, View.ld_unit_zero (S := S1x4096) origin, View.ld_unit_zero (S := S1x128) origin, shapeCast_self]

end Cert.Loss

end
-- ==== Proof.LossAcc.lean ====
/- The four result arrays of the loss's backward call. -/
module

public import proofs.«01_k».proof.Proof.LossPay

@[expose] public section

set_option maxRecDepth 16384

noncomputable section

namespace Cert.Loss

open Idealize.ShloMosaic Idealize.ShloMosaic.TcCoe Idealize.ShloMosaic.Tactic Idealize.ShloMosaic.Pipeline
open Cert.LossKernelIdeal Cert.LossKernelIdeal.Gen
open Cert.Ret (get2)
open Cert.Ffn (mat mat_get2)
open Cert.Norm

/-! ## The body's pieces as formulas -/

theorem split2 {n k : ℕ} (i : (⟨2, ![n, k]⟩ : Shape).Idx) : ∃ (r : Fin n) (j : Fin k), i = ix2 r j := ⟨i 0, i 1, by funext a; match a with | ⟨0, _⟩ => rfl | ⟨1, _⟩ => rfl⟩

theorem pay8 (f w h t : ℕ → ℕ → EReal) : k0_pay8 (F := Ideal) (mat f) (mat w) (mat h) (mat t) = (mat fun i j => h i j + f i j * rs (f i) * w 0 j - t i j : Vec Ideal S128x4096 .f32) := by
  funext i
  obtain ⟨r, j, rfl⟩ := split2 i
  unfold k0_pay8
  pointwise
  rfl
theorem pay10 (f w h t : ℕ → ℕ → EReal) : k0_pay10 (F := Ideal) (mat f) (mat w) (mat h) (mat t) = (mat fun i j => (h i j + f i j * rs (f i) * w 0 j - t i j) * c1_4096 : Vec Ideal S128x4096 .f32) := by
  unfold k0_pay10
  rw [pay8]
  rfl
theorem pay6 (f w g : ℕ → ℕ → EReal) : k0_pay6 (F := Ideal) (mat f) (mat w) (mat g) = (mat fun i j => dx (f i) (g i) (w 0) j : Vec Ideal S128x4096 .bf16) := by
  funext i
  obtain ⟨r, j, rfl⟩ := split2 i
  unfold k0_pay6 k0_pay5
  pointwise
  rfl
theorem pay7 (f g z : ℕ → ℕ → EReal) : k0_pay7 (F := Ideal) (mat f) (mat g) (mat z) = (mat fun i j => z i j + ∑ r : Fin 128, dw (f r.val) (g r.val) j : Vec Ideal S1x4096 .f32) := by
  funext i
  obtain ⟨r, j, rfl⟩ := split2 i
  unfold k0_pay7 k0_pay5
  pointwise
  rfl
theorem pay9 (f w h t z : ℕ → ℕ → EReal) (E : ℕ → ℕ → EReal) (hE : E = fun i j => h i j + f i j * rs (f i) * w 0 j - t i j) :
    k0_pay9 (F := Ideal) (mat f) (mat w) (mat h) (mat t) (mat z) = (mat fun i j => z i j + c05 * ∑ r : Fin 128, Ideal.div (∑ e : Fin 4096, E r.val e.val * E r.val e.val) c4096 : Vec Ideal S1x128 .f32) := by
  unfold k0_pay9
  rw [pay8, ← hE]
  funext i
  obtain ⟨r, j, rfl⟩ := split2 i
  pointwise
  simp only [Fin.sum_univ_one]
  rfl

theorem pay1 : k0_pay1 (F := Ideal) = (mat fun _ _ => 0 : Vec Ideal S128x4096 .f32) := by
  funext i
  obtain ⟨r, j, rfl⟩ := split2 i
  unfold k0_pay1
  pointwise
  rfl
theorem pay2 : k0_pay2 (F := Ideal) = (mat fun _ _ => 0 : Vec Ideal S128x4096 .bf16) := by
  funext i
  obtain ⟨r, j, rfl⟩ := split2 i
  unfold k0_pay2
  pointwise
  rfl
theorem pay3 : k0_pay3 (F := Ideal) = (mat fun _ _ => 0 : Vec Ideal S1x128 .f32) := by
  funext i
  obtain ⟨r, j, rfl⟩ := split2 i
  unfold k0_pay3
  pointwise
  rfl
theorem pay4 : k0_pay4 (F := Ideal) = (mat fun _ _ => 0 : Vec Ideal S1x4096 .f32) := by
  funext i
  obtain ⟨r, j, rfl⟩ := split2 i
  unfold k0_pay4
  pointwise
  rfl

/-! ## The blocks -/

variable (m : (ℓ : Loc nD τ sig) → Buf (Elt Ideal) ℓ) (c : Dev nD)

/-- The hidden rows. -/
def aH : ℕ → ℕ → EReal := get2 (m (c, Proc.devRef .tc main_arg0) : Vec Ideal S4224x4096 .f32)
theorem entry_0 : (V m c main_arg0 : Vec Ideal S4224x4096 .f32) = mat (aH m c) :=
  (V_main_arg0 m c).trans (mat_get2 _)
/-- The rows to be normalised. -/
def aF : ℕ → ℕ → EReal := get2 (m (c, Proc.devRef .tc main_arg1) : Vec Ideal S4224x4096 .f32)
theorem entry_1 : (V m c main_arg1 : Vec Ideal S4224x4096 .f32) = mat (aF m c) :=
  (V_main_arg1 m c).trans (mat_get2 _)
/-- The target rows. -/
def aT : ℕ → ℕ → EReal := get2 (m (c, Proc.devRef .tc main_arg2) : Vec Ideal S4096x4096 .f32)
theorem entry_2 : (V m c main_arg2 : Vec Ideal S4096x4096 .f32) = mat (aT m c) :=
  (V_main_arg2 m c).trans (mat_get2 _)
/-- The weights. -/
def aW : ℕ → ℕ → EReal := get2 (m (c, Proc.devRef .tc main_arg3) : Vec Ideal S1x4096 .f32)
theorem entry_3 : (V m c main_arg3 : Vec Ideal S1x4096 .f32) = mat (aW m c) :=
  (V_main_arg3 m c).trans (mat_get2 _)
theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem blk_0 (t : Fin cfg0.N) : (iblk m c 0 t : Vec Ideal S128x4096 .f32) = mat fun a b => aH m c (t.val * 128 + a) b := by
  have e := idx_0 t
  funext y
  refine (congrFun (entry_0 m c) _).trans ?_
  show aH m c (win0_0.index t (0 : Fin 2) * 128 + 1 * (y 0).val) (win0_0.index t (1 : Fin 2) * 4096 + 1 * (y 1).val) = aH m c _ _
  rw [e.1, e.2]
  congr 1 <;> omega
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem blk_1 (t : Fin cfg0.N) : (iblk m c 1 t : Vec Ideal S128x4096 .f32) = mat fun a b => aF m c (t.val * 128 + a) b := by
  have e := idx_1 t
  funext y
  refine (congrFun (entry_1 m c) _).trans ?_
  show aF m c (win0_1.index t (0 : Fin 2) * 128 + 1 * (y 0).val) (win0_1.index t (1 : Fin 2) * 4096 + 1 * (y 1).val) = aF m c _ _
  rw [e.1, e.2]
  congr 1 <;> omega
theorem idx_2 : ∀ t : Fin cfg0.N, win0_2.index t (0 : Fin 2) = t.val - 1 ∧ win0_2.index t (1 : Fin 2) = 0 :=
  (by decide +kernel : ∀ t : Fin grid0.N, win0_2.index t (0 : Fin 2) = t.val - 1 ∧ win0_2.index t (1 : Fin 2) = 0)
theorem blk_2 (t : Fin cfg0.N) : (iblk m c 2 t : Vec Ideal S128x4096 .f32) = mat fun a b => aT m c ((t.val - 1) * 128 + a) b := by
  have e := idx_2 t
  funext y
  refine (congrFun (entry_2 m c) _).trans ?_
  show aT m c (win0_2.index t (0 : Fin 2) * 128 + 1 * (y 0).val) (win0_2.index t (1 : Fin 2) * 4096 + 1 * (y 1).val) = aT m c _ _
  rw [e.1, e.2]
  congr 1 <;> omega
theorem idx_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem blk_3 (t : Fin cfg0.N) : (iblk m c 3 t : Vec Ideal S1x4096 .f32) = mat fun a b => aW m c (a) b := by
  have e := idx_3 t
  funext y
  refine (congrFun (entry_3 m c) _).trans ?_
  show aW m c (win0_3.index t (0 : Fin 2) * 1 + 1 * (y 0).val) (win0_3.index t (1 : Fin 2) * 4096 + 1 * (y 1).val) = aW m c _ _
  rw [e.1, e.2]
  congr 1 <;> omega

/-! ## The results as formulas -/

theorem er_eq (t : Fin cfg0.N) (h1 : 1 ≤ t.val) (a b : ℕ) : aH m c (t.val * 128 + a) b + aF m c (t.val * 128 + a) b * rs (aF m c (t.val * 128 + a)) * aW m c 0 b - aT m c ((t.val - 1) * 128 + a) b
    = er (aH m c) (aF m c) (aT m c) (aW m c) (t.val * 128 + a) b := by
  unfold er
  rw [show t.val * 128 + a - 128 = (t.val - 1) * 128 + a by omega]
theorem fact10 (t : Fin cfg0.N) (h1 : 1 ≤ t.val) : k0_pay10 (F := Ideal) (iblk m c 1 t) (iblk m c 3 t) (iblk m c 0 t) (iblk m c 2 t) = (mat fun a b => gd (aH m c) (aF m c) (aT m c) (aW m c) (t.val * 128 + a) b : Vec Ideal S128x4096 .f32) := by
  rw [blk_0 m c t, blk_1 m c t, blk_2 m c t, blk_3 m c t, pay10]
  congr 1
  funext a b
  rw [er_eq m c t h1]
  exact (if_neg (by omega)).symm
theorem fact6 (t : Fin cfg0.N) (h1 : 1 ≤ t.val) : k0_pay6 (F := Ideal) (iblk m c 1 t) (iblk m c 3 t) (k0_pay10 (iblk m c 1 t) (iblk m c 3 t) (iblk m c 0 t) (iblk m c 2 t)) = (mat fun a b => df (aH m c) (aF m c) (aT m c) (aW m c) (t.val * 128 + a) b : Vec Ideal S128x4096 .bf16) := by
  rw [fact10 m c t h1, blk_1 m c t, blk_3 m c t, pay6]
  rfl
theorem fact7 (t : Fin cfg0.N) (h1 : 1 ≤ t.val) (z : ℕ → ℕ → EReal) : k0_pay7 (F := Ideal) (iblk m c 1 t) (k0_pay10 (iblk m c 1 t) (iblk m c 3 t) (iblk m c 0 t) (iblk m c 2 t)) (mat z) = (mat fun a b => z a b + ∑ r : Fin 128, tw (aH m c) (aF m c) (aT m c) (aW m c) (t.val * 128 + r.val) b : Vec Ideal S1x4096 .f32) := by
  rw [fact10 m c t h1, blk_1 m c t, pay7]
  rfl
theorem fact9 (t : Fin cfg0.N) (h1 : 1 ≤ t.val) (z : ℕ → ℕ → EReal) : k0_pay9 (F := Ideal) (iblk m c 1 t) (iblk m c 3 t) (iblk m c 0 t) (iblk m c 2 t) (mat z) = (mat fun a b => z a b + ∑ r : Fin 128, tl (aH m c) (aF m c) (aT m c) (aW m c) (t.val * 128 + r.val) b : Vec Ideal S1x128 .f32) := by
  rw [blk_0 m c t, blk_1 m c t, blk_2 m c t, blk_3 m c t, pay9 _ _ _ _ _ (fun a b => er (aH m c) (aF m c) (aT m c) (aW m c) (t.val * 128 + a) b) (by funext a b; exact (er_eq m c t h1 a b).symm)]
  congr 1
  funext a b
  congr 1
  refine (half_sum Finset.univ (fun r : Fin 128 => ml (aH m c) (aF m c) (aT m c) (aW m c) (t.val * 128 + r.val)) fun r => ml_nonneg (aH m c) (aF m c) (aT m c) (aW m c) _).trans ?_
  refine Finset.sum_congr rfl fun r _ => ?_
  exact (if_neg (by omega)).symm

/-! ## What a point leaves -/

/-- The sum of the rows of the first `q` blocks. -/
def upto (f : ℕ → ℕ → EReal) (q : ℕ) : ℕ → ℕ → EReal := fun _ j => ∑ i ∈ Finset.range (q * 128), f i j
theorem upto_more (f : ℕ → ℕ → EReal) (q i j : ℕ) : upto f q i j + ∑ r : Fin 128, f (q * 128 + r.val) j = upto f (q + 1) i j := by
  unfold upto
  rw [Nat.succ_mul, Finset.sum_range_add, Finset.sum_range (n := 128)]
theorem upto_first (f : ℕ → ℕ → EReal) (hf : ∀ i < 128, ∀ j, f i j = 0) (q i j : ℕ) (h : q = 0) : 0 = upto f (q + 1) i j := by
  subst h
  exact (Finset.sum_eq_zero fun i hi => hf i (by have := Finset.mem_range.mp hi; omega) j).symm

theorem atA_4 (t : Fin cfg0.N) (h0 : t.val % 33 = 0) (h1 : ¬1 ≤ t.val) : (outsAt0 m c t.val t.isLt).1 = (k0_pay1 : FVec Ideal S128x4096 .f32) := by
  rw [outsAt0_A m c t h0 h1]
  dsimp only
  rw [outA_4]
theorem atB_4 (t : Fin cfg0.N) (h0 : ¬t.val % 33 = 0) (h1 : 1 ≤ t.val) : (outsAt0 m c t.val t.isLt).1 = k0_pay10 (iblk m c 1 t) (iblk m c 3 t) (iblk m c 0 t) (iblk m c 2 t) := by
  rw [outsAt0_B m c t h0 h1]
  dsimp only
  rw [outB_4]
theorem atA_5 (t : Fin cfg0.N) (h0 : t.val % 33 = 0) (h1 : ¬1 ≤ t.val) : (outsAt0 m c t.val t.isLt).2.1 = (k0_pay2 : FVec Ideal S128x4096 .bf16) := by
  rw [outsAt0_A m c t h0 h1]
  dsimp only
  rw [outA_5]
theorem atB_5 (t : Fin cfg0.N) (h0 : ¬t.val % 33 = 0) (h1 : 1 ≤ t.val) : (outsAt0 m c t.val t.isLt).2.1 = k0_pay6 (iblk m c 1 t) (iblk m c 3 t) (k0_pay10 (iblk m c 1 t) (iblk m c 3 t) (iblk m c 0 t) (iblk m c 2 t)) := by
  rw [outsAt0_B m c t h0 h1]
  dsimp only
  rw [outB_5]
theorem atA_6 (t : Fin cfg0.N) (h0 : t.val % 33 = 0) (h1 : ¬1 ≤ t.val) : (outsAt0 m c t.val t.isLt).2.2.1 = (k0_pay3 : FVec Ideal S1x128 .f32) := by
  rw [outsAt0_A m c t h0 h1]
  dsimp only
  rw [outA_6]
theorem atB_6 (t : Fin cfg0.N) (h0 : ¬t.val % 33 = 0) (h1 : 1 ≤ t.val) : (outsAt0 m c t.val t.isLt).2.2.1 = k0_pay9 (iblk m c 1 t) (iblk m c 3 t) (iblk m c 0 t) (iblk m c 2 t) (outsAt0 m c (t.val - 1) (Nat.lt_of_le_of_lt (Nat.sub_le _ _) t.isLt)).2.2.1 := by
  rw [outsAt0_B m c t h0 h1]
  dsimp only
  rw [outB_6]
theorem atA_7 (t : Fin cfg0.N) (h0 : t.val % 33 = 0) (h1 : ¬1 ≤ t.val) : (outsAt0 m c t.val t.isLt).2.2.2 = (k0_pay4 : FVec Ideal S1x4096 .f32) := by
  rw [outsAt0_A m c t h0 h1]
  dsimp only
  rw [outA_7]
theorem atB_7 (t : Fin cfg0.N) (h0 : ¬t.val % 33 = 0) (h1 : 1 ≤ t.val) : (outsAt0 m c t.val t.isLt).2.2.2 = k0_pay7 (iblk m c 1 t) (k0_pay10 (iblk m c 1 t) (iblk m c 3 t) (iblk m c 0 t) (iblk m c 2 t)) (outsAt0 m c (t.val - 1) (Nat.lt_of_le_of_lt (Nat.sub_le _ _) t.isLt)).2.2.2 := by
  rw [outsAt0_B m c t h0 h1]
  dsimp only
  rw [outB_7]
theorem outs_4 (t : Fin cfg0.N) : (outsAt0 m c t.val t.isLt).1 = (mat fun a b => gd (aH m c) (aF m c) (aT m c) (aW m c) (t.val * 128 + a) b : Vec Ideal S128x4096 .f32) := by
  have hN : cfg0.N = 33 := N_0
  have hlt := lt_of_lt_of_eq t.isLt hN
  by_cases h : 1 ≤ t.val
  · exact (atB_4 m c t (by omega) h).trans (fact10 m c t h)
  · refine (atA_4 m c t (by omega) h).trans ?_
    rw [pay1]
    funext y
    have hy : t.val * 128 + (y 0).val < 128 := by
      have h0 : (y 0).val < 128 := (y 0).isLt
      omega
    exact (if_pos hy).symm
theorem outs_5 (t : Fin cfg0.N) : (outsAt0 m c t.val t.isLt).2.1 = (mat fun a b => df (aH m c) (aF m c) (aT m c) (aW m c) (t.val * 128 + a) b : Vec Ideal S128x4096 .bf16) := by
  have hN : cfg0.N = 33 := N_0
  have hlt := lt_of_lt_of_eq t.isLt hN
  by_cases h : 1 ≤ t.val
  · exact (atB_5 m c t (by omega) h).trans (fact6 m c t h)
  · refine (atA_5 m c t (by omega) h).trans ?_
    rw [pay2]
    funext y
    have hy : t.val * 128 + (y 0).val < 128 := by
      have h0 : (y 0).val < 128 := (y 0).isLt
      omega
    exact (df_first (aH m c) (aF m c) (aT m c) (aW m c) hy _).symm
theorem outs_6 (n : ℕ) : ∀ (hn : n < cfg0.N), (outsAt0 m c n hn).2.2.1 = (mat (upto (tl (aH m c) (aF m c) (aT m c) (aW m c)) (n + 1)) : Vec Ideal S1x128 .f32) := by
  induction n using Nat.strong_induction_on with
  | _ n ih =>
    intro hn
    have hN : cfg0.N = 33 := N_0
    by_cases h : 1 ≤ n
    · refine (atB_6 m c ⟨n, hn⟩ (show ¬n % 33 = 0 by omega) h).trans ?_
      dsimp only
      rw [ih (n - 1) (by omega), fact9 m c ⟨n, hn⟩ h, show n - 1 + 1 = n by omega]
      funext y
      exact upto_more (tl (aH m c) (aF m c) (aT m c) (aW m c)) n _ _
    · refine (atA_6 m c ⟨n, hn⟩ (show n % 33 = 0 by omega) h).trans ?_
      rw [pay3]
      funext y
      exact upto_first (tl (aH m c) (aF m c) (aT m c) (aW m c)) (fun i hi j => tl_first (aH m c) (aF m c) (aT m c) (aW m c) hi j) n _ _ (by omega)
theorem outs_7 (n : ℕ) : ∀ (hn : n < cfg0.N), (outsAt0 m c n hn).2.2.2 = (mat (upto (tw (aH m c) (aF m c) (aT m c) (aW m c)) (n + 1)) : Vec Ideal S1x4096 .f32) := by
  induction n using Nat.strong_induction_on with
  | _ n ih =>
    intro hn
    have hN : cfg0.N = 33 := N_0
    by_cases h : 1 ≤ n
    · refine (atB_7 m c ⟨n, hn⟩ (show ¬n % 33 = 0 by omega) h).trans ?_
      dsimp only
      rw [ih (n - 1) (by omega), fact7 m c ⟨n, hn⟩ h, show n - 1 + 1 = n by omega]
      funext y
      exact upto_more (tw (aH m c) (aF m c) (aT m c) (aW m c)) n _ _
    · refine (atA_7 m c ⟨n, hn⟩ (show n % 33 = 0 by omega) h).trans ?_
      rw [pay4]
      funext y
      exact upto_first (tw (aH m c) (aF m c) (aT m c) (aW m c)) (fun i hi j => tw_first (aH m c) (aF m c) (aT m c) (aW m c) hi j) n _ _ (by omega)

/-! ## The arrays -/

theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem mem_4 (t : Fin cfg0.N) (i : S4224x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v0_0).slice (win0_4.rect t)).set ↔ _
  rw [View.set_slice_whole, Rect.mem_set_unit]
  exact Iff.rfl
theorem covers_4 (i : S4224x4096.Idx) : ∃ t : Fin cfg0.N, (cfg0.win 4).flush t = true ∧ i ∈ ((cfg0.win 4).blk t).view.set := by
  have hN : cfg0.N = 33 := N_0
  have h0 : (i 0).val < 4224 := (i 0).isLt; have h1 : (i 1).val < 4096 := (i 1).isLt
  have hlt : (i 0).val / 128 < cfg0.N := by omega
  refine ⟨⟨(i 0).val / 128, hlt⟩, flush0_4 _, ?_⟩
  rw [mem_4]
  have h := idx_4 ⟨(i 0).val / 128, hlt⟩
  dsimp only at h
  intro a
  match a with
  | ⟨0, _⟩ => show win0_4.index _ (0 : Fin 2) * 128 ≤ (i 0).val ∧ (i 0).val < win0_4.index _ (0 : Fin 2) * 128 + 128; rw [h.1]; omega
  | ⟨1, _⟩ => show win0_4.index _ (1 : Fin 2) * 4096 ≤ (i 1).val ∧ (i 1).val < win0_4.index _ (1 : Fin 2) * 4096 + 4096; rw [h.2]; omega
theorem arr_4 : (dats m 0 c).arrAt 4 cfg0.N = (mat (gd (aH m c) (aF m c) (aT m c) (aW m c)) : Vec Ideal S4224x4096 .f32) :=
  (dats m 0 c).arrAt_eq_of_cover 4 _ (fun t _ => by
    rw [Cert.LossKernelIdeal.Value.flushed4, outs_4 m c t]
    have h := idx_4 t
    funext y
    show gd (aH m c) (aF m c) (aT m c) (aW m c) (t.val * 128 + (y 0).val) (y 1).val = gd (aH m c) (aF m c) (aT m c) (aW m c) (win0_4.index t (0 : Fin 2) * 128 + 1 * (y 0).val) (win0_4.index t (1 : Fin 2) * 4096 + 1 * (y 1).val)
    rw [h.1, h.2, one_mul, one_mul, Nat.zero_mul, Nat.zero_add])
    covers_4
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem mem_5 (t : Fin cfg0.N) (i : S4224x4096.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_v0_1).slice (win0_5.rect t)).set ↔ _
  rw [View.set_slice_whole, Rect.mem_set_unit]
  exact Iff.rfl
theorem covers_5 (i : S4224x4096.Idx) : ∃ t : Fin cfg0.N, (cfg0.win 5).flush t = true ∧ i ∈ ((cfg0.win 5).blk t).view.set := by
  have hN : cfg0.N = 33 := N_0
  have h0 : (i 0).val < 4224 := (i 0).isLt; have h1 : (i 1).val < 4096 := (i 1).isLt
  have hlt : (i 0).val / 128 < cfg0.N := by omega
  refine ⟨⟨(i 0).val / 128, hlt⟩, flush0_5 _, ?_⟩
  rw [mem_5]
  have h := idx_5 ⟨(i 0).val / 128, hlt⟩
  dsimp only at h
  intro a
  match a with
  | ⟨0, _⟩ => show win0_5.index _ (0 : Fin 2) * 128 ≤ (i 0).val ∧ (i 0).val < win0_5.index _ (0 : Fin 2) * 128 + 128; rw [h.1]; omega
  | ⟨1, _⟩ => show win0_5.index _ (1 : Fin 2) * 4096 ≤ (i 1).val ∧ (i 1).val < win0_5.index _ (1 : Fin 2) * 4096 + 4096; rw [h.2]; omega
theorem arr_5 : (dats m 0 c).arrAt 5 cfg0.N = (mat (df (aH m c) (aF m c) (aT m c) (aW m c)) : Vec Ideal S4224x4096 .bf16) :=
  (dats m 0 c).arrAt_eq_of_cover 5 _ (fun t _ => by
    rw [Cert.LossKernelIdeal.Value.flushed5, outs_5 m c t]
    have h := idx_5 t
    funext y
    show df (aH m c) (aF m c) (aT m c) (aW m c) (t.val * 128 + (y 0).val) (y 1).val = df (aH m c) (aF m c) (aT m c) (aW m c) (win0_5.index t (0 : Fin 2) * 128 + 1 * (y 0).val) (win0_5.index t (1 : Fin 2) * 4096 + 1 * (y 1).val)
    rw [h.1, h.2, one_mul, one_mul, Nat.zero_mul, Nat.zero_add])
    covers_5
theorem idx_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem mem_6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v0_2).slice (win0_6.rect t)).set ↔ _
  rw [View.set_slice_whole, Rect.mem_set_unit]
  exact Iff.rfl
theorem covers_6 (i : S1x128.Idx) : ∃ t : Fin cfg0.N, (cfg0.win 6).flush t = true ∧ i ∈ ((cfg0.win 6).blk t).view.set := by
  have hN : cfg0.N = 33 := N_0
  have h0 : (i 0).val < 1 := (i 0).isLt; have h1 : (i 1).val < 128 := (i 1).isLt
  have hlt : 32 < cfg0.N := by omega
  refine ⟨⟨32, hlt⟩, (flush0_6 _).mpr rfl, ?_⟩
  rw [mem_6]
  have h := idx_6 ⟨32, hlt⟩
  intro a
  match a with
  | ⟨0, _⟩ => show win0_6.index _ (0 : Fin 2) * 1 ≤ (i 0).val ∧ (i 0).val < win0_6.index _ (0 : Fin 2) * 1 + 1; rw [h.1]; omega
  | ⟨1, _⟩ => show win0_6.index _ (1 : Fin 2) * 128 ≤ (i 1).val ∧ (i 1).val < win0_6.index _ (1 : Fin 2) * 128 + 128; rw [h.2]; omega
theorem arr_6 : (dats m 0 c).arrAt 6 cfg0.N = (mat (fun _ j => ∑ i ∈ Finset.range (33 * 128), tl (aH m c) (aF m c) (aT m c) (aW m c) i j) : Vec Ideal S1x128 .f32) :=
  (dats m 0 c).arrAt_eq_of_cover 6 _ (fun t hf => by
    have hN : cfg0.N = 33 := N_0
    have ht : t.val % 33 = 32 := (flush0_6 t).mp hf
    have ht' : t.val + 1 = 33 := by have := lt_of_lt_of_eq t.isLt hN; omega
    rw [Cert.LossKernelIdeal.Value.flushed6, outs_6 m c t.val t.isLt, ht']
    have h := idx_6 t
    funext y
    show (∑ i ∈ Finset.range (33 * 128), tl (aH m c) (aF m c) (aT m c) (aW m c) i (y 1).val) = ∑ i ∈ Finset.range (33 * 128), tl (aH m c) (aF m c) (aT m c) (aW m c) i (win0_6.index t (1 : Fin 2) * 128 + 1 * (y 1).val)
    rw [h.2, one_mul, Nat.zero_mul, Nat.zero_add])
    covers_6
theorem idx_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem mem_7 (t : Fin cfg0.N) (i : S1x4096.Idx) :
    i ∈ ((cfg0.win 7).blk t).view.set ↔ ∀ a : Fin 2, win0_7.index t a * S1x4096.size a ≤ (i a).val ∧ (i a).val < win0_7.index t a * S1x4096.size a + S1x4096.size a := by
  show i ∈ ((View.whole main_v0_3).slice (win0_7.rect t)).set ↔ _
  rw [View.set_slice_whole, Rect.mem_set_unit]
  exact Iff.rfl
theorem covers_7 (i : S1x4096.Idx) : ∃ t : Fin cfg0.N, (cfg0.win 7).flush t = true ∧ i ∈ ((cfg0.win 7).blk t).view.set := by
  have hN : cfg0.N = 33 := N_0
  have h0 : (i 0).val < 1 := (i 0).isLt; have h1 : (i 1).val < 4096 := (i 1).isLt
  have hlt : 32 < cfg0.N := by omega
  refine ⟨⟨32, hlt⟩, (flush0_7 _).mpr rfl, ?_⟩
  rw [mem_7]
  have h := idx_7 ⟨32, hlt⟩
  intro a
  match a with
  | ⟨0, _⟩ => show win0_7.index _ (0 : Fin 2) * 1 ≤ (i 0).val ∧ (i 0).val < win0_7.index _ (0 : Fin 2) * 1 + 1; rw [h.1]; omega
  | ⟨1, _⟩ => show win0_7.index _ (1 : Fin 2) * 4096 ≤ (i 1).val ∧ (i 1).val < win0_7.index _ (1 : Fin 2) * 4096 + 4096; rw [h.2]; omega
theorem arr_7 : (dats m 0 c).arrAt 7 cfg0.N = (mat (fun _ j => ∑ i ∈ Finset.range (33 * 128), tw (aH m c) (aF m c) (aT m c) (aW m c) i j) : Vec Ideal S1x4096 .f32) :=
  (dats m 0 c).arrAt_eq_of_cover 7 _ (fun t hf => by
    have hN : cfg0.N = 33 := N_0
    have ht : t.val % 33 = 32 := (flush0_7 t).mp hf
    have ht' : t.val + 1 = 33 := by have := lt_of_lt_of_eq t.isLt hN; omega
    rw [Cert.LossKernelIdeal.Value.flushed7, outs_7 m c t.val t.isLt, ht']
    have h := idx_7 t
    funext y
    show (∑ i ∈ Finset.range (33 * 128), tw (aH m c) (aF m c) (aT m c) (aW m c) i (y 1).val) = ∑ i ∈ Finset.range (33 * 128), tw (aH m c) (aF m c) (aT m c) (aW m c) i (win0_7.index t (1 : Fin 2) * 4096 + 1 * (y 1).val)
    rw [h.2, one_mul, Nat.zero_mul, Nat.zero_add])
    covers_7

end Cert.Loss

end
-- ==== Proof.LossRef.lean ====
/- The loss's reference, in the formulas of the call's. -/
module

public import proofs.«01_k».proof.Proof.LossSpec
public import proofs.«01_k».proof.Proof.Gen.LossReferenceIdeal.Read
public import Idealize.ShloMosaic.Lib.Pointwise

@[expose] public section

set_option maxRecDepth 16384

noncomputable section

namespace Cert.Loss

open Idealize.ShloMosaic Idealize.ShloMosaic.TcCoe Idealize.ShloMosaic.Tactic
open Cert.LossReferenceIdeal Cert.LossReferenceIdeal.Gen Cert.LossReferenceIdeal.Read
open Cert.Ffn (mat mat_get2)
open Cert.Norm

theorem no_bits : Ideal.ofBits FTy.f32 0x00000000#32 = 0 := by simp [Ideal.ofBits, Ideal.ieee]

/-- The rows as an array. -/
abbrev rows (f : ℕ → ℕ → EReal) : (⟨S4224x4096, .f32⟩ : BufTy).Contents (Elt Ideal) := (mat f : Vec Ideal S4224x4096 .f32)
/-- The target rows as an array. -/
abbrev tgts (f : ℕ → ℕ → EReal) : (⟨S4096x4096, .f32⟩ : BufTy).Contents (Elt Ideal) := (mat f : Vec Ideal S4096x4096 .f32)
/-- The weights as an array. -/
abbrev wts (f : ℕ → ℕ → EReal) : (⟨S1x4096, .f32⟩ : BufTy).Contents (Elt Ideal) := (mat f : Vec Ideal S1x4096 .f32)

variable (h f t w : ℕ → ℕ → EReal)

theorem r_v6 (i : S4224x1.Idx) : val_main_v6 (F := Ideal) (rows f) i = ms (f (i 0).val) := by
  rw [val_main_v6_apply, val_main_v4_apply, val_main_v2_apply, val_main_v1_apply, val_main_v3_apply, val_main_v5_apply]
  show Ideal.div (Ideal.ofBits .f32 0x00000000#32 + ∑ k : Fin 4096, f (i 0).val k.val * f (i 0).val k.val) c4096 + Cert.Ret.eps = _
  rw [no_bits, zero_add]
  rfl
theorem r_v7 (i : S4224x1.Idx) : val_main_v7 (F := Ideal) (rows f) i = rs (f (i 0).val) := by
  rw [val_main_v7_apply, r_v6]
  rfl
/-- The root's derivative. -/
theorem r_v10 (i : S4224x1.Idx) : val_main_v10 (F := Ideal) (rows f) i = Ideal.ofBits FTy.f32 0xBF000000#32 * Ideal.div (rs (f (i 0).val)) (ms (f (i 0).val)) := by
  rw [val_main_v10_apply, val_main_v9_apply, val_main_v8_apply, r_v7, r_v6]
  rfl

/-- The error. -/
theorem r_v17 (i : S4096x4096.Idx) : val_main_v17 (F := Ideal) (rows h) (rows f) (tgts t) (wts w) i = er h f t w (128 + (i 0).val) (i 1).val := by
  rw [val_main_v17_apply, val_main_v16_apply, val_main_v15_apply, val_main_v14_apply, val_main_v12_apply, val_main_v11_apply, val_main_v13_apply, r_v7]
  unfold er
  rw [show 128 + (i 0).val - 128 = (i 0).val by omega]
  rfl
/-- The mean of a row's squared errors. -/
theorem r_v23 (i : S4096.Idx) : val_main_v23 (F := Ideal) (rows h) (rows f) (tgts t) (wts w) i = ml h f t w (128 + (i 0).val) := by
  rw [val_main_v23_apply, val_main_v21_apply, val_main_v22_apply]
  show Ideal.div (Ideal.ofBits .f32 0x00000000#32 + _) c4096 = _
  rw [no_bits, zero_add]
  unfold ml
  congr 1
  refine Finset.sum_congr rfl fun e _ => ?_
  rw [val_main_v18_apply, r_v17]
  rfl
/-- The indices of a row of 4096 are the numbers below 4096. -/
def flat : S4096.Idx ≃ Fin 4096 where
  toFun i := i 0
  invFun e := fun a => match a with | ⟨0, _⟩ => e
  left_inv i := by funext a; match a with | ⟨0, _⟩ => rfl
  right_inv e := rfl
/-- The loss. -/
theorem r_v53 : val_main_v53 (F := Ideal) (rows h) (rows f) (tgts t) (wts w) = (mat fun _ j => ∑ i ∈ Finset.range (33 * 128), tl h f t w i j : Vec Ideal S1x128 .f32) := by
  funext i
  rw [val_main_v53_apply, val_main_v25_apply, val_main_v24_apply]
  show c05 * (Ideal.ofBits .f32 0x00000000#32 + _) = ∑ k ∈ Finset.range (33 * 128), tl h f t w k (i 1).val
  rw [no_bits, zero_add, ← loss_eq]
  congr 1
  refine Fintype.sum_equiv flat _ _ fun j => ?_
  exact r_v23 h f t w j
/-- The gradient of the error's rows. -/
theorem r_v31 (i : S4096x4096.Idx) : val_main_v31 (F := Ideal) (rows h) (rows f) (tgts t) (wts w) i = gd h f t w (128 + (i 0).val) (i 1).val := by
  rw [val_main_v31_apply, val_main_v30_apply, val_main_v29_apply, val_main_v27_apply, val_main_v26_apply, val_main_v28_apply, val_main_v20_apply, val_main_v19_apply, r_v17]
  refine (slope _).trans ?_
  exact (if_neg (by omega)).symm
/-- The gradient of the hidden rows: zeros, and then the gradient of the error's rows. -/
theorem r_v32 : val_main_v32 (F := Ideal) (rows h) (rows f) (tgts t) (wts w) = rows (gd h f t w) := by
  funext i
  have h1 : (i 1).val < 4096 := (i 1).isLt
  have h0 : (i 0).val < 4224 := (i 0).isLt
  unfold val_main_v32 pad
  by_cases hi : 128 ≤ (i 0).val
  · rw [dif_pos (fun a => match a with
      | ⟨0, _⟩ => ⟨hi, by show ((i 0).val - 128) % (0 + 1) = 0; omega, by show ((i 0).val - 128) / (0 + 1) < 4096; omega⟩
      | ⟨1, _⟩ => ⟨Nat.zero_le _, by show ((i 1).val - 0) % (0 + 1) = 0; omega, by show ((i 1).val - 0) / (0 + 1) < 4096; omega⟩)]
    rw [r_v31]
    show gd h f t w (128 + ((i 0).val - 128) / (0 + 1)) (((i 1).val - 0) / (0 + 1)) = gd h f t w (i 0).val (i 1).val
    rw [show 128 + ((i 0).val - 128) / (0 + 1) = (i 0).val by omega, show ((i 1).val - 0) / (0 + 1) = (i 1).val by omega]
  · rw [dif_neg (fun hin => hi (hin (0 : Fin 2)).1)]
    refine no_bits.trans ?_
    exact (if_pos (by omega)).symm

theorem r_v37 (i : S4224x4096.Idx) : val_main_v37 (F := Ideal) (rows h) (rows f) (tgts t) (wts w) i = gd h f t w (i 0).val (i 1).val * w 0 (i 1).val := by
  rw [val_main_v37_apply, val_main_v36_apply, r_v32]
  rfl
theorem r_v40 (i : S4224x1.Idx) : val_main_v40 (F := Ideal) (rows h) (rows f) (tgts t) (wts w) i = ∑ e : Fin 4096, f (i 0).val e.val * (gd h f t w (i 0).val e.val * w 0 e.val) := by
  rw [val_main_v40_apply, val_main_v39_apply]
  show Ideal.ofBits .f32 0x00000000#32 + _ = _
  rw [no_bits, zero_add]
  refine Finset.sum_congr rfl fun e _ => ?_
  rw [val_main_v38_apply, r_v37]
  have h1 : (i 1).val < 1 := (i 1).isLt
  show f ((i 0).val * 1 + (i 1).val) e.val * (gd h f t w ((i 0).val * 1 + (i 1).val) e.val * w 0 e.val) = _
  rw [show (i 0).val * 1 + (i 1).val = (i 0).val by omega]
theorem r_v47 (i : S4224x4096.Idx) : val_main_v47 (F := Ideal) (rows h) (rows f) (tgts t) (wts w) i
    = Ideal.div ((∑ e : Fin 4096, f (i 0).val e.val * (gd h f t w (i 0).val e.val * w 0 e.val)) * (Ideal.ofBits FTy.f32 0xBF000000#32 * Ideal.div (rs (f (i 0).val)) (ms (f (i 0).val)))) c4096 := by
  rw [val_main_v47_apply, val_main_v46_apply]
  show Ideal.ofBits .f32 0x00000000#32 + _ = _
  rw [no_bits, zero_add, Fin.sum_univ_one, val_main_v45_apply, val_main_v43_apply, r_v40, r_v10, val_main_v44_apply]
  rfl
/-- The gradient of the rows to be normalised. -/
theorem r_v52 : val_main_v52 (F := Ideal) (rows h) (rows f) (tgts t) (wts w) = (mat (df h f t w) : Vec Ideal S4224x4096 .bf16) := by
  funext i
  rw [val_main_v52_apply, val_main_v51_apply, val_main_v49_apply, val_main_v50_apply, val_main_v48_apply, val_main_v42_apply, val_main_v41_apply, r_v37, r_v47, r_v7]
  exact dx_eq (f (i 0).val) (gd h f t w (i 0).val) (w 0) (i 1).val
/-- The gradient of the weights. -/
theorem r_v35 : val_main_v35 (F := Ideal) (rows h) (rows f) (tgts t) (wts w) = wts fun _ j => ∑ i ∈ Finset.range (33 * 128), tw h f t w i j := by
  funext i
  rw [val_main_v35_apply, val_main_v34_apply]
  show Ideal.ofBits .f32 0x00000000#32 + _ = ∑ k ∈ Finset.range (33 * 128), tw h f t w k (i 1).val
  rw [no_bits, zero_add, Finset.sum_range]
  refine Finset.sum_congr rfl fun e _ => ?_
  rw [val_main_v33_apply, val_main_v12_apply, val_main_v11_apply, r_v7, r_v32]
  have h0 : (i 0).val < 1 := (i 0).isLt
  show f e.val ((i 0).val * 4096 + (i 1).val) * rs (f e.val) * gd h f t w e.val ((i 0).val * 4096 + (i 1).val) = dw (f e.val) (gd h f t w e.val) (i 1).val
  rw [show (i 0).val * 4096 + (i 1).val = (i 1).val by omega]
  exact mul_comm (f e.val (i 1).val * rs (f e.val)) (gd h f t w e.val (i 1).val)

end Cert.Loss

end
-- ==== Proof.LossSame.lean ====
/- The loss's backward call and its reference: how they run, and that they end with the same results. -/
module

public import proofs.«01_k».proof.Defs
public import proofs.«01_k».proof.Proof.Gen.LossKernel
public import proofs.«01_k».proof.Proof.LossAcc
public import proofs.«01_k».proof.Proof.LossRef
public import proofs.«01_k».proof.Proof.Gen.LossReferenceIdeal.Run
public import Idealize.ShloMosaic.Lib.Quiescent

@[expose] public section

noncomputable section

namespace Cert.Loss

open Idealize.ShloMosaic Idealize.SL.Sem Idealize.ShloMosaic.Tactic
open Cert.Ffn (mat mat_get2)
open Cert.Ret (get2)
open Cert.Norm

/-- The idealized program's frame, its text run over the bit-level floats. -/
def bitsFrame : Prop :=
  ∀ (m : (ℓ : Loc Cert.LossKernelIdeal.nD Cert.LossKernelIdeal.τ Cert.LossKernelIdeal.sig) → Buf (Elt Bits) ℓ) (g : Dev Cert.LossKernelIdeal.nD → PrngReg), True →
    θ_run (Cert.LossKernelIdeal.defs (F := Bits)) (onTc (τ := Cert.LossKernelIdeal.τ) (Cert.LossKernelIdeal.main (F := Bits))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3))
      ∧ r.2.sem = fun _ => 0)

/-- The two programs have the same text. -/
theorem same_text : bitsFrame = Cert.quiescent_LossKernel := by sl_kernel_rfl

theorem frame_kernel : Cert.quiescent_LossKernel :=
  same_text.mp fun m ρ _ => Cert.LossKernelIdeal.Gen.frame (F := Bits) m ρ
theorem frame_kernelIdeal : Cert.quiescent_LossKernelIdeal := fun m ρ _ => Cert.LossKernelIdeal.Gen.frame m ρ

/-- The reference keeps its arguments; it declares no semaphore. -/
theorem frame_reference : Cert.quiescent_LossReferenceIdeal := fun m ρ _ =>
  (θ_run Cert.LossReferenceIdeal.defs _ _).mono (fun r e => ⟨fun c => (e c).2.2.2.2, sem_eq_zero_of_no_sems (by decide) r.2⟩) (Cert.LossReferenceIdeal.Value.run m ρ)

variable (m : (ℓ : Loc Cert.LossKernelIdeal.nD Cert.LossKernelIdeal.τ Cert.LossKernelIdeal.sig) → Buf (Elt Ideal) ℓ) (c : Dev Cert.LossKernelIdeal.nD)

theorem arg_0 : (m ((c.tc : Thread Cert.LossKernelIdeal.nD Cert.LossKernelIdeal.τ).loc Cert.LossKernelIdeal.main_arg0)) = rows (aH m c) := mat_get2 _
theorem arg_1 : (m ((c.tc : Thread Cert.LossKernelIdeal.nD Cert.LossKernelIdeal.τ).loc Cert.LossKernelIdeal.main_arg1)) = rows (aF m c) := mat_get2 _
theorem arg_2 : (m ((c.tc : Thread Cert.LossKernelIdeal.nD Cert.LossKernelIdeal.τ).loc Cert.LossKernelIdeal.main_arg2)) = tgts (aT m c) := mat_get2 _
theorem arg_3 : (m ((c.tc : Thread Cert.LossKernelIdeal.nD Cert.LossKernelIdeal.τ).loc Cert.LossKernelIdeal.main_arg3)) = wts (aW m c) := mat_get2 _
theorem same_v32 : Cert.LossReferenceIdeal.Read.val_main_v32 (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3))
    = (Cert.LossKernelIdeal.Gen.dats m 0 c).arrAt 4 Cert.LossKernelIdeal.cfg0.N := by
  rw [arg_0 m c, arg_1 m c, arg_2 m c, arg_3 m c, r_v32]
  exact (arr_4 m c).symm
theorem same_v52 : Cert.LossReferenceIdeal.Read.val_main_v52 (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3))
    = (Cert.LossKernelIdeal.Gen.dats m 0 c).arrAt 5 Cert.LossKernelIdeal.cfg0.N := by
  rw [arg_0 m c, arg_1 m c, arg_2 m c, arg_3 m c, r_v52]
  exact (arr_5 m c).symm
theorem same_v53 : Cert.LossReferenceIdeal.Read.val_main_v53 (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3))
    = (Cert.LossKernelIdeal.Gen.dats m 0 c).arrAt 6 Cert.LossKernelIdeal.cfg0.N := by
  rw [arg_0 m c, arg_1 m c, arg_2 m c, arg_3 m c, r_v53]
  exact (arr_6 m c).symm
theorem same_v35 : Cert.LossReferenceIdeal.Read.val_main_v35 (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3))
    = (Cert.LossKernelIdeal.Gen.dats m 0 c).arrAt 7 Cert.LossKernelIdeal.cfg0.N := by
  rw [arg_0 m c, arg_1 m c, arg_2 m c, arg_3 m c, r_v35]
  exact (arr_7 m c).symm

/-- Run on the same arguments, the two programs end with the same results. -/
theorem same_results : Cert.algebraic_LossKernelIdeal_LossReferenceIdeal := fun m g m' g' _ h =>
  ⟨fun c => (Cert.LossKernelIdeal.Gen.dats m 0 c).arrAt 4 Cert.LossKernelIdeal.cfg0.N, fun c => (Cert.LossKernelIdeal.Gen.dats m 0 c).arrAt 5 Cert.LossKernelIdeal.cfg0.N, fun c => (Cert.LossKernelIdeal.Gen.dats m 0 c).arrAt 6 Cert.LossKernelIdeal.cfg0.N, fun c => (Cert.LossKernelIdeal.Gen.dats m 0 c).arrAt 7 Cert.LossKernelIdeal.cfg0.N,
    Cert.LossKernelIdeal.Value.run_blocks m g,
    (θ_run Cert.LossReferenceIdeal.defs _ _).mono (fun _ e c => by
      obtain ⟨e0, e1, e2, e3, e4⟩ := e c
      obtain ⟨h0, h1, h2, h3⟩ := h c
      have e0 := e0.trans (Cert.LossReferenceIdeal.Read.val_main_v32_eq _ _ _ _)
      have e1 := e1.trans (Cert.LossReferenceIdeal.Read.val_main_v52_eq m' c)
      have e2 := e2.trans (Cert.LossReferenceIdeal.Read.val_main_v53_eq _ _ _ _)
      have e3 := e3.trans (Cert.LossReferenceIdeal.Read.val_main_v35_eq _ _ _ _)
      rw [h0, h1, h2, h3] at e0 e1 e2 e3
      exact ⟨e0.trans (same_v32 m c), e1.trans (same_v52 m c), e2.trans (same_v53 m c), e3.trans (same_v35 m c), e4⟩)
      (Cert.LossReferenceIdeal.Value.run m' g')⟩

end Cert.Loss

end
-- ==== Proof.MidPay.lean ====
/- What a point of the two normalisations' backward call leaves in its four results. -/
module

public import proofs.«01_k».proof.Proof.Norm
public import proofs.«01_k».proof.Proof.Gen.MidKernelIdeal.Value
public import Idealize.ShloMosaic.Lib.Pointwise
public import Idealize.ShloMosaic.Lib.StableHlo.ReadAt
public import Idealize.ShloMosaic.Lib.Tactic

@[expose] public section

set_option maxRecDepth 16384

noncomputable section

namespace Cert.Mid

open Idealize.ShloMosaic Idealize.ShloMosaic.TcCoe Idealize.ShloMosaic.Tactic Idealize.ShloMosaic.Pipeline
open Cert.MidKernelIdeal Cert.MidKernelIdeal.Gen
open Cert.Ret (get2)
open Cert.Ffn (mat mat_get2)
open Cert.Norm

/-! ## What a point leaves, as the body's own pieces -/

section Pieces

variable {F : FTy → Type} [FloatOps F]

theorem origin : (![0, 0] : Fin 2 → Nat) = fun _ => 0 := funext fun a => by fin_cases a <;> rfl

/-- The first normalisation's gradient on top of what comes from above. -/
theorem outA_6 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x4096 .f32) (h5 : a5.IsWhole) (a6 : Memref sig .tc .vmem S1x4096 .f32) (h6 : a6.IsWhole) (a7 : Memref sig .tc .vmem S128x4096 .f32) (h7 : a7.IsWhole) (a8 : Memref sig .tc .vmem S128x4096 .bf16) (h8 : a8.IsWhole) (a9 : Memref sig .tc .vmem S1x4096 .f32) (h9 : a9.IsWhole) (a10 : Memref sig .tc .vmem S1x4096 .f32) (h10 : a10.IsWhole) (hc0 : cond0_0 i)
    (x0 x1 x2 x3 : Vec F S128x4096 .f32) (x4 x5 : Vec F S1x4096 .f32) : out0_A_6 c i a1 h1 a2 h2 a3 h3 a4 h4 a5 h5 a6 h6 a7 h7 a8 h8 a9 h9 a10 h10 hc0 x0 x1 x2 x3 x4 x5 = k0_pay5 x2 x4 x1 x0 := by
  unfold out0_A_6
  rw [View.read_writes_eq_canon _ _ _ (cover0_A_6 c i a1 h1 a2 h2 a3 h3 a4 h4 a5 h5 a6 h6 a7 h7 a8 h8 a9 h9 a10 h10 hc0 x0 x1 x2 x3 x4 x5)]
  unfold kernelRun0_A
  dsimp only
  try sl_unfold_words
  rw [View.canon_unit_zero origin]
  try simp only [View.readCov_unit_zero (S := S1x4096) _ origin]
  simp only [View.readAt_eq_ld, h1.read_unread, h2.read_unread, h3.read_unread, h4.read_unread, h5.read_unread, h6.read_unread, h9.read_unread, h10.read_unread, View.ld_unit_zero (S := S128x4096) origin, View.ld_unit_zero (S := S1x4096) origin, shapeCast_self]

/-- The second normalisation's gradient. -/
theorem outA_7 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x4096 .f32) (h5 : a5.IsWhole) (a6 : Memref sig .tc .vmem S1x4096 .f32) (h6 : a6.IsWhole) (a7 : Memref sig .tc .vmem S128x4096 .f32) (h7 : a7.IsWhole) (a8 : Memref sig .tc .vmem S128x4096 .bf16) (h8 : a8.IsWhole) (a9 : Memref sig .tc .vmem S1x4096 .f32) (h9 : a9.IsWhole) (a10 : Memref sig .tc .vmem S1x4096 .f32) (h10 : a10.IsWhole) (hc0 : cond0_0 i)
    (x0 x1 x2 x3 : Vec F S128x4096 .f32) (x4 x5 : Vec F S1x4096 .f32) : out0_A_7 c i a1 h1 a2 h2 a3 h3 a4 h4 a5 h5 a6 h6 a7 h7 a8 h8 a9 h9 a10 h10 hc0 x0 x1 x2 x3 x4 x5 = k0_pay7 (k0_pay5 x2 x4 x1 x0) x3 x5 := by
  unfold out0_A_7
  rw [View.read_writes_eq_canon _ _ _ (cover0_A_7 c i a1 h1 a2 h2 a3 h3 a4 h4 a5 h5 a6 h6 a7 h7 a8 h8 a9 h9 a10 h10 hc0 x0 x1 x2 x3 x4 x5)]
  unfold kernelRun0_A
  dsimp only
  try sl_unfold_words
  rw [View.canon_unit_zero origin]
  try simp only [View.readCov_unit_zero (S := S1x4096) _ origin]
  simp only [View.readAt_eq_ld, h1.read_unread, h2.read_unread, h3.read_unread, h4.read_unread, h5.read_unread, h6.read_unread, h9.read_unread, h10.read_unread, View.ld_unit_zero (S := S128x4096) origin, View.ld_unit_zero (S := S1x4096) origin, shapeCast_self]

/-- The rows' sum for the first weights on top of zero. -/
theorem outA_8 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x4096 .f32) (h5 : a5.IsWhole) (a6 : Memref sig .tc .vmem S1x4096 .f32) (h6 : a6.IsWhole) (a7 : Memref sig .tc .vmem S128x4096 .f32) (h7 : a7.IsWhole) (a8 : Memref sig .tc .vmem S128x4096 .bf16) (h8 : a8.IsWhole) (a9 : Memref sig .tc .vmem S1x4096 .f32) (h9 : a9.IsWhole) (a10 : Memref sig .tc .vmem S1x4096 .f32) (h10 : a10.IsWhole) (hc0 : cond0_0 i)
    (x0 x1 x2 x3 : Vec F S128x4096 .f32) (x4 x5 : Vec F S1x4096 .f32) : out0_A_8 c i a1 h1 a2 h2 a3 h3 a4 h4 a5 h5 a6 h6 a7 h7 a8 h8 a9 h9 a10 h10 hc0 x0 x1 x2 x3 x4 x5 = k0_pay8 (k0_pay4 x2 x1) k0_pay1 := by
  unfold out0_A_8
  rw [View.read_writes_eq_canon _ _ _ (cover0_A_8 c i a1 h1 a2 h2 a3 h3 a4 h4 a5 h5 a6 h6 a7 h7 a8 h8 a9 h9 a10 h10 hc0 x0 x1 x2 x3 x4 x5)]
  unfold kernelRun0_A
  dsimp only
  try sl_unfold_words
  rw [View.canon_cons_unit_zero (S := S1x4096) origin]
  try simp only [View.readCov_unit_zero (S := S1x4096) _ origin]
  simp only [View.readAt_eq_ld, h1.read_unread, h2.read_unread, h3.read_unread, h4.read_unread, h5.read_unread, h6.read_unread, h9.read_unread, h10.read_unread, View.ld_unit_zero (S := S128x4096) origin, View.ld_unit_zero (S := S1x4096) origin, shapeCast_self]

/-- The rows' sum for the second weights on top of zero. -/
theorem outA_9 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x4096 .f32) (h5 : a5.IsWhole) (a6 : Memref sig .tc .vmem S1x4096 .f32) (h6 : a6.IsWhole) (a7 : Memref sig .tc .vmem S128x4096 .f32) (h7 : a7.IsWhole) (a8 : Memref sig .tc .vmem S128x4096 .bf16) (h8 : a8.IsWhole) (a9 : Memref sig .tc .vmem S1x4096 .f32) (h9 : a9.IsWhole) (a10 : Memref sig .tc .vmem S1x4096 .f32) (h10 : a10.IsWhole) (hc0 : cond0_0 i)
    (x0 x1 x2 x3 : Vec F S128x4096 .f32) (x4 x5 : Vec F S1x4096 .f32) : out0_A_9 c i a1 h1 a2 h2 a3 h3 a4 h4 a5 h5 a6 h6 a7 h7 a8 h8 a9 h9 a10 h10 hc0 x0 x1 x2 x3 x4 x5 = k0_pay9 (k0_pay5 x2 x4 x1 x0) x3 k0_pay2 := by
  unfold out0_A_9
  rw [View.read_writes_eq_canon _ _ _ (cover0_A_9 c i a1 h1 a2 h2 a3 h3 a4 h4 a5 h5 a6 h6 a7 h7 a8 h8 a9 h9 a10 h10 hc0 x0 x1 x2 x3 x4 x5)]
  unfold kernelRun0_A
  dsimp only
  try sl_unfold_words
  rw [View.canon_cons_unit_zero (S := S1x4096) origin]
  try simp only [View.readCov_unit_zero (S := S1x4096) _ origin]
  simp only [View.readAt_eq_ld, h1.read_unread, h2.read_unread, h3.read_unread, h4.read_unread, h5.read_unread, h6.read_unread, h9.read_unread, h10.read_unread, View.ld_unit_zero (S := S128x4096) origin, View.ld_unit_zero (S := S1x4096) origin, shapeCast_self]

/-- The first normalisation's gradient on top of what comes from above. -/
theorem outB_6 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x4096 .f32) (h5 : a5.IsWhole) (a6 : Memref sig .tc .vmem S1x4096 .f32) (h6 : a6.IsWhole) (a7 : Memref sig .tc .vmem S128x4096 .f32) (h7 : a7.IsWhole) (a8 : Memref sig .tc .vmem S128x4096 .bf16) (h8 : a8.IsWhole) (a9 : Memref sig .tc .vmem S1x4096 .f32) (h9 : a9.IsWhole) (a10 : Memref sig .tc .vmem S1x4096 .f32) (h10 : a10.IsWhole) (hc0 : ¬cond0_0 i)
    (x0 x1 x2 x3 : Vec F S128x4096 .f32) (x4 x5 : Vec F S1x4096 .f32) (y z : Vec F S1x4096 .f32) : out0_B_6 c i a1 h1 a2 h2 a3 h3 a4 h4 a5 h5 a6 h6 a7 h7 a8 h8 a9 h9 a10 h10 hc0 x0 x1 x2 x3 x4 x5 y z = k0_pay5 x2 x4 x1 x0 := by
  unfold out0_B_6
  rw [View.read_writes_eq_canon _ _ _ (cover0_B_6 c i a1 h1 a2 h2 a3 h3 a4 h4 a5 h5 a6 h6 a7 h7 a8 h8 a9 h9 a10 h10 hc0 x0 x1 x2 x3 x4 x5 y z)]
  unfold kernelRun0_B
  dsimp only
  try sl_unfold_words
  rw [View.canon_unit_zero origin]
  try simp only [View.readCov_unit_zero (S := S1x4096) _ origin]
  simp only [View.readAt_eq_ld, h1.read_unread, h2.read_unread, h3.read_unread, h4.read_unread, h5.read_unread, h6.read_unread, h9.read_unread, h10.read_unread, View.ld_unit_zero (S := S128x4096) origin, View.ld_unit_zero (S := S1x4096) origin, shapeCast_self]

/-- The second normalisation's gradient. -/
theorem outB_7 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x4096 .f32) (h5 : a5.IsWhole) (a6 : Memref sig .tc .vmem S1x4096 .f32) (h6 : a6.IsWhole) (a7 : Memref sig .tc .vmem S128x4096 .f32) (h7 : a7.IsWhole) (a8 : Memref sig .tc .vmem S128x4096 .bf16) (h8 : a8.IsWhole) (a9 : Memref sig .tc .vmem S1x4096 .f32) (h9 : a9.IsWhole) (a10 : Memref sig .tc .vmem S1x4096 .f32) (h10 : a10.IsWhole) (hc0 : ¬cond0_0 i)
    (x0 x1 x2 x3 : Vec F S128x4096 .f32) (x4 x5 : Vec F S1x4096 .f32) (y z : Vec F S1x4096 .f32) : out0_B_7 c i a1 h1 a2 h2 a3 h3 a4 h4 a5 h5 a6 h6 a7 h7 a8 h8 a9 h9 a10 h10 hc0 x0 x1 x2 x3 x4 x5 y z = k0_pay7 (k0_pay5 x2 x4 x1 x0) x3 x5 := by
  unfold out0_B_7
  rw [View.read_writes_eq_canon _ _ _ (cover0_B_7 c i a1 h1 a2 h2 a3 h3 a4 h4 a5 h5 a6 h6 a7 h7 a8 h8 a9 h9 a10 h10 hc0 x0 x1 x2 x3 x4 x5 y z)]
  unfold kernelRun0_B
  dsimp only
  try sl_unfold_words
  rw [View.canon_unit_zero origin]
  try simp only [View.readCov_unit_zero (S := S1x4096) _ origin]
  simp only [View.readAt_eq_ld, h1.read_unread, h2.read_unread, h3.read_unread, h4.read_unread, h5.read_unread, h6.read_unread, h9.read_unread, h10.read_unread, View.ld_unit_zero (S := S128x4096) origin, View.ld_unit_zero (S := S1x4096) origin, shapeCast_self]

/-- The rows' sum for the first weights on top of what was there. -/
theorem outB_8 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x4096 .f32) (h5 : a5.IsWhole) (a6 : Memref sig .tc .vmem S1x4096 .f32) (h6 : a6.IsWhole) (a7 : Memref sig .tc .vmem S128x4096 .f32) (h7 : a7.IsWhole) (a8 : Memref sig .tc .vmem S128x4096 .bf16) (h8 : a8.IsWhole) (a9 : Memref sig .tc .vmem S1x4096 .f32) (h9 : a9.IsWhole) (a10 : Memref sig .tc .vmem S1x4096 .f32) (h10 : a10.IsWhole) (hc0 : ¬cond0_0 i)
    (x0 x1 x2 x3 : Vec F S128x4096 .f32) (x4 x5 : Vec F S1x4096 .f32) (y z : Vec F S1x4096 .f32) : out0_B_8 c i a1 h1 a2 h2 a3 h3 a4 h4 a5 h5 a6 h6 a7 h7 a8 h8 a9 h9 a10 h10 hc0 x0 x1 x2 x3 x4 x5 y z = k0_pay8 (k0_pay4 x2 x1) y := by
  unfold out0_B_8
  rw [View.read_writes_eq_canon _ _ _ (cover0_B_8 c i a1 h1 a2 h2 a3 h3 a4 h4 a5 h5 a6 h6 a7 h7 a8 h8 a9 h9 a10 h10 hc0 x0 x1 x2 x3 x4 x5 y z)]
  unfold kernelRun0_B
  dsimp only
  try sl_unfold_words
  rw [View.canon_unit_zero origin]
  try simp only [View.readCov_unit_zero (S := S1x4096) _ origin]
  simp only [View.readAt_eq_ld, h1.read_unread, h2.read_unread, h3.read_unread, h4.read_unread, h5.read_unread, h6.read_unread, h9.read_unread, h10.read_unread, View.ld_unit_zero (S := S128x4096) origin, View.ld_unit_zero (S := S1x4096) origin, shapeCast_self]

/-- The rows' sum for the second weights on top of what was there. -/
theorem outB_9 (c : Dev nD) (i : grid0.Coords) (a1 : Memref sig .tc .vmem S128x4096 .f32) (h1 : a1.IsWhole) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x4096 .f32) (h5 : a5.IsWhole) (a6 : Memref sig .tc .vmem S1x4096 .f32) (h6 : a6.IsWhole) (a7 : Memref sig .tc .vmem S128x4096 .f32) (h7 : a7.IsWhole) (a8 : Memref sig .tc .vmem S128x4096 .bf16) (h8 : a8.IsWhole) (a9 : Memref sig .tc .vmem S1x4096 .f32) (h9 : a9.IsWhole) (a10 : Memref sig .tc .vmem S1x4096 .f32) (h10 : a10.IsWhole) (hc0 : ¬cond0_0 i)
    (x0 x1 x2 x3 : Vec F S128x4096 .f32) (x4 x5 : Vec F S1x4096 .f32) (y z : Vec F S1x4096 .f32) : out0_B_9 c i a1 h1 a2 h2 a3 h3 a4 h4 a5 h5 a6 h6 a7 h7 a8 h8 a9 h9 a10 h10 hc0 x0 x1 x2 x3 x4 x5 y z = k0_pay9 (k0_pay5 x2 x4 x1 x0) x3 z := by
  unfold out0_B_9
  rw [View.read_writes_eq_canon _ _ _ (cover0_B_9 c i a1 h1 a2 h2 a3 h3 a4 h4 a5 h5 a6 h6 a7 h7 a8 h8 a9 h9 a10 h10 hc0 x0 x1 x2 x3 x4 x5 y z)]
  unfold kernelRun0_B
  dsimp only
  try sl_unfold_words
  rw [View.canon_unit_zero origin]
  try simp only [View.readCov_unit_zero (S := S1x4096) _ origin]
  simp only [View.readAt_eq_ld, h1.read_unread, h2.read_unread, h3.read_unread, h4.read_unread, h5.read_unread, h6.read_unread, h9.read_unread, h10.read_unread, View.ld_unit_zero (S := S128x4096) origin, View.ld_unit_zero (S := S1x4096) origin, shapeCast_self]

end Pieces

end Cert.Mid

end
-- ==== Proof.MidAcc.lean ====
/- The four result arrays of the two normalisations' backward call. -/
module

public import proofs.«01_k».proof.Proof.MidPay

@[expose] public section

set_option maxRecDepth 16384

noncomputable section

namespace Cert.Mid

open Idealize.ShloMosaic Idealize.ShloMosaic.TcCoe Idealize.ShloMosaic.Tactic Idealize.ShloMosaic.Pipeline
open Cert.MidKernelIdeal Cert.MidKernelIdeal.Gen
open Cert.Ret (get2)
open Cert.Ffn (mat mat_get2)
open Cert.Norm

/-! ## The body's pieces as formulas -/

theorem split2 {n k : ℕ} (i : (⟨2, ![n, k]⟩ : Shape).Idx) : ∃ (r : Fin n) (j : Fin k), i = ix2 r j := ⟨i 0, i 1, by funext a; match a with | ⟨0, _⟩ => rfl | ⟨1, _⟩ => rfl⟩

theorem pay4 (h g : ℕ → ℕ → EReal) : k0_pay4 (F := Ideal) (mat h) (mat g) = (mat fun i j => dw (h i) (g i) j : Vec Ideal S128x4096 .f32) := by
  funext i
  obtain ⟨r, j, rfl⟩ := split2 i
  unfold k0_pay4 k0_pay3
  pointwise
  rfl
theorem pay5 (h w g d : ℕ → ℕ → EReal) : k0_pay5 (F := Ideal) (mat h) (mat w) (mat g) (mat d) = (mat fun i j => d i j + dx (h i) (g i) (w 0) j : Vec Ideal S128x4096 .f32) := by
  funext i
  obtain ⟨r, j, rfl⟩ := split2 i
  unfold k0_pay5 k0_pay3
  pointwise
  rfl
theorem pay7 (v a w : ℕ → ℕ → EReal) : k0_pay7 (F := Ideal) (mat v) (mat a) (mat w) = (mat fun i j => dx (a i) (v i) (w 0) j : Vec Ideal S128x4096 .bf16) := by
  funext i
  obtain ⟨r, j, rfl⟩ := split2 i
  unfold k0_pay7 k0_pay6
  pointwise
  rfl
theorem pay8 (u z : ℕ → ℕ → EReal) : k0_pay8 (F := Ideal) (mat u) (mat z) = (mat fun i j => z i j + ∑ r : Fin 128, u r.val j : Vec Ideal S1x4096 .f32) := by
  funext i
  obtain ⟨r, j, rfl⟩ := split2 i
  unfold k0_pay8
  pointwise
  rfl
theorem pay9 (v a z : ℕ → ℕ → EReal) : k0_pay9 (F := Ideal) (mat v) (mat a) (mat z) = (mat fun i j => z i j + ∑ r : Fin 128, dw (a r.val) (v r.val) j : Vec Ideal S1x4096 .f32) := by
  funext i
  obtain ⟨r, j, rfl⟩ := split2 i
  unfold k0_pay9 k0_pay6
  pointwise
  rfl
theorem pay1 : k0_pay1 (F := Ideal) = (mat fun _ _ => 0 : Vec Ideal S1x4096 .f32) := by
  funext i
  obtain ⟨r, j, rfl⟩ := split2 i
  unfold k0_pay1
  pointwise
  rfl
theorem pay2 : k0_pay2 (F := Ideal) = (mat fun _ _ => 0 : Vec Ideal S1x4096 .f32) := by
  funext i
  obtain ⟨r, j, rfl⟩ := split2 i
  unfold k0_pay2
  pointwise
  rfl

/-! ## The blocks -/

variable (m : (ℓ : Loc nD τ sig) → Buf (Elt Ideal) ℓ) (c : Dev nD)

/-- What comes from above. -/
def aD : ℕ → ℕ → EReal := get2 (m (c, Proc.devRef .tc main_arg0) : Vec Ideal S4224x4096 .f32)
theorem entry_0 : (V m c main_arg0 : Vec Ideal S4224x4096 .f32) = mat (aD m c) :=
  (V_main_arg0 m c).trans (mat_get2 _)
/-- The cotangent of the first normalised rows. -/
def aG : ℕ → ℕ → EReal := get2 (m (c, Proc.devRef .tc main_arg1) : Vec Ideal S4224x4096 .f32)
theorem entry_1 : (V m c main_arg1 : Vec Ideal S4224x4096 .f32) = mat (aG m c) :=
  (V_main_arg1 m c).trans (mat_get2 _)
/-- The rows that the first normalises. -/
def aH : ℕ → ℕ → EReal := get2 (m (c, Proc.devRef .tc main_arg2) : Vec Ideal S4224x4096 .f32)
theorem entry_2 : (V m c main_arg2 : Vec Ideal S4224x4096 .f32) = mat (aH m c) :=
  (V_main_arg2 m c).trans (mat_get2 _)
/-- The rows that the second normalises. -/
def aA : ℕ → ℕ → EReal := get2 (m (c, Proc.devRef .tc main_arg3) : Vec Ideal S4224x4096 .f32)
theorem entry_3 : (V m c main_arg3 : Vec Ideal S4224x4096 .f32) = mat (aA m c) :=
  (V_main_arg3 m c).trans (mat_get2 _)
/-- The first weights. -/
def aW : ℕ → ℕ → EReal := get2 (m (c, Proc.devRef .tc main_arg4) : Vec Ideal S1x4096 .f32)
theorem entry_4 : (V m c main_arg4 : Vec Ideal S1x4096 .f32) = mat (aW m c) :=
  (V_main_arg4 m c).trans (mat_get2 _)
/-- The second weights. -/
def aU : ℕ → ℕ → EReal := get2 (m (c, Proc.devRef .tc main_arg5) : Vec Ideal S1x4096 .f32)
theorem entry_5 : (V m c main_arg5 : Vec Ideal S1x4096 .f32) = mat (aU m c) :=
  (V_main_arg5 m c).trans (mat_get2 _)
theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem blk_0 (t : Fin cfg0.N) : (iblk m c 0 t : Vec Ideal S128x4096 .f32) = mat fun a b => aD m c (t.val * 128 + a) b := by
  have e := idx_0 t
  funext y
  refine (congrFun (entry_0 m c) _).trans ?_
  show aD m c (win0_0.index t (0 : Fin 2) * 128 + 1 * (y 0).val) (win0_0.index t (1 : Fin 2) * 4096 + 1 * (y 1).val) = aD m c _ _
  rw [e.1, e.2]
  congr 1 <;> omega
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem blk_1 (t : Fin cfg0.N) : (iblk m c 1 t : Vec Ideal S128x4096 .f32) = mat fun a b => aG m c (t.val * 128 + a) b := by
  have e := idx_1 t
  funext y
  refine (congrFun (entry_1 m c) _).trans ?_
  show aG m c (win0_1.index t (0 : Fin 2) * 128 + 1 * (y 0).val) (win0_1.index t (1 : Fin 2) * 4096 + 1 * (y 1).val) = aG m c _ _
  rw [e.1, e.2]
  congr 1 <;> omega
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem blk_2 (t : Fin cfg0.N) : (iblk m c 2 t : Vec Ideal S128x4096 .f32) = mat fun a b => aH m c (t.val * 128 + a) b := by
  have e := idx_2 t
  funext y
  refine (congrFun (entry_2 m c) _).trans ?_
  show aH m c (win0_2.index t (0 : Fin 2) * 128 + 1 * (y 0).val) (win0_2.index t (1 : Fin 2) * 4096 + 1 * (y 1).val) = aH m c _ _
  rw [e.1, e.2]
  congr 1 <;> omega
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem blk_3 (t : Fin cfg0.N) : (iblk m c 3 t : Vec Ideal S128x4096 .f32) = mat fun a b => aA m c (t.val * 128 + a) b := by
  have e := idx_3 t
  funext y
  refine (congrFun (entry_3 m c) _).trans ?_
  show aA m c (win0_3.index t (0 : Fin 2) * 128 + 1 * (y 0).val) (win0_3.index t (1 : Fin 2) * 4096 + 1 * (y 1).val) = aA m c _ _
  rw [e.1, e.2]
  congr 1 <;> omega
theorem idx_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem blk_4 (t : Fin cfg0.N) : (iblk m c 4 t : Vec Ideal S1x4096 .f32) = mat fun a b => aW m c a b := by
  have e := idx_4 t
  funext y
  refine (congrFun (entry_4 m c) _).trans ?_
  show aW m c (win0_4.index t (0 : Fin 2) * 1 + 1 * (y 0).val) (win0_4.index t (1 : Fin 2) * 4096 + 1 * (y 1).val) = aW m c _ _
  rw [e.1, e.2]
  congr 1 <;> omega
theorem idx_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem blk_5 (t : Fin cfg0.N) : (iblk m c 5 t : Vec Ideal S1x4096 .f32) = mat fun a b => aU m c a b := by
  have e := idx_5 t
  funext y
  refine (congrFun (entry_5 m c) _).trans ?_
  show aU m c (win0_5.index t (0 : Fin 2) * 1 + 1 * (y 0).val) (win0_5.index t (1 : Fin 2) * 4096 + 1 * (y 1).val) = aU m c _ _
  rw [e.1, e.2]
  congr 1 <;> omega

/-! ## The results as formulas -/

/-- The gradient of the rows that the first normalises. -/
def dH (i j : ℕ) : EReal := aD m c i j + dx (aH m c i) (aG m c i) (aW m c 0) j
/-- The gradient of the rows that the second normalises. -/
def dA (i j : ℕ) : EReal := dx (aA m c i) (dH m c i) (aU m c 0) j
/-- What a row adds to the gradient of the first weights. -/
def tW (i j : ℕ) : EReal := dw (aH m c i) (aG m c i) j
/-- What a row adds to the gradient of the second weights. -/
def tU (i j : ℕ) : EReal := dw (aA m c i) (dH m c i) j

theorem fact5 (t : Fin cfg0.N) : k0_pay5 (F := Ideal) (iblk m c 2 t) (iblk m c 4 t) (iblk m c 1 t) (iblk m c 0 t) = (mat fun a b => dH m c (t.val * 128 + a) b : Vec Ideal S128x4096 .f32) := by
  rw [blk_0 m c t, blk_1 m c t, blk_2 m c t, blk_4 m c t, pay5]
  rfl
theorem fact7 (t : Fin cfg0.N) : k0_pay7 (F := Ideal) (k0_pay5 (iblk m c 2 t) (iblk m c 4 t) (iblk m c 1 t) (iblk m c 0 t)) (iblk m c 3 t) (iblk m c 5 t) = (mat fun a b => dA m c (t.val * 128 + a) b : Vec Ideal S128x4096 .bf16) := by
  rw [fact5 m c t, blk_3 m c t, blk_5 m c t, pay7]
  rfl
theorem fact8 (t : Fin cfg0.N) (z : ℕ → ℕ → EReal) : k0_pay8 (F := Ideal) (k0_pay4 (iblk m c 2 t) (iblk m c 1 t)) (mat z) = (mat fun a b => z a b + ∑ r : Fin 128, tW m c (t.val * 128 + r.val) b : Vec Ideal S1x4096 .f32) := by
  rw [blk_1 m c t, blk_2 m c t, pay4, pay8]
  rfl
theorem fact9 (t : Fin cfg0.N) (z : ℕ → ℕ → EReal) : k0_pay9 (F := Ideal) (k0_pay5 (iblk m c 2 t) (iblk m c 4 t) (iblk m c 1 t) (iblk m c 0 t)) (iblk m c 3 t) (mat z) = (mat fun a b => z a b + ∑ r : Fin 128, tU m c (t.val * 128 + r.val) b : Vec Ideal S1x4096 .f32) := by
  rw [fact5 m c t, blk_3 m c t, pay9]
  rfl

/-! ## What a point leaves -/

/-- The sum of the rows of the first `q` blocks. -/
def upto (f : ℕ → ℕ → EReal) (q : ℕ) : ℕ → ℕ → EReal := fun _ j => ∑ i ∈ Finset.range (q * 128), f i j
theorem upto_more (f : ℕ → ℕ → EReal) (q i j : ℕ) : upto f q i j + ∑ r : Fin 128, f (q * 128 + r.val) j = upto f (q + 1) i j := by
  unfold upto
  rw [Nat.succ_mul, Finset.sum_range_add, Finset.sum_range (n := 128)]
theorem upto_first (f : ℕ → ℕ → EReal) (q i j : ℕ) (h : q = 0) : 0 + ∑ r : Fin 128, f (q * 128 + r.val) j = upto f (q + 1) i j := by
  rw [← upto_more]
  subst h
  unfold upto
  rw [Nat.zero_mul, Finset.range_zero, Finset.sum_empty]

theorem atA_6 (t : Fin cfg0.N) (h0 : t.val % 33 = 0) : (outsAt0 m c t.val t.isLt).1 = k0_pay5 (iblk m c 2 t) (iblk m c 4 t) (iblk m c 1 t) (iblk m c 0 t) := by
  rw [outsAt0_A m c t h0]
  dsimp only
  rw [outA_6]
theorem atA_7 (t : Fin cfg0.N) (h0 : t.val % 33 = 0) : (outsAt0 m c t.val t.isLt).2.1 = k0_pay7 (k0_pay5 (iblk m c 2 t) (iblk m c 4 t) (iblk m c 1 t) (iblk m c 0 t)) (iblk m c 3 t) (iblk m c 5 t) := by
  rw [outsAt0_A m c t h0]
  dsimp only
  rw [outA_7]
theorem atA_8 (t : Fin cfg0.N) (h0 : t.val % 33 = 0) : (outsAt0 m c t.val t.isLt).2.2.1 = k0_pay8 (k0_pay4 (iblk m c 2 t) (iblk m c 1 t)) (k0_pay1 : FVec Ideal S1x4096 .f32) := by
  rw [outsAt0_A m c t h0]
  dsimp only
  rw [outA_8]
theorem atA_9 (t : Fin cfg0.N) (h0 : t.val % 33 = 0) : (outsAt0 m c t.val t.isLt).2.2.2 = k0_pay9 (k0_pay5 (iblk m c 2 t) (iblk m c 4 t) (iblk m c 1 t) (iblk m c 0 t)) (iblk m c 3 t) (k0_pay2 : FVec Ideal S1x4096 .f32) := by
  rw [outsAt0_A m c t h0]
  dsimp only
  rw [outA_9]
theorem atB_6 (t : Fin cfg0.N) (h0 : ¬t.val % 33 = 0) : (outsAt0 m c t.val t.isLt).1 = k0_pay5 (iblk m c 2 t) (iblk m c 4 t) (iblk m c 1 t) (iblk m c 0 t) := by
  rw [outsAt0_B m c t h0]
  dsimp only
  rw [outB_6]
theorem atB_7 (t : Fin cfg0.N) (h0 : ¬t.val % 33 = 0) : (outsAt0 m c t.val t.isLt).2.1 = k0_pay7 (k0_pay5 (iblk m c 2 t) (iblk m c 4 t) (iblk m c 1 t) (iblk m c 0 t)) (iblk m c 3 t) (iblk m c 5 t) := by
  rw [outsAt0_B m c t h0]
  dsimp only
  rw [outB_7]
theorem atB_8 (t : Fin cfg0.N) (h0 : ¬t.val % 33 = 0) : (outsAt0 m c t.val t.isLt).2.2.1 = k0_pay8 (k0_pay4 (iblk m c 2 t) (iblk m c 1 t)) (outsAt0 m c (t.val - 1) (Nat.lt_of_le_of_lt (Nat.sub_le _ _) t.isLt)).2.2.1 := by
  rw [outsAt0_B m c t h0]
  dsimp only
  rw [outB_8]
theorem atB_9 (t : Fin cfg0.N) (h0 : ¬t.val % 33 = 0) : (outsAt0 m c t.val t.isLt).2.2.2 = k0_pay9 (k0_pay5 (iblk m c 2 t) (iblk m c 4 t) (iblk m c 1 t) (iblk m c 0 t)) (iblk m c 3 t) (outsAt0 m c (t.val - 1) (Nat.lt_of_le_of_lt (Nat.sub_le _ _) t.isLt)).2.2.2 := by
  rw [outsAt0_B m c t h0]
  dsimp only
  rw [outB_9]
theorem outs_6 (t : Fin cfg0.N) : (outsAt0 m c t.val t.isLt).1 = (mat fun a b => dH m c (t.val * 128 + a) b : Vec Ideal S128x4096 .f32) := by
  by_cases h : t.val % 33 = 0
  · exact (atA_6 m c t h).trans (fact5 m c t)
  · exact (atB_6 m c t h).trans (fact5 m c t)
theorem outs_7 (t : Fin cfg0.N) : (outsAt0 m c t.val t.isLt).2.1 = (mat fun a b => dA m c (t.val * 128 + a) b : Vec Ideal S128x4096 .bf16) := by
  by_cases h : t.val % 33 = 0
  · exact (atA_7 m c t h).trans (fact7 m c t)
  · exact (atB_7 m c t h).trans (fact7 m c t)
theorem outs_8 (n : ℕ) : ∀ (hn : n < cfg0.N), (outsAt0 m c n hn).2.2.1 = (mat (upto (tW m c) (n + 1)) : Vec Ideal S1x4096 .f32) := by
  induction n using Nat.strong_induction_on with
  | _ n ih =>
    intro hn
    have hN : cfg0.N = 33 := N_0
    by_cases h : n % 33 = 0
    · refine (atA_8 m c ⟨n, hn⟩ h).trans ?_
      rw [pay1, fact8 m c ⟨n, hn⟩]
      funext y
      exact upto_first (tW m c) n _ _ (by omega)
    · refine (atB_8 m c ⟨n, hn⟩ h).trans ?_
      dsimp only
      rw [ih (n - 1) (by omega), fact8 m c ⟨n, hn⟩, show n - 1 + 1 = n by omega]
      funext y
      exact upto_more (tW m c) n _ _
theorem outs_9 (n : ℕ) : ∀ (hn : n < cfg0.N), (outsAt0 m c n hn).2.2.2 = (mat (upto (tU m c) (n + 1)) : Vec Ideal S1x4096 .f32) := by
  induction n using Nat.strong_induction_on with
  | _ n ih =>
    intro hn
    have hN : cfg0.N = 33 := N_0
    by_cases h : n % 33 = 0
    · refine (atA_9 m c ⟨n, hn⟩ h).trans ?_
      rw [pay2, fact9 m c ⟨n, hn⟩]
      funext y
      exact upto_first (tU m c) n _ _ (by omega)
    · refine (atB_9 m c ⟨n, hn⟩ h).trans ?_
      dsimp only
      rw [ih (n - 1) (by omega), fact9 m c ⟨n, hn⟩, show n - 1 + 1 = n by omega]
      funext y
      exact upto_more (tU m c) n _ _

/-! ## The arrays -/

theorem idx_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem mem_6 (t : Fin cfg0.N) (i : S4224x4096.Idx) :
    i ∈ ((cfg0.win 6).blk t).view.set ↔ ∀ a : Fin 2, win0_6.index t a * S128x4096.size a ≤ (i a).val ∧ (i a).val < win0_6.index t a * S128x4096.size a + S128x4096.size a := by
  show i ∈ ((View.whole main_v0_0).slice (win0_6.rect t)).set ↔ _
  rw [View.set_slice_whole, Rect.mem_set_unit]
  exact Iff.rfl
theorem covers_6 (i : S4224x4096.Idx) : ∃ t : Fin cfg0.N, (cfg0.win 6).flush t = true ∧ i ∈ ((cfg0.win 6).blk t).view.set := by
  have hN : cfg0.N = 33 := N_0
  have h0 : (i 0).val < 4224 := (i 0).isLt; have h1 : (i 1).val < 4096 := (i 1).isLt
  have hlt : (i 0).val / 128 < cfg0.N := by omega
  refine ⟨⟨(i 0).val / 128, hlt⟩, flush0_6 _, ?_⟩
  rw [mem_6]
  have h := idx_6 ⟨(i 0).val / 128, hlt⟩
  dsimp only at h
  intro a
  match a with
  | ⟨0, _⟩ => show win0_6.index _ (0 : Fin 2) * 128 ≤ (i 0).val ∧ (i 0).val < win0_6.index _ (0 : Fin 2) * 128 + 128; rw [h.1]; omega
  | ⟨1, _⟩ => show win0_6.index _ (1 : Fin 2) * 4096 ≤ (i 1).val ∧ (i 1).val < win0_6.index _ (1 : Fin 2) * 4096 + 4096; rw [h.2]; omega
theorem arr_6 : (dats m 0 c).arrAt 6 cfg0.N = (mat (dH m c) : Vec Ideal S4224x4096 .f32) :=
  (dats m 0 c).arrAt_eq_of_cover 6 _ (fun t _ => by
    rw [Cert.MidKernelIdeal.Value.flushed6, outs_6 m c t]
    have h := idx_6 t
    funext y
    show dH m c (t.val * 128 + (y 0).val) (y 1).val = dH m c (win0_6.index t (0 : Fin 2) * 128 + 1 * (y 0).val) (win0_6.index t (1 : Fin 2) * 4096 + 1 * (y 1).val)
    rw [h.1, h.2, one_mul, one_mul, Nat.zero_mul, Nat.zero_add])
    covers_6
theorem idx_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem mem_7 (t : Fin cfg0.N) (i : S4224x4096.Idx) :
    i ∈ ((cfg0.win 7).blk t).view.set ↔ ∀ a : Fin 2, win0_7.index t a * S128x4096.size a ≤ (i a).val ∧ (i a).val < win0_7.index t a * S128x4096.size a + S128x4096.size a := by
  show i ∈ ((View.whole main_v0_1).slice (win0_7.rect t)).set ↔ _
  rw [View.set_slice_whole, Rect.mem_set_unit]
  exact Iff.rfl
theorem covers_7 (i : S4224x4096.Idx) : ∃ t : Fin cfg0.N, (cfg0.win 7).flush t = true ∧ i ∈ ((cfg0.win 7).blk t).view.set := by
  have hN : cfg0.N = 33 := N_0
  have h0 : (i 0).val < 4224 := (i 0).isLt; have h1 : (i 1).val < 4096 := (i 1).isLt
  have hlt : (i 0).val / 128 < cfg0.N := by omega
  refine ⟨⟨(i 0).val / 128, hlt⟩, flush0_7 _, ?_⟩
  rw [mem_7]
  have h := idx_7 ⟨(i 0).val / 128, hlt⟩
  dsimp only at h
  intro a
  match a with
  | ⟨0, _⟩ => show win0_7.index _ (0 : Fin 2) * 128 ≤ (i 0).val ∧ (i 0).val < win0_7.index _ (0 : Fin 2) * 128 + 128; rw [h.1]; omega
  | ⟨1, _⟩ => show win0_7.index _ (1 : Fin 2) * 4096 ≤ (i 1).val ∧ (i 1).val < win0_7.index _ (1 : Fin 2) * 4096 + 4096; rw [h.2]; omega
theorem arr_7 : (dats m 0 c).arrAt 7 cfg0.N = (mat (dA m c) : Vec Ideal S4224x4096 .bf16) :=
  (dats m 0 c).arrAt_eq_of_cover 7 _ (fun t _ => by
    rw [Cert.MidKernelIdeal.Value.flushed7, outs_7 m c t]
    have h := idx_7 t
    funext y
    show dA m c (t.val * 128 + (y 0).val) (y 1).val = dA m c (win0_7.index t (0 : Fin 2) * 128 + 1 * (y 0).val) (win0_7.index t (1 : Fin 2) * 4096 + 1 * (y 1).val)
    rw [h.1, h.2, one_mul, one_mul, Nat.zero_mul, Nat.zero_add])
    covers_7
theorem idx_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem mem_8 (t : Fin cfg0.N) (i : S1x4096.Idx) :
    i ∈ ((cfg0.win 8).blk t).view.set ↔ ∀ a : Fin 2, win0_8.index t a * S1x4096.size a ≤ (i a).val ∧ (i a).val < win0_8.index t a * S1x4096.size a + S1x4096.size a := by
  show i ∈ ((View.whole main_v0_2).slice (win0_8.rect t)).set ↔ _
  rw [View.set_slice_whole, Rect.mem_set_unit]
  exact Iff.rfl
theorem covers_8 (i : S1x4096.Idx) : ∃ t : Fin cfg0.N, (cfg0.win 8).flush t = true ∧ i ∈ ((cfg0.win 8).blk t).view.set := by
  have hN : cfg0.N = 33 := N_0
  have h0 : (i 0).val < 1 := (i 0).isLt; have h1 : (i 1).val < 4096 := (i 1).isLt
  have hlt : 32 < cfg0.N := by omega
  refine ⟨⟨32, hlt⟩, (flush0_8 _).mpr rfl, ?_⟩
  rw [mem_8]
  have h := idx_8 ⟨32, hlt⟩
  intro a
  match a with
  | ⟨0, _⟩ => show win0_8.index _ (0 : Fin 2) * 1 ≤ (i 0).val ∧ (i 0).val < win0_8.index _ (0 : Fin 2) * 1 + 1; rw [h.1]; omega
  | ⟨1, _⟩ => show win0_8.index _ (1 : Fin 2) * 4096 ≤ (i 1).val ∧ (i 1).val < win0_8.index _ (1 : Fin 2) * 4096 + 4096; rw [h.2]; omega
theorem arr_8 : (dats m 0 c).arrAt 8 cfg0.N = (mat (fun _ j => ∑ i : Fin 4224, tW m c i.val j) : Vec Ideal S1x4096 .f32) :=
  (dats m 0 c).arrAt_eq_of_cover 8 _ (fun t hf => by
    have hN : cfg0.N = 33 := N_0
    have ht : t.val % 33 = 32 := (flush0_8 t).mp hf
    have ht' : t.val + 1 = 33 := by have := lt_of_lt_of_eq t.isLt hN; omega
    rw [Cert.MidKernelIdeal.Value.flushed8, outs_8 m c t.val t.isLt, ht']
    have h := idx_8 t
    funext y
    show (∑ i ∈ Finset.range (33 * 128), tW m c i (y 1).val) = ∑ i : Fin 4224, tW m c i.val (win0_8.index t (1 : Fin 2) * 4096 + 1 * (y 1).val)
    rw [h.2, one_mul, Nat.zero_mul, Nat.zero_add]
    exact Finset.sum_range _)
    covers_8
theorem idx_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem mem_9 (t : Fin cfg0.N) (i : S1x4096.Idx) :
    i ∈ ((cfg0.win 9).blk t).view.set ↔ ∀ a : Fin 2, win0_9.index t a * S1x4096.size a ≤ (i a).val ∧ (i a).val < win0_9.index t a * S1x4096.size a + S1x4096.size a := by
  show i ∈ ((View.whole main_v0_3).slice (win0_9.rect t)).set ↔ _
  rw [View.set_slice_whole, Rect.mem_set_unit]
  exact Iff.rfl
theorem covers_9 (i : S1x4096.Idx) : ∃ t : Fin cfg0.N, (cfg0.win 9).flush t = true ∧ i ∈ ((cfg0.win 9).blk t).view.set := by
  have hN : cfg0.N = 33 := N_0
  have h0 : (i 0).val < 1 := (i 0).isLt; have h1 : (i 1).val < 4096 := (i 1).isLt
  have hlt : 32 < cfg0.N := by omega
  refine ⟨⟨32, hlt⟩, (flush0_9 _).mpr rfl, ?_⟩
  rw [mem_9]
  have h := idx_9 ⟨32, hlt⟩
  intro a
  match a with
  | ⟨0, _⟩ => show win0_9.index _ (0 : Fin 2) * 1 ≤ (i 0).val ∧ (i 0).val < win0_9.index _ (0 : Fin 2) * 1 + 1; rw [h.1]; omega
  | ⟨1, _⟩ => show win0_9.index _ (1 : Fin 2) * 4096 ≤ (i 1).val ∧ (i 1).val < win0_9.index _ (1 : Fin 2) * 4096 + 4096; rw [h.2]; omega
theorem arr_9 : (dats m 0 c).arrAt 9 cfg0.N = (mat (fun _ j => ∑ i : Fin 4224, tU m c i.val j) : Vec Ideal S1x4096 .f32) :=
  (dats m 0 c).arrAt_eq_of_cover 9 _ (fun t hf => by
    have hN : cfg0.N = 33 := N_0
    have ht : t.val % 33 = 32 := (flush0_9 t).mp hf
    have ht' : t.val + 1 = 33 := by have := lt_of_lt_of_eq t.isLt hN; omega
    rw [Cert.MidKernelIdeal.Value.flushed9, outs_9 m c t.val t.isLt, ht']
    have h := idx_9 t
    funext y
    show (∑ i ∈ Finset.range (33 * 128), tU m c i (y 1).val) = ∑ i : Fin 4224, tU m c i.val (win0_9.index t (1 : Fin 2) * 4096 + 1 * (y 1).val)
    rw [h.2, one_mul, Nat.zero_mul, Nat.zero_add]
    exact Finset.sum_range _)
    covers_9
end Cert.Mid

end
-- ==== Proof.MidRef.lean ====
/- The two normalisations' backward call's reference, in the formulas of the call's. -/
module

public import proofs.«01_k».proof.Proof.Norm
public import proofs.«01_k».proof.Proof.Gen.MidReferenceIdeal.Read
public import Idealize.ShloMosaic.Lib.Pointwise

@[expose] public section

set_option maxRecDepth 16384

noncomputable section

namespace Cert.Mid

open Idealize.ShloMosaic Idealize.ShloMosaic.TcCoe Idealize.ShloMosaic.Tactic
open Cert.MidReferenceIdeal Cert.MidReferenceIdeal.Gen Cert.MidReferenceIdeal.Read
open Cert.Ffn (mat mat_get2)
open Cert.Norm

theorem no_bits : Ideal.ofBits FTy.f32 0x00000000#32 = 0 := by simp [Ideal.ofBits, Ideal.ieee]

/-- The rows as an array. -/
abbrev rows (f : ℕ → ℕ → EReal) : (⟨S4224x4096, .f32⟩ : BufTy).Contents (Elt Ideal) := (mat f : Vec Ideal S4224x4096 .f32)
/-- The weights as an array. -/
abbrev wts (f : ℕ → ℕ → EReal) : (⟨S1x4096, .f32⟩ : BufTy).Contents (Elt Ideal) := (mat f : Vec Ideal S1x4096 .f32)

variable (d g h a w u : ℕ → ℕ → EReal)

/-- The gradient of the rows that the first normalises. -/
def rH (i j : ℕ) : EReal := d i j + dx (h i) (g i) (w 0) j

theorem r_v6 (i : S4224x1.Idx) : val_main_v6 (F := Ideal) (rows h) i = ms (h (i 0).val) := by
  rw [val_main_v6_apply, val_main_v4_apply, val_main_v2_apply, val_main_v1_apply, val_main_v3_apply, val_main_v5_apply]
  show Ideal.div (Ideal.ofBits .f32 0x00000000#32 + ∑ k : Fin 4096, h (i 0).val k.val * h (i 0).val k.val) c4096 + Cert.Ret.eps = _
  rw [no_bits, zero_add]
  rfl
theorem r_v7 (i : S4224x1.Idx) : val_main_v7 (F := Ideal) (rows h) i = rs (h (i 0).val) := by
  rw [val_main_v7_apply, r_v6]
  rfl
/-- The root's derivative. -/
theorem r_v10 (i : S4224x1.Idx) : val_main_v10 (F := Ideal) (rows h) i = Ideal.ofBits FTy.f32 0xBF000000#32 * Ideal.div (rs (h (i 0).val)) (ms (h (i 0).val)) := by
  rw [val_main_v10_apply, val_main_v9_apply, val_main_v8_apply, r_v7, r_v6]
  rfl

theorem r_v22 (i : S4224x1.Idx) : val_main_v22 (F := Ideal) (rows g) (rows h) (wts w) i = ∑ e : Fin 4096, h (i 0).val e.val * (g (i 0).val e.val * w 0 e.val) := by
  rw [val_main_v22_apply, val_main_v21_apply]
  show Ideal.ofBits .f32 0x00000000#32 + _ = _
  rw [no_bits, zero_add]
  refine Finset.sum_congr rfl fun e _ => ?_
  rw [val_main_v20_apply, val_main_v19_apply, val_main_v18_apply]
  have h1 : (i 1).val < 1 := (i 1).isLt
  show h ((i 0).val * 1 + (i 1).val) e.val * (g ((i 0).val * 1 + (i 1).val) e.val * w 0 e.val) = _
  rw [show (i 0).val * 1 + (i 1).val = (i 0).val by omega]
theorem r_v30 (i : S4224x4096.Idx) : val_main_v30 (F := Ideal) (rows g) (rows h) (wts w) i
    = Ideal.div ((∑ e : Fin 4096, h (i 0).val e.val * (g (i 0).val e.val * w 0 e.val)) * (Ideal.ofBits FTy.f32 0xBF000000#32 * Ideal.div (rs (h (i 0).val)) (ms (h (i 0).val)))) c4096 := by
  rw [val_main_v30_apply, val_main_v29_apply]
  show Ideal.ofBits .f32 0x00000000#32 + _ = _
  rw [no_bits, zero_add, Fin.sum_univ_one, val_main_v28_apply, val_main_v26_apply, r_v22, r_v10, val_main_v27_apply]
  rfl
/-- The gradient of the rows that the first normalises. -/
theorem r_v34 : val_main_v34 (F := Ideal) (rows d) (rows g) (rows h) (wts w) = rows (rH d g h w) := by
  funext i
  rw [val_main_v34_apply, val_main_v32_apply, val_main_v33_apply, val_main_v31_apply, val_main_v25_apply, val_main_v24_apply, val_main_v23_apply, val_main_v19_apply, val_main_v18_apply, r_v30, r_v7]
  exact add_dx_eq (h (i 0).val) (g (i 0).val) (w 0) (i 1).val (d (i 0).val (i 1).val)
/-- The gradient of the first weights. -/
theorem r_v17 : val_main_v17 (F := Ideal) (rows g) (rows h) = wts fun _ j => ∑ i : Fin 4224, dw (h i.val) (g i.val) j := by
  funext i
  rw [val_main_v17_apply, val_main_v16_apply]
  show Ideal.ofBits .f32 0x00000000#32 + _ = _
  rw [no_bits, zero_add]
  refine Finset.sum_congr rfl fun e _ => ?_
  rw [val_main_v15_apply, val_main_v12_apply, val_main_v11_apply, r_v7]
  have h0 : (i 0).val < 1 := (i 0).isLt
  show h e.val ((i 0).val * 4096 + (i 1).val) * rs (h e.val) * g e.val ((i 0).val * 4096 + (i 1).val) = dw (h e.val) (g e.val) (i 1).val
  rw [show (i 0).val * 4096 + (i 1).val = (i 1).val by omega]
  exact mul_comm (h e.val (i 1).val * rs (h e.val)) (g e.val (i 1).val)

theorem r_v41 (i : S4224x1.Idx) : val_main_v41 (F := Ideal) (rows a) i = ms (a (i 0).val) := by
  rw [val_main_v41_apply, val_main_v39_apply, val_main_v37_apply, val_main_v36_apply, val_main_v38_apply, val_main_v40_apply]
  show Ideal.div (Ideal.ofBits .f32 0x00000000#32 + ∑ k : Fin 4096, a (i 0).val k.val * a (i 0).val k.val) c4096 + Cert.Ret.eps = _
  rw [no_bits, zero_add]
  rfl
theorem r_v42 (i : S4224x1.Idx) : val_main_v42 (F := Ideal) (rows a) i = rs (a (i 0).val) := by
  rw [val_main_v42_apply, r_v41]
  rfl
/-- The root's derivative. -/
theorem r_v45 (i : S4224x1.Idx) : val_main_v45 (F := Ideal) (rows a) i = Ideal.ofBits FTy.f32 0xBF000000#32 * Ideal.div (rs (a (i 0).val)) (ms (a (i 0).val)) := by
  rw [val_main_v45_apply, val_main_v44_apply, val_main_v43_apply, r_v42, r_v41]
  rfl

theorem r_v54 (i : S4224x4096.Idx) : val_main_v54 (F := Ideal) (rows d) (rows g) (rows h) (wts w) (wts u) i = rH d g h w (i 0).val (i 1).val * u 0 (i 1).val := by
  rw [val_main_v54_apply, val_main_v53_apply, r_v34]
  rfl
theorem r_v57 (i : S4224x1.Idx) : val_main_v57 (F := Ideal) (rows d) (rows g) (rows h) (rows a) (wts w) (wts u) i = ∑ e : Fin 4096, a (i 0).val e.val * (rH d g h w (i 0).val e.val * u 0 e.val) := by
  rw [val_main_v57_apply, val_main_v56_apply]
  show Ideal.ofBits .f32 0x00000000#32 + _ = _
  rw [no_bits, zero_add]
  refine Finset.sum_congr rfl fun e _ => ?_
  rw [val_main_v55_apply, r_v54]
  have h1 : (i 1).val < 1 := (i 1).isLt
  show a ((i 0).val * 1 + (i 1).val) e.val * (rH d g h w ((i 0).val * 1 + (i 1).val) e.val * u 0 e.val) = _
  rw [show (i 0).val * 1 + (i 1).val = (i 0).val by omega]
theorem r_v64 (i : S4224x4096.Idx) : val_main_v64 (F := Ideal) (rows d) (rows g) (rows h) (rows a) (wts w) (wts u) i
    = Ideal.div ((∑ e : Fin 4096, a (i 0).val e.val * (rH d g h w (i 0).val e.val * u 0 e.val)) * (Ideal.ofBits FTy.f32 0xBF000000#32 * Ideal.div (rs (a (i 0).val)) (ms (a (i 0).val)))) c4096 := by
  rw [val_main_v64_apply, val_main_v63_apply]
  show Ideal.ofBits .f32 0x00000000#32 + _ = _
  rw [no_bits, zero_add, Fin.sum_univ_one, val_main_v62_apply, val_main_v60_apply, r_v57, r_v45, val_main_v61_apply]
  rfl
/-- The gradient of the rows that the second normalises. -/
theorem r_v69 : val_main_v69 (F := Ideal) (rows d) (rows g) (rows h) (rows a) (wts w) (wts u) = (mat fun i j => dx (a i) (rH d g h w i) (u 0) j : Vec Ideal S4224x4096 .bf16) := by
  funext i
  rw [val_main_v69_apply, val_main_v68_apply, val_main_v66_apply, val_main_v67_apply, val_main_v65_apply, val_main_v59_apply, val_main_v58_apply, r_v54, r_v64, r_v42]
  exact dx_eq (a (i 0).val) (rH d g h w (i 0).val) (u 0) (i 1).val
/-- The gradient of the second weights. -/
theorem r_v52 : val_main_v52 (F := Ideal) (rows d) (rows g) (rows h) (rows a) (wts w) = wts fun _ j => ∑ i : Fin 4224, dw (a i.val) (rH d g h w i.val) j := by
  funext i
  rw [val_main_v52_apply, val_main_v51_apply]
  show Ideal.ofBits .f32 0x00000000#32 + _ = _
  rw [no_bits, zero_add]
  refine Finset.sum_congr rfl fun e _ => ?_
  rw [val_main_v50_apply, val_main_v47_apply, val_main_v46_apply, r_v42, r_v34]
  have h0 : (i 0).val < 1 := (i 0).isLt
  show a e.val ((i 0).val * 4096 + (i 1).val) * rs (a e.val) * rH d g h w e.val ((i 0).val * 4096 + (i 1).val) = dw (a e.val) (rH d g h w e.val) (i 1).val
  rw [show (i 0).val * 4096 + (i 1).val = (i 1).val by omega]
  exact mul_comm (a e.val (i 1).val * rs (a e.val)) (rH d g h w e.val (i 1).val)

end Cert.Mid

end
-- ==== Proof.MidSame.lean ====
/- The two normalisations' backward call and its reference: how they run, and that they end with the same results. -/
module

public import proofs.«01_k».proof.Defs
public import proofs.«01_k».proof.Proof.Gen.MidKernel
public import proofs.«01_k».proof.Proof.MidAcc
public import proofs.«01_k».proof.Proof.MidRef
public import proofs.«01_k».proof.Proof.Gen.MidReferenceIdeal.Run
public import Idealize.ShloMosaic.Lib.Quiescent

@[expose] public section

noncomputable section

namespace Cert.Mid

open Idealize.ShloMosaic Idealize.SL.Sem Idealize.ShloMosaic.Tactic
open Cert.Ffn (mat mat_get2)
open Cert.Ret (get2)
open Cert.Norm

/-- The idealized program's frame, its text run over the bit-level floats. -/
def bitsFrame : Prop :=
  ∀ (m : (ℓ : Loc Cert.MidKernelIdeal.nD Cert.MidKernelIdeal.τ Cert.MidKernelIdeal.sig) → Buf (Elt Bits) ℓ) (g : Dev Cert.MidKernelIdeal.nD → PrngReg), True →
    θ_run (Cert.MidKernelIdeal.defs (F := Bits)) (onTc (τ := Cert.MidKernelIdeal.τ) (Cert.MidKernelIdeal.main (F := Bits))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5))
      ∧ r.2.sem = fun _ => 0)

/-- The two programs have the same text. -/
theorem same_text : bitsFrame = Cert.quiescent_MidKernel := by sl_kernel_rfl

theorem frame_kernel : Cert.quiescent_MidKernel :=
  same_text.mp fun m ρ _ => Cert.MidKernelIdeal.Gen.frame (F := Bits) m ρ
theorem frame_kernelIdeal : Cert.quiescent_MidKernelIdeal := fun m ρ _ => Cert.MidKernelIdeal.Gen.frame m ρ

/-- The reference keeps its arguments; it declares no semaphore. -/
theorem frame_reference : Cert.quiescent_MidReferenceIdeal := fun m ρ _ =>
  (θ_run Cert.MidReferenceIdeal.defs _ _).mono (fun r e => ⟨fun c => (e c).2.2.2.2, sem_eq_zero_of_no_sems (by decide) r.2⟩) (Cert.MidReferenceIdeal.Value.run m ρ)

variable (m : (ℓ : Loc Cert.MidKernelIdeal.nD Cert.MidKernelIdeal.τ Cert.MidKernelIdeal.sig) → Buf (Elt Ideal) ℓ) (c : Dev Cert.MidKernelIdeal.nD)

theorem arg_0 : (m ((c.tc : Thread Cert.MidKernelIdeal.nD Cert.MidKernelIdeal.τ).loc Cert.MidKernelIdeal.main_arg0)) = rows (aD m c) := mat_get2 _
theorem arg_1 : (m ((c.tc : Thread Cert.MidKernelIdeal.nD Cert.MidKernelIdeal.τ).loc Cert.MidKernelIdeal.main_arg1)) = rows (aG m c) := mat_get2 _
theorem arg_2 : (m ((c.tc : Thread Cert.MidKernelIdeal.nD Cert.MidKernelIdeal.τ).loc Cert.MidKernelIdeal.main_arg2)) = rows (aH m c) := mat_get2 _
theorem arg_3 : (m ((c.tc : Thread Cert.MidKernelIdeal.nD Cert.MidKernelIdeal.τ).loc Cert.MidKernelIdeal.main_arg3)) = rows (aA m c) := mat_get2 _
theorem arg_4 : (m ((c.tc : Thread Cert.MidKernelIdeal.nD Cert.MidKernelIdeal.τ).loc Cert.MidKernelIdeal.main_arg4)) = wts (aW m c) := mat_get2 _
theorem arg_5 : (m ((c.tc : Thread Cert.MidKernelIdeal.nD Cert.MidKernelIdeal.τ).loc Cert.MidKernelIdeal.main_arg5)) = wts (aU m c) := mat_get2 _
theorem same_v34 : Cert.MidReferenceIdeal.Read.val_main_v34 (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg4))
    = (Cert.MidKernelIdeal.Gen.dats m 0 c).arrAt 6 Cert.MidKernelIdeal.cfg0.N := by
  rw [arg_0 m c, arg_1 m c, arg_2 m c, arg_4 m c, r_v34]
  exact (arr_6 m c).symm
theorem same_v69 : Cert.MidReferenceIdeal.Read.val_main_v69 (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4)) (m ((c.tc : Thread Cert.MidKernelIdeal.nD Cert.MidKernelIdeal.τ).loc Cert.MidKernelIdeal.main_arg5))
    = (Cert.MidKernelIdeal.Gen.dats m 0 c).arrAt 7 Cert.MidKernelIdeal.cfg0.N := by
  rw [arg_0 m c, arg_1 m c, arg_2 m c, arg_3 m c, arg_4 m c, arg_5 m c, r_v69]
  exact (arr_7 m c).symm
theorem same_v17 : Cert.MidReferenceIdeal.Read.val_main_v17 (F := Ideal) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2))
    = (Cert.MidKernelIdeal.Gen.dats m 0 c).arrAt 8 Cert.MidKernelIdeal.cfg0.N := by
  rw [arg_1 m c, arg_2 m c, r_v17]
  exact (arr_8 m c).symm
theorem same_v52 : Cert.MidReferenceIdeal.Read.val_main_v52 (F := Ideal) (m ((c.tc : Thread Cert.MidKernelIdeal.nD Cert.MidKernelIdeal.τ).loc Cert.MidKernelIdeal.main_arg0)) (m ((c.tc : Thread Cert.MidKernelIdeal.nD Cert.MidKernelIdeal.τ).loc Cert.MidKernelIdeal.main_arg1)) (m ((c.tc : Thread Cert.MidKernelIdeal.nD Cert.MidKernelIdeal.τ).loc Cert.MidKernelIdeal.main_arg2)) (m ((c.tc : Thread Cert.MidKernelIdeal.nD Cert.MidKernelIdeal.τ).loc Cert.MidKernelIdeal.main_arg3)) (m ((c.tc : Thread Cert.MidKernelIdeal.nD Cert.MidKernelIdeal.τ).loc Cert.MidKernelIdeal.main_arg4))
    = (Cert.MidKernelIdeal.Gen.dats m 0 c).arrAt 9 Cert.MidKernelIdeal.cfg0.N := by
  rw [arg_0 m c, arg_1 m c, arg_2 m c, arg_3 m c, arg_4 m c, r_v52]
  exact (arr_9 m c).symm

/-- Run on the same arguments, the two programs end with the same results. -/
theorem same_results : Cert.algebraic_MidKernelIdeal_MidReferenceIdeal := fun m g m' g' _ h =>
  ⟨fun c => (Cert.MidKernelIdeal.Gen.dats m 0 c).arrAt 6 Cert.MidKernelIdeal.cfg0.N, fun c => (Cert.MidKernelIdeal.Gen.dats m 0 c).arrAt 7 Cert.MidKernelIdeal.cfg0.N, fun c => (Cert.MidKernelIdeal.Gen.dats m 0 c).arrAt 8 Cert.MidKernelIdeal.cfg0.N, fun c => (Cert.MidKernelIdeal.Gen.dats m 0 c).arrAt 9 Cert.MidKernelIdeal.cfg0.N,
    Cert.MidKernelIdeal.Value.run_blocks m g,
    (θ_run Cert.MidReferenceIdeal.defs _ _).mono (fun _ e c => by
      obtain ⟨e0, e1, e2, e3, e4⟩ := e c
      obtain ⟨h0, h1, h2, h3, h4, h5⟩ := h c
      have e1 := e1.trans (Cert.MidReferenceIdeal.Read.val_main_v69_eq m' c)
      have e3 := e3.trans (Cert.MidReferenceIdeal.Read.val_main_v52_eq m' c)
      rw [h0, h1, h2, h4] at e0
      rw [h0, h1, h2, h3, h4, h5] at e1
      rw [h1, h2] at e2
      rw [h0, h1, h2, h3, h4] at e3
      exact ⟨e0.trans (same_v34 m c), e1.trans (same_v69 m c), e2.trans (same_v17 m c), e3.trans (same_v52 m c), e4⟩)
      (Cert.MidReferenceIdeal.Value.run m' g')⟩

end Cert.Mid

end
-- ==== Proof.NmSpec.lean ====
/- A normalised row of 4096, weighted. -/
module

public import proofs.«01_k».proof.Proof.Norm
public import Idealize.ShloMosaic.Lib.Pointwise
public import Idealize.ShloMosaic.Lib.StableHlo.ReadAt
public import Idealize.ShloMosaic.Lib.Tactic
public import Idealize.ShloMosaic.Lib.Quiescent

@[expose] public section

set_option maxRecDepth 16384

noncomputable section

namespace Cert.Nm

open Idealize.ShloMosaic
open Cert.Norm

/-- The normalised row `X`, weighted by `W`. -/
def nm (X W : ℕ → EReal) (b : ℕ) : EReal := X b * rs X * W b

theorem nm_zero (W : ℕ → EReal) (b : ℕ) : nm (fun _ => 0) W b = 0 := by
  unfold nm
  rw [zero_mul, zero_mul]

theorem split2 {n k : ℕ} (i : (⟨2, ![n, k]⟩ : Shape).Idx) : ∃ (r : Fin n) (j : Fin k), i = ix2 r j := ⟨i 0, i 1, by funext a; match a with | ⟨0, _⟩ => rfl | ⟨1, _⟩ => rfl⟩
theorem origin : (![0, 0] : Fin 2 → Nat) = fun _ => 0 := funext fun a => by fin_cases a <;> rfl
theorem no_bits : Ideal.ofBits FTy.f32 0x00000000#32 = 0 := by simp [Ideal.ofBits, Ideal.ieee]

/-- The padded sequence: 112 rows of zeros, the 16 given rows `t`, then the rows `x`. -/
def seq (x t : ℕ → ℕ → EReal) (i j : ℕ) : EReal := if i < 112 then 0 else if i < 128 then t (i - 112) j else x (i - 128) j
/-- The same without the rows of zeros. -/
def cat (x t : ℕ → ℕ → EReal) (s j : ℕ) : EReal := if s < 16 then t s j else x (s - 16) j

theorem seq_low (x t : ℕ → ℕ → EReal) {i : ℕ} (h : i < 112) : seq x t i = fun _ => 0 := funext fun _ => if_pos h
theorem seq_high (x t : ℕ → ℕ → EReal) {i : ℕ} (h : 112 ≤ i) : seq x t i = cat x t (i - 112) := by
  funext j
  unfold seq cat
  rw [if_neg (by omega)]
  by_cases h' : i < 128
  · rw [if_pos h', if_pos (by omega)]
  · rw [if_neg h', if_neg (by omega), show i - 112 - 16 = i - 128 by omega]

end Cert.Nm

end
-- ==== Proof.Prenorm.lean ====
/- The first normalisation's call, and its reference: how they run, and that they end with the same results. -/
module

public import proofs.«01_k».proof.Defs
public import proofs.«01_k».proof.Proof.NmSpec
public import proofs.«01_k».proof.Proof.Gen.PnKernel
public import proofs.«01_k».proof.Proof.Gen.PnKernelIdeal.Value
public import proofs.«01_k».proof.Proof.Gen.PnReferenceIdeal.Run
public import proofs.«01_k».proof.Proof.Gen.PnReferenceIdeal.Read
public import Idealize.ShloMosaic.Lib.Pointwise
public import Idealize.ShloMosaic.Lib.StableHlo.ReadAt
public import Idealize.ShloMosaic.Lib.Tactic
public import Idealize.ShloMosaic.Lib.Quiescent

@[expose] public section

set_option maxRecDepth 16384

noncomputable section

namespace Cert.Pn

open Idealize.ShloMosaic Idealize.ShloMosaic.TcCoe Idealize.SL.Sem Idealize.ShloMosaic.Tactic Idealize.ShloMosaic.Pipeline
open Cert.Ret (get2)
open Cert.Ffn (mat mat_get2)
open Cert.Norm Cert.Nm

section Call

open Cert.PnKernelIdeal Cert.PnKernelIdeal.Gen

/-! ## What a point leaves -/

section Pieces

variable {F : FTy → Type} [FloatOps F]

theorem outA_3 (c : Dev nD) (i : grid0.Coords) (a1 : Memref sig .tc .vmem S128x4096 .f32) (h1 : a1.IsWhole) (a2 : Memref sig .tc .vmem S16x4096 .f32) (h2 : a2.IsWhole) (a3 : Memref sig .tc .vmem S1x4096 .f32) (h3 : a3.IsWhole) (a4 : Memref sig .tc .vmem S128x4096 .f32) (h4 : a4.IsWhole) (a5 : Memref sig .tc .vmem S128x4096 .bf16) (h5 : a5.IsWhole) (hc0 : cond0_0 i) (hc1 : ¬cond0_1 i)
    (x0 : Vec F S128x4096 .f32) (x1 : Vec F S16x4096 .f32) (x2 : Vec F S1x4096 .f32) : out0_A_3 c i a1 h1 a2 h2 a3 h3 a4 h4 a5 h5 hc0 hc1 x0 x1 x2 = k0_pay1 x1 := by
  unfold out0_A_3
  rw [View.read_writes_eq_canon _ _ _ (cover0_A_3 c i a1 h1 a2 h2 a3 h3 a4 h4 a5 h5 hc0 hc1 x0 x1 x2)]
  unfold kernelRun0_A
  dsimp only
  try sl_unfold_words
  rw [View.canon_unit_zero origin]
  simp only [View.readAt_eq_ld, h1.read_unread, h2.read_unread, h3.read_unread, View.ld_unit_zero (S := S128x4096) origin, View.ld_unit_zero (S := S16x4096) origin, View.ld_unit_zero (S := S1x4096) origin, shapeCast_self]
theorem outA_4 (c : Dev nD) (i : grid0.Coords) (a1 : Memref sig .tc .vmem S128x4096 .f32) (h1 : a1.IsWhole) (a2 : Memref sig .tc .vmem S16x4096 .f32) (h2 : a2.IsWhole) (a3 : Memref sig .tc .vmem S1x4096 .f32) (h3 : a3.IsWhole) (a4 : Memref sig .tc .vmem S128x4096 .f32) (h4 : a4.IsWhole) (a5 : Memref sig .tc .vmem S128x4096 .bf16) (h5 : a5.IsWhole) (hc0 : cond0_0 i) (hc1 : ¬cond0_1 i)
    (x0 : Vec F S128x4096 .f32) (x1 : Vec F S16x4096 .f32) (x2 : Vec F S1x4096 .f32) : out0_A_4 c i a1 h1 a2 h2 a3 h3 a4 h4 a5 h5 hc0 hc1 x0 x1 x2 = k0_pay2 x1 x2 := by
  unfold out0_A_4
  rw [View.read_writes_eq_canon _ _ _ (cover0_A_4 c i a1 h1 a2 h2 a3 h3 a4 h4 a5 h5 hc0 hc1 x0 x1 x2)]
  unfold kernelRun0_A
  dsimp only
  try sl_unfold_words
  rw [View.canon_unit_zero origin]
  simp only [View.readAt_eq_ld, h1.read_unread, h2.read_unread, h3.read_unread, View.ld_unit_zero (S := S128x4096) origin, View.ld_unit_zero (S := S16x4096) origin, View.ld_unit_zero (S := S1x4096) origin, shapeCast_self]
theorem outB_3 (c : Dev nD) (i : grid0.Coords) (a1 : Memref sig .tc .vmem S128x4096 .f32) (h1 : a1.IsWhole) (a2 : Memref sig .tc .vmem S16x4096 .f32) (h2 : a2.IsWhole) (a3 : Memref sig .tc .vmem S1x4096 .f32) (h3 : a3.IsWhole) (a4 : Memref sig .tc .vmem S128x4096 .f32) (h4 : a4.IsWhole) (a5 : Memref sig .tc .vmem S128x4096 .bf16) (h5 : a5.IsWhole) (hc0 : ¬cond0_0 i) (hc1 : cond0_1 i)
    (x0 : Vec F S128x4096 .f32) (x1 : Vec F S16x4096 .f32) (x2 : Vec F S1x4096 .f32) : out0_B_3 c i a1 h1 a2 h2 a3 h3 a4 h4 a5 h5 hc0 hc1 x0 x1 x2 = x0 := by
  unfold out0_B_3
  rw [View.read_writes_eq_canon _ _ _ (cover0_B_3 c i a1 h1 a2 h2 a3 h3 a4 h4 a5 h5 hc0 hc1 x0 x1 x2)]
  unfold kernelRun0_B
  dsimp only
  try sl_unfold_words
  rw [View.canon_unit_zero origin]
  simp only [View.readAt_eq_ld, h1.read_unread, h2.read_unread, h3.read_unread, View.ld_unit_zero (S := S128x4096) origin, View.ld_unit_zero (S := S16x4096) origin, View.ld_unit_zero (S := S1x4096) origin, shapeCast_self]
theorem outB_4 (c : Dev nD) (i : grid0.Coords) (a1 : Memref sig .tc .vmem S128x4096 .f32) (h1 : a1.IsWhole) (a2 : Memref sig .tc .vmem S16x4096 .f32) (h2 : a2.IsWhole) (a3 : Memref sig .tc .vmem S1x4096 .f32) (h3 : a3.IsWhole) (a4 : Memref sig .tc .vmem S128x4096 .f32) (h4 : a4.IsWhole) (a5 : Memref sig .tc .vmem S128x4096 .bf16) (h5 : a5.IsWhole) (hc0 : ¬cond0_0 i) (hc1 : cond0_1 i)
    (x0 : Vec F S128x4096 .f32) (x1 : Vec F S16x4096 .f32) (x2 : Vec F S1x4096 .f32) : out0_B_4 c i a1 h1 a2 h2 a3 h3 a4 h4 a5 h5 hc0 hc1 x0 x1 x2 = k0_pay3 x0 x2 := by
  unfold out0_B_4
  rw [View.read_writes_eq_canon _ _ _ (cover0_B_4 c i a1 h1 a2 h2 a3 h3 a4 h4 a5 h5 hc0 hc1 x0 x1 x2)]
  unfold kernelRun0_B
  dsimp only
  try sl_unfold_words
  rw [View.canon_unit_zero origin]
  simp only [View.readAt_eq_ld, h1.read_unread, h2.read_unread, h3.read_unread, View.ld_unit_zero (S := S128x4096) origin, View.ld_unit_zero (S := S16x4096) origin, View.ld_unit_zero (S := S1x4096) origin, shapeCast_self]

end Pieces

theorem two (y : Vec Ideal S112x4096 .f32) (x : Vec Ideal S16x4096 .f32) (s : Fin 128) (b : Fin 4096) :
    concatenate S128x4096 0 [⟨S112x4096, y⟩, ⟨S16x4096, x⟩] concatenates_S112x4096_S16x4096_S128x4096_d0 (ix2 s b)
      = if h : s.val < 112 then y (ix2 ⟨s.val, h⟩ b) else x (ix2 ⟨s.val - 112, by omega⟩ b) := by
  pointwise
theorem pay1 (t : ℕ → ℕ → EReal) : k0_pay1 (F := Ideal) (mat t) = (mat fun i j => if i < 112 then 0 else t (i - 112) j : Vec Ideal S128x4096 .f32) := by
  funext i
  obtain ⟨r, j, rfl⟩ := split2 i
  unfold k0_pay1
  rw [two]
  show _ = if r.val < 112 then (0 : EReal) else t (r.val - 112) j.val
  split_ifs with h
  · exact no_bits
  · rfl
theorem pay2 (t w : ℕ → ℕ → EReal) : k0_pay2 (F := Ideal) (mat t) (mat w) = (mat fun i j => nm (fun b => if i < 112 then 0 else t (i - 112) b) (w 0) j : Vec Ideal S128x4096 .bf16) := by
  funext i
  obtain ⟨r, j, rfl⟩ := split2 i
  unfold k0_pay2
  rw [pay1]
  pointwise
  rfl
theorem pay3 (x w : ℕ → ℕ → EReal) : k0_pay3 (F := Ideal) (mat x) (mat w) = (mat fun i j => nm (x i) (w 0) j : Vec Ideal S128x4096 .bf16) := by
  funext i
  obtain ⟨r, j, rfl⟩ := split2 i
  unfold k0_pay3
  pointwise
  rfl

/-! ## The blocks -/

variable (m : (ℓ : Loc nD τ sig) → Buf (Elt Ideal) ℓ) (c : Dev nD)

/-- The sequence. -/
def aX : ℕ → ℕ → EReal := get2 (m (c, Proc.devRef .tc main_arg0) : Vec Ideal S4096x4096 .f32)
theorem entry_0 : (V m c main_arg0 : Vec Ideal S4096x4096 .f32) = mat (aX m c) :=
  (V_main_arg0 m c).trans (mat_get2 _)
theorem idx_0 : ∀ t : Fin cfg0.N, win0_0.index t (0 : Fin 2) = t.val - 1 ∧ win0_0.index t (1 : Fin 2) = 0 :=
  (by decide +kernel : ∀ t : Fin grid0.N, win0_0.index t (0 : Fin 2) = t.val - 1 ∧ win0_0.index t (1 : Fin 2) = 0)
theorem blk_0 (t : Fin cfg0.N) : (iblk m c 0 t : Vec Ideal S128x4096 .f32) = mat fun a b => aX m c ((t.val - 1) * 128 + a) b := by
  have e := idx_0 t
  funext y
  refine (congrFun (entry_0 m c) _).trans ?_
  show aX m c (win0_0.index t (0 : Fin 2) * 128 + 1 * (y 0).val) (win0_0.index t (1 : Fin 2) * 4096 + 1 * (y 1).val) = aX m c _ _
  rw [e.1, e.2]
  congr 1 <;> omega
/-- The rows before it. -/
def aT : ℕ → ℕ → EReal := get2 (m (c, Proc.devRef .tc main_arg1) : Vec Ideal S16x4096 .f32)
theorem entry_1 : (V m c main_arg1 : Vec Ideal S16x4096 .f32) = mat (aT m c) :=
  (V_main_arg1 m c).trans (mat_get2 _)
theorem idx_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem blk_1 (t : Fin cfg0.N) : (iblk m c 1 t : Vec Ideal S16x4096 .f32) = mat fun a b => aT m c (a) b := by
  have e := idx_1 t
  funext y
  refine (congrFun (entry_1 m c) _).trans ?_
  show aT m c (win0_1.index t (0 : Fin 2) * 16 + 1 * (y 0).val) (win0_1.index t (1 : Fin 2) * 4096 + 1 * (y 1).val) = aT m c _ _
  rw [e.1, e.2]
  congr 1 <;> omega
/-- The weights. -/
def aW : ℕ → ℕ → EReal := get2 (m (c, Proc.devRef .tc main_arg2) : Vec Ideal S1x4096 .f32)
theorem entry_2 : (V m c main_arg2 : Vec Ideal S1x4096 .f32) = mat (aW m c) :=
  (V_main_arg2 m c).trans (mat_get2 _)
theorem idx_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem blk_2 (t : Fin cfg0.N) : (iblk m c 2 t : Vec Ideal S1x4096 .f32) = mat fun a b => aW m c (a) b := by
  have e := idx_2 t
  funext y
  refine (congrFun (entry_2 m c) _).trans ?_
  show aW m c (win0_2.index t (0 : Fin 2) * 1 + 1 * (y 0).val) (win0_2.index t (1 : Fin 2) * 4096 + 1 * (y 1).val) = aW m c _ _
  rw [e.1, e.2]
  congr 1 <;> omega

/-! ## The arrays -/

/-- The padded sequence. -/
def dH (i j : ℕ) : EReal := seq (aX m c) (aT m c) i j
/-- The same normalised. -/
def dN (i j : ℕ) : EReal := nm (seq (aX m c) (aT m c) i) (aW m c 0) j

theorem first (x t : ℕ → ℕ → EReal) {q a : ℕ} (hq : q = 0) (ha : a < 128) : (fun b => if a < 112 then (0 : EReal) else t (a - 112) b) = seq x t (q * 128 + a) := by
  subst hq
  funext b
  unfold seq
  rw [Nat.zero_mul, Nat.zero_add]
  by_cases h : a < 112
  · rw [if_pos h, if_pos h]
  · rw [if_neg h, if_neg h, if_pos ha]
theorem later (x t : ℕ → ℕ → EReal) {q : ℕ} (hq : 1 ≤ q) (a : ℕ) : x ((q - 1) * 128 + a) = seq x t (q * 128 + a) := by
  funext b
  unfold seq
  rw [if_neg (by omega), if_neg (by omega), show q * 128 + a - 128 = (q - 1) * 128 + a by omega]

theorem atA_3 (t : Fin cfg0.N) (h0 : t.val % 33 = 0) (h1 : ¬1 ≤ t.val) : (outsAt0 m c t.val t.isLt).1 = k0_pay1 (iblk m c 1 t) := by
  rw [outsAt0_A m c t h0 h1]
  dsimp only
  rw [outA_3]
theorem atA_4 (t : Fin cfg0.N) (h0 : t.val % 33 = 0) (h1 : ¬1 ≤ t.val) : (outsAt0 m c t.val t.isLt).2 = k0_pay2 (iblk m c 1 t) (iblk m c 2 t) := by
  rw [outsAt0_A m c t h0 h1]
  dsimp only
  rw [outA_4]
theorem atB_3 (t : Fin cfg0.N) (h0 : ¬t.val % 33 = 0) (h1 : 1 ≤ t.val) : (outsAt0 m c t.val t.isLt).1 = iblk m c 0 t := by
  rw [outsAt0_B m c t h0 h1]
  dsimp only
  rw [outB_3]
theorem atB_4 (t : Fin cfg0.N) (h0 : ¬t.val % 33 = 0) (h1 : 1 ≤ t.val) : (outsAt0 m c t.val t.isLt).2 = k0_pay3 (iblk m c 0 t) (iblk m c 2 t) := by
  rw [outsAt0_B m c t h0 h1]
  dsimp only
  rw [outB_4]
theorem outs_3 (t : Fin cfg0.N) : (outsAt0 m c t.val t.isLt).1 = (mat fun a b => dH m c (t.val * 128 + a) b : Vec Ideal S128x4096 .f32) := by
  have hN : t.val < 33 := lt_of_lt_of_eq t.isLt N_0
  by_cases h : t.val = 0
  · refine (atA_3 m c t (by omega) (by omega)).trans ?_
    rw [blk_1 m c t, pay1]
    funext y
    have hy : (y 0).val < 128 := (y 0).isLt
    exact congrFun (first (aX m c) (aT m c) h hy) (y 1).val
  · refine (atB_3 m c t (by omega) (by omega)).trans ?_
    rw [blk_0 m c t]
    funext y
    exact congrFun (later (aX m c) (aT m c) (by omega) (y 0).val) (y 1).val
theorem outs_4 (t : Fin cfg0.N) : (outsAt0 m c t.val t.isLt).2 = (mat fun a b => dN m c (t.val * 128 + a) b : Vec Ideal S128x4096 .bf16) := by
  have hN : t.val < 33 := lt_of_lt_of_eq t.isLt N_0
  by_cases h : t.val = 0
  · refine (atA_4 m c t (by omega) (by omega)).trans ?_
    rw [blk_1 m c t, blk_2 m c t, pay2]
    funext y
    have hy : (y 0).val < 128 := (y 0).isLt
    exact congrArg (fun X => nm X (aW m c 0) (y 1).val) (first (aX m c) (aT m c) h hy)
  · refine (atB_4 m c t (by omega) (by omega)).trans ?_
    rw [blk_0 m c t, blk_2 m c t, pay3]
    funext y
    exact congrArg (fun X => nm X (aW m c 0) (y 1).val) (later (aX m c) (aT m c) (by omega) (y 0).val)
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem mem_3 (t : Fin cfg0.N) (i : S4224x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v0_0).slice (win0_3.rect t)).set ↔ _
  rw [View.set_slice_whole, Rect.mem_set_unit]
  exact Iff.rfl
theorem covers_3 (i : S4224x4096.Idx) : ∃ t : Fin cfg0.N, (cfg0.win 3).flush t = true ∧ i ∈ ((cfg0.win 3).blk t).view.set := by
  have hN : cfg0.N = 33 := N_0
  have h0 : (i 0).val < 4224 := (i 0).isLt; have h1 : (i 1).val < 4096 := (i 1).isLt
  have hlt : (i 0).val / 128 < cfg0.N := by omega
  refine ⟨⟨(i 0).val / 128, hlt⟩, flush0_3 _, ?_⟩
  rw [mem_3]
  have h := idx_3 ⟨(i 0).val / 128, hlt⟩
  dsimp only at h
  intro a
  match a with
  | ⟨0, _⟩ => show win0_3.index _ (0 : Fin 2) * 128 ≤ (i 0).val ∧ (i 0).val < win0_3.index _ (0 : Fin 2) * 128 + 128; rw [h.1]; omega
  | ⟨1, _⟩ => show win0_3.index _ (1 : Fin 2) * 4096 ≤ (i 1).val ∧ (i 1).val < win0_3.index _ (1 : Fin 2) * 4096 + 4096; rw [h.2]; omega
theorem arr_3 : (dats m 0 c).arrAt 3 cfg0.N = (mat (dH m c) : Vec Ideal S4224x4096 .f32) :=
  (dats m 0 c).arrAt_eq_of_cover 3 _ (fun t _ => by
    rw [Cert.PnKernelIdeal.Value.flushed3, outs_3 m c t]
    have h := idx_3 t
    funext y
    show dH m c (t.val * 128 + (y 0).val) (y 1).val = dH m c (win0_3.index t (0 : Fin 2) * 128 + 1 * (y 0).val) (win0_3.index t (1 : Fin 2) * 4096 + 1 * (y 1).val)
    rw [h.1, h.2, one_mul, one_mul, Nat.zero_mul, Nat.zero_add])
    covers_3
theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem mem_4 (t : Fin cfg0.N) (i : S4224x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v0_1).slice (win0_4.rect t)).set ↔ _
  rw [View.set_slice_whole, Rect.mem_set_unit]
  exact Iff.rfl
theorem covers_4 (i : S4224x4096.Idx) : ∃ t : Fin cfg0.N, (cfg0.win 4).flush t = true ∧ i ∈ ((cfg0.win 4).blk t).view.set := by
  have hN : cfg0.N = 33 := N_0
  have h0 : (i 0).val < 4224 := (i 0).isLt; have h1 : (i 1).val < 4096 := (i 1).isLt
  have hlt : (i 0).val / 128 < cfg0.N := by omega
  refine ⟨⟨(i 0).val / 128, hlt⟩, flush0_4 _, ?_⟩
  rw [mem_4]
  have h := idx_4 ⟨(i 0).val / 128, hlt⟩
  dsimp only at h
  intro a
  match a with
  | ⟨0, _⟩ => show win0_4.index _ (0 : Fin 2) * 128 ≤ (i 0).val ∧ (i 0).val < win0_4.index _ (0 : Fin 2) * 128 + 128; rw [h.1]; omega
  | ⟨1, _⟩ => show win0_4.index _ (1 : Fin 2) * 4096 ≤ (i 1).val ∧ (i 1).val < win0_4.index _ (1 : Fin 2) * 4096 + 4096; rw [h.2]; omega
theorem arr_4 : (dats m 0 c).arrAt 4 cfg0.N = (mat (dN m c) : Vec Ideal S4224x4096 .bf16) :=
  (dats m 0 c).arrAt_eq_of_cover 4 _ (fun t _ => by
    rw [Cert.PnKernelIdeal.Value.flushed4, outs_4 m c t]
    have h := idx_4 t
    funext y
    show dN m c (t.val * 128 + (y 0).val) (y 1).val = dN m c (win0_4.index t (0 : Fin 2) * 128 + 1 * (y 0).val) (win0_4.index t (1 : Fin 2) * 4096 + 1 * (y 1).val)
    rw [h.1, h.2, one_mul, one_mul, Nat.zero_mul, Nat.zero_add])
    covers_4

end Call

/-! ## The reference -/

section Reference

open Cert.PnReferenceIdeal Cert.PnReferenceIdeal.Gen Cert.PnReferenceIdeal.Read

/-- The sequence as an array. -/
abbrev rows (f : ℕ → ℕ → EReal) : (⟨S4096x4096, .f32⟩ : BufTy).Contents (Elt Ideal) := (mat f : Vec Ideal S4096x4096 .f32)
/-- The rows before it as an array. -/
abbrev few (f : ℕ → ℕ → EReal) : (⟨S16x4096, .f32⟩ : BufTy).Contents (Elt Ideal) := (mat f : Vec Ideal S16x4096 .f32)
/-- The weights as an array. -/
abbrev wts (f : ℕ → ℕ → EReal) : (⟨S1x4096, .f32⟩ : BufTy).Contents (Elt Ideal) := (mat f : Vec Ideal S1x4096 .f32)

theorem cat2 (y : Vec Ideal S16x4096 .f32) (x : Vec Ideal S4096x4096 .f32) (s : Fin 4112) (b : Fin 4096) :
    concatenate S4112x4096 0 [⟨S16x4096, y⟩, ⟨S4096x4096, x⟩] concatenates_S16x4096_S4096x4096_S4112x4096_d0 (ix2 s b)
      = if h : s.val < 16 then y (ix2 ⟨s.val, h⟩ b) else x (ix2 ⟨s.val - 16, by omega⟩ b) := by
  pointwise
theorem pad_112 (y : Vec Ideal S4112x4096 .f32) (z : Vec Ideal S_ .f32) (s : Fin 4224) (b : Fin 4096) :
    pad S4224x4096 ![112, 0] ![0, 0] ![0, 0] y z pads_S4112x4096_S4224x4096_11200_000 h_S_ (ix2 s b)
      = if h : 112 ≤ s.val ∧ s.val - 112 < 4112 then y (ix2 ⟨s.val - 112, h.2⟩ b) else z (Shape.Idx.first h_S_) := by
  pointwise

variable (x t w : ℕ → ℕ → EReal)

theorem r_v0 : val_main_v0 (F := Ideal) (rows x) (few t) = (mat (cat x t) : Vec Ideal S4112x4096 .f32) := by
  funext i
  obtain ⟨s, j, rfl⟩ := split2 i
  unfold val_main_v0
  rw [cat2]
  show _ = cat x t s.val j.val
  unfold cat
  split_ifs with h
  · rfl
  · rfl
theorem r_v8 (i : S4112x1.Idx) : val_main_v8 (F := Ideal) (rows x) (few t) i = rs (cat x t (i 0).val) := by
  rw [val_main_v8_apply, val_main_v7_apply, val_main_v5_apply, val_main_v3_apply, val_main_v2_apply, val_main_v4_apply, val_main_v6_apply]
  simp only [val_main_v1_apply, r_v0]
  show Ideal.rsqrt (Ideal.div (Ideal.ofBits .f32 0x00000000#32 + ∑ k : Fin 4096, cat x t (i 0).val k.val * cat x t (i 0).val k.val) c4096 + Cert.Ret.eps) = _
  rw [no_bits, zero_add]
  rfl
theorem r_v12 : val_main_v12 (F := Ideal) (rows x) (few t) (wts w) = (mat fun i j => nm (cat x t i) (w 0) j : Vec Ideal S4112x4096 .f32) := by
  funext i
  rw [val_main_v12_apply, val_main_v11_apply, val_main_v10_apply, val_main_v9_apply, r_v8, r_v0]
  rfl
theorem zero_int : FloatOps.sitofp (F := Ideal) FTy.f32 0#32 = (0 : EReal) := by
  show (((0#32 : BitVec 32).toInt : ℝ) : EReal) = 0
  simp
theorem r_v13 : val_main_v13 (F := Ideal) (rows x) (few t) = (mat (seq x t) : Vec Ideal S4224x4096 .f32) := by
  funext i
  obtain ⟨s, j, rfl⟩ := split2 i
  unfold val_main_v13
  rw [pad_112, r_v0]
  show _ = seq x t s.val j.val
  have hs := s.isLt
  split_ifs with h
  · rw [seq_high x t h.1]
    rfl
  · rw [seq_low x t (by omega), val_main_call0_v0_apply]
    exact zero_int
theorem r_v15 : val_main_v15 (F := Ideal) (rows x) (few t) (wts w) = (mat fun i j => nm (seq x t i) (w 0) j : Vec Ideal S4224x4096 .bf16) := by
  funext i
  obtain ⟨s, j, rfl⟩ := split2 i
  rw [val_main_v15_apply]
  unfold val_main_v14
  rw [pad_112, r_v12]
  show _ = nm (seq x t s.val) (w 0) j.val
  have hs := s.isLt
  split_ifs with h
  · rw [seq_high x t h.1]
    rfl
  · rw [seq_low x t (by omega), nm_zero, val_main_call1_v0_apply]
    exact zero_int

end Reference

/-! ## The two runs -/

/-- The idealized program's frame, its text run over the bit-level floats. -/
def bitsFrame : Prop :=
  ∀ (m : (ℓ : Loc Cert.PnKernelIdeal.nD Cert.PnKernelIdeal.τ Cert.PnKernelIdeal.sig) → Buf (Elt Bits) ℓ) (g : Dev Cert.PnKernelIdeal.nD → PrngReg), True →
    θ_run (Cert.PnKernelIdeal.defs (F := Bits)) (onTc (τ := Cert.PnKernelIdeal.τ) (Cert.PnKernelIdeal.main (F := Bits))) ⟨m, fun _ => 0, g⟩ (fun r => (∀ c : Dev Cert.PnKernelIdeal.nD,
      r.2.mem ((c.tc : Thread Cert.PnKernelIdeal.nD Cert.PnKernelIdeal.τ).loc Cert.PnKernelIdeal.main_arg0) = m ((c.tc : Thread Cert.PnKernelIdeal.nD Cert.PnKernelIdeal.τ).loc Cert.PnKernelIdeal.main_arg0)
      ∧ r.2.mem ((c.tc : Thread Cert.PnKernelIdeal.nD Cert.PnKernelIdeal.τ).loc Cert.PnKernelIdeal.main_arg1) = m ((c.tc : Thread Cert.PnKernelIdeal.nD Cert.PnKernelIdeal.τ).loc Cert.PnKernelIdeal.main_arg1)
      ∧ r.2.mem ((c.tc : Thread Cert.PnKernelIdeal.nD Cert.PnKernelIdeal.τ).loc Cert.PnKernelIdeal.main_arg2) = m ((c.tc : Thread Cert.PnKernelIdeal.nD Cert.PnKernelIdeal.τ).loc Cert.PnKernelIdeal.main_arg2))
      ∧ r.2.sem = fun _ => 0)

/-- The two programs have the same text. -/
theorem same_text : bitsFrame = Cert.quiescent_PnKernel := by sl_kernel_rfl

theorem frame_kernel : Cert.quiescent_PnKernel :=
  same_text.mp fun m ρ _ => Cert.PnKernelIdeal.Gen.frame (F := Bits) m ρ
theorem frame_kernelIdeal : Cert.quiescent_PnKernelIdeal := fun m ρ _ => Cert.PnKernelIdeal.Gen.frame m ρ

/-- The reference keeps its arguments; it declares no semaphore. -/
theorem frame_reference : Cert.quiescent_PnReferenceIdeal := fun m ρ _ =>
  (θ_run Cert.PnReferenceIdeal.defs _ _).mono (fun r e => ⟨fun c => (e c).2.2, sem_eq_zero_of_no_sems (by decide) r.2⟩) (Cert.PnReferenceIdeal.Value.run m ρ)

variable (m : (ℓ : Loc Cert.PnKernelIdeal.nD Cert.PnKernelIdeal.τ Cert.PnKernelIdeal.sig) → Buf (Elt Ideal) ℓ) (c : Dev Cert.PnKernelIdeal.nD)

theorem arg_0 : (m ((c.tc : Thread Cert.PnKernelIdeal.nD Cert.PnKernelIdeal.τ).loc Cert.PnKernelIdeal.main_arg0)) = rows (aX m c) := mat_get2 _
theorem arg_1 : (m ((c.tc : Thread Cert.PnKernelIdeal.nD Cert.PnKernelIdeal.τ).loc Cert.PnKernelIdeal.main_arg1)) = few (aT m c) := mat_get2 _
theorem arg_2 : (m ((c.tc : Thread Cert.PnKernelIdeal.nD Cert.PnKernelIdeal.τ).loc Cert.PnKernelIdeal.main_arg2)) = wts (aW m c) := mat_get2 _
theorem same_v13 : Cert.PnReferenceIdeal.Read.val_main_v13 (F := Ideal) (m ((c.tc : Thread Cert.PnKernelIdeal.nD Cert.PnKernelIdeal.τ).loc Cert.PnKernelIdeal.main_arg0)) (m ((c.tc : Thread Cert.PnKernelIdeal.nD Cert.PnKernelIdeal.τ).loc Cert.PnKernelIdeal.main_arg1))
    = (Cert.PnKernelIdeal.Gen.dats m 0 c).arrAt 3 Cert.PnKernelIdeal.cfg0.N := by
  rw [arg_0 m c, arg_1 m c, r_v13]
  exact (arr_3 m c).symm
theorem same_v15 : Cert.PnReferenceIdeal.Read.val_main_v15 (F := Ideal) (m ((c.tc : Thread Cert.PnKernelIdeal.nD Cert.PnKernelIdeal.τ).loc Cert.PnKernelIdeal.main_arg0)) (m ((c.tc : Thread Cert.PnKernelIdeal.nD Cert.PnKernelIdeal.τ).loc Cert.PnKernelIdeal.main_arg1)) (m ((c.tc : Thread Cert.PnKernelIdeal.nD Cert.PnKernelIdeal.τ).loc Cert.PnKernelIdeal.main_arg2))
    = (Cert.PnKernelIdeal.Gen.dats m 0 c).arrAt 4 Cert.PnKernelIdeal.cfg0.N := by
  rw [arg_0 m c, arg_1 m c, arg_2 m c, r_v15]
  exact (arr_4 m c).symm

/-- Run on the same arguments, the two programs end with the same results. -/
theorem same_results : Cert.algebraic_PnKernelIdeal_PnReferenceIdeal := fun m g m' g' _ h =>
  ⟨fun c => (Cert.PnKernelIdeal.Gen.dats m 0 c).arrAt 3 Cert.PnKernelIdeal.cfg0.N, fun c => (Cert.PnKernelIdeal.Gen.dats m 0 c).arrAt 4 Cert.PnKernelIdeal.cfg0.N,
    Cert.PnKernelIdeal.Value.run_blocks m g,
    (θ_run Cert.PnReferenceIdeal.defs _ _).mono (fun _ e c => by
      obtain ⟨e0, e1, e2⟩ := e c
      obtain ⟨h0, h1, h2⟩ := h c
      have e0 := e0.trans (Cert.PnReferenceIdeal.Read.val_main_v13_eq _ _)
      have e1 := e1.trans (Cert.PnReferenceIdeal.Read.val_main_v15_eq _ _ _)
      rw [h0, h1] at e0
      rw [h0, h1, h2] at e1
      exact ⟨e0.trans (same_v13 m c), e1.trans (same_v15 m c), e2⟩)
      (Cert.PnReferenceIdeal.Value.run m' g')⟩

end Cert.Pn

end
-- ==== Proof.MidFwd.lean ====
/- The forward call between the mixer and the feed-forward part, and its reference: how they run, and that they end with the same results. -/
module

public import proofs.«01_k».proof.Defs
public import proofs.«01_k».proof.Proof.NmSpec
public import proofs.«01_k».proof.Proof.Gen.MfKernel
public import proofs.«01_k».proof.Proof.Gen.MfKernelIdeal.Value
public import proofs.«01_k».proof.Proof.Gen.MfReferenceIdeal.Run
public import proofs.«01_k».proof.Proof.Gen.MfReferenceIdeal.Read
public import Idealize.ShloMosaic.Lib.Pointwise
public import Idealize.ShloMosaic.Lib.StableHlo.ReadAt
public import Idealize.ShloMosaic.Lib.Tactic
public import Idealize.ShloMosaic.Lib.Quiescent

@[expose] public section

set_option maxRecDepth 16384

noncomputable section

namespace Cert.Mf

open Idealize.ShloMosaic Idealize.ShloMosaic.TcCoe Idealize.SL.Sem Idealize.ShloMosaic.Tactic Idealize.ShloMosaic.Pipeline
open Cert.Ret (get2)
open Cert.Ffn (mat mat_get2)
open Cert.Norm Cert.Nm

section Call

open Cert.MfKernelIdeal Cert.MfKernelIdeal.Gen

/-! ## What a point leaves -/

section Pieces

variable {F : FTy → Type} [FloatOps F]

theorem out_4 (x0 x1 : Vec F S128x4096 .f32) (x2 x3 : Vec F S1x4096 .f32) : out0_4 x0 x1 x2 x3 = k0_pay1 x0 x1 x2 := by
  unfold out0_4
  rw [View.canon_unit_zero origin]
  simp only [View.ld_unit_zero (S := S128x4096) origin, View.ld_unit_zero (S := S1x4096) origin]
theorem out_5 (x0 x1 : Vec F S128x4096 .f32) (x2 x3 : Vec F S1x4096 .f32) : out0_5 x0 x1 x2 x3 = k0_pay2 x0 x1 x2 x3 := by
  unfold out0_5
  rw [View.canon_unit_zero origin]
  simp only [View.ld_unit_zero (S := S128x4096) origin, View.ld_unit_zero (S := S1x4096) origin]

end Pieces

theorem pay1 (h a w : ℕ → ℕ → EReal) : k0_pay1 (F := Ideal) (mat h) (mat a) (mat w) = (mat fun i j => h i j + nm (a i) (w 0) j : Vec Ideal S128x4096 .f32) := by
  funext i
  obtain ⟨r, j, rfl⟩ := split2 i
  unfold k0_pay1
  pointwise
  rfl
theorem pay2 (h a w u : ℕ → ℕ → EReal) : k0_pay2 (F := Ideal) (mat h) (mat a) (mat w) (mat u) = (mat fun i j => nm (fun b => h i b + nm (a i) (w 0) b) (u 0) j : Vec Ideal S128x4096 .bf16) := by
  funext i
  obtain ⟨r, j, rfl⟩ := split2 i
  unfold k0_pay2
  rw [pay1]
  pointwise
  rfl

/-! ## The blocks -/

variable (m : (ℓ : Loc nD τ sig) → Buf (Elt Ideal) ℓ) (c : Dev nD)

/-- The rows before. -/
def aH : ℕ → ℕ → EReal := get2 (m (c, Proc.devRef .tc main_arg0) : Vec Ideal S4224x4096 .f32)
theorem entry_0 : (V m c main_arg0 : Vec Ideal S4224x4096 .f32) = mat (aH m c) :=
  (V_main_arg0 m c).trans (mat_get2 _)
theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem blk_0 (t : Fin cfg0.N) : (iblk m c 0 t : Vec Ideal S128x4096 .f32) = mat fun a b => aH m c (t.val * 128 + a) b := by
  have e := idx_0 t
  funext y
  refine (congrFun (entry_0 m c) _).trans ?_
  show aH m c (win0_0.index t (0 : Fin 2) * 128 + 1 * (y 0).val) (win0_0.index t (1 : Fin 2) * 4096 + 1 * (y 1).val) = aH m c _ _
  rw [e.1, e.2]
  congr 1 <;> omega
/-- What the mixer gives. -/
def aA : ℕ → ℕ → EReal := get2 (m (c, Proc.devRef .tc main_arg1) : Vec Ideal S4224x4096 .f32)
theorem entry_1 : (V m c main_arg1 : Vec Ideal S4224x4096 .f32) = mat (aA m c) :=
  (V_main_arg1 m c).trans (mat_get2 _)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem blk_1 (t : Fin cfg0.N) : (iblk m c 1 t : Vec Ideal S128x4096 .f32) = mat fun a b => aA m c (t.val * 128 + a) b := by
  have e := idx_1 t
  funext y
  refine (congrFun (entry_1 m c) _).trans ?_
  show aA m c (win0_1.index t (0 : Fin 2) * 128 + 1 * (y 0).val) (win0_1.index t (1 : Fin 2) * 4096 + 1 * (y 1).val) = aA m c _ _
  rw [e.1, e.2]
  congr 1 <;> omega
/-- The weights of the first normalisation. -/
def aW : ℕ → ℕ → EReal := get2 (m (c, Proc.devRef .tc main_arg2) : Vec Ideal S1x4096 .f32)
theorem entry_2 : (V m c main_arg2 : Vec Ideal S1x4096 .f32) = mat (aW m c) :=
  (V_main_arg2 m c).trans (mat_get2 _)
theorem idx_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem blk_2 (t : Fin cfg0.N) : (iblk m c 2 t : Vec Ideal S1x4096 .f32) = mat fun a b => aW m c (a) b := by
  have e := idx_2 t
  funext y
  refine (congrFun (entry_2 m c) _).trans ?_
  show aW m c (win0_2.index t (0 : Fin 2) * 1 + 1 * (y 0).val) (win0_2.index t (1 : Fin 2) * 4096 + 1 * (y 1).val) = aW m c _ _
  rw [e.1, e.2]
  congr 1 <;> omega
/-- The weights of the second normalisation. -/
def aU : ℕ → ℕ → EReal := get2 (m (c, Proc.devRef .tc main_arg3) : Vec Ideal S1x4096 .f32)
theorem entry_3 : (V m c main_arg3 : Vec Ideal S1x4096 .f32) = mat (aU m c) :=
  (V_main_arg3 m c).trans (mat_get2 _)
theorem idx_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem blk_3 (t : Fin cfg0.N) : (iblk m c 3 t : Vec Ideal S1x4096 .f32) = mat fun a b => aU m c (a) b := by
  have e := idx_3 t
  funext y
  refine (congrFun (entry_3 m c) _).trans ?_
  show aU m c (win0_3.index t (0 : Fin 2) * 1 + 1 * (y 0).val) (win0_3.index t (1 : Fin 2) * 4096 + 1 * (y 1).val) = aU m c _ _
  rw [e.1, e.2]
  congr 1 <;> omega

/-! ## The arrays -/

/-- The rows after the mixer. -/
def dH (i j : ℕ) : EReal := aH m c i j + nm (aA m c i) (aW m c 0) j
/-- The same normalised. -/
def dN (i j : ℕ) : EReal := nm (dH m c i) (aU m c 0) j

theorem outs_4 (t : Fin cfg0.N) : out0_4 (iblk m c 0 t) (iblk m c 1 t) (iblk m c 2 t) (iblk m c 3 t) = (mat fun a b => dH m c (t.val * 128 + a) b : Vec Ideal S128x4096 .f32) := by
  rw [out_4, blk_0 m c t, blk_1 m c t, blk_2 m c t, pay1]
  rfl
theorem outs_5 (t : Fin cfg0.N) : out0_5 (iblk m c 0 t) (iblk m c 1 t) (iblk m c 2 t) (iblk m c 3 t) = (mat fun a b => dN m c (t.val * 128 + a) b : Vec Ideal S128x4096 .bf16) := by
  rw [out_5, blk_0 m c t, blk_1 m c t, blk_2 m c t, blk_3 m c t, pay2]
  rfl
theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem mem_4 (t : Fin cfg0.N) (i : S4224x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v0_0).slice (win0_4.rect t)).set ↔ _
  rw [View.set_slice_whole, Rect.mem_set_unit]
  exact Iff.rfl
theorem covers_4 (i : S4224x4096.Idx) : ∃ t : Fin cfg0.N, (cfg0.win 4).flush t = true ∧ i ∈ ((cfg0.win 4).blk t).view.set := by
  have hN : cfg0.N = 33 := N_0
  have h0 : (i 0).val < 4224 := (i 0).isLt; have h1 : (i 1).val < 4096 := (i 1).isLt
  have hlt : (i 0).val / 128 < cfg0.N := by omega
  refine ⟨⟨(i 0).val / 128, hlt⟩, flush0_4 _, ?_⟩
  rw [mem_4]
  have h := idx_4 ⟨(i 0).val / 128, hlt⟩
  dsimp only at h
  intro a
  match a with
  | ⟨0, _⟩ => show win0_4.index _ (0 : Fin 2) * 128 ≤ (i 0).val ∧ (i 0).val < win0_4.index _ (0 : Fin 2) * 128 + 128; rw [h.1]; omega
  | ⟨1, _⟩ => show win0_4.index _ (1 : Fin 2) * 4096 ≤ (i 1).val ∧ (i 1).val < win0_4.index _ (1 : Fin 2) * 4096 + 4096; rw [h.2]; omega
theorem arr_4 : (dats m 0 c).arrAt 4 cfg0.N = (mat (dH m c) : Vec Ideal S4224x4096 .f32) :=
  (dats m 0 c).arrAt_eq_of_cover 4 _ (fun t _ => by
    rw [Cert.MfKernelIdeal.Value.flushed4, outs_4 m c t]
    have h := idx_4 t
    funext y
    show dH m c (t.val * 128 + (y 0).val) (y 1).val = dH m c (win0_4.index t (0 : Fin 2) * 128 + 1 * (y 0).val) (win0_4.index t (1 : Fin 2) * 4096 + 1 * (y 1).val)
    rw [h.1, h.2, one_mul, one_mul, Nat.zero_mul, Nat.zero_add])
    covers_4
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem mem_5 (t : Fin cfg0.N) (i : S4224x4096.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_v0_1).slice (win0_5.rect t)).set ↔ _
  rw [View.set_slice_whole, Rect.mem_set_unit]
  exact Iff.rfl
theorem covers_5 (i : S4224x4096.Idx) : ∃ t : Fin cfg0.N, (cfg0.win 5).flush t = true ∧ i ∈ ((cfg0.win 5).blk t).view.set := by
  have hN : cfg0.N = 33 := N_0
  have h0 : (i 0).val < 4224 := (i 0).isLt; have h1 : (i 1).val < 4096 := (i 1).isLt
  have hlt : (i 0).val / 128 < cfg0.N := by omega
  refine ⟨⟨(i 0).val / 128, hlt⟩, flush0_5 _, ?_⟩
  rw [mem_5]
  have h := idx_5 ⟨(i 0).val / 128, hlt⟩
  dsimp only at h
  intro a
  match a with
  | ⟨0, _⟩ => show win0_5.index _ (0 : Fin 2) * 128 ≤ (i 0).val ∧ (i 0).val < win0_5.index _ (0 : Fin 2) * 128 + 128; rw [h.1]; omega
  | ⟨1, _⟩ => show win0_5.index _ (1 : Fin 2) * 4096 ≤ (i 1).val ∧ (i 1).val < win0_5.index _ (1 : Fin 2) * 4096 + 4096; rw [h.2]; omega
theorem arr_5 : (dats m 0 c).arrAt 5 cfg0.N = (mat (dN m c) : Vec Ideal S4224x4096 .bf16) :=
  (dats m 0 c).arrAt_eq_of_cover 5 _ (fun t _ => by
    rw [Cert.MfKernelIdeal.Value.flushed5, outs_5 m c t]
    have h := idx_5 t
    funext y
    show dN m c (t.val * 128 + (y 0).val) (y 1).val = dN m c (win0_5.index t (0 : Fin 2) * 128 + 1 * (y 0).val) (win0_5.index t (1 : Fin 2) * 4096 + 1 * (y 1).val)
    rw [h.1, h.2, one_mul, one_mul, Nat.zero_mul, Nat.zero_add])
    covers_5

end Call

/-! ## The reference -/

section Reference

open Cert.MfReferenceIdeal Cert.MfReferenceIdeal.Gen Cert.MfReferenceIdeal.Read

/-- The rows as an array. -/
abbrev rows (f : ℕ → ℕ → EReal) : (⟨S4224x4096, .f32⟩ : BufTy).Contents (Elt Ideal) := (mat f : Vec Ideal S4224x4096 .f32)
/-- The weights as an array. -/
abbrev wts (f : ℕ → ℕ → EReal) : (⟨S1x4096, .f32⟩ : BufTy).Contents (Elt Ideal) := (mat f : Vec Ideal S1x4096 .f32)

variable (h a w u : ℕ → ℕ → EReal)

theorem r_v7 (i : S4224x1.Idx) : val_main_v7 (F := Ideal) (rows a) i = rs (a (i 0).val) := by
  rw [val_main_v7_apply, val_main_v6_apply, val_main_v4_apply, val_main_v2_apply, val_main_v1_apply, val_main_v3_apply, val_main_v5_apply]
  show Ideal.rsqrt (Ideal.div (Ideal.ofBits .f32 0x00000000#32 + ∑ k : Fin 4096, a (i 0).val k.val * a (i 0).val k.val) c4096 + Cert.Ret.eps) = _
  rw [no_bits, zero_add]
  rfl
theorem r_v12 : val_main_v12 (F := Ideal) (rows h) (rows a) (wts w) = rows fun i j => h i j + nm (a i) (w 0) j := by
  funext i
  rw [val_main_v12_apply, val_main_v11_apply, val_main_v10_apply, val_main_v9_apply, val_main_v8_apply, r_v7]
  rfl
theorem r_v20 (i : S4224x1.Idx) : val_main_v20 (F := Ideal) (rows h) (rows a) (wts w) i = rs (fun b => h (i 0).val b + nm (a (i 0).val) (w 0) b) := by
  rw [val_main_v20_apply, val_main_v19_apply, val_main_v17_apply, val_main_v15_apply, val_main_v14_apply, val_main_v16_apply, val_main_v18_apply]
  simp only [val_main_v13_apply, r_v12]
  show Ideal.rsqrt (Ideal.div (Ideal.ofBits .f32 0x00000000#32 + ∑ k : Fin 4096, (h (i 0).val k.val + nm (a (i 0).val) (w 0) k.val) * (h (i 0).val k.val + nm (a (i 0).val) (w 0) k.val)) c4096 + Cert.Ret.eps) = _
  rw [no_bits, zero_add]
  rfl
theorem r_v25 : val_main_v25 (F := Ideal) (rows h) (rows a) (wts w) (wts u) = (mat fun i j => nm (fun b => h i b + nm (a i) (w 0) b) (u 0) j : Vec Ideal S4224x4096 .bf16) := by
  funext i
  rw [val_main_v25_apply, val_main_v24_apply, val_main_v23_apply, val_main_v22_apply, val_main_v21_apply, r_v20, r_v12]
  rfl

end Reference

/-! ## The two runs -/

/-- The idealized program's frame, its text run over the bit-level floats. -/
def bitsFrame : Prop :=
  ∀ (m : (ℓ : Loc Cert.MfKernelIdeal.nD Cert.MfKernelIdeal.τ Cert.MfKernelIdeal.sig) → Buf (Elt Bits) ℓ) (g : Dev Cert.MfKernelIdeal.nD → PrngReg), True →
    θ_run (Cert.MfKernelIdeal.defs (F := Bits)) (onTc (τ := Cert.MfKernelIdeal.τ) (Cert.MfKernelIdeal.main (F := Bits))) ⟨m, fun _ => 0, g⟩ (fun r => (∀ c : Dev Cert.MfKernelIdeal.nD,
      r.2.mem ((c.tc : Thread Cert.MfKernelIdeal.nD Cert.MfKernelIdeal.τ).loc Cert.MfKernelIdeal.main_arg0) = m ((c.tc : Thread Cert.MfKernelIdeal.nD Cert.MfKernelIdeal.τ).loc Cert.MfKernelIdeal.main_arg0)
      ∧ r.2.mem ((c.tc : Thread Cert.MfKernelIdeal.nD Cert.MfKernelIdeal.τ).loc Cert.MfKernelIdeal.main_arg1) = m ((c.tc : Thread Cert.MfKernelIdeal.nD Cert.MfKernelIdeal.τ).loc Cert.MfKernelIdeal.main_arg1)
      ∧ r.2.mem ((c.tc : Thread Cert.MfKernelIdeal.nD Cert.MfKernelIdeal.τ).loc Cert.MfKernelIdeal.main_arg2) = m ((c.tc : Thread Cert.MfKernelIdeal.nD Cert.MfKernelIdeal.τ).loc Cert.MfKernelIdeal.main_arg2)
      ∧ r.2.mem ((c.tc : Thread Cert.MfKernelIdeal.nD Cert.MfKernelIdeal.τ).loc Cert.MfKernelIdeal.main_arg3) = m ((c.tc : Thread Cert.MfKernelIdeal.nD Cert.MfKernelIdeal.τ).loc Cert.MfKernelIdeal.main_arg3))
      ∧ r.2.sem = fun _ => 0)

/-- The two programs have the same text. -/
theorem same_text : bitsFrame = Cert.quiescent_MfKernel := by sl_kernel_rfl

theorem frame_kernel : Cert.quiescent_MfKernel :=
  same_text.mp fun m ρ _ => Cert.MfKernelIdeal.Gen.frame (F := Bits) m ρ
theorem frame_kernelIdeal : Cert.quiescent_MfKernelIdeal := fun m ρ _ => Cert.MfKernelIdeal.Gen.frame m ρ

/-- The reference keeps its arguments; it declares no semaphore. -/
theorem frame_reference : Cert.quiescent_MfReferenceIdeal := fun m ρ _ =>
  (θ_run Cert.MfReferenceIdeal.defs _ _).mono (fun r e => ⟨fun c => (e c).2.2, sem_eq_zero_of_no_sems (by decide) r.2⟩) (Cert.MfReferenceIdeal.Value.run m ρ)

variable (m : (ℓ : Loc Cert.MfKernelIdeal.nD Cert.MfKernelIdeal.τ Cert.MfKernelIdeal.sig) → Buf (Elt Ideal) ℓ) (c : Dev Cert.MfKernelIdeal.nD)

theorem arg_0 : (m ((c.tc : Thread Cert.MfKernelIdeal.nD Cert.MfKernelIdeal.τ).loc Cert.MfKernelIdeal.main_arg0)) = rows (aH m c) := mat_get2 _
theorem arg_1 : (m ((c.tc : Thread Cert.MfKernelIdeal.nD Cert.MfKernelIdeal.τ).loc Cert.MfKernelIdeal.main_arg1)) = rows (aA m c) := mat_get2 _
theorem arg_2 : (m ((c.tc : Thread Cert.MfKernelIdeal.nD Cert.MfKernelIdeal.τ).loc Cert.MfKernelIdeal.main_arg2)) = wts (aW m c) := mat_get2 _
theorem arg_3 : (m ((c.tc : Thread Cert.MfKernelIdeal.nD Cert.MfKernelIdeal.τ).loc Cert.MfKernelIdeal.main_arg3)) = wts (aU m c) := mat_get2 _
theorem same_v12 : Cert.MfReferenceIdeal.Read.val_main_v12 (F := Ideal) (m ((c.tc : Thread Cert.MfKernelIdeal.nD Cert.MfKernelIdeal.τ).loc Cert.MfKernelIdeal.main_arg0)) (m ((c.tc : Thread Cert.MfKernelIdeal.nD Cert.MfKernelIdeal.τ).loc Cert.MfKernelIdeal.main_arg1)) (m ((c.tc : Thread Cert.MfKernelIdeal.nD Cert.MfKernelIdeal.τ).loc Cert.MfKernelIdeal.main_arg2))
    = (Cert.MfKernelIdeal.Gen.dats m 0 c).arrAt 4 Cert.MfKernelIdeal.cfg0.N := by
  rw [arg_0 m c, arg_1 m c, arg_2 m c, r_v12]
  exact (arr_4 m c).symm
theorem same_v25 : Cert.MfReferenceIdeal.Read.val_main_v25 (F := Ideal) (m ((c.tc : Thread Cert.MfKernelIdeal.nD Cert.MfKernelIdeal.τ).loc Cert.MfKernelIdeal.main_arg0)) (m ((c.tc : Thread Cert.MfKernelIdeal.nD Cert.MfKernelIdeal.τ).loc Cert.MfKernelIdeal.main_arg1)) (m ((c.tc : Thread Cert.MfKernelIdeal.nD Cert.MfKernelIdeal.τ).loc Cert.MfKernelIdeal.main_arg2)) (m ((c.tc : Thread Cert.MfKernelIdeal.nD Cert.MfKernelIdeal.τ).loc Cert.MfKernelIdeal.main_arg3))
    = (Cert.MfKernelIdeal.Gen.dats m 0 c).arrAt 5 Cert.MfKernelIdeal.cfg0.N := by
  rw [arg_0 m c, arg_1 m c, arg_2 m c, arg_3 m c, r_v25]
  exact (arr_5 m c).symm

/-- Run on the same arguments, the two programs end with the same results. -/
theorem same_results : Cert.algebraic_MfKernelIdeal_MfReferenceIdeal := fun m g m' g' _ h =>
  ⟨fun c => (Cert.MfKernelIdeal.Gen.dats m 0 c).arrAt 4 Cert.MfKernelIdeal.cfg0.N, fun c => (Cert.MfKernelIdeal.Gen.dats m 0 c).arrAt 5 Cert.MfKernelIdeal.cfg0.N,
    Cert.MfKernelIdeal.Value.run_blocks m g,
    (θ_run Cert.MfReferenceIdeal.defs _ _).mono (fun _ e c => by
      obtain ⟨e0, e1, e2⟩ := e c
      obtain ⟨h0, h1, h2, h3⟩ := h c

      rw [h0, h1, h2] at e0
      rw [h0, h1, h2, h3] at e1
      exact ⟨e0.trans (same_v12 m c), e1.trans (same_v25 m c), e2⟩)
      (Cert.MfReferenceIdeal.Value.run m' g')⟩

end Cert.Mf

end
-- ==== Proof.AdamSpec.lean ====
/- One entry of the optimiser's step. -/
module

public import proofs.«01_k».proof.Proof.FfnSpec
public import Idealize.ShloMosaic.Lib.Pointwise
public import Idealize.ShloMosaic.Lib.StableHlo.ReadAt
public import Idealize.ShloMosaic.Lib.Tactic
public import Idealize.ShloMosaic.Lib.Quiescent

@[expose] public section

set_option maxRecDepth 16384

noncomputable section

namespace Cert.Adam

open Idealize.ShloMosaic

/-- The first moment after the step, from the gradient and the moment before. -/
def newM (g m : EReal) : EReal := Ideal.ofBits .f32 0x3F666666#32 * m + Ideal.ofBits .f32 0x3DCCCCCD#32 * g
/-- The second moment after the step. -/
def newV (g v : EReal) : EReal := Ideal.ofBits .f32 0x3F7FBE77#32 * v + Ideal.ofBits .f32 0x3A83126F#32 * (g * g)
/-- The change of the weight, from the weight, the gradient and the moments before. -/
def step (w g m v : EReal) : EReal :=
  Ideal.ofBits .f32 0xBA83126F#32 * (Ideal.div (Ideal.div (newM g m) (Ideal.ofBits .f32 0x3F26BD02#32)) (Ideal.sqrt (Ideal.div (newV g v) (Ideal.ofBits .f32 0x3C231ACC#32)) + Ideal.ofBits .f32 0x322BCC77#32) + Ideal.ofBits .f32 0x3C23D70A#32 * w)

theorem split2 {n k : ℕ} (i : (⟨2, ![n, k]⟩ : Shape).Idx) : ∃ (r : Fin n) (j : Fin k), i = ix2 r j := ⟨i 0, i 1, by funext a; match a with | ⟨0, _⟩ => rfl | ⟨1, _⟩ => rfl⟩
theorem origin : (![0, 0] : Fin 2 → Nat) = fun _ => 0 := funext fun a => by fin_cases a <;> rfl

end Cert.Adam

end
-- ==== Proof.AdamI.lean ====
/- The optimiser's call on the input projection, and its reference: how they run, and that they end with the same results. -/
module

public import proofs.«01_k».proof.Defs
public import proofs.«01_k».proof.Proof.AdamSpec
public import proofs.«01_k».proof.Proof.Gen.AiKernel
public import proofs.«01_k».proof.Proof.Gen.AiKernelIdeal.Value
public import proofs.«01_k».proof.Proof.Gen.AiReferenceIdeal.Run
public import proofs.«01_k».proof.Proof.Gen.AiReferenceIdeal.Read
public import Idealize.ShloMosaic.Lib.Pointwise
public import Idealize.ShloMosaic.Lib.StableHlo.ReadAt
public import Idealize.ShloMosaic.Lib.Tactic
public import Idealize.ShloMosaic.Lib.Quiescent

@[expose] public section

set_option maxRecDepth 16384

noncomputable section

namespace Cert.Ai

open Idealize.ShloMosaic Idealize.ShloMosaic.TcCoe Idealize.SL.Sem Idealize.ShloMosaic.Tactic Idealize.ShloMosaic.Pipeline
open Cert.Ret (get2)
open Cert.Ffn (mat mat_get2)
open Cert.Adam

section Call

open Cert.AiKernelIdeal Cert.AiKernelIdeal.Gen

/-! ## What a point leaves -/

section Pieces

variable {F : FTy → Type} [FloatOps F]

theorem out_4 (x0 x1 x2 x3 : Vec F S128x3584 .f32) : out0_4 x0 x1 x2 x3 = k0_pay3 x1 x0 x2 x3 := by
  unfold out0_4
  rw [View.canon_unit_zero origin]
  simp only [View.ld_unit_zero (S := S128x3584) origin]
theorem out_5 (x0 x1 x2 x3 : Vec F S128x3584 .f32) : out0_5 x0 x1 x2 x3 = k0_pay1 x1 x2 := by
  unfold out0_5
  rw [View.canon_unit_zero origin]
  simp only [View.ld_unit_zero (S := S128x3584) origin]
theorem out_6 (x0 x1 x2 x3 : Vec F S128x3584 .f32) : out0_6 x0 x1 x2 x3 = k0_pay2 x1 x3 := by
  unfold out0_6
  rw [View.canon_unit_zero origin]
  simp only [View.ld_unit_zero (S := S128x3584) origin]
theorem out_7 (x0 x1 x2 x3 : Vec F S128x3584 .f32) : out0_7 x0 x1 x2 x3 = x1 := by
  unfold out0_7
  rw [View.canon_unit_zero origin]
  simp only [View.ld_unit_zero (S := S128x3584) origin]

end Pieces

theorem pay1 (g m : ℕ → ℕ → EReal) : k0_pay1 (F := Ideal) (mat g) (mat m) = (mat fun i j => newM (g i j) (m i j) : Vec Ideal S128x3584 .f32) := by
  funext i
  obtain ⟨r, j, rfl⟩ := split2 i
  unfold k0_pay1
  pointwise
  rfl
theorem pay2 (g v : ℕ → ℕ → EReal) : k0_pay2 (F := Ideal) (mat g) (mat v) = (mat fun i j => newV (g i j) (v i j) : Vec Ideal S128x3584 .f32) := by
  funext i
  obtain ⟨r, j, rfl⟩ := split2 i
  unfold k0_pay2
  pointwise
  rfl
theorem pay3 (g w m v : ℕ → ℕ → EReal) : k0_pay3 (F := Ideal) (mat g) (mat w) (mat m) (mat v) = (mat fun i j => step (w i j) (g i j) (m i j) (v i j) : Vec Ideal S128x3584 .f32) := by
  funext i
  obtain ⟨r, j, rfl⟩ := split2 i
  unfold k0_pay3 k0_pay1 k0_pay2
  pointwise
  rfl

/-! ## The blocks -/

variable (m : (ℓ : Loc nD τ sig) → Buf (Elt Ideal) ℓ) (c : Dev nD)

/-- The weights. -/
def aW : ℕ → ℕ → EReal := get2 (m (c, Proc.devRef .tc main_arg0) : Vec Ideal S4096x3584 .f32)
theorem entry_0 : (V m c main_arg0 : Vec Ideal S4096x3584 .f32) = mat (aW m c) :=
  (V_main_arg0 m c).trans (mat_get2 _)
theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem blk_0 (t : Fin cfg0.N) : (iblk m c 0 t : Vec Ideal S128x3584 .f32) = mat fun a b => aW m c (t.val * 128 + a) b := by
  have e := idx_0 t
  funext y
  refine (congrFun (entry_0 m c) _).trans ?_
  show aW m c (win0_0.index t (0 : Fin 2) * 128 + 1 * (y 0).val) (win0_0.index t (1 : Fin 2) * 3584 + 1 * (y 1).val) = aW m c _ _
  rw [e.1, e.2]
  congr 1 <;> omega
/-- The gradients. -/
def aG : ℕ → ℕ → EReal := get2 (m (c, Proc.devRef .tc main_arg1) : Vec Ideal S4096x3584 .f32)
theorem entry_1 : (V m c main_arg1 : Vec Ideal S4096x3584 .f32) = mat (aG m c) :=
  (V_main_arg1 m c).trans (mat_get2 _)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem blk_1 (t : Fin cfg0.N) : (iblk m c 1 t : Vec Ideal S128x3584 .f32) = mat fun a b => aG m c (t.val * 128 + a) b := by
  have e := idx_1 t
  funext y
  refine (congrFun (entry_1 m c) _).trans ?_
  show aG m c (win0_1.index t (0 : Fin 2) * 128 + 1 * (y 0).val) (win0_1.index t (1 : Fin 2) * 3584 + 1 * (y 1).val) = aG m c _ _
  rw [e.1, e.2]
  congr 1 <;> omega
/-- The first moments. -/
def aM : ℕ → ℕ → EReal := get2 (m (c, Proc.devRef .tc main_arg2) : Vec Ideal S4096x3584 .f32)
theorem entry_2 : (V m c main_arg2 : Vec Ideal S4096x3584 .f32) = mat (aM m c) :=
  (V_main_arg2 m c).trans (mat_get2 _)
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem blk_2 (t : Fin cfg0.N) : (iblk m c 2 t : Vec Ideal S128x3584 .f32) = mat fun a b => aM m c (t.val * 128 + a) b := by
  have e := idx_2 t
  funext y
  refine (congrFun (entry_2 m c) _).trans ?_
  show aM m c (win0_2.index t (0 : Fin 2) * 128 + 1 * (y 0).val) (win0_2.index t (1 : Fin 2) * 3584 + 1 * (y 1).val) = aM m c _ _
  rw [e.1, e.2]
  congr 1 <;> omega
/-- The second moments. -/
def aV : ℕ → ℕ → EReal := get2 (m (c, Proc.devRef .tc main_arg3) : Vec Ideal S4096x3584 .f32)
theorem entry_3 : (V m c main_arg3 : Vec Ideal S4096x3584 .f32) = mat (aV m c) :=
  (V_main_arg3 m c).trans (mat_get2 _)
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem blk_3 (t : Fin cfg0.N) : (iblk m c 3 t : Vec Ideal S128x3584 .f32) = mat fun a b => aV m c (t.val * 128 + a) b := by
  have e := idx_3 t
  funext y
  refine (congrFun (entry_3 m c) _).trans ?_
  show aV m c (win0_3.index t (0 : Fin 2) * 128 + 1 * (y 0).val) (win0_3.index t (1 : Fin 2) * 3584 + 1 * (y 1).val) = aV m c _ _
  rw [e.1, e.2]
  congr 1 <;> omega

/-! ## The arrays -/

/-- The weights' changes. -/
def dW (i j : ℕ) : EReal := step (aW m c i j) (aG m c i j) (aM m c i j) (aV m c i j)
/-- The first moments after the step. -/
def dM (i j : ℕ) : EReal := newM (aG m c i j) (aM m c i j)
/-- The second moments after the step. -/
def dV (i j : ℕ) : EReal := newV (aG m c i j) (aV m c i j)

theorem outs_4 (t : Fin cfg0.N) : out0_4 (iblk m c 0 t) (iblk m c 1 t) (iblk m c 2 t) (iblk m c 3 t) = (mat fun a b => dW m c (t.val * 128 + a) b : Vec Ideal S128x3584 .f32) := by
  rw [out_4, blk_0 m c t, blk_1 m c t, blk_2 m c t, blk_3 m c t, pay3]
  rfl
theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem mem_4 (t : Fin cfg0.N) (i : S4096x3584.Idx) :
    i ∈ ((cfg0.win 4).blk t).view.set ↔ ∀ a : Fin 2, win0_4.index t a * S128x3584.size a ≤ (i a).val ∧ (i a).val < win0_4.index t a * S128x3584.size a + S128x3584.size a := by
  show i ∈ ((View.whole main_v0_0).slice (win0_4.rect t)).set ↔ _
  rw [View.set_slice_whole, Rect.mem_set_unit]
  exact Iff.rfl
theorem covers_4 (i : S4096x3584.Idx) : ∃ t : Fin cfg0.N, (cfg0.win 4).flush t = true ∧ i ∈ ((cfg0.win 4).blk t).view.set := by
  have hN : cfg0.N = 32 := N_0
  have h0 : (i 0).val < 4096 := (i 0).isLt; have h1 : (i 1).val < 3584 := (i 1).isLt
  have hlt : (i 0).val / 128 < cfg0.N := by omega
  refine ⟨⟨(i 0).val / 128, hlt⟩, flush0_4 _, ?_⟩
  rw [mem_4]
  have h := idx_4 ⟨(i 0).val / 128, hlt⟩
  dsimp only at h
  intro a
  match a with
  | ⟨0, _⟩ => show win0_4.index _ (0 : Fin 2) * 128 ≤ (i 0).val ∧ (i 0).val < win0_4.index _ (0 : Fin 2) * 128 + 128; rw [h.1]; omega
  | ⟨1, _⟩ => show win0_4.index _ (1 : Fin 2) * 3584 ≤ (i 1).val ∧ (i 1).val < win0_4.index _ (1 : Fin 2) * 3584 + 3584; rw [h.2]; omega
theorem arr_4 : (dats m 0 c).arrAt 4 cfg0.N = (mat (dW m c) : Vec Ideal S4096x3584 .f32) :=
  (dats m 0 c).arrAt_eq_of_cover 4 _ (fun t _ => by
    rw [Cert.AiKernelIdeal.Value.flushed4, outs_4 m c t]
    have h := idx_4 t
    funext y
    show dW m c (t.val * 128 + (y 0).val) (y 1).val = dW m c (win0_4.index t (0 : Fin 2) * 128 + 1 * (y 0).val) (win0_4.index t (1 : Fin 2) * 3584 + 1 * (y 1).val)
    rw [h.1, h.2, one_mul, one_mul, Nat.zero_mul, Nat.zero_add])
    covers_4
theorem outs_5 (t : Fin cfg0.N) : out0_5 (iblk m c 0 t) (iblk m c 1 t) (iblk m c 2 t) (iblk m c 3 t) = (mat fun a b => dM m c (t.val * 128 + a) b : Vec Ideal S128x3584 .f32) := by
  rw [out_5, blk_1 m c t, blk_2 m c t, pay1]
  rfl
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem mem_5 (t : Fin cfg0.N) (i : S4096x3584.Idx) :
    i ∈ ((cfg0.win 5).blk t).view.set ↔ ∀ a : Fin 2, win0_5.index t a * S128x3584.size a ≤ (i a).val ∧ (i a).val < win0_5.index t a * S128x3584.size a + S128x3584.size a := by
  show i ∈ ((View.whole main_v0_1).slice (win0_5.rect t)).set ↔ _
  rw [View.set_slice_whole, Rect.mem_set_unit]
  exact Iff.rfl
theorem covers_5 (i : S4096x3584.Idx) : ∃ t : Fin cfg0.N, (cfg0.win 5).flush t = true ∧ i ∈ ((cfg0.win 5).blk t).view.set := by
  have hN : cfg0.N = 32 := N_0
  have h0 : (i 0).val < 4096 := (i 0).isLt; have h1 : (i 1).val < 3584 := (i 1).isLt
  have hlt : (i 0).val / 128 < cfg0.N := by omega
  refine ⟨⟨(i 0).val / 128, hlt⟩, flush0_5 _, ?_⟩
  rw [mem_5]
  have h := idx_5 ⟨(i 0).val / 128, hlt⟩
  dsimp only at h
  intro a
  match a with
  | ⟨0, _⟩ => show win0_5.index _ (0 : Fin 2) * 128 ≤ (i 0).val ∧ (i 0).val < win0_5.index _ (0 : Fin 2) * 128 + 128; rw [h.1]; omega
  | ⟨1, _⟩ => show win0_5.index _ (1 : Fin 2) * 3584 ≤ (i 1).val ∧ (i 1).val < win0_5.index _ (1 : Fin 2) * 3584 + 3584; rw [h.2]; omega
theorem arr_5 : (dats m 0 c).arrAt 5 cfg0.N = (mat (dM m c) : Vec Ideal S4096x3584 .f32) :=
  (dats m 0 c).arrAt_eq_of_cover 5 _ (fun t _ => by
    rw [Cert.AiKernelIdeal.Value.flushed5, outs_5 m c t]
    have h := idx_5 t
    funext y
    show dM m c (t.val * 128 + (y 0).val) (y 1).val = dM m c (win0_5.index t (0 : Fin 2) * 128 + 1 * (y 0).val) (win0_5.index t (1 : Fin 2) * 3584 + 1 * (y 1).val)
    rw [h.1, h.2, one_mul, one_mul, Nat.zero_mul, Nat.zero_add])
    covers_5
theorem outs_6 (t : Fin cfg0.N) : out0_6 (iblk m c 0 t) (iblk m c 1 t) (iblk m c 2 t) (iblk m c 3 t) = (mat fun a b => dV m c (t.val * 128 + a) b : Vec Ideal S128x3584 .f32) := by
  rw [out_6, blk_1 m c t, blk_3 m c t, pay2]
  rfl
theorem idx_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem mem_6 (t : Fin cfg0.N) (i : S4096x3584.Idx) :
    i ∈ ((cfg0.win 6).blk t).view.set ↔ ∀ a : Fin 2, win0_6.index t a * S128x3584.size a ≤ (i a).val ∧ (i a).val < win0_6.index t a * S128x3584.size a + S128x3584.size a := by
  show i ∈ ((View.whole main_v0_2).slice (win0_6.rect t)).set ↔ _
  rw [View.set_slice_whole, Rect.mem_set_unit]
  exact Iff.rfl
theorem covers_6 (i : S4096x3584.Idx) : ∃ t : Fin cfg0.N, (cfg0.win 6).flush t = true ∧ i ∈ ((cfg0.win 6).blk t).view.set := by
  have hN : cfg0.N = 32 := N_0
  have h0 : (i 0).val < 4096 := (i 0).isLt; have h1 : (i 1).val < 3584 := (i 1).isLt
  have hlt : (i 0).val / 128 < cfg0.N := by omega
  refine ⟨⟨(i 0).val / 128, hlt⟩, flush0_6 _, ?_⟩
  rw [mem_6]
  have h := idx_6 ⟨(i 0).val / 128, hlt⟩
  dsimp only at h
  intro a
  match a with
  | ⟨0, _⟩ => show win0_6.index _ (0 : Fin 2) * 128 ≤ (i 0).val ∧ (i 0).val < win0_6.index _ (0 : Fin 2) * 128 + 128; rw [h.1]; omega
  | ⟨1, _⟩ => show win0_6.index _ (1 : Fin 2) * 3584 ≤ (i 1).val ∧ (i 1).val < win0_6.index _ (1 : Fin 2) * 3584 + 3584; rw [h.2]; omega
theorem arr_6 : (dats m 0 c).arrAt 6 cfg0.N = (mat (dV m c) : Vec Ideal S4096x3584 .f32) :=
  (dats m 0 c).arrAt_eq_of_cover 6 _ (fun t _ => by
    rw [Cert.AiKernelIdeal.Value.flushed6, outs_6 m c t]
    have h := idx_6 t
    funext y
    show dV m c (t.val * 128 + (y 0).val) (y 1).val = dV m c (win0_6.index t (0 : Fin 2) * 128 + 1 * (y 0).val) (win0_6.index t (1 : Fin 2) * 3584 + 1 * (y 1).val)
    rw [h.1, h.2, one_mul, one_mul, Nat.zero_mul, Nat.zero_add])
    covers_6
theorem outs_7 (t : Fin cfg0.N) : out0_7 (iblk m c 0 t) (iblk m c 1 t) (iblk m c 2 t) (iblk m c 3 t) = (mat fun a b => aG m c (t.val * 128 + a) b : Vec Ideal S128x3584 .f32) := by
  rw [out_7, blk_1 m c t]
theorem idx_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem mem_7 (t : Fin cfg0.N) (i : S4096x3584.Idx) :
    i ∈ ((cfg0.win 7).blk t).view.set ↔ ∀ a : Fin 2, win0_7.index t a * S128x3584.size a ≤ (i a).val ∧ (i a).val < win0_7.index t a * S128x3584.size a + S128x3584.size a := by
  show i ∈ ((View.whole main_v0_3).slice (win0_7.rect t)).set ↔ _
  rw [View.set_slice_whole, Rect.mem_set_unit]
  exact Iff.rfl
theorem covers_7 (i : S4096x3584.Idx) : ∃ t : Fin cfg0.N, (cfg0.win 7).flush t = true ∧ i ∈ ((cfg0.win 7).blk t).view.set := by
  have hN : cfg0.N = 32 := N_0
  have h0 : (i 0).val < 4096 := (i 0).isLt; have h1 : (i 1).val < 3584 := (i 1).isLt
  have hlt : (i 0).val / 128 < cfg0.N := by omega
  refine ⟨⟨(i 0).val / 128, hlt⟩, flush0_7 _, ?_⟩
  rw [mem_7]
  have h := idx_7 ⟨(i 0).val / 128, hlt⟩
  dsimp only at h
  intro a
  match a with
  | ⟨0, _⟩ => show win0_7.index _ (0 : Fin 2) * 128 ≤ (i 0).val ∧ (i 0).val < win0_7.index _ (0 : Fin 2) * 128 + 128; rw [h.1]; omega
  | ⟨1, _⟩ => show win0_7.index _ (1 : Fin 2) * 3584 ≤ (i 1).val ∧ (i 1).val < win0_7.index _ (1 : Fin 2) * 3584 + 3584; rw [h.2]; omega
theorem arr_7 : (dats m 0 c).arrAt 7 cfg0.N = (mat (aG m c) : Vec Ideal S4096x3584 .f32) :=
  (dats m 0 c).arrAt_eq_of_cover 7 _ (fun t _ => by
    rw [Cert.AiKernelIdeal.Value.flushed7, outs_7 m c t]
    have h := idx_7 t
    funext y
    show aG m c (t.val * 128 + (y 0).val) (y 1).val = aG m c (win0_7.index t (0 : Fin 2) * 128 + 1 * (y 0).val) (win0_7.index t (1 : Fin 2) * 3584 + 1 * (y 1).val)
    rw [h.1, h.2, one_mul, one_mul, Nat.zero_mul, Nat.zero_add])
    covers_7

end Call

/-! ## The reference -/

section Reference

open Cert.AiReferenceIdeal Cert.AiReferenceIdeal.Gen Cert.AiReferenceIdeal.Read

/-- A table as an array. -/
abbrev arr (f : ℕ → ℕ → EReal) : (⟨S4096x3584, .f32⟩ : BufTy).Contents (Elt Ideal) := (mat f : Vec Ideal S4096x3584 .f32)

variable (w g m v : ℕ → ℕ → EReal)

theorem r_v4 : val_main_v4 (F := Ideal) (arr g) (arr m) = arr fun i j => newM (g i j) (m i j) := by
  funext i
  rw [val_main_v4_apply, val_main_v3_apply, val_main_v2_apply, val_main_v1_apply, val_main_v0_apply]
  rfl
theorem r_v10 : val_main_v10 (F := Ideal) (arr g) (arr v) = arr fun i j => newV (g i j) (v i j) := by
  funext i
  rw [val_main_v10_apply, val_main_v9_apply, val_main_v8_apply, val_main_v7_apply, val_main_v6_apply, val_main_v5_apply]
  rfl
theorem r_v23 : val_main_v23 (F := Ideal) (arr w) (arr g) (arr m) (arr v) = arr fun i j => step (w i j) (g i j) (m i j) (v i j) := by
  funext i
  rw [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, r_v4, r_v10]
  rfl

end Reference

/-! ## The two runs -/

/-- The idealized program's frame, its text run over the bit-level floats. -/
def bitsFrame : Prop :=
  ∀ (m : (ℓ : Loc Cert.AiKernelIdeal.nD Cert.AiKernelIdeal.τ Cert.AiKernelIdeal.sig) → Buf (Elt Bits) ℓ) (g : Dev Cert.AiKernelIdeal.nD → PrngReg), True →
    θ_run (Cert.AiKernelIdeal.defs (F := Bits)) (onTc (τ := Cert.AiKernelIdeal.τ) (Cert.AiKernelIdeal.main (F := Bits))) ⟨m, fun _ => 0, g⟩ (fun r => (∀ c : Dev Cert.AiKernelIdeal.nD,
      r.2.mem ((c.tc : Thread Cert.AiKernelIdeal.nD Cert.AiKernelIdeal.τ).loc Cert.AiKernelIdeal.main_arg0) = m ((c.tc : Thread Cert.AiKernelIdeal.nD Cert.AiKernelIdeal.τ).loc Cert.AiKernelIdeal.main_arg0)
      ∧ r.2.mem ((c.tc : Thread Cert.AiKernelIdeal.nD Cert.AiKernelIdeal.τ).loc Cert.AiKernelIdeal.main_arg1) = m ((c.tc : Thread Cert.AiKernelIdeal.nD Cert.AiKernelIdeal.τ).loc Cert.AiKernelIdeal.main_arg1)
      ∧ r.2.mem ((c.tc : Thread Cert.AiKernelIdeal.nD Cert.AiKernelIdeal.τ).loc Cert.AiKernelIdeal.main_arg2) = m ((c.tc : Thread Cert.AiKernelIdeal.nD Cert.AiKernelIdeal.τ).loc Cert.AiKernelIdeal.main_arg2)
      ∧ r.2.mem ((c.tc : Thread Cert.AiKernelIdeal.nD Cert.AiKernelIdeal.τ).loc Cert.AiKernelIdeal.main_arg3) = m ((c.tc : Thread Cert.AiKernelIdeal.nD Cert.AiKernelIdeal.τ).loc Cert.AiKernelIdeal.main_arg3))
      ∧ r.2.sem = fun _ => 0)

/-- The two programs have the same text. -/
theorem same_text : bitsFrame = Cert.quiescent_AiKernel := by sl_kernel_rfl

theorem frame_kernel : Cert.quiescent_AiKernel :=
  same_text.mp fun m ρ _ => Cert.AiKernelIdeal.Gen.frame (F := Bits) m ρ
theorem frame_kernelIdeal : Cert.quiescent_AiKernelIdeal := fun m ρ _ => Cert.AiKernelIdeal.Gen.frame m ρ

/-- The reference keeps its arguments; it declares no semaphore. -/
theorem frame_reference : Cert.quiescent_AiReferenceIdeal := fun m ρ _ =>
  (θ_run Cert.AiReferenceIdeal.defs _ _).mono (fun r e => ⟨fun c => (e c).2.2.2.2, sem_eq_zero_of_no_sems (by decide) r.2⟩) (Cert.AiReferenceIdeal.Value.run m ρ)

variable (m : (ℓ : Loc Cert.AiKernelIdeal.nD Cert.AiKernelIdeal.τ Cert.AiKernelIdeal.sig) → Buf (Elt Ideal) ℓ) (c : Dev Cert.AiKernelIdeal.nD)

theorem arg_0 : (m ((c.tc : Thread Cert.AiKernelIdeal.nD Cert.AiKernelIdeal.τ).loc Cert.AiKernelIdeal.main_arg0)) = arr (aW m c) := mat_get2 _
theorem arg_1 : (m ((c.tc : Thread Cert.AiKernelIdeal.nD Cert.AiKernelIdeal.τ).loc Cert.AiKernelIdeal.main_arg1)) = arr (aG m c) := mat_get2 _
theorem arg_2 : (m ((c.tc : Thread Cert.AiKernelIdeal.nD Cert.AiKernelIdeal.τ).loc Cert.AiKernelIdeal.main_arg2)) = arr (aM m c) := mat_get2 _
theorem arg_3 : (m ((c.tc : Thread Cert.AiKernelIdeal.nD Cert.AiKernelIdeal.τ).loc Cert.AiKernelIdeal.main_arg3)) = arr (aV m c) := mat_get2 _
theorem same_v23 : Cert.AiReferenceIdeal.Read.val_main_v23 (F := Ideal) (m ((c.tc : Thread Cert.AiKernelIdeal.nD Cert.AiKernelIdeal.τ).loc Cert.AiKernelIdeal.main_arg0)) (m ((c.tc : Thread Cert.AiKernelIdeal.nD Cert.AiKernelIdeal.τ).loc Cert.AiKernelIdeal.main_arg1)) (m ((c.tc : Thread Cert.AiKernelIdeal.nD Cert.AiKernelIdeal.τ).loc Cert.AiKernelIdeal.main_arg2)) (m ((c.tc : Thread Cert.AiKernelIdeal.nD Cert.AiKernelIdeal.τ).loc Cert.AiKernelIdeal.main_arg3))
    = (Cert.AiKernelIdeal.Gen.dats m 0 c).arrAt 4 Cert.AiKernelIdeal.cfg0.N := by
  rw [arg_0 m c, arg_1 m c, arg_2 m c, arg_3 m c, r_v23]
  exact (arr_4 m c).symm
theorem same_v4 : Cert.AiReferenceIdeal.Read.val_main_v4 (F := Ideal) (m ((c.tc : Thread Cert.AiKernelIdeal.nD Cert.AiKernelIdeal.τ).loc Cert.AiKernelIdeal.main_arg1)) (m ((c.tc : Thread Cert.AiKernelIdeal.nD Cert.AiKernelIdeal.τ).loc Cert.AiKernelIdeal.main_arg2))
    = (Cert.AiKernelIdeal.Gen.dats m 0 c).arrAt 5 Cert.AiKernelIdeal.cfg0.N := by
  rw [arg_1 m c, arg_2 m c, r_v4]
  exact (arr_5 m c).symm
theorem same_v10 : Cert.AiReferenceIdeal.Read.val_main_v10 (F := Ideal) (m ((c.tc : Thread Cert.AiKernelIdeal.nD Cert.AiKernelIdeal.τ).loc Cert.AiKernelIdeal.main_arg1)) (m ((c.tc : Thread Cert.AiKernelIdeal.nD Cert.AiKernelIdeal.τ).loc Cert.AiKernelIdeal.main_arg3))
    = (Cert.AiKernelIdeal.Gen.dats m 0 c).arrAt 6 Cert.AiKernelIdeal.cfg0.N := by
  rw [arg_1 m c, arg_3 m c, r_v10]
  exact (arr_6 m c).symm
theorem same_arg1 : (m ((c.tc : Thread Cert.AiKernelIdeal.nD Cert.AiKernelIdeal.τ).loc Cert.AiKernelIdeal.main_arg1)) = (Cert.AiKernelIdeal.Gen.dats m 0 c).arrAt 7 Cert.AiKernelIdeal.cfg0.N := by
  rw [arg_1 m c]
  exact (arr_7 m c).symm

/-- Run on the same arguments, the two programs end with the same results. -/
theorem same_results : Cert.algebraic_AiKernelIdeal_AiReferenceIdeal := fun m g m' g' _ h =>
  ⟨fun c => (Cert.AiKernelIdeal.Gen.dats m 0 c).arrAt 4 Cert.AiKernelIdeal.cfg0.N, fun c => (Cert.AiKernelIdeal.Gen.dats m 0 c).arrAt 5 Cert.AiKernelIdeal.cfg0.N, fun c => (Cert.AiKernelIdeal.Gen.dats m 0 c).arrAt 6 Cert.AiKernelIdeal.cfg0.N, fun c => (Cert.AiKernelIdeal.Gen.dats m 0 c).arrAt 7 Cert.AiKernelIdeal.cfg0.N,
    Cert.AiKernelIdeal.Value.run_blocks m g,
    (θ_run Cert.AiReferenceIdeal.defs _ _).mono (fun _ e c => by
      obtain ⟨e0, e1, e2, e3, e4⟩ := e c
      obtain ⟨h0, h1, h2, h3⟩ := h c
      rw [h0, h1, h2, h3] at e0
      rw [h1, h2] at e1
      rw [h1, h3] at e2
      rw [h1] at e3
      exact ⟨e0.trans (same_v23 m c), e1.trans (same_v4 m c), e2.trans (same_v10 m c), e3.trans (same_arg1 m c), e4⟩)
      (Cert.AiReferenceIdeal.Value.run m' g')⟩

end Cert.Ai

end
-- ==== Proof.AdamO.lean ====
/- The optimiser's call on the output projection, and its reference: how they run, and that they end with the same results. -/
module

public import proofs.«01_k».proof.Defs
public import proofs.«01_k».proof.Proof.AdamSpec
public import proofs.«01_k».proof.Proof.Gen.AoKernel
public import proofs.«01_k».proof.Proof.Gen.AoKernelIdeal.Value
public import proofs.«01_k».proof.Proof.Gen.AoReferenceIdeal.Run
public import proofs.«01_k».proof.Proof.Gen.AoReferenceIdeal.Read
public import Idealize.ShloMosaic.Lib.Pointwise
public import Idealize.ShloMosaic.Lib.StableHlo.ReadAt
public import Idealize.ShloMosaic.Lib.Tactic
public import Idealize.ShloMosaic.Lib.Quiescent

@[expose] public section

set_option maxRecDepth 16384

noncomputable section

namespace Cert.Ao

open Idealize.ShloMosaic Idealize.ShloMosaic.TcCoe Idealize.SL.Sem Idealize.ShloMosaic.Tactic Idealize.ShloMosaic.Pipeline
open Cert.Ret (get2)
open Cert.Ffn (mat mat_get2)
open Cert.Adam

section Call

open Cert.AoKernelIdeal Cert.AoKernelIdeal.Gen

/-! ## What a point leaves -/

section Pieces

variable {F : FTy → Type} [FloatOps F]

theorem out_4 (x0 x1 x2 x3 : Vec F S128x4096 .f32) : out0_4 x0 x1 x2 x3 = k0_pay3 x1 x0 x2 x3 := by
  unfold out0_4
  rw [View.canon_unit_zero origin]
  simp only [View.ld_unit_zero (S := S128x4096) origin]
theorem out_5 (x0 x1 x2 x3 : Vec F S128x4096 .f32) : out0_5 x0 x1 x2 x3 = k0_pay1 x1 x2 := by
  unfold out0_5
  rw [View.canon_unit_zero origin]
  simp only [View.ld_unit_zero (S := S128x4096) origin]
theorem out_6 (x0 x1 x2 x3 : Vec F S128x4096 .f32) : out0_6 x0 x1 x2 x3 = k0_pay2 x1 x3 := by
  unfold out0_6
  rw [View.canon_unit_zero origin]
  simp only [View.ld_unit_zero (S := S128x4096) origin]
theorem out_7 (x0 x1 x2 x3 : Vec F S128x4096 .f32) : out0_7 x0 x1 x2 x3 = x1 := by
  unfold out0_7
  rw [View.canon_unit_zero origin]
  simp only [View.ld_unit_zero (S := S128x4096) origin]

end Pieces

theorem pay1 (g m : ℕ → ℕ → EReal) : k0_pay1 (F := Ideal) (mat g) (mat m) = (mat fun i j => newM (g i j) (m i j) : Vec Ideal S128x4096 .f32) := by
  funext i
  obtain ⟨r, j, rfl⟩ := split2 i
  unfold k0_pay1
  pointwise
  rfl
theorem pay2 (g v : ℕ → ℕ → EReal) : k0_pay2 (F := Ideal) (mat g) (mat v) = (mat fun i j => newV (g i j) (v i j) : Vec Ideal S128x4096 .f32) := by
  funext i
  obtain ⟨r, j, rfl⟩ := split2 i
  unfold k0_pay2
  pointwise
  rfl
theorem pay3 (g w m v : ℕ → ℕ → EReal) : k0_pay3 (F := Ideal) (mat g) (mat w) (mat m) (mat v) = (mat fun i j => step (w i j) (g i j) (m i j) (v i j) : Vec Ideal S128x4096 .f32) := by
  funext i
  obtain ⟨r, j, rfl⟩ := split2 i
  unfold k0_pay3 k0_pay1 k0_pay2
  pointwise
  rfl

/-! ## The blocks -/

variable (m : (ℓ : Loc nD τ sig) → Buf (Elt Ideal) ℓ) (c : Dev nD)

/-- The weights. -/
def aW : ℕ → ℕ → EReal := get2 (m (c, Proc.devRef .tc main_arg0) : Vec Ideal S1024x4096 .f32)
theorem entry_0 : (V m c main_arg0 : Vec Ideal S1024x4096 .f32) = mat (aW m c) :=
  (V_main_arg0 m c).trans (mat_get2 _)
theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem blk_0 (t : Fin cfg0.N) : (iblk m c 0 t : Vec Ideal S128x4096 .f32) = mat fun a b => aW m c (t.val * 128 + a) b := by
  have e := idx_0 t
  funext y
  refine (congrFun (entry_0 m c) _).trans ?_
  show aW m c (win0_0.index t (0 : Fin 2) * 128 + 1 * (y 0).val) (win0_0.index t (1 : Fin 2) * 4096 + 1 * (y 1).val) = aW m c _ _
  rw [e.1, e.2]
  congr 1 <;> omega
/-- The gradients. -/
def aG : ℕ → ℕ → EReal := get2 (m (c, Proc.devRef .tc main_arg1) : Vec Ideal S1024x4096 .f32)
theorem entry_1 : (V m c main_arg1 : Vec Ideal S1024x4096 .f32) = mat (aG m c) :=
  (V_main_arg1 m c).trans (mat_get2 _)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem blk_1 (t : Fin cfg0.N) : (iblk m c 1 t : Vec Ideal S128x4096 .f32) = mat fun a b => aG m c (t.val * 128 + a) b := by
  have e := idx_1 t
  funext y
  refine (congrFun (entry_1 m c) _).trans ?_
  show aG m c (win0_1.index t (0 : Fin 2) * 128 + 1 * (y 0).val) (win0_1.index t (1 : Fin 2) * 4096 + 1 * (y 1).val) = aG m c _ _
  rw [e.1, e.2]
  congr 1 <;> omega
/-- The first moments. -/
def aM : ℕ → ℕ → EReal := get2 (m (c, Proc.devRef .tc main_arg2) : Vec Ideal S1024x4096 .f32)
theorem entry_2 : (V m c main_arg2 : Vec Ideal S1024x4096 .f32) = mat (aM m c) :=
  (V_main_arg2 m c).trans (mat_get2 _)
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem blk_2 (t : Fin cfg0.N) : (iblk m c 2 t : Vec Ideal S128x4096 .f32) = mat fun a b => aM m c (t.val * 128 + a) b := by
  have e := idx_2 t
  funext y
  refine (congrFun (entry_2 m c) _).trans ?_
  show aM m c (win0_2.index t (0 : Fin 2) * 128 + 1 * (y 0).val) (win0_2.index t (1 : Fin 2) * 4096 + 1 * (y 1).val) = aM m c _ _
  rw [e.1, e.2]
  congr 1 <;> omega
/-- The second moments. -/
def aV : ℕ → ℕ → EReal := get2 (m (c, Proc.devRef .tc main_arg3) : Vec Ideal S1024x4096 .f32)
theorem entry_3 : (V m c main_arg3 : Vec Ideal S1024x4096 .f32) = mat (aV m c) :=
  (V_main_arg3 m c).trans (mat_get2 _)
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem blk_3 (t : Fin cfg0.N) : (iblk m c 3 t : Vec Ideal S128x4096 .f32) = mat fun a b => aV m c (t.val * 128 + a) b := by
  have e := idx_3 t
  funext y
  refine (congrFun (entry_3 m c) _).trans ?_
  show aV m c (win0_3.index t (0 : Fin 2) * 128 + 1 * (y 0).val) (win0_3.index t (1 : Fin 2) * 4096 + 1 * (y 1).val) = aV m c _ _
  rw [e.1, e.2]
  congr 1 <;> omega

/-! ## The arrays -/

/-- The weights' changes. -/
def dW (i j : ℕ) : EReal := step (aW m c i j) (aG m c i j) (aM m c i j) (aV m c i j)
/-- The first moments after the step. -/
def dM (i j : ℕ) : EReal := newM (aG m c i j) (aM m c i j)
/-- The second moments after the step. -/
def dV (i j : ℕ) : EReal := newV (aG m c i j) (aV m c i j)

theorem outs_4 (t : Fin cfg0.N) : out0_4 (iblk m c 0 t) (iblk m c 1 t) (iblk m c 2 t) (iblk m c 3 t) = (mat fun a b => dW m c (t.val * 128 + a) b : Vec Ideal S128x4096 .f32) := by
  rw [out_4, blk_0 m c t, blk_1 m c t, blk_2 m c t, blk_3 m c t, pay3]
  rfl
theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem mem_4 (t : Fin cfg0.N) (i : S1024x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v0_0).slice (win0_4.rect t)).set ↔ _
  rw [View.set_slice_whole, Rect.mem_set_unit]
  exact Iff.rfl
theorem covers_4 (i : S1024x4096.Idx) : ∃ t : Fin cfg0.N, (cfg0.win 4).flush t = true ∧ i ∈ ((cfg0.win 4).blk t).view.set := by
  have hN : cfg0.N = 8 := N_0
  have h0 : (i 0).val < 1024 := (i 0).isLt; have h1 : (i 1).val < 4096 := (i 1).isLt
  have hlt : (i 0).val / 128 < cfg0.N := by omega
  refine ⟨⟨(i 0).val / 128, hlt⟩, flush0_4 _, ?_⟩
  rw [mem_4]
  have h := idx_4 ⟨(i 0).val / 128, hlt⟩
  dsimp only at h
  intro a
  match a with
  | ⟨0, _⟩ => show win0_4.index _ (0 : Fin 2) * 128 ≤ (i 0).val ∧ (i 0).val < win0_4.index _ (0 : Fin 2) * 128 + 128; rw [h.1]; omega
  | ⟨1, _⟩ => show win0_4.index _ (1 : Fin 2) * 4096 ≤ (i 1).val ∧ (i 1).val < win0_4.index _ (1 : Fin 2) * 4096 + 4096; rw [h.2]; omega
theorem arr_4 : (dats m 0 c).arrAt 4 cfg0.N = (mat (dW m c) : Vec Ideal S1024x4096 .f32) :=
  (dats m 0 c).arrAt_eq_of_cover 4 _ (fun t _ => by
    rw [Cert.AoKernelIdeal.Value.flushed4, outs_4 m c t]
    have h := idx_4 t
    funext y
    show dW m c (t.val * 128 + (y 0).val) (y 1).val = dW m c (win0_4.index t (0 : Fin 2) * 128 + 1 * (y 0).val) (win0_4.index t (1 : Fin 2) * 4096 + 1 * (y 1).val)
    rw [h.1, h.2, one_mul, one_mul, Nat.zero_mul, Nat.zero_add])
    covers_4
theorem outs_5 (t : Fin cfg0.N) : out0_5 (iblk m c 0 t) (iblk m c 1 t) (iblk m c 2 t) (iblk m c 3 t) = (mat fun a b => dM m c (t.val * 128 + a) b : Vec Ideal S128x4096 .f32) := by
  rw [out_5, blk_1 m c t, blk_2 m c t, pay1]
  rfl
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem mem_5 (t : Fin cfg0.N) (i : S1024x4096.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_v0_1).slice (win0_5.rect t)).set ↔ _
  rw [View.set_slice_whole, Rect.mem_set_unit]
  exact Iff.rfl
theorem covers_5 (i : S1024x4096.Idx) : ∃ t : Fin cfg0.N, (cfg0.win 5).flush t = true ∧ i ∈ ((cfg0.win 5).blk t).view.set := by
  have hN : cfg0.N = 8 := N_0
  have h0 : (i 0).val < 1024 := (i 0).isLt; have h1 : (i 1).val < 4096 := (i 1).isLt
  have hlt : (i 0).val / 128 < cfg0.N := by omega
  refine ⟨⟨(i 0).val / 128, hlt⟩, flush0_5 _, ?_⟩
  rw [mem_5]
  have h := idx_5 ⟨(i 0).val / 128, hlt⟩
  dsimp only at h
  intro a
  match a with
  | ⟨0, _⟩ => show win0_5.index _ (0 : Fin 2) * 128 ≤ (i 0).val ∧ (i 0).val < win0_5.index _ (0 : Fin 2) * 128 + 128; rw [h.1]; omega
  | ⟨1, _⟩ => show win0_5.index _ (1 : Fin 2) * 4096 ≤ (i 1).val ∧ (i 1).val < win0_5.index _ (1 : Fin 2) * 4096 + 4096; rw [h.2]; omega
theorem arr_5 : (dats m 0 c).arrAt 5 cfg0.N = (mat (dM m c) : Vec Ideal S1024x4096 .f32) :=
  (dats m 0 c).arrAt_eq_of_cover 5 _ (fun t _ => by
    rw [Cert.AoKernelIdeal.Value.flushed5, outs_5 m c t]
    have h := idx_5 t
    funext y
    show dM m c (t.val * 128 + (y 0).val) (y 1).val = dM m c (win0_5.index t (0 : Fin 2) * 128 + 1 * (y 0).val) (win0_5.index t (1 : Fin 2) * 4096 + 1 * (y 1).val)
    rw [h.1, h.2, one_mul, one_mul, Nat.zero_mul, Nat.zero_add])
    covers_5
theorem outs_6 (t : Fin cfg0.N) : out0_6 (iblk m c 0 t) (iblk m c 1 t) (iblk m c 2 t) (iblk m c 3 t) = (mat fun a b => dV m c (t.val * 128 + a) b : Vec Ideal S128x4096 .f32) := by
  rw [out_6, blk_1 m c t, blk_3 m c t, pay2]
  rfl
theorem idx_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem mem_6 (t : Fin cfg0.N) (i : S1024x4096.Idx) :
    i ∈ ((cfg0.win 6).blk t).view.set ↔ ∀ a : Fin 2, win0_6.index t a * S128x4096.size a ≤ (i a).val ∧ (i a).val < win0_6.index t a * S128x4096.size a + S128x4096.size a := by
  show i ∈ ((View.whole main_v0_2).slice (win0_6.rect t)).set ↔ _
  rw [View.set_slice_whole, Rect.mem_set_unit]
  exact Iff.rfl
theorem covers_6 (i : S1024x4096.Idx) : ∃ t : Fin cfg0.N, (cfg0.win 6).flush t = true ∧ i ∈ ((cfg0.win 6).blk t).view.set := by
  have hN : cfg0.N = 8 := N_0
  have h0 : (i 0).val < 1024 := (i 0).isLt; have h1 : (i 1).val < 4096 := (i 1).isLt
  have hlt : (i 0).val / 128 < cfg0.N := by omega
  refine ⟨⟨(i 0).val / 128, hlt⟩, flush0_6 _, ?_⟩
  rw [mem_6]
  have h := idx_6 ⟨(i 0).val / 128, hlt⟩
  dsimp only at h
  intro a
  match a with
  | ⟨0, _⟩ => show win0_6.index _ (0 : Fin 2) * 128 ≤ (i 0).val ∧ (i 0).val < win0_6.index _ (0 : Fin 2) * 128 + 128; rw [h.1]; omega
  | ⟨1, _⟩ => show win0_6.index _ (1 : Fin 2) * 4096 ≤ (i 1).val ∧ (i 1).val < win0_6.index _ (1 : Fin 2) * 4096 + 4096; rw [h.2]; omega
theorem arr_6 : (dats m 0 c).arrAt 6 cfg0.N = (mat (dV m c) : Vec Ideal S1024x4096 .f32) :=
  (dats m 0 c).arrAt_eq_of_cover 6 _ (fun t _ => by
    rw [Cert.AoKernelIdeal.Value.flushed6, outs_6 m c t]
    have h := idx_6 t
    funext y
    show dV m c (t.val * 128 + (y 0).val) (y 1).val = dV m c (win0_6.index t (0 : Fin 2) * 128 + 1 * (y 0).val) (win0_6.index t (1 : Fin 2) * 4096 + 1 * (y 1).val)
    rw [h.1, h.2, one_mul, one_mul, Nat.zero_mul, Nat.zero_add])
    covers_6
theorem outs_7 (t : Fin cfg0.N) : out0_7 (iblk m c 0 t) (iblk m c 1 t) (iblk m c 2 t) (iblk m c 3 t) = (mat fun a b => aG m c (t.val * 128 + a) b : Vec Ideal S128x4096 .f32) := by
  rw [out_7, blk_1 m c t]
theorem idx_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem mem_7 (t : Fin cfg0.N) (i : S1024x4096.Idx) :
    i ∈ ((cfg0.win 7).blk t).view.set ↔ ∀ a : Fin 2, win0_7.index t a * S128x4096.size a ≤ (i a).val ∧ (i a).val < win0_7.index t a * S128x4096.size a + S128x4096.size a := by
  show i ∈ ((View.whole main_v0_3).slice (win0_7.rect t)).set ↔ _
  rw [View.set_slice_whole, Rect.mem_set_unit]
  exact Iff.rfl
theorem covers_7 (i : S1024x4096.Idx) : ∃ t : Fin cfg0.N, (cfg0.win 7).flush t = true ∧ i ∈ ((cfg0.win 7).blk t).view.set := by
  have hN : cfg0.N = 8 := N_0
  have h0 : (i 0).val < 1024 := (i 0).isLt; have h1 : (i 1).val < 4096 := (i 1).isLt
  have hlt : (i 0).val / 128 < cfg0.N := by omega
  refine ⟨⟨(i 0).val / 128, hlt⟩, flush0_7 _, ?_⟩
  rw [mem_7]
  have h := idx_7 ⟨(i 0).val / 128, hlt⟩
  dsimp only at h
  intro a
  match a with
  | ⟨0, _⟩ => show win0_7.index _ (0 : Fin 2) * 128 ≤ (i 0).val ∧ (i 0).val < win0_7.index _ (0 : Fin 2) * 128 + 128; rw [h.1]; omega
  | ⟨1, _⟩ => show win0_7.index _ (1 : Fin 2) * 4096 ≤ (i 1).val ∧ (i 1).val < win0_7.index _ (1 : Fin 2) * 4096 + 4096; rw [h.2]; omega
theorem arr_7 : (dats m 0 c).arrAt 7 cfg0.N = (mat (aG m c) : Vec Ideal S1024x4096 .f32) :=
  (dats m 0 c).arrAt_eq_of_cover 7 _ (fun t _ => by
    rw [Cert.AoKernelIdeal.Value.flushed7, outs_7 m c t]
    have h := idx_7 t
    funext y
    show aG m c (t.val * 128 + (y 0).val) (y 1).val = aG m c (win0_7.index t (0 : Fin 2) * 128 + 1 * (y 0).val) (win0_7.index t (1 : Fin 2) * 4096 + 1 * (y 1).val)
    rw [h.1, h.2, one_mul, one_mul, Nat.zero_mul, Nat.zero_add])
    covers_7

end Call

/-! ## The reference -/

section Reference

open Cert.AoReferenceIdeal Cert.AoReferenceIdeal.Gen Cert.AoReferenceIdeal.Read

/-- A table as an array. -/
abbrev arr (f : ℕ → ℕ → EReal) : (⟨S1024x4096, .f32⟩ : BufTy).Contents (Elt Ideal) := (mat f : Vec Ideal S1024x4096 .f32)

variable (w g m v : ℕ → ℕ → EReal)

theorem r_v4 : val_main_v4 (F := Ideal) (arr g) (arr m) = arr fun i j => newM (g i j) (m i j) := by
  funext i
  rw [val_main_v4_apply, val_main_v3_apply, val_main_v2_apply, val_main_v1_apply, val_main_v0_apply]
  rfl
theorem r_v10 : val_main_v10 (F := Ideal) (arr g) (arr v) = arr fun i j => newV (g i j) (v i j) := by
  funext i
  rw [val_main_v10_apply, val_main_v9_apply, val_main_v8_apply, val_main_v7_apply, val_main_v6_apply, val_main_v5_apply]
  rfl
theorem r_v23 : val_main_v23 (F := Ideal) (arr w) (arr g) (arr m) (arr v) = arr fun i j => step (w i j) (g i j) (m i j) (v i j) := by
  funext i
  rw [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, r_v4, r_v10]
  rfl

end Reference

/-! ## The two runs -/

/-- The idealized program's frame, its text run over the bit-level floats. -/
def bitsFrame : Prop :=
  ∀ (m : (ℓ : Loc Cert.AoKernelIdeal.nD Cert.AoKernelIdeal.τ Cert.AoKernelIdeal.sig) → Buf (Elt Bits) ℓ) (g : Dev Cert.AoKernelIdeal.nD → PrngReg), True →
    θ_run (Cert.AoKernelIdeal.defs (F := Bits)) (onTc (τ := Cert.AoKernelIdeal.τ) (Cert.AoKernelIdeal.main (F := Bits))) ⟨m, fun _ => 0, g⟩ (fun r => (∀ c : Dev Cert.AoKernelIdeal.nD,
      r.2.mem ((c.tc : Thread Cert.AoKernelIdeal.nD Cert.AoKernelIdeal.τ).loc Cert.AoKernelIdeal.main_arg0) = m ((c.tc : Thread Cert.AoKernelIdeal.nD Cert.AoKernelIdeal.τ).loc Cert.AoKernelIdeal.main_arg0)
      ∧ r.2.mem ((c.tc : Thread Cert.AoKernelIdeal.nD Cert.AoKernelIdeal.τ).loc Cert.AoKernelIdeal.main_arg1) = m ((c.tc : Thread Cert.AoKernelIdeal.nD Cert.AoKernelIdeal.τ).loc Cert.AoKernelIdeal.main_arg1)
      ∧ r.2.mem ((c.tc : Thread Cert.AoKernelIdeal.nD Cert.AoKernelIdeal.τ).loc Cert.AoKernelIdeal.main_arg2) = m ((c.tc : Thread Cert.AoKernelIdeal.nD Cert.AoKernelIdeal.τ).loc Cert.AoKernelIdeal.main_arg2)
      ∧ r.2.mem ((c.tc : Thread Cert.AoKernelIdeal.nD Cert.AoKernelIdeal.τ).loc Cert.AoKernelIdeal.main_arg3) = m ((c.tc : Thread Cert.AoKernelIdeal.nD Cert.AoKernelIdeal.τ).loc Cert.AoKernelIdeal.main_arg3))
      ∧ r.2.sem = fun _ => 0)

/-- The two programs have the same text. -/
theorem same_text : bitsFrame = Cert.quiescent_AoKernel := by sl_kernel_rfl

theorem frame_kernel : Cert.quiescent_AoKernel :=
  same_text.mp fun m ρ _ => Cert.AoKernelIdeal.Gen.frame (F := Bits) m ρ
theorem frame_kernelIdeal : Cert.quiescent_AoKernelIdeal := fun m ρ _ => Cert.AoKernelIdeal.Gen.frame m ρ

/-- The reference keeps its arguments; it declares no semaphore. -/
theorem frame_reference : Cert.quiescent_AoReferenceIdeal := fun m ρ _ =>
  (θ_run Cert.AoReferenceIdeal.defs _ _).mono (fun r e => ⟨fun c => (e c).2.2.2.2, sem_eq_zero_of_no_sems (by decide) r.2⟩) (Cert.AoReferenceIdeal.Value.run m ρ)

variable (m : (ℓ : Loc Cert.AoKernelIdeal.nD Cert.AoKernelIdeal.τ Cert.AoKernelIdeal.sig) → Buf (Elt Ideal) ℓ) (c : Dev Cert.AoKernelIdeal.nD)

theorem arg_0 : (m ((c.tc : Thread Cert.AoKernelIdeal.nD Cert.AoKernelIdeal.τ).loc Cert.AoKernelIdeal.main_arg0)) = arr (aW m c) := mat_get2 _
theorem arg_1 : (m ((c.tc : Thread Cert.AoKernelIdeal.nD Cert.AoKernelIdeal.τ).loc Cert.AoKernelIdeal.main_arg1)) = arr (aG m c) := mat_get2 _
theorem arg_2 : (m ((c.tc : Thread Cert.AoKernelIdeal.nD Cert.AoKernelIdeal.τ).loc Cert.AoKernelIdeal.main_arg2)) = arr (aM m c) := mat_get2 _
theorem arg_3 : (m ((c.tc : Thread Cert.AoKernelIdeal.nD Cert.AoKernelIdeal.τ).loc Cert.AoKernelIdeal.main_arg3)) = arr (aV m c) := mat_get2 _
theorem same_v23 : Cert.AoReferenceIdeal.Read.val_main_v23 (F := Ideal) (m ((c.tc : Thread Cert.AoKernelIdeal.nD Cert.AoKernelIdeal.τ).loc Cert.AoKernelIdeal.main_arg0)) (m ((c.tc : Thread Cert.AoKernelIdeal.nD Cert.AoKernelIdeal.τ).loc Cert.AoKernelIdeal.main_arg1)) (m ((c.tc : Thread Cert.AoKernelIdeal.nD Cert.AoKernelIdeal.τ).loc Cert.AoKernelIdeal.main_arg2)) (m ((c.tc : Thread Cert.AoKernelIdeal.nD Cert.AoKernelIdeal.τ).loc Cert.AoKernelIdeal.main_arg3))
    = (Cert.AoKernelIdeal.Gen.dats m 0 c).arrAt 4 Cert.AoKernelIdeal.cfg0.N := by
  rw [arg_0 m c, arg_1 m c, arg_2 m c, arg_3 m c, r_v23]
  exact (arr_4 m c).symm
theorem same_v4 : Cert.AoReferenceIdeal.Read.val_main_v4 (F := Ideal) (m ((c.tc : Thread Cert.AoKernelIdeal.nD Cert.AoKernelIdeal.τ).loc Cert.AoKernelIdeal.main_arg1)) (m ((c.tc : Thread Cert.AoKernelIdeal.nD Cert.AoKernelIdeal.τ).loc Cert.AoKernelIdeal.main_arg2))
    = (Cert.AoKernelIdeal.Gen.dats m 0 c).arrAt 5 Cert.AoKernelIdeal.cfg0.N := by
  rw [arg_1 m c, arg_2 m c, r_v4]
  exact (arr_5 m c).symm
theorem same_v10 : Cert.AoReferenceIdeal.Read.val_main_v10 (F := Ideal) (m ((c.tc : Thread Cert.AoKernelIdeal.nD Cert.AoKernelIdeal.τ).loc Cert.AoKernelIdeal.main_arg1)) (m ((c.tc : Thread Cert.AoKernelIdeal.nD Cert.AoKernelIdeal.τ).loc Cert.AoKernelIdeal.main_arg3))
    = (Cert.AoKernelIdeal.Gen.dats m 0 c).arrAt 6 Cert.AoKernelIdeal.cfg0.N := by
  rw [arg_1 m c, arg_3 m c, r_v10]
  exact (arr_6 m c).symm
theorem same_arg1 : (m ((c.tc : Thread Cert.AoKernelIdeal.nD Cert.AoKernelIdeal.τ).loc Cert.AoKernelIdeal.main_arg1)) = (Cert.AoKernelIdeal.Gen.dats m 0 c).arrAt 7 Cert.AoKernelIdeal.cfg0.N := by
  rw [arg_1 m c]
  exact (arr_7 m c).symm

/-- Run on the same arguments, the two programs end with the same results. -/
theorem same_results : Cert.algebraic_AoKernelIdeal_AoReferenceIdeal := fun m g m' g' _ h =>
  ⟨fun c => (Cert.AoKernelIdeal.Gen.dats m 0 c).arrAt 4 Cert.AoKernelIdeal.cfg0.N, fun c => (Cert.AoKernelIdeal.Gen.dats m 0 c).arrAt 5 Cert.AoKernelIdeal.cfg0.N, fun c => (Cert.AoKernelIdeal.Gen.dats m 0 c).arrAt 6 Cert.AoKernelIdeal.cfg0.N, fun c => (Cert.AoKernelIdeal.Gen.dats m 0 c).arrAt 7 Cert.AoKernelIdeal.cfg0.N,
    Cert.AoKernelIdeal.Value.run_blocks m g,
    (θ_run Cert.AoReferenceIdeal.defs _ _).mono (fun _ e c => by
      obtain ⟨e0, e1, e2, e3, e4⟩ := e c
      obtain ⟨h0, h1, h2, h3⟩ := h c
      rw [h0, h1, h2, h3] at e0
      rw [h1, h2] at e1
      rw [h1, h3] at e2
      rw [h1] at e3
      exact ⟨e0.trans (same_v23 m c), e1.trans (same_v4 m c), e2.trans (same_v10 m c), e3.trans (same_arg1 m c), e4⟩)
      (Cert.AoReferenceIdeal.Value.run m' g')⟩

end Cert.Ao

end
-- ==== Proof.AdamU.lean ====
/- The optimiser's call on the first feed-forward projection, and its reference: how they run, and that they end with the same results. -/
module

public import proofs.«01_k».proof.Defs
public import proofs.«01_k».proof.Proof.AdamSpec
public import proofs.«01_k».proof.Proof.Gen.AuKernel
public import proofs.«01_k».proof.Proof.Gen.AuKernelIdeal.Value
public import proofs.«01_k».proof.Proof.Gen.AuReferenceIdeal.Run
public import proofs.«01_k».proof.Proof.Gen.AuReferenceIdeal.Read
public import Idealize.ShloMosaic.Lib.Pointwise
public import Idealize.ShloMosaic.Lib.StableHlo.ReadAt
public import Idealize.ShloMosaic.Lib.Tactic
public import Idealize.ShloMosaic.Lib.Quiescent

@[expose] public section

set_option maxRecDepth 16384

noncomputable section

namespace Cert.Au

open Idealize.ShloMosaic Idealize.ShloMosaic.TcCoe Idealize.SL.Sem Idealize.ShloMosaic.Tactic Idealize.ShloMosaic.Pipeline
open Cert.Ret (get2)
open Cert.Ffn (mat mat_get2)
open Cert.Adam

section Call

open Cert.AuKernelIdeal Cert.AuKernelIdeal.Gen

/-! ## What a point leaves -/

section Pieces

variable {F : FTy → Type} [FloatOps F]

theorem out_4 (x0 x1 x2 x3 : Vec F S64x5504 .f32) : out0_4 x0 x1 x2 x3 = k0_pay3 x1 x0 x2 x3 := by
  unfold out0_4
  rw [View.canon_unit_zero origin]
  simp only [View.ld_unit_zero (S := S64x5504) origin]
theorem out_5 (x0 x1 x2 x3 : Vec F S64x5504 .f32) : out0_5 x0 x1 x2 x3 = k0_pay1 x1 x2 := by
  unfold out0_5
  rw [View.canon_unit_zero origin]
  simp only [View.ld_unit_zero (S := S64x5504) origin]
theorem out_6 (x0 x1 x2 x3 : Vec F S64x5504 .f32) : out0_6 x0 x1 x2 x3 = k0_pay2 x1 x3 := by
  unfold out0_6
  rw [View.canon_unit_zero origin]
  simp only [View.ld_unit_zero (S := S64x5504) origin]
theorem out_7 (x0 x1 x2 x3 : Vec F S64x5504 .f32) : out0_7 x0 x1 x2 x3 = x1 := by
  unfold out0_7
  rw [View.canon_unit_zero origin]
  simp only [View.ld_unit_zero (S := S64x5504) origin]

end Pieces

theorem pay1 (g m : ℕ → ℕ → EReal) : k0_pay1 (F := Ideal) (mat g) (mat m) = (mat fun i j => newM (g i j) (m i j) : Vec Ideal S64x5504 .f32) := by
  funext i
  obtain ⟨r, j, rfl⟩ := split2 i
  unfold k0_pay1
  pointwise
  rfl
theorem pay2 (g v : ℕ → ℕ → EReal) : k0_pay2 (F := Ideal) (mat g) (mat v) = (mat fun i j => newV (g i j) (v i j) : Vec Ideal S64x5504 .f32) := by
  funext i
  obtain ⟨r, j, rfl⟩ := split2 i
  unfold k0_pay2
  pointwise
  rfl
theorem pay3 (g w m v : ℕ → ℕ → EReal) : k0_pay3 (F := Ideal) (mat g) (mat w) (mat m) (mat v) = (mat fun i j => step (w i j) (g i j) (m i j) (v i j) : Vec Ideal S64x5504 .f32) := by
  funext i
  obtain ⟨r, j, rfl⟩ := split2 i
  unfold k0_pay3 k0_pay1 k0_pay2
  pointwise
  rfl

/-! ## The blocks -/

variable (m : (ℓ : Loc nD τ sig) → Buf (Elt Ideal) ℓ) (c : Dev nD)

/-- The weights. -/
def aW : ℕ → ℕ → EReal := get2 (m (c, Proc.devRef .tc main_arg0) : Vec Ideal S4096x5504 .f32)
theorem entry_0 : (V m c main_arg0 : Vec Ideal S4096x5504 .f32) = mat (aW m c) :=
  (V_main_arg0 m c).trans (mat_get2 _)
theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem blk_0 (t : Fin cfg0.N) : (iblk m c 0 t : Vec Ideal S64x5504 .f32) = mat fun a b => aW m c (t.val * 64 + a) b := by
  have e := idx_0 t
  funext y
  refine (congrFun (entry_0 m c) _).trans ?_
  show aW m c (win0_0.index t (0 : Fin 2) * 64 + 1 * (y 0).val) (win0_0.index t (1 : Fin 2) * 5504 + 1 * (y 1).val) = aW m c _ _
  rw [e.1, e.2]
  congr 1 <;> omega
/-- The gradients. -/
def aG : ℕ → ℕ → EReal := get2 (m (c, Proc.devRef .tc main_arg1) : Vec Ideal S4096x5504 .f32)
theorem entry_1 : (V m c main_arg1 : Vec Ideal S4096x5504 .f32) = mat (aG m c) :=
  (V_main_arg1 m c).trans (mat_get2 _)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem blk_1 (t : Fin cfg0.N) : (iblk m c 1 t : Vec Ideal S64x5504 .f32) = mat fun a b => aG m c (t.val * 64 + a) b := by
  have e := idx_1 t
  funext y
  refine (congrFun (entry_1 m c) _).trans ?_
  show aG m c (win0_1.index t (0 : Fin 2) * 64 + 1 * (y 0).val) (win0_1.index t (1 : Fin 2) * 5504 + 1 * (y 1).val) = aG m c _ _
  rw [e.1, e.2]
  congr 1 <;> omega
/-- The first moments. -/
def aM : ℕ → ℕ → EReal := get2 (m (c, Proc.devRef .tc main_arg2) : Vec Ideal S4096x5504 .f32)
theorem entry_2 : (V m c main_arg2 : Vec Ideal S4096x5504 .f32) = mat (aM m c) :=
  (V_main_arg2 m c).trans (mat_get2 _)
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem blk_2 (t : Fin cfg0.N) : (iblk m c 2 t : Vec Ideal S64x5504 .f32) = mat fun a b => aM m c (t.val * 64 + a) b := by
  have e := idx_2 t
  funext y
  refine (congrFun (entry_2 m c) _).trans ?_
  show aM m c (win0_2.index t (0 : Fin 2) * 64 + 1 * (y 0).val) (win0_2.index t (1 : Fin 2) * 5504 + 1 * (y 1).val) = aM m c _ _
  rw [e.1, e.2]
  congr 1 <;> omega
/-- The second moments. -/
def aV : ℕ → ℕ → EReal := get2 (m (c, Proc.devRef .tc main_arg3) : Vec Ideal S4096x5504 .f32)
theorem entry_3 : (V m c main_arg3 : Vec Ideal S4096x5504 .f32) = mat (aV m c) :=
  (V_main_arg3 m c).trans (mat_get2 _)
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem blk_3 (t : Fin cfg0.N) : (iblk m c 3 t : Vec Ideal S64x5504 .f32) = mat fun a b => aV m c (t.val * 64 + a) b := by
  have e := idx_3 t
  funext y
  refine (congrFun (entry_3 m c) _).trans ?_
  show aV m c (win0_3.index t (0 : Fin 2) * 64 + 1 * (y 0).val) (win0_3.index t (1 : Fin 2) * 5504 + 1 * (y 1).val) = aV m c _ _
  rw [e.1, e.2]
  congr 1 <;> omega

/-! ## The arrays -/

/-- The weights' changes. -/
def dW (i j : ℕ) : EReal := step (aW m c i j) (aG m c i j) (aM m c i j) (aV m c i j)
/-- The first moments after the step. -/
def dM (i j : ℕ) : EReal := newM (aG m c i j) (aM m c i j)
/-- The second moments after the step. -/
def dV (i j : ℕ) : EReal := newV (aG m c i j) (aV m c i j)

theorem outs_4 (t : Fin cfg0.N) : out0_4 (iblk m c 0 t) (iblk m c 1 t) (iblk m c 2 t) (iblk m c 3 t) = (mat fun a b => dW m c (t.val * 64 + a) b : Vec Ideal S64x5504 .f32) := by
  rw [out_4, blk_0 m c t, blk_1 m c t, blk_2 m c t, blk_3 m c t, pay3]
  rfl
theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem mem_4 (t : Fin cfg0.N) (i : S4096x5504.Idx) :
    i ∈ ((cfg0.win 4).blk t).view.set ↔ ∀ a : Fin 2, win0_4.index t a * S64x5504.size a ≤ (i a).val ∧ (i a).val < win0_4.index t a * S64x5504.size a + S64x5504.size a := by
  show i ∈ ((View.whole main_v0_0).slice (win0_4.rect t)).set ↔ _
  rw [View.set_slice_whole, Rect.mem_set_unit]
  exact Iff.rfl
theorem covers_4 (i : S4096x5504.Idx) : ∃ t : Fin cfg0.N, (cfg0.win 4).flush t = true ∧ i ∈ ((cfg0.win 4).blk t).view.set := by
  have hN : cfg0.N = 64 := N_0
  have h0 : (i 0).val < 4096 := (i 0).isLt; have h1 : (i 1).val < 5504 := (i 1).isLt
  have hlt : (i 0).val / 64 < cfg0.N := by omega
  refine ⟨⟨(i 0).val / 64, hlt⟩, flush0_4 _, ?_⟩
  rw [mem_4]
  have h := idx_4 ⟨(i 0).val / 64, hlt⟩
  dsimp only at h
  intro a
  match a with
  | ⟨0, _⟩ => show win0_4.index _ (0 : Fin 2) * 64 ≤ (i 0).val ∧ (i 0).val < win0_4.index _ (0 : Fin 2) * 64 + 64; rw [h.1]; omega
  | ⟨1, _⟩ => show win0_4.index _ (1 : Fin 2) * 5504 ≤ (i 1).val ∧ (i 1).val < win0_4.index _ (1 : Fin 2) * 5504 + 5504; rw [h.2]; omega
theorem arr_4 : (dats m 0 c).arrAt 4 cfg0.N = (mat (dW m c) : Vec Ideal S4096x5504 .f32) :=
  (dats m 0 c).arrAt_eq_of_cover 4 _ (fun t _ => by
    rw [Cert.AuKernelIdeal.Value.flushed4, outs_4 m c t]
    have h := idx_4 t
    funext y
    show dW m c (t.val * 64 + (y 0).val) (y 1).val = dW m c (win0_4.index t (0 : Fin 2) * 64 + 1 * (y 0).val) (win0_4.index t (1 : Fin 2) * 5504 + 1 * (y 1).val)
    rw [h.1, h.2, one_mul, one_mul, Nat.zero_mul, Nat.zero_add])
    covers_4
theorem outs_5 (t : Fin cfg0.N) : out0_5 (iblk m c 0 t) (iblk m c 1 t) (iblk m c 2 t) (iblk m c 3 t) = (mat fun a b => dM m c (t.val * 64 + a) b : Vec Ideal S64x5504 .f32) := by
  rw [out_5, blk_1 m c t, blk_2 m c t, pay1]
  rfl
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem mem_5 (t : Fin cfg0.N) (i : S4096x5504.Idx) :
    i ∈ ((cfg0.win 5).blk t).view.set ↔ ∀ a : Fin 2, win0_5.index t a * S64x5504.size a ≤ (i a).val ∧ (i a).val < win0_5.index t a * S64x5504.size a + S64x5504.size a := by
  show i ∈ ((View.whole main_v0_1).slice (win0_5.rect t)).set ↔ _
  rw [View.set_slice_whole, Rect.mem_set_unit]
  exact Iff.rfl
theorem covers_5 (i : S4096x5504.Idx) : ∃ t : Fin cfg0.N, (cfg0.win 5).flush t = true ∧ i ∈ ((cfg0.win 5).blk t).view.set := by
  have hN : cfg0.N = 64 := N_0
  have h0 : (i 0).val < 4096 := (i 0).isLt; have h1 : (i 1).val < 5504 := (i 1).isLt
  have hlt : (i 0).val / 64 < cfg0.N := by omega
  refine ⟨⟨(i 0).val / 64, hlt⟩, flush0_5 _, ?_⟩
  rw [mem_5]
  have h := idx_5 ⟨(i 0).val / 64, hlt⟩
  dsimp only at h
  intro a
  match a with
  | ⟨0, _⟩ => show win0_5.index _ (0 : Fin 2) * 64 ≤ (i 0).val ∧ (i 0).val < win0_5.index _ (0 : Fin 2) * 64 + 64; rw [h.1]; omega
  | ⟨1, _⟩ => show win0_5.index _ (1 : Fin 2) * 5504 ≤ (i 1).val ∧ (i 1).val < win0_5.index _ (1 : Fin 2) * 5504 + 5504; rw [h.2]; omega
theorem arr_5 : (dats m 0 c).arrAt 5 cfg0.N = (mat (dM m c) : Vec Ideal S4096x5504 .f32) :=
  (dats m 0 c).arrAt_eq_of_cover 5 _ (fun t _ => by
    rw [Cert.AuKernelIdeal.Value.flushed5, outs_5 m c t]
    have h := idx_5 t
    funext y
    show dM m c (t.val * 64 + (y 0).val) (y 1).val = dM m c (win0_5.index t (0 : Fin 2) * 64 + 1 * (y 0).val) (win0_5.index t (1 : Fin 2) * 5504 + 1 * (y 1).val)
    rw [h.1, h.2, one_mul, one_mul, Nat.zero_mul, Nat.zero_add])
    covers_5
theorem outs_6 (t : Fin cfg0.N) : out0_6 (iblk m c 0 t) (iblk m c 1 t) (iblk m c 2 t) (iblk m c 3 t) = (mat fun a b => dV m c (t.val * 64 + a) b : Vec Ideal S64x5504 .f32) := by
  rw [out_6, blk_1 m c t, blk_3 m c t, pay2]
  rfl
theorem idx_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem mem_6 (t : Fin cfg0.N) (i : S4096x5504.Idx) :
    i ∈ ((cfg0.win 6).blk t).view.set ↔ ∀ a : Fin 2, win0_6.index t a * S64x5504.size a ≤ (i a).val ∧ (i a).val < win0_6.index t a * S64x5504.size a + S64x5504.size a := by
  show i ∈ ((View.whole main_v0_2).slice (win0_6.rect t)).set ↔ _
  rw [View.set_slice_whole, Rect.mem_set_unit]
  exact Iff.rfl
theorem covers_6 (i : S4096x5504.Idx) : ∃ t : Fin cfg0.N, (cfg0.win 6).flush t = true ∧ i ∈ ((cfg0.win 6).blk t).view.set := by
  have hN : cfg0.N = 64 := N_0
  have h0 : (i 0).val < 4096 := (i 0).isLt; have h1 : (i 1).val < 5504 := (i 1).isLt
  have hlt : (i 0).val / 64 < cfg0.N := by omega
  refine ⟨⟨(i 0).val / 64, hlt⟩, flush0_6 _, ?_⟩
  rw [mem_6]
  have h := idx_6 ⟨(i 0).val / 64, hlt⟩
  dsimp only at h
  intro a
  match a with
  | ⟨0, _⟩ => show win0_6.index _ (0 : Fin 2) * 64 ≤ (i 0).val ∧ (i 0).val < win0_6.index _ (0 : Fin 2) * 64 + 64; rw [h.1]; omega
  | ⟨1, _⟩ => show win0_6.index _ (1 : Fin 2) * 5504 ≤ (i 1).val ∧ (i 1).val < win0_6.index _ (1 : Fin 2) * 5504 + 5504; rw [h.2]; omega
theorem arr_6 : (dats m 0 c).arrAt 6 cfg0.N = (mat (dV m c) : Vec Ideal S4096x5504 .f32) :=
  (dats m 0 c).arrAt_eq_of_cover 6 _ (fun t _ => by
    rw [Cert.AuKernelIdeal.Value.flushed6, outs_6 m c t]
    have h := idx_6 t
    funext y
    show dV m c (t.val * 64 + (y 0).val) (y 1).val = dV m c (win0_6.index t (0 : Fin 2) * 64 + 1 * (y 0).val) (win0_6.index t (1 : Fin 2) * 5504 + 1 * (y 1).val)
    rw [h.1, h.2, one_mul, one_mul, Nat.zero_mul, Nat.zero_add])
    covers_6
theorem outs_7 (t : Fin cfg0.N) : out0_7 (iblk m c 0 t) (iblk m c 1 t) (iblk m c 2 t) (iblk m c 3 t) = (mat fun a b => aG m c (t.val * 64 + a) b : Vec Ideal S64x5504 .f32) := by
  rw [out_7, blk_1 m c t]
theorem idx_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem mem_7 (t : Fin cfg0.N) (i : S4096x5504.Idx) :
    i ∈ ((cfg0.win 7).blk t).view.set ↔ ∀ a : Fin 2, win0_7.index t a * S64x5504.size a ≤ (i a).val ∧ (i a).val < win0_7.index t a * S64x5504.size a + S64x5504.size a := by
  show i ∈ ((View.whole main_v0_3).slice (win0_7.rect t)).set ↔ _
  rw [View.set_slice_whole, Rect.mem_set_unit]
  exact Iff.rfl
theorem covers_7 (i : S4096x5504.Idx) : ∃ t : Fin cfg0.N, (cfg0.win 7).flush t = true ∧ i ∈ ((cfg0.win 7).blk t).view.set := by
  have hN : cfg0.N = 64 := N_0
  have h0 : (i 0).val < 4096 := (i 0).isLt; have h1 : (i 1).val < 5504 := (i 1).isLt
  have hlt : (i 0).val / 64 < cfg0.N := by omega
  refine ⟨⟨(i 0).val / 64, hlt⟩, flush0_7 _, ?_⟩
  rw [mem_7]
  have h := idx_7 ⟨(i 0).val / 64, hlt⟩
  dsimp only at h
  intro a
  match a with
  | ⟨0, _⟩ => show win0_7.index _ (0 : Fin 2) * 64 ≤ (i 0).val ∧ (i 0).val < win0_7.index _ (0 : Fin 2) * 64 + 64; rw [h.1]; omega
  | ⟨1, _⟩ => show win0_7.index _ (1 : Fin 2) * 5504 ≤ (i 1).val ∧ (i 1).val < win0_7.index _ (1 : Fin 2) * 5504 + 5504; rw [h.2]; omega
theorem arr_7 : (dats m 0 c).arrAt 7 cfg0.N = (mat (aG m c) : Vec Ideal S4096x5504 .f32) :=
  (dats m 0 c).arrAt_eq_of_cover 7 _ (fun t _ => by
    rw [Cert.AuKernelIdeal.Value.flushed7, outs_7 m c t]
    have h := idx_7 t
    funext y
    show aG m c (t.val * 64 + (y 0).val) (y 1).val = aG m c (win0_7.index t (0 : Fin 2) * 64 + 1 * (y 0).val) (win0_7.index t (1 : Fin 2) * 5504 + 1 * (y 1).val)
    rw [h.1, h.2, one_mul, one_mul, Nat.zero_mul, Nat.zero_add])
    covers_7

end Call

/-! ## The reference -/

section Reference

open Cert.AuReferenceIdeal Cert.AuReferenceIdeal.Gen Cert.AuReferenceIdeal.Read

/-- A table as an array. -/
abbrev arr (f : ℕ → ℕ → EReal) : (⟨S4096x5504, .f32⟩ : BufTy).Contents (Elt Ideal) := (mat f : Vec Ideal S4096x5504 .f32)

variable (w g m v : ℕ → ℕ → EReal)

theorem r_v4 : val_main_v4 (F := Ideal) (arr g) (arr m) = arr fun i j => newM (g i j) (m i j) := by
  funext i
  rw [val_main_v4_apply, val_main_v3_apply, val_main_v2_apply, val_main_v1_apply, val_main_v0_apply]
  rfl
theorem r_v10 : val_main_v10 (F := Ideal) (arr g) (arr v) = arr fun i j => newV (g i j) (v i j) := by
  funext i
  rw [val_main_v10_apply, val_main_v9_apply, val_main_v8_apply, val_main_v7_apply, val_main_v6_apply, val_main_v5_apply]
  rfl
theorem r_v23 : val_main_v23 (F := Ideal) (arr w) (arr g) (arr m) (arr v) = arr fun i j => step (w i j) (g i j) (m i j) (v i j) := by
  funext i
  rw [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, r_v4, r_v10]
  rfl

end Reference

/-! ## The two runs -/

/-- The idealized program's frame, its text run over the bit-level floats. -/
def bitsFrame : Prop :=
  ∀ (m : (ℓ : Loc Cert.AuKernelIdeal.nD Cert.AuKernelIdeal.τ Cert.AuKernelIdeal.sig) → Buf (Elt Bits) ℓ) (g : Dev Cert.AuKernelIdeal.nD → PrngReg), True →
    θ_run (Cert.AuKernelIdeal.defs (F := Bits)) (onTc (τ := Cert.AuKernelIdeal.τ) (Cert.AuKernelIdeal.main (F := Bits))) ⟨m, fun _ => 0, g⟩ (fun r => (∀ c : Dev Cert.AuKernelIdeal.nD,
      r.2.mem ((c.tc : Thread Cert.AuKernelIdeal.nD Cert.AuKernelIdeal.τ).loc Cert.AuKernelIdeal.main_arg0) = m ((c.tc : Thread Cert.AuKernelIdeal.nD Cert.AuKernelIdeal.τ).loc Cert.AuKernelIdeal.main_arg0)
      ∧ r.2.mem ((c.tc : Thread Cert.AuKernelIdeal.nD Cert.AuKernelIdeal.τ).loc Cert.AuKernelIdeal.main_arg1) = m ((c.tc : Thread Cert.AuKernelIdeal.nD Cert.AuKernelIdeal.τ).loc Cert.AuKernelIdeal.main_arg1)
      ∧ r.2.mem ((c.tc : Thread Cert.AuKernelIdeal.nD Cert.AuKernelIdeal.τ).loc Cert.AuKernelIdeal.main_arg2) = m ((c.tc : Thread Cert.AuKernelIdeal.nD Cert.AuKernelIdeal.τ).loc Cert.AuKernelIdeal.main_arg2)
      ∧ r.2.mem ((c.tc : Thread Cert.AuKernelIdeal.nD Cert.AuKernelIdeal.τ).loc Cert.AuKernelIdeal.main_arg3) = m ((c.tc : Thread Cert.AuKernelIdeal.nD Cert.AuKernelIdeal.τ).loc Cert.AuKernelIdeal.main_arg3))
      ∧ r.2.sem = fun _ => 0)

/-- The two programs have the same text. -/
theorem same_text : bitsFrame = Cert.quiescent_AuKernel := by sl_kernel_rfl

theorem frame_kernel : Cert.quiescent_AuKernel :=
  same_text.mp fun m ρ _ => Cert.AuKernelIdeal.Gen.frame (F := Bits) m ρ
theorem frame_kernelIdeal : Cert.quiescent_AuKernelIdeal := fun m ρ _ => Cert.AuKernelIdeal.Gen.frame m ρ

/-- The reference keeps its arguments; it declares no semaphore. -/
theorem frame_reference : Cert.quiescent_AuReferenceIdeal := fun m ρ _ =>
  (θ_run Cert.AuReferenceIdeal.defs _ _).mono (fun r e => ⟨fun c => (e c).2.2.2.2, sem_eq_zero_of_no_sems (by decide) r.2⟩) (Cert.AuReferenceIdeal.Value.run m ρ)

variable (m : (ℓ : Loc Cert.AuKernelIdeal.nD Cert.AuKernelIdeal.τ Cert.AuKernelIdeal.sig) → Buf (Elt Ideal) ℓ) (c : Dev Cert.AuKernelIdeal.nD)

theorem arg_0 : (m ((c.tc : Thread Cert.AuKernelIdeal.nD Cert.AuKernelIdeal.τ).loc Cert.AuKernelIdeal.main_arg0)) = arr (aW m c) := mat_get2 _
theorem arg_1 : (m ((c.tc : Thread Cert.AuKernelIdeal.nD Cert.AuKernelIdeal.τ).loc Cert.AuKernelIdeal.main_arg1)) = arr (aG m c) := mat_get2 _
theorem arg_2 : (m ((c.tc : Thread Cert.AuKernelIdeal.nD Cert.AuKernelIdeal.τ).loc Cert.AuKernelIdeal.main_arg2)) = arr (aM m c) := mat_get2 _
theorem arg_3 : (m ((c.tc : Thread Cert.AuKernelIdeal.nD Cert.AuKernelIdeal.τ).loc Cert.AuKernelIdeal.main_arg3)) = arr (aV m c) := mat_get2 _
theorem same_v23 : Cert.AuReferenceIdeal.Read.val_main_v23 (F := Ideal) (m ((c.tc : Thread Cert.AuKernelIdeal.nD Cert.AuKernelIdeal.τ).loc Cert.AuKernelIdeal.main_arg0)) (m ((c.tc : Thread Cert.AuKernelIdeal.nD Cert.AuKernelIdeal.τ).loc Cert.AuKernelIdeal.main_arg1)) (m ((c.tc : Thread Cert.AuKernelIdeal.nD Cert.AuKernelIdeal.τ).loc Cert.AuKernelIdeal.main_arg2)) (m ((c.tc : Thread Cert.AuKernelIdeal.nD Cert.AuKernelIdeal.τ).loc Cert.AuKernelIdeal.main_arg3))
    = (Cert.AuKernelIdeal.Gen.dats m 0 c).arrAt 4 Cert.AuKernelIdeal.cfg0.N := by
  rw [arg_0 m c, arg_1 m c, arg_2 m c, arg_3 m c, r_v23]
  exact (arr_4 m c).symm
theorem same_v4 : Cert.AuReferenceIdeal.Read.val_main_v4 (F := Ideal) (m ((c.tc : Thread Cert.AuKernelIdeal.nD Cert.AuKernelIdeal.τ).loc Cert.AuKernelIdeal.main_arg1)) (m ((c.tc : Thread Cert.AuKernelIdeal.nD Cert.AuKernelIdeal.τ).loc Cert.AuKernelIdeal.main_arg2))
    = (Cert.AuKernelIdeal.Gen.dats m 0 c).arrAt 5 Cert.AuKernelIdeal.cfg0.N := by
  rw [arg_1 m c, arg_2 m c, r_v4]
  exact (arr_5 m c).symm
theorem same_v10 : Cert.AuReferenceIdeal.Read.val_main_v10 (F := Ideal) (m ((c.tc : Thread Cert.AuKernelIdeal.nD Cert.AuKernelIdeal.τ).loc Cert.AuKernelIdeal.main_arg1)) (m ((c.tc : Thread Cert.AuKernelIdeal.nD Cert.AuKernelIdeal.τ).loc Cert.AuKernelIdeal.main_arg3))
    = (Cert.AuKernelIdeal.Gen.dats m 0 c).arrAt 6 Cert.AuKernelIdeal.cfg0.N := by
  rw [arg_1 m c, arg_3 m c, r_v10]
  exact (arr_6 m c).symm
theorem same_arg1 : (m ((c.tc : Thread Cert.AuKernelIdeal.nD Cert.AuKernelIdeal.τ).loc Cert.AuKernelIdeal.main_arg1)) = (Cert.AuKernelIdeal.Gen.dats m 0 c).arrAt 7 Cert.AuKernelIdeal.cfg0.N := by
  rw [arg_1 m c]
  exact (arr_7 m c).symm

/-- Run on the same arguments, the two programs end with the same results. -/
theorem same_results : Cert.algebraic_AuKernelIdeal_AuReferenceIdeal := fun m g m' g' _ h =>
  ⟨fun c => (Cert.AuKernelIdeal.Gen.dats m 0 c).arrAt 4 Cert.AuKernelIdeal.cfg0.N, fun c => (Cert.AuKernelIdeal.Gen.dats m 0 c).arrAt 5 Cert.AuKernelIdeal.cfg0.N, fun c => (Cert.AuKernelIdeal.Gen.dats m 0 c).arrAt 6 Cert.AuKernelIdeal.cfg0.N, fun c => (Cert.AuKernelIdeal.Gen.dats m 0 c).arrAt 7 Cert.AuKernelIdeal.cfg0.N,
    Cert.AuKernelIdeal.Value.run_blocks m g,
    (θ_run Cert.AuReferenceIdeal.defs _ _).mono (fun _ e c => by
      obtain ⟨e0, e1, e2, e3, e4⟩ := e c
      obtain ⟨h0, h1, h2, h3⟩ := h c
      rw [h0, h1, h2, h3] at e0
      rw [h1, h2] at e1
      rw [h1, h3] at e2
      rw [h1] at e3
      exact ⟨e0.trans (same_v23 m c), e1.trans (same_v4 m c), e2.trans (same_v10 m c), e3.trans (same_arg1 m c), e4⟩)
      (Cert.AuReferenceIdeal.Value.run m' g')⟩

end Cert.Au

end
-- ==== Proof.AdamD.lean ====
/- The optimiser's call on the second feed-forward projection, and its reference: how they run, and that they end with the same results. -/
module

public import proofs.«01_k».proof.Defs
public import proofs.«01_k».proof.Proof.AdamSpec
public import proofs.«01_k».proof.Proof.Gen.AdKernel
public import proofs.«01_k».proof.Proof.Gen.AdKernelIdeal.Value
public import proofs.«01_k».proof.Proof.Gen.AdReferenceIdeal.Run
public import proofs.«01_k».proof.Proof.Gen.AdReferenceIdeal.Read
public import Idealize.ShloMosaic.Lib.Pointwise
public import Idealize.ShloMosaic.Lib.StableHlo.ReadAt
public import Idealize.ShloMosaic.Lib.Tactic
public import Idealize.ShloMosaic.Lib.Quiescent

@[expose] public section

set_option maxRecDepth 16384

noncomputable section

namespace Cert.Ad

open Idealize.ShloMosaic Idealize.ShloMosaic.TcCoe Idealize.SL.Sem Idealize.ShloMosaic.Tactic Idealize.ShloMosaic.Pipeline
open Cert.Ret (get2)
open Cert.Ffn (mat mat_get2)
open Cert.Adam

section Call

open Cert.AdKernelIdeal Cert.AdKernelIdeal.Gen

/-! ## What a point leaves -/

section Pieces

variable {F : FTy → Type} [FloatOps F]

theorem out_4 (x0 x1 x2 x3 : Vec F S64x4096 .f32) : out0_4 x0 x1 x2 x3 = k0_pay3 x1 x0 x2 x3 := by
  unfold out0_4
  rw [View.canon_unit_zero origin]
  simp only [View.ld_unit_zero (S := S64x4096) origin]
theorem out_5 (x0 x1 x2 x3 : Vec F S64x4096 .f32) : out0_5 x0 x1 x2 x3 = k0_pay1 x1 x2 := by
  unfold out0_5
  rw [View.canon_unit_zero origin]
  simp only [View.ld_unit_zero (S := S64x4096) origin]
theorem out_6 (x0 x1 x2 x3 : Vec F S64x4096 .f32) : out0_6 x0 x1 x2 x3 = k0_pay2 x1 x3 := by
  unfold out0_6
  rw [View.canon_unit_zero origin]
  simp only [View.ld_unit_zero (S := S64x4096) origin]
theorem out_7 (x0 x1 x2 x3 : Vec F S64x4096 .f32) : out0_7 x0 x1 x2 x3 = x1 := by
  unfold out0_7
  rw [View.canon_unit_zero origin]
  simp only [View.ld_unit_zero (S := S64x4096) origin]

end Pieces

theorem pay1 (g m : ℕ → ℕ → EReal) : k0_pay1 (F := Ideal) (mat g) (mat m) = (mat fun i j => newM (g i j) (m i j) : Vec Ideal S64x4096 .f32) := by
  funext i
  obtain ⟨r, j, rfl⟩ := split2 i
  unfold k0_pay1
  pointwise
  rfl
theorem pay2 (g v : ℕ → ℕ → EReal) : k0_pay2 (F := Ideal) (mat g) (mat v) = (mat fun i j => newV (g i j) (v i j) : Vec Ideal S64x4096 .f32) := by
  funext i
  obtain ⟨r, j, rfl⟩ := split2 i
  unfold k0_pay2
  pointwise
  rfl
theorem pay3 (g w m v : ℕ → ℕ → EReal) : k0_pay3 (F := Ideal) (mat g) (mat w) (mat m) (mat v) = (mat fun i j => step (w i j) (g i j) (m i j) (v i j) : Vec Ideal S64x4096 .f32) := by
  funext i
  obtain ⟨r, j, rfl⟩ := split2 i
  unfold k0_pay3 k0_pay1 k0_pay2
  pointwise
  rfl

/-! ## The blocks -/

variable (m : (ℓ : Loc nD τ sig) → Buf (Elt Ideal) ℓ) (c : Dev nD)

/-- The weights. -/
def aW : ℕ → ℕ → EReal := get2 (m (c, Proc.devRef .tc main_arg0) : Vec Ideal S2752x4096 .f32)
theorem entry_0 : (V m c main_arg0 : Vec Ideal S2752x4096 .f32) = mat (aW m c) :=
  (V_main_arg0 m c).trans (mat_get2 _)
theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem blk_0 (t : Fin cfg0.N) : (iblk m c 0 t : Vec Ideal S64x4096 .f32) = mat fun a b => aW m c (t.val * 64 + a) b := by
  have e := idx_0 t
  funext y
  refine (congrFun (entry_0 m c) _).trans ?_
  show aW m c (win0_0.index t (0 : Fin 2) * 64 + 1 * (y 0).val) (win0_0.index t (1 : Fin 2) * 4096 + 1 * (y 1).val) = aW m c _ _
  rw [e.1, e.2]
  congr 1 <;> omega
/-- The gradients. -/
def aG : ℕ → ℕ → EReal := get2 (m (c, Proc.devRef .tc main_arg1) : Vec Ideal S2752x4096 .f32)
theorem entry_1 : (V m c main_arg1 : Vec Ideal S2752x4096 .f32) = mat (aG m c) :=
  (V_main_arg1 m c).trans (mat_get2 _)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem blk_1 (t : Fin cfg0.N) : (iblk m c 1 t : Vec Ideal S64x4096 .f32) = mat fun a b => aG m c (t.val * 64 + a) b := by
  have e := idx_1 t
  funext y
  refine (congrFun (entry_1 m c) _).trans ?_
  show aG m c (win0_1.index t (0 : Fin 2) * 64 + 1 * (y 0).val) (win0_1.index t (1 : Fin 2) * 4096 + 1 * (y 1).val) = aG m c _ _
  rw [e.1, e.2]
  congr 1 <;> omega
/-- The first moments. -/
def aM : ℕ → ℕ → EReal := get2 (m (c, Proc.devRef .tc main_arg2) : Vec Ideal S2752x4096 .f32)
theorem entry_2 : (V m c main_arg2 : Vec Ideal S2752x4096 .f32) = mat (aM m c) :=
  (V_main_arg2 m c).trans (mat_get2 _)
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem blk_2 (t : Fin cfg0.N) : (iblk m c 2 t : Vec Ideal S64x4096 .f32) = mat fun a b => aM m c (t.val * 64 + a) b := by
  have e := idx_2 t
  funext y
  refine (congrFun (entry_2 m c) _).trans ?_
  show aM m c (win0_2.index t (0 : Fin 2) * 64 + 1 * (y 0).val) (win0_2.index t (1 : Fin 2) * 4096 + 1 * (y 1).val) = aM m c _ _
  rw [e.1, e.2]
  congr 1 <;> omega
/-- The second moments. -/
def aV : ℕ → ℕ → EReal := get2 (m (c, Proc.devRef .tc main_arg3) : Vec Ideal S2752x4096 .f32)
theorem entry_3 : (V m c main_arg3 : Vec Ideal S2752x4096 .f32) = mat (aV m c) :=
  (V_main_arg3 m c).trans (mat_get2 _)
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem blk_3 (t : Fin cfg0.N) : (iblk m c 3 t : Vec Ideal S64x4096 .f32) = mat fun a b => aV m c (t.val * 64 + a) b := by
  have e := idx_3 t
  funext y
  refine (congrFun (entry_3 m c) _).trans ?_
  show aV m c (win0_3.index t (0 : Fin 2) * 64 + 1 * (y 0).val) (win0_3.index t (1 : Fin 2) * 4096 + 1 * (y 1).val) = aV m c _ _
  rw [e.1, e.2]
  congr 1 <;> omega

/-! ## The arrays -/

/-- The weights' changes. -/
def dW (i j : ℕ) : EReal := step (aW m c i j) (aG m c i j) (aM m c i j) (aV m c i j)
/-- The first moments after the step. -/
def dM (i j : ℕ) : EReal := newM (aG m c i j) (aM m c i j)
/-- The second moments after the step. -/
def dV (i j : ℕ) : EReal := newV (aG m c i j) (aV m c i j)

theorem outs_4 (t : Fin cfg0.N) : out0_4 (iblk m c 0 t) (iblk m c 1 t) (iblk m c 2 t) (iblk m c 3 t) = (mat fun a b => dW m c (t.val * 64 + a) b : Vec Ideal S64x4096 .f32) := by
  rw [out_4, blk_0 m c t, blk_1 m c t, blk_2 m c t, blk_3 m c t, pay3]
  rfl
theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem mem_4 (t : Fin cfg0.N) (i : S2752x4096.Idx) :
    i ∈ ((cfg0.win 4).blk t).view.set ↔ ∀ a : Fin 2, win0_4.index t a * S64x4096.size a ≤ (i a).val ∧ (i a).val < win0_4.index t a * S64x4096.size a + S64x4096.size a := by
  show i ∈ ((View.whole main_v0_0).slice (win0_4.rect t)).set ↔ _
  rw [View.set_slice_whole, Rect.mem_set_unit]
  exact Iff.rfl
theorem covers_4 (i : S2752x4096.Idx) : ∃ t : Fin cfg0.N, (cfg0.win 4).flush t = true ∧ i ∈ ((cfg0.win 4).blk t).view.set := by
  have hN : cfg0.N = 43 := N_0
  have h0 : (i 0).val < 2752 := (i 0).isLt; have h1 : (i 1).val < 4096 := (i 1).isLt
  have hlt : (i 0).val / 64 < cfg0.N := by omega
  refine ⟨⟨(i 0).val / 64, hlt⟩, flush0_4 _, ?_⟩
  rw [mem_4]
  have h := idx_4 ⟨(i 0).val / 64, hlt⟩
  dsimp only at h
  intro a
  match a with
  | ⟨0, _⟩ => show win0_4.index _ (0 : Fin 2) * 64 ≤ (i 0).val ∧ (i 0).val < win0_4.index _ (0 : Fin 2) * 64 + 64; rw [h.1]; omega
  | ⟨1, _⟩ => show win0_4.index _ (1 : Fin 2) * 4096 ≤ (i 1).val ∧ (i 1).val < win0_4.index _ (1 : Fin 2) * 4096 + 4096; rw [h.2]; omega
theorem arr_4 : (dats m 0 c).arrAt 4 cfg0.N = (mat (dW m c) : Vec Ideal S2752x4096 .f32) :=
  (dats m 0 c).arrAt_eq_of_cover 4 _ (fun t _ => by
    rw [Cert.AdKernelIdeal.Value.flushed4, outs_4 m c t]
    have h := idx_4 t
    funext y
    show dW m c (t.val * 64 + (y 0).val) (y 1).val = dW m c (win0_4.index t (0 : Fin 2) * 64 + 1 * (y 0).val) (win0_4.index t (1 : Fin 2) * 4096 + 1 * (y 1).val)
    rw [h.1, h.2, one_mul, one_mul, Nat.zero_mul, Nat.zero_add])
    covers_4
theorem outs_5 (t : Fin cfg0.N) : out0_5 (iblk m c 0 t) (iblk m c 1 t) (iblk m c 2 t) (iblk m c 3 t) = (mat fun a b => dM m c (t.val * 64 + a) b : Vec Ideal S64x4096 .f32) := by
  rw [out_5, blk_1 m c t, blk_2 m c t, pay1]
  rfl
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem mem_5 (t : Fin cfg0.N) (i : S2752x4096.Idx) :
    i ∈ ((cfg0.win 5).blk t).view.set ↔ ∀ a : Fin 2, win0_5.index t a * S64x4096.size a ≤ (i a).val ∧ (i a).val < win0_5.index t a * S64x4096.size a + S64x4096.size a := by
  show i ∈ ((View.whole main_v0_1).slice (win0_5.rect t)).set ↔ _
  rw [View.set_slice_whole, Rect.mem_set_unit]
  exact Iff.rfl
theorem covers_5 (i : S2752x4096.Idx) : ∃ t : Fin cfg0.N, (cfg0.win 5).flush t = true ∧ i ∈ ((cfg0.win 5).blk t).view.set := by
  have hN : cfg0.N = 43 := N_0
  have h0 : (i 0).val < 2752 := (i 0).isLt; have h1 : (i 1).val < 4096 := (i 1).isLt
  have hlt : (i 0).val / 64 < cfg0.N := by omega
  refine ⟨⟨(i 0).val / 64, hlt⟩, flush0_5 _, ?_⟩
  rw [mem_5]
  have h := idx_5 ⟨(i 0).val / 64, hlt⟩
  dsimp only at h
  intro a
  match a with
  | ⟨0, _⟩ => show win0_5.index _ (0 : Fin 2) * 64 ≤ (i 0).val ∧ (i 0).val < win0_5.index _ (0 : Fin 2) * 64 + 64; rw [h.1]; omega
  | ⟨1, _⟩ => show win0_5.index _ (1 : Fin 2) * 4096 ≤ (i 1).val ∧ (i 1).val < win0_5.index _ (1 : Fin 2) * 4096 + 4096; rw [h.2]; omega
theorem arr_5 : (dats m 0 c).arrAt 5 cfg0.N = (mat (dM m c) : Vec Ideal S2752x4096 .f32) :=
  (dats m 0 c).arrAt_eq_of_cover 5 _ (fun t _ => by
    rw [Cert.AdKernelIdeal.Value.flushed5, outs_5 m c t]
    have h := idx_5 t
    funext y
    show dM m c (t.val * 64 + (y 0).val) (y 1).val = dM m c (win0_5.index t (0 : Fin 2) * 64 + 1 * (y 0).val) (win0_5.index t (1 : Fin 2) * 4096 + 1 * (y 1).val)
    rw [h.1, h.2, one_mul, one_mul, Nat.zero_mul, Nat.zero_add])
    covers_5
theorem outs_6 (t : Fin cfg0.N) : out0_6 (iblk m c 0 t) (iblk m c 1 t) (iblk m c 2 t) (iblk m c 3 t) = (mat fun a b => dV m c (t.val * 64 + a) b : Vec Ideal S64x4096 .f32) := by
  rw [out_6, blk_1 m c t, blk_3 m c t, pay2]
  rfl
theorem idx_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem mem_6 (t : Fin cfg0.N) (i : S2752x4096.Idx) :
    i ∈ ((cfg0.win 6).blk t).view.set ↔ ∀ a : Fin 2, win0_6.index t a * S64x4096.size a ≤ (i a).val ∧ (i a).val < win0_6.index t a * S64x4096.size a + S64x4096.size a := by
  show i ∈ ((View.whole main_v0_2).slice (win0_6.rect t)).set ↔ _
  rw [View.set_slice_whole, Rect.mem_set_unit]
  exact Iff.rfl
theorem covers_6 (i : S2752x4096.Idx) : ∃ t : Fin cfg0.N, (cfg0.win 6).flush t = true ∧ i ∈ ((cfg0.win 6).blk t).view.set := by
  have hN : cfg0.N = 43 := N_0
  have h0 : (i 0).val < 2752 := (i 0).isLt; have h1 : (i 1).val < 4096 := (i 1).isLt
  have hlt : (i 0).val / 64 < cfg0.N := by omega
  refine ⟨⟨(i 0).val / 64, hlt⟩, flush0_6 _, ?_⟩
  rw [mem_6]
  have h := idx_6 ⟨(i 0).val / 64, hlt⟩
  dsimp only at h
  intro a
  match a with
  | ⟨0, _⟩ => show win0_6.index _ (0 : Fin 2) * 64 ≤ (i 0).val ∧ (i 0).val < win0_6.index _ (0 : Fin 2) * 64 + 64; rw [h.1]; omega
  | ⟨1, _⟩ => show win0_6.index _ (1 : Fin 2) * 4096 ≤ (i 1).val ∧ (i 1).val < win0_6.index _ (1 : Fin 2) * 4096 + 4096; rw [h.2]; omega
theorem arr_6 : (dats m 0 c).arrAt 6 cfg0.N = (mat (dV m c) : Vec Ideal S2752x4096 .f32) :=
  (dats m 0 c).arrAt_eq_of_cover 6 _ (fun t _ => by
    rw [Cert.AdKernelIdeal.Value.flushed6, outs_6 m c t]
    have h := idx_6 t
    funext y
    show dV m c (t.val * 64 + (y 0).val) (y 1).val = dV m c (win0_6.index t (0 : Fin 2) * 64 + 1 * (y 0).val) (win0_6.index t (1 : Fin 2) * 4096 + 1 * (y 1).val)
    rw [h.1, h.2, one_mul, one_mul, Nat.zero_mul, Nat.zero_add])
    covers_6
theorem outs_7 (t : Fin cfg0.N) : out0_7 (iblk m c 0 t) (iblk m c 1 t) (iblk m c 2 t) (iblk m c 3 t) = (mat fun a b => aG m c (t.val * 64 + a) b : Vec Ideal S64x4096 .f32) := by
  rw [out_7, blk_1 m c t]
theorem idx_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem mem_7 (t : Fin cfg0.N) (i : S2752x4096.Idx) :
    i ∈ ((cfg0.win 7).blk t).view.set ↔ ∀ a : Fin 2, win0_7.index t a * S64x4096.size a ≤ (i a).val ∧ (i a).val < win0_7.index t a * S64x4096.size a + S64x4096.size a := by
  show i ∈ ((View.whole main_v0_3).slice (win0_7.rect t)).set ↔ _
  rw [View.set_slice_whole, Rect.mem_set_unit]
  exact Iff.rfl
theorem covers_7 (i : S2752x4096.Idx) : ∃ t : Fin cfg0.N, (cfg0.win 7).flush t = true ∧ i ∈ ((cfg0.win 7).blk t).view.set := by
  have hN : cfg0.N = 43 := N_0
  have h0 : (i 0).val < 2752 := (i 0).isLt; have h1 : (i 1).val < 4096 := (i 1).isLt
  have hlt : (i 0).val / 64 < cfg0.N := by omega
  refine ⟨⟨(i 0).val / 64, hlt⟩, flush0_7 _, ?_⟩
  rw [mem_7]
  have h := idx_7 ⟨(i 0).val / 64, hlt⟩
  dsimp only at h
  intro a
  match a with
  | ⟨0, _⟩ => show win0_7.index _ (0 : Fin 2) * 64 ≤ (i 0).val ∧ (i 0).val < win0_7.index _ (0 : Fin 2) * 64 + 64; rw [h.1]; omega
  | ⟨1, _⟩ => show win0_7.index _ (1 : Fin 2) * 4096 ≤ (i 1).val ∧ (i 1).val < win0_7.index _ (1 : Fin 2) * 4096 + 4096; rw [h.2]; omega
theorem arr_7 : (dats m 0 c).arrAt 7 cfg0.N = (mat (aG m c) : Vec Ideal S2752x4096 .f32) :=
  (dats m 0 c).arrAt_eq_of_cover 7 _ (fun t _ => by
    rw [Cert.AdKernelIdeal.Value.flushed7, outs_7 m c t]
    have h := idx_7 t
    funext y
    show aG m c (t.val * 64 + (y 0).val) (y 1).val = aG m c (win0_7.index t (0 : Fin 2) * 64 + 1 * (y 0).val) (win0_7.index t (1 : Fin 2) * 4096 + 1 * (y 1).val)
    rw [h.1, h.2, one_mul, one_mul, Nat.zero_mul, Nat.zero_add])
    covers_7

end Call

/-! ## The reference -/

section Reference

open Cert.AdReferenceIdeal Cert.AdReferenceIdeal.Gen Cert.AdReferenceIdeal.Read

/-- A table as an array. -/
abbrev arr (f : ℕ → ℕ → EReal) : (⟨S2752x4096, .f32⟩ : BufTy).Contents (Elt Ideal) := (mat f : Vec Ideal S2752x4096 .f32)

variable (w g m v : ℕ → ℕ → EReal)

theorem r_v4 : val_main_v4 (F := Ideal) (arr g) (arr m) = arr fun i j => newM (g i j) (m i j) := by
  funext i
  rw [val_main_v4_apply, val_main_v3_apply, val_main_v2_apply, val_main_v1_apply, val_main_v0_apply]
  rfl
theorem r_v10 : val_main_v10 (F := Ideal) (arr g) (arr v) = arr fun i j => newV (g i j) (v i j) := by
  funext i
  rw [val_main_v10_apply, val_main_v9_apply, val_main_v8_apply, val_main_v7_apply, val_main_v6_apply, val_main_v5_apply]
  rfl
theorem r_v23 : val_main_v23 (F := Ideal) (arr w) (arr g) (arr m) (arr v) = arr fun i j => step (w i j) (g i j) (m i j) (v i j) := by
  funext i
  rw [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, r_v4, r_v10]
  rfl

end Reference

/-! ## The two runs -/

/-- The idealized program's frame, its text run over the bit-level floats. -/
def bitsFrame : Prop :=
  ∀ (m : (ℓ : Loc Cert.AdKernelIdeal.nD Cert.AdKernelIdeal.τ Cert.AdKernelIdeal.sig) → Buf (Elt Bits) ℓ) (g : Dev Cert.AdKernelIdeal.nD → PrngReg), True →
    θ_run (Cert.AdKernelIdeal.defs (F := Bits)) (onTc (τ := Cert.AdKernelIdeal.τ) (Cert.AdKernelIdeal.main (F := Bits))) ⟨m, fun _ => 0, g⟩ (fun r => (∀ c : Dev Cert.AdKernelIdeal.nD,
      r.2.mem ((c.tc : Thread Cert.AdKernelIdeal.nD Cert.AdKernelIdeal.τ).loc Cert.AdKernelIdeal.main_arg0) = m ((c.tc : Thread Cert.AdKernelIdeal.nD Cert.AdKernelIdeal.τ).loc Cert.AdKernelIdeal.main_arg0)
      ∧ r.2.mem ((c.tc : Thread Cert.AdKernelIdeal.nD Cert.AdKernelIdeal.τ).loc Cert.AdKernelIdeal.main_arg1) = m ((c.tc : Thread Cert.AdKernelIdeal.nD Cert.AdKernelIdeal.τ).loc Cert.AdKernelIdeal.main_arg1)
      ∧ r.2.mem ((c.tc : Thread Cert.AdKernelIdeal.nD Cert.AdKernelIdeal.τ).loc Cert.AdKernelIdeal.main_arg2) = m ((c.tc : Thread Cert.AdKernelIdeal.nD Cert.AdKernelIdeal.τ).loc Cert.AdKernelIdeal.main_arg2)
      ∧ r.2.mem ((c.tc : Thread Cert.AdKernelIdeal.nD Cert.AdKernelIdeal.τ).loc Cert.AdKernelIdeal.main_arg3) = m ((c.tc : Thread Cert.AdKernelIdeal.nD Cert.AdKernelIdeal.τ).loc Cert.AdKernelIdeal.main_arg3))
      ∧ r.2.sem = fun _ => 0)

/-- The two programs have the same text. -/
theorem same_text : bitsFrame = Cert.quiescent_AdKernel := by sl_kernel_rfl

theorem frame_kernel : Cert.quiescent_AdKernel :=
  same_text.mp fun m ρ _ => Cert.AdKernelIdeal.Gen.frame (F := Bits) m ρ
theorem frame_kernelIdeal : Cert.quiescent_AdKernelIdeal := fun m ρ _ => Cert.AdKernelIdeal.Gen.frame m ρ

/-- The reference keeps its arguments; it declares no semaphore. -/
theorem frame_reference : Cert.quiescent_AdReferenceIdeal := fun m ρ _ =>
  (θ_run Cert.AdReferenceIdeal.defs _ _).mono (fun r e => ⟨fun c => (e c).2.2.2.2, sem_eq_zero_of_no_sems (by decide) r.2⟩) (Cert.AdReferenceIdeal.Value.run m ρ)

variable (m : (ℓ : Loc Cert.AdKernelIdeal.nD Cert.AdKernelIdeal.τ Cert.AdKernelIdeal.sig) → Buf (Elt Ideal) ℓ) (c : Dev Cert.AdKernelIdeal.nD)

theorem arg_0 : (m ((c.tc : Thread Cert.AdKernelIdeal.nD Cert.AdKernelIdeal.τ).loc Cert.AdKernelIdeal.main_arg0)) = arr (aW m c) := mat_get2 _
theorem arg_1 : (m ((c.tc : Thread Cert.AdKernelIdeal.nD Cert.AdKernelIdeal.τ).loc Cert.AdKernelIdeal.main_arg1)) = arr (aG m c) := mat_get2 _
theorem arg_2 : (m ((c.tc : Thread Cert.AdKernelIdeal.nD Cert.AdKernelIdeal.τ).loc Cert.AdKernelIdeal.main_arg2)) = arr (aM m c) := mat_get2 _
theorem arg_3 : (m ((c.tc : Thread Cert.AdKernelIdeal.nD Cert.AdKernelIdeal.τ).loc Cert.AdKernelIdeal.main_arg3)) = arr (aV m c) := mat_get2 _
theorem same_v23 : Cert.AdReferenceIdeal.Read.val_main_v23 (F := Ideal) (m ((c.tc : Thread Cert.AdKernelIdeal.nD Cert.AdKernelIdeal.τ).loc Cert.AdKernelIdeal.main_arg0)) (m ((c.tc : Thread Cert.AdKernelIdeal.nD Cert.AdKernelIdeal.τ).loc Cert.AdKernelIdeal.main_arg1)) (m ((c.tc : Thread Cert.AdKernelIdeal.nD Cert.AdKernelIdeal.τ).loc Cert.AdKernelIdeal.main_arg2)) (m ((c.tc : Thread Cert.AdKernelIdeal.nD Cert.AdKernelIdeal.τ).loc Cert.AdKernelIdeal.main_arg3))
    = (Cert.AdKernelIdeal.Gen.dats m 0 c).arrAt 4 Cert.AdKernelIdeal.cfg0.N := by
  rw [arg_0 m c, arg_1 m c, arg_2 m c, arg_3 m c, r_v23]
  exact (arr_4 m c).symm
theorem same_v4 : Cert.AdReferenceIdeal.Read.val_main_v4 (F := Ideal) (m ((c.tc : Thread Cert.AdKernelIdeal.nD Cert.AdKernelIdeal.τ).loc Cert.AdKernelIdeal.main_arg1)) (m ((c.tc : Thread Cert.AdKernelIdeal.nD Cert.AdKernelIdeal.τ).loc Cert.AdKernelIdeal.main_arg2))
    = (Cert.AdKernelIdeal.Gen.dats m 0 c).arrAt 5 Cert.AdKernelIdeal.cfg0.N := by
  rw [arg_1 m c, arg_2 m c, r_v4]
  exact (arr_5 m c).symm
theorem same_v10 : Cert.AdReferenceIdeal.Read.val_main_v10 (F := Ideal) (m ((c.tc : Thread Cert.AdKernelIdeal.nD Cert.AdKernelIdeal.τ).loc Cert.AdKernelIdeal.main_arg1)) (m ((c.tc : Thread Cert.AdKernelIdeal.nD Cert.AdKernelIdeal.τ).loc Cert.AdKernelIdeal.main_arg3))
    = (Cert.AdKernelIdeal.Gen.dats m 0 c).arrAt 6 Cert.AdKernelIdeal.cfg0.N := by
  rw [arg_1 m c, arg_3 m c, r_v10]
  exact (arr_6 m c).symm
theorem same_arg1 : (m ((c.tc : Thread Cert.AdKernelIdeal.nD Cert.AdKernelIdeal.τ).loc Cert.AdKernelIdeal.main_arg1)) = (Cert.AdKernelIdeal.Gen.dats m 0 c).arrAt 7 Cert.AdKernelIdeal.cfg0.N := by
  rw [arg_1 m c]
  exact (arr_7 m c).symm

/-- Run on the same arguments, the two programs end with the same results. -/
theorem same_results : Cert.algebraic_AdKernelIdeal_AdReferenceIdeal := fun m g m' g' _ h =>
  ⟨fun c => (Cert.AdKernelIdeal.Gen.dats m 0 c).arrAt 4 Cert.AdKernelIdeal.cfg0.N, fun c => (Cert.AdKernelIdeal.Gen.dats m 0 c).arrAt 5 Cert.AdKernelIdeal.cfg0.N, fun c => (Cert.AdKernelIdeal.Gen.dats m 0 c).arrAt 6 Cert.AdKernelIdeal.cfg0.N, fun c => (Cert.AdKernelIdeal.Gen.dats m 0 c).arrAt 7 Cert.AdKernelIdeal.cfg0.N,
    Cert.AdKernelIdeal.Value.run_blocks m g,
    (θ_run Cert.AdReferenceIdeal.defs _ _).mono (fun _ e c => by
      obtain ⟨e0, e1, e2, e3, e4⟩ := e c
      obtain ⟨h0, h1, h2, h3⟩ := h c
      rw [h0, h1, h2, h3] at e0
      rw [h1, h2] at e1
      rw [h1, h3] at e2
      rw [h1] at e3
      exact ⟨e0.trans (same_v23 m c), e1.trans (same_v4 m c), e2.trans (same_v10 m c), e3.trans (same_arg1 m c), e4⟩)
      (Cert.AdReferenceIdeal.Value.run m' g')⟩

end Cert.Ad

end
-- ==== Proof.AdamS.lean ====
/- The optimiser's call on the small weights, packed, and its reference: how they run, and that they end with the same results. -/
module

public import proofs.«01_k».proof.Defs
public import proofs.«01_k».proof.Proof.AdamSpec
public import proofs.«01_k».proof.Proof.Gen.AsKernel
public import proofs.«01_k».proof.Proof.Gen.AsKernelIdeal.Value
public import proofs.«01_k».proof.Proof.Gen.AsReferenceIdeal.Run
public import proofs.«01_k».proof.Proof.Gen.AsReferenceIdeal.Read
public import Idealize.ShloMosaic.Lib.Pointwise
public import Idealize.ShloMosaic.Lib.StableHlo.ReadAt
public import Idealize.ShloMosaic.Lib.Tactic
public import Idealize.ShloMosaic.Lib.Quiescent

@[expose] public section

set_option maxRecDepth 16384

noncomputable section

namespace Cert.As

open Idealize.ShloMosaic Idealize.ShloMosaic.TcCoe Idealize.SL.Sem Idealize.ShloMosaic.Tactic Idealize.ShloMosaic.Pipeline
open Cert.Ret (get2)
open Cert.Ffn (mat mat_get2)
open Cert.Adam

section Call

open Cert.AsKernelIdeal Cert.AsKernelIdeal.Gen

/-! ## What a point leaves -/

section Pieces

variable {F : FTy → Type} [FloatOps F]

theorem out_4 (x0 x1 x2 x3 : Vec F S448x128 .f32) : out0_4 x0 x1 x2 x3 = k0_pay3 x1 x0 x2 x3 := by
  unfold out0_4
  rw [View.canon_unit_zero origin]
  simp only [View.ld_unit_zero (S := S448x128) origin]
theorem out_5 (x0 x1 x2 x3 : Vec F S448x128 .f32) : out0_5 x0 x1 x2 x3 = k0_pay1 x1 x2 := by
  unfold out0_5
  rw [View.canon_unit_zero origin]
  simp only [View.ld_unit_zero (S := S448x128) origin]
theorem out_6 (x0 x1 x2 x3 : Vec F S448x128 .f32) : out0_6 x0 x1 x2 x3 = k0_pay2 x1 x3 := by
  unfold out0_6
  rw [View.canon_unit_zero origin]
  simp only [View.ld_unit_zero (S := S448x128) origin]
theorem out_7 (x0 x1 x2 x3 : Vec F S448x128 .f32) : out0_7 x0 x1 x2 x3 = x1 := by
  unfold out0_7
  rw [View.canon_unit_zero origin]
  simp only [View.ld_unit_zero (S := S448x128) origin]

end Pieces

theorem pay1 (g m : ℕ → ℕ → EReal) : k0_pay1 (F := Ideal) (mat g) (mat m) = (mat fun i j => newM (g i j) (m i j) : Vec Ideal S448x128 .f32) := by
  funext i
  obtain ⟨r, j, rfl⟩ := split2 i
  unfold k0_pay1
  pointwise
  rfl
theorem pay2 (g v : ℕ → ℕ → EReal) : k0_pay2 (F := Ideal) (mat g) (mat v) = (mat fun i j => newV (g i j) (v i j) : Vec Ideal S448x128 .f32) := by
  funext i
  obtain ⟨r, j, rfl⟩ := split2 i
  unfold k0_pay2
  pointwise
  rfl
theorem pay3 (g w m v : ℕ → ℕ → EReal) : k0_pay3 (F := Ideal) (mat g) (mat w) (mat m) (mat v) = (mat fun i j => step (w i j) (g i j) (m i j) (v i j) : Vec Ideal S448x128 .f32) := by
  funext i
  obtain ⟨r, j, rfl⟩ := split2 i
  unfold k0_pay3 k0_pay1 k0_pay2
  pointwise
  rfl

/-! ## The blocks -/

variable (m : (ℓ : Loc nD τ sig) → Buf (Elt Ideal) ℓ) (c : Dev nD)

/-- The weights. -/
def aW : ℕ → ℕ → EReal := get2 (m (c, Proc.devRef .tc main_arg0) : Vec Ideal S448x128 .f32)
theorem entry_0 : (V m c main_arg0 : Vec Ideal S448x128 .f32) = mat (aW m c) :=
  (V_main_arg0 m c).trans (mat_get2 _)
theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem blk_0 (t : Fin cfg0.N) : (iblk m c 0 t : Vec Ideal S448x128 .f32) = mat fun a b => aW m c (t.val * 448 + a) b := by
  have e := idx_0 t
  funext y
  refine (congrFun (entry_0 m c) _).trans ?_
  show aW m c (win0_0.index t (0 : Fin 2) * 448 + 1 * (y 0).val) (win0_0.index t (1 : Fin 2) * 128 + 1 * (y 1).val) = aW m c _ _
  rw [e.1, e.2]
  congr 1 <;> omega
/-- The gradients. -/
def aG : ℕ → ℕ → EReal := get2 (m (c, Proc.devRef .tc main_arg1) : Vec Ideal S448x128 .f32)
theorem entry_1 : (V m c main_arg1 : Vec Ideal S448x128 .f32) = mat (aG m c) :=
  (V_main_arg1 m c).trans (mat_get2 _)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem blk_1 (t : Fin cfg0.N) : (iblk m c 1 t : Vec Ideal S448x128 .f32) = mat fun a b => aG m c (t.val * 448 + a) b := by
  have e := idx_1 t
  funext y
  refine (congrFun (entry_1 m c) _).trans ?_
  show aG m c (win0_1.index t (0 : Fin 2) * 448 + 1 * (y 0).val) (win0_1.index t (1 : Fin 2) * 128 + 1 * (y 1).val) = aG m c _ _
  rw [e.1, e.2]
  congr 1 <;> omega
/-- The first moments. -/
def aM : ℕ → ℕ → EReal := get2 (m (c, Proc.devRef .tc main_arg2) : Vec Ideal S448x128 .f32)
theorem entry_2 : (V m c main_arg2 : Vec Ideal S448x128 .f32) = mat (aM m c) :=
  (V_main_arg2 m c).trans (mat_get2 _)
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem blk_2 (t : Fin cfg0.N) : (iblk m c 2 t : Vec Ideal S448x128 .f32) = mat fun a b => aM m c (t.val * 448 + a) b := by
  have e := idx_2 t
  funext y
  refine (congrFun (entry_2 m c) _).trans ?_
  show aM m c (win0_2.index t (0 : Fin 2) * 448 + 1 * (y 0).val) (win0_2.index t (1 : Fin 2) * 128 + 1 * (y 1).val) = aM m c _ _
  rw [e.1, e.2]
  congr 1 <;> omega
/-- The second moments. -/
def aV : ℕ → ℕ → EReal := get2 (m (c, Proc.devRef .tc main_arg3) : Vec Ideal S448x128 .f32)
theorem entry_3 : (V m c main_arg3 : Vec Ideal S448x128 .f32) = mat (aV m c) :=
  (V_main_arg3 m c).trans (mat_get2 _)
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem blk_3 (t : Fin cfg0.N) : (iblk m c 3 t : Vec Ideal S448x128 .f32) = mat fun a b => aV m c (t.val * 448 + a) b := by
  have e := idx_3 t
  funext y
  refine (congrFun (entry_3 m c) _).trans ?_
  show aV m c (win0_3.index t (0 : Fin 2) * 448 + 1 * (y 0).val) (win0_3.index t (1 : Fin 2) * 128 + 1 * (y 1).val) = aV m c _ _
  rw [e.1, e.2]
  congr 1 <;> omega

/-! ## The arrays -/

/-- The weights' changes. -/
def dW (i j : ℕ) : EReal := step (aW m c i j) (aG m c i j) (aM m c i j) (aV m c i j)
/-- The first moments after the step. -/
def dM (i j : ℕ) : EReal := newM (aG m c i j) (aM m c i j)
/-- The second moments after the step. -/
def dV (i j : ℕ) : EReal := newV (aG m c i j) (aV m c i j)

theorem outs_4 (t : Fin cfg0.N) : out0_4 (iblk m c 0 t) (iblk m c 1 t) (iblk m c 2 t) (iblk m c 3 t) = (mat fun a b => dW m c (t.val * 448 + a) b : Vec Ideal S448x128 .f32) := by
  rw [out_4, blk_0 m c t, blk_1 m c t, blk_2 m c t, blk_3 m c t, pay3]
  rfl
theorem idx_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem mem_4 (t : Fin cfg0.N) (i : S448x128.Idx) :
    i ∈ ((cfg0.win 4).blk t).view.set ↔ ∀ a : Fin 2, win0_4.index t a * S448x128.size a ≤ (i a).val ∧ (i a).val < win0_4.index t a * S448x128.size a + S448x128.size a := by
  show i ∈ ((View.whole main_v0_0).slice (win0_4.rect t)).set ↔ _
  rw [View.set_slice_whole, Rect.mem_set_unit]
  exact Iff.rfl
theorem covers_4 (i : S448x128.Idx) : ∃ t : Fin cfg0.N, (cfg0.win 4).flush t = true ∧ i ∈ ((cfg0.win 4).blk t).view.set := by
  have hN : cfg0.N = 1 := N_0
  have h0 : (i 0).val < 448 := (i 0).isLt; have h1 : (i 1).val < 128 := (i 1).isLt
  have hlt : (i 0).val / 448 < cfg0.N := by omega
  refine ⟨⟨(i 0).val / 448, hlt⟩, flush0_4 _, ?_⟩
  rw [mem_4]
  have h := idx_4 ⟨(i 0).val / 448, hlt⟩
  dsimp only at h
  intro a
  match a with
  | ⟨0, _⟩ => show win0_4.index _ (0 : Fin 2) * 448 ≤ (i 0).val ∧ (i 0).val < win0_4.index _ (0 : Fin 2) * 448 + 448; rw [h.1]; omega
  | ⟨1, _⟩ => show win0_4.index _ (1 : Fin 2) * 128 ≤ (i 1).val ∧ (i 1).val < win0_4.index _ (1 : Fin 2) * 128 + 128; rw [h.2]; omega
theorem arr_4 : (dats m 0 c).arrAt 4 cfg0.N = (mat (dW m c) : Vec Ideal S448x128 .f32) :=
  (dats m 0 c).arrAt_eq_of_cover 4 _ (fun t _ => by
    rw [Cert.AsKernelIdeal.Value.flushed4, outs_4 m c t]
    have h := idx_4 t
    funext y
    show dW m c (t.val * 448 + (y 0).val) (y 1).val = dW m c (win0_4.index t (0 : Fin 2) * 448 + 1 * (y 0).val) (win0_4.index t (1 : Fin 2) * 128 + 1 * (y 1).val)
    rw [h.1, h.2, one_mul, one_mul, Nat.zero_mul, Nat.zero_add])
    covers_4
theorem outs_5 (t : Fin cfg0.N) : out0_5 (iblk m c 0 t) (iblk m c 1 t) (iblk m c 2 t) (iblk m c 3 t) = (mat fun a b => dM m c (t.val * 448 + a) b : Vec Ideal S448x128 .f32) := by
  rw [out_5, blk_1 m c t, blk_2 m c t, pay1]
  rfl
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem mem_5 (t : Fin cfg0.N) (i : S448x128.Idx) :
    i ∈ ((cfg0.win 5).blk t).view.set ↔ ∀ a : Fin 2, win0_5.index t a * S448x128.size a ≤ (i a).val ∧ (i a).val < win0_5.index t a * S448x128.size a + S448x128.size a := by
  show i ∈ ((View.whole main_v0_1).slice (win0_5.rect t)).set ↔ _
  rw [View.set_slice_whole, Rect.mem_set_unit]
  exact Iff.rfl
theorem covers_5 (i : S448x128.Idx) : ∃ t : Fin cfg0.N, (cfg0.win 5).flush t = true ∧ i ∈ ((cfg0.win 5).blk t).view.set := by
  have hN : cfg0.N = 1 := N_0
  have h0 : (i 0).val < 448 := (i 0).isLt; have h1 : (i 1).val < 128 := (i 1).isLt
  have hlt : (i 0).val / 448 < cfg0.N := by omega
  refine ⟨⟨(i 0).val / 448, hlt⟩, flush0_5 _, ?_⟩
  rw [mem_5]
  have h := idx_5 ⟨(i 0).val / 448, hlt⟩
  dsimp only at h
  intro a
  match a with
  | ⟨0, _⟩ => show win0_5.index _ (0 : Fin 2) * 448 ≤ (i 0).val ∧ (i 0).val < win0_5.index _ (0 : Fin 2) * 448 + 448; rw [h.1]; omega
  | ⟨1, _⟩ => show win0_5.index _ (1 : Fin 2) * 128 ≤ (i 1).val ∧ (i 1).val < win0_5.index _ (1 : Fin 2) * 128 + 128; rw [h.2]; omega
theorem arr_5 : (dats m 0 c).arrAt 5 cfg0.N = (mat (dM m c) : Vec Ideal S448x128 .f32) :=
  (dats m 0 c).arrAt_eq_of_cover 5 _ (fun t _ => by
    rw [Cert.AsKernelIdeal.Value.flushed5, outs_5 m c t]
    have h := idx_5 t
    funext y
    show dM m c (t.val * 448 + (y 0).val) (y 1).val = dM m c (win0_5.index t (0 : Fin 2) * 448 + 1 * (y 0).val) (win0_5.index t (1 : Fin 2) * 128 + 1 * (y 1).val)
    rw [h.1, h.2, one_mul, one_mul, Nat.zero_mul, Nat.zero_add])
    covers_5
theorem outs_6 (t : Fin cfg0.N) : out0_6 (iblk m c 0 t) (iblk m c 1 t) (iblk m c 2 t) (iblk m c 3 t) = (mat fun a b => dV m c (t.val * 448 + a) b : Vec Ideal S448x128 .f32) := by
  rw [out_6, blk_1 m c t, blk_3 m c t, pay2]
  rfl
theorem idx_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem mem_6 (t : Fin cfg0.N) (i : S448x128.Idx) :
    i ∈ ((cfg0.win 6).blk t).view.set ↔ ∀ a : Fin 2, win0_6.index t a * S448x128.size a ≤ (i a).val ∧ (i a).val < win0_6.index t a * S448x128.size a + S448x128.size a := by
  show i ∈ ((View.whole main_v0_2).slice (win0_6.rect t)).set ↔ _
  rw [View.set_slice_whole, Rect.mem_set_unit]
  exact Iff.rfl
theorem covers_6 (i : S448x128.Idx) : ∃ t : Fin cfg0.N, (cfg0.win 6).flush t = true ∧ i ∈ ((cfg0.win 6).blk t).view.set := by
  have hN : cfg0.N = 1 := N_0
  have h0 : (i 0).val < 448 := (i 0).isLt; have h1 : (i 1).val < 128 := (i 1).isLt
  have hlt : (i 0).val / 448 < cfg0.N := by omega
  refine ⟨⟨(i 0).val / 448, hlt⟩, flush0_6 _, ?_⟩
  rw [mem_6]
  have h := idx_6 ⟨(i 0).val / 448, hlt⟩
  dsimp only at h
  intro a
  match a with
  | ⟨0, _⟩ => show win0_6.index _ (0 : Fin 2) * 448 ≤ (i 0).val ∧ (i 0).val < win0_6.index _ (0 : Fin 2) * 448 + 448; rw [h.1]; omega
  | ⟨1, _⟩ => show win0_6.index _ (1 : Fin 2) * 128 ≤ (i 1).val ∧ (i 1).val < win0_6.index _ (1 : Fin 2) * 128 + 128; rw [h.2]; omega
theorem arr_6 : (dats m 0 c).arrAt 6 cfg0.N = (mat (dV m c) : Vec Ideal S448x128 .f32) :=
  (dats m 0 c).arrAt_eq_of_cover 6 _ (fun t _ => by
    rw [Cert.AsKernelIdeal.Value.flushed6, outs_6 m c t]
    have h := idx_6 t
    funext y
    show dV m c (t.val * 448 + (y 0).val) (y 1).val = dV m c (win0_6.index t (0 : Fin 2) * 448 + 1 * (y 0).val) (win0_6.index t (1 : Fin 2) * 128 + 1 * (y 1).val)
    rw [h.1, h.2, one_mul, one_mul, Nat.zero_mul, Nat.zero_add])
    covers_6
theorem outs_7 (t : Fin cfg0.N) : out0_7 (iblk m c 0 t) (iblk m c 1 t) (iblk m c 2 t) (iblk m c 3 t) = (mat fun a b => aG m c (t.val * 448 + a) b : Vec Ideal S448x128 .f32) := by
  rw [out_7, blk_1 m c t]
theorem idx_7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem mem_7 (t : Fin cfg0.N) (i : S448x128.Idx) :
    i ∈ ((cfg0.win 7).blk t).view.set ↔ ∀ a : Fin 2, win0_7.index t a * S448x128.size a ≤ (i a).val ∧ (i a).val < win0_7.index t a * S448x128.size a + S448x128.size a := by
  show i ∈ ((View.whole main_v0_3).slice (win0_7.rect t)).set ↔ _
  rw [View.set_slice_whole, Rect.mem_set_unit]
  exact Iff.rfl
theorem covers_7 (i : S448x128.Idx) : ∃ t : Fin cfg0.N, (cfg0.win 7).flush t = true ∧ i ∈ ((cfg0.win 7).blk t).view.set := by
  have hN : cfg0.N = 1 := N_0
  have h0 : (i 0).val < 448 := (i 0).isLt; have h1 : (i 1).val < 128 := (i 1).isLt
  have hlt : (i 0).val / 448 < cfg0.N := by omega
  refine ⟨⟨(i 0).val / 448, hlt⟩, flush0_7 _, ?_⟩
  rw [mem_7]
  have h := idx_7 ⟨(i 0).val / 448, hlt⟩
  dsimp only at h
  intro a
  match a with
  | ⟨0, _⟩ => show win0_7.index _ (0 : Fin 2) * 448 ≤ (i 0).val ∧ (i 0).val < win0_7.index _ (0 : Fin 2) * 448 + 448; rw [h.1]; omega
  | ⟨1, _⟩ => show win0_7.index _ (1 : Fin 2) * 128 ≤ (i 1).val ∧ (i 1).val < win0_7.index _ (1 : Fin 2) * 128 + 128; rw [h.2]; omega
theorem arr_7 : (dats m 0 c).arrAt 7 cfg0.N = (mat (aG m c) : Vec Ideal S448x128 .f32) :=
  (dats m 0 c).arrAt_eq_of_cover 7 _ (fun t _ => by
    rw [Cert.AsKernelIdeal.Value.flushed7, outs_7 m c t]
    have h := idx_7 t
    funext y
    show aG m c (t.val * 448 + (y 0).val) (y 1).val = aG m c (win0_7.index t (0 : Fin 2) * 448 + 1 * (y 0).val) (win0_7.index t (1 : Fin 2) * 128 + 1 * (y 1).val)
    rw [h.1, h.2, one_mul, one_mul, Nat.zero_mul, Nat.zero_add])
    covers_7

end Call

/-! ## The reference -/

section Reference

open Cert.AsReferenceIdeal Cert.AsReferenceIdeal.Gen Cert.AsReferenceIdeal.Read

/-- A table as an array. -/
abbrev arr (f : ℕ → ℕ → EReal) : (⟨S448x128, .f32⟩ : BufTy).Contents (Elt Ideal) := (mat f : Vec Ideal S448x128 .f32)

variable (w g m v : ℕ → ℕ → EReal)

theorem r_v4 : val_main_v4 (F := Ideal) (arr g) (arr m) = arr fun i j => newM (g i j) (m i j) := by
  funext i
  rw [val_main_v4_apply, val_main_v3_apply, val_main_v2_apply, val_main_v1_apply, val_main_v0_apply]
  rfl
theorem r_v10 : val_main_v10 (F := Ideal) (arr g) (arr v) = arr fun i j => newV (g i j) (v i j) := by
  funext i
  rw [val_main_v10_apply, val_main_v9_apply, val_main_v8_apply, val_main_v7_apply, val_main_v6_apply, val_main_v5_apply]
  rfl
theorem r_v23 : val_main_v23 (F := Ideal) (arr w) (arr g) (arr m) (arr v) = arr fun i j => step (w i j) (g i j) (m i j) (v i j) := by
  funext i
  rw [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, r_v4, r_v10]
  rfl

end Reference

/-! ## The two runs -/

/-- The idealized program's frame, its text run over the bit-level floats. -/
def bitsFrame : Prop :=
  ∀ (m : (ℓ : Loc Cert.AsKernelIdeal.nD Cert.AsKernelIdeal.τ Cert.AsKernelIdeal.sig) → Buf (Elt Bits) ℓ) (g : Dev Cert.AsKernelIdeal.nD → PrngReg), True →
    θ_run (Cert.AsKernelIdeal.defs (F := Bits)) (onTc (τ := Cert.AsKernelIdeal.τ) (Cert.AsKernelIdeal.main (F := Bits))) ⟨m, fun _ => 0, g⟩ (fun r => (∀ c : Dev Cert.AsKernelIdeal.nD,
      r.2.mem ((c.tc : Thread Cert.AsKernelIdeal.nD Cert.AsKernelIdeal.τ).loc Cert.AsKernelIdeal.main_arg0) = m ((c.tc : Thread Cert.AsKernelIdeal.nD Cert.AsKernelIdeal.τ).loc Cert.AsKernelIdeal.main_arg0)
      ∧ r.2.mem ((c.tc : Thread Cert.AsKernelIdeal.nD Cert.AsKernelIdeal.τ).loc Cert.AsKernelIdeal.main_arg1) = m ((c.tc : Thread Cert.AsKernelIdeal.nD Cert.AsKernelIdeal.τ).loc Cert.AsKernelIdeal.main_arg1)
      ∧ r.2.mem ((c.tc : Thread Cert.AsKernelIdeal.nD Cert.AsKernelIdeal.τ).loc Cert.AsKernelIdeal.main_arg2) = m ((c.tc : Thread Cert.AsKernelIdeal.nD Cert.AsKernelIdeal.τ).loc Cert.AsKernelIdeal.main_arg2)
      ∧ r.2.mem ((c.tc : Thread Cert.AsKernelIdeal.nD Cert.AsKernelIdeal.τ).loc Cert.AsKernelIdeal.main_arg3) = m ((c.tc : Thread Cert.AsKernelIdeal.nD Cert.AsKernelIdeal.τ).loc Cert.AsKernelIdeal.main_arg3))
      ∧ r.2.sem = fun _ => 0)

/-- The two programs have the same text. -/
theorem same_text : bitsFrame = Cert.quiescent_AsKernel := by sl_kernel_rfl

theorem frame_kernel : Cert.quiescent_AsKernel :=
  same_text.mp fun m ρ _ => Cert.AsKernelIdeal.Gen.frame (F := Bits) m ρ
theorem frame_kernelIdeal : Cert.quiescent_AsKernelIdeal := fun m ρ _ => Cert.AsKernelIdeal.Gen.frame m ρ

/-- The reference keeps its arguments; it declares no semaphore. -/
theorem frame_reference : Cert.quiescent_AsReferenceIdeal := fun m ρ _ =>
  (θ_run Cert.AsReferenceIdeal.defs _ _).mono (fun r e => ⟨fun c => (e c).2.2.2.2, sem_eq_zero_of_no_sems (by decide) r.2⟩) (Cert.AsReferenceIdeal.Value.run m ρ)

variable (m : (ℓ : Loc Cert.AsKernelIdeal.nD Cert.AsKernelIdeal.τ Cert.AsKernelIdeal.sig) → Buf (Elt Ideal) ℓ) (c : Dev Cert.AsKernelIdeal.nD)

theorem arg_0 : (m ((c.tc : Thread Cert.AsKernelIdeal.nD Cert.AsKernelIdeal.τ).loc Cert.AsKernelIdeal.main_arg0)) = arr (aW m c) := mat_get2 _
theorem arg_1 : (m ((c.tc : Thread Cert.AsKernelIdeal.nD Cert.AsKernelIdeal.τ).loc Cert.AsKernelIdeal.main_arg1)) = arr (aG m c) := mat_get2 _
theorem arg_2 : (m ((c.tc : Thread Cert.AsKernelIdeal.nD Cert.AsKernelIdeal.τ).loc Cert.AsKernelIdeal.main_arg2)) = arr (aM m c) := mat_get2 _
theorem arg_3 : (m ((c.tc : Thread Cert.AsKernelIdeal.nD Cert.AsKernelIdeal.τ).loc Cert.AsKernelIdeal.main_arg3)) = arr (aV m c) := mat_get2 _
theorem same_v23 : Cert.AsReferenceIdeal.Read.val_main_v23 (F := Ideal) (m ((c.tc : Thread Cert.AsKernelIdeal.nD Cert.AsKernelIdeal.τ).loc Cert.AsKernelIdeal.main_arg0)) (m ((c.tc : Thread Cert.AsKernelIdeal.nD Cert.AsKernelIdeal.τ).loc Cert.AsKernelIdeal.main_arg1)) (m ((c.tc : Thread Cert.AsKernelIdeal.nD Cert.AsKernelIdeal.τ).loc Cert.AsKernelIdeal.main_arg2)) (m ((c.tc : Thread Cert.AsKernelIdeal.nD Cert.AsKernelIdeal.τ).loc Cert.AsKernelIdeal.main_arg3))
    = (Cert.AsKernelIdeal.Gen.dats m 0 c).arrAt 4 Cert.AsKernelIdeal.cfg0.N := by
  rw [arg_0 m c, arg_1 m c, arg_2 m c, arg_3 m c, r_v23]
  exact (arr_4 m c).symm
theorem same_v4 : Cert.AsReferenceIdeal.Read.val_main_v4 (F := Ideal) (m ((c.tc : Thread Cert.AsKernelIdeal.nD Cert.AsKernelIdeal.τ).loc Cert.AsKernelIdeal.main_arg1)) (m ((c.tc : Thread Cert.AsKernelIdeal.nD Cert.AsKernelIdeal.τ).loc Cert.AsKernelIdeal.main_arg2))
    = (Cert.AsKernelIdeal.Gen.dats m 0 c).arrAt 5 Cert.AsKernelIdeal.cfg0.N := by
  rw [arg_1 m c, arg_2 m c, r_v4]
  exact (arr_5 m c).symm
theorem same_v10 : Cert.AsReferenceIdeal.Read.val_main_v10 (F := Ideal) (m ((c.tc : Thread Cert.AsKernelIdeal.nD Cert.AsKernelIdeal.τ).loc Cert.AsKernelIdeal.main_arg1)) (m ((c.tc : Thread Cert.AsKernelIdeal.nD Cert.AsKernelIdeal.τ).loc Cert.AsKernelIdeal.main_arg3))
    = (Cert.AsKernelIdeal.Gen.dats m 0 c).arrAt 6 Cert.AsKernelIdeal.cfg0.N := by
  rw [arg_1 m c, arg_3 m c, r_v10]
  exact (arr_6 m c).symm
theorem same_arg1 : (m ((c.tc : Thread Cert.AsKernelIdeal.nD Cert.AsKernelIdeal.τ).loc Cert.AsKernelIdeal.main_arg1)) = (Cert.AsKernelIdeal.Gen.dats m 0 c).arrAt 7 Cert.AsKernelIdeal.cfg0.N := by
  rw [arg_1 m c]
  exact (arr_7 m c).symm

/-- Run on the same arguments, the two programs end with the same results. -/
theorem same_results : Cert.algebraic_AsKernelIdeal_AsReferenceIdeal := fun m g m' g' _ h =>
  ⟨fun c => (Cert.AsKernelIdeal.Gen.dats m 0 c).arrAt 4 Cert.AsKernelIdeal.cfg0.N, fun c => (Cert.AsKernelIdeal.Gen.dats m 0 c).arrAt 5 Cert.AsKernelIdeal.cfg0.N, fun c => (Cert.AsKernelIdeal.Gen.dats m 0 c).arrAt 6 Cert.AsKernelIdeal.cfg0.N, fun c => (Cert.AsKernelIdeal.Gen.dats m 0 c).arrAt 7 Cert.AsKernelIdeal.cfg0.N,
    Cert.AsKernelIdeal.Value.run_blocks m g,
    (θ_run Cert.AsReferenceIdeal.defs _ _).mono (fun _ e c => by
      obtain ⟨e0, e1, e2, e3, e4⟩ := e c
      obtain ⟨h0, h1, h2, h3⟩ := h c
      rw [h0, h1, h2, h3] at e0
      rw [h1, h2] at e1
      rw [h1, h3] at e2
      rw [h1] at e3
      exact ⟨e0.trans (same_v23 m c), e1.trans (same_v4 m c), e2.trans (same_v10 m c), e3.trans (same_arg1 m c), e4⟩)
      (Cert.AsReferenceIdeal.Value.run m' g')⟩

end Cert.As

end
-- ==== Proof.lean ====
module

public import proofs.«01_k».proof.Proof.Gen.FfnReferenceIdeal
public import proofs.«01_k».proof.Proof.Gen.FfnKernelIdeal
public import proofs.«01_k».proof.Proof.Gen.FfnKernel
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.KVal
public import proofs.«01_k».proof.Proof.RPost
public import proofs.«01_k».proof.Proof.Finite
public import proofs.«01_k».proof.Proof.Gen.Pre_ffn_finite
public import proofs.«01_k».proof.Proof.FfnSame
public import proofs.«01_k».proof.Proof.ProjSame
public import proofs.«01_k».proof.Proof.Dn1Same
public import proofs.«01_k».proof.Proof.Dn2Same
public import proofs.«01_k».proof.Proof.LossSame
public import proofs.«01_k».proof.Proof.MidSame
public import proofs.«01_k».proof.Proof.Prenorm
public import proofs.«01_k».proof.Proof.MidFwd
public import proofs.«01_k».proof.Proof.AdamI
public import proofs.«01_k».proof.Proof.AdamO
public import proofs.«01_k».proof.Proof.AdamU
public import proofs.«01_k».proof.Proof.AdamD
public import proofs.«01_k».proof.Proof.AdamS
public import proofs.«01_k».proof.Proof.Gen.ProjKernel
public import proofs.«01_k».proof.Proof.Gen.ProjKernelIdeal
public import proofs.«01_k».proof.Proof.Gen.ProjKernelIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Dn1Kernel
public import proofs.«01_k».proof.Proof.Gen.Dn1KernelIdeal
public import proofs.«01_k».proof.Proof.Gen.Dn1KernelIdeal.Frame
public import proofs.«01_k».proof.Proof.Gen.Dn1KernelIdeal.Value
public import proofs.«01_k».proof.Proof.Gen.Dn1ReferenceIdeal
public import proofs.«01_k».proof.Proof.Gen.Dn1ReferenceIdeal.Run
public import proofs.«01_k».proof.Proof.Gen.Dn1ReferenceIdeal.Read
public import proofs.«01_k».proof.Proof.Gen.Dn2Kernel
public import proofs.«01_k».proof.Proof.Gen.Dn2KernelIdeal
public import proofs.«01_k».proof.Proof.Gen.Dn2KernelIdeal.Frame
public import proofs.«01_k».proof.Proof.Gen.Dn2KernelIdeal.Value
public import proofs.«01_k».proof.Proof.Gen.Dn2ReferenceIdeal
public import proofs.«01_k».proof.Proof.Gen.Dn2ReferenceIdeal.Run
public import proofs.«01_k».proof.Proof.Gen.Dn2ReferenceIdeal.Read
public import proofs.«01_k».proof.Proof.Gen.LossKernel
public import proofs.«01_k».proof.Proof.Gen.LossKernelIdeal
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.MidKernel
public import proofs.«01_k».proof.Proof.Gen.MidKernelIdeal
public import proofs.«01_k».proof.Proof.Gen.MidKernelIdeal.Frame
public import proofs.«01_k».proof.Proof.Gen.MidKernelIdeal.Value
public import proofs.«01_k».proof.Proof.Gen.MidReferenceIdeal
public import proofs.«01_k».proof.Proof.Gen.MidReferenceIdeal.Run
public import proofs.«01_k».proof.Proof.Gen.MidReferenceIdeal.Read
public import proofs.«01_k».proof.Proof.Gen.PnKernel
public import proofs.«01_k».proof.Proof.Gen.PnKernelIdeal
public import proofs.«01_k».proof.Proof.Gen.PnKernelIdeal.Frame
public import proofs.«01_k».proof.Proof.Gen.PnKernelIdeal.Value
public import proofs.«01_k».proof.Proof.Gen.PnReferenceIdeal
public import proofs.«01_k».proof.Proof.Gen.PnReferenceIdeal.Run
public import proofs.«01_k».proof.Proof.Gen.PnReferenceIdeal.Read
public import proofs.«01_k».proof.Proof.Gen.MfKernel
public import proofs.«01_k».proof.Proof.Gen.MfKernelIdeal
public import proofs.«01_k».proof.Proof.Gen.MfKernelIdeal.Frame
public import proofs.«01_k».proof.Proof.Gen.MfKernelIdeal.Value
public import proofs.«01_k».proof.Proof.Gen.MfReferenceIdeal
public import proofs.«01_k».proof.Proof.Gen.MfReferenceIdeal.Run
public import proofs.«01_k».proof.Proof.Gen.MfReferenceIdeal.Read
public import proofs.«01_k».proof.Proof.Gen.AiKernel
public import proofs.«01_k».proof.Proof.Gen.AiKernelIdeal
public import proofs.«01_k».proof.Proof.Gen.AiKernelIdeal.Frame
public import proofs.«01_k».proof.Proof.Gen.AiKernelIdeal.Value
public import proofs.«01_k».proof.Proof.Gen.AiReferenceIdeal
public import proofs.«01_k».proof.Proof.Gen.AiReferenceIdeal.Run
public import proofs.«01_k».proof.Proof.Gen.AiReferenceIdeal.Read
public import proofs.«01_k».proof.Proof.Gen.AoKernel
public import proofs.«01_k».proof.Proof.Gen.AoKernelIdeal
public import proofs.«01_k».proof.Proof.Gen.AoKernelIdeal.Frame
public import proofs.«01_k».proof.Proof.Gen.AoKernelIdeal.Value
public import proofs.«01_k».proof.Proof.Gen.AoReferenceIdeal
public import proofs.«01_k».proof.Proof.Gen.AoReferenceIdeal.Run
public import proofs.«01_k».proof.Proof.Gen.AoReferenceIdeal.Read
public import proofs.«01_k».proof.Proof.Gen.AuKernel
public import proofs.«01_k».proof.Proof.Gen.AuKernelIdeal
public import proofs.«01_k».proof.Proof.Gen.AuKernelIdeal.Frame
public import proofs.«01_k».proof.Proof.Gen.AuKernelIdeal.Value
public import proofs.«01_k».proof.Proof.Gen.AuReferenceIdeal
public import proofs.«01_k».proof.Proof.Gen.AuReferenceIdeal.Run
public import proofs.«01_k».proof.Proof.Gen.AuReferenceIdeal.Read
public import proofs.«01_k».proof.Proof.Gen.AdKernel
public import proofs.«01_k».proof.Proof.Gen.AdKernelIdeal
public import proofs.«01_k».proof.Proof.Gen.AdKernelIdeal.Frame
public import proofs.«01_k».proof.Proof.Gen.AdKernelIdeal.Value
public import proofs.«01_k».proof.Proof.Gen.AdReferenceIdeal
public import proofs.«01_k».proof.Proof.Gen.AdReferenceIdeal.Run
public import proofs.«01_k».proof.Proof.Gen.AdReferenceIdeal.Read
public import proofs.«01_k».proof.Proof.Gen.AsKernel
public import proofs.«01_k».proof.Proof.Gen.AsKernelIdeal
public import proofs.«01_k».proof.Proof.Gen.AsKernelIdeal.Frame
public import proofs.«01_k».proof.Proof.Gen.AsKernelIdeal.Value
public import proofs.«01_k».proof.Proof.Gen.AsReferenceIdeal
public import proofs.«01_k».proof.Proof.Gen.AsReferenceIdeal.Run
public import proofs.«01_k».proof.Proof.Gen.AsReferenceIdeal.Read

@[expose] public section

noncomputable section

namespace Cert.Proof

open Idealize.ShloMosaic Idealize.SL.Sem Idealize.ShloMosaic.Tactic

/-- The idealized program's frame, its text run over the bit-level floats. -/
def bitsFrame : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The two programs have the same text. -/
theorem same_text : bitsFrame = Cert.quiescent_Kernel := by sl_kernel_rfl

theorem frame_kernel : Cert.quiescent_Kernel :=
  same_text.mp fun m ρ _ => Cert.KernelIdeal.Ret.frame (F := Bits) m ρ
theorem frame_kernelIdeal : Cert.quiescent_KernelIdeal := fun m ρ _ => Cert.KernelIdeal.Ret.frame m ρ
theorem frame_reference : Cert.quiescent_ReferenceIdeal := fun m ρ _ => Cert.ReferenceIdeal.Ret.frame m ρ

theorem frame_kernelIdeal_finite : Cert.quiescent_KernelIdeal_pre_finite := fun m ρ _ => Cert.KernelIdeal.Ret.frame m ρ
theorem frame_reference_finite : Cert.quiescent_ReferenceIdeal_pre_finite := fun m ρ _ => Cert.ReferenceIdeal.Ret.frame m ρ

/-! ## The results are the same -/

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' arguments on a device agree. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

variable {m m' c}

theorem same_inputs (h : Same m m' c) : Cert.ReferenceIdeal.Ret.inR m' c = Cert.KernelIdeal.Ret.inK m c := by
  obtain ⟨h0, h1, h2⟩ := h
  show Cert.Ret.inp _ _ _ = Cert.Ret.inp _ _ _
  exact congr (congr (congrArg Cert.Ret.inp h0) h1) h2

theorem same_v70 (h : Same m m' c) :
    (Cert.ReferenceIdeal.Ret.E4 (F := Ideal) m' c (Proc.devRef .tc Cert.ReferenceIdeal.main_v263) : Vec Ideal Cert.KernelIdeal.S4112x2048 .bf16)
      = (Cert.KernelIdeal.Ret.W6 m c (Proc.devRef .tc Cert.KernelIdeal.main_v70) : Vec Ideal Cert.KernelIdeal.S4112x2048 .bf16) := by
  funext i
  obtain ⟨r, b, rfl⟩ : ∃ (r : Fin 4112) (b : Fin 2048), i = ix2 r b := ⟨i 0, i 1, by funext k; fin_cases k <;> rfl⟩
  refine (Cert.ReferenceIdeal.Ret.r263 m' c r b).trans ?_
  rw [same_inputs h]
  exact (Cert.KernelIdeal.Ret.k70 m c r b).symm
theorem same_v71 (h : Same m m' c) :
    (Cert.ReferenceIdeal.Ret.E4 (F := Ideal) m' c (Proc.devRef .tc Cert.ReferenceIdeal.main_v264) : Vec Ideal Cert.KernelIdeal.S4112x2048 .bf16)
      = (Cert.KernelIdeal.Ret.W6 m c (Proc.devRef .tc Cert.KernelIdeal.main_v71) : Vec Ideal Cert.KernelIdeal.S4112x2048 .bf16) := by
  funext i
  obtain ⟨r, b, rfl⟩ : ∃ (r : Fin 4112) (b : Fin 2048), i = ix2 r b := ⟨i 0, i 1, by funext k; fin_cases k <;> rfl⟩
  refine (Cert.ReferenceIdeal.Ret.r264 m' c r b).trans ?_
  rw [same_inputs h]
  exact (Cert.KernelIdeal.Ret.k71 m c r b).symm
theorem same_v72 (h : Same m m' c) :
    (Cert.ReferenceIdeal.Ret.E4 (F := Ideal) m' c (Proc.devRef .tc Cert.ReferenceIdeal.main_v265) : Vec Ideal Cert.KernelIdeal.S4112x2048 .bf16)
      = (Cert.KernelIdeal.Ret.W6 m c (Proc.devRef .tc Cert.KernelIdeal.main_v72) : Vec Ideal Cert.KernelIdeal.S4112x2048 .bf16) := by
  funext i
  obtain ⟨r, b, rfl⟩ : ∃ (r : Fin 4112) (b : Fin 2048), i = ix2 r b := ⟨i 0, i 1, by funext k; fin_cases k <;> rfl⟩
  refine (Cert.ReferenceIdeal.Ret.r265 m' c r b).trans ?_
  rw [same_inputs h]
  exact (Cert.KernelIdeal.Ret.k72 m c r b).symm
theorem same_v73 (h : Same m m' c) :
    (Cert.ReferenceIdeal.Ret.E4 (F := Ideal) m' c (Proc.devRef .tc Cert.ReferenceIdeal.main_v266) : Vec Ideal Cert.KernelIdeal.S4112x2048 .bf16)
      = (Cert.KernelIdeal.Ret.W6 m c (Proc.devRef .tc Cert.KernelIdeal.main_v73) : Vec Ideal Cert.KernelIdeal.S4112x2048 .bf16) := by
  funext i
  obtain ⟨r, b, rfl⟩ : ∃ (r : Fin 4112) (b : Fin 2048), i = ix2 r b := ⟨i 0, i 1, by funext k; fin_cases k <;> rfl⟩
  refine (Cert.ReferenceIdeal.Ret.r266 m' c r b).trans ?_
  rw [same_inputs h]
  exact (Cert.KernelIdeal.Ret.k73 m c r b).symm
theorem same_v74 (h : Same m m' c) (hp : Cert.Pre_KernelIdeal_finite m) :
    (Cert.ReferenceIdeal.Ret.E4 (F := Ideal) m' c (Proc.devRef .tc Cert.ReferenceIdeal.main_v267) : Vec Ideal Cert.KernelIdeal.S4112x2048 .bf16)
      = (Cert.KernelIdeal.Ret.W6 m c (Proc.devRef .tc Cert.KernelIdeal.main_v74) : Vec Ideal Cert.KernelIdeal.S4112x2048 .bf16) := by
  funext i
  obtain ⟨r, b, rfl⟩ : ∃ (r : Fin 4112) (b : Fin 2048), i = ix2 r b := ⟨i 0, i 1, by funext k; fin_cases k <;> rfl⟩
  refine (Cert.ReferenceIdeal.Ret.r267 m' c r b ?_ ?_).trans ?_
  · rw [same_inputs h]
    exact fun e => Cert.Ret.inp_o_real (hp c) r (by omega) e
  · rw [same_inputs h]
    exact fun e => Cert.Ret.inp_w_real (hp c) (by omega) e
  · rw [same_inputs h]
    exact (Cert.KernelIdeal.Ret.k74 m c r b).symm
theorem same_v69_4 (h : Same m m' c) :
    (Cert.ReferenceIdeal.Ret.E4 (F := Ideal) m' c (Proc.devRef .tc Cert.ReferenceIdeal.main_v185) : Vec Ideal Cert.KernelIdeal.S1x2048 .f32)
      = (Cert.KernelIdeal.Ret.W6 m c (Proc.devRef .tc Cert.KernelIdeal.main_v69_4) : Vec Ideal Cert.KernelIdeal.S1x2048 .f32) := by
  funext i
  obtain ⟨z, b, rfl⟩ : ∃ (z : Fin 1) (b : Fin 2048), i = ix2 z b := ⟨i 0, i 1, by funext k; fin_cases k <;> rfl⟩
  obtain rfl : z = 0 := Subsingleton.elim _ _
  refine (Cert.ReferenceIdeal.Ret.r185 m' c b).trans ?_
  rw [same_inputs h]
  exact (Cert.KernelIdeal.Ret.k69_4 m c b).symm

end Agree

/-- Run on the same arguments, the two programs end with the same results. -/
theorem same_results : Cert.algebraic_KernelIdeal_ReferenceIdeal_pre_finite := fun m g m' g' hp h =>
  ⟨fun c => Cert.KernelIdeal.Ret.W6 m c (Proc.devRef .tc Cert.KernelIdeal.main_v70), fun c => Cert.KernelIdeal.Ret.W6 m c (Proc.devRef .tc Cert.KernelIdeal.main_v71),
    fun c => Cert.KernelIdeal.Ret.W6 m c (Proc.devRef .tc Cert.KernelIdeal.main_v72), fun c => Cert.KernelIdeal.Ret.W6 m c (Proc.devRef .tc Cert.KernelIdeal.main_v73),
    fun c => Cert.KernelIdeal.Ret.W6 m c (Proc.devRef .tc Cert.KernelIdeal.main_v74), fun c => Cert.KernelIdeal.Ret.W6 m c (Proc.devRef .tc Cert.KernelIdeal.main_v69_4),
    (θ_run Cert.KernelIdeal.defs _ _).mono (fun _ e c =>
      ⟨e.1 c _ (Cert.KernelIdeal.Ret.mem_uc Cert.KernelIdeal.main_v70 (by decide)),
        e.1 c _ (Cert.KernelIdeal.Ret.mem_uc Cert.KernelIdeal.main_v71 (by decide)),
        e.1 c _ (Cert.KernelIdeal.Ret.mem_uc Cert.KernelIdeal.main_v72 (by decide)),
        e.1 c _ (Cert.KernelIdeal.Ret.mem_uc Cert.KernelIdeal.main_v73 (by decide)),
        e.1 c _ (Cert.KernelIdeal.Ret.mem_uc Cert.KernelIdeal.main_v74 (by decide)),
        e.1 c _ (Cert.KernelIdeal.Ret.mem_uc Cert.KernelIdeal.main_v69_4 (by decide)),
        (e.1 c _ (Cert.KernelIdeal.Ret.mem_uc Cert.KernelIdeal.main_arg0 (by decide))).trans (Cert.KernelIdeal.Ret.W6_arg0 m c),
        (e.1 c _ (Cert.KernelIdeal.Ret.mem_uc Cert.KernelIdeal.main_arg1 (by decide))).trans (Cert.KernelIdeal.Ret.W6_arg1 m c),
        (e.1 c _ (Cert.KernelIdeal.Ret.mem_uc Cert.KernelIdeal.main_arg2 (by decide))).trans (Cert.KernelIdeal.Ret.W6_arg2 m c)⟩)
      (Cert.KernelIdeal.Ret.ends m g),
    (θ_run Cert.ReferenceIdeal.defs _ _).mono (fun _ e c =>
      ⟨(e.1 c Cert.ReferenceIdeal.main_v263 rfl).trans (same_v70 (h c)),
        (e.1 c Cert.ReferenceIdeal.main_v264 rfl).trans (same_v71 (h c)),
        (e.1 c Cert.ReferenceIdeal.main_v265 rfl).trans (same_v72 (h c)),
        (e.1 c Cert.ReferenceIdeal.main_v266 rfl).trans (same_v73 (h c)),
        (e.1 c Cert.ReferenceIdeal.main_v267 rfl).trans (same_v74 (h c) hp),
        (e.1 c Cert.ReferenceIdeal.main_v185 rfl).trans (same_v69_4 (h c)),
        (e.1 c Cert.ReferenceIdeal.main_arg0 rfl).trans (Cert.ReferenceIdeal.Ret.E4_main_arg0 m' c),
        (e.1 c Cert.ReferenceIdeal.main_arg1 rfl).trans (Cert.ReferenceIdeal.Ret.E4_main_arg1 m' c),
        (e.1 c Cert.ReferenceIdeal.main_arg2 rfl).trans (Cert.ReferenceIdeal.Ret.E4_main_arg2 m' c)⟩)
      (Cert.ReferenceIdeal.Ret.ends m' g')⟩

theorem claim : Cert.Claim := ⟨Cert.Kernel.Gen.facts, Cert.KernelIdeal.Gen.facts, Cert.ReferenceIdeal.Gen.facts,
  Cert.FfnKernel.Gen.facts, Cert.FfnKernelIdeal.Gen.facts, Cert.FfnReferenceIdeal.Gen.facts,
  Cert.ProjKernel.Gen.facts, Cert.ProjKernelIdeal.Gen.facts, Cert.ProjReferenceIdeal.Gen.facts,
  Cert.Dn1Kernel.Gen.facts, Cert.Dn1KernelIdeal.Gen.facts, Cert.Dn1ReferenceIdeal.Gen.facts,
  Cert.Dn2Kernel.Gen.facts, Cert.Dn2KernelIdeal.Gen.facts, Cert.Dn2ReferenceIdeal.Gen.facts,
  Cert.LossKernel.Gen.facts, Cert.LossKernelIdeal.Gen.facts, Cert.LossReferenceIdeal.Gen.facts,
  Cert.MidKernel.Gen.facts, Cert.MidKernelIdeal.Gen.facts, Cert.MidReferenceIdeal.Gen.facts,
  Cert.PnKernel.Gen.facts, Cert.PnKernelIdeal.Gen.facts, Cert.PnReferenceIdeal.Gen.facts,
  Cert.MfKernel.Gen.facts, Cert.MfKernelIdeal.Gen.facts, Cert.MfReferenceIdeal.Gen.facts,
  Cert.AiKernel.Gen.facts, Cert.AiKernelIdeal.Gen.facts, Cert.AiReferenceIdeal.Gen.facts,
  Cert.AoKernel.Gen.facts, Cert.AoKernelIdeal.Gen.facts, Cert.AoReferenceIdeal.Gen.facts,
  Cert.AuKernel.Gen.facts, Cert.AuKernelIdeal.Gen.facts, Cert.AuReferenceIdeal.Gen.facts,
  Cert.AdKernel.Gen.facts, Cert.AdKernelIdeal.Gen.facts, Cert.AdReferenceIdeal.Gen.facts,
  Cert.AsKernel.Gen.facts, Cert.AsKernelIdeal.Gen.facts, Cert.AsReferenceIdeal.Gen.facts,
  Cert.Pre_finite.Gen.facts, Cert.Pre_ffn_finite.Gen.facts,
  frame_kernel, frame_kernelIdeal, frame_kernelIdeal_finite, frame_reference, frame_reference_finite,
  Cert.Ffn.frame_kernel, Cert.Ffn.frame_kernelIdeal, Cert.Ffn.frame_kernelIdeal_finite, Cert.Ffn.frame_reference, Cert.Ffn.frame_reference_finite,
  Cert.Proj.frame_kernel, Cert.Proj.frame_kernelIdeal, Cert.Proj.frame_reference,
  Cert.Dn1.frame_kernel, Cert.Dn1.frame_kernelIdeal, Cert.Dn1.frame_reference,
  Cert.Dn2.frame_kernel, Cert.Dn2.frame_kernelIdeal, Cert.Dn2.frame_reference,
  Cert.Loss.frame_kernel, Cert.Loss.frame_kernelIdeal, Cert.Loss.frame_reference,
  Cert.Mid.frame_kernel, Cert.Mid.frame_kernelIdeal, Cert.Mid.frame_reference,
  Cert.Pn.frame_kernel, Cert.Pn.frame_kernelIdeal, Cert.Pn.frame_reference,
  Cert.Mf.frame_kernel, Cert.Mf.frame_kernelIdeal, Cert.Mf.frame_reference,
  Cert.Ai.frame_kernel, Cert.Ai.frame_kernelIdeal, Cert.Ai.frame_reference,
  Cert.Ao.frame_kernel, Cert.Ao.frame_kernelIdeal, Cert.Ao.frame_reference,
  Cert.Au.frame_kernel, Cert.Au.frame_kernelIdeal, Cert.Au.frame_reference,
  Cert.Ad.frame_kernel, Cert.Ad.frame_kernelIdeal, Cert.Ad.frame_reference,
  Cert.As.frame_kernel, Cert.As.frame_kernelIdeal, Cert.As.frame_reference,
  trivial, same_results, trivial, Cert.Ffn.same_results, trivial, Cert.Proj.same_results,
  trivial, Cert.Dn1.same_results, trivial, Cert.Dn2.same_results,
  trivial, Cert.Loss.same_results, trivial, Cert.Mid.same_results,
  trivial, Cert.Pn.same_results, trivial, Cert.Mf.same_results,
  trivial, Cert.Ai.same_results, trivial, Cert.Ao.same_results, trivial, Cert.Au.same_results, trivial, Cert.Ad.same_results, trivial, Cert.As.same_results⟩

end Cert.Proof

end
